-- ==== Defs.lean ====
def Pre_FfnUpGrad (m : (ℓ : Loc Cert.FfnUpGrad.nD Cert.FfnUpGrad.τ Cert.FfnUpGrad.sig) → Buf (Elt Bits) ℓ) : Prop :=
  True

def Pre_FfnUpGradIdeal (m : (ℓ : Loc Cert.FfnUpGradIdeal.nD Cert.FfnUpGradIdeal.τ Cert.FfnUpGradIdeal.sig) → Buf (Elt Ideal) ℓ) : Prop :=
  True

def Pre_FfnUpGradReferenceIdeal (m : (ℓ : Loc Cert.FfnUpGradReferenceIdeal.nD Cert.FfnUpGradReferenceIdeal.τ Cert.FfnUpGradReferenceIdeal.sig) → Buf (Elt Ideal) ℓ) : Prop :=
  True

def Pre_FfnDownGrad (m : (ℓ : Loc Cert.FfnDownGrad.nD Cert.FfnDownGrad.τ Cert.FfnDownGrad.sig) → Buf (Elt Bits) ℓ) : Prop :=
  True

def Pre_FfnDownGradIdeal (m : (ℓ : Loc Cert.FfnDownGradIdeal.nD Cert.FfnDownGradIdeal.τ Cert.FfnDownGradIdeal.sig) → Buf (Elt Ideal) ℓ) : Prop :=
  True

def Pre_FfnDownGradReferenceIdeal (m : (ℓ : Loc Cert.FfnDownGradReferenceIdeal.nD Cert.FfnDownGradReferenceIdeal.τ Cert.FfnDownGradReferenceIdeal.sig) → Buf (Elt Ideal) ℓ) : Prop :=
  True

def Pre_GmlpInGrad (m : (ℓ : Loc Cert.GmlpInGrad.nD Cert.GmlpInGrad.τ Cert.GmlpInGrad.sig) → Buf (Elt Bits) ℓ) : Prop :=
  True

def Pre_GmlpInGradIdeal (m : (ℓ : Loc Cert.GmlpInGradIdeal.nD Cert.GmlpInGradIdeal.τ Cert.GmlpInGradIdeal.sig) → Buf (Elt Ideal) ℓ) : Prop :=
  True

def Pre_GmlpInGradReferenceIdeal (m : (ℓ : Loc Cert.GmlpInGradReferenceIdeal.nD Cert.GmlpInGradReferenceIdeal.τ Cert.GmlpInGradReferenceIdeal.sig) → Buf (Elt Ideal) ℓ) : Prop :=
  True

def Pre_GmlpOutGrad (m : (ℓ : Loc Cert.GmlpOutGrad.nD Cert.GmlpOutGrad.τ Cert.GmlpOutGrad.sig) → Buf (Elt Bits) ℓ) : Prop :=
  True

def Pre_GmlpOutGradIdeal (m : (ℓ : Loc Cert.GmlpOutGradIdeal.nD Cert.GmlpOutGradIdeal.τ Cert.GmlpOutGradIdeal.sig) → Buf (Elt Ideal) ℓ) : Prop :=
  True

def Pre_GmlpOutGradReferenceIdeal (m : (ℓ : Loc Cert.GmlpOutGradReferenceIdeal.nD Cert.GmlpOutGradReferenceIdeal.τ Cert.GmlpOutGradReferenceIdeal.sig) → Buf (Elt Ideal) ℓ) : Prop :=
  True

def Pre_AttnQkvGrad (m : (ℓ : Loc Cert.AttnQkvGrad.nD Cert.AttnQkvGrad.τ Cert.AttnQkvGrad.sig) → Buf (Elt Bits) ℓ) : Prop :=
  True

def Pre_AttnQkvGradIdeal (m : (ℓ : Loc Cert.AttnQkvGradIdeal.nD Cert.AttnQkvGradIdeal.τ Cert.AttnQkvGradIdeal.sig) → Buf (Elt Ideal) ℓ) : Prop :=
  True

def Pre_AttnQkvGradReferenceIdeal (m : (ℓ : Loc Cert.AttnQkvGradReferenceIdeal.nD Cert.AttnQkvGradReferenceIdeal.τ Cert.AttnQkvGradReferenceIdeal.sig) → Buf (Elt Ideal) ℓ) : Prop :=
  True

def Pre_AttnOutGrad (m : (ℓ : Loc Cert.AttnOutGrad.nD Cert.AttnOutGrad.τ Cert.AttnOutGrad.sig) → Buf (Elt Bits) ℓ) : Prop :=
  True

def Pre_AttnOutGradIdeal (m : (ℓ : Loc Cert.AttnOutGradIdeal.nD Cert.AttnOutGradIdeal.τ Cert.AttnOutGradIdeal.sig) → Buf (Elt Ideal) ℓ) : Prop :=
  True

def Pre_AttnOutGradReferenceIdeal (m : (ℓ : Loc Cert.AttnOutGradReferenceIdeal.nD Cert.AttnOutGradReferenceIdeal.τ Cert.AttnOutGradReferenceIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpIdeal_finite_ffn_up [hPre_finite_ffn_up : Cert.Pre_finite_ffn_up.Facts] (m : (ℓ : Loc Cert.FfnUpIdeal.nD Cert.FfnUpIdeal.τ Cert.FfnUpIdeal.sig) → Buf (Elt Ideal) ℓ) : Prop :=
  ∀ c : Dev Cert.FfnUpIdeal.nD,
    (Cert.Pre_finite_ffn_up.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1))) = (fun _ => 1#1)

def Pre_FfnUpReferenceIdeal (m : (ℓ : Loc Cert.FfnUpReferenceIdeal.nD Cert.FfnUpReferenceIdeal.τ Cert.FfnUpReferenceIdeal.sig) → Buf (Elt Ideal) ℓ) : Prop :=
  True

def Pre_FfnUpReferenceIdeal_finite_ffn_up [hPre_finite_ffn_up : Cert.Pre_finite_ffn_up.Facts] (m : (ℓ : Loc Cert.FfnUpReferenceIdeal.nD Cert.FfnUpReferenceIdeal.τ Cert.FfnUpReferenceIdeal.sig) → Buf (Elt Ideal) ℓ) : Prop :=
  ∀ c : Dev Cert.FfnUpReferenceIdeal.nD,
    (Cert.Pre_finite_ffn_up.fn (F := Ideal) (m ((c.tc : Thread Cert.FfnUpReferenceIdeal.nD Cert.FfnUpReferenceIdeal.τ).loc Cert.FfnUpReferenceIdeal.main_arg0)) (m ((c.tc : Thread Cert.FfnUpReferenceIdeal.nD Cert.FfnUpReferenceIdeal.τ).loc Cert.FfnUpReferenceIdeal.main_arg1))) = (fun _ => 1#1)

def Pre_FfnDact (m : (ℓ : Loc Cert.FfnDact.nD Cert.FfnDact.τ Cert.FfnDact.sig) → Buf (Elt Bits) ℓ) : Prop :=
  True

def Pre_FfnDactIdeal (m : (ℓ : Loc Cert.FfnDactIdeal.nD Cert.FfnDactIdeal.τ Cert.FfnDactIdeal.sig) → Buf (Elt Ideal) ℓ) : Prop :=
  True

def Pre_FfnDactIdeal_finite_ffn_dact [hPre_finite_ffn_dact : Cert.Pre_finite_ffn_dact.Facts] (m : (ℓ : Loc Cert.FfnDactIdeal.nD Cert.FfnDactIdeal.τ Cert.FfnDactIdeal.sig) → Buf (Elt Ideal) ℓ) : Prop :=
  ∀ c : Dev Cert.FfnDactIdeal.nD,
    (Cert.Pre_finite_ffn_dact.fn (F := Ideal) (m ((c.tc : Thread Cert.FfnDactIdeal.nD Cert.FfnDactIdeal.τ).loc Cert.FfnDactIdeal.main_arg0)) (m ((c.tc : Thread Cert.FfnDactIdeal.nD Cert.FfnDactIdeal.τ).loc Cert.FfnDactIdeal.main_arg1)) (m ((c.tc : Thread Cert.FfnDactIdeal.nD Cert.FfnDactIdeal.τ).loc Cert.FfnDactIdeal.main_arg2))) = (fun _ => 1#1)

def Pre_FfnDactReferenceIdeal (m : (ℓ : Loc Cert.FfnDactReferenceIdeal.nD Cert.FfnDactReferenceIdeal.τ Cert.FfnDactReferenceIdeal.sig) → Buf (Elt Ideal) ℓ) : Prop :=
  True

def Pre_FfnDactReferenceIdeal_finite_ffn_dact [hPre_finite_ffn_dact : Cert.Pre_finite_ffn_dact.Facts] (m : (ℓ : Loc Cert.FfnDactReferenceIdeal.nD Cert.FfnDactReferenceIdeal.τ Cert.FfnDactReferenceIdeal.sig) → Buf (Elt Ideal) ℓ) : Prop :=
  ∀ c : Dev Cert.FfnDactReferenceIdeal.nD,
    (Cert.Pre_finite_ffn_dact.fn (F := Ideal) (m ((c.tc : Thread Cert.FfnDactReferenceIdeal.nD Cert.FfnDactReferenceIdeal.τ).loc Cert.FfnDactReferenceIdeal.main_arg0)) (m ((c.tc : Thread Cert.FfnDactReferenceIdeal.nD Cert.FfnDactReferenceIdeal.τ).loc Cert.FfnDactReferenceIdeal.main_arg1)) (m ((c.tc : Thread Cert.FfnDactReferenceIdeal.nD Cert.FfnDactReferenceIdeal.τ).loc Cert.FfnDactReferenceIdeal.main_arg2))) = (fun _ => 1#1)

def Pre_FfnDx (m : (ℓ : Loc Cert.FfnDx.nD Cert.FfnDx.τ Cert.FfnDx.sig) → Buf (Elt Bits) ℓ) : Prop :=
  True

def Pre_FfnDxIdeal (m : (ℓ : Loc Cert.FfnDxIdeal.nD Cert.FfnDxIdeal.τ Cert.FfnDxIdeal.sig) → Buf (Elt Ideal) ℓ) : Prop :=
  True

def Pre_FfnDxIdeal_finite_ffn_dx [hPre_finite_ffn_dx : Cert.Pre_finite_ffn_dx.Facts] (m : (ℓ : Loc Cert.FfnDxIdeal.nD Cert.FfnDxIdeal.τ Cert.FfnDxIdeal.sig) → Buf (Elt Ideal) ℓ) : Prop :=
  ∀ c : Dev Cert.FfnDxIdeal.nD,
    (Cert.Pre_finite_ffn_dx.fn (F := Ideal) (m ((c.tc : Thread Cert.FfnDxIdeal.nD Cert.FfnDxIdeal.τ).loc Cert.FfnDxIdeal.main_arg0)) (m ((c.tc : Thread Cert.FfnDxIdeal.nD Cert.FfnDxIdeal.τ).loc Cert.FfnDxIdeal.main_arg1)) (m ((c.tc : Thread Cert.FfnDxIdeal.nD Cert.FfnDxIdeal.τ).loc Cert.FfnDxIdeal.main_arg2)) (m ((c.tc : Thread Cert.FfnDxIdeal.nD Cert.FfnDxIdeal.τ).loc Cert.FfnDxIdeal.main_arg3)) (m ((c.tc : Thread Cert.FfnDxIdeal.nD Cert.FfnDxIdeal.τ).loc Cert.FfnDxIdeal.main_arg4)) (m ((c.tc : Thread Cert.FfnDxIdeal.nD Cert.FfnDxIdeal.τ).loc Cert.FfnDxIdeal.main_arg5)) (m ((c.tc : Thread Cert.FfnDxIdeal.nD Cert.FfnDxIdeal.τ).loc Cert.FfnDxIdeal.main_arg6)) (m ((c.tc : Thread Cert.FfnDxIdeal.nD Cert.FfnDxIdeal.τ).loc Cert.FfnDxIdeal.main_arg7))) = (fun _ => 1#1)

def Pre_FfnDxReferenceIdeal (m : (ℓ : Loc Cert.FfnDxReferenceIdeal.nD Cert.FfnDxReferenceIdeal.τ Cert.FfnDxReferenceIdeal.sig) → Buf (Elt Ideal) ℓ) : Prop :=
  True

def Pre_FfnDxReferenceIdeal_finite_ffn_dx [hPre_finite_ffn_dx : Cert.Pre_finite_ffn_dx.Facts] (m : (ℓ : Loc Cert.FfnDxReferenceIdeal.nD Cert.FfnDxReferenceIdeal.τ Cert.FfnDxReferenceIdeal.sig) → Buf (Elt Ideal) ℓ) : Prop :=
  ∀ c : Dev Cert.FfnDxReferenceIdeal.nD,
    (Cert.Pre_finite_ffn_dx.fn (F := Ideal) (m ((c.tc : Thread Cert.FfnDxReferenceIdeal.nD Cert.FfnDxReferenceIdeal.τ).loc Cert.FfnDxReferenceIdeal.main_arg0)) (m ((c.tc : Thread Cert.FfnDxReferenceIdeal.nD Cert.FfnDxReferenceIdeal.τ).loc Cert.FfnDxReferenceIdeal.main_arg1)) (m ((c.tc : Thread Cert.FfnDxReferenceIdeal.nD Cert.FfnDxReferenceIdeal.τ).loc Cert.FfnDxReferenceIdeal.main_arg2)) (m ((c.tc : Thread Cert.FfnDxReferenceIdeal.nD Cert.FfnDxReferenceIdeal.τ).loc Cert.FfnDxReferenceIdeal.main_arg3)) (m ((c.tc : Thread Cert.FfnDxReferenceIdeal.nD Cert.FfnDxReferenceIdeal.τ).loc Cert.FfnDxReferenceIdeal.main_arg4)) (m ((c.tc : Thread Cert.FfnDxReferenceIdeal.nD Cert.FfnDxReferenceIdeal.τ).loc Cert.FfnDxReferenceIdeal.main_arg5)) (m ((c.tc : Thread Cert.FfnDxReferenceIdeal.nD Cert.FfnDxReferenceIdeal.τ).loc Cert.FfnDxReferenceIdeal.main_arg6)) (m ((c.tc : Thread Cert.FfnDxReferenceIdeal.nD Cert.FfnDxReferenceIdeal.τ).loc Cert.FfnDxReferenceIdeal.main_arg7))) = (fun _ => 1#1)

def Pre_FfnDxGmlp (m : (ℓ : Loc Cert.FfnDxGmlp.nD Cert.FfnDxGmlp.τ Cert.FfnDxGmlp.sig) → Buf (Elt Bits) ℓ) : Prop :=
  True

def Pre_FfnDxGmlpIdeal (m : (ℓ : Loc Cert.FfnDxGmlpIdeal.nD Cert.FfnDxGmlpIdeal.τ Cert.FfnDxGmlpIdeal.sig) → Buf (Elt Ideal) ℓ) : Prop :=
  True

def Pre_FfnDxGmlpIdeal_finite_ffn_dx_gmlp [hPre_finite_ffn_dx_gmlp : Cert.Pre_finite_ffn_dx_gmlp.Facts] (m : (ℓ : Loc Cert.FfnDxGmlpIdeal.nD Cert.FfnDxGmlpIdeal.τ Cert.FfnDxGmlpIdeal.sig) → Buf (Elt Ideal) ℓ) : Prop :=
  ∀ c : Dev Cert.FfnDxGmlpIdeal.nD,
    (Cert.Pre_finite_ffn_dx_gmlp.fn (F := Ideal) (m ((c.tc : Thread Cert.FfnDxGmlpIdeal.nD Cert.FfnDxGmlpIdeal.τ).loc Cert.FfnDxGmlpIdeal.main_arg0)) (m ((c.tc : Thread Cert.FfnDxGmlpIdeal.nD Cert.FfnDxGmlpIdeal.τ).loc Cert.FfnDxGmlpIdeal.main_arg1)) (m ((c.tc : Thread Cert.FfnDxGmlpIdeal.nD Cert.FfnDxGmlpIdeal.τ).loc Cert.FfnDxGmlpIdeal.main_arg2)) (m ((c.tc : Thread Cert.FfnDxGmlpIdeal.nD Cert.FfnDxGmlpIdeal.τ).loc Cert.FfnDxGmlpIdeal.main_arg3)) (m ((c.tc : Thread Cert.FfnDxGmlpIdeal.nD Cert.FfnDxGmlpIdeal.τ).loc Cert.FfnDxGmlpIdeal.main_arg4)) (m ((c.tc : Thread Cert.FfnDxGmlpIdeal.nD Cert.FfnDxGmlpIdeal.τ).loc Cert.FfnDxGmlpIdeal.main_arg5)) (m ((c.tc : Thread Cert.FfnDxGmlpIdeal.nD Cert.FfnDxGmlpIdeal.τ).loc Cert.FfnDxGmlpIdeal.main_arg6)) (m ((c.tc : Thread Cert.FfnDxGmlpIdeal.nD Cert.FfnDxGmlpIdeal.τ).loc Cert.FfnDxGmlpIdeal.main_arg7))) = (fun _ => 1#1)

def Pre_FfnDxGmlpReferenceIdeal (m : (ℓ : Loc Cert.FfnDxGmlpReferenceIdeal.nD Cert.FfnDxGmlpReferenceIdeal.τ Cert.FfnDxGmlpReferenceIdeal.sig) → Buf (Elt Ideal) ℓ) : Prop :=
  True

def Pre_FfnDxGmlpReferenceIdeal_finite_ffn_dx_gmlp [hPre_finite_ffn_dx_gmlp : Cert.Pre_finite_ffn_dx_gmlp.Facts] (m : (ℓ : Loc Cert.FfnDxGmlpReferenceIdeal.nD Cert.FfnDxGmlpReferenceIdeal.τ Cert.FfnDxGmlpReferenceIdeal.sig) → Buf (Elt Ideal) ℓ) : Prop :=
  ∀ c : Dev Cert.FfnDxGmlpReferenceIdeal.nD,
    (Cert.Pre_finite_ffn_dx_gmlp.fn (F := Ideal) (m ((c.tc : Thread Cert.FfnDxGmlpReferenceIdeal.nD Cert.FfnDxGmlpReferenceIdeal.τ).loc Cert.FfnDxGmlpReferenceIdeal.main_arg0)) (m ((c.tc : Thread Cert.FfnDxGmlpReferenceIdeal.nD Cert.FfnDxGmlpReferenceIdeal.τ).loc Cert.FfnDxGmlpReferenceIdeal.main_arg1)) (m ((c.tc : Thread Cert.FfnDxGmlpReferenceIdeal.nD Cert.FfnDxGmlpReferenceIdeal.τ).loc Cert.FfnDxGmlpReferenceIdeal.main_arg2)) (m ((c.tc : Thread Cert.FfnDxGmlpReferenceIdeal.nD Cert.FfnDxGmlpReferenceIdeal.τ).loc Cert.FfnDxGmlpReferenceIdeal.main_arg3)) (m ((c.tc : Thread Cert.FfnDxGmlpReferenceIdeal.nD Cert.FfnDxGmlpReferenceIdeal.τ).loc Cert.FfnDxGmlpReferenceIdeal.main_arg4)) (m ((c.tc : Thread Cert.FfnDxGmlpReferenceIdeal.nD Cert.FfnDxGmlpReferenceIdeal.τ).loc Cert.FfnDxGmlpReferenceIdeal.main_arg5)) (m ((c.tc : Thread Cert.FfnDxGmlpReferenceIdeal.nD Cert.FfnDxGmlpReferenceIdeal.τ).loc Cert.FfnDxGmlpReferenceIdeal.main_arg6)) (m ((c.tc : Thread Cert.FfnDxGmlpReferenceIdeal.nD Cert.FfnDxGmlpReferenceIdeal.τ).loc Cert.FfnDxGmlpReferenceIdeal.main_arg7))) = (fun _ => 1#1)

def Pre_GmlpIn (m : (ℓ : Loc Cert.GmlpIn.nD Cert.GmlpIn.τ Cert.GmlpIn.sig) → Buf (Elt Bits) ℓ) : Prop :=
  True

def Pre_GmlpInIdeal (m : (ℓ : Loc Cert.GmlpInIdeal.nD Cert.GmlpInIdeal.τ Cert.GmlpInIdeal.sig) → Buf (Elt Ideal) ℓ) : Prop :=
  True

def Pre_GmlpInReferenceIdeal (m : (ℓ : Loc Cert.GmlpInReferenceIdeal.nD Cert.GmlpInReferenceIdeal.τ Cert.GmlpInReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_AttnOut (m : (ℓ : Loc Cert.AttnOut.nD Cert.AttnOut.τ Cert.AttnOut.sig) → Buf (Elt Bits) ℓ) : Prop :=
  True

def Pre_AttnOutIdeal (m : (ℓ : Loc Cert.AttnOutIdeal.nD Cert.AttnOutIdeal.τ Cert.AttnOutIdeal.sig) → Buf (Elt Ideal) ℓ) : Prop :=
  True

def Pre_AttnOutReferenceIdeal (m : (ℓ : Loc Cert.AttnOutReferenceIdeal.nD Cert.AttnOutReferenceIdeal.τ Cert.AttnOutReferenceIdeal.sig) → Buf (Elt Ideal) ℓ) : Prop :=
  True

def Pre_Spatial (m : (ℓ : Loc Cert.Spatial.nD Cert.Spatial.τ Cert.Spatial.sig) → Buf (Elt Bits) ℓ) : Prop :=
  True

def Pre_SpatialIdeal (m : (ℓ : Loc Cert.SpatialIdeal.nD Cert.SpatialIdeal.τ Cert.SpatialIdeal.sig) → Buf (Elt Ideal) ℓ) : Prop :=
  True

def Pre_SpatialReferenceIdeal (m : (ℓ : Loc Cert.SpatialReferenceIdeal.nD Cert.SpatialReferenceIdeal.τ Cert.SpatialReferenceIdeal.sig) → Buf (Elt Ideal) ℓ) : Prop :=
  True

def Pre_Small (m : (ℓ : Loc Cert.Small.nD Cert.Small.τ Cert.Small.sig) → Buf (Elt Bits) ℓ) : Prop :=
  True

def Pre_SmallIdeal (m : (ℓ : Loc Cert.SmallIdeal.nD Cert.SmallIdeal.τ Cert.SmallIdeal.sig) → Buf (Elt Ideal) ℓ) : Prop :=
  True

def Pre_SmallReferenceIdeal (m : (ℓ : Loc Cert.SmallReferenceIdeal.nD Cert.SmallReferenceIdeal.τ Cert.SmallReferenceIdeal.sig) → Buf (Elt Ideal) ℓ) : Prop :=
  True

def Pre_Bias (m : (ℓ : Loc Cert.Bias.nD Cert.Bias.τ Cert.Bias.sig) → Buf (Elt Bits) ℓ) : Prop :=
  True

def Pre_BiasIdeal (m : (ℓ : Loc Cert.BiasIdeal.nD Cert.BiasIdeal.τ Cert.BiasIdeal.sig) → Buf (Elt Ideal) ℓ) : Prop :=
  True

def Pre_BiasReferenceIdeal (m : (ℓ : Loc Cert.BiasReferenceIdeal.nD Cert.BiasReferenceIdeal.τ Cert.BiasReferenceIdeal.sig) → Buf (Elt Ideal) ℓ) : Prop :=
  True

def Pre_BiasSum (m : (ℓ : Loc Cert.BiasSum.nD Cert.BiasSum.τ Cert.BiasSum.sig) → Buf (Elt Bits) ℓ) : Prop :=
  True

def Pre_BiasSumIdeal (m : (ℓ : Loc Cert.BiasSumIdeal.nD Cert.BiasSumIdeal.τ Cert.BiasSumIdeal.sig) → Buf (Elt Ideal) ℓ) : Prop :=
  True

def Pre_BiasSumReferenceIdeal (m : (ℓ : Loc Cert.BiasSumReferenceIdeal.nD Cert.BiasSumReferenceIdeal.τ Cert.BiasSumReferenceIdeal.sig) → Buf (Elt Ideal) ℓ) : Prop :=
  True

def Pre_GmlpOutUpdate0 (m : (ℓ : Loc Cert.GmlpOutUpdate0.nD Cert.GmlpOutUpdate0.τ Cert.GmlpOutUpdate0.sig) → Buf (Elt Bits) ℓ) : Prop :=
  True

def Pre_GmlpOutUpdate0Ideal (m : (ℓ : Loc Cert.GmlpOutUpdate0Ideal.nD Cert.GmlpOutUpdate0Ideal.τ Cert.GmlpOutUpdate0Ideal.sig) → Buf (Elt Ideal) ℓ) : Prop :=
  True

def Pre_GmlpOutUpdate0ReferenceIdeal (m : (ℓ : Loc Cert.GmlpOutUpdate0ReferenceIdeal.nD Cert.GmlpOutUpdate0ReferenceIdeal.τ Cert.GmlpOutUpdate0ReferenceIdeal.sig) → Buf (Elt Ideal) ℓ) : Prop :=
  True

def Pre_GmlpOutUpdate1 (m : (ℓ : Loc Cert.GmlpOutUpdate1.nD Cert.GmlpOutUpdate1.τ Cert.GmlpOutUpdate1.sig) → Buf (Elt Bits) ℓ) : Prop :=
  True

def Pre_GmlpOutUpdate1Ideal (m : (ℓ : Loc Cert.GmlpOutUpdate1Ideal.nD Cert.GmlpOutUpdate1Ideal.τ Cert.GmlpOutUpdate1Ideal.sig) → Buf (Elt Ideal) ℓ) : Prop :=
  True

def Pre_GmlpOutUpdate1ReferenceIdeal (m : (ℓ : Loc Cert.GmlpOutUpdate1ReferenceIdeal.nD Cert.GmlpOutUpdate1ReferenceIdeal.τ Cert.GmlpOutUpdate1ReferenceIdeal.sig) → Buf (Elt Ideal) ℓ) : Prop :=
  True

def Pre_AttnQkvUpdate0 (m : (ℓ : Loc Cert.AttnQkvUpdate0.nD Cert.AttnQkvUpdate0.τ Cert.AttnQkvUpdate0.sig) → Buf (Elt Bits) ℓ) : Prop :=
  True

def Pre_AttnQkvUpdate0Ideal (m : (ℓ : Loc Cert.AttnQkvUpdate0Ideal.nD Cert.AttnQkvUpdate0Ideal.τ Cert.AttnQkvUpdate0Ideal.sig) → Buf (Elt Ideal) ℓ) : Prop :=
  True

def Pre_AttnQkvUpdate0ReferenceIdeal (m : (ℓ : Loc Cert.AttnQkvUpdate0ReferenceIdeal.nD Cert.AttnQkvUpdate0ReferenceIdeal.τ Cert.AttnQkvUpdate0ReferenceIdeal.sig) → Buf (Elt Ideal) ℓ) : Prop :=
  True

def Pre_AttnQkvUpdate1 (m : (ℓ : Loc Cert.AttnQkvUpdate1.nD Cert.AttnQkvUpdate1.τ Cert.AttnQkvUpdate1.sig) → Buf (Elt Bits) ℓ) : Prop :=
  True

def Pre_AttnQkvUpdate1Ideal (m : (ℓ : Loc Cert.AttnQkvUpdate1Ideal.nD Cert.AttnQkvUpdate1Ideal.τ Cert.AttnQkvUpdate1Ideal.sig) → Buf (Elt Ideal) ℓ) : Prop :=
  True

def Pre_AttnQkvUpdate1ReferenceIdeal (m : (ℓ : Loc Cert.AttnQkvUpdate1ReferenceIdeal.nD Cert.AttnQkvUpdate1ReferenceIdeal.τ Cert.AttnQkvUpdate1ReferenceIdeal.sig) → Buf (Elt Ideal) ℓ) : Prop :=
  True

def Pre_AttnOutUpdate0 (m : (ℓ : Loc Cert.AttnOutUpdate0.nD Cert.AttnOutUpdate0.τ Cert.AttnOutUpdate0.sig) → Buf (Elt Bits) ℓ) : Prop :=
  True

def Pre_AttnOutUpdate0Ideal (m : (ℓ : Loc Cert.AttnOutUpdate0Ideal.nD Cert.AttnOutUpdate0Ideal.τ Cert.AttnOutUpdate0Ideal.sig) → Buf (Elt Ideal) ℓ) : Prop :=
  True

def Pre_AttnOutUpdate0ReferenceIdeal (m : (ℓ : Loc Cert.AttnOutUpdate0ReferenceIdeal.nD Cert.AttnOutUpdate0ReferenceIdeal.τ Cert.AttnOutUpdate0ReferenceIdeal.sig) → Buf (Elt Ideal) ℓ) : Prop :=
  True

def Pre_AttnOutUpdate1 (m : (ℓ : Loc Cert.AttnOutUpdate1.nD Cert.AttnOutUpdate1.τ Cert.AttnOutUpdate1.sig) → Buf (Elt Bits) ℓ) : Prop :=
  True

def Pre_AttnOutUpdate1Ideal (m : (ℓ : Loc Cert.AttnOutUpdate1Ideal.nD Cert.AttnOutUpdate1Ideal.τ Cert.AttnOutUpdate1Ideal.sig) → Buf (Elt Ideal) ℓ) : Prop :=
  True

def Pre_AttnOutUpdate1ReferenceIdeal (m : (ℓ : Loc Cert.AttnOutUpdate1ReferenceIdeal.nD Cert.AttnOutUpdate1ReferenceIdeal.τ Cert.AttnOutUpdate1ReferenceIdeal.sig) → Buf (Elt Ideal) ℓ) : Prop :=
  True

def Pre_GmlpInUpdate0 (m : (ℓ : Loc Cert.GmlpInUpdate0.nD Cert.GmlpInUpdate0.τ Cert.GmlpInUpdate0.sig) → Buf (Elt Bits) ℓ) : Prop :=
  True

def Pre_GmlpInUpdate0Ideal (m : (ℓ : Loc Cert.GmlpInUpdate0Ideal.nD Cert.GmlpInUpdate0Ideal.τ Cert.GmlpInUpdate0Ideal.sig) → Buf (Elt Ideal) ℓ) : Prop :=
  True

def Pre_GmlpInUpdate0ReferenceIdeal (m : (ℓ : Loc Cert.GmlpInUpdate0ReferenceIdeal.nD Cert.GmlpInUpdate0ReferenceIdeal.τ Cert.GmlpInUpdate0ReferenceIdeal.sig) → Buf (Elt Ideal) ℓ) : Prop :=
  True

def Pre_GmlpInUpdate1 (m : (ℓ : Loc Cert.GmlpInUpdate1.nD Cert.GmlpInUpdate1.τ Cert.GmlpInUpdate1.sig) → Buf (Elt Bits) ℓ) : Prop :=
  True

def Pre_GmlpInUpdate1Ideal (m : (ℓ : Loc Cert.GmlpInUpdate1Ideal.nD Cert.GmlpInUpdate1Ideal.τ Cert.GmlpInUpdate1Ideal.sig) → Buf (Elt Ideal) ℓ) : Prop :=
  True

def Pre_GmlpInUpdate1ReferenceIdeal (m : (ℓ : Loc Cert.GmlpInUpdate1ReferenceIdeal.nD Cert.GmlpInUpdate1ReferenceIdeal.τ Cert.GmlpInUpdate1ReferenceIdeal.sig) → Buf (Elt Ideal) ℓ) : Prop :=
  True

def Pre_FfnUpUpdate0 (m : (ℓ : Loc Cert.FfnUpUpdate0.nD Cert.FfnUpUpdate0.τ Cert.FfnUpUpdate0.sig) → Buf (Elt Bits) ℓ) : Prop :=
  True

def Pre_FfnUpUpdate0Ideal (m : (ℓ : Loc Cert.FfnUpUpdate0Ideal.nD Cert.FfnUpUpdate0Ideal.τ Cert.FfnUpUpdate0Ideal.sig) → Buf (Elt Ideal) ℓ) : Prop :=
  True

def Pre_FfnUpUpdate0ReferenceIdeal (m : (ℓ : Loc Cert.FfnUpUpdate0ReferenceIdeal.nD Cert.FfnUpUpdate0ReferenceIdeal.τ Cert.FfnUpUpdate0ReferenceIdeal.sig) → Buf (Elt Ideal) ℓ) : Prop :=
  True

def Pre_FfnUpUpdate1 (m : (ℓ : Loc Cert.FfnUpUpdate1.nD Cert.FfnUpUpdate1.τ Cert.FfnUpUpdate1.sig) → Buf (Elt Bits) ℓ) : Prop :=
  True

def Pre_FfnUpUpdate1Ideal (m : (ℓ : Loc Cert.FfnUpUpdate1Ideal.nD Cert.FfnUpUpdate1Ideal.τ Cert.FfnUpUpdate1Ideal.sig) → Buf (Elt Ideal) ℓ) : Prop :=
  True

def Pre_FfnUpUpdate1ReferenceIdeal (m : (ℓ : Loc Cert.FfnUpUpdate1ReferenceIdeal.nD Cert.FfnUpUpdate1ReferenceIdeal.τ Cert.FfnUpUpdate1ReferenceIdeal.sig) → Buf (Elt Ideal) ℓ) : Prop :=
  True

def Pre_FfnUpUpdate2 (m : (ℓ : Loc Cert.FfnUpUpdate2.nD Cert.FfnUpUpdate2.τ Cert.FfnUpUpdate2.sig) → Buf (Elt Bits) ℓ) : Prop :=
  True

def Pre_FfnUpUpdate2Ideal (m : (ℓ : Loc Cert.FfnUpUpdate2Ideal.nD Cert.FfnUpUpdate2Ideal.τ Cert.FfnUpUpdate2Ideal.sig) → Buf (Elt Ideal) ℓ) : Prop :=
  True

def Pre_FfnUpUpdate2ReferenceIdeal (m : (ℓ : Loc Cert.FfnUpUpdate2ReferenceIdeal.nD Cert.FfnUpUpdate2ReferenceIdeal.τ Cert.FfnUpUpdate2ReferenceIdeal.sig) → Buf (Elt Ideal) ℓ) : Prop :=
  True

def Pre_FfnUpUpdate3 (m : (ℓ : Loc Cert.FfnUpUpdate3.nD Cert.FfnUpUpdate3.τ Cert.FfnUpUpdate3.sig) → Buf (Elt Bits) ℓ) : Prop :=
  True

def Pre_FfnUpUpdate3Ideal (m : (ℓ : Loc Cert.FfnUpUpdate3Ideal.nD Cert.FfnUpUpdate3Ideal.τ Cert.FfnUpUpdate3Ideal.sig) → Buf (Elt Ideal) ℓ) : Prop :=
  True

def Pre_FfnUpUpdate3ReferenceIdeal (m : (ℓ : Loc Cert.FfnUpUpdate3ReferenceIdeal.nD Cert.FfnUpUpdate3ReferenceIdeal.τ Cert.FfnUpUpdate3ReferenceIdeal.sig) → Buf (Elt Ideal) ℓ) : Prop :=
  True

def Pre_FfnDownUpdate0 (m : (ℓ : Loc Cert.FfnDownUpdate0.nD Cert.FfnDownUpdate0.τ Cert.FfnDownUpdate0.sig) → Buf (Elt Bits) ℓ) : Prop :=
  True

def Pre_FfnDownUpdate0Ideal (m : (ℓ : Loc Cert.FfnDownUpdate0Ideal.nD Cert.FfnDownUpdate0Ideal.τ Cert.FfnDownUpdate0Ideal.sig) → Buf (Elt Ideal) ℓ) : Prop :=
  True

def Pre_FfnDownUpdate0ReferenceIdeal (m : (ℓ : Loc Cert.FfnDownUpdate0ReferenceIdeal.nD Cert.FfnDownUpdate0ReferenceIdeal.τ Cert.FfnDownUpdate0ReferenceIdeal.sig) → Buf (Elt Ideal) ℓ) : Prop :=
  True

def Pre_FfnDownUpdate1 (m : (ℓ : Loc Cert.FfnDownUpdate1.nD Cert.FfnDownUpdate1.τ Cert.FfnDownUpdate1.sig) → Buf (Elt Bits) ℓ) : Prop :=
  True

def Pre_FfnDownUpdate1Ideal (m : (ℓ : Loc Cert.FfnDownUpdate1Ideal.nD Cert.FfnDownUpdate1Ideal.τ Cert.FfnDownUpdate1Ideal.sig) → Buf (Elt Ideal) ℓ) : Prop :=
  True

def Pre_FfnDownUpdate1ReferenceIdeal (m : (ℓ : Loc Cert.FfnDownUpdate1ReferenceIdeal.nD Cert.FfnDownUpdate1ReferenceIdeal.τ Cert.FfnDownUpdate1ReferenceIdeal.sig) → Buf (Elt Ideal) ℓ) : Prop :=
  True

def Pre_FfnDownUpdate2 (m : (ℓ : Loc Cert.FfnDownUpdate2.nD Cert.FfnDownUpdate2.τ Cert.FfnDownUpdate2.sig) → Buf (Elt Bits) ℓ) : Prop :=
  True

def Pre_FfnDownUpdate2Ideal (m : (ℓ : Loc Cert.FfnDownUpdate2Ideal.nD Cert.FfnDownUpdate2Ideal.τ Cert.FfnDownUpdate2Ideal.sig) → Buf (Elt Ideal) ℓ) : Prop :=
  True

def Pre_FfnDownUpdate2ReferenceIdeal (m : (ℓ : Loc Cert.FfnDownUpdate2ReferenceIdeal.nD Cert.FfnDownUpdate2ReferenceIdeal.τ Cert.FfnDownUpdate2ReferenceIdeal.sig) → Buf (Elt Ideal) ℓ) : Prop :=
  True

def Pre_FfnDownUpdate3 (m : (ℓ : Loc Cert.FfnDownUpdate3.nD Cert.FfnDownUpdate3.τ Cert.FfnDownUpdate3.sig) → Buf (Elt Bits) ℓ) : Prop :=
  True

def Pre_FfnDownUpdate3Ideal (m : (ℓ : Loc Cert.FfnDownUpdate3Ideal.nD Cert.FfnDownUpdate3Ideal.τ Cert.FfnDownUpdate3Ideal.sig) → Buf (Elt Ideal) ℓ) : Prop :=
  True

def Pre_FfnDownUpdate3ReferenceIdeal (m : (ℓ : Loc Cert.FfnDownUpdate3ReferenceIdeal.nD Cert.FfnDownUpdate3ReferenceIdeal.τ Cert.FfnDownUpdate3ReferenceIdeal.sig) → Buf (Elt Ideal) ℓ) : Prop :=
  True

def quiescent_FfnUpGrad [hFfnUpGrad : Cert.FfnUpGrad.Facts] : Prop :=
  ∀ (m : (ℓ : Loc Cert.FfnUpGrad.nD Cert.FfnUpGrad.τ Cert.FfnUpGrad.sig) → Buf (Elt Bits) ℓ) (g : Dev Cert.FfnUpGrad.nD → PrngReg), Pre_FfnUpGrad m →
    θ_run (Cert.FfnUpGrad.defs (F := Bits)) (onTc (τ := Cert.FfnUpGrad.τ) (Cert.FfnUpGrad.main (F := Bits))) ⟨m, fun _ => 0, g⟩ (fun r => (∀ c : Dev Cert.FfnUpGrad.nD,
      r.2.mem ((c.tc : Thread Cert.FfnUpGrad.nD Cert.FfnUpGrad.τ).loc Cert.FfnUpGrad.main_arg0) = m ((c.tc : Thread Cert.FfnUpGrad.nD Cert.FfnUpGrad.τ).loc Cert.FfnUpGrad.main_arg0)
      ∧ r.2.mem ((c.tc : Thread Cert.FfnUpGrad.nD Cert.FfnUpGrad.τ).loc Cert.FfnUpGrad.main_arg1) = m ((c.tc : Thread Cert.FfnUpGrad.nD Cert.FfnUpGrad.τ).loc Cert.FfnUpGrad.main_arg1)
      ∧ r.2.mem ((c.tc : Thread Cert.FfnUpGrad.nD Cert.FfnUpGrad.τ).loc Cert.FfnUpGrad.main_arg2) = m ((c.tc : Thread Cert.FfnUpGrad.nD Cert.FfnUpGrad.τ).loc Cert.FfnUpGrad.main_arg2))
      ∧ r.2.sem = fun _ => 0)

def quiescent_FfnUpGradIdeal [hFfnUpGradIdeal : Cert.FfnUpGradIdeal.Facts] : Prop :=
  ∀ (m : (ℓ : Loc Cert.FfnUpGradIdeal.nD Cert.FfnUpGradIdeal.τ Cert.FfnUpGradIdeal.sig) → Buf (Elt Ideal) ℓ) (g : Dev Cert.FfnUpGradIdeal.nD → PrngReg), Pre_FfnUpGradIdeal m →
    θ_run (Cert.FfnUpGradIdeal.defs (F := Ideal)) (onTc (τ := Cert.FfnUpGradIdeal.τ) (Cert.FfnUpGradIdeal.main (F := Ideal))) ⟨m, fun _ => 0, g⟩ (fun r => (∀ c : Dev Cert.FfnUpGradIdeal.nD,
      r.2.mem ((c.tc : Thread Cert.FfnUpGradIdeal.nD Cert.FfnUpGradIdeal.τ).loc Cert.FfnUpGradIdeal.main_arg0) = m ((c.tc : Thread Cert.FfnUpGradIdeal.nD Cert.FfnUpGradIdeal.τ).loc Cert.FfnUpGradIdeal.main_arg0)
      ∧ r.2.mem ((c.tc : Thread Cert.FfnUpGradIdeal.nD Cert.FfnUpGradIdeal.τ).loc Cert.FfnUpGradIdeal.main_arg1) = m ((c.tc : Thread Cert.FfnUpGradIdeal.nD Cert.FfnUpGradIdeal.τ).loc Cert.FfnUpGradIdeal.main_arg1)
      ∧ r.2.mem ((c.tc : Thread Cert.FfnUpGradIdeal.nD Cert.FfnUpGradIdeal.τ).loc Cert.FfnUpGradIdeal.main_arg2) = m ((c.tc : Thread Cert.FfnUpGradIdeal.nD Cert.FfnUpGradIdeal.τ).loc Cert.FfnUpGradIdeal.main_arg2))
      ∧ r.2.sem = fun _ => 0)

def quiescent_FfnUpGradReferenceIdeal [hFfnUpGradReferenceIdeal : Cert.FfnUpGradReferenceIdeal.Facts] : Prop :=
  ∀ (m : (ℓ : Loc Cert.FfnUpGradReferenceIdeal.nD Cert.FfnUpGradReferenceIdeal.τ Cert.FfnUpGradReferenceIdeal.sig) → Buf (Elt Ideal) ℓ) (g : Dev Cert.FfnUpGradReferenceIdeal.nD → PrngReg), Pre_FfnUpGradReferenceIdeal m →
    θ_run (Cert.FfnUpGradReferenceIdeal.defs (F := Ideal)) (onTc (τ := Cert.FfnUpGradReferenceIdeal.τ) (Cert.FfnUpGradReferenceIdeal.main (F := Ideal))) ⟨m, fun _ => 0, g⟩ (fun r => (∀ c : Dev Cert.FfnUpGradReferenceIdeal.nD,
      r.2.mem ((c.tc : Thread Cert.FfnUpGradReferenceIdeal.nD Cert.FfnUpGradReferenceIdeal.τ).loc Cert.FfnUpGradReferenceIdeal.main_arg0) = m ((c.tc : Thread Cert.FfnUpGradReferenceIdeal.nD Cert.FfnUpGradReferenceIdeal.τ).loc Cert.FfnUpGradReferenceIdeal.main_arg0)
      ∧ r.2.mem ((c.tc : Thread Cert.FfnUpGradReferenceIdeal.nD Cert.FfnUpGradReferenceIdeal.τ).loc Cert.FfnUpGradReferenceIdeal.main_arg1) = m ((c.tc : Thread Cert.FfnUpGradReferenceIdeal.nD Cert.FfnUpGradReferenceIdeal.τ).loc Cert.FfnUpGradReferenceIdeal.main_arg1)
      ∧ r.2.mem ((c.tc : Thread Cert.FfnUpGradReferenceIdeal.nD Cert.FfnUpGradReferenceIdeal.τ).loc Cert.FfnUpGradReferenceIdeal.main_arg2) = m ((c.tc : Thread Cert.FfnUpGradReferenceIdeal.nD Cert.FfnUpGradReferenceIdeal.τ).loc Cert.FfnUpGradReferenceIdeal.main_arg2))
      ∧ r.2.sem = fun _ => 0)

def quiescent_FfnDownGrad [hFfnDownGrad : Cert.FfnDownGrad.Facts] : Prop :=
  ∀ (m : (ℓ : Loc Cert.FfnDownGrad.nD Cert.FfnDownGrad.τ Cert.FfnDownGrad.sig) → Buf (Elt Bits) ℓ) (g : Dev Cert.FfnDownGrad.nD → PrngReg), Pre_FfnDownGrad m →
    θ_run (Cert.FfnDownGrad.defs (F := Bits)) (onTc (τ := Cert.FfnDownGrad.τ) (Cert.FfnDownGrad.main (F := Bits))) ⟨m, fun _ => 0, g⟩ (fun r => (∀ c : Dev Cert.FfnDownGrad.nD,
      r.2.mem ((c.tc : Thread Cert.FfnDownGrad.nD Cert.FfnDownGrad.τ).loc Cert.FfnDownGrad.main_arg0) = m ((c.tc : Thread Cert.FfnDownGrad.nD Cert.FfnDownGrad.τ).loc Cert.FfnDownGrad.main_arg0)
      ∧ r.2.mem ((c.tc : Thread Cert.FfnDownGrad.nD Cert.FfnDownGrad.τ).loc Cert.FfnDownGrad.main_arg1) = m ((c.tc : Thread Cert.FfnDownGrad.nD Cert.FfnDownGrad.τ).loc Cert.FfnDownGrad.main_arg1)
      ∧ r.2.mem ((c.tc : Thread Cert.FfnDownGrad.nD Cert.FfnDownGrad.τ).loc Cert.FfnDownGrad.main_arg2) = m ((c.tc : Thread Cert.FfnDownGrad.nD Cert.FfnDownGrad.τ).loc Cert.FfnDownGrad.main_arg2))
      ∧ r.2.sem = fun _ => 0)

def quiescent_FfnDownGradIdeal [hFfnDownGradIdeal : Cert.FfnDownGradIdeal.Facts] : Prop :=
  ∀ (m : (ℓ : Loc Cert.FfnDownGradIdeal.nD Cert.FfnDownGradIdeal.τ Cert.FfnDownGradIdeal.sig) → Buf (Elt Ideal) ℓ) (g : Dev Cert.FfnDownGradIdeal.nD → PrngReg), Pre_FfnDownGradIdeal m →
    θ_run (Cert.FfnDownGradIdeal.defs (F := Ideal)) (onTc (τ := Cert.FfnDownGradIdeal.τ) (Cert.FfnDownGradIdeal.main (F := Ideal))) ⟨m, fun _ => 0, g⟩ (fun r => (∀ c : Dev Cert.FfnDownGradIdeal.nD,
      r.2.mem ((c.tc : Thread Cert.FfnDownGradIdeal.nD Cert.FfnDownGradIdeal.τ).loc Cert.FfnDownGradIdeal.main_arg0) = m ((c.tc : Thread Cert.FfnDownGradIdeal.nD Cert.FfnDownGradIdeal.τ).loc Cert.FfnDownGradIdeal.main_arg0)
      ∧ r.2.mem ((c.tc : Thread Cert.FfnDownGradIdeal.nD Cert.FfnDownGradIdeal.τ).loc Cert.FfnDownGradIdeal.main_arg1) = m ((c.tc : Thread Cert.FfnDownGradIdeal.nD Cert.FfnDownGradIdeal.τ).loc Cert.FfnDownGradIdeal.main_arg1)
      ∧ r.2.mem ((c.tc : Thread Cert.FfnDownGradIdeal.nD Cert.FfnDownGradIdeal.τ).loc Cert.FfnDownGradIdeal.main_arg2) = m ((c.tc : Thread Cert.FfnDownGradIdeal.nD Cert.FfnDownGradIdeal.τ).loc Cert.FfnDownGradIdeal.main_arg2))
      ∧ r.2.sem = fun _ => 0)

def quiescent_FfnDownGradReferenceIdeal [hFfnDownGradReferenceIdeal : Cert.FfnDownGradReferenceIdeal.Facts] : Prop :=
  ∀ (m : (ℓ : Loc Cert.FfnDownGradReferenceIdeal.nD Cert.FfnDownGradReferenceIdeal.τ Cert.FfnDownGradReferenceIdeal.sig) → Buf (Elt Ideal) ℓ) (g : Dev Cert.FfnDownGradReferenceIdeal.nD → PrngReg), Pre_FfnDownGradReferenceIdeal m →
    θ_run (Cert.FfnDownGradReferenceIdeal.defs (F := Ideal)) (onTc (τ := Cert.FfnDownGradReferenceIdeal.τ) (Cert.FfnDownGradReferenceIdeal.main (F := Ideal))) ⟨m, fun _ => 0, g⟩ (fun r => (∀ c : Dev Cert.FfnDownGradReferenceIdeal.nD,
      r.2.mem ((c.tc : Thread Cert.FfnDownGradReferenceIdeal.nD Cert.FfnDownGradReferenceIdeal.τ).loc Cert.FfnDownGradReferenceIdeal.main_arg0) = m ((c.tc : Thread Cert.FfnDownGradReferenceIdeal.nD Cert.FfnDownGradReferenceIdeal.τ).loc Cert.FfnDownGradReferenceIdeal.main_arg0)
      ∧ r.2.mem ((c.tc : Thread Cert.FfnDownGradReferenceIdeal.nD Cert.FfnDownGradReferenceIdeal.τ).loc Cert.FfnDownGradReferenceIdeal.main_arg1) = m ((c.tc : Thread Cert.FfnDownGradReferenceIdeal.nD Cert.FfnDownGradReferenceIdeal.τ).loc Cert.FfnDownGradReferenceIdeal.main_arg1)
      ∧ r.2.mem ((c.tc : Thread Cert.FfnDownGradReferenceIdeal.nD Cert.FfnDownGradReferenceIdeal.τ).loc Cert.FfnDownGradReferenceIdeal.main_arg2) = m ((c.tc : Thread Cert.FfnDownGradReferenceIdeal.nD Cert.FfnDownGradReferenceIdeal.τ).loc Cert.FfnDownGradReferenceIdeal.main_arg2))
      ∧ r.2.sem = fun _ => 0)

def quiescent_GmlpInGrad [hGmlpInGrad : Cert.GmlpInGrad.Facts] : Prop :=
  ∀ (m : (ℓ : Loc Cert.GmlpInGrad.nD Cert.GmlpInGrad.τ Cert.GmlpInGrad.sig) → Buf (Elt Bits) ℓ) (g : Dev Cert.GmlpInGrad.nD → PrngReg), Pre_GmlpInGrad m →
    θ_run (Cert.GmlpInGrad.defs (F := Bits)) (onTc (τ := Cert.GmlpInGrad.τ) (Cert.GmlpInGrad.main (F := Bits))) ⟨m, fun _ => 0, g⟩ (fun r => (∀ c : Dev Cert.GmlpInGrad.nD,
      r.2.mem ((c.tc : Thread Cert.GmlpInGrad.nD Cert.GmlpInGrad.τ).loc Cert.GmlpInGrad.main_arg0) = m ((c.tc : Thread Cert.GmlpInGrad.nD Cert.GmlpInGrad.τ).loc Cert.GmlpInGrad.main_arg0)
      ∧ r.2.mem ((c.tc : Thread Cert.GmlpInGrad.nD Cert.GmlpInGrad.τ).loc Cert.GmlpInGrad.main_arg1) = m ((c.tc : Thread Cert.GmlpInGrad.nD Cert.GmlpInGrad.τ).loc Cert.GmlpInGrad.main_arg1)
      ∧ r.2.mem ((c.tc : Thread Cert.GmlpInGrad.nD Cert.GmlpInGrad.τ).loc Cert.GmlpInGrad.main_arg2) = m ((c.tc : Thread Cert.GmlpInGrad.nD Cert.GmlpInGrad.τ).loc Cert.GmlpInGrad.main_arg2))
      ∧ r.2.sem = fun _ => 0)

def quiescent_GmlpInGradIdeal [hGmlpInGradIdeal : Cert.GmlpInGradIdeal.Facts] : Prop :=
  ∀ (m : (ℓ : Loc Cert.GmlpInGradIdeal.nD Cert.GmlpInGradIdeal.τ Cert.GmlpInGradIdeal.sig) → Buf (Elt Ideal) ℓ) (g : Dev Cert.GmlpInGradIdeal.nD → PrngReg), Pre_GmlpInGradIdeal m →
    θ_run (Cert.GmlpInGradIdeal.defs (F := Ideal)) (onTc (τ := Cert.GmlpInGradIdeal.τ) (Cert.GmlpInGradIdeal.main (F := Ideal))) ⟨m, fun _ => 0, g⟩ (fun r => (∀ c : Dev Cert.GmlpInGradIdeal.nD,
      r.2.mem ((c.tc : Thread Cert.GmlpInGradIdeal.nD Cert.GmlpInGradIdeal.τ).loc Cert.GmlpInGradIdeal.main_arg0) = m ((c.tc : Thread Cert.GmlpInGradIdeal.nD Cert.GmlpInGradIdeal.τ).loc Cert.GmlpInGradIdeal.main_arg0)
      ∧ r.2.mem ((c.tc : Thread Cert.GmlpInGradIdeal.nD Cert.GmlpInGradIdeal.τ).loc Cert.GmlpInGradIdeal.main_arg1) = m ((c.tc : Thread Cert.GmlpInGradIdeal.nD Cert.GmlpInGradIdeal.τ).loc Cert.GmlpInGradIdeal.main_arg1)
      ∧ r.2.mem ((c.tc : Thread Cert.GmlpInGradIdeal.nD Cert.GmlpInGradIdeal.τ).loc Cert.GmlpInGradIdeal.main_arg2) = m ((c.tc : Thread Cert.GmlpInGradIdeal.nD Cert.GmlpInGradIdeal.τ).loc Cert.GmlpInGradIdeal.main_arg2))
      ∧ r.2.sem = fun _ => 0)

def quiescent_GmlpInGradReferenceIdeal [hGmlpInGradReferenceIdeal : Cert.GmlpInGradReferenceIdeal.Facts] : Prop :=
  ∀ (m : (ℓ : Loc Cert.GmlpInGradReferenceIdeal.nD Cert.GmlpInGradReferenceIdeal.τ Cert.GmlpInGradReferenceIdeal.sig) → Buf (Elt Ideal) ℓ) (g : Dev Cert.GmlpInGradReferenceIdeal.nD → PrngReg), Pre_GmlpInGradReferenceIdeal m →
    θ_run (Cert.GmlpInGradReferenceIdeal.defs (F := Ideal)) (onTc (τ := Cert.GmlpInGradReferenceIdeal.τ) (Cert.GmlpInGradReferenceIdeal.main (F := Ideal))) ⟨m, fun _ => 0, g⟩ (fun r => (∀ c : Dev Cert.GmlpInGradReferenceIdeal.nD,
      r.2.mem ((c.tc : Thread Cert.GmlpInGradReferenceIdeal.nD Cert.GmlpInGradReferenceIdeal.τ).loc Cert.GmlpInGradReferenceIdeal.main_arg0) = m ((c.tc : Thread Cert.GmlpInGradReferenceIdeal.nD Cert.GmlpInGradReferenceIdeal.τ).loc Cert.GmlpInGradReferenceIdeal.main_arg0)
      ∧ r.2.mem ((c.tc : Thread Cert.GmlpInGradReferenceIdeal.nD Cert.GmlpInGradReferenceIdeal.τ).loc Cert.GmlpInGradReferenceIdeal.main_arg1) = m ((c.tc : Thread Cert.GmlpInGradReferenceIdeal.nD Cert.GmlpInGradReferenceIdeal.τ).loc Cert.GmlpInGradReferenceIdeal.main_arg1)
      ∧ r.2.mem ((c.tc : Thread Cert.GmlpInGradReferenceIdeal.nD Cert.GmlpInGradReferenceIdeal.τ).loc Cert.GmlpInGradReferenceIdeal.main_arg2) = m ((c.tc : Thread Cert.GmlpInGradReferenceIdeal.nD Cert.GmlpInGradReferenceIdeal.τ).loc Cert.GmlpInGradReferenceIdeal.main_arg2))
      ∧ r.2.sem = fun _ => 0)

def quiescent_GmlpOutGrad [hGmlpOutGrad : Cert.GmlpOutGrad.Facts] : Prop :=
  ∀ (m : (ℓ : Loc Cert.GmlpOutGrad.nD Cert.GmlpOutGrad.τ Cert.GmlpOutGrad.sig) → Buf (Elt Bits) ℓ) (g : Dev Cert.GmlpOutGrad.nD → PrngReg), Pre_GmlpOutGrad m →
    θ_run (Cert.GmlpOutGrad.defs (F := Bits)) (onTc (τ := Cert.GmlpOutGrad.τ) (Cert.GmlpOutGrad.main (F := Bits))) ⟨m, fun _ => 0, g⟩ (fun r => (∀ c : Dev Cert.GmlpOutGrad.nD,
      r.2.mem ((c.tc : Thread Cert.GmlpOutGrad.nD Cert.GmlpOutGrad.τ).loc Cert.GmlpOutGrad.main_arg0) = m ((c.tc : Thread Cert.GmlpOutGrad.nD Cert.GmlpOutGrad.τ).loc Cert.GmlpOutGrad.main_arg0)
      ∧ r.2.mem ((c.tc : Thread Cert.GmlpOutGrad.nD Cert.GmlpOutGrad.τ).loc Cert.GmlpOutGrad.main_arg1) = m ((c.tc : Thread Cert.GmlpOutGrad.nD Cert.GmlpOutGrad.τ).loc Cert.GmlpOutGrad.main_arg1)
      ∧ r.2.mem ((c.tc : Thread Cert.GmlpOutGrad.nD Cert.GmlpOutGrad.τ).loc Cert.GmlpOutGrad.main_arg2) = m ((c.tc : Thread Cert.GmlpOutGrad.nD Cert.GmlpOutGrad.τ).loc Cert.GmlpOutGrad.main_arg2))
      ∧ r.2.sem = fun _ => 0)

def quiescent_GmlpOutGradIdeal [hGmlpOutGradIdeal : Cert.GmlpOutGradIdeal.Facts] : Prop :=
  ∀ (m : (ℓ : Loc Cert.GmlpOutGradIdeal.nD Cert.GmlpOutGradIdeal.τ Cert.GmlpOutGradIdeal.sig) → Buf (Elt Ideal) ℓ) (g : Dev Cert.GmlpOutGradIdeal.nD → PrngReg), Pre_GmlpOutGradIdeal m →
    θ_run (Cert.GmlpOutGradIdeal.defs (F := Ideal)) (onTc (τ := Cert.GmlpOutGradIdeal.τ) (Cert.GmlpOutGradIdeal.main (F := Ideal))) ⟨m, fun _ => 0, g⟩ (fun r => (∀ c : Dev Cert.GmlpOutGradIdeal.nD,
      r.2.mem ((c.tc : Thread Cert.GmlpOutGradIdeal.nD Cert.GmlpOutGradIdeal.τ).loc Cert.GmlpOutGradIdeal.main_arg0) = m ((c.tc : Thread Cert.GmlpOutGradIdeal.nD Cert.GmlpOutGradIdeal.τ).loc Cert.GmlpOutGradIdeal.main_arg0)
      ∧ r.2.mem ((c.tc : Thread Cert.GmlpOutGradIdeal.nD Cert.GmlpOutGradIdeal.τ).loc Cert.GmlpOutGradIdeal.main_arg1) = m ((c.tc : Thread Cert.GmlpOutGradIdeal.nD Cert.GmlpOutGradIdeal.τ).loc Cert.GmlpOutGradIdeal.main_arg1)
      ∧ r.2.mem ((c.tc : Thread Cert.GmlpOutGradIdeal.nD Cert.GmlpOutGradIdeal.τ).loc Cert.GmlpOutGradIdeal.main_arg2) = m ((c.tc : Thread Cert.GmlpOutGradIdeal.nD Cert.GmlpOutGradIdeal.τ).loc Cert.GmlpOutGradIdeal.main_arg2))
      ∧ r.2.sem = fun _ => 0)

def quiescent_GmlpOutGradReferenceIdeal [hGmlpOutGradReferenceIdeal : Cert.GmlpOutGradReferenceIdeal.Facts] : Prop :=
  ∀ (m : (ℓ : Loc Cert.GmlpOutGradReferenceIdeal.nD Cert.GmlpOutGradReferenceIdeal.τ Cert.GmlpOutGradReferenceIdeal.sig) → Buf (Elt Ideal) ℓ) (g : Dev Cert.GmlpOutGradReferenceIdeal.nD → PrngReg), Pre_GmlpOutGradReferenceIdeal m →
    θ_run (Cert.GmlpOutGradReferenceIdeal.defs (F := Ideal)) (onTc (τ := Cert.GmlpOutGradReferenceIdeal.τ) (Cert.GmlpOutGradReferenceIdeal.main (F := Ideal))) ⟨m, fun _ => 0, g⟩ (fun r => (∀ c : Dev Cert.GmlpOutGradReferenceIdeal.nD,
      r.2.mem ((c.tc : Thread Cert.GmlpOutGradReferenceIdeal.nD Cert.GmlpOutGradReferenceIdeal.τ).loc Cert.GmlpOutGradReferenceIdeal.main_arg0) = m ((c.tc : Thread Cert.GmlpOutGradReferenceIdeal.nD Cert.GmlpOutGradReferenceIdeal.τ).loc Cert.GmlpOutGradReferenceIdeal.main_arg0)
      ∧ r.2.mem ((c.tc : Thread Cert.GmlpOutGradReferenceIdeal.nD Cert.GmlpOutGradReferenceIdeal.τ).loc Cert.GmlpOutGradReferenceIdeal.main_arg1) = m ((c.tc : Thread Cert.GmlpOutGradReferenceIdeal.nD Cert.GmlpOutGradReferenceIdeal.τ).loc Cert.GmlpOutGradReferenceIdeal.main_arg1)
      ∧ r.2.mem ((c.tc : Thread Cert.GmlpOutGradReferenceIdeal.nD Cert.GmlpOutGradReferenceIdeal.τ).loc Cert.GmlpOutGradReferenceIdeal.main_arg2) = m ((c.tc : Thread Cert.GmlpOutGradReferenceIdeal.nD Cert.GmlpOutGradReferenceIdeal.τ).loc Cert.GmlpOutGradReferenceIdeal.main_arg2))
      ∧ r.2.sem = fun _ => 0)

def quiescent_AttnQkvGrad [hAttnQkvGrad : Cert.AttnQkvGrad.Facts] : Prop :=
  ∀ (m : (ℓ : Loc Cert.AttnQkvGrad.nD Cert.AttnQkvGrad.τ Cert.AttnQkvGrad.sig) → Buf (Elt Bits) ℓ) (g : Dev Cert.AttnQkvGrad.nD → PrngReg), Pre_AttnQkvGrad m →
    θ_run (Cert.AttnQkvGrad.defs (F := Bits)) (onTc (τ := Cert.AttnQkvGrad.τ) (Cert.AttnQkvGrad.main (F := Bits))) ⟨m, fun _ => 0, g⟩ (fun r => (∀ c : Dev Cert.AttnQkvGrad.nD,
      r.2.mem ((c.tc : Thread Cert.AttnQkvGrad.nD Cert.AttnQkvGrad.τ).loc Cert.AttnQkvGrad.main_arg0) = m ((c.tc : Thread Cert.AttnQkvGrad.nD Cert.AttnQkvGrad.τ).loc Cert.AttnQkvGrad.main_arg0)
      ∧ r.2.mem ((c.tc : Thread Cert.AttnQkvGrad.nD Cert.AttnQkvGrad.τ).loc Cert.AttnQkvGrad.main_arg1) = m ((c.tc : Thread Cert.AttnQkvGrad.nD Cert.AttnQkvGrad.τ).loc Cert.AttnQkvGrad.main_arg1)
      ∧ r.2.mem ((c.tc : Thread Cert.AttnQkvGrad.nD Cert.AttnQkvGrad.τ).loc Cert.AttnQkvGrad.main_arg2) = m ((c.tc : Thread Cert.AttnQkvGrad.nD Cert.AttnQkvGrad.τ).loc Cert.AttnQkvGrad.main_arg2))
      ∧ r.2.sem = fun _ => 0)

def quiescent_AttnQkvGradIdeal [hAttnQkvGradIdeal : Cert.AttnQkvGradIdeal.Facts] : Prop :=
  ∀ (m : (ℓ : Loc Cert.AttnQkvGradIdeal.nD Cert.AttnQkvGradIdeal.τ Cert.AttnQkvGradIdeal.sig) → Buf (Elt Ideal) ℓ) (g : Dev Cert.AttnQkvGradIdeal.nD → PrngReg), Pre_AttnQkvGradIdeal m →
    θ_run (Cert.AttnQkvGradIdeal.defs (F := Ideal)) (onTc (τ := Cert.AttnQkvGradIdeal.τ) (Cert.AttnQkvGradIdeal.main (F := Ideal))) ⟨m, fun _ => 0, g⟩ (fun r => (∀ c : Dev Cert.AttnQkvGradIdeal.nD,
      r.2.mem ((c.tc : Thread Cert.AttnQkvGradIdeal.nD Cert.AttnQkvGradIdeal.τ).loc Cert.AttnQkvGradIdeal.main_arg0) = m ((c.tc : Thread Cert.AttnQkvGradIdeal.nD Cert.AttnQkvGradIdeal.τ).loc Cert.AttnQkvGradIdeal.main_arg0)
      ∧ r.2.mem ((c.tc : Thread Cert.AttnQkvGradIdeal.nD Cert.AttnQkvGradIdeal.τ).loc Cert.AttnQkvGradIdeal.main_arg1) = m ((c.tc : Thread Cert.AttnQkvGradIdeal.nD Cert.AttnQkvGradIdeal.τ).loc Cert.AttnQkvGradIdeal.main_arg1)
      ∧ r.2.mem ((c.tc : Thread Cert.AttnQkvGradIdeal.nD Cert.AttnQkvGradIdeal.τ).loc Cert.AttnQkvGradIdeal.main_arg2) = m ((c.tc : Thread Cert.AttnQkvGradIdeal.nD Cert.AttnQkvGradIdeal.τ).loc Cert.AttnQkvGradIdeal.main_arg2))
      ∧ r.2.sem = fun _ => 0)

def quiescent_AttnQkvGradReferenceIdeal [hAttnQkvGradReferenceIdeal : Cert.AttnQkvGradReferenceIdeal.Facts] : Prop :=
  ∀ (m : (ℓ : Loc Cert.AttnQkvGradReferenceIdeal.nD Cert.AttnQkvGradReferenceIdeal.τ Cert.AttnQkvGradReferenceIdeal.sig) → Buf (Elt Ideal) ℓ) (g : Dev Cert.AttnQkvGradReferenceIdeal.nD → PrngReg), Pre_AttnQkvGradReferenceIdeal m →
    θ_run (Cert.AttnQkvGradReferenceIdeal.defs (F := Ideal)) (onTc (τ := Cert.AttnQkvGradReferenceIdeal.τ) (Cert.AttnQkvGradReferenceIdeal.main (F := Ideal))) ⟨m, fun _ => 0, g⟩ (fun r => (∀ c : Dev Cert.AttnQkvGradReferenceIdeal.nD,
      r.2.mem ((c.tc : Thread Cert.AttnQkvGradReferenceIdeal.nD Cert.AttnQkvGradReferenceIdeal.τ).loc Cert.AttnQkvGradReferenceIdeal.main_arg0) = m ((c.tc : Thread Cert.AttnQkvGradReferenceIdeal.nD Cert.AttnQkvGradReferenceIdeal.τ).loc Cert.AttnQkvGradReferenceIdeal.main_arg0)
      ∧ r.2.mem ((c.tc : Thread Cert.AttnQkvGradReferenceIdeal.nD Cert.AttnQkvGradReferenceIdeal.τ).loc Cert.AttnQkvGradReferenceIdeal.main_arg1) = m ((c.tc : Thread Cert.AttnQkvGradReferenceIdeal.nD Cert.AttnQkvGradReferenceIdeal.τ).loc Cert.AttnQkvGradReferenceIdeal.main_arg1)
      ∧ r.2.mem ((c.tc : Thread Cert.AttnQkvGradReferenceIdeal.nD Cert.AttnQkvGradReferenceIdeal.τ).loc Cert.AttnQkvGradReferenceIdeal.main_arg2) = m ((c.tc : Thread Cert.AttnQkvGradReferenceIdeal.nD Cert.AttnQkvGradReferenceIdeal.τ).loc Cert.AttnQkvGradReferenceIdeal.main_arg2))
      ∧ r.2.sem = fun _ => 0)

def quiescent_AttnOutGrad [hAttnOutGrad : Cert.AttnOutGrad.Facts] : Prop :=
  ∀ (m : (ℓ : Loc Cert.AttnOutGrad.nD Cert.AttnOutGrad.τ Cert.AttnOutGrad.sig) → Buf (Elt Bits) ℓ) (g : Dev Cert.AttnOutGrad.nD → PrngReg), Pre_AttnOutGrad m →
    θ_run (Cert.AttnOutGrad.defs (F := Bits)) (onTc (τ := Cert.AttnOutGrad.τ) (Cert.AttnOutGrad.main (F := Bits))) ⟨m, fun _ => 0, g⟩ (fun r => (∀ c : Dev Cert.AttnOutGrad.nD,
      r.2.mem ((c.tc : Thread Cert.AttnOutGrad.nD Cert.AttnOutGrad.τ).loc Cert.AttnOutGrad.main_arg0) = m ((c.tc : Thread Cert.AttnOutGrad.nD Cert.AttnOutGrad.τ).loc Cert.AttnOutGrad.main_arg0)
      ∧ r.2.mem ((c.tc : Thread Cert.AttnOutGrad.nD Cert.AttnOutGrad.τ).loc Cert.AttnOutGrad.main_arg1) = m ((c.tc : Thread Cert.AttnOutGrad.nD Cert.AttnOutGrad.τ).loc Cert.AttnOutGrad.main_arg1)
      ∧ r.2.mem ((c.tc : Thread Cert.AttnOutGrad.nD Cert.AttnOutGrad.τ).loc Cert.AttnOutGrad.main_arg2) = m ((c.tc : Thread Cert.AttnOutGrad.nD Cert.AttnOutGrad.τ).loc Cert.AttnOutGrad.main_arg2))
      ∧ r.2.sem = fun _ => 0)

def quiescent_AttnOutGradIdeal [hAttnOutGradIdeal : Cert.AttnOutGradIdeal.Facts] : Prop :=
  ∀ (m : (ℓ : Loc Cert.AttnOutGradIdeal.nD Cert.AttnOutGradIdeal.τ Cert.AttnOutGradIdeal.sig) → Buf (Elt Ideal) ℓ) (g : Dev Cert.AttnOutGradIdeal.nD → PrngReg), Pre_AttnOutGradIdeal m →
    θ_run (Cert.AttnOutGradIdeal.defs (F := Ideal)) (onTc (τ := Cert.AttnOutGradIdeal.τ) (Cert.AttnOutGradIdeal.main (F := Ideal))) ⟨m, fun _ => 0, g⟩ (fun r => (∀ c : Dev Cert.AttnOutGradIdeal.nD,
      r.2.mem ((c.tc : Thread Cert.AttnOutGradIdeal.nD Cert.AttnOutGradIdeal.τ).loc Cert.AttnOutGradIdeal.main_arg0) = m ((c.tc : Thread Cert.AttnOutGradIdeal.nD Cert.AttnOutGradIdeal.τ).loc Cert.AttnOutGradIdeal.main_arg0)
      ∧ r.2.mem ((c.tc : Thread Cert.AttnOutGradIdeal.nD Cert.AttnOutGradIdeal.τ).loc Cert.AttnOutGradIdeal.main_arg1) = m ((c.tc : Thread Cert.AttnOutGradIdeal.nD Cert.AttnOutGradIdeal.τ).loc Cert.AttnOutGradIdeal.main_arg1)
      ∧ r.2.mem ((c.tc : Thread Cert.AttnOutGradIdeal.nD Cert.AttnOutGradIdeal.τ).loc Cert.AttnOutGradIdeal.main_arg2) = m ((c.tc : Thread Cert.AttnOutGradIdeal.nD Cert.AttnOutGradIdeal.τ).loc Cert.AttnOutGradIdeal.main_arg2))
      ∧ r.2.sem = fun _ => 0)

def quiescent_AttnOutGradReferenceIdeal [hAttnOutGradReferenceIdeal : Cert.AttnOutGradReferenceIdeal.Facts] : Prop :=
  ∀ (m : (ℓ : Loc Cert.AttnOutGradReferenceIdeal.nD Cert.AttnOutGradReferenceIdeal.τ Cert.AttnOutGradReferenceIdeal.sig) → Buf (Elt Ideal) ℓ) (g : Dev Cert.AttnOutGradReferenceIdeal.nD → PrngReg), Pre_AttnOutGradReferenceIdeal m →
    θ_run (Cert.AttnOutGradReferenceIdeal.defs (F := Ideal)) (onTc (τ := Cert.AttnOutGradReferenceIdeal.τ) (Cert.AttnOutGradReferenceIdeal.main (F := Ideal))) ⟨m, fun _ => 0, g⟩ (fun r => (∀ c : Dev Cert.AttnOutGradReferenceIdeal.nD,
      r.2.mem ((c.tc : Thread Cert.AttnOutGradReferenceIdeal.nD Cert.AttnOutGradReferenceIdeal.τ).loc Cert.AttnOutGradReferenceIdeal.main_arg0) = m ((c.tc : Thread Cert.AttnOutGradReferenceIdeal.nD Cert.AttnOutGradReferenceIdeal.τ).loc Cert.AttnOutGradReferenceIdeal.main_arg0)
      ∧ r.2.mem ((c.tc : Thread Cert.AttnOutGradReferenceIdeal.nD Cert.AttnOutGradReferenceIdeal.τ).loc Cert.AttnOutGradReferenceIdeal.main_arg1) = m ((c.tc : Thread Cert.AttnOutGradReferenceIdeal.nD Cert.AttnOutGradReferenceIdeal.τ).loc Cert.AttnOutGradReferenceIdeal.main_arg1)
      ∧ r.2.mem ((c.tc : Thread Cert.AttnOutGradReferenceIdeal.nD Cert.AttnOutGradReferenceIdeal.τ).loc Cert.AttnOutGradReferenceIdeal.main_arg2) = m ((c.tc : Thread Cert.AttnOutGradReferenceIdeal.nD Cert.AttnOutGradReferenceIdeal.τ).loc Cert.AttnOutGradReferenceIdeal.main_arg2))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpIdeal_pre_finite_ffn_up [hFfnUpIdeal : Cert.FfnUpIdeal.Facts] [hPre_finite_ffn_up : Cert.Pre_finite_ffn_up.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal_finite_ffn_up m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpReferenceIdeal [hFfnUpReferenceIdeal : Cert.FfnUpReferenceIdeal.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1))
      ∧ r.2.sem = fun _ => 0)

def quiescent_FfnUpReferenceIdeal_pre_finite_ffn_up [hFfnUpReferenceIdeal : Cert.FfnUpReferenceIdeal.Facts] [hPre_finite_ffn_up : Cert.Pre_finite_ffn_up.Facts] : Prop :=
  ∀ (m : (ℓ : Loc Cert.FfnUpReferenceIdeal.nD Cert.FfnUpReferenceIdeal.τ Cert.FfnUpReferenceIdeal.sig) → Buf (Elt Ideal) ℓ) (g : Dev Cert.FfnUpReferenceIdeal.nD → PrngReg), Pre_FfnUpReferenceIdeal_finite_ffn_up m →
    θ_run (Cert.FfnUpReferenceIdeal.defs (F := Ideal)) (onTc (τ := Cert.FfnUpReferenceIdeal.τ) (Cert.FfnUpReferenceIdeal.main (F := Ideal))) ⟨m, fun _ => 0, g⟩ (fun r => (∀ c : Dev Cert.FfnUpReferenceIdeal.nD,
      r.2.mem ((c.tc : Thread Cert.FfnUpReferenceIdeal.nD Cert.FfnUpReferenceIdeal.τ).loc Cert.FfnUpReferenceIdeal.main_arg0) = m ((c.tc : Thread Cert.FfnUpReferenceIdeal.nD Cert.FfnUpReferenceIdeal.τ).loc Cert.FfnUpReferenceIdeal.main_arg0)
      ∧ r.2.mem ((c.tc : Thread Cert.FfnUpReferenceIdeal.nD Cert.FfnUpReferenceIdeal.τ).loc Cert.FfnUpReferenceIdeal.main_arg1) = m ((c.tc : Thread Cert.FfnUpReferenceIdeal.nD Cert.FfnUpReferenceIdeal.τ).loc Cert.FfnUpReferenceIdeal.main_arg1))
      ∧ r.2.sem = fun _ => 0)

def quiescent_FfnDact [hFfnDact : Cert.FfnDact.Facts] : Prop :=
  ∀ (m : (ℓ : Loc Cert.FfnDact.nD Cert.FfnDact.τ Cert.FfnDact.sig) → Buf (Elt Bits) ℓ) (g : Dev Cert.FfnDact.nD → PrngReg), Pre_FfnDact m →
    θ_run (Cert.FfnDact.defs (F := Bits)) (onTc (τ := Cert.FfnDact.τ) (Cert.FfnDact.main (F := Bits))) ⟨m, fun _ => 0, g⟩ (fun r => (∀ c : Dev Cert.FfnDact.nD,
      r.2.mem ((c.tc : Thread Cert.FfnDact.nD Cert.FfnDact.τ).loc Cert.FfnDact.main_arg0) = m ((c.tc : Thread Cert.FfnDact.nD Cert.FfnDact.τ).loc Cert.FfnDact.main_arg0)
      ∧ r.2.mem ((c.tc : Thread Cert.FfnDact.nD Cert.FfnDact.τ).loc Cert.FfnDact.main_arg1) = m ((c.tc : Thread Cert.FfnDact.nD Cert.FfnDact.τ).loc Cert.FfnDact.main_arg1)
      ∧ r.2.mem ((c.tc : Thread Cert.FfnDact.nD Cert.FfnDact.τ).loc Cert.FfnDact.main_arg2) = m ((c.tc : Thread Cert.FfnDact.nD Cert.FfnDact.τ).loc Cert.FfnDact.main_arg2))
      ∧ r.2.sem = fun _ => 0)

def quiescent_FfnDactIdeal [hFfnDactIdeal : Cert.FfnDactIdeal.Facts] : Prop :=
  ∀ (m : (ℓ : Loc Cert.FfnDactIdeal.nD Cert.FfnDactIdeal.τ Cert.FfnDactIdeal.sig) → Buf (Elt Ideal) ℓ) (g : Dev Cert.FfnDactIdeal.nD → PrngReg), Pre_FfnDactIdeal m →
    θ_run (Cert.FfnDactIdeal.defs (F := Ideal)) (onTc (τ := Cert.FfnDactIdeal.τ) (Cert.FfnDactIdeal.main (F := Ideal))) ⟨m, fun _ => 0, g⟩ (fun r => (∀ c : Dev Cert.FfnDactIdeal.nD,
      r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
      ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
      ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2))
      ∧ r.2.sem = fun _ => 0)

def quiescent_FfnDactIdeal_pre_finite_ffn_dact [hFfnDactIdeal : Cert.FfnDactIdeal.Facts] [hPre_finite_ffn_dact : Cert.Pre_finite_ffn_dact.Facts] : Prop :=
  ∀ (m : (ℓ : Loc Cert.FfnDactIdeal.nD Cert.FfnDactIdeal.τ Cert.FfnDactIdeal.sig) → Buf (Elt Ideal) ℓ) (g : Dev Cert.FfnDactIdeal.nD → PrngReg), Pre_FfnDactIdeal_finite_ffn_dact m →
    θ_run (Cert.FfnDactIdeal.defs (F := Ideal)) (onTc (τ := Cert.FfnDactIdeal.τ) (Cert.FfnDactIdeal.main (F := Ideal))) ⟨m, fun _ => 0, g⟩ (fun r => (∀ c : Dev Cert.FfnDactIdeal.nD,
      r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
      ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
      ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2))
      ∧ r.2.sem = fun _ => 0)

def quiescent_FfnDactReferenceIdeal [hFfnDactReferenceIdeal : Cert.FfnDactReferenceIdeal.Facts] : Prop :=
  ∀ (m : (ℓ : Loc Cert.FfnDactReferenceIdeal.nD Cert.FfnDactReferenceIdeal.τ Cert.FfnDactReferenceIdeal.sig) → Buf (Elt Ideal) ℓ) (g : Dev Cert.FfnDactReferenceIdeal.nD → PrngReg), Pre_FfnDactReferenceIdeal m →
    θ_run (Cert.FfnDactReferenceIdeal.defs (F := Ideal)) (onTc (τ := Cert.FfnDactReferenceIdeal.τ) (Cert.FfnDactReferenceIdeal.main (F := Ideal))) ⟨m, fun _ => 0, g⟩ (fun r => (∀ c : Dev Cert.FfnDactReferenceIdeal.nD,
      r.2.mem ((c.tc : Thread Cert.FfnDactReferenceIdeal.nD Cert.FfnDactReferenceIdeal.τ).loc Cert.FfnDactReferenceIdeal.main_arg0) = m ((c.tc : Thread Cert.FfnDactReferenceIdeal.nD Cert.FfnDactReferenceIdeal.τ).loc Cert.FfnDactReferenceIdeal.main_arg0)
      ∧ r.2.mem ((c.tc : Thread Cert.FfnDactReferenceIdeal.nD Cert.FfnDactReferenceIdeal.τ).loc Cert.FfnDactReferenceIdeal.main_arg1) = m ((c.tc : Thread Cert.FfnDactReferenceIdeal.nD Cert.FfnDactReferenceIdeal.τ).loc Cert.FfnDactReferenceIdeal.main_arg1)
      ∧ r.2.mem ((c.tc : Thread Cert.FfnDactReferenceIdeal.nD Cert.FfnDactReferenceIdeal.τ).loc Cert.FfnDactReferenceIdeal.main_arg2) = m ((c.tc : Thread Cert.FfnDactReferenceIdeal.nD Cert.FfnDactReferenceIdeal.τ).loc Cert.FfnDactReferenceIdeal.main_arg2))
      ∧ r.2.sem = fun _ => 0)

def quiescent_FfnDactReferenceIdeal_pre_finite_ffn_dact [hFfnDactReferenceIdeal : Cert.FfnDactReferenceIdeal.Facts] [hPre_finite_ffn_dact : Cert.Pre_finite_ffn_dact.Facts] : Prop :=
  ∀ (m : (ℓ : Loc Cert.FfnDactReferenceIdeal.nD Cert.FfnDactReferenceIdeal.τ Cert.FfnDactReferenceIdeal.sig) → Buf (Elt Ideal) ℓ) (g : Dev Cert.FfnDactReferenceIdeal.nD → PrngReg), Pre_FfnDactReferenceIdeal_finite_ffn_dact m →
    θ_run (Cert.FfnDactReferenceIdeal.defs (F := Ideal)) (onTc (τ := Cert.FfnDactReferenceIdeal.τ) (Cert.FfnDactReferenceIdeal.main (F := Ideal))) ⟨m, fun _ => 0, g⟩ (fun r => (∀ c : Dev Cert.FfnDactReferenceIdeal.nD,
      r.2.mem ((c.tc : Thread Cert.FfnDactReferenceIdeal.nD Cert.FfnDactReferenceIdeal.τ).loc Cert.FfnDactReferenceIdeal.main_arg0) = m ((c.tc : Thread Cert.FfnDactReferenceIdeal.nD Cert.FfnDactReferenceIdeal.τ).loc Cert.FfnDactReferenceIdeal.main_arg0)
      ∧ r.2.mem ((c.tc : Thread Cert.FfnDactReferenceIdeal.nD Cert.FfnDactReferenceIdeal.τ).loc Cert.FfnDactReferenceIdeal.main_arg1) = m ((c.tc : Thread Cert.FfnDactReferenceIdeal.nD Cert.FfnDactReferenceIdeal.τ).loc Cert.FfnDactReferenceIdeal.main_arg1)
      ∧ r.2.mem ((c.tc : Thread Cert.FfnDactReferenceIdeal.nD Cert.FfnDactReferenceIdeal.τ).loc Cert.FfnDactReferenceIdeal.main_arg2) = m ((c.tc : Thread Cert.FfnDactReferenceIdeal.nD Cert.FfnDactReferenceIdeal.τ).loc Cert.FfnDactReferenceIdeal.main_arg2))
      ∧ r.2.sem = fun _ => 0)

def quiescent_FfnDx [hFfnDx : Cert.FfnDx.Facts] : Prop :=
  ∀ (m : (ℓ : Loc Cert.FfnDx.nD Cert.FfnDx.τ Cert.FfnDx.sig) → Buf (Elt Bits) ℓ) (g : Dev Cert.FfnDx.nD → PrngReg), Pre_FfnDx m →
    θ_run (Cert.FfnDx.defs (F := Bits)) (onTc (τ := Cert.FfnDx.τ) (Cert.FfnDx.main (F := Bits))) ⟨m, fun _ => 0, g⟩ (fun r => (∀ c : Dev Cert.FfnDx.nD,
      r.2.mem ((c.tc : Thread Cert.FfnDx.nD Cert.FfnDx.τ).loc Cert.FfnDx.main_arg0) = m ((c.tc : Thread Cert.FfnDx.nD Cert.FfnDx.τ).loc Cert.FfnDx.main_arg0)
      ∧ r.2.mem ((c.tc : Thread Cert.FfnDx.nD Cert.FfnDx.τ).loc Cert.FfnDx.main_arg1) = m ((c.tc : Thread Cert.FfnDx.nD Cert.FfnDx.τ).loc Cert.FfnDx.main_arg1)
      ∧ r.2.mem ((c.tc : Thread Cert.FfnDx.nD Cert.FfnDx.τ).loc Cert.FfnDx.main_arg2) = m ((c.tc : Thread Cert.FfnDx.nD Cert.FfnDx.τ).loc Cert.FfnDx.main_arg2)
      ∧ r.2.mem ((c.tc : Thread Cert.FfnDx.nD Cert.FfnDx.τ).loc Cert.FfnDx.main_arg3) = m ((c.tc : Thread Cert.FfnDx.nD Cert.FfnDx.τ).loc Cert.FfnDx.main_arg3)
      ∧ r.2.mem ((c.tc : Thread Cert.FfnDx.nD Cert.FfnDx.τ).loc Cert.FfnDx.main_arg4) = m ((c.tc : Thread Cert.FfnDx.nD Cert.FfnDx.τ).loc Cert.FfnDx.main_arg4)
      ∧ r.2.mem ((c.tc : Thread Cert.FfnDx.nD Cert.FfnDx.τ).loc Cert.FfnDx.main_arg5) = m ((c.tc : Thread Cert.FfnDx.nD Cert.FfnDx.τ).loc Cert.FfnDx.main_arg5)
      ∧ r.2.mem ((c.tc : Thread Cert.FfnDx.nD Cert.FfnDx.τ).loc Cert.FfnDx.main_arg6) = m ((c.tc : Thread Cert.FfnDx.nD Cert.FfnDx.τ).loc Cert.FfnDx.main_arg6)
      ∧ r.2.mem ((c.tc : Thread Cert.FfnDx.nD Cert.FfnDx.τ).loc Cert.FfnDx.main_arg7) = m ((c.tc : Thread Cert.FfnDx.nD Cert.FfnDx.τ).loc Cert.FfnDx.main_arg7))
      ∧ r.2.sem = fun _ => 0)

def quiescent_FfnDxIdeal [hFfnDxIdeal : Cert.FfnDxIdeal.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
      ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
      ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4)
      ∧ r.2.mem ((c.tc : Thread Cert.FfnDxIdeal.nD Cert.FfnDxIdeal.τ).loc Cert.FfnDxIdeal.main_arg5) = m ((c.tc : Thread Cert.FfnDxIdeal.nD Cert.FfnDxIdeal.τ).loc Cert.FfnDxIdeal.main_arg5)
      ∧ r.2.mem ((c.tc : Thread Cert.FfnDxIdeal.nD Cert.FfnDxIdeal.τ).loc Cert.FfnDxIdeal.main_arg6) = m ((c.tc : Thread Cert.FfnDxIdeal.nD Cert.FfnDxIdeal.τ).loc Cert.FfnDxIdeal.main_arg6)
      ∧ r.2.mem ((c.tc : Thread Cert.FfnDxIdeal.nD Cert.FfnDxIdeal.τ).loc Cert.FfnDxIdeal.main_arg7) = m ((c.tc : Thread Cert.FfnDxIdeal.nD Cert.FfnDxIdeal.τ).loc Cert.FfnDxIdeal.main_arg7))
      ∧ r.2.sem = fun _ => 0)

def quiescent_FfnDxIdeal_pre_finite_ffn_dx [hFfnDxIdeal : Cert.FfnDxIdeal.Facts] [hPre_finite_ffn_dx : Cert.Pre_finite_ffn_dx.Facts] : Prop :=
  ∀ (m : (ℓ : Loc Cert.FfnDxIdeal.nD Cert.FfnDxIdeal.τ Cert.FfnDxIdeal.sig) → Buf (Elt Ideal) ℓ) (g : Dev Cert.FfnDxIdeal.nD → PrngReg), Pre_FfnDxIdeal_finite_ffn_dx m →
    θ_run (Cert.FfnDxIdeal.defs (F := Ideal)) (onTc (τ := Cert.FfnDxIdeal.τ) (Cert.FfnDxIdeal.main (F := Ideal))) ⟨m, fun _ => 0, g⟩ (fun r => (∀ c : Dev Cert.FfnDxIdeal.nD,
      r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
      ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
      ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
      ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
      ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4)
      ∧ r.2.mem ((c.tc : Thread Cert.FfnDxIdeal.nD Cert.FfnDxIdeal.τ).loc Cert.FfnDxIdeal.main_arg5) = m ((c.tc : Thread Cert.FfnDxIdeal.nD Cert.FfnDxIdeal.τ).loc Cert.FfnDxIdeal.main_arg5)
      ∧ r.2.mem ((c.tc : Thread Cert.FfnDxIdeal.nD Cert.FfnDxIdeal.τ).loc Cert.FfnDxIdeal.main_arg6) = m ((c.tc : Thread Cert.FfnDxIdeal.nD Cert.FfnDxIdeal.τ).loc Cert.FfnDxIdeal.main_arg6)
      ∧ r.2.mem ((c.tc : Thread Cert.FfnDxIdeal.nD Cert.FfnDxIdeal.τ).loc Cert.FfnDxIdeal.main_arg7) = m ((c.tc : Thread Cert.FfnDxIdeal.nD Cert.FfnDxIdeal.τ).loc Cert.FfnDxIdeal.main_arg7))
      ∧ r.2.sem = fun _ => 0)

def quiescent_FfnDxReferenceIdeal [hFfnDxReferenceIdeal : Cert.FfnDxReferenceIdeal.Facts] : Prop :=
  ∀ (m : (ℓ : Loc Cert.FfnDxReferenceIdeal.nD Cert.FfnDxReferenceIdeal.τ Cert.FfnDxReferenceIdeal.sig) → Buf (Elt Ideal) ℓ) (g : Dev Cert.FfnDxReferenceIdeal.nD → PrngReg), Pre_FfnDxReferenceIdeal m →
    θ_run (Cert.FfnDxReferenceIdeal.defs (F := Ideal)) (onTc (τ := Cert.FfnDxReferenceIdeal.τ) (Cert.FfnDxReferenceIdeal.main (F := Ideal))) ⟨m, fun _ => 0, g⟩ (fun r => (∀ c : Dev Cert.FfnDxReferenceIdeal.nD,
      r.2.mem ((c.tc : Thread Cert.FfnDxReferenceIdeal.nD Cert.FfnDxReferenceIdeal.τ).loc Cert.FfnDxReferenceIdeal.main_arg0) = m ((c.tc : Thread Cert.FfnDxReferenceIdeal.nD Cert.FfnDxReferenceIdeal.τ).loc Cert.FfnDxReferenceIdeal.main_arg0)
      ∧ r.2.mem ((c.tc : Thread Cert.FfnDxReferenceIdeal.nD Cert.FfnDxReferenceIdeal.τ).loc Cert.FfnDxReferenceIdeal.main_arg1) = m ((c.tc : Thread Cert.FfnDxReferenceIdeal.nD Cert.FfnDxReferenceIdeal.τ).loc Cert.FfnDxReferenceIdeal.main_arg1)
      ∧ r.2.mem ((c.tc : Thread Cert.FfnDxReferenceIdeal.nD Cert.FfnDxReferenceIdeal.τ).loc Cert.FfnDxReferenceIdeal.main_arg2) = m ((c.tc : Thread Cert.FfnDxReferenceIdeal.nD Cert.FfnDxReferenceIdeal.τ).loc Cert.FfnDxReferenceIdeal.main_arg2)
      ∧ r.2.mem ((c.tc : Thread Cert.FfnDxReferenceIdeal.nD Cert.FfnDxReferenceIdeal.τ).loc Cert.FfnDxReferenceIdeal.main_arg3) = m ((c.tc : Thread Cert.FfnDxReferenceIdeal.nD Cert.FfnDxReferenceIdeal.τ).loc Cert.FfnDxReferenceIdeal.main_arg3)
      ∧ r.2.mem ((c.tc : Thread Cert.FfnDxReferenceIdeal.nD Cert.FfnDxReferenceIdeal.τ).loc Cert.FfnDxReferenceIdeal.main_arg4) = m ((c.tc : Thread Cert.FfnDxReferenceIdeal.nD Cert.FfnDxReferenceIdeal.τ).loc Cert.FfnDxReferenceIdeal.main_arg4)
      ∧ r.2.mem ((c.tc : Thread Cert.FfnDxReferenceIdeal.nD Cert.FfnDxReferenceIdeal.τ).loc Cert.FfnDxReferenceIdeal.main_arg5) = m ((c.tc : Thread Cert.FfnDxReferenceIdeal.nD Cert.FfnDxReferenceIdeal.τ).loc Cert.FfnDxReferenceIdeal.main_arg5)
      ∧ r.2.mem ((c.tc : Thread Cert.FfnDxReferenceIdeal.nD Cert.FfnDxReferenceIdeal.τ).loc Cert.FfnDxReferenceIdeal.main_arg6) = m ((c.tc : Thread Cert.FfnDxReferenceIdeal.nD Cert.FfnDxReferenceIdeal.τ).loc Cert.FfnDxReferenceIdeal.main_arg6)
      ∧ r.2.mem ((c.tc : Thread Cert.FfnDxReferenceIdeal.nD Cert.FfnDxReferenceIdeal.τ).loc Cert.FfnDxReferenceIdeal.main_arg7) = m ((c.tc : Thread Cert.FfnDxReferenceIdeal.nD Cert.FfnDxReferenceIdeal.τ).loc Cert.FfnDxReferenceIdeal.main_arg7))
      ∧ r.2.sem = fun _ => 0)

def quiescent_FfnDxReferenceIdeal_pre_finite_ffn_dx [hFfnDxReferenceIdeal : Cert.FfnDxReferenceIdeal.Facts] [hPre_finite_ffn_dx : Cert.Pre_finite_ffn_dx.Facts] : Prop :=
  ∀ (m : (ℓ : Loc Cert.FfnDxReferenceIdeal.nD Cert.FfnDxReferenceIdeal.τ Cert.FfnDxReferenceIdeal.sig) → Buf (Elt Ideal) ℓ) (g : Dev Cert.FfnDxReferenceIdeal.nD → PrngReg), Pre_FfnDxReferenceIdeal_finite_ffn_dx m →
    θ_run (Cert.FfnDxReferenceIdeal.defs (F := Ideal)) (onTc (τ := Cert.FfnDxReferenceIdeal.τ) (Cert.FfnDxReferenceIdeal.main (F := Ideal))) ⟨m, fun _ => 0, g⟩ (fun r => (∀ c : Dev Cert.FfnDxReferenceIdeal.nD,
      r.2.mem ((c.tc : Thread Cert.FfnDxReferenceIdeal.nD Cert.FfnDxReferenceIdeal.τ).loc Cert.FfnDxReferenceIdeal.main_arg0) = m ((c.tc : Thread Cert.FfnDxReferenceIdeal.nD Cert.FfnDxReferenceIdeal.τ).loc Cert.FfnDxReferenceIdeal.main_arg0)
      ∧ r.2.mem ((c.tc : Thread Cert.FfnDxReferenceIdeal.nD Cert.FfnDxReferenceIdeal.τ).loc Cert.FfnDxReferenceIdeal.main_arg1) = m ((c.tc : Thread Cert.FfnDxReferenceIdeal.nD Cert.FfnDxReferenceIdeal.τ).loc Cert.FfnDxReferenceIdeal.main_arg1)
      ∧ r.2.mem ((c.tc : Thread Cert.FfnDxReferenceIdeal.nD Cert.FfnDxReferenceIdeal.τ).loc Cert.FfnDxReferenceIdeal.main_arg2) = m ((c.tc : Thread Cert.FfnDxReferenceIdeal.nD Cert.FfnDxReferenceIdeal.τ).loc Cert.FfnDxReferenceIdeal.main_arg2)
      ∧ r.2.mem ((c.tc : Thread Cert.FfnDxReferenceIdeal.nD Cert.FfnDxReferenceIdeal.τ).loc Cert.FfnDxReferenceIdeal.main_arg3) = m ((c.tc : Thread Cert.FfnDxReferenceIdeal.nD Cert.FfnDxReferenceIdeal.τ).loc Cert.FfnDxReferenceIdeal.main_arg3)
      ∧ r.2.mem ((c.tc : Thread Cert.FfnDxReferenceIdeal.nD Cert.FfnDxReferenceIdeal.τ).loc Cert.FfnDxReferenceIdeal.main_arg4) = m ((c.tc : Thread Cert.FfnDxReferenceIdeal.nD Cert.FfnDxReferenceIdeal.τ).loc Cert.FfnDxReferenceIdeal.main_arg4)
      ∧ r.2.mem ((c.tc : Thread Cert.FfnDxReferenceIdeal.nD Cert.FfnDxReferenceIdeal.τ).loc Cert.FfnDxReferenceIdeal.main_arg5) = m ((c.tc : Thread Cert.FfnDxReferenceIdeal.nD Cert.FfnDxReferenceIdeal.τ).loc Cert.FfnDxReferenceIdeal.main_arg5)
      ∧ r.2.mem ((c.tc : Thread Cert.FfnDxReferenceIdeal.nD Cert.FfnDxReferenceIdeal.τ).loc Cert.FfnDxReferenceIdeal.main_arg6) = m ((c.tc : Thread Cert.FfnDxReferenceIdeal.nD Cert.FfnDxReferenceIdeal.τ).loc Cert.FfnDxReferenceIdeal.main_arg6)
      ∧ r.2.mem ((c.tc : Thread Cert.FfnDxReferenceIdeal.nD Cert.FfnDxReferenceIdeal.τ).loc Cert.FfnDxReferenceIdeal.main_arg7) = m ((c.tc : Thread Cert.FfnDxReferenceIdeal.nD Cert.FfnDxReferenceIdeal.τ).loc Cert.FfnDxReferenceIdeal.main_arg7))
      ∧ r.2.sem = fun _ => 0)

def quiescent_FfnDxGmlp [hFfnDxGmlp : Cert.FfnDxGmlp.Facts] : Prop :=
  ∀ (m : (ℓ : Loc Cert.FfnDxGmlp.nD Cert.FfnDxGmlp.τ Cert.FfnDxGmlp.sig) → Buf (Elt Bits) ℓ) (g : Dev Cert.FfnDxGmlp.nD → PrngReg), Pre_FfnDxGmlp m →
    θ_run (Cert.FfnDxGmlp.defs (F := Bits)) (onTc (τ := Cert.FfnDxGmlp.τ) (Cert.FfnDxGmlp.main (F := Bits))) ⟨m, fun _ => 0, g⟩ (fun r => (∀ c : Dev Cert.FfnDxGmlp.nD,
      r.2.mem ((c.tc : Thread Cert.FfnDxGmlp.nD Cert.FfnDxGmlp.τ).loc Cert.FfnDxGmlp.main_arg0) = m ((c.tc : Thread Cert.FfnDxGmlp.nD Cert.FfnDxGmlp.τ).loc Cert.FfnDxGmlp.main_arg0)
      ∧ r.2.mem ((c.tc : Thread Cert.FfnDxGmlp.nD Cert.FfnDxGmlp.τ).loc Cert.FfnDxGmlp.main_arg1) = m ((c.tc : Thread Cert.FfnDxGmlp.nD Cert.FfnDxGmlp.τ).loc Cert.FfnDxGmlp.main_arg1)
      ∧ r.2.mem ((c.tc : Thread Cert.FfnDxGmlp.nD Cert.FfnDxGmlp.τ).loc Cert.FfnDxGmlp.main_arg2) = m ((c.tc : Thread Cert.FfnDxGmlp.nD Cert.FfnDxGmlp.τ).loc Cert.FfnDxGmlp.main_arg2)
      ∧ r.2.mem ((c.tc : Thread Cert.FfnDxGmlp.nD Cert.FfnDxGmlp.τ).loc Cert.FfnDxGmlp.main_arg3) = m ((c.tc : Thread Cert.FfnDxGmlp.nD Cert.FfnDxGmlp.τ).loc Cert.FfnDxGmlp.main_arg3)
      ∧ r.2.mem ((c.tc : Thread Cert.FfnDxGmlp.nD Cert.FfnDxGmlp.τ).loc Cert.FfnDxGmlp.main_arg4) = m ((c.tc : Thread Cert.FfnDxGmlp.nD Cert.FfnDxGmlp.τ).loc Cert.FfnDxGmlp.main_arg4)
      ∧ r.2.mem ((c.tc : Thread Cert.FfnDxGmlp.nD Cert.FfnDxGmlp.τ).loc Cert.FfnDxGmlp.main_arg5) = m ((c.tc : Thread Cert.FfnDxGmlp.nD Cert.FfnDxGmlp.τ).loc Cert.FfnDxGmlp.main_arg5)
      ∧ r.2.mem ((c.tc : Thread Cert.FfnDxGmlp.nD Cert.FfnDxGmlp.τ).loc Cert.FfnDxGmlp.main_arg6) = m ((c.tc : Thread Cert.FfnDxGmlp.nD Cert.FfnDxGmlp.τ).loc Cert.FfnDxGmlp.main_arg6)
      ∧ r.2.mem ((c.tc : Thread Cert.FfnDxGmlp.nD Cert.FfnDxGmlp.τ).loc Cert.FfnDxGmlp.main_arg7) = m ((c.tc : Thread Cert.FfnDxGmlp.nD Cert.FfnDxGmlp.τ).loc Cert.FfnDxGmlp.main_arg7))
      ∧ r.2.sem = fun _ => 0)

def quiescent_FfnDxGmlpIdeal [hFfnDxGmlpIdeal : Cert.FfnDxGmlpIdeal.Facts] : Prop :=
  ∀ (m : (ℓ : Loc Cert.FfnDxGmlpIdeal.nD Cert.FfnDxGmlpIdeal.τ Cert.FfnDxGmlpIdeal.sig) → Buf (Elt Ideal) ℓ) (g : Dev Cert.FfnDxGmlpIdeal.nD → PrngReg), Pre_FfnDxGmlpIdeal m →
    θ_run (Cert.FfnDxGmlpIdeal.defs (F := Ideal)) (onTc (τ := Cert.FfnDxGmlpIdeal.τ) (Cert.FfnDxGmlpIdeal.main (F := Ideal))) ⟨m, fun _ => 0, g⟩ (fun r => (∀ c : Dev Cert.FfnDxGmlpIdeal.nD,
      r.2.mem ((c.tc : Thread Cert.FfnDxGmlpIdeal.nD Cert.FfnDxGmlpIdeal.τ).loc Cert.FfnDxGmlpIdeal.main_arg0) = m ((c.tc : Thread Cert.FfnDxGmlpIdeal.nD Cert.FfnDxGmlpIdeal.τ).loc Cert.FfnDxGmlpIdeal.main_arg0)
      ∧ r.2.mem ((c.tc : Thread Cert.FfnDxGmlpIdeal.nD Cert.FfnDxGmlpIdeal.τ).loc Cert.FfnDxGmlpIdeal.main_arg1) = m ((c.tc : Thread Cert.FfnDxGmlpIdeal.nD Cert.FfnDxGmlpIdeal.τ).loc Cert.FfnDxGmlpIdeal.main_arg1)
      ∧ r.2.mem ((c.tc : Thread Cert.FfnDxGmlpIdeal.nD Cert.FfnDxGmlpIdeal.τ).loc Cert.FfnDxGmlpIdeal.main_arg2) = m ((c.tc : Thread Cert.FfnDxGmlpIdeal.nD Cert.FfnDxGmlpIdeal.τ).loc Cert.FfnDxGmlpIdeal.main_arg2)
      ∧ r.2.mem ((c.tc : Thread Cert.FfnDxGmlpIdeal.nD Cert.FfnDxGmlpIdeal.τ).loc Cert.FfnDxGmlpIdeal.main_arg3) = m ((c.tc : Thread Cert.FfnDxGmlpIdeal.nD Cert.FfnDxGmlpIdeal.τ).loc Cert.FfnDxGmlpIdeal.main_arg3)
      ∧ r.2.mem ((c.tc : Thread Cert.FfnDxGmlpIdeal.nD Cert.FfnDxGmlpIdeal.τ).loc Cert.FfnDxGmlpIdeal.main_arg4) = m ((c.tc : Thread Cert.FfnDxGmlpIdeal.nD Cert.FfnDxGmlpIdeal.τ).loc Cert.FfnDxGmlpIdeal.main_arg4)
      ∧ r.2.mem ((c.tc : Thread Cert.FfnDxGmlpIdeal.nD Cert.FfnDxGmlpIdeal.τ).loc Cert.FfnDxGmlpIdeal.main_arg5) = m ((c.tc : Thread Cert.FfnDxGmlpIdeal.nD Cert.FfnDxGmlpIdeal.τ).loc Cert.FfnDxGmlpIdeal.main_arg5)
      ∧ r.2.mem ((c.tc : Thread Cert.FfnDxGmlpIdeal.nD Cert.FfnDxGmlpIdeal.τ).loc Cert.FfnDxGmlpIdeal.main_arg6) = m ((c.tc : Thread Cert.FfnDxGmlpIdeal.nD Cert.FfnDxGmlpIdeal.τ).loc Cert.FfnDxGmlpIdeal.main_arg6)
      ∧ r.2.mem ((c.tc : Thread Cert.FfnDxGmlpIdeal.nD Cert.FfnDxGmlpIdeal.τ).loc Cert.FfnDxGmlpIdeal.main_arg7) = m ((c.tc : Thread Cert.FfnDxGmlpIdeal.nD Cert.FfnDxGmlpIdeal.τ).loc Cert.FfnDxGmlpIdeal.main_arg7))
      ∧ r.2.sem = fun _ => 0)

def quiescent_FfnDxGmlpIdeal_pre_finite_ffn_dx_gmlp [hFfnDxGmlpIdeal : Cert.FfnDxGmlpIdeal.Facts] [hPre_finite_ffn_dx_gmlp : Cert.Pre_finite_ffn_dx_gmlp.Facts] : Prop :=
  ∀ (m : (ℓ : Loc Cert.FfnDxGmlpIdeal.nD Cert.FfnDxGmlpIdeal.τ Cert.FfnDxGmlpIdeal.sig) → Buf (Elt Ideal) ℓ) (g : Dev Cert.FfnDxGmlpIdeal.nD → PrngReg), Pre_FfnDxGmlpIdeal_finite_ffn_dx_gmlp m →
    θ_run (Cert.FfnDxGmlpIdeal.defs (F := Ideal)) (onTc (τ := Cert.FfnDxGmlpIdeal.τ) (Cert.FfnDxGmlpIdeal.main (F := Ideal))) ⟨m, fun _ => 0, g⟩ (fun r => (∀ c : Dev Cert.FfnDxGmlpIdeal.nD,
      r.2.mem ((c.tc : Thread Cert.FfnDxGmlpIdeal.nD Cert.FfnDxGmlpIdeal.τ).loc Cert.FfnDxGmlpIdeal.main_arg0) = m ((c.tc : Thread Cert.FfnDxGmlpIdeal.nD Cert.FfnDxGmlpIdeal.τ).loc Cert.FfnDxGmlpIdeal.main_arg0)
      ∧ r.2.mem ((c.tc : Thread Cert.FfnDxGmlpIdeal.nD Cert.FfnDxGmlpIdeal.τ).loc Cert.FfnDxGmlpIdeal.main_arg1) = m ((c.tc : Thread Cert.FfnDxGmlpIdeal.nD Cert.FfnDxGmlpIdeal.τ).loc Cert.FfnDxGmlpIdeal.main_arg1)
      ∧ r.2.mem ((c.tc : Thread Cert.FfnDxGmlpIdeal.nD Cert.FfnDxGmlpIdeal.τ).loc Cert.FfnDxGmlpIdeal.main_arg2) = m ((c.tc : Thread Cert.FfnDxGmlpIdeal.nD Cert.FfnDxGmlpIdeal.τ).loc Cert.FfnDxGmlpIdeal.main_arg2)
      ∧ r.2.mem ((c.tc : Thread Cert.FfnDxGmlpIdeal.nD Cert.FfnDxGmlpIdeal.τ).loc Cert.FfnDxGmlpIdeal.main_arg3) = m ((c.tc : Thread Cert.FfnDxGmlpIdeal.nD Cert.FfnDxGmlpIdeal.τ).loc Cert.FfnDxGmlpIdeal.main_arg3)
      ∧ r.2.mem ((c.tc : Thread Cert.FfnDxGmlpIdeal.nD Cert.FfnDxGmlpIdeal.τ).loc Cert.FfnDxGmlpIdeal.main_arg4) = m ((c.tc : Thread Cert.FfnDxGmlpIdeal.nD Cert.FfnDxGmlpIdeal.τ).loc Cert.FfnDxGmlpIdeal.main_arg4)
      ∧ r.2.mem ((c.tc : Thread Cert.FfnDxGmlpIdeal.nD Cert.FfnDxGmlpIdeal.τ).loc Cert.FfnDxGmlpIdeal.main_arg5) = m ((c.tc : Thread Cert.FfnDxGmlpIdeal.nD Cert.FfnDxGmlpIdeal.τ).loc Cert.FfnDxGmlpIdeal.main_arg5)
      ∧ r.2.mem ((c.tc : Thread Cert.FfnDxGmlpIdeal.nD Cert.FfnDxGmlpIdeal.τ).loc Cert.FfnDxGmlpIdeal.main_arg6) = m ((c.tc : Thread Cert.FfnDxGmlpIdeal.nD Cert.FfnDxGmlpIdeal.τ).loc Cert.FfnDxGmlpIdeal.main_arg6)
      ∧ r.2.mem ((c.tc : Thread Cert.FfnDxGmlpIdeal.nD Cert.FfnDxGmlpIdeal.τ).loc Cert.FfnDxGmlpIdeal.main_arg7) = m ((c.tc : Thread Cert.FfnDxGmlpIdeal.nD Cert.FfnDxGmlpIdeal.τ).loc Cert.FfnDxGmlpIdeal.main_arg7))
      ∧ r.2.sem = fun _ => 0)

def quiescent_FfnDxGmlpReferenceIdeal [hFfnDxGmlpReferenceIdeal : Cert.FfnDxGmlpReferenceIdeal.Facts] : Prop :=
  ∀ (m : (ℓ : Loc Cert.FfnDxGmlpReferenceIdeal.nD Cert.FfnDxGmlpReferenceIdeal.τ Cert.FfnDxGmlpReferenceIdeal.sig) → Buf (Elt Ideal) ℓ) (g : Dev Cert.FfnDxGmlpReferenceIdeal.nD → PrngReg), Pre_FfnDxGmlpReferenceIdeal m →
    θ_run (Cert.FfnDxGmlpReferenceIdeal.defs (F := Ideal)) (onTc (τ := Cert.FfnDxGmlpReferenceIdeal.τ) (Cert.FfnDxGmlpReferenceIdeal.main (F := Ideal))) ⟨m, fun _ => 0, g⟩ (fun r => (∀ c : Dev Cert.FfnDxGmlpReferenceIdeal.nD,
      r.2.mem ((c.tc : Thread Cert.FfnDxGmlpReferenceIdeal.nD Cert.FfnDxGmlpReferenceIdeal.τ).loc Cert.FfnDxGmlpReferenceIdeal.main_arg0) = m ((c.tc : Thread Cert.FfnDxGmlpReferenceIdeal.nD Cert.FfnDxGmlpReferenceIdeal.τ).loc Cert.FfnDxGmlpReferenceIdeal.main_arg0)
      ∧ r.2.mem ((c.tc : Thread Cert.FfnDxGmlpReferenceIdeal.nD Cert.FfnDxGmlpReferenceIdeal.τ).loc Cert.FfnDxGmlpReferenceIdeal.main_arg1) = m ((c.tc : Thread Cert.FfnDxGmlpReferenceIdeal.nD Cert.FfnDxGmlpReferenceIdeal.τ).loc Cert.FfnDxGmlpReferenceIdeal.main_arg1)
      ∧ r.2.mem ((c.tc : Thread Cert.FfnDxGmlpReferenceIdeal.nD Cert.FfnDxGmlpReferenceIdeal.τ).loc Cert.FfnDxGmlpReferenceIdeal.main_arg2) = m ((c.tc : Thread Cert.FfnDxGmlpReferenceIdeal.nD Cert.FfnDxGmlpReferenceIdeal.τ).loc Cert.FfnDxGmlpReferenceIdeal.main_arg2)
      ∧ r.2.mem ((c.tc : Thread Cert.FfnDxGmlpReferenceIdeal.nD Cert.FfnDxGmlpReferenceIdeal.τ).loc Cert.FfnDxGmlpReferenceIdeal.main_arg3) = m ((c.tc : Thread Cert.FfnDxGmlpReferenceIdeal.nD Cert.FfnDxGmlpReferenceIdeal.τ).loc Cert.FfnDxGmlpReferenceIdeal.main_arg3)
      ∧ r.2.mem ((c.tc : Thread Cert.FfnDxGmlpReferenceIdeal.nD Cert.FfnDxGmlpReferenceIdeal.τ).loc Cert.FfnDxGmlpReferenceIdeal.main_arg4) = m ((c.tc : Thread Cert.FfnDxGmlpReferenceIdeal.nD Cert.FfnDxGmlpReferenceIdeal.τ).loc Cert.FfnDxGmlpReferenceIdeal.main_arg4)
      ∧ r.2.mem ((c.tc : Thread Cert.FfnDxGmlpReferenceIdeal.nD Cert.FfnDxGmlpReferenceIdeal.τ).loc Cert.FfnDxGmlpReferenceIdeal.main_arg5) = m ((c.tc : Thread Cert.FfnDxGmlpReferenceIdeal.nD Cert.FfnDxGmlpReferenceIdeal.τ).loc Cert.FfnDxGmlpReferenceIdeal.main_arg5)
      ∧ r.2.mem ((c.tc : Thread Cert.FfnDxGmlpReferenceIdeal.nD Cert.FfnDxGmlpReferenceIdeal.τ).loc Cert.FfnDxGmlpReferenceIdeal.main_arg6) = m ((c.tc : Thread Cert.FfnDxGmlpReferenceIdeal.nD Cert.FfnDxGmlpReferenceIdeal.τ).loc Cert.FfnDxGmlpReferenceIdeal.main_arg6)
      ∧ r.2.mem ((c.tc : Thread Cert.FfnDxGmlpReferenceIdeal.nD Cert.FfnDxGmlpReferenceIdeal.τ).loc Cert.FfnDxGmlpReferenceIdeal.main_arg7) = m ((c.tc : Thread Cert.FfnDxGmlpReferenceIdeal.nD Cert.FfnDxGmlpReferenceIdeal.τ).loc Cert.FfnDxGmlpReferenceIdeal.main_arg7))
      ∧ r.2.sem = fun _ => 0)

def quiescent_FfnDxGmlpReferenceIdeal_pre_finite_ffn_dx_gmlp [hFfnDxGmlpReferenceIdeal : Cert.FfnDxGmlpReferenceIdeal.Facts] [hPre_finite_ffn_dx_gmlp : Cert.Pre_finite_ffn_dx_gmlp.Facts] : Prop :=
  ∀ (m : (ℓ : Loc Cert.FfnDxGmlpReferenceIdeal.nD Cert.FfnDxGmlpReferenceIdeal.τ Cert.FfnDxGmlpReferenceIdeal.sig) → Buf (Elt Ideal) ℓ) (g : Dev Cert.FfnDxGmlpReferenceIdeal.nD → PrngReg), Pre_FfnDxGmlpReferenceIdeal_finite_ffn_dx_gmlp m →
    θ_run (Cert.FfnDxGmlpReferenceIdeal.defs (F := Ideal)) (onTc (τ := Cert.FfnDxGmlpReferenceIdeal.τ) (Cert.FfnDxGmlpReferenceIdeal.main (F := Ideal))) ⟨m, fun _ => 0, g⟩ (fun r => (∀ c : Dev Cert.FfnDxGmlpReferenceIdeal.nD,
      r.2.mem ((c.tc : Thread Cert.FfnDxGmlpReferenceIdeal.nD Cert.FfnDxGmlpReferenceIdeal.τ).loc Cert.FfnDxGmlpReferenceIdeal.main_arg0) = m ((c.tc : Thread Cert.FfnDxGmlpReferenceIdeal.nD Cert.FfnDxGmlpReferenceIdeal.τ).loc Cert.FfnDxGmlpReferenceIdeal.main_arg0)
      ∧ r.2.mem ((c.tc : Thread Cert.FfnDxGmlpReferenceIdeal.nD Cert.FfnDxGmlpReferenceIdeal.τ).loc Cert.FfnDxGmlpReferenceIdeal.main_arg1) = m ((c.tc : Thread Cert.FfnDxGmlpReferenceIdeal.nD Cert.FfnDxGmlpReferenceIdeal.τ).loc Cert.FfnDxGmlpReferenceIdeal.main_arg1)
      ∧ r.2.mem ((c.tc : Thread Cert.FfnDxGmlpReferenceIdeal.nD Cert.FfnDxGmlpReferenceIdeal.τ).loc Cert.FfnDxGmlpReferenceIdeal.main_arg2) = m ((c.tc : Thread Cert.FfnDxGmlpReferenceIdeal.nD Cert.FfnDxGmlpReferenceIdeal.τ).loc Cert.FfnDxGmlpReferenceIdeal.main_arg2)
      ∧ r.2.mem ((c.tc : Thread Cert.FfnDxGmlpReferenceIdeal.nD Cert.FfnDxGmlpReferenceIdeal.τ).loc Cert.FfnDxGmlpReferenceIdeal.main_arg3) = m ((c.tc : Thread Cert.FfnDxGmlpReferenceIdeal.nD Cert.FfnDxGmlpReferenceIdeal.τ).loc Cert.FfnDxGmlpReferenceIdeal.main_arg3)
      ∧ r.2.mem ((c.tc : Thread Cert.FfnDxGmlpReferenceIdeal.nD Cert.FfnDxGmlpReferenceIdeal.τ).loc Cert.FfnDxGmlpReferenceIdeal.main_arg4) = m ((c.tc : Thread Cert.FfnDxGmlpReferenceIdeal.nD Cert.FfnDxGmlpReferenceIdeal.τ).loc Cert.FfnDxGmlpReferenceIdeal.main_arg4)
      ∧ r.2.mem ((c.tc : Thread Cert.FfnDxGmlpReferenceIdeal.nD Cert.FfnDxGmlpReferenceIdeal.τ).loc Cert.FfnDxGmlpReferenceIdeal.main_arg5) = m ((c.tc : Thread Cert.FfnDxGmlpReferenceIdeal.nD Cert.FfnDxGmlpReferenceIdeal.τ).loc Cert.FfnDxGmlpReferenceIdeal.main_arg5)
      ∧ r.2.mem ((c.tc : Thread Cert.FfnDxGmlpReferenceIdeal.nD Cert.FfnDxGmlpReferenceIdeal.τ).loc Cert.FfnDxGmlpReferenceIdeal.main_arg6) = m ((c.tc : Thread Cert.FfnDxGmlpReferenceIdeal.nD Cert.FfnDxGmlpReferenceIdeal.τ).loc Cert.FfnDxGmlpReferenceIdeal.main_arg6)
      ∧ r.2.mem ((c.tc : Thread Cert.FfnDxGmlpReferenceIdeal.nD Cert.FfnDxGmlpReferenceIdeal.τ).loc Cert.FfnDxGmlpReferenceIdeal.main_arg7) = m ((c.tc : Thread Cert.FfnDxGmlpReferenceIdeal.nD Cert.FfnDxGmlpReferenceIdeal.τ).loc Cert.FfnDxGmlpReferenceIdeal.main_arg7))
      ∧ r.2.sem = fun _ => 0)

def quiescent_GmlpIn [hGmlpIn : Cert.GmlpIn.Facts] : Prop :=
  ∀ (m : (ℓ : Loc Cert.GmlpIn.nD Cert.GmlpIn.τ Cert.GmlpIn.sig) → Buf (Elt Bits) ℓ) (g : Dev Cert.GmlpIn.nD → PrngReg), Pre_GmlpIn m →
    θ_run (Cert.GmlpIn.defs (F := Bits)) (onTc (τ := Cert.GmlpIn.τ) (Cert.GmlpIn.main (F := Bits))) ⟨m, fun _ => 0, g⟩ (fun r => (∀ c : Dev Cert.GmlpIn.nD,
      r.2.mem ((c.tc : Thread Cert.GmlpIn.nD Cert.GmlpIn.τ).loc Cert.GmlpIn.main_arg0) = m ((c.tc : Thread Cert.GmlpIn.nD Cert.GmlpIn.τ).loc Cert.GmlpIn.main_arg0)
      ∧ r.2.mem ((c.tc : Thread Cert.GmlpIn.nD Cert.GmlpIn.τ).loc Cert.GmlpIn.main_arg1) = m ((c.tc : Thread Cert.GmlpIn.nD Cert.GmlpIn.τ).loc Cert.GmlpIn.main_arg1)
      ∧ r.2.mem ((c.tc : Thread Cert.GmlpIn.nD Cert.GmlpIn.τ).loc Cert.GmlpIn.main_arg2) = m ((c.tc : Thread Cert.GmlpIn.nD Cert.GmlpIn.τ).loc Cert.GmlpIn.main_arg2))
      ∧ r.2.sem = fun _ => 0)

def quiescent_GmlpInIdeal [hGmlpInIdeal : Cert.GmlpInIdeal.Facts] : Prop :=
  ∀ (m : (ℓ : Loc Cert.GmlpInIdeal.nD Cert.GmlpInIdeal.τ Cert.GmlpInIdeal.sig) → Buf (Elt Ideal) ℓ) (g : Dev Cert.GmlpInIdeal.nD → PrngReg), Pre_GmlpInIdeal m →
    θ_run (Cert.GmlpInIdeal.defs (F := Ideal)) (onTc (τ := Cert.GmlpInIdeal.τ) (Cert.GmlpInIdeal.main (F := Ideal))) ⟨m, fun _ => 0, g⟩ (fun r => (∀ c : Dev Cert.GmlpInIdeal.nD,
      r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
      ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1)
      ∧ r.2.mem ((c.tc : Thread Cert.GmlpInIdeal.nD Cert.GmlpInIdeal.τ).loc Cert.GmlpInIdeal.main_arg2) = m ((c.tc : Thread Cert.GmlpInIdeal.nD Cert.GmlpInIdeal.τ).loc Cert.GmlpInIdeal.main_arg2))
      ∧ r.2.sem = fun _ => 0)

def quiescent_GmlpInReferenceIdeal [hGmlpInReferenceIdeal : Cert.GmlpInReferenceIdeal.Facts] : Prop :=
  ∀ (m : (ℓ : Loc Cert.GmlpInReferenceIdeal.nD Cert.GmlpInReferenceIdeal.τ Cert.GmlpInReferenceIdeal.sig) → Buf (Elt Ideal) ℓ) (g : Dev Cert.GmlpInReferenceIdeal.nD → PrngReg), Pre_GmlpInReferenceIdeal m →
    θ_run (Cert.GmlpInReferenceIdeal.defs (F := Ideal)) (onTc (τ := Cert.GmlpInReferenceIdeal.τ) (Cert.GmlpInReferenceIdeal.main (F := Ideal))) ⟨m, fun _ => 0, g⟩ (fun r => (∀ c : Dev Cert.GmlpInReferenceIdeal.nD,
      r.2.mem ((c.tc : Thread Cert.GmlpInReferenceIdeal.nD Cert.GmlpInReferenceIdeal.τ).loc Cert.GmlpInReferenceIdeal.main_arg0) = m ((c.tc : Thread Cert.GmlpInReferenceIdeal.nD Cert.GmlpInReferenceIdeal.τ).loc Cert.GmlpInReferenceIdeal.main_arg0)
      ∧ r.2.mem ((c.tc : Thread Cert.GmlpInReferenceIdeal.nD Cert.GmlpInReferenceIdeal.τ).loc Cert.GmlpInReferenceIdeal.main_arg1) = m ((c.tc : Thread Cert.GmlpInReferenceIdeal.nD Cert.GmlpInReferenceIdeal.τ).loc Cert.GmlpInReferenceIdeal.main_arg1)
      ∧ r.2.mem ((c.tc : Thread Cert.GmlpInReferenceIdeal.nD Cert.GmlpInReferenceIdeal.τ).loc Cert.GmlpInReferenceIdeal.main_arg2) = m ((c.tc : Thread Cert.GmlpInReferenceIdeal.nD Cert.GmlpInReferenceIdeal.τ).loc Cert.GmlpInReferenceIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3)
      ∧ r.2.mem ((c.tc : Thread Cert.FfnDown.nD Cert.FfnDown.τ).loc Cert.FfnDown.main_arg4) = m ((c.tc : Thread Cert.FfnDown.nD Cert.FfnDown.τ).loc Cert.FfnDown.main_arg4))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
      ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2)
      ∧ r.2.mem ((c.tc : Thread Cert.FfnDownReferenceIdeal.nD Cert.FfnDownReferenceIdeal.τ).loc Cert.FfnDownReferenceIdeal.main_arg3) = m ((c.tc : Thread Cert.FfnDownReferenceIdeal.nD Cert.FfnDownReferenceIdeal.τ).loc Cert.FfnDownReferenceIdeal.main_arg3)
      ∧ r.2.mem ((c.tc : Thread Cert.FfnDownReferenceIdeal.nD Cert.FfnDownReferenceIdeal.τ).loc Cert.FfnDownReferenceIdeal.main_arg4) = m ((c.tc : Thread Cert.FfnDownReferenceIdeal.nD Cert.FfnDownReferenceIdeal.τ).loc Cert.FfnDownReferenceIdeal.main_arg4))
      ∧ r.2.sem = fun _ => 0)

def quiescent_AttnOut [hAttnOut : Cert.AttnOut.Facts] : Prop :=
  ∀ (m : (ℓ : Loc Cert.AttnOut.nD Cert.AttnOut.τ Cert.AttnOut.sig) → Buf (Elt Bits) ℓ) (g : Dev Cert.AttnOut.nD → PrngReg), Pre_AttnOut m →
    θ_run (Cert.AttnOut.defs (F := Bits)) (onTc (τ := Cert.AttnOut.τ) (Cert.AttnOut.main (F := Bits))) ⟨m, fun _ => 0, g⟩ (fun r => (∀ c : Dev Cert.AttnOut.nD,
      r.2.mem ((c.tc : Thread Cert.AttnOut.nD Cert.AttnOut.τ).loc Cert.AttnOut.main_arg0) = m ((c.tc : Thread Cert.AttnOut.nD Cert.AttnOut.τ).loc Cert.AttnOut.main_arg0)
      ∧ r.2.mem ((c.tc : Thread Cert.AttnOut.nD Cert.AttnOut.τ).loc Cert.AttnOut.main_arg1) = m ((c.tc : Thread Cert.AttnOut.nD Cert.AttnOut.τ).loc Cert.AttnOut.main_arg1)
      ∧ r.2.mem ((c.tc : Thread Cert.AttnOut.nD Cert.AttnOut.τ).loc Cert.AttnOut.main_arg2) = m ((c.tc : Thread Cert.AttnOut.nD Cert.AttnOut.τ).loc Cert.AttnOut.main_arg2)
      ∧ r.2.mem ((c.tc : Thread Cert.AttnOut.nD Cert.AttnOut.τ).loc Cert.AttnOut.main_arg3) = m ((c.tc : Thread Cert.AttnOut.nD Cert.AttnOut.τ).loc Cert.AttnOut.main_arg3)
      ∧ r.2.mem ((c.tc : Thread Cert.AttnOut.nD Cert.AttnOut.τ).loc Cert.AttnOut.main_arg4) = m ((c.tc : Thread Cert.AttnOut.nD Cert.AttnOut.τ).loc Cert.AttnOut.main_arg4))
      ∧ r.2.sem = fun _ => 0)

def quiescent_AttnOutIdeal [hAttnOutIdeal : Cert.AttnOutIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg), Pre_AttnOutIdeal m →
    θ_run (Cert.AttnOutIdeal.defs (F := Ideal)) (onTc (τ := Cert.AttnOutIdeal.τ) (Cert.AttnOutIdeal.main (F := Ideal))) ⟨m, fun _ => 0, g⟩ (fun r => (∀ c : Dev Cert.AttnOutIdeal.nD,
      r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
      ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
      ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
      ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
      ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4))
      ∧ r.2.sem = fun _ => 0)

def quiescent_AttnOutReferenceIdeal [hAttnOutReferenceIdeal : Cert.AttnOutReferenceIdeal.Facts] : Prop :=
  ∀ (m : (ℓ : Loc Cert.AttnOutReferenceIdeal.nD Cert.AttnOutReferenceIdeal.τ Cert.AttnOutReferenceIdeal.sig) → Buf (Elt Ideal) ℓ) (g : Dev Cert.AttnOutReferenceIdeal.nD → PrngReg), Pre_AttnOutReferenceIdeal m →
    θ_run (Cert.AttnOutReferenceIdeal.defs (F := Ideal)) (onTc (τ := Cert.AttnOutReferenceIdeal.τ) (Cert.AttnOutReferenceIdeal.main (F := Ideal))) ⟨m, fun _ => 0, g⟩ (fun r => (∀ c : Dev Cert.AttnOutReferenceIdeal.nD,
      r.2.mem ((c.tc : Thread Cert.AttnOutReferenceIdeal.nD Cert.AttnOutReferenceIdeal.τ).loc Cert.AttnOutReferenceIdeal.main_arg0) = m ((c.tc : Thread Cert.AttnOutReferenceIdeal.nD Cert.AttnOutReferenceIdeal.τ).loc Cert.AttnOutReferenceIdeal.main_arg0)
      ∧ r.2.mem ((c.tc : Thread Cert.AttnOutReferenceIdeal.nD Cert.AttnOutReferenceIdeal.τ).loc Cert.AttnOutReferenceIdeal.main_arg1) = m ((c.tc : Thread Cert.AttnOutReferenceIdeal.nD Cert.AttnOutReferenceIdeal.τ).loc Cert.AttnOutReferenceIdeal.main_arg1)
      ∧ r.2.mem ((c.tc : Thread Cert.AttnOutReferenceIdeal.nD Cert.AttnOutReferenceIdeal.τ).loc Cert.AttnOutReferenceIdeal.main_arg2) = m ((c.tc : Thread Cert.AttnOutReferenceIdeal.nD Cert.AttnOutReferenceIdeal.τ).loc Cert.AttnOutReferenceIdeal.main_arg2)
      ∧ r.2.mem ((c.tc : Thread Cert.AttnOutReferenceIdeal.nD Cert.AttnOutReferenceIdeal.τ).loc Cert.AttnOutReferenceIdeal.main_arg3) = m ((c.tc : Thread Cert.AttnOutReferenceIdeal.nD Cert.AttnOutReferenceIdeal.τ).loc Cert.AttnOutReferenceIdeal.main_arg3)
      ∧ r.2.mem ((c.tc : Thread Cert.AttnOutReferenceIdeal.nD Cert.AttnOutReferenceIdeal.τ).loc Cert.AttnOutReferenceIdeal.main_arg4) = m ((c.tc : Thread Cert.AttnOutReferenceIdeal.nD Cert.AttnOutReferenceIdeal.τ).loc Cert.AttnOutReferenceIdeal.main_arg4))
      ∧ r.2.sem = fun _ => 0)

def quiescent_Spatial [hSpatial : Cert.Spatial.Facts] : Prop :=
  ∀ (m : (ℓ : Loc Cert.Spatial.nD Cert.Spatial.τ Cert.Spatial.sig) → Buf (Elt Bits) ℓ) (g : Dev Cert.Spatial.nD → PrngReg), Pre_Spatial m →
    θ_run (Cert.Spatial.defs (F := Bits)) (onTc (τ := Cert.Spatial.τ) (Cert.Spatial.main (F := Bits))) ⟨m, fun _ => 0, g⟩ (fun r => (∀ c : Dev Cert.Spatial.nD,
      r.2.mem ((c.tc : Thread Cert.Spatial.nD Cert.Spatial.τ).loc Cert.Spatial.main_arg0) = m ((c.tc : Thread Cert.Spatial.nD Cert.Spatial.τ).loc Cert.Spatial.main_arg0)
      ∧ r.2.mem ((c.tc : Thread Cert.Spatial.nD Cert.Spatial.τ).loc Cert.Spatial.main_arg1) = m ((c.tc : Thread Cert.Spatial.nD Cert.Spatial.τ).loc Cert.Spatial.main_arg1)
      ∧ r.2.mem ((c.tc : Thread Cert.Spatial.nD Cert.Spatial.τ).loc Cert.Spatial.main_arg2) = m ((c.tc : Thread Cert.Spatial.nD Cert.Spatial.τ).loc Cert.Spatial.main_arg2)
      ∧ r.2.mem ((c.tc : Thread Cert.Spatial.nD Cert.Spatial.τ).loc Cert.Spatial.main_arg3) = m ((c.tc : Thread Cert.Spatial.nD Cert.Spatial.τ).loc Cert.Spatial.main_arg3))
      ∧ r.2.sem = fun _ => 0)

def quiescent_SpatialIdeal [hSpatialIdeal : Cert.SpatialIdeal.Facts] : Prop :=
  ∀ (m : (ℓ : Loc Cert.SpatialIdeal.nD Cert.SpatialIdeal.τ Cert.SpatialIdeal.sig) → Buf (Elt Ideal) ℓ) (g : Dev Cert.SpatialIdeal.nD → PrngReg), Pre_SpatialIdeal m →
    θ_run (Cert.SpatialIdeal.defs (F := Ideal)) (onTc (τ := Cert.SpatialIdeal.τ) (Cert.SpatialIdeal.main (F := Ideal))) ⟨m, fun _ => 0, g⟩ (fun r => (∀ c : Dev Cert.SpatialIdeal.nD,
      r.2.mem ((c.tc : Thread Cert.SpatialIdeal.nD Cert.SpatialIdeal.τ).loc Cert.SpatialIdeal.main_arg0) = m ((c.tc : Thread Cert.SpatialIdeal.nD Cert.SpatialIdeal.τ).loc Cert.SpatialIdeal.main_arg0)
      ∧ r.2.mem ((c.tc : Thread Cert.SpatialIdeal.nD Cert.SpatialIdeal.τ).loc Cert.SpatialIdeal.main_arg1) = m ((c.tc : Thread Cert.SpatialIdeal.nD Cert.SpatialIdeal.τ).loc Cert.SpatialIdeal.main_arg1)
      ∧ r.2.mem ((c.tc : Thread Cert.SpatialIdeal.nD Cert.SpatialIdeal.τ).loc Cert.SpatialIdeal.main_arg2) = m ((c.tc : Thread Cert.SpatialIdeal.nD Cert.SpatialIdeal.τ).loc Cert.SpatialIdeal.main_arg2)
      ∧ r.2.mem ((c.tc : Thread Cert.SpatialIdeal.nD Cert.SpatialIdeal.τ).loc Cert.SpatialIdeal.main_arg3) = m ((c.tc : Thread Cert.SpatialIdeal.nD Cert.SpatialIdeal.τ).loc Cert.SpatialIdeal.main_arg3))
      ∧ r.2.sem = fun _ => 0)

def quiescent_SpatialReferenceIdeal [hSpatialReferenceIdeal : Cert.SpatialReferenceIdeal.Facts] : Prop :=
  ∀ (m : (ℓ : Loc Cert.SpatialReferenceIdeal.nD Cert.SpatialReferenceIdeal.τ Cert.SpatialReferenceIdeal.sig) → Buf (Elt Ideal) ℓ) (g : Dev Cert.SpatialReferenceIdeal.nD → PrngReg), Pre_SpatialReferenceIdeal m →
    θ_run (Cert.SpatialReferenceIdeal.defs (F := Ideal)) (onTc (τ := Cert.SpatialReferenceIdeal.τ) (Cert.SpatialReferenceIdeal.main (F := Ideal))) ⟨m, fun _ => 0, g⟩ (fun r => (∀ c : Dev Cert.SpatialReferenceIdeal.nD,
      r.2.mem ((c.tc : Thread Cert.SpatialReferenceIdeal.nD Cert.SpatialReferenceIdeal.τ).loc Cert.SpatialReferenceIdeal.main_arg0) = m ((c.tc : Thread Cert.SpatialReferenceIdeal.nD Cert.SpatialReferenceIdeal.τ).loc Cert.SpatialReferenceIdeal.main_arg0)
      ∧ r.2.mem ((c.tc : Thread Cert.SpatialReferenceIdeal.nD Cert.SpatialReferenceIdeal.τ).loc Cert.SpatialReferenceIdeal.main_arg1) = m ((c.tc : Thread Cert.SpatialReferenceIdeal.nD Cert.SpatialReferenceIdeal.τ).loc Cert.SpatialReferenceIdeal.main_arg1)
      ∧ r.2.mem ((c.tc : Thread Cert.SpatialReferenceIdeal.nD Cert.SpatialReferenceIdeal.τ).loc Cert.SpatialReferenceIdeal.main_arg2) = m ((c.tc : Thread Cert.SpatialReferenceIdeal.nD Cert.SpatialReferenceIdeal.τ).loc Cert.SpatialReferenceIdeal.main_arg2)
      ∧ r.2.mem ((c.tc : Thread Cert.SpatialReferenceIdeal.nD Cert.SpatialReferenceIdeal.τ).loc Cert.SpatialReferenceIdeal.main_arg3) = m ((c.tc : Thread Cert.SpatialReferenceIdeal.nD Cert.SpatialReferenceIdeal.τ).loc Cert.SpatialReferenceIdeal.main_arg3))
      ∧ r.2.sem = fun _ => 0)

def quiescent_Small [hSmall : Cert.Small.Facts] : Prop :=
  ∀ (m : (ℓ : Loc Cert.Small.nD Cert.Small.τ Cert.Small.sig) → Buf (Elt Bits) ℓ) (g : Dev Cert.Small.nD → PrngReg), Pre_Small m →
    θ_run (Cert.Small.defs (F := Bits)) (onTc (τ := Cert.Small.τ) (Cert.Small.main (F := Bits))) ⟨m, fun _ => 0, g⟩ (fun r => (∀ c : Dev Cert.Small.nD,
      r.2.mem ((c.tc : Thread Cert.Small.nD Cert.Small.τ).loc Cert.Small.main_arg0) = m ((c.tc : Thread Cert.Small.nD Cert.Small.τ).loc Cert.Small.main_arg0)
      ∧ r.2.mem ((c.tc : Thread Cert.Small.nD Cert.Small.τ).loc Cert.Small.main_arg1) = m ((c.tc : Thread Cert.Small.nD Cert.Small.τ).loc Cert.Small.main_arg1)
      ∧ r.2.mem ((c.tc : Thread Cert.Small.nD Cert.Small.τ).loc Cert.Small.main_arg2) = m ((c.tc : Thread Cert.Small.nD Cert.Small.τ).loc Cert.Small.main_arg2)
      ∧ r.2.mem ((c.tc : Thread Cert.Small.nD Cert.Small.τ).loc Cert.Small.main_arg3) = m ((c.tc : Thread Cert.Small.nD Cert.Small.τ).loc Cert.Small.main_arg3))
      ∧ r.2.sem = fun _ => 0)

def quiescent_SmallIdeal [hSmallIdeal : Cert.SmallIdeal.Facts] : Prop :=
  ∀ (m : (ℓ : Loc Cert.SmallIdeal.nD Cert.SmallIdeal.τ Cert.SmallIdeal.sig) → Buf (Elt Ideal) ℓ) (g : Dev Cert.SmallIdeal.nD → PrngReg), Pre_SmallIdeal m →
    θ_run (Cert.SmallIdeal.defs (F := Ideal)) (onTc (τ := Cert.SmallIdeal.τ) (Cert.SmallIdeal.main (F := Ideal))) ⟨m, fun _ => 0, g⟩ (fun r => (∀ c : Dev Cert.SmallIdeal.nD,
      r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
      ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
      ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
      ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ r.2.sem = fun _ => 0)

def quiescent_SmallReferenceIdeal [hSmallReferenceIdeal : Cert.SmallReferenceIdeal.Facts] : Prop :=
  ∀ (m : (ℓ : Loc Cert.SmallReferenceIdeal.nD Cert.SmallReferenceIdeal.τ Cert.SmallReferenceIdeal.sig) → Buf (Elt Ideal) ℓ) (g : Dev Cert.SmallReferenceIdeal.nD → PrngReg), Pre_SmallReferenceIdeal m →
    θ_run (Cert.SmallReferenceIdeal.defs (F := Ideal)) (onTc (τ := Cert.SmallReferenceIdeal.τ) (Cert.SmallReferenceIdeal.main (F := Ideal))) ⟨m, fun _ => 0, g⟩ (fun r => (∀ c : Dev Cert.SmallReferenceIdeal.nD,
      r.2.mem ((c.tc : Thread Cert.SmallReferenceIdeal.nD Cert.SmallReferenceIdeal.τ).loc Cert.SmallReferenceIdeal.main_arg0) = m ((c.tc : Thread Cert.SmallReferenceIdeal.nD Cert.SmallReferenceIdeal.τ).loc Cert.SmallReferenceIdeal.main_arg0)
      ∧ r.2.mem ((c.tc : Thread Cert.SmallReferenceIdeal.nD Cert.SmallReferenceIdeal.τ).loc Cert.SmallReferenceIdeal.main_arg1) = m ((c.tc : Thread Cert.SmallReferenceIdeal.nD Cert.SmallReferenceIdeal.τ).loc Cert.SmallReferenceIdeal.main_arg1)
      ∧ r.2.mem ((c.tc : Thread Cert.SmallReferenceIdeal.nD Cert.SmallReferenceIdeal.τ).loc Cert.SmallReferenceIdeal.main_arg2) = m ((c.tc : Thread Cert.SmallReferenceIdeal.nD Cert.SmallReferenceIdeal.τ).loc Cert.SmallReferenceIdeal.main_arg2)
      ∧ r.2.mem ((c.tc : Thread Cert.SmallReferenceIdeal.nD Cert.SmallReferenceIdeal.τ).loc Cert.SmallReferenceIdeal.main_arg3) = m ((c.tc : Thread Cert.SmallReferenceIdeal.nD Cert.SmallReferenceIdeal.τ).loc Cert.SmallReferenceIdeal.main_arg3))
      ∧ r.2.sem = fun _ => 0)

def quiescent_Bias [hBias : Cert.Bias.Facts] : Prop :=
  ∀ (m : (ℓ : Loc Cert.Bias.nD Cert.Bias.τ Cert.Bias.sig) → Buf (Elt Bits) ℓ) (g : Dev Cert.Bias.nD → PrngReg), Pre_Bias m →
    θ_run (Cert.Bias.defs (F := Bits)) (onTc (τ := Cert.Bias.τ) (Cert.Bias.main (F := Bits))) ⟨m, fun _ => 0, g⟩ (fun r => (∀ c : Dev Cert.Bias.nD,
      r.2.mem ((c.tc : Thread Cert.Bias.nD Cert.Bias.τ).loc Cert.Bias.main_arg0) = m ((c.tc : Thread Cert.Bias.nD Cert.Bias.τ).loc Cert.Bias.main_arg0)
      ∧ r.2.mem ((c.tc : Thread Cert.Bias.nD Cert.Bias.τ).loc Cert.Bias.main_arg1) = m ((c.tc : Thread Cert.Bias.nD Cert.Bias.τ).loc Cert.Bias.main_arg1)
      ∧ r.2.mem ((c.tc : Thread Cert.Bias.nD Cert.Bias.τ).loc Cert.Bias.main_arg2) = m ((c.tc : Thread Cert.Bias.nD Cert.Bias.τ).loc Cert.Bias.main_arg2)
      ∧ r.2.mem ((c.tc : Thread Cert.Bias.nD Cert.Bias.τ).loc Cert.Bias.main_arg3) = m ((c.tc : Thread Cert.Bias.nD Cert.Bias.τ).loc Cert.Bias.main_arg3))
      ∧ r.2.sem = fun _ => 0)

def quiescent_BiasIdeal [hBiasIdeal : Cert.BiasIdeal.Facts] : Prop :=
  ∀ (m : (ℓ : Loc Cert.BiasIdeal.nD Cert.BiasIdeal.τ Cert.BiasIdeal.sig) → Buf (Elt Ideal) ℓ) (g : Dev Cert.BiasIdeal.nD → PrngReg), Pre_BiasIdeal m →
    θ_run (Cert.BiasIdeal.defs (F := Ideal)) (onTc (τ := Cert.BiasIdeal.τ) (Cert.BiasIdeal.main (F := Ideal))) ⟨m, fun _ => 0, g⟩ (fun r => (∀ c : Dev Cert.BiasIdeal.nD,
      r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
      ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1)
      ∧ r.2.mem ((c.tc : Thread Cert.BiasIdeal.nD Cert.BiasIdeal.τ).loc Cert.BiasIdeal.main_arg2) = m ((c.tc : Thread Cert.BiasIdeal.nD Cert.BiasIdeal.τ).loc Cert.BiasIdeal.main_arg2)
      ∧ r.2.mem ((c.tc : Thread Cert.BiasIdeal.nD Cert.BiasIdeal.τ).loc Cert.BiasIdeal.main_arg3) = m ((c.tc : Thread Cert.BiasIdeal.nD Cert.BiasIdeal.τ).loc Cert.BiasIdeal.main_arg3))
      ∧ r.2.sem = fun _ => 0)

def quiescent_BiasReferenceIdeal [hBiasReferenceIdeal : Cert.BiasReferenceIdeal.Facts] : Prop :=
  ∀ (m : (ℓ : Loc Cert.BiasReferenceIdeal.nD Cert.BiasReferenceIdeal.τ Cert.BiasReferenceIdeal.sig) → Buf (Elt Ideal) ℓ) (g : Dev Cert.BiasReferenceIdeal.nD → PrngReg), Pre_BiasReferenceIdeal m →
    θ_run (Cert.BiasReferenceIdeal.defs (F := Ideal)) (onTc (τ := Cert.BiasReferenceIdeal.τ) (Cert.BiasReferenceIdeal.main (F := Ideal))) ⟨m, fun _ => 0, g⟩ (fun r => (∀ c : Dev Cert.BiasReferenceIdeal.nD,
      r.2.mem ((c.tc : Thread Cert.BiasReferenceIdeal.nD Cert.BiasReferenceIdeal.τ).loc Cert.BiasReferenceIdeal.main_arg0) = m ((c.tc : Thread Cert.BiasReferenceIdeal.nD Cert.BiasReferenceIdeal.τ).loc Cert.BiasReferenceIdeal.main_arg0)
      ∧ r.2.mem ((c.tc : Thread Cert.BiasReferenceIdeal.nD Cert.BiasReferenceIdeal.τ).loc Cert.BiasReferenceIdeal.main_arg1) = m ((c.tc : Thread Cert.BiasReferenceIdeal.nD Cert.BiasReferenceIdeal.τ).loc Cert.BiasReferenceIdeal.main_arg1)
      ∧ r.2.mem ((c.tc : Thread Cert.BiasReferenceIdeal.nD Cert.BiasReferenceIdeal.τ).loc Cert.BiasReferenceIdeal.main_arg2) = m ((c.tc : Thread Cert.BiasReferenceIdeal.nD Cert.BiasReferenceIdeal.τ).loc Cert.BiasReferenceIdeal.main_arg2)
      ∧ r.2.mem ((c.tc : Thread Cert.BiasReferenceIdeal.nD Cert.BiasReferenceIdeal.τ).loc Cert.BiasReferenceIdeal.main_arg3) = m ((c.tc : Thread Cert.BiasReferenceIdeal.nD Cert.BiasReferenceIdeal.τ).loc Cert.BiasReferenceIdeal.main_arg3))
      ∧ r.2.sem = fun _ => 0)

def quiescent_BiasSum [hBiasSum : Cert.BiasSum.Facts] : Prop :=
  ∀ (m : (ℓ : Loc Cert.BiasSum.nD Cert.BiasSum.τ Cert.BiasSum.sig) → Buf (Elt Bits) ℓ) (g : Dev Cert.BiasSum.nD → PrngReg), Pre_BiasSum m →
    θ_run (Cert.BiasSum.defs (F := Bits)) (onTc (τ := Cert.BiasSum.τ) (Cert.BiasSum.main (F := Bits))) ⟨m, fun _ => 0, g⟩ (fun r => (∀ c : Dev Cert.BiasSum.nD,
      r.2.mem ((c.tc : Thread Cert.BiasSum.nD Cert.BiasSum.τ).loc Cert.BiasSum.main_arg0) = m ((c.tc : Thread Cert.BiasSum.nD Cert.BiasSum.τ).loc Cert.BiasSum.main_arg0))
      ∧ r.2.sem = fun _ => 0)

def quiescent_BiasSumIdeal [hBiasSumIdeal : Cert.BiasSumIdeal.Facts] : Prop :=
  ∀ (m : (ℓ : Loc Cert.BiasSumIdeal.nD Cert.BiasSumIdeal.τ Cert.BiasSumIdeal.sig) → Buf (Elt Ideal) ℓ) (g : Dev Cert.BiasSumIdeal.nD → PrngReg), Pre_BiasSumIdeal m →
    θ_run (Cert.BiasSumIdeal.defs (F := Ideal)) (onTc (τ := Cert.BiasSumIdeal.τ) (Cert.BiasSumIdeal.main (F := Ideal))) ⟨m, fun _ => 0, g⟩ (fun r => (∀ c : Dev Cert.BiasSumIdeal.nD,
      r.2.mem ((c.tc : Thread Cert.BiasSumIdeal.nD Cert.BiasSumIdeal.τ).loc Cert.BiasSumIdeal.main_arg0) = m ((c.tc : Thread Cert.BiasSumIdeal.nD Cert.BiasSumIdeal.τ).loc Cert.BiasSumIdeal.main_arg0))
      ∧ r.2.sem = fun _ => 0)

def quiescent_BiasSumReferenceIdeal [hBiasSumReferenceIdeal : Cert.BiasSumReferenceIdeal.Facts] : Prop :=
  ∀ (m : (ℓ : Loc Cert.BiasSumReferenceIdeal.nD Cert.BiasSumReferenceIdeal.τ Cert.BiasSumReferenceIdeal.sig) → Buf (Elt Ideal) ℓ) (g : Dev Cert.BiasSumReferenceIdeal.nD → PrngReg), Pre_BiasSumReferenceIdeal m →
    θ_run (Cert.BiasSumReferenceIdeal.defs (F := Ideal)) (onTc (τ := Cert.BiasSumReferenceIdeal.τ) (Cert.BiasSumReferenceIdeal.main (F := Ideal))) ⟨m, fun _ => 0, g⟩ (fun r => (∀ c : Dev Cert.BiasSumReferenceIdeal.nD,
      r.2.mem ((c.tc : Thread Cert.BiasSumReferenceIdeal.nD Cert.BiasSumReferenceIdeal.τ).loc Cert.BiasSumReferenceIdeal.main_arg0) = m ((c.tc : Thread Cert.BiasSumReferenceIdeal.nD Cert.BiasSumReferenceIdeal.τ).loc Cert.BiasSumReferenceIdeal.main_arg0))
      ∧ r.2.sem = fun _ => 0)

def quiescent_GmlpOutUpdate0 [hGmlpOutUpdate0 : Cert.GmlpOutUpdate0.Facts] : Prop :=
  ∀ (m : (ℓ : Loc Cert.GmlpOutUpdate0.nD Cert.GmlpOutUpdate0.τ Cert.GmlpOutUpdate0.sig) → Buf (Elt Bits) ℓ) (g : Dev Cert.GmlpOutUpdate0.nD → PrngReg), Pre_GmlpOutUpdate0 m →
    θ_run (Cert.GmlpOutUpdate0.defs (F := Bits)) (onTc (τ := Cert.GmlpOutUpdate0.τ) (Cert.GmlpOutUpdate0.main (F := Bits))) ⟨m, fun _ => 0, g⟩ (fun r => (∀ c : Dev Cert.GmlpOutUpdate0.nD,
      r.2.mem ((c.tc : Thread Cert.GmlpOutUpdate0.nD Cert.GmlpOutUpdate0.τ).loc Cert.GmlpOutUpdate0.main_arg0) = m ((c.tc : Thread Cert.GmlpOutUpdate0.nD Cert.GmlpOutUpdate0.τ).loc Cert.GmlpOutUpdate0.main_arg0)
      ∧ r.2.mem ((c.tc : Thread Cert.GmlpOutUpdate0.nD Cert.GmlpOutUpdate0.τ).loc Cert.GmlpOutUpdate0.main_arg1) = m ((c.tc : Thread Cert.GmlpOutUpdate0.nD Cert.GmlpOutUpdate0.τ).loc Cert.GmlpOutUpdate0.main_arg1)
      ∧ r.2.mem ((c.tc : Thread Cert.GmlpOutUpdate0.nD Cert.GmlpOutUpdate0.τ).loc Cert.GmlpOutUpdate0.main_arg2) = m ((c.tc : Thread Cert.GmlpOutUpdate0.nD Cert.GmlpOutUpdate0.τ).loc Cert.GmlpOutUpdate0.main_arg2)
      ∧ r.2.mem ((c.tc : Thread Cert.GmlpOutUpdate0.nD Cert.GmlpOutUpdate0.τ).loc Cert.GmlpOutUpdate0.main_arg3) = m ((c.tc : Thread Cert.GmlpOutUpdate0.nD Cert.GmlpOutUpdate0.τ).loc Cert.GmlpOutUpdate0.main_arg3)
      ∧ r.2.mem ((c.tc : Thread Cert.GmlpOutUpdate0.nD Cert.GmlpOutUpdate0.τ).loc Cert.GmlpOutUpdate0.main_arg4) = m ((c.tc : Thread Cert.GmlpOutUpdate0.nD Cert.GmlpOutUpdate0.τ).loc Cert.GmlpOutUpdate0.main_arg4)
      ∧ r.2.mem ((c.tc : Thread Cert.GmlpOutUpdate0.nD Cert.GmlpOutUpdate0.τ).loc Cert.GmlpOutUpdate0.main_arg5) = m ((c.tc : Thread Cert.GmlpOutUpdate0.nD Cert.GmlpOutUpdate0.τ).loc Cert.GmlpOutUpdate0.main_arg5)
      ∧ r.2.mem ((c.tc : Thread Cert.GmlpOutUpdate0.nD Cert.GmlpOutUpdate0.τ).loc Cert.GmlpOutUpdate0.main_arg6) = m ((c.tc : Thread Cert.GmlpOutUpdate0.nD Cert.GmlpOutUpdate0.τ).loc Cert.GmlpOutUpdate0.main_arg6)
      ∧ r.2.mem ((c.tc : Thread Cert.GmlpOutUpdate0.nD Cert.GmlpOutUpdate0.τ).loc Cert.GmlpOutUpdate0.main_arg7) = m ((c.tc : Thread Cert.GmlpOutUpdate0.nD Cert.GmlpOutUpdate0.τ).loc Cert.GmlpOutUpdate0.main_arg7)
      ∧ r.2.mem ((c.tc : Thread Cert.GmlpOutUpdate0.nD Cert.GmlpOutUpdate0.τ).loc Cert.GmlpOutUpdate0.main_arg8) = m ((c.tc : Thread Cert.GmlpOutUpdate0.nD Cert.GmlpOutUpdate0.τ).loc Cert.GmlpOutUpdate0.main_arg8))
      ∧ r.2.sem = fun _ => 0)

def quiescent_GmlpOutUpdate0Ideal [hGmlpOutUpdate0Ideal : Cert.GmlpOutUpdate0Ideal.Facts] : Prop :=
  ∀ (m : (ℓ : Loc Cert.GmlpOutUpdate0Ideal.nD Cert.GmlpOutUpdate0Ideal.τ Cert.GmlpOutUpdate0Ideal.sig) → Buf (Elt Ideal) ℓ) (g : Dev Cert.GmlpOutUpdate0Ideal.nD → PrngReg), Pre_GmlpOutUpdate0Ideal m →
    θ_run (Cert.GmlpOutUpdate0Ideal.defs (F := Ideal)) (onTc (τ := Cert.GmlpOutUpdate0Ideal.τ) (Cert.GmlpOutUpdate0Ideal.main (F := Ideal))) ⟨m, fun _ => 0, g⟩ (fun r => (∀ c : Dev Cert.GmlpOutUpdate0Ideal.nD,
      r.2.mem ((c.tc : Thread Cert.GmlpOutUpdate0Ideal.nD Cert.GmlpOutUpdate0Ideal.τ).loc Cert.GmlpOutUpdate0Ideal.main_arg0) = m ((c.tc : Thread Cert.GmlpOutUpdate0Ideal.nD Cert.GmlpOutUpdate0Ideal.τ).loc Cert.GmlpOutUpdate0Ideal.main_arg0)
      ∧ r.2.mem ((c.tc : Thread Cert.GmlpOutUpdate0Ideal.nD Cert.GmlpOutUpdate0Ideal.τ).loc Cert.GmlpOutUpdate0Ideal.main_arg1) = m ((c.tc : Thread Cert.GmlpOutUpdate0Ideal.nD Cert.GmlpOutUpdate0Ideal.τ).loc Cert.GmlpOutUpdate0Ideal.main_arg1)
      ∧ r.2.mem ((c.tc : Thread Cert.GmlpOutUpdate0Ideal.nD Cert.GmlpOutUpdate0Ideal.τ).loc Cert.GmlpOutUpdate0Ideal.main_arg2) = m ((c.tc : Thread Cert.GmlpOutUpdate0Ideal.nD Cert.GmlpOutUpdate0Ideal.τ).loc Cert.GmlpOutUpdate0Ideal.main_arg2)
      ∧ r.2.mem ((c.tc : Thread Cert.GmlpOutUpdate0Ideal.nD Cert.GmlpOutUpdate0Ideal.τ).loc Cert.GmlpOutUpdate0Ideal.main_arg3) = m ((c.tc : Thread Cert.GmlpOutUpdate0Ideal.nD Cert.GmlpOutUpdate0Ideal.τ).loc Cert.GmlpOutUpdate0Ideal.main_arg3)
      ∧ r.2.mem ((c.tc : Thread Cert.GmlpOutUpdate0Ideal.nD Cert.GmlpOutUpdate0Ideal.τ).loc Cert.GmlpOutUpdate0Ideal.main_arg4) = m ((c.tc : Thread Cert.GmlpOutUpdate0Ideal.nD Cert.GmlpOutUpdate0Ideal.τ).loc Cert.GmlpOutUpdate0Ideal.main_arg4)
      ∧ r.2.mem ((c.tc : Thread Cert.GmlpOutUpdate0Ideal.nD Cert.GmlpOutUpdate0Ideal.τ).loc Cert.GmlpOutUpdate0Ideal.main_arg5) = m ((c.tc : Thread Cert.GmlpOutUpdate0Ideal.nD Cert.GmlpOutUpdate0Ideal.τ).loc Cert.GmlpOutUpdate0Ideal.main_arg5)
      ∧ r.2.mem ((c.tc : Thread Cert.GmlpOutUpdate0Ideal.nD Cert.GmlpOutUpdate0Ideal.τ).loc Cert.GmlpOutUpdate0Ideal.main_arg6) = m ((c.tc : Thread Cert.GmlpOutUpdate0Ideal.nD Cert.GmlpOutUpdate0Ideal.τ).loc Cert.GmlpOutUpdate0Ideal.main_arg6)
      ∧ r.2.mem ((c.tc : Thread Cert.GmlpOutUpdate0Ideal.nD Cert.GmlpOutUpdate0Ideal.τ).loc Cert.GmlpOutUpdate0Ideal.main_arg7) = m ((c.tc : Thread Cert.GmlpOutUpdate0Ideal.nD Cert.GmlpOutUpdate0Ideal.τ).loc Cert.GmlpOutUpdate0Ideal.main_arg7)
      ∧ r.2.mem ((c.tc : Thread Cert.GmlpOutUpdate0Ideal.nD Cert.GmlpOutUpdate0Ideal.τ).loc Cert.GmlpOutUpdate0Ideal.main_arg8) = m ((c.tc : Thread Cert.GmlpOutUpdate0Ideal.nD Cert.GmlpOutUpdate0Ideal.τ).loc Cert.GmlpOutUpdate0Ideal.main_arg8))
      ∧ r.2.sem = fun _ => 0)

def quiescent_GmlpOutUpdate0ReferenceIdeal [hGmlpOutUpdate0ReferenceIdeal : Cert.GmlpOutUpdate0ReferenceIdeal.Facts] : Prop :=
  ∀ (m : (ℓ : Loc Cert.GmlpOutUpdate0ReferenceIdeal.nD Cert.GmlpOutUpdate0ReferenceIdeal.τ Cert.GmlpOutUpdate0ReferenceIdeal.sig) → Buf (Elt Ideal) ℓ) (g : Dev Cert.GmlpOutUpdate0ReferenceIdeal.nD → PrngReg), Pre_GmlpOutUpdate0ReferenceIdeal m →
    θ_run (Cert.GmlpOutUpdate0ReferenceIdeal.defs (F := Ideal)) (onTc (τ := Cert.GmlpOutUpdate0ReferenceIdeal.τ) (Cert.GmlpOutUpdate0ReferenceIdeal.main (F := Ideal))) ⟨m, fun _ => 0, g⟩ (fun r => (∀ c : Dev Cert.GmlpOutUpdate0ReferenceIdeal.nD,
      r.2.mem ((c.tc : Thread Cert.GmlpOutUpdate0ReferenceIdeal.nD Cert.GmlpOutUpdate0ReferenceIdeal.τ).loc Cert.GmlpOutUpdate0ReferenceIdeal.main_arg0) = m ((c.tc : Thread Cert.GmlpOutUpdate0ReferenceIdeal.nD Cert.GmlpOutUpdate0ReferenceIdeal.τ).loc Cert.GmlpOutUpdate0ReferenceIdeal.main_arg0)
      ∧ r.2.mem ((c.tc : Thread Cert.GmlpOutUpdate0ReferenceIdeal.nD Cert.GmlpOutUpdate0ReferenceIdeal.τ).loc Cert.GmlpOutUpdate0ReferenceIdeal.main_arg1) = m ((c.tc : Thread Cert.GmlpOutUpdate0ReferenceIdeal.nD Cert.GmlpOutUpdate0ReferenceIdeal.τ).loc Cert.GmlpOutUpdate0ReferenceIdeal.main_arg1)
      ∧ r.2.mem ((c.tc : Thread Cert.GmlpOutUpdate0ReferenceIdeal.nD Cert.GmlpOutUpdate0ReferenceIdeal.τ).loc Cert.GmlpOutUpdate0ReferenceIdeal.main_arg2) = m ((c.tc : Thread Cert.GmlpOutUpdate0ReferenceIdeal.nD Cert.GmlpOutUpdate0ReferenceIdeal.τ).loc Cert.GmlpOutUpdate0ReferenceIdeal.main_arg2)
      ∧ r.2.mem ((c.tc : Thread Cert.GmlpOutUpdate0ReferenceIdeal.nD Cert.GmlpOutUpdate0ReferenceIdeal.τ).loc Cert.GmlpOutUpdate0ReferenceIdeal.main_arg3) = m ((c.tc : Thread Cert.GmlpOutUpdate0ReferenceIdeal.nD Cert.GmlpOutUpdate0ReferenceIdeal.τ).loc Cert.GmlpOutUpdate0ReferenceIdeal.main_arg3)
      ∧ r.2.mem ((c.tc : Thread Cert.GmlpOutUpdate0ReferenceIdeal.nD Cert.GmlpOutUpdate0ReferenceIdeal.τ).loc Cert.GmlpOutUpdate0ReferenceIdeal.main_arg4) = m ((c.tc : Thread Cert.GmlpOutUpdate0ReferenceIdeal.nD Cert.GmlpOutUpdate0ReferenceIdeal.τ).loc Cert.GmlpOutUpdate0ReferenceIdeal.main_arg4)
      ∧ r.2.mem ((c.tc : Thread Cert.GmlpOutUpdate0ReferenceIdeal.nD Cert.GmlpOutUpdate0ReferenceIdeal.τ).loc Cert.GmlpOutUpdate0ReferenceIdeal.main_arg5) = m ((c.tc : Thread Cert.GmlpOutUpdate0ReferenceIdeal.nD Cert.GmlpOutUpdate0ReferenceIdeal.τ).loc Cert.GmlpOutUpdate0ReferenceIdeal.main_arg5)
      ∧ r.2.mem ((c.tc : Thread Cert.GmlpOutUpdate0ReferenceIdeal.nD Cert.GmlpOutUpdate0ReferenceIdeal.τ).loc Cert.GmlpOutUpdate0ReferenceIdeal.main_arg6) = m ((c.tc : Thread Cert.GmlpOutUpdate0ReferenceIdeal.nD Cert.GmlpOutUpdate0ReferenceIdeal.τ).loc Cert.GmlpOutUpdate0ReferenceIdeal.main_arg6)
      ∧ r.2.mem ((c.tc : Thread Cert.GmlpOutUpdate0ReferenceIdeal.nD Cert.GmlpOutUpdate0ReferenceIdeal.τ).loc Cert.GmlpOutUpdate0ReferenceIdeal.main_arg7) = m ((c.tc : Thread Cert.GmlpOutUpdate0ReferenceIdeal.nD Cert.GmlpOutUpdate0ReferenceIdeal.τ).loc Cert.GmlpOutUpdate0ReferenceIdeal.main_arg7)
      ∧ r.2.mem ((c.tc : Thread Cert.GmlpOutUpdate0ReferenceIdeal.nD Cert.GmlpOutUpdate0ReferenceIdeal.τ).loc Cert.GmlpOutUpdate0ReferenceIdeal.main_arg8) = m ((c.tc : Thread Cert.GmlpOutUpdate0ReferenceIdeal.nD Cert.GmlpOutUpdate0ReferenceIdeal.τ).loc Cert.GmlpOutUpdate0ReferenceIdeal.main_arg8))
      ∧ r.2.sem = fun _ => 0)

def quiescent_GmlpOutUpdate1 [hGmlpOutUpdate1 : Cert.GmlpOutUpdate1.Facts] : Prop :=
  ∀ (m : (ℓ : Loc Cert.GmlpOutUpdate1.nD Cert.GmlpOutUpdate1.τ Cert.GmlpOutUpdate1.sig) → Buf (Elt Bits) ℓ) (g : Dev Cert.GmlpOutUpdate1.nD → PrngReg), Pre_GmlpOutUpdate1 m →
    θ_run (Cert.GmlpOutUpdate1.defs (F := Bits)) (onTc (τ := Cert.GmlpOutUpdate1.τ) (Cert.GmlpOutUpdate1.main (F := Bits))) ⟨m, fun _ => 0, g⟩ (fun r => (∀ c : Dev Cert.GmlpOutUpdate1.nD,
      r.2.mem ((c.tc : Thread Cert.GmlpOutUpdate1.nD Cert.GmlpOutUpdate1.τ).loc Cert.GmlpOutUpdate1.main_arg0) = m ((c.tc : Thread Cert.GmlpOutUpdate1.nD Cert.GmlpOutUpdate1.τ).loc Cert.GmlpOutUpdate1.main_arg0)
      ∧ r.2.mem ((c.tc : Thread Cert.GmlpOutUpdate1.nD Cert.GmlpOutUpdate1.τ).loc Cert.GmlpOutUpdate1.main_arg1) = m ((c.tc : Thread Cert.GmlpOutUpdate1.nD Cert.GmlpOutUpdate1.τ).loc Cert.GmlpOutUpdate1.main_arg1)
      ∧ r.2.mem ((c.tc : Thread Cert.GmlpOutUpdate1.nD Cert.GmlpOutUpdate1.τ).loc Cert.GmlpOutUpdate1.main_arg2) = m ((c.tc : Thread Cert.GmlpOutUpdate1.nD Cert.GmlpOutUpdate1.τ).loc Cert.GmlpOutUpdate1.main_arg2)
      ∧ r.2.mem ((c.tc : Thread Cert.GmlpOutUpdate1.nD Cert.GmlpOutUpdate1.τ).loc Cert.GmlpOutUpdate1.main_arg3) = m ((c.tc : Thread Cert.GmlpOutUpdate1.nD Cert.GmlpOutUpdate1.τ).loc Cert.GmlpOutUpdate1.main_arg3)
      ∧ r.2.mem ((c.tc : Thread Cert.GmlpOutUpdate1.nD Cert.GmlpOutUpdate1.τ).loc Cert.GmlpOutUpdate1.main_arg4) = m ((c.tc : Thread Cert.GmlpOutUpdate1.nD Cert.GmlpOutUpdate1.τ).loc Cert.GmlpOutUpdate1.main_arg4)
      ∧ r.2.mem ((c.tc : Thread Cert.GmlpOutUpdate1.nD Cert.GmlpOutUpdate1.τ).loc Cert.GmlpOutUpdate1.main_arg5) = m ((c.tc : Thread Cert.GmlpOutUpdate1.nD Cert.GmlpOutUpdate1.τ).loc Cert.GmlpOutUpdate1.main_arg5)
      ∧ r.2.mem ((c.tc : Thread Cert.GmlpOutUpdate1.nD Cert.GmlpOutUpdate1.τ).loc Cert.GmlpOutUpdate1.main_arg6) = m ((c.tc : Thread Cert.GmlpOutUpdate1.nD Cert.GmlpOutUpdate1.τ).loc Cert.GmlpOutUpdate1.main_arg6)
      ∧ r.2.mem ((c.tc : Thread Cert.GmlpOutUpdate1.nD Cert.GmlpOutUpdate1.τ).loc Cert.GmlpOutUpdate1.main_arg7) = m ((c.tc : Thread Cert.GmlpOutUpdate1.nD Cert.GmlpOutUpdate1.τ).loc Cert.GmlpOutUpdate1.main_arg7)
      ∧ r.2.mem ((c.tc : Thread Cert.GmlpOutUpdate1.nD Cert.GmlpOutUpdate1.τ).loc Cert.GmlpOutUpdate1.main_arg8) = m ((c.tc : Thread Cert.GmlpOutUpdate1.nD Cert.GmlpOutUpdate1.τ).loc Cert.GmlpOutUpdate1.main_arg8))
      ∧ r.2.sem = fun _ => 0)

def quiescent_GmlpOutUpdate1Ideal [hGmlpOutUpdate1Ideal : Cert.GmlpOutUpdate1Ideal.Facts] : Prop :=
  ∀ (m : (ℓ : Loc Cert.GmlpOutUpdate1Ideal.nD Cert.GmlpOutUpdate1Ideal.τ Cert.GmlpOutUpdate1Ideal.sig) → Buf (Elt Ideal) ℓ) (g : Dev Cert.GmlpOutUpdate1Ideal.nD → PrngReg), Pre_GmlpOutUpdate1Ideal m →
    θ_run (Cert.GmlpOutUpdate1Ideal.defs (F := Ideal)) (onTc (τ := Cert.GmlpOutUpdate1Ideal.τ) (Cert.GmlpOutUpdate1Ideal.main (F := Ideal))) ⟨m, fun _ => 0, g⟩ (fun r => (∀ c : Dev Cert.GmlpOutUpdate1Ideal.nD,
      r.2.mem ((c.tc : Thread Cert.GmlpOutUpdate1Ideal.nD Cert.GmlpOutUpdate1Ideal.τ).loc Cert.GmlpOutUpdate1Ideal.main_arg0) = m ((c.tc : Thread Cert.GmlpOutUpdate1Ideal.nD Cert.GmlpOutUpdate1Ideal.τ).loc Cert.GmlpOutUpdate1Ideal.main_arg0)
      ∧ r.2.mem ((c.tc : Thread Cert.GmlpOutUpdate1Ideal.nD Cert.GmlpOutUpdate1Ideal.τ).loc Cert.GmlpOutUpdate1Ideal.main_arg1) = m ((c.tc : Thread Cert.GmlpOutUpdate1Ideal.nD Cert.GmlpOutUpdate1Ideal.τ).loc Cert.GmlpOutUpdate1Ideal.main_arg1)
      ∧ r.2.mem ((c.tc : Thread Cert.GmlpOutUpdate1Ideal.nD Cert.GmlpOutUpdate1Ideal.τ).loc Cert.GmlpOutUpdate1Ideal.main_arg2) = m ((c.tc : Thread Cert.GmlpOutUpdate1Ideal.nD Cert.GmlpOutUpdate1Ideal.τ).loc Cert.GmlpOutUpdate1Ideal.main_arg2)
      ∧ r.2.mem ((c.tc : Thread Cert.GmlpOutUpdate1Ideal.nD Cert.GmlpOutUpdate1Ideal.τ).loc Cert.GmlpOutUpdate1Ideal.main_arg3) = m ((c.tc : Thread Cert.GmlpOutUpdate1Ideal.nD Cert.GmlpOutUpdate1Ideal.τ).loc Cert.GmlpOutUpdate1Ideal.main_arg3)
      ∧ r.2.mem ((c.tc : Thread Cert.GmlpOutUpdate1Ideal.nD Cert.GmlpOutUpdate1Ideal.τ).loc Cert.GmlpOutUpdate1Ideal.main_arg4) = m ((c.tc : Thread Cert.GmlpOutUpdate1Ideal.nD Cert.GmlpOutUpdate1Ideal.τ).loc Cert.GmlpOutUpdate1Ideal.main_arg4)
      ∧ r.2.mem ((c.tc : Thread Cert.GmlpOutUpdate1Ideal.nD Cert.GmlpOutUpdate1Ideal.τ).loc Cert.GmlpOutUpdate1Ideal.main_arg5) = m ((c.tc : Thread Cert.GmlpOutUpdate1Ideal.nD Cert.GmlpOutUpdate1Ideal.τ).loc Cert.GmlpOutUpdate1Ideal.main_arg5)
      ∧ r.2.mem ((c.tc : Thread Cert.GmlpOutUpdate1Ideal.nD Cert.GmlpOutUpdate1Ideal.τ).loc Cert.GmlpOutUpdate1Ideal.main_arg6) = m ((c.tc : Thread Cert.GmlpOutUpdate1Ideal.nD Cert.GmlpOutUpdate1Ideal.τ).loc Cert.GmlpOutUpdate1Ideal.main_arg6)
      ∧ r.2.mem ((c.tc : Thread Cert.GmlpOutUpdate1Ideal.nD Cert.GmlpOutUpdate1Ideal.τ).loc Cert.GmlpOutUpdate1Ideal.main_arg7) = m ((c.tc : Thread Cert.GmlpOutUpdate1Ideal.nD Cert.GmlpOutUpdate1Ideal.τ).loc Cert.GmlpOutUpdate1Ideal.main_arg7)
      ∧ r.2.mem ((c.tc : Thread Cert.GmlpOutUpdate1Ideal.nD Cert.GmlpOutUpdate1Ideal.τ).loc Cert.GmlpOutUpdate1Ideal.main_arg8) = m ((c.tc : Thread Cert.GmlpOutUpdate1Ideal.nD Cert.GmlpOutUpdate1Ideal.τ).loc Cert.GmlpOutUpdate1Ideal.main_arg8))
      ∧ r.2.sem = fun _ => 0)

def quiescent_GmlpOutUpdate1ReferenceIdeal [hGmlpOutUpdate1ReferenceIdeal : Cert.GmlpOutUpdate1ReferenceIdeal.Facts] : Prop :=
  ∀ (m : (ℓ : Loc Cert.GmlpOutUpdate1ReferenceIdeal.nD Cert.GmlpOutUpdate1ReferenceIdeal.τ Cert.GmlpOutUpdate1ReferenceIdeal.sig) → Buf (Elt Ideal) ℓ) (g : Dev Cert.GmlpOutUpdate1ReferenceIdeal.nD → PrngReg), Pre_GmlpOutUpdate1ReferenceIdeal m →
    θ_run (Cert.GmlpOutUpdate1ReferenceIdeal.defs (F := Ideal)) (onTc (τ := Cert.GmlpOutUpdate1ReferenceIdeal.τ) (Cert.GmlpOutUpdate1ReferenceIdeal.main (F := Ideal))) ⟨m, fun _ => 0, g⟩ (fun r => (∀ c : Dev Cert.GmlpOutUpdate1ReferenceIdeal.nD,
      r.2.mem ((c.tc : Thread Cert.GmlpOutUpdate1ReferenceIdeal.nD Cert.GmlpOutUpdate1ReferenceIdeal.τ).loc Cert.GmlpOutUpdate1ReferenceIdeal.main_arg0) = m ((c.tc : Thread Cert.GmlpOutUpdate1ReferenceIdeal.nD Cert.GmlpOutUpdate1ReferenceIdeal.τ).loc Cert.GmlpOutUpdate1ReferenceIdeal.main_arg0)
      ∧ r.2.mem ((c.tc : Thread Cert.GmlpOutUpdate1ReferenceIdeal.nD Cert.GmlpOutUpdate1ReferenceIdeal.τ).loc Cert.GmlpOutUpdate1ReferenceIdeal.main_arg1) = m ((c.tc : Thread Cert.GmlpOutUpdate1ReferenceIdeal.nD Cert.GmlpOutUpdate1ReferenceIdeal.τ).loc Cert.GmlpOutUpdate1ReferenceIdeal.main_arg1)
      ∧ r.2.mem ((c.tc : Thread Cert.GmlpOutUpdate1ReferenceIdeal.nD Cert.GmlpOutUpdate1ReferenceIdeal.τ).loc Cert.GmlpOutUpdate1ReferenceIdeal.main_arg2) = m ((c.tc : Thread Cert.GmlpOutUpdate1ReferenceIdeal.nD Cert.GmlpOutUpdate1ReferenceIdeal.τ).loc Cert.GmlpOutUpdate1ReferenceIdeal.main_arg2)
      ∧ r.2.mem ((c.tc : Thread Cert.GmlpOutUpdate1ReferenceIdeal.nD Cert.GmlpOutUpdate1ReferenceIdeal.τ).loc Cert.GmlpOutUpdate1ReferenceIdeal.main_arg3) = m ((c.tc : Thread Cert.GmlpOutUpdate1ReferenceIdeal.nD Cert.GmlpOutUpdate1ReferenceIdeal.τ).loc Cert.GmlpOutUpdate1ReferenceIdeal.main_arg3)
      ∧ r.2.mem ((c.tc : Thread Cert.GmlpOutUpdate1ReferenceIdeal.nD Cert.GmlpOutUpdate1ReferenceIdeal.τ).loc Cert.GmlpOutUpdate1ReferenceIdeal.main_arg4) = m ((c.tc : Thread Cert.GmlpOutUpdate1ReferenceIdeal.nD Cert.GmlpOutUpdate1ReferenceIdeal.τ).loc Cert.GmlpOutUpdate1ReferenceIdeal.main_arg4)
      ∧ r.2.mem ((c.tc : Thread Cert.GmlpOutUpdate1ReferenceIdeal.nD Cert.GmlpOutUpdate1ReferenceIdeal.τ).loc Cert.GmlpOutUpdate1ReferenceIdeal.main_arg5) = m ((c.tc : Thread Cert.GmlpOutUpdate1ReferenceIdeal.nD Cert.GmlpOutUpdate1ReferenceIdeal.τ).loc Cert.GmlpOutUpdate1ReferenceIdeal.main_arg5)
      ∧ r.2.mem ((c.tc : Thread Cert.GmlpOutUpdate1ReferenceIdeal.nD Cert.GmlpOutUpdate1ReferenceIdeal.τ).loc Cert.GmlpOutUpdate1ReferenceIdeal.main_arg6) = m ((c.tc : Thread Cert.GmlpOutUpdate1ReferenceIdeal.nD Cert.GmlpOutUpdate1ReferenceIdeal.τ).loc Cert.GmlpOutUpdate1ReferenceIdeal.main_arg6)
      ∧ r.2.mem ((c.tc : Thread Cert.GmlpOutUpdate1ReferenceIdeal.nD Cert.GmlpOutUpdate1ReferenceIdeal.τ).loc Cert.GmlpOutUpdate1ReferenceIdeal.main_arg7) = m ((c.tc : Thread Cert.GmlpOutUpdate1ReferenceIdeal.nD Cert.GmlpOutUpdate1ReferenceIdeal.τ).loc Cert.GmlpOutUpdate1ReferenceIdeal.main_arg7)
      ∧ r.2.mem ((c.tc : Thread Cert.GmlpOutUpdate1ReferenceIdeal.nD Cert.GmlpOutUpdate1ReferenceIdeal.τ).loc Cert.GmlpOutUpdate1ReferenceIdeal.main_arg8) = m ((c.tc : Thread Cert.GmlpOutUpdate1ReferenceIdeal.nD Cert.GmlpOutUpdate1ReferenceIdeal.τ).loc Cert.GmlpOutUpdate1ReferenceIdeal.main_arg8))
      ∧ r.2.sem = fun _ => 0)

def quiescent_AttnQkvUpdate0 [hAttnQkvUpdate0 : Cert.AttnQkvUpdate0.Facts] : Prop :=
  ∀ (m : (ℓ : Loc Cert.AttnQkvUpdate0.nD Cert.AttnQkvUpdate0.τ Cert.AttnQkvUpdate0.sig) → Buf (Elt Bits) ℓ) (g : Dev Cert.AttnQkvUpdate0.nD → PrngReg), Pre_AttnQkvUpdate0 m →
    θ_run (Cert.AttnQkvUpdate0.defs (F := Bits)) (onTc (τ := Cert.AttnQkvUpdate0.τ) (Cert.AttnQkvUpdate0.main (F := Bits))) ⟨m, fun _ => 0, g⟩ (fun r => (∀ c : Dev Cert.AttnQkvUpdate0.nD,
      r.2.mem ((c.tc : Thread Cert.AttnQkvUpdate0.nD Cert.AttnQkvUpdate0.τ).loc Cert.AttnQkvUpdate0.main_arg0) = m ((c.tc : Thread Cert.AttnQkvUpdate0.nD Cert.AttnQkvUpdate0.τ).loc Cert.AttnQkvUpdate0.main_arg0)
      ∧ r.2.mem ((c.tc : Thread Cert.AttnQkvUpdate0.nD Cert.AttnQkvUpdate0.τ).loc Cert.AttnQkvUpdate0.main_arg1) = m ((c.tc : Thread Cert.AttnQkvUpdate0.nD Cert.AttnQkvUpdate0.τ).loc Cert.AttnQkvUpdate0.main_arg1)
      ∧ r.2.mem ((c.tc : Thread Cert.AttnQkvUpdate0.nD Cert.AttnQkvUpdate0.τ).loc Cert.AttnQkvUpdate0.main_arg2) = m ((c.tc : Thread Cert.AttnQkvUpdate0.nD Cert.AttnQkvUpdate0.τ).loc Cert.AttnQkvUpdate0.main_arg2)
      ∧ r.2.mem ((c.tc : Thread Cert.AttnQkvUpdate0.nD Cert.AttnQkvUpdate0.τ).loc Cert.AttnQkvUpdate0.main_arg3) = m ((c.tc : Thread Cert.AttnQkvUpdate0.nD Cert.AttnQkvUpdate0.τ).loc Cert.AttnQkvUpdate0.main_arg3)
      ∧ r.2.mem ((c.tc : Thread Cert.AttnQkvUpdate0.nD Cert.AttnQkvUpdate0.τ).loc Cert.AttnQkvUpdate0.main_arg4) = m ((c.tc : Thread Cert.AttnQkvUpdate0.nD Cert.AttnQkvUpdate0.τ).loc Cert.AttnQkvUpdate0.main_arg4)
      ∧ r.2.mem ((c.tc : Thread Cert.AttnQkvUpdate0.nD Cert.AttnQkvUpdate0.τ).loc Cert.AttnQkvUpdate0.main_arg5) = m ((c.tc : Thread Cert.AttnQkvUpdate0.nD Cert.AttnQkvUpdate0.τ).loc Cert.AttnQkvUpdate0.main_arg5)
      ∧ r.2.mem ((c.tc : Thread Cert.AttnQkvUpdate0.nD Cert.AttnQkvUpdate0.τ).loc Cert.AttnQkvUpdate0.main_arg6) = m ((c.tc : Thread Cert.AttnQkvUpdate0.nD Cert.AttnQkvUpdate0.τ).loc Cert.AttnQkvUpdate0.main_arg6)
      ∧ r.2.mem ((c.tc : Thread Cert.AttnQkvUpdate0.nD Cert.AttnQkvUpdate0.τ).loc Cert.AttnQkvUpdate0.main_arg7) = m ((c.tc : Thread Cert.AttnQkvUpdate0.nD Cert.AttnQkvUpdate0.τ).loc Cert.AttnQkvUpdate0.main_arg7)
      ∧ r.2.mem ((c.tc : Thread Cert.AttnQkvUpdate0.nD Cert.AttnQkvUpdate0.τ).loc Cert.AttnQkvUpdate0.main_arg8) = m ((c.tc : Thread Cert.AttnQkvUpdate0.nD Cert.AttnQkvUpdate0.τ).loc Cert.AttnQkvUpdate0.main_arg8))
      ∧ r.2.sem = fun _ => 0)

def quiescent_AttnQkvUpdate0Ideal [hAttnQkvUpdate0Ideal : Cert.AttnQkvUpdate0Ideal.Facts] : Prop :=
  ∀ (m : (ℓ : Loc Cert.AttnQkvUpdate0Ideal.nD Cert.AttnQkvUpdate0Ideal.τ Cert.AttnQkvUpdate0Ideal.sig) → Buf (Elt Ideal) ℓ) (g : Dev Cert.AttnQkvUpdate0Ideal.nD → PrngReg), Pre_AttnQkvUpdate0Ideal m →
    θ_run (Cert.AttnQkvUpdate0Ideal.defs (F := Ideal)) (onTc (τ := Cert.AttnQkvUpdate0Ideal.τ) (Cert.AttnQkvUpdate0Ideal.main (F := Ideal))) ⟨m, fun _ => 0, g⟩ (fun r => (∀ c : Dev Cert.AttnQkvUpdate0Ideal.nD,
      r.2.mem ((c.tc : Thread Cert.AttnQkvUpdate0Ideal.nD Cert.AttnQkvUpdate0Ideal.τ).loc Cert.AttnQkvUpdate0Ideal.main_arg0) = m ((c.tc : Thread Cert.AttnQkvUpdate0Ideal.nD Cert.AttnQkvUpdate0Ideal.τ).loc Cert.AttnQkvUpdate0Ideal.main_arg0)
      ∧ r.2.mem ((c.tc : Thread Cert.AttnQkvUpdate0Ideal.nD Cert.AttnQkvUpdate0Ideal.τ).loc Cert.AttnQkvUpdate0Ideal.main_arg1) = m ((c.tc : Thread Cert.AttnQkvUpdate0Ideal.nD Cert.AttnQkvUpdate0Ideal.τ).loc Cert.AttnQkvUpdate0Ideal.main_arg1)
      ∧ r.2.mem ((c.tc : Thread Cert.AttnQkvUpdate0Ideal.nD Cert.AttnQkvUpdate0Ideal.τ).loc Cert.AttnQkvUpdate0Ideal.main_arg2) = m ((c.tc : Thread Cert.AttnQkvUpdate0Ideal.nD Cert.AttnQkvUpdate0Ideal.τ).loc Cert.AttnQkvUpdate0Ideal.main_arg2)
      ∧ r.2.mem ((c.tc : Thread Cert.AttnQkvUpdate0Ideal.nD Cert.AttnQkvUpdate0Ideal.τ).loc Cert.AttnQkvUpdate0Ideal.main_arg3) = m ((c.tc : Thread Cert.AttnQkvUpdate0Ideal.nD Cert.AttnQkvUpdate0Ideal.τ).loc Cert.AttnQkvUpdate0Ideal.main_arg3)
      ∧ r.2.mem ((c.tc : Thread Cert.AttnQkvUpdate0Ideal.nD Cert.AttnQkvUpdate0Ideal.τ).loc Cert.AttnQkvUpdate0Ideal.main_arg4) = m ((c.tc : Thread Cert.AttnQkvUpdate0Ideal.nD Cert.AttnQkvUpdate0Ideal.τ).loc Cert.AttnQkvUpdate0Ideal.main_arg4)
      ∧ r.2.mem ((c.tc : Thread Cert.AttnQkvUpdate0Ideal.nD Cert.AttnQkvUpdate0Ideal.τ).loc Cert.AttnQkvUpdate0Ideal.main_arg5) = m ((c.tc : Thread Cert.AttnQkvUpdate0Ideal.nD Cert.AttnQkvUpdate0Ideal.τ).loc Cert.AttnQkvUpdate0Ideal.main_arg5)
      ∧ r.2.mem ((c.tc : Thread Cert.AttnQkvUpdate0Ideal.nD Cert.AttnQkvUpdate0Ideal.τ).loc Cert.AttnQkvUpdate0Ideal.main_arg6) = m ((c.tc : Thread Cert.AttnQkvUpdate0Ideal.nD Cert.AttnQkvUpdate0Ideal.τ).loc Cert.AttnQkvUpdate0Ideal.main_arg6)
      ∧ r.2.mem ((c.tc : Thread Cert.AttnQkvUpdate0Ideal.nD Cert.AttnQkvUpdate0Ideal.τ).loc Cert.AttnQkvUpdate0Ideal.main_arg7) = m ((c.tc : Thread Cert.AttnQkvUpdate0Ideal.nD Cert.AttnQkvUpdate0Ideal.τ).loc Cert.AttnQkvUpdate0Ideal.main_arg7)
      ∧ r.2.mem ((c.tc : Thread Cert.AttnQkvUpdate0Ideal.nD Cert.AttnQkvUpdate0Ideal.τ).loc Cert.AttnQkvUpdate0Ideal.main_arg8) = m ((c.tc : Thread Cert.AttnQkvUpdate0Ideal.nD Cert.AttnQkvUpdate0Ideal.τ).loc Cert.AttnQkvUpdate0Ideal.main_arg8))
      ∧ r.2.sem = fun _ => 0)

def quiescent_AttnQkvUpdate0ReferenceIdeal [hAttnQkvUpdate0ReferenceIdeal : Cert.AttnQkvUpdate0ReferenceIdeal.Facts] : Prop :=
  ∀ (m : (ℓ : Loc Cert.AttnQkvUpdate0ReferenceIdeal.nD Cert.AttnQkvUpdate0ReferenceIdeal.τ Cert.AttnQkvUpdate0ReferenceIdeal.sig) → Buf (Elt Ideal) ℓ) (g : Dev Cert.AttnQkvUpdate0ReferenceIdeal.nD → PrngReg), Pre_AttnQkvUpdate0ReferenceIdeal m →
    θ_run (Cert.AttnQkvUpdate0ReferenceIdeal.defs (F := Ideal)) (onTc (τ := Cert.AttnQkvUpdate0ReferenceIdeal.τ) (Cert.AttnQkvUpdate0ReferenceIdeal.main (F := Ideal))) ⟨m, fun _ => 0, g⟩ (fun r => (∀ c : Dev Cert.AttnQkvUpdate0ReferenceIdeal.nD,
      r.2.mem ((c.tc : Thread Cert.AttnQkvUpdate0ReferenceIdeal.nD Cert.AttnQkvUpdate0ReferenceIdeal.τ).loc Cert.AttnQkvUpdate0ReferenceIdeal.main_arg0) = m ((c.tc : Thread Cert.AttnQkvUpdate0ReferenceIdeal.nD Cert.AttnQkvUpdate0ReferenceIdeal.τ).loc Cert.AttnQkvUpdate0ReferenceIdeal.main_arg0)
      ∧ r.2.mem ((c.tc : Thread Cert.AttnQkvUpdate0ReferenceIdeal.nD Cert.AttnQkvUpdate0ReferenceIdeal.τ).loc Cert.AttnQkvUpdate0ReferenceIdeal.main_arg1) = m ((c.tc : Thread Cert.AttnQkvUpdate0ReferenceIdeal.nD Cert.AttnQkvUpdate0ReferenceIdeal.τ).loc Cert.AttnQkvUpdate0ReferenceIdeal.main_arg1)
      ∧ r.2.mem ((c.tc : Thread Cert.AttnQkvUpdate0ReferenceIdeal.nD Cert.AttnQkvUpdate0ReferenceIdeal.τ).loc Cert.AttnQkvUpdate0ReferenceIdeal.main_arg2) = m ((c.tc : Thread Cert.AttnQkvUpdate0ReferenceIdeal.nD Cert.AttnQkvUpdate0ReferenceIdeal.τ).loc Cert.AttnQkvUpdate0ReferenceIdeal.main_arg2)
      ∧ r.2.mem ((c.tc : Thread Cert.AttnQkvUpdate0ReferenceIdeal.nD Cert.AttnQkvUpdate0ReferenceIdeal.τ).loc Cert.AttnQkvUpdate0ReferenceIdeal.main_arg3) = m ((c.tc : Thread Cert.AttnQkvUpdate0ReferenceIdeal.nD Cert.AttnQkvUpdate0ReferenceIdeal.τ).loc Cert.AttnQkvUpdate0ReferenceIdeal.main_arg3)
      ∧ r.2.mem ((c.tc : Thread Cert.AttnQkvUpdate0ReferenceIdeal.nD Cert.AttnQkvUpdate0ReferenceIdeal.τ).loc Cert.AttnQkvUpdate0ReferenceIdeal.main_arg4) = m ((c.tc : Thread Cert.AttnQkvUpdate0ReferenceIdeal.nD Cert.AttnQkvUpdate0ReferenceIdeal.τ).loc Cert.AttnQkvUpdate0ReferenceIdeal.main_arg4)
      ∧ r.2.mem ((c.tc : Thread Cert.AttnQkvUpdate0ReferenceIdeal.nD Cert.AttnQkvUpdate0ReferenceIdeal.τ).loc Cert.AttnQkvUpdate0ReferenceIdeal.main_arg5) = m ((c.tc : Thread Cert.AttnQkvUpdate0ReferenceIdeal.nD Cert.AttnQkvUpdate0ReferenceIdeal.τ).loc Cert.AttnQkvUpdate0ReferenceIdeal.main_arg5)
      ∧ r.2.mem ((c.tc : Thread Cert.AttnQkvUpdate0ReferenceIdeal.nD Cert.AttnQkvUpdate0ReferenceIdeal.τ).loc Cert.AttnQkvUpdate0ReferenceIdeal.main_arg6) = m ((c.tc : Thread Cert.AttnQkvUpdate0ReferenceIdeal.nD Cert.AttnQkvUpdate0ReferenceIdeal.τ).loc Cert.AttnQkvUpdate0ReferenceIdeal.main_arg6)
      ∧ r.2.mem ((c.tc : Thread Cert.AttnQkvUpdate0ReferenceIdeal.nD Cert.AttnQkvUpdate0ReferenceIdeal.τ).loc Cert.AttnQkvUpdate0ReferenceIdeal.main_arg7) = m ((c.tc : Thread Cert.AttnQkvUpdate0ReferenceIdeal.nD Cert.AttnQkvUpdate0ReferenceIdeal.τ).loc Cert.AttnQkvUpdate0ReferenceIdeal.main_arg7)
      ∧ r.2.mem ((c.tc : Thread Cert.AttnQkvUpdate0ReferenceIdeal.nD Cert.AttnQkvUpdate0ReferenceIdeal.τ).loc Cert.AttnQkvUpdate0ReferenceIdeal.main_arg8) = m ((c.tc : Thread Cert.AttnQkvUpdate0ReferenceIdeal.nD Cert.AttnQkvUpdate0ReferenceIdeal.τ).loc Cert.AttnQkvUpdate0ReferenceIdeal.main_arg8))
      ∧ r.2.sem = fun _ => 0)

def quiescent_AttnQkvUpdate1 [hAttnQkvUpdate1 : Cert.AttnQkvUpdate1.Facts] : Prop :=
  ∀ (m : (ℓ : Loc Cert.AttnQkvUpdate1.nD Cert.AttnQkvUpdate1.τ Cert.AttnQkvUpdate1.sig) → Buf (Elt Bits) ℓ) (g : Dev Cert.AttnQkvUpdate1.nD → PrngReg), Pre_AttnQkvUpdate1 m →
    θ_run (Cert.AttnQkvUpdate1.defs (F := Bits)) (onTc (τ := Cert.AttnQkvUpdate1.τ) (Cert.AttnQkvUpdate1.main (F := Bits))) ⟨m, fun _ => 0, g⟩ (fun r => (∀ c : Dev Cert.AttnQkvUpdate1.nD,
      r.2.mem ((c.tc : Thread Cert.AttnQkvUpdate1.nD Cert.AttnQkvUpdate1.τ).loc Cert.AttnQkvUpdate1.main_arg0) = m ((c.tc : Thread Cert.AttnQkvUpdate1.nD Cert.AttnQkvUpdate1.τ).loc Cert.AttnQkvUpdate1.main_arg0)
      ∧ r.2.mem ((c.tc : Thread Cert.AttnQkvUpdate1.nD Cert.AttnQkvUpdate1.τ).loc Cert.AttnQkvUpdate1.main_arg1) = m ((c.tc : Thread Cert.AttnQkvUpdate1.nD Cert.AttnQkvUpdate1.τ).loc Cert.AttnQkvUpdate1.main_arg1)
      ∧ r.2.mem ((c.tc : Thread Cert.AttnQkvUpdate1.nD Cert.AttnQkvUpdate1.τ).loc Cert.AttnQkvUpdate1.main_arg2) = m ((c.tc : Thread Cert.AttnQkvUpdate1.nD Cert.AttnQkvUpdate1.τ).loc Cert.AttnQkvUpdate1.main_arg2)
      ∧ r.2.mem ((c.tc : Thread Cert.AttnQkvUpdate1.nD Cert.AttnQkvUpdate1.τ).loc Cert.AttnQkvUpdate1.main_arg3) = m ((c.tc : Thread Cert.AttnQkvUpdate1.nD Cert.AttnQkvUpdate1.τ).loc Cert.AttnQkvUpdate1.main_arg3)
      ∧ r.2.mem ((c.tc : Thread Cert.AttnQkvUpdate1.nD Cert.AttnQkvUpdate1.τ).loc Cert.AttnQkvUpdate1.main_arg4) = m ((c.tc : Thread Cert.AttnQkvUpdate1.nD Cert.AttnQkvUpdate1.τ).loc Cert.AttnQkvUpdate1.main_arg4)
      ∧ r.2.mem ((c.tc : Thread Cert.AttnQkvUpdate1.nD Cert.AttnQkvUpdate1.τ).loc Cert.AttnQkvUpdate1.main_arg5) = m ((c.tc : Thread Cert.AttnQkvUpdate1.nD Cert.AttnQkvUpdate1.τ).loc Cert.AttnQkvUpdate1.main_arg5)
      ∧ r.2.mem ((c.tc : Thread Cert.AttnQkvUpdate1.nD Cert.AttnQkvUpdate1.τ).loc Cert.AttnQkvUpdate1.main_arg6) = m ((c.tc : Thread Cert.AttnQkvUpdate1.nD Cert.AttnQkvUpdate1.τ).loc Cert.AttnQkvUpdate1.main_arg6)
      ∧ r.2.mem ((c.tc : Thread Cert.AttnQkvUpdate1.nD Cert.AttnQkvUpdate1.τ).loc Cert.AttnQkvUpdate1.main_arg7) = m ((c.tc : Thread Cert.AttnQkvUpdate1.nD Cert.AttnQkvUpdate1.τ).loc Cert.AttnQkvUpdate1.main_arg7)
      ∧ r.2.mem ((c.tc : Thread Cert.AttnQkvUpdate1.nD Cert.AttnQkvUpdate1.τ).loc Cert.AttnQkvUpdate1.main_arg8) = m ((c.tc : Thread Cert.AttnQkvUpdate1.nD Cert.AttnQkvUpdate1.τ).loc Cert.AttnQkvUpdate1.main_arg8))
      ∧ r.2.sem = fun _ => 0)

def quiescent_AttnQkvUpdate1Ideal [hAttnQkvUpdate1Ideal : Cert.AttnQkvUpdate1Ideal.Facts] : Prop :=
  ∀ (m : (ℓ : Loc Cert.AttnQkvUpdate1Ideal.nD Cert.AttnQkvUpdate1Ideal.τ Cert.AttnQkvUpdate1Ideal.sig) → Buf (Elt Ideal) ℓ) (g : Dev Cert.AttnQkvUpdate1Ideal.nD → PrngReg), Pre_AttnQkvUpdate1Ideal m →
    θ_run (Cert.AttnQkvUpdate1Ideal.defs (F := Ideal)) (onTc (τ := Cert.AttnQkvUpdate1Ideal.τ) (Cert.AttnQkvUpdate1Ideal.main (F := Ideal))) ⟨m, fun _ => 0, g⟩ (fun r => (∀ c : Dev Cert.AttnQkvUpdate1Ideal.nD,
      r.2.mem ((c.tc : Thread Cert.AttnQkvUpdate1Ideal.nD Cert.AttnQkvUpdate1Ideal.τ).loc Cert.AttnQkvUpdate1Ideal.main_arg0) = m ((c.tc : Thread Cert.AttnQkvUpdate1Ideal.nD Cert.AttnQkvUpdate1Ideal.τ).loc Cert.AttnQkvUpdate1Ideal.main_arg0)
      ∧ r.2.mem ((c.tc : Thread Cert.AttnQkvUpdate1Ideal.nD Cert.AttnQkvUpdate1Ideal.τ).loc Cert.AttnQkvUpdate1Ideal.main_arg1) = m ((c.tc : Thread Cert.AttnQkvUpdate1Ideal.nD Cert.AttnQkvUpdate1Ideal.τ).loc Cert.AttnQkvUpdate1Ideal.main_arg1)
      ∧ r.2.mem ((c.tc : Thread Cert.AttnQkvUpdate1Ideal.nD Cert.AttnQkvUpdate1Ideal.τ).loc Cert.AttnQkvUpdate1Ideal.main_arg2) = m ((c.tc : Thread Cert.AttnQkvUpdate1Ideal.nD Cert.AttnQkvUpdate1Ideal.τ).loc Cert.AttnQkvUpdate1Ideal.main_arg2)
      ∧ r.2.mem ((c.tc : Thread Cert.AttnQkvUpdate1Ideal.nD Cert.AttnQkvUpdate1Ideal.τ).loc Cert.AttnQkvUpdate1Ideal.main_arg3) = m ((c.tc : Thread Cert.AttnQkvUpdate1Ideal.nD Cert.AttnQkvUpdate1Ideal.τ).loc Cert.AttnQkvUpdate1Ideal.main_arg3)
      ∧ r.2.mem ((c.tc : Thread Cert.AttnQkvUpdate1Ideal.nD Cert.AttnQkvUpdate1Ideal.τ).loc Cert.AttnQkvUpdate1Ideal.main_arg4) = m ((c.tc : Thread Cert.AttnQkvUpdate1Ideal.nD Cert.AttnQkvUpdate1Ideal.τ).loc Cert.AttnQkvUpdate1Ideal.main_arg4)
      ∧ r.2.mem ((c.tc : Thread Cert.AttnQkvUpdate1Ideal.nD Cert.AttnQkvUpdate1Ideal.τ).loc Cert.AttnQkvUpdate1Ideal.main_arg5) = m ((c.tc : Thread Cert.AttnQkvUpdate1Ideal.nD Cert.AttnQkvUpdate1Ideal.τ).loc Cert.AttnQkvUpdate1Ideal.main_arg5)
      ∧ r.2.mem ((c.tc : Thread Cert.AttnQkvUpdate1Ideal.nD Cert.AttnQkvUpdate1Ideal.τ).loc Cert.AttnQkvUpdate1Ideal.main_arg6) = m ((c.tc : Thread Cert.AttnQkvUpdate1Ideal.nD Cert.AttnQkvUpdate1Ideal.τ).loc Cert.AttnQkvUpdate1Ideal.main_arg6)
      ∧ r.2.mem ((c.tc : Thread Cert.AttnQkvUpdate1Ideal.nD Cert.AttnQkvUpdate1Ideal.τ).loc Cert.AttnQkvUpdate1Ideal.main_arg7) = m ((c.tc : Thread Cert.AttnQkvUpdate1Ideal.nD Cert.AttnQkvUpdate1Ideal.τ).loc Cert.AttnQkvUpdate1Ideal.main_arg7)
      ∧ r.2.mem ((c.tc : Thread Cert.AttnQkvUpdate1Ideal.nD Cert.AttnQkvUpdate1Ideal.τ).loc Cert.AttnQkvUpdate1Ideal.main_arg8) = m ((c.tc : Thread Cert.AttnQkvUpdate1Ideal.nD Cert.AttnQkvUpdate1Ideal.τ).loc Cert.AttnQkvUpdate1Ideal.main_arg8))
      ∧ r.2.sem = fun _ => 0)

def quiescent_AttnQkvUpdate1ReferenceIdeal [hAttnQkvUpdate1ReferenceIdeal : Cert.AttnQkvUpdate1ReferenceIdeal.Facts] : Prop :=
  ∀ (m : (ℓ : Loc Cert.AttnQkvUpdate1ReferenceIdeal.nD Cert.AttnQkvUpdate1ReferenceIdeal.τ Cert.AttnQkvUpdate1ReferenceIdeal.sig) → Buf (Elt Ideal) ℓ) (g : Dev Cert.AttnQkvUpdate1ReferenceIdeal.nD → PrngReg), Pre_AttnQkvUpdate1ReferenceIdeal m →
    θ_run (Cert.AttnQkvUpdate1ReferenceIdeal.defs (F := Ideal)) (onTc (τ := Cert.AttnQkvUpdate1ReferenceIdeal.τ) (Cert.AttnQkvUpdate1ReferenceIdeal.main (F := Ideal))) ⟨m, fun _ => 0, g⟩ (fun r => (∀ c : Dev Cert.AttnQkvUpdate1ReferenceIdeal.nD,
      r.2.mem ((c.tc : Thread Cert.AttnQkvUpdate1ReferenceIdeal.nD Cert.AttnQkvUpdate1ReferenceIdeal.τ).loc Cert.AttnQkvUpdate1ReferenceIdeal.main_arg0) = m ((c.tc : Thread Cert.AttnQkvUpdate1ReferenceIdeal.nD Cert.AttnQkvUpdate1ReferenceIdeal.τ).loc Cert.AttnQkvUpdate1ReferenceIdeal.main_arg0)
      ∧ r.2.mem ((c.tc : Thread Cert.AttnQkvUpdate1ReferenceIdeal.nD Cert.AttnQkvUpdate1ReferenceIdeal.τ).loc Cert.AttnQkvUpdate1ReferenceIdeal.main_arg1) = m ((c.tc : Thread Cert.AttnQkvUpdate1ReferenceIdeal.nD Cert.AttnQkvUpdate1ReferenceIdeal.τ).loc Cert.AttnQkvUpdate1ReferenceIdeal.main_arg1)
      ∧ r.2.mem ((c.tc : Thread Cert.AttnQkvUpdate1ReferenceIdeal.nD Cert.AttnQkvUpdate1ReferenceIdeal.τ).loc Cert.AttnQkvUpdate1ReferenceIdeal.main_arg2) = m ((c.tc : Thread Cert.AttnQkvUpdate1ReferenceIdeal.nD Cert.AttnQkvUpdate1ReferenceIdeal.τ).loc Cert.AttnQkvUpdate1ReferenceIdeal.main_arg2)
      ∧ r.2.mem ((c.tc : Thread Cert.AttnQkvUpdate1ReferenceIdeal.nD Cert.AttnQkvUpdate1ReferenceIdeal.τ).loc Cert.AttnQkvUpdate1ReferenceIdeal.main_arg3) = m ((c.tc : Thread Cert.AttnQkvUpdate1ReferenceIdeal.nD Cert.AttnQkvUpdate1ReferenceIdeal.τ).loc Cert.AttnQkvUpdate1ReferenceIdeal.main_arg3)
      ∧ r.2.mem ((c.tc : Thread Cert.AttnQkvUpdate1ReferenceIdeal.nD Cert.AttnQkvUpdate1ReferenceIdeal.τ).loc Cert.AttnQkvUpdate1ReferenceIdeal.main_arg4) = m ((c.tc : Thread Cert.AttnQkvUpdate1ReferenceIdeal.nD Cert.AttnQkvUpdate1ReferenceIdeal.τ).loc Cert.AttnQkvUpdate1ReferenceIdeal.main_arg4)
      ∧ r.2.mem ((c.tc : Thread Cert.AttnQkvUpdate1ReferenceIdeal.nD Cert.AttnQkvUpdate1ReferenceIdeal.τ).loc Cert.AttnQkvUpdate1ReferenceIdeal.main_arg5) = m ((c.tc : Thread Cert.AttnQkvUpdate1ReferenceIdeal.nD Cert.AttnQkvUpdate1ReferenceIdeal.τ).loc Cert.AttnQkvUpdate1ReferenceIdeal.main_arg5)
      ∧ r.2.mem ((c.tc : Thread Cert.AttnQkvUpdate1ReferenceIdeal.nD Cert.AttnQkvUpdate1ReferenceIdeal.τ).loc Cert.AttnQkvUpdate1ReferenceIdeal.main_arg6) = m ((c.tc : Thread Cert.AttnQkvUpdate1ReferenceIdeal.nD Cert.AttnQkvUpdate1ReferenceIdeal.τ).loc Cert.AttnQkvUpdate1ReferenceIdeal.main_arg6)
      ∧ r.2.mem ((c.tc : Thread Cert.AttnQkvUpdate1ReferenceIdeal.nD Cert.AttnQkvUpdate1ReferenceIdeal.τ).loc Cert.AttnQkvUpdate1ReferenceIdeal.main_arg7) = m ((c.tc : Thread Cert.AttnQkvUpdate1ReferenceIdeal.nD Cert.AttnQkvUpdate1ReferenceIdeal.τ).loc Cert.AttnQkvUpdate1ReferenceIdeal.main_arg7)
      ∧ r.2.mem ((c.tc : Thread Cert.AttnQkvUpdate1ReferenceIdeal.nD Cert.AttnQkvUpdate1ReferenceIdeal.τ).loc Cert.AttnQkvUpdate1ReferenceIdeal.main_arg8) = m ((c.tc : Thread Cert.AttnQkvUpdate1ReferenceIdeal.nD Cert.AttnQkvUpdate1ReferenceIdeal.τ).loc Cert.AttnQkvUpdate1ReferenceIdeal.main_arg8))
      ∧ r.2.sem = fun _ => 0)

def quiescent_AttnOutUpdate0 [hAttnOutUpdate0 : Cert.AttnOutUpdate0.Facts] : Prop :=
  ∀ (m : (ℓ : Loc Cert.AttnOutUpdate0.nD Cert.AttnOutUpdate0.τ Cert.AttnOutUpdate0.sig) → Buf (Elt Bits) ℓ) (g : Dev Cert.AttnOutUpdate0.nD → PrngReg), Pre_AttnOutUpdate0 m →
    θ_run (Cert.AttnOutUpdate0.defs (F := Bits)) (onTc (τ := Cert.AttnOutUpdate0.τ) (Cert.AttnOutUpdate0.main (F := Bits))) ⟨m, fun _ => 0, g⟩ (fun r => (∀ c : Dev Cert.AttnOutUpdate0.nD,
      r.2.mem ((c.tc : Thread Cert.AttnOutUpdate0.nD Cert.AttnOutUpdate0.τ).loc Cert.AttnOutUpdate0.main_arg0) = m ((c.tc : Thread Cert.AttnOutUpdate0.nD Cert.AttnOutUpdate0.τ).loc Cert.AttnOutUpdate0.main_arg0)
      ∧ r.2.mem ((c.tc : Thread Cert.AttnOutUpdate0.nD Cert.AttnOutUpdate0.τ).loc Cert.AttnOutUpdate0.main_arg1) = m ((c.tc : Thread Cert.AttnOutUpdate0.nD Cert.AttnOutUpdate0.τ).loc Cert.AttnOutUpdate0.main_arg1)
      ∧ r.2.mem ((c.tc : Thread Cert.AttnOutUpdate0.nD Cert.AttnOutUpdate0.τ).loc Cert.AttnOutUpdate0.main_arg2) = m ((c.tc : Thread Cert.AttnOutUpdate0.nD Cert.AttnOutUpdate0.τ).loc Cert.AttnOutUpdate0.main_arg2)
      ∧ r.2.mem ((c.tc : Thread Cert.AttnOutUpdate0.nD Cert.AttnOutUpdate0.τ).loc Cert.AttnOutUpdate0.main_arg3) = m ((c.tc : Thread Cert.AttnOutUpdate0.nD Cert.AttnOutUpdate0.τ).loc Cert.AttnOutUpdate0.main_arg3)
      ∧ r.2.mem ((c.tc : Thread Cert.AttnOutUpdate0.nD Cert.AttnOutUpdate0.τ).loc Cert.AttnOutUpdate0.main_arg4) = m ((c.tc : Thread Cert.AttnOutUpdate0.nD Cert.AttnOutUpdate0.τ).loc Cert.AttnOutUpdate0.main_arg4)
      ∧ r.2.mem ((c.tc : Thread Cert.AttnOutUpdate0.nD Cert.AttnOutUpdate0.τ).loc Cert.AttnOutUpdate0.main_arg5) = m ((c.tc : Thread Cert.AttnOutUpdate0.nD Cert.AttnOutUpdate0.τ).loc Cert.AttnOutUpdate0.main_arg5)
      ∧ r.2.mem ((c.tc : Thread Cert.AttnOutUpdate0.nD Cert.AttnOutUpdate0.τ).loc Cert.AttnOutUpdate0.main_arg6) = m ((c.tc : Thread Cert.AttnOutUpdate0.nD Cert.AttnOutUpdate0.τ).loc Cert.AttnOutUpdate0.main_arg6)
      ∧ r.2.mem ((c.tc : Thread Cert.AttnOutUpdate0.nD Cert.AttnOutUpdate0.τ).loc Cert.AttnOutUpdate0.main_arg7) = m ((c.tc : Thread Cert.AttnOutUpdate0.nD Cert.AttnOutUpdate0.τ).loc Cert.AttnOutUpdate0.main_arg7)
      ∧ r.2.mem ((c.tc : Thread Cert.AttnOutUpdate0.nD Cert.AttnOutUpdate0.τ).loc Cert.AttnOutUpdate0.main_arg8) = m ((c.tc : Thread Cert.AttnOutUpdate0.nD Cert.AttnOutUpdate0.τ).loc Cert.AttnOutUpdate0.main_arg8))
      ∧ r.2.sem = fun _ => 0)

def quiescent_AttnOutUpdate0Ideal [hAttnOutUpdate0Ideal : Cert.AttnOutUpdate0Ideal.Facts] : Prop :=
  ∀ (m : (ℓ : Loc Cert.AttnOutUpdate0Ideal.nD Cert.AttnOutUpdate0Ideal.τ Cert.AttnOutUpdate0Ideal.sig) → Buf (Elt Ideal) ℓ) (g : Dev Cert.AttnOutUpdate0Ideal.nD → PrngReg), Pre_AttnOutUpdate0Ideal m →
    θ_run (Cert.AttnOutUpdate0Ideal.defs (F := Ideal)) (onTc (τ := Cert.AttnOutUpdate0Ideal.τ) (Cert.AttnOutUpdate0Ideal.main (F := Ideal))) ⟨m, fun _ => 0, g⟩ (fun r => (∀ c : Dev Cert.AttnOutUpdate0Ideal.nD,
      r.2.mem ((c.tc : Thread Cert.AttnOutUpdate0Ideal.nD Cert.AttnOutUpdate0Ideal.τ).loc Cert.AttnOutUpdate0Ideal.main_arg0) = m ((c.tc : Thread Cert.AttnOutUpdate0Ideal.nD Cert.AttnOutUpdate0Ideal.τ).loc Cert.AttnOutUpdate0Ideal.main_arg0)
      ∧ r.2.mem ((c.tc : Thread Cert.AttnOutUpdate0Ideal.nD Cert.AttnOutUpdate0Ideal.τ).loc Cert.AttnOutUpdate0Ideal.main_arg1) = m ((c.tc : Thread Cert.AttnOutUpdate0Ideal.nD Cert.AttnOutUpdate0Ideal.τ).loc Cert.AttnOutUpdate0Ideal.main_arg1)
      ∧ r.2.mem ((c.tc : Thread Cert.AttnOutUpdate0Ideal.nD Cert.AttnOutUpdate0Ideal.τ).loc Cert.AttnOutUpdate0Ideal.main_arg2) = m ((c.tc : Thread Cert.AttnOutUpdate0Ideal.nD Cert.AttnOutUpdate0Ideal.τ).loc Cert.AttnOutUpdate0Ideal.main_arg2)
      ∧ r.2.mem ((c.tc : Thread Cert.AttnOutUpdate0Ideal.nD Cert.AttnOutUpdate0Ideal.τ).loc Cert.AttnOutUpdate0Ideal.main_arg3) = m ((c.tc : Thread Cert.AttnOutUpdate0Ideal.nD Cert.AttnOutUpdate0Ideal.τ).loc Cert.AttnOutUpdate0Ideal.main_arg3)
      ∧ r.2.mem ((c.tc : Thread Cert.AttnOutUpdate0Ideal.nD Cert.AttnOutUpdate0Ideal.τ).loc Cert.AttnOutUpdate0Ideal.main_arg4) = m ((c.tc : Thread Cert.AttnOutUpdate0Ideal.nD Cert.AttnOutUpdate0Ideal.τ).loc Cert.AttnOutUpdate0Ideal.main_arg4)
      ∧ r.2.mem ((c.tc : Thread Cert.AttnOutUpdate0Ideal.nD Cert.AttnOutUpdate0Ideal.τ).loc Cert.AttnOutUpdate0Ideal.main_arg5) = m ((c.tc : Thread Cert.AttnOutUpdate0Ideal.nD Cert.AttnOutUpdate0Ideal.τ).loc Cert.AttnOutUpdate0Ideal.main_arg5)
      ∧ r.2.mem ((c.tc : Thread Cert.AttnOutUpdate0Ideal.nD Cert.AttnOutUpdate0Ideal.τ).loc Cert.AttnOutUpdate0Ideal.main_arg6) = m ((c.tc : Thread Cert.AttnOutUpdate0Ideal.nD Cert.AttnOutUpdate0Ideal.τ).loc Cert.AttnOutUpdate0Ideal.main_arg6)
      ∧ r.2.mem ((c.tc : Thread Cert.AttnOutUpdate0Ideal.nD Cert.AttnOutUpdate0Ideal.τ).loc Cert.AttnOutUpdate0Ideal.main_arg7) = m ((c.tc : Thread Cert.AttnOutUpdate0Ideal.nD Cert.AttnOutUpdate0Ideal.τ).loc Cert.AttnOutUpdate0Ideal.main_arg7)
      ∧ r.2.mem ((c.tc : Thread Cert.AttnOutUpdate0Ideal.nD Cert.AttnOutUpdate0Ideal.τ).loc Cert.AttnOutUpdate0Ideal.main_arg8) = m ((c.tc : Thread Cert.AttnOutUpdate0Ideal.nD Cert.AttnOutUpdate0Ideal.τ).loc Cert.AttnOutUpdate0Ideal.main_arg8))
      ∧ r.2.sem = fun _ => 0)

def quiescent_AttnOutUpdate0ReferenceIdeal [hAttnOutUpdate0ReferenceIdeal : Cert.AttnOutUpdate0ReferenceIdeal.Facts] : Prop :=
  ∀ (m : (ℓ : Loc Cert.AttnOutUpdate0ReferenceIdeal.nD Cert.AttnOutUpdate0ReferenceIdeal.τ Cert.AttnOutUpdate0ReferenceIdeal.sig) → Buf (Elt Ideal) ℓ) (g : Dev Cert.AttnOutUpdate0ReferenceIdeal.nD → PrngReg), Pre_AttnOutUpdate0ReferenceIdeal m →
    θ_run (Cert.AttnOutUpdate0ReferenceIdeal.defs (F := Ideal)) (onTc (τ := Cert.AttnOutUpdate0ReferenceIdeal.τ) (Cert.AttnOutUpdate0ReferenceIdeal.main (F := Ideal))) ⟨m, fun _ => 0, g⟩ (fun r => (∀ c : Dev Cert.AttnOutUpdate0ReferenceIdeal.nD,
      r.2.mem ((c.tc : Thread Cert.AttnOutUpdate0ReferenceIdeal.nD Cert.AttnOutUpdate0ReferenceIdeal.τ).loc Cert.AttnOutUpdate0ReferenceIdeal.main_arg0) = m ((c.tc : Thread Cert.AttnOutUpdate0ReferenceIdeal.nD Cert.AttnOutUpdate0ReferenceIdeal.τ).loc Cert.AttnOutUpdate0ReferenceIdeal.main_arg0)
      ∧ r.2.mem ((c.tc : Thread Cert.AttnOutUpdate0ReferenceIdeal.nD Cert.AttnOutUpdate0ReferenceIdeal.τ).loc Cert.AttnOutUpdate0ReferenceIdeal.main_arg1) = m ((c.tc : Thread Cert.AttnOutUpdate0ReferenceIdeal.nD Cert.AttnOutUpdate0ReferenceIdeal.τ).loc Cert.AttnOutUpdate0ReferenceIdeal.main_arg1)
      ∧ r.2.mem ((c.tc : Thread Cert.AttnOutUpdate0ReferenceIdeal.nD Cert.AttnOutUpdate0ReferenceIdeal.τ).loc Cert.AttnOutUpdate0ReferenceIdeal.main_arg2) = m ((c.tc : Thread Cert.AttnOutUpdate0ReferenceIdeal.nD Cert.AttnOutUpdate0ReferenceIdeal.τ).loc Cert.AttnOutUpdate0ReferenceIdeal.main_arg2)
      ∧ r.2.mem ((c.tc : Thread Cert.AttnOutUpdate0ReferenceIdeal.nD Cert.AttnOutUpdate0ReferenceIdeal.τ).loc Cert.AttnOutUpdate0ReferenceIdeal.main_arg3) = m ((c.tc : Thread Cert.AttnOutUpdate0ReferenceIdeal.nD Cert.AttnOutUpdate0ReferenceIdeal.τ).loc Cert.AttnOutUpdate0ReferenceIdeal.main_arg3)
      ∧ r.2.mem ((c.tc : Thread Cert.AttnOutUpdate0ReferenceIdeal.nD Cert.AttnOutUpdate0ReferenceIdeal.τ).loc Cert.AttnOutUpdate0ReferenceIdeal.main_arg4) = m ((c.tc : Thread Cert.AttnOutUpdate0ReferenceIdeal.nD Cert.AttnOutUpdate0ReferenceIdeal.τ).loc Cert.AttnOutUpdate0ReferenceIdeal.main_arg4)
      ∧ r.2.mem ((c.tc : Thread Cert.AttnOutUpdate0ReferenceIdeal.nD Cert.AttnOutUpdate0ReferenceIdeal.τ).loc Cert.AttnOutUpdate0ReferenceIdeal.main_arg5) = m ((c.tc : Thread Cert.AttnOutUpdate0ReferenceIdeal.nD Cert.AttnOutUpdate0ReferenceIdeal.τ).loc Cert.AttnOutUpdate0ReferenceIdeal.main_arg5)
      ∧ r.2.mem ((c.tc : Thread Cert.AttnOutUpdate0ReferenceIdeal.nD Cert.AttnOutUpdate0ReferenceIdeal.τ).loc Cert.AttnOutUpdate0ReferenceIdeal.main_arg6) = m ((c.tc : Thread Cert.AttnOutUpdate0ReferenceIdeal.nD Cert.AttnOutUpdate0ReferenceIdeal.τ).loc Cert.AttnOutUpdate0ReferenceIdeal.main_arg6)
      ∧ r.2.mem ((c.tc : Thread Cert.AttnOutUpdate0ReferenceIdeal.nD Cert.AttnOutUpdate0ReferenceIdeal.τ).loc Cert.AttnOutUpdate0ReferenceIdeal.main_arg7) = m ((c.tc : Thread Cert.AttnOutUpdate0ReferenceIdeal.nD Cert.AttnOutUpdate0ReferenceIdeal.τ).loc Cert.AttnOutUpdate0ReferenceIdeal.main_arg7)
      ∧ r.2.mem ((c.tc : Thread Cert.AttnOutUpdate0ReferenceIdeal.nD Cert.AttnOutUpdate0ReferenceIdeal.τ).loc Cert.AttnOutUpdate0ReferenceIdeal.main_arg8) = m ((c.tc : Thread Cert.AttnOutUpdate0ReferenceIdeal.nD Cert.AttnOutUpdate0ReferenceIdeal.τ).loc Cert.AttnOutUpdate0ReferenceIdeal.main_arg8))
      ∧ r.2.sem = fun _ => 0)

def quiescent_AttnOutUpdate1 [hAttnOutUpdate1 : Cert.AttnOutUpdate1.Facts] : Prop :=
  ∀ (m : (ℓ : Loc Cert.AttnOutUpdate1.nD Cert.AttnOutUpdate1.τ Cert.AttnOutUpdate1.sig) → Buf (Elt Bits) ℓ) (g : Dev Cert.AttnOutUpdate1.nD → PrngReg), Pre_AttnOutUpdate1 m →
    θ_run (Cert.AttnOutUpdate1.defs (F := Bits)) (onTc (τ := Cert.AttnOutUpdate1.τ) (Cert.AttnOutUpdate1.main (F := Bits))) ⟨m, fun _ => 0, g⟩ (fun r => (∀ c : Dev Cert.AttnOutUpdate1.nD,
      r.2.mem ((c.tc : Thread Cert.AttnOutUpdate1.nD Cert.AttnOutUpdate1.τ).loc Cert.AttnOutUpdate1.main_arg0) = m ((c.tc : Thread Cert.AttnOutUpdate1.nD Cert.AttnOutUpdate1.τ).loc Cert.AttnOutUpdate1.main_arg0)
      ∧ r.2.mem ((c.tc : Thread Cert.AttnOutUpdate1.nD Cert.AttnOutUpdate1.τ).loc Cert.AttnOutUpdate1.main_arg1) = m ((c.tc : Thread Cert.AttnOutUpdate1.nD Cert.AttnOutUpdate1.τ).loc Cert.AttnOutUpdate1.main_arg1)
      ∧ r.2.mem ((c.tc : Thread Cert.AttnOutUpdate1.nD Cert.AttnOutUpdate1.τ).loc Cert.AttnOutUpdate1.main_arg2) = m ((c.tc : Thread Cert.AttnOutUpdate1.nD Cert.AttnOutUpdate1.τ).loc Cert.AttnOutUpdate1.main_arg2)
      ∧ r.2.mem ((c.tc : Thread Cert.AttnOutUpdate1.nD Cert.AttnOutUpdate1.τ).loc Cert.AttnOutUpdate1.main_arg3) = m ((c.tc : Thread Cert.AttnOutUpdate1.nD Cert.AttnOutUpdate1.τ).loc Cert.AttnOutUpdate1.main_arg3)
      ∧ r.2.mem ((c.tc : Thread Cert.AttnOutUpdate1.nD Cert.AttnOutUpdate1.τ).loc Cert.AttnOutUpdate1.main_arg4) = m ((c.tc : Thread Cert.AttnOutUpdate1.nD Cert.AttnOutUpdate1.τ).loc Cert.AttnOutUpdate1.main_arg4)
      ∧ r.2.mem ((c.tc : Thread Cert.AttnOutUpdate1.nD Cert.AttnOutUpdate1.τ).loc Cert.AttnOutUpdate1.main_arg5) = m ((c.tc : Thread Cert.AttnOutUpdate1.nD Cert.AttnOutUpdate1.τ).loc Cert.AttnOutUpdate1.main_arg5)
      ∧ r.2.mem ((c.tc : Thread Cert.AttnOutUpdate1.nD Cert.AttnOutUpdate1.τ).loc Cert.AttnOutUpdate1.main_arg6) = m ((c.tc : Thread Cert.AttnOutUpdate1.nD Cert.AttnOutUpdate1.τ).loc Cert.AttnOutUpdate1.main_arg6)
      ∧ r.2.mem ((c.tc : Thread Cert.AttnOutUpdate1.nD Cert.AttnOutUpdate1.τ).loc Cert.AttnOutUpdate1.main_arg7) = m ((c.tc : Thread Cert.AttnOutUpdate1.nD Cert.AttnOutUpdate1.τ).loc Cert.AttnOutUpdate1.main_arg7)
      ∧ r.2.mem ((c.tc : Thread Cert.AttnOutUpdate1.nD Cert.AttnOutUpdate1.τ).loc Cert.AttnOutUpdate1.main_arg8) = m ((c.tc : Thread Cert.AttnOutUpdate1.nD Cert.AttnOutUpdate1.τ).loc Cert.AttnOutUpdate1.main_arg8))
      ∧ r.2.sem = fun _ => 0)

def quiescent_AttnOutUpdate1Ideal [hAttnOutUpdate1Ideal : Cert.AttnOutUpdate1Ideal.Facts] : Prop :=
  ∀ (m : (ℓ : Loc Cert.AttnOutUpdate1Ideal.nD Cert.AttnOutUpdate1Ideal.τ Cert.AttnOutUpdate1Ideal.sig) → Buf (Elt Ideal) ℓ) (g : Dev Cert.AttnOutUpdate1Ideal.nD → PrngReg), Pre_AttnOutUpdate1Ideal m →
    θ_run (Cert.AttnOutUpdate1Ideal.defs (F := Ideal)) (onTc (τ := Cert.AttnOutUpdate1Ideal.τ) (Cert.AttnOutUpdate1Ideal.main (F := Ideal))) ⟨m, fun _ => 0, g⟩ (fun r => (∀ c : Dev Cert.AttnOutUpdate1Ideal.nD,
      r.2.mem ((c.tc : Thread Cert.AttnOutUpdate1Ideal.nD Cert.AttnOutUpdate1Ideal.τ).loc Cert.AttnOutUpdate1Ideal.main_arg0) = m ((c.tc : Thread Cert.AttnOutUpdate1Ideal.nD Cert.AttnOutUpdate1Ideal.τ).loc Cert.AttnOutUpdate1Ideal.main_arg0)
      ∧ r.2.mem ((c.tc : Thread Cert.AttnOutUpdate1Ideal.nD Cert.AttnOutUpdate1Ideal.τ).loc Cert.AttnOutUpdate1Ideal.main_arg1) = m ((c.tc : Thread Cert.AttnOutUpdate1Ideal.nD Cert.AttnOutUpdate1Ideal.τ).loc Cert.AttnOutUpdate1Ideal.main_arg1)
      ∧ r.2.mem ((c.tc : Thread Cert.AttnOutUpdate1Ideal.nD Cert.AttnOutUpdate1Ideal.τ).loc Cert.AttnOutUpdate1Ideal.main_arg2) = m ((c.tc : Thread Cert.AttnOutUpdate1Ideal.nD Cert.AttnOutUpdate1Ideal.τ).loc Cert.AttnOutUpdate1Ideal.main_arg2)
      ∧ r.2.mem ((c.tc : Thread Cert.AttnOutUpdate1Ideal.nD Cert.AttnOutUpdate1Ideal.τ).loc Cert.AttnOutUpdate1Ideal.main_arg3) = m ((c.tc : Thread Cert.AttnOutUpdate1Ideal.nD Cert.AttnOutUpdate1Ideal.τ).loc Cert.AttnOutUpdate1Ideal.main_arg3)
      ∧ r.2.mem ((c.tc : Thread Cert.AttnOutUpdate1Ideal.nD Cert.AttnOutUpdate1Ideal.τ).loc Cert.AttnOutUpdate1Ideal.main_arg4) = m ((c.tc : Thread Cert.AttnOutUpdate1Ideal.nD Cert.AttnOutUpdate1Ideal.τ).loc Cert.AttnOutUpdate1Ideal.main_arg4)
      ∧ r.2.mem ((c.tc : Thread Cert.AttnOutUpdate1Ideal.nD Cert.AttnOutUpdate1Ideal.τ).loc Cert.AttnOutUpdate1Ideal.main_arg5) = m ((c.tc : Thread Cert.AttnOutUpdate1Ideal.nD Cert.AttnOutUpdate1Ideal.τ).loc Cert.AttnOutUpdate1Ideal.main_arg5)
      ∧ r.2.mem ((c.tc : Thread Cert.AttnOutUpdate1Ideal.nD Cert.AttnOutUpdate1Ideal.τ).loc Cert.AttnOutUpdate1Ideal.main_arg6) = m ((c.tc : Thread Cert.AttnOutUpdate1Ideal.nD Cert.AttnOutUpdate1Ideal.τ).loc Cert.AttnOutUpdate1Ideal.main_arg6)
      ∧ r.2.mem ((c.tc : Thread Cert.AttnOutUpdate1Ideal.nD Cert.AttnOutUpdate1Ideal.τ).loc Cert.AttnOutUpdate1Ideal.main_arg7) = m ((c.tc : Thread Cert.AttnOutUpdate1Ideal.nD Cert.AttnOutUpdate1Ideal.τ).loc Cert.AttnOutUpdate1Ideal.main_arg7)
      ∧ r.2.mem ((c.tc : Thread Cert.AttnOutUpdate1Ideal.nD Cert.AttnOutUpdate1Ideal.τ).loc Cert.AttnOutUpdate1Ideal.main_arg8) = m ((c.tc : Thread Cert.AttnOutUpdate1Ideal.nD Cert.AttnOutUpdate1Ideal.τ).loc Cert.AttnOutUpdate1Ideal.main_arg8))
      ∧ r.2.sem = fun _ => 0)

def quiescent_AttnOutUpdate1ReferenceIdeal [hAttnOutUpdate1ReferenceIdeal : Cert.AttnOutUpdate1ReferenceIdeal.Facts] : Prop :=
  ∀ (m : (ℓ : Loc Cert.AttnOutUpdate1ReferenceIdeal.nD Cert.AttnOutUpdate1ReferenceIdeal.τ Cert.AttnOutUpdate1ReferenceIdeal.sig) → Buf (Elt Ideal) ℓ) (g : Dev Cert.AttnOutUpdate1ReferenceIdeal.nD → PrngReg), Pre_AttnOutUpdate1ReferenceIdeal m →
    θ_run (Cert.AttnOutUpdate1ReferenceIdeal.defs (F := Ideal)) (onTc (τ := Cert.AttnOutUpdate1ReferenceIdeal.τ) (Cert.AttnOutUpdate1ReferenceIdeal.main (F := Ideal))) ⟨m, fun _ => 0, g⟩ (fun r => (∀ c : Dev Cert.AttnOutUpdate1ReferenceIdeal.nD,
      r.2.mem ((c.tc : Thread Cert.AttnOutUpdate1ReferenceIdeal.nD Cert.AttnOutUpdate1ReferenceIdeal.τ).loc Cert.AttnOutUpdate1ReferenceIdeal.main_arg0) = m ((c.tc : Thread Cert.AttnOutUpdate1ReferenceIdeal.nD Cert.AttnOutUpdate1ReferenceIdeal.τ).loc Cert.AttnOutUpdate1ReferenceIdeal.main_arg0)
      ∧ r.2.mem ((c.tc : Thread Cert.AttnOutUpdate1ReferenceIdeal.nD Cert.AttnOutUpdate1ReferenceIdeal.τ).loc Cert.AttnOutUpdate1ReferenceIdeal.main_arg1) = m ((c.tc : Thread Cert.AttnOutUpdate1ReferenceIdeal.nD Cert.AttnOutUpdate1ReferenceIdeal.τ).loc Cert.AttnOutUpdate1ReferenceIdeal.main_arg1)
      ∧ r.2.mem ((c.tc : Thread Cert.AttnOutUpdate1ReferenceIdeal.nD Cert.AttnOutUpdate1ReferenceIdeal.τ).loc Cert.AttnOutUpdate1ReferenceIdeal.main_arg2) = m ((c.tc : Thread Cert.AttnOutUpdate1ReferenceIdeal.nD Cert.AttnOutUpdate1ReferenceIdeal.τ).loc Cert.AttnOutUpdate1ReferenceIdeal.main_arg2)
      ∧ r.2.mem ((c.tc : Thread Cert.AttnOutUpdate1ReferenceIdeal.nD Cert.AttnOutUpdate1ReferenceIdeal.τ).loc Cert.AttnOutUpdate1ReferenceIdeal.main_arg3) = m ((c.tc : Thread Cert.AttnOutUpdate1ReferenceIdeal.nD Cert.AttnOutUpdate1ReferenceIdeal.τ).loc Cert.AttnOutUpdate1ReferenceIdeal.main_arg3)
      ∧ r.2.mem ((c.tc : Thread Cert.AttnOutUpdate1ReferenceIdeal.nD Cert.AttnOutUpdate1ReferenceIdeal.τ).loc Cert.AttnOutUpdate1ReferenceIdeal.main_arg4) = m ((c.tc : Thread Cert.AttnOutUpdate1ReferenceIdeal.nD Cert.AttnOutUpdate1ReferenceIdeal.τ).loc Cert.AttnOutUpdate1ReferenceIdeal.main_arg4)
      ∧ r.2.mem ((c.tc : Thread Cert.AttnOutUpdate1ReferenceIdeal.nD Cert.AttnOutUpdate1ReferenceIdeal.τ).loc Cert.AttnOutUpdate1ReferenceIdeal.main_arg5) = m ((c.tc : Thread Cert.AttnOutUpdate1ReferenceIdeal.nD Cert.AttnOutUpdate1ReferenceIdeal.τ).loc Cert.AttnOutUpdate1ReferenceIdeal.main_arg5)
      ∧ r.2.mem ((c.tc : Thread Cert.AttnOutUpdate1ReferenceIdeal.nD Cert.AttnOutUpdate1ReferenceIdeal.τ).loc Cert.AttnOutUpdate1ReferenceIdeal.main_arg6) = m ((c.tc : Thread Cert.AttnOutUpdate1ReferenceIdeal.nD Cert.AttnOutUpdate1ReferenceIdeal.τ).loc Cert.AttnOutUpdate1ReferenceIdeal.main_arg6)
      ∧ r.2.mem ((c.tc : Thread Cert.AttnOutUpdate1ReferenceIdeal.nD Cert.AttnOutUpdate1ReferenceIdeal.τ).loc Cert.AttnOutUpdate1ReferenceIdeal.main_arg7) = m ((c.tc : Thread Cert.AttnOutUpdate1ReferenceIdeal.nD Cert.AttnOutUpdate1ReferenceIdeal.τ).loc Cert.AttnOutUpdate1ReferenceIdeal.main_arg7)
      ∧ r.2.mem ((c.tc : Thread Cert.AttnOutUpdate1ReferenceIdeal.nD Cert.AttnOutUpdate1ReferenceIdeal.τ).loc Cert.AttnOutUpdate1ReferenceIdeal.main_arg8) = m ((c.tc : Thread Cert.AttnOutUpdate1ReferenceIdeal.nD Cert.AttnOutUpdate1ReferenceIdeal.τ).loc Cert.AttnOutUpdate1ReferenceIdeal.main_arg8))
      ∧ r.2.sem = fun _ => 0)

def quiescent_GmlpInUpdate0 [hGmlpInUpdate0 : Cert.GmlpInUpdate0.Facts] : Prop :=
  ∀ (m : (ℓ : Loc Cert.GmlpInUpdate0.nD Cert.GmlpInUpdate0.τ Cert.GmlpInUpdate0.sig) → Buf (Elt Bits) ℓ) (g : Dev Cert.GmlpInUpdate0.nD → PrngReg), Pre_GmlpInUpdate0 m →
    θ_run (Cert.GmlpInUpdate0.defs (F := Bits)) (onTc (τ := Cert.GmlpInUpdate0.τ) (Cert.GmlpInUpdate0.main (F := Bits))) ⟨m, fun _ => 0, g⟩ (fun r => (∀ c : Dev Cert.GmlpInUpdate0.nD,
      r.2.mem ((c.tc : Thread Cert.GmlpInUpdate0.nD Cert.GmlpInUpdate0.τ).loc Cert.GmlpInUpdate0.main_arg0) = m ((c.tc : Thread Cert.GmlpInUpdate0.nD Cert.GmlpInUpdate0.τ).loc Cert.GmlpInUpdate0.main_arg0)
      ∧ r.2.mem ((c.tc : Thread Cert.GmlpInUpdate0.nD Cert.GmlpInUpdate0.τ).loc Cert.GmlpInUpdate0.main_arg1) = m ((c.tc : Thread Cert.GmlpInUpdate0.nD Cert.GmlpInUpdate0.τ).loc Cert.GmlpInUpdate0.main_arg1)
      ∧ r.2.mem ((c.tc : Thread Cert.GmlpInUpdate0.nD Cert.GmlpInUpdate0.τ).loc Cert.GmlpInUpdate0.main_arg2) = m ((c.tc : Thread Cert.GmlpInUpdate0.nD Cert.GmlpInUpdate0.τ).loc Cert.GmlpInUpdate0.main_arg2)
      ∧ r.2.mem ((c.tc : Thread Cert.GmlpInUpdate0.nD Cert.GmlpInUpdate0.τ).loc Cert.GmlpInUpdate0.main_arg3) = m ((c.tc : Thread Cert.GmlpInUpdate0.nD Cert.GmlpInUpdate0.τ).loc Cert.GmlpInUpdate0.main_arg3)
      ∧ r.2.mem ((c.tc : Thread Cert.GmlpInUpdate0.nD Cert.GmlpInUpdate0.τ).loc Cert.GmlpInUpdate0.main_arg4) = m ((c.tc : Thread Cert.GmlpInUpdate0.nD Cert.GmlpInUpdate0.τ).loc Cert.GmlpInUpdate0.main_arg4)
      ∧ r.2.mem ((c.tc : Thread Cert.GmlpInUpdate0.nD Cert.GmlpInUpdate0.τ).loc Cert.GmlpInUpdate0.main_arg5) = m ((c.tc : Thread Cert.GmlpInUpdate0.nD Cert.GmlpInUpdate0.τ).loc Cert.GmlpInUpdate0.main_arg5)
      ∧ r.2.mem ((c.tc : Thread Cert.GmlpInUpdate0.nD Cert.GmlpInUpdate0.τ).loc Cert.GmlpInUpdate0.main_arg6) = m ((c.tc : Thread Cert.GmlpInUpdate0.nD Cert.GmlpInUpdate0.τ).loc Cert.GmlpInUpdate0.main_arg6)
      ∧ r.2.mem ((c.tc : Thread Cert.GmlpInUpdate0.nD Cert.GmlpInUpdate0.τ).loc Cert.GmlpInUpdate0.main_arg7) = m ((c.tc : Thread Cert.GmlpInUpdate0.nD Cert.GmlpInUpdate0.τ).loc Cert.GmlpInUpdate0.main_arg7)
      ∧ r.2.mem ((c.tc : Thread Cert.GmlpInUpdate0.nD Cert.GmlpInUpdate0.τ).loc Cert.GmlpInUpdate0.main_arg8) = m ((c.tc : Thread Cert.GmlpInUpdate0.nD Cert.GmlpInUpdate0.τ).loc Cert.GmlpInUpdate0.main_arg8))
      ∧ r.2.sem = fun _ => 0)

def quiescent_GmlpInUpdate0Ideal [hGmlpInUpdate0Ideal : Cert.GmlpInUpdate0Ideal.Facts] : Prop :=
  ∀ (m : (ℓ : Loc Cert.GmlpInUpdate0Ideal.nD Cert.GmlpInUpdate0Ideal.τ Cert.GmlpInUpdate0Ideal.sig) → Buf (Elt Ideal) ℓ) (g : Dev Cert.GmlpInUpdate0Ideal.nD → PrngReg), Pre_GmlpInUpdate0Ideal m →
    θ_run (Cert.GmlpInUpdate0Ideal.defs (F := Ideal)) (onTc (τ := Cert.GmlpInUpdate0Ideal.τ) (Cert.GmlpInUpdate0Ideal.main (F := Ideal))) ⟨m, fun _ => 0, g⟩ (fun r => (∀ c : Dev Cert.GmlpInUpdate0Ideal.nD,
      r.2.mem ((c.tc : Thread Cert.GmlpInUpdate0Ideal.nD Cert.GmlpInUpdate0Ideal.τ).loc Cert.GmlpInUpdate0Ideal.main_arg0) = m ((c.tc : Thread Cert.GmlpInUpdate0Ideal.nD Cert.GmlpInUpdate0Ideal.τ).loc Cert.GmlpInUpdate0Ideal.main_arg0)
      ∧ r.2.mem ((c.tc : Thread Cert.GmlpInUpdate0Ideal.nD Cert.GmlpInUpdate0Ideal.τ).loc Cert.GmlpInUpdate0Ideal.main_arg1) = m ((c.tc : Thread Cert.GmlpInUpdate0Ideal.nD Cert.GmlpInUpdate0Ideal.τ).loc Cert.GmlpInUpdate0Ideal.main_arg1)
      ∧ r.2.mem ((c.tc : Thread Cert.GmlpInUpdate0Ideal.nD Cert.GmlpInUpdate0Ideal.τ).loc Cert.GmlpInUpdate0Ideal.main_arg2) = m ((c.tc : Thread Cert.GmlpInUpdate0Ideal.nD Cert.GmlpInUpdate0Ideal.τ).loc Cert.GmlpInUpdate0Ideal.main_arg2)
      ∧ r.2.mem ((c.tc : Thread Cert.GmlpInUpdate0Ideal.nD Cert.GmlpInUpdate0Ideal.τ).loc Cert.GmlpInUpdate0Ideal.main_arg3) = m ((c.tc : Thread Cert.GmlpInUpdate0Ideal.nD Cert.GmlpInUpdate0Ideal.τ).loc Cert.GmlpInUpdate0Ideal.main_arg3)
      ∧ r.2.mem ((c.tc : Thread Cert.GmlpInUpdate0Ideal.nD Cert.GmlpInUpdate0Ideal.τ).loc Cert.GmlpInUpdate0Ideal.main_arg4) = m ((c.tc : Thread Cert.GmlpInUpdate0Ideal.nD Cert.GmlpInUpdate0Ideal.τ).loc Cert.GmlpInUpdate0Ideal.main_arg4)
      ∧ r.2.mem ((c.tc : Thread Cert.GmlpInUpdate0Ideal.nD Cert.GmlpInUpdate0Ideal.τ).loc Cert.GmlpInUpdate0Ideal.main_arg5) = m ((c.tc : Thread Cert.GmlpInUpdate0Ideal.nD Cert.GmlpInUpdate0Ideal.τ).loc Cert.GmlpInUpdate0Ideal.main_arg5)
      ∧ r.2.mem ((c.tc : Thread Cert.GmlpInUpdate0Ideal.nD Cert.GmlpInUpdate0Ideal.τ).loc Cert.GmlpInUpdate0Ideal.main_arg6) = m ((c.tc : Thread Cert.GmlpInUpdate0Ideal.nD Cert.GmlpInUpdate0Ideal.τ).loc Cert.GmlpInUpdate0Ideal.main_arg6)
      ∧ r.2.mem ((c.tc : Thread Cert.GmlpInUpdate0Ideal.nD Cert.GmlpInUpdate0Ideal.τ).loc Cert.GmlpInUpdate0Ideal.main_arg7) = m ((c.tc : Thread Cert.GmlpInUpdate0Ideal.nD Cert.GmlpInUpdate0Ideal.τ).loc Cert.GmlpInUpdate0Ideal.main_arg7)
      ∧ r.2.mem ((c.tc : Thread Cert.GmlpInUpdate0Ideal.nD Cert.GmlpInUpdate0Ideal.τ).loc Cert.GmlpInUpdate0Ideal.main_arg8) = m ((c.tc : Thread Cert.GmlpInUpdate0Ideal.nD Cert.GmlpInUpdate0Ideal.τ).loc Cert.GmlpInUpdate0Ideal.main_arg8))
      ∧ r.2.sem = fun _ => 0)

def quiescent_GmlpInUpdate0ReferenceIdeal [hGmlpInUpdate0ReferenceIdeal : Cert.GmlpInUpdate0ReferenceIdeal.Facts] : Prop :=
  ∀ (m : (ℓ : Loc Cert.GmlpInUpdate0ReferenceIdeal.nD Cert.GmlpInUpdate0ReferenceIdeal.τ Cert.GmlpInUpdate0ReferenceIdeal.sig) → Buf (Elt Ideal) ℓ) (g : Dev Cert.GmlpInUpdate0ReferenceIdeal.nD → PrngReg), Pre_GmlpInUpdate0ReferenceIdeal m →
    θ_run (Cert.GmlpInUpdate0ReferenceIdeal.defs (F := Ideal)) (onTc (τ := Cert.GmlpInUpdate0ReferenceIdeal.τ) (Cert.GmlpInUpdate0ReferenceIdeal.main (F := Ideal))) ⟨m, fun _ => 0, g⟩ (fun r => (∀ c : Dev Cert.GmlpInUpdate0ReferenceIdeal.nD,
      r.2.mem ((c.tc : Thread Cert.GmlpInUpdate0ReferenceIdeal.nD Cert.GmlpInUpdate0ReferenceIdeal.τ).loc Cert.GmlpInUpdate0ReferenceIdeal.main_arg0) = m ((c.tc : Thread Cert.GmlpInUpdate0ReferenceIdeal.nD Cert.GmlpInUpdate0ReferenceIdeal.τ).loc Cert.GmlpInUpdate0ReferenceIdeal.main_arg0)
      ∧ r.2.mem ((c.tc : Thread Cert.GmlpInUpdate0ReferenceIdeal.nD Cert.GmlpInUpdate0ReferenceIdeal.τ).loc Cert.GmlpInUpdate0ReferenceIdeal.main_arg1) = m ((c.tc : Thread Cert.GmlpInUpdate0ReferenceIdeal.nD Cert.GmlpInUpdate0ReferenceIdeal.τ).loc Cert.GmlpInUpdate0ReferenceIdeal.main_arg1)
      ∧ r.2.mem ((c.tc : Thread Cert.GmlpInUpdate0ReferenceIdeal.nD Cert.GmlpInUpdate0ReferenceIdeal.τ).loc Cert.GmlpInUpdate0ReferenceIdeal.main_arg2) = m ((c.tc : Thread Cert.GmlpInUpdate0ReferenceIdeal.nD Cert.GmlpInUpdate0ReferenceIdeal.τ).loc Cert.GmlpInUpdate0ReferenceIdeal.main_arg2)
      ∧ r.2.mem ((c.tc : Thread Cert.GmlpInUpdate0ReferenceIdeal.nD Cert.GmlpInUpdate0ReferenceIdeal.τ).loc Cert.GmlpInUpdate0ReferenceIdeal.main_arg3) = m ((c.tc : Thread Cert.GmlpInUpdate0ReferenceIdeal.nD Cert.GmlpInUpdate0ReferenceIdeal.τ).loc Cert.GmlpInUpdate0ReferenceIdeal.main_arg3)
      ∧ r.2.mem ((c.tc : Thread Cert.GmlpInUpdate0ReferenceIdeal.nD Cert.GmlpInUpdate0ReferenceIdeal.τ).loc Cert.GmlpInUpdate0ReferenceIdeal.main_arg4) = m ((c.tc : Thread Cert.GmlpInUpdate0ReferenceIdeal.nD Cert.GmlpInUpdate0ReferenceIdeal.τ).loc Cert.GmlpInUpdate0ReferenceIdeal.main_arg4)
      ∧ r.2.mem ((c.tc : Thread Cert.GmlpInUpdate0ReferenceIdeal.nD Cert.GmlpInUpdate0ReferenceIdeal.τ).loc Cert.GmlpInUpdate0ReferenceIdeal.main_arg5) = m ((c.tc : Thread Cert.GmlpInUpdate0ReferenceIdeal.nD Cert.GmlpInUpdate0ReferenceIdeal.τ).loc Cert.GmlpInUpdate0ReferenceIdeal.main_arg5)
      ∧ r.2.mem ((c.tc : Thread Cert.GmlpInUpdate0ReferenceIdeal.nD Cert.GmlpInUpdate0ReferenceIdeal.τ).loc Cert.GmlpInUpdate0ReferenceIdeal.main_arg6) = m ((c.tc : Thread Cert.GmlpInUpdate0ReferenceIdeal.nD Cert.GmlpInUpdate0ReferenceIdeal.τ).loc Cert.GmlpInUpdate0ReferenceIdeal.main_arg6)
      ∧ r.2.mem ((c.tc : Thread Cert.GmlpInUpdate0ReferenceIdeal.nD Cert.GmlpInUpdate0ReferenceIdeal.τ).loc Cert.GmlpInUpdate0ReferenceIdeal.main_arg7) = m ((c.tc : Thread Cert.GmlpInUpdate0ReferenceIdeal.nD Cert.GmlpInUpdate0ReferenceIdeal.τ).loc Cert.GmlpInUpdate0ReferenceIdeal.main_arg7)
      ∧ r.2.mem ((c.tc : Thread Cert.GmlpInUpdate0ReferenceIdeal.nD Cert.GmlpInUpdate0ReferenceIdeal.τ).loc Cert.GmlpInUpdate0ReferenceIdeal.main_arg8) = m ((c.tc : Thread Cert.GmlpInUpdate0ReferenceIdeal.nD Cert.GmlpInUpdate0ReferenceIdeal.τ).loc Cert.GmlpInUpdate0ReferenceIdeal.main_arg8))
      ∧ r.2.sem = fun _ => 0)

def quiescent_GmlpInUpdate1 [hGmlpInUpdate1 : Cert.GmlpInUpdate1.Facts] : Prop :=
  ∀ (m : (ℓ : Loc Cert.GmlpInUpdate1.nD Cert.GmlpInUpdate1.τ Cert.GmlpInUpdate1.sig) → Buf (Elt Bits) ℓ) (g : Dev Cert.GmlpInUpdate1.nD → PrngReg), Pre_GmlpInUpdate1 m →
    θ_run (Cert.GmlpInUpdate1.defs (F := Bits)) (onTc (τ := Cert.GmlpInUpdate1.τ) (Cert.GmlpInUpdate1.main (F := Bits))) ⟨m, fun _ => 0, g⟩ (fun r => (∀ c : Dev Cert.GmlpInUpdate1.nD,
      r.2.mem ((c.tc : Thread Cert.GmlpInUpdate1.nD Cert.GmlpInUpdate1.τ).loc Cert.GmlpInUpdate1.main_arg0) = m ((c.tc : Thread Cert.GmlpInUpdate1.nD Cert.GmlpInUpdate1.τ).loc Cert.GmlpInUpdate1.main_arg0)
      ∧ r.2.mem ((c.tc : Thread Cert.GmlpInUpdate1.nD Cert.GmlpInUpdate1.τ).loc Cert.GmlpInUpdate1.main_arg1) = m ((c.tc : Thread Cert.GmlpInUpdate1.nD Cert.GmlpInUpdate1.τ).loc Cert.GmlpInUpdate1.main_arg1)
      ∧ r.2.mem ((c.tc : Thread Cert.GmlpInUpdate1.nD Cert.GmlpInUpdate1.τ).loc Cert.GmlpInUpdate1.main_arg2) = m ((c.tc : Thread Cert.GmlpInUpdate1.nD Cert.GmlpInUpdate1.τ).loc Cert.GmlpInUpdate1.main_arg2)
      ∧ r.2.mem ((c.tc : Thread Cert.GmlpInUpdate1.nD Cert.GmlpInUpdate1.τ).loc Cert.GmlpInUpdate1.main_arg3) = m ((c.tc : Thread Cert.GmlpInUpdate1.nD Cert.GmlpInUpdate1.τ).loc Cert.GmlpInUpdate1.main_arg3)
      ∧ r.2.mem ((c.tc : Thread Cert.GmlpInUpdate1.nD Cert.GmlpInUpdate1.τ).loc Cert.GmlpInUpdate1.main_arg4) = m ((c.tc : Thread Cert.GmlpInUpdate1.nD Cert.GmlpInUpdate1.τ).loc Cert.GmlpInUpdate1.main_arg4)
      ∧ r.2.mem ((c.tc : Thread Cert.GmlpInUpdate1.nD Cert.GmlpInUpdate1.τ).loc Cert.GmlpInUpdate1.main_arg5) = m ((c.tc : Thread Cert.GmlpInUpdate1.nD Cert.GmlpInUpdate1.τ).loc Cert.GmlpInUpdate1.main_arg5)
      ∧ r.2.mem ((c.tc : Thread Cert.GmlpInUpdate1.nD Cert.GmlpInUpdate1.τ).loc Cert.GmlpInUpdate1.main_arg6) = m ((c.tc : Thread Cert.GmlpInUpdate1.nD Cert.GmlpInUpdate1.τ).loc Cert.GmlpInUpdate1.main_arg6)
      ∧ r.2.mem ((c.tc : Thread Cert.GmlpInUpdate1.nD Cert.GmlpInUpdate1.τ).loc Cert.GmlpInUpdate1.main_arg7) = m ((c.tc : Thread Cert.GmlpInUpdate1.nD Cert.GmlpInUpdate1.τ).loc Cert.GmlpInUpdate1.main_arg7)
      ∧ r.2.mem ((c.tc : Thread Cert.GmlpInUpdate1.nD Cert.GmlpInUpdate1.τ).loc Cert.GmlpInUpdate1.main_arg8) = m ((c.tc : Thread Cert.GmlpInUpdate1.nD Cert.GmlpInUpdate1.τ).loc Cert.GmlpInUpdate1.main_arg8))
      ∧ r.2.sem = fun _ => 0)

def quiescent_GmlpInUpdate1Ideal [hGmlpInUpdate1Ideal : Cert.GmlpInUpdate1Ideal.Facts] : Prop :=
  ∀ (m : (ℓ : Loc Cert.GmlpInUpdate1Ideal.nD Cert.GmlpInUpdate1Ideal.τ Cert.GmlpInUpdate1Ideal.sig) → Buf (Elt Ideal) ℓ) (g : Dev Cert.GmlpInUpdate1Ideal.nD → PrngReg), Pre_GmlpInUpdate1Ideal m →
    θ_run (Cert.GmlpInUpdate1Ideal.defs (F := Ideal)) (onTc (τ := Cert.GmlpInUpdate1Ideal.τ) (Cert.GmlpInUpdate1Ideal.main (F := Ideal))) ⟨m, fun _ => 0, g⟩ (fun r => (∀ c : Dev Cert.GmlpInUpdate1Ideal.nD,
      r.2.mem ((c.tc : Thread Cert.GmlpInUpdate1Ideal.nD Cert.GmlpInUpdate1Ideal.τ).loc Cert.GmlpInUpdate1Ideal.main_arg0) = m ((c.tc : Thread Cert.GmlpInUpdate1Ideal.nD Cert.GmlpInUpdate1Ideal.τ).loc Cert.GmlpInUpdate1Ideal.main_arg0)
      ∧ r.2.mem ((c.tc : Thread Cert.GmlpInUpdate1Ideal.nD Cert.GmlpInUpdate1Ideal.τ).loc Cert.GmlpInUpdate1Ideal.main_arg1) = m ((c.tc : Thread Cert.GmlpInUpdate1Ideal.nD Cert.GmlpInUpdate1Ideal.τ).loc Cert.GmlpInUpdate1Ideal.main_arg1)
      ∧ r.2.mem ((c.tc : Thread Cert.GmlpInUpdate1Ideal.nD Cert.GmlpInUpdate1Ideal.τ).loc Cert.GmlpInUpdate1Ideal.main_arg2) = m ((c.tc : Thread Cert.GmlpInUpdate1Ideal.nD Cert.GmlpInUpdate1Ideal.τ).loc Cert.GmlpInUpdate1Ideal.main_arg2)
      ∧ r.2.mem ((c.tc : Thread Cert.GmlpInUpdate1Ideal.nD Cert.GmlpInUpdate1Ideal.τ).loc Cert.GmlpInUpdate1Ideal.main_arg3) = m ((c.tc : Thread Cert.GmlpInUpdate1Ideal.nD Cert.GmlpInUpdate1Ideal.τ).loc Cert.GmlpInUpdate1Ideal.main_arg3)
      ∧ r.2.mem ((c.tc : Thread Cert.GmlpInUpdate1Ideal.nD Cert.GmlpInUpdate1Ideal.τ).loc Cert.GmlpInUpdate1Ideal.main_arg4) = m ((c.tc : Thread Cert.GmlpInUpdate1Ideal.nD Cert.GmlpInUpdate1Ideal.τ).loc Cert.GmlpInUpdate1Ideal.main_arg4)
      ∧ r.2.mem ((c.tc : Thread Cert.GmlpInUpdate1Ideal.nD Cert.GmlpInUpdate1Ideal.τ).loc Cert.GmlpInUpdate1Ideal.main_arg5) = m ((c.tc : Thread Cert.GmlpInUpdate1Ideal.nD Cert.GmlpInUpdate1Ideal.τ).loc Cert.GmlpInUpdate1Ideal.main_arg5)
      ∧ r.2.mem ((c.tc : Thread Cert.GmlpInUpdate1Ideal.nD Cert.GmlpInUpdate1Ideal.τ).loc Cert.GmlpInUpdate1Ideal.main_arg6) = m ((c.tc : Thread Cert.GmlpInUpdate1Ideal.nD Cert.GmlpInUpdate1Ideal.τ).loc Cert.GmlpInUpdate1Ideal.main_arg6)
      ∧ r.2.mem ((c.tc : Thread Cert.GmlpInUpdate1Ideal.nD Cert.GmlpInUpdate1Ideal.τ).loc Cert.GmlpInUpdate1Ideal.main_arg7) = m ((c.tc : Thread Cert.GmlpInUpdate1Ideal.nD Cert.GmlpInUpdate1Ideal.τ).loc Cert.GmlpInUpdate1Ideal.main_arg7)
      ∧ r.2.mem ((c.tc : Thread Cert.GmlpInUpdate1Ideal.nD Cert.GmlpInUpdate1Ideal.τ).loc Cert.GmlpInUpdate1Ideal.main_arg8) = m ((c.tc : Thread Cert.GmlpInUpdate1Ideal.nD Cert.GmlpInUpdate1Ideal.τ).loc Cert.GmlpInUpdate1Ideal.main_arg8))
      ∧ r.2.sem = fun _ => 0)

def quiescent_GmlpInUpdate1ReferenceIdeal [hGmlpInUpdate1ReferenceIdeal : Cert.GmlpInUpdate1ReferenceIdeal.Facts] : Prop :=
  ∀ (m : (ℓ : Loc Cert.GmlpInUpdate1ReferenceIdeal.nD Cert.GmlpInUpdate1ReferenceIdeal.τ Cert.GmlpInUpdate1ReferenceIdeal.sig) → Buf (Elt Ideal) ℓ) (g : Dev Cert.GmlpInUpdate1ReferenceIdeal.nD → PrngReg), Pre_GmlpInUpdate1ReferenceIdeal m →
    θ_run (Cert.GmlpInUpdate1ReferenceIdeal.defs (F := Ideal)) (onTc (τ := Cert.GmlpInUpdate1ReferenceIdeal.τ) (Cert.GmlpInUpdate1ReferenceIdeal.main (F := Ideal))) ⟨m, fun _ => 0, g⟩ (fun r => (∀ c : Dev Cert.GmlpInUpdate1ReferenceIdeal.nD,
      r.2.mem ((c.tc : Thread Cert.GmlpInUpdate1ReferenceIdeal.nD Cert.GmlpInUpdate1ReferenceIdeal.τ).loc Cert.GmlpInUpdate1ReferenceIdeal.main_arg0) = m ((c.tc : Thread Cert.GmlpInUpdate1ReferenceIdeal.nD Cert.GmlpInUpdate1ReferenceIdeal.τ).loc Cert.GmlpInUpdate1ReferenceIdeal.main_arg0)
      ∧ r.2.mem ((c.tc : Thread Cert.GmlpInUpdate1ReferenceIdeal.nD Cert.GmlpInUpdate1ReferenceIdeal.τ).loc Cert.GmlpInUpdate1ReferenceIdeal.main_arg1) = m ((c.tc : Thread Cert.GmlpInUpdate1ReferenceIdeal.nD Cert.GmlpInUpdate1ReferenceIdeal.τ).loc Cert.GmlpInUpdate1ReferenceIdeal.main_arg1)
      ∧ r.2.mem ((c.tc : Thread Cert.GmlpInUpdate1ReferenceIdeal.nD Cert.GmlpInUpdate1ReferenceIdeal.τ).loc Cert.GmlpInUpdate1ReferenceIdeal.main_arg2) = m ((c.tc : Thread Cert.GmlpInUpdate1ReferenceIdeal.nD Cert.GmlpInUpdate1ReferenceIdeal.τ).loc Cert.GmlpInUpdate1ReferenceIdeal.main_arg2)
      ∧ r.2.mem ((c.tc : Thread Cert.GmlpInUpdate1ReferenceIdeal.nD Cert.GmlpInUpdate1ReferenceIdeal.τ).loc Cert.GmlpInUpdate1ReferenceIdeal.main_arg3) = m ((c.tc : Thread Cert.GmlpInUpdate1ReferenceIdeal.nD Cert.GmlpInUpdate1ReferenceIdeal.τ).loc Cert.GmlpInUpdate1ReferenceIdeal.main_arg3)
      ∧ r.2.mem ((c.tc : Thread Cert.GmlpInUpdate1ReferenceIdeal.nD Cert.GmlpInUpdate1ReferenceIdeal.τ).loc Cert.GmlpInUpdate1ReferenceIdeal.main_arg4) = m ((c.tc : Thread Cert.GmlpInUpdate1ReferenceIdeal.nD Cert.GmlpInUpdate1ReferenceIdeal.τ).loc Cert.GmlpInUpdate1ReferenceIdeal.main_arg4)
      ∧ r.2.mem ((c.tc : Thread Cert.GmlpInUpdate1ReferenceIdeal.nD Cert.GmlpInUpdate1ReferenceIdeal.τ).loc Cert.GmlpInUpdate1ReferenceIdeal.main_arg5) = m ((c.tc : Thread Cert.GmlpInUpdate1ReferenceIdeal.nD Cert.GmlpInUpdate1ReferenceIdeal.τ).loc Cert.GmlpInUpdate1ReferenceIdeal.main_arg5)
      ∧ r.2.mem ((c.tc : Thread Cert.GmlpInUpdate1ReferenceIdeal.nD Cert.GmlpInUpdate1ReferenceIdeal.τ).loc Cert.GmlpInUpdate1ReferenceIdeal.main_arg6) = m ((c.tc : Thread Cert.GmlpInUpdate1ReferenceIdeal.nD Cert.GmlpInUpdate1ReferenceIdeal.τ).loc Cert.GmlpInUpdate1ReferenceIdeal.main_arg6)
      ∧ r.2.mem ((c.tc : Thread Cert.GmlpInUpdate1ReferenceIdeal.nD Cert.GmlpInUpdate1ReferenceIdeal.τ).loc Cert.GmlpInUpdate1ReferenceIdeal.main_arg7) = m ((c.tc : Thread Cert.GmlpInUpdate1ReferenceIdeal.nD Cert.GmlpInUpdate1ReferenceIdeal.τ).loc Cert.GmlpInUpdate1ReferenceIdeal.main_arg7)
      ∧ r.2.mem ((c.tc : Thread Cert.GmlpInUpdate1ReferenceIdeal.nD Cert.GmlpInUpdate1ReferenceIdeal.τ).loc Cert.GmlpInUpdate1ReferenceIdeal.main_arg8) = m ((c.tc : Thread Cert.GmlpInUpdate1ReferenceIdeal.nD Cert.GmlpInUpdate1ReferenceIdeal.τ).loc Cert.GmlpInUpdate1ReferenceIdeal.main_arg8))
      ∧ r.2.sem = fun _ => 0)

def quiescent_FfnUpUpdate0 [hFfnUpUpdate0 : Cert.FfnUpUpdate0.Facts] : Prop :=
  ∀ (m : (ℓ : Loc Cert.FfnUpUpdate0.nD Cert.FfnUpUpdate0.τ Cert.FfnUpUpdate0.sig) → Buf (Elt Bits) ℓ) (g : Dev Cert.FfnUpUpdate0.nD → PrngReg), Pre_FfnUpUpdate0 m →
    θ_run (Cert.FfnUpUpdate0.defs (F := Bits)) (onTc (τ := Cert.FfnUpUpdate0.τ) (Cert.FfnUpUpdate0.main (F := Bits))) ⟨m, fun _ => 0, g⟩ (fun r => (∀ c : Dev Cert.FfnUpUpdate0.nD,
      r.2.mem ((c.tc : Thread Cert.FfnUpUpdate0.nD Cert.FfnUpUpdate0.τ).loc Cert.FfnUpUpdate0.main_arg0) = m ((c.tc : Thread Cert.FfnUpUpdate0.nD Cert.FfnUpUpdate0.τ).loc Cert.FfnUpUpdate0.main_arg0)
      ∧ r.2.mem ((c.tc : Thread Cert.FfnUpUpdate0.nD Cert.FfnUpUpdate0.τ).loc Cert.FfnUpUpdate0.main_arg1) = m ((c.tc : Thread Cert.FfnUpUpdate0.nD Cert.FfnUpUpdate0.τ).loc Cert.FfnUpUpdate0.main_arg1)
      ∧ r.2.mem ((c.tc : Thread Cert.FfnUpUpdate0.nD Cert.FfnUpUpdate0.τ).loc Cert.FfnUpUpdate0.main_arg2) = m ((c.tc : Thread Cert.FfnUpUpdate0.nD Cert.FfnUpUpdate0.τ).loc Cert.FfnUpUpdate0.main_arg2)
      ∧ r.2.mem ((c.tc : Thread Cert.FfnUpUpdate0.nD Cert.FfnUpUpdate0.τ).loc Cert.FfnUpUpdate0.main_arg3) = m ((c.tc : Thread Cert.FfnUpUpdate0.nD Cert.FfnUpUpdate0.τ).loc Cert.FfnUpUpdate0.main_arg3)
      ∧ r.2.mem ((c.tc : Thread Cert.FfnUpUpdate0.nD Cert.FfnUpUpdate0.τ).loc Cert.FfnUpUpdate0.main_arg4) = m ((c.tc : Thread Cert.FfnUpUpdate0.nD Cert.FfnUpUpdate0.τ).loc Cert.FfnUpUpdate0.main_arg4)
      ∧ r.2.mem ((c.tc : Thread Cert.FfnUpUpdate0.nD Cert.FfnUpUpdate0.τ).loc Cert.FfnUpUpdate0.main_arg5) = m ((c.tc : Thread Cert.FfnUpUpdate0.nD Cert.FfnUpUpdate0.τ).loc Cert.FfnUpUpdate0.main_arg5)
      ∧ r.2.mem ((c.tc : Thread Cert.FfnUpUpdate0.nD Cert.FfnUpUpdate0.τ).loc Cert.FfnUpUpdate0.main_arg6) = m ((c.tc : Thread Cert.FfnUpUpdate0.nD Cert.FfnUpUpdate0.τ).loc Cert.FfnUpUpdate0.main_arg6)
      ∧ r.2.mem ((c.tc : Thread Cert.FfnUpUpdate0.nD Cert.FfnUpUpdate0.τ).loc Cert.FfnUpUpdate0.main_arg7) = m ((c.tc : Thread Cert.FfnUpUpdate0.nD Cert.FfnUpUpdate0.τ).loc Cert.FfnUpUpdate0.main_arg7)
      ∧ r.2.mem ((c.tc : Thread Cert.FfnUpUpdate0.nD Cert.FfnUpUpdate0.τ).loc Cert.FfnUpUpdate0.main_arg8) = m ((c.tc : Thread Cert.FfnUpUpdate0.nD Cert.FfnUpUpdate0.τ).loc Cert.FfnUpUpdate0.main_arg8))
      ∧ r.2.sem = fun _ => 0)

def quiescent_FfnUpUpdate0Ideal [hFfnUpUpdate0Ideal : Cert.FfnUpUpdate0Ideal.Facts] : Prop :=
  ∀ (m : (ℓ : Loc Cert.FfnUpUpdate0Ideal.nD Cert.FfnUpUpdate0Ideal.τ Cert.FfnUpUpdate0Ideal.sig) → Buf (Elt Ideal) ℓ) (g : Dev Cert.FfnUpUpdate0Ideal.nD → PrngReg), Pre_FfnUpUpdate0Ideal m →
    θ_run (Cert.FfnUpUpdate0Ideal.defs (F := Ideal)) (onTc (τ := Cert.FfnUpUpdate0Ideal.τ) (Cert.FfnUpUpdate0Ideal.main (F := Ideal))) ⟨m, fun _ => 0, g⟩ (fun r => (∀ c : Dev Cert.FfnUpUpdate0Ideal.nD,
      r.2.mem ((c.tc : Thread Cert.FfnUpUpdate0Ideal.nD Cert.FfnUpUpdate0Ideal.τ).loc Cert.FfnUpUpdate0Ideal.main_arg0) = m ((c.tc : Thread Cert.FfnUpUpdate0Ideal.nD Cert.FfnUpUpdate0Ideal.τ).loc Cert.FfnUpUpdate0Ideal.main_arg0)
      ∧ r.2.mem ((c.tc : Thread Cert.FfnUpUpdate0Ideal.nD Cert.FfnUpUpdate0Ideal.τ).loc Cert.FfnUpUpdate0Ideal.main_arg1) = m ((c.tc : Thread Cert.FfnUpUpdate0Ideal.nD Cert.FfnUpUpdate0Ideal.τ).loc Cert.FfnUpUpdate0Ideal.main_arg1)
      ∧ r.2.mem ((c.tc : Thread Cert.FfnUpUpdate0Ideal.nD Cert.FfnUpUpdate0Ideal.τ).loc Cert.FfnUpUpdate0Ideal.main_arg2) = m ((c.tc : Thread Cert.FfnUpUpdate0Ideal.nD Cert.FfnUpUpdate0Ideal.τ).loc Cert.FfnUpUpdate0Ideal.main_arg2)
      ∧ r.2.mem ((c.tc : Thread Cert.FfnUpUpdate0Ideal.nD Cert.FfnUpUpdate0Ideal.τ).loc Cert.FfnUpUpdate0Ideal.main_arg3) = m ((c.tc : Thread Cert.FfnUpUpdate0Ideal.nD Cert.FfnUpUpdate0Ideal.τ).loc Cert.FfnUpUpdate0Ideal.main_arg3)
      ∧ r.2.mem ((c.tc : Thread Cert.FfnUpUpdate0Ideal.nD Cert.FfnUpUpdate0Ideal.τ).loc Cert.FfnUpUpdate0Ideal.main_arg4) = m ((c.tc : Thread Cert.FfnUpUpdate0Ideal.nD Cert.FfnUpUpdate0Ideal.τ).loc Cert.FfnUpUpdate0Ideal.main_arg4)
      ∧ r.2.mem ((c.tc : Thread Cert.FfnUpUpdate0Ideal.nD Cert.FfnUpUpdate0Ideal.τ).loc Cert.FfnUpUpdate0Ideal.main_arg5) = m ((c.tc : Thread Cert.FfnUpUpdate0Ideal.nD Cert.FfnUpUpdate0Ideal.τ).loc Cert.FfnUpUpdate0Ideal.main_arg5)
      ∧ r.2.mem ((c.tc : Thread Cert.FfnUpUpdate0Ideal.nD Cert.FfnUpUpdate0Ideal.τ).loc Cert.FfnUpUpdate0Ideal.main_arg6) = m ((c.tc : Thread Cert.FfnUpUpdate0Ideal.nD Cert.FfnUpUpdate0Ideal.τ).loc Cert.FfnUpUpdate0Ideal.main_arg6)
      ∧ r.2.mem ((c.tc : Thread Cert.FfnUpUpdate0Ideal.nD Cert.FfnUpUpdate0Ideal.τ).loc Cert.FfnUpUpdate0Ideal.main_arg7) = m ((c.tc : Thread Cert.FfnUpUpdate0Ideal.nD Cert.FfnUpUpdate0Ideal.τ).loc Cert.FfnUpUpdate0Ideal.main_arg7)
      ∧ r.2.mem ((c.tc : Thread Cert.FfnUpUpdate0Ideal.nD Cert.FfnUpUpdate0Ideal.τ).loc Cert.FfnUpUpdate0Ideal.main_arg8) = m ((c.tc : Thread Cert.FfnUpUpdate0Ideal.nD Cert.FfnUpUpdate0Ideal.τ).loc Cert.FfnUpUpdate0Ideal.main_arg8))
      ∧ r.2.sem = fun _ => 0)

def quiescent_FfnUpUpdate0ReferenceIdeal [hFfnUpUpdate0ReferenceIdeal : Cert.FfnUpUpdate0ReferenceIdeal.Facts] : Prop :=
  ∀ (m : (ℓ : Loc Cert.FfnUpUpdate0ReferenceIdeal.nD Cert.FfnUpUpdate0ReferenceIdeal.τ Cert.FfnUpUpdate0ReferenceIdeal.sig) → Buf (Elt Ideal) ℓ) (g : Dev Cert.FfnUpUpdate0ReferenceIdeal.nD → PrngReg), Pre_FfnUpUpdate0ReferenceIdeal m →
    θ_run (Cert.FfnUpUpdate0ReferenceIdeal.defs (F := Ideal)) (onTc (τ := Cert.FfnUpUpdate0ReferenceIdeal.τ) (Cert.FfnUpUpdate0ReferenceIdeal.main (F := Ideal))) ⟨m, fun _ => 0, g⟩ (fun r => (∀ c : Dev Cert.FfnUpUpdate0ReferenceIdeal.nD,
      r.2.mem ((c.tc : Thread Cert.FfnUpUpdate0ReferenceIdeal.nD Cert.FfnUpUpdate0ReferenceIdeal.τ).loc Cert.FfnUpUpdate0ReferenceIdeal.main_arg0) = m ((c.tc : Thread Cert.FfnUpUpdate0ReferenceIdeal.nD Cert.FfnUpUpdate0ReferenceIdeal.τ).loc Cert.FfnUpUpdate0ReferenceIdeal.main_arg0)
      ∧ r.2.mem ((c.tc : Thread Cert.FfnUpUpdate0ReferenceIdeal.nD Cert.FfnUpUpdate0ReferenceIdeal.τ).loc Cert.FfnUpUpdate0ReferenceIdeal.main_arg1) = m ((c.tc : Thread Cert.FfnUpUpdate0ReferenceIdeal.nD Cert.FfnUpUpdate0ReferenceIdeal.τ).loc Cert.FfnUpUpdate0ReferenceIdeal.main_arg1)
      ∧ r.2.mem ((c.tc : Thread Cert.FfnUpUpdate0ReferenceIdeal.nD Cert.FfnUpUpdate0ReferenceIdeal.τ).loc Cert.FfnUpUpdate0ReferenceIdeal.main_arg2) = m ((c.tc : Thread Cert.FfnUpUpdate0ReferenceIdeal.nD Cert.FfnUpUpdate0ReferenceIdeal.τ).loc Cert.FfnUpUpdate0ReferenceIdeal.main_arg2)
      ∧ r.2.mem ((c.tc : Thread Cert.FfnUpUpdate0ReferenceIdeal.nD Cert.FfnUpUpdate0ReferenceIdeal.τ).loc Cert.FfnUpUpdate0ReferenceIdeal.main_arg3) = m ((c.tc : Thread Cert.FfnUpUpdate0ReferenceIdeal.nD Cert.FfnUpUpdate0ReferenceIdeal.τ).loc Cert.FfnUpUpdate0ReferenceIdeal.main_arg3)
      ∧ r.2.mem ((c.tc : Thread Cert.FfnUpUpdate0ReferenceIdeal.nD Cert.FfnUpUpdate0ReferenceIdeal.τ).loc Cert.FfnUpUpdate0ReferenceIdeal.main_arg4) = m ((c.tc : Thread Cert.FfnUpUpdate0ReferenceIdeal.nD Cert.FfnUpUpdate0ReferenceIdeal.τ).loc Cert.FfnUpUpdate0ReferenceIdeal.main_arg4)
      ∧ r.2.mem ((c.tc : Thread Cert.FfnUpUpdate0ReferenceIdeal.nD Cert.FfnUpUpdate0ReferenceIdeal.τ).loc Cert.FfnUpUpdate0ReferenceIdeal.main_arg5) = m ((c.tc : Thread Cert.FfnUpUpdate0ReferenceIdeal.nD Cert.FfnUpUpdate0ReferenceIdeal.τ).loc Cert.FfnUpUpdate0ReferenceIdeal.main_arg5)
      ∧ r.2.mem ((c.tc : Thread Cert.FfnUpUpdate0ReferenceIdeal.nD Cert.FfnUpUpdate0ReferenceIdeal.τ).loc Cert.FfnUpUpdate0ReferenceIdeal.main_arg6) = m ((c.tc : Thread Cert.FfnUpUpdate0ReferenceIdeal.nD Cert.FfnUpUpdate0ReferenceIdeal.τ).loc Cert.FfnUpUpdate0ReferenceIdeal.main_arg6)
      ∧ r.2.mem ((c.tc : Thread Cert.FfnUpUpdate0ReferenceIdeal.nD Cert.FfnUpUpdate0ReferenceIdeal.τ).loc Cert.FfnUpUpdate0ReferenceIdeal.main_arg7) = m ((c.tc : Thread Cert.FfnUpUpdate0ReferenceIdeal.nD Cert.FfnUpUpdate0ReferenceIdeal.τ).loc Cert.FfnUpUpdate0ReferenceIdeal.main_arg7)
      ∧ r.2.mem ((c.tc : Thread Cert.FfnUpUpdate0ReferenceIdeal.nD Cert.FfnUpUpdate0ReferenceIdeal.τ).loc Cert.FfnUpUpdate0ReferenceIdeal.main_arg8) = m ((c.tc : Thread Cert.FfnUpUpdate0ReferenceIdeal.nD Cert.FfnUpUpdate0ReferenceIdeal.τ).loc Cert.FfnUpUpdate0ReferenceIdeal.main_arg8))
      ∧ r.2.sem = fun _ => 0)

def quiescent_FfnUpUpdate1 [hFfnUpUpdate1 : Cert.FfnUpUpdate1.Facts] : Prop :=
  ∀ (m : (ℓ : Loc Cert.FfnUpUpdate1.nD Cert.FfnUpUpdate1.τ Cert.FfnUpUpdate1.sig) → Buf (Elt Bits) ℓ) (g : Dev Cert.FfnUpUpdate1.nD → PrngReg), Pre_FfnUpUpdate1 m →
    θ_run (Cert.FfnUpUpdate1.defs (F := Bits)) (onTc (τ := Cert.FfnUpUpdate1.τ) (Cert.FfnUpUpdate1.main (F := Bits))) ⟨m, fun _ => 0, g⟩ (fun r => (∀ c : Dev Cert.FfnUpUpdate1.nD,
      r.2.mem ((c.tc : Thread Cert.FfnUpUpdate1.nD Cert.FfnUpUpdate1.τ).loc Cert.FfnUpUpdate1.main_arg0) = m ((c.tc : Thread Cert.FfnUpUpdate1.nD Cert.FfnUpUpdate1.τ).loc Cert.FfnUpUpdate1.main_arg0)
      ∧ r.2.mem ((c.tc : Thread Cert.FfnUpUpdate1.nD Cert.FfnUpUpdate1.τ).loc Cert.FfnUpUpdate1.main_arg1) = m ((c.tc : Thread Cert.FfnUpUpdate1.nD Cert.FfnUpUpdate1.τ).loc Cert.FfnUpUpdate1.main_arg1)
      ∧ r.2.mem ((c.tc : Thread Cert.FfnUpUpdate1.nD Cert.FfnUpUpdate1.τ).loc Cert.FfnUpUpdate1.main_arg2) = m ((c.tc : Thread Cert.FfnUpUpdate1.nD Cert.FfnUpUpdate1.τ).loc Cert.FfnUpUpdate1.main_arg2)
      ∧ r.2.mem ((c.tc : Thread Cert.FfnUpUpdate1.nD Cert.FfnUpUpdate1.τ).loc Cert.FfnUpUpdate1.main_arg3) = m ((c.tc : Thread Cert.FfnUpUpdate1.nD Cert.FfnUpUpdate1.τ).loc Cert.FfnUpUpdate1.main_arg3)
      ∧ r.2.mem ((c.tc : Thread Cert.FfnUpUpdate1.nD Cert.FfnUpUpdate1.τ).loc Cert.FfnUpUpdate1.main_arg4) = m ((c.tc : Thread Cert.FfnUpUpdate1.nD Cert.FfnUpUpdate1.τ).loc Cert.FfnUpUpdate1.main_arg4)
      ∧ r.2.mem ((c.tc : Thread Cert.FfnUpUpdate1.nD Cert.FfnUpUpdate1.τ).loc Cert.FfnUpUpdate1.main_arg5) = m ((c.tc : Thread Cert.FfnUpUpdate1.nD Cert.FfnUpUpdate1.τ).loc Cert.FfnUpUpdate1.main_arg5)
      ∧ r.2.mem ((c.tc : Thread Cert.FfnUpUpdate1.nD Cert.FfnUpUpdate1.τ).loc Cert.FfnUpUpdate1.main_arg6) = m ((c.tc : Thread Cert.FfnUpUpdate1.nD Cert.FfnUpUpdate1.τ).loc Cert.FfnUpUpdate1.main_arg6)
      ∧ r.2.mem ((c.tc : Thread Cert.FfnUpUpdate1.nD Cert.FfnUpUpdate1.τ).loc Cert.FfnUpUpdate1.main_arg7) = m ((c.tc : Thread Cert.FfnUpUpdate1.nD Cert.FfnUpUpdate1.τ).loc Cert.FfnUpUpdate1.main_arg7)
      ∧ r.2.mem ((c.tc : Thread Cert.FfnUpUpdate1.nD Cert.FfnUpUpdate1.τ).loc Cert.FfnUpUpdate1.main_arg8) = m ((c.tc : Thread Cert.FfnUpUpdate1.nD Cert.FfnUpUpdate1.τ).loc Cert.FfnUpUpdate1.main_arg8))
      ∧ r.2.sem = fun _ => 0)

def quiescent_FfnUpUpdate1Ideal [hFfnUpUpdate1Ideal : Cert.FfnUpUpdate1Ideal.Facts] : Prop :=
  ∀ (m : (ℓ : Loc Cert.FfnUpUpdate1Ideal.nD Cert.FfnUpUpdate1Ideal.τ Cert.FfnUpUpdate1Ideal.sig) → Buf (Elt Ideal) ℓ) (g : Dev Cert.FfnUpUpdate1Ideal.nD → PrngReg), Pre_FfnUpUpdate1Ideal m →
    θ_run (Cert.FfnUpUpdate1Ideal.defs (F := Ideal)) (onTc (τ := Cert.FfnUpUpdate1Ideal.τ) (Cert.FfnUpUpdate1Ideal.main (F := Ideal))) ⟨m, fun _ => 0, g⟩ (fun r => (∀ c : Dev Cert.FfnUpUpdate1Ideal.nD,
      r.2.mem ((c.tc : Thread Cert.FfnUpUpdate1Ideal.nD Cert.FfnUpUpdate1Ideal.τ).loc Cert.FfnUpUpdate1Ideal.main_arg0) = m ((c.tc : Thread Cert.FfnUpUpdate1Ideal.nD Cert.FfnUpUpdate1Ideal.τ).loc Cert.FfnUpUpdate1Ideal.main_arg0)
      ∧ r.2.mem ((c.tc : Thread Cert.FfnUpUpdate1Ideal.nD Cert.FfnUpUpdate1Ideal.τ).loc Cert.FfnUpUpdate1Ideal.main_arg1) = m ((c.tc : Thread Cert.FfnUpUpdate1Ideal.nD Cert.FfnUpUpdate1Ideal.τ).loc Cert.FfnUpUpdate1Ideal.main_arg1)
      ∧ r.2.mem ((c.tc : Thread Cert.FfnUpUpdate1Ideal.nD Cert.FfnUpUpdate1Ideal.τ).loc Cert.FfnUpUpdate1Ideal.main_arg2) = m ((c.tc : Thread Cert.FfnUpUpdate1Ideal.nD Cert.FfnUpUpdate1Ideal.τ).loc Cert.FfnUpUpdate1Ideal.main_arg2)
      ∧ r.2.mem ((c.tc : Thread Cert.FfnUpUpdate1Ideal.nD Cert.FfnUpUpdate1Ideal.τ).loc Cert.FfnUpUpdate1Ideal.main_arg3) = m ((c.tc : Thread Cert.FfnUpUpdate1Ideal.nD Cert.FfnUpUpdate1Ideal.τ).loc Cert.FfnUpUpdate1Ideal.main_arg3)
      ∧ r.2.mem ((c.tc : Thread Cert.FfnUpUpdate1Ideal.nD Cert.FfnUpUpdate1Ideal.τ).loc Cert.FfnUpUpdate1Ideal.main_arg4) = m ((c.tc : Thread Cert.FfnUpUpdate1Ideal.nD Cert.FfnUpUpdate1Ideal.τ).loc Cert.FfnUpUpdate1Ideal.main_arg4)
      ∧ r.2.mem ((c.tc : Thread Cert.FfnUpUpdate1Ideal.nD Cert.FfnUpUpdate1Ideal.τ).loc Cert.FfnUpUpdate1Ideal.main_arg5) = m ((c.tc : Thread Cert.FfnUpUpdate1Ideal.nD Cert.FfnUpUpdate1Ideal.τ).loc Cert.FfnUpUpdate1Ideal.main_arg5)
      ∧ r.2.mem ((c.tc : Thread Cert.FfnUpUpdate1Ideal.nD Cert.FfnUpUpdate1Ideal.τ).loc Cert.FfnUpUpdate1Ideal.main_arg6) = m ((c.tc : Thread Cert.FfnUpUpdate1Ideal.nD Cert.FfnUpUpdate1Ideal.τ).loc Cert.FfnUpUpdate1Ideal.main_arg6)
      ∧ r.2.mem ((c.tc : Thread Cert.FfnUpUpdate1Ideal.nD Cert.FfnUpUpdate1Ideal.τ).loc Cert.FfnUpUpdate1Ideal.main_arg7) = m ((c.tc : Thread Cert.FfnUpUpdate1Ideal.nD Cert.FfnUpUpdate1Ideal.τ).loc Cert.FfnUpUpdate1Ideal.main_arg7)
      ∧ r.2.mem ((c.tc : Thread Cert.FfnUpUpdate1Ideal.nD Cert.FfnUpUpdate1Ideal.τ).loc Cert.FfnUpUpdate1Ideal.main_arg8) = m ((c.tc : Thread Cert.FfnUpUpdate1Ideal.nD Cert.FfnUpUpdate1Ideal.τ).loc Cert.FfnUpUpdate1Ideal.main_arg8))
      ∧ r.2.sem = fun _ => 0)

def quiescent_FfnUpUpdate1ReferenceIdeal [hFfnUpUpdate1ReferenceIdeal : Cert.FfnUpUpdate1ReferenceIdeal.Facts] : Prop :=
  ∀ (m : (ℓ : Loc Cert.FfnUpUpdate1ReferenceIdeal.nD Cert.FfnUpUpdate1ReferenceIdeal.τ Cert.FfnUpUpdate1ReferenceIdeal.sig) → Buf (Elt Ideal) ℓ) (g : Dev Cert.FfnUpUpdate1ReferenceIdeal.nD → PrngReg), Pre_FfnUpUpdate1ReferenceIdeal m →
    θ_run (Cert.FfnUpUpdate1ReferenceIdeal.defs (F := Ideal)) (onTc (τ := Cert.FfnUpUpdate1ReferenceIdeal.τ) (Cert.FfnUpUpdate1ReferenceIdeal.main (F := Ideal))) ⟨m, fun _ => 0, g⟩ (fun r => (∀ c : Dev Cert.FfnUpUpdate1ReferenceIdeal.nD,
      r.2.mem ((c.tc : Thread Cert.FfnUpUpdate1ReferenceIdeal.nD Cert.FfnUpUpdate1ReferenceIdeal.τ).loc Cert.FfnUpUpdate1ReferenceIdeal.main_arg0) = m ((c.tc : Thread Cert.FfnUpUpdate1ReferenceIdeal.nD Cert.FfnUpUpdate1ReferenceIdeal.τ).loc Cert.FfnUpUpdate1ReferenceIdeal.main_arg0)
      ∧ r.2.mem ((c.tc : Thread Cert.FfnUpUpdate1ReferenceIdeal.nD Cert.FfnUpUpdate1ReferenceIdeal.τ).loc Cert.FfnUpUpdate1ReferenceIdeal.main_arg1) = m ((c.tc : Thread Cert.FfnUpUpdate1ReferenceIdeal.nD Cert.FfnUpUpdate1ReferenceIdeal.τ).loc Cert.FfnUpUpdate1ReferenceIdeal.main_arg1)
      ∧ r.2.mem ((c.tc : Thread Cert.FfnUpUpdate1ReferenceIdeal.nD Cert.FfnUpUpdate1ReferenceIdeal.τ).loc Cert.FfnUpUpdate1ReferenceIdeal.main_arg2) = m ((c.tc : Thread Cert.FfnUpUpdate1ReferenceIdeal.nD Cert.FfnUpUpdate1ReferenceIdeal.τ).loc Cert.FfnUpUpdate1ReferenceIdeal.main_arg2)
      ∧ r.2.mem ((c.tc : Thread Cert.FfnUpUpdate1ReferenceIdeal.nD Cert.FfnUpUpdate1ReferenceIdeal.τ).loc Cert.FfnUpUpdate1ReferenceIdeal.main_arg3) = m ((c.tc : Thread Cert.FfnUpUpdate1ReferenceIdeal.nD Cert.FfnUpUpdate1ReferenceIdeal.τ).loc Cert.FfnUpUpdate1ReferenceIdeal.main_arg3)
      ∧ r.2.mem ((c.tc : Thread Cert.FfnUpUpdate1ReferenceIdeal.nD Cert.FfnUpUpdate1ReferenceIdeal.τ).loc Cert.FfnUpUpdate1ReferenceIdeal.main_arg4) = m ((c.tc : Thread Cert.FfnUpUpdate1ReferenceIdeal.nD Cert.FfnUpUpdate1ReferenceIdeal.τ).loc Cert.FfnUpUpdate1ReferenceIdeal.main_arg4)
      ∧ r.2.mem ((c.tc : Thread Cert.FfnUpUpdate1ReferenceIdeal.nD Cert.FfnUpUpdate1ReferenceIdeal.τ).loc Cert.FfnUpUpdate1ReferenceIdeal.main_arg5) = m ((c.tc : Thread Cert.FfnUpUpdate1ReferenceIdeal.nD Cert.FfnUpUpdate1ReferenceIdeal.τ).loc Cert.FfnUpUpdate1ReferenceIdeal.main_arg5)
      ∧ r.2.mem ((c.tc : Thread Cert.FfnUpUpdate1ReferenceIdeal.nD Cert.FfnUpUpdate1ReferenceIdeal.τ).loc Cert.FfnUpUpdate1ReferenceIdeal.main_arg6) = m ((c.tc : Thread Cert.FfnUpUpdate1ReferenceIdeal.nD Cert.FfnUpUpdate1ReferenceIdeal.τ).loc Cert.FfnUpUpdate1ReferenceIdeal.main_arg6)
      ∧ r.2.mem ((c.tc : Thread Cert.FfnUpUpdate1ReferenceIdeal.nD Cert.FfnUpUpdate1ReferenceIdeal.τ).loc Cert.FfnUpUpdate1ReferenceIdeal.main_arg7) = m ((c.tc : Thread Cert.FfnUpUpdate1ReferenceIdeal.nD Cert.FfnUpUpdate1ReferenceIdeal.τ).loc Cert.FfnUpUpdate1ReferenceIdeal.main_arg7)
      ∧ r.2.mem ((c.tc : Thread Cert.FfnUpUpdate1ReferenceIdeal.nD Cert.FfnUpUpdate1ReferenceIdeal.τ).loc Cert.FfnUpUpdate1ReferenceIdeal.main_arg8) = m ((c.tc : Thread Cert.FfnUpUpdate1ReferenceIdeal.nD Cert.FfnUpUpdate1ReferenceIdeal.τ).loc Cert.FfnUpUpdate1ReferenceIdeal.main_arg8))
      ∧ r.2.sem = fun _ => 0)

def quiescent_FfnUpUpdate2 [hFfnUpUpdate2 : Cert.FfnUpUpdate2.Facts] : Prop :=
  ∀ (m : (ℓ : Loc Cert.FfnUpUpdate2.nD Cert.FfnUpUpdate2.τ Cert.FfnUpUpdate2.sig) → Buf (Elt Bits) ℓ) (g : Dev Cert.FfnUpUpdate2.nD → PrngReg), Pre_FfnUpUpdate2 m →
    θ_run (Cert.FfnUpUpdate2.defs (F := Bits)) (onTc (τ := Cert.FfnUpUpdate2.τ) (Cert.FfnUpUpdate2.main (F := Bits))) ⟨m, fun _ => 0, g⟩ (fun r => (∀ c : Dev Cert.FfnUpUpdate2.nD,
      r.2.mem ((c.tc : Thread Cert.FfnUpUpdate2.nD Cert.FfnUpUpdate2.τ).loc Cert.FfnUpUpdate2.main_arg0) = m ((c.tc : Thread Cert.FfnUpUpdate2.nD Cert.FfnUpUpdate2.τ).loc Cert.FfnUpUpdate2.main_arg0)
      ∧ r.2.mem ((c.tc : Thread Cert.FfnUpUpdate2.nD Cert.FfnUpUpdate2.τ).loc Cert.FfnUpUpdate2.main_arg1) = m ((c.tc : Thread Cert.FfnUpUpdate2.nD Cert.FfnUpUpdate2.τ).loc Cert.FfnUpUpdate2.main_arg1)
      ∧ r.2.mem ((c.tc : Thread Cert.FfnUpUpdate2.nD Cert.FfnUpUpdate2.τ).loc Cert.FfnUpUpdate2.main_arg2) = m ((c.tc : Thread Cert.FfnUpUpdate2.nD Cert.FfnUpUpdate2.τ).loc Cert.FfnUpUpdate2.main_arg2)
      ∧ r.2.mem ((c.tc : Thread Cert.FfnUpUpdate2.nD Cert.FfnUpUpdate2.τ).loc Cert.FfnUpUpdate2.main_arg3) = m ((c.tc : Thread Cert.FfnUpUpdate2.nD Cert.FfnUpUpdate2.τ).loc Cert.FfnUpUpdate2.main_arg3)
      ∧ r.2.mem ((c.tc : Thread Cert.FfnUpUpdate2.nD Cert.FfnUpUpdate2.τ).loc Cert.FfnUpUpdate2.main_arg4) = m ((c.tc : Thread Cert.FfnUpUpdate2.nD Cert.FfnUpUpdate2.τ).loc Cert.FfnUpUpdate2.main_arg4)
      ∧ r.2.mem ((c.tc : Thread Cert.FfnUpUpdate2.nD Cert.FfnUpUpdate2.τ).loc Cert.FfnUpUpdate2.main_arg5) = m ((c.tc : Thread Cert.FfnUpUpdate2.nD Cert.FfnUpUpdate2.τ).loc Cert.FfnUpUpdate2.main_arg5)
      ∧ r.2.mem ((c.tc : Thread Cert.FfnUpUpdate2.nD Cert.FfnUpUpdate2.τ).loc Cert.FfnUpUpdate2.main_arg6) = m ((c.tc : Thread Cert.FfnUpUpdate2.nD Cert.FfnUpUpdate2.τ).loc Cert.FfnUpUpdate2.main_arg6)
      ∧ r.2.mem ((c.tc : Thread Cert.FfnUpUpdate2.nD Cert.FfnUpUpdate2.τ).loc Cert.FfnUpUpdate2.main_arg7) = m ((c.tc : Thread Cert.FfnUpUpdate2.nD Cert.FfnUpUpdate2.τ).loc Cert.FfnUpUpdate2.main_arg7)
      ∧ r.2.mem ((c.tc : Thread Cert.FfnUpUpdate2.nD Cert.FfnUpUpdate2.τ).loc Cert.FfnUpUpdate2.main_arg8) = m ((c.tc : Thread Cert.FfnUpUpdate2.nD Cert.FfnUpUpdate2.τ).loc Cert.FfnUpUpdate2.main_arg8))
      ∧ r.2.sem = fun _ => 0)

def quiescent_FfnUpUpdate2Ideal [hFfnUpUpdate2Ideal : Cert.FfnUpUpdate2Ideal.Facts] : Prop :=
  ∀ (m : (ℓ : Loc Cert.FfnUpUpdate2Ideal.nD Cert.FfnUpUpdate2Ideal.τ Cert.FfnUpUpdate2Ideal.sig) → Buf (Elt Ideal) ℓ) (g : Dev Cert.FfnUpUpdate2Ideal.nD → PrngReg), Pre_FfnUpUpdate2Ideal m →
    θ_run (Cert.FfnUpUpdate2Ideal.defs (F := Ideal)) (onTc (τ := Cert.FfnUpUpdate2Ideal.τ) (Cert.FfnUpUpdate2Ideal.main (F := Ideal))) ⟨m, fun _ => 0, g⟩ (fun r => (∀ c : Dev Cert.FfnUpUpdate2Ideal.nD,
      r.2.mem ((c.tc : Thread Cert.FfnUpUpdate2Ideal.nD Cert.FfnUpUpdate2Ideal.τ).loc Cert.FfnUpUpdate2Ideal.main_arg0) = m ((c.tc : Thread Cert.FfnUpUpdate2Ideal.nD Cert.FfnUpUpdate2Ideal.τ).loc Cert.FfnUpUpdate2Ideal.main_arg0)
      ∧ r.2.mem ((c.tc : Thread Cert.FfnUpUpdate2Ideal.nD Cert.FfnUpUpdate2Ideal.τ).loc Cert.FfnUpUpdate2Ideal.main_arg1) = m ((c.tc : Thread Cert.FfnUpUpdate2Ideal.nD Cert.FfnUpUpdate2Ideal.τ).loc Cert.FfnUpUpdate2Ideal.main_arg1)
      ∧ r.2.mem ((c.tc : Thread Cert.FfnUpUpdate2Ideal.nD Cert.FfnUpUpdate2Ideal.τ).loc Cert.FfnUpUpdate2Ideal.main_arg2) = m ((c.tc : Thread Cert.FfnUpUpdate2Ideal.nD Cert.FfnUpUpdate2Ideal.τ).loc Cert.FfnUpUpdate2Ideal.main_arg2)
      ∧ r.2.mem ((c.tc : Thread Cert.FfnUpUpdate2Ideal.nD Cert.FfnUpUpdate2Ideal.τ).loc Cert.FfnUpUpdate2Ideal.main_arg3) = m ((c.tc : Thread Cert.FfnUpUpdate2Ideal.nD Cert.FfnUpUpdate2Ideal.τ).loc Cert.FfnUpUpdate2Ideal.main_arg3)
      ∧ r.2.mem ((c.tc : Thread Cert.FfnUpUpdate2Ideal.nD Cert.FfnUpUpdate2Ideal.τ).loc Cert.FfnUpUpdate2Ideal.main_arg4) = m ((c.tc : Thread Cert.FfnUpUpdate2Ideal.nD Cert.FfnUpUpdate2Ideal.τ).loc Cert.FfnUpUpdate2Ideal.main_arg4)
      ∧ r.2.mem ((c.tc : Thread Cert.FfnUpUpdate2Ideal.nD Cert.FfnUpUpdate2Ideal.τ).loc Cert.FfnUpUpdate2Ideal.main_arg5) = m ((c.tc : Thread Cert.FfnUpUpdate2Ideal.nD Cert.FfnUpUpdate2Ideal.τ).loc Cert.FfnUpUpdate2Ideal.main_arg5)
      ∧ r.2.mem ((c.tc : Thread Cert.FfnUpUpdate2Ideal.nD Cert.FfnUpUpdate2Ideal.τ).loc Cert.FfnUpUpdate2Ideal.main_arg6) = m ((c.tc : Thread Cert.FfnUpUpdate2Ideal.nD Cert.FfnUpUpdate2Ideal.τ).loc Cert.FfnUpUpdate2Ideal.main_arg6)
      ∧ r.2.mem ((c.tc : Thread Cert.FfnUpUpdate2Ideal.nD Cert.FfnUpUpdate2Ideal.τ).loc Cert.FfnUpUpdate2Ideal.main_arg7) = m ((c.tc : Thread Cert.FfnUpUpdate2Ideal.nD Cert.FfnUpUpdate2Ideal.τ).loc Cert.FfnUpUpdate2Ideal.main_arg7)
      ∧ r.2.mem ((c.tc : Thread Cert.FfnUpUpdate2Ideal.nD Cert.FfnUpUpdate2Ideal.τ).loc Cert.FfnUpUpdate2Ideal.main_arg8) = m ((c.tc : Thread Cert.FfnUpUpdate2Ideal.nD Cert.FfnUpUpdate2Ideal.τ).loc Cert.FfnUpUpdate2Ideal.main_arg8))
      ∧ r.2.sem = fun _ => 0)

def quiescent_FfnUpUpdate2ReferenceIdeal [hFfnUpUpdate2ReferenceIdeal : Cert.FfnUpUpdate2ReferenceIdeal.Facts] : Prop :=
  ∀ (m : (ℓ : Loc Cert.FfnUpUpdate2ReferenceIdeal.nD Cert.FfnUpUpdate2ReferenceIdeal.τ Cert.FfnUpUpdate2ReferenceIdeal.sig) → Buf (Elt Ideal) ℓ) (g : Dev Cert.FfnUpUpdate2ReferenceIdeal.nD → PrngReg), Pre_FfnUpUpdate2ReferenceIdeal m →
    θ_run (Cert.FfnUpUpdate2ReferenceIdeal.defs (F := Ideal)) (onTc (τ := Cert.FfnUpUpdate2ReferenceIdeal.τ) (Cert.FfnUpUpdate2ReferenceIdeal.main (F := Ideal))) ⟨m, fun _ => 0, g⟩ (fun r => (∀ c : Dev Cert.FfnUpUpdate2ReferenceIdeal.nD,
      r.2.mem ((c.tc : Thread Cert.FfnUpUpdate2ReferenceIdeal.nD Cert.FfnUpUpdate2ReferenceIdeal.τ).loc Cert.FfnUpUpdate2ReferenceIdeal.main_arg0) = m ((c.tc : Thread Cert.FfnUpUpdate2ReferenceIdeal.nD Cert.FfnUpUpdate2ReferenceIdeal.τ).loc Cert.FfnUpUpdate2ReferenceIdeal.main_arg0)
      ∧ r.2.mem ((c.tc : Thread Cert.FfnUpUpdate2ReferenceIdeal.nD Cert.FfnUpUpdate2ReferenceIdeal.τ).loc Cert.FfnUpUpdate2ReferenceIdeal.main_arg1) = m ((c.tc : Thread Cert.FfnUpUpdate2ReferenceIdeal.nD Cert.FfnUpUpdate2ReferenceIdeal.τ).loc Cert.FfnUpUpdate2ReferenceIdeal.main_arg1)
      ∧ r.2.mem ((c.tc : Thread Cert.FfnUpUpdate2ReferenceIdeal.nD Cert.FfnUpUpdate2ReferenceIdeal.τ).loc Cert.FfnUpUpdate2ReferenceIdeal.main_arg2) = m ((c.tc : Thread Cert.FfnUpUpdate2ReferenceIdeal.nD Cert.FfnUpUpdate2ReferenceIdeal.τ).loc Cert.FfnUpUpdate2ReferenceIdeal.main_arg2)
      ∧ r.2.mem ((c.tc : Thread Cert.FfnUpUpdate2ReferenceIdeal.nD Cert.FfnUpUpdate2ReferenceIdeal.τ).loc Cert.FfnUpUpdate2ReferenceIdeal.main_arg3) = m ((c.tc : Thread Cert.FfnUpUpdate2ReferenceIdeal.nD Cert.FfnUpUpdate2ReferenceIdeal.τ).loc Cert.FfnUpUpdate2ReferenceIdeal.main_arg3)
      ∧ r.2.mem ((c.tc : Thread Cert.FfnUpUpdate2ReferenceIdeal.nD Cert.FfnUpUpdate2ReferenceIdeal.τ).loc Cert.FfnUpUpdate2ReferenceIdeal.main_arg4) = m ((c.tc : Thread Cert.FfnUpUpdate2ReferenceIdeal.nD Cert.FfnUpUpdate2ReferenceIdeal.τ).loc Cert.FfnUpUpdate2ReferenceIdeal.main_arg4)
      ∧ r.2.mem ((c.tc : Thread Cert.FfnUpUpdate2ReferenceIdeal.nD Cert.FfnUpUpdate2ReferenceIdeal.τ).loc Cert.FfnUpUpdate2ReferenceIdeal.main_arg5) = m ((c.tc : Thread Cert.FfnUpUpdate2ReferenceIdeal.nD Cert.FfnUpUpdate2ReferenceIdeal.τ).loc Cert.FfnUpUpdate2ReferenceIdeal.main_arg5)
      ∧ r.2.mem ((c.tc : Thread Cert.FfnUpUpdate2ReferenceIdeal.nD Cert.FfnUpUpdate2ReferenceIdeal.τ).loc Cert.FfnUpUpdate2ReferenceIdeal.main_arg6) = m ((c.tc : Thread Cert.FfnUpUpdate2ReferenceIdeal.nD Cert.FfnUpUpdate2ReferenceIdeal.τ).loc Cert.FfnUpUpdate2ReferenceIdeal.main_arg6)
      ∧ r.2.mem ((c.tc : Thread Cert.FfnUpUpdate2ReferenceIdeal.nD Cert.FfnUpUpdate2ReferenceIdeal.τ).loc Cert.FfnUpUpdate2ReferenceIdeal.main_arg7) = m ((c.tc : Thread Cert.FfnUpUpdate2ReferenceIdeal.nD Cert.FfnUpUpdate2ReferenceIdeal.τ).loc Cert.FfnUpUpdate2ReferenceIdeal.main_arg7)
      ∧ r.2.mem ((c.tc : Thread Cert.FfnUpUpdate2ReferenceIdeal.nD Cert.FfnUpUpdate2ReferenceIdeal.τ).loc Cert.FfnUpUpdate2ReferenceIdeal.main_arg8) = m ((c.tc : Thread Cert.FfnUpUpdate2ReferenceIdeal.nD Cert.FfnUpUpdate2ReferenceIdeal.τ).loc Cert.FfnUpUpdate2ReferenceIdeal.main_arg8))
      ∧ r.2.sem = fun _ => 0)

def quiescent_FfnUpUpdate3 [hFfnUpUpdate3 : Cert.FfnUpUpdate3.Facts] : Prop :=
  ∀ (m : (ℓ : Loc Cert.FfnUpUpdate3.nD Cert.FfnUpUpdate3.τ Cert.FfnUpUpdate3.sig) → Buf (Elt Bits) ℓ) (g : Dev Cert.FfnUpUpdate3.nD → PrngReg), Pre_FfnUpUpdate3 m →
    θ_run (Cert.FfnUpUpdate3.defs (F := Bits)) (onTc (τ := Cert.FfnUpUpdate3.τ) (Cert.FfnUpUpdate3.main (F := Bits))) ⟨m, fun _ => 0, g⟩ (fun r => (∀ c : Dev Cert.FfnUpUpdate3.nD,
      r.2.mem ((c.tc : Thread Cert.FfnUpUpdate3.nD Cert.FfnUpUpdate3.τ).loc Cert.FfnUpUpdate3.main_arg0) = m ((c.tc : Thread Cert.FfnUpUpdate3.nD Cert.FfnUpUpdate3.τ).loc Cert.FfnUpUpdate3.main_arg0)
      ∧ r.2.mem ((c.tc : Thread Cert.FfnUpUpdate3.nD Cert.FfnUpUpdate3.τ).loc Cert.FfnUpUpdate3.main_arg1) = m ((c.tc : Thread Cert.FfnUpUpdate3.nD Cert.FfnUpUpdate3.τ).loc Cert.FfnUpUpdate3.main_arg1)
      ∧ r.2.mem ((c.tc : Thread Cert.FfnUpUpdate3.nD Cert.FfnUpUpdate3.τ).loc Cert.FfnUpUpdate3.main_arg2) = m ((c.tc : Thread Cert.FfnUpUpdate3.nD Cert.FfnUpUpdate3.τ).loc Cert.FfnUpUpdate3.main_arg2)
      ∧ r.2.mem ((c.tc : Thread Cert.FfnUpUpdate3.nD Cert.FfnUpUpdate3.τ).loc Cert.FfnUpUpdate3.main_arg3) = m ((c.tc : Thread Cert.FfnUpUpdate3.nD Cert.FfnUpUpdate3.τ).loc Cert.FfnUpUpdate3.main_arg3)
      ∧ r.2.mem ((c.tc : Thread Cert.FfnUpUpdate3.nD Cert.FfnUpUpdate3.τ).loc Cert.FfnUpUpdate3.main_arg4) = m ((c.tc : Thread Cert.FfnUpUpdate3.nD Cert.FfnUpUpdate3.τ).loc Cert.FfnUpUpdate3.main_arg4)
      ∧ r.2.mem ((c.tc : Thread Cert.FfnUpUpdate3.nD Cert.FfnUpUpdate3.τ).loc Cert.FfnUpUpdate3.main_arg5) = m ((c.tc : Thread Cert.FfnUpUpdate3.nD Cert.FfnUpUpdate3.τ).loc Cert.FfnUpUpdate3.main_arg5)
      ∧ r.2.mem ((c.tc : Thread Cert.FfnUpUpdate3.nD Cert.FfnUpUpdate3.τ).loc Cert.FfnUpUpdate3.main_arg6) = m ((c.tc : Thread Cert.FfnUpUpdate3.nD Cert.FfnUpUpdate3.τ).loc Cert.FfnUpUpdate3.main_arg6)
      ∧ r.2.mem ((c.tc : Thread Cert.FfnUpUpdate3.nD Cert.FfnUpUpdate3.τ).loc Cert.FfnUpUpdate3.main_arg7) = m ((c.tc : Thread Cert.FfnUpUpdate3.nD Cert.FfnUpUpdate3.τ).loc Cert.FfnUpUpdate3.main_arg7)
      ∧ r.2.mem ((c.tc : Thread Cert.FfnUpUpdate3.nD Cert.FfnUpUpdate3.τ).loc Cert.FfnUpUpdate3.main_arg8) = m ((c.tc : Thread Cert.FfnUpUpdate3.nD Cert.FfnUpUpdate3.τ).loc Cert.FfnUpUpdate3.main_arg8))
      ∧ r.2.sem = fun _ => 0)

def quiescent_FfnUpUpdate3Ideal [hFfnUpUpdate3Ideal : Cert.FfnUpUpdate3Ideal.Facts] : Prop :=
  ∀ (m : (ℓ : Loc Cert.FfnUpUpdate3Ideal.nD Cert.FfnUpUpdate3Ideal.τ Cert.FfnUpUpdate3Ideal.sig) → Buf (Elt Ideal) ℓ) (g : Dev Cert.FfnUpUpdate3Ideal.nD → PrngReg), Pre_FfnUpUpdate3Ideal m →
    θ_run (Cert.FfnUpUpdate3Ideal.defs (F := Ideal)) (onTc (τ := Cert.FfnUpUpdate3Ideal.τ) (Cert.FfnUpUpdate3Ideal.main (F := Ideal))) ⟨m, fun _ => 0, g⟩ (fun r => (∀ c : Dev Cert.FfnUpUpdate3Ideal.nD,
      r.2.mem ((c.tc : Thread Cert.FfnUpUpdate3Ideal.nD Cert.FfnUpUpdate3Ideal.τ).loc Cert.FfnUpUpdate3Ideal.main_arg0) = m ((c.tc : Thread Cert.FfnUpUpdate3Ideal.nD Cert.FfnUpUpdate3Ideal.τ).loc Cert.FfnUpUpdate3Ideal.main_arg0)
      ∧ r.2.mem ((c.tc : Thread Cert.FfnUpUpdate3Ideal.nD Cert.FfnUpUpdate3Ideal.τ).loc Cert.FfnUpUpdate3Ideal.main_arg1) = m ((c.tc : Thread Cert.FfnUpUpdate3Ideal.nD Cert.FfnUpUpdate3Ideal.τ).loc Cert.FfnUpUpdate3Ideal.main_arg1)
      ∧ r.2.mem ((c.tc : Thread Cert.FfnUpUpdate3Ideal.nD Cert.FfnUpUpdate3Ideal.τ).loc Cert.FfnUpUpdate3Ideal.main_arg2) = m ((c.tc : Thread Cert.FfnUpUpdate3Ideal.nD Cert.FfnUpUpdate3Ideal.τ).loc Cert.FfnUpUpdate3Ideal.main_arg2)
      ∧ r.2.mem ((c.tc : Thread Cert.FfnUpUpdate3Ideal.nD Cert.FfnUpUpdate3Ideal.τ).loc Cert.FfnUpUpdate3Ideal.main_arg3) = m ((c.tc : Thread Cert.FfnUpUpdate3Ideal.nD Cert.FfnUpUpdate3Ideal.τ).loc Cert.FfnUpUpdate3Ideal.main_arg3)
      ∧ r.2.mem ((c.tc : Thread Cert.FfnUpUpdate3Ideal.nD Cert.FfnUpUpdate3Ideal.τ).loc Cert.FfnUpUpdate3Ideal.main_arg4) = m ((c.tc : Thread Cert.FfnUpUpdate3Ideal.nD Cert.FfnUpUpdate3Ideal.τ).loc Cert.FfnUpUpdate3Ideal.main_arg4)
      ∧ r.2.mem ((c.tc : Thread Cert.FfnUpUpdate3Ideal.nD Cert.FfnUpUpdate3Ideal.τ).loc Cert.FfnUpUpdate3Ideal.main_arg5) = m ((c.tc : Thread Cert.FfnUpUpdate3Ideal.nD Cert.FfnUpUpdate3Ideal.τ).loc Cert.FfnUpUpdate3Ideal.main_arg5)
      ∧ r.2.mem ((c.tc : Thread Cert.FfnUpUpdate3Ideal.nD Cert.FfnUpUpdate3Ideal.τ).loc Cert.FfnUpUpdate3Ideal.main_arg6) = m ((c.tc : Thread Cert.FfnUpUpdate3Ideal.nD Cert.FfnUpUpdate3Ideal.τ).loc Cert.FfnUpUpdate3Ideal.main_arg6)
      ∧ r.2.mem ((c.tc : Thread Cert.FfnUpUpdate3Ideal.nD Cert.FfnUpUpdate3Ideal.τ).loc Cert.FfnUpUpdate3Ideal.main_arg7) = m ((c.tc : Thread Cert.FfnUpUpdate3Ideal.nD Cert.FfnUpUpdate3Ideal.τ).loc Cert.FfnUpUpdate3Ideal.main_arg7)
      ∧ r.2.mem ((c.tc : Thread Cert.FfnUpUpdate3Ideal.nD Cert.FfnUpUpdate3Ideal.τ).loc Cert.FfnUpUpdate3Ideal.main_arg8) = m ((c.tc : Thread Cert.FfnUpUpdate3Ideal.nD Cert.FfnUpUpdate3Ideal.τ).loc Cert.FfnUpUpdate3Ideal.main_arg8))
      ∧ r.2.sem = fun _ => 0)

def quiescent_FfnUpUpdate3ReferenceIdeal [hFfnUpUpdate3ReferenceIdeal : Cert.FfnUpUpdate3ReferenceIdeal.Facts] : Prop :=
  ∀ (m : (ℓ : Loc Cert.FfnUpUpdate3ReferenceIdeal.nD Cert.FfnUpUpdate3ReferenceIdeal.τ Cert.FfnUpUpdate3ReferenceIdeal.sig) → Buf (Elt Ideal) ℓ) (g : Dev Cert.FfnUpUpdate3ReferenceIdeal.nD → PrngReg), Pre_FfnUpUpdate3ReferenceIdeal m →
    θ_run (Cert.FfnUpUpdate3ReferenceIdeal.defs (F := Ideal)) (onTc (τ := Cert.FfnUpUpdate3ReferenceIdeal.τ) (Cert.FfnUpUpdate3ReferenceIdeal.main (F := Ideal))) ⟨m, fun _ => 0, g⟩ (fun r => (∀ c : Dev Cert.FfnUpUpdate3ReferenceIdeal.nD,
      r.2.mem ((c.tc : Thread Cert.FfnUpUpdate3ReferenceIdeal.nD Cert.FfnUpUpdate3ReferenceIdeal.τ).loc Cert.FfnUpUpdate3ReferenceIdeal.main_arg0) = m ((c.tc : Thread Cert.FfnUpUpdate3ReferenceIdeal.nD Cert.FfnUpUpdate3ReferenceIdeal.τ).loc Cert.FfnUpUpdate3ReferenceIdeal.main_arg0)
      ∧ r.2.mem ((c.tc : Thread Cert.FfnUpUpdate3ReferenceIdeal.nD Cert.FfnUpUpdate3ReferenceIdeal.τ).loc Cert.FfnUpUpdate3ReferenceIdeal.main_arg1) = m ((c.tc : Thread Cert.FfnUpUpdate3ReferenceIdeal.nD Cert.FfnUpUpdate3ReferenceIdeal.τ).loc Cert.FfnUpUpdate3ReferenceIdeal.main_arg1)
      ∧ r.2.mem ((c.tc : Thread Cert.FfnUpUpdate3ReferenceIdeal.nD Cert.FfnUpUpdate3ReferenceIdeal.τ).loc Cert.FfnUpUpdate3ReferenceIdeal.main_arg2) = m ((c.tc : Thread Cert.FfnUpUpdate3ReferenceIdeal.nD Cert.FfnUpUpdate3ReferenceIdeal.τ).loc Cert.FfnUpUpdate3ReferenceIdeal.main_arg2)
      ∧ r.2.mem ((c.tc : Thread Cert.FfnUpUpdate3ReferenceIdeal.nD Cert.FfnUpUpdate3ReferenceIdeal.τ).loc Cert.FfnUpUpdate3ReferenceIdeal.main_arg3) = m ((c.tc : Thread Cert.FfnUpUpdate3ReferenceIdeal.nD Cert.FfnUpUpdate3ReferenceIdeal.τ).loc Cert.FfnUpUpdate3ReferenceIdeal.main_arg3)
      ∧ r.2.mem ((c.tc : Thread Cert.FfnUpUpdate3ReferenceIdeal.nD Cert.FfnUpUpdate3ReferenceIdeal.τ).loc Cert.FfnUpUpdate3ReferenceIdeal.main_arg4) = m ((c.tc : Thread Cert.FfnUpUpdate3ReferenceIdeal.nD Cert.FfnUpUpdate3ReferenceIdeal.τ).loc Cert.FfnUpUpdate3ReferenceIdeal.main_arg4)
      ∧ r.2.mem ((c.tc : Thread Cert.FfnUpUpdate3ReferenceIdeal.nD Cert.FfnUpUpdate3ReferenceIdeal.τ).loc Cert.FfnUpUpdate3ReferenceIdeal.main_arg5) = m ((c.tc : Thread Cert.FfnUpUpdate3ReferenceIdeal.nD Cert.FfnUpUpdate3ReferenceIdeal.τ).loc Cert.FfnUpUpdate3ReferenceIdeal.main_arg5)
      ∧ r.2.mem ((c.tc : Thread Cert.FfnUpUpdate3ReferenceIdeal.nD Cert.FfnUpUpdate3ReferenceIdeal.τ).loc Cert.FfnUpUpdate3ReferenceIdeal.main_arg6) = m ((c.tc : Thread Cert.FfnUpUpdate3ReferenceIdeal.nD Cert.FfnUpUpdate3ReferenceIdeal.τ).loc Cert.FfnUpUpdate3ReferenceIdeal.main_arg6)
      ∧ r.2.mem ((c.tc : Thread Cert.FfnUpUpdate3ReferenceIdeal.nD Cert.FfnUpUpdate3ReferenceIdeal.τ).loc Cert.FfnUpUpdate3ReferenceIdeal.main_arg7) = m ((c.tc : Thread Cert.FfnUpUpdate3ReferenceIdeal.nD Cert.FfnUpUpdate3ReferenceIdeal.τ).loc Cert.FfnUpUpdate3ReferenceIdeal.main_arg7)
      ∧ r.2.mem ((c.tc : Thread Cert.FfnUpUpdate3ReferenceIdeal.nD Cert.FfnUpUpdate3ReferenceIdeal.τ).loc Cert.FfnUpUpdate3ReferenceIdeal.main_arg8) = m ((c.tc : Thread Cert.FfnUpUpdate3ReferenceIdeal.nD Cert.FfnUpUpdate3ReferenceIdeal.τ).loc Cert.FfnUpUpdate3ReferenceIdeal.main_arg8))
      ∧ r.2.sem = fun _ => 0)

def quiescent_FfnDownUpdate0 [hFfnDownUpdate0 : Cert.FfnDownUpdate0.Facts] : Prop :=
  ∀ (m : (ℓ : Loc Cert.FfnDownUpdate0.nD Cert.FfnDownUpdate0.τ Cert.FfnDownUpdate0.sig) → Buf (Elt Bits) ℓ) (g : Dev Cert.FfnDownUpdate0.nD → PrngReg), Pre_FfnDownUpdate0 m →
    θ_run (Cert.FfnDownUpdate0.defs (F := Bits)) (onTc (τ := Cert.FfnDownUpdate0.τ) (Cert.FfnDownUpdate0.main (F := Bits))) ⟨m, fun _ => 0, g⟩ (fun r => (∀ c : Dev Cert.FfnDownUpdate0.nD,
      r.2.mem ((c.tc : Thread Cert.FfnDownUpdate0.nD Cert.FfnDownUpdate0.τ).loc Cert.FfnDownUpdate0.main_arg0) = m ((c.tc : Thread Cert.FfnDownUpdate0.nD Cert.FfnDownUpdate0.τ).loc Cert.FfnDownUpdate0.main_arg0)
      ∧ r.2.mem ((c.tc : Thread Cert.FfnDownUpdate0.nD Cert.FfnDownUpdate0.τ).loc Cert.FfnDownUpdate0.main_arg1) = m ((c.tc : Thread Cert.FfnDownUpdate0.nD Cert.FfnDownUpdate0.τ).loc Cert.FfnDownUpdate0.main_arg1)
      ∧ r.2.mem ((c.tc : Thread Cert.FfnDownUpdate0.nD Cert.FfnDownUpdate0.τ).loc Cert.FfnDownUpdate0.main_arg2) = m ((c.tc : Thread Cert.FfnDownUpdate0.nD Cert.FfnDownUpdate0.τ).loc Cert.FfnDownUpdate0.main_arg2)
      ∧ r.2.mem ((c.tc : Thread Cert.FfnDownUpdate0.nD Cert.FfnDownUpdate0.τ).loc Cert.FfnDownUpdate0.main_arg3) = m ((c.tc : Thread Cert.FfnDownUpdate0.nD Cert.FfnDownUpdate0.τ).loc Cert.FfnDownUpdate0.main_arg3)
      ∧ r.2.mem ((c.tc : Thread Cert.FfnDownUpdate0.nD Cert.FfnDownUpdate0.τ).loc Cert.FfnDownUpdate0.main_arg4) = m ((c.tc : Thread Cert.FfnDownUpdate0.nD Cert.FfnDownUpdate0.τ).loc Cert.FfnDownUpdate0.main_arg4)
      ∧ r.2.mem ((c.tc : Thread Cert.FfnDownUpdate0.nD Cert.FfnDownUpdate0.τ).loc Cert.FfnDownUpdate0.main_arg5) = m ((c.tc : Thread Cert.FfnDownUpdate0.nD Cert.FfnDownUpdate0.τ).loc Cert.FfnDownUpdate0.main_arg5)
      ∧ r.2.mem ((c.tc : Thread Cert.FfnDownUpdate0.nD Cert.FfnDownUpdate0.τ).loc Cert.FfnDownUpdate0.main_arg6) = m ((c.tc : Thread Cert.FfnDownUpdate0.nD Cert.FfnDownUpdate0.τ).loc Cert.FfnDownUpdate0.main_arg6)
      ∧ r.2.mem ((c.tc : Thread Cert.FfnDownUpdate0.nD Cert.FfnDownUpdate0.τ).loc Cert.FfnDownUpdate0.main_arg7) = m ((c.tc : Thread Cert.FfnDownUpdate0.nD Cert.FfnDownUpdate0.τ).loc Cert.FfnDownUpdate0.main_arg7)
      ∧ r.2.mem ((c.tc : Thread Cert.FfnDownUpdate0.nD Cert.FfnDownUpdate0.τ).loc Cert.FfnDownUpdate0.main_arg8) = m ((c.tc : Thread Cert.FfnDownUpdate0.nD Cert.FfnDownUpdate0.τ).loc Cert.FfnDownUpdate0.main_arg8))
      ∧ r.2.sem = fun _ => 0)

def quiescent_FfnDownUpdate0Ideal [hFfnDownUpdate0Ideal : Cert.FfnDownUpdate0Ideal.Facts] : Prop :=
  ∀ (m : (ℓ : Loc Cert.FfnDownUpdate0Ideal.nD Cert.FfnDownUpdate0Ideal.τ Cert.FfnDownUpdate0Ideal.sig) → Buf (Elt Ideal) ℓ) (g : Dev Cert.FfnDownUpdate0Ideal.nD → PrngReg), Pre_FfnDownUpdate0Ideal m →
    θ_run (Cert.FfnDownUpdate0Ideal.defs (F := Ideal)) (onTc (τ := Cert.FfnDownUpdate0Ideal.τ) (Cert.FfnDownUpdate0Ideal.main (F := Ideal))) ⟨m, fun _ => 0, g⟩ (fun r => (∀ c : Dev Cert.FfnDownUpdate0Ideal.nD,
      r.2.mem ((c.tc : Thread Cert.FfnDownUpdate0Ideal.nD Cert.FfnDownUpdate0Ideal.τ).loc Cert.FfnDownUpdate0Ideal.main_arg0) = m ((c.tc : Thread Cert.FfnDownUpdate0Ideal.nD Cert.FfnDownUpdate0Ideal.τ).loc Cert.FfnDownUpdate0Ideal.main_arg0)
      ∧ r.2.mem ((c.tc : Thread Cert.FfnDownUpdate0Ideal.nD Cert.FfnDownUpdate0Ideal.τ).loc Cert.FfnDownUpdate0Ideal.main_arg1) = m ((c.tc : Thread Cert.FfnDownUpdate0Ideal.nD Cert.FfnDownUpdate0Ideal.τ).loc Cert.FfnDownUpdate0Ideal.main_arg1)
      ∧ r.2.mem ((c.tc : Thread Cert.FfnDownUpdate0Ideal.nD Cert.FfnDownUpdate0Ideal.τ).loc Cert.FfnDownUpdate0Ideal.main_arg2) = m ((c.tc : Thread Cert.FfnDownUpdate0Ideal.nD Cert.FfnDownUpdate0Ideal.τ).loc Cert.FfnDownUpdate0Ideal.main_arg2)
      ∧ r.2.mem ((c.tc : Thread Cert.FfnDownUpdate0Ideal.nD Cert.FfnDownUpdate0Ideal.τ).loc Cert.FfnDownUpdate0Ideal.main_arg3) = m ((c.tc : Thread Cert.FfnDownUpdate0Ideal.nD Cert.FfnDownUpdate0Ideal.τ).loc Cert.FfnDownUpdate0Ideal.main_arg3)
      ∧ r.2.mem ((c.tc : Thread Cert.FfnDownUpdate0Ideal.nD Cert.FfnDownUpdate0Ideal.τ).loc Cert.FfnDownUpdate0Ideal.main_arg4) = m ((c.tc : Thread Cert.FfnDownUpdate0Ideal.nD Cert.FfnDownUpdate0Ideal.τ).loc Cert.FfnDownUpdate0Ideal.main_arg4)
      ∧ r.2.mem ((c.tc : Thread Cert.FfnDownUpdate0Ideal.nD Cert.FfnDownUpdate0Ideal.τ).loc Cert.FfnDownUpdate0Ideal.main_arg5) = m ((c.tc : Thread Cert.FfnDownUpdate0Ideal.nD Cert.FfnDownUpdate0Ideal.τ).loc Cert.FfnDownUpdate0Ideal.main_arg5)
      ∧ r.2.mem ((c.tc : Thread Cert.FfnDownUpdate0Ideal.nD Cert.FfnDownUpdate0Ideal.τ).loc Cert.FfnDownUpdate0Ideal.main_arg6) = m ((c.tc : Thread Cert.FfnDownUpdate0Ideal.nD Cert.FfnDownUpdate0Ideal.τ).loc Cert.FfnDownUpdate0Ideal.main_arg6)
      ∧ r.2.mem ((c.tc : Thread Cert.FfnDownUpdate0Ideal.nD Cert.FfnDownUpdate0Ideal.τ).loc Cert.FfnDownUpdate0Ideal.main_arg7) = m ((c.tc : Thread Cert.FfnDownUpdate0Ideal.nD Cert.FfnDownUpdate0Ideal.τ).loc Cert.FfnDownUpdate0Ideal.main_arg7)
      ∧ r.2.mem ((c.tc : Thread Cert.FfnDownUpdate0Ideal.nD Cert.FfnDownUpdate0Ideal.τ).loc Cert.FfnDownUpdate0Ideal.main_arg8) = m ((c.tc : Thread Cert.FfnDownUpdate0Ideal.nD Cert.FfnDownUpdate0Ideal.τ).loc Cert.FfnDownUpdate0Ideal.main_arg8))
      ∧ r.2.sem = fun _ => 0)

def quiescent_FfnDownUpdate0ReferenceIdeal [hFfnDownUpdate0ReferenceIdeal : Cert.FfnDownUpdate0ReferenceIdeal.Facts] : Prop :=
  ∀ (m : (ℓ : Loc Cert.FfnDownUpdate0ReferenceIdeal.nD Cert.FfnDownUpdate0ReferenceIdeal.τ Cert.FfnDownUpdate0ReferenceIdeal.sig) → Buf (Elt Ideal) ℓ) (g : Dev Cert.FfnDownUpdate0ReferenceIdeal.nD → PrngReg), Pre_FfnDownUpdate0ReferenceIdeal m →
    θ_run (Cert.FfnDownUpdate0ReferenceIdeal.defs (F := Ideal)) (onTc (τ := Cert.FfnDownUpdate0ReferenceIdeal.τ) (Cert.FfnDownUpdate0ReferenceIdeal.main (F := Ideal))) ⟨m, fun _ => 0, g⟩ (fun r => (∀ c : Dev Cert.FfnDownUpdate0ReferenceIdeal.nD,
      r.2.mem ((c.tc : Thread Cert.FfnDownUpdate0ReferenceIdeal.nD Cert.FfnDownUpdate0ReferenceIdeal.τ).loc Cert.FfnDownUpdate0ReferenceIdeal.main_arg0) = m ((c.tc : Thread Cert.FfnDownUpdate0ReferenceIdeal.nD Cert.FfnDownUpdate0ReferenceIdeal.τ).loc Cert.FfnDownUpdate0ReferenceIdeal.main_arg0)
      ∧ r.2.mem ((c.tc : Thread Cert.FfnDownUpdate0ReferenceIdeal.nD Cert.FfnDownUpdate0ReferenceIdeal.τ).loc Cert.FfnDownUpdate0ReferenceIdeal.main_arg1) = m ((c.tc : Thread Cert.FfnDownUpdate0ReferenceIdeal.nD Cert.FfnDownUpdate0ReferenceIdeal.τ).loc Cert.FfnDownUpdate0ReferenceIdeal.main_arg1)
      ∧ r.2.mem ((c.tc : Thread Cert.FfnDownUpdate0ReferenceIdeal.nD Cert.FfnDownUpdate0ReferenceIdeal.τ).loc Cert.FfnDownUpdate0ReferenceIdeal.main_arg2) = m ((c.tc : Thread Cert.FfnDownUpdate0ReferenceIdeal.nD Cert.FfnDownUpdate0ReferenceIdeal.τ).loc Cert.FfnDownUpdate0ReferenceIdeal.main_arg2)
      ∧ r.2.mem ((c.tc : Thread Cert.FfnDownUpdate0ReferenceIdeal.nD Cert.FfnDownUpdate0ReferenceIdeal.τ).loc Cert.FfnDownUpdate0ReferenceIdeal.main_arg3) = m ((c.tc : Thread Cert.FfnDownUpdate0ReferenceIdeal.nD Cert.FfnDownUpdate0ReferenceIdeal.τ).loc Cert.FfnDownUpdate0ReferenceIdeal.main_arg3)
      ∧ r.2.mem ((c.tc : Thread Cert.FfnDownUpdate0ReferenceIdeal.nD Cert.FfnDownUpdate0ReferenceIdeal.τ).loc Cert.FfnDownUpdate0ReferenceIdeal.main_arg4) = m ((c.tc : Thread Cert.FfnDownUpdate0ReferenceIdeal.nD Cert.FfnDownUpdate0ReferenceIdeal.τ).loc Cert.FfnDownUpdate0ReferenceIdeal.main_arg4)
      ∧ r.2.mem ((c.tc : Thread Cert.FfnDownUpdate0ReferenceIdeal.nD Cert.FfnDownUpdate0ReferenceIdeal.τ).loc Cert.FfnDownUpdate0ReferenceIdeal.main_arg5) = m ((c.tc : Thread Cert.FfnDownUpdate0ReferenceIdeal.nD Cert.FfnDownUpdate0ReferenceIdeal.τ).loc Cert.FfnDownUpdate0ReferenceIdeal.main_arg5)
      ∧ r.2.mem ((c.tc : Thread Cert.FfnDownUpdate0ReferenceIdeal.nD Cert.FfnDownUpdate0ReferenceIdeal.τ).loc Cert.FfnDownUpdate0ReferenceIdeal.main_arg6) = m ((c.tc : Thread Cert.FfnDownUpdate0ReferenceIdeal.nD Cert.FfnDownUpdate0ReferenceIdeal.τ).loc Cert.FfnDownUpdate0ReferenceIdeal.main_arg6)
      ∧ r.2.mem ((c.tc : Thread Cert.FfnDownUpdate0ReferenceIdeal.nD Cert.FfnDownUpdate0ReferenceIdeal.τ).loc Cert.FfnDownUpdate0ReferenceIdeal.main_arg7) = m ((c.tc : Thread Cert.FfnDownUpdate0ReferenceIdeal.nD Cert.FfnDownUpdate0ReferenceIdeal.τ).loc Cert.FfnDownUpdate0ReferenceIdeal.main_arg7)
      ∧ r.2.mem ((c.tc : Thread Cert.FfnDownUpdate0ReferenceIdeal.nD Cert.FfnDownUpdate0ReferenceIdeal.τ).loc Cert.FfnDownUpdate0ReferenceIdeal.main_arg8) = m ((c.tc : Thread Cert.FfnDownUpdate0ReferenceIdeal.nD Cert.FfnDownUpdate0ReferenceIdeal.τ).loc Cert.FfnDownUpdate0ReferenceIdeal.main_arg8))
      ∧ r.2.sem = fun _ => 0)

def quiescent_FfnDownUpdate1 [hFfnDownUpdate1 : Cert.FfnDownUpdate1.Facts] : Prop :=
  ∀ (m : (ℓ : Loc Cert.FfnDownUpdate1.nD Cert.FfnDownUpdate1.τ Cert.FfnDownUpdate1.sig) → Buf (Elt Bits) ℓ) (g : Dev Cert.FfnDownUpdate1.nD → PrngReg), Pre_FfnDownUpdate1 m →
    θ_run (Cert.FfnDownUpdate1.defs (F := Bits)) (onTc (τ := Cert.FfnDownUpdate1.τ) (Cert.FfnDownUpdate1.main (F := Bits))) ⟨m, fun _ => 0, g⟩ (fun r => (∀ c : Dev Cert.FfnDownUpdate1.nD,
      r.2.mem ((c.tc : Thread Cert.FfnDownUpdate1.nD Cert.FfnDownUpdate1.τ).loc Cert.FfnDownUpdate1.main_arg0) = m ((c.tc : Thread Cert.FfnDownUpdate1.nD Cert.FfnDownUpdate1.τ).loc Cert.FfnDownUpdate1.main_arg0)
      ∧ r.2.mem ((c.tc : Thread Cert.FfnDownUpdate1.nD Cert.FfnDownUpdate1.τ).loc Cert.FfnDownUpdate1.main_arg1) = m ((c.tc : Thread Cert.FfnDownUpdate1.nD Cert.FfnDownUpdate1.τ).loc Cert.FfnDownUpdate1.main_arg1)
      ∧ r.2.mem ((c.tc : Thread Cert.FfnDownUpdate1.nD Cert.FfnDownUpdate1.τ).loc Cert.FfnDownUpdate1.main_arg2) = m ((c.tc : Thread Cert.FfnDownUpdate1.nD Cert.FfnDownUpdate1.τ).loc Cert.FfnDownUpdate1.main_arg2)
      ∧ r.2.mem ((c.tc : Thread Cert.FfnDownUpdate1.nD Cert.FfnDownUpdate1.τ).loc Cert.FfnDownUpdate1.main_arg3) = m ((c.tc : Thread Cert.FfnDownUpdate1.nD Cert.FfnDownUpdate1.τ).loc Cert.FfnDownUpdate1.main_arg3)
      ∧ r.2.mem ((c.tc : Thread Cert.FfnDownUpdate1.nD Cert.FfnDownUpdate1.τ).loc Cert.FfnDownUpdate1.main_arg4) = m ((c.tc : Thread Cert.FfnDownUpdate1.nD Cert.FfnDownUpdate1.τ).loc Cert.FfnDownUpdate1.main_arg4)
      ∧ r.2.mem ((c.tc : Thread Cert.FfnDownUpdate1.nD Cert.FfnDownUpdate1.τ).loc Cert.FfnDownUpdate1.main_arg5) = m ((c.tc : Thread Cert.FfnDownUpdate1.nD Cert.FfnDownUpdate1.τ).loc Cert.FfnDownUpdate1.main_arg5)
      ∧ r.2.mem ((c.tc : Thread Cert.FfnDownUpdate1.nD Cert.FfnDownUpdate1.τ).loc Cert.FfnDownUpdate1.main_arg6) = m ((c.tc : Thread Cert.FfnDownUpdate1.nD Cert.FfnDownUpdate1.τ).loc Cert.FfnDownUpdate1.main_arg6)
      ∧ r.2.mem ((c.tc : Thread Cert.FfnDownUpdate1.nD Cert.FfnDownUpdate1.τ).loc Cert.FfnDownUpdate1.main_arg7) = m ((c.tc : Thread Cert.FfnDownUpdate1.nD Cert.FfnDownUpdate1.τ).loc Cert.FfnDownUpdate1.main_arg7)
      ∧ r.2.mem ((c.tc : Thread Cert.FfnDownUpdate1.nD Cert.FfnDownUpdate1.τ).loc Cert.FfnDownUpdate1.main_arg8) = m ((c.tc : Thread Cert.FfnDownUpdate1.nD Cert.FfnDownUpdate1.τ).loc Cert.FfnDownUpdate1.main_arg8))
      ∧ r.2.sem = fun _ => 0)

def quiescent_FfnDownUpdate1Ideal [hFfnDownUpdate1Ideal : Cert.FfnDownUpdate1Ideal.Facts] : Prop :=
  ∀ (m : (ℓ : Loc Cert.FfnDownUpdate1Ideal.nD Cert.FfnDownUpdate1Ideal.τ Cert.FfnDownUpdate1Ideal.sig) → Buf (Elt Ideal) ℓ) (g : Dev Cert.FfnDownUpdate1Ideal.nD → PrngReg), Pre_FfnDownUpdate1Ideal m →
    θ_run (Cert.FfnDownUpdate1Ideal.defs (F := Ideal)) (onTc (τ := Cert.FfnDownUpdate1Ideal.τ) (Cert.FfnDownUpdate1Ideal.main (F := Ideal))) ⟨m, fun _ => 0, g⟩ (fun r => (∀ c : Dev Cert.FfnDownUpdate1Ideal.nD,
      r.2.mem ((c.tc : Thread Cert.FfnDownUpdate1Ideal.nD Cert.FfnDownUpdate1Ideal.τ).loc Cert.FfnDownUpdate1Ideal.main_arg0) = m ((c.tc : Thread Cert.FfnDownUpdate1Ideal.nD Cert.FfnDownUpdate1Ideal.τ).loc Cert.FfnDownUpdate1Ideal.main_arg0)
      ∧ r.2.mem ((c.tc : Thread Cert.FfnDownUpdate1Ideal.nD Cert.FfnDownUpdate1Ideal.τ).loc Cert.FfnDownUpdate1Ideal.main_arg1) = m ((c.tc : Thread Cert.FfnDownUpdate1Ideal.nD Cert.FfnDownUpdate1Ideal.τ).loc Cert.FfnDownUpdate1Ideal.main_arg1)
      ∧ r.2.mem ((c.tc : Thread Cert.FfnDownUpdate1Ideal.nD Cert.FfnDownUpdate1Ideal.τ).loc Cert.FfnDownUpdate1Ideal.main_arg2) = m ((c.tc : Thread Cert.FfnDownUpdate1Ideal.nD Cert.FfnDownUpdate1Ideal.τ).loc Cert.FfnDownUpdate1Ideal.main_arg2)
      ∧ r.2.mem ((c.tc : Thread Cert.FfnDownUpdate1Ideal.nD Cert.FfnDownUpdate1Ideal.τ).loc Cert.FfnDownUpdate1Ideal.main_arg3) = m ((c.tc : Thread Cert.FfnDownUpdate1Ideal.nD Cert.FfnDownUpdate1Ideal.τ).loc Cert.FfnDownUpdate1Ideal.main_arg3)
      ∧ r.2.mem ((c.tc : Thread Cert.FfnDownUpdate1Ideal.nD Cert.FfnDownUpdate1Ideal.τ).loc Cert.FfnDownUpdate1Ideal.main_arg4) = m ((c.tc : Thread Cert.FfnDownUpdate1Ideal.nD Cert.FfnDownUpdate1Ideal.τ).loc Cert.FfnDownUpdate1Ideal.main_arg4)
      ∧ r.2.mem ((c.tc : Thread Cert.FfnDownUpdate1Ideal.nD Cert.FfnDownUpdate1Ideal.τ).loc Cert.FfnDownUpdate1Ideal.main_arg5) = m ((c.tc : Thread Cert.FfnDownUpdate1Ideal.nD Cert.FfnDownUpdate1Ideal.τ).loc Cert.FfnDownUpdate1Ideal.main_arg5)
      ∧ r.2.mem ((c.tc : Thread Cert.FfnDownUpdate1Ideal.nD Cert.FfnDownUpdate1Ideal.τ).loc Cert.FfnDownUpdate1Ideal.main_arg6) = m ((c.tc : Thread Cert.FfnDownUpdate1Ideal.nD Cert.FfnDownUpdate1Ideal.τ).loc Cert.FfnDownUpdate1Ideal.main_arg6)
      ∧ r.2.mem ((c.tc : Thread Cert.FfnDownUpdate1Ideal.nD Cert.FfnDownUpdate1Ideal.τ).loc Cert.FfnDownUpdate1Ideal.main_arg7) = m ((c.tc : Thread Cert.FfnDownUpdate1Ideal.nD Cert.FfnDownUpdate1Ideal.τ).loc Cert.FfnDownUpdate1Ideal.main_arg7)
      ∧ r.2.mem ((c.tc : Thread Cert.FfnDownUpdate1Ideal.nD Cert.FfnDownUpdate1Ideal.τ).loc Cert.FfnDownUpdate1Ideal.main_arg8) = m ((c.tc : Thread Cert.FfnDownUpdate1Ideal.nD Cert.FfnDownUpdate1Ideal.τ).loc Cert.FfnDownUpdate1Ideal.main_arg8))
      ∧ r.2.sem = fun _ => 0)

def quiescent_FfnDownUpdate1ReferenceIdeal [hFfnDownUpdate1ReferenceIdeal : Cert.FfnDownUpdate1ReferenceIdeal.Facts] : Prop :=
  ∀ (m : (ℓ : Loc Cert.FfnDownUpdate1ReferenceIdeal.nD Cert.FfnDownUpdate1ReferenceIdeal.τ Cert.FfnDownUpdate1ReferenceIdeal.sig) → Buf (Elt Ideal) ℓ) (g : Dev Cert.FfnDownUpdate1ReferenceIdeal.nD → PrngReg), Pre_FfnDownUpdate1ReferenceIdeal m →
    θ_run (Cert.FfnDownUpdate1ReferenceIdeal.defs (F := Ideal)) (onTc (τ := Cert.FfnDownUpdate1ReferenceIdeal.τ) (Cert.FfnDownUpdate1ReferenceIdeal.main (F := Ideal))) ⟨m, fun _ => 0, g⟩ (fun r => (∀ c : Dev Cert.FfnDownUpdate1ReferenceIdeal.nD,
      r.2.mem ((c.tc : Thread Cert.FfnDownUpdate1ReferenceIdeal.nD Cert.FfnDownUpdate1ReferenceIdeal.τ).loc Cert.FfnDownUpdate1ReferenceIdeal.main_arg0) = m ((c.tc : Thread Cert.FfnDownUpdate1ReferenceIdeal.nD Cert.FfnDownUpdate1ReferenceIdeal.τ).loc Cert.FfnDownUpdate1ReferenceIdeal.main_arg0)
      ∧ r.2.mem ((c.tc : Thread Cert.FfnDownUpdate1ReferenceIdeal.nD Cert.FfnDownUpdate1ReferenceIdeal.τ).loc Cert.FfnDownUpdate1ReferenceIdeal.main_arg1) = m ((c.tc : Thread Cert.FfnDownUpdate1ReferenceIdeal.nD Cert.FfnDownUpdate1ReferenceIdeal.τ).loc Cert.FfnDownUpdate1ReferenceIdeal.main_arg1)
      ∧ r.2.mem ((c.tc : Thread Cert.FfnDownUpdate1ReferenceIdeal.nD Cert.FfnDownUpdate1ReferenceIdeal.τ).loc Cert.FfnDownUpdate1ReferenceIdeal.main_arg2) = m ((c.tc : Thread Cert.FfnDownUpdate1ReferenceIdeal.nD Cert.FfnDownUpdate1ReferenceIdeal.τ).loc Cert.FfnDownUpdate1ReferenceIdeal.main_arg2)
      ∧ r.2.mem ((c.tc : Thread Cert.FfnDownUpdate1ReferenceIdeal.nD Cert.FfnDownUpdate1ReferenceIdeal.τ).loc Cert.FfnDownUpdate1ReferenceIdeal.main_arg3) = m ((c.tc : Thread Cert.FfnDownUpdate1ReferenceIdeal.nD Cert.FfnDownUpdate1ReferenceIdeal.τ).loc Cert.FfnDownUpdate1ReferenceIdeal.main_arg3)
      ∧ r.2.mem ((c.tc : Thread Cert.FfnDownUpdate1ReferenceIdeal.nD Cert.FfnDownUpdate1ReferenceIdeal.τ).loc Cert.FfnDownUpdate1ReferenceIdeal.main_arg4) = m ((c.tc : Thread Cert.FfnDownUpdate1ReferenceIdeal.nD Cert.FfnDownUpdate1ReferenceIdeal.τ).loc Cert.FfnDownUpdate1ReferenceIdeal.main_arg4)
      ∧ r.2.mem ((c.tc : Thread Cert.FfnDownUpdate1ReferenceIdeal.nD Cert.FfnDownUpdate1ReferenceIdeal.τ).loc Cert.FfnDownUpdate1ReferenceIdeal.main_arg5) = m ((c.tc : Thread Cert.FfnDownUpdate1ReferenceIdeal.nD Cert.FfnDownUpdate1ReferenceIdeal.τ).loc Cert.FfnDownUpdate1ReferenceIdeal.main_arg5)
      ∧ r.2.mem ((c.tc : Thread Cert.FfnDownUpdate1ReferenceIdeal.nD Cert.FfnDownUpdate1ReferenceIdeal.τ).loc Cert.FfnDownUpdate1ReferenceIdeal.main_arg6) = m ((c.tc : Thread Cert.FfnDownUpdate1ReferenceIdeal.nD Cert.FfnDownUpdate1ReferenceIdeal.τ).loc Cert.FfnDownUpdate1ReferenceIdeal.main_arg6)
      ∧ r.2.mem ((c.tc : Thread Cert.FfnDownUpdate1ReferenceIdeal.nD Cert.FfnDownUpdate1ReferenceIdeal.τ).loc Cert.FfnDownUpdate1ReferenceIdeal.main_arg7) = m ((c.tc : Thread Cert.FfnDownUpdate1ReferenceIdeal.nD Cert.FfnDownUpdate1ReferenceIdeal.τ).loc Cert.FfnDownUpdate1ReferenceIdeal.main_arg7)
      ∧ r.2.mem ((c.tc : Thread Cert.FfnDownUpdate1ReferenceIdeal.nD Cert.FfnDownUpdate1ReferenceIdeal.τ).loc Cert.FfnDownUpdate1ReferenceIdeal.main_arg8) = m ((c.tc : Thread Cert.FfnDownUpdate1ReferenceIdeal.nD Cert.FfnDownUpdate1ReferenceIdeal.τ).loc Cert.FfnDownUpdate1ReferenceIdeal.main_arg8))
      ∧ r.2.sem = fun _ => 0)

def quiescent_FfnDownUpdate2 [hFfnDownUpdate2 : Cert.FfnDownUpdate2.Facts] : Prop :=
  ∀ (m : (ℓ : Loc Cert.FfnDownUpdate2.nD Cert.FfnDownUpdate2.τ Cert.FfnDownUpdate2.sig) → Buf (Elt Bits) ℓ) (g : Dev Cert.FfnDownUpdate2.nD → PrngReg), Pre_FfnDownUpdate2 m →
    θ_run (Cert.FfnDownUpdate2.defs (F := Bits)) (onTc (τ := Cert.FfnDownUpdate2.τ) (Cert.FfnDownUpdate2.main (F := Bits))) ⟨m, fun _ => 0, g⟩ (fun r => (∀ c : Dev Cert.FfnDownUpdate2.nD,
      r.2.mem ((c.tc : Thread Cert.FfnDownUpdate2.nD Cert.FfnDownUpdate2.τ).loc Cert.FfnDownUpdate2.main_arg0) = m ((c.tc : Thread Cert.FfnDownUpdate2.nD Cert.FfnDownUpdate2.τ).loc Cert.FfnDownUpdate2.main_arg0)
      ∧ r.2.mem ((c.tc : Thread Cert.FfnDownUpdate2.nD Cert.FfnDownUpdate2.τ).loc Cert.FfnDownUpdate2.main_arg1) = m ((c.tc : Thread Cert.FfnDownUpdate2.nD Cert.FfnDownUpdate2.τ).loc Cert.FfnDownUpdate2.main_arg1)
      ∧ r.2.mem ((c.tc : Thread Cert.FfnDownUpdate2.nD Cert.FfnDownUpdate2.τ).loc Cert.FfnDownUpdate2.main_arg2) = m ((c.tc : Thread Cert.FfnDownUpdate2.nD Cert.FfnDownUpdate2.τ).loc Cert.FfnDownUpdate2.main_arg2)
      ∧ r.2.mem ((c.tc : Thread Cert.FfnDownUpdate2.nD Cert.FfnDownUpdate2.τ).loc Cert.FfnDownUpdate2.main_arg3) = m ((c.tc : Thread Cert.FfnDownUpdate2.nD Cert.FfnDownUpdate2.τ).loc Cert.FfnDownUpdate2.main_arg3)
      ∧ r.2.mem ((c.tc : Thread Cert.FfnDownUpdate2.nD Cert.FfnDownUpdate2.τ).loc Cert.FfnDownUpdate2.main_arg4) = m ((c.tc : Thread Cert.FfnDownUpdate2.nD Cert.FfnDownUpdate2.τ).loc Cert.FfnDownUpdate2.main_arg4)
      ∧ r.2.mem ((c.tc : Thread Cert.FfnDownUpdate2.nD Cert.FfnDownUpdate2.τ).loc Cert.FfnDownUpdate2.main_arg5) = m ((c.tc : Thread Cert.FfnDownUpdate2.nD Cert.FfnDownUpdate2.τ).loc Cert.FfnDownUpdate2.main_arg5)
      ∧ r.2.mem ((c.tc : Thread Cert.FfnDownUpdate2.nD Cert.FfnDownUpdate2.τ).loc Cert.FfnDownUpdate2.main_arg6) = m ((c.tc : Thread Cert.FfnDownUpdate2.nD Cert.FfnDownUpdate2.τ).loc Cert.FfnDownUpdate2.main_arg6)
      ∧ r.2.mem ((c.tc : Thread Cert.FfnDownUpdate2.nD Cert.FfnDownUpdate2.τ).loc Cert.FfnDownUpdate2.main_arg7) = m ((c.tc : Thread Cert.FfnDownUpdate2.nD Cert.FfnDownUpdate2.τ).loc Cert.FfnDownUpdate2.main_arg7)
      ∧ r.2.mem ((c.tc : Thread Cert.FfnDownUpdate2.nD Cert.FfnDownUpdate2.τ).loc Cert.FfnDownUpdate2.main_arg8) = m ((c.tc : Thread Cert.FfnDownUpdate2.nD Cert.FfnDownUpdate2.τ).loc Cert.FfnDownUpdate2.main_arg8))
      ∧ r.2.sem = fun _ => 0)

def quiescent_FfnDownUpdate2Ideal [hFfnDownUpdate2Ideal : Cert.FfnDownUpdate2Ideal.Facts] : Prop :=
  ∀ (m : (ℓ : Loc Cert.FfnDownUpdate2Ideal.nD Cert.FfnDownUpdate2Ideal.τ Cert.FfnDownUpdate2Ideal.sig) → Buf (Elt Ideal) ℓ) (g : Dev Cert.FfnDownUpdate2Ideal.nD → PrngReg), Pre_FfnDownUpdate2Ideal m →
    θ_run (Cert.FfnDownUpdate2Ideal.defs (F := Ideal)) (onTc (τ := Cert.FfnDownUpdate2Ideal.τ) (Cert.FfnDownUpdate2Ideal.main (F := Ideal))) ⟨m, fun _ => 0, g⟩ (fun r => (∀ c : Dev Cert.FfnDownUpdate2Ideal.nD,
      r.2.mem ((c.tc : Thread Cert.FfnDownUpdate2Ideal.nD Cert.FfnDownUpdate2Ideal.τ).loc Cert.FfnDownUpdate2Ideal.main_arg0) = m ((c.tc : Thread Cert.FfnDownUpdate2Ideal.nD Cert.FfnDownUpdate2Ideal.τ).loc Cert.FfnDownUpdate2Ideal.main_arg0)
      ∧ r.2.mem ((c.tc : Thread Cert.FfnDownUpdate2Ideal.nD Cert.FfnDownUpdate2Ideal.τ).loc Cert.FfnDownUpdate2Ideal.main_arg1) = m ((c.tc : Thread Cert.FfnDownUpdate2Ideal.nD Cert.FfnDownUpdate2Ideal.τ).loc Cert.FfnDownUpdate2Ideal.main_arg1)
      ∧ r.2.mem ((c.tc : Thread Cert.FfnDownUpdate2Ideal.nD Cert.FfnDownUpdate2Ideal.τ).loc Cert.FfnDownUpdate2Ideal.main_arg2) = m ((c.tc : Thread Cert.FfnDownUpdate2Ideal.nD Cert.FfnDownUpdate2Ideal.τ).loc Cert.FfnDownUpdate2Ideal.main_arg2)
      ∧ r.2.mem ((c.tc : Thread Cert.FfnDownUpdate2Ideal.nD Cert.FfnDownUpdate2Ideal.τ).loc Cert.FfnDownUpdate2Ideal.main_arg3) = m ((c.tc : Thread Cert.FfnDownUpdate2Ideal.nD Cert.FfnDownUpdate2Ideal.τ).loc Cert.FfnDownUpdate2Ideal.main_arg3)
      ∧ r.2.mem ((c.tc : Thread Cert.FfnDownUpdate2Ideal.nD Cert.FfnDownUpdate2Ideal.τ).loc Cert.FfnDownUpdate2Ideal.main_arg4) = m ((c.tc : Thread Cert.FfnDownUpdate2Ideal.nD Cert.FfnDownUpdate2Ideal.τ).loc Cert.FfnDownUpdate2Ideal.main_arg4)
      ∧ r.2.mem ((c.tc : Thread Cert.FfnDownUpdate2Ideal.nD Cert.FfnDownUpdate2Ideal.τ).loc Cert.FfnDownUpdate2Ideal.main_arg5) = m ((c.tc : Thread Cert.FfnDownUpdate2Ideal.nD Cert.FfnDownUpdate2Ideal.τ).loc Cert.FfnDownUpdate2Ideal.main_arg5)
      ∧ r.2.mem ((c.tc : Thread Cert.FfnDownUpdate2Ideal.nD Cert.FfnDownUpdate2Ideal.τ).loc Cert.FfnDownUpdate2Ideal.main_arg6) = m ((c.tc : Thread Cert.FfnDownUpdate2Ideal.nD Cert.FfnDownUpdate2Ideal.τ).loc Cert.FfnDownUpdate2Ideal.main_arg6)
      ∧ r.2.mem ((c.tc : Thread Cert.FfnDownUpdate2Ideal.nD Cert.FfnDownUpdate2Ideal.τ).loc Cert.FfnDownUpdate2Ideal.main_arg7) = m ((c.tc : Thread Cert.FfnDownUpdate2Ideal.nD Cert.FfnDownUpdate2Ideal.τ).loc Cert.FfnDownUpdate2Ideal.main_arg7)
      ∧ r.2.mem ((c.tc : Thread Cert.FfnDownUpdate2Ideal.nD Cert.FfnDownUpdate2Ideal.τ).loc Cert.FfnDownUpdate2Ideal.main_arg8) = m ((c.tc : Thread Cert.FfnDownUpdate2Ideal.nD Cert.FfnDownUpdate2Ideal.τ).loc Cert.FfnDownUpdate2Ideal.main_arg8))
      ∧ r.2.sem = fun _ => 0)

def quiescent_FfnDownUpdate2ReferenceIdeal [hFfnDownUpdate2ReferenceIdeal : Cert.FfnDownUpdate2ReferenceIdeal.Facts] : Prop :=
  ∀ (m : (ℓ : Loc Cert.FfnDownUpdate2ReferenceIdeal.nD Cert.FfnDownUpdate2ReferenceIdeal.τ Cert.FfnDownUpdate2ReferenceIdeal.sig) → Buf (Elt Ideal) ℓ) (g : Dev Cert.FfnDownUpdate2ReferenceIdeal.nD → PrngReg), Pre_FfnDownUpdate2ReferenceIdeal m →
    θ_run (Cert.FfnDownUpdate2ReferenceIdeal.defs (F := Ideal)) (onTc (τ := Cert.FfnDownUpdate2ReferenceIdeal.τ) (Cert.FfnDownUpdate2ReferenceIdeal.main (F := Ideal))) ⟨m, fun _ => 0, g⟩ (fun r => (∀ c : Dev Cert.FfnDownUpdate2ReferenceIdeal.nD,
      r.2.mem ((c.tc : Thread Cert.FfnDownUpdate2ReferenceIdeal.nD Cert.FfnDownUpdate2ReferenceIdeal.τ).loc Cert.FfnDownUpdate2ReferenceIdeal.main_arg0) = m ((c.tc : Thread Cert.FfnDownUpdate2ReferenceIdeal.nD Cert.FfnDownUpdate2ReferenceIdeal.τ).loc Cert.FfnDownUpdate2ReferenceIdeal.main_arg0)
      ∧ r.2.mem ((c.tc : Thread Cert.FfnDownUpdate2ReferenceIdeal.nD Cert.FfnDownUpdate2ReferenceIdeal.τ).loc Cert.FfnDownUpdate2ReferenceIdeal.main_arg1) = m ((c.tc : Thread Cert.FfnDownUpdate2ReferenceIdeal.nD Cert.FfnDownUpdate2ReferenceIdeal.τ).loc Cert.FfnDownUpdate2ReferenceIdeal.main_arg1)
      ∧ r.2.mem ((c.tc : Thread Cert.FfnDownUpdate2ReferenceIdeal.nD Cert.FfnDownUpdate2ReferenceIdeal.τ).loc Cert.FfnDownUpdate2ReferenceIdeal.main_arg2) = m ((c.tc : Thread Cert.FfnDownUpdate2ReferenceIdeal.nD Cert.FfnDownUpdate2ReferenceIdeal.τ).loc Cert.FfnDownUpdate2ReferenceIdeal.main_arg2)
      ∧ r.2.mem ((c.tc : Thread Cert.FfnDownUpdate2ReferenceIdeal.nD Cert.FfnDownUpdate2ReferenceIdeal.τ).loc Cert.FfnDownUpdate2ReferenceIdeal.main_arg3) = m ((c.tc : Thread Cert.FfnDownUpdate2ReferenceIdeal.nD Cert.FfnDownUpdate2ReferenceIdeal.τ).loc Cert.FfnDownUpdate2ReferenceIdeal.main_arg3)
      ∧ r.2.mem ((c.tc : Thread Cert.FfnDownUpdate2ReferenceIdeal.nD Cert.FfnDownUpdate2ReferenceIdeal.τ).loc Cert.FfnDownUpdate2ReferenceIdeal.main_arg4) = m ((c.tc : Thread Cert.FfnDownUpdate2ReferenceIdeal.nD Cert.FfnDownUpdate2ReferenceIdeal.τ).loc Cert.FfnDownUpdate2ReferenceIdeal.main_arg4)
      ∧ r.2.mem ((c.tc : Thread Cert.FfnDownUpdate2ReferenceIdeal.nD Cert.FfnDownUpdate2ReferenceIdeal.τ).loc Cert.FfnDownUpdate2ReferenceIdeal.main_arg5) = m ((c.tc : Thread Cert.FfnDownUpdate2ReferenceIdeal.nD Cert.FfnDownUpdate2ReferenceIdeal.τ).loc Cert.FfnDownUpdate2ReferenceIdeal.main_arg5)
      ∧ r.2.mem ((c.tc : Thread Cert.FfnDownUpdate2ReferenceIdeal.nD Cert.FfnDownUpdate2ReferenceIdeal.τ).loc Cert.FfnDownUpdate2ReferenceIdeal.main_arg6) = m ((c.tc : Thread Cert.FfnDownUpdate2ReferenceIdeal.nD Cert.FfnDownUpdate2ReferenceIdeal.τ).loc Cert.FfnDownUpdate2ReferenceIdeal.main_arg6)
      ∧ r.2.mem ((c.tc : Thread Cert.FfnDownUpdate2ReferenceIdeal.nD Cert.FfnDownUpdate2ReferenceIdeal.τ).loc Cert.FfnDownUpdate2ReferenceIdeal.main_arg7) = m ((c.tc : Thread Cert.FfnDownUpdate2ReferenceIdeal.nD Cert.FfnDownUpdate2ReferenceIdeal.τ).loc Cert.FfnDownUpdate2ReferenceIdeal.main_arg7)
      ∧ r.2.mem ((c.tc : Thread Cert.FfnDownUpdate2ReferenceIdeal.nD Cert.FfnDownUpdate2ReferenceIdeal.τ).loc Cert.FfnDownUpdate2ReferenceIdeal.main_arg8) = m ((c.tc : Thread Cert.FfnDownUpdate2ReferenceIdeal.nD Cert.FfnDownUpdate2ReferenceIdeal.τ).loc Cert.FfnDownUpdate2ReferenceIdeal.main_arg8))
      ∧ r.2.sem = fun _ => 0)

def quiescent_FfnDownUpdate3 [hFfnDownUpdate3 : Cert.FfnDownUpdate3.Facts] : Prop :=
  ∀ (m : (ℓ : Loc Cert.FfnDownUpdate3.nD Cert.FfnDownUpdate3.τ Cert.FfnDownUpdate3.sig) → Buf (Elt Bits) ℓ) (g : Dev Cert.FfnDownUpdate3.nD → PrngReg), Pre_FfnDownUpdate3 m →
    θ_run (Cert.FfnDownUpdate3.defs (F := Bits)) (onTc (τ := Cert.FfnDownUpdate3.τ) (Cert.FfnDownUpdate3.main (F := Bits))) ⟨m, fun _ => 0, g⟩ (fun r => (∀ c : Dev Cert.FfnDownUpdate3.nD,
      r.2.mem ((c.tc : Thread Cert.FfnDownUpdate3.nD Cert.FfnDownUpdate3.τ).loc Cert.FfnDownUpdate3.main_arg0) = m ((c.tc : Thread Cert.FfnDownUpdate3.nD Cert.FfnDownUpdate3.τ).loc Cert.FfnDownUpdate3.main_arg0)
      ∧ r.2.mem ((c.tc : Thread Cert.FfnDownUpdate3.nD Cert.FfnDownUpdate3.τ).loc Cert.FfnDownUpdate3.main_arg1) = m ((c.tc : Thread Cert.FfnDownUpdate3.nD Cert.FfnDownUpdate3.τ).loc Cert.FfnDownUpdate3.main_arg1)
      ∧ r.2.mem ((c.tc : Thread Cert.FfnDownUpdate3.nD Cert.FfnDownUpdate3.τ).loc Cert.FfnDownUpdate3.main_arg2) = m ((c.tc : Thread Cert.FfnDownUpdate3.nD Cert.FfnDownUpdate3.τ).loc Cert.FfnDownUpdate3.main_arg2)
      ∧ r.2.mem ((c.tc : Thread Cert.FfnDownUpdate3.nD Cert.FfnDownUpdate3.τ).loc Cert.FfnDownUpdate3.main_arg3) = m ((c.tc : Thread Cert.FfnDownUpdate3.nD Cert.FfnDownUpdate3.τ).loc Cert.FfnDownUpdate3.main_arg3)
      ∧ r.2.mem ((c.tc : Thread Cert.FfnDownUpdate3.nD Cert.FfnDownUpdate3.τ).loc Cert.FfnDownUpdate3.main_arg4) = m ((c.tc : Thread Cert.FfnDownUpdate3.nD Cert.FfnDownUpdate3.τ).loc Cert.FfnDownUpdate3.main_arg4)
      ∧ r.2.mem ((c.tc : Thread Cert.FfnDownUpdate3.nD Cert.FfnDownUpdate3.τ).loc Cert.FfnDownUpdate3.main_arg5) = m ((c.tc : Thread Cert.FfnDownUpdate3.nD Cert.FfnDownUpdate3.τ).loc Cert.FfnDownUpdate3.main_arg5)
      ∧ r.2.mem ((c.tc : Thread Cert.FfnDownUpdate3.nD Cert.FfnDownUpdate3.τ).loc Cert.FfnDownUpdate3.main_arg6) = m ((c.tc : Thread Cert.FfnDownUpdate3.nD Cert.FfnDownUpdate3.τ).loc Cert.FfnDownUpdate3.main_arg6)
      ∧ r.2.mem ((c.tc : Thread Cert.FfnDownUpdate3.nD Cert.FfnDownUpdate3.τ).loc Cert.FfnDownUpdate3.main_arg7) = m ((c.tc : Thread Cert.FfnDownUpdate3.nD Cert.FfnDownUpdate3.τ).loc Cert.FfnDownUpdate3.main_arg7)
      ∧ r.2.mem ((c.tc : Thread Cert.FfnDownUpdate3.nD Cert.FfnDownUpdate3.τ).loc Cert.FfnDownUpdate3.main_arg8) = m ((c.tc : Thread Cert.FfnDownUpdate3.nD Cert.FfnDownUpdate3.τ).loc Cert.FfnDownUpdate3.main_arg8))
      ∧ r.2.sem = fun _ => 0)

def quiescent_FfnDownUpdate3Ideal [hFfnDownUpdate3Ideal : Cert.FfnDownUpdate3Ideal.Facts] : Prop :=
  ∀ (m : (ℓ : Loc Cert.FfnDownUpdate3Ideal.nD Cert.FfnDownUpdate3Ideal.τ Cert.FfnDownUpdate3Ideal.sig) → Buf (Elt Ideal) ℓ) (g : Dev Cert.FfnDownUpdate3Ideal.nD → PrngReg), Pre_FfnDownUpdate3Ideal m →
    θ_run (Cert.FfnDownUpdate3Ideal.defs (F := Ideal)) (onTc (τ := Cert.FfnDownUpdate3Ideal.τ) (Cert.FfnDownUpdate3Ideal.main (F := Ideal))) ⟨m, fun _ => 0, g⟩ (fun r => (∀ c : Dev Cert.FfnDownUpdate3Ideal.nD,
      r.2.mem ((c.tc : Thread Cert.FfnDownUpdate3Ideal.nD Cert.FfnDownUpdate3Ideal.τ).loc Cert.FfnDownUpdate3Ideal.main_arg0) = m ((c.tc : Thread Cert.FfnDownUpdate3Ideal.nD Cert.FfnDownUpdate3Ideal.τ).loc Cert.FfnDownUpdate3Ideal.main_arg0)
      ∧ r.2.mem ((c.tc : Thread Cert.FfnDownUpdate3Ideal.nD Cert.FfnDownUpdate3Ideal.τ).loc Cert.FfnDownUpdate3Ideal.main_arg1) = m ((c.tc : Thread Cert.FfnDownUpdate3Ideal.nD Cert.FfnDownUpdate3Ideal.τ).loc Cert.FfnDownUpdate3Ideal.main_arg1)
      ∧ r.2.mem ((c.tc : Thread Cert.FfnDownUpdate3Ideal.nD Cert.FfnDownUpdate3Ideal.τ).loc Cert.FfnDownUpdate3Ideal.main_arg2) = m ((c.tc : Thread Cert.FfnDownUpdate3Ideal.nD Cert.FfnDownUpdate3Ideal.τ).loc Cert.FfnDownUpdate3Ideal.main_arg2)
      ∧ r.2.mem ((c.tc : Thread Cert.FfnDownUpdate3Ideal.nD Cert.FfnDownUpdate3Ideal.τ).loc Cert.FfnDownUpdate3Ideal.main_arg3) = m ((c.tc : Thread Cert.FfnDownUpdate3Ideal.nD Cert.FfnDownUpdate3Ideal.τ).loc Cert.FfnDownUpdate3Ideal.main_arg3)
      ∧ r.2.mem ((c.tc : Thread Cert.FfnDownUpdate3Ideal.nD Cert.FfnDownUpdate3Ideal.τ).loc Cert.FfnDownUpdate3Ideal.main_arg4) = m ((c.tc : Thread Cert.FfnDownUpdate3Ideal.nD Cert.FfnDownUpdate3Ideal.τ).loc Cert.FfnDownUpdate3Ideal.main_arg4)
      ∧ r.2.mem ((c.tc : Thread Cert.FfnDownUpdate3Ideal.nD Cert.FfnDownUpdate3Ideal.τ).loc Cert.FfnDownUpdate3Ideal.main_arg5) = m ((c.tc : Thread Cert.FfnDownUpdate3Ideal.nD Cert.FfnDownUpdate3Ideal.τ).loc Cert.FfnDownUpdate3Ideal.main_arg5)
      ∧ r.2.mem ((c.tc : Thread Cert.FfnDownUpdate3Ideal.nD Cert.FfnDownUpdate3Ideal.τ).loc Cert.FfnDownUpdate3Ideal.main_arg6) = m ((c.tc : Thread Cert.FfnDownUpdate3Ideal.nD Cert.FfnDownUpdate3Ideal.τ).loc Cert.FfnDownUpdate3Ideal.main_arg6)
      ∧ r.2.mem ((c.tc : Thread Cert.FfnDownUpdate3Ideal.nD Cert.FfnDownUpdate3Ideal.τ).loc Cert.FfnDownUpdate3Ideal.main_arg7) = m ((c.tc : Thread Cert.FfnDownUpdate3Ideal.nD Cert.FfnDownUpdate3Ideal.τ).loc Cert.FfnDownUpdate3Ideal.main_arg7)
      ∧ r.2.mem ((c.tc : Thread Cert.FfnDownUpdate3Ideal.nD Cert.FfnDownUpdate3Ideal.τ).loc Cert.FfnDownUpdate3Ideal.main_arg8) = m ((c.tc : Thread Cert.FfnDownUpdate3Ideal.nD Cert.FfnDownUpdate3Ideal.τ).loc Cert.FfnDownUpdate3Ideal.main_arg8))
      ∧ r.2.sem = fun _ => 0)

def quiescent_FfnDownUpdate3ReferenceIdeal [hFfnDownUpdate3ReferenceIdeal : Cert.FfnDownUpdate3ReferenceIdeal.Facts] : Prop :=
  ∀ (m : (ℓ : Loc Cert.FfnDownUpdate3ReferenceIdeal.nD Cert.FfnDownUpdate3ReferenceIdeal.τ Cert.FfnDownUpdate3ReferenceIdeal.sig) → Buf (Elt Ideal) ℓ) (g : Dev Cert.FfnDownUpdate3ReferenceIdeal.nD → PrngReg), Pre_FfnDownUpdate3ReferenceIdeal m →
    θ_run (Cert.FfnDownUpdate3ReferenceIdeal.defs (F := Ideal)) (onTc (τ := Cert.FfnDownUpdate3ReferenceIdeal.τ) (Cert.FfnDownUpdate3ReferenceIdeal.main (F := Ideal))) ⟨m, fun _ => 0, g⟩ (fun r => (∀ c : Dev Cert.FfnDownUpdate3ReferenceIdeal.nD,
      r.2.mem ((c.tc : Thread Cert.FfnDownUpdate3ReferenceIdeal.nD Cert.FfnDownUpdate3ReferenceIdeal.τ).loc Cert.FfnDownUpdate3ReferenceIdeal.main_arg0) = m ((c.tc : Thread Cert.FfnDownUpdate3ReferenceIdeal.nD Cert.FfnDownUpdate3ReferenceIdeal.τ).loc Cert.FfnDownUpdate3ReferenceIdeal.main_arg0)
      ∧ r.2.mem ((c.tc : Thread Cert.FfnDownUpdate3ReferenceIdeal.nD Cert.FfnDownUpdate3ReferenceIdeal.τ).loc Cert.FfnDownUpdate3ReferenceIdeal.main_arg1) = m ((c.tc : Thread Cert.FfnDownUpdate3ReferenceIdeal.nD Cert.FfnDownUpdate3ReferenceIdeal.τ).loc Cert.FfnDownUpdate3ReferenceIdeal.main_arg1)
      ∧ r.2.mem ((c.tc : Thread Cert.FfnDownUpdate3ReferenceIdeal.nD Cert.FfnDownUpdate3ReferenceIdeal.τ).loc Cert.FfnDownUpdate3ReferenceIdeal.main_arg2) = m ((c.tc : Thread Cert.FfnDownUpdate3ReferenceIdeal.nD Cert.FfnDownUpdate3ReferenceIdeal.τ).loc Cert.FfnDownUpdate3ReferenceIdeal.main_arg2)
      ∧ r.2.mem ((c.tc : Thread Cert.FfnDownUpdate3ReferenceIdeal.nD Cert.FfnDownUpdate3ReferenceIdeal.τ).loc Cert.FfnDownUpdate3ReferenceIdeal.main_arg3) = m ((c.tc : Thread Cert.FfnDownUpdate3ReferenceIdeal.nD Cert.FfnDownUpdate3ReferenceIdeal.τ).loc Cert.FfnDownUpdate3ReferenceIdeal.main_arg3)
      ∧ r.2.mem ((c.tc : Thread Cert.FfnDownUpdate3ReferenceIdeal.nD Cert.FfnDownUpdate3ReferenceIdeal.τ).loc Cert.FfnDownUpdate3ReferenceIdeal.main_arg4) = m ((c.tc : Thread Cert.FfnDownUpdate3ReferenceIdeal.nD Cert.FfnDownUpdate3ReferenceIdeal.τ).loc Cert.FfnDownUpdate3ReferenceIdeal.main_arg4)
      ∧ r.2.mem ((c.tc : Thread Cert.FfnDownUpdate3ReferenceIdeal.nD Cert.FfnDownUpdate3ReferenceIdeal.τ).loc Cert.FfnDownUpdate3ReferenceIdeal.main_arg5) = m ((c.tc : Thread Cert.FfnDownUpdate3ReferenceIdeal.nD Cert.FfnDownUpdate3ReferenceIdeal.τ).loc Cert.FfnDownUpdate3ReferenceIdeal.main_arg5)
      ∧ r.2.mem ((c.tc : Thread Cert.FfnDownUpdate3ReferenceIdeal.nD Cert.FfnDownUpdate3ReferenceIdeal.τ).loc Cert.FfnDownUpdate3ReferenceIdeal.main_arg6) = m ((c.tc : Thread Cert.FfnDownUpdate3ReferenceIdeal.nD Cert.FfnDownUpdate3ReferenceIdeal.τ).loc Cert.FfnDownUpdate3ReferenceIdeal.main_arg6)
      ∧ r.2.mem ((c.tc : Thread Cert.FfnDownUpdate3ReferenceIdeal.nD Cert.FfnDownUpdate3ReferenceIdeal.τ).loc Cert.FfnDownUpdate3ReferenceIdeal.main_arg7) = m ((c.tc : Thread Cert.FfnDownUpdate3ReferenceIdeal.nD Cert.FfnDownUpdate3ReferenceIdeal.τ).loc Cert.FfnDownUpdate3ReferenceIdeal.main_arg7)
      ∧ r.2.mem ((c.tc : Thread Cert.FfnDownUpdate3ReferenceIdeal.nD Cert.FfnDownUpdate3ReferenceIdeal.τ).loc Cert.FfnDownUpdate3ReferenceIdeal.main_arg8) = m ((c.tc : Thread Cert.FfnDownUpdate3ReferenceIdeal.nD Cert.FfnDownUpdate3ReferenceIdeal.τ).loc Cert.FfnDownUpdate3ReferenceIdeal.main_arg8))
      ∧ r.2.sem = fun _ => 0)

def preserves_FfnUpGrad_FfnUpGradIdeal : Prop :=
  True

def algebraic_FfnUpGradIdeal_FfnUpGradReferenceIdeal [hFfnUpGradIdeal : Cert.FfnUpGradIdeal.Facts] [hFfnUpGradReferenceIdeal : Cert.FfnUpGradReferenceIdeal.Facts] : Prop :=
  ∀ (m : (ℓ : Loc Cert.FfnUpGradIdeal.nD Cert.FfnUpGradIdeal.τ Cert.FfnUpGradIdeal.sig) → Buf (Elt Ideal) ℓ) (g : Dev Cert.FfnUpGradIdeal.nD → PrngReg)
    (m' : (ℓ : Loc Cert.FfnUpGradReferenceIdeal.nD Cert.FfnUpGradReferenceIdeal.τ Cert.FfnUpGradReferenceIdeal.sig) → Buf (Elt Ideal) ℓ) (g' : Dev Cert.FfnUpGradReferenceIdeal.nD → PrngReg), Pre_FfnUpGradIdeal m →
    (∀ c : Dev Cert.FfnUpGradIdeal.nD,
      m' ((c.tc : Thread Cert.FfnUpGradReferenceIdeal.nD Cert.FfnUpGradReferenceIdeal.τ).loc Cert.FfnUpGradReferenceIdeal.main_arg0) = m ((c.tc : Thread Cert.FfnUpGradIdeal.nD Cert.FfnUpGradIdeal.τ).loc Cert.FfnUpGradIdeal.main_arg0)
      ∧ m' ((c.tc : Thread Cert.FfnUpGradReferenceIdeal.nD Cert.FfnUpGradReferenceIdeal.τ).loc Cert.FfnUpGradReferenceIdeal.main_arg1) = m ((c.tc : Thread Cert.FfnUpGradIdeal.nD Cert.FfnUpGradIdeal.τ).loc Cert.FfnUpGradIdeal.main_arg1)
      ∧ m' ((c.tc : Thread Cert.FfnUpGradReferenceIdeal.nD Cert.FfnUpGradReferenceIdeal.τ).loc Cert.FfnUpGradReferenceIdeal.main_arg2) = m ((c.tc : Thread Cert.FfnUpGradIdeal.nD Cert.FfnUpGradIdeal.τ).loc Cert.FfnUpGradIdeal.main_arg2)) →
    ∃ (v0 : (c : Dev Cert.FfnUpGradIdeal.nD) → Buf (Elt Ideal) ((c.tc : Thread Cert.FfnUpGradIdeal.nD Cert.FfnUpGradIdeal.τ).loc Cert.FfnUpGradIdeal.main_v0)),
      θ_run (Cert.FfnUpGradIdeal.defs (F := Ideal)) (onTc (τ := Cert.FfnUpGradIdeal.τ) (Cert.FfnUpGradIdeal.main (F := Ideal))) ⟨m, fun _ => 0, g⟩ (fun r => ∀ c : Dev Cert.FfnUpGradIdeal.nD,
          r.2.mem ((c.tc : Thread Cert.FfnUpGradIdeal.nD Cert.FfnUpGradIdeal.τ).loc Cert.FfnUpGradIdeal.main_v0) = v0 c
          ∧ r.2.mem ((c.tc : Thread Cert.FfnUpGradIdeal.nD Cert.FfnUpGradIdeal.τ).loc Cert.FfnUpGradIdeal.main_arg0) = m ((c.tc : Thread Cert.FfnUpGradIdeal.nD Cert.FfnUpGradIdeal.τ).loc Cert.FfnUpGradIdeal.main_arg0)
          ∧ r.2.mem ((c.tc : Thread Cert.FfnUpGradIdeal.nD Cert.FfnUpGradIdeal.τ).loc Cert.FfnUpGradIdeal.main_arg1) = m ((c.tc : Thread Cert.FfnUpGradIdeal.nD Cert.FfnUpGradIdeal.τ).loc Cert.FfnUpGradIdeal.main_arg1)
          ∧ r.2.mem ((c.tc : Thread Cert.FfnUpGradIdeal.nD Cert.FfnUpGradIdeal.τ).loc Cert.FfnUpGradIdeal.main_arg2) = m ((c.tc : Thread Cert.FfnUpGradIdeal.nD Cert.FfnUpGradIdeal.τ).loc Cert.FfnUpGradIdeal.main_arg2))
      ∧ θ_run (Cert.FfnUpGradReferenceIdeal.defs (F := Ideal)) (onTc (τ := Cert.FfnUpGradReferenceIdeal.τ) (Cert.FfnUpGradReferenceIdeal.main (F := Ideal))) ⟨m', fun _ => 0, g'⟩ (fun r => ∀ c : Dev Cert.FfnUpGradReferenceIdeal.nD,
          r.2.mem ((c.tc : Thread Cert.FfnUpGradReferenceIdeal.nD Cert.FfnUpGradReferenceIdeal.τ).loc Cert.FfnUpGradReferenceIdeal.main_v6) = v0 c
          ∧ r.2.mem ((c.tc : Thread Cert.FfnUpGradReferenceIdeal.nD Cert.FfnUpGradReferenceIdeal.τ).loc Cert.FfnUpGradReferenceIdeal.main_arg0) = m' ((c.tc : Thread Cert.FfnUpGradReferenceIdeal.nD Cert.FfnUpGradReferenceIdeal.τ).loc Cert.FfnUpGradReferenceIdeal.main_arg0)
          ∧ r.2.mem ((c.tc : Thread Cert.FfnUpGradReferenceIdeal.nD Cert.FfnUpGradReferenceIdeal.τ).loc Cert.FfnUpGradReferenceIdeal.main_arg1) = m' ((c.tc : Thread Cert.FfnUpGradReferenceIdeal.nD Cert.FfnUpGradReferenceIdeal.τ).loc Cert.FfnUpGradReferenceIdeal.main_arg1)
          ∧ r.2.mem ((c.tc : Thread Cert.FfnUpGradReferenceIdeal.nD Cert.FfnUpGradReferenceIdeal.τ).loc Cert.FfnUpGradReferenceIdeal.main_arg2) = m' ((c.tc : Thread Cert.FfnUpGradReferenceIdeal.nD Cert.FfnUpGradReferenceIdeal.τ).loc Cert.FfnUpGradReferenceIdeal.main_arg2))

def preserves_FfnDownGrad_FfnDownGradIdeal : Prop :=
  True

def algebraic_FfnDownGradIdeal_FfnDownGradReferenceIdeal [hFfnDownGradIdeal : Cert.FfnDownGradIdeal.Facts] [hFfnDownGradReferenceIdeal : Cert.FfnDownGradReferenceIdeal.Facts] : Prop :=
  ∀ (m : (ℓ : Loc Cert.FfnDownGradIdeal.nD Cert.FfnDownGradIdeal.τ Cert.FfnDownGradIdeal.sig) → Buf (Elt Ideal) ℓ) (g : Dev Cert.FfnDownGradIdeal.nD → PrngReg)
    (m' : (ℓ : Loc Cert.FfnDownGradReferenceIdeal.nD Cert.FfnDownGradReferenceIdeal.τ Cert.FfnDownGradReferenceIdeal.sig) → Buf (Elt Ideal) ℓ) (g' : Dev Cert.FfnDownGradReferenceIdeal.nD → PrngReg), Pre_FfnDownGradIdeal m →
    (∀ c : Dev Cert.FfnDownGradIdeal.nD,
      m' ((c.tc : Thread Cert.FfnDownGradReferenceIdeal.nD Cert.FfnDownGradReferenceIdeal.τ).loc Cert.FfnDownGradReferenceIdeal.main_arg0) = m ((c.tc : Thread Cert.FfnDownGradIdeal.nD Cert.FfnDownGradIdeal.τ).loc Cert.FfnDownGradIdeal.main_arg0)
      ∧ m' ((c.tc : Thread Cert.FfnDownGradReferenceIdeal.nD Cert.FfnDownGradReferenceIdeal.τ).loc Cert.FfnDownGradReferenceIdeal.main_arg1) = m ((c.tc : Thread Cert.FfnDownGradIdeal.nD Cert.FfnDownGradIdeal.τ).loc Cert.FfnDownGradIdeal.main_arg1)
      ∧ m' ((c.tc : Thread Cert.FfnDownGradReferenceIdeal.nD Cert.FfnDownGradReferenceIdeal.τ).loc Cert.FfnDownGradReferenceIdeal.main_arg2) = m ((c.tc : Thread Cert.FfnDownGradIdeal.nD Cert.FfnDownGradIdeal.τ).loc Cert.FfnDownGradIdeal.main_arg2)) →
    ∃ (v0 : (c : Dev Cert.FfnDownGradIdeal.nD) → Buf (Elt Ideal) ((c.tc : Thread Cert.FfnDownGradIdeal.nD Cert.FfnDownGradIdeal.τ).loc Cert.FfnDownGradIdeal.main_v0)),
      θ_run (Cert.FfnDownGradIdeal.defs (F := Ideal)) (onTc (τ := Cert.FfnDownGradIdeal.τ) (Cert.FfnDownGradIdeal.main (F := Ideal))) ⟨m, fun _ => 0, g⟩ (fun r => ∀ c : Dev Cert.FfnDownGradIdeal.nD,
          r.2.mem ((c.tc : Thread Cert.FfnDownGradIdeal.nD Cert.FfnDownGradIdeal.τ).loc Cert.FfnDownGradIdeal.main_v0) = v0 c
          ∧ r.2.mem ((c.tc : Thread Cert.FfnDownGradIdeal.nD Cert.FfnDownGradIdeal.τ).loc Cert.FfnDownGradIdeal.main_arg0) = m ((c.tc : Thread Cert.FfnDownGradIdeal.nD Cert.FfnDownGradIdeal.τ).loc Cert.FfnDownGradIdeal.main_arg0)
          ∧ r.2.mem ((c.tc : Thread Cert.FfnDownGradIdeal.nD Cert.FfnDownGradIdeal.τ).loc Cert.FfnDownGradIdeal.main_arg1) = m ((c.tc : Thread Cert.FfnDownGradIdeal.nD Cert.FfnDownGradIdeal.τ).loc Cert.FfnDownGradIdeal.main_arg1)
          ∧ r.2.mem ((c.tc : Thread Cert.FfnDownGradIdeal.nD Cert.FfnDownGradIdeal.τ).loc Cert.FfnDownGradIdeal.main_arg2) = m ((c.tc : Thread Cert.FfnDownGradIdeal.nD Cert.FfnDownGradIdeal.τ).loc Cert.FfnDownGradIdeal.main_arg2))
      ∧ θ_run (Cert.FfnDownGradReferenceIdeal.defs (F := Ideal)) (onTc (τ := Cert.FfnDownGradReferenceIdeal.τ) (Cert.FfnDownGradReferenceIdeal.main (F := Ideal))) ⟨m', fun _ => 0, g'⟩ (fun r => ∀ c : Dev Cert.FfnDownGradReferenceIdeal.nD,
          r.2.mem ((c.tc : Thread Cert.FfnDownGradReferenceIdeal.nD Cert.FfnDownGradReferenceIdeal.τ).loc Cert.FfnDownGradReferenceIdeal.main_v5) = v0 c
          ∧ r.2.mem ((c.tc : Thread Cert.FfnDownGradReferenceIdeal.nD Cert.FfnDownGradReferenceIdeal.τ).loc Cert.FfnDownGradReferenceIdeal.main_arg0) = m' ((c.tc : Thread Cert.FfnDownGradReferenceIdeal.nD Cert.FfnDownGradReferenceIdeal.τ).loc Cert.FfnDownGradReferenceIdeal.main_arg0)
          ∧ r.2.mem ((c.tc : Thread Cert.FfnDownGradReferenceIdeal.nD Cert.FfnDownGradReferenceIdeal.τ).loc Cert.FfnDownGradReferenceIdeal.main_arg1) = m' ((c.tc : Thread Cert.FfnDownGradReferenceIdeal.nD Cert.FfnDownGradReferenceIdeal.τ).loc Cert.FfnDownGradReferenceIdeal.main_arg1)
          ∧ r.2.mem ((c.tc : Thread Cert.FfnDownGradReferenceIdeal.nD Cert.FfnDownGradReferenceIdeal.τ).loc Cert.FfnDownGradReferenceIdeal.main_arg2) = m' ((c.tc : Thread Cert.FfnDownGradReferenceIdeal.nD Cert.FfnDownGradReferenceIdeal.τ).loc Cert.FfnDownGradReferenceIdeal.main_arg2))

def preserves_GmlpInGrad_GmlpInGradIdeal : Prop :=
  True

def algebraic_GmlpInGradIdeal_GmlpInGradReferenceIdeal [hGmlpInGradIdeal : Cert.GmlpInGradIdeal.Facts] [hGmlpInGradReferenceIdeal : Cert.GmlpInGradReferenceIdeal.Facts] : Prop :=
  ∀ (m : (ℓ : Loc Cert.GmlpInGradIdeal.nD Cert.GmlpInGradIdeal.τ Cert.GmlpInGradIdeal.sig) → Buf (Elt Ideal) ℓ) (g : Dev Cert.GmlpInGradIdeal.nD → PrngReg)
    (m' : (ℓ : Loc Cert.GmlpInGradReferenceIdeal.nD Cert.GmlpInGradReferenceIdeal.τ Cert.GmlpInGradReferenceIdeal.sig) → Buf (Elt Ideal) ℓ) (g' : Dev Cert.GmlpInGradReferenceIdeal.nD → PrngReg), Pre_GmlpInGradIdeal m →
    (∀ c : Dev Cert.GmlpInGradIdeal.nD,
      m' ((c.tc : Thread Cert.GmlpInGradReferenceIdeal.nD Cert.GmlpInGradReferenceIdeal.τ).loc Cert.GmlpInGradReferenceIdeal.main_arg0) = m ((c.tc : Thread Cert.GmlpInGradIdeal.nD Cert.GmlpInGradIdeal.τ).loc Cert.GmlpInGradIdeal.main_arg0)
      ∧ m' ((c.tc : Thread Cert.GmlpInGradReferenceIdeal.nD Cert.GmlpInGradReferenceIdeal.τ).loc Cert.GmlpInGradReferenceIdeal.main_arg1) = m ((c.tc : Thread Cert.GmlpInGradIdeal.nD Cert.GmlpInGradIdeal.τ).loc Cert.GmlpInGradIdeal.main_arg1)
      ∧ m' ((c.tc : Thread Cert.GmlpInGradReferenceIdeal.nD Cert.GmlpInGradReferenceIdeal.τ).loc Cert.GmlpInGradReferenceIdeal.main_arg2) = m ((c.tc : Thread Cert.GmlpInGradIdeal.nD Cert.GmlpInGradIdeal.τ).loc Cert.GmlpInGradIdeal.main_arg2)) →
    ∃ (v0 : (c : Dev Cert.GmlpInGradIdeal.nD) → Buf (Elt Ideal) ((c.tc : Thread Cert.GmlpInGradIdeal.nD Cert.GmlpInGradIdeal.τ).loc Cert.GmlpInGradIdeal.main_v0)),
      θ_run (Cert.GmlpInGradIdeal.defs (F := Ideal)) (onTc (τ := Cert.GmlpInGradIdeal.τ) (Cert.GmlpInGradIdeal.main (F := Ideal))) ⟨m, fun _ => 0, g⟩ (fun r => ∀ c : Dev Cert.GmlpInGradIdeal.nD,
          r.2.mem ((c.tc : Thread Cert.GmlpInGradIdeal.nD Cert.GmlpInGradIdeal.τ).loc Cert.GmlpInGradIdeal.main_v0) = v0 c
          ∧ r.2.mem ((c.tc : Thread Cert.GmlpInGradIdeal.nD Cert.GmlpInGradIdeal.τ).loc Cert.GmlpInGradIdeal.main_arg0) = m ((c.tc : Thread Cert.GmlpInGradIdeal.nD Cert.GmlpInGradIdeal.τ).loc Cert.GmlpInGradIdeal.main_arg0)
          ∧ r.2.mem ((c.tc : Thread Cert.GmlpInGradIdeal.nD Cert.GmlpInGradIdeal.τ).loc Cert.GmlpInGradIdeal.main_arg1) = m ((c.tc : Thread Cert.GmlpInGradIdeal.nD Cert.GmlpInGradIdeal.τ).loc Cert.GmlpInGradIdeal.main_arg1)
          ∧ r.2.mem ((c.tc : Thread Cert.GmlpInGradIdeal.nD Cert.GmlpInGradIdeal.τ).loc Cert.GmlpInGradIdeal.main_arg2) = m ((c.tc : Thread Cert.GmlpInGradIdeal.nD Cert.GmlpInGradIdeal.τ).loc Cert.GmlpInGradIdeal.main_arg2))
      ∧ θ_run (Cert.GmlpInGradReferenceIdeal.defs (F := Ideal)) (onTc (τ := Cert.GmlpInGradReferenceIdeal.τ) (Cert.GmlpInGradReferenceIdeal.main (F := Ideal))) ⟨m', fun _ => 0, g'⟩ (fun r => ∀ c : Dev Cert.GmlpInGradReferenceIdeal.nD,
          r.2.mem ((c.tc : Thread Cert.GmlpInGradReferenceIdeal.nD Cert.GmlpInGradReferenceIdeal.τ).loc Cert.GmlpInGradReferenceIdeal.main_v6) = v0 c
          ∧ r.2.mem ((c.tc : Thread Cert.GmlpInGradReferenceIdeal.nD Cert.GmlpInGradReferenceIdeal.τ).loc Cert.GmlpInGradReferenceIdeal.main_arg0) = m' ((c.tc : Thread Cert.GmlpInGradReferenceIdeal.nD Cert.GmlpInGradReferenceIdeal.τ).loc Cert.GmlpInGradReferenceIdeal.main_arg0)
          ∧ r.2.mem ((c.tc : Thread Cert.GmlpInGradReferenceIdeal.nD Cert.GmlpInGradReferenceIdeal.τ).loc Cert.GmlpInGradReferenceIdeal.main_arg1) = m' ((c.tc : Thread Cert.GmlpInGradReferenceIdeal.nD Cert.GmlpInGradReferenceIdeal.τ).loc Cert.GmlpInGradReferenceIdeal.main_arg1)
          ∧ r.2.mem ((c.tc : Thread Cert.GmlpInGradReferenceIdeal.nD Cert.GmlpInGradReferenceIdeal.τ).loc Cert.GmlpInGradReferenceIdeal.main_arg2) = m' ((c.tc : Thread Cert.GmlpInGradReferenceIdeal.nD Cert.GmlpInGradReferenceIdeal.τ).loc Cert.GmlpInGradReferenceIdeal.main_arg2))

def preserves_GmlpOutGrad_GmlpOutGradIdeal : Prop :=
  True

def algebraic_GmlpOutGradIdeal_GmlpOutGradReferenceIdeal [hGmlpOutGradIdeal : Cert.GmlpOutGradIdeal.Facts] [hGmlpOutGradReferenceIdeal : Cert.GmlpOutGradReferenceIdeal.Facts] : Prop :=
  ∀ (m : (ℓ : Loc Cert.GmlpOutGradIdeal.nD Cert.GmlpOutGradIdeal.τ Cert.GmlpOutGradIdeal.sig) → Buf (Elt Ideal) ℓ) (g : Dev Cert.GmlpOutGradIdeal.nD → PrngReg)
    (m' : (ℓ : Loc Cert.GmlpOutGradReferenceIdeal.nD Cert.GmlpOutGradReferenceIdeal.τ Cert.GmlpOutGradReferenceIdeal.sig) → Buf (Elt Ideal) ℓ) (g' : Dev Cert.GmlpOutGradReferenceIdeal.nD → PrngReg), Pre_GmlpOutGradIdeal m →
    (∀ c : Dev Cert.GmlpOutGradIdeal.nD,
      m' ((c.tc : Thread Cert.GmlpOutGradReferenceIdeal.nD Cert.GmlpOutGradReferenceIdeal.τ).loc Cert.GmlpOutGradReferenceIdeal.main_arg0) = m ((c.tc : Thread Cert.GmlpOutGradIdeal.nD Cert.GmlpOutGradIdeal.τ).loc Cert.GmlpOutGradIdeal.main_arg0)
      ∧ m' ((c.tc : Thread Cert.GmlpOutGradReferenceIdeal.nD Cert.GmlpOutGradReferenceIdeal.τ).loc Cert.GmlpOutGradReferenceIdeal.main_arg1) = m ((c.tc : Thread Cert.GmlpOutGradIdeal.nD Cert.GmlpOutGradIdeal.τ).loc Cert.GmlpOutGradIdeal.main_arg1)
      ∧ m' ((c.tc : Thread Cert.GmlpOutGradReferenceIdeal.nD Cert.GmlpOutGradReferenceIdeal.τ).loc Cert.GmlpOutGradReferenceIdeal.main_arg2) = m ((c.tc : Thread Cert.GmlpOutGradIdeal.nD Cert.GmlpOutGradIdeal.τ).loc Cert.GmlpOutGradIdeal.main_arg2)) →
    ∃ (v0 : (c : Dev Cert.GmlpOutGradIdeal.nD) → Buf (Elt Ideal) ((c.tc : Thread Cert.GmlpOutGradIdeal.nD Cert.GmlpOutGradIdeal.τ).loc Cert.GmlpOutGradIdeal.main_v0)),
      θ_run (Cert.GmlpOutGradIdeal.defs (F := Ideal)) (onTc (τ := Cert.GmlpOutGradIdeal.τ) (Cert.GmlpOutGradIdeal.main (F := Ideal))) ⟨m, fun _ => 0, g⟩ (fun r => ∀ c : Dev Cert.GmlpOutGradIdeal.nD,
          r.2.mem ((c.tc : Thread Cert.GmlpOutGradIdeal.nD Cert.GmlpOutGradIdeal.τ).loc Cert.GmlpOutGradIdeal.main_v0) = v0 c
          ∧ r.2.mem ((c.tc : Thread Cert.GmlpOutGradIdeal.nD Cert.GmlpOutGradIdeal.τ).loc Cert.GmlpOutGradIdeal.main_arg0) = m ((c.tc : Thread Cert.GmlpOutGradIdeal.nD Cert.GmlpOutGradIdeal.τ).loc Cert.GmlpOutGradIdeal.main_arg0)
          ∧ r.2.mem ((c.tc : Thread Cert.GmlpOutGradIdeal.nD Cert.GmlpOutGradIdeal.τ).loc Cert.GmlpOutGradIdeal.main_arg1) = m ((c.tc : Thread Cert.GmlpOutGradIdeal.nD Cert.GmlpOutGradIdeal.τ).loc Cert.GmlpOutGradIdeal.main_arg1)
          ∧ r.2.mem ((c.tc : Thread Cert.GmlpOutGradIdeal.nD Cert.GmlpOutGradIdeal.τ).loc Cert.GmlpOutGradIdeal.main_arg2) = m ((c.tc : Thread Cert.GmlpOutGradIdeal.nD Cert.GmlpOutGradIdeal.τ).loc Cert.GmlpOutGradIdeal.main_arg2))
      ∧ θ_run (Cert.GmlpOutGradReferenceIdeal.defs (F := Ideal)) (onTc (τ := Cert.GmlpOutGradReferenceIdeal.τ) (Cert.GmlpOutGradReferenceIdeal.main (F := Ideal))) ⟨m', fun _ => 0, g'⟩ (fun r => ∀ c : Dev Cert.GmlpOutGradReferenceIdeal.nD,
          r.2.mem ((c.tc : Thread Cert.GmlpOutGradReferenceIdeal.nD Cert.GmlpOutGradReferenceIdeal.τ).loc Cert.GmlpOutGradReferenceIdeal.main_v5) = v0 c
          ∧ r.2.mem ((c.tc : Thread Cert.GmlpOutGradReferenceIdeal.nD Cert.GmlpOutGradReferenceIdeal.τ).loc Cert.GmlpOutGradReferenceIdeal.main_arg0) = m' ((c.tc : Thread Cert.GmlpOutGradReferenceIdeal.nD Cert.GmlpOutGradReferenceIdeal.τ).loc Cert.GmlpOutGradReferenceIdeal.main_arg0)
          ∧ r.2.mem ((c.tc : Thread Cert.GmlpOutGradReferenceIdeal.nD Cert.GmlpOutGradReferenceIdeal.τ).loc Cert.GmlpOutGradReferenceIdeal.main_arg1) = m' ((c.tc : Thread Cert.GmlpOutGradReferenceIdeal.nD Cert.GmlpOutGradReferenceIdeal.τ).loc Cert.GmlpOutGradReferenceIdeal.main_arg1)
          ∧ r.2.mem ((c.tc : Thread Cert.GmlpOutGradReferenceIdeal.nD Cert.GmlpOutGradReferenceIdeal.τ).loc Cert.GmlpOutGradReferenceIdeal.main_arg2) = m' ((c.tc : Thread Cert.GmlpOutGradReferenceIdeal.nD Cert.GmlpOutGradReferenceIdeal.τ).loc Cert.GmlpOutGradReferenceIdeal.main_arg2))

def preserves_AttnQkvGrad_AttnQkvGradIdeal : Prop :=
  True

def algebraic_AttnQkvGradIdeal_AttnQkvGradReferenceIdeal [hAttnQkvGradIdeal : Cert.AttnQkvGradIdeal.Facts] [hAttnQkvGradReferenceIdeal : Cert.AttnQkvGradReferenceIdeal.Facts] : Prop :=
  ∀ (m : (ℓ : Loc Cert.AttnQkvGradIdeal.nD Cert.AttnQkvGradIdeal.τ Cert.AttnQkvGradIdeal.sig) → Buf (Elt Ideal) ℓ) (g : Dev Cert.AttnQkvGradIdeal.nD → PrngReg)
    (m' : (ℓ : Loc Cert.AttnQkvGradReferenceIdeal.nD Cert.AttnQkvGradReferenceIdeal.τ Cert.AttnQkvGradReferenceIdeal.sig) → Buf (Elt Ideal) ℓ) (g' : Dev Cert.AttnQkvGradReferenceIdeal.nD → PrngReg), Pre_AttnQkvGradIdeal m →
    (∀ c : Dev Cert.AttnQkvGradIdeal.nD,
      m' ((c.tc : Thread Cert.AttnQkvGradReferenceIdeal.nD Cert.AttnQkvGradReferenceIdeal.τ).loc Cert.AttnQkvGradReferenceIdeal.main_arg0) = m ((c.tc : Thread Cert.AttnQkvGradIdeal.nD Cert.AttnQkvGradIdeal.τ).loc Cert.AttnQkvGradIdeal.main_arg0)
      ∧ m' ((c.tc : Thread Cert.AttnQkvGradReferenceIdeal.nD Cert.AttnQkvGradReferenceIdeal.τ).loc Cert.AttnQkvGradReferenceIdeal.main_arg1) = m ((c.tc : Thread Cert.AttnQkvGradIdeal.nD Cert.AttnQkvGradIdeal.τ).loc Cert.AttnQkvGradIdeal.main_arg1)
      ∧ m' ((c.tc : Thread Cert.AttnQkvGradReferenceIdeal.nD Cert.AttnQkvGradReferenceIdeal.τ).loc Cert.AttnQkvGradReferenceIdeal.main_arg2) = m ((c.tc : Thread Cert.AttnQkvGradIdeal.nD Cert.AttnQkvGradIdeal.τ).loc Cert.AttnQkvGradIdeal.main_arg2)) →
    ∃ (v0 : (c : Dev Cert.AttnQkvGradIdeal.nD) → Buf (Elt Ideal) ((c.tc : Thread Cert.AttnQkvGradIdeal.nD Cert.AttnQkvGradIdeal.τ).loc Cert.AttnQkvGradIdeal.main_v0)),
      θ_run (Cert.AttnQkvGradIdeal.defs (F := Ideal)) (onTc (τ := Cert.AttnQkvGradIdeal.τ) (Cert.AttnQkvGradIdeal.main (F := Ideal))) ⟨m, fun _ => 0, g⟩ (fun r => ∀ c : Dev Cert.AttnQkvGradIdeal.nD,
          r.2.mem ((c.tc : Thread Cert.AttnQkvGradIdeal.nD Cert.AttnQkvGradIdeal.τ).loc Cert.AttnQkvGradIdeal.main_v0) = v0 c
          ∧ r.2.mem ((c.tc : Thread Cert.AttnQkvGradIdeal.nD Cert.AttnQkvGradIdeal.τ).loc Cert.AttnQkvGradIdeal.main_arg0) = m ((c.tc : Thread Cert.AttnQkvGradIdeal.nD Cert.AttnQkvGradIdeal.τ).loc Cert.AttnQkvGradIdeal.main_arg0)
          ∧ r.2.mem ((c.tc : Thread Cert.AttnQkvGradIdeal.nD Cert.AttnQkvGradIdeal.τ).loc Cert.AttnQkvGradIdeal.main_arg1) = m ((c.tc : Thread Cert.AttnQkvGradIdeal.nD Cert.AttnQkvGradIdeal.τ).loc Cert.AttnQkvGradIdeal.main_arg1)
          ∧ r.2.mem ((c.tc : Thread Cert.AttnQkvGradIdeal.nD Cert.AttnQkvGradIdeal.τ).loc Cert.AttnQkvGradIdeal.main_arg2) = m ((c.tc : Thread Cert.AttnQkvGradIdeal.nD Cert.AttnQkvGradIdeal.τ).loc Cert.AttnQkvGradIdeal.main_arg2))
      ∧ θ_run (Cert.AttnQkvGradReferenceIdeal.defs (F := Ideal)) (onTc (τ := Cert.AttnQkvGradReferenceIdeal.τ) (Cert.AttnQkvGradReferenceIdeal.main (F := Ideal))) ⟨m', fun _ => 0, g'⟩ (fun r => ∀ c : Dev Cert.AttnQkvGradReferenceIdeal.nD,
          r.2.mem ((c.tc : Thread Cert.AttnQkvGradReferenceIdeal.nD Cert.AttnQkvGradReferenceIdeal.τ).loc Cert.AttnQkvGradReferenceIdeal.main_v6) = v0 c
          ∧ r.2.mem ((c.tc : Thread Cert.AttnQkvGradReferenceIdeal.nD Cert.AttnQkvGradReferenceIdeal.τ).loc Cert.AttnQkvGradReferenceIdeal.main_arg0) = m' ((c.tc : Thread Cert.AttnQkvGradReferenceIdeal.nD Cert.AttnQkvGradReferenceIdeal.τ).loc Cert.AttnQkvGradReferenceIdeal.main_arg0)
          ∧ r.2.mem ((c.tc : Thread Cert.AttnQkvGradReferenceIdeal.nD Cert.AttnQkvGradReferenceIdeal.τ).loc Cert.AttnQkvGradReferenceIdeal.main_arg1) = m' ((c.tc : Thread Cert.AttnQkvGradReferenceIdeal.nD Cert.AttnQkvGradReferenceIdeal.τ).loc Cert.AttnQkvGradReferenceIdeal.main_arg1)
          ∧ r.2.mem ((c.tc : Thread Cert.AttnQkvGradReferenceIdeal.nD Cert.AttnQkvGradReferenceIdeal.τ).loc Cert.AttnQkvGradReferenceIdeal.main_arg2) = m' ((c.tc : Thread Cert.AttnQkvGradReferenceIdeal.nD Cert.AttnQkvGradReferenceIdeal.τ).loc Cert.AttnQkvGradReferenceIdeal.main_arg2))

def preserves_AttnOutGrad_AttnOutGradIdeal : Prop :=
  True

def algebraic_AttnOutGradIdeal_AttnOutGradReferenceIdeal [hAttnOutGradIdeal : Cert.AttnOutGradIdeal.Facts] [hAttnOutGradReferenceIdeal : Cert.AttnOutGradReferenceIdeal.Facts] : Prop :=
  ∀ (m : (ℓ : Loc Cert.AttnOutGradIdeal.nD Cert.AttnOutGradIdeal.τ Cert.AttnOutGradIdeal.sig) → Buf (Elt Ideal) ℓ) (g : Dev Cert.AttnOutGradIdeal.nD → PrngReg)
    (m' : (ℓ : Loc Cert.AttnOutGradReferenceIdeal.nD Cert.AttnOutGradReferenceIdeal.τ Cert.AttnOutGradReferenceIdeal.sig) → Buf (Elt Ideal) ℓ) (g' : Dev Cert.AttnOutGradReferenceIdeal.nD → PrngReg), Pre_AttnOutGradIdeal m →
    (∀ c : Dev Cert.AttnOutGradIdeal.nD,
      m' ((c.tc : Thread Cert.AttnOutGradReferenceIdeal.nD Cert.AttnOutGradReferenceIdeal.τ).loc Cert.AttnOutGradReferenceIdeal.main_arg0) = m ((c.tc : Thread Cert.AttnOutGradIdeal.nD Cert.AttnOutGradIdeal.τ).loc Cert.AttnOutGradIdeal.main_arg0)
      ∧ m' ((c.tc : Thread Cert.AttnOutGradReferenceIdeal.nD Cert.AttnOutGradReferenceIdeal.τ).loc Cert.AttnOutGradReferenceIdeal.main_arg1) = m ((c.tc : Thread Cert.AttnOutGradIdeal.nD Cert.AttnOutGradIdeal.τ).loc Cert.AttnOutGradIdeal.main_arg1)
      ∧ m' ((c.tc : Thread Cert.AttnOutGradReferenceIdeal.nD Cert.AttnOutGradReferenceIdeal.τ).loc Cert.AttnOutGradReferenceIdeal.main_arg2) = m ((c.tc : Thread Cert.AttnOutGradIdeal.nD Cert.AttnOutGradIdeal.τ).loc Cert.AttnOutGradIdeal.main_arg2)) →
    ∃ (v0 : (c : Dev Cert.AttnOutGradIdeal.nD) → Buf (Elt Ideal) ((c.tc : Thread Cert.AttnOutGradIdeal.nD Cert.AttnOutGradIdeal.τ).loc Cert.AttnOutGradIdeal.main_v0)),
      θ_run (Cert.AttnOutGradIdeal.defs (F := Ideal)) (onTc (τ := Cert.AttnOutGradIdeal.τ) (Cert.AttnOutGradIdeal.main (F := Ideal))) ⟨m, fun _ => 0, g⟩ (fun r => ∀ c : Dev Cert.AttnOutGradIdeal.nD,
          r.2.mem ((c.tc : Thread Cert.AttnOutGradIdeal.nD Cert.AttnOutGradIdeal.τ).loc Cert.AttnOutGradIdeal.main_v0) = v0 c
          ∧ r.2.mem ((c.tc : Thread Cert.AttnOutGradIdeal.nD Cert.AttnOutGradIdeal.τ).loc Cert.AttnOutGradIdeal.main_arg0) = m ((c.tc : Thread Cert.AttnOutGradIdeal.nD Cert.AttnOutGradIdeal.τ).loc Cert.AttnOutGradIdeal.main_arg0)
          ∧ r.2.mem ((c.tc : Thread Cert.AttnOutGradIdeal.nD Cert.AttnOutGradIdeal.τ).loc Cert.AttnOutGradIdeal.main_arg1) = m ((c.tc : Thread Cert.AttnOutGradIdeal.nD Cert.AttnOutGradIdeal.τ).loc Cert.AttnOutGradIdeal.main_arg1)
          ∧ r.2.mem ((c.tc : Thread Cert.AttnOutGradIdeal.nD Cert.AttnOutGradIdeal.τ).loc Cert.AttnOutGradIdeal.main_arg2) = m ((c.tc : Thread Cert.AttnOutGradIdeal.nD Cert.AttnOutGradIdeal.τ).loc Cert.AttnOutGradIdeal.main_arg2))
      ∧ θ_run (Cert.AttnOutGradReferenceIdeal.defs (F := Ideal)) (onTc (τ := Cert.AttnOutGradReferenceIdeal.τ) (Cert.AttnOutGradReferenceIdeal.main (F := Ideal))) ⟨m', fun _ => 0, g'⟩ (fun r => ∀ c : Dev Cert.AttnOutGradReferenceIdeal.nD,
          r.2.mem ((c.tc : Thread Cert.AttnOutGradReferenceIdeal.nD Cert.AttnOutGradReferenceIdeal.τ).loc Cert.AttnOutGradReferenceIdeal.main_v5) = v0 c
          ∧ r.2.mem ((c.tc : Thread Cert.AttnOutGradReferenceIdeal.nD Cert.AttnOutGradReferenceIdeal.τ).loc Cert.AttnOutGradReferenceIdeal.main_arg0) = m' ((c.tc : Thread Cert.AttnOutGradReferenceIdeal.nD Cert.AttnOutGradReferenceIdeal.τ).loc Cert.AttnOutGradReferenceIdeal.main_arg0)
          ∧ r.2.mem ((c.tc : Thread Cert.AttnOutGradReferenceIdeal.nD Cert.AttnOutGradReferenceIdeal.τ).loc Cert.AttnOutGradReferenceIdeal.main_arg1) = m' ((c.tc : Thread Cert.AttnOutGradReferenceIdeal.nD Cert.AttnOutGradReferenceIdeal.τ).loc Cert.AttnOutGradReferenceIdeal.main_arg1)
          ∧ r.2.mem ((c.tc : Thread Cert.AttnOutGradReferenceIdeal.nD Cert.AttnOutGradReferenceIdeal.τ).loc Cert.AttnOutGradReferenceIdeal.main_arg2) = m' ((c.tc : Thread Cert.AttnOutGradReferenceIdeal.nD Cert.AttnOutGradReferenceIdeal.τ).loc Cert.AttnOutGradReferenceIdeal.main_arg2))

def preserves_FfnUp_FfnUpIdeal : Prop :=
  True

def algebraic_FfnUpIdeal_FfnUpReferenceIdeal_pre_finite_ffn_up [hFfnUpIdeal : Cert.FfnUpIdeal.Facts] [hFfnUpReferenceIdeal : Cert.FfnUpReferenceIdeal.Facts] [hPre_finite_ffn_up : Cert.Pre_finite_ffn_up.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpReferenceIdeal.nD Cert.FfnUpReferenceIdeal.τ Cert.FfnUpReferenceIdeal.sig) → Buf (Elt Ideal) ℓ) (g' : Dev Cert.FfnUpReferenceIdeal.nD → PrngReg), Pre_FfnUpIdeal_finite_ffn_up m →
    (∀ c : Dev Cert.FfnUpIdeal.nD,
      m' ((c.tc : Thread Cert.FfnUpReferenceIdeal.nD Cert.FfnUpReferenceIdeal.τ).loc Cert.FfnUpReferenceIdeal.main_arg0) = m ((c.tc : Thread Cert.FfnUpIdeal.nD Cert.FfnUpIdeal.τ).loc Cert.FfnUpIdeal.main_arg0)
      ∧ m' ((c.tc : Thread Cert.FfnUpReferenceIdeal.nD Cert.FfnUpReferenceIdeal.τ).loc Cert.FfnUpReferenceIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v3_0)) (v1 : (c : Dev Cert.FfnUpIdeal.nD) → Buf (Elt Ideal) ((c.tc : Thread Cert.FfnUpIdeal.nD Cert.FfnUpIdeal.τ).loc Cert.FfnUpIdeal.main_v3_1)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v3_0) = v0 c
          ∧ r.2.mem ((c.tc : Thread Cert.FfnUpIdeal.nD Cert.FfnUpIdeal.τ).loc Cert.FfnUpIdeal.main_v3_1) = v1 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpReferenceIdeal.defs (F := Ideal)) (onTc (τ := Cert.FfnUpReferenceIdeal.τ) (Cert.FfnUpReferenceIdeal.main (F := Ideal))) ⟨m', fun _ => 0, g'⟩ (fun r => ∀ c : Dev Cert.FfnUpReferenceIdeal.nD,
          r.2.mem ((c.tc : Thread Cert.FfnUpReferenceIdeal.nD Cert.FfnUpReferenceIdeal.τ).loc Cert.FfnUpReferenceIdeal.main_v5) = v0 c
          ∧ r.2.mem ((c.tc : Thread Cert.FfnUpReferenceIdeal.nD Cert.FfnUpReferenceIdeal.τ).loc Cert.FfnUpReferenceIdeal.main_v15) = v1 c
          ∧ r.2.mem ((c.tc : Thread Cert.FfnUpReferenceIdeal.nD Cert.FfnUpReferenceIdeal.τ).loc Cert.FfnUpReferenceIdeal.main_arg0) = m' ((c.tc : Thread Cert.FfnUpReferenceIdeal.nD Cert.FfnUpReferenceIdeal.τ).loc Cert.FfnUpReferenceIdeal.main_arg0)
          ∧ r.2.mem ((c.tc : Thread Cert.FfnUpReferenceIdeal.nD Cert.FfnUpReferenceIdeal.τ).loc Cert.FfnUpReferenceIdeal.main_arg1) = m' ((c.tc : Thread Cert.FfnUpReferenceIdeal.nD Cert.FfnUpReferenceIdeal.τ).loc Cert.FfnUpReferenceIdeal.main_arg1))

def preserves_FfnDact_FfnDactIdeal : Prop :=
  True

def algebraic_FfnDactIdeal_FfnDactReferenceIdeal_pre_finite_ffn_dact [hFfnDactIdeal : Cert.FfnDactIdeal.Facts] [hFfnDactReferenceIdeal : Cert.FfnDactReferenceIdeal.Facts] [hPre_finite_ffn_dact : Cert.Pre_finite_ffn_dact.Facts] : Prop :=
  ∀ (m : (ℓ : Loc Cert.FfnDactIdeal.nD Cert.FfnDactIdeal.τ Cert.FfnDactIdeal.sig) → Buf (Elt Ideal) ℓ) (g : Dev Cert.FfnDactIdeal.nD → PrngReg)
    (m' : (ℓ : Loc Cert.FfnDactReferenceIdeal.nD Cert.FfnDactReferenceIdeal.τ Cert.FfnDactReferenceIdeal.sig) → Buf (Elt Ideal) ℓ) (g' : Dev Cert.FfnDactReferenceIdeal.nD → PrngReg), Pre_FfnDactIdeal_finite_ffn_dact m →
    (∀ c : Dev Cert.FfnDactIdeal.nD,
      m' ((c.tc : Thread Cert.FfnDactReferenceIdeal.nD Cert.FfnDactReferenceIdeal.τ).loc Cert.FfnDactReferenceIdeal.main_arg0) = m ((c.tc : Thread Cert.FfnDactIdeal.nD Cert.FfnDactIdeal.τ).loc Cert.FfnDactIdeal.main_arg0)
      ∧ m' ((c.tc : Thread Cert.FfnDactReferenceIdeal.nD Cert.FfnDactReferenceIdeal.τ).loc Cert.FfnDactReferenceIdeal.main_arg1) = m ((c.tc : Thread Cert.FfnDactIdeal.nD Cert.FfnDactIdeal.τ).loc Cert.FfnDactIdeal.main_arg1)
      ∧ m' ((c.tc : Thread Cert.FfnDactReferenceIdeal.nD Cert.FfnDactReferenceIdeal.τ).loc Cert.FfnDactReferenceIdeal.main_arg2) = m ((c.tc : Thread Cert.FfnDactIdeal.nD Cert.FfnDactIdeal.τ).loc Cert.FfnDactIdeal.main_arg2)) →
    ∃ (v0 : (c : Dev Cert.FfnDactIdeal.nD) → Buf (Elt Ideal) ((c.tc : Thread Cert.FfnDactIdeal.nD Cert.FfnDactIdeal.τ).loc Cert.FfnDactIdeal.main_v12)),
      θ_run (Cert.FfnDactIdeal.defs (F := Ideal)) (onTc (τ := Cert.FfnDactIdeal.τ) (Cert.FfnDactIdeal.main (F := Ideal))) ⟨m, fun _ => 0, g⟩ (fun r => ∀ c : Dev Cert.FfnDactIdeal.nD,
          r.2.mem ((c.tc : Thread Cert.FfnDactIdeal.nD Cert.FfnDactIdeal.τ).loc Cert.FfnDactIdeal.main_v12) = v0 c
          ∧ r.2.mem ((c.tc : Thread Cert.FfnDactIdeal.nD Cert.FfnDactIdeal.τ).loc Cert.FfnDactIdeal.main_arg0) = m ((c.tc : Thread Cert.FfnDactIdeal.nD Cert.FfnDactIdeal.τ).loc Cert.FfnDactIdeal.main_arg0)
          ∧ r.2.mem ((c.tc : Thread Cert.FfnDactIdeal.nD Cert.FfnDactIdeal.τ).loc Cert.FfnDactIdeal.main_arg1) = m ((c.tc : Thread Cert.FfnDactIdeal.nD Cert.FfnDactIdeal.τ).loc Cert.FfnDactIdeal.main_arg1)
          ∧ r.2.mem ((c.tc : Thread Cert.FfnDactIdeal.nD Cert.FfnDactIdeal.τ).loc Cert.FfnDactIdeal.main_arg2) = m ((c.tc : Thread Cert.FfnDactIdeal.nD Cert.FfnDactIdeal.τ).loc Cert.FfnDactIdeal.main_arg2))
      ∧ θ_run (Cert.FfnDactReferenceIdeal.defs (F := Ideal)) (onTc (τ := Cert.FfnDactReferenceIdeal.τ) (Cert.FfnDactReferenceIdeal.main (F := Ideal))) ⟨m', fun _ => 0, g'⟩ (fun r => ∀ c : Dev Cert.FfnDactReferenceIdeal.nD,
          r.2.mem ((c.tc : Thread Cert.FfnDactReferenceIdeal.nD Cert.FfnDactReferenceIdeal.τ).loc Cert.FfnDactReferenceIdeal.main_v10) = v0 c
          ∧ r.2.mem ((c.tc : Thread Cert.FfnDactReferenceIdeal.nD Cert.FfnDactReferenceIdeal.τ).loc Cert.FfnDactReferenceIdeal.main_arg0) = m' ((c.tc : Thread Cert.FfnDactReferenceIdeal.nD Cert.FfnDactReferenceIdeal.τ).loc Cert.FfnDactReferenceIdeal.main_arg0)
          ∧ r.2.mem ((c.tc : Thread Cert.FfnDactReferenceIdeal.nD Cert.FfnDactReferenceIdeal.τ).loc Cert.FfnDactReferenceIdeal.main_arg1) = m' ((c.tc : Thread Cert.FfnDactReferenceIdeal.nD Cert.FfnDactReferenceIdeal.τ).loc Cert.FfnDactReferenceIdeal.main_arg1)
          ∧ r.2.mem ((c.tc : Thread Cert.FfnDactReferenceIdeal.nD Cert.FfnDactReferenceIdeal.τ).loc Cert.FfnDactReferenceIdeal.main_arg2) = m' ((c.tc : Thread Cert.FfnDactReferenceIdeal.nD Cert.FfnDactReferenceIdeal.τ).loc Cert.FfnDactReferenceIdeal.main_arg2))

def preserves_FfnDx_FfnDxIdeal : Prop :=
  True

def algebraic_FfnDxIdeal_FfnDxReferenceIdeal_pre_finite_ffn_dx [hFfnDxIdeal : Cert.FfnDxIdeal.Facts] [hFfnDxReferenceIdeal : Cert.FfnDxReferenceIdeal.Facts] [hPre_finite_ffn_dx : Cert.Pre_finite_ffn_dx.Facts] : Prop :=
  ∀ (m : (ℓ : Loc Cert.FfnDxIdeal.nD Cert.FfnDxIdeal.τ Cert.FfnDxIdeal.sig) → Buf (Elt Ideal) ℓ) (g : Dev Cert.FfnDxIdeal.nD → PrngReg)
    (m' : (ℓ : Loc Cert.FfnDxReferenceIdeal.nD Cert.FfnDxReferenceIdeal.τ Cert.FfnDxReferenceIdeal.sig) → Buf (Elt Ideal) ℓ) (g' : Dev Cert.FfnDxReferenceIdeal.nD → PrngReg), Pre_FfnDxIdeal_finite_ffn_dx m →
    (∀ c : Dev Cert.FfnDxIdeal.nD,
      m' ((c.tc : Thread Cert.FfnDxReferenceIdeal.nD Cert.FfnDxReferenceIdeal.τ).loc Cert.FfnDxReferenceIdeal.main_arg0) = m ((c.tc : Thread Cert.FfnDxIdeal.nD Cert.FfnDxIdeal.τ).loc Cert.FfnDxIdeal.main_arg0)
      ∧ m' ((c.tc : Thread Cert.FfnDxReferenceIdeal.nD Cert.FfnDxReferenceIdeal.τ).loc Cert.FfnDxReferenceIdeal.main_arg1) = m ((c.tc : Thread Cert.FfnDxIdeal.nD Cert.FfnDxIdeal.τ).loc Cert.FfnDxIdeal.main_arg1)
      ∧ m' ((c.tc : Thread Cert.FfnDxReferenceIdeal.nD Cert.FfnDxReferenceIdeal.τ).loc Cert.FfnDxReferenceIdeal.main_arg2) = m ((c.tc : Thread Cert.FfnDxIdeal.nD Cert.FfnDxIdeal.τ).loc Cert.FfnDxIdeal.main_arg2)
      ∧ m' ((c.tc : Thread Cert.FfnDxReferenceIdeal.nD Cert.FfnDxReferenceIdeal.τ).loc Cert.FfnDxReferenceIdeal.main_arg3) = m ((c.tc : Thread Cert.FfnDxIdeal.nD Cert.FfnDxIdeal.τ).loc Cert.FfnDxIdeal.main_arg3)
      ∧ m' ((c.tc : Thread Cert.FfnDxReferenceIdeal.nD Cert.FfnDxReferenceIdeal.τ).loc Cert.FfnDxReferenceIdeal.main_arg4) = m ((c.tc : Thread Cert.FfnDxIdeal.nD Cert.FfnDxIdeal.τ).loc Cert.FfnDxIdeal.main_arg4)
      ∧ m' ((c.tc : Thread Cert.FfnDxReferenceIdeal.nD Cert.FfnDxReferenceIdeal.τ).loc Cert.FfnDxReferenceIdeal.main_arg5) = m ((c.tc : Thread Cert.FfnDxIdeal.nD Cert.FfnDxIdeal.τ).loc Cert.FfnDxIdeal.main_arg5)
      ∧ m' ((c.tc : Thread Cert.FfnDxReferenceIdeal.nD Cert.FfnDxReferenceIdeal.τ).loc Cert.FfnDxReferenceIdeal.main_arg6) = m ((c.tc : Thread Cert.FfnDxIdeal.nD Cert.FfnDxIdeal.τ).loc Cert.FfnDxIdeal.main_arg6)
      ∧ m' ((c.tc : Thread Cert.FfnDxReferenceIdeal.nD Cert.FfnDxReferenceIdeal.τ).loc Cert.FfnDxReferenceIdeal.main_arg7) = m ((c.tc : Thread Cert.FfnDxIdeal.nD Cert.FfnDxIdeal.τ).loc Cert.FfnDxIdeal.main_arg7)) →
    ∃ (v0 : (c : Dev Cert.FfnDxIdeal.nD) → Buf (Elt Ideal) ((c.tc : Thread Cert.FfnDxIdeal.nD Cert.FfnDxIdeal.τ).loc Cert.FfnDxIdeal.main_v23_0)) (v1 : (c : Dev Cert.FfnDxIdeal.nD) → Buf (Elt Ideal) ((c.tc : Thread Cert.FfnDxIdeal.nD Cert.FfnDxIdeal.τ).loc Cert.FfnDxIdeal.main_v23_1)) (v2 : (c : Dev Cert.FfnDxIdeal.nD) → Buf (Elt Ideal) ((c.tc : Thread Cert.FfnDxIdeal.nD Cert.FfnDxIdeal.τ).loc Cert.FfnDxIdeal.main_v23_2)) (v3 : (c : Dev Cert.FfnDxIdeal.nD) → Buf (Elt Ideal) ((c.tc : Thread Cert.FfnDxIdeal.nD Cert.FfnDxIdeal.τ).loc Cert.FfnDxIdeal.main_v23_3)) (v4 : (c : Dev Cert.FfnDxIdeal.nD) → Buf (Elt Ideal) ((c.tc : Thread Cert.FfnDxIdeal.nD Cert.FfnDxIdeal.τ).loc Cert.FfnDxIdeal.main_v23_4)),
      θ_run (Cert.FfnDxIdeal.defs (F := Ideal)) (onTc (τ := Cert.FfnDxIdeal.τ) (Cert.FfnDxIdeal.main (F := Ideal))) ⟨m, fun _ => 0, g⟩ (fun r => ∀ c : Dev Cert.FfnDxIdeal.nD,
          r.2.mem ((c.tc : Thread Cert.FfnDxIdeal.nD Cert.FfnDxIdeal.τ).loc Cert.FfnDxIdeal.main_v23_0) = v0 c
          ∧ r.2.mem ((c.tc : Thread Cert.FfnDxIdeal.nD Cert.FfnDxIdeal.τ).loc Cert.FfnDxIdeal.main_v23_1) = v1 c
          ∧ r.2.mem ((c.tc : Thread Cert.FfnDxIdeal.nD Cert.FfnDxIdeal.τ).loc Cert.FfnDxIdeal.main_v23_2) = v2 c
          ∧ r.2.mem ((c.tc : Thread Cert.FfnDxIdeal.nD Cert.FfnDxIdeal.τ).loc Cert.FfnDxIdeal.main_v23_3) = v3 c
          ∧ r.2.mem ((c.tc : Thread Cert.FfnDxIdeal.nD Cert.FfnDxIdeal.τ).loc Cert.FfnDxIdeal.main_v23_4) = v4 c
          ∧ r.2.mem ((c.tc : Thread Cert.FfnDxIdeal.nD Cert.FfnDxIdeal.τ).loc Cert.FfnDxIdeal.main_arg0) = m ((c.tc : Thread Cert.FfnDxIdeal.nD Cert.FfnDxIdeal.τ).loc Cert.FfnDxIdeal.main_arg0)
          ∧ r.2.mem ((c.tc : Thread Cert.FfnDxIdeal.nD Cert.FfnDxIdeal.τ).loc Cert.FfnDxIdeal.main_arg1) = m ((c.tc : Thread Cert.FfnDxIdeal.nD Cert.FfnDxIdeal.τ).loc Cert.FfnDxIdeal.main_arg1)
          ∧ r.2.mem ((c.tc : Thread Cert.FfnDxIdeal.nD Cert.FfnDxIdeal.τ).loc Cert.FfnDxIdeal.main_arg2) = m ((c.tc : Thread Cert.FfnDxIdeal.nD Cert.FfnDxIdeal.τ).loc Cert.FfnDxIdeal.main_arg2)
          ∧ r.2.mem ((c.tc : Thread Cert.FfnDxIdeal.nD Cert.FfnDxIdeal.τ).loc Cert.FfnDxIdeal.main_arg3) = m ((c.tc : Thread Cert.FfnDxIdeal.nD Cert.FfnDxIdeal.τ).loc Cert.FfnDxIdeal.main_arg3)
          ∧ r.2.mem ((c.tc : Thread Cert.FfnDxIdeal.nD Cert.FfnDxIdeal.τ).loc Cert.FfnDxIdeal.main_arg4) = m ((c.tc : Thread Cert.FfnDxIdeal.nD Cert.FfnDxIdeal.τ).loc Cert.FfnDxIdeal.main_arg4)
          ∧ r.2.mem ((c.tc : Thread Cert.FfnDxIdeal.nD Cert.FfnDxIdeal.τ).loc Cert.FfnDxIdeal.main_arg5) = m ((c.tc : Thread Cert.FfnDxIdeal.nD Cert.FfnDxIdeal.τ).loc Cert.FfnDxIdeal.main_arg5)
          ∧ r.2.mem ((c.tc : Thread Cert.FfnDxIdeal.nD Cert.FfnDxIdeal.τ).loc Cert.FfnDxIdeal.main_arg6) = m ((c.tc : Thread Cert.FfnDxIdeal.nD Cert.FfnDxIdeal.τ).loc Cert.FfnDxIdeal.main_arg6)
          ∧ r.2.mem ((c.tc : Thread Cert.FfnDxIdeal.nD Cert.FfnDxIdeal.τ).loc Cert.FfnDxIdeal.main_arg7) = m ((c.tc : Thread Cert.FfnDxIdeal.nD Cert.FfnDxIdeal.τ).loc Cert.FfnDxIdeal.main_arg7))
      ∧ θ_run (Cert.FfnDxReferenceIdeal.defs (F := Ideal)) (onTc (τ := Cert.FfnDxReferenceIdeal.τ) (Cert.FfnDxReferenceIdeal.main (F := Ideal))) ⟨m', fun _ => 0, g'⟩ (fun r => ∀ c : Dev Cert.FfnDxReferenceIdeal.nD,
          r.2.mem ((c.tc : Thread Cert.FfnDxReferenceIdeal.nD Cert.FfnDxReferenceIdeal.τ).loc Cert.FfnDxReferenceIdeal.main_v56) = v0 c
          ∧ r.2.mem ((c.tc : Thread Cert.FfnDxReferenceIdeal.nD Cert.FfnDxReferenceIdeal.τ).loc Cert.FfnDxReferenceIdeal.main_v77) = v1 c
          ∧ r.2.mem ((c.tc : Thread Cert.FfnDxReferenceIdeal.nD Cert.FfnDxReferenceIdeal.τ).loc Cert.FfnDxReferenceIdeal.main_v78) = v2 c
          ∧ r.2.mem ((c.tc : Thread Cert.FfnDxReferenceIdeal.nD Cert.FfnDxReferenceIdeal.τ).loc Cert.FfnDxReferenceIdeal.main_v79) = v3 c
          ∧ r.2.mem ((c.tc : Thread Cert.FfnDxReferenceIdeal.nD Cert.FfnDxReferenceIdeal.τ).loc Cert.FfnDxReferenceIdeal.main_v81) = v4 c
          ∧ r.2.mem ((c.tc : Thread Cert.FfnDxReferenceIdeal.nD Cert.FfnDxReferenceIdeal.τ).loc Cert.FfnDxReferenceIdeal.main_arg0) = m' ((c.tc : Thread Cert.FfnDxReferenceIdeal.nD Cert.FfnDxReferenceIdeal.τ).loc Cert.FfnDxReferenceIdeal.main_arg0)
          ∧ r.2.mem ((c.tc : Thread Cert.FfnDxReferenceIdeal.nD Cert.FfnDxReferenceIdeal.τ).loc Cert.FfnDxReferenceIdeal.main_arg1) = m' ((c.tc : Thread Cert.FfnDxReferenceIdeal.nD Cert.FfnDxReferenceIdeal.τ).loc Cert.FfnDxReferenceIdeal.main_arg1)
          ∧ r.2.mem ((c.tc : Thread Cert.FfnDxReferenceIdeal.nD Cert.FfnDxReferenceIdeal.τ).loc Cert.FfnDxReferenceIdeal.main_arg2) = m' ((c.tc : Thread Cert.FfnDxReferenceIdeal.nD Cert.FfnDxReferenceIdeal.τ).loc Cert.FfnDxReferenceIdeal.main_arg2)
          ∧ r.2.mem ((c.tc : Thread Cert.FfnDxReferenceIdeal.nD Cert.FfnDxReferenceIdeal.τ).loc Cert.FfnDxReferenceIdeal.main_arg3) = m' ((c.tc : Thread Cert.FfnDxReferenceIdeal.nD Cert.FfnDxReferenceIdeal.τ).loc Cert.FfnDxReferenceIdeal.main_arg3)
          ∧ r.2.mem ((c.tc : Thread Cert.FfnDxReferenceIdeal.nD Cert.FfnDxReferenceIdeal.τ).loc Cert.FfnDxReferenceIdeal.main_arg4) = m' ((c.tc : Thread Cert.FfnDxReferenceIdeal.nD Cert.FfnDxReferenceIdeal.τ).loc Cert.FfnDxReferenceIdeal.main_arg4)
          ∧ r.2.mem ((c.tc : Thread Cert.FfnDxReferenceIdeal.nD Cert.FfnDxReferenceIdeal.τ).loc Cert.FfnDxReferenceIdeal.main_arg5) = m' ((c.tc : Thread Cert.FfnDxReferenceIdeal.nD Cert.FfnDxReferenceIdeal.τ).loc Cert.FfnDxReferenceIdeal.main_arg5)
          ∧ r.2.mem ((c.tc : Thread Cert.FfnDxReferenceIdeal.nD Cert.FfnDxReferenceIdeal.τ).loc Cert.FfnDxReferenceIdeal.main_arg6) = m' ((c.tc : Thread Cert.FfnDxReferenceIdeal.nD Cert.FfnDxReferenceIdeal.τ).loc Cert.FfnDxReferenceIdeal.main_arg6)
          ∧ r.2.mem ((c.tc : Thread Cert.FfnDxReferenceIdeal.nD Cert.FfnDxReferenceIdeal.τ).loc Cert.FfnDxReferenceIdeal.main_arg7) = m' ((c.tc : Thread Cert.FfnDxReferenceIdeal.nD Cert.FfnDxReferenceIdeal.τ).loc Cert.FfnDxReferenceIdeal.main_arg7))

def preserves_FfnDxGmlp_FfnDxGmlpIdeal : Prop :=
  True

def algebraic_FfnDxGmlpIdeal_FfnDxGmlpReferenceIdeal_pre_finite_ffn_dx_gmlp [hFfnDxGmlpIdeal : Cert.FfnDxGmlpIdeal.Facts] [hFfnDxGmlpReferenceIdeal : Cert.FfnDxGmlpReferenceIdeal.Facts] [hPre_finite_ffn_dx_gmlp : Cert.Pre_finite_ffn_dx_gmlp.Facts] : Prop :=
  ∀ (m : (ℓ : Loc Cert.FfnDxGmlpIdeal.nD Cert.FfnDxGmlpIdeal.τ Cert.FfnDxGmlpIdeal.sig) → Buf (Elt Ideal) ℓ) (g : Dev Cert.FfnDxGmlpIdeal.nD → PrngReg)
    (m' : (ℓ : Loc Cert.FfnDxGmlpReferenceIdeal.nD Cert.FfnDxGmlpReferenceIdeal.τ Cert.FfnDxGmlpReferenceIdeal.sig) → Buf (Elt Ideal) ℓ) (g' : Dev Cert.FfnDxGmlpReferenceIdeal.nD → PrngReg), Pre_FfnDxGmlpIdeal_finite_ffn_dx_gmlp m →
    (∀ c : Dev Cert.FfnDxGmlpIdeal.nD,
      m' ((c.tc : Thread Cert.FfnDxGmlpReferenceIdeal.nD Cert.FfnDxGmlpReferenceIdeal.τ).loc Cert.FfnDxGmlpReferenceIdeal.main_arg0) = m ((c.tc : Thread Cert.FfnDxGmlpIdeal.nD Cert.FfnDxGmlpIdeal.τ).loc Cert.FfnDxGmlpIdeal.main_arg0)
      ∧ m' ((c.tc : Thread Cert.FfnDxGmlpReferenceIdeal.nD Cert.FfnDxGmlpReferenceIdeal.τ).loc Cert.FfnDxGmlpReferenceIdeal.main_arg1) = m ((c.tc : Thread Cert.FfnDxGmlpIdeal.nD Cert.FfnDxGmlpIdeal.τ).loc Cert.FfnDxGmlpIdeal.main_arg1)
      ∧ m' ((c.tc : Thread Cert.FfnDxGmlpReferenceIdeal.nD Cert.FfnDxGmlpReferenceIdeal.τ).loc Cert.FfnDxGmlpReferenceIdeal.main_arg2) = m ((c.tc : Thread Cert.FfnDxGmlpIdeal.nD Cert.FfnDxGmlpIdeal.τ).loc Cert.FfnDxGmlpIdeal.main_arg2)
      ∧ m' ((c.tc : Thread Cert.FfnDxGmlpReferenceIdeal.nD Cert.FfnDxGmlpReferenceIdeal.τ).loc Cert.FfnDxGmlpReferenceIdeal.main_arg3) = m ((c.tc : Thread Cert.FfnDxGmlpIdeal.nD Cert.FfnDxGmlpIdeal.τ).loc Cert.FfnDxGmlpIdeal.main_arg3)
      ∧ m' ((c.tc : Thread Cert.FfnDxGmlpReferenceIdeal.nD Cert.FfnDxGmlpReferenceIdeal.τ).loc Cert.FfnDxGmlpReferenceIdeal.main_arg4) = m ((c.tc : Thread Cert.FfnDxGmlpIdeal.nD Cert.FfnDxGmlpIdeal.τ).loc Cert.FfnDxGmlpIdeal.main_arg4)
      ∧ m' ((c.tc : Thread Cert.FfnDxGmlpReferenceIdeal.nD Cert.FfnDxGmlpReferenceIdeal.τ).loc Cert.FfnDxGmlpReferenceIdeal.main_arg5) = m ((c.tc : Thread Cert.FfnDxGmlpIdeal.nD Cert.FfnDxGmlpIdeal.τ).loc Cert.FfnDxGmlpIdeal.main_arg5)
      ∧ m' ((c.tc : Thread Cert.FfnDxGmlpReferenceIdeal.nD Cert.FfnDxGmlpReferenceIdeal.τ).loc Cert.FfnDxGmlpReferenceIdeal.main_arg6) = m ((c.tc : Thread Cert.FfnDxGmlpIdeal.nD Cert.FfnDxGmlpIdeal.τ).loc Cert.FfnDxGmlpIdeal.main_arg6)
      ∧ m' ((c.tc : Thread Cert.FfnDxGmlpReferenceIdeal.nD Cert.FfnDxGmlpReferenceIdeal.τ).loc Cert.FfnDxGmlpReferenceIdeal.main_arg7) = m ((c.tc : Thread Cert.FfnDxGmlpIdeal.nD Cert.FfnDxGmlpIdeal.τ).loc Cert.FfnDxGmlpIdeal.main_arg7)) →
    ∃ (v0 : (c : Dev Cert.FfnDxGmlpIdeal.nD) → Buf (Elt Ideal) ((c.tc : Thread Cert.FfnDxGmlpIdeal.nD Cert.FfnDxGmlpIdeal.τ).loc Cert.FfnDxGmlpIdeal.main_v22_0)) (v1 : (c : Dev Cert.FfnDxGmlpIdeal.nD) → Buf (Elt Ideal) ((c.tc : Thread Cert.FfnDxGmlpIdeal.nD Cert.FfnDxGmlpIdeal.τ).loc Cert.FfnDxGmlpIdeal.main_v22_1)) (v2 : (c : Dev Cert.FfnDxGmlpIdeal.nD) → Buf (Elt Ideal) ((c.tc : Thread Cert.FfnDxGmlpIdeal.nD Cert.FfnDxGmlpIdeal.τ).loc Cert.FfnDxGmlpIdeal.main_v22_2)) (v3 : (c : Dev Cert.FfnDxGmlpIdeal.nD) → Buf (Elt Ideal) ((c.tc : Thread Cert.FfnDxGmlpIdeal.nD Cert.FfnDxGmlpIdeal.τ).loc Cert.FfnDxGmlpIdeal.main_v22_3)),
      θ_run (Cert.FfnDxGmlpIdeal.defs (F := Ideal)) (onTc (τ := Cert.FfnDxGmlpIdeal.τ) (Cert.FfnDxGmlpIdeal.main (F := Ideal))) ⟨m, fun _ => 0, g⟩ (fun r => ∀ c : Dev Cert.FfnDxGmlpIdeal.nD,
          r.2.mem ((c.tc : Thread Cert.FfnDxGmlpIdeal.nD Cert.FfnDxGmlpIdeal.τ).loc Cert.FfnDxGmlpIdeal.main_v22_0) = v0 c
          ∧ r.2.mem ((c.tc : Thread Cert.FfnDxGmlpIdeal.nD Cert.FfnDxGmlpIdeal.τ).loc Cert.FfnDxGmlpIdeal.main_v22_1) = v1 c
          ∧ r.2.mem ((c.tc : Thread Cert.FfnDxGmlpIdeal.nD Cert.FfnDxGmlpIdeal.τ).loc Cert.FfnDxGmlpIdeal.main_v22_2) = v2 c
          ∧ r.2.mem ((c.tc : Thread Cert.FfnDxGmlpIdeal.nD Cert.FfnDxGmlpIdeal.τ).loc Cert.FfnDxGmlpIdeal.main_v22_3) = v3 c
          ∧ r.2.mem ((c.tc : Thread Cert.FfnDxGmlpIdeal.nD Cert.FfnDxGmlpIdeal.τ).loc Cert.FfnDxGmlpIdeal.main_arg0) = m ((c.tc : Thread Cert.FfnDxGmlpIdeal.nD Cert.FfnDxGmlpIdeal.τ).loc Cert.FfnDxGmlpIdeal.main_arg0)
          ∧ r.2.mem ((c.tc : Thread Cert.FfnDxGmlpIdeal.nD Cert.FfnDxGmlpIdeal.τ).loc Cert.FfnDxGmlpIdeal.main_arg1) = m ((c.tc : Thread Cert.FfnDxGmlpIdeal.nD Cert.FfnDxGmlpIdeal.τ).loc Cert.FfnDxGmlpIdeal.main_arg1)
          ∧ r.2.mem ((c.tc : Thread Cert.FfnDxGmlpIdeal.nD Cert.FfnDxGmlpIdeal.τ).loc Cert.FfnDxGmlpIdeal.main_arg2) = m ((c.tc : Thread Cert.FfnDxGmlpIdeal.nD Cert.FfnDxGmlpIdeal.τ).loc Cert.FfnDxGmlpIdeal.main_arg2)
          ∧ r.2.mem ((c.tc : Thread Cert.FfnDxGmlpIdeal.nD Cert.FfnDxGmlpIdeal.τ).loc Cert.FfnDxGmlpIdeal.main_arg3) = m ((c.tc : Thread Cert.FfnDxGmlpIdeal.nD Cert.FfnDxGmlpIdeal.τ).loc Cert.FfnDxGmlpIdeal.main_arg3)
          ∧ r.2.mem ((c.tc : Thread Cert.FfnDxGmlpIdeal.nD Cert.FfnDxGmlpIdeal.τ).loc Cert.FfnDxGmlpIdeal.main_arg4) = m ((c.tc : Thread Cert.FfnDxGmlpIdeal.nD Cert.FfnDxGmlpIdeal.τ).loc Cert.FfnDxGmlpIdeal.main_arg4)
          ∧ r.2.mem ((c.tc : Thread Cert.FfnDxGmlpIdeal.nD Cert.FfnDxGmlpIdeal.τ).loc Cert.FfnDxGmlpIdeal.main_arg5) = m ((c.tc : Thread Cert.FfnDxGmlpIdeal.nD Cert.FfnDxGmlpIdeal.τ).loc Cert.FfnDxGmlpIdeal.main_arg5)
          ∧ r.2.mem ((c.tc : Thread Cert.FfnDxGmlpIdeal.nD Cert.FfnDxGmlpIdeal.τ).loc Cert.FfnDxGmlpIdeal.main_arg6) = m ((c.tc : Thread Cert.FfnDxGmlpIdeal.nD Cert.FfnDxGmlpIdeal.τ).loc Cert.FfnDxGmlpIdeal.main_arg6)
          ∧ r.2.mem ((c.tc : Thread Cert.FfnDxGmlpIdeal.nD Cert.FfnDxGmlpIdeal.τ).loc Cert.FfnDxGmlpIdeal.main_arg7) = m ((c.tc : Thread Cert.FfnDxGmlpIdeal.nD Cert.FfnDxGmlpIdeal.τ).loc Cert.FfnDxGmlpIdeal.main_arg7))
      ∧ θ_run (Cert.FfnDxGmlpReferenceIdeal.defs (F := Ideal)) (onTc (τ := Cert.FfnDxGmlpReferenceIdeal.τ) (Cert.FfnDxGmlpReferenceIdeal.main (F := Ideal))) ⟨m', fun _ => 0, g'⟩ (fun r => ∀ c : Dev Cert.FfnDxGmlpReferenceIdeal.nD,
          r.2.mem ((c.tc : Thread Cert.FfnDxGmlpReferenceIdeal.nD Cert.FfnDxGmlpReferenceIdeal.τ).loc Cert.FfnDxGmlpReferenceIdeal.main_v56) = v0 c
          ∧ r.2.mem ((c.tc : Thread Cert.FfnDxGmlpReferenceIdeal.nD Cert.FfnDxGmlpReferenceIdeal.τ).loc Cert.FfnDxGmlpReferenceIdeal.main_v77) = v1 c
          ∧ r.2.mem ((c.tc : Thread Cert.FfnDxGmlpReferenceIdeal.nD Cert.FfnDxGmlpReferenceIdeal.τ).loc Cert.FfnDxGmlpReferenceIdeal.main_v78) = v2 c
          ∧ r.2.mem ((c.tc : Thread Cert.FfnDxGmlpReferenceIdeal.nD Cert.FfnDxGmlpReferenceIdeal.τ).loc Cert.FfnDxGmlpReferenceIdeal.main_v79) = v3 c
          ∧ r.2.mem ((c.tc : Thread Cert.FfnDxGmlpReferenceIdeal.nD Cert.FfnDxGmlpReferenceIdeal.τ).loc Cert.FfnDxGmlpReferenceIdeal.main_arg0) = m' ((c.tc : Thread Cert.FfnDxGmlpReferenceIdeal.nD Cert.FfnDxGmlpReferenceIdeal.τ).loc Cert.FfnDxGmlpReferenceIdeal.main_arg0)
          ∧ r.2.mem ((c.tc : Thread Cert.FfnDxGmlpReferenceIdeal.nD Cert.FfnDxGmlpReferenceIdeal.τ).loc Cert.FfnDxGmlpReferenceIdeal.main_arg1) = m' ((c.tc : Thread Cert.FfnDxGmlpReferenceIdeal.nD Cert.FfnDxGmlpReferenceIdeal.τ).loc Cert.FfnDxGmlpReferenceIdeal.main_arg1)
          ∧ r.2.mem ((c.tc : Thread Cert.FfnDxGmlpReferenceIdeal.nD Cert.FfnDxGmlpReferenceIdeal.τ).loc Cert.FfnDxGmlpReferenceIdeal.main_arg2) = m' ((c.tc : Thread Cert.FfnDxGmlpReferenceIdeal.nD Cert.FfnDxGmlpReferenceIdeal.τ).loc Cert.FfnDxGmlpReferenceIdeal.main_arg2)
          ∧ r.2.mem ((c.tc : Thread Cert.FfnDxGmlpReferenceIdeal.nD Cert.FfnDxGmlpReferenceIdeal.τ).loc Cert.FfnDxGmlpReferenceIdeal.main_arg3) = m' ((c.tc : Thread Cert.FfnDxGmlpReferenceIdeal.nD Cert.FfnDxGmlpReferenceIdeal.τ).loc Cert.FfnDxGmlpReferenceIdeal.main_arg3)
          ∧ r.2.mem ((c.tc : Thread Cert.FfnDxGmlpReferenceIdeal.nD Cert.FfnDxGmlpReferenceIdeal.τ).loc Cert.FfnDxGmlpReferenceIdeal.main_arg4) = m' ((c.tc : Thread Cert.FfnDxGmlpReferenceIdeal.nD Cert.FfnDxGmlpReferenceIdeal.τ).loc Cert.FfnDxGmlpReferenceIdeal.main_arg4)
          ∧ r.2.mem ((c.tc : Thread Cert.FfnDxGmlpReferenceIdeal.nD Cert.FfnDxGmlpReferenceIdeal.τ).loc Cert.FfnDxGmlpReferenceIdeal.main_arg5) = m' ((c.tc : Thread Cert.FfnDxGmlpReferenceIdeal.nD Cert.FfnDxGmlpReferenceIdeal.τ).loc Cert.FfnDxGmlpReferenceIdeal.main_arg5)
          ∧ r.2.mem ((c.tc : Thread Cert.FfnDxGmlpReferenceIdeal.nD Cert.FfnDxGmlpReferenceIdeal.τ).loc Cert.FfnDxGmlpReferenceIdeal.main_arg6) = m' ((c.tc : Thread Cert.FfnDxGmlpReferenceIdeal.nD Cert.FfnDxGmlpReferenceIdeal.τ).loc Cert.FfnDxGmlpReferenceIdeal.main_arg6)
          ∧ r.2.mem ((c.tc : Thread Cert.FfnDxGmlpReferenceIdeal.nD Cert.FfnDxGmlpReferenceIdeal.τ).loc Cert.FfnDxGmlpReferenceIdeal.main_arg7) = m' ((c.tc : Thread Cert.FfnDxGmlpReferenceIdeal.nD Cert.FfnDxGmlpReferenceIdeal.τ).loc Cert.FfnDxGmlpReferenceIdeal.main_arg7))

def preserves_GmlpIn_GmlpInIdeal : Prop :=
  True

def algebraic_GmlpInIdeal_GmlpInReferenceIdeal [hGmlpInIdeal : Cert.GmlpInIdeal.Facts] [hGmlpInReferenceIdeal : Cert.GmlpInReferenceIdeal.Facts] : Prop :=
  ∀ (m : (ℓ : Loc Cert.GmlpInIdeal.nD Cert.GmlpInIdeal.τ Cert.GmlpInIdeal.sig) → Buf (Elt Ideal) ℓ) (g : Dev Cert.GmlpInIdeal.nD → PrngReg)
    (m' : (ℓ : Loc Cert.GmlpInReferenceIdeal.nD Cert.GmlpInReferenceIdeal.τ Cert.GmlpInReferenceIdeal.sig) → Buf (Elt Ideal) ℓ) (g' : Dev Cert.GmlpInReferenceIdeal.nD → PrngReg), Pre_GmlpInIdeal m →
    (∀ c : Dev Cert.GmlpInIdeal.nD,
      m' ((c.tc : Thread Cert.GmlpInReferenceIdeal.nD Cert.GmlpInReferenceIdeal.τ).loc Cert.GmlpInReferenceIdeal.main_arg0) = m ((c.tc : Thread Cert.GmlpInIdeal.nD Cert.GmlpInIdeal.τ).loc Cert.GmlpInIdeal.main_arg0)
      ∧ m' ((c.tc : Thread Cert.GmlpInReferenceIdeal.nD Cert.GmlpInReferenceIdeal.τ).loc Cert.GmlpInReferenceIdeal.main_arg1) = m ((c.tc : Thread Cert.GmlpInIdeal.nD Cert.GmlpInIdeal.τ).loc Cert.GmlpInIdeal.main_arg1)
      ∧ m' ((c.tc : Thread Cert.GmlpInReferenceIdeal.nD Cert.GmlpInReferenceIdeal.τ).loc Cert.GmlpInReferenceIdeal.main_arg2) = m ((c.tc : Thread Cert.GmlpInIdeal.nD Cert.GmlpInIdeal.τ).loc Cert.GmlpInIdeal.main_arg2)) →
    ∃ (v0 : (c : Dev Cert.GmlpInIdeal.nD) → Buf (Elt Ideal) ((c.tc : Thread Cert.GmlpInIdeal.nD Cert.GmlpInIdeal.τ).loc Cert.GmlpInIdeal.main_v4)),
      θ_run (Cert.GmlpInIdeal.defs (F := Ideal)) (onTc (τ := Cert.GmlpInIdeal.τ) (Cert.GmlpInIdeal.main (F := Ideal))) ⟨m, fun _ => 0, g⟩ (fun r => ∀ c : Dev Cert.GmlpInIdeal.nD,
          r.2.mem ((c.tc : Thread Cert.GmlpInIdeal.nD Cert.GmlpInIdeal.τ).loc Cert.GmlpInIdeal.main_v4) = v0 c
          ∧ r.2.mem ((c.tc : Thread Cert.GmlpInIdeal.nD Cert.GmlpInIdeal.τ).loc Cert.GmlpInIdeal.main_arg0) = m ((c.tc : Thread Cert.GmlpInIdeal.nD Cert.GmlpInIdeal.τ).loc Cert.GmlpInIdeal.main_arg0)
          ∧ r.2.mem ((c.tc : Thread Cert.GmlpInIdeal.nD Cert.GmlpInIdeal.τ).loc Cert.GmlpInIdeal.main_arg1) = m ((c.tc : Thread Cert.GmlpInIdeal.nD Cert.GmlpInIdeal.τ).loc Cert.GmlpInIdeal.main_arg1)
          ∧ r.2.mem ((c.tc : Thread Cert.GmlpInIdeal.nD Cert.GmlpInIdeal.τ).loc Cert.GmlpInIdeal.main_arg2) = m ((c.tc : Thread Cert.GmlpInIdeal.nD Cert.GmlpInIdeal.τ).loc Cert.GmlpInIdeal.main_arg2))
      ∧ θ_run (Cert.GmlpInReferenceIdeal.defs (F := Ideal)) (onTc (τ := Cert.GmlpInReferenceIdeal.τ) (Cert.GmlpInReferenceIdeal.main (F := Ideal))) ⟨m', fun _ => 0, g'⟩ (fun r => ∀ c : Dev Cert.GmlpInReferenceIdeal.nD,
          r.2.mem ((c.tc : Thread Cert.GmlpInReferenceIdeal.nD Cert.GmlpInReferenceIdeal.τ).loc Cert.GmlpInReferenceIdeal.main_v4) = v0 c
          ∧ r.2.mem ((c.tc : Thread Cert.GmlpInReferenceIdeal.nD Cert.GmlpInReferenceIdeal.τ).loc Cert.GmlpInReferenceIdeal.main_arg0) = m' ((c.tc : Thread Cert.GmlpInReferenceIdeal.nD Cert.GmlpInReferenceIdeal.τ).loc Cert.GmlpInReferenceIdeal.main_arg0)
          ∧ r.2.mem ((c.tc : Thread Cert.GmlpInReferenceIdeal.nD Cert.GmlpInReferenceIdeal.τ).loc Cert.GmlpInReferenceIdeal.main_arg1) = m' ((c.tc : Thread Cert.GmlpInReferenceIdeal.nD Cert.GmlpInReferenceIdeal.τ).loc Cert.GmlpInReferenceIdeal.main_arg1)
          ∧ r.2.mem ((c.tc : Thread Cert.GmlpInReferenceIdeal.nD Cert.GmlpInReferenceIdeal.τ).loc Cert.GmlpInReferenceIdeal.main_arg2) = m' ((c.tc : Thread Cert.GmlpInReferenceIdeal.nD Cert.GmlpInReferenceIdeal.τ).loc Cert.GmlpInReferenceIdeal.main_arg2))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)
      ∧ m' ((c.tc : Thread Cert.FfnDownReferenceIdeal.nD Cert.FfnDownReferenceIdeal.τ).loc Cert.FfnDownReferenceIdeal.main_arg3) = m ((c.tc : Thread Cert.FfnDownIdeal.nD Cert.FfnDownIdeal.τ).loc Cert.FfnDownIdeal.main_arg3)
      ∧ m' ((c.tc : Thread Cert.FfnDownReferenceIdeal.nD Cert.FfnDownReferenceIdeal.τ).loc Cert.FfnDownReferenceIdeal.main_arg4) = m ((c.tc : Thread Cert.FfnDownIdeal.nD Cert.FfnDownIdeal.τ).loc Cert.FfnDownIdeal.main_arg4)) →
    ∃ (v0 : (c : Dev Cert.FfnDownIdeal.nD) → Buf (Elt Ideal) ((c.tc : Thread Cert.FfnDownIdeal.nD Cert.FfnDownIdeal.τ).loc Cert.FfnDownIdeal.main_v4_0)) (v1 : (c : Dev Cert.FfnDownIdeal.nD) → Buf (Elt Ideal) ((c.tc : Thread Cert.FfnDownIdeal.nD Cert.FfnDownIdeal.τ).loc Cert.FfnDownIdeal.main_v4_1)) (v2 : (c : Dev Cert.FfnDownIdeal.nD) → Buf (Elt Ideal) ((c.tc : Thread Cert.FfnDownIdeal.nD Cert.FfnDownIdeal.τ).loc Cert.FfnDownIdeal.main_v4_2)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v4_0) = v0 c
          ∧ r.2.mem ((c.tc : Thread Cert.FfnDownIdeal.nD Cert.FfnDownIdeal.τ).loc Cert.FfnDownIdeal.main_v4_1) = v1 c
          ∧ r.2.mem ((c.tc : Thread Cert.FfnDownIdeal.nD Cert.FfnDownIdeal.τ).loc Cert.FfnDownIdeal.main_v4_2) = v2 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3)
          ∧ r.2.mem ((c.tc : Thread Cert.FfnDownIdeal.nD Cert.FfnDownIdeal.τ).loc Cert.FfnDownIdeal.main_arg4) = m ((c.tc : Thread Cert.FfnDownIdeal.nD Cert.FfnDownIdeal.τ).loc Cert.FfnDownIdeal.main_arg4))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v15) = v0 c
          ∧ r.2.mem ((c.tc : Thread Cert.FfnDownReferenceIdeal.nD Cert.FfnDownReferenceIdeal.τ).loc Cert.FfnDownReferenceIdeal.main_v14) = v1 c
          ∧ r.2.mem ((c.tc : Thread Cert.FfnDownReferenceIdeal.nD Cert.FfnDownReferenceIdeal.τ).loc Cert.FfnDownReferenceIdeal.main_v29) = v2 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2)
          ∧ r.2.mem ((c.tc : Thread Cert.FfnDownReferenceIdeal.nD Cert.FfnDownReferenceIdeal.τ).loc Cert.FfnDownReferenceIdeal.main_arg3) = m' ((c.tc : Thread Cert.FfnDownReferenceIdeal.nD Cert.FfnDownReferenceIdeal.τ).loc Cert.FfnDownReferenceIdeal.main_arg3)
          ∧ r.2.mem ((c.tc : Thread Cert.FfnDownReferenceIdeal.nD Cert.FfnDownReferenceIdeal.τ).loc Cert.FfnDownReferenceIdeal.main_arg4) = m' ((c.tc : Thread Cert.FfnDownReferenceIdeal.nD Cert.FfnDownReferenceIdeal.τ).loc Cert.FfnDownReferenceIdeal.main_arg4))

def preserves_AttnOut_AttnOutIdeal : Prop :=
  True

def algebraic_AttnOutIdeal_AttnOutReferenceIdeal [hAttnOutIdeal : Cert.AttnOutIdeal.Facts] [hAttnOutReferenceIdeal : Cert.AttnOutReferenceIdeal.Facts] : Prop :=
  ∀ (m : (ℓ : Loc Cert.AttnOutIdeal.nD Cert.AttnOutIdeal.τ Cert.AttnOutIdeal.sig) → Buf (Elt Ideal) ℓ) (g : Dev Cert.AttnOutIdeal.nD → PrngReg)
    (m' : (ℓ : Loc Cert.AttnOutReferenceIdeal.nD Cert.AttnOutReferenceIdeal.τ Cert.AttnOutReferenceIdeal.sig) → Buf (Elt Ideal) ℓ) (g' : Dev Cert.AttnOutReferenceIdeal.nD → PrngReg), Pre_AttnOutIdeal m →
    (∀ c : Dev Cert.AttnOutIdeal.nD,
      m' ((c.tc : Thread Cert.AttnOutReferenceIdeal.nD Cert.AttnOutReferenceIdeal.τ).loc Cert.AttnOutReferenceIdeal.main_arg0) = m ((c.tc : Thread Cert.AttnOutIdeal.nD Cert.AttnOutIdeal.τ).loc Cert.AttnOutIdeal.main_arg0)
      ∧ m' ((c.tc : Thread Cert.AttnOutReferenceIdeal.nD Cert.AttnOutReferenceIdeal.τ).loc Cert.AttnOutReferenceIdeal.main_arg1) = m ((c.tc : Thread Cert.AttnOutIdeal.nD Cert.AttnOutIdeal.τ).loc Cert.AttnOutIdeal.main_arg1)
      ∧ m' ((c.tc : Thread Cert.AttnOutReferenceIdeal.nD Cert.AttnOutReferenceIdeal.τ).loc Cert.AttnOutReferenceIdeal.main_arg2) = m ((c.tc : Thread Cert.AttnOutIdeal.nD Cert.AttnOutIdeal.τ).loc Cert.AttnOutIdeal.main_arg2)
      ∧ m' ((c.tc : Thread Cert.AttnOutReferenceIdeal.nD Cert.AttnOutReferenceIdeal.τ).loc Cert.AttnOutReferenceIdeal.main_arg3) = m ((c.tc : Thread Cert.AttnOutIdeal.nD Cert.AttnOutIdeal.τ).loc Cert.AttnOutIdeal.main_arg3)
      ∧ m' ((c.tc : Thread Cert.AttnOutReferenceIdeal.nD Cert.AttnOutReferenceIdeal.τ).loc Cert.AttnOutReferenceIdeal.main_arg4) = m ((c.tc : Thread Cert.AttnOutIdeal.nD Cert.AttnOutIdeal.τ).loc Cert.AttnOutIdeal.main_arg4)) →
    ∃ (v0 : (c : Dev Cert.AttnOutIdeal.nD) → Buf (Elt Ideal) ((c.tc : Thread Cert.AttnOutIdeal.nD Cert.AttnOutIdeal.τ).loc Cert.AttnOutIdeal.main_v4_0)) (v1 : (c : Dev Cert.AttnOutIdeal.nD) → Buf (Elt Ideal) ((c.tc : Thread Cert.AttnOutIdeal.nD Cert.AttnOutIdeal.τ).loc Cert.AttnOutIdeal.main_v4_1)) (v2 : (c : Dev Cert.AttnOutIdeal.nD) → Buf (Elt Ideal) ((c.tc : Thread Cert.AttnOutIdeal.nD Cert.AttnOutIdeal.τ).loc Cert.AttnOutIdeal.main_v4_2)),
      θ_run (Cert.AttnOutIdeal.defs (F := Ideal)) (onTc (τ := Cert.AttnOutIdeal.τ) (Cert.AttnOutIdeal.main (F := Ideal))) ⟨m, fun _ => 0, g⟩ (fun r => ∀ c : Dev Cert.AttnOutIdeal.nD,
          r.2.mem ((c.tc : Thread Cert.AttnOutIdeal.nD Cert.AttnOutIdeal.τ).loc Cert.AttnOutIdeal.main_v4_0) = v0 c
          ∧ r.2.mem ((c.tc : Thread Cert.AttnOutIdeal.nD Cert.AttnOutIdeal.τ).loc Cert.AttnOutIdeal.main_v4_1) = v1 c
          ∧ r.2.mem ((c.tc : Thread Cert.AttnOutIdeal.nD Cert.AttnOutIdeal.τ).loc Cert.AttnOutIdeal.main_v4_2) = v2 c
          ∧ r.2.mem ((c.tc : Thread Cert.AttnOutIdeal.nD Cert.AttnOutIdeal.τ).loc Cert.AttnOutIdeal.main_arg0) = m ((c.tc : Thread Cert.AttnOutIdeal.nD Cert.AttnOutIdeal.τ).loc Cert.AttnOutIdeal.main_arg0)
          ∧ r.2.mem ((c.tc : Thread Cert.AttnOutIdeal.nD Cert.AttnOutIdeal.τ).loc Cert.AttnOutIdeal.main_arg1) = m ((c.tc : Thread Cert.AttnOutIdeal.nD Cert.AttnOutIdeal.τ).loc Cert.AttnOutIdeal.main_arg1)
          ∧ r.2.mem ((c.tc : Thread Cert.AttnOutIdeal.nD Cert.AttnOutIdeal.τ).loc Cert.AttnOutIdeal.main_arg2) = m ((c.tc : Thread Cert.AttnOutIdeal.nD Cert.AttnOutIdeal.τ).loc Cert.AttnOutIdeal.main_arg2)
          ∧ r.2.mem ((c.tc : Thread Cert.AttnOutIdeal.nD Cert.AttnOutIdeal.τ).loc Cert.AttnOutIdeal.main_arg3) = m ((c.tc : Thread Cert.AttnOutIdeal.nD Cert.AttnOutIdeal.τ).loc Cert.AttnOutIdeal.main_arg3)
          ∧ r.2.mem ((c.tc : Thread Cert.AttnOutIdeal.nD Cert.AttnOutIdeal.τ).loc Cert.AttnOutIdeal.main_arg4) = m ((c.tc : Thread Cert.AttnOutIdeal.nD Cert.AttnOutIdeal.τ).loc Cert.AttnOutIdeal.main_arg4))
      ∧ θ_run (Cert.AttnOutReferenceIdeal.defs (F := Ideal)) (onTc (τ := Cert.AttnOutReferenceIdeal.τ) (Cert.AttnOutReferenceIdeal.main (F := Ideal))) ⟨m', fun _ => 0, g'⟩ (fun r => ∀ c : Dev Cert.AttnOutReferenceIdeal.nD,
          r.2.mem ((c.tc : Thread Cert.AttnOutReferenceIdeal.nD Cert.AttnOutReferenceIdeal.τ).loc Cert.AttnOutReferenceIdeal.main_v15) = v0 c
          ∧ r.2.mem ((c.tc : Thread Cert.AttnOutReferenceIdeal.nD Cert.AttnOutReferenceIdeal.τ).loc Cert.AttnOutReferenceIdeal.main_v14) = v1 c
          ∧ r.2.mem ((c.tc : Thread Cert.AttnOutReferenceIdeal.nD Cert.AttnOutReferenceIdeal.τ).loc Cert.AttnOutReferenceIdeal.main_v29) = v2 c
          ∧ r.2.mem ((c.tc : Thread Cert.AttnOutReferenceIdeal.nD Cert.AttnOutReferenceIdeal.τ).loc Cert.AttnOutReferenceIdeal.main_arg0) = m' ((c.tc : Thread Cert.AttnOutReferenceIdeal.nD Cert.AttnOutReferenceIdeal.τ).loc Cert.AttnOutReferenceIdeal.main_arg0)
          ∧ r.2.mem ((c.tc : Thread Cert.AttnOutReferenceIdeal.nD Cert.AttnOutReferenceIdeal.τ).loc Cert.AttnOutReferenceIdeal.main_arg1) = m' ((c.tc : Thread Cert.AttnOutReferenceIdeal.nD Cert.AttnOutReferenceIdeal.τ).loc Cert.AttnOutReferenceIdeal.main_arg1)
          ∧ r.2.mem ((c.tc : Thread Cert.AttnOutReferenceIdeal.nD Cert.AttnOutReferenceIdeal.τ).loc Cert.AttnOutReferenceIdeal.main_arg2) = m' ((c.tc : Thread Cert.AttnOutReferenceIdeal.nD Cert.AttnOutReferenceIdeal.τ).loc Cert.AttnOutReferenceIdeal.main_arg2)
          ∧ r.2.mem ((c.tc : Thread Cert.AttnOutReferenceIdeal.nD Cert.AttnOutReferenceIdeal.τ).loc Cert.AttnOutReferenceIdeal.main_arg3) = m' ((c.tc : Thread Cert.AttnOutReferenceIdeal.nD Cert.AttnOutReferenceIdeal.τ).loc Cert.AttnOutReferenceIdeal.main_arg3)
          ∧ r.2.mem ((c.tc : Thread Cert.AttnOutReferenceIdeal.nD Cert.AttnOutReferenceIdeal.τ).loc Cert.AttnOutReferenceIdeal.main_arg4) = m' ((c.tc : Thread Cert.AttnOutReferenceIdeal.nD Cert.AttnOutReferenceIdeal.τ).loc Cert.AttnOutReferenceIdeal.main_arg4))

def preserves_Spatial_SpatialIdeal : Prop :=
  IdealRules.named_const.Statement Cert.SpatialIdeal.κ "inv_b1" .f32 0x3FC48605#32 (((6513215599 / 10000000000)⁻¹ : ℝ) : EReal)
  ∧ IdealRules.named_const.Statement Cert.SpatialIdeal.κ "inv_b2" .f32 0x42C8E6D3#32 (((9955119790251790119955009999 / 1000000000000000000000000000000)⁻¹ : ℝ) : EReal)

def algebraic_SpatialIdeal_SpatialReferenceIdeal [hSpatialIdeal : Cert.SpatialIdeal.Facts] [hSpatialReferenceIdeal : Cert.SpatialReferenceIdeal.Facts] : Prop :=
  ∀ (m : (ℓ : Loc Cert.SpatialIdeal.nD Cert.SpatialIdeal.τ Cert.SpatialIdeal.sig) → Buf (Elt Ideal) ℓ) (g : Dev Cert.SpatialIdeal.nD → PrngReg)
    (m' : (ℓ : Loc Cert.SpatialReferenceIdeal.nD Cert.SpatialReferenceIdeal.τ Cert.SpatialReferenceIdeal.sig) → Buf (Elt Ideal) ℓ) (g' : Dev Cert.SpatialReferenceIdeal.nD → PrngReg), Pre_SpatialIdeal m →
    (∀ c : Dev Cert.SpatialIdeal.nD,
      m' ((c.tc : Thread Cert.SpatialReferenceIdeal.nD Cert.SpatialReferenceIdeal.τ).loc Cert.SpatialReferenceIdeal.main_arg0) = m ((c.tc : Thread Cert.SpatialIdeal.nD Cert.SpatialIdeal.τ).loc Cert.SpatialIdeal.main_arg0)
      ∧ m' ((c.tc : Thread Cert.SpatialReferenceIdeal.nD Cert.SpatialReferenceIdeal.τ).loc Cert.SpatialReferenceIdeal.main_arg1) = m ((c.tc : Thread Cert.SpatialIdeal.nD Cert.SpatialIdeal.τ).loc Cert.SpatialIdeal.main_arg1)
      ∧ m' ((c.tc : Thread Cert.SpatialReferenceIdeal.nD Cert.SpatialReferenceIdeal.τ).loc Cert.SpatialReferenceIdeal.main_arg2) = m ((c.tc : Thread Cert.SpatialIdeal.nD Cert.SpatialIdeal.τ).loc Cert.SpatialIdeal.main_arg2)
      ∧ m' ((c.tc : Thread Cert.SpatialReferenceIdeal.nD Cert.SpatialReferenceIdeal.τ).loc Cert.SpatialReferenceIdeal.main_arg3) = m ((c.tc : Thread Cert.SpatialIdeal.nD Cert.SpatialIdeal.τ).loc Cert.SpatialIdeal.main_arg3)) →
    ∃ (v0 : (c : Dev Cert.SpatialIdeal.nD) → Buf (Elt Ideal) ((c.tc : Thread Cert.SpatialIdeal.nD Cert.SpatialIdeal.τ).loc Cert.SpatialIdeal.main_v0_0)) (v1 : (c : Dev Cert.SpatialIdeal.nD) → Buf (Elt Ideal) ((c.tc : Thread Cert.SpatialIdeal.nD Cert.SpatialIdeal.τ).loc Cert.SpatialIdeal.main_v0_1)) (v2 : (c : Dev Cert.SpatialIdeal.nD) → Buf (Elt Ideal) ((c.tc : Thread Cert.SpatialIdeal.nD Cert.SpatialIdeal.τ).loc Cert.SpatialIdeal.main_v0_2)) (v3 : (c : Dev Cert.SpatialIdeal.nD) → Buf (Elt Ideal) ((c.tc : Thread Cert.SpatialIdeal.nD Cert.SpatialIdeal.τ).loc Cert.SpatialIdeal.main_v0_3)),
      θ_run (Cert.SpatialIdeal.defs (F := Ideal)) (onTc (τ := Cert.SpatialIdeal.τ) (Cert.SpatialIdeal.main (F := Ideal))) ⟨m, fun _ => 0, g⟩ (fun r => ∀ c : Dev Cert.SpatialIdeal.nD,
          r.2.mem ((c.tc : Thread Cert.SpatialIdeal.nD Cert.SpatialIdeal.τ).loc Cert.SpatialIdeal.main_v0_0) = v0 c
          ∧ r.2.mem ((c.tc : Thread Cert.SpatialIdeal.nD Cert.SpatialIdeal.τ).loc Cert.SpatialIdeal.main_v0_1) = v1 c
          ∧ r.2.mem ((c.tc : Thread Cert.SpatialIdeal.nD Cert.SpatialIdeal.τ).loc Cert.SpatialIdeal.main_v0_2) = v2 c
          ∧ r.2.mem ((c.tc : Thread Cert.SpatialIdeal.nD Cert.SpatialIdeal.τ).loc Cert.SpatialIdeal.main_v0_3) = v3 c
          ∧ r.2.mem ((c.tc : Thread Cert.SpatialIdeal.nD Cert.SpatialIdeal.τ).loc Cert.SpatialIdeal.main_arg0) = m ((c.tc : Thread Cert.SpatialIdeal.nD Cert.SpatialIdeal.τ).loc Cert.SpatialIdeal.main_arg0)
          ∧ r.2.mem ((c.tc : Thread Cert.SpatialIdeal.nD Cert.SpatialIdeal.τ).loc Cert.SpatialIdeal.main_arg1) = m ((c.tc : Thread Cert.SpatialIdeal.nD Cert.SpatialIdeal.τ).loc Cert.SpatialIdeal.main_arg1)
          ∧ r.2.mem ((c.tc : Thread Cert.SpatialIdeal.nD Cert.SpatialIdeal.τ).loc Cert.SpatialIdeal.main_arg2) = m ((c.tc : Thread Cert.SpatialIdeal.nD Cert.SpatialIdeal.τ).loc Cert.SpatialIdeal.main_arg2)
          ∧ r.2.mem ((c.tc : Thread Cert.SpatialIdeal.nD Cert.SpatialIdeal.τ).loc Cert.SpatialIdeal.main_arg3) = m ((c.tc : Thread Cert.SpatialIdeal.nD Cert.SpatialIdeal.τ).loc Cert.SpatialIdeal.main_arg3))
      ∧ θ_run (Cert.SpatialReferenceIdeal.defs (F := Ideal)) (onTc (τ := Cert.SpatialReferenceIdeal.τ) (Cert.SpatialReferenceIdeal.main (F := Ideal))) ⟨m', fun _ => 0, g'⟩ (fun r => ∀ c : Dev Cert.SpatialReferenceIdeal.nD,
          r.2.mem ((c.tc : Thread Cert.SpatialReferenceIdeal.nD Cert.SpatialReferenceIdeal.τ).loc Cert.SpatialReferenceIdeal.main_v0_0) = v0 c
          ∧ r.2.mem ((c.tc : Thread Cert.SpatialReferenceIdeal.nD Cert.SpatialReferenceIdeal.τ).loc Cert.SpatialReferenceIdeal.main_v0_1) = v1 c
          ∧ r.2.mem ((c.tc : Thread Cert.SpatialReferenceIdeal.nD Cert.SpatialReferenceIdeal.τ).loc Cert.SpatialReferenceIdeal.main_v0_2) = v2 c
          ∧ r.2.mem ((c.tc : Thread Cert.SpatialReferenceIdeal.nD Cert.SpatialReferenceIdeal.τ).loc Cert.SpatialReferenceIdeal.main_v0_3) = v3 c
          ∧ r.2.mem ((c.tc : Thread Cert.SpatialReferenceIdeal.nD Cert.SpatialReferenceIdeal.τ).loc Cert.SpatialReferenceIdeal.main_arg0) = m' ((c.tc : Thread Cert.SpatialReferenceIdeal.nD Cert.SpatialReferenceIdeal.τ).loc Cert.SpatialReferenceIdeal.main_arg0)
          ∧ r.2.mem ((c.tc : Thread Cert.SpatialReferenceIdeal.nD Cert.SpatialReferenceIdeal.τ).loc Cert.SpatialReferenceIdeal.main_arg1) = m' ((c.tc : Thread Cert.SpatialReferenceIdeal.nD Cert.SpatialReferenceIdeal.τ).loc Cert.SpatialReferenceIdeal.main_arg1)
          ∧ r.2.mem ((c.tc : Thread Cert.SpatialReferenceIdeal.nD Cert.SpatialReferenceIdeal.τ).loc Cert.SpatialReferenceIdeal.main_arg2) = m' ((c.tc : Thread Cert.SpatialReferenceIdeal.nD Cert.SpatialReferenceIdeal.τ).loc Cert.SpatialReferenceIdeal.main_arg2)
          ∧ r.2.mem ((c.tc : Thread Cert.SpatialReferenceIdeal.nD Cert.SpatialReferenceIdeal.τ).loc Cert.SpatialReferenceIdeal.main_arg3) = m' ((c.tc : Thread Cert.SpatialReferenceIdeal.nD Cert.SpatialReferenceIdeal.τ).loc Cert.SpatialReferenceIdeal.main_arg3))

def preserves_Small_SmallIdeal : Prop :=
  IdealRules.named_const.Statement Cert.SmallIdeal.κ "inv_b1" .f32 0x3FC48605#32 (((6513215599 / 10000000000)⁻¹ : ℝ) : EReal)
  ∧ IdealRules.named_const.Statement Cert.SmallIdeal.κ "inv_b2" .f32 0x42C8E6D3#32 (((9955119790251790119955009999 / 1000000000000000000000000000000)⁻¹ : ℝ) : EReal)

def algebraic_SmallIdeal_SmallReferenceIdeal [hSmallIdeal : Cert.SmallIdeal.Facts] [hSmallReferenceIdeal : Cert.SmallReferenceIdeal.Facts] : Prop :=
  ∀ (m : (ℓ : Loc Cert.SmallIdeal.nD Cert.SmallIdeal.τ Cert.SmallIdeal.sig) → Buf (Elt Ideal) ℓ) (g : Dev Cert.SmallIdeal.nD → PrngReg)
    (m' : (ℓ : Loc Cert.SmallReferenceIdeal.nD Cert.SmallReferenceIdeal.τ Cert.SmallReferenceIdeal.sig) → Buf (Elt Ideal) ℓ) (g' : Dev Cert.SmallReferenceIdeal.nD → PrngReg), Pre_SmallIdeal m →
    (∀ c : Dev Cert.SmallIdeal.nD,
      m' ((c.tc : Thread Cert.SmallReferenceIdeal.nD Cert.SmallReferenceIdeal.τ).loc Cert.SmallReferenceIdeal.main_arg0) = m ((c.tc : Thread Cert.SmallIdeal.nD Cert.SmallIdeal.τ).loc Cert.SmallIdeal.main_arg0)
      ∧ m' ((c.tc : Thread Cert.SmallReferenceIdeal.nD Cert.SmallReferenceIdeal.τ).loc Cert.SmallReferenceIdeal.main_arg1) = m ((c.tc : Thread Cert.SmallIdeal.nD Cert.SmallIdeal.τ).loc Cert.SmallIdeal.main_arg1)
      ∧ m' ((c.tc : Thread Cert.SmallReferenceIdeal.nD Cert.SmallReferenceIdeal.τ).loc Cert.SmallReferenceIdeal.main_arg2) = m ((c.tc : Thread Cert.SmallIdeal.nD Cert.SmallIdeal.τ).loc Cert.SmallIdeal.main_arg2)
      ∧ m' ((c.tc : Thread Cert.SmallReferenceIdeal.nD Cert.SmallReferenceIdeal.τ).loc Cert.SmallReferenceIdeal.main_arg3) = m ((c.tc : Thread Cert.SmallIdeal.nD Cert.SmallIdeal.τ).loc Cert.SmallIdeal.main_arg3)) →
    ∃ (v0 : (c : Dev Cert.SmallIdeal.nD) → Buf (Elt Ideal) ((c.tc : Thread Cert.SmallIdeal.nD Cert.SmallIdeal.τ).loc Cert.SmallIdeal.main_v0_0)) (v1 : (c : Dev Cert.SmallIdeal.nD) → Buf (Elt Ideal) ((c.tc : Thread Cert.SmallIdeal.nD Cert.SmallIdeal.τ).loc Cert.SmallIdeal.main_v0_1)) (v2 : (c : Dev Cert.SmallIdeal.nD) → Buf (Elt Ideal) ((c.tc : Thread Cert.SmallIdeal.nD Cert.SmallIdeal.τ).loc Cert.SmallIdeal.main_v0_2)) (v3 : (c : Dev Cert.SmallIdeal.nD) → Buf (Elt Ideal) ((c.tc : Thread Cert.SmallIdeal.nD Cert.SmallIdeal.τ).loc Cert.SmallIdeal.main_v0_3)),
      θ_run (Cert.SmallIdeal.defs (F := Ideal)) (onTc (τ := Cert.SmallIdeal.τ) (Cert.SmallIdeal.main (F := Ideal))) ⟨m, fun _ => 0, g⟩ (fun r => ∀ c : Dev Cert.SmallIdeal.nD,
          r.2.mem ((c.tc : Thread Cert.SmallIdeal.nD Cert.SmallIdeal.τ).loc Cert.SmallIdeal.main_v0_0) = v0 c
          ∧ r.2.mem ((c.tc : Thread Cert.SmallIdeal.nD Cert.SmallIdeal.τ).loc Cert.SmallIdeal.main_v0_1) = v1 c
          ∧ r.2.mem ((c.tc : Thread Cert.SmallIdeal.nD Cert.SmallIdeal.τ).loc Cert.SmallIdeal.main_v0_2) = v2 c
          ∧ r.2.mem ((c.tc : Thread Cert.SmallIdeal.nD Cert.SmallIdeal.τ).loc Cert.SmallIdeal.main_v0_3) = v3 c
          ∧ r.2.mem ((c.tc : Thread Cert.SmallIdeal.nD Cert.SmallIdeal.τ).loc Cert.SmallIdeal.main_arg0) = m ((c.tc : Thread Cert.SmallIdeal.nD Cert.SmallIdeal.τ).loc Cert.SmallIdeal.main_arg0)
          ∧ r.2.mem ((c.tc : Thread Cert.SmallIdeal.nD Cert.SmallIdeal.τ).loc Cert.SmallIdeal.main_arg1) = m ((c.tc : Thread Cert.SmallIdeal.nD Cert.SmallIdeal.τ).loc Cert.SmallIdeal.main_arg1)
          ∧ r.2.mem ((c.tc : Thread Cert.SmallIdeal.nD Cert.SmallIdeal.τ).loc Cert.SmallIdeal.main_arg2) = m ((c.tc : Thread Cert.SmallIdeal.nD Cert.SmallIdeal.τ).loc Cert.SmallIdeal.main_arg2)
          ∧ r.2.mem ((c.tc : Thread Cert.SmallIdeal.nD Cert.SmallIdeal.τ).loc Cert.SmallIdeal.main_arg3) = m ((c.tc : Thread Cert.SmallIdeal.nD Cert.SmallIdeal.τ).loc Cert.SmallIdeal.main_arg3))
      ∧ θ_run (Cert.SmallReferenceIdeal.defs (F := Ideal)) (onTc (τ := Cert.SmallReferenceIdeal.τ) (Cert.SmallReferenceIdeal.main (F := Ideal))) ⟨m', fun _ => 0, g'⟩ (fun r => ∀ c : Dev Cert.SmallReferenceIdeal.nD,
          r.2.mem ((c.tc : Thread Cert.SmallReferenceIdeal.nD Cert.SmallReferenceIdeal.τ).loc Cert.SmallReferenceIdeal.main_v0_0) = v0 c
          ∧ r.2.mem ((c.tc : Thread Cert.SmallReferenceIdeal.nD Cert.SmallReferenceIdeal.τ).loc Cert.SmallReferenceIdeal.main_v0_1) = v1 c
          ∧ r.2.mem ((c.tc : Thread Cert.SmallReferenceIdeal.nD Cert.SmallReferenceIdeal.τ).loc Cert.SmallReferenceIdeal.main_v0_2) = v2 c
          ∧ r.2.mem ((c.tc : Thread Cert.SmallReferenceIdeal.nD Cert.SmallReferenceIdeal.τ).loc Cert.SmallReferenceIdeal.main_v0_3) = v3 c
          ∧ r.2.mem ((c.tc : Thread Cert.SmallReferenceIdeal.nD Cert.SmallReferenceIdeal.τ).loc Cert.SmallReferenceIdeal.main_arg0) = m' ((c.tc : Thread Cert.SmallReferenceIdeal.nD Cert.SmallReferenceIdeal.τ).loc Cert.SmallReferenceIdeal.main_arg0)
          ∧ r.2.mem ((c.tc : Thread Cert.SmallReferenceIdeal.nD Cert.SmallReferenceIdeal.τ).loc Cert.SmallReferenceIdeal.main_arg1) = m' ((c.tc : Thread Cert.SmallReferenceIdeal.nD Cert.SmallReferenceIdeal.τ).loc Cert.SmallReferenceIdeal.main_arg1)
          ∧ r.2.mem ((c.tc : Thread Cert.SmallReferenceIdeal.nD Cert.SmallReferenceIdeal.τ).loc Cert.SmallReferenceIdeal.main_arg2) = m' ((c.tc : Thread Cert.SmallReferenceIdeal.nD Cert.SmallReferenceIdeal.τ).loc Cert.SmallReferenceIdeal.main_arg2)
          ∧ r.2.mem ((c.tc : Thread Cert.SmallReferenceIdeal.nD Cert.SmallReferenceIdeal.τ).loc Cert.SmallReferenceIdeal.main_arg3) = m' ((c.tc : Thread Cert.SmallReferenceIdeal.nD Cert.SmallReferenceIdeal.τ).loc Cert.SmallReferenceIdeal.main_arg3))

def preserves_Bias_BiasIdeal : Prop :=
  IdealRules.named_const.Statement Cert.BiasIdeal.κ "inv_b1" .f32 0x3FC48605#32 (((6513215599 / 10000000000)⁻¹ : ℝ) : EReal)
  ∧ IdealRules.named_const.Statement Cert.BiasIdeal.κ "inv_b2" .f32 0x42C8E6D3#32 (((9955119790251790119955009999 / 1000000000000000000000000000000)⁻¹ : ℝ) : EReal)

def algebraic_BiasIdeal_BiasReferenceIdeal [hBiasIdeal : Cert.BiasIdeal.Facts] [hBiasReferenceIdeal : Cert.BiasReferenceIdeal.Facts] : Prop :=
  ∀ (m : (ℓ : Loc Cert.BiasIdeal.nD Cert.BiasIdeal.τ Cert.BiasIdeal.sig) → Buf (Elt Ideal) ℓ) (g : Dev Cert.BiasIdeal.nD → PrngReg)
    (m' : (ℓ : Loc Cert.BiasReferenceIdeal.nD Cert.BiasReferenceIdeal.τ Cert.BiasReferenceIdeal.sig) → Buf (Elt Ideal) ℓ) (g' : Dev Cert.BiasReferenceIdeal.nD → PrngReg), Pre_BiasIdeal m →
    (∀ c : Dev Cert.BiasIdeal.nD,
      m' ((c.tc : Thread Cert.BiasReferenceIdeal.nD Cert.BiasReferenceIdeal.τ).loc Cert.BiasReferenceIdeal.main_arg0) = m ((c.tc : Thread Cert.BiasIdeal.nD Cert.BiasIdeal.τ).loc Cert.BiasIdeal.main_arg0)
      ∧ m' ((c.tc : Thread Cert.BiasReferenceIdeal.nD Cert.BiasReferenceIdeal.τ).loc Cert.BiasReferenceIdeal.main_arg1) = m ((c.tc : Thread Cert.BiasIdeal.nD Cert.BiasIdeal.τ).loc Cert.BiasIdeal.main_arg1)
      ∧ m' ((c.tc : Thread Cert.BiasReferenceIdeal.nD Cert.BiasReferenceIdeal.τ).loc Cert.BiasReferenceIdeal.main_arg2) = m ((c.tc : Thread Cert.BiasIdeal.nD Cert.BiasIdeal.τ).loc Cert.BiasIdeal.main_arg2)
      ∧ m' ((c.tc : Thread Cert.BiasReferenceIdeal.nD Cert.BiasReferenceIdeal.τ).loc Cert.BiasReferenceIdeal.main_arg3) = m ((c.tc : Thread Cert.BiasIdeal.nD Cert.BiasIdeal.τ).loc Cert.BiasIdeal.main_arg3)) →
    ∃ (v0 : (c : Dev Cert.BiasIdeal.nD) → Buf (Elt Ideal) ((c.tc : Thread Cert.BiasIdeal.nD Cert.BiasIdeal.τ).loc Cert.BiasIdeal.main_v0_0)) (v1 : (c : Dev Cert.BiasIdeal.nD) → Buf (Elt Ideal) ((c.tc : Thread Cert.BiasIdeal.nD Cert.BiasIdeal.τ).loc Cert.BiasIdeal.main_v0_1)) (v2 : (c : Dev Cert.BiasIdeal.nD) → Buf (Elt Ideal) ((c.tc : Thread Cert.BiasIdeal.nD Cert.BiasIdeal.τ).loc Cert.BiasIdeal.main_v0_2)),
      θ_run (Cert.BiasIdeal.defs (F := Ideal)) (onTc (τ := Cert.BiasIdeal.τ) (Cert.BiasIdeal.main (F := Ideal))) ⟨m, fun _ => 0, g⟩ (fun r => ∀ c : Dev Cert.BiasIdeal.nD,
          r.2.mem ((c.tc : Thread Cert.BiasIdeal.nD Cert.BiasIdeal.τ).loc Cert.BiasIdeal.main_v0_0) = v0 c
          ∧ r.2.mem ((c.tc : Thread Cert.BiasIdeal.nD Cert.BiasIdeal.τ).loc Cert.BiasIdeal.main_v0_1) = v1 c
          ∧ r.2.mem ((c.tc : Thread Cert.BiasIdeal.nD Cert.BiasIdeal.τ).loc Cert.BiasIdeal.main_v0_2) = v2 c
          ∧ r.2.mem ((c.tc : Thread Cert.BiasIdeal.nD Cert.BiasIdeal.τ).loc Cert.BiasIdeal.main_arg0) = m ((c.tc : Thread Cert.BiasIdeal.nD Cert.BiasIdeal.τ).loc Cert.BiasIdeal.main_arg0)
          ∧ r.2.mem ((c.tc : Thread Cert.BiasIdeal.nD Cert.BiasIdeal.τ).loc Cert.BiasIdeal.main_arg1) = m ((c.tc : Thread Cert.BiasIdeal.nD Cert.BiasIdeal.τ).loc Cert.BiasIdeal.main_arg1)
          ∧ r.2.mem ((c.tc : Thread Cert.BiasIdeal.nD Cert.BiasIdeal.τ).loc Cert.BiasIdeal.main_arg2) = m ((c.tc : Thread Cert.BiasIdeal.nD Cert.BiasIdeal.τ).loc Cert.BiasIdeal.main_arg2)
          ∧ r.2.mem ((c.tc : Thread Cert.BiasIdeal.nD Cert.BiasIdeal.τ).loc Cert.BiasIdeal.main_arg3) = m ((c.tc : Thread Cert.BiasIdeal.nD Cert.BiasIdeal.τ).loc Cert.BiasIdeal.main_arg3))
      ∧ θ_run (Cert.BiasReferenceIdeal.defs (F := Ideal)) (onTc (τ := Cert.BiasReferenceIdeal.τ) (Cert.BiasReferenceIdeal.main (F := Ideal))) ⟨m', fun _ => 0, g'⟩ (fun r => ∀ c : Dev Cert.BiasReferenceIdeal.nD,
          r.2.mem ((c.tc : Thread Cert.BiasReferenceIdeal.nD Cert.BiasReferenceIdeal.τ).loc Cert.BiasReferenceIdeal.main_v0_0) = v0 c
          ∧ r.2.mem ((c.tc : Thread Cert.BiasReferenceIdeal.nD Cert.BiasReferenceIdeal.τ).loc Cert.BiasReferenceIdeal.main_v0_1) = v1 c
          ∧ r.2.mem ((c.tc : Thread Cert.BiasReferenceIdeal.nD Cert.BiasReferenceIdeal.τ).loc Cert.BiasReferenceIdeal.main_v0_2) = v2 c
          ∧ r.2.mem ((c.tc : Thread Cert.BiasReferenceIdeal.nD Cert.BiasReferenceIdeal.τ).loc Cert.BiasReferenceIdeal.main_arg0) = m' ((c.tc : Thread Cert.BiasReferenceIdeal.nD Cert.BiasReferenceIdeal.τ).loc Cert.BiasReferenceIdeal.main_arg0)
          ∧ r.2.mem ((c.tc : Thread Cert.BiasReferenceIdeal.nD Cert.BiasReferenceIdeal.τ).loc Cert.BiasReferenceIdeal.main_arg1) = m' ((c.tc : Thread Cert.BiasReferenceIdeal.nD Cert.BiasReferenceIdeal.τ).loc Cert.BiasReferenceIdeal.main_arg1)
          ∧ r.2.mem ((c.tc : Thread Cert.BiasReferenceIdeal.nD Cert.BiasReferenceIdeal.τ).loc Cert.BiasReferenceIdeal.main_arg2) = m' ((c.tc : Thread Cert.BiasReferenceIdeal.nD Cert.BiasReferenceIdeal.τ).loc Cert.BiasReferenceIdeal.main_arg2)
          ∧ r.2.mem ((c.tc : Thread Cert.BiasReferenceIdeal.nD Cert.BiasReferenceIdeal.τ).loc Cert.BiasReferenceIdeal.main_arg3) = m' ((c.tc : Thread Cert.BiasReferenceIdeal.nD Cert.BiasReferenceIdeal.τ).loc Cert.BiasReferenceIdeal.main_arg3))

def preserves_BiasSum_BiasSumIdeal : Prop :=
  True

def algebraic_BiasSumIdeal_BiasSumReferenceIdeal [hBiasSumIdeal : Cert.BiasSumIdeal.Facts] [hBiasSumReferenceIdeal : Cert.BiasSumReferenceIdeal.Facts] : Prop :=
  ∀ (m : (ℓ : Loc Cert.BiasSumIdeal.nD Cert.BiasSumIdeal.τ Cert.BiasSumIdeal.sig) → Buf (Elt Ideal) ℓ) (g : Dev Cert.BiasSumIdeal.nD → PrngReg)
    (m' : (ℓ : Loc Cert.BiasSumReferenceIdeal.nD Cert.BiasSumReferenceIdeal.τ Cert.BiasSumReferenceIdeal.sig) → Buf (Elt Ideal) ℓ) (g' : Dev Cert.BiasSumReferenceIdeal.nD → PrngReg), Pre_BiasSumIdeal m →
    (∀ c : Dev Cert.BiasSumIdeal.nD,
      m' ((c.tc : Thread Cert.BiasSumReferenceIdeal.nD Cert.BiasSumReferenceIdeal.τ).loc Cert.BiasSumReferenceIdeal.main_arg0) = m ((c.tc : Thread Cert.BiasSumIdeal.nD Cert.BiasSumIdeal.τ).loc Cert.BiasSumIdeal.main_arg0)) →
    ∃ (v0 : (c : Dev Cert.BiasSumIdeal.nD) → Buf (Elt Ideal) ((c.tc : Thread Cert.BiasSumIdeal.nD Cert.BiasSumIdeal.τ).loc Cert.BiasSumIdeal.main_v0)),
      θ_run (Cert.BiasSumIdeal.defs (F := Ideal)) (onTc (τ := Cert.BiasSumIdeal.τ) (Cert.BiasSumIdeal.main (F := Ideal))) ⟨m, fun _ => 0, g⟩ (fun r => ∀ c : Dev Cert.BiasSumIdeal.nD,
          r.2.mem ((c.tc : Thread Cert.BiasSumIdeal.nD Cert.BiasSumIdeal.τ).loc Cert.BiasSumIdeal.main_v0) = v0 c
          ∧ r.2.mem ((c.tc : Thread Cert.BiasSumIdeal.nD Cert.BiasSumIdeal.τ).loc Cert.BiasSumIdeal.main_arg0) = m ((c.tc : Thread Cert.BiasSumIdeal.nD Cert.BiasSumIdeal.τ).loc Cert.BiasSumIdeal.main_arg0))
      ∧ θ_run (Cert.BiasSumReferenceIdeal.defs (F := Ideal)) (onTc (τ := Cert.BiasSumReferenceIdeal.τ) (Cert.BiasSumReferenceIdeal.main (F := Ideal))) ⟨m', fun _ => 0, g'⟩ (fun r => ∀ c : Dev Cert.BiasSumReferenceIdeal.nD,
          r.2.mem ((c.tc : Thread Cert.BiasSumReferenceIdeal.nD Cert.BiasSumReferenceIdeal.τ).loc Cert.BiasSumReferenceIdeal.main_v0) = v0 c
          ∧ r.2.mem ((c.tc : Thread Cert.BiasSumReferenceIdeal.nD Cert.BiasSumReferenceIdeal.τ).loc Cert.BiasSumReferenceIdeal.main_arg0) = m' ((c.tc : Thread Cert.BiasSumReferenceIdeal.nD Cert.BiasSumReferenceIdeal.τ).loc Cert.BiasSumReferenceIdeal.main_arg0))

def preserves_GmlpOutUpdate0_GmlpOutUpdate0Ideal : Prop :=
  IdealRules.named_const.Statement Cert.GmlpOutUpdate0Ideal.κ "inv_b1" .f32 0x3FC48605#32 (((6513215599 / 10000000000)⁻¹ : ℝ) : EReal)
  ∧ IdealRules.named_const.Statement Cert.GmlpOutUpdate0Ideal.κ "inv_b2" .f32 0x42C8E6D3#32 (((9955119790251790119955009999 / 1000000000000000000000000000000)⁻¹ : ℝ) : EReal)

def algebraic_GmlpOutUpdate0Ideal_GmlpOutUpdate0ReferenceIdeal [hGmlpOutUpdate0Ideal : Cert.GmlpOutUpdate0Ideal.Facts] [hGmlpOutUpdate0ReferenceIdeal : Cert.GmlpOutUpdate0ReferenceIdeal.Facts] : Prop :=
  ∀ (m : (ℓ : Loc Cert.GmlpOutUpdate0Ideal.nD Cert.GmlpOutUpdate0Ideal.τ Cert.GmlpOutUpdate0Ideal.sig) → Buf (Elt Ideal) ℓ) (g : Dev Cert.GmlpOutUpdate0Ideal.nD → PrngReg)
    (m' : (ℓ : Loc Cert.GmlpOutUpdate0ReferenceIdeal.nD Cert.GmlpOutUpdate0ReferenceIdeal.τ Cert.GmlpOutUpdate0ReferenceIdeal.sig) → Buf (Elt Ideal) ℓ) (g' : Dev Cert.GmlpOutUpdate0ReferenceIdeal.nD → PrngReg), Pre_GmlpOutUpdate0Ideal m →
    (∀ c : Dev Cert.GmlpOutUpdate0Ideal.nD,
      m' ((c.tc : Thread Cert.GmlpOutUpdate0ReferenceIdeal.nD Cert.GmlpOutUpdate0ReferenceIdeal.τ).loc Cert.GmlpOutUpdate0ReferenceIdeal.main_arg0) = m ((c.tc : Thread Cert.GmlpOutUpdate0Ideal.nD Cert.GmlpOutUpdate0Ideal.τ).loc Cert.GmlpOutUpdate0Ideal.main_arg0)
      ∧ m' ((c.tc : Thread Cert.GmlpOutUpdate0ReferenceIdeal.nD Cert.GmlpOutUpdate0ReferenceIdeal.τ).loc Cert.GmlpOutUpdate0ReferenceIdeal.main_arg1) = m ((c.tc : Thread Cert.GmlpOutUpdate0Ideal.nD Cert.GmlpOutUpdate0Ideal.τ).loc Cert.GmlpOutUpdate0Ideal.main_arg1)
      ∧ m' ((c.tc : Thread Cert.GmlpOutUpdate0ReferenceIdeal.nD Cert.GmlpOutUpdate0ReferenceIdeal.τ).loc Cert.GmlpOutUpdate0ReferenceIdeal.main_arg2) = m ((c.tc : Thread Cert.GmlpOutUpdate0Ideal.nD Cert.GmlpOutUpdate0Ideal.τ).loc Cert.GmlpOutUpdate0Ideal.main_arg2)
      ∧ m' ((c.tc : Thread Cert.GmlpOutUpdate0ReferenceIdeal.nD Cert.GmlpOutUpdate0ReferenceIdeal.τ).loc Cert.GmlpOutUpdate0ReferenceIdeal.main_arg3) = m ((c.tc : Thread Cert.GmlpOutUpdate0Ideal.nD Cert.GmlpOutUpdate0Ideal.τ).loc Cert.GmlpOutUpdate0Ideal.main_arg3)
      ∧ m' ((c.tc : Thread Cert.GmlpOutUpdate0ReferenceIdeal.nD Cert.GmlpOutUpdate0ReferenceIdeal.τ).loc Cert.GmlpOutUpdate0ReferenceIdeal.main_arg4) = m ((c.tc : Thread Cert.GmlpOutUpdate0Ideal.nD Cert.GmlpOutUpdate0Ideal.τ).loc Cert.GmlpOutUpdate0Ideal.main_arg4)
      ∧ m' ((c.tc : Thread Cert.GmlpOutUpdate0ReferenceIdeal.nD Cert.GmlpOutUpdate0ReferenceIdeal.τ).loc Cert.GmlpOutUpdate0ReferenceIdeal.main_arg5) = m ((c.tc : Thread Cert.GmlpOutUpdate0Ideal.nD Cert.GmlpOutUpdate0Ideal.τ).loc Cert.GmlpOutUpdate0Ideal.main_arg5)
      ∧ m' ((c.tc : Thread Cert.GmlpOutUpdate0ReferenceIdeal.nD Cert.GmlpOutUpdate0ReferenceIdeal.τ).loc Cert.GmlpOutUpdate0ReferenceIdeal.main_arg6) = m ((c.tc : Thread Cert.GmlpOutUpdate0Ideal.nD Cert.GmlpOutUpdate0Ideal.τ).loc Cert.GmlpOutUpdate0Ideal.main_arg6)
      ∧ m' ((c.tc : Thread Cert.GmlpOutUpdate0ReferenceIdeal.nD Cert.GmlpOutUpdate0ReferenceIdeal.τ).loc Cert.GmlpOutUpdate0ReferenceIdeal.main_arg7) = m ((c.tc : Thread Cert.GmlpOutUpdate0Ideal.nD Cert.GmlpOutUpdate0Ideal.τ).loc Cert.GmlpOutUpdate0Ideal.main_arg7)
      ∧ m' ((c.tc : Thread Cert.GmlpOutUpdate0ReferenceIdeal.nD Cert.GmlpOutUpdate0ReferenceIdeal.τ).loc Cert.GmlpOutUpdate0ReferenceIdeal.main_arg8) = m ((c.tc : Thread Cert.GmlpOutUpdate0Ideal.nD Cert.GmlpOutUpdate0Ideal.τ).loc Cert.GmlpOutUpdate0Ideal.main_arg8)) →
    ∃ (v0 : (c : Dev Cert.GmlpOutUpdate0Ideal.nD) → Buf (Elt Ideal) ((c.tc : Thread Cert.GmlpOutUpdate0Ideal.nD Cert.GmlpOutUpdate0Ideal.τ).loc Cert.GmlpOutUpdate0Ideal.main_v1_0)) (v1 : (c : Dev Cert.GmlpOutUpdate0Ideal.nD) → Buf (Elt Ideal) ((c.tc : Thread Cert.GmlpOutUpdate0Ideal.nD Cert.GmlpOutUpdate0Ideal.τ).loc Cert.GmlpOutUpdate0Ideal.main_v1_1)) (v2 : (c : Dev Cert.GmlpOutUpdate0Ideal.nD) → Buf (Elt Ideal) ((c.tc : Thread Cert.GmlpOutUpdate0Ideal.nD Cert.GmlpOutUpdate0Ideal.τ).loc Cert.GmlpOutUpdate0Ideal.main_v1_2)) (v3 : (c : Dev Cert.GmlpOutUpdate0Ideal.nD) → Buf (Elt Ideal) ((c.tc : Thread Cert.GmlpOutUpdate0Ideal.nD Cert.GmlpOutUpdate0Ideal.τ).loc Cert.GmlpOutUpdate0Ideal.main_v1_3)),
      θ_run (Cert.GmlpOutUpdate0Ideal.defs (F := Ideal)) (onTc (τ := Cert.GmlpOutUpdate0Ideal.τ) (Cert.GmlpOutUpdate0Ideal.main (F := Ideal))) ⟨m, fun _ => 0, g⟩ (fun r => ∀ c : Dev Cert.GmlpOutUpdate0Ideal.nD,
          r.2.mem ((c.tc : Thread Cert.GmlpOutUpdate0Ideal.nD Cert.GmlpOutUpdate0Ideal.τ).loc Cert.GmlpOutUpdate0Ideal.main_v1_0) = v0 c
          ∧ r.2.mem ((c.tc : Thread Cert.GmlpOutUpdate0Ideal.nD Cert.GmlpOutUpdate0Ideal.τ).loc Cert.GmlpOutUpdate0Ideal.main_v1_1) = v1 c
          ∧ r.2.mem ((c.tc : Thread Cert.GmlpOutUpdate0Ideal.nD Cert.GmlpOutUpdate0Ideal.τ).loc Cert.GmlpOutUpdate0Ideal.main_v1_2) = v2 c
          ∧ r.2.mem ((c.tc : Thread Cert.GmlpOutUpdate0Ideal.nD Cert.GmlpOutUpdate0Ideal.τ).loc Cert.GmlpOutUpdate0Ideal.main_v1_3) = v3 c
          ∧ r.2.mem ((c.tc : Thread Cert.GmlpOutUpdate0Ideal.nD Cert.GmlpOutUpdate0Ideal.τ).loc Cert.GmlpOutUpdate0Ideal.main_arg0) = m ((c.tc : Thread Cert.GmlpOutUpdate0Ideal.nD Cert.GmlpOutUpdate0Ideal.τ).loc Cert.GmlpOutUpdate0Ideal.main_arg0)
          ∧ r.2.mem ((c.tc : Thread Cert.GmlpOutUpdate0Ideal.nD Cert.GmlpOutUpdate0Ideal.τ).loc Cert.GmlpOutUpdate0Ideal.main_arg1) = m ((c.tc : Thread Cert.GmlpOutUpdate0Ideal.nD Cert.GmlpOutUpdate0Ideal.τ).loc Cert.GmlpOutUpdate0Ideal.main_arg1)
          ∧ r.2.mem ((c.tc : Thread Cert.GmlpOutUpdate0Ideal.nD Cert.GmlpOutUpdate0Ideal.τ).loc Cert.GmlpOutUpdate0Ideal.main_arg2) = m ((c.tc : Thread Cert.GmlpOutUpdate0Ideal.nD Cert.GmlpOutUpdate0Ideal.τ).loc Cert.GmlpOutUpdate0Ideal.main_arg2)
          ∧ r.2.mem ((c.tc : Thread Cert.GmlpOutUpdate0Ideal.nD Cert.GmlpOutUpdate0Ideal.τ).loc Cert.GmlpOutUpdate0Ideal.main_arg3) = m ((c.tc : Thread Cert.GmlpOutUpdate0Ideal.nD Cert.GmlpOutUpdate0Ideal.τ).loc Cert.GmlpOutUpdate0Ideal.main_arg3)
          ∧ r.2.mem ((c.tc : Thread Cert.GmlpOutUpdate0Ideal.nD Cert.GmlpOutUpdate0Ideal.τ).loc Cert.GmlpOutUpdate0Ideal.main_arg4) = m ((c.tc : Thread Cert.GmlpOutUpdate0Ideal.nD Cert.GmlpOutUpdate0Ideal.τ).loc Cert.GmlpOutUpdate0Ideal.main_arg4)
          ∧ r.2.mem ((c.tc : Thread Cert.GmlpOutUpdate0Ideal.nD Cert.GmlpOutUpdate0Ideal.τ).loc Cert.GmlpOutUpdate0Ideal.main_arg5) = m ((c.tc : Thread Cert.GmlpOutUpdate0Ideal.nD Cert.GmlpOutUpdate0Ideal.τ).loc Cert.GmlpOutUpdate0Ideal.main_arg5)
          ∧ r.2.mem ((c.tc : Thread Cert.GmlpOutUpdate0Ideal.nD Cert.GmlpOutUpdate0Ideal.τ).loc Cert.GmlpOutUpdate0Ideal.main_arg6) = m ((c.tc : Thread Cert.GmlpOutUpdate0Ideal.nD Cert.GmlpOutUpdate0Ideal.τ).loc Cert.GmlpOutUpdate0Ideal.main_arg6)
          ∧ r.2.mem ((c.tc : Thread Cert.GmlpOutUpdate0Ideal.nD Cert.GmlpOutUpdate0Ideal.τ).loc Cert.GmlpOutUpdate0Ideal.main_arg7) = m ((c.tc : Thread Cert.GmlpOutUpdate0Ideal.nD Cert.GmlpOutUpdate0Ideal.τ).loc Cert.GmlpOutUpdate0Ideal.main_arg7)
          ∧ r.2.mem ((c.tc : Thread Cert.GmlpOutUpdate0Ideal.nD Cert.GmlpOutUpdate0Ideal.τ).loc Cert.GmlpOutUpdate0Ideal.main_arg8) = m ((c.tc : Thread Cert.GmlpOutUpdate0Ideal.nD Cert.GmlpOutUpdate0Ideal.τ).loc Cert.GmlpOutUpdate0Ideal.main_arg8))
      ∧ θ_run (Cert.GmlpOutUpdate0ReferenceIdeal.defs (F := Ideal)) (onTc (τ := Cert.GmlpOutUpdate0ReferenceIdeal.τ) (Cert.GmlpOutUpdate0ReferenceIdeal.main (F := Ideal))) ⟨m', fun _ => 0, g'⟩ (fun r => ∀ c : Dev Cert.GmlpOutUpdate0ReferenceIdeal.nD,
          r.2.mem ((c.tc : Thread Cert.GmlpOutUpdate0ReferenceIdeal.nD Cert.GmlpOutUpdate0ReferenceIdeal.τ).loc Cert.GmlpOutUpdate0ReferenceIdeal.main_v0_0) = v0 c
          ∧ r.2.mem ((c.tc : Thread Cert.GmlpOutUpdate0ReferenceIdeal.nD Cert.GmlpOutUpdate0ReferenceIdeal.τ).loc Cert.GmlpOutUpdate0ReferenceIdeal.main_v0_1) = v1 c
          ∧ r.2.mem ((c.tc : Thread Cert.GmlpOutUpdate0ReferenceIdeal.nD Cert.GmlpOutUpdate0ReferenceIdeal.τ).loc Cert.GmlpOutUpdate0ReferenceIdeal.main_v0_2) = v2 c
          ∧ r.2.mem ((c.tc : Thread Cert.GmlpOutUpdate0ReferenceIdeal.nD Cert.GmlpOutUpdate0ReferenceIdeal.τ).loc Cert.GmlpOutUpdate0ReferenceIdeal.main_v0_3) = v3 c
          ∧ r.2.mem ((c.tc : Thread Cert.GmlpOutUpdate0ReferenceIdeal.nD Cert.GmlpOutUpdate0ReferenceIdeal.τ).loc Cert.GmlpOutUpdate0ReferenceIdeal.main_arg0) = m' ((c.tc : Thread Cert.GmlpOutUpdate0ReferenceIdeal.nD Cert.GmlpOutUpdate0ReferenceIdeal.τ).loc Cert.GmlpOutUpdate0ReferenceIdeal.main_arg0)
          ∧ r.2.mem ((c.tc : Thread Cert.GmlpOutUpdate0ReferenceIdeal.nD Cert.GmlpOutUpdate0ReferenceIdeal.τ).loc Cert.GmlpOutUpdate0ReferenceIdeal.main_arg1) = m' ((c.tc : Thread Cert.GmlpOutUpdate0ReferenceIdeal.nD Cert.GmlpOutUpdate0ReferenceIdeal.τ).loc Cert.GmlpOutUpdate0ReferenceIdeal.main_arg1)
          ∧ r.2.mem ((c.tc : Thread Cert.GmlpOutUpdate0ReferenceIdeal.nD Cert.GmlpOutUpdate0ReferenceIdeal.τ).loc Cert.GmlpOutUpdate0ReferenceIdeal.main_arg2) = m' ((c.tc : Thread Cert.GmlpOutUpdate0ReferenceIdeal.nD Cert.GmlpOutUpdate0ReferenceIdeal.τ).loc Cert.GmlpOutUpdate0ReferenceIdeal.main_arg2)
          ∧ r.2.mem ((c.tc : Thread Cert.GmlpOutUpdate0ReferenceIdeal.nD Cert.GmlpOutUpdate0ReferenceIdeal.τ).loc Cert.GmlpOutUpdate0ReferenceIdeal.main_arg3) = m' ((c.tc : Thread Cert.GmlpOutUpdate0ReferenceIdeal.nD Cert.GmlpOutUpdate0ReferenceIdeal.τ).loc Cert.GmlpOutUpdate0ReferenceIdeal.main_arg3)
          ∧ r.2.mem ((c.tc : Thread Cert.GmlpOutUpdate0ReferenceIdeal.nD Cert.GmlpOutUpdate0ReferenceIdeal.τ).loc Cert.GmlpOutUpdate0ReferenceIdeal.main_arg4) = m' ((c.tc : Thread Cert.GmlpOutUpdate0ReferenceIdeal.nD Cert.GmlpOutUpdate0ReferenceIdeal.τ).loc Cert.GmlpOutUpdate0ReferenceIdeal.main_arg4)
          ∧ r.2.mem ((c.tc : Thread Cert.GmlpOutUpdate0ReferenceIdeal.nD Cert.GmlpOutUpdate0ReferenceIdeal.τ).loc Cert.GmlpOutUpdate0ReferenceIdeal.main_arg5) = m' ((c.tc : Thread Cert.GmlpOutUpdate0ReferenceIdeal.nD Cert.GmlpOutUpdate0ReferenceIdeal.τ).loc Cert.GmlpOutUpdate0ReferenceIdeal.main_arg5)
          ∧ r.2.mem ((c.tc : Thread Cert.GmlpOutUpdate0ReferenceIdeal.nD Cert.GmlpOutUpdate0ReferenceIdeal.τ).loc Cert.GmlpOutUpdate0ReferenceIdeal.main_arg6) = m' ((c.tc : Thread Cert.GmlpOutUpdate0ReferenceIdeal.nD Cert.GmlpOutUpdate0ReferenceIdeal.τ).loc Cert.GmlpOutUpdate0ReferenceIdeal.main_arg6)
          ∧ r.2.mem ((c.tc : Thread Cert.GmlpOutUpdate0ReferenceIdeal.nD Cert.GmlpOutUpdate0ReferenceIdeal.τ).loc Cert.GmlpOutUpdate0ReferenceIdeal.main_arg7) = m' ((c.tc : Thread Cert.GmlpOutUpdate0ReferenceIdeal.nD Cert.GmlpOutUpdate0ReferenceIdeal.τ).loc Cert.GmlpOutUpdate0ReferenceIdeal.main_arg7)
          ∧ r.2.mem ((c.tc : Thread Cert.GmlpOutUpdate0ReferenceIdeal.nD Cert.GmlpOutUpdate0ReferenceIdeal.τ).loc Cert.GmlpOutUpdate0ReferenceIdeal.main_arg8) = m' ((c.tc : Thread Cert.GmlpOutUpdate0ReferenceIdeal.nD Cert.GmlpOutUpdate0ReferenceIdeal.τ).loc Cert.GmlpOutUpdate0ReferenceIdeal.main_arg8))

def preserves_GmlpOutUpdate1_GmlpOutUpdate1Ideal : Prop :=
  IdealRules.named_const.Statement Cert.GmlpOutUpdate1Ideal.κ "inv_b1" .f32 0x3FC48605#32 (((6513215599 / 10000000000)⁻¹ : ℝ) : EReal)
  ∧ IdealRules.named_const.Statement Cert.GmlpOutUpdate1Ideal.κ "inv_b2" .f32 0x42C8E6D3#32 (((9955119790251790119955009999 / 1000000000000000000000000000000)⁻¹ : ℝ) : EReal)

def algebraic_GmlpOutUpdate1Ideal_GmlpOutUpdate1ReferenceIdeal [hGmlpOutUpdate1Ideal : Cert.GmlpOutUpdate1Ideal.Facts] [hGmlpOutUpdate1ReferenceIdeal : Cert.GmlpOutUpdate1ReferenceIdeal.Facts] : Prop :=
  ∀ (m : (ℓ : Loc Cert.GmlpOutUpdate1Ideal.nD Cert.GmlpOutUpdate1Ideal.τ Cert.GmlpOutUpdate1Ideal.sig) → Buf (Elt Ideal) ℓ) (g : Dev Cert.GmlpOutUpdate1Ideal.nD → PrngReg)
    (m' : (ℓ : Loc Cert.GmlpOutUpdate1ReferenceIdeal.nD Cert.GmlpOutUpdate1ReferenceIdeal.τ Cert.GmlpOutUpdate1ReferenceIdeal.sig) → Buf (Elt Ideal) ℓ) (g' : Dev Cert.GmlpOutUpdate1ReferenceIdeal.nD → PrngReg), Pre_GmlpOutUpdate1Ideal m →
    (∀ c : Dev Cert.GmlpOutUpdate1Ideal.nD,
      m' ((c.tc : Thread Cert.GmlpOutUpdate1ReferenceIdeal.nD Cert.GmlpOutUpdate1ReferenceIdeal.τ).loc Cert.GmlpOutUpdate1ReferenceIdeal.main_arg0) = m ((c.tc : Thread Cert.GmlpOutUpdate1Ideal.nD Cert.GmlpOutUpdate1Ideal.τ).loc Cert.GmlpOutUpdate1Ideal.main_arg0)
      ∧ m' ((c.tc : Thread Cert.GmlpOutUpdate1ReferenceIdeal.nD Cert.GmlpOutUpdate1ReferenceIdeal.τ).loc Cert.GmlpOutUpdate1ReferenceIdeal.main_arg1) = m ((c.tc : Thread Cert.GmlpOutUpdate1Ideal.nD Cert.GmlpOutUpdate1Ideal.τ).loc Cert.GmlpOutUpdate1Ideal.main_arg1)
      ∧ m' ((c.tc : Thread Cert.GmlpOutUpdate1ReferenceIdeal.nD Cert.GmlpOutUpdate1ReferenceIdeal.τ).loc Cert.GmlpOutUpdate1ReferenceIdeal.main_arg2) = m ((c.tc : Thread Cert.GmlpOutUpdate1Ideal.nD Cert.GmlpOutUpdate1Ideal.τ).loc Cert.GmlpOutUpdate1Ideal.main_arg2)
      ∧ m' ((c.tc : Thread Cert.GmlpOutUpdate1ReferenceIdeal.nD Cert.GmlpOutUpdate1ReferenceIdeal.τ).loc Cert.GmlpOutUpdate1ReferenceIdeal.main_arg3) = m ((c.tc : Thread Cert.GmlpOutUpdate1Ideal.nD Cert.GmlpOutUpdate1Ideal.τ).loc Cert.GmlpOutUpdate1Ideal.main_arg3)
      ∧ m' ((c.tc : Thread Cert.GmlpOutUpdate1ReferenceIdeal.nD Cert.GmlpOutUpdate1ReferenceIdeal.τ).loc Cert.GmlpOutUpdate1ReferenceIdeal.main_arg4) = m ((c.tc : Thread Cert.GmlpOutUpdate1Ideal.nD Cert.GmlpOutUpdate1Ideal.τ).loc Cert.GmlpOutUpdate1Ideal.main_arg4)
      ∧ m' ((c.tc : Thread Cert.GmlpOutUpdate1ReferenceIdeal.nD Cert.GmlpOutUpdate1ReferenceIdeal.τ).loc Cert.GmlpOutUpdate1ReferenceIdeal.main_arg5) = m ((c.tc : Thread Cert.GmlpOutUpdate1Ideal.nD Cert.GmlpOutUpdate1Ideal.τ).loc Cert.GmlpOutUpdate1Ideal.main_arg5)
      ∧ m' ((c.tc : Thread Cert.GmlpOutUpdate1ReferenceIdeal.nD Cert.GmlpOutUpdate1ReferenceIdeal.τ).loc Cert.GmlpOutUpdate1ReferenceIdeal.main_arg6) = m ((c.tc : Thread Cert.GmlpOutUpdate1Ideal.nD Cert.GmlpOutUpdate1Ideal.τ).loc Cert.GmlpOutUpdate1Ideal.main_arg6)
      ∧ m' ((c.tc : Thread Cert.GmlpOutUpdate1ReferenceIdeal.nD Cert.GmlpOutUpdate1ReferenceIdeal.τ).loc Cert.GmlpOutUpdate1ReferenceIdeal.main_arg7) = m ((c.tc : Thread Cert.GmlpOutUpdate1Ideal.nD Cert.GmlpOutUpdate1Ideal.τ).loc Cert.GmlpOutUpdate1Ideal.main_arg7)
      ∧ m' ((c.tc : Thread Cert.GmlpOutUpdate1ReferenceIdeal.nD Cert.GmlpOutUpdate1ReferenceIdeal.τ).loc Cert.GmlpOutUpdate1ReferenceIdeal.main_arg8) = m ((c.tc : Thread Cert.GmlpOutUpdate1Ideal.nD Cert.GmlpOutUpdate1Ideal.τ).loc Cert.GmlpOutUpdate1Ideal.main_arg8)) →
    ∃ (v0 : (c : Dev Cert.GmlpOutUpdate1Ideal.nD) → Buf (Elt Ideal) ((c.tc : Thread Cert.GmlpOutUpdate1Ideal.nD Cert.GmlpOutUpdate1Ideal.τ).loc Cert.GmlpOutUpdate1Ideal.main_v1_0)) (v1 : (c : Dev Cert.GmlpOutUpdate1Ideal.nD) → Buf (Elt Ideal) ((c.tc : Thread Cert.GmlpOutUpdate1Ideal.nD Cert.GmlpOutUpdate1Ideal.τ).loc Cert.GmlpOutUpdate1Ideal.main_v1_1)) (v2 : (c : Dev Cert.GmlpOutUpdate1Ideal.nD) → Buf (Elt Ideal) ((c.tc : Thread Cert.GmlpOutUpdate1Ideal.nD Cert.GmlpOutUpdate1Ideal.τ).loc Cert.GmlpOutUpdate1Ideal.main_v1_2)) (v3 : (c : Dev Cert.GmlpOutUpdate1Ideal.nD) → Buf (Elt Ideal) ((c.tc : Thread Cert.GmlpOutUpdate1Ideal.nD Cert.GmlpOutUpdate1Ideal.τ).loc Cert.GmlpOutUpdate1Ideal.main_v1_3)),
      θ_run (Cert.GmlpOutUpdate1Ideal.defs (F := Ideal)) (onTc (τ := Cert.GmlpOutUpdate1Ideal.τ) (Cert.GmlpOutUpdate1Ideal.main (F := Ideal))) ⟨m, fun _ => 0, g⟩ (fun r => ∀ c : Dev Cert.GmlpOutUpdate1Ideal.nD,
          r.2.mem ((c.tc : Thread Cert.GmlpOutUpdate1Ideal.nD Cert.GmlpOutUpdate1Ideal.τ).loc Cert.GmlpOutUpdate1Ideal.main_v1_0) = v0 c
          ∧ r.2.mem ((c.tc : Thread Cert.GmlpOutUpdate1Ideal.nD Cert.GmlpOutUpdate1Ideal.τ).loc Cert.GmlpOutUpdate1Ideal.main_v1_1) = v1 c
          ∧ r.2.mem ((c.tc : Thread Cert.GmlpOutUpdate1Ideal.nD Cert.GmlpOutUpdate1Ideal.τ).loc Cert.GmlpOutUpdate1Ideal.main_v1_2) = v2 c
          ∧ r.2.mem ((c.tc : Thread Cert.GmlpOutUpdate1Ideal.nD Cert.GmlpOutUpdate1Ideal.τ).loc Cert.GmlpOutUpdate1Ideal.main_v1_3) = v3 c
          ∧ r.2.mem ((c.tc : Thread Cert.GmlpOutUpdate1Ideal.nD Cert.GmlpOutUpdate1Ideal.τ).loc Cert.GmlpOutUpdate1Ideal.main_arg0) = m ((c.tc : Thread Cert.GmlpOutUpdate1Ideal.nD Cert.GmlpOutUpdate1Ideal.τ).loc Cert.GmlpOutUpdate1Ideal.main_arg0)
          ∧ r.2.mem ((c.tc : Thread Cert.GmlpOutUpdate1Ideal.nD Cert.GmlpOutUpdate1Ideal.τ).loc Cert.GmlpOutUpdate1Ideal.main_arg1) = m ((c.tc : Thread Cert.GmlpOutUpdate1Ideal.nD Cert.GmlpOutUpdate1Ideal.τ).loc Cert.GmlpOutUpdate1Ideal.main_arg1)
          ∧ r.2.mem ((c.tc : Thread Cert.GmlpOutUpdate1Ideal.nD Cert.GmlpOutUpdate1Ideal.τ).loc Cert.GmlpOutUpdate1Ideal.main_arg2) = m ((c.tc : Thread Cert.GmlpOutUpdate1Ideal.nD Cert.GmlpOutUpdate1Ideal.τ).loc Cert.GmlpOutUpdate1Ideal.main_arg2)
          ∧ r.2.mem ((c.tc : Thread Cert.GmlpOutUpdate1Ideal.nD Cert.GmlpOutUpdate1Ideal.τ).loc Cert.GmlpOutUpdate1Ideal.main_arg3) = m ((c.tc : Thread Cert.GmlpOutUpdate1Ideal.nD Cert.GmlpOutUpdate1Ideal.τ).loc Cert.GmlpOutUpdate1Ideal.main_arg3)
          ∧ r.2.mem ((c.tc : Thread Cert.GmlpOutUpdate1Ideal.nD Cert.GmlpOutUpdate1Ideal.τ).loc Cert.GmlpOutUpdate1Ideal.main_arg4) = m ((c.tc : Thread Cert.GmlpOutUpdate1Ideal.nD Cert.GmlpOutUpdate1Ideal.τ).loc Cert.GmlpOutUpdate1Ideal.main_arg4)
          ∧ r.2.mem ((c.tc : Thread Cert.GmlpOutUpdate1Ideal.nD Cert.GmlpOutUpdate1Ideal.τ).loc Cert.GmlpOutUpdate1Ideal.main_arg5) = m ((c.tc : Thread Cert.GmlpOutUpdate1Ideal.nD Cert.GmlpOutUpdate1Ideal.τ).loc Cert.GmlpOutUpdate1Ideal.main_arg5)
          ∧ r.2.mem ((c.tc : Thread Cert.GmlpOutUpdate1Ideal.nD Cert.GmlpOutUpdate1Ideal.τ).loc Cert.GmlpOutUpdate1Ideal.main_arg6) = m ((c.tc : Thread Cert.GmlpOutUpdate1Ideal.nD Cert.GmlpOutUpdate1Ideal.τ).loc Cert.GmlpOutUpdate1Ideal.main_arg6)
          ∧ r.2.mem ((c.tc : Thread Cert.GmlpOutUpdate1Ideal.nD Cert.GmlpOutUpdate1Ideal.τ).loc Cert.GmlpOutUpdate1Ideal.main_arg7) = m ((c.tc : Thread Cert.GmlpOutUpdate1Ideal.nD Cert.GmlpOutUpdate1Ideal.τ).loc Cert.GmlpOutUpdate1Ideal.main_arg7)
          ∧ r.2.mem ((c.tc : Thread Cert.GmlpOutUpdate1Ideal.nD Cert.GmlpOutUpdate1Ideal.τ).loc Cert.GmlpOutUpdate1Ideal.main_arg8) = m ((c.tc : Thread Cert.GmlpOutUpdate1Ideal.nD Cert.GmlpOutUpdate1Ideal.τ).loc Cert.GmlpOutUpdate1Ideal.main_arg8))
      ∧ θ_run (Cert.GmlpOutUpdate1ReferenceIdeal.defs (F := Ideal)) (onTc (τ := Cert.GmlpOutUpdate1ReferenceIdeal.τ) (Cert.GmlpOutUpdate1ReferenceIdeal.main (F := Ideal))) ⟨m', fun _ => 0, g'⟩ (fun r => ∀ c : Dev Cert.GmlpOutUpdate1ReferenceIdeal.nD,
          r.2.mem ((c.tc : Thread Cert.GmlpOutUpdate1ReferenceIdeal.nD Cert.GmlpOutUpdate1ReferenceIdeal.τ).loc Cert.GmlpOutUpdate1ReferenceIdeal.main_v0_0) = v0 c
          ∧ r.2.mem ((c.tc : Thread Cert.GmlpOutUpdate1ReferenceIdeal.nD Cert.GmlpOutUpdate1ReferenceIdeal.τ).loc Cert.GmlpOutUpdate1ReferenceIdeal.main_v0_1) = v1 c
          ∧ r.2.mem ((c.tc : Thread Cert.GmlpOutUpdate1ReferenceIdeal.nD Cert.GmlpOutUpdate1ReferenceIdeal.τ).loc Cert.GmlpOutUpdate1ReferenceIdeal.main_v0_2) = v2 c
          ∧ r.2.mem ((c.tc : Thread Cert.GmlpOutUpdate1ReferenceIdeal.nD Cert.GmlpOutUpdate1ReferenceIdeal.τ).loc Cert.GmlpOutUpdate1ReferenceIdeal.main_v0_3) = v3 c
          ∧ r.2.mem ((c.tc : Thread Cert.GmlpOutUpdate1ReferenceIdeal.nD Cert.GmlpOutUpdate1ReferenceIdeal.τ).loc Cert.GmlpOutUpdate1ReferenceIdeal.main_arg0) = m' ((c.tc : Thread Cert.GmlpOutUpdate1ReferenceIdeal.nD Cert.GmlpOutUpdate1ReferenceIdeal.τ).loc Cert.GmlpOutUpdate1ReferenceIdeal.main_arg0)
          ∧ r.2.mem ((c.tc : Thread Cert.GmlpOutUpdate1ReferenceIdeal.nD Cert.GmlpOutUpdate1ReferenceIdeal.τ).loc Cert.GmlpOutUpdate1ReferenceIdeal.main_arg1) = m' ((c.tc : Thread Cert.GmlpOutUpdate1ReferenceIdeal.nD Cert.GmlpOutUpdate1ReferenceIdeal.τ).loc Cert.GmlpOutUpdate1ReferenceIdeal.main_arg1)
          ∧ r.2.mem ((c.tc : Thread Cert.GmlpOutUpdate1ReferenceIdeal.nD Cert.GmlpOutUpdate1ReferenceIdeal.τ).loc Cert.GmlpOutUpdate1ReferenceIdeal.main_arg2) = m' ((c.tc : Thread Cert.GmlpOutUpdate1ReferenceIdeal.nD Cert.GmlpOutUpdate1ReferenceIdeal.τ).loc Cert.GmlpOutUpdate1ReferenceIdeal.main_arg2)
          ∧ r.2.mem ((c.tc : Thread Cert.GmlpOutUpdate1ReferenceIdeal.nD Cert.GmlpOutUpdate1ReferenceIdeal.τ).loc Cert.GmlpOutUpdate1ReferenceIdeal.main_arg3) = m' ((c.tc : Thread Cert.GmlpOutUpdate1ReferenceIdeal.nD Cert.GmlpOutUpdate1ReferenceIdeal.τ).loc Cert.GmlpOutUpdate1ReferenceIdeal.main_arg3)
          ∧ r.2.mem ((c.tc : Thread Cert.GmlpOutUpdate1ReferenceIdeal.nD Cert.GmlpOutUpdate1ReferenceIdeal.τ).loc Cert.GmlpOutUpdate1ReferenceIdeal.main_arg4) = m' ((c.tc : Thread Cert.GmlpOutUpdate1ReferenceIdeal.nD Cert.GmlpOutUpdate1ReferenceIdeal.τ).loc Cert.GmlpOutUpdate1ReferenceIdeal.main_arg4)
          ∧ r.2.mem ((c.tc : Thread Cert.GmlpOutUpdate1ReferenceIdeal.nD Cert.GmlpOutUpdate1ReferenceIdeal.τ).loc Cert.GmlpOutUpdate1ReferenceIdeal.main_arg5) = m' ((c.tc : Thread Cert.GmlpOutUpdate1ReferenceIdeal.nD Cert.GmlpOutUpdate1ReferenceIdeal.τ).loc Cert.GmlpOutUpdate1ReferenceIdeal.main_arg5)
          ∧ r.2.mem ((c.tc : Thread Cert.GmlpOutUpdate1ReferenceIdeal.nD Cert.GmlpOutUpdate1ReferenceIdeal.τ).loc Cert.GmlpOutUpdate1ReferenceIdeal.main_arg6) = m' ((c.tc : Thread Cert.GmlpOutUpdate1ReferenceIdeal.nD Cert.GmlpOutUpdate1ReferenceIdeal.τ).loc Cert.GmlpOutUpdate1ReferenceIdeal.main_arg6)
          ∧ r.2.mem ((c.tc : Thread Cert.GmlpOutUpdate1ReferenceIdeal.nD Cert.GmlpOutUpdate1ReferenceIdeal.τ).loc Cert.GmlpOutUpdate1ReferenceIdeal.main_arg7) = m' ((c.tc : Thread Cert.GmlpOutUpdate1ReferenceIdeal.nD Cert.GmlpOutUpdate1ReferenceIdeal.τ).loc Cert.GmlpOutUpdate1ReferenceIdeal.main_arg7)
          ∧ r.2.mem ((c.tc : Thread Cert.GmlpOutUpdate1ReferenceIdeal.nD Cert.GmlpOutUpdate1ReferenceIdeal.τ).loc Cert.GmlpOutUpdate1ReferenceIdeal.main_arg8) = m' ((c.tc : Thread Cert.GmlpOutUpdate1ReferenceIdeal.nD Cert.GmlpOutUpdate1ReferenceIdeal.τ).loc Cert.GmlpOutUpdate1ReferenceIdeal.main_arg8))

def preserves_AttnQkvUpdate0_AttnQkvUpdate0Ideal : Prop :=
  IdealRules.named_const.Statement Cert.AttnQkvUpdate0Ideal.κ "inv_b1" .f32 0x3FC48605#32 (((6513215599 / 10000000000)⁻¹ : ℝ) : EReal)
  ∧ IdealRules.named_const.Statement Cert.AttnQkvUpdate0Ideal.κ "inv_b2" .f32 0x42C8E6D3#32 (((9955119790251790119955009999 / 1000000000000000000000000000000)⁻¹ : ℝ) : EReal)

def algebraic_AttnQkvUpdate0Ideal_AttnQkvUpdate0ReferenceIdeal [hAttnQkvUpdate0Ideal : Cert.AttnQkvUpdate0Ideal.Facts] [hAttnQkvUpdate0ReferenceIdeal : Cert.AttnQkvUpdate0ReferenceIdeal.Facts] : Prop :=
  ∀ (m : (ℓ : Loc Cert.AttnQkvUpdate0Ideal.nD Cert.AttnQkvUpdate0Ideal.τ Cert.AttnQkvUpdate0Ideal.sig) → Buf (Elt Ideal) ℓ) (g : Dev Cert.AttnQkvUpdate0Ideal.nD → PrngReg)
    (m' : (ℓ : Loc Cert.AttnQkvUpdate0ReferenceIdeal.nD Cert.AttnQkvUpdate0ReferenceIdeal.τ Cert.AttnQkvUpdate0ReferenceIdeal.sig) → Buf (Elt Ideal) ℓ) (g' : Dev Cert.AttnQkvUpdate0ReferenceIdeal.nD → PrngReg), Pre_AttnQkvUpdate0Ideal m →
    (∀ c : Dev Cert.AttnQkvUpdate0Ideal.nD,
      m' ((c.tc : Thread Cert.AttnQkvUpdate0ReferenceIdeal.nD Cert.AttnQkvUpdate0ReferenceIdeal.τ).loc Cert.AttnQkvUpdate0ReferenceIdeal.main_arg0) = m ((c.tc : Thread Cert.AttnQkvUpdate0Ideal.nD Cert.AttnQkvUpdate0Ideal.τ).loc Cert.AttnQkvUpdate0Ideal.main_arg0)
      ∧ m' ((c.tc : Thread Cert.AttnQkvUpdate0ReferenceIdeal.nD Cert.AttnQkvUpdate0ReferenceIdeal.τ).loc Cert.AttnQkvUpdate0ReferenceIdeal.main_arg1) = m ((c.tc : Thread Cert.AttnQkvUpdate0Ideal.nD Cert.AttnQkvUpdate0Ideal.τ).loc Cert.AttnQkvUpdate0Ideal.main_arg1)
      ∧ m' ((c.tc : Thread Cert.AttnQkvUpdate0ReferenceIdeal.nD Cert.AttnQkvUpdate0ReferenceIdeal.τ).loc Cert.AttnQkvUpdate0ReferenceIdeal.main_arg2) = m ((c.tc : Thread Cert.AttnQkvUpdate0Ideal.nD Cert.AttnQkvUpdate0Ideal.τ).loc Cert.AttnQkvUpdate0Ideal.main_arg2)
      ∧ m' ((c.tc : Thread Cert.AttnQkvUpdate0ReferenceIdeal.nD Cert.AttnQkvUpdate0ReferenceIdeal.τ).loc Cert.AttnQkvUpdate0ReferenceIdeal.main_arg3) = m ((c.tc : Thread Cert.AttnQkvUpdate0Ideal.nD Cert.AttnQkvUpdate0Ideal.τ).loc Cert.AttnQkvUpdate0Ideal.main_arg3)
      ∧ m' ((c.tc : Thread Cert.AttnQkvUpdate0ReferenceIdeal.nD Cert.AttnQkvUpdate0ReferenceIdeal.τ).loc Cert.AttnQkvUpdate0ReferenceIdeal.main_arg4) = m ((c.tc : Thread Cert.AttnQkvUpdate0Ideal.nD Cert.AttnQkvUpdate0Ideal.τ).loc Cert.AttnQkvUpdate0Ideal.main_arg4)
      ∧ m' ((c.tc : Thread Cert.AttnQkvUpdate0ReferenceIdeal.nD Cert.AttnQkvUpdate0ReferenceIdeal.τ).loc Cert.AttnQkvUpdate0ReferenceIdeal.main_arg5) = m ((c.tc : Thread Cert.AttnQkvUpdate0Ideal.nD Cert.AttnQkvUpdate0Ideal.τ).loc Cert.AttnQkvUpdate0Ideal.main_arg5)
      ∧ m' ((c.tc : Thread Cert.AttnQkvUpdate0ReferenceIdeal.nD Cert.AttnQkvUpdate0ReferenceIdeal.τ).loc Cert.AttnQkvUpdate0ReferenceIdeal.main_arg6) = m ((c.tc : Thread Cert.AttnQkvUpdate0Ideal.nD Cert.AttnQkvUpdate0Ideal.τ).loc Cert.AttnQkvUpdate0Ideal.main_arg6)
      ∧ m' ((c.tc : Thread Cert.AttnQkvUpdate0ReferenceIdeal.nD Cert.AttnQkvUpdate0ReferenceIdeal.τ).loc Cert.AttnQkvUpdate0ReferenceIdeal.main_arg7) = m ((c.tc : Thread Cert.AttnQkvUpdate0Ideal.nD Cert.AttnQkvUpdate0Ideal.τ).loc Cert.AttnQkvUpdate0Ideal.main_arg7)
      ∧ m' ((c.tc : Thread Cert.AttnQkvUpdate0ReferenceIdeal.nD Cert.AttnQkvUpdate0ReferenceIdeal.τ).loc Cert.AttnQkvUpdate0ReferenceIdeal.main_arg8) = m ((c.tc : Thread Cert.AttnQkvUpdate0Ideal.nD Cert.AttnQkvUpdate0Ideal.τ).loc Cert.AttnQkvUpdate0Ideal.main_arg8)) →
    ∃ (v0 : (c : Dev Cert.AttnQkvUpdate0Ideal.nD) → Buf (Elt Ideal) ((c.tc : Thread Cert.AttnQkvUpdate0Ideal.nD Cert.AttnQkvUpdate0Ideal.τ).loc Cert.AttnQkvUpdate0Ideal.main_v1_0)) (v1 : (c : Dev Cert.AttnQkvUpdate0Ideal.nD) → Buf (Elt Ideal) ((c.tc : Thread Cert.AttnQkvUpdate0Ideal.nD Cert.AttnQkvUpdate0Ideal.τ).loc Cert.AttnQkvUpdate0Ideal.main_v1_1)) (v2 : (c : Dev Cert.AttnQkvUpdate0Ideal.nD) → Buf (Elt Ideal) ((c.tc : Thread Cert.AttnQkvUpdate0Ideal.nD Cert.AttnQkvUpdate0Ideal.τ).loc Cert.AttnQkvUpdate0Ideal.main_v1_2)) (v3 : (c : Dev Cert.AttnQkvUpdate0Ideal.nD) → Buf (Elt Ideal) ((c.tc : Thread Cert.AttnQkvUpdate0Ideal.nD Cert.AttnQkvUpdate0Ideal.τ).loc Cert.AttnQkvUpdate0Ideal.main_v1_3)),
      θ_run (Cert.AttnQkvUpdate0Ideal.defs (F := Ideal)) (onTc (τ := Cert.AttnQkvUpdate0Ideal.τ) (Cert.AttnQkvUpdate0Ideal.main (F := Ideal))) ⟨m, fun _ => 0, g⟩ (fun r => ∀ c : Dev Cert.AttnQkvUpdate0Ideal.nD,
          r.2.mem ((c.tc : Thread Cert.AttnQkvUpdate0Ideal.nD Cert.AttnQkvUpdate0Ideal.τ).loc Cert.AttnQkvUpdate0Ideal.main_v1_0) = v0 c
          ∧ r.2.mem ((c.tc : Thread Cert.AttnQkvUpdate0Ideal.nD Cert.AttnQkvUpdate0Ideal.τ).loc Cert.AttnQkvUpdate0Ideal.main_v1_1) = v1 c
          ∧ r.2.mem ((c.tc : Thread Cert.AttnQkvUpdate0Ideal.nD Cert.AttnQkvUpdate0Ideal.τ).loc Cert.AttnQkvUpdate0Ideal.main_v1_2) = v2 c
          ∧ r.2.mem ((c.tc : Thread Cert.AttnQkvUpdate0Ideal.nD Cert.AttnQkvUpdate0Ideal.τ).loc Cert.AttnQkvUpdate0Ideal.main_v1_3) = v3 c
          ∧ r.2.mem ((c.tc : Thread Cert.AttnQkvUpdate0Ideal.nD Cert.AttnQkvUpdate0Ideal.τ).loc Cert.AttnQkvUpdate0Ideal.main_arg0) = m ((c.tc : Thread Cert.AttnQkvUpdate0Ideal.nD Cert.AttnQkvUpdate0Ideal.τ).loc Cert.AttnQkvUpdate0Ideal.main_arg0)
          ∧ r.2.mem ((c.tc : Thread Cert.AttnQkvUpdate0Ideal.nD Cert.AttnQkvUpdate0Ideal.τ).loc Cert.AttnQkvUpdate0Ideal.main_arg1) = m ((c.tc : Thread Cert.AttnQkvUpdate0Ideal.nD Cert.AttnQkvUpdate0Ideal.τ).loc Cert.AttnQkvUpdate0Ideal.main_arg1)
          ∧ r.2.mem ((c.tc : Thread Cert.AttnQkvUpdate0Ideal.nD Cert.AttnQkvUpdate0Ideal.τ).loc Cert.AttnQkvUpdate0Ideal.main_arg2) = m ((c.tc : Thread Cert.AttnQkvUpdate0Ideal.nD Cert.AttnQkvUpdate0Ideal.τ).loc Cert.AttnQkvUpdate0Ideal.main_arg2)
          ∧ r.2.mem ((c.tc : Thread Cert.AttnQkvUpdate0Ideal.nD Cert.AttnQkvUpdate0Ideal.τ).loc Cert.AttnQkvUpdate0Ideal.main_arg3) = m ((c.tc : Thread Cert.AttnQkvUpdate0Ideal.nD Cert.AttnQkvUpdate0Ideal.τ).loc Cert.AttnQkvUpdate0Ideal.main_arg3)
          ∧ r.2.mem ((c.tc : Thread Cert.AttnQkvUpdate0Ideal.nD Cert.AttnQkvUpdate0Ideal.τ).loc Cert.AttnQkvUpdate0Ideal.main_arg4) = m ((c.tc : Thread Cert.AttnQkvUpdate0Ideal.nD Cert.AttnQkvUpdate0Ideal.τ).loc Cert.AttnQkvUpdate0Ideal.main_arg4)
          ∧ r.2.mem ((c.tc : Thread Cert.AttnQkvUpdate0Ideal.nD Cert.AttnQkvUpdate0Ideal.τ).loc Cert.AttnQkvUpdate0Ideal.main_arg5) = m ((c.tc : Thread Cert.AttnQkvUpdate0Ideal.nD Cert.AttnQkvUpdate0Ideal.τ).loc Cert.AttnQkvUpdate0Ideal.main_arg5)
          ∧ r.2.mem ((c.tc : Thread Cert.AttnQkvUpdate0Ideal.nD Cert.AttnQkvUpdate0Ideal.τ).loc Cert.AttnQkvUpdate0Ideal.main_arg6) = m ((c.tc : Thread Cert.AttnQkvUpdate0Ideal.nD Cert.AttnQkvUpdate0Ideal.τ).loc Cert.AttnQkvUpdate0Ideal.main_arg6)
          ∧ r.2.mem ((c.tc : Thread Cert.AttnQkvUpdate0Ideal.nD Cert.AttnQkvUpdate0Ideal.τ).loc Cert.AttnQkvUpdate0Ideal.main_arg7) = m ((c.tc : Thread Cert.AttnQkvUpdate0Ideal.nD Cert.AttnQkvUpdate0Ideal.τ).loc Cert.AttnQkvUpdate0Ideal.main_arg7)
          ∧ r.2.mem ((c.tc : Thread Cert.AttnQkvUpdate0Ideal.nD Cert.AttnQkvUpdate0Ideal.τ).loc Cert.AttnQkvUpdate0Ideal.main_arg8) = m ((c.tc : Thread Cert.AttnQkvUpdate0Ideal.nD Cert.AttnQkvUpdate0Ideal.τ).loc Cert.AttnQkvUpdate0Ideal.main_arg8))
      ∧ θ_run (Cert.AttnQkvUpdate0ReferenceIdeal.defs (F := Ideal)) (onTc (τ := Cert.AttnQkvUpdate0ReferenceIdeal.τ) (Cert.AttnQkvUpdate0ReferenceIdeal.main (F := Ideal))) ⟨m', fun _ => 0, g'⟩ (fun r => ∀ c : Dev Cert.AttnQkvUpdate0ReferenceIdeal.nD,
          r.2.mem ((c.tc : Thread Cert.AttnQkvUpdate0ReferenceIdeal.nD Cert.AttnQkvUpdate0ReferenceIdeal.τ).loc Cert.AttnQkvUpdate0ReferenceIdeal.main_v0_0) = v0 c
          ∧ r.2.mem ((c.tc : Thread Cert.AttnQkvUpdate0ReferenceIdeal.nD Cert.AttnQkvUpdate0ReferenceIdeal.τ).loc Cert.AttnQkvUpdate0ReferenceIdeal.main_v0_1) = v1 c
          ∧ r.2.mem ((c.tc : Thread Cert.AttnQkvUpdate0ReferenceIdeal.nD Cert.AttnQkvUpdate0ReferenceIdeal.τ).loc Cert.AttnQkvUpdate0ReferenceIdeal.main_v0_2) = v2 c
          ∧ r.2.mem ((c.tc : Thread Cert.AttnQkvUpdate0ReferenceIdeal.nD Cert.AttnQkvUpdate0ReferenceIdeal.τ).loc Cert.AttnQkvUpdate0ReferenceIdeal.main_v0_3) = v3 c
          ∧ r.2.mem ((c.tc : Thread Cert.AttnQkvUpdate0ReferenceIdeal.nD Cert.AttnQkvUpdate0ReferenceIdeal.τ).loc Cert.AttnQkvUpdate0ReferenceIdeal.main_arg0) = m' ((c.tc : Thread Cert.AttnQkvUpdate0ReferenceIdeal.nD Cert.AttnQkvUpdate0ReferenceIdeal.τ).loc Cert.AttnQkvUpdate0ReferenceIdeal.main_arg0)
          ∧ r.2.mem ((c.tc : Thread Cert.AttnQkvUpdate0ReferenceIdeal.nD Cert.AttnQkvUpdate0ReferenceIdeal.τ).loc Cert.AttnQkvUpdate0ReferenceIdeal.main_arg1) = m' ((c.tc : Thread Cert.AttnQkvUpdate0ReferenceIdeal.nD Cert.AttnQkvUpdate0ReferenceIdeal.τ).loc Cert.AttnQkvUpdate0ReferenceIdeal.main_arg1)
          ∧ r.2.mem ((c.tc : Thread Cert.AttnQkvUpdate0ReferenceIdeal.nD Cert.AttnQkvUpdate0ReferenceIdeal.τ).loc Cert.AttnQkvUpdate0ReferenceIdeal.main_arg2) = m' ((c.tc : Thread Cert.AttnQkvUpdate0ReferenceIdeal.nD Cert.AttnQkvUpdate0ReferenceIdeal.τ).loc Cert.AttnQkvUpdate0ReferenceIdeal.main_arg2)
          ∧ r.2.mem ((c.tc : Thread Cert.AttnQkvUpdate0ReferenceIdeal.nD Cert.AttnQkvUpdate0ReferenceIdeal.τ).loc Cert.AttnQkvUpdate0ReferenceIdeal.main_arg3) = m' ((c.tc : Thread Cert.AttnQkvUpdate0ReferenceIdeal.nD Cert.AttnQkvUpdate0ReferenceIdeal.τ).loc Cert.AttnQkvUpdate0ReferenceIdeal.main_arg3)
          ∧ r.2.mem ((c.tc : Thread Cert.AttnQkvUpdate0ReferenceIdeal.nD Cert.AttnQkvUpdate0ReferenceIdeal.τ).loc Cert.AttnQkvUpdate0ReferenceIdeal.main_arg4) = m' ((c.tc : Thread Cert.AttnQkvUpdate0ReferenceIdeal.nD Cert.AttnQkvUpdate0ReferenceIdeal.τ).loc Cert.AttnQkvUpdate0ReferenceIdeal.main_arg4)
          ∧ r.2.mem ((c.tc : Thread Cert.AttnQkvUpdate0ReferenceIdeal.nD Cert.AttnQkvUpdate0ReferenceIdeal.τ).loc Cert.AttnQkvUpdate0ReferenceIdeal.main_arg5) = m' ((c.tc : Thread Cert.AttnQkvUpdate0ReferenceIdeal.nD Cert.AttnQkvUpdate0ReferenceIdeal.τ).loc Cert.AttnQkvUpdate0ReferenceIdeal.main_arg5)
          ∧ r.2.mem ((c.tc : Thread Cert.AttnQkvUpdate0ReferenceIdeal.nD Cert.AttnQkvUpdate0ReferenceIdeal.τ).loc Cert.AttnQkvUpdate0ReferenceIdeal.main_arg6) = m' ((c.tc : Thread Cert.AttnQkvUpdate0ReferenceIdeal.nD Cert.AttnQkvUpdate0ReferenceIdeal.τ).loc Cert.AttnQkvUpdate0ReferenceIdeal.main_arg6)
          ∧ r.2.mem ((c.tc : Thread Cert.AttnQkvUpdate0ReferenceIdeal.nD Cert.AttnQkvUpdate0ReferenceIdeal.τ).loc Cert.AttnQkvUpdate0ReferenceIdeal.main_arg7) = m' ((c.tc : Thread Cert.AttnQkvUpdate0ReferenceIdeal.nD Cert.AttnQkvUpdate0ReferenceIdeal.τ).loc Cert.AttnQkvUpdate0ReferenceIdeal.main_arg7)
          ∧ r.2.mem ((c.tc : Thread Cert.AttnQkvUpdate0ReferenceIdeal.nD Cert.AttnQkvUpdate0ReferenceIdeal.τ).loc Cert.AttnQkvUpdate0ReferenceIdeal.main_arg8) = m' ((c.tc : Thread Cert.AttnQkvUpdate0ReferenceIdeal.nD Cert.AttnQkvUpdate0ReferenceIdeal.τ).loc Cert.AttnQkvUpdate0ReferenceIdeal.main_arg8))

def preserves_AttnQkvUpdate1_AttnQkvUpdate1Ideal : Prop :=
  IdealRules.named_const.Statement Cert.AttnQkvUpdate1Ideal.κ "inv_b1" .f32 0x3FC48605#32 (((6513215599 / 10000000000)⁻¹ : ℝ) : EReal)
  ∧ IdealRules.named_const.Statement Cert.AttnQkvUpdate1Ideal.κ "inv_b2" .f32 0x42C8E6D3#32 (((9955119790251790119955009999 / 1000000000000000000000000000000)⁻¹ : ℝ) : EReal)

def algebraic_AttnQkvUpdate1Ideal_AttnQkvUpdate1ReferenceIdeal [hAttnQkvUpdate1Ideal : Cert.AttnQkvUpdate1Ideal.Facts] [hAttnQkvUpdate1ReferenceIdeal : Cert.AttnQkvUpdate1ReferenceIdeal.Facts] : Prop :=
  ∀ (m : (ℓ : Loc Cert.AttnQkvUpdate1Ideal.nD Cert.AttnQkvUpdate1Ideal.τ Cert.AttnQkvUpdate1Ideal.sig) → Buf (Elt Ideal) ℓ) (g : Dev Cert.AttnQkvUpdate1Ideal.nD → PrngReg)
    (m' : (ℓ : Loc Cert.AttnQkvUpdate1ReferenceIdeal.nD Cert.AttnQkvUpdate1ReferenceIdeal.τ Cert.AttnQkvUpdate1ReferenceIdeal.sig) → Buf (Elt Ideal) ℓ) (g' : Dev Cert.AttnQkvUpdate1ReferenceIdeal.nD → PrngReg), Pre_AttnQkvUpdate1Ideal m →
    (∀ c : Dev Cert.AttnQkvUpdate1Ideal.nD,
      m' ((c.tc : Thread Cert.AttnQkvUpdate1ReferenceIdeal.nD Cert.AttnQkvUpdate1ReferenceIdeal.τ).loc Cert.AttnQkvUpdate1ReferenceIdeal.main_arg0) = m ((c.tc : Thread Cert.AttnQkvUpdate1Ideal.nD Cert.AttnQkvUpdate1Ideal.τ).loc Cert.AttnQkvUpdate1Ideal.main_arg0)
      ∧ m' ((c.tc : Thread Cert.AttnQkvUpdate1ReferenceIdeal.nD Cert.AttnQkvUpdate1ReferenceIdeal.τ).loc Cert.AttnQkvUpdate1ReferenceIdeal.main_arg1) = m ((c.tc : Thread Cert.AttnQkvUpdate1Ideal.nD Cert.AttnQkvUpdate1Ideal.τ).loc Cert.AttnQkvUpdate1Ideal.main_arg1)
      ∧ m' ((c.tc : Thread Cert.AttnQkvUpdate1ReferenceIdeal.nD Cert.AttnQkvUpdate1ReferenceIdeal.τ).loc Cert.AttnQkvUpdate1ReferenceIdeal.main_arg2) = m ((c.tc : Thread Cert.AttnQkvUpdate1Ideal.nD Cert.AttnQkvUpdate1Ideal.τ).loc Cert.AttnQkvUpdate1Ideal.main_arg2)
      ∧ m' ((c.tc : Thread Cert.AttnQkvUpdate1ReferenceIdeal.nD Cert.AttnQkvUpdate1ReferenceIdeal.τ).loc Cert.AttnQkvUpdate1ReferenceIdeal.main_arg3) = m ((c.tc : Thread Cert.AttnQkvUpdate1Ideal.nD Cert.AttnQkvUpdate1Ideal.τ).loc Cert.AttnQkvUpdate1Ideal.main_arg3)
      ∧ m' ((c.tc : Thread Cert.AttnQkvUpdate1ReferenceIdeal.nD Cert.AttnQkvUpdate1ReferenceIdeal.τ).loc Cert.AttnQkvUpdate1ReferenceIdeal.main_arg4) = m ((c.tc : Thread Cert.AttnQkvUpdate1Ideal.nD Cert.AttnQkvUpdate1Ideal.τ).loc Cert.AttnQkvUpdate1Ideal.main_arg4)
      ∧ m' ((c.tc : Thread Cert.AttnQkvUpdate1ReferenceIdeal.nD Cert.AttnQkvUpdate1ReferenceIdeal.τ).loc Cert.AttnQkvUpdate1ReferenceIdeal.main_arg5) = m ((c.tc : Thread Cert.AttnQkvUpdate1Ideal.nD Cert.AttnQkvUpdate1Ideal.τ).loc Cert.AttnQkvUpdate1Ideal.main_arg5)
      ∧ m' ((c.tc : Thread Cert.AttnQkvUpdate1ReferenceIdeal.nD Cert.AttnQkvUpdate1ReferenceIdeal.τ).loc Cert.AttnQkvUpdate1ReferenceIdeal.main_arg6) = m ((c.tc : Thread Cert.AttnQkvUpdate1Ideal.nD Cert.AttnQkvUpdate1Ideal.τ).loc Cert.AttnQkvUpdate1Ideal.main_arg6)
      ∧ m' ((c.tc : Thread Cert.AttnQkvUpdate1ReferenceIdeal.nD Cert.AttnQkvUpdate1ReferenceIdeal.τ).loc Cert.AttnQkvUpdate1ReferenceIdeal.main_arg7) = m ((c.tc : Thread Cert.AttnQkvUpdate1Ideal.nD Cert.AttnQkvUpdate1Ideal.τ).loc Cert.AttnQkvUpdate1Ideal.main_arg7)
      ∧ m' ((c.tc : Thread Cert.AttnQkvUpdate1ReferenceIdeal.nD Cert.AttnQkvUpdate1ReferenceIdeal.τ).loc Cert.AttnQkvUpdate1ReferenceIdeal.main_arg8) = m ((c.tc : Thread Cert.AttnQkvUpdate1Ideal.nD Cert.AttnQkvUpdate1Ideal.τ).loc Cert.AttnQkvUpdate1Ideal.main_arg8)) →
    ∃ (v0 : (c : Dev Cert.AttnQkvUpdate1Ideal.nD) → Buf (Elt Ideal) ((c.tc : Thread Cert.AttnQkvUpdate1Ideal.nD Cert.AttnQkvUpdate1Ideal.τ).loc Cert.AttnQkvUpdate1Ideal.main_v1_0)) (v1 : (c : Dev Cert.AttnQkvUpdate1Ideal.nD) → Buf (Elt Ideal) ((c.tc : Thread Cert.AttnQkvUpdate1Ideal.nD Cert.AttnQkvUpdate1Ideal.τ).loc Cert.AttnQkvUpdate1Ideal.main_v1_1)) (v2 : (c : Dev Cert.AttnQkvUpdate1Ideal.nD) → Buf (Elt Ideal) ((c.tc : Thread Cert.AttnQkvUpdate1Ideal.nD Cert.AttnQkvUpdate1Ideal.τ).loc Cert.AttnQkvUpdate1Ideal.main_v1_2)) (v3 : (c : Dev Cert.AttnQkvUpdate1Ideal.nD) → Buf (Elt Ideal) ((c.tc : Thread Cert.AttnQkvUpdate1Ideal.nD Cert.AttnQkvUpdate1Ideal.τ).loc Cert.AttnQkvUpdate1Ideal.main_v1_3)),
      θ_run (Cert.AttnQkvUpdate1Ideal.defs (F := Ideal)) (onTc (τ := Cert.AttnQkvUpdate1Ideal.τ) (Cert.AttnQkvUpdate1Ideal.main (F := Ideal))) ⟨m, fun _ => 0, g⟩ (fun r => ∀ c : Dev Cert.AttnQkvUpdate1Ideal.nD,
          r.2.mem ((c.tc : Thread Cert.AttnQkvUpdate1Ideal.nD Cert.AttnQkvUpdate1Ideal.τ).loc Cert.AttnQkvUpdate1Ideal.main_v1_0) = v0 c
          ∧ r.2.mem ((c.tc : Thread Cert.AttnQkvUpdate1Ideal.nD Cert.AttnQkvUpdate1Ideal.τ).loc Cert.AttnQkvUpdate1Ideal.main_v1_1) = v1 c
          ∧ r.2.mem ((c.tc : Thread Cert.AttnQkvUpdate1Ideal.nD Cert.AttnQkvUpdate1Ideal.τ).loc Cert.AttnQkvUpdate1Ideal.main_v1_2) = v2 c
          ∧ r.2.mem ((c.tc : Thread Cert.AttnQkvUpdate1Ideal.nD Cert.AttnQkvUpdate1Ideal.τ).loc Cert.AttnQkvUpdate1Ideal.main_v1_3) = v3 c
          ∧ r.2.mem ((c.tc : Thread Cert.AttnQkvUpdate1Ideal.nD Cert.AttnQkvUpdate1Ideal.τ).loc Cert.AttnQkvUpdate1Ideal.main_arg0) = m ((c.tc : Thread Cert.AttnQkvUpdate1Ideal.nD Cert.AttnQkvUpdate1Ideal.τ).loc Cert.AttnQkvUpdate1Ideal.main_arg0)
          ∧ r.2.mem ((c.tc : Thread Cert.AttnQkvUpdate1Ideal.nD Cert.AttnQkvUpdate1Ideal.τ).loc Cert.AttnQkvUpdate1Ideal.main_arg1) = m ((c.tc : Thread Cert.AttnQkvUpdate1Ideal.nD Cert.AttnQkvUpdate1Ideal.τ).loc Cert.AttnQkvUpdate1Ideal.main_arg1)
          ∧ r.2.mem ((c.tc : Thread Cert.AttnQkvUpdate1Ideal.nD Cert.AttnQkvUpdate1Ideal.τ).loc Cert.AttnQkvUpdate1Ideal.main_arg2) = m ((c.tc : Thread Cert.AttnQkvUpdate1Ideal.nD Cert.AttnQkvUpdate1Ideal.τ).loc Cert.AttnQkvUpdate1Ideal.main_arg2)
          ∧ r.2.mem ((c.tc : Thread Cert.AttnQkvUpdate1Ideal.nD Cert.AttnQkvUpdate1Ideal.τ).loc Cert.AttnQkvUpdate1Ideal.main_arg3) = m ((c.tc : Thread Cert.AttnQkvUpdate1Ideal.nD Cert.AttnQkvUpdate1Ideal.τ).loc Cert.AttnQkvUpdate1Ideal.main_arg3)
          ∧ r.2.mem ((c.tc : Thread Cert.AttnQkvUpdate1Ideal.nD Cert.AttnQkvUpdate1Ideal.τ).loc Cert.AttnQkvUpdate1Ideal.main_arg4) = m ((c.tc : Thread Cert.AttnQkvUpdate1Ideal.nD Cert.AttnQkvUpdate1Ideal.τ).loc Cert.AttnQkvUpdate1Ideal.main_arg4)
          ∧ r.2.mem ((c.tc : Thread Cert.AttnQkvUpdate1Ideal.nD Cert.AttnQkvUpdate1Ideal.τ).loc Cert.AttnQkvUpdate1Ideal.main_arg5) = m ((c.tc : Thread Cert.AttnQkvUpdate1Ideal.nD Cert.AttnQkvUpdate1Ideal.τ).loc Cert.AttnQkvUpdate1Ideal.main_arg5)
          ∧ r.2.mem ((c.tc : Thread Cert.AttnQkvUpdate1Ideal.nD Cert.AttnQkvUpdate1Ideal.τ).loc Cert.AttnQkvUpdate1Ideal.main_arg6) = m ((c.tc : Thread Cert.AttnQkvUpdate1Ideal.nD Cert.AttnQkvUpdate1Ideal.τ).loc Cert.AttnQkvUpdate1Ideal.main_arg6)
          ∧ r.2.mem ((c.tc : Thread Cert.AttnQkvUpdate1Ideal.nD Cert.AttnQkvUpdate1Ideal.τ).loc Cert.AttnQkvUpdate1Ideal.main_arg7) = m ((c.tc : Thread Cert.AttnQkvUpdate1Ideal.nD Cert.AttnQkvUpdate1Ideal.τ).loc Cert.AttnQkvUpdate1Ideal.main_arg7)
          ∧ r.2.mem ((c.tc : Thread Cert.AttnQkvUpdate1Ideal.nD Cert.AttnQkvUpdate1Ideal.τ).loc Cert.AttnQkvUpdate1Ideal.main_arg8) = m ((c.tc : Thread Cert.AttnQkvUpdate1Ideal.nD Cert.AttnQkvUpdate1Ideal.τ).loc Cert.AttnQkvUpdate1Ideal.main_arg8))
      ∧ θ_run (Cert.AttnQkvUpdate1ReferenceIdeal.defs (F := Ideal)) (onTc (τ := Cert.AttnQkvUpdate1ReferenceIdeal.τ) (Cert.AttnQkvUpdate1ReferenceIdeal.main (F := Ideal))) ⟨m', fun _ => 0, g'⟩ (fun r => ∀ c : Dev Cert.AttnQkvUpdate1ReferenceIdeal.nD,
          r.2.mem ((c.tc : Thread Cert.AttnQkvUpdate1ReferenceIdeal.nD Cert.AttnQkvUpdate1ReferenceIdeal.τ).loc Cert.AttnQkvUpdate1ReferenceIdeal.main_v0_0) = v0 c
          ∧ r.2.mem ((c.tc : Thread Cert.AttnQkvUpdate1ReferenceIdeal.nD Cert.AttnQkvUpdate1ReferenceIdeal.τ).loc Cert.AttnQkvUpdate1ReferenceIdeal.main_v0_1) = v1 c
          ∧ r.2.mem ((c.tc : Thread Cert.AttnQkvUpdate1ReferenceIdeal.nD Cert.AttnQkvUpdate1ReferenceIdeal.τ).loc Cert.AttnQkvUpdate1ReferenceIdeal.main_v0_2) = v2 c
          ∧ r.2.mem ((c.tc : Thread Cert.AttnQkvUpdate1ReferenceIdeal.nD Cert.AttnQkvUpdate1ReferenceIdeal.τ).loc Cert.AttnQkvUpdate1ReferenceIdeal.main_v0_3) = v3 c
          ∧ r.2.mem ((c.tc : Thread Cert.AttnQkvUpdate1ReferenceIdeal.nD Cert.AttnQkvUpdate1ReferenceIdeal.τ).loc Cert.AttnQkvUpdate1ReferenceIdeal.main_arg0) = m' ((c.tc : Thread Cert.AttnQkvUpdate1ReferenceIdeal.nD Cert.AttnQkvUpdate1ReferenceIdeal.τ).loc Cert.AttnQkvUpdate1ReferenceIdeal.main_arg0)
          ∧ r.2.mem ((c.tc : Thread Cert.AttnQkvUpdate1ReferenceIdeal.nD Cert.AttnQkvUpdate1ReferenceIdeal.τ).loc Cert.AttnQkvUpdate1ReferenceIdeal.main_arg1) = m' ((c.tc : Thread Cert.AttnQkvUpdate1ReferenceIdeal.nD Cert.AttnQkvUpdate1ReferenceIdeal.τ).loc Cert.AttnQkvUpdate1ReferenceIdeal.main_arg1)
          ∧ r.2.mem ((c.tc : Thread Cert.AttnQkvUpdate1ReferenceIdeal.nD Cert.AttnQkvUpdate1ReferenceIdeal.τ).loc Cert.AttnQkvUpdate1ReferenceIdeal.main_arg2) = m' ((c.tc : Thread Cert.AttnQkvUpdate1ReferenceIdeal.nD Cert.AttnQkvUpdate1ReferenceIdeal.τ).loc Cert.AttnQkvUpdate1ReferenceIdeal.main_arg2)
          ∧ r.2.mem ((c.tc : Thread Cert.AttnQkvUpdate1ReferenceIdeal.nD Cert.AttnQkvUpdate1ReferenceIdeal.τ).loc Cert.AttnQkvUpdate1ReferenceIdeal.main_arg3) = m' ((c.tc : Thread Cert.AttnQkvUpdate1ReferenceIdeal.nD Cert.AttnQkvUpdate1ReferenceIdeal.τ).loc Cert.AttnQkvUpdate1ReferenceIdeal.main_arg3)
          ∧ r.2.mem ((c.tc : Thread Cert.AttnQkvUpdate1ReferenceIdeal.nD Cert.AttnQkvUpdate1ReferenceIdeal.τ).loc Cert.AttnQkvUpdate1ReferenceIdeal.main_arg4) = m' ((c.tc : Thread Cert.AttnQkvUpdate1ReferenceIdeal.nD Cert.AttnQkvUpdate1ReferenceIdeal.τ).loc Cert.AttnQkvUpdate1ReferenceIdeal.main_arg4)
          ∧ r.2.mem ((c.tc : Thread Cert.AttnQkvUpdate1ReferenceIdeal.nD Cert.AttnQkvUpdate1ReferenceIdeal.τ).loc Cert.AttnQkvUpdate1ReferenceIdeal.main_arg5) = m' ((c.tc : Thread Cert.AttnQkvUpdate1ReferenceIdeal.nD Cert.AttnQkvUpdate1ReferenceIdeal.τ).loc Cert.AttnQkvUpdate1ReferenceIdeal.main_arg5)
          ∧ r.2.mem ((c.tc : Thread Cert.AttnQkvUpdate1ReferenceIdeal.nD Cert.AttnQkvUpdate1ReferenceIdeal.τ).loc Cert.AttnQkvUpdate1ReferenceIdeal.main_arg6) = m' ((c.tc : Thread Cert.AttnQkvUpdate1ReferenceIdeal.nD Cert.AttnQkvUpdate1ReferenceIdeal.τ).loc Cert.AttnQkvUpdate1ReferenceIdeal.main_arg6)
          ∧ r.2.mem ((c.tc : Thread Cert.AttnQkvUpdate1ReferenceIdeal.nD Cert.AttnQkvUpdate1ReferenceIdeal.τ).loc Cert.AttnQkvUpdate1ReferenceIdeal.main_arg7) = m' ((c.tc : Thread Cert.AttnQkvUpdate1ReferenceIdeal.nD Cert.AttnQkvUpdate1ReferenceIdeal.τ).loc Cert.AttnQkvUpdate1ReferenceIdeal.main_arg7)
          ∧ r.2.mem ((c.tc : Thread Cert.AttnQkvUpdate1ReferenceIdeal.nD Cert.AttnQkvUpdate1ReferenceIdeal.τ).loc Cert.AttnQkvUpdate1ReferenceIdeal.main_arg8) = m' ((c.tc : Thread Cert.AttnQkvUpdate1ReferenceIdeal.nD Cert.AttnQkvUpdate1ReferenceIdeal.τ).loc Cert.AttnQkvUpdate1ReferenceIdeal.main_arg8))

def preserves_AttnOutUpdate0_AttnOutUpdate0Ideal : Prop :=
  IdealRules.named_const.Statement Cert.AttnOutUpdate0Ideal.κ "inv_b1" .f32 0x3FC48605#32 (((6513215599 / 10000000000)⁻¹ : ℝ) : EReal)
  ∧ IdealRules.named_const.Statement Cert.AttnOutUpdate0Ideal.κ "inv_b2" .f32 0x42C8E6D3#32 (((9955119790251790119955009999 / 1000000000000000000000000000000)⁻¹ : ℝ) : EReal)

def algebraic_AttnOutUpdate0Ideal_AttnOutUpdate0ReferenceIdeal [hAttnOutUpdate0Ideal : Cert.AttnOutUpdate0Ideal.Facts] [hAttnOutUpdate0ReferenceIdeal : Cert.AttnOutUpdate0ReferenceIdeal.Facts] : Prop :=
  ∀ (m : (ℓ : Loc Cert.AttnOutUpdate0Ideal.nD Cert.AttnOutUpdate0Ideal.τ Cert.AttnOutUpdate0Ideal.sig) → Buf (Elt Ideal) ℓ) (g : Dev Cert.AttnOutUpdate0Ideal.nD → PrngReg)
    (m' : (ℓ : Loc Cert.AttnOutUpdate0ReferenceIdeal.nD Cert.AttnOutUpdate0ReferenceIdeal.τ Cert.AttnOutUpdate0ReferenceIdeal.sig) → Buf (Elt Ideal) ℓ) (g' : Dev Cert.AttnOutUpdate0ReferenceIdeal.nD → PrngReg), Pre_AttnOutUpdate0Ideal m →
    (∀ c : Dev Cert.AttnOutUpdate0Ideal.nD,
      m' ((c.tc : Thread Cert.AttnOutUpdate0ReferenceIdeal.nD Cert.AttnOutUpdate0ReferenceIdeal.τ).loc Cert.AttnOutUpdate0ReferenceIdeal.main_arg0) = m ((c.tc : Thread Cert.AttnOutUpdate0Ideal.nD Cert.AttnOutUpdate0Ideal.τ).loc Cert.AttnOutUpdate0Ideal.main_arg0)
      ∧ m' ((c.tc : Thread Cert.AttnOutUpdate0ReferenceIdeal.nD Cert.AttnOutUpdate0ReferenceIdeal.τ).loc Cert.AttnOutUpdate0ReferenceIdeal.main_arg1) = m ((c.tc : Thread Cert.AttnOutUpdate0Ideal.nD Cert.AttnOutUpdate0Ideal.τ).loc Cert.AttnOutUpdate0Ideal.main_arg1)
      ∧ m' ((c.tc : Thread Cert.AttnOutUpdate0ReferenceIdeal.nD Cert.AttnOutUpdate0ReferenceIdeal.τ).loc Cert.AttnOutUpdate0ReferenceIdeal.main_arg2) = m ((c.tc : Thread Cert.AttnOutUpdate0Ideal.nD Cert.AttnOutUpdate0Ideal.τ).loc Cert.AttnOutUpdate0Ideal.main_arg2)
      ∧ m' ((c.tc : Thread Cert.AttnOutUpdate0ReferenceIdeal.nD Cert.AttnOutUpdate0ReferenceIdeal.τ).loc Cert.AttnOutUpdate0ReferenceIdeal.main_arg3) = m ((c.tc : Thread Cert.AttnOutUpdate0Ideal.nD Cert.AttnOutUpdate0Ideal.τ).loc Cert.AttnOutUpdate0Ideal.main_arg3)
      ∧ m' ((c.tc : Thread Cert.AttnOutUpdate0ReferenceIdeal.nD Cert.AttnOutUpdate0ReferenceIdeal.τ).loc Cert.AttnOutUpdate0ReferenceIdeal.main_arg4) = m ((c.tc : Thread Cert.AttnOutUpdate0Ideal.nD Cert.AttnOutUpdate0Ideal.τ).loc Cert.AttnOutUpdate0Ideal.main_arg4)
      ∧ m' ((c.tc : Thread Cert.AttnOutUpdate0ReferenceIdeal.nD Cert.AttnOutUpdate0ReferenceIdeal.τ).loc Cert.AttnOutUpdate0ReferenceIdeal.main_arg5) = m ((c.tc : Thread Cert.AttnOutUpdate0Ideal.nD Cert.AttnOutUpdate0Ideal.τ).loc Cert.AttnOutUpdate0Ideal.main_arg5)
      ∧ m' ((c.tc : Thread Cert.AttnOutUpdate0ReferenceIdeal.nD Cert.AttnOutUpdate0ReferenceIdeal.τ).loc Cert.AttnOutUpdate0ReferenceIdeal.main_arg6) = m ((c.tc : Thread Cert.AttnOutUpdate0Ideal.nD Cert.AttnOutUpdate0Ideal.τ).loc Cert.AttnOutUpdate0Ideal.main_arg6)
      ∧ m' ((c.tc : Thread Cert.AttnOutUpdate0ReferenceIdeal.nD Cert.AttnOutUpdate0ReferenceIdeal.τ).loc Cert.AttnOutUpdate0ReferenceIdeal.main_arg7) = m ((c.tc : Thread Cert.AttnOutUpdate0Ideal.nD Cert.AttnOutUpdate0Ideal.τ).loc Cert.AttnOutUpdate0Ideal.main_arg7)
      ∧ m' ((c.tc : Thread Cert.AttnOutUpdate0ReferenceIdeal.nD Cert.AttnOutUpdate0ReferenceIdeal.τ).loc Cert.AttnOutUpdate0ReferenceIdeal.main_arg8) = m ((c.tc : Thread Cert.AttnOutUpdate0Ideal.nD Cert.AttnOutUpdate0Ideal.τ).loc Cert.AttnOutUpdate0Ideal.main_arg8)) →
    ∃ (v0 : (c : Dev Cert.AttnOutUpdate0Ideal.nD) → Buf (Elt Ideal) ((c.tc : Thread Cert.AttnOutUpdate0Ideal.nD Cert.AttnOutUpdate0Ideal.τ).loc Cert.AttnOutUpdate0Ideal.main_v1_0)) (v1 : (c : Dev Cert.AttnOutUpdate0Ideal.nD) → Buf (Elt Ideal) ((c.tc : Thread Cert.AttnOutUpdate0Ideal.nD Cert.AttnOutUpdate0Ideal.τ).loc Cert.AttnOutUpdate0Ideal.main_v1_1)) (v2 : (c : Dev Cert.AttnOutUpdate0Ideal.nD) → Buf (Elt Ideal) ((c.tc : Thread Cert.AttnOutUpdate0Ideal.nD Cert.AttnOutUpdate0Ideal.τ).loc Cert.AttnOutUpdate0Ideal.main_v1_2)) (v3 : (c : Dev Cert.AttnOutUpdate0Ideal.nD) → Buf (Elt Ideal) ((c.tc : Thread Cert.AttnOutUpdate0Ideal.nD Cert.AttnOutUpdate0Ideal.τ).loc Cert.AttnOutUpdate0Ideal.main_v1_3)),
      θ_run (Cert.AttnOutUpdate0Ideal.defs (F := Ideal)) (onTc (τ := Cert.AttnOutUpdate0Ideal.τ) (Cert.AttnOutUpdate0Ideal.main (F := Ideal))) ⟨m, fun _ => 0, g⟩ (fun r => ∀ c : Dev Cert.AttnOutUpdate0Ideal.nD,
          r.2.mem ((c.tc : Thread Cert.AttnOutUpdate0Ideal.nD Cert.AttnOutUpdate0Ideal.τ).loc Cert.AttnOutUpdate0Ideal.main_v1_0) = v0 c
          ∧ r.2.mem ((c.tc : Thread Cert.AttnOutUpdate0Ideal.nD Cert.AttnOutUpdate0Ideal.τ).loc Cert.AttnOutUpdate0Ideal.main_v1_1) = v1 c
          ∧ r.2.mem ((c.tc : Thread Cert.AttnOutUpdate0Ideal.nD Cert.AttnOutUpdate0Ideal.τ).loc Cert.AttnOutUpdate0Ideal.main_v1_2) = v2 c
          ∧ r.2.mem ((c.tc : Thread Cert.AttnOutUpdate0Ideal.nD Cert.AttnOutUpdate0Ideal.τ).loc Cert.AttnOutUpdate0Ideal.main_v1_3) = v3 c
          ∧ r.2.mem ((c.tc : Thread Cert.AttnOutUpdate0Ideal.nD Cert.AttnOutUpdate0Ideal.τ).loc Cert.AttnOutUpdate0Ideal.main_arg0) = m ((c.tc : Thread Cert.AttnOutUpdate0Ideal.nD Cert.AttnOutUpdate0Ideal.τ).loc Cert.AttnOutUpdate0Ideal.main_arg0)
          ∧ r.2.mem ((c.tc : Thread Cert.AttnOutUpdate0Ideal.nD Cert.AttnOutUpdate0Ideal.τ).loc Cert.AttnOutUpdate0Ideal.main_arg1) = m ((c.tc : Thread Cert.AttnOutUpdate0Ideal.nD Cert.AttnOutUpdate0Ideal.τ).loc Cert.AttnOutUpdate0Ideal.main_arg1)
          ∧ r.2.mem ((c.tc : Thread Cert.AttnOutUpdate0Ideal.nD Cert.AttnOutUpdate0Ideal.τ).loc Cert.AttnOutUpdate0Ideal.main_arg2) = m ((c.tc : Thread Cert.AttnOutUpdate0Ideal.nD Cert.AttnOutUpdate0Ideal.τ).loc Cert.AttnOutUpdate0Ideal.main_arg2)
          ∧ r.2.mem ((c.tc : Thread Cert.AttnOutUpdate0Ideal.nD Cert.AttnOutUpdate0Ideal.τ).loc Cert.AttnOutUpdate0Ideal.main_arg3) = m ((c.tc : Thread Cert.AttnOutUpdate0Ideal.nD Cert.AttnOutUpdate0Ideal.τ).loc Cert.AttnOutUpdate0Ideal.main_arg3)
          ∧ r.2.mem ((c.tc : Thread Cert.AttnOutUpdate0Ideal.nD Cert.AttnOutUpdate0Ideal.τ).loc Cert.AttnOutUpdate0Ideal.main_arg4) = m ((c.tc : Thread Cert.AttnOutUpdate0Ideal.nD Cert.AttnOutUpdate0Ideal.τ).loc Cert.AttnOutUpdate0Ideal.main_arg4)
          ∧ r.2.mem ((c.tc : Thread Cert.AttnOutUpdate0Ideal.nD Cert.AttnOutUpdate0Ideal.τ).loc Cert.AttnOutUpdate0Ideal.main_arg5) = m ((c.tc : Thread Cert.AttnOutUpdate0Ideal.nD Cert.AttnOutUpdate0Ideal.τ).loc Cert.AttnOutUpdate0Ideal.main_arg5)
          ∧ r.2.mem ((c.tc : Thread Cert.AttnOutUpdate0Ideal.nD Cert.AttnOutUpdate0Ideal.τ).loc Cert.AttnOutUpdate0Ideal.main_arg6) = m ((c.tc : Thread Cert.AttnOutUpdate0Ideal.nD Cert.AttnOutUpdate0Ideal.τ).loc Cert.AttnOutUpdate0Ideal.main_arg6)
          ∧ r.2.mem ((c.tc : Thread Cert.AttnOutUpdate0Ideal.nD Cert.AttnOutUpdate0Ideal.τ).loc Cert.AttnOutUpdate0Ideal.main_arg7) = m ((c.tc : Thread Cert.AttnOutUpdate0Ideal.nD Cert.AttnOutUpdate0Ideal.τ).loc Cert.AttnOutUpdate0Ideal.main_arg7)
          ∧ r.2.mem ((c.tc : Thread Cert.AttnOutUpdate0Ideal.nD Cert.AttnOutUpdate0Ideal.τ).loc Cert.AttnOutUpdate0Ideal.main_arg8) = m ((c.tc : Thread Cert.AttnOutUpdate0Ideal.nD Cert.AttnOutUpdate0Ideal.τ).loc Cert.AttnOutUpdate0Ideal.main_arg8))
      ∧ θ_run (Cert.AttnOutUpdate0ReferenceIdeal.defs (F := Ideal)) (onTc (τ := Cert.AttnOutUpdate0ReferenceIdeal.τ) (Cert.AttnOutUpdate0ReferenceIdeal.main (F := Ideal))) ⟨m', fun _ => 0, g'⟩ (fun r => ∀ c : Dev Cert.AttnOutUpdate0ReferenceIdeal.nD,
          r.2.mem ((c.tc : Thread Cert.AttnOutUpdate0ReferenceIdeal.nD Cert.AttnOutUpdate0ReferenceIdeal.τ).loc Cert.AttnOutUpdate0ReferenceIdeal.main_v0_0) = v0 c
          ∧ r.2.mem ((c.tc : Thread Cert.AttnOutUpdate0ReferenceIdeal.nD Cert.AttnOutUpdate0ReferenceIdeal.τ).loc Cert.AttnOutUpdate0ReferenceIdeal.main_v0_1) = v1 c
          ∧ r.2.mem ((c.tc : Thread Cert.AttnOutUpdate0ReferenceIdeal.nD Cert.AttnOutUpdate0ReferenceIdeal.τ).loc Cert.AttnOutUpdate0ReferenceIdeal.main_v0_2) = v2 c
          ∧ r.2.mem ((c.tc : Thread Cert.AttnOutUpdate0ReferenceIdeal.nD Cert.AttnOutUpdate0ReferenceIdeal.τ).loc Cert.AttnOutUpdate0ReferenceIdeal.main_v0_3) = v3 c
          ∧ r.2.mem ((c.tc : Thread Cert.AttnOutUpdate0ReferenceIdeal.nD Cert.AttnOutUpdate0ReferenceIdeal.τ).loc Cert.AttnOutUpdate0ReferenceIdeal.main_arg0) = m' ((c.tc : Thread Cert.AttnOutUpdate0ReferenceIdeal.nD Cert.AttnOutUpdate0ReferenceIdeal.τ).loc Cert.AttnOutUpdate0ReferenceIdeal.main_arg0)
          ∧ r.2.mem ((c.tc : Thread Cert.AttnOutUpdate0ReferenceIdeal.nD Cert.AttnOutUpdate0ReferenceIdeal.τ).loc Cert.AttnOutUpdate0ReferenceIdeal.main_arg1) = m' ((c.tc : Thread Cert.AttnOutUpdate0ReferenceIdeal.nD Cert.AttnOutUpdate0ReferenceIdeal.τ).loc Cert.AttnOutUpdate0ReferenceIdeal.main_arg1)
          ∧ r.2.mem ((c.tc : Thread Cert.AttnOutUpdate0ReferenceIdeal.nD Cert.AttnOutUpdate0ReferenceIdeal.τ).loc Cert.AttnOutUpdate0ReferenceIdeal.main_arg2) = m' ((c.tc : Thread Cert.AttnOutUpdate0ReferenceIdeal.nD Cert.AttnOutUpdate0ReferenceIdeal.τ).loc Cert.AttnOutUpdate0ReferenceIdeal.main_arg2)
          ∧ r.2.mem ((c.tc : Thread Cert.AttnOutUpdate0ReferenceIdeal.nD Cert.AttnOutUpdate0ReferenceIdeal.τ).loc Cert.AttnOutUpdate0ReferenceIdeal.main_arg3) = m' ((c.tc : Thread Cert.AttnOutUpdate0ReferenceIdeal.nD Cert.AttnOutUpdate0ReferenceIdeal.τ).loc Cert.AttnOutUpdate0ReferenceIdeal.main_arg3)
          ∧ r.2.mem ((c.tc : Thread Cert.AttnOutUpdate0ReferenceIdeal.nD Cert.AttnOutUpdate0ReferenceIdeal.τ).loc Cert.AttnOutUpdate0ReferenceIdeal.main_arg4) = m' ((c.tc : Thread Cert.AttnOutUpdate0ReferenceIdeal.nD Cert.AttnOutUpdate0ReferenceIdeal.τ).loc Cert.AttnOutUpdate0ReferenceIdeal.main_arg4)
          ∧ r.2.mem ((c.tc : Thread Cert.AttnOutUpdate0ReferenceIdeal.nD Cert.AttnOutUpdate0ReferenceIdeal.τ).loc Cert.AttnOutUpdate0ReferenceIdeal.main_arg5) = m' ((c.tc : Thread Cert.AttnOutUpdate0ReferenceIdeal.nD Cert.AttnOutUpdate0ReferenceIdeal.τ).loc Cert.AttnOutUpdate0ReferenceIdeal.main_arg5)
          ∧ r.2.mem ((c.tc : Thread Cert.AttnOutUpdate0ReferenceIdeal.nD Cert.AttnOutUpdate0ReferenceIdeal.τ).loc Cert.AttnOutUpdate0ReferenceIdeal.main_arg6) = m' ((c.tc : Thread Cert.AttnOutUpdate0ReferenceIdeal.nD Cert.AttnOutUpdate0ReferenceIdeal.τ).loc Cert.AttnOutUpdate0ReferenceIdeal.main_arg6)
          ∧ r.2.mem ((c.tc : Thread Cert.AttnOutUpdate0ReferenceIdeal.nD Cert.AttnOutUpdate0ReferenceIdeal.τ).loc Cert.AttnOutUpdate0ReferenceIdeal.main_arg7) = m' ((c.tc : Thread Cert.AttnOutUpdate0ReferenceIdeal.nD Cert.AttnOutUpdate0ReferenceIdeal.τ).loc Cert.AttnOutUpdate0ReferenceIdeal.main_arg7)
          ∧ r.2.mem ((c.tc : Thread Cert.AttnOutUpdate0ReferenceIdeal.nD Cert.AttnOutUpdate0ReferenceIdeal.τ).loc Cert.AttnOutUpdate0ReferenceIdeal.main_arg8) = m' ((c.tc : Thread Cert.AttnOutUpdate0ReferenceIdeal.nD Cert.AttnOutUpdate0ReferenceIdeal.τ).loc Cert.AttnOutUpdate0ReferenceIdeal.main_arg8))

def preserves_AttnOutUpdate1_AttnOutUpdate1Ideal : Prop :=
  IdealRules.named_const.Statement Cert.AttnOutUpdate1Ideal.κ "inv_b1" .f32 0x3FC48605#32 (((6513215599 / 10000000000)⁻¹ : ℝ) : EReal)
  ∧ IdealRules.named_const.Statement Cert.AttnOutUpdate1Ideal.κ "inv_b2" .f32 0x42C8E6D3#32 (((9955119790251790119955009999 / 1000000000000000000000000000000)⁻¹ : ℝ) : EReal)

def algebraic_AttnOutUpdate1Ideal_AttnOutUpdate1ReferenceIdeal [hAttnOutUpdate1Ideal : Cert.AttnOutUpdate1Ideal.Facts] [hAttnOutUpdate1ReferenceIdeal : Cert.AttnOutUpdate1ReferenceIdeal.Facts] : Prop :=
  ∀ (m : (ℓ : Loc Cert.AttnOutUpdate1Ideal.nD Cert.AttnOutUpdate1Ideal.τ Cert.AttnOutUpdate1Ideal.sig) → Buf (Elt Ideal) ℓ) (g : Dev Cert.AttnOutUpdate1Ideal.nD → PrngReg)
    (m' : (ℓ : Loc Cert.AttnOutUpdate1ReferenceIdeal.nD Cert.AttnOutUpdate1ReferenceIdeal.τ Cert.AttnOutUpdate1ReferenceIdeal.sig) → Buf (Elt Ideal) ℓ) (g' : Dev Cert.AttnOutUpdate1ReferenceIdeal.nD → PrngReg), Pre_AttnOutUpdate1Ideal m →
    (∀ c : Dev Cert.AttnOutUpdate1Ideal.nD,
      m' ((c.tc : Thread Cert.AttnOutUpdate1ReferenceIdeal.nD Cert.AttnOutUpdate1ReferenceIdeal.τ).loc Cert.AttnOutUpdate1ReferenceIdeal.main_arg0) = m ((c.tc : Thread Cert.AttnOutUpdate1Ideal.nD Cert.AttnOutUpdate1Ideal.τ).loc Cert.AttnOutUpdate1Ideal.main_arg0)
      ∧ m' ((c.tc : Thread Cert.AttnOutUpdate1ReferenceIdeal.nD Cert.AttnOutUpdate1ReferenceIdeal.τ).loc Cert.AttnOutUpdate1ReferenceIdeal.main_arg1) = m ((c.tc : Thread Cert.AttnOutUpdate1Ideal.nD Cert.AttnOutUpdate1Ideal.τ).loc Cert.AttnOutUpdate1Ideal.main_arg1)
      ∧ m' ((c.tc : Thread Cert.AttnOutUpdate1ReferenceIdeal.nD Cert.AttnOutUpdate1ReferenceIdeal.τ).loc Cert.AttnOutUpdate1ReferenceIdeal.main_arg2) = m ((c.tc : Thread Cert.AttnOutUpdate1Ideal.nD Cert.AttnOutUpdate1Ideal.τ).loc Cert.AttnOutUpdate1Ideal.main_arg2)
      ∧ m' ((c.tc : Thread Cert.AttnOutUpdate1ReferenceIdeal.nD Cert.AttnOutUpdate1ReferenceIdeal.τ).loc Cert.AttnOutUpdate1ReferenceIdeal.main_arg3) = m ((c.tc : Thread Cert.AttnOutUpdate1Ideal.nD Cert.AttnOutUpdate1Ideal.τ).loc Cert.AttnOutUpdate1Ideal.main_arg3)
      ∧ m' ((c.tc : Thread Cert.AttnOutUpdate1ReferenceIdeal.nD Cert.AttnOutUpdate1ReferenceIdeal.τ).loc Cert.AttnOutUpdate1ReferenceIdeal.main_arg4) = m ((c.tc : Thread Cert.AttnOutUpdate1Ideal.nD Cert.AttnOutUpdate1Ideal.τ).loc Cert.AttnOutUpdate1Ideal.main_arg4)
      ∧ m' ((c.tc : Thread Cert.AttnOutUpdate1ReferenceIdeal.nD Cert.AttnOutUpdate1ReferenceIdeal.τ).loc Cert.AttnOutUpdate1ReferenceIdeal.main_arg5) = m ((c.tc : Thread Cert.AttnOutUpdate1Ideal.nD Cert.AttnOutUpdate1Ideal.τ).loc Cert.AttnOutUpdate1Ideal.main_arg5)
      ∧ m' ((c.tc : Thread Cert.AttnOutUpdate1ReferenceIdeal.nD Cert.AttnOutUpdate1ReferenceIdeal.τ).loc Cert.AttnOutUpdate1ReferenceIdeal.main_arg6) = m ((c.tc : Thread Cert.AttnOutUpdate1Ideal.nD Cert.AttnOutUpdate1Ideal.τ).loc Cert.AttnOutUpdate1Ideal.main_arg6)
      ∧ m' ((c.tc : Thread Cert.AttnOutUpdate1ReferenceIdeal.nD Cert.AttnOutUpdate1ReferenceIdeal.τ).loc Cert.AttnOutUpdate1ReferenceIdeal.main_arg7) = m ((c.tc : Thread Cert.AttnOutUpdate1Ideal.nD Cert.AttnOutUpdate1Ideal.τ).loc Cert.AttnOutUpdate1Ideal.main_arg7)
      ∧ m' ((c.tc : Thread Cert.AttnOutUpdate1ReferenceIdeal.nD Cert.AttnOutUpdate1ReferenceIdeal.τ).loc Cert.AttnOutUpdate1ReferenceIdeal.main_arg8) = m ((c.tc : Thread Cert.AttnOutUpdate1Ideal.nD Cert.AttnOutUpdate1Ideal.τ).loc Cert.AttnOutUpdate1Ideal.main_arg8)) →
    ∃ (v0 : (c : Dev Cert.AttnOutUpdate1Ideal.nD) → Buf (Elt Ideal) ((c.tc : Thread Cert.AttnOutUpdate1Ideal.nD Cert.AttnOutUpdate1Ideal.τ).loc Cert.AttnOutUpdate1Ideal.main_v1_0)) (v1 : (c : Dev Cert.AttnOutUpdate1Ideal.nD) → Buf (Elt Ideal) ((c.tc : Thread Cert.AttnOutUpdate1Ideal.nD Cert.AttnOutUpdate1Ideal.τ).loc Cert.AttnOutUpdate1Ideal.main_v1_1)) (v2 : (c : Dev Cert.AttnOutUpdate1Ideal.nD) → Buf (Elt Ideal) ((c.tc : Thread Cert.AttnOutUpdate1Ideal.nD Cert.AttnOutUpdate1Ideal.τ).loc Cert.AttnOutUpdate1Ideal.main_v1_2)) (v3 : (c : Dev Cert.AttnOutUpdate1Ideal.nD) → Buf (Elt Ideal) ((c.tc : Thread Cert.AttnOutUpdate1Ideal.nD Cert.AttnOutUpdate1Ideal.τ).loc Cert.AttnOutUpdate1Ideal.main_v1_3)),
      θ_run (Cert.AttnOutUpdate1Ideal.defs (F := Ideal)) (onTc (τ := Cert.AttnOutUpdate1Ideal.τ) (Cert.AttnOutUpdate1Ideal.main (F := Ideal))) ⟨m, fun _ => 0, g⟩ (fun r => ∀ c : Dev Cert.AttnOutUpdate1Ideal.nD,
          r.2.mem ((c.tc : Thread Cert.AttnOutUpdate1Ideal.nD Cert.AttnOutUpdate1Ideal.τ).loc Cert.AttnOutUpdate1Ideal.main_v1_0) = v0 c
          ∧ r.2.mem ((c.tc : Thread Cert.AttnOutUpdate1Ideal.nD Cert.AttnOutUpdate1Ideal.τ).loc Cert.AttnOutUpdate1Ideal.main_v1_1) = v1 c
          ∧ r.2.mem ((c.tc : Thread Cert.AttnOutUpdate1Ideal.nD Cert.AttnOutUpdate1Ideal.τ).loc Cert.AttnOutUpdate1Ideal.main_v1_2) = v2 c
          ∧ r.2.mem ((c.tc : Thread Cert.AttnOutUpdate1Ideal.nD Cert.AttnOutUpdate1Ideal.τ).loc Cert.AttnOutUpdate1Ideal.main_v1_3) = v3 c
          ∧ r.2.mem ((c.tc : Thread Cert.AttnOutUpdate1Ideal.nD Cert.AttnOutUpdate1Ideal.τ).loc Cert.AttnOutUpdate1Ideal.main_arg0) = m ((c.tc : Thread Cert.AttnOutUpdate1Ideal.nD Cert.AttnOutUpdate1Ideal.τ).loc Cert.AttnOutUpdate1Ideal.main_arg0)
          ∧ r.2.mem ((c.tc : Thread Cert.AttnOutUpdate1Ideal.nD Cert.AttnOutUpdate1Ideal.τ).loc Cert.AttnOutUpdate1Ideal.main_arg1) = m ((c.tc : Thread Cert.AttnOutUpdate1Ideal.nD Cert.AttnOutUpdate1Ideal.τ).loc Cert.AttnOutUpdate1Ideal.main_arg1)
          ∧ r.2.mem ((c.tc : Thread Cert.AttnOutUpdate1Ideal.nD Cert.AttnOutUpdate1Ideal.τ).loc Cert.AttnOutUpdate1Ideal.main_arg2) = m ((c.tc : Thread Cert.AttnOutUpdate1Ideal.nD Cert.AttnOutUpdate1Ideal.τ).loc Cert.AttnOutUpdate1Ideal.main_arg2)
          ∧ r.2.mem ((c.tc : Thread Cert.AttnOutUpdate1Ideal.nD Cert.AttnOutUpdate1Ideal.τ).loc Cert.AttnOutUpdate1Ideal.main_arg3) = m ((c.tc : Thread Cert.AttnOutUpdate1Ideal.nD Cert.AttnOutUpdate1Ideal.τ).loc Cert.AttnOutUpdate1Ideal.main_arg3)
          ∧ r.2.mem ((c.tc : Thread Cert.AttnOutUpdate1Ideal.nD Cert.AttnOutUpdate1Ideal.τ).loc Cert.AttnOutUpdate1Ideal.main_arg4) = m ((c.tc : Thread Cert.AttnOutUpdate1Ideal.nD Cert.AttnOutUpdate1Ideal.τ).loc Cert.AttnOutUpdate1Ideal.main_arg4)
          ∧ r.2.mem ((c.tc : Thread Cert.AttnOutUpdate1Ideal.nD Cert.AttnOutUpdate1Ideal.τ).loc Cert.AttnOutUpdate1Ideal.main_arg5) = m ((c.tc : Thread Cert.AttnOutUpdate1Ideal.nD Cert.AttnOutUpdate1Ideal.τ).loc Cert.AttnOutUpdate1Ideal.main_arg5)
          ∧ r.2.mem ((c.tc : Thread Cert.AttnOutUpdate1Ideal.nD Cert.AttnOutUpdate1Ideal.τ).loc Cert.AttnOutUpdate1Ideal.main_arg6) = m ((c.tc : Thread Cert.AttnOutUpdate1Ideal.nD Cert.AttnOutUpdate1Ideal.τ).loc Cert.AttnOutUpdate1Ideal.main_arg6)
          ∧ r.2.mem ((c.tc : Thread Cert.AttnOutUpdate1Ideal.nD Cert.AttnOutUpdate1Ideal.τ).loc Cert.AttnOutUpdate1Ideal.main_arg7) = m ((c.tc : Thread Cert.AttnOutUpdate1Ideal.nD Cert.AttnOutUpdate1Ideal.τ).loc Cert.AttnOutUpdate1Ideal.main_arg7)
          ∧ r.2.mem ((c.tc : Thread Cert.AttnOutUpdate1Ideal.nD Cert.AttnOutUpdate1Ideal.τ).loc Cert.AttnOutUpdate1Ideal.main_arg8) = m ((c.tc : Thread Cert.AttnOutUpdate1Ideal.nD Cert.AttnOutUpdate1Ideal.τ).loc Cert.AttnOutUpdate1Ideal.main_arg8))
      ∧ θ_run (Cert.AttnOutUpdate1ReferenceIdeal.defs (F := Ideal)) (onTc (τ := Cert.AttnOutUpdate1ReferenceIdeal.τ) (Cert.AttnOutUpdate1ReferenceIdeal.main (F := Ideal))) ⟨m', fun _ => 0, g'⟩ (fun r => ∀ c : Dev Cert.AttnOutUpdate1ReferenceIdeal.nD,
          r.2.mem ((c.tc : Thread Cert.AttnOutUpdate1ReferenceIdeal.nD Cert.AttnOutUpdate1ReferenceIdeal.τ).loc Cert.AttnOutUpdate1ReferenceIdeal.main_v0_0) = v0 c
          ∧ r.2.mem ((c.tc : Thread Cert.AttnOutUpdate1ReferenceIdeal.nD Cert.AttnOutUpdate1ReferenceIdeal.τ).loc Cert.AttnOutUpdate1ReferenceIdeal.main_v0_1) = v1 c
          ∧ r.2.mem ((c.tc : Thread Cert.AttnOutUpdate1ReferenceIdeal.nD Cert.AttnOutUpdate1ReferenceIdeal.τ).loc Cert.AttnOutUpdate1ReferenceIdeal.main_v0_2) = v2 c
          ∧ r.2.mem ((c.tc : Thread Cert.AttnOutUpdate1ReferenceIdeal.nD Cert.AttnOutUpdate1ReferenceIdeal.τ).loc Cert.AttnOutUpdate1ReferenceIdeal.main_v0_3) = v3 c
          ∧ r.2.mem ((c.tc : Thread Cert.AttnOutUpdate1ReferenceIdeal.nD Cert.AttnOutUpdate1ReferenceIdeal.τ).loc Cert.AttnOutUpdate1ReferenceIdeal.main_arg0) = m' ((c.tc : Thread Cert.AttnOutUpdate1ReferenceIdeal.nD Cert.AttnOutUpdate1ReferenceIdeal.τ).loc Cert.AttnOutUpdate1ReferenceIdeal.main_arg0)
          ∧ r.2.mem ((c.tc : Thread Cert.AttnOutUpdate1ReferenceIdeal.nD Cert.AttnOutUpdate1ReferenceIdeal.τ).loc Cert.AttnOutUpdate1ReferenceIdeal.main_arg1) = m' ((c.tc : Thread Cert.AttnOutUpdate1ReferenceIdeal.nD Cert.AttnOutUpdate1ReferenceIdeal.τ).loc Cert.AttnOutUpdate1ReferenceIdeal.main_arg1)
          ∧ r.2.mem ((c.tc : Thread Cert.AttnOutUpdate1ReferenceIdeal.nD Cert.AttnOutUpdate1ReferenceIdeal.τ).loc Cert.AttnOutUpdate1ReferenceIdeal.main_arg2) = m' ((c.tc : Thread Cert.AttnOutUpdate1ReferenceIdeal.nD Cert.AttnOutUpdate1ReferenceIdeal.τ).loc Cert.AttnOutUpdate1ReferenceIdeal.main_arg2)
          ∧ r.2.mem ((c.tc : Thread Cert.AttnOutUpdate1ReferenceIdeal.nD Cert.AttnOutUpdate1ReferenceIdeal.τ).loc Cert.AttnOutUpdate1ReferenceIdeal.main_arg3) = m' ((c.tc : Thread Cert.AttnOutUpdate1ReferenceIdeal.nD Cert.AttnOutUpdate1ReferenceIdeal.τ).loc Cert.AttnOutUpdate1ReferenceIdeal.main_arg3)
          ∧ r.2.mem ((c.tc : Thread Cert.AttnOutUpdate1ReferenceIdeal.nD Cert.AttnOutUpdate1ReferenceIdeal.τ).loc Cert.AttnOutUpdate1ReferenceIdeal.main_arg4) = m' ((c.tc : Thread Cert.AttnOutUpdate1ReferenceIdeal.nD Cert.AttnOutUpdate1ReferenceIdeal.τ).loc Cert.AttnOutUpdate1ReferenceIdeal.main_arg4)
          ∧ r.2.mem ((c.tc : Thread Cert.AttnOutUpdate1ReferenceIdeal.nD Cert.AttnOutUpdate1ReferenceIdeal.τ).loc Cert.AttnOutUpdate1ReferenceIdeal.main_arg5) = m' ((c.tc : Thread Cert.AttnOutUpdate1ReferenceIdeal.nD Cert.AttnOutUpdate1ReferenceIdeal.τ).loc Cert.AttnOutUpdate1ReferenceIdeal.main_arg5)
          ∧ r.2.mem ((c.tc : Thread Cert.AttnOutUpdate1ReferenceIdeal.nD Cert.AttnOutUpdate1ReferenceIdeal.τ).loc Cert.AttnOutUpdate1ReferenceIdeal.main_arg6) = m' ((c.tc : Thread Cert.AttnOutUpdate1ReferenceIdeal.nD Cert.AttnOutUpdate1ReferenceIdeal.τ).loc Cert.AttnOutUpdate1ReferenceIdeal.main_arg6)
          ∧ r.2.mem ((c.tc : Thread Cert.AttnOutUpdate1ReferenceIdeal.nD Cert.AttnOutUpdate1ReferenceIdeal.τ).loc Cert.AttnOutUpdate1ReferenceIdeal.main_arg7) = m' ((c.tc : Thread Cert.AttnOutUpdate1ReferenceIdeal.nD Cert.AttnOutUpdate1ReferenceIdeal.τ).loc Cert.AttnOutUpdate1ReferenceIdeal.main_arg7)
          ∧ r.2.mem ((c.tc : Thread Cert.AttnOutUpdate1ReferenceIdeal.nD Cert.AttnOutUpdate1ReferenceIdeal.τ).loc Cert.AttnOutUpdate1ReferenceIdeal.main_arg8) = m' ((c.tc : Thread Cert.AttnOutUpdate1ReferenceIdeal.nD Cert.AttnOutUpdate1ReferenceIdeal.τ).loc Cert.AttnOutUpdate1ReferenceIdeal.main_arg8))

def preserves_GmlpInUpdate0_GmlpInUpdate0Ideal : Prop :=
  IdealRules.named_const.Statement Cert.GmlpInUpdate0Ideal.κ "inv_b1" .f32 0x3FC48605#32 (((6513215599 / 10000000000)⁻¹ : ℝ) : EReal)
  ∧ IdealRules.named_const.Statement Cert.GmlpInUpdate0Ideal.κ "inv_b2" .f32 0x42C8E6D3#32 (((9955119790251790119955009999 / 1000000000000000000000000000000)⁻¹ : ℝ) : EReal)

def algebraic_GmlpInUpdate0Ideal_GmlpInUpdate0ReferenceIdeal [hGmlpInUpdate0Ideal : Cert.GmlpInUpdate0Ideal.Facts] [hGmlpInUpdate0ReferenceIdeal : Cert.GmlpInUpdate0ReferenceIdeal.Facts] : Prop :=
  ∀ (m : (ℓ : Loc Cert.GmlpInUpdate0Ideal.nD Cert.GmlpInUpdate0Ideal.τ Cert.GmlpInUpdate0Ideal.sig) → Buf (Elt Ideal) ℓ) (g : Dev Cert.GmlpInUpdate0Ideal.nD → PrngReg)
    (m' : (ℓ : Loc Cert.GmlpInUpdate0ReferenceIdeal.nD Cert.GmlpInUpdate0ReferenceIdeal.τ Cert.GmlpInUpdate0ReferenceIdeal.sig) → Buf (Elt Ideal) ℓ) (g' : Dev Cert.GmlpInUpdate0ReferenceIdeal.nD → PrngReg), Pre_GmlpInUpdate0Ideal m →
    (∀ c : Dev Cert.GmlpInUpdate0Ideal.nD,
      m' ((c.tc : Thread Cert.GmlpInUpdate0ReferenceIdeal.nD Cert.GmlpInUpdate0ReferenceIdeal.τ).loc Cert.GmlpInUpdate0ReferenceIdeal.main_arg0) = m ((c.tc : Thread Cert.GmlpInUpdate0Ideal.nD Cert.GmlpInUpdate0Ideal.τ).loc Cert.GmlpInUpdate0Ideal.main_arg0)
      ∧ m' ((c.tc : Thread Cert.GmlpInUpdate0ReferenceIdeal.nD Cert.GmlpInUpdate0ReferenceIdeal.τ).loc Cert.GmlpInUpdate0ReferenceIdeal.main_arg1) = m ((c.tc : Thread Cert.GmlpInUpdate0Ideal.nD Cert.GmlpInUpdate0Ideal.τ).loc Cert.GmlpInUpdate0Ideal.main_arg1)
      ∧ m' ((c.tc : Thread Cert.GmlpInUpdate0ReferenceIdeal.nD Cert.GmlpInUpdate0ReferenceIdeal.τ).loc Cert.GmlpInUpdate0ReferenceIdeal.main_arg2) = m ((c.tc : Thread Cert.GmlpInUpdate0Ideal.nD Cert.GmlpInUpdate0Ideal.τ).loc Cert.GmlpInUpdate0Ideal.main_arg2)
      ∧ m' ((c.tc : Thread Cert.GmlpInUpdate0ReferenceIdeal.nD Cert.GmlpInUpdate0ReferenceIdeal.τ).loc Cert.GmlpInUpdate0ReferenceIdeal.main_arg3) = m ((c.tc : Thread Cert.GmlpInUpdate0Ideal.nD Cert.GmlpInUpdate0Ideal.τ).loc Cert.GmlpInUpdate0Ideal.main_arg3)
      ∧ m' ((c.tc : Thread Cert.GmlpInUpdate0ReferenceIdeal.nD Cert.GmlpInUpdate0ReferenceIdeal.τ).loc Cert.GmlpInUpdate0ReferenceIdeal.main_arg4) = m ((c.tc : Thread Cert.GmlpInUpdate0Ideal.nD Cert.GmlpInUpdate0Ideal.τ).loc Cert.GmlpInUpdate0Ideal.main_arg4)
      ∧ m' ((c.tc : Thread Cert.GmlpInUpdate0ReferenceIdeal.nD Cert.GmlpInUpdate0ReferenceIdeal.τ).loc Cert.GmlpInUpdate0ReferenceIdeal.main_arg5) = m ((c.tc : Thread Cert.GmlpInUpdate0Ideal.nD Cert.GmlpInUpdate0Ideal.τ).loc Cert.GmlpInUpdate0Ideal.main_arg5)
      ∧ m' ((c.tc : Thread Cert.GmlpInUpdate0ReferenceIdeal.nD Cert.GmlpInUpdate0ReferenceIdeal.τ).loc Cert.GmlpInUpdate0ReferenceIdeal.main_arg6) = m ((c.tc : Thread Cert.GmlpInUpdate0Ideal.nD Cert.GmlpInUpdate0Ideal.τ).loc Cert.GmlpInUpdate0Ideal.main_arg6)
      ∧ m' ((c.tc : Thread Cert.GmlpInUpdate0ReferenceIdeal.nD Cert.GmlpInUpdate0ReferenceIdeal.τ).loc Cert.GmlpInUpdate0ReferenceIdeal.main_arg7) = m ((c.tc : Thread Cert.GmlpInUpdate0Ideal.nD Cert.GmlpInUpdate0Ideal.τ).loc Cert.GmlpInUpdate0Ideal.main_arg7)
      ∧ m' ((c.tc : Thread Cert.GmlpInUpdate0ReferenceIdeal.nD Cert.GmlpInUpdate0ReferenceIdeal.τ).loc Cert.GmlpInUpdate0ReferenceIdeal.main_arg8) = m ((c.tc : Thread Cert.GmlpInUpdate0Ideal.nD Cert.GmlpInUpdate0Ideal.τ).loc Cert.GmlpInUpdate0Ideal.main_arg8)) →
    ∃ (v0 : (c : Dev Cert.GmlpInUpdate0Ideal.nD) → Buf (Elt Ideal) ((c.tc : Thread Cert.GmlpInUpdate0Ideal.nD Cert.GmlpInUpdate0Ideal.τ).loc Cert.GmlpInUpdate0Ideal.main_v1_0)) (v1 : (c : Dev Cert.GmlpInUpdate0Ideal.nD) → Buf (Elt Ideal) ((c.tc : Thread Cert.GmlpInUpdate0Ideal.nD Cert.GmlpInUpdate0Ideal.τ).loc Cert.GmlpInUpdate0Ideal.main_v1_1)) (v2 : (c : Dev Cert.GmlpInUpdate0Ideal.nD) → Buf (Elt Ideal) ((c.tc : Thread Cert.GmlpInUpdate0Ideal.nD Cert.GmlpInUpdate0Ideal.τ).loc Cert.GmlpInUpdate0Ideal.main_v1_2)) (v3 : (c : Dev Cert.GmlpInUpdate0Ideal.nD) → Buf (Elt Ideal) ((c.tc : Thread Cert.GmlpInUpdate0Ideal.nD Cert.GmlpInUpdate0Ideal.τ).loc Cert.GmlpInUpdate0Ideal.main_v1_3)),
      θ_run (Cert.GmlpInUpdate0Ideal.defs (F := Ideal)) (onTc (τ := Cert.GmlpInUpdate0Ideal.τ) (Cert.GmlpInUpdate0Ideal.main (F := Ideal))) ⟨m, fun _ => 0, g⟩ (fun r => ∀ c : Dev Cert.GmlpInUpdate0Ideal.nD,
          r.2.mem ((c.tc : Thread Cert.GmlpInUpdate0Ideal.nD Cert.GmlpInUpdate0Ideal.τ).loc Cert.GmlpInUpdate0Ideal.main_v1_0) = v0 c
          ∧ r.2.mem ((c.tc : Thread Cert.GmlpInUpdate0Ideal.nD Cert.GmlpInUpdate0Ideal.τ).loc Cert.GmlpInUpdate0Ideal.main_v1_1) = v1 c
          ∧ r.2.mem ((c.tc : Thread Cert.GmlpInUpdate0Ideal.nD Cert.GmlpInUpdate0Ideal.τ).loc Cert.GmlpInUpdate0Ideal.main_v1_2) = v2 c
          ∧ r.2.mem ((c.tc : Thread Cert.GmlpInUpdate0Ideal.nD Cert.GmlpInUpdate0Ideal.τ).loc Cert.GmlpInUpdate0Ideal.main_v1_3) = v3 c
          ∧ r.2.mem ((c.tc : Thread Cert.GmlpInUpdate0Ideal.nD Cert.GmlpInUpdate0Ideal.τ).loc Cert.GmlpInUpdate0Ideal.main_arg0) = m ((c.tc : Thread Cert.GmlpInUpdate0Ideal.nD Cert.GmlpInUpdate0Ideal.τ).loc Cert.GmlpInUpdate0Ideal.main_arg0)
          ∧ r.2.mem ((c.tc : Thread Cert.GmlpInUpdate0Ideal.nD Cert.GmlpInUpdate0Ideal.τ).loc Cert.GmlpInUpdate0Ideal.main_arg1) = m ((c.tc : Thread Cert.GmlpInUpdate0Ideal.nD Cert.GmlpInUpdate0Ideal.τ).loc Cert.GmlpInUpdate0Ideal.main_arg1)
          ∧ r.2.mem ((c.tc : Thread Cert.GmlpInUpdate0Ideal.nD Cert.GmlpInUpdate0Ideal.τ).loc Cert.GmlpInUpdate0Ideal.main_arg2) = m ((c.tc : Thread Cert.GmlpInUpdate0Ideal.nD Cert.GmlpInUpdate0Ideal.τ).loc Cert.GmlpInUpdate0Ideal.main_arg2)
          ∧ r.2.mem ((c.tc : Thread Cert.GmlpInUpdate0Ideal.nD Cert.GmlpInUpdate0Ideal.τ).loc Cert.GmlpInUpdate0Ideal.main_arg3) = m ((c.tc : Thread Cert.GmlpInUpdate0Ideal.nD Cert.GmlpInUpdate0Ideal.τ).loc Cert.GmlpInUpdate0Ideal.main_arg3)
          ∧ r.2.mem ((c.tc : Thread Cert.GmlpInUpdate0Ideal.nD Cert.GmlpInUpdate0Ideal.τ).loc Cert.GmlpInUpdate0Ideal.main_arg4) = m ((c.tc : Thread Cert.GmlpInUpdate0Ideal.nD Cert.GmlpInUpdate0Ideal.τ).loc Cert.GmlpInUpdate0Ideal.main_arg4)
          ∧ r.2.mem ((c.tc : Thread Cert.GmlpInUpdate0Ideal.nD Cert.GmlpInUpdate0Ideal.τ).loc Cert.GmlpInUpdate0Ideal.main_arg5) = m ((c.tc : Thread Cert.GmlpInUpdate0Ideal.nD Cert.GmlpInUpdate0Ideal.τ).loc Cert.GmlpInUpdate0Ideal.main_arg5)
          ∧ r.2.mem ((c.tc : Thread Cert.GmlpInUpdate0Ideal.nD Cert.GmlpInUpdate0Ideal.τ).loc Cert.GmlpInUpdate0Ideal.main_arg6) = m ((c.tc : Thread Cert.GmlpInUpdate0Ideal.nD Cert.GmlpInUpdate0Ideal.τ).loc Cert.GmlpInUpdate0Ideal.main_arg6)
          ∧ r.2.mem ((c.tc : Thread Cert.GmlpInUpdate0Ideal.nD Cert.GmlpInUpdate0Ideal.τ).loc Cert.GmlpInUpdate0Ideal.main_arg7) = m ((c.tc : Thread Cert.GmlpInUpdate0Ideal.nD Cert.GmlpInUpdate0Ideal.τ).loc Cert.GmlpInUpdate0Ideal.main_arg7)
          ∧ r.2.mem ((c.tc : Thread Cert.GmlpInUpdate0Ideal.nD Cert.GmlpInUpdate0Ideal.τ).loc Cert.GmlpInUpdate0Ideal.main_arg8) = m ((c.tc : Thread Cert.GmlpInUpdate0Ideal.nD Cert.GmlpInUpdate0Ideal.τ).loc Cert.GmlpInUpdate0Ideal.main_arg8))
      ∧ θ_run (Cert.GmlpInUpdate0ReferenceIdeal.defs (F := Ideal)) (onTc (τ := Cert.GmlpInUpdate0ReferenceIdeal.τ) (Cert.GmlpInUpdate0ReferenceIdeal.main (F := Ideal))) ⟨m', fun _ => 0, g'⟩ (fun r => ∀ c : Dev Cert.GmlpInUpdate0ReferenceIdeal.nD,
          r.2.mem ((c.tc : Thread Cert.GmlpInUpdate0ReferenceIdeal.nD Cert.GmlpInUpdate0ReferenceIdeal.τ).loc Cert.GmlpInUpdate0ReferenceIdeal.main_v0_0) = v0 c
          ∧ r.2.mem ((c.tc : Thread Cert.GmlpInUpdate0ReferenceIdeal.nD Cert.GmlpInUpdate0ReferenceIdeal.τ).loc Cert.GmlpInUpdate0ReferenceIdeal.main_v0_1) = v1 c
          ∧ r.2.mem ((c.tc : Thread Cert.GmlpInUpdate0ReferenceIdeal.nD Cert.GmlpInUpdate0ReferenceIdeal.τ).loc Cert.GmlpInUpdate0ReferenceIdeal.main_v0_2) = v2 c
          ∧ r.2.mem ((c.tc : Thread Cert.GmlpInUpdate0ReferenceIdeal.nD Cert.GmlpInUpdate0ReferenceIdeal.τ).loc Cert.GmlpInUpdate0ReferenceIdeal.main_v0_3) = v3 c
          ∧ r.2.mem ((c.tc : Thread Cert.GmlpInUpdate0ReferenceIdeal.nD Cert.GmlpInUpdate0ReferenceIdeal.τ).loc Cert.GmlpInUpdate0ReferenceIdeal.main_arg0) = m' ((c.tc : Thread Cert.GmlpInUpdate0ReferenceIdeal.nD Cert.GmlpInUpdate0ReferenceIdeal.τ).loc Cert.GmlpInUpdate0ReferenceIdeal.main_arg0)
          ∧ r.2.mem ((c.tc : Thread Cert.GmlpInUpdate0ReferenceIdeal.nD Cert.GmlpInUpdate0ReferenceIdeal.τ).loc Cert.GmlpInUpdate0ReferenceIdeal.main_arg1) = m' ((c.tc : Thread Cert.GmlpInUpdate0ReferenceIdeal.nD Cert.GmlpInUpdate0ReferenceIdeal.τ).loc Cert.GmlpInUpdate0ReferenceIdeal.main_arg1)
          ∧ r.2.mem ((c.tc : Thread Cert.GmlpInUpdate0ReferenceIdeal.nD Cert.GmlpInUpdate0ReferenceIdeal.τ).loc Cert.GmlpInUpdate0ReferenceIdeal.main_arg2) = m' ((c.tc : Thread Cert.GmlpInUpdate0ReferenceIdeal.nD Cert.GmlpInUpdate0ReferenceIdeal.τ).loc Cert.GmlpInUpdate0ReferenceIdeal.main_arg2)
          ∧ r.2.mem ((c.tc : Thread Cert.GmlpInUpdate0ReferenceIdeal.nD Cert.GmlpInUpdate0ReferenceIdeal.τ).loc Cert.GmlpInUpdate0ReferenceIdeal.main_arg3) = m' ((c.tc : Thread Cert.GmlpInUpdate0ReferenceIdeal.nD Cert.GmlpInUpdate0ReferenceIdeal.τ).loc Cert.GmlpInUpdate0ReferenceIdeal.main_arg3)
          ∧ r.2.mem ((c.tc : Thread Cert.GmlpInUpdate0ReferenceIdeal.nD Cert.GmlpInUpdate0ReferenceIdeal.τ).loc Cert.GmlpInUpdate0ReferenceIdeal.main_arg4) = m' ((c.tc : Thread Cert.GmlpInUpdate0ReferenceIdeal.nD Cert.GmlpInUpdate0ReferenceIdeal.τ).loc Cert.GmlpInUpdate0ReferenceIdeal.main_arg4)
          ∧ r.2.mem ((c.tc : Thread Cert.GmlpInUpdate0ReferenceIdeal.nD Cert.GmlpInUpdate0ReferenceIdeal.τ).loc Cert.GmlpInUpdate0ReferenceIdeal.main_arg5) = m' ((c.tc : Thread Cert.GmlpInUpdate0ReferenceIdeal.nD Cert.GmlpInUpdate0ReferenceIdeal.τ).loc Cert.GmlpInUpdate0ReferenceIdeal.main_arg5)
          ∧ r.2.mem ((c.tc : Thread Cert.GmlpInUpdate0ReferenceIdeal.nD Cert.GmlpInUpdate0ReferenceIdeal.τ).loc Cert.GmlpInUpdate0ReferenceIdeal.main_arg6) = m' ((c.tc : Thread Cert.GmlpInUpdate0ReferenceIdeal.nD Cert.GmlpInUpdate0ReferenceIdeal.τ).loc Cert.GmlpInUpdate0ReferenceIdeal.main_arg6)
          ∧ r.2.mem ((c.tc : Thread Cert.GmlpInUpdate0ReferenceIdeal.nD Cert.GmlpInUpdate0ReferenceIdeal.τ).loc Cert.GmlpInUpdate0ReferenceIdeal.main_arg7) = m' ((c.tc : Thread Cert.GmlpInUpdate0ReferenceIdeal.nD Cert.GmlpInUpdate0ReferenceIdeal.τ).loc Cert.GmlpInUpdate0ReferenceIdeal.main_arg7)
          ∧ r.2.mem ((c.tc : Thread Cert.GmlpInUpdate0ReferenceIdeal.nD Cert.GmlpInUpdate0ReferenceIdeal.τ).loc Cert.GmlpInUpdate0ReferenceIdeal.main_arg8) = m' ((c.tc : Thread Cert.GmlpInUpdate0ReferenceIdeal.nD Cert.GmlpInUpdate0ReferenceIdeal.τ).loc Cert.GmlpInUpdate0ReferenceIdeal.main_arg8))

def preserves_GmlpInUpdate1_GmlpInUpdate1Ideal : Prop :=
  IdealRules.named_const.Statement Cert.GmlpInUpdate1Ideal.κ "inv_b1" .f32 0x3FC48605#32 (((6513215599 / 10000000000)⁻¹ : ℝ) : EReal)
  ∧ IdealRules.named_const.Statement Cert.GmlpInUpdate1Ideal.κ "inv_b2" .f32 0x42C8E6D3#32 (((9955119790251790119955009999 / 1000000000000000000000000000000)⁻¹ : ℝ) : EReal)

def algebraic_GmlpInUpdate1Ideal_GmlpInUpdate1ReferenceIdeal [hGmlpInUpdate1Ideal : Cert.GmlpInUpdate1Ideal.Facts] [hGmlpInUpdate1ReferenceIdeal : Cert.GmlpInUpdate1ReferenceIdeal.Facts] : Prop :=
  ∀ (m : (ℓ : Loc Cert.GmlpInUpdate1Ideal.nD Cert.GmlpInUpdate1Ideal.τ Cert.GmlpInUpdate1Ideal.sig) → Buf (Elt Ideal) ℓ) (g : Dev Cert.GmlpInUpdate1Ideal.nD → PrngReg)
    (m' : (ℓ : Loc Cert.GmlpInUpdate1ReferenceIdeal.nD Cert.GmlpInUpdate1ReferenceIdeal.τ Cert.GmlpInUpdate1ReferenceIdeal.sig) → Buf (Elt Ideal) ℓ) (g' : Dev Cert.GmlpInUpdate1ReferenceIdeal.nD → PrngReg), Pre_GmlpInUpdate1Ideal m →
    (∀ c : Dev Cert.GmlpInUpdate1Ideal.nD,
      m' ((c.tc : Thread Cert.GmlpInUpdate1ReferenceIdeal.nD Cert.GmlpInUpdate1ReferenceIdeal.τ).loc Cert.GmlpInUpdate1ReferenceIdeal.main_arg0) = m ((c.tc : Thread Cert.GmlpInUpdate1Ideal.nD Cert.GmlpInUpdate1Ideal.τ).loc Cert.GmlpInUpdate1Ideal.main_arg0)
      ∧ m' ((c.tc : Thread Cert.GmlpInUpdate1ReferenceIdeal.nD Cert.GmlpInUpdate1ReferenceIdeal.τ).loc Cert.GmlpInUpdate1ReferenceIdeal.main_arg1) = m ((c.tc : Thread Cert.GmlpInUpdate1Ideal.nD Cert.GmlpInUpdate1Ideal.τ).loc Cert.GmlpInUpdate1Ideal.main_arg1)
      ∧ m' ((c.tc : Thread Cert.GmlpInUpdate1ReferenceIdeal.nD Cert.GmlpInUpdate1ReferenceIdeal.τ).loc Cert.GmlpInUpdate1ReferenceIdeal.main_arg2) = m ((c.tc : Thread Cert.GmlpInUpdate1Ideal.nD Cert.GmlpInUpdate1Ideal.τ).loc Cert.GmlpInUpdate1Ideal.main_arg2)
      ∧ m' ((c.tc : Thread Cert.GmlpInUpdate1ReferenceIdeal.nD Cert.GmlpInUpdate1ReferenceIdeal.τ).loc Cert.GmlpInUpdate1ReferenceIdeal.main_arg3) = m ((c.tc : Thread Cert.GmlpInUpdate1Ideal.nD Cert.GmlpInUpdate1Ideal.τ).loc Cert.GmlpInUpdate1Ideal.main_arg3)
      ∧ m' ((c.tc : Thread Cert.GmlpInUpdate1ReferenceIdeal.nD Cert.GmlpInUpdate1ReferenceIdeal.τ).loc Cert.GmlpInUpdate1ReferenceIdeal.main_arg4) = m ((c.tc : Thread Cert.GmlpInUpdate1Ideal.nD Cert.GmlpInUpdate1Ideal.τ).loc Cert.GmlpInUpdate1Ideal.main_arg4)
      ∧ m' ((c.tc : Thread Cert.GmlpInUpdate1ReferenceIdeal.nD Cert.GmlpInUpdate1ReferenceIdeal.τ).loc Cert.GmlpInUpdate1ReferenceIdeal.main_arg5) = m ((c.tc : Thread Cert.GmlpInUpdate1Ideal.nD Cert.GmlpInUpdate1Ideal.τ).loc Cert.GmlpInUpdate1Ideal.main_arg5)
      ∧ m' ((c.tc : Thread Cert.GmlpInUpdate1ReferenceIdeal.nD Cert.GmlpInUpdate1ReferenceIdeal.τ).loc Cert.GmlpInUpdate1ReferenceIdeal.main_arg6) = m ((c.tc : Thread Cert.GmlpInUpdate1Ideal.nD Cert.GmlpInUpdate1Ideal.τ).loc Cert.GmlpInUpdate1Ideal.main_arg6)
      ∧ m' ((c.tc : Thread Cert.GmlpInUpdate1ReferenceIdeal.nD Cert.GmlpInUpdate1ReferenceIdeal.τ).loc Cert.GmlpInUpdate1ReferenceIdeal.main_arg7) = m ((c.tc : Thread Cert.GmlpInUpdate1Ideal.nD Cert.GmlpInUpdate1Ideal.τ).loc Cert.GmlpInUpdate1Ideal.main_arg7)
      ∧ m' ((c.tc : Thread Cert.GmlpInUpdate1ReferenceIdeal.nD Cert.GmlpInUpdate1ReferenceIdeal.τ).loc Cert.GmlpInUpdate1ReferenceIdeal.main_arg8) = m ((c.tc : Thread Cert.GmlpInUpdate1Ideal.nD Cert.GmlpInUpdate1Ideal.τ).loc Cert.GmlpInUpdate1Ideal.main_arg8)) →
    ∃ (v0 : (c : Dev Cert.GmlpInUpdate1Ideal.nD) → Buf (Elt Ideal) ((c.tc : Thread Cert.GmlpInUpdate1Ideal.nD Cert.GmlpInUpdate1Ideal.τ).loc Cert.GmlpInUpdate1Ideal.main_v1_0)) (v1 : (c : Dev Cert.GmlpInUpdate1Ideal.nD) → Buf (Elt Ideal) ((c.tc : Thread Cert.GmlpInUpdate1Ideal.nD Cert.GmlpInUpdate1Ideal.τ).loc Cert.GmlpInUpdate1Ideal.main_v1_1)) (v2 : (c : Dev Cert.GmlpInUpdate1Ideal.nD) → Buf (Elt Ideal) ((c.tc : Thread Cert.GmlpInUpdate1Ideal.nD Cert.GmlpInUpdate1Ideal.τ).loc Cert.GmlpInUpdate1Ideal.main_v1_2)) (v3 : (c : Dev Cert.GmlpInUpdate1Ideal.nD) → Buf (Elt Ideal) ((c.tc : Thread Cert.GmlpInUpdate1Ideal.nD Cert.GmlpInUpdate1Ideal.τ).loc Cert.GmlpInUpdate1Ideal.main_v1_3)),
      θ_run (Cert.GmlpInUpdate1Ideal.defs (F := Ideal)) (onTc (τ := Cert.GmlpInUpdate1Ideal.τ) (Cert.GmlpInUpdate1Ideal.main (F := Ideal))) ⟨m, fun _ => 0, g⟩ (fun r => ∀ c : Dev Cert.GmlpInUpdate1Ideal.nD,
          r.2.mem ((c.tc : Thread Cert.GmlpInUpdate1Ideal.nD Cert.GmlpInUpdate1Ideal.τ).loc Cert.GmlpInUpdate1Ideal.main_v1_0) = v0 c
          ∧ r.2.mem ((c.tc : Thread Cert.GmlpInUpdate1Ideal.nD Cert.GmlpInUpdate1Ideal.τ).loc Cert.GmlpInUpdate1Ideal.main_v1_1) = v1 c
          ∧ r.2.mem ((c.tc : Thread Cert.GmlpInUpdate1Ideal.nD Cert.GmlpInUpdate1Ideal.τ).loc Cert.GmlpInUpdate1Ideal.main_v1_2) = v2 c
          ∧ r.2.mem ((c.tc : Thread Cert.GmlpInUpdate1Ideal.nD Cert.GmlpInUpdate1Ideal.τ).loc Cert.GmlpInUpdate1Ideal.main_v1_3) = v3 c
          ∧ r.2.mem ((c.tc : Thread Cert.GmlpInUpdate1Ideal.nD Cert.GmlpInUpdate1Ideal.τ).loc Cert.GmlpInUpdate1Ideal.main_arg0) = m ((c.tc : Thread Cert.GmlpInUpdate1Ideal.nD Cert.GmlpInUpdate1Ideal.τ).loc Cert.GmlpInUpdate1Ideal.main_arg0)
          ∧ r.2.mem ((c.tc : Thread Cert.GmlpInUpdate1Ideal.nD Cert.GmlpInUpdate1Ideal.τ).loc Cert.GmlpInUpdate1Ideal.main_arg1) = m ((c.tc : Thread Cert.GmlpInUpdate1Ideal.nD Cert.GmlpInUpdate1Ideal.τ).loc Cert.GmlpInUpdate1Ideal.main_arg1)
          ∧ r.2.mem ((c.tc : Thread Cert.GmlpInUpdate1Ideal.nD Cert.GmlpInUpdate1Ideal.τ).loc Cert.GmlpInUpdate1Ideal.main_arg2) = m ((c.tc : Thread Cert.GmlpInUpdate1Ideal.nD Cert.GmlpInUpdate1Ideal.τ).loc Cert.GmlpInUpdate1Ideal.main_arg2)
          ∧ r.2.mem ((c.tc : Thread Cert.GmlpInUpdate1Ideal.nD Cert.GmlpInUpdate1Ideal.τ).loc Cert.GmlpInUpdate1Ideal.main_arg3) = m ((c.tc : Thread Cert.GmlpInUpdate1Ideal.nD Cert.GmlpInUpdate1Ideal.τ).loc Cert.GmlpInUpdate1Ideal.main_arg3)
          ∧ r.2.mem ((c.tc : Thread Cert.GmlpInUpdate1Ideal.nD Cert.GmlpInUpdate1Ideal.τ).loc Cert.GmlpInUpdate1Ideal.main_arg4) = m ((c.tc : Thread Cert.GmlpInUpdate1Ideal.nD Cert.GmlpInUpdate1Ideal.τ).loc Cert.GmlpInUpdate1Ideal.main_arg4)
          ∧ r.2.mem ((c.tc : Thread Cert.GmlpInUpdate1Ideal.nD Cert.GmlpInUpdate1Ideal.τ).loc Cert.GmlpInUpdate1Ideal.main_arg5) = m ((c.tc : Thread Cert.GmlpInUpdate1Ideal.nD Cert.GmlpInUpdate1Ideal.τ).loc Cert.GmlpInUpdate1Ideal.main_arg5)
          ∧ r.2.mem ((c.tc : Thread Cert.GmlpInUpdate1Ideal.nD Cert.GmlpInUpdate1Ideal.τ).loc Cert.GmlpInUpdate1Ideal.main_arg6) = m ((c.tc : Thread Cert.GmlpInUpdate1Ideal.nD Cert.GmlpInUpdate1Ideal.τ).loc Cert.GmlpInUpdate1Ideal.main_arg6)
          ∧ r.2.mem ((c.tc : Thread Cert.GmlpInUpdate1Ideal.nD Cert.GmlpInUpdate1Ideal.τ).loc Cert.GmlpInUpdate1Ideal.main_arg7) = m ((c.tc : Thread Cert.GmlpInUpdate1Ideal.nD Cert.GmlpInUpdate1Ideal.τ).loc Cert.GmlpInUpdate1Ideal.main_arg7)
          ∧ r.2.mem ((c.tc : Thread Cert.GmlpInUpdate1Ideal.nD Cert.GmlpInUpdate1Ideal.τ).loc Cert.GmlpInUpdate1Ideal.main_arg8) = m ((c.tc : Thread Cert.GmlpInUpdate1Ideal.nD Cert.GmlpInUpdate1Ideal.τ).loc Cert.GmlpInUpdate1Ideal.main_arg8))
      ∧ θ_run (Cert.GmlpInUpdate1ReferenceIdeal.defs (F := Ideal)) (onTc (τ := Cert.GmlpInUpdate1ReferenceIdeal.τ) (Cert.GmlpInUpdate1ReferenceIdeal.main (F := Ideal))) ⟨m', fun _ => 0, g'⟩ (fun r => ∀ c : Dev Cert.GmlpInUpdate1ReferenceIdeal.nD,
          r.2.mem ((c.tc : Thread Cert.GmlpInUpdate1ReferenceIdeal.nD Cert.GmlpInUpdate1ReferenceIdeal.τ).loc Cert.GmlpInUpdate1ReferenceIdeal.main_v0_0) = v0 c
          ∧ r.2.mem ((c.tc : Thread Cert.GmlpInUpdate1ReferenceIdeal.nD Cert.GmlpInUpdate1ReferenceIdeal.τ).loc Cert.GmlpInUpdate1ReferenceIdeal.main_v0_1) = v1 c
          ∧ r.2.mem ((c.tc : Thread Cert.GmlpInUpdate1ReferenceIdeal.nD Cert.GmlpInUpdate1ReferenceIdeal.τ).loc Cert.GmlpInUpdate1ReferenceIdeal.main_v0_2) = v2 c
          ∧ r.2.mem ((c.tc : Thread Cert.GmlpInUpdate1ReferenceIdeal.nD Cert.GmlpInUpdate1ReferenceIdeal.τ).loc Cert.GmlpInUpdate1ReferenceIdeal.main_v0_3) = v3 c
          ∧ r.2.mem ((c.tc : Thread Cert.GmlpInUpdate1ReferenceIdeal.nD Cert.GmlpInUpdate1ReferenceIdeal.τ).loc Cert.GmlpInUpdate1ReferenceIdeal.main_arg0) = m' ((c.tc : Thread Cert.GmlpInUpdate1ReferenceIdeal.nD Cert.GmlpInUpdate1ReferenceIdeal.τ).loc Cert.GmlpInUpdate1ReferenceIdeal.main_arg0)
          ∧ r.2.mem ((c.tc : Thread Cert.GmlpInUpdate1ReferenceIdeal.nD Cert.GmlpInUpdate1ReferenceIdeal.τ).loc Cert.GmlpInUpdate1ReferenceIdeal.main_arg1) = m' ((c.tc : Thread Cert.GmlpInUpdate1ReferenceIdeal.nD Cert.GmlpInUpdate1ReferenceIdeal.τ).loc Cert.GmlpInUpdate1ReferenceIdeal.main_arg1)
          ∧ r.2.mem ((c.tc : Thread Cert.GmlpInUpdate1ReferenceIdeal.nD Cert.GmlpInUpdate1ReferenceIdeal.τ).loc Cert.GmlpInUpdate1ReferenceIdeal.main_arg2) = m' ((c.tc : Thread Cert.GmlpInUpdate1ReferenceIdeal.nD Cert.GmlpInUpdate1ReferenceIdeal.τ).loc Cert.GmlpInUpdate1ReferenceIdeal.main_arg2)
          ∧ r.2.mem ((c.tc : Thread Cert.GmlpInUpdate1ReferenceIdeal.nD Cert.GmlpInUpdate1ReferenceIdeal.τ).loc Cert.GmlpInUpdate1ReferenceIdeal.main_arg3) = m' ((c.tc : Thread Cert.GmlpInUpdate1ReferenceIdeal.nD Cert.GmlpInUpdate1ReferenceIdeal.τ).loc Cert.GmlpInUpdate1ReferenceIdeal.main_arg3)
          ∧ r.2.mem ((c.tc : Thread Cert.GmlpInUpdate1ReferenceIdeal.nD Cert.GmlpInUpdate1ReferenceIdeal.τ).loc Cert.GmlpInUpdate1ReferenceIdeal.main_arg4) = m' ((c.tc : Thread Cert.GmlpInUpdate1ReferenceIdeal.nD Cert.GmlpInUpdate1ReferenceIdeal.τ).loc Cert.GmlpInUpdate1ReferenceIdeal.main_arg4)
          ∧ r.2.mem ((c.tc : Thread Cert.GmlpInUpdate1ReferenceIdeal.nD Cert.GmlpInUpdate1ReferenceIdeal.τ).loc Cert.GmlpInUpdate1ReferenceIdeal.main_arg5) = m' ((c.tc : Thread Cert.GmlpInUpdate1ReferenceIdeal.nD Cert.GmlpInUpdate1ReferenceIdeal.τ).loc Cert.GmlpInUpdate1ReferenceIdeal.main_arg5)
          ∧ r.2.mem ((c.tc : Thread Cert.GmlpInUpdate1ReferenceIdeal.nD Cert.GmlpInUpdate1ReferenceIdeal.τ).loc Cert.GmlpInUpdate1ReferenceIdeal.main_arg6) = m' ((c.tc : Thread Cert.GmlpInUpdate1ReferenceIdeal.nD Cert.GmlpInUpdate1ReferenceIdeal.τ).loc Cert.GmlpInUpdate1ReferenceIdeal.main_arg6)
          ∧ r.2.mem ((c.tc : Thread Cert.GmlpInUpdate1ReferenceIdeal.nD Cert.GmlpInUpdate1ReferenceIdeal.τ).loc Cert.GmlpInUpdate1ReferenceIdeal.main_arg7) = m' ((c.tc : Thread Cert.GmlpInUpdate1ReferenceIdeal.nD Cert.GmlpInUpdate1ReferenceIdeal.τ).loc Cert.GmlpInUpdate1ReferenceIdeal.main_arg7)
          ∧ r.2.mem ((c.tc : Thread Cert.GmlpInUpdate1ReferenceIdeal.nD Cert.GmlpInUpdate1ReferenceIdeal.τ).loc Cert.GmlpInUpdate1ReferenceIdeal.main_arg8) = m' ((c.tc : Thread Cert.GmlpInUpdate1ReferenceIdeal.nD Cert.GmlpInUpdate1ReferenceIdeal.τ).loc Cert.GmlpInUpdate1ReferenceIdeal.main_arg8))

def preserves_FfnUpUpdate0_FfnUpUpdate0Ideal : Prop :=
  IdealRules.named_const.Statement Cert.FfnUpUpdate0Ideal.κ "inv_b1" .f32 0x3FC48605#32 (((6513215599 / 10000000000)⁻¹ : ℝ) : EReal)
  ∧ IdealRules.named_const.Statement Cert.FfnUpUpdate0Ideal.κ "inv_b2" .f32 0x42C8E6D3#32 (((9955119790251790119955009999 / 1000000000000000000000000000000)⁻¹ : ℝ) : EReal)

def algebraic_FfnUpUpdate0Ideal_FfnUpUpdate0ReferenceIdeal [hFfnUpUpdate0Ideal : Cert.FfnUpUpdate0Ideal.Facts] [hFfnUpUpdate0ReferenceIdeal : Cert.FfnUpUpdate0ReferenceIdeal.Facts] : Prop :=
  ∀ (m : (ℓ : Loc Cert.FfnUpUpdate0Ideal.nD Cert.FfnUpUpdate0Ideal.τ Cert.FfnUpUpdate0Ideal.sig) → Buf (Elt Ideal) ℓ) (g : Dev Cert.FfnUpUpdate0Ideal.nD → PrngReg)
    (m' : (ℓ : Loc Cert.FfnUpUpdate0ReferenceIdeal.nD Cert.FfnUpUpdate0ReferenceIdeal.τ Cert.FfnUpUpdate0ReferenceIdeal.sig) → Buf (Elt Ideal) ℓ) (g' : Dev Cert.FfnUpUpdate0ReferenceIdeal.nD → PrngReg), Pre_FfnUpUpdate0Ideal m →
    (∀ c : Dev Cert.FfnUpUpdate0Ideal.nD,
      m' ((c.tc : Thread Cert.FfnUpUpdate0ReferenceIdeal.nD Cert.FfnUpUpdate0ReferenceIdeal.τ).loc Cert.FfnUpUpdate0ReferenceIdeal.main_arg0) = m ((c.tc : Thread Cert.FfnUpUpdate0Ideal.nD Cert.FfnUpUpdate0Ideal.τ).loc Cert.FfnUpUpdate0Ideal.main_arg0)
      ∧ m' ((c.tc : Thread Cert.FfnUpUpdate0ReferenceIdeal.nD Cert.FfnUpUpdate0ReferenceIdeal.τ).loc Cert.FfnUpUpdate0ReferenceIdeal.main_arg1) = m ((c.tc : Thread Cert.FfnUpUpdate0Ideal.nD Cert.FfnUpUpdate0Ideal.τ).loc Cert.FfnUpUpdate0Ideal.main_arg1)
      ∧ m' ((c.tc : Thread Cert.FfnUpUpdate0ReferenceIdeal.nD Cert.FfnUpUpdate0ReferenceIdeal.τ).loc Cert.FfnUpUpdate0ReferenceIdeal.main_arg2) = m ((c.tc : Thread Cert.FfnUpUpdate0Ideal.nD Cert.FfnUpUpdate0Ideal.τ).loc Cert.FfnUpUpdate0Ideal.main_arg2)
      ∧ m' ((c.tc : Thread Cert.FfnUpUpdate0ReferenceIdeal.nD Cert.FfnUpUpdate0ReferenceIdeal.τ).loc Cert.FfnUpUpdate0ReferenceIdeal.main_arg3) = m ((c.tc : Thread Cert.FfnUpUpdate0Ideal.nD Cert.FfnUpUpdate0Ideal.τ).loc Cert.FfnUpUpdate0Ideal.main_arg3)
      ∧ m' ((c.tc : Thread Cert.FfnUpUpdate0ReferenceIdeal.nD Cert.FfnUpUpdate0ReferenceIdeal.τ).loc Cert.FfnUpUpdate0ReferenceIdeal.main_arg4) = m ((c.tc : Thread Cert.FfnUpUpdate0Ideal.nD Cert.FfnUpUpdate0Ideal.τ).loc Cert.FfnUpUpdate0Ideal.main_arg4)
      ∧ m' ((c.tc : Thread Cert.FfnUpUpdate0ReferenceIdeal.nD Cert.FfnUpUpdate0ReferenceIdeal.τ).loc Cert.FfnUpUpdate0ReferenceIdeal.main_arg5) = m ((c.tc : Thread Cert.FfnUpUpdate0Ideal.nD Cert.FfnUpUpdate0Ideal.τ).loc Cert.FfnUpUpdate0Ideal.main_arg5)
      ∧ m' ((c.tc : Thread Cert.FfnUpUpdate0ReferenceIdeal.nD Cert.FfnUpUpdate0ReferenceIdeal.τ).loc Cert.FfnUpUpdate0ReferenceIdeal.main_arg6) = m ((c.tc : Thread Cert.FfnUpUpdate0Ideal.nD Cert.FfnUpUpdate0Ideal.τ).loc Cert.FfnUpUpdate0Ideal.main_arg6)
      ∧ m' ((c.tc : Thread Cert.FfnUpUpdate0ReferenceIdeal.nD Cert.FfnUpUpdate0ReferenceIdeal.τ).loc Cert.FfnUpUpdate0ReferenceIdeal.main_arg7) = m ((c.tc : Thread Cert.FfnUpUpdate0Ideal.nD Cert.FfnUpUpdate0Ideal.τ).loc Cert.FfnUpUpdate0Ideal.main_arg7)
      ∧ m' ((c.tc : Thread Cert.FfnUpUpdate0ReferenceIdeal.nD Cert.FfnUpUpdate0ReferenceIdeal.τ).loc Cert.FfnUpUpdate0ReferenceIdeal.main_arg8) = m ((c.tc : Thread Cert.FfnUpUpdate0Ideal.nD Cert.FfnUpUpdate0Ideal.τ).loc Cert.FfnUpUpdate0Ideal.main_arg8)) →
    ∃ (v0 : (c : Dev Cert.FfnUpUpdate0Ideal.nD) → Buf (Elt Ideal) ((c.tc : Thread Cert.FfnUpUpdate0Ideal.nD Cert.FfnUpUpdate0Ideal.τ).loc Cert.FfnUpUpdate0Ideal.main_v1_0)) (v1 : (c : Dev Cert.FfnUpUpdate0Ideal.nD) → Buf (Elt Ideal) ((c.tc : Thread Cert.FfnUpUpdate0Ideal.nD Cert.FfnUpUpdate0Ideal.τ).loc Cert.FfnUpUpdate0Ideal.main_v1_1)) (v2 : (c : Dev Cert.FfnUpUpdate0Ideal.nD) → Buf (Elt Ideal) ((c.tc : Thread Cert.FfnUpUpdate0Ideal.nD Cert.FfnUpUpdate0Ideal.τ).loc Cert.FfnUpUpdate0Ideal.main_v1_2)) (v3 : (c : Dev Cert.FfnUpUpdate0Ideal.nD) → Buf (Elt Ideal) ((c.tc : Thread Cert.FfnUpUpdate0Ideal.nD Cert.FfnUpUpdate0Ideal.τ).loc Cert.FfnUpUpdate0Ideal.main_v1_3)),
      θ_run (Cert.FfnUpUpdate0Ideal.defs (F := Ideal)) (onTc (τ := Cert.FfnUpUpdate0Ideal.τ) (Cert.FfnUpUpdate0Ideal.main (F := Ideal))) ⟨m, fun _ => 0, g⟩ (fun r => ∀ c : Dev Cert.FfnUpUpdate0Ideal.nD,
          r.2.mem ((c.tc : Thread Cert.FfnUpUpdate0Ideal.nD Cert.FfnUpUpdate0Ideal.τ).loc Cert.FfnUpUpdate0Ideal.main_v1_0) = v0 c
          ∧ r.2.mem ((c.tc : Thread Cert.FfnUpUpdate0Ideal.nD Cert.FfnUpUpdate0Ideal.τ).loc Cert.FfnUpUpdate0Ideal.main_v1_1) = v1 c
          ∧ r.2.mem ((c.tc : Thread Cert.FfnUpUpdate0Ideal.nD Cert.FfnUpUpdate0Ideal.τ).loc Cert.FfnUpUpdate0Ideal.main_v1_2) = v2 c
          ∧ r.2.mem ((c.tc : Thread Cert.FfnUpUpdate0Ideal.nD Cert.FfnUpUpdate0Ideal.τ).loc Cert.FfnUpUpdate0Ideal.main_v1_3) = v3 c
          ∧ r.2.mem ((c.tc : Thread Cert.FfnUpUpdate0Ideal.nD Cert.FfnUpUpdate0Ideal.τ).loc Cert.FfnUpUpdate0Ideal.main_arg0) = m ((c.tc : Thread Cert.FfnUpUpdate0Ideal.nD Cert.FfnUpUpdate0Ideal.τ).loc Cert.FfnUpUpdate0Ideal.main_arg0)
          ∧ r.2.mem ((c.tc : Thread Cert.FfnUpUpdate0Ideal.nD Cert.FfnUpUpdate0Ideal.τ).loc Cert.FfnUpUpdate0Ideal.main_arg1) = m ((c.tc : Thread Cert.FfnUpUpdate0Ideal.nD Cert.FfnUpUpdate0Ideal.τ).loc Cert.FfnUpUpdate0Ideal.main_arg1)
          ∧ r.2.mem ((c.tc : Thread Cert.FfnUpUpdate0Ideal.nD Cert.FfnUpUpdate0Ideal.τ).loc Cert.FfnUpUpdate0Ideal.main_arg2) = m ((c.tc : Thread Cert.FfnUpUpdate0Ideal.nD Cert.FfnUpUpdate0Ideal.τ).loc Cert.FfnUpUpdate0Ideal.main_arg2)
          ∧ r.2.mem ((c.tc : Thread Cert.FfnUpUpdate0Ideal.nD Cert.FfnUpUpdate0Ideal.τ).loc Cert.FfnUpUpdate0Ideal.main_arg3) = m ((c.tc : Thread Cert.FfnUpUpdate0Ideal.nD Cert.FfnUpUpdate0Ideal.τ).loc Cert.FfnUpUpdate0Ideal.main_arg3)
          ∧ r.2.mem ((c.tc : Thread Cert.FfnUpUpdate0Ideal.nD Cert.FfnUpUpdate0Ideal.τ).loc Cert.FfnUpUpdate0Ideal.main_arg4) = m ((c.tc : Thread Cert.FfnUpUpdate0Ideal.nD Cert.FfnUpUpdate0Ideal.τ).loc Cert.FfnUpUpdate0Ideal.main_arg4)
          ∧ r.2.mem ((c.tc : Thread Cert.FfnUpUpdate0Ideal.nD Cert.FfnUpUpdate0Ideal.τ).loc Cert.FfnUpUpdate0Ideal.main_arg5) = m ((c.tc : Thread Cert.FfnUpUpdate0Ideal.nD Cert.FfnUpUpdate0Ideal.τ).loc Cert.FfnUpUpdate0Ideal.main_arg5)
          ∧ r.2.mem ((c.tc : Thread Cert.FfnUpUpdate0Ideal.nD Cert.FfnUpUpdate0Ideal.τ).loc Cert.FfnUpUpdate0Ideal.main_arg6) = m ((c.tc : Thread Cert.FfnUpUpdate0Ideal.nD Cert.FfnUpUpdate0Ideal.τ).loc Cert.FfnUpUpdate0Ideal.main_arg6)
          ∧ r.2.mem ((c.tc : Thread Cert.FfnUpUpdate0Ideal.nD Cert.FfnUpUpdate0Ideal.τ).loc Cert.FfnUpUpdate0Ideal.main_arg7) = m ((c.tc : Thread Cert.FfnUpUpdate0Ideal.nD Cert.FfnUpUpdate0Ideal.τ).loc Cert.FfnUpUpdate0Ideal.main_arg7)
          ∧ r.2.mem ((c.tc : Thread Cert.FfnUpUpdate0Ideal.nD Cert.FfnUpUpdate0Ideal.τ).loc Cert.FfnUpUpdate0Ideal.main_arg8) = m ((c.tc : Thread Cert.FfnUpUpdate0Ideal.nD Cert.FfnUpUpdate0Ideal.τ).loc Cert.FfnUpUpdate0Ideal.main_arg8))
      ∧ θ_run (Cert.FfnUpUpdate0ReferenceIdeal.defs (F := Ideal)) (onTc (τ := Cert.FfnUpUpdate0ReferenceIdeal.τ) (Cert.FfnUpUpdate0ReferenceIdeal.main (F := Ideal))) ⟨m', fun _ => 0, g'⟩ (fun r => ∀ c : Dev Cert.FfnUpUpdate0ReferenceIdeal.nD,
          r.2.mem ((c.tc : Thread Cert.FfnUpUpdate0ReferenceIdeal.nD Cert.FfnUpUpdate0ReferenceIdeal.τ).loc Cert.FfnUpUpdate0ReferenceIdeal.main_v0_0) = v0 c
          ∧ r.2.mem ((c.tc : Thread Cert.FfnUpUpdate0ReferenceIdeal.nD Cert.FfnUpUpdate0ReferenceIdeal.τ).loc Cert.FfnUpUpdate0ReferenceIdeal.main_v0_1) = v1 c
          ∧ r.2.mem ((c.tc : Thread Cert.FfnUpUpdate0ReferenceIdeal.nD Cert.FfnUpUpdate0ReferenceIdeal.τ).loc Cert.FfnUpUpdate0ReferenceIdeal.main_v0_2) = v2 c
          ∧ r.2.mem ((c.tc : Thread Cert.FfnUpUpdate0ReferenceIdeal.nD Cert.FfnUpUpdate0ReferenceIdeal.τ).loc Cert.FfnUpUpdate0ReferenceIdeal.main_v0_3) = v3 c
          ∧ r.2.mem ((c.tc : Thread Cert.FfnUpUpdate0ReferenceIdeal.nD Cert.FfnUpUpdate0ReferenceIdeal.τ).loc Cert.FfnUpUpdate0ReferenceIdeal.main_arg0) = m' ((c.tc : Thread Cert.FfnUpUpdate0ReferenceIdeal.nD Cert.FfnUpUpdate0ReferenceIdeal.τ).loc Cert.FfnUpUpdate0ReferenceIdeal.main_arg0)
          ∧ r.2.mem ((c.tc : Thread Cert.FfnUpUpdate0ReferenceIdeal.nD Cert.FfnUpUpdate0ReferenceIdeal.τ).loc Cert.FfnUpUpdate0ReferenceIdeal.main_arg1) = m' ((c.tc : Thread Cert.FfnUpUpdate0ReferenceIdeal.nD Cert.FfnUpUpdate0ReferenceIdeal.τ).loc Cert.FfnUpUpdate0ReferenceIdeal.main_arg1)
          ∧ r.2.mem ((c.tc : Thread Cert.FfnUpUpdate0ReferenceIdeal.nD Cert.FfnUpUpdate0ReferenceIdeal.τ).loc Cert.FfnUpUpdate0ReferenceIdeal.main_arg2) = m' ((c.tc : Thread Cert.FfnUpUpdate0ReferenceIdeal.nD Cert.FfnUpUpdate0ReferenceIdeal.τ).loc Cert.FfnUpUpdate0ReferenceIdeal.main_arg2)
          ∧ r.2.mem ((c.tc : Thread Cert.FfnUpUpdate0ReferenceIdeal.nD Cert.FfnUpUpdate0ReferenceIdeal.τ).loc Cert.FfnUpUpdate0ReferenceIdeal.main_arg3) = m' ((c.tc : Thread Cert.FfnUpUpdate0ReferenceIdeal.nD Cert.FfnUpUpdate0ReferenceIdeal.τ).loc Cert.FfnUpUpdate0ReferenceIdeal.main_arg3)
          ∧ r.2.mem ((c.tc : Thread Cert.FfnUpUpdate0ReferenceIdeal.nD Cert.FfnUpUpdate0ReferenceIdeal.τ).loc Cert.FfnUpUpdate0ReferenceIdeal.main_arg4) = m' ((c.tc : Thread Cert.FfnUpUpdate0ReferenceIdeal.nD Cert.FfnUpUpdate0ReferenceIdeal.τ).loc Cert.FfnUpUpdate0ReferenceIdeal.main_arg4)
          ∧ r.2.mem ((c.tc : Thread Cert.FfnUpUpdate0ReferenceIdeal.nD Cert.FfnUpUpdate0ReferenceIdeal.τ).loc Cert.FfnUpUpdate0ReferenceIdeal.main_arg5) = m' ((c.tc : Thread Cert.FfnUpUpdate0ReferenceIdeal.nD Cert.FfnUpUpdate0ReferenceIdeal.τ).loc Cert.FfnUpUpdate0ReferenceIdeal.main_arg5)
          ∧ r.2.mem ((c.tc : Thread Cert.FfnUpUpdate0ReferenceIdeal.nD Cert.FfnUpUpdate0ReferenceIdeal.τ).loc Cert.FfnUpUpdate0ReferenceIdeal.main_arg6) = m' ((c.tc : Thread Cert.FfnUpUpdate0ReferenceIdeal.nD Cert.FfnUpUpdate0ReferenceIdeal.τ).loc Cert.FfnUpUpdate0ReferenceIdeal.main_arg6)
          ∧ r.2.mem ((c.tc : Thread Cert.FfnUpUpdate0ReferenceIdeal.nD Cert.FfnUpUpdate0ReferenceIdeal.τ).loc Cert.FfnUpUpdate0ReferenceIdeal.main_arg7) = m' ((c.tc : Thread Cert.FfnUpUpdate0ReferenceIdeal.nD Cert.FfnUpUpdate0ReferenceIdeal.τ).loc Cert.FfnUpUpdate0ReferenceIdeal.main_arg7)
          ∧ r.2.mem ((c.tc : Thread Cert.FfnUpUpdate0ReferenceIdeal.nD Cert.FfnUpUpdate0ReferenceIdeal.τ).loc Cert.FfnUpUpdate0ReferenceIdeal.main_arg8) = m' ((c.tc : Thread Cert.FfnUpUpdate0ReferenceIdeal.nD Cert.FfnUpUpdate0ReferenceIdeal.τ).loc Cert.FfnUpUpdate0ReferenceIdeal.main_arg8))

def preserves_FfnUpUpdate1_FfnUpUpdate1Ideal : Prop :=
  IdealRules.named_const.Statement Cert.FfnUpUpdate1Ideal.κ "inv_b1" .f32 0x3FC48605#32 (((6513215599 / 10000000000)⁻¹ : ℝ) : EReal)
  ∧ IdealRules.named_const.Statement Cert.FfnUpUpdate1Ideal.κ "inv_b2" .f32 0x42C8E6D3#32 (((9955119790251790119955009999 / 1000000000000000000000000000000)⁻¹ : ℝ) : EReal)

def algebraic_FfnUpUpdate1Ideal_FfnUpUpdate1ReferenceIdeal [hFfnUpUpdate1Ideal : Cert.FfnUpUpdate1Ideal.Facts] [hFfnUpUpdate1ReferenceIdeal : Cert.FfnUpUpdate1ReferenceIdeal.Facts] : Prop :=
  ∀ (m : (ℓ : Loc Cert.FfnUpUpdate1Ideal.nD Cert.FfnUpUpdate1Ideal.τ Cert.FfnUpUpdate1Ideal.sig) → Buf (Elt Ideal) ℓ) (g : Dev Cert.FfnUpUpdate1Ideal.nD → PrngReg)
    (m' : (ℓ : Loc Cert.FfnUpUpdate1ReferenceIdeal.nD Cert.FfnUpUpdate1ReferenceIdeal.τ Cert.FfnUpUpdate1ReferenceIdeal.sig) → Buf (Elt Ideal) ℓ) (g' : Dev Cert.FfnUpUpdate1ReferenceIdeal.nD → PrngReg), Pre_FfnUpUpdate1Ideal m →
    (∀ c : Dev Cert.FfnUpUpdate1Ideal.nD,
      m' ((c.tc : Thread Cert.FfnUpUpdate1ReferenceIdeal.nD Cert.FfnUpUpdate1ReferenceIdeal.τ).loc Cert.FfnUpUpdate1ReferenceIdeal.main_arg0) = m ((c.tc : Thread Cert.FfnUpUpdate1Ideal.nD Cert.FfnUpUpdate1Ideal.τ).loc Cert.FfnUpUpdate1Ideal.main_arg0)
      ∧ m' ((c.tc : Thread Cert.FfnUpUpdate1ReferenceIdeal.nD Cert.FfnUpUpdate1ReferenceIdeal.τ).loc Cert.FfnUpUpdate1ReferenceIdeal.main_arg1) = m ((c.tc : Thread Cert.FfnUpUpdate1Ideal.nD Cert.FfnUpUpdate1Ideal.τ).loc Cert.FfnUpUpdate1Ideal.main_arg1)
      ∧ m' ((c.tc : Thread Cert.FfnUpUpdate1ReferenceIdeal.nD Cert.FfnUpUpdate1ReferenceIdeal.τ).loc Cert.FfnUpUpdate1ReferenceIdeal.main_arg2) = m ((c.tc : Thread Cert.FfnUpUpdate1Ideal.nD Cert.FfnUpUpdate1Ideal.τ).loc Cert.FfnUpUpdate1Ideal.main_arg2)
      ∧ m' ((c.tc : Thread Cert.FfnUpUpdate1ReferenceIdeal.nD Cert.FfnUpUpdate1ReferenceIdeal.τ).loc Cert.FfnUpUpdate1ReferenceIdeal.main_arg3) = m ((c.tc : Thread Cert.FfnUpUpdate1Ideal.nD Cert.FfnUpUpdate1Ideal.τ).loc Cert.FfnUpUpdate1Ideal.main_arg3)
      ∧ m' ((c.tc : Thread Cert.FfnUpUpdate1ReferenceIdeal.nD Cert.FfnUpUpdate1ReferenceIdeal.τ).loc Cert.FfnUpUpdate1ReferenceIdeal.main_arg4) = m ((c.tc : Thread Cert.FfnUpUpdate1Ideal.nD Cert.FfnUpUpdate1Ideal.τ).loc Cert.FfnUpUpdate1Ideal.main_arg4)
      ∧ m' ((c.tc : Thread Cert.FfnUpUpdate1ReferenceIdeal.nD Cert.FfnUpUpdate1ReferenceIdeal.τ).loc Cert.FfnUpUpdate1ReferenceIdeal.main_arg5) = m ((c.tc : Thread Cert.FfnUpUpdate1Ideal.nD Cert.FfnUpUpdate1Ideal.τ).loc Cert.FfnUpUpdate1Ideal.main_arg5)
      ∧ m' ((c.tc : Thread Cert.FfnUpUpdate1ReferenceIdeal.nD Cert.FfnUpUpdate1ReferenceIdeal.τ).loc Cert.FfnUpUpdate1ReferenceIdeal.main_arg6) = m ((c.tc : Thread Cert.FfnUpUpdate1Ideal.nD Cert.FfnUpUpdate1Ideal.τ).loc Cert.FfnUpUpdate1Ideal.main_arg6)
      ∧ m' ((c.tc : Thread Cert.FfnUpUpdate1ReferenceIdeal.nD Cert.FfnUpUpdate1ReferenceIdeal.τ).loc Cert.FfnUpUpdate1ReferenceIdeal.main_arg7) = m ((c.tc : Thread Cert.FfnUpUpdate1Ideal.nD Cert.FfnUpUpdate1Ideal.τ).loc Cert.FfnUpUpdate1Ideal.main_arg7)
      ∧ m' ((c.tc : Thread Cert.FfnUpUpdate1ReferenceIdeal.nD Cert.FfnUpUpdate1ReferenceIdeal.τ).loc Cert.FfnUpUpdate1ReferenceIdeal.main_arg8) = m ((c.tc : Thread Cert.FfnUpUpdate1Ideal.nD Cert.FfnUpUpdate1Ideal.τ).loc Cert.FfnUpUpdate1Ideal.main_arg8)) →
    ∃ (v0 : (c : Dev Cert.FfnUpUpdate1Ideal.nD) → Buf (Elt Ideal) ((c.tc : Thread Cert.FfnUpUpdate1Ideal.nD Cert.FfnUpUpdate1Ideal.τ).loc Cert.FfnUpUpdate1Ideal.main_v1_0)) (v1 : (c : Dev Cert.FfnUpUpdate1Ideal.nD) → Buf (Elt Ideal) ((c.tc : Thread Cert.FfnUpUpdate1Ideal.nD Cert.FfnUpUpdate1Ideal.τ).loc Cert.FfnUpUpdate1Ideal.main_v1_1)) (v2 : (c : Dev Cert.FfnUpUpdate1Ideal.nD) → Buf (Elt Ideal) ((c.tc : Thread Cert.FfnUpUpdate1Ideal.nD Cert.FfnUpUpdate1Ideal.τ).loc Cert.FfnUpUpdate1Ideal.main_v1_2)) (v3 : (c : Dev Cert.FfnUpUpdate1Ideal.nD) → Buf (Elt Ideal) ((c.tc : Thread Cert.FfnUpUpdate1Ideal.nD Cert.FfnUpUpdate1Ideal.τ).loc Cert.FfnUpUpdate1Ideal.main_v1_3)),
      θ_run (Cert.FfnUpUpdate1Ideal.defs (F := Ideal)) (onTc (τ := Cert.FfnUpUpdate1Ideal.τ) (Cert.FfnUpUpdate1Ideal.main (F := Ideal))) ⟨m, fun _ => 0, g⟩ (fun r => ∀ c : Dev Cert.FfnUpUpdate1Ideal.nD,
          r.2.mem ((c.tc : Thread Cert.FfnUpUpdate1Ideal.nD Cert.FfnUpUpdate1Ideal.τ).loc Cert.FfnUpUpdate1Ideal.main_v1_0) = v0 c
          ∧ r.2.mem ((c.tc : Thread Cert.FfnUpUpdate1Ideal.nD Cert.FfnUpUpdate1Ideal.τ).loc Cert.FfnUpUpdate1Ideal.main_v1_1) = v1 c
          ∧ r.2.mem ((c.tc : Thread Cert.FfnUpUpdate1Ideal.nD Cert.FfnUpUpdate1Ideal.τ).loc Cert.FfnUpUpdate1Ideal.main_v1_2) = v2 c
          ∧ r.2.mem ((c.tc : Thread Cert.FfnUpUpdate1Ideal.nD Cert.FfnUpUpdate1Ideal.τ).loc Cert.FfnUpUpdate1Ideal.main_v1_3) = v3 c
          ∧ r.2.mem ((c.tc : Thread Cert.FfnUpUpdate1Ideal.nD Cert.FfnUpUpdate1Ideal.τ).loc Cert.FfnUpUpdate1Ideal.main_arg0) = m ((c.tc : Thread Cert.FfnUpUpdate1Ideal.nD Cert.FfnUpUpdate1Ideal.τ).loc Cert.FfnUpUpdate1Ideal.main_arg0)
          ∧ r.2.mem ((c.tc : Thread Cert.FfnUpUpdate1Ideal.nD Cert.FfnUpUpdate1Ideal.τ).loc Cert.FfnUpUpdate1Ideal.main_arg1) = m ((c.tc : Thread Cert.FfnUpUpdate1Ideal.nD Cert.FfnUpUpdate1Ideal.τ).loc Cert.FfnUpUpdate1Ideal.main_arg1)
          ∧ r.2.mem ((c.tc : Thread Cert.FfnUpUpdate1Ideal.nD Cert.FfnUpUpdate1Ideal.τ).loc Cert.FfnUpUpdate1Ideal.main_arg2) = m ((c.tc : Thread Cert.FfnUpUpdate1Ideal.nD Cert.FfnUpUpdate1Ideal.τ).loc Cert.FfnUpUpdate1Ideal.main_arg2)
          ∧ r.2.mem ((c.tc : Thread Cert.FfnUpUpdate1Ideal.nD Cert.FfnUpUpdate1Ideal.τ).loc Cert.FfnUpUpdate1Ideal.main_arg3) = m ((c.tc : Thread Cert.FfnUpUpdate1Ideal.nD Cert.FfnUpUpdate1Ideal.τ).loc Cert.FfnUpUpdate1Ideal.main_arg3)
          ∧ r.2.mem ((c.tc : Thread Cert.FfnUpUpdate1Ideal.nD Cert.FfnUpUpdate1Ideal.τ).loc Cert.FfnUpUpdate1Ideal.main_arg4) = m ((c.tc : Thread Cert.FfnUpUpdate1Ideal.nD Cert.FfnUpUpdate1Ideal.τ).loc Cert.FfnUpUpdate1Ideal.main_arg4)
          ∧ r.2.mem ((c.tc : Thread Cert.FfnUpUpdate1Ideal.nD Cert.FfnUpUpdate1Ideal.τ).loc Cert.FfnUpUpdate1Ideal.main_arg5) = m ((c.tc : Thread Cert.FfnUpUpdate1Ideal.nD Cert.FfnUpUpdate1Ideal.τ).loc Cert.FfnUpUpdate1Ideal.main_arg5)
          ∧ r.2.mem ((c.tc : Thread Cert.FfnUpUpdate1Ideal.nD Cert.FfnUpUpdate1Ideal.τ).loc Cert.FfnUpUpdate1Ideal.main_arg6) = m ((c.tc : Thread Cert.FfnUpUpdate1Ideal.nD Cert.FfnUpUpdate1Ideal.τ).loc Cert.FfnUpUpdate1Ideal.main_arg6)
          ∧ r.2.mem ((c.tc : Thread Cert.FfnUpUpdate1Ideal.nD Cert.FfnUpUpdate1Ideal.τ).loc Cert.FfnUpUpdate1Ideal.main_arg7) = m ((c.tc : Thread Cert.FfnUpUpdate1Ideal.nD Cert.FfnUpUpdate1Ideal.τ).loc Cert.FfnUpUpdate1Ideal.main_arg7)
          ∧ r.2.mem ((c.tc : Thread Cert.FfnUpUpdate1Ideal.nD Cert.FfnUpUpdate1Ideal.τ).loc Cert.FfnUpUpdate1Ideal.main_arg8) = m ((c.tc : Thread Cert.FfnUpUpdate1Ideal.nD Cert.FfnUpUpdate1Ideal.τ).loc Cert.FfnUpUpdate1Ideal.main_arg8))
      ∧ θ_run (Cert.FfnUpUpdate1ReferenceIdeal.defs (F := Ideal)) (onTc (τ := Cert.FfnUpUpdate1ReferenceIdeal.τ) (Cert.FfnUpUpdate1ReferenceIdeal.main (F := Ideal))) ⟨m', fun _ => 0, g'⟩ (fun r => ∀ c : Dev Cert.FfnUpUpdate1ReferenceIdeal.nD,
          r.2.mem ((c.tc : Thread Cert.FfnUpUpdate1ReferenceIdeal.nD Cert.FfnUpUpdate1ReferenceIdeal.τ).loc Cert.FfnUpUpdate1ReferenceIdeal.main_v0_0) = v0 c
          ∧ r.2.mem ((c.tc : Thread Cert.FfnUpUpdate1ReferenceIdeal.nD Cert.FfnUpUpdate1ReferenceIdeal.τ).loc Cert.FfnUpUpdate1ReferenceIdeal.main_v0_1) = v1 c
          ∧ r.2.mem ((c.tc : Thread Cert.FfnUpUpdate1ReferenceIdeal.nD Cert.FfnUpUpdate1ReferenceIdeal.τ).loc Cert.FfnUpUpdate1ReferenceIdeal.main_v0_2) = v2 c
          ∧ r.2.mem ((c.tc : Thread Cert.FfnUpUpdate1ReferenceIdeal.nD Cert.FfnUpUpdate1ReferenceIdeal.τ).loc Cert.FfnUpUpdate1ReferenceIdeal.main_v0_3) = v3 c
          ∧ r.2.mem ((c.tc : Thread Cert.FfnUpUpdate1ReferenceIdeal.nD Cert.FfnUpUpdate1ReferenceIdeal.τ).loc Cert.FfnUpUpdate1ReferenceIdeal.main_arg0) = m' ((c.tc : Thread Cert.FfnUpUpdate1ReferenceIdeal.nD Cert.FfnUpUpdate1ReferenceIdeal.τ).loc Cert.FfnUpUpdate1ReferenceIdeal.main_arg0)
          ∧ r.2.mem ((c.tc : Thread Cert.FfnUpUpdate1ReferenceIdeal.nD Cert.FfnUpUpdate1ReferenceIdeal.τ).loc Cert.FfnUpUpdate1ReferenceIdeal.main_arg1) = m' ((c.tc : Thread Cert.FfnUpUpdate1ReferenceIdeal.nD Cert.FfnUpUpdate1ReferenceIdeal.τ).loc Cert.FfnUpUpdate1ReferenceIdeal.main_arg1)
          ∧ r.2.mem ((c.tc : Thread Cert.FfnUpUpdate1ReferenceIdeal.nD Cert.FfnUpUpdate1ReferenceIdeal.τ).loc Cert.FfnUpUpdate1ReferenceIdeal.main_arg2) = m' ((c.tc : Thread Cert.FfnUpUpdate1ReferenceIdeal.nD Cert.FfnUpUpdate1ReferenceIdeal.τ).loc Cert.FfnUpUpdate1ReferenceIdeal.main_arg2)
          ∧ r.2.mem ((c.tc : Thread Cert.FfnUpUpdate1ReferenceIdeal.nD Cert.FfnUpUpdate1ReferenceIdeal.τ).loc Cert.FfnUpUpdate1ReferenceIdeal.main_arg3) = m' ((c.tc : Thread Cert.FfnUpUpdate1ReferenceIdeal.nD Cert.FfnUpUpdate1ReferenceIdeal.τ).loc Cert.FfnUpUpdate1ReferenceIdeal.main_arg3)
          ∧ r.2.mem ((c.tc : Thread Cert.FfnUpUpdate1ReferenceIdeal.nD Cert.FfnUpUpdate1ReferenceIdeal.τ).loc Cert.FfnUpUpdate1ReferenceIdeal.main_arg4) = m' ((c.tc : Thread Cert.FfnUpUpdate1ReferenceIdeal.nD Cert.FfnUpUpdate1ReferenceIdeal.τ).loc Cert.FfnUpUpdate1ReferenceIdeal.main_arg4)
          ∧ r.2.mem ((c.tc : Thread Cert.FfnUpUpdate1ReferenceIdeal.nD Cert.FfnUpUpdate1ReferenceIdeal.τ).loc Cert.FfnUpUpdate1ReferenceIdeal.main_arg5) = m' ((c.tc : Thread Cert.FfnUpUpdate1ReferenceIdeal.nD Cert.FfnUpUpdate1ReferenceIdeal.τ).loc Cert.FfnUpUpdate1ReferenceIdeal.main_arg5)
          ∧ r.2.mem ((c.tc : Thread Cert.FfnUpUpdate1ReferenceIdeal.nD Cert.FfnUpUpdate1ReferenceIdeal.τ).loc Cert.FfnUpUpdate1ReferenceIdeal.main_arg6) = m' ((c.tc : Thread Cert.FfnUpUpdate1ReferenceIdeal.nD Cert.FfnUpUpdate1ReferenceIdeal.τ).loc Cert.FfnUpUpdate1ReferenceIdeal.main_arg6)
          ∧ r.2.mem ((c.tc : Thread Cert.FfnUpUpdate1ReferenceIdeal.nD Cert.FfnUpUpdate1ReferenceIdeal.τ).loc Cert.FfnUpUpdate1ReferenceIdeal.main_arg7) = m' ((c.tc : Thread Cert.FfnUpUpdate1ReferenceIdeal.nD Cert.FfnUpUpdate1ReferenceIdeal.τ).loc Cert.FfnUpUpdate1ReferenceIdeal.main_arg7)
          ∧ r.2.mem ((c.tc : Thread Cert.FfnUpUpdate1ReferenceIdeal.nD Cert.FfnUpUpdate1ReferenceIdeal.τ).loc Cert.FfnUpUpdate1ReferenceIdeal.main_arg8) = m' ((c.tc : Thread Cert.FfnUpUpdate1ReferenceIdeal.nD Cert.FfnUpUpdate1ReferenceIdeal.τ).loc Cert.FfnUpUpdate1ReferenceIdeal.main_arg8))

def preserves_FfnUpUpdate2_FfnUpUpdate2Ideal : Prop :=
  IdealRules.named_const.Statement Cert.FfnUpUpdate2Ideal.κ "inv_b1" .f32 0x3FC48605#32 (((6513215599 / 10000000000)⁻¹ : ℝ) : EReal)
  ∧ IdealRules.named_const.Statement Cert.FfnUpUpdate2Ideal.κ "inv_b2" .f32 0x42C8E6D3#32 (((9955119790251790119955009999 / 1000000000000000000000000000000)⁻¹ : ℝ) : EReal)

def algebraic_FfnUpUpdate2Ideal_FfnUpUpdate2ReferenceIdeal [hFfnUpUpdate2Ideal : Cert.FfnUpUpdate2Ideal.Facts] [hFfnUpUpdate2ReferenceIdeal : Cert.FfnUpUpdate2ReferenceIdeal.Facts] : Prop :=
  ∀ (m : (ℓ : Loc Cert.FfnUpUpdate2Ideal.nD Cert.FfnUpUpdate2Ideal.τ Cert.FfnUpUpdate2Ideal.sig) → Buf (Elt Ideal) ℓ) (g : Dev Cert.FfnUpUpdate2Ideal.nD → PrngReg)
    (m' : (ℓ : Loc Cert.FfnUpUpdate2ReferenceIdeal.nD Cert.FfnUpUpdate2ReferenceIdeal.τ Cert.FfnUpUpdate2ReferenceIdeal.sig) → Buf (Elt Ideal) ℓ) (g' : Dev Cert.FfnUpUpdate2ReferenceIdeal.nD → PrngReg), Pre_FfnUpUpdate2Ideal m →
    (∀ c : Dev Cert.FfnUpUpdate2Ideal.nD,
      m' ((c.tc : Thread Cert.FfnUpUpdate2ReferenceIdeal.nD Cert.FfnUpUpdate2ReferenceIdeal.τ).loc Cert.FfnUpUpdate2ReferenceIdeal.main_arg0) = m ((c.tc : Thread Cert.FfnUpUpdate2Ideal.nD Cert.FfnUpUpdate2Ideal.τ).loc Cert.FfnUpUpdate2Ideal.main_arg0)
      ∧ m' ((c.tc : Thread Cert.FfnUpUpdate2ReferenceIdeal.nD Cert.FfnUpUpdate2ReferenceIdeal.τ).loc Cert.FfnUpUpdate2ReferenceIdeal.main_arg1) = m ((c.tc : Thread Cert.FfnUpUpdate2Ideal.nD Cert.FfnUpUpdate2Ideal.τ).loc Cert.FfnUpUpdate2Ideal.main_arg1)
      ∧ m' ((c.tc : Thread Cert.FfnUpUpdate2ReferenceIdeal.nD Cert.FfnUpUpdate2ReferenceIdeal.τ).loc Cert.FfnUpUpdate2ReferenceIdeal.main_arg2) = m ((c.tc : Thread Cert.FfnUpUpdate2Ideal.nD Cert.FfnUpUpdate2Ideal.τ).loc Cert.FfnUpUpdate2Ideal.main_arg2)
      ∧ m' ((c.tc : Thread Cert.FfnUpUpdate2ReferenceIdeal.nD Cert.FfnUpUpdate2ReferenceIdeal.τ).loc Cert.FfnUpUpdate2ReferenceIdeal.main_arg3) = m ((c.tc : Thread Cert.FfnUpUpdate2Ideal.nD Cert.FfnUpUpdate2Ideal.τ).loc Cert.FfnUpUpdate2Ideal.main_arg3)
      ∧ m' ((c.tc : Thread Cert.FfnUpUpdate2ReferenceIdeal.nD Cert.FfnUpUpdate2ReferenceIdeal.τ).loc Cert.FfnUpUpdate2ReferenceIdeal.main_arg4) = m ((c.tc : Thread Cert.FfnUpUpdate2Ideal.nD Cert.FfnUpUpdate2Ideal.τ).loc Cert.FfnUpUpdate2Ideal.main_arg4)
      ∧ m' ((c.tc : Thread Cert.FfnUpUpdate2ReferenceIdeal.nD Cert.FfnUpUpdate2ReferenceIdeal.τ).loc Cert.FfnUpUpdate2ReferenceIdeal.main_arg5) = m ((c.tc : Thread Cert.FfnUpUpdate2Ideal.nD Cert.FfnUpUpdate2Ideal.τ).loc Cert.FfnUpUpdate2Ideal.main_arg5)
      ∧ m' ((c.tc : Thread Cert.FfnUpUpdate2ReferenceIdeal.nD Cert.FfnUpUpdate2ReferenceIdeal.τ).loc Cert.FfnUpUpdate2ReferenceIdeal.main_arg6) = m ((c.tc : Thread Cert.FfnUpUpdate2Ideal.nD Cert.FfnUpUpdate2Ideal.τ).loc Cert.FfnUpUpdate2Ideal.main_arg6)
      ∧ m' ((c.tc : Thread Cert.FfnUpUpdate2ReferenceIdeal.nD Cert.FfnUpUpdate2ReferenceIdeal.τ).loc Cert.FfnUpUpdate2ReferenceIdeal.main_arg7) = m ((c.tc : Thread Cert.FfnUpUpdate2Ideal.nD Cert.FfnUpUpdate2Ideal.τ).loc Cert.FfnUpUpdate2Ideal.main_arg7)
      ∧ m' ((c.tc : Thread Cert.FfnUpUpdate2ReferenceIdeal.nD Cert.FfnUpUpdate2ReferenceIdeal.τ).loc Cert.FfnUpUpdate2ReferenceIdeal.main_arg8) = m ((c.tc : Thread Cert.FfnUpUpdate2Ideal.nD Cert.FfnUpUpdate2Ideal.τ).loc Cert.FfnUpUpdate2Ideal.main_arg8)) →
    ∃ (v0 : (c : Dev Cert.FfnUpUpdate2Ideal.nD) → Buf (Elt Ideal) ((c.tc : Thread Cert.FfnUpUpdate2Ideal.nD Cert.FfnUpUpdate2Ideal.τ).loc Cert.FfnUpUpdate2Ideal.main_v1_0)) (v1 : (c : Dev Cert.FfnUpUpdate2Ideal.nD) → Buf (Elt Ideal) ((c.tc : Thread Cert.FfnUpUpdate2Ideal.nD Cert.FfnUpUpdate2Ideal.τ).loc Cert.FfnUpUpdate2Ideal.main_v1_1)) (v2 : (c : Dev Cert.FfnUpUpdate2Ideal.nD) → Buf (Elt Ideal) ((c.tc : Thread Cert.FfnUpUpdate2Ideal.nD Cert.FfnUpUpdate2Ideal.τ).loc Cert.FfnUpUpdate2Ideal.main_v1_2)) (v3 : (c : Dev Cert.FfnUpUpdate2Ideal.nD) → Buf (Elt Ideal) ((c.tc : Thread Cert.FfnUpUpdate2Ideal.nD Cert.FfnUpUpdate2Ideal.τ).loc Cert.FfnUpUpdate2Ideal.main_v1_3)),
      θ_run (Cert.FfnUpUpdate2Ideal.defs (F := Ideal)) (onTc (τ := Cert.FfnUpUpdate2Ideal.τ) (Cert.FfnUpUpdate2Ideal.main (F := Ideal))) ⟨m, fun _ => 0, g⟩ (fun r => ∀ c : Dev Cert.FfnUpUpdate2Ideal.nD,
          r.2.mem ((c.tc : Thread Cert.FfnUpUpdate2Ideal.nD Cert.FfnUpUpdate2Ideal.τ).loc Cert.FfnUpUpdate2Ideal.main_v1_0) = v0 c
          ∧ r.2.mem ((c.tc : Thread Cert.FfnUpUpdate2Ideal.nD Cert.FfnUpUpdate2Ideal.τ).loc Cert.FfnUpUpdate2Ideal.main_v1_1) = v1 c
          ∧ r.2.mem ((c.tc : Thread Cert.FfnUpUpdate2Ideal.nD Cert.FfnUpUpdate2Ideal.τ).loc Cert.FfnUpUpdate2Ideal.main_v1_2) = v2 c
          ∧ r.2.mem ((c.tc : Thread Cert.FfnUpUpdate2Ideal.nD Cert.FfnUpUpdate2Ideal.τ).loc Cert.FfnUpUpdate2Ideal.main_v1_3) = v3 c
          ∧ r.2.mem ((c.tc : Thread Cert.FfnUpUpdate2Ideal.nD Cert.FfnUpUpdate2Ideal.τ).loc Cert.FfnUpUpdate2Ideal.main_arg0) = m ((c.tc : Thread Cert.FfnUpUpdate2Ideal.nD Cert.FfnUpUpdate2Ideal.τ).loc Cert.FfnUpUpdate2Ideal.main_arg0)
          ∧ r.2.mem ((c.tc : Thread Cert.FfnUpUpdate2Ideal.nD Cert.FfnUpUpdate2Ideal.τ).loc Cert.FfnUpUpdate2Ideal.main_arg1) = m ((c.tc : Thread Cert.FfnUpUpdate2Ideal.nD Cert.FfnUpUpdate2Ideal.τ).loc Cert.FfnUpUpdate2Ideal.main_arg1)
          ∧ r.2.mem ((c.tc : Thread Cert.FfnUpUpdate2Ideal.nD Cert.FfnUpUpdate2Ideal.τ).loc Cert.FfnUpUpdate2Ideal.main_arg2) = m ((c.tc : Thread Cert.FfnUpUpdate2Ideal.nD Cert.FfnUpUpdate2Ideal.τ).loc Cert.FfnUpUpdate2Ideal.main_arg2)
          ∧ r.2.mem ((c.tc : Thread Cert.FfnUpUpdate2Ideal.nD Cert.FfnUpUpdate2Ideal.τ).loc Cert.FfnUpUpdate2Ideal.main_arg3) = m ((c.tc : Thread Cert.FfnUpUpdate2Ideal.nD Cert.FfnUpUpdate2Ideal.τ).loc Cert.FfnUpUpdate2Ideal.main_arg3)
          ∧ r.2.mem ((c.tc : Thread Cert.FfnUpUpdate2Ideal.nD Cert.FfnUpUpdate2Ideal.τ).loc Cert.FfnUpUpdate2Ideal.main_arg4) = m ((c.tc : Thread Cert.FfnUpUpdate2Ideal.nD Cert.FfnUpUpdate2Ideal.τ).loc Cert.FfnUpUpdate2Ideal.main_arg4)
          ∧ r.2.mem ((c.tc : Thread Cert.FfnUpUpdate2Ideal.nD Cert.FfnUpUpdate2Ideal.τ).loc Cert.FfnUpUpdate2Ideal.main_arg5) = m ((c.tc : Thread Cert.FfnUpUpdate2Ideal.nD Cert.FfnUpUpdate2Ideal.τ).loc Cert.FfnUpUpdate2Ideal.main_arg5)
          ∧ r.2.mem ((c.tc : Thread Cert.FfnUpUpdate2Ideal.nD Cert.FfnUpUpdate2Ideal.τ).loc Cert.FfnUpUpdate2Ideal.main_arg6) = m ((c.tc : Thread Cert.FfnUpUpdate2Ideal.nD Cert.FfnUpUpdate2Ideal.τ).loc Cert.FfnUpUpdate2Ideal.main_arg6)
          ∧ r.2.mem ((c.tc : Thread Cert.FfnUpUpdate2Ideal.nD Cert.FfnUpUpdate2Ideal.τ).loc Cert.FfnUpUpdate2Ideal.main_arg7) = m ((c.tc : Thread Cert.FfnUpUpdate2Ideal.nD Cert.FfnUpUpdate2Ideal.τ).loc Cert.FfnUpUpdate2Ideal.main_arg7)
          ∧ r.2.mem ((c.tc : Thread Cert.FfnUpUpdate2Ideal.nD Cert.FfnUpUpdate2Ideal.τ).loc Cert.FfnUpUpdate2Ideal.main_arg8) = m ((c.tc : Thread Cert.FfnUpUpdate2Ideal.nD Cert.FfnUpUpdate2Ideal.τ).loc Cert.FfnUpUpdate2Ideal.main_arg8))
      ∧ θ_run (Cert.FfnUpUpdate2ReferenceIdeal.defs (F := Ideal)) (onTc (τ := Cert.FfnUpUpdate2ReferenceIdeal.τ) (Cert.FfnUpUpdate2ReferenceIdeal.main (F := Ideal))) ⟨m', fun _ => 0, g'⟩ (fun r => ∀ c : Dev Cert.FfnUpUpdate2ReferenceIdeal.nD,
          r.2.mem ((c.tc : Thread Cert.FfnUpUpdate2ReferenceIdeal.nD Cert.FfnUpUpdate2ReferenceIdeal.τ).loc Cert.FfnUpUpdate2ReferenceIdeal.main_v0_0) = v0 c
          ∧ r.2.mem ((c.tc : Thread Cert.FfnUpUpdate2ReferenceIdeal.nD Cert.FfnUpUpdate2ReferenceIdeal.τ).loc Cert.FfnUpUpdate2ReferenceIdeal.main_v0_1) = v1 c
          ∧ r.2.mem ((c.tc : Thread Cert.FfnUpUpdate2ReferenceIdeal.nD Cert.FfnUpUpdate2ReferenceIdeal.τ).loc Cert.FfnUpUpdate2ReferenceIdeal.main_v0_2) = v2 c
          ∧ r.2.mem ((c.tc : Thread Cert.FfnUpUpdate2ReferenceIdeal.nD Cert.FfnUpUpdate2ReferenceIdeal.τ).loc Cert.FfnUpUpdate2ReferenceIdeal.main_v0_3) = v3 c
          ∧ r.2.mem ((c.tc : Thread Cert.FfnUpUpdate2ReferenceIdeal.nD Cert.FfnUpUpdate2ReferenceIdeal.τ).loc Cert.FfnUpUpdate2ReferenceIdeal.main_arg0) = m' ((c.tc : Thread Cert.FfnUpUpdate2ReferenceIdeal.nD Cert.FfnUpUpdate2ReferenceIdeal.τ).loc Cert.FfnUpUpdate2ReferenceIdeal.main_arg0)
          ∧ r.2.mem ((c.tc : Thread Cert.FfnUpUpdate2ReferenceIdeal.nD Cert.FfnUpUpdate2ReferenceIdeal.τ).loc Cert.FfnUpUpdate2ReferenceIdeal.main_arg1) = m' ((c.tc : Thread Cert.FfnUpUpdate2ReferenceIdeal.nD Cert.FfnUpUpdate2ReferenceIdeal.τ).loc Cert.FfnUpUpdate2ReferenceIdeal.main_arg1)
          ∧ r.2.mem ((c.tc : Thread Cert.FfnUpUpdate2ReferenceIdeal.nD Cert.FfnUpUpdate2ReferenceIdeal.τ).loc Cert.FfnUpUpdate2ReferenceIdeal.main_arg2) = m' ((c.tc : Thread Cert.FfnUpUpdate2ReferenceIdeal.nD Cert.FfnUpUpdate2ReferenceIdeal.τ).loc Cert.FfnUpUpdate2ReferenceIdeal.main_arg2)
          ∧ r.2.mem ((c.tc : Thread Cert.FfnUpUpdate2ReferenceIdeal.nD Cert.FfnUpUpdate2ReferenceIdeal.τ).loc Cert.FfnUpUpdate2ReferenceIdeal.main_arg3) = m' ((c.tc : Thread Cert.FfnUpUpdate2ReferenceIdeal.nD Cert.FfnUpUpdate2ReferenceIdeal.τ).loc Cert.FfnUpUpdate2ReferenceIdeal.main_arg3)
          ∧ r.2.mem ((c.tc : Thread Cert.FfnUpUpdate2ReferenceIdeal.nD Cert.FfnUpUpdate2ReferenceIdeal.τ).loc Cert.FfnUpUpdate2ReferenceIdeal.main_arg4) = m' ((c.tc : Thread Cert.FfnUpUpdate2ReferenceIdeal.nD Cert.FfnUpUpdate2ReferenceIdeal.τ).loc Cert.FfnUpUpdate2ReferenceIdeal.main_arg4)
          ∧ r.2.mem ((c.tc : Thread Cert.FfnUpUpdate2ReferenceIdeal.nD Cert.FfnUpUpdate2ReferenceIdeal.τ).loc Cert.FfnUpUpdate2ReferenceIdeal.main_arg5) = m' ((c.tc : Thread Cert.FfnUpUpdate2ReferenceIdeal.nD Cert.FfnUpUpdate2ReferenceIdeal.τ).loc Cert.FfnUpUpdate2ReferenceIdeal.main_arg5)
          ∧ r.2.mem ((c.tc : Thread Cert.FfnUpUpdate2ReferenceIdeal.nD Cert.FfnUpUpdate2ReferenceIdeal.τ).loc Cert.FfnUpUpdate2ReferenceIdeal.main_arg6) = m' ((c.tc : Thread Cert.FfnUpUpdate2ReferenceIdeal.nD Cert.FfnUpUpdate2ReferenceIdeal.τ).loc Cert.FfnUpUpdate2ReferenceIdeal.main_arg6)
          ∧ r.2.mem ((c.tc : Thread Cert.FfnUpUpdate2ReferenceIdeal.nD Cert.FfnUpUpdate2ReferenceIdeal.τ).loc Cert.FfnUpUpdate2ReferenceIdeal.main_arg7) = m' ((c.tc : Thread Cert.FfnUpUpdate2ReferenceIdeal.nD Cert.FfnUpUpdate2ReferenceIdeal.τ).loc Cert.FfnUpUpdate2ReferenceIdeal.main_arg7)
          ∧ r.2.mem ((c.tc : Thread Cert.FfnUpUpdate2ReferenceIdeal.nD Cert.FfnUpUpdate2ReferenceIdeal.τ).loc Cert.FfnUpUpdate2ReferenceIdeal.main_arg8) = m' ((c.tc : Thread Cert.FfnUpUpdate2ReferenceIdeal.nD Cert.FfnUpUpdate2ReferenceIdeal.τ).loc Cert.FfnUpUpdate2ReferenceIdeal.main_arg8))

def preserves_FfnUpUpdate3_FfnUpUpdate3Ideal : Prop :=
  IdealRules.named_const.Statement Cert.FfnUpUpdate3Ideal.κ "inv_b1" .f32 0x3FC48605#32 (((6513215599 / 10000000000)⁻¹ : ℝ) : EReal)
  ∧ IdealRules.named_const.Statement Cert.FfnUpUpdate3Ideal.κ "inv_b2" .f32 0x42C8E6D3#32 (((9955119790251790119955009999 / 1000000000000000000000000000000)⁻¹ : ℝ) : EReal)

def algebraic_FfnUpUpdate3Ideal_FfnUpUpdate3ReferenceIdeal [hFfnUpUpdate3Ideal : Cert.FfnUpUpdate3Ideal.Facts] [hFfnUpUpdate3ReferenceIdeal : Cert.FfnUpUpdate3ReferenceIdeal.Facts] : Prop :=
  ∀ (m : (ℓ : Loc Cert.FfnUpUpdate3Ideal.nD Cert.FfnUpUpdate3Ideal.τ Cert.FfnUpUpdate3Ideal.sig) → Buf (Elt Ideal) ℓ) (g : Dev Cert.FfnUpUpdate3Ideal.nD → PrngReg)
    (m' : (ℓ : Loc Cert.FfnUpUpdate3ReferenceIdeal.nD Cert.FfnUpUpdate3ReferenceIdeal.τ Cert.FfnUpUpdate3ReferenceIdeal.sig) → Buf (Elt Ideal) ℓ) (g' : Dev Cert.FfnUpUpdate3ReferenceIdeal.nD → PrngReg), Pre_FfnUpUpdate3Ideal m →
    (∀ c : Dev Cert.FfnUpUpdate3Ideal.nD,
      m' ((c.tc : Thread Cert.FfnUpUpdate3ReferenceIdeal.nD Cert.FfnUpUpdate3ReferenceIdeal.τ).loc Cert.FfnUpUpdate3ReferenceIdeal.main_arg0) = m ((c.tc : Thread Cert.FfnUpUpdate3Ideal.nD Cert.FfnUpUpdate3Ideal.τ).loc Cert.FfnUpUpdate3Ideal.main_arg0)
      ∧ m' ((c.tc : Thread Cert.FfnUpUpdate3ReferenceIdeal.nD Cert.FfnUpUpdate3ReferenceIdeal.τ).loc Cert.FfnUpUpdate3ReferenceIdeal.main_arg1) = m ((c.tc : Thread Cert.FfnUpUpdate3Ideal.nD Cert.FfnUpUpdate3Ideal.τ).loc Cert.FfnUpUpdate3Ideal.main_arg1)
      ∧ m' ((c.tc : Thread Cert.FfnUpUpdate3ReferenceIdeal.nD Cert.FfnUpUpdate3ReferenceIdeal.τ).loc Cert.FfnUpUpdate3ReferenceIdeal.main_arg2) = m ((c.tc : Thread Cert.FfnUpUpdate3Ideal.nD Cert.FfnUpUpdate3Ideal.τ).loc Cert.FfnUpUpdate3Ideal.main_arg2)
      ∧ m' ((c.tc : Thread Cert.FfnUpUpdate3ReferenceIdeal.nD Cert.FfnUpUpdate3ReferenceIdeal.τ).loc Cert.FfnUpUpdate3ReferenceIdeal.main_arg3) = m ((c.tc : Thread Cert.FfnUpUpdate3Ideal.nD Cert.FfnUpUpdate3Ideal.τ).loc Cert.FfnUpUpdate3Ideal.main_arg3)
      ∧ m' ((c.tc : Thread Cert.FfnUpUpdate3ReferenceIdeal.nD Cert.FfnUpUpdate3ReferenceIdeal.τ).loc Cert.FfnUpUpdate3ReferenceIdeal.main_arg4) = m ((c.tc : Thread Cert.FfnUpUpdate3Ideal.nD Cert.FfnUpUpdate3Ideal.τ).loc Cert.FfnUpUpdate3Ideal.main_arg4)
      ∧ m' ((c.tc : Thread Cert.FfnUpUpdate3ReferenceIdeal.nD Cert.FfnUpUpdate3ReferenceIdeal.τ).loc Cert.FfnUpUpdate3ReferenceIdeal.main_arg5) = m ((c.tc : Thread Cert.FfnUpUpdate3Ideal.nD Cert.FfnUpUpdate3Ideal.τ).loc Cert.FfnUpUpdate3Ideal.main_arg5)
      ∧ m' ((c.tc : Thread Cert.FfnUpUpdate3ReferenceIdeal.nD Cert.FfnUpUpdate3ReferenceIdeal.τ).loc Cert.FfnUpUpdate3ReferenceIdeal.main_arg6) = m ((c.tc : Thread Cert.FfnUpUpdate3Ideal.nD Cert.FfnUpUpdate3Ideal.τ).loc Cert.FfnUpUpdate3Ideal.main_arg6)
      ∧ m' ((c.tc : Thread Cert.FfnUpUpdate3ReferenceIdeal.nD Cert.FfnUpUpdate3ReferenceIdeal.τ).loc Cert.FfnUpUpdate3ReferenceIdeal.main_arg7) = m ((c.tc : Thread Cert.FfnUpUpdate3Ideal.nD Cert.FfnUpUpdate3Ideal.τ).loc Cert.FfnUpUpdate3Ideal.main_arg7)
      ∧ m' ((c.tc : Thread Cert.FfnUpUpdate3ReferenceIdeal.nD Cert.FfnUpUpdate3ReferenceIdeal.τ).loc Cert.FfnUpUpdate3ReferenceIdeal.main_arg8) = m ((c.tc : Thread Cert.FfnUpUpdate3Ideal.nD Cert.FfnUpUpdate3Ideal.τ).loc Cert.FfnUpUpdate3Ideal.main_arg8)) →
    ∃ (v0 : (c : Dev Cert.FfnUpUpdate3Ideal.nD) → Buf (Elt Ideal) ((c.tc : Thread Cert.FfnUpUpdate3Ideal.nD Cert.FfnUpUpdate3Ideal.τ).loc Cert.FfnUpUpdate3Ideal.main_v1_0)) (v1 : (c : Dev Cert.FfnUpUpdate3Ideal.nD) → Buf (Elt Ideal) ((c.tc : Thread Cert.FfnUpUpdate3Ideal.nD Cert.FfnUpUpdate3Ideal.τ).loc Cert.FfnUpUpdate3Ideal.main_v1_1)) (v2 : (c : Dev Cert.FfnUpUpdate3Ideal.nD) → Buf (Elt Ideal) ((c.tc : Thread Cert.FfnUpUpdate3Ideal.nD Cert.FfnUpUpdate3Ideal.τ).loc Cert.FfnUpUpdate3Ideal.main_v1_2)) (v3 : (c : Dev Cert.FfnUpUpdate3Ideal.nD) → Buf (Elt Ideal) ((c.tc : Thread Cert.FfnUpUpdate3Ideal.nD Cert.FfnUpUpdate3Ideal.τ).loc Cert.FfnUpUpdate3Ideal.main_v1_3)),
      θ_run (Cert.FfnUpUpdate3Ideal.defs (F := Ideal)) (onTc (τ := Cert.FfnUpUpdate3Ideal.τ) (Cert.FfnUpUpdate3Ideal.main (F := Ideal))) ⟨m, fun _ => 0, g⟩ (fun r => ∀ c : Dev Cert.FfnUpUpdate3Ideal.nD,
          r.2.mem ((c.tc : Thread Cert.FfnUpUpdate3Ideal.nD Cert.FfnUpUpdate3Ideal.τ).loc Cert.FfnUpUpdate3Ideal.main_v1_0) = v0 c
          ∧ r.2.mem ((c.tc : Thread Cert.FfnUpUpdate3Ideal.nD Cert.FfnUpUpdate3Ideal.τ).loc Cert.FfnUpUpdate3Ideal.main_v1_1) = v1 c
          ∧ r.2.mem ((c.tc : Thread Cert.FfnUpUpdate3Ideal.nD Cert.FfnUpUpdate3Ideal.τ).loc Cert.FfnUpUpdate3Ideal.main_v1_2) = v2 c
          ∧ r.2.mem ((c.tc : Thread Cert.FfnUpUpdate3Ideal.nD Cert.FfnUpUpdate3Ideal.τ).loc Cert.FfnUpUpdate3Ideal.main_v1_3) = v3 c
          ∧ r.2.mem ((c.tc : Thread Cert.FfnUpUpdate3Ideal.nD Cert.FfnUpUpdate3Ideal.τ).loc Cert.FfnUpUpdate3Ideal.main_arg0) = m ((c.tc : Thread Cert.FfnUpUpdate3Ideal.nD Cert.FfnUpUpdate3Ideal.τ).loc Cert.FfnUpUpdate3Ideal.main_arg0)
          ∧ r.2.mem ((c.tc : Thread Cert.FfnUpUpdate3Ideal.nD Cert.FfnUpUpdate3Ideal.τ).loc Cert.FfnUpUpdate3Ideal.main_arg1) = m ((c.tc : Thread Cert.FfnUpUpdate3Ideal.nD Cert.FfnUpUpdate3Ideal.τ).loc Cert.FfnUpUpdate3Ideal.main_arg1)
          ∧ r.2.mem ((c.tc : Thread Cert.FfnUpUpdate3Ideal.nD Cert.FfnUpUpdate3Ideal.τ).loc Cert.FfnUpUpdate3Ideal.main_arg2) = m ((c.tc : Thread Cert.FfnUpUpdate3Ideal.nD Cert.FfnUpUpdate3Ideal.τ).loc Cert.FfnUpUpdate3Ideal.main_arg2)
          ∧ r.2.mem ((c.tc : Thread Cert.FfnUpUpdate3Ideal.nD Cert.FfnUpUpdate3Ideal.τ).loc Cert.FfnUpUpdate3Ideal.main_arg3) = m ((c.tc : Thread Cert.FfnUpUpdate3Ideal.nD Cert.FfnUpUpdate3Ideal.τ).loc Cert.FfnUpUpdate3Ideal.main_arg3)
          ∧ r.2.mem ((c.tc : Thread Cert.FfnUpUpdate3Ideal.nD Cert.FfnUpUpdate3Ideal.τ).loc Cert.FfnUpUpdate3Ideal.main_arg4) = m ((c.tc : Thread Cert.FfnUpUpdate3Ideal.nD Cert.FfnUpUpdate3Ideal.τ).loc Cert.FfnUpUpdate3Ideal.main_arg4)
          ∧ r.2.mem ((c.tc : Thread Cert.FfnUpUpdate3Ideal.nD Cert.FfnUpUpdate3Ideal.τ).loc Cert.FfnUpUpdate3Ideal.main_arg5) = m ((c.tc : Thread Cert.FfnUpUpdate3Ideal.nD Cert.FfnUpUpdate3Ideal.τ).loc Cert.FfnUpUpdate3Ideal.main_arg5)
          ∧ r.2.mem ((c.tc : Thread Cert.FfnUpUpdate3Ideal.nD Cert.FfnUpUpdate3Ideal.τ).loc Cert.FfnUpUpdate3Ideal.main_arg6) = m ((c.tc : Thread Cert.FfnUpUpdate3Ideal.nD Cert.FfnUpUpdate3Ideal.τ).loc Cert.FfnUpUpdate3Ideal.main_arg6)
          ∧ r.2.mem ((c.tc : Thread Cert.FfnUpUpdate3Ideal.nD Cert.FfnUpUpdate3Ideal.τ).loc Cert.FfnUpUpdate3Ideal.main_arg7) = m ((c.tc : Thread Cert.FfnUpUpdate3Ideal.nD Cert.FfnUpUpdate3Ideal.τ).loc Cert.FfnUpUpdate3Ideal.main_arg7)
          ∧ r.2.mem ((c.tc : Thread Cert.FfnUpUpdate3Ideal.nD Cert.FfnUpUpdate3Ideal.τ).loc Cert.FfnUpUpdate3Ideal.main_arg8) = m ((c.tc : Thread Cert.FfnUpUpdate3Ideal.nD Cert.FfnUpUpdate3Ideal.τ).loc Cert.FfnUpUpdate3Ideal.main_arg8))
      ∧ θ_run (Cert.FfnUpUpdate3ReferenceIdeal.defs (F := Ideal)) (onTc (τ := Cert.FfnUpUpdate3ReferenceIdeal.τ) (Cert.FfnUpUpdate3ReferenceIdeal.main (F := Ideal))) ⟨m', fun _ => 0, g'⟩ (fun r => ∀ c : Dev Cert.FfnUpUpdate3ReferenceIdeal.nD,
          r.2.mem ((c.tc : Thread Cert.FfnUpUpdate3ReferenceIdeal.nD Cert.FfnUpUpdate3ReferenceIdeal.τ).loc Cert.FfnUpUpdate3ReferenceIdeal.main_v0_0) = v0 c
          ∧ r.2.mem ((c.tc : Thread Cert.FfnUpUpdate3ReferenceIdeal.nD Cert.FfnUpUpdate3ReferenceIdeal.τ).loc Cert.FfnUpUpdate3ReferenceIdeal.main_v0_1) = v1 c
          ∧ r.2.mem ((c.tc : Thread Cert.FfnUpUpdate3ReferenceIdeal.nD Cert.FfnUpUpdate3ReferenceIdeal.τ).loc Cert.FfnUpUpdate3ReferenceIdeal.main_v0_2) = v2 c
          ∧ r.2.mem ((c.tc : Thread Cert.FfnUpUpdate3ReferenceIdeal.nD Cert.FfnUpUpdate3ReferenceIdeal.τ).loc Cert.FfnUpUpdate3ReferenceIdeal.main_v0_3) = v3 c
          ∧ r.2.mem ((c.tc : Thread Cert.FfnUpUpdate3ReferenceIdeal.nD Cert.FfnUpUpdate3ReferenceIdeal.τ).loc Cert.FfnUpUpdate3ReferenceIdeal.main_arg0) = m' ((c.tc : Thread Cert.FfnUpUpdate3ReferenceIdeal.nD Cert.FfnUpUpdate3ReferenceIdeal.τ).loc Cert.FfnUpUpdate3ReferenceIdeal.main_arg0)
          ∧ r.2.mem ((c.tc : Thread Cert.FfnUpUpdate3ReferenceIdeal.nD Cert.FfnUpUpdate3ReferenceIdeal.τ).loc Cert.FfnUpUpdate3ReferenceIdeal.main_arg1) = m' ((c.tc : Thread Cert.FfnUpUpdate3ReferenceIdeal.nD Cert.FfnUpUpdate3ReferenceIdeal.τ).loc Cert.FfnUpUpdate3ReferenceIdeal.main_arg1)
          ∧ r.2.mem ((c.tc : Thread Cert.FfnUpUpdate3ReferenceIdeal.nD Cert.FfnUpUpdate3ReferenceIdeal.τ).loc Cert.FfnUpUpdate3ReferenceIdeal.main_arg2) = m' ((c.tc : Thread Cert.FfnUpUpdate3ReferenceIdeal.nD Cert.FfnUpUpdate3ReferenceIdeal.τ).loc Cert.FfnUpUpdate3ReferenceIdeal.main_arg2)
          ∧ r.2.mem ((c.tc : Thread Cert.FfnUpUpdate3ReferenceIdeal.nD Cert.FfnUpUpdate3ReferenceIdeal.τ).loc Cert.FfnUpUpdate3ReferenceIdeal.main_arg3) = m' ((c.tc : Thread Cert.FfnUpUpdate3ReferenceIdeal.nD Cert.FfnUpUpdate3ReferenceIdeal.τ).loc Cert.FfnUpUpdate3ReferenceIdeal.main_arg3)
          ∧ r.2.mem ((c.tc : Thread Cert.FfnUpUpdate3ReferenceIdeal.nD Cert.FfnUpUpdate3ReferenceIdeal.τ).loc Cert.FfnUpUpdate3ReferenceIdeal.main_arg4) = m' ((c.tc : Thread Cert.FfnUpUpdate3ReferenceIdeal.nD Cert.FfnUpUpdate3ReferenceIdeal.τ).loc Cert.FfnUpUpdate3ReferenceIdeal.main_arg4)
          ∧ r.2.mem ((c.tc : Thread Cert.FfnUpUpdate3ReferenceIdeal.nD Cert.FfnUpUpdate3ReferenceIdeal.τ).loc Cert.FfnUpUpdate3ReferenceIdeal.main_arg5) = m' ((c.tc : Thread Cert.FfnUpUpdate3ReferenceIdeal.nD Cert.FfnUpUpdate3ReferenceIdeal.τ).loc Cert.FfnUpUpdate3ReferenceIdeal.main_arg5)
          ∧ r.2.mem ((c.tc : Thread Cert.FfnUpUpdate3ReferenceIdeal.nD Cert.FfnUpUpdate3ReferenceIdeal.τ).loc Cert.FfnUpUpdate3ReferenceIdeal.main_arg6) = m' ((c.tc : Thread Cert.FfnUpUpdate3ReferenceIdeal.nD Cert.FfnUpUpdate3ReferenceIdeal.τ).loc Cert.FfnUpUpdate3ReferenceIdeal.main_arg6)
          ∧ r.2.mem ((c.tc : Thread Cert.FfnUpUpdate3ReferenceIdeal.nD Cert.FfnUpUpdate3ReferenceIdeal.τ).loc Cert.FfnUpUpdate3ReferenceIdeal.main_arg7) = m' ((c.tc : Thread Cert.FfnUpUpdate3ReferenceIdeal.nD Cert.FfnUpUpdate3ReferenceIdeal.τ).loc Cert.FfnUpUpdate3ReferenceIdeal.main_arg7)
          ∧ r.2.mem ((c.tc : Thread Cert.FfnUpUpdate3ReferenceIdeal.nD Cert.FfnUpUpdate3ReferenceIdeal.τ).loc Cert.FfnUpUpdate3ReferenceIdeal.main_arg8) = m' ((c.tc : Thread Cert.FfnUpUpdate3ReferenceIdeal.nD Cert.FfnUpUpdate3ReferenceIdeal.τ).loc Cert.FfnUpUpdate3ReferenceIdeal.main_arg8))

def preserves_FfnDownUpdate0_FfnDownUpdate0Ideal : Prop :=
  IdealRules.named_const.Statement Cert.FfnDownUpdate0Ideal.κ "inv_b1" .f32 0x3FC48605#32 (((6513215599 / 10000000000)⁻¹ : ℝ) : EReal)
  ∧ IdealRules.named_const.Statement Cert.FfnDownUpdate0Ideal.κ "inv_b2" .f32 0x42C8E6D3#32 (((9955119790251790119955009999 / 1000000000000000000000000000000)⁻¹ : ℝ) : EReal)

def algebraic_FfnDownUpdate0Ideal_FfnDownUpdate0ReferenceIdeal [hFfnDownUpdate0Ideal : Cert.FfnDownUpdate0Ideal.Facts] [hFfnDownUpdate0ReferenceIdeal : Cert.FfnDownUpdate0ReferenceIdeal.Facts] : Prop :=
  ∀ (m : (ℓ : Loc Cert.FfnDownUpdate0Ideal.nD Cert.FfnDownUpdate0Ideal.τ Cert.FfnDownUpdate0Ideal.sig) → Buf (Elt Ideal) ℓ) (g : Dev Cert.FfnDownUpdate0Ideal.nD → PrngReg)
    (m' : (ℓ : Loc Cert.FfnDownUpdate0ReferenceIdeal.nD Cert.FfnDownUpdate0ReferenceIdeal.τ Cert.FfnDownUpdate0ReferenceIdeal.sig) → Buf (Elt Ideal) ℓ) (g' : Dev Cert.FfnDownUpdate0ReferenceIdeal.nD → PrngReg), Pre_FfnDownUpdate0Ideal m →
    (∀ c : Dev Cert.FfnDownUpdate0Ideal.nD,
      m' ((c.tc : Thread Cert.FfnDownUpdate0ReferenceIdeal.nD Cert.FfnDownUpdate0ReferenceIdeal.τ).loc Cert.FfnDownUpdate0ReferenceIdeal.main_arg0) = m ((c.tc : Thread Cert.FfnDownUpdate0Ideal.nD Cert.FfnDownUpdate0Ideal.τ).loc Cert.FfnDownUpdate0Ideal.main_arg0)
      ∧ m' ((c.tc : Thread Cert.FfnDownUpdate0ReferenceIdeal.nD Cert.FfnDownUpdate0ReferenceIdeal.τ).loc Cert.FfnDownUpdate0ReferenceIdeal.main_arg1) = m ((c.tc : Thread Cert.FfnDownUpdate0Ideal.nD Cert.FfnDownUpdate0Ideal.τ).loc Cert.FfnDownUpdate0Ideal.main_arg1)
      ∧ m' ((c.tc : Thread Cert.FfnDownUpdate0ReferenceIdeal.nD Cert.FfnDownUpdate0ReferenceIdeal.τ).loc Cert.FfnDownUpdate0ReferenceIdeal.main_arg2) = m ((c.tc : Thread Cert.FfnDownUpdate0Ideal.nD Cert.FfnDownUpdate0Ideal.τ).loc Cert.FfnDownUpdate0Ideal.main_arg2)
      ∧ m' ((c.tc : Thread Cert.FfnDownUpdate0ReferenceIdeal.nD Cert.FfnDownUpdate0ReferenceIdeal.τ).loc Cert.FfnDownUpdate0ReferenceIdeal.main_arg3) = m ((c.tc : Thread Cert.FfnDownUpdate0Ideal.nD Cert.FfnDownUpdate0Ideal.τ).loc Cert.FfnDownUpdate0Ideal.main_arg3)
      ∧ m' ((c.tc : Thread Cert.FfnDownUpdate0ReferenceIdeal.nD Cert.FfnDownUpdate0ReferenceIdeal.τ).loc Cert.FfnDownUpdate0ReferenceIdeal.main_arg4) = m ((c.tc : Thread Cert.FfnDownUpdate0Ideal.nD Cert.FfnDownUpdate0Ideal.τ).loc Cert.FfnDownUpdate0Ideal.main_arg4)
      ∧ m' ((c.tc : Thread Cert.FfnDownUpdate0ReferenceIdeal.nD Cert.FfnDownUpdate0ReferenceIdeal.τ).loc Cert.FfnDownUpdate0ReferenceIdeal.main_arg5) = m ((c.tc : Thread Cert.FfnDownUpdate0Ideal.nD Cert.FfnDownUpdate0Ideal.τ).loc Cert.FfnDownUpdate0Ideal.main_arg5)
      ∧ m' ((c.tc : Thread Cert.FfnDownUpdate0ReferenceIdeal.nD Cert.FfnDownUpdate0ReferenceIdeal.τ).loc Cert.FfnDownUpdate0ReferenceIdeal.main_arg6) = m ((c.tc : Thread Cert.FfnDownUpdate0Ideal.nD Cert.FfnDownUpdate0Ideal.τ).loc Cert.FfnDownUpdate0Ideal.main_arg6)
      ∧ m' ((c.tc : Thread Cert.FfnDownUpdate0ReferenceIdeal.nD Cert.FfnDownUpdate0ReferenceIdeal.τ).loc Cert.FfnDownUpdate0ReferenceIdeal.main_arg7) = m ((c.tc : Thread Cert.FfnDownUpdate0Ideal.nD Cert.FfnDownUpdate0Ideal.τ).loc Cert.FfnDownUpdate0Ideal.main_arg7)
      ∧ m' ((c.tc : Thread Cert.FfnDownUpdate0ReferenceIdeal.nD Cert.FfnDownUpdate0ReferenceIdeal.τ).loc Cert.FfnDownUpdate0ReferenceIdeal.main_arg8) = m ((c.tc : Thread Cert.FfnDownUpdate0Ideal.nD Cert.FfnDownUpdate0Ideal.τ).loc Cert.FfnDownUpdate0Ideal.main_arg8)) →
    ∃ (v0 : (c : Dev Cert.FfnDownUpdate0Ideal.nD) → Buf (Elt Ideal) ((c.tc : Thread Cert.FfnDownUpdate0Ideal.nD Cert.FfnDownUpdate0Ideal.τ).loc Cert.FfnDownUpdate0Ideal.main_v1_0)) (v1 : (c : Dev Cert.FfnDownUpdate0Ideal.nD) → Buf (Elt Ideal) ((c.tc : Thread Cert.FfnDownUpdate0Ideal.nD Cert.FfnDownUpdate0Ideal.τ).loc Cert.FfnDownUpdate0Ideal.main_v1_1)) (v2 : (c : Dev Cert.FfnDownUpdate0Ideal.nD) → Buf (Elt Ideal) ((c.tc : Thread Cert.FfnDownUpdate0Ideal.nD Cert.FfnDownUpdate0Ideal.τ).loc Cert.FfnDownUpdate0Ideal.main_v1_2)) (v3 : (c : Dev Cert.FfnDownUpdate0Ideal.nD) → Buf (Elt Ideal) ((c.tc : Thread Cert.FfnDownUpdate0Ideal.nD Cert.FfnDownUpdate0Ideal.τ).loc Cert.FfnDownUpdate0Ideal.main_v1_3)),
      θ_run (Cert.FfnDownUpdate0Ideal.defs (F := Ideal)) (onTc (τ := Cert.FfnDownUpdate0Ideal.τ) (Cert.FfnDownUpdate0Ideal.main (F := Ideal))) ⟨m, fun _ => 0, g⟩ (fun r => ∀ c : Dev Cert.FfnDownUpdate0Ideal.nD,
          r.2.mem ((c.tc : Thread Cert.FfnDownUpdate0Ideal.nD Cert.FfnDownUpdate0Ideal.τ).loc Cert.FfnDownUpdate0Ideal.main_v1_0) = v0 c
          ∧ r.2.mem ((c.tc : Thread Cert.FfnDownUpdate0Ideal.nD Cert.FfnDownUpdate0Ideal.τ).loc Cert.FfnDownUpdate0Ideal.main_v1_1) = v1 c
          ∧ r.2.mem ((c.tc : Thread Cert.FfnDownUpdate0Ideal.nD Cert.FfnDownUpdate0Ideal.τ).loc Cert.FfnDownUpdate0Ideal.main_v1_2) = v2 c
          ∧ r.2.mem ((c.tc : Thread Cert.FfnDownUpdate0Ideal.nD Cert.FfnDownUpdate0Ideal.τ).loc Cert.FfnDownUpdate0Ideal.main_v1_3) = v3 c
          ∧ r.2.mem ((c.tc : Thread Cert.FfnDownUpdate0Ideal.nD Cert.FfnDownUpdate0Ideal.τ).loc Cert.FfnDownUpdate0Ideal.main_arg0) = m ((c.tc : Thread Cert.FfnDownUpdate0Ideal.nD Cert.FfnDownUpdate0Ideal.τ).loc Cert.FfnDownUpdate0Ideal.main_arg0)
          ∧ r.2.mem ((c.tc : Thread Cert.FfnDownUpdate0Ideal.nD Cert.FfnDownUpdate0Ideal.τ).loc Cert.FfnDownUpdate0Ideal.main_arg1) = m ((c.tc : Thread Cert.FfnDownUpdate0Ideal.nD Cert.FfnDownUpdate0Ideal.τ).loc Cert.FfnDownUpdate0Ideal.main_arg1)
          ∧ r.2.mem ((c.tc : Thread Cert.FfnDownUpdate0Ideal.nD Cert.FfnDownUpdate0Ideal.τ).loc Cert.FfnDownUpdate0Ideal.main_arg2) = m ((c.tc : Thread Cert.FfnDownUpdate0Ideal.nD Cert.FfnDownUpdate0Ideal.τ).loc Cert.FfnDownUpdate0Ideal.main_arg2)
          ∧ r.2.mem ((c.tc : Thread Cert.FfnDownUpdate0Ideal.nD Cert.FfnDownUpdate0Ideal.τ).loc Cert.FfnDownUpdate0Ideal.main_arg3) = m ((c.tc : Thread Cert.FfnDownUpdate0Ideal.nD Cert.FfnDownUpdate0Ideal.τ).loc Cert.FfnDownUpdate0Ideal.main_arg3)
          ∧ r.2.mem ((c.tc : Thread Cert.FfnDownUpdate0Ideal.nD Cert.FfnDownUpdate0Ideal.τ).loc Cert.FfnDownUpdate0Ideal.main_arg4) = m ((c.tc : Thread Cert.FfnDownUpdate0Ideal.nD Cert.FfnDownUpdate0Ideal.τ).loc Cert.FfnDownUpdate0Ideal.main_arg4)
          ∧ r.2.mem ((c.tc : Thread Cert.FfnDownUpdate0Ideal.nD Cert.FfnDownUpdate0Ideal.τ).loc Cert.FfnDownUpdate0Ideal.main_arg5) = m ((c.tc : Thread Cert.FfnDownUpdate0Ideal.nD Cert.FfnDownUpdate0Ideal.τ).loc Cert.FfnDownUpdate0Ideal.main_arg5)
          ∧ r.2.mem ((c.tc : Thread Cert.FfnDownUpdate0Ideal.nD Cert.FfnDownUpdate0Ideal.τ).loc Cert.FfnDownUpdate0Ideal.main_arg6) = m ((c.tc : Thread Cert.FfnDownUpdate0Ideal.nD Cert.FfnDownUpdate0Ideal.τ).loc Cert.FfnDownUpdate0Ideal.main_arg6)
          ∧ r.2.mem ((c.tc : Thread Cert.FfnDownUpdate0Ideal.nD Cert.FfnDownUpdate0Ideal.τ).loc Cert.FfnDownUpdate0Ideal.main_arg7) = m ((c.tc : Thread Cert.FfnDownUpdate0Ideal.nD Cert.FfnDownUpdate0Ideal.τ).loc Cert.FfnDownUpdate0Ideal.main_arg7)
          ∧ r.2.mem ((c.tc : Thread Cert.FfnDownUpdate0Ideal.nD Cert.FfnDownUpdate0Ideal.τ).loc Cert.FfnDownUpdate0Ideal.main_arg8) = m ((c.tc : Thread Cert.FfnDownUpdate0Ideal.nD Cert.FfnDownUpdate0Ideal.τ).loc Cert.FfnDownUpdate0Ideal.main_arg8))
      ∧ θ_run (Cert.FfnDownUpdate0ReferenceIdeal.defs (F := Ideal)) (onTc (τ := Cert.FfnDownUpdate0ReferenceIdeal.τ) (Cert.FfnDownUpdate0ReferenceIdeal.main (F := Ideal))) ⟨m', fun _ => 0, g'⟩ (fun r => ∀ c : Dev Cert.FfnDownUpdate0ReferenceIdeal.nD,
          r.2.mem ((c.tc : Thread Cert.FfnDownUpdate0ReferenceIdeal.nD Cert.FfnDownUpdate0ReferenceIdeal.τ).loc Cert.FfnDownUpdate0ReferenceIdeal.main_v0_0) = v0 c
          ∧ r.2.mem ((c.tc : Thread Cert.FfnDownUpdate0ReferenceIdeal.nD Cert.FfnDownUpdate0ReferenceIdeal.τ).loc Cert.FfnDownUpdate0ReferenceIdeal.main_v0_1) = v1 c
          ∧ r.2.mem ((c.tc : Thread Cert.FfnDownUpdate0ReferenceIdeal.nD Cert.FfnDownUpdate0ReferenceIdeal.τ).loc Cert.FfnDownUpdate0ReferenceIdeal.main_v0_2) = v2 c
          ∧ r.2.mem ((c.tc : Thread Cert.FfnDownUpdate0ReferenceIdeal.nD Cert.FfnDownUpdate0ReferenceIdeal.τ).loc Cert.FfnDownUpdate0ReferenceIdeal.main_v0_3) = v3 c
          ∧ r.2.mem ((c.tc : Thread Cert.FfnDownUpdate0ReferenceIdeal.nD Cert.FfnDownUpdate0ReferenceIdeal.τ).loc Cert.FfnDownUpdate0ReferenceIdeal.main_arg0) = m' ((c.tc : Thread Cert.FfnDownUpdate0ReferenceIdeal.nD Cert.FfnDownUpdate0ReferenceIdeal.τ).loc Cert.FfnDownUpdate0ReferenceIdeal.main_arg0)
          ∧ r.2.mem ((c.tc : Thread Cert.FfnDownUpdate0ReferenceIdeal.nD Cert.FfnDownUpdate0ReferenceIdeal.τ).loc Cert.FfnDownUpdate0ReferenceIdeal.main_arg1) = m' ((c.tc : Thread Cert.FfnDownUpdate0ReferenceIdeal.nD Cert.FfnDownUpdate0ReferenceIdeal.τ).loc Cert.FfnDownUpdate0ReferenceIdeal.main_arg1)
          ∧ r.2.mem ((c.tc : Thread Cert.FfnDownUpdate0ReferenceIdeal.nD Cert.FfnDownUpdate0ReferenceIdeal.τ).loc Cert.FfnDownUpdate0ReferenceIdeal.main_arg2) = m' ((c.tc : Thread Cert.FfnDownUpdate0ReferenceIdeal.nD Cert.FfnDownUpdate0ReferenceIdeal.τ).loc Cert.FfnDownUpdate0ReferenceIdeal.main_arg2)
          ∧ r.2.mem ((c.tc : Thread Cert.FfnDownUpdate0ReferenceIdeal.nD Cert.FfnDownUpdate0ReferenceIdeal.τ).loc Cert.FfnDownUpdate0ReferenceIdeal.main_arg3) = m' ((c.tc : Thread Cert.FfnDownUpdate0ReferenceIdeal.nD Cert.FfnDownUpdate0ReferenceIdeal.τ).loc Cert.FfnDownUpdate0ReferenceIdeal.main_arg3)
          ∧ r.2.mem ((c.tc : Thread Cert.FfnDownUpdate0ReferenceIdeal.nD Cert.FfnDownUpdate0ReferenceIdeal.τ).loc Cert.FfnDownUpdate0ReferenceIdeal.main_arg4) = m' ((c.tc : Thread Cert.FfnDownUpdate0ReferenceIdeal.nD Cert.FfnDownUpdate0ReferenceIdeal.τ).loc Cert.FfnDownUpdate0ReferenceIdeal.main_arg4)
          ∧ r.2.mem ((c.tc : Thread Cert.FfnDownUpdate0ReferenceIdeal.nD Cert.FfnDownUpdate0ReferenceIdeal.τ).loc Cert.FfnDownUpdate0ReferenceIdeal.main_arg5) = m' ((c.tc : Thread Cert.FfnDownUpdate0ReferenceIdeal.nD Cert.FfnDownUpdate0ReferenceIdeal.τ).loc Cert.FfnDownUpdate0ReferenceIdeal.main_arg5)
          ∧ r.2.mem ((c.tc : Thread Cert.FfnDownUpdate0ReferenceIdeal.nD Cert.FfnDownUpdate0ReferenceIdeal.τ).loc Cert.FfnDownUpdate0ReferenceIdeal.main_arg6) = m' ((c.tc : Thread Cert.FfnDownUpdate0ReferenceIdeal.nD Cert.FfnDownUpdate0ReferenceIdeal.τ).loc Cert.FfnDownUpdate0ReferenceIdeal.main_arg6)
          ∧ r.2.mem ((c.tc : Thread Cert.FfnDownUpdate0ReferenceIdeal.nD Cert.FfnDownUpdate0ReferenceIdeal.τ).loc Cert.FfnDownUpdate0ReferenceIdeal.main_arg7) = m' ((c.tc : Thread Cert.FfnDownUpdate0ReferenceIdeal.nD Cert.FfnDownUpdate0ReferenceIdeal.τ).loc Cert.FfnDownUpdate0ReferenceIdeal.main_arg7)
          ∧ r.2.mem ((c.tc : Thread Cert.FfnDownUpdate0ReferenceIdeal.nD Cert.FfnDownUpdate0ReferenceIdeal.τ).loc Cert.FfnDownUpdate0ReferenceIdeal.main_arg8) = m' ((c.tc : Thread Cert.FfnDownUpdate0ReferenceIdeal.nD Cert.FfnDownUpdate0ReferenceIdeal.τ).loc Cert.FfnDownUpdate0ReferenceIdeal.main_arg8))

def preserves_FfnDownUpdate1_FfnDownUpdate1Ideal : Prop :=
  IdealRules.named_const.Statement Cert.FfnDownUpdate1Ideal.κ "inv_b1" .f32 0x3FC48605#32 (((6513215599 / 10000000000)⁻¹ : ℝ) : EReal)
  ∧ IdealRules.named_const.Statement Cert.FfnDownUpdate1Ideal.κ "inv_b2" .f32 0x42C8E6D3#32 (((9955119790251790119955009999 / 1000000000000000000000000000000)⁻¹ : ℝ) : EReal)

def algebraic_FfnDownUpdate1Ideal_FfnDownUpdate1ReferenceIdeal [hFfnDownUpdate1Ideal : Cert.FfnDownUpdate1Ideal.Facts] [hFfnDownUpdate1ReferenceIdeal : Cert.FfnDownUpdate1ReferenceIdeal.Facts] : Prop :=
  ∀ (m : (ℓ : Loc Cert.FfnDownUpdate1Ideal.nD Cert.FfnDownUpdate1Ideal.τ Cert.FfnDownUpdate1Ideal.sig) → Buf (Elt Ideal) ℓ) (g : Dev Cert.FfnDownUpdate1Ideal.nD → PrngReg)
    (m' : (ℓ : Loc Cert.FfnDownUpdate1ReferenceIdeal.nD Cert.FfnDownUpdate1ReferenceIdeal.τ Cert.FfnDownUpdate1ReferenceIdeal.sig) → Buf (Elt Ideal) ℓ) (g' : Dev Cert.FfnDownUpdate1ReferenceIdeal.nD → PrngReg), Pre_FfnDownUpdate1Ideal m →
    (∀ c : Dev Cert.FfnDownUpdate1Ideal.nD,
      m' ((c.tc : Thread Cert.FfnDownUpdate1ReferenceIdeal.nD Cert.FfnDownUpdate1ReferenceIdeal.τ).loc Cert.FfnDownUpdate1ReferenceIdeal.main_arg0) = m ((c.tc : Thread Cert.FfnDownUpdate1Ideal.nD Cert.FfnDownUpdate1Ideal.τ).loc Cert.FfnDownUpdate1Ideal.main_arg0)
      ∧ m' ((c.tc : Thread Cert.FfnDownUpdate1ReferenceIdeal.nD Cert.FfnDownUpdate1ReferenceIdeal.τ).loc Cert.FfnDownUpdate1ReferenceIdeal.main_arg1) = m ((c.tc : Thread Cert.FfnDownUpdate1Ideal.nD Cert.FfnDownUpdate1Ideal.τ).loc Cert.FfnDownUpdate1Ideal.main_arg1)
      ∧ m' ((c.tc : Thread Cert.FfnDownUpdate1ReferenceIdeal.nD Cert.FfnDownUpdate1ReferenceIdeal.τ).loc Cert.FfnDownUpdate1ReferenceIdeal.main_arg2) = m ((c.tc : Thread Cert.FfnDownUpdate1Ideal.nD Cert.FfnDownUpdate1Ideal.τ).loc Cert.FfnDownUpdate1Ideal.main_arg2)
      ∧ m' ((c.tc : Thread Cert.FfnDownUpdate1ReferenceIdeal.nD Cert.FfnDownUpdate1ReferenceIdeal.τ).loc Cert.FfnDownUpdate1ReferenceIdeal.main_arg3) = m ((c.tc : Thread Cert.FfnDownUpdate1Ideal.nD Cert.FfnDownUpdate1Ideal.τ).loc Cert.FfnDownUpdate1Ideal.main_arg3)
      ∧ m' ((c.tc : Thread Cert.FfnDownUpdate1ReferenceIdeal.nD Cert.FfnDownUpdate1ReferenceIdeal.τ).loc Cert.FfnDownUpdate1ReferenceIdeal.main_arg4) = m ((c.tc : Thread Cert.FfnDownUpdate1Ideal.nD Cert.FfnDownUpdate1Ideal.τ).loc Cert.FfnDownUpdate1Ideal.main_arg4)
      ∧ m' ((c.tc : Thread Cert.FfnDownUpdate1ReferenceIdeal.nD Cert.FfnDownUpdate1ReferenceIdeal.τ).loc Cert.FfnDownUpdate1ReferenceIdeal.main_arg5) = m ((c.tc : Thread Cert.FfnDownUpdate1Ideal.nD Cert.FfnDownUpdate1Ideal.τ).loc Cert.FfnDownUpdate1Ideal.main_arg5)
      ∧ m' ((c.tc : Thread Cert.FfnDownUpdate1ReferenceIdeal.nD Cert.FfnDownUpdate1ReferenceIdeal.τ).loc Cert.FfnDownUpdate1ReferenceIdeal.main_arg6) = m ((c.tc : Thread Cert.FfnDownUpdate1Ideal.nD Cert.FfnDownUpdate1Ideal.τ).loc Cert.FfnDownUpdate1Ideal.main_arg6)
      ∧ m' ((c.tc : Thread Cert.FfnDownUpdate1ReferenceIdeal.nD Cert.FfnDownUpdate1ReferenceIdeal.τ).loc Cert.FfnDownUpdate1ReferenceIdeal.main_arg7) = m ((c.tc : Thread Cert.FfnDownUpdate1Ideal.nD Cert.FfnDownUpdate1Ideal.τ).loc Cert.FfnDownUpdate1Ideal.main_arg7)
      ∧ m' ((c.tc : Thread Cert.FfnDownUpdate1ReferenceIdeal.nD Cert.FfnDownUpdate1ReferenceIdeal.τ).loc Cert.FfnDownUpdate1ReferenceIdeal.main_arg8) = m ((c.tc : Thread Cert.FfnDownUpdate1Ideal.nD Cert.FfnDownUpdate1Ideal.τ).loc Cert.FfnDownUpdate1Ideal.main_arg8)) →
    ∃ (v0 : (c : Dev Cert.FfnDownUpdate1Ideal.nD) → Buf (Elt Ideal) ((c.tc : Thread Cert.FfnDownUpdate1Ideal.nD Cert.FfnDownUpdate1Ideal.τ).loc Cert.FfnDownUpdate1Ideal.main_v1_0)) (v1 : (c : Dev Cert.FfnDownUpdate1Ideal.nD) → Buf (Elt Ideal) ((c.tc : Thread Cert.FfnDownUpdate1Ideal.nD Cert.FfnDownUpdate1Ideal.τ).loc Cert.FfnDownUpdate1Ideal.main_v1_1)) (v2 : (c : Dev Cert.FfnDownUpdate1Ideal.nD) → Buf (Elt Ideal) ((c.tc : Thread Cert.FfnDownUpdate1Ideal.nD Cert.FfnDownUpdate1Ideal.τ).loc Cert.FfnDownUpdate1Ideal.main_v1_2)) (v3 : (c : Dev Cert.FfnDownUpdate1Ideal.nD) → Buf (Elt Ideal) ((c.tc : Thread Cert.FfnDownUpdate1Ideal.nD Cert.FfnDownUpdate1Ideal.τ).loc Cert.FfnDownUpdate1Ideal.main_v1_3)),
      θ_run (Cert.FfnDownUpdate1Ideal.defs (F := Ideal)) (onTc (τ := Cert.FfnDownUpdate1Ideal.τ) (Cert.FfnDownUpdate1Ideal.main (F := Ideal))) ⟨m, fun _ => 0, g⟩ (fun r => ∀ c : Dev Cert.FfnDownUpdate1Ideal.nD,
          r.2.mem ((c.tc : Thread Cert.FfnDownUpdate1Ideal.nD Cert.FfnDownUpdate1Ideal.τ).loc Cert.FfnDownUpdate1Ideal.main_v1_0) = v0 c
          ∧ r.2.mem ((c.tc : Thread Cert.FfnDownUpdate1Ideal.nD Cert.FfnDownUpdate1Ideal.τ).loc Cert.FfnDownUpdate1Ideal.main_v1_1) = v1 c
          ∧ r.2.mem ((c.tc : Thread Cert.FfnDownUpdate1Ideal.nD Cert.FfnDownUpdate1Ideal.τ).loc Cert.FfnDownUpdate1Ideal.main_v1_2) = v2 c
          ∧ r.2.mem ((c.tc : Thread Cert.FfnDownUpdate1Ideal.nD Cert.FfnDownUpdate1Ideal.τ).loc Cert.FfnDownUpdate1Ideal.main_v1_3) = v3 c
          ∧ r.2.mem ((c.tc : Thread Cert.FfnDownUpdate1Ideal.nD Cert.FfnDownUpdate1Ideal.τ).loc Cert.FfnDownUpdate1Ideal.main_arg0) = m ((c.tc : Thread Cert.FfnDownUpdate1Ideal.nD Cert.FfnDownUpdate1Ideal.τ).loc Cert.FfnDownUpdate1Ideal.main_arg0)
          ∧ r.2.mem ((c.tc : Thread Cert.FfnDownUpdate1Ideal.nD Cert.FfnDownUpdate1Ideal.τ).loc Cert.FfnDownUpdate1Ideal.main_arg1) = m ((c.tc : Thread Cert.FfnDownUpdate1Ideal.nD Cert.FfnDownUpdate1Ideal.τ).loc Cert.FfnDownUpdate1Ideal.main_arg1)
          ∧ r.2.mem ((c.tc : Thread Cert.FfnDownUpdate1Ideal.nD Cert.FfnDownUpdate1Ideal.τ).loc Cert.FfnDownUpdate1Ideal.main_arg2) = m ((c.tc : Thread Cert.FfnDownUpdate1Ideal.nD Cert.FfnDownUpdate1Ideal.τ).loc Cert.FfnDownUpdate1Ideal.main_arg2)
          ∧ r.2.mem ((c.tc : Thread Cert.FfnDownUpdate1Ideal.nD Cert.FfnDownUpdate1Ideal.τ).loc Cert.FfnDownUpdate1Ideal.main_arg3) = m ((c.tc : Thread Cert.FfnDownUpdate1Ideal.nD Cert.FfnDownUpdate1Ideal.τ).loc Cert.FfnDownUpdate1Ideal.main_arg3)
          ∧ r.2.mem ((c.tc : Thread Cert.FfnDownUpdate1Ideal.nD Cert.FfnDownUpdate1Ideal.τ).loc Cert.FfnDownUpdate1Ideal.main_arg4) = m ((c.tc : Thread Cert.FfnDownUpdate1Ideal.nD Cert.FfnDownUpdate1Ideal.τ).loc Cert.FfnDownUpdate1Ideal.main_arg4)
          ∧ r.2.mem ((c.tc : Thread Cert.FfnDownUpdate1Ideal.nD Cert.FfnDownUpdate1Ideal.τ).loc Cert.FfnDownUpdate1Ideal.main_arg5) = m ((c.tc : Thread Cert.FfnDownUpdate1Ideal.nD Cert.FfnDownUpdate1Ideal.τ).loc Cert.FfnDownUpdate1Ideal.main_arg5)
          ∧ r.2.mem ((c.tc : Thread Cert.FfnDownUpdate1Ideal.nD Cert.FfnDownUpdate1Ideal.τ).loc Cert.FfnDownUpdate1Ideal.main_arg6) = m ((c.tc : Thread Cert.FfnDownUpdate1Ideal.nD Cert.FfnDownUpdate1Ideal.τ).loc Cert.FfnDownUpdate1Ideal.main_arg6)
          ∧ r.2.mem ((c.tc : Thread Cert.FfnDownUpdate1Ideal.nD Cert.FfnDownUpdate1Ideal.τ).loc Cert.FfnDownUpdate1Ideal.main_arg7) = m ((c.tc : Thread Cert.FfnDownUpdate1Ideal.nD Cert.FfnDownUpdate1Ideal.τ).loc Cert.FfnDownUpdate1Ideal.main_arg7)
          ∧ r.2.mem ((c.tc : Thread Cert.FfnDownUpdate1Ideal.nD Cert.FfnDownUpdate1Ideal.τ).loc Cert.FfnDownUpdate1Ideal.main_arg8) = m ((c.tc : Thread Cert.FfnDownUpdate1Ideal.nD Cert.FfnDownUpdate1Ideal.τ).loc Cert.FfnDownUpdate1Ideal.main_arg8))
      ∧ θ_run (Cert.FfnDownUpdate1ReferenceIdeal.defs (F := Ideal)) (onTc (τ := Cert.FfnDownUpdate1ReferenceIdeal.τ) (Cert.FfnDownUpdate1ReferenceIdeal.main (F := Ideal))) ⟨m', fun _ => 0, g'⟩ (fun r => ∀ c : Dev Cert.FfnDownUpdate1ReferenceIdeal.nD,
          r.2.mem ((c.tc : Thread Cert.FfnDownUpdate1ReferenceIdeal.nD Cert.FfnDownUpdate1ReferenceIdeal.τ).loc Cert.FfnDownUpdate1ReferenceIdeal.main_v0_0) = v0 c
          ∧ r.2.mem ((c.tc : Thread Cert.FfnDownUpdate1ReferenceIdeal.nD Cert.FfnDownUpdate1ReferenceIdeal.τ).loc Cert.FfnDownUpdate1ReferenceIdeal.main_v0_1) = v1 c
          ∧ r.2.mem ((c.tc : Thread Cert.FfnDownUpdate1ReferenceIdeal.nD Cert.FfnDownUpdate1ReferenceIdeal.τ).loc Cert.FfnDownUpdate1ReferenceIdeal.main_v0_2) = v2 c
          ∧ r.2.mem ((c.tc : Thread Cert.FfnDownUpdate1ReferenceIdeal.nD Cert.FfnDownUpdate1ReferenceIdeal.τ).loc Cert.FfnDownUpdate1ReferenceIdeal.main_v0_3) = v3 c
          ∧ r.2.mem ((c.tc : Thread Cert.FfnDownUpdate1ReferenceIdeal.nD Cert.FfnDownUpdate1ReferenceIdeal.τ).loc Cert.FfnDownUpdate1ReferenceIdeal.main_arg0) = m' ((c.tc : Thread Cert.FfnDownUpdate1ReferenceIdeal.nD Cert.FfnDownUpdate1ReferenceIdeal.τ).loc Cert.FfnDownUpdate1ReferenceIdeal.main_arg0)
          ∧ r.2.mem ((c.tc : Thread Cert.FfnDownUpdate1ReferenceIdeal.nD Cert.FfnDownUpdate1ReferenceIdeal.τ).loc Cert.FfnDownUpdate1ReferenceIdeal.main_arg1) = m' ((c.tc : Thread Cert.FfnDownUpdate1ReferenceIdeal.nD Cert.FfnDownUpdate1ReferenceIdeal.τ).loc Cert.FfnDownUpdate1ReferenceIdeal.main_arg1)
          ∧ r.2.mem ((c.tc : Thread Cert.FfnDownUpdate1ReferenceIdeal.nD Cert.FfnDownUpdate1ReferenceIdeal.τ).loc Cert.FfnDownUpdate1ReferenceIdeal.main_arg2) = m' ((c.tc : Thread Cert.FfnDownUpdate1ReferenceIdeal.nD Cert.FfnDownUpdate1ReferenceIdeal.τ).loc Cert.FfnDownUpdate1ReferenceIdeal.main_arg2)
          ∧ r.2.mem ((c.tc : Thread Cert.FfnDownUpdate1ReferenceIdeal.nD Cert.FfnDownUpdate1ReferenceIdeal.τ).loc Cert.FfnDownUpdate1ReferenceIdeal.main_arg3) = m' ((c.tc : Thread Cert.FfnDownUpdate1ReferenceIdeal.nD Cert.FfnDownUpdate1ReferenceIdeal.τ).loc Cert.FfnDownUpdate1ReferenceIdeal.main_arg3)
          ∧ r.2.mem ((c.tc : Thread Cert.FfnDownUpdate1ReferenceIdeal.nD Cert.FfnDownUpdate1ReferenceIdeal.τ).loc Cert.FfnDownUpdate1ReferenceIdeal.main_arg4) = m' ((c.tc : Thread Cert.FfnDownUpdate1ReferenceIdeal.nD Cert.FfnDownUpdate1ReferenceIdeal.τ).loc Cert.FfnDownUpdate1ReferenceIdeal.main_arg4)
          ∧ r.2.mem ((c.tc : Thread Cert.FfnDownUpdate1ReferenceIdeal.nD Cert.FfnDownUpdate1ReferenceIdeal.τ).loc Cert.FfnDownUpdate1ReferenceIdeal.main_arg5) = m' ((c.tc : Thread Cert.FfnDownUpdate1ReferenceIdeal.nD Cert.FfnDownUpdate1ReferenceIdeal.τ).loc Cert.FfnDownUpdate1ReferenceIdeal.main_arg5)
          ∧ r.2.mem ((c.tc : Thread Cert.FfnDownUpdate1ReferenceIdeal.nD Cert.FfnDownUpdate1ReferenceIdeal.τ).loc Cert.FfnDownUpdate1ReferenceIdeal.main_arg6) = m' ((c.tc : Thread Cert.FfnDownUpdate1ReferenceIdeal.nD Cert.FfnDownUpdate1ReferenceIdeal.τ).loc Cert.FfnDownUpdate1ReferenceIdeal.main_arg6)
          ∧ r.2.mem ((c.tc : Thread Cert.FfnDownUpdate1ReferenceIdeal.nD Cert.FfnDownUpdate1ReferenceIdeal.τ).loc Cert.FfnDownUpdate1ReferenceIdeal.main_arg7) = m' ((c.tc : Thread Cert.FfnDownUpdate1ReferenceIdeal.nD Cert.FfnDownUpdate1ReferenceIdeal.τ).loc Cert.FfnDownUpdate1ReferenceIdeal.main_arg7)
          ∧ r.2.mem ((c.tc : Thread Cert.FfnDownUpdate1ReferenceIdeal.nD Cert.FfnDownUpdate1ReferenceIdeal.τ).loc Cert.FfnDownUpdate1ReferenceIdeal.main_arg8) = m' ((c.tc : Thread Cert.FfnDownUpdate1ReferenceIdeal.nD Cert.FfnDownUpdate1ReferenceIdeal.τ).loc Cert.FfnDownUpdate1ReferenceIdeal.main_arg8))

def preserves_FfnDownUpdate2_FfnDownUpdate2Ideal : Prop :=
  IdealRules.named_const.Statement Cert.FfnDownUpdate2Ideal.κ "inv_b1" .f32 0x3FC48605#32 (((6513215599 / 10000000000)⁻¹ : ℝ) : EReal)
  ∧ IdealRules.named_const.Statement Cert.FfnDownUpdate2Ideal.κ "inv_b2" .f32 0x42C8E6D3#32 (((9955119790251790119955009999 / 1000000000000000000000000000000)⁻¹ : ℝ) : EReal)

def algebraic_FfnDownUpdate2Ideal_FfnDownUpdate2ReferenceIdeal [hFfnDownUpdate2Ideal : Cert.FfnDownUpdate2Ideal.Facts] [hFfnDownUpdate2ReferenceIdeal : Cert.FfnDownUpdate2ReferenceIdeal.Facts] : Prop :=
  ∀ (m : (ℓ : Loc Cert.FfnDownUpdate2Ideal.nD Cert.FfnDownUpdate2Ideal.τ Cert.FfnDownUpdate2Ideal.sig) → Buf (Elt Ideal) ℓ) (g : Dev Cert.FfnDownUpdate2Ideal.nD → PrngReg)
    (m' : (ℓ : Loc Cert.FfnDownUpdate2ReferenceIdeal.nD Cert.FfnDownUpdate2ReferenceIdeal.τ Cert.FfnDownUpdate2ReferenceIdeal.sig) → Buf (Elt Ideal) ℓ) (g' : Dev Cert.FfnDownUpdate2ReferenceIdeal.nD → PrngReg), Pre_FfnDownUpdate2Ideal m →
    (∀ c : Dev Cert.FfnDownUpdate2Ideal.nD,
      m' ((c.tc : Thread Cert.FfnDownUpdate2ReferenceIdeal.nD Cert.FfnDownUpdate2ReferenceIdeal.τ).loc Cert.FfnDownUpdate2ReferenceIdeal.main_arg0) = m ((c.tc : Thread Cert.FfnDownUpdate2Ideal.nD Cert.FfnDownUpdate2Ideal.τ).loc Cert.FfnDownUpdate2Ideal.main_arg0)
      ∧ m' ((c.tc : Thread Cert.FfnDownUpdate2ReferenceIdeal.nD Cert.FfnDownUpdate2ReferenceIdeal.τ).loc Cert.FfnDownUpdate2ReferenceIdeal.main_arg1) = m ((c.tc : Thread Cert.FfnDownUpdate2Ideal.nD Cert.FfnDownUpdate2Ideal.τ).loc Cert.FfnDownUpdate2Ideal.main_arg1)
      ∧ m' ((c.tc : Thread Cert.FfnDownUpdate2ReferenceIdeal.nD Cert.FfnDownUpdate2ReferenceIdeal.τ).loc Cert.FfnDownUpdate2ReferenceIdeal.main_arg2) = m ((c.tc : Thread Cert.FfnDownUpdate2Ideal.nD Cert.FfnDownUpdate2Ideal.τ).loc Cert.FfnDownUpdate2Ideal.main_arg2)
      ∧ m' ((c.tc : Thread Cert.FfnDownUpdate2ReferenceIdeal.nD Cert.FfnDownUpdate2ReferenceIdeal.τ).loc Cert.FfnDownUpdate2ReferenceIdeal.main_arg3) = m ((c.tc : Thread Cert.FfnDownUpdate2Ideal.nD Cert.FfnDownUpdate2Ideal.τ).loc Cert.FfnDownUpdate2Ideal.main_arg3)
      ∧ m' ((c.tc : Thread Cert.FfnDownUpdate2ReferenceIdeal.nD Cert.FfnDownUpdate2ReferenceIdeal.τ).loc Cert.FfnDownUpdate2ReferenceIdeal.main_arg4) = m ((c.tc : Thread Cert.FfnDownUpdate2Ideal.nD Cert.FfnDownUpdate2Ideal.τ).loc Cert.FfnDownUpdate2Ideal.main_arg4)
      ∧ m' ((c.tc : Thread Cert.FfnDownUpdate2ReferenceIdeal.nD Cert.FfnDownUpdate2ReferenceIdeal.τ).loc Cert.FfnDownUpdate2ReferenceIdeal.main_arg5) = m ((c.tc : Thread Cert.FfnDownUpdate2Ideal.nD Cert.FfnDownUpdate2Ideal.τ).loc Cert.FfnDownUpdate2Ideal.main_arg5)
      ∧ m' ((c.tc : Thread Cert.FfnDownUpdate2ReferenceIdeal.nD Cert.FfnDownUpdate2ReferenceIdeal.τ).loc Cert.FfnDownUpdate2ReferenceIdeal.main_arg6) = m ((c.tc : Thread Cert.FfnDownUpdate2Ideal.nD Cert.FfnDownUpdate2Ideal.τ).loc Cert.FfnDownUpdate2Ideal.main_arg6)
      ∧ m' ((c.tc : Thread Cert.FfnDownUpdate2ReferenceIdeal.nD Cert.FfnDownUpdate2ReferenceIdeal.τ).loc Cert.FfnDownUpdate2ReferenceIdeal.main_arg7) = m ((c.tc : Thread Cert.FfnDownUpdate2Ideal.nD Cert.FfnDownUpdate2Ideal.τ).loc Cert.FfnDownUpdate2Ideal.main_arg7)
      ∧ m' ((c.tc : Thread Cert.FfnDownUpdate2ReferenceIdeal.nD Cert.FfnDownUpdate2ReferenceIdeal.τ).loc Cert.FfnDownUpdate2ReferenceIdeal.main_arg8) = m ((c.tc : Thread Cert.FfnDownUpdate2Ideal.nD Cert.FfnDownUpdate2Ideal.τ).loc Cert.FfnDownUpdate2Ideal.main_arg8)) →
    ∃ (v0 : (c : Dev Cert.FfnDownUpdate2Ideal.nD) → Buf (Elt Ideal) ((c.tc : Thread Cert.FfnDownUpdate2Ideal.nD Cert.FfnDownUpdate2Ideal.τ).loc Cert.FfnDownUpdate2Ideal.main_v1_0)) (v1 : (c : Dev Cert.FfnDownUpdate2Ideal.nD) → Buf (Elt Ideal) ((c.tc : Thread Cert.FfnDownUpdate2Ideal.nD Cert.FfnDownUpdate2Ideal.τ).loc Cert.FfnDownUpdate2Ideal.main_v1_1)) (v2 : (c : Dev Cert.FfnDownUpdate2Ideal.nD) → Buf (Elt Ideal) ((c.tc : Thread Cert.FfnDownUpdate2Ideal.nD Cert.FfnDownUpdate2Ideal.τ).loc Cert.FfnDownUpdate2Ideal.main_v1_2)) (v3 : (c : Dev Cert.FfnDownUpdate2Ideal.nD) → Buf (Elt Ideal) ((c.tc : Thread Cert.FfnDownUpdate2Ideal.nD Cert.FfnDownUpdate2Ideal.τ).loc Cert.FfnDownUpdate2Ideal.main_v1_3)),
      θ_run (Cert.FfnDownUpdate2Ideal.defs (F := Ideal)) (onTc (τ := Cert.FfnDownUpdate2Ideal.τ) (Cert.FfnDownUpdate2Ideal.main (F := Ideal))) ⟨m, fun _ => 0, g⟩ (fun r => ∀ c : Dev Cert.FfnDownUpdate2Ideal.nD,
          r.2.mem ((c.tc : Thread Cert.FfnDownUpdate2Ideal.nD Cert.FfnDownUpdate2Ideal.τ).loc Cert.FfnDownUpdate2Ideal.main_v1_0) = v0 c
          ∧ r.2.mem ((c.tc : Thread Cert.FfnDownUpdate2Ideal.nD Cert.FfnDownUpdate2Ideal.τ).loc Cert.FfnDownUpdate2Ideal.main_v1_1) = v1 c
          ∧ r.2.mem ((c.tc : Thread Cert.FfnDownUpdate2Ideal.nD Cert.FfnDownUpdate2Ideal.τ).loc Cert.FfnDownUpdate2Ideal.main_v1_2) = v2 c
          ∧ r.2.mem ((c.tc : Thread Cert.FfnDownUpdate2Ideal.nD Cert.FfnDownUpdate2Ideal.τ).loc Cert.FfnDownUpdate2Ideal.main_v1_3) = v3 c
          ∧ r.2.mem ((c.tc : Thread Cert.FfnDownUpdate2Ideal.nD Cert.FfnDownUpdate2Ideal.τ).loc Cert.FfnDownUpdate2Ideal.main_arg0) = m ((c.tc : Thread Cert.FfnDownUpdate2Ideal.nD Cert.FfnDownUpdate2Ideal.τ).loc Cert.FfnDownUpdate2Ideal.main_arg0)
          ∧ r.2.mem ((c.tc : Thread Cert.FfnDownUpdate2Ideal.nD Cert.FfnDownUpdate2Ideal.τ).loc Cert.FfnDownUpdate2Ideal.main_arg1) = m ((c.tc : Thread Cert.FfnDownUpdate2Ideal.nD Cert.FfnDownUpdate2Ideal.τ).loc Cert.FfnDownUpdate2Ideal.main_arg1)
          ∧ r.2.mem ((c.tc : Thread Cert.FfnDownUpdate2Ideal.nD Cert.FfnDownUpdate2Ideal.τ).loc Cert.FfnDownUpdate2Ideal.main_arg2) = m ((c.tc : Thread Cert.FfnDownUpdate2Ideal.nD Cert.FfnDownUpdate2Ideal.τ).loc Cert.FfnDownUpdate2Ideal.main_arg2)
          ∧ r.2.mem ((c.tc : Thread Cert.FfnDownUpdate2Ideal.nD Cert.FfnDownUpdate2Ideal.τ).loc Cert.FfnDownUpdate2Ideal.main_arg3) = m ((c.tc : Thread Cert.FfnDownUpdate2Ideal.nD Cert.FfnDownUpdate2Ideal.τ).loc Cert.FfnDownUpdate2Ideal.main_arg3)
          ∧ r.2.mem ((c.tc : Thread Cert.FfnDownUpdate2Ideal.nD Cert.FfnDownUpdate2Ideal.τ).loc Cert.FfnDownUpdate2Ideal.main_arg4) = m ((c.tc : Thread Cert.FfnDownUpdate2Ideal.nD Cert.FfnDownUpdate2Ideal.τ).loc Cert.FfnDownUpdate2Ideal.main_arg4)
          ∧ r.2.mem ((c.tc : Thread Cert.FfnDownUpdate2Ideal.nD Cert.FfnDownUpdate2Ideal.τ).loc Cert.FfnDownUpdate2Ideal.main_arg5) = m ((c.tc : Thread Cert.FfnDownUpdate2Ideal.nD Cert.FfnDownUpdate2Ideal.τ).loc Cert.FfnDownUpdate2Ideal.main_arg5)
          ∧ r.2.mem ((c.tc : Thread Cert.FfnDownUpdate2Ideal.nD Cert.FfnDownUpdate2Ideal.τ).loc Cert.FfnDownUpdate2Ideal.main_arg6) = m ((c.tc : Thread Cert.FfnDownUpdate2Ideal.nD Cert.FfnDownUpdate2Ideal.τ).loc Cert.FfnDownUpdate2Ideal.main_arg6)
          ∧ r.2.mem ((c.tc : Thread Cert.FfnDownUpdate2Ideal.nD Cert.FfnDownUpdate2Ideal.τ).loc Cert.FfnDownUpdate2Ideal.main_arg7) = m ((c.tc : Thread Cert.FfnDownUpdate2Ideal.nD Cert.FfnDownUpdate2Ideal.τ).loc Cert.FfnDownUpdate2Ideal.main_arg7)
          ∧ r.2.mem ((c.tc : Thread Cert.FfnDownUpdate2Ideal.nD Cert.FfnDownUpdate2Ideal.τ).loc Cert.FfnDownUpdate2Ideal.main_arg8) = m ((c.tc : Thread Cert.FfnDownUpdate2Ideal.nD Cert.FfnDownUpdate2Ideal.τ).loc Cert.FfnDownUpdate2Ideal.main_arg8))
      ∧ θ_run (Cert.FfnDownUpdate2ReferenceIdeal.defs (F := Ideal)) (onTc (τ := Cert.FfnDownUpdate2ReferenceIdeal.τ) (Cert.FfnDownUpdate2ReferenceIdeal.main (F := Ideal))) ⟨m', fun _ => 0, g'⟩ (fun r => ∀ c : Dev Cert.FfnDownUpdate2ReferenceIdeal.nD,
          r.2.mem ((c.tc : Thread Cert.FfnDownUpdate2ReferenceIdeal.nD Cert.FfnDownUpdate2ReferenceIdeal.τ).loc Cert.FfnDownUpdate2ReferenceIdeal.main_v0_0) = v0 c
          ∧ r.2.mem ((c.tc : Thread Cert.FfnDownUpdate2ReferenceIdeal.nD Cert.FfnDownUpdate2ReferenceIdeal.τ).loc Cert.FfnDownUpdate2ReferenceIdeal.main_v0_1) = v1 c
          ∧ r.2.mem ((c.tc : Thread Cert.FfnDownUpdate2ReferenceIdeal.nD Cert.FfnDownUpdate2ReferenceIdeal.τ).loc Cert.FfnDownUpdate2ReferenceIdeal.main_v0_2) = v2 c
          ∧ r.2.mem ((c.tc : Thread Cert.FfnDownUpdate2ReferenceIdeal.nD Cert.FfnDownUpdate2ReferenceIdeal.τ).loc Cert.FfnDownUpdate2ReferenceIdeal.main_v0_3) = v3 c
          ∧ r.2.mem ((c.tc : Thread Cert.FfnDownUpdate2ReferenceIdeal.nD Cert.FfnDownUpdate2ReferenceIdeal.τ).loc Cert.FfnDownUpdate2ReferenceIdeal.main_arg0) = m' ((c.tc : Thread Cert.FfnDownUpdate2ReferenceIdeal.nD Cert.FfnDownUpdate2ReferenceIdeal.τ).loc Cert.FfnDownUpdate2ReferenceIdeal.main_arg0)
          ∧ r.2.mem ((c.tc : Thread Cert.FfnDownUpdate2ReferenceIdeal.nD Cert.FfnDownUpdate2ReferenceIdeal.τ).loc Cert.FfnDownUpdate2ReferenceIdeal.main_arg1) = m' ((c.tc : Thread Cert.FfnDownUpdate2ReferenceIdeal.nD Cert.FfnDownUpdate2ReferenceIdeal.τ).loc Cert.FfnDownUpdate2ReferenceIdeal.main_arg1)
          ∧ r.2.mem ((c.tc : Thread Cert.FfnDownUpdate2ReferenceIdeal.nD Cert.FfnDownUpdate2ReferenceIdeal.τ).loc Cert.FfnDownUpdate2ReferenceIdeal.main_arg2) = m' ((c.tc : Thread Cert.FfnDownUpdate2ReferenceIdeal.nD Cert.FfnDownUpdate2ReferenceIdeal.τ).loc Cert.FfnDownUpdate2ReferenceIdeal.main_arg2)
          ∧ r.2.mem ((c.tc : Thread Cert.FfnDownUpdate2ReferenceIdeal.nD Cert.FfnDownUpdate2ReferenceIdeal.τ).loc Cert.FfnDownUpdate2ReferenceIdeal.main_arg3) = m' ((c.tc : Thread Cert.FfnDownUpdate2ReferenceIdeal.nD Cert.FfnDownUpdate2ReferenceIdeal.τ).loc Cert.FfnDownUpdate2ReferenceIdeal.main_arg3)
          ∧ r.2.mem ((c.tc : Thread Cert.FfnDownUpdate2ReferenceIdeal.nD Cert.FfnDownUpdate2ReferenceIdeal.τ).loc Cert.FfnDownUpdate2ReferenceIdeal.main_arg4) = m' ((c.tc : Thread Cert.FfnDownUpdate2ReferenceIdeal.nD Cert.FfnDownUpdate2ReferenceIdeal.τ).loc Cert.FfnDownUpdate2ReferenceIdeal.main_arg4)
          ∧ r.2.mem ((c.tc : Thread Cert.FfnDownUpdate2ReferenceIdeal.nD Cert.FfnDownUpdate2ReferenceIdeal.τ).loc Cert.FfnDownUpdate2ReferenceIdeal.main_arg5) = m' ((c.tc : Thread Cert.FfnDownUpdate2ReferenceIdeal.nD Cert.FfnDownUpdate2ReferenceIdeal.τ).loc Cert.FfnDownUpdate2ReferenceIdeal.main_arg5)
          ∧ r.2.mem ((c.tc : Thread Cert.FfnDownUpdate2ReferenceIdeal.nD Cert.FfnDownUpdate2ReferenceIdeal.τ).loc Cert.FfnDownUpdate2ReferenceIdeal.main_arg6) = m' ((c.tc : Thread Cert.FfnDownUpdate2ReferenceIdeal.nD Cert.FfnDownUpdate2ReferenceIdeal.τ).loc Cert.FfnDownUpdate2ReferenceIdeal.main_arg6)
          ∧ r.2.mem ((c.tc : Thread Cert.FfnDownUpdate2ReferenceIdeal.nD Cert.FfnDownUpdate2ReferenceIdeal.τ).loc Cert.FfnDownUpdate2ReferenceIdeal.main_arg7) = m' ((c.tc : Thread Cert.FfnDownUpdate2ReferenceIdeal.nD Cert.FfnDownUpdate2ReferenceIdeal.τ).loc Cert.FfnDownUpdate2ReferenceIdeal.main_arg7)
          ∧ r.2.mem ((c.tc : Thread Cert.FfnDownUpdate2ReferenceIdeal.nD Cert.FfnDownUpdate2ReferenceIdeal.τ).loc Cert.FfnDownUpdate2ReferenceIdeal.main_arg8) = m' ((c.tc : Thread Cert.FfnDownUpdate2ReferenceIdeal.nD Cert.FfnDownUpdate2ReferenceIdeal.τ).loc Cert.FfnDownUpdate2ReferenceIdeal.main_arg8))

def preserves_FfnDownUpdate3_FfnDownUpdate3Ideal : Prop :=
  IdealRules.named_const.Statement Cert.FfnDownUpdate3Ideal.κ "inv_b1" .f32 0x3FC48605#32 (((6513215599 / 10000000000)⁻¹ : ℝ) : EReal)
  ∧ IdealRules.named_const.Statement Cert.FfnDownUpdate3Ideal.κ "inv_b2" .f32 0x42C8E6D3#32 (((9955119790251790119955009999 / 1000000000000000000000000000000)⁻¹ : ℝ) : EReal)

def algebraic_FfnDownUpdate3Ideal_FfnDownUpdate3ReferenceIdeal [hFfnDownUpdate3Ideal : Cert.FfnDownUpdate3Ideal.Facts] [hFfnDownUpdate3ReferenceIdeal : Cert.FfnDownUpdate3ReferenceIdeal.Facts] : Prop :=
  ∀ (m : (ℓ : Loc Cert.FfnDownUpdate3Ideal.nD Cert.FfnDownUpdate3Ideal.τ Cert.FfnDownUpdate3Ideal.sig) → Buf (Elt Ideal) ℓ) (g : Dev Cert.FfnDownUpdate3Ideal.nD → PrngReg)
    (m' : (ℓ : Loc Cert.FfnDownUpdate3ReferenceIdeal.nD Cert.FfnDownUpdate3ReferenceIdeal.τ Cert.FfnDownUpdate3ReferenceIdeal.sig) → Buf (Elt Ideal) ℓ) (g' : Dev Cert.FfnDownUpdate3ReferenceIdeal.nD → PrngReg), Pre_FfnDownUpdate3Ideal m →
    (∀ c : Dev Cert.FfnDownUpdate3Ideal.nD,
      m' ((c.tc : Thread Cert.FfnDownUpdate3ReferenceIdeal.nD Cert.FfnDownUpdate3ReferenceIdeal.τ).loc Cert.FfnDownUpdate3ReferenceIdeal.main_arg0) = m ((c.tc : Thread Cert.FfnDownUpdate3Ideal.nD Cert.FfnDownUpdate3Ideal.τ).loc Cert.FfnDownUpdate3Ideal.main_arg0)
      ∧ m' ((c.tc : Thread Cert.FfnDownUpdate3ReferenceIdeal.nD Cert.FfnDownUpdate3ReferenceIdeal.τ).loc Cert.FfnDownUpdate3ReferenceIdeal.main_arg1) = m ((c.tc : Thread Cert.FfnDownUpdate3Ideal.nD Cert.FfnDownUpdate3Ideal.τ).loc Cert.FfnDownUpdate3Ideal.main_arg1)
      ∧ m' ((c.tc : Thread Cert.FfnDownUpdate3ReferenceIdeal.nD Cert.FfnDownUpdate3ReferenceIdeal.τ).loc Cert.FfnDownUpdate3ReferenceIdeal.main_arg2) = m ((c.tc : Thread Cert.FfnDownUpdate3Ideal.nD Cert.FfnDownUpdate3Ideal.τ).loc Cert.FfnDownUpdate3Ideal.main_arg2)
      ∧ m' ((c.tc : Thread Cert.FfnDownUpdate3ReferenceIdeal.nD Cert.FfnDownUpdate3ReferenceIdeal.τ).loc Cert.FfnDownUpdate3ReferenceIdeal.main_arg3) = m ((c.tc : Thread Cert.FfnDownUpdate3Ideal.nD Cert.FfnDownUpdate3Ideal.τ).loc Cert.FfnDownUpdate3Ideal.main_arg3)
      ∧ m' ((c.tc : Thread Cert.FfnDownUpdate3ReferenceIdeal.nD Cert.FfnDownUpdate3ReferenceIdeal.τ).loc Cert.FfnDownUpdate3ReferenceIdeal.main_arg4) = m ((c.tc : Thread Cert.FfnDownUpdate3Ideal.nD Cert.FfnDownUpdate3Ideal.τ).loc Cert.FfnDownUpdate3Ideal.main_arg4)
      ∧ m' ((c.tc : Thread Cert.FfnDownUpdate3ReferenceIdeal.nD Cert.FfnDownUpdate3ReferenceIdeal.τ).loc Cert.FfnDownUpdate3ReferenceIdeal.main_arg5) = m ((c.tc : Thread Cert.FfnDownUpdate3Ideal.nD Cert.FfnDownUpdate3Ideal.τ).loc Cert.FfnDownUpdate3Ideal.main_arg5)
      ∧ m' ((c.tc : Thread Cert.FfnDownUpdate3ReferenceIdeal.nD Cert.FfnDownUpdate3ReferenceIdeal.τ).loc Cert.FfnDownUpdate3ReferenceIdeal.main_arg6) = m ((c.tc : Thread Cert.FfnDownUpdate3Ideal.nD Cert.FfnDownUpdate3Ideal.τ).loc Cert.FfnDownUpdate3Ideal.main_arg6)
      ∧ m' ((c.tc : Thread Cert.FfnDownUpdate3ReferenceIdeal.nD Cert.FfnDownUpdate3ReferenceIdeal.τ).loc Cert.FfnDownUpdate3ReferenceIdeal.main_arg7) = m ((c.tc : Thread Cert.FfnDownUpdate3Ideal.nD Cert.FfnDownUpdate3Ideal.τ).loc Cert.FfnDownUpdate3Ideal.main_arg7)
      ∧ m' ((c.tc : Thread Cert.FfnDownUpdate3ReferenceIdeal.nD Cert.FfnDownUpdate3ReferenceIdeal.τ).loc Cert.FfnDownUpdate3ReferenceIdeal.main_arg8) = m ((c.tc : Thread Cert.FfnDownUpdate3Ideal.nD Cert.FfnDownUpdate3Ideal.τ).loc Cert.FfnDownUpdate3Ideal.main_arg8)) →
    ∃ (v0 : (c : Dev Cert.FfnDownUpdate3Ideal.nD) → Buf (Elt Ideal) ((c.tc : Thread Cert.FfnDownUpdate3Ideal.nD Cert.FfnDownUpdate3Ideal.τ).loc Cert.FfnDownUpdate3Ideal.main_v1_0)) (v1 : (c : Dev Cert.FfnDownUpdate3Ideal.nD) → Buf (Elt Ideal) ((c.tc : Thread Cert.FfnDownUpdate3Ideal.nD Cert.FfnDownUpdate3Ideal.τ).loc Cert.FfnDownUpdate3Ideal.main_v1_1)) (v2 : (c : Dev Cert.FfnDownUpdate3Ideal.nD) → Buf (Elt Ideal) ((c.tc : Thread Cert.FfnDownUpdate3Ideal.nD Cert.FfnDownUpdate3Ideal.τ).loc Cert.FfnDownUpdate3Ideal.main_v1_2)) (v3 : (c : Dev Cert.FfnDownUpdate3Ideal.nD) → Buf (Elt Ideal) ((c.tc : Thread Cert.FfnDownUpdate3Ideal.nD Cert.FfnDownUpdate3Ideal.τ).loc Cert.FfnDownUpdate3Ideal.main_v1_3)),
      θ_run (Cert.FfnDownUpdate3Ideal.defs (F := Ideal)) (onTc (τ := Cert.FfnDownUpdate3Ideal.τ) (Cert.FfnDownUpdate3Ideal.main (F := Ideal))) ⟨m, fun _ => 0, g⟩ (fun r => ∀ c : Dev Cert.FfnDownUpdate3Ideal.nD,
          r.2.mem ((c.tc : Thread Cert.FfnDownUpdate3Ideal.nD Cert.FfnDownUpdate3Ideal.τ).loc Cert.FfnDownUpdate3Ideal.main_v1_0) = v0 c
          ∧ r.2.mem ((c.tc : Thread Cert.FfnDownUpdate3Ideal.nD Cert.FfnDownUpdate3Ideal.τ).loc Cert.FfnDownUpdate3Ideal.main_v1_1) = v1 c
          ∧ r.2.mem ((c.tc : Thread Cert.FfnDownUpdate3Ideal.nD Cert.FfnDownUpdate3Ideal.τ).loc Cert.FfnDownUpdate3Ideal.main_v1_2) = v2 c
          ∧ r.2.mem ((c.tc : Thread Cert.FfnDownUpdate3Ideal.nD Cert.FfnDownUpdate3Ideal.τ).loc Cert.FfnDownUpdate3Ideal.main_v1_3) = v3 c
          ∧ r.2.mem ((c.tc : Thread Cert.FfnDownUpdate3Ideal.nD Cert.FfnDownUpdate3Ideal.τ).loc Cert.FfnDownUpdate3Ideal.main_arg0) = m ((c.tc : Thread Cert.FfnDownUpdate3Ideal.nD Cert.FfnDownUpdate3Ideal.τ).loc Cert.FfnDownUpdate3Ideal.main_arg0)
          ∧ r.2.mem ((c.tc : Thread Cert.FfnDownUpdate3Ideal.nD Cert.FfnDownUpdate3Ideal.τ).loc Cert.FfnDownUpdate3Ideal.main_arg1) = m ((c.tc : Thread Cert.FfnDownUpdate3Ideal.nD Cert.FfnDownUpdate3Ideal.τ).loc Cert.FfnDownUpdate3Ideal.main_arg1)
          ∧ r.2.mem ((c.tc : Thread Cert.FfnDownUpdate3Ideal.nD Cert.FfnDownUpdate3Ideal.τ).loc Cert.FfnDownUpdate3Ideal.main_arg2) = m ((c.tc : Thread Cert.FfnDownUpdate3Ideal.nD Cert.FfnDownUpdate3Ideal.τ).loc Cert.FfnDownUpdate3Ideal.main_arg2)
          ∧ r.2.mem ((c.tc : Thread Cert.FfnDownUpdate3Ideal.nD Cert.FfnDownUpdate3Ideal.τ).loc Cert.FfnDownUpdate3Ideal.main_arg3) = m ((c.tc : Thread Cert.FfnDownUpdate3Ideal.nD Cert.FfnDownUpdate3Ideal.τ).loc Cert.FfnDownUpdate3Ideal.main_arg3)
          ∧ r.2.mem ((c.tc : Thread Cert.FfnDownUpdate3Ideal.nD Cert.FfnDownUpdate3Ideal.τ).loc Cert.FfnDownUpdate3Ideal.main_arg4) = m ((c.tc : Thread Cert.FfnDownUpdate3Ideal.nD Cert.FfnDownUpdate3Ideal.τ).loc Cert.FfnDownUpdate3Ideal.main_arg4)
          ∧ r.2.mem ((c.tc : Thread Cert.FfnDownUpdate3Ideal.nD Cert.FfnDownUpdate3Ideal.τ).loc Cert.FfnDownUpdate3Ideal.main_arg5) = m ((c.tc : Thread Cert.FfnDownUpdate3Ideal.nD Cert.FfnDownUpdate3Ideal.τ).loc Cert.FfnDownUpdate3Ideal.main_arg5)
          ∧ r.2.mem ((c.tc : Thread Cert.FfnDownUpdate3Ideal.nD Cert.FfnDownUpdate3Ideal.τ).loc Cert.FfnDownUpdate3Ideal.main_arg6) = m ((c.tc : Thread Cert.FfnDownUpdate3Ideal.nD Cert.FfnDownUpdate3Ideal.τ).loc Cert.FfnDownUpdate3Ideal.main_arg6)
          ∧ r.2.mem ((c.tc : Thread Cert.FfnDownUpdate3Ideal.nD Cert.FfnDownUpdate3Ideal.τ).loc Cert.FfnDownUpdate3Ideal.main_arg7) = m ((c.tc : Thread Cert.FfnDownUpdate3Ideal.nD Cert.FfnDownUpdate3Ideal.τ).loc Cert.FfnDownUpdate3Ideal.main_arg7)
          ∧ r.2.mem ((c.tc : Thread Cert.FfnDownUpdate3Ideal.nD Cert.FfnDownUpdate3Ideal.τ).loc Cert.FfnDownUpdate3Ideal.main_arg8) = m ((c.tc : Thread Cert.FfnDownUpdate3Ideal.nD Cert.FfnDownUpdate3Ideal.τ).loc Cert.FfnDownUpdate3Ideal.main_arg8))
      ∧ θ_run (Cert.FfnDownUpdate3ReferenceIdeal.defs (F := Ideal)) (onTc (τ := Cert.FfnDownUpdate3ReferenceIdeal.τ) (Cert.FfnDownUpdate3ReferenceIdeal.main (F := Ideal))) ⟨m', fun _ => 0, g'⟩ (fun r => ∀ c : Dev Cert.FfnDownUpdate3ReferenceIdeal.nD,
          r.2.mem ((c.tc : Thread Cert.FfnDownUpdate3ReferenceIdeal.nD Cert.FfnDownUpdate3ReferenceIdeal.τ).loc Cert.FfnDownUpdate3ReferenceIdeal.main_v0_0) = v0 c
          ∧ r.2.mem ((c.tc : Thread Cert.FfnDownUpdate3ReferenceIdeal.nD Cert.FfnDownUpdate3ReferenceIdeal.τ).loc Cert.FfnDownUpdate3ReferenceIdeal.main_v0_1) = v1 c
          ∧ r.2.mem ((c.tc : Thread Cert.FfnDownUpdate3ReferenceIdeal.nD Cert.FfnDownUpdate3ReferenceIdeal.τ).loc Cert.FfnDownUpdate3ReferenceIdeal.main_v0_2) = v2 c
          ∧ r.2.mem ((c.tc : Thread Cert.FfnDownUpdate3ReferenceIdeal.nD Cert.FfnDownUpdate3ReferenceIdeal.τ).loc Cert.FfnDownUpdate3ReferenceIdeal.main_v0_3) = v3 c
          ∧ r.2.mem ((c.tc : Thread Cert.FfnDownUpdate3ReferenceIdeal.nD Cert.FfnDownUpdate3ReferenceIdeal.τ).loc Cert.FfnDownUpdate3ReferenceIdeal.main_arg0) = m' ((c.tc : Thread Cert.FfnDownUpdate3ReferenceIdeal.nD Cert.FfnDownUpdate3ReferenceIdeal.τ).loc Cert.FfnDownUpdate3ReferenceIdeal.main_arg0)
          ∧ r.2.mem ((c.tc : Thread Cert.FfnDownUpdate3ReferenceIdeal.nD Cert.FfnDownUpdate3ReferenceIdeal.τ).loc Cert.FfnDownUpdate3ReferenceIdeal.main_arg1) = m' ((c.tc : Thread Cert.FfnDownUpdate3ReferenceIdeal.nD Cert.FfnDownUpdate3ReferenceIdeal.τ).loc Cert.FfnDownUpdate3ReferenceIdeal.main_arg1)
          ∧ r.2.mem ((c.tc : Thread Cert.FfnDownUpdate3ReferenceIdeal.nD Cert.FfnDownUpdate3ReferenceIdeal.τ).loc Cert.FfnDownUpdate3ReferenceIdeal.main_arg2) = m' ((c.tc : Thread Cert.FfnDownUpdate3ReferenceIdeal.nD Cert.FfnDownUpdate3ReferenceIdeal.τ).loc Cert.FfnDownUpdate3ReferenceIdeal.main_arg2)
          ∧ r.2.mem ((c.tc : Thread Cert.FfnDownUpdate3ReferenceIdeal.nD Cert.FfnDownUpdate3ReferenceIdeal.τ).loc Cert.FfnDownUpdate3ReferenceIdeal.main_arg3) = m' ((c.tc : Thread Cert.FfnDownUpdate3ReferenceIdeal.nD Cert.FfnDownUpdate3ReferenceIdeal.τ).loc Cert.FfnDownUpdate3ReferenceIdeal.main_arg3)
          ∧ r.2.mem ((c.tc : Thread Cert.FfnDownUpdate3ReferenceIdeal.nD Cert.FfnDownUpdate3ReferenceIdeal.τ).loc Cert.FfnDownUpdate3ReferenceIdeal.main_arg4) = m' ((c.tc : Thread Cert.FfnDownUpdate3ReferenceIdeal.nD Cert.FfnDownUpdate3ReferenceIdeal.τ).loc Cert.FfnDownUpdate3ReferenceIdeal.main_arg4)
          ∧ r.2.mem ((c.tc : Thread Cert.FfnDownUpdate3ReferenceIdeal.nD Cert.FfnDownUpdate3ReferenceIdeal.τ).loc Cert.FfnDownUpdate3ReferenceIdeal.main_arg5) = m' ((c.tc : Thread Cert.FfnDownUpdate3ReferenceIdeal.nD Cert.FfnDownUpdate3ReferenceIdeal.τ).loc Cert.FfnDownUpdate3ReferenceIdeal.main_arg5)
          ∧ r.2.mem ((c.tc : Thread Cert.FfnDownUpdate3ReferenceIdeal.nD Cert.FfnDownUpdate3ReferenceIdeal.τ).loc Cert.FfnDownUpdate3ReferenceIdeal.main_arg6) = m' ((c.tc : Thread Cert.FfnDownUpdate3ReferenceIdeal.nD Cert.FfnDownUpdate3ReferenceIdeal.τ).loc Cert.FfnDownUpdate3ReferenceIdeal.main_arg6)
          ∧ r.2.mem ((c.tc : Thread Cert.FfnDownUpdate3ReferenceIdeal.nD Cert.FfnDownUpdate3ReferenceIdeal.τ).loc Cert.FfnDownUpdate3ReferenceIdeal.main_arg7) = m' ((c.tc : Thread Cert.FfnDownUpdate3ReferenceIdeal.nD Cert.FfnDownUpdate3ReferenceIdeal.τ).loc Cert.FfnDownUpdate3ReferenceIdeal.main_arg7)
          ∧ r.2.mem ((c.tc : Thread Cert.FfnDownUpdate3ReferenceIdeal.nD Cert.FfnDownUpdate3ReferenceIdeal.τ).loc Cert.FfnDownUpdate3ReferenceIdeal.main_arg8) = m' ((c.tc : Thread Cert.FfnDownUpdate3ReferenceIdeal.nD Cert.FfnDownUpdate3ReferenceIdeal.τ).loc Cert.FfnDownUpdate3ReferenceIdeal.main_arg8))

def Claim : Prop :=
  ∃ (hFfnUpGrad : Cert.FfnUpGrad.Facts) (hFfnUpGradIdeal : Cert.FfnUpGradIdeal.Facts) (hFfnUpGradReferenceIdeal : Cert.FfnUpGradReferenceIdeal.Facts) (hFfnDownGrad : Cert.FfnDownGrad.Facts) (hFfnDownGradIdeal : Cert.FfnDownGradIdeal.Facts) (hFfnDownGradReferenceIdeal : Cert.FfnDownGradReferenceIdeal.Facts) (hGmlpInGrad : Cert.GmlpInGrad.Facts) (hGmlpInGradIdeal : Cert.GmlpInGradIdeal.Facts) (hGmlpInGradReferenceIdeal : Cert.GmlpInGradReferenceIdeal.Facts) (hGmlpOutGrad : Cert.GmlpOutGrad.Facts) (hGmlpOutGradIdeal : Cert.GmlpOutGradIdeal.Facts) (hGmlpOutGradReferenceIdeal : Cert.GmlpOutGradReferenceIdeal.Facts) (hAttnQkvGrad : Cert.AttnQkvGrad.Facts) (hAttnQkvGradIdeal : Cert.AttnQkvGradIdeal.Facts) (hAttnQkvGradReferenceIdeal : Cert.AttnQkvGradReferenceIdeal.Facts) (hAttnOutGrad : Cert.AttnOutGrad.Facts) (hAttnOutGradIdeal : Cert.AttnOutGradIdeal.Facts) (hAttnOutGradReferenceIdeal : Cert.AttnOutGradReferenceIdeal.Facts) (hFfnUp : Cert.FfnUp.Facts) (hFfnUpIdeal : Cert.FfnUpIdeal.Facts) (hFfnUpReferenceIdeal : Cert.FfnUpReferenceIdeal.Facts) (hFfnDact : Cert.FfnDact.Facts) (hFfnDactIdeal : Cert.FfnDactIdeal.Facts) (hFfnDactReferenceIdeal : Cert.FfnDactReferenceIdeal.Facts) (hFfnDx : Cert.FfnDx.Facts) (hFfnDxIdeal : Cert.FfnDxIdeal.Facts) (hFfnDxReferenceIdeal : Cert.FfnDxReferenceIdeal.Facts) (hFfnDxGmlp : Cert.FfnDxGmlp.Facts) (hFfnDxGmlpIdeal : Cert.FfnDxGmlpIdeal.Facts) (hFfnDxGmlpReferenceIdeal : Cert.FfnDxGmlpReferenceIdeal.Facts) (hGmlpIn : Cert.GmlpIn.Facts) (hGmlpInIdeal : Cert.GmlpInIdeal.Facts) (hGmlpInReferenceIdeal : Cert.GmlpInReferenceIdeal.Facts) (hFfnDown : Cert.FfnDown.Facts) (hFfnDownIdeal : Cert.FfnDownIdeal.Facts) (hFfnDownReferenceIdeal : Cert.FfnDownReferenceIdeal.Facts) (hAttnOut : Cert.AttnOut.Facts) (hAttnOutIdeal : Cert.AttnOutIdeal.Facts) (hAttnOutReferenceIdeal : Cert.AttnOutReferenceIdeal.Facts) (hSpatial : Cert.Spatial.Facts) (hSpatialIdeal : Cert.SpatialIdeal.Facts) (hSpatialReferenceIdeal : Cert.SpatialReferenceIdeal.Facts) (hSmall : Cert.Small.Facts) (hSmallIdeal : Cert.SmallIdeal.Facts) (hSmallReferenceIdeal : Cert.SmallReferenceIdeal.Facts) (hBias : Cert.Bias.Facts) (hBiasIdeal : Cert.BiasIdeal.Facts) (hBiasReferenceIdeal : Cert.BiasReferenceIdeal.Facts) (hBiasSum : Cert.BiasSum.Facts) (hBiasSumIdeal : Cert.BiasSumIdeal.Facts) (hBiasSumReferenceIdeal : Cert.BiasSumReferenceIdeal.Facts) (hGmlpOutUpdate0 : Cert.GmlpOutUpdate0.Facts) (hGmlpOutUpdate0Ideal : Cert.GmlpOutUpdate0Ideal.Facts) (hGmlpOutUpdate0ReferenceIdeal : Cert.GmlpOutUpdate0ReferenceIdeal.Facts) (hGmlpOutUpdate1 : Cert.GmlpOutUpdate1.Facts) (hGmlpOutUpdate1Ideal : Cert.GmlpOutUpdate1Ideal.Facts) (hGmlpOutUpdate1ReferenceIdeal : Cert.GmlpOutUpdate1ReferenceIdeal.Facts) (hAttnQkvUpdate0 : Cert.AttnQkvUpdate0.Facts) (hAttnQkvUpdate0Ideal : Cert.AttnQkvUpdate0Ideal.Facts) (hAttnQkvUpdate0ReferenceIdeal : Cert.AttnQkvUpdate0ReferenceIdeal.Facts) (hAttnQkvUpdate1 : Cert.AttnQkvUpdate1.Facts) (hAttnQkvUpdate1Ideal : Cert.AttnQkvUpdate1Ideal.Facts) (hAttnQkvUpdate1ReferenceIdeal : Cert.AttnQkvUpdate1ReferenceIdeal.Facts) (hAttnOutUpdate0 : Cert.AttnOutUpdate0.Facts) (hAttnOutUpdate0Ideal : Cert.AttnOutUpdate0Ideal.Facts) (hAttnOutUpdate0ReferenceIdeal : Cert.AttnOutUpdate0ReferenceIdeal.Facts) (hAttnOutUpdate1 : Cert.AttnOutUpdate1.Facts) (hAttnOutUpdate1Ideal : Cert.AttnOutUpdate1Ideal.Facts) (hAttnOutUpdate1ReferenceIdeal : Cert.AttnOutUpdate1ReferenceIdeal.Facts) (hGmlpInUpdate0 : Cert.GmlpInUpdate0.Facts) (hGmlpInUpdate0Ideal : Cert.GmlpInUpdate0Ideal.Facts) (hGmlpInUpdate0ReferenceIdeal : Cert.GmlpInUpdate0ReferenceIdeal.Facts) (hGmlpInUpdate1 : Cert.GmlpInUpdate1.Facts) (hGmlpInUpdate1Ideal : Cert.GmlpInUpdate1Ideal.Facts) (hGmlpInUpdate1ReferenceIdeal : Cert.GmlpInUpdate1ReferenceIdeal.Facts) (hFfnUpUpdate0 : Cert.FfnUpUpdate0.Facts) (hFfnUpUpdate0Ideal : Cert.FfnUpUpdate0Ideal.Facts) (hFfnUpUpdate0ReferenceIdeal : Cert.FfnUpUpdate0ReferenceIdeal.Facts) (hFfnUpUpdate1 : Cert.FfnUpUpdate1.Facts) (hFfnUpUpdate1Ideal : Cert.FfnUpUpdate1Ideal.Facts) (hFfnUpUpdate1ReferenceIdeal : Cert.FfnUpUpdate1ReferenceIdeal.Facts) (hFfnUpUpdate2 : Cert.FfnUpUpdate2.Facts) (hFfnUpUpdate2Ideal : Cert.FfnUpUpdate2Ideal.Facts) (hFfnUpUpdate2ReferenceIdeal : Cert.FfnUpUpdate2ReferenceIdeal.Facts) (hFfnUpUpdate3 : Cert.FfnUpUpdate3.Facts) (hFfnUpUpdate3Ideal : Cert.FfnUpUpdate3Ideal.Facts) (hFfnUpUpdate3ReferenceIdeal : Cert.FfnUpUpdate3ReferenceIdeal.Facts) (hFfnDownUpdate0 : Cert.FfnDownUpdate0.Facts) (hFfnDownUpdate0Ideal : Cert.FfnDownUpdate0Ideal.Facts) (hFfnDownUpdate0ReferenceIdeal : Cert.FfnDownUpdate0ReferenceIdeal.Facts) (hFfnDownUpdate1 : Cert.FfnDownUpdate1.Facts) (hFfnDownUpdate1Ideal : Cert.FfnDownUpdate1Ideal.Facts) (hFfnDownUpdate1ReferenceIdeal : Cert.FfnDownUpdate1ReferenceIdeal.Facts) (hFfnDownUpdate2 : Cert.FfnDownUpdate2.Facts) (hFfnDownUpdate2Ideal : Cert.FfnDownUpdate2Ideal.Facts) (hFfnDownUpdate2ReferenceIdeal : Cert.FfnDownUpdate2ReferenceIdeal.Facts) (hFfnDownUpdate3 : Cert.FfnDownUpdate3.Facts) (hFfnDownUpdate3Ideal : Cert.FfnDownUpdate3Ideal.Facts) (hFfnDownUpdate3ReferenceIdeal : Cert.FfnDownUpdate3ReferenceIdeal.Facts) (hPre_finite_ffn_up : Cert.Pre_finite_ffn_up.Facts) (hPre_finite_ffn_dact : Cert.Pre_finite_ffn_dact.Facts) (hPre_finite_ffn_dx : Cert.Pre_finite_ffn_dx.Facts) (hPre_finite_ffn_dx_gmlp : Cert.Pre_finite_ffn_dx_gmlp.Facts),
    quiescent_FfnUpGrad (hFfnUpGrad := hFfnUpGrad)
    ∧ quiescent_FfnUpGradIdeal (hFfnUpGradIdeal := hFfnUpGradIdeal)
    ∧ quiescent_FfnUpGradReferenceIdeal (hFfnUpGradReferenceIdeal := hFfnUpGradReferenceIdeal)
    ∧ quiescent_FfnDownGrad (hFfnDownGrad := hFfnDownGrad)
    ∧ quiescent_FfnDownGradIdeal (hFfnDownGradIdeal := hFfnDownGradIdeal)
    ∧ quiescent_FfnDownGradReferenceIdeal (hFfnDownGradReferenceIdeal := hFfnDownGradReferenceIdeal)
    ∧ quiescent_GmlpInGrad (hGmlpInGrad := hGmlpInGrad)
    ∧ quiescent_GmlpInGradIdeal (hGmlpInGradIdeal := hGmlpInGradIdeal)
    ∧ quiescent_GmlpInGradReferenceIdeal (hGmlpInGradReferenceIdeal := hGmlpInGradReferenceIdeal)
    ∧ quiescent_GmlpOutGrad (hGmlpOutGrad := hGmlpOutGrad)
    ∧ quiescent_GmlpOutGradIdeal (hGmlpOutGradIdeal := hGmlpOutGradIdeal)
    ∧ quiescent_GmlpOutGradReferenceIdeal (hGmlpOutGradReferenceIdeal := hGmlpOutGradReferenceIdeal)
    ∧ quiescent_AttnQkvGrad (hAttnQkvGrad := hAttnQkvGrad)
    ∧ quiescent_AttnQkvGradIdeal (hAttnQkvGradIdeal := hAttnQkvGradIdeal)
    ∧ quiescent_AttnQkvGradReferenceIdeal (hAttnQkvGradReferenceIdeal := hAttnQkvGradReferenceIdeal)
    ∧ quiescent_AttnOutGrad (hAttnOutGrad := hAttnOutGrad)
    ∧ quiescent_AttnOutGradIdeal (hAttnOutGradIdeal := hAttnOutGradIdeal)
    ∧ quiescent_AttnOutGradReferenceIdeal (hAttnOutGradReferenceIdeal := hAttnOutGradReferenceIdeal)
    ∧ quiescent_FfnUp (hFfnUp := hFfnUp)
    ∧ quiescent_FfnUpIdeal (hFfnUpIdeal := hFfnUpIdeal)
    ∧ quiescent_FfnUpIdeal_pre_finite_ffn_up (hFfnUpIdeal := hFfnUpIdeal) (hPre_finite_ffn_up := hPre_finite_ffn_up)
    ∧ quiescent_FfnUpReferenceIdeal (hFfnUpReferenceIdeal := hFfnUpReferenceIdeal)
    ∧ quiescent_FfnUpReferenceIdeal_pre_finite_ffn_up (hFfnUpReferenceIdeal := hFfnUpReferenceIdeal) (hPre_finite_ffn_up := hPre_finite_ffn_up)
    ∧ quiescent_FfnDact (hFfnDact := hFfnDact)
    ∧ quiescent_FfnDactIdeal (hFfnDactIdeal := hFfnDactIdeal)
    ∧ quiescent_FfnDactIdeal_pre_finite_ffn_dact (hFfnDactIdeal := hFfnDactIdeal) (hPre_finite_ffn_dact := hPre_finite_ffn_dact)
    ∧ quiescent_FfnDactReferenceIdeal (hFfnDactReferenceIdeal := hFfnDactReferenceIdeal)
    ∧ quiescent_FfnDactReferenceIdeal_pre_finite_ffn_dact (hFfnDactReferenceIdeal := hFfnDactReferenceIdeal) (hPre_finite_ffn_dact := hPre_finite_ffn_dact)
    ∧ quiescent_FfnDx (hFfnDx := hFfnDx)
    ∧ quiescent_FfnDxIdeal (hFfnDxIdeal := hFfnDxIdeal)
    ∧ quiescent_FfnDxIdeal_pre_finite_ffn_dx (hFfnDxIdeal := hFfnDxIdeal) (hPre_finite_ffn_dx := hPre_finite_ffn_dx)
    ∧ quiescent_FfnDxReferenceIdeal (hFfnDxReferenceIdeal := hFfnDxReferenceIdeal)
    ∧ quiescent_FfnDxReferenceIdeal_pre_finite_ffn_dx (hFfnDxReferenceIdeal := hFfnDxReferenceIdeal) (hPre_finite_ffn_dx := hPre_finite_ffn_dx)
    ∧ quiescent_FfnDxGmlp (hFfnDxGmlp := hFfnDxGmlp)
    ∧ quiescent_FfnDxGmlpIdeal (hFfnDxGmlpIdeal := hFfnDxGmlpIdeal)
    ∧ quiescent_FfnDxGmlpIdeal_pre_finite_ffn_dx_gmlp (hFfnDxGmlpIdeal := hFfnDxGmlpIdeal) (hPre_finite_ffn_dx_gmlp := hPre_finite_ffn_dx_gmlp)
    ∧ quiescent_FfnDxGmlpReferenceIdeal (hFfnDxGmlpReferenceIdeal := hFfnDxGmlpReferenceIdeal)
    ∧ quiescent_FfnDxGmlpReferenceIdeal_pre_finite_ffn_dx_gmlp (hFfnDxGmlpReferenceIdeal := hFfnDxGmlpReferenceIdeal) (hPre_finite_ffn_dx_gmlp := hPre_finite_ffn_dx_gmlp)
    ∧ quiescent_GmlpIn (hGmlpIn := hGmlpIn)
    ∧ quiescent_GmlpInIdeal (hGmlpInIdeal := hGmlpInIdeal)
    ∧ quiescent_GmlpInReferenceIdeal (hGmlpInReferenceIdeal := hGmlpInReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_AttnOut (hAttnOut := hAttnOut)
    ∧ quiescent_AttnOutIdeal (hAttnOutIdeal := hAttnOutIdeal)
    ∧ quiescent_AttnOutReferenceIdeal (hAttnOutReferenceIdeal := hAttnOutReferenceIdeal)
    ∧ quiescent_Spatial (hSpatial := hSpatial)
    ∧ quiescent_SpatialIdeal (hSpatialIdeal := hSpatialIdeal)
    ∧ quiescent_SpatialReferenceIdeal (hSpatialReferenceIdeal := hSpatialReferenceIdeal)
    ∧ quiescent_Small (hSmall := hSmall)
    ∧ quiescent_SmallIdeal (hSmallIdeal := hSmallIdeal)
    ∧ quiescent_SmallReferenceIdeal (hSmallReferenceIdeal := hSmallReferenceIdeal)
    ∧ quiescent_Bias (hBias := hBias)
    ∧ quiescent_BiasIdeal (hBiasIdeal := hBiasIdeal)
    ∧ quiescent_BiasReferenceIdeal (hBiasReferenceIdeal := hBiasReferenceIdeal)
    ∧ quiescent_BiasSum (hBiasSum := hBiasSum)
    ∧ quiescent_BiasSumIdeal (hBiasSumIdeal := hBiasSumIdeal)
    ∧ quiescent_BiasSumReferenceIdeal (hBiasSumReferenceIdeal := hBiasSumReferenceIdeal)
    ∧ quiescent_GmlpOutUpdate0 (hGmlpOutUpdate0 := hGmlpOutUpdate0)
    ∧ quiescent_GmlpOutUpdate0Ideal (hGmlpOutUpdate0Ideal := hGmlpOutUpdate0Ideal)
    ∧ quiescent_GmlpOutUpdate0ReferenceIdeal (hGmlpOutUpdate0ReferenceIdeal := hGmlpOutUpdate0ReferenceIdeal)
    ∧ quiescent_GmlpOutUpdate1 (hGmlpOutUpdate1 := hGmlpOutUpdate1)
    ∧ quiescent_GmlpOutUpdate1Ideal (hGmlpOutUpdate1Ideal := hGmlpOutUpdate1Ideal)
    ∧ quiescent_GmlpOutUpdate1ReferenceIdeal (hGmlpOutUpdate1ReferenceIdeal := hGmlpOutUpdate1ReferenceIdeal)
    ∧ quiescent_AttnQkvUpdate0 (hAttnQkvUpdate0 := hAttnQkvUpdate0)
    ∧ quiescent_AttnQkvUpdate0Ideal (hAttnQkvUpdate0Ideal := hAttnQkvUpdate0Ideal)
    ∧ quiescent_AttnQkvUpdate0ReferenceIdeal (hAttnQkvUpdate0ReferenceIdeal := hAttnQkvUpdate0ReferenceIdeal)
    ∧ quiescent_AttnQkvUpdate1 (hAttnQkvUpdate1 := hAttnQkvUpdate1)
    ∧ quiescent_AttnQkvUpdate1Ideal (hAttnQkvUpdate1Ideal := hAttnQkvUpdate1Ideal)
    ∧ quiescent_AttnQkvUpdate1ReferenceIdeal (hAttnQkvUpdate1ReferenceIdeal := hAttnQkvUpdate1ReferenceIdeal)
    ∧ quiescent_AttnOutUpdate0 (hAttnOutUpdate0 := hAttnOutUpdate0)
    ∧ quiescent_AttnOutUpdate0Ideal (hAttnOutUpdate0Ideal := hAttnOutUpdate0Ideal)
    ∧ quiescent_AttnOutUpdate0ReferenceIdeal (hAttnOutUpdate0ReferenceIdeal := hAttnOutUpdate0ReferenceIdeal)
    ∧ quiescent_AttnOutUpdate1 (hAttnOutUpdate1 := hAttnOutUpdate1)
    ∧ quiescent_AttnOutUpdate1Ideal (hAttnOutUpdate1Ideal := hAttnOutUpdate1Ideal)
    ∧ quiescent_AttnOutUpdate1ReferenceIdeal (hAttnOutUpdate1ReferenceIdeal := hAttnOutUpdate1ReferenceIdeal)
    ∧ quiescent_GmlpInUpdate0 (hGmlpInUpdate0 := hGmlpInUpdate0)
    ∧ quiescent_GmlpInUpdate0Ideal (hGmlpInUpdate0Ideal := hGmlpInUpdate0Ideal)
    ∧ quiescent_GmlpInUpdate0ReferenceIdeal (hGmlpInUpdate0ReferenceIdeal := hGmlpInUpdate0ReferenceIdeal)
    ∧ quiescent_GmlpInUpdate1 (hGmlpInUpdate1 := hGmlpInUpdate1)
    ∧ quiescent_GmlpInUpdate1Ideal (hGmlpInUpdate1Ideal := hGmlpInUpdate1Ideal)
    ∧ quiescent_GmlpInUpdate1ReferenceIdeal (hGmlpInUpdate1ReferenceIdeal := hGmlpInUpdate1ReferenceIdeal)
    ∧ quiescent_FfnUpUpdate0 (hFfnUpUpdate0 := hFfnUpUpdate0)
    ∧ quiescent_FfnUpUpdate0Ideal (hFfnUpUpdate0Ideal := hFfnUpUpdate0Ideal)
    ∧ quiescent_FfnUpUpdate0ReferenceIdeal (hFfnUpUpdate0ReferenceIdeal := hFfnUpUpdate0ReferenceIdeal)
    ∧ quiescent_FfnUpUpdate1 (hFfnUpUpdate1 := hFfnUpUpdate1)
    ∧ quiescent_FfnUpUpdate1Ideal (hFfnUpUpdate1Ideal := hFfnUpUpdate1Ideal)
    ∧ quiescent_FfnUpUpdate1ReferenceIdeal (hFfnUpUpdate1ReferenceIdeal := hFfnUpUpdate1ReferenceIdeal)
    ∧ quiescent_FfnUpUpdate2 (hFfnUpUpdate2 := hFfnUpUpdate2)
    ∧ quiescent_FfnUpUpdate2Ideal (hFfnUpUpdate2Ideal := hFfnUpUpdate2Ideal)
    ∧ quiescent_FfnUpUpdate2ReferenceIdeal (hFfnUpUpdate2ReferenceIdeal := hFfnUpUpdate2ReferenceIdeal)
    ∧ quiescent_FfnUpUpdate3 (hFfnUpUpdate3 := hFfnUpUpdate3)
    ∧ quiescent_FfnUpUpdate3Ideal (hFfnUpUpdate3Ideal := hFfnUpUpdate3Ideal)
    ∧ quiescent_FfnUpUpdate3ReferenceIdeal (hFfnUpUpdate3ReferenceIdeal := hFfnUpUpdate3ReferenceIdeal)
    ∧ quiescent_FfnDownUpdate0 (hFfnDownUpdate0 := hFfnDownUpdate0)
    ∧ quiescent_FfnDownUpdate0Ideal (hFfnDownUpdate0Ideal := hFfnDownUpdate0Ideal)
    ∧ quiescent_FfnDownUpdate0ReferenceIdeal (hFfnDownUpdate0ReferenceIdeal := hFfnDownUpdate0ReferenceIdeal)
    ∧ quiescent_FfnDownUpdate1 (hFfnDownUpdate1 := hFfnDownUpdate1)
    ∧ quiescent_FfnDownUpdate1Ideal (hFfnDownUpdate1Ideal := hFfnDownUpdate1Ideal)
    ∧ quiescent_FfnDownUpdate1ReferenceIdeal (hFfnDownUpdate1ReferenceIdeal := hFfnDownUpdate1ReferenceIdeal)
    ∧ quiescent_FfnDownUpdate2 (hFfnDownUpdate2 := hFfnDownUpdate2)
    ∧ quiescent_FfnDownUpdate2Ideal (hFfnDownUpdate2Ideal := hFfnDownUpdate2Ideal)
    ∧ quiescent_FfnDownUpdate2ReferenceIdeal (hFfnDownUpdate2ReferenceIdeal := hFfnDownUpdate2ReferenceIdeal)
    ∧ quiescent_FfnDownUpdate3 (hFfnDownUpdate3 := hFfnDownUpdate3)
    ∧ quiescent_FfnDownUpdate3Ideal (hFfnDownUpdate3Ideal := hFfnDownUpdate3Ideal)
    ∧ quiescent_FfnDownUpdate3ReferenceIdeal (hFfnDownUpdate3ReferenceIdeal := hFfnDownUpdate3ReferenceIdeal)
    ∧ preserves_FfnUpGrad_FfnUpGradIdeal
    ∧ algebraic_FfnUpGradIdeal_FfnUpGradReferenceIdeal (hFfnUpGradIdeal := hFfnUpGradIdeal) (hFfnUpGradReferenceIdeal := hFfnUpGradReferenceIdeal)
    ∧ preserves_FfnDownGrad_FfnDownGradIdeal
    ∧ algebraic_FfnDownGradIdeal_FfnDownGradReferenceIdeal (hFfnDownGradIdeal := hFfnDownGradIdeal) (hFfnDownGradReferenceIdeal := hFfnDownGradReferenceIdeal)
    ∧ preserves_GmlpInGrad_GmlpInGradIdeal
    ∧ algebraic_GmlpInGradIdeal_GmlpInGradReferenceIdeal (hGmlpInGradIdeal := hGmlpInGradIdeal) (hGmlpInGradReferenceIdeal := hGmlpInGradReferenceIdeal)
    ∧ preserves_GmlpOutGrad_GmlpOutGradIdeal
    ∧ algebraic_GmlpOutGradIdeal_GmlpOutGradReferenceIdeal (hGmlpOutGradIdeal := hGmlpOutGradIdeal) (hGmlpOutGradReferenceIdeal := hGmlpOutGradReferenceIdeal)
    ∧ preserves_AttnQkvGrad_AttnQkvGradIdeal
    ∧ algebraic_AttnQkvGradIdeal_AttnQkvGradReferenceIdeal (hAttnQkvGradIdeal := hAttnQkvGradIdeal) (hAttnQkvGradReferenceIdeal := hAttnQkvGradReferenceIdeal)
    ∧ preserves_AttnOutGrad_AttnOutGradIdeal
    ∧ algebraic_AttnOutGradIdeal_AttnOutGradReferenceIdeal (hAttnOutGradIdeal := hAttnOutGradIdeal) (hAttnOutGradReferenceIdeal := hAttnOutGradReferenceIdeal)
    ∧ preserves_FfnUp_FfnUpIdeal
    ∧ algebraic_FfnUpIdeal_FfnUpReferenceIdeal_pre_finite_ffn_up (hFfnUpIdeal := hFfnUpIdeal) (hFfnUpReferenceIdeal := hFfnUpReferenceIdeal) (hPre_finite_ffn_up := hPre_finite_ffn_up)
    ∧ preserves_FfnDact_FfnDactIdeal
    ∧ algebraic_FfnDactIdeal_FfnDactReferenceIdeal_pre_finite_ffn_dact (hFfnDactIdeal := hFfnDactIdeal) (hFfnDactReferenceIdeal := hFfnDactReferenceIdeal) (hPre_finite_ffn_dact := hPre_finite_ffn_dact)
    ∧ preserves_FfnDx_FfnDxIdeal
    ∧ algebraic_FfnDxIdeal_FfnDxReferenceIdeal_pre_finite_ffn_dx (hFfnDxIdeal := hFfnDxIdeal) (hFfnDxReferenceIdeal := hFfnDxReferenceIdeal) (hPre_finite_ffn_dx := hPre_finite_ffn_dx)
    ∧ preserves_FfnDxGmlp_FfnDxGmlpIdeal
    ∧ algebraic_FfnDxGmlpIdeal_FfnDxGmlpReferenceIdeal_pre_finite_ffn_dx_gmlp (hFfnDxGmlpIdeal := hFfnDxGmlpIdeal) (hFfnDxGmlpReferenceIdeal := hFfnDxGmlpReferenceIdeal) (hPre_finite_ffn_dx_gmlp := hPre_finite_ffn_dx_gmlp)
    ∧ preserves_GmlpIn_GmlpInIdeal
    ∧ algebraic_GmlpInIdeal_GmlpInReferenceIdeal (hGmlpInIdeal := hGmlpInIdeal) (hGmlpInReferenceIdeal := hGmlpInReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_AttnOut_AttnOutIdeal
    ∧ algebraic_AttnOutIdeal_AttnOutReferenceIdeal (hAttnOutIdeal := hAttnOutIdeal) (hAttnOutReferenceIdeal := hAttnOutReferenceIdeal)
    ∧ preserves_Spatial_SpatialIdeal
    ∧ algebraic_SpatialIdeal_SpatialReferenceIdeal (hSpatialIdeal := hSpatialIdeal) (hSpatialReferenceIdeal := hSpatialReferenceIdeal)
    ∧ preserves_Small_SmallIdeal
    ∧ algebraic_SmallIdeal_SmallReferenceIdeal (hSmallIdeal := hSmallIdeal) (hSmallReferenceIdeal := hSmallReferenceIdeal)
    ∧ preserves_Bias_BiasIdeal
    ∧ algebraic_BiasIdeal_BiasReferenceIdeal (hBiasIdeal := hBiasIdeal) (hBiasReferenceIdeal := hBiasReferenceIdeal)
    ∧ preserves_BiasSum_BiasSumIdeal
    ∧ algebraic_BiasSumIdeal_BiasSumReferenceIdeal (hBiasSumIdeal := hBiasSumIdeal) (hBiasSumReferenceIdeal := hBiasSumReferenceIdeal)
    ∧ preserves_GmlpOutUpdate0_GmlpOutUpdate0Ideal
    ∧ algebraic_GmlpOutUpdate0Ideal_GmlpOutUpdate0ReferenceIdeal (hGmlpOutUpdate0Ideal := hGmlpOutUpdate0Ideal) (hGmlpOutUpdate0ReferenceIdeal := hGmlpOutUpdate0ReferenceIdeal)
    ∧ preserves_GmlpOutUpdate1_GmlpOutUpdate1Ideal
    ∧ algebraic_GmlpOutUpdate1Ideal_GmlpOutUpdate1ReferenceIdeal (hGmlpOutUpdate1Ideal := hGmlpOutUpdate1Ideal) (hGmlpOutUpdate1ReferenceIdeal := hGmlpOutUpdate1ReferenceIdeal)
    ∧ preserves_AttnQkvUpdate0_AttnQkvUpdate0Ideal
    ∧ algebraic_AttnQkvUpdate0Ideal_AttnQkvUpdate0ReferenceIdeal (hAttnQkvUpdate0Ideal := hAttnQkvUpdate0Ideal) (hAttnQkvUpdate0ReferenceIdeal := hAttnQkvUpdate0ReferenceIdeal)
    ∧ preserves_AttnQkvUpdate1_AttnQkvUpdate1Ideal
    ∧ algebraic_AttnQkvUpdate1Ideal_AttnQkvUpdate1ReferenceIdeal (hAttnQkvUpdate1Ideal := hAttnQkvUpdate1Ideal) (hAttnQkvUpdate1ReferenceIdeal := hAttnQkvUpdate1ReferenceIdeal)
    ∧ preserves_AttnOutUpdate0_AttnOutUpdate0Ideal
    ∧ algebraic_AttnOutUpdate0Ideal_AttnOutUpdate0ReferenceIdeal (hAttnOutUpdate0Ideal := hAttnOutUpdate0Ideal) (hAttnOutUpdate0ReferenceIdeal := hAttnOutUpdate0ReferenceIdeal)
    ∧ preserves_AttnOutUpdate1_AttnOutUpdate1Ideal
    ∧ algebraic_AttnOutUpdate1Ideal_AttnOutUpdate1ReferenceIdeal (hAttnOutUpdate1Ideal := hAttnOutUpdate1Ideal) (hAttnOutUpdate1ReferenceIdeal := hAttnOutUpdate1ReferenceIdeal)
    ∧ preserves_GmlpInUpdate0_GmlpInUpdate0Ideal
    ∧ algebraic_GmlpInUpdate0Ideal_GmlpInUpdate0ReferenceIdeal (hGmlpInUpdate0Ideal := hGmlpInUpdate0Ideal) (hGmlpInUpdate0ReferenceIdeal := hGmlpInUpdate0ReferenceIdeal)
    ∧ preserves_GmlpInUpdate1_GmlpInUpdate1Ideal
    ∧ algebraic_GmlpInUpdate1Ideal_GmlpInUpdate1ReferenceIdeal (hGmlpInUpdate1Ideal := hGmlpInUpdate1Ideal) (hGmlpInUpdate1ReferenceIdeal := hGmlpInUpdate1ReferenceIdeal)
    ∧ preserves_FfnUpUpdate0_FfnUpUpdate0Ideal
    ∧ algebraic_FfnUpUpdate0Ideal_FfnUpUpdate0ReferenceIdeal (hFfnUpUpdate0Ideal := hFfnUpUpdate0Ideal) (hFfnUpUpdate0ReferenceIdeal := hFfnUpUpdate0ReferenceIdeal)
    ∧ preserves_FfnUpUpdate1_FfnUpUpdate1Ideal
    ∧ algebraic_FfnUpUpdate1Ideal_FfnUpUpdate1ReferenceIdeal (hFfnUpUpdate1Ideal := hFfnUpUpdate1Ideal) (hFfnUpUpdate1ReferenceIdeal := hFfnUpUpdate1ReferenceIdeal)
    ∧ preserves_FfnUpUpdate2_FfnUpUpdate2Ideal
    ∧ algebraic_FfnUpUpdate2Ideal_FfnUpUpdate2ReferenceIdeal (hFfnUpUpdate2Ideal := hFfnUpUpdate2Ideal) (hFfnUpUpdate2ReferenceIdeal := hFfnUpUpdate2ReferenceIdeal)
    ∧ preserves_FfnUpUpdate3_FfnUpUpdate3Ideal
    ∧ algebraic_FfnUpUpdate3Ideal_FfnUpUpdate3ReferenceIdeal (hFfnUpUpdate3Ideal := hFfnUpUpdate3Ideal) (hFfnUpUpdate3ReferenceIdeal := hFfnUpUpdate3ReferenceIdeal)
    ∧ preserves_FfnDownUpdate0_FfnDownUpdate0Ideal
    ∧ algebraic_FfnDownUpdate0Ideal_FfnDownUpdate0ReferenceIdeal (hFfnDownUpdate0Ideal := hFfnDownUpdate0Ideal) (hFfnDownUpdate0ReferenceIdeal := hFfnDownUpdate0ReferenceIdeal)
    ∧ preserves_FfnDownUpdate1_FfnDownUpdate1Ideal
    ∧ algebraic_FfnDownUpdate1Ideal_FfnDownUpdate1ReferenceIdeal (hFfnDownUpdate1Ideal := hFfnDownUpdate1Ideal) (hFfnDownUpdate1ReferenceIdeal := hFfnDownUpdate1ReferenceIdeal)
    ∧ preserves_FfnDownUpdate2_FfnDownUpdate2Ideal
    ∧ algebraic_FfnDownUpdate2Ideal_FfnDownUpdate2ReferenceIdeal (hFfnDownUpdate2Ideal := hFfnDownUpdate2Ideal) (hFfnDownUpdate2ReferenceIdeal := hFfnDownUpdate2ReferenceIdeal)
    ∧ preserves_FfnDownUpdate3_FfnDownUpdate3Ideal
    ∧ algebraic_FfnDownUpdate3Ideal_FfnDownUpdate3ReferenceIdeal (hFfnDownUpdate3Ideal := hFfnDownUpdate3Ideal) (hFfnDownUpdate3ReferenceIdeal := hFfnDownUpdate3ReferenceIdeal)
-- ==== Pre_finite_ffn_dact.lean ====
abbrev S4096x5632 : Shape := ⟨2, ![4096, 5632]⟩
abbrev S2816x1024 : Shape := ⟨2, ![2816, 1024]⟩
abbrev S4096x1024 : Shape := ⟨2, ![4096, 1024]⟩
abbrev S_ : Shape := ⟨0, ![]⟩

class Facts : Prop where
  bcast_S_S4096x5632 : S_.BroadcastsInDim S4096x5632 (![] : Fin 0 → Fin S4096x5632.rank)
  reducesTo_S4096x5632_S_d0_1 : S4096x5632.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x1024 : S_.BroadcastsInDim S4096x1024 (![] : Fin 0 → Fin S4096x1024.rank)
  reducesTo_S4096x1024_S_d0_1 : S4096x1024.ReducesTo [0, 1] S_

variable [Facts]

def fn {F : FTy → Type} [FloatOps F] (main_arg0 : FVec F S4096x5632 .f32) (main_arg1 : FVec F S2816x1024 .f32) (main_arg2 : FVec F S4096x1024 .f32) : IVec S_ 1 :=
  let main_v0 : FVec F S4096x5632 .f32 := Host.absf main_arg0
  let main_cst : FVec F S_ .f32 := constant S_ .f32 0x7F800000#32
  let main_v1 : FVec F S4096x5632 .f32 := broadcastInDim S4096x5632 ![] bcast_S_S4096x5632 main_cst
  let main_v2 : IVec S4096x5632 1 := cmpf .olt main_v0 main_v1
  let main_c : IVec S_ 1 := constantI S_ 1 1#1
  let main_v3 : IVec S_ 1 := (fun x v => Host.reduce IntOp.andi x v reducesTo_S4096x5632_S_d0_1 h_S_) main_v2 main_c
  let main_v4 : FVec F S2816x1024 .f32 := Host.absf main_arg1
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  main_v13
-- ==== Pre_finite_ffn_dx.lean ====
abbrev S4096x1024 : Shape := ⟨2, ![4096, 1024]⟩
abbrev S1024x1024 : Shape := ⟨2, ![1024, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x5632 : S_.BroadcastsInDim S1024x5632 (![] : Fin 0 → Fin S1024x5632.rank)
  reducesTo_S1024x5632_S_d0_1 : S1024x5632.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn_part2 {F : FTy → Type} [FloatOps F] (main_arg7 : FVec F S4096x5632 .f32) (main_v33 : IVec S_ 1) : IVec S_ 1 :=
  let main_v34 : FVec F S4096x5632 .f32 := Host.absf main_arg7
  let main_cst_12 : FVec F S_ .f32 := constant S_ .f32 0x7F800000#32
  let main_v35 : FVec F S4096x5632 .f32 := broadcastInDim S4096x5632 ![] bcast_S_S4096x5632 main_cst_12
  let main_v36 : IVec S4096x5632 1 := cmpf .olt main_v34 main_v35
  let main_c_13 : IVec S_ 1 := constantI S_ 1 1#1
  let main_v37 : IVec S_ 1 := (fun x v => Host.reduce IntOp.andi x v reducesTo_S4096x5632_S_d0_1 h_S_) main_v36 main_c_13
  let main_v38 : IVec S_ 1 := andi main_v33 main_v37
  main_v38

def fn_part1 {F : FTy → Type} [FloatOps F] (main_arg4 : FVec F S1024 .f32) (main_arg5 : FVec F S1024x5632 .f32) (main_arg6 : FVec F S4096x1024 .f32) (main_arg7 : FVec F S4096x5632 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x5632 .f32 := Host.absf main_arg5
  let main_cst_8 : FVec F S_ .f32 := constant S_ .f32 0x7F800000#32
  let main_v25 : FVec F S1024x5632 .f32 := broadcastInDim S1024x5632 ![] bcast_S_S1024x5632 main_cst_8
  let main_v26 : IVec S1024x5632 1 := cmpf .olt main_v24 main_v25
  let main_c_9 : IVec S_ 1 := constantI S_ 1 1#1
  let main_v27 : IVec S_ 1 := (fun x v => Host.reduce IntOp.andi x v reducesTo_S1024x5632_S_d0_1 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_v33

def fn {F : FTy → Type} [FloatOps F] (main_arg0 : FVec F S4096x1024 .f32) (main_arg1 : FVec F S1024x1024 .f32) (main_arg2 : FVec F S1024 .f32) (main_arg3 : FVec F S4096x1024 .f32) (main_arg4 : FVec F S1024 .f32) (main_arg5 : FVec F S1024x5632 .f32) (main_arg6 : FVec F S4096x1024 .f32) (main_arg7 : FVec F S4096x5632 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_v13 main_v16
-- ==== Pre_finite_ffn_dx_gmlp.lean ====
abbrev S4096x2048 : Shape := ⟨2, ![4096, 2048]⟩
abbrev S2048x1024 : Shape := ⟨2, ![2048, 1024]⟩
abbrev S1024 : Shape := ⟨1, ![1024]⟩
abbrev S4096x1024 : Shape := ⟨2, ![4096, 1024]⟩
abbrev S1024x5632 : Shape := ⟨2, ![1024, 5632]⟩
abbrev S4096x5632 : Shape := ⟨2, ![4096, 5632]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x1024 : S_.BroadcastsInDim S2048x1024 (![] : Fin 0 → Fin S2048x1024.rank)
  reducesTo_S2048x1024_S_d0_1 : S2048x1024.ReducesTo [0, 1] S_
  bcast_S_S1024 : S_.BroadcastsInDim S1024 (![] : Fin 0 → Fin S1024.rank)
  reducesTo_S1024_S_d0 : S1024.ReducesTo [0] S_
  bcast_S_S4096x1024 : S_.BroadcastsInDim S4096x1024 (![] : Fin 0 → Fin S4096x1024.rank)
  reducesTo_S4096x1024_S_d0_1 : S4096x1024.ReducesTo [0, 1] S_
  bcast_S_S1024x5632 : S_.BroadcastsInDim S1024x5632 (![] : Fin 0 → Fin S1024x5632.rank)
  reducesTo_S1024x5632_S_d0_1 : S1024x5632.ReducesTo [0, 1] S_
  bcast_S_S4096x5632 : S_.BroadcastsInDim S4096x5632 (![] : Fin 0 → Fin S4096x5632.rank)
  reducesTo_S4096x5632_S_d0_1 : S4096x5632.ReducesTo [0, 1] S_

variable [Facts]

def fn_part2 {F : FTy → Type} [FloatOps F] (main_arg7 : FVec F S4096x5632 .f32) (main_v33 : IVec S_ 1) : IVec S_ 1 :=
  let main_v34 : FVec F S4096x5632 .f32 := Host.absf main_arg7
  let main_cst_12 : FVec F S_ .f32 := constant S_ .f32 0x7F800000#32
  let main_v35 : FVec F S4096x5632 .f32 := broadcastInDim S4096x5632 ![] bcast_S_S4096x5632 main_cst_12
  let main_v36 : IVec S4096x5632 1 := cmpf .olt main_v34 main_v35
  let main_c_13 : IVec S_ 1 := constantI S_ 1 1#1
  let main_v37 : IVec S_ 1 := (fun x v => Host.reduce IntOp.andi x v reducesTo_S4096x5632_S_d0_1 h_S_) main_v36 main_c_13
  let main_v38 : IVec S_ 1 := andi main_v33 main_v37
  main_v38

def fn_part1 {F : FTy → Type} [FloatOps F] (main_arg4 : FVec F S1024 .f32) (main_arg5 : FVec F S1024x5632 .f32) (main_arg6 : FVec F S4096x1024 .f32) (main_arg7 : FVec F S4096x5632 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x5632 .f32 := Host.absf main_arg5
  let main_cst_8 : FVec F S_ .f32 := constant S_ .f32 0x7F800000#32
  let main_v25 : FVec F S1024x5632 .f32 := broadcastInDim S1024x5632 ![] bcast_S_S1024x5632 main_cst_8
  let main_v26 : IVec S1024x5632 1 := cmpf .olt main_v24 main_v25
  let main_c_9 : IVec S_ 1 := constantI S_ 1 1#1
  let main_v27 : IVec S_ 1 := (fun x v => Host.reduce IntOp.andi x v reducesTo_S1024x5632_S_d0_1 h_S_) main_v26 main_c_9
  let main_v28 : IVec S_ 1 := andi main_v23 main_v27
  let main_v29 : FVec F S4096x1024 .f32 := Host.absf main_arg6
  let main_cst_10 : FVec F S_ .f32 := constant S_ .f32 0x7F800000#32
  let main_v30 : FVec F S4096x1024 .f32 := broadcastInDim S4096x1024 ![] bcast_S_S4096x1024 main_cst_10
  let main_v31 : IVec S4096x1024 1 := cmpf .olt main_v29 main_v30
  let main_c_11 : IVec S_ 1 := constantI S_ 1 1#1
  let main_v32 : IVec S_ 1 := (fun x v => Host.reduce IntOp.andi x v reducesTo_S4096x1024_S_d0_1 h_S_) main_v31 main_c_11
  let main_v33 : IVec S_ 1 := andi main_v28 main_v32
  fn_part2 (F := F) main_arg7 main_v33

def fn {F : FTy → Type} [FloatOps F] (main_arg0 : FVec F S4096x2048 .f32) (main_arg1 : FVec F S2048x1024 .f32) (main_arg2 : FVec F S1024 .f32) (main_arg3 : FVec F S4096x1024 .f32) (main_arg4 : FVec F S1024 .f32) (main_arg5 : FVec F S1024x5632 .f32) (main_arg6 : FVec F S4096x1024 .f32) (main_arg7 : FVec F S4096x5632 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x1024 .f32 := Host.absf main_arg1
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_c_1 : IVec S_ 1 := constantI S_ 1 1#1
  let main_v7 : IVec S_ 1 := (fun x v => Host.reduce IntOp.andi x v reducesTo_S2048x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_v13 main_v16
-- ==== Pre_finite_ffn_up.lean ====
abbrev S4096x1024 : Shape := ⟨2, ![4096, 1024]⟩
abbrev S1024x5632 : Shape := ⟨2, ![1024, 5632]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x5632 : S_.BroadcastsInDim S1024x5632 (![] : Fin 0 → Fin S1024x5632.rank)
  reducesTo_S1024x5632_S_d0_1 : S1024x5632.ReducesTo [0, 1] S_

variable [Facts]

def fn {F : FTy → Type} [FloatOps F] (main_arg0 : FVec F S4096x1024 .f32) (main_arg1 : FVec F S1024x5632 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x5632 .f32 := Host.absf main_arg1
  let main_cst_0 : FVec F S_ .f32 := constant S_ .f32 0x7F800000#32
  let main_v5 : FVec F S1024x5632 .f32 := broadcastInDim S1024x5632 ![] bcast_S_S1024x5632 main_cst_0
  let main_v6 : IVec S1024x5632 1 := cmpf .olt main_v4 main_v5
  let main_c_1 : IVec S_ 1 := constantI S_ 1 1#1
  let main_v7 : IVec S_ 1 := (fun x v => Host.reduce IntOp.andi x v reducesTo_S1024x5632_S_d0_1 h_S_) main_v6 main_c_1
  let main_v8 : IVec S_ 1 := andi main_v3 main_v7
  main_v8
-- ==== FfnUpGrad.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S4096x5632, .bf16⟩
  | .hbm, ⟨3, _⟩ => ⟨S5632x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnUpGradReferenceIdeal.lean ====
abbrev S4096x1024 : Shape := ⟨2, ![4096, 1024]⟩
abbrev S1024x5632 : Shape := ⟨2, ![1024, 5632]⟩
abbrev S4096x5632 : Shape := ⟨2, ![4096, 5632]⟩
abbrev S5632x1024 : Shape := ⟨2, ![5632, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .f32⟩
  | .hbm, ⟨2, _⟩ => ⟨S4096x5632, .bf16⟩
  | .hbm, ⟨3, _⟩ => ⟨S4096x1024, .f32⟩
  | .hbm, ⟨4, _⟩ => ⟨S4096x5632, .f32⟩
  | .hbm, ⟨5, _⟩ => ⟨S4096x5632, .f32⟩
  | .hbm, ⟨6, _⟩ => ⟨S5632x1024, .f32⟩
  | .hbm, ⟨7, _⟩ => ⟨S1024x5632, .f32⟩
  | .hbm, ⟨8, _⟩ => ⟨S5632x1024, .f32⟩
  | .hbm, ⟨9, _⟩ => ⟨S5632x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnDownGrad.lean ====
abbrev S4096x2816 : Shape := ⟨2, ![4096, 2816]⟩
abbrev S2816x1024 : Shape := ⟨2, ![2816, 1024]⟩
abbrev S4096x1024 : Shape := ⟨2, ![4096, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .bf16⟩
  | .hbm, ⟨3, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== FfnDownGradReferenceIdeal.lean ====
abbrev S4096x2816 : Shape := ⟨2, ![4096, 2816]⟩
abbrev S2816x1024 : Shape := ⟨2, ![2816, 1024]⟩
abbrev S4096x1024 : Shape := ⟨2, ![4096, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .f32⟩
  | .hbm, ⟨2, _⟩ => ⟨S4096x1024, .bf16⟩
  | .hbm, ⟨3, _⟩ => ⟨S4096x2816, .f32⟩
  | .hbm, ⟨4, _⟩ => ⟨S4096x1024, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GmlpInGrad.lean ====
abbrev S4096x1024 : Shape := ⟨2, ![4096, 1024]⟩
abbrev S1024x4096 : Shape := ⟨2, ![1024, 4096]⟩
abbrev S4096x4096 : Shape := ⟨2, ![4096, 4096]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .f32⟩
  | .hbm, ⟨2, _⟩ => ⟨S4096x4096, .bf16⟩
  | .hbm, ⟨3, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GmlpInGradReferenceIdeal.lean ====
abbrev S4096x1024 : Shape := ⟨2, ![4096, 1024]⟩
abbrev S1024x4096 : Shape := ⟨2, ![1024, 4096]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .f32⟩
  | .hbm, ⟨2, _⟩ => ⟨S4096x4096, .bf16⟩
  | .hbm, ⟨3, _⟩ => ⟨S4096x1024, .f32⟩
  | .hbm, ⟨4, _⟩ => ⟨S4096x4096, .f32⟩
  | .hbm, ⟨5, _⟩ => ⟨S4096x4096, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GmlpOutGrad.lean ====
abbrev S4096x2048 : Shape := ⟨2, ![4096, 2048]⟩
abbrev S2048x1024 : Shape := ⟨2, ![2048, 1024]⟩
abbrev S4096x1024 : Shape := ⟨2, ![4096, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .f32⟩
  | .hbm, ⟨2, _⟩ => ⟨S4096x1024, .bf16⟩
  | .hbm, ⟨3, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== GmlpOutGradReferenceIdeal.lean ====
abbrev S4096x2048 : Shape := ⟨2, ![4096, 2048]⟩
abbrev S2048x1024 : Shape := ⟨2, ![2048, 1024]⟩
abbrev S4096x1024 : Shape := ⟨2, ![4096, 1024]⟩
abbrev S1024x2048 : Shape := ⟨2, ![1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x1024, .f32⟩
  | .hbm, ⟨2, _⟩ => ⟨S4096x1024, .bf16⟩
  | .hbm, ⟨3, _⟩ => ⟨S4096x2048, .f32⟩
  | .hbm, ⟨4, _⟩ => ⟨S4096x1024, .f32⟩
  | .hbm, ⟨5, _⟩ => ⟨S4096x1024, .f32⟩
  | .hbm, ⟨6, _⟩ => ⟨S1024x2048, .f32⟩
  | .hbm, ⟨7, _⟩ => ⟨S2048x1024, .f32⟩
  | .hbm, ⟨8, _⟩ => ⟨S2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AttnQkvGrad.lean ====
abbrev S4096x1024 : Shape := ⟨2, ![4096, 1024]⟩
abbrev S1024x1536 : Shape := ⟨2, ![1024, 1536]⟩
abbrev S4096x1536 : Shape := ⟨2, ![4096, 1536]⟩
abbrev S1536x1024 : Shape := ⟨2, ![1536, 1024]⟩
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .f32⟩
  | .hbm, ⟨2, _⟩ => ⟨S4096x1536, .bf16⟩
  | .hbm, ⟨3, _⟩ => ⟨S1536x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== AttnQkvGradReferenceIdeal.lean ====
abbrev S4096x1024 : Shape := ⟨2, ![4096, 1024]⟩
abbrev S1024x1536 : Shape := ⟨2, ![1024, 1536]⟩
abbrev S4096x1536 : Shape := ⟨2, ![4096, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1536, .f32⟩
  | .hbm, ⟨2, _⟩ => ⟨S4096x1536, .bf16⟩
  | .hbm, ⟨3, _⟩ => ⟨S4096x1024, .f32⟩
  | .hbm, ⟨4, _⟩ => ⟨S4096x1536, .f32⟩
  | .hbm, ⟨5, _⟩ => ⟨S4096x1536, .f32⟩
  | .hbm, ⟨6, _⟩ => ⟨S1536x1024, .f32⟩
  | .hbm, ⟨7, _⟩ => ⟨S1024x1536, .f32⟩
  | .hbm, ⟨8, _⟩ => ⟨S1536x1024, .f32⟩
  | .hbm, ⟨9, _⟩ => ⟨S1536x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== AttnOutGrad.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .bf16⟩
  | .hbm, ⟨3, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 2], ![false, false]⟩

def k0_cond2 (i : grid0.Coords) : BitVec 1 :=
  let arg1 : BitVec 32 := BitVec.ofNat 32 (i 1).val
  let c1_i32 : BitVec 32 := 1#32
  let v11 : BitVec 1 := Scalar.cmpi .eq arg1 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== AttnOutGradReferenceIdeal.lean ====
abbrev S4096x1024 : Shape := ⟨2, ![4096, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .f32⟩
  | .hbm, ⟨2, _⟩ => ⟨S4096x1024, .bf16⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnUp.lean ====
abbrev S4096x1024 : Shape := ⟨2, ![4096, 1024]⟩
abbrev S1024x5632 : Shape := ⟨2, ![1024, 5632]⟩
abbrev S5632x1024 : Shape := ⟨2, ![5632, 1024]⟩
abbrev S4096x2816 : Shape := ⟨2, ![4096, 2816]⟩
abbrev S4096x5632 : Shape := ⟨2, ![4096, 5632]⟩
abbrev S512x1024 : Shape := ⟨2, ![512, 1024]⟩
abbrev S512x2816 : Shape := ⟨2, ![512, 2816]⟩
abbrev S512x5632 : Shape := ⟨2, ![512, 5632]⟩
abbrev S256x1024 : Shape := ⟨2, ![256, 1024]⟩
abbrev S512x256 : Shape := ⟨2, ![512, 256]⟩

abbrev nBuf : Space → Nat
  | .hbm => 7
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x1024, .bf16⟩
  | .hbm, ⟨3, _⟩ => ⟨S1024x5632, .bf16⟩
  | .hbm, ⟨4, _⟩ => ⟨S5632x1024, .bf16⟩
  | .hbm, ⟨5, _⟩ => ⟨S4096x2816, .bf16⟩
  | .hbm, ⟨6, _⟩ => ⟨S4096x5632, .bf16⟩
  | .local _ .vmem, ⟨0, _⟩ => ⟨S512x1024, .bf16⟩
  | .local _ .vmem, ⟨1, _⟩ => ⟨S512x1024, .bf16⟩
  | .local _ .vmem, ⟨2, _⟩ => ⟨S5632x1024, .bf16⟩
  | .local _ .vmem, ⟨3, _⟩ => ⟨S512x2816, .bf16⟩
  | .local _ .vmem, ⟨4, _⟩ => ⟨S512x2816, .bf16⟩
  | .local _ .vmem, ⟨5, _⟩ => ⟨S512x5632, .bf16⟩
  | .local _ .vmem, ⟨6, _⟩ => ⟨S512x5632, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnUpReferenceIdeal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x5632, .f32⟩
  | .hbm, ⟨2, _⟩ => ⟨S4096x5632, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S4096x2816, .f32⟩
  | .hbm, ⟨14, _⟩ => ⟨S4096x2816, .f32⟩
  | .hbm, ⟨15, _⟩ => ⟨S4096x2816, .bf16⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S_, .f32⟩
  | .hbm, ⟨21, _⟩ => ⟨S4096x2816, .f32⟩
  | .hbm, ⟨22, _⟩ => ⟨S4096x2816, .f32⟩
  | .hbm, ⟨23, _⟩ => ⟨S_, .f32⟩
  | .hbm, ⟨24, _⟩ => ⟨S4096x2816, .f32⟩
  | .hbm, ⟨25, _⟩ => ⟨S4096x2816, .f32⟩
  | .hbm, ⟨26, _⟩ => ⟨S_, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S4096x2816, .f32⟩
  | .hbm, ⟨40, _⟩ => ⟨S4096x5632, .f32⟩
  | .hbm, ⟨41, _⟩ => ⟨S4096x5632, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call1_v0 : Ref sig .tc := ⟨.hbm, 18, rfl⟩
abbrev main_call1_v1 : Ref sig .tc := ⟨.hbm, 19, rfl⟩
abbrev main_call1_cst : Ref sig .tc := ⟨.hbm, 20, rfl⟩
abbrev main_call1_v2 : Ref sig .tc := ⟨.hbm, 21, rfl⟩
abbrev main_call1_v3 : Ref sig .tc := ⟨.hbm, 22, rfl⟩
abbrev main_call1_cst_0 : Ref sig .tc := ⟨.hbm, 23, rfl⟩
abbrev main_call1_v4 : Ref sig .tc := ⟨.hbm, 24, rfl⟩
abbrev main_v8_2 : Ref sig .tc := ⟨.hbm, 25, rfl⟩
abbrev main_call1_cst_1 : Ref sig .tc := ⟨.hbm, 26, rfl⟩
abbrev main_call1_v6 : Ref sig .tc := ⟨.hbm, 27, rfl⟩
abbrev main_call1_v7 : Ref sig .tc := ⟨.hbm, 28, rfl⟩
abbrev main_v8_1 : Ref sig .tc := ⟨.hbm, 29, rfl⟩
abbrev main_v8_0 : Ref sig .tc := ⟨.hbm, 30, rfl⟩
abbrev main_v9 : Ref sig .tc := ⟨.hbm, 31, rfl⟩
abbrev main_cst : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩

abbrev nD : Nat := 1
abbrev τ : Topo := Topo.v7x

variable {F : FTy → Type} [FloatOps F]
-- ==== FfnDact.lean ====
abbrev S4096x5632 : Shape := ⟨2, ![4096, 5632]⟩
abbrev S2816x1024 : Shape := ⟨2, ![2816, 1024]⟩
abbrev S4096x1024 : Shape := ⟨2, ![4096, 1024]⟩
abbrev S4096x2816 : Shape := ⟨2, ![4096, 2816]⟩
abbrev S_ : Shape := ⟨0, ![]⟩
abbrev S512x1024 : Shape := ⟨2, ![512, 1024]⟩
abbrev S512x5632 : Shape := ⟨2, ![512, 5632]⟩
abbrev S256x1024 : Shape := ⟨2, ![256, 1024]⟩
abbrev S512x256 : Shape := ⟨2, ![512, 256]⟩

abbrev nBuf : Space → Nat
  | .hbm => 32
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S2816x1024, .f32⟩
  | .hbm, ⟨2, _⟩ => ⟨S4096x1024, .f32⟩
  | .hbm, ⟨3, _⟩ => ⟨S4096x1024, .bf16⟩
  | .hbm, ⟨4, _⟩ => ⟨S2816x1024, .bf16⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S_, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x5632, .f32⟩
  | .hbm, ⟨30, _⟩ => ⟨S4096x5632, .bf16⟩
  | .hbm, ⟨31, _⟩ => ⟨S4096x5632, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x5632, .bf16⟩
  | .local _ .vmem, ⟨4, _⟩ => ⟨S512x5632, .bf16⟩
  | .local _ .vmem, ⟨5, _⟩ => ⟨S512x5632, .bf16⟩
  | .local _ .vmem, ⟨6, _⟩ => ⟨S512x5632, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v4_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v4_1 : Ref sig .tc := ⟨.hbm, 18, rfl⟩
abbrev main_v4_0 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== FfnDactReferenceIdeal.lean ====
abbrev S4096x5632 : Shape := ⟨2, ![4096, 5632]⟩
abbrev S2816x1024 : Shape := ⟨2, ![2816, 1024]⟩
abbrev S4096x1024 : Shape := ⟨2, ![4096, 1024]⟩
abbrev S4096x2816 : Shape := ⟨2, ![4096, 2816]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S2816x1024, .f32⟩
  | .hbm, ⟨2, _⟩ => ⟨S4096x1024, .f32⟩
  | .hbm, ⟨3, _⟩ => ⟨S4096x2816, .f32⟩
  | .hbm, ⟨4, _⟩ => ⟨S4096x2816, .f32⟩
  | .hbm, ⟨5, _⟩ => ⟨S4096x2816, .f32⟩
  | .hbm, ⟨6, _⟩ => ⟨S4096x2816, .f32⟩
  | .hbm, ⟨7, _⟩ => ⟨S_, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x1024, .f32⟩
  | .hbm, ⟨20, _⟩ => ⟨S4096x2816, .f32⟩
  | .hbm, ⟨21, _⟩ => ⟨S4096x2816, .f32⟩
  | .hbm, ⟨22, _⟩ => ⟨S4096x2816, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x5632, .f32⟩
  | .hbm, ⟨28, _⟩ => ⟨S4096x5632, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v2_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v2_1 : Ref sig .tc := ⟨.hbm, 16, rfl⟩
abbrev main_v2_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩

abbrev nD : Nat := 1
abbrev τ : Topo := Topo.v7x

variable {F : FTy → Type} [FloatOps F]
-- ==== FfnDx.lean ====
abbrev S4096x1024 : Shape := ⟨2, ![4096, 1024]⟩
abbrev S1024x1024 : Shape := ⟨2, ![1024, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S5632x1024 : Shape := ⟨2, ![5632, 1024]⟩
abbrev S8x128 : Shape := ⟨2, ![8, 128]⟩
abbrev S512x5632 : Shape := ⟨2, ![512, 5632]⟩
abbrev S512x1024 : Shape := ⟨2, ![512, 1024]⟩
abbrev S5632x512 : Shape := ⟨2, ![5632, 512]⟩
abbrev S512x512 : Shape := ⟨2, ![512, 512]⟩
abbrev S512 : Shape := ⟨1, ![512]⟩
abbrev S512x1 : Shape := ⟨2, ![512, 1]⟩

abbrev nBuf : Space → Nat
  | .hbm => 40
  | .vmem => 21
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S4096x1024, .f32⟩
  | .hbm, ⟨4, _⟩ => ⟨S1024, .f32⟩
  | .hbm, ⟨5, _⟩ => ⟨S1024x5632, .f32⟩
  | .hbm, ⟨6, _⟩ => ⟨S4096x1024, .f32⟩
  | .hbm, ⟨7, _⟩ => ⟨S4096x5632, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x5632, .bf16⟩
  | .hbm, ⟨27, _⟩ => ⟨S1024x5632, .bf16⟩
  | .hbm, ⟨28, _⟩ => ⟨S5632x1024, .bf16⟩
  | .hbm, ⟨29, _⟩ => ⟨S1x1024, .f32⟩
  | .hbm, ⟨30, _⟩ => ⟨S4096x1024, .bf16⟩
  | .hbm, ⟨31, _⟩ => ⟨S1x1024, .f32⟩
  | .hbm, ⟨32, _⟩ => ⟨S_, .f32⟩
  | .hbm, ⟨33, _⟩ => ⟨S8x128, .f32⟩
  | .hbm, ⟨34, _⟩ => ⟨S1024x1024, .bf16⟩
  | .hbm, ⟨35, _⟩ => ⟨S4096x1024, .f32⟩
  | .hbm, ⟨36, _⟩ => ⟨S1x1024, .f32⟩
  | .hbm, ⟨37, _⟩ => ⟨S4096x1024, .bf16⟩
  | .hbm, ⟨38, _⟩ => ⟨S1x1024, .f32⟩
  | .hbm, ⟨39, _⟩ => ⟨S4096x1024, .bf16⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S1024x1024, .bf16⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S512x1024, .bf16⟩
  | .local _ .vmem, ⟨16, _⟩ => ⟨S512x1024, .bf16⟩
  | .local _ .vmem, ⟨17, _⟩ => ⟨S1x1024, .f32⟩
  | .local _ .vmem, ⟨18, _⟩ => ⟨S512x1024, .bf16⟩
  | .local _ .vmem, ⟨19, _⟩ => ⟨S512x1024, .bf16⟩
  | .local _ .vmem, ⟨20, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23_0 : Ref sig .tc := ⟨.hbm, 35, rfl⟩
abbrev main_v23_1 : Ref sig .tc := ⟨.hbm, 36, rfl⟩
abbrev main_v23_2 : Ref sig .tc := ⟨.hbm, 37, rfl⟩
abbrev main_v23_3 : Ref sig .tc := ⟨.hbm, 38, rfl⟩
abbrev main_v23_4 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== FfnDxReferenceIdeal.lean ====
abbrev S4096x1024 : Shape := ⟨2, ![4096, 1024]⟩
abbrev S1024x1024 : Shape := ⟨2, ![1024, 1024]⟩
abbrev S1024 : Shape := ⟨1, ![1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 108
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024, .f32⟩
  | .hbm, ⟨3, _⟩ => ⟨S4096x1024, .f32⟩
  | .hbm, ⟨4, _⟩ => ⟨S1024, .f32⟩
  | .hbm, ⟨5, _⟩ => ⟨S1024x5632, .f32⟩
  | .hbm, ⟨6, _⟩ => ⟨S4096x1024, .f32⟩
  | .hbm, ⟨7, _⟩ => ⟨S4096x5632, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x5632, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S1024, .f32⟩
  | .hbm, ⟨86, _⟩ => ⟨S4096x1024, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S4096x1024, .f32⟩
  | .hbm, ⟨91, _⟩ => ⟨S4096x1024, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S_, .f32⟩
  | .hbm, ⟨97, _⟩ => ⟨S4096, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S1x1024, .f32⟩
  | .hbm, ⟨104, _⟩ => ⟨S4096x1024, .bf16⟩
  | .hbm, ⟨105, _⟩ => ⟨S1x1024, .f32⟩
  | .hbm, ⟨106, _⟩ => ⟨S4096x1024, .f32⟩
  | .hbm, ⟨107, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_12 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_13 : Ref sig .tc := ⟨.hbm, 84, rfl⟩
abbrev main_v62 : Ref sig .tc := ⟨.hbm, 85, rfl⟩
abbrev main_v63 : Ref sig .tc := ⟨.hbm, 86, rfl⟩
abbrev main_cst_14 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_15 : Ref sig .tc := ⟨.hbm, 93, rfl⟩
abbrev main_v69 : Ref sig .tc := ⟨.hbm, 94, rfl⟩
abbrev main_v70 : Ref sig .tc := ⟨.hbm, 95, rfl⟩
abbrev main_cst_16 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩

abbrev nD : Nat := 1
abbrev τ : Topo := Topo.v7x

variable {F : FTy → Type} [FloatOps F]
-- ==== FfnDxGmlp.lean ====
abbrev S4096x2048 : Shape := ⟨2, ![4096, 2048]⟩
abbrev S2048x1024 : Shape := ⟨2, ![2048, 1024]⟩
abbrev S1024 : Shape := ⟨1, ![1024]⟩
abbrev S4096x1024 : Shape := ⟨2, ![4096, 1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S5632x1024 : Shape := ⟨2, ![5632, 1024]⟩
abbrev S8x128 : Shape := ⟨2, ![8, 128]⟩
abbrev S512x5632 : Shape := ⟨2, ![512, 5632]⟩
abbrev S512x1024 : Shape := ⟨2, ![512, 1024]⟩
abbrev S5632x512 : Shape := ⟨2, ![5632, 512]⟩
abbrev S512x512 : Shape := ⟨2, ![512, 512]⟩
abbrev S512 : Shape := ⟨1, ![512]⟩
abbrev S512x1 : Shape := ⟨2, ![512, 1]⟩

abbrev nBuf : Space → Nat
  | .hbm => 38
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S1024, .f32⟩
  | .hbm, ⟨3, _⟩ => ⟨S4096x1024, .f32⟩
  | .hbm, ⟨4, _⟩ => ⟨S1024, .f32⟩
  | .hbm, ⟨5, _⟩ => ⟨S1024x5632, .f32⟩
  | .hbm, ⟨6, _⟩ => ⟨S4096x1024, .f32⟩
  | .hbm, ⟨7, _⟩ => ⟨S4096x5632, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x5632, .bf16⟩
  | .hbm, ⟨27, _⟩ => ⟨S1024x5632, .bf16⟩
  | .hbm, ⟨28, _⟩ => ⟨S5632x1024, .bf16⟩
  | .hbm, ⟨29, _⟩ => ⟨S1x1024, .f32⟩
  | .hbm, ⟨30, _⟩ => ⟨S4096x1024, .bf16⟩
  | .hbm, ⟨31, _⟩ => ⟨S1x1024, .f32⟩
  | .hbm, ⟨32, _⟩ => ⟨S_, .f32⟩
  | .hbm, ⟨33, _⟩ => ⟨S8x128, .f32⟩
  | .hbm, ⟨34, _⟩ => ⟨S4096x1024, .f32⟩
  | .hbm, ⟨35, _⟩ => ⟨S1x1024, .f32⟩
  | .hbm, ⟨36, _⟩ => ⟨S4096x1024, .bf16⟩
  | .hbm, ⟨37, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S512x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22_0 : Ref sig .tc := ⟨.hbm, 34, rfl⟩
abbrev main_v22_1 : Ref sig .tc := ⟨.hbm, 35, rfl⟩
abbrev main_v22_2 : Ref sig .tc := ⟨.hbm, 36, rfl⟩
abbrev main_v22_3 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== FfnDxGmlpReferenceIdeal.lean ====
abbrev S4096x2048 : Shape := ⟨2, ![4096, 2048]⟩
abbrev S2048x1024 : Shape := ⟨2, ![2048, 1024]⟩
abbrev S1024 : Shape := ⟨1, ![1024]⟩
abbrev S4096x1024 : Shape := ⟨2, ![4096, 1024]⟩
abbrev S1024x5632 : Shape := ⟨2, ![1024, 5632]⟩
abbrev S4096x5632 : Shape := ⟨2, ![4096, 5632]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 106
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x1024, .f32⟩
  | .hbm, ⟨2, _⟩ => ⟨S1024, .f32⟩
  | .hbm, ⟨3, _⟩ => ⟨S4096x1024, .f32⟩
  | .hbm, ⟨4, _⟩ => ⟨S1024, .f32⟩
  | .hbm, ⟨5, _⟩ => ⟨S1024x5632, .f32⟩
  | .hbm, ⟨6, _⟩ => ⟨S4096x1024, .f32⟩
  | .hbm, ⟨7, _⟩ => ⟨S4096x5632, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S_, .f32⟩
  | .hbm, ⟨38, _⟩ => ⟨S4096x1, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x5632, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S_, .f32⟩
  | .hbm, ⟨80, _⟩ => ⟨S1024, .f32⟩
  | .hbm, ⟨81, _⟩ => ⟨S1x1024, .f32⟩
  | .hbm, ⟨82, _⟩ => ⟨S4096x1024, .f32⟩
  | .hbm, ⟨83, _⟩ => ⟨S4096x1024, .f32⟩
  | .hbm, ⟨84, _⟩ => ⟨S_, .f32⟩
  | .hbm, ⟨85, _⟩ => ⟨S1024, .f32⟩
  | .hbm, ⟨86, _⟩ => ⟨S4096x1024, .f32⟩
  | .hbm, ⟨87, _⟩ => ⟨S_, .f32⟩
  | .hbm, ⟨88, _⟩ => ⟨S4096, .f32⟩
  | .hbm, ⟨89, _⟩ => ⟨S4096x1, .f32⟩
  | .hbm, ⟨90, _⟩ => ⟨S4096x1024, .f32⟩
  | .hbm, ⟨91, _⟩ => ⟨S4096x1024, .f32⟩
  | .hbm, ⟨92, _⟩ => ⟨S4096x1, .f32⟩
  | .hbm, ⟨93, _⟩ => ⟨S_, .f32⟩
  | .hbm, ⟨94, _⟩ => ⟨S4096x1, .f32⟩
  | .hbm, ⟨95, _⟩ => ⟨S4096x1, .f32⟩
  | .hbm, ⟨96, _⟩ => ⟨S_, .f32⟩
  | .hbm, ⟨97, _⟩ => ⟨S4096, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S1x1024, .f32⟩
  | .hbm, ⟨104, _⟩ => ⟨S4096x1024, .bf16⟩
  | .hbm, ⟨105, _⟩ => ⟨S1x1024, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_12 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_13 : Ref sig .tc := ⟨.hbm, 84, rfl⟩
abbrev main_v62 : Ref sig .tc := ⟨.hbm, 85, rfl⟩
abbrev main_v63 : Ref sig .tc := ⟨.hbm, 86, rfl⟩
abbrev main_cst_14 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_cst_15 : Ref sig .tc := ⟨.hbm, 93, rfl⟩
abbrev main_v69 : Ref sig .tc := ⟨.hbm, 94, rfl⟩
abbrev main_v70 : Ref sig .tc := ⟨.hbm, 95, rfl⟩
abbrev main_cst_16 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩

abbrev nD : Nat := 1
abbrev τ : Topo := Topo.v7x

variable {F : FTy → Type} [FloatOps F]
-- ==== GmlpIn.lean ====
abbrev S4096x1024 : Shape := ⟨2, ![4096, 1024]⟩
abbrev S1024x4096 : Shape := ⟨2, ![1024, 4096]⟩
abbrev S4096 : Shape := ⟨1, ![4096]⟩
abbrev S1x4096 : Shape := ⟨2, ![1, 4096]⟩
abbrev S4096x4096 : Shape := ⟨2, ![4096, 4096]⟩
abbrev S512x1024 : Shape := ⟨2, ![512, 1024]⟩
abbrev S512x4096 : Shape := ⟨2, ![512, 4096]⟩
abbrev S512x512 : Shape := ⟨2, ![512, 512]⟩
abbrev S1x512 : Shape := ⟨2, ![1, 512]⟩

abbrev nBuf : Space → Nat
  | .hbm => 8
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096, .f32⟩
  | .hbm, ⟨3, _⟩ => ⟨S4096x1024, .bf16⟩
  | .hbm, ⟨4, _⟩ => ⟨S1024x4096, .bf16⟩
  | .hbm, ⟨5, _⟩ => ⟨S4096x1024, .bf16⟩
  | .hbm, ⟨6, _⟩ => ⟨S1x4096, .f32⟩
  | .hbm, ⟨7, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S1x4096, .f32⟩
  | .local _ .vmem, ⟨4, _⟩ => ⟨S512x4096, .bf16⟩
  | .local _ .vmem, ⟨5, _⟩ => ⟨S512x4096, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GmlpInReferenceIdeal.lean ====
abbrev S4096x1024 : Shape := ⟨2, ![4096, 1024]⟩
abbrev S1024x4096 : Shape := ⟨2, ![1024, 4096]⟩
abbrev S4096 : Shape := ⟨1, ![4096]⟩
abbrev S4096x4096 : Shape := ⟨2, ![4096, 4096]⟩
abbrev S1x4096 : Shape := ⟨2, ![1, 4096]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .f32⟩
  | .hbm, ⟨7, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== FfnDown.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S2816x512 : Shape := ⟨2, ![2816, 512]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x2816, .bf16⟩
  | .hbm, ⟨6, _⟩ => ⟨S2816x1024, .bf16⟩
  | .hbm, ⟨7, _⟩ => ⟨S1x1024, .f32⟩
  | .hbm, ⟨8, _⟩ => ⟨S1x1024, .f32⟩
  | .hbm, ⟨9, _⟩ => ⟨S4096x1024, .bf16⟩
  | .hbm, ⟨10, _⟩ => ⟨S4096x1024, .f32⟩
  | .hbm, ⟨11, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | _, _ => ⟨S4096x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnDownReferenceIdeal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4096x2816, .f32⟩
  | .hbm, ⟨1, _⟩ => ⟨S2816x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | _, _ => ⟨S4096x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== AttnOut.lean ====
abbrev S4096x1024 : Shape := ⟨2, ![4096, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 14
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .bf16⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S4096x1024, .bf16⟩
  | .hbm, ⟨10, _⟩ => ⟨S4096x1024, .f32⟩
  | .hbm, ⟨11, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .bf16⟩
  | .local _ .vmem, ⟨8, _⟩ => ⟨S512x1024, .bf16⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AttnOutReferenceIdeal.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .bf16⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩

abbrev nD : Nat := 1
abbrev τ : Topo := Topo.v7x

variable {F : FTy → Type} [FloatOps F]
-- ==== Spatial.lean ====
abbrev S8x2048x128 : Shape := ⟨3, ![8, 2048, 128]⟩
abbrev S2048x128 : Shape := ⟨2, ![2048, 128]⟩
abbrev S8x512x128 : Shape := ⟨3, ![8, 512, 128]⟩
abbrev S512x128 : Shape := ⟨2, ![512, 128]⟩
abbrev S1x512x128 : Shape := ⟨3, ![1, 512, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .local _ .vmem, ⟨0, _⟩ => ⟨S8x512x128, .f32⟩
  | .local _ .vmem, ⟨1, _⟩ => ⟨S8x512x128, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SpatialIdeal.lean ====
variable {F : FTy → Type} [FloatOps F] [Named F]
def κ : String → Option EReal := fun
  | "inv_b1" => some (((6513215599 / 10000000000)⁻¹ : ℝ) : EReal)
  | "inv_b2" => some (((9955119790251790119955009999 / 1000000000000000000000000000000)⁻¹ : ℝ) : EReal)
  | _ => none
-- ==== SpatialReferenceIdeal.lean ====
abbrev S8x2048x128 : Shape := ⟨3, ![8, 2048, 128]⟩
abbrev S2048x128 : Shape := ⟨2, ![2048, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x2048x128, .f32⟩
  | .hbm, ⟨1, _⟩ => ⟨S2048x128, .f32⟩
  | .hbm, ⟨2, _⟩ => ⟨S2048x128, .f32⟩
  | .hbm, ⟨3, _⟩ => ⟨S2048x128, .f32⟩
  | .hbm, ⟨4, _⟩ => ⟨S2048x128, .f32⟩
  | .hbm, ⟨5, _⟩ => ⟨S2048x128, .f32⟩
  | .hbm, ⟨6, _⟩ => ⟨S2048x128, .f32⟩
  | .hbm, ⟨7, _⟩ => ⟨S2048x128, .f32⟩
  | .local _ .vmem, ⟨0, _⟩ => ⟨S8x2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | _, _ => ⟨S8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "b1" => some ((6513215599 / 10000000000 : ℝ) : EReal)
  | "b2" => some ((9955119790251790119955009999 / 1000000000000000000000000000000 : ℝ) : EReal)
  | _ => none

abbrev grid0 : Pipeline.Grid := .none

abbrev stage0_0 : Fin 1 → Memref sig .tc .vmem S8x2048x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Small.lean ====
abbrev S8x408x128 : Shape := ⟨3, ![8, 408, 128]⟩
abbrev S384x128 : Shape := ⟨2, ![384, 128]⟩
abbrev S8x384x128 : Shape := ⟨3, ![8, 384, 128]⟩
abbrev S1x384x128 : Shape := ⟨3, ![1, 384, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x408x128, .f32⟩
  | .hbm, ⟨1, _⟩ => ⟨S384x128, .f32⟩
  | .hbm, ⟨2, _⟩ => ⟨S384x128, .f32⟩
  | .hbm, ⟨3, _⟩ => ⟨S384x128, .f32⟩
  | .hbm, ⟨4, _⟩ => ⟨S384x128, .f32⟩
  | .hbm, ⟨5, _⟩ => ⟨S384x128, .f32⟩
  | .hbm, ⟨6, _⟩ => ⟨S384x128, .f32⟩
  | .hbm, ⟨7, _⟩ => ⟨S384x128, .f32⟩
  | .local _ .vmem, ⟨0, _⟩ => ⟨S8x384x128, .f32⟩
  | .local _ .vmem, ⟨1, _⟩ => ⟨S384x128, .f32⟩
  | .local _ .vmem, ⟨2, _⟩ => ⟨S384x128, .f32⟩
  | .local _ .vmem, ⟨3, _⟩ => ⟨S384x128, .f32⟩
  | .local _ .vmem, ⟨4, _⟩ => ⟨S384x128, .f32⟩
  | .local _ .vmem, ⟨5, _⟩ => ⟨S384x128, .f32⟩
  | .local _ .vmem, ⟨6, _⟩ => ⟨S384x128, .f32⟩
  | .local _ .vmem, ⟨7, _⟩ => ⟨S384x128, .f32⟩
  | _, _ => ⟨S8x408x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x384x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S384x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S384x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S384x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S384x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S384x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== SmallIdeal.lean ====
variable {F : FTy → Type} [FloatOps F] [Named F]
def κ : String → Option EReal := fun
  | "inv_b1" => some (((6513215599 / 10000000000)⁻¹ : ℝ) : EReal)
  | "inv_b2" => some (((9955119790251790119955009999 / 1000000000000000000000000000000)⁻¹ : ℝ) : EReal)
  | _ => none
-- ==== SmallReferenceIdeal.lean ====
abbrev S8x408x128 : Shape := ⟨3, ![8, 408, 128]⟩
abbrev S384x128 : Shape := ⟨2, ![384, 128]⟩
abbrev S8x384x128 : Shape := ⟨3, ![8, 384, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x408x128, .f32⟩
  | .hbm, ⟨1, _⟩ => ⟨S384x128, .f32⟩
  | .hbm, ⟨2, _⟩ => ⟨S384x128, .f32⟩
  | .hbm, ⟨3, _⟩ => ⟨S384x128, .f32⟩
  | .hbm, ⟨4, _⟩ => ⟨S384x128, .f32⟩
  | .hbm, ⟨5, _⟩ => ⟨S384x128, .f32⟩
  | .hbm, ⟨6, _⟩ => ⟨S384x128, .f32⟩
  | .hbm, ⟨7, _⟩ => ⟨S384x128, .f32⟩
  | .local _ .vmem, ⟨0, _⟩ => ⟨S8x408x128, .f32⟩
  | .local _ .vmem, ⟨1, _⟩ => ⟨S384x128, .f32⟩
  | .local _ .vmem, ⟨2, _⟩ => ⟨S384x128, .f32⟩
  | .local _ .vmem, ⟨3, _⟩ => ⟨S384x128, .f32⟩
  | .local _ .vmem, ⟨4, _⟩ => ⟨S384x128, .f32⟩
  | .local _ .vmem, ⟨5, _⟩ => ⟨S384x128, .f32⟩
  | .local _ .vmem, ⟨6, _⟩ => ⟨S384x128, .f32⟩
  | .local _ .vmem, ⟨7, _⟩ => ⟨S384x128, .f32⟩
  | _, _ => ⟨S8x408x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "b1" => some ((6513215599 / 10000000000 : ℝ) : EReal)
  | "b2" => some ((9955119790251790119955009999 / 1000000000000000000000000000000 : ℝ) : EReal)
  | _ => none

abbrev grid0 : Pipeline.Grid := .none

abbrev stage0_0 : Fin 1 → Memref sig .tc .vmem S8x408x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S384x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S384x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S384x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S384x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S384x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Bias.lean ====
abbrev S8x128 : Shape := ⟨2, ![8, 128]⟩

abbrev nBuf : Space → Nat
  | .hbm => 7
  | .vmem => 7
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== BiasIdeal.lean ====
variable {F : FTy → Type} [FloatOps F] [Named F]
def κ : String → Option EReal := fun
  | "inv_b1" => some (((6513215599 / 10000000000)⁻¹ : ℝ) : EReal)
  | "inv_b2" => some (((9955119790251790119955009999 / 1000000000000000000000000000000)⁻¹ : ℝ) : EReal)
  | _ => none
-- ==== BiasReferenceIdeal.lean ====
abbrev S8x128 : Shape := ⟨2, ![8, 128]⟩

abbrev nBuf : Space → Nat
  | .hbm => 7
  | .vmem => 7
  | .smem => 0
  | _ => 0

abbrev bufTy : (tb : Table) → Fin (tcTables nBuf tb) → BufTy
  | .hbm, ⟨0, _⟩ => ⟨S8x128, .f32⟩
  | .hbm, ⟨1, _⟩ => ⟨S8x128, .f32⟩
  | .hbm, ⟨2, _⟩ => ⟨S8x128, .f32⟩
  | .hbm, ⟨3, _⟩ => ⟨S8x128, .f32⟩
  | .hbm, ⟨4, _⟩ => ⟨S8x128, .f32⟩
  | .hbm, ⟨5, _⟩ => ⟨S8x128, .f32⟩
  | .hbm, ⟨6, _⟩ => ⟨S8x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | _, _ => ⟨S8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "b1" => some ((6513215599 / 10000000000 : ℝ) : EReal)
  | "b2" => some ((9955119790251790119955009999 / 1000000000000000000000000000000 : ℝ) : EReal)
  | _ => none

abbrev grid0 : Pipeline.Grid := .none

abbrev stage0_0 : Fin 1 → Memref sig .tc .vmem S8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== BiasSum.lean ====
abbrev S8x24x128 : Shape := ⟨3, ![8, 24, 128]⟩
abbrev S24x128 : Shape := ⟨2, ![24, 128]⟩
abbrev S1x24x128 : Shape := ⟨3, ![1, 24, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x24x128, .f32⟩
  | .hbm, ⟨1, _⟩ => ⟨S24x128, .f32⟩
  | .local _ .vmem, ⟨0, _⟩ => ⟨S8x24x128, .f32⟩
  | .local _ .vmem, ⟨1, _⟩ => ⟨S24x128, .f32⟩
  | _, _ => ⟨S8x24x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x24x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S24x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]
-- ==== BiasSumReferenceIdeal.lean ====
abbrev S8x24x128 : Shape := ⟨3, ![8, 24, 128]⟩
abbrev S_ : Shape := ⟨0, ![]⟩
abbrev S24x128 : Shape := ⟨2, ![24, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x24x128, .f32⟩
  | .hbm, ⟨1, _⟩ => ⟨S_, .f32⟩
  | .hbm, ⟨2, _⟩ => ⟨S24x128, .f32⟩
  | _, _ => ⟨S8x24x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GmlpOutUpdate0.lean ====
abbrev S8x256x1024 : Shape := ⟨3, ![8, 256, 1024]⟩
abbrev S7x256x1024 : Shape := ⟨3, ![7, 256, 1024]⟩
abbrev S2x256x1024 : Shape := ⟨3, ![2, 256, 1024]⟩
abbrev S_ : Shape := ⟨0, ![]⟩
abbrev S1 : Shape := ⟨1, ![1]⟩
abbrev S1x128x1024 : Shape := ⟨3, ![1, 128, 1024]⟩
abbrev S7x128x1024 : Shape := ⟨3, ![7, 128, 1024]⟩
abbrev S128x1024 : Shape := ⟨2, ![128, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x256x1024, .bf16⟩
  | .hbm, ⟨1, _⟩ => ⟨S7x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .hbm, ⟨9, _⟩ => ⟨S_, .i32⟩
  | .hbm, ⟨10, _⟩ => ⟨S2x256x1024, .f32⟩
  | .hbm, ⟨11, _⟩ => ⟨S2x256x1024, .f32⟩
  | .hbm, ⟨12, _⟩ => ⟨S2x256x1024, .f32⟩
  | .hbm, ⟨13, _⟩ => ⟨S2x256x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S7x128x1024, .bf16⟩
  | .local _ .vmem, ⟨3, _⟩ => ⟨S7x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .smem, ⟨0, _⟩ => ⟨S1, .i32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GmlpOutUpdate0Ideal.lean ====
abbrev S8x256x1024 : Shape := ⟨3, ![8, 256, 1024]⟩
abbrev S7x256x1024 : Shape := ⟨3, ![7, 256, 1024]⟩
abbrev S2x256x1024 : Shape := ⟨3, ![2, 256, 1024]⟩
abbrev S_ : Shape := ⟨0, ![]⟩
abbrev S1 : Shape := ⟨1, ![1]⟩
abbrev S1x128x1024 : Shape := ⟨3, ![1, 128, 1024]⟩
abbrev S7x128x1024 : Shape := ⟨3, ![7, 128, 1024]⟩
abbrev S128x1024 : Shape := ⟨2, ![128, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x256x1024, .bf16⟩
  | .hbm, ⟨1, _⟩ => ⟨S7x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .hbm, ⟨9, _⟩ => ⟨S_, .i32⟩
  | .hbm, ⟨10, _⟩ => ⟨S2x256x1024, .f32⟩
  | .hbm, ⟨11, _⟩ => ⟨S2x256x1024, .f32⟩
  | .hbm, ⟨12, _⟩ => ⟨S2x256x1024, .f32⟩
  | .hbm, ⟨13, _⟩ => ⟨S2x256x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S7x128x1024, .bf16⟩
  | .local _ .vmem, ⟨3, _⟩ => ⟨S7x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .smem, ⟨0, _⟩ => ⟨S1, .i32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_b1" => some (((6513215599 / 10000000000)⁻¹ : ℝ) : EReal)
  | "inv_b2" => some (((9955119790251790119955009999 / 1000000000000000000000000000000)⁻¹ : ℝ) : EReal)
  | _ => none

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GmlpOutUpdate0ReferenceIdeal.lean ====
abbrev S8x256x1024 : Shape := ⟨3, ![8, 256, 1024]⟩
abbrev S7x256x1024 : Shape := ⟨3, ![7, 256, 1024]⟩
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 13
  | .vmem => 13
  | .smem => 0
  | _ => 0

abbrev bufTy : (tb : Table) → Fin (tcTables nBuf tb) → BufTy
  | .hbm, ⟨0, _⟩ => ⟨S8x256x1024, .bf16⟩
  | .hbm, ⟨1, _⟩ => ⟨S7x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S2x256x1024, .f32⟩
  | .hbm, ⟨12, _⟩ => ⟨S2x256x1024, .f32⟩
  | .local _ .vmem, ⟨0, _⟩ => ⟨S8x256x1024, .bf16⟩
  | .local _ .vmem, ⟨1, _⟩ => ⟨S7x256x1024, .bf16⟩
  | .local _ .vmem, ⟨2, _⟩ => ⟨S2x256x1024, .f32⟩
  | .local _ .vmem, ⟨3, _⟩ => ⟨S2x256x1024, .f32⟩
  | .local _ .vmem, ⟨4, _⟩ => ⟨S2x256x1024, .f32⟩
  | .local _ .vmem, ⟨5, _⟩ => ⟨S2x256x1024, .f32⟩
  | .local _ .vmem, ⟨6, _⟩ => ⟨S2x256x1024, .f32⟩
  | .local _ .vmem, ⟨7, _⟩ => ⟨S2x256x1024, .f32⟩
  | .local _ .vmem, ⟨8, _⟩ => ⟨S2x256x1024, .f32⟩
  | .local _ .vmem, ⟨9, _⟩ => ⟨S2x256x1024, .f32⟩
  | .local _ .vmem, ⟨10, _⟩ => ⟨S2x256x1024, .f32⟩
  | .local _ .vmem, ⟨11, _⟩ => ⟨S2x256x1024, .f32⟩
  | .local _ .vmem, ⟨12, _⟩ => ⟨S2x256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F] [Named F]

def κ : String → Option EReal := fun
  | "b1" => some ((6513215599 / 10000000000 : ℝ) : EReal)
  | "b2" => some ((9955119790251790119955009999 / 1000000000000000000000000000000 : ℝ) : EReal)
  | _ => none

abbrev grid0 : Pipeline.Grid := .none

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== GmlpOutUpdate1.lean ====
abbrev S8x256x1024 : Shape := ⟨3, ![8, 256, 1024]⟩
abbrev S7x256x1024 : Shape := ⟨3, ![7, 256, 1024]⟩
abbrev S2x256x1024 : Shape := ⟨3, ![2, 256, 1024]⟩
abbrev S_ : Shape := ⟨0, ![]⟩
abbrev S1 : Shape := ⟨1, ![1]⟩
abbrev S1x128x1024 : Shape := ⟨3, ![1, 128, 1024]⟩
abbrev S7x128x1024 : Shape := ⟨3, ![7, 128, 1024]⟩
abbrev S128x1024 : Shape := ⟨2, ![128, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x256x1024, .bf16⟩
  | .hbm, ⟨1, _⟩ => ⟨S7x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .hbm, ⟨9, _⟩ => ⟨S_, .i32⟩
  | .hbm, ⟨10, _⟩ => ⟨S2x256x1024, .f32⟩
  | .hbm, ⟨11, _⟩ => ⟨S2x256x1024, .f32⟩
  | .hbm, ⟨12, _⟩ => ⟨S2x256x1024, .f32⟩
  | .hbm, ⟨13, _⟩ => ⟨S2x256x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S7x128x1024, .bf16⟩
  | .local _ .vmem, ⟨3, _⟩ => ⟨S7x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .smem, ⟨0, _⟩ => ⟨S1, .i32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GmlpOutUpdate1Ideal.lean ====
abbrev S8x256x1024 : Shape := ⟨3, ![8, 256, 1024]⟩
abbrev S7x256x1024 : Shape := ⟨3, ![7, 256, 1024]⟩
abbrev S2x256x1024 : Shape := ⟨3, ![2, 256, 1024]⟩
abbrev S_ : Shape := ⟨0, ![]⟩
abbrev S1 : Shape := ⟨1, ![1]⟩
abbrev S1x128x1024 : Shape := ⟨3, ![1, 128, 1024]⟩
abbrev S7x128x1024 : Shape := ⟨3, ![7, 128, 1024]⟩
abbrev S128x1024 : Shape := ⟨2, ![128, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x256x1024, .bf16⟩
  | .hbm, ⟨1, _⟩ => ⟨S7x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .hbm, ⟨9, _⟩ => ⟨S_, .i32⟩
  | .hbm, ⟨10, _⟩ => ⟨S2x256x1024, .f32⟩
  | .hbm, ⟨11, _⟩ => ⟨S2x256x1024, .f32⟩
  | .hbm, ⟨12, _⟩ => ⟨S2x256x1024, .f32⟩
  | .hbm, ⟨13, _⟩ => ⟨S2x256x1024, .f32⟩
  | .local _ .vmem, ⟨0, _⟩ => ⟨S1x128x1024, .bf16⟩
  | .local _ .vmem, ⟨1, _⟩ => ⟨S1x128x1024, .bf16⟩
  | .local _ .vmem, ⟨2, _⟩ => ⟨S7x128x1024, .bf16⟩
  | .local _ .vmem, ⟨3, _⟩ => ⟨S7x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .smem, ⟨0, _⟩ => ⟨S1, .i32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_b1" => some (((6513215599 / 10000000000)⁻¹ : ℝ) : EReal)
  | "inv_b2" => some (((9955119790251790119955009999 / 1000000000000000000000000000000)⁻¹ : ℝ) : EReal)
  | _ => none

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GmlpOutUpdate1ReferenceIdeal.lean ====
abbrev S8x256x1024 : Shape := ⟨3, ![8, 256, 1024]⟩
abbrev S7x256x1024 : Shape := ⟨3, ![7, 256, 1024]⟩
abbrev S2x256x1024 : Shape := ⟨3, ![2, 256, 1024]⟩
abbrev S1x256x1024 : Shape := ⟨3, ![1, 256, 1024]⟩
abbrev S256x1024 : Shape := ⟨2, ![256, 1024]⟩

abbrev nBuf : Space → Nat
  | .hbm => 13
  | .vmem => 13
  | .smem => 0
  | _ => 0

abbrev bufTy : (tb : Table) → Fin (tcTables nBuf tb) → BufTy
  | .hbm, ⟨0, _⟩ => ⟨S8x256x1024, .bf16⟩
  | .hbm, ⟨1, _⟩ => ⟨S7x256x1024, .bf16⟩
  | .hbm, ⟨2, _⟩ => ⟨S2x256x1024, .f32⟩
  | .hbm, ⟨3, _⟩ => ⟨S2x256x1024, .f32⟩
  | .hbm, ⟨4, _⟩ => ⟨S2x256x1024, .f32⟩
  | .hbm, ⟨5, _⟩ => ⟨S2x256x1024, .f32⟩
  | .hbm, ⟨6, _⟩ => ⟨S2x256x1024, .f32⟩
  | .hbm, ⟨7, _⟩ => ⟨S2x256x1024, .f32⟩
  | .hbm, ⟨8, _⟩ => ⟨S2x256x1024, .f32⟩
  | .hbm, ⟨9, _⟩ => ⟨S2x256x1024, .f32⟩
  | .hbm, ⟨10, _⟩ => ⟨S2x256x1024, .f32⟩
  | .hbm, ⟨11, _⟩ => ⟨S2x256x1024, .f32⟩
  | .hbm, ⟨12, _⟩ => ⟨S2x256x1024, .f32⟩
  | .local _ .vmem, ⟨0, _⟩ => ⟨S8x256x1024, .bf16⟩
  | .local _ .vmem, ⟨1, _⟩ => ⟨S7x256x1024, .bf16⟩
  | .local _ .vmem, ⟨2, _⟩ => ⟨S2x256x1024, .f32⟩
  | .local _ .vmem, ⟨3, _⟩ => ⟨S2x256x1024, .f32⟩
  | .local _ .vmem, ⟨4, _⟩ => ⟨S2x256x1024, .f32⟩
  | .local _ .vmem, ⟨5, _⟩ => ⟨S2x256x1024, .f32⟩
  | .local _ .vmem, ⟨6, _⟩ => ⟨S2x256x1024, .f32⟩
  | .local _ .vmem, ⟨7, _⟩ => ⟨S2x256x1024, .f32⟩
  | .local _ .vmem, ⟨8, _⟩ => ⟨S2x256x1024, .f32⟩
  | .local _ .vmem, ⟨9, _⟩ => ⟨S2x256x1024, .f32⟩
  | .local _ .vmem, ⟨10, _⟩ => ⟨S2x256x1024, .f32⟩
  | .local _ .vmem, ⟨11, _⟩ => ⟨S2x256x1024, .f32⟩
  | .local _ .vmem, ⟨12, _⟩ => ⟨S2x256x1024, .f32⟩
  | _, _ => ⟨S8x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F] [Named F]

def κ : String → Option EReal := fun
  | "b1" => some ((6513215599 / 10000000000 : ℝ) : EReal)
  | "b2" => some ((9955119790251790119955009999 / 1000000000000000000000000000000 : ℝ) : EReal)
  | _ => none

abbrev grid0 : Pipeline.Grid := .none

abbrev stage0_0 : Fin 1 → Memref sig .tc .vmem S8x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x256x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x256x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x256x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== AttnQkvUpdate0.lean ====
abbrev S8x192x1024 : Shape := ⟨3, ![8, 192, 1024]⟩
abbrev S7x192x1024 : Shape := ⟨3, ![7, 192, 1024]⟩
abbrev S2x192x1024 : Shape := ⟨3, ![2, 192, 1024]⟩
abbrev S_ : Shape := ⟨0, ![]⟩
abbrev S1 : Shape := ⟨1, ![1]⟩
abbrev S1x96x1024 : Shape := ⟨3, ![1, 96, 1024]⟩
abbrev S7x96x1024 : Shape := ⟨3, ![7, 96, 1024]⟩
abbrev S96x1024 : Shape := ⟨2, ![96, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x192x1024, .bf16⟩
  | .hbm, ⟨1, _⟩ => ⟨S7x192x1024, .bf16⟩
  | .hbm, ⟨2, _⟩ => ⟨S2x192x1024, .f32⟩
  | .hbm, ⟨3, _⟩ => ⟨S2x192x1024, .f32⟩
  | .hbm, ⟨4, _⟩ => ⟨S2x192x1024, .f32⟩
  | .hbm, ⟨5, _⟩ => ⟨S2x192x1024, .f32⟩
  | .hbm, ⟨6, _⟩ => ⟨S2x192x1024, .f32⟩
  | .hbm, ⟨7, _⟩ => ⟨S2x192x1024, .f32⟩
  | .hbm, ⟨8, _⟩ => ⟨S2x192x1024, .f32⟩
  | .hbm, ⟨9, _⟩ => ⟨S_, .i32⟩
  | .hbm, ⟨10, _⟩ => ⟨S2x192x1024, .f32⟩
  | .hbm, ⟨11, _⟩ => ⟨S2x192x1024, .f32⟩
  | .hbm, ⟨12, _⟩ => ⟨S2x192x1024, .f32⟩
  | .hbm, ⟨13, _⟩ => ⟨S2x192x1024, .f32⟩
  | .local _ .vmem, ⟨0, _⟩ => ⟨S1x96x1024, .bf16⟩
  | .local _ .vmem, ⟨1, _⟩ => ⟨S1x96x1024, .bf16⟩
  | .local _ .vmem, ⟨2, _⟩ => ⟨S7x96x1024, .bf16⟩
  | .local _ .vmem, ⟨3, _⟩ => ⟨S7x96x1024, .bf16⟩
  | .local _ .vmem, ⟨4, _⟩ => ⟨S1x96x1024, .f32⟩
  | .local _ .vmem, ⟨5, _⟩ => ⟨S1x96x1024, .f32⟩
  | .local _ .vmem, ⟨6, _⟩ => ⟨S1x96x1024, .f32⟩
  | .local _ .vmem, ⟨7, _⟩ => ⟨S1x96x1024, .f32⟩
  | .local _ .vmem, ⟨8, _⟩ => ⟨S1x96x1024, .f32⟩
  | .local _ .vmem, ⟨9, _⟩ => ⟨S1x96x1024, .f32⟩
  | .local _ .vmem, ⟨10, _⟩ => ⟨S1x96x1024, .f32⟩
  | .local _ .vmem, ⟨11, _⟩ => ⟨S1x96x1024, .f32⟩
  | .local _ .vmem, ⟨12, _⟩ => ⟨S1x96x1024, .f32⟩
  | .local _ .vmem, ⟨13, _⟩ => ⟨S1x96x1024, .f32⟩
  | .local _ .vmem, ⟨14, _⟩ => ⟨S1x96x1024, .f32⟩
  | .local _ .vmem, ⟨15, _⟩ => ⟨S1x96x1024, .f32⟩
  | .local _ .vmem, ⟨16, _⟩ => ⟨S1x96x1024, .f32⟩
  | .local _ .vmem, ⟨17, _⟩ => ⟨S1x96x1024, .f32⟩
  | .local _ .smem, ⟨0, _⟩ => ⟨S1, .i32⟩
  | _, _ => ⟨S8x192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x96x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x96x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x96x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x96x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x96x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x96x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x96x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x96x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x96x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnQkvUpdate0Ideal.lean ====
abbrev S8x192x1024 : Shape := ⟨3, ![8, 192, 1024]⟩
abbrev S7x192x1024 : Shape := ⟨3, ![7, 192, 1024]⟩
abbrev S2x192x1024 : Shape := ⟨3, ![2, 192, 1024]⟩
abbrev S_ : Shape := ⟨0, ![]⟩
abbrev S1 : Shape := ⟨1, ![1]⟩
abbrev S1x96x1024 : Shape := ⟨3, ![1, 96, 1024]⟩
abbrev S7x96x1024 : Shape := ⟨3, ![7, 96, 1024]⟩
abbrev S96x1024 : Shape := ⟨2, ![96, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x192x1024, .bf16⟩
  | .hbm, ⟨1, _⟩ => ⟨S7x192x1024, .bf16⟩
  | .hbm, ⟨2, _⟩ => ⟨S2x192x1024, .f32⟩
  | .hbm, ⟨3, _⟩ => ⟨S2x192x1024, .f32⟩
  | .hbm, ⟨4, _⟩ => ⟨S2x192x1024, .f32⟩
  | .hbm, ⟨5, _⟩ => ⟨S2x192x1024, .f32⟩
  | .hbm, ⟨6, _⟩ => ⟨S2x192x1024, .f32⟩
  | .hbm, ⟨7, _⟩ => ⟨S2x192x1024, .f32⟩
  | .hbm, ⟨8, _⟩ => ⟨S2x192x1024, .f32⟩
  | .hbm, ⟨9, _⟩ => ⟨S_, .i32⟩
  | .hbm, ⟨10, _⟩ => ⟨S2x192x1024, .f32⟩
  | .hbm, ⟨11, _⟩ => ⟨S2x192x1024, .f32⟩
  | .hbm, ⟨12, _⟩ => ⟨S2x192x1024, .f32⟩
  | .hbm, ⟨13, _⟩ => ⟨S2x192x1024, .f32⟩
  | .local _ .vmem, ⟨0, _⟩ => ⟨S1x96x1024, .bf16⟩
  | .local _ .vmem, ⟨1, _⟩ => ⟨S1x96x1024, .bf16⟩
  | .local _ .vmem, ⟨2, _⟩ => ⟨S7x96x1024, .bf16⟩
  | .local _ .vmem, ⟨3, _⟩ => ⟨S7x96x1024, .bf16⟩
  | .local _ .vmem, ⟨4, _⟩ => ⟨S1x96x1024, .f32⟩
  | .local _ .vmem, ⟨5, _⟩ => ⟨S1x96x1024, .f32⟩
  | .local _ .vmem, ⟨6, _⟩ => ⟨S1x96x1024, .f32⟩
  | .local _ .vmem, ⟨7, _⟩ => ⟨S1x96x1024, .f32⟩
  | .local _ .vmem, ⟨8, _⟩ => ⟨S1x96x1024, .f32⟩
  | .local _ .vmem, ⟨9, _⟩ => ⟨S1x96x1024, .f32⟩
  | .local _ .vmem, ⟨10, _⟩ => ⟨S1x96x1024, .f32⟩
  | .local _ .vmem, ⟨11, _⟩ => ⟨S1x96x1024, .f32⟩
  | .local _ .vmem, ⟨12, _⟩ => ⟨S1x96x1024, .f32⟩
  | .local _ .vmem, ⟨13, _⟩ => ⟨S1x96x1024, .f32⟩
  | .local _ .vmem, ⟨14, _⟩ => ⟨S1x96x1024, .f32⟩
  | .local _ .vmem, ⟨15, _⟩ => ⟨S1x96x1024, .f32⟩
  | .local _ .vmem, ⟨16, _⟩ => ⟨S1x96x1024, .f32⟩
  | .local _ .vmem, ⟨17, _⟩ => ⟨S1x96x1024, .f32⟩
  | .local _ .smem, ⟨0, _⟩ => ⟨S1, .i32⟩
  | _, _ => ⟨S8x192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_b1" => some (((6513215599 / 10000000000)⁻¹ : ℝ) : EReal)
  | "inv_b2" => some (((9955119790251790119955009999 / 1000000000000000000000000000000)⁻¹ : ℝ) : EReal)
  | _ => none

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x96x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x96x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x96x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x96x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x96x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x96x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x96x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x96x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x96x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnQkvUpdate0ReferenceIdeal.lean ====
abbrev S8x192x1024 : Shape := ⟨3, ![8, 192, 1024]⟩
abbrev S7x192x1024 : Shape := ⟨3, ![7, 192, 1024]⟩
abbrev S2x192x1024 : Shape := ⟨3, ![2, 192, 1024]⟩
abbrev S1x192x1024 : Shape := ⟨3, ![1, 192, 1024]⟩
abbrev S192x1024 : Shape := ⟨2, ![192, 1024]⟩

abbrev nBuf : Space → Nat
  | .hbm => 13
  | .vmem => 13
  | .smem => 0
  | _ => 0

abbrev bufTy : (tb : Table) → Fin (tcTables nBuf tb) → BufTy
  | .hbm, ⟨0, _⟩ => ⟨S8x192x1024, .bf16⟩
  | .hbm, ⟨1, _⟩ => ⟨S7x192x1024, .bf16⟩
  | .hbm, ⟨2, _⟩ => ⟨S2x192x1024, .f32⟩
  | .hbm, ⟨3, _⟩ => ⟨S2x192x1024, .f32⟩
  | .hbm, ⟨4, _⟩ => ⟨S2x192x1024, .f32⟩
  | .hbm, ⟨5, _⟩ => ⟨S2x192x1024, .f32⟩
  | .hbm, ⟨6, _⟩ => ⟨S2x192x1024, .f32⟩
  | .hbm, ⟨7, _⟩ => ⟨S2x192x1024, .f32⟩
  | .hbm, ⟨8, _⟩ => ⟨S2x192x1024, .f32⟩
  | .hbm, ⟨9, _⟩ => ⟨S2x192x1024, .f32⟩
  | .hbm, ⟨10, _⟩ => ⟨S2x192x1024, .f32⟩
  | .hbm, ⟨11, _⟩ => ⟨S2x192x1024, .f32⟩
  | .hbm, ⟨12, _⟩ => ⟨S2x192x1024, .f32⟩
  | .local _ .vmem, ⟨0, _⟩ => ⟨S8x192x1024, .bf16⟩
  | .local _ .vmem, ⟨1, _⟩ => ⟨S7x192x1024, .bf16⟩
  | .local _ .vmem, ⟨2, _⟩ => ⟨S2x192x1024, .f32⟩
  | .local _ .vmem, ⟨3, _⟩ => ⟨S2x192x1024, .f32⟩
  | .local _ .vmem, ⟨4, _⟩ => ⟨S2x192x1024, .f32⟩
  | .local _ .vmem, ⟨5, _⟩ => ⟨S2x192x1024, .f32⟩
  | .local _ .vmem, ⟨6, _⟩ => ⟨S2x192x1024, .f32⟩
  | .local _ .vmem, ⟨7, _⟩ => ⟨S2x192x1024, .f32⟩
  | .local _ .vmem, ⟨8, _⟩ => ⟨S2x192x1024, .f32⟩
  | .local _ .vmem, ⟨9, _⟩ => ⟨S2x192x1024, .f32⟩
  | .local _ .vmem, ⟨10, _⟩ => ⟨S2x192x1024, .f32⟩
  | .local _ .vmem, ⟨11, _⟩ => ⟨S2x192x1024, .f32⟩
  | .local _ .vmem, ⟨12, _⟩ => ⟨S2x192x1024, .f32⟩
  | _, _ => ⟨S8x192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F] [Named F]

def κ : String → Option EReal := fun
  | "b1" => some ((6513215599 / 10000000000 : ℝ) : EReal)
  | "b2" => some ((9955119790251790119955009999 / 1000000000000000000000000000000 : ℝ) : EReal)
  | _ => none

abbrev grid0 : Pipeline.Grid := .none

abbrev stage0_0 : Fin 1 → Memref sig .tc .vmem S8x192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x192x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x192x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x192x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x192x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x192x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x192x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x192x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x192x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x192x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x192x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== AttnQkvUpdate1.lean ====
abbrev S8x192x1024 : Shape := ⟨3, ![8, 192, 1024]⟩
abbrev S7x192x1024 : Shape := ⟨3, ![7, 192, 1024]⟩
abbrev S2x192x1024 : Shape := ⟨3, ![2, 192, 1024]⟩
abbrev S_ : Shape := ⟨0, ![]⟩
abbrev S1 : Shape := ⟨1, ![1]⟩
abbrev S1x96x1024 : Shape := ⟨3, ![1, 96, 1024]⟩
abbrev S7x96x1024 : Shape := ⟨3, ![7, 96, 1024]⟩
abbrev S96x1024 : Shape := ⟨2, ![96, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x192x1024, .bf16⟩
  | .hbm, ⟨1, _⟩ => ⟨S7x192x1024, .bf16⟩
  | .hbm, ⟨2, _⟩ => ⟨S2x192x1024, .f32⟩
  | .hbm, ⟨3, _⟩ => ⟨S2x192x1024, .f32⟩
  | .hbm, ⟨4, _⟩ => ⟨S2x192x1024, .f32⟩
  | .hbm, ⟨5, _⟩ => ⟨S2x192x1024, .f32⟩
  | .hbm, ⟨6, _⟩ => ⟨S2x192x1024, .f32⟩
  | .hbm, ⟨7, _⟩ => ⟨S2x192x1024, .f32⟩
  | .hbm, ⟨8, _⟩ => ⟨S2x192x1024, .f32⟩
  | .hbm, ⟨9, _⟩ => ⟨S_, .i32⟩
  | .hbm, ⟨10, _⟩ => ⟨S2x192x1024, .f32⟩
  | .hbm, ⟨11, _⟩ => ⟨S2x192x1024, .f32⟩
  | .hbm, ⟨12, _⟩ => ⟨S2x192x1024, .f32⟩
  | .hbm, ⟨13, _⟩ => ⟨S2x192x1024, .f32⟩
  | .local _ .vmem, ⟨0, _⟩ => ⟨S1x96x1024, .bf16⟩
  | .local _ .vmem, ⟨1, _⟩ => ⟨S1x96x1024, .bf16⟩
  | .local _ .vmem, ⟨2, _⟩ => ⟨S7x96x1024, .bf16⟩
  | .local _ .vmem, ⟨3, _⟩ => ⟨S7x96x1024, .bf16⟩
  | .local _ .vmem, ⟨4, _⟩ => ⟨S1x96x1024, .f32⟩
  | .local _ .vmem, ⟨5, _⟩ => ⟨S1x96x1024, .f32⟩
  | .local _ .vmem, ⟨6, _⟩ => ⟨S1x96x1024, .f32⟩
  | .local _ .vmem, ⟨7, _⟩ => ⟨S1x96x1024, .f32⟩
  | .local _ .vmem, ⟨8, _⟩ => ⟨S1x96x1024, .f32⟩
  | .local _ .vmem, ⟨9, _⟩ => ⟨S1x96x1024, .f32⟩
  | .local _ .vmem, ⟨10, _⟩ => ⟨S1x96x1024, .f32⟩
  | .local _ .vmem, ⟨11, _⟩ => ⟨S1x96x1024, .f32⟩
  | .local _ .vmem, ⟨12, _⟩ => ⟨S1x96x1024, .f32⟩
  | .local _ .vmem, ⟨13, _⟩ => ⟨S1x96x1024, .f32⟩
  | .local _ .vmem, ⟨14, _⟩ => ⟨S1x96x1024, .f32⟩
  | .local _ .vmem, ⟨15, _⟩ => ⟨S1x96x1024, .f32⟩
  | .local _ .vmem, ⟨16, _⟩ => ⟨S1x96x1024, .f32⟩
  | .local _ .vmem, ⟨17, _⟩ => ⟨S1x96x1024, .f32⟩
  | .local _ .smem, ⟨0, _⟩ => ⟨S1, .i32⟩
  | _, _ => ⟨S8x192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x96x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x96x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x96x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x96x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x96x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x96x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x96x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x96x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x96x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnQkvUpdate1Ideal.lean ====
abbrev S8x192x1024 : Shape := ⟨3, ![8, 192, 1024]⟩
abbrev S7x192x1024 : Shape := ⟨3, ![7, 192, 1024]⟩
abbrev S2x192x1024 : Shape := ⟨3, ![2, 192, 1024]⟩
abbrev S_ : Shape := ⟨0, ![]⟩
abbrev S1 : Shape := ⟨1, ![1]⟩
abbrev S1x96x1024 : Shape := ⟨3, ![1, 96, 1024]⟩
abbrev S7x96x1024 : Shape := ⟨3, ![7, 96, 1024]⟩
abbrev S96x1024 : Shape := ⟨2, ![96, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x192x1024, .bf16⟩
  | .hbm, ⟨1, _⟩ => ⟨S7x192x1024, .bf16⟩
  | .hbm, ⟨2, _⟩ => ⟨S2x192x1024, .f32⟩
  | .hbm, ⟨3, _⟩ => ⟨S2x192x1024, .f32⟩
  | .hbm, ⟨4, _⟩ => ⟨S2x192x1024, .f32⟩
  | .hbm, ⟨5, _⟩ => ⟨S2x192x1024, .f32⟩
  | .hbm, ⟨6, _⟩ => ⟨S2x192x1024, .f32⟩
  | .hbm, ⟨7, _⟩ => ⟨S2x192x1024, .f32⟩
  | .hbm, ⟨8, _⟩ => ⟨S2x192x1024, .f32⟩
  | .hbm, ⟨9, _⟩ => ⟨S_, .i32⟩
  | .hbm, ⟨10, _⟩ => ⟨S2x192x1024, .f32⟩
  | .hbm, ⟨11, _⟩ => ⟨S2x192x1024, .f32⟩
  | .hbm, ⟨12, _⟩ => ⟨S2x192x1024, .f32⟩
  | .hbm, ⟨13, _⟩ => ⟨S2x192x1024, .f32⟩
  | .local _ .vmem, ⟨0, _⟩ => ⟨S1x96x1024, .bf16⟩
  | .local _ .vmem, ⟨1, _⟩ => ⟨S1x96x1024, .bf16⟩
  | .local _ .vmem, ⟨2, _⟩ => ⟨S7x96x1024, .bf16⟩
  | .local _ .vmem, ⟨3, _⟩ => ⟨S7x96x1024, .bf16⟩
  | .local _ .vmem, ⟨4, _⟩ => ⟨S1x96x1024, .f32⟩
  | .local _ .vmem, ⟨5, _⟩ => ⟨S1x96x1024, .f32⟩
  | .local _ .vmem, ⟨6, _⟩ => ⟨S1x96x1024, .f32⟩
  | .local _ .vmem, ⟨7, _⟩ => ⟨S1x96x1024, .f32⟩
  | .local _ .vmem, ⟨8, _⟩ => ⟨S1x96x1024, .f32⟩
  | .local _ .vmem, ⟨9, _⟩ => ⟨S1x96x1024, .f32⟩
  | .local _ .vmem, ⟨10, _⟩ => ⟨S1x96x1024, .f32⟩
  | .local _ .vmem, ⟨11, _⟩ => ⟨S1x96x1024, .f32⟩
  | .local _ .vmem, ⟨12, _⟩ => ⟨S1x96x1024, .f32⟩
  | .local _ .vmem, ⟨13, _⟩ => ⟨S1x96x1024, .f32⟩
  | .local _ .vmem, ⟨14, _⟩ => ⟨S1x96x1024, .f32⟩
  | .local _ .vmem, ⟨15, _⟩ => ⟨S1x96x1024, .f32⟩
  | .local _ .vmem, ⟨16, _⟩ => ⟨S1x96x1024, .f32⟩
  | .local _ .vmem, ⟨17, _⟩ => ⟨S1x96x1024, .f32⟩
  | .local _ .smem, ⟨0, _⟩ => ⟨S1, .i32⟩
  | _, _ => ⟨S8x192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_b1" => some (((6513215599 / 10000000000)⁻¹ : ℝ) : EReal)
  | "inv_b2" => some (((9955119790251790119955009999 / 1000000000000000000000000000000)⁻¹ : ℝ) : EReal)
  | _ => none

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x96x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x96x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x96x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x96x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x96x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x96x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x96x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x96x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x96x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnQkvUpdate1ReferenceIdeal.lean ====
abbrev S8x192x1024 : Shape := ⟨3, ![8, 192, 1024]⟩
abbrev S7x192x1024 : Shape := ⟨3, ![7, 192, 1024]⟩
abbrev S2x192x1024 : Shape := ⟨3, ![2, 192, 1024]⟩
abbrev S1x192x1024 : Shape := ⟨3, ![1, 192, 1024]⟩
abbrev S192x1024 : Shape := ⟨2, ![192, 1024]⟩

abbrev nBuf : Space → Nat
  | .hbm => 13
  | .vmem => 13
  | .smem => 0
  | _ => 0

abbrev bufTy : (tb : Table) → Fin (tcTables nBuf tb) → BufTy
  | .hbm, ⟨0, _⟩ => ⟨S8x192x1024, .bf16⟩
  | .hbm, ⟨1, _⟩ => ⟨S7x192x1024, .bf16⟩
  | .hbm, ⟨2, _⟩ => ⟨S2x192x1024, .f32⟩
  | .hbm, ⟨3, _⟩ => ⟨S2x192x1024, .f32⟩
  | .hbm, ⟨4, _⟩ => ⟨S2x192x1024, .f32⟩
  | .hbm, ⟨5, _⟩ => ⟨S2x192x1024, .f32⟩
  | .hbm, ⟨6, _⟩ => ⟨S2x192x1024, .f32⟩
  | .hbm, ⟨7, _⟩ => ⟨S2x192x1024, .f32⟩
  | .hbm, ⟨8, _⟩ => ⟨S2x192x1024, .f32⟩
  | .hbm, ⟨9, _⟩ => ⟨S2x192x1024, .f32⟩
  | .hbm, ⟨10, _⟩ => ⟨S2x192x1024, .f32⟩
  | .hbm, ⟨11, _⟩ => ⟨S2x192x1024, .f32⟩
  | .hbm, ⟨12, _⟩ => ⟨S2x192x1024, .f32⟩
  | .local _ .vmem, ⟨0, _⟩ => ⟨S8x192x1024, .bf16⟩
  | .local _ .vmem, ⟨1, _⟩ => ⟨S7x192x1024, .bf16⟩
  | .local _ .vmem, ⟨2, _⟩ => ⟨S2x192x1024, .f32⟩
  | .local _ .vmem, ⟨3, _⟩ => ⟨S2x192x1024, .f32⟩
  | .local _ .vmem, ⟨4, _⟩ => ⟨S2x192x1024, .f32⟩
  | .local _ .vmem, ⟨5, _⟩ => ⟨S2x192x1024, .f32⟩
  | .local _ .vmem, ⟨6, _⟩ => ⟨S2x192x1024, .f32⟩
  | .local _ .vmem, ⟨7, _⟩ => ⟨S2x192x1024, .f32⟩
  | .local _ .vmem, ⟨8, _⟩ => ⟨S2x192x1024, .f32⟩
  | .local _ .vmem, ⟨9, _⟩ => ⟨S2x192x1024, .f32⟩
  | .local _ .vmem, ⟨10, _⟩ => ⟨S2x192x1024, .f32⟩
  | .local _ .vmem, ⟨11, _⟩ => ⟨S2x192x1024, .f32⟩
  | .local _ .vmem, ⟨12, _⟩ => ⟨S2x192x1024, .f32⟩
  | _, _ => ⟨S8x192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F] [Named F]

def κ : String → Option EReal := fun
  | "b1" => some ((6513215599 / 10000000000 : ℝ) : EReal)
  | "b2" => some ((9955119790251790119955009999 / 1000000000000000000000000000000 : ℝ) : EReal)
  | _ => none

abbrev grid0 : Pipeline.Grid := .none

abbrev stage0_0 : Fin 1 → Memref sig .tc .vmem S8x192x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x192x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x192x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x192x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x192x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x192x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x192x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x192x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x192x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x192x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x192x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x192x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== AttnOutUpdate0.lean ====
abbrev S8x128x1024 : Shape := ⟨3, ![8, 128, 1024]⟩
abbrev S7x128x1024 : Shape := ⟨3, ![7, 128, 1024]⟩
abbrev S2x128x1024 : Shape := ⟨3, ![2, 128, 1024]⟩
abbrev S_ : Shape := ⟨0, ![]⟩
abbrev S1 : Shape := ⟨1, ![1]⟩
abbrev S1x64x1024 : Shape := ⟨3, ![1, 64, 1024]⟩
abbrev S7x64x1024 : Shape := ⟨3, ![7, 64, 1024]⟩
abbrev S64x1024 : Shape := ⟨2, ![64, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x128x1024, .bf16⟩
  | .hbm, ⟨1, _⟩ => ⟨S7x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S_, .i32⟩
  | .hbm, ⟨10, _⟩ => ⟨S2x128x1024, .f32⟩
  | .hbm, ⟨11, _⟩ => ⟨S2x128x1024, .f32⟩
  | .hbm, ⟨12, _⟩ => ⟨S2x128x1024, .f32⟩
  | .hbm, ⟨13, _⟩ => ⟨S2x128x1024, .f32⟩
  | .local _ .vmem, ⟨0, _⟩ => ⟨S1x64x1024, .bf16⟩
  | .local _ .vmem, ⟨1, _⟩ => ⟨S1x64x1024, .bf16⟩
  | .local _ .vmem, ⟨2, _⟩ => ⟨S7x64x1024, .bf16⟩
  | .local _ .vmem, ⟨3, _⟩ => ⟨S7x64x1024, .bf16⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | .local _ .smem, ⟨0, _⟩ => ⟨S1, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnOutUpdate0Ideal.lean ====
abbrev S8x128x1024 : Shape := ⟨3, ![8, 128, 1024]⟩
abbrev S7x128x1024 : Shape := ⟨3, ![7, 128, 1024]⟩
abbrev S2x128x1024 : Shape := ⟨3, ![2, 128, 1024]⟩
abbrev S_ : Shape := ⟨0, ![]⟩
abbrev S1 : Shape := ⟨1, ![1]⟩
abbrev S1x64x1024 : Shape := ⟨3, ![1, 64, 1024]⟩
abbrev S7x64x1024 : Shape := ⟨3, ![7, 64, 1024]⟩
abbrev S64x1024 : Shape := ⟨2, ![64, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x128x1024, .bf16⟩
  | .hbm, ⟨1, _⟩ => ⟨S7x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S_, .i32⟩
  | .hbm, ⟨10, _⟩ => ⟨S2x128x1024, .f32⟩
  | .hbm, ⟨11, _⟩ => ⟨S2x128x1024, .f32⟩
  | .hbm, ⟨12, _⟩ => ⟨S2x128x1024, .f32⟩
  | .hbm, ⟨13, _⟩ => ⟨S2x128x1024, .f32⟩
  | .local _ .vmem, ⟨0, _⟩ => ⟨S1x64x1024, .bf16⟩
  | .local _ .vmem, ⟨1, _⟩ => ⟨S1x64x1024, .bf16⟩
  | .local _ .vmem, ⟨2, _⟩ => ⟨S7x64x1024, .bf16⟩
  | .local _ .vmem, ⟨3, _⟩ => ⟨S7x64x1024, .bf16⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | .local _ .smem, ⟨0, _⟩ => ⟨S1, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_b1" => some (((6513215599 / 10000000000)⁻¹ : ℝ) : EReal)
  | "inv_b2" => some (((9955119790251790119955009999 / 1000000000000000000000000000000)⁻¹ : ℝ) : EReal)
  | _ => none

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnOutUpdate0ReferenceIdeal.lean ====
abbrev S8x128x1024 : Shape := ⟨3, ![8, 128, 1024]⟩
abbrev S7x128x1024 : Shape := ⟨3, ![7, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 13
  | .vmem => 13
  | .smem => 0
  | _ => 0

abbrev bufTy : (tb : Table) → Fin (tcTables nBuf tb) → BufTy
  | .hbm, ⟨0, _⟩ => ⟨S8x128x1024, .bf16⟩
  | .hbm, ⟨1, _⟩ => ⟨S7x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .hbm, ⟨12, _⟩ => ⟨S2x128x1024, .f32⟩
  | .local _ .vmem, ⟨0, _⟩ => ⟨S8x128x1024, .bf16⟩
  | .local _ .vmem, ⟨1, _⟩ => ⟨S7x128x1024, .bf16⟩
  | .local _ .vmem, ⟨2, _⟩ => ⟨S2x128x1024, .f32⟩
  | .local _ .vmem, ⟨3, _⟩ => ⟨S2x128x1024, .f32⟩
  | .local _ .vmem, ⟨4, _⟩ => ⟨S2x128x1024, .f32⟩
  | .local _ .vmem, ⟨5, _⟩ => ⟨S2x128x1024, .f32⟩
  | .local _ .vmem, ⟨6, _⟩ => ⟨S2x128x1024, .f32⟩
  | .local _ .vmem, ⟨7, _⟩ => ⟨S2x128x1024, .f32⟩
  | .local _ .vmem, ⟨8, _⟩ => ⟨S2x128x1024, .f32⟩
  | .local _ .vmem, ⟨9, _⟩ => ⟨S2x128x1024, .f32⟩
  | .local _ .vmem, ⟨10, _⟩ => ⟨S2x128x1024, .f32⟩
  | .local _ .vmem, ⟨11, _⟩ => ⟨S2x128x1024, .f32⟩
  | .local _ .vmem, ⟨12, _⟩ => ⟨S2x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F] [Named F]

def κ : String → Option EReal := fun
  | "b1" => some ((6513215599 / 10000000000 : ℝ) : EReal)
  | "b2" => some ((9955119790251790119955009999 / 1000000000000000000000000000000 : ℝ) : EReal)
  | _ => none

abbrev grid0 : Pipeline.Grid := .none

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== AttnOutUpdate1.lean ====
abbrev S8x128x1024 : Shape := ⟨3, ![8, 128, 1024]⟩
abbrev S7x128x1024 : Shape := ⟨3, ![7, 128, 1024]⟩
abbrev S2x128x1024 : Shape := ⟨3, ![2, 128, 1024]⟩
abbrev S_ : Shape := ⟨0, ![]⟩
abbrev S1 : Shape := ⟨1, ![1]⟩
abbrev S1x64x1024 : Shape := ⟨3, ![1, 64, 1024]⟩
abbrev S7x64x1024 : Shape := ⟨3, ![7, 64, 1024]⟩
abbrev S64x1024 : Shape := ⟨2, ![64, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x128x1024, .bf16⟩
  | .hbm, ⟨1, _⟩ => ⟨S7x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S_, .i32⟩
  | .hbm, ⟨10, _⟩ => ⟨S2x128x1024, .f32⟩
  | .hbm, ⟨11, _⟩ => ⟨S2x128x1024, .f32⟩
  | .hbm, ⟨12, _⟩ => ⟨S2x128x1024, .f32⟩
  | .hbm, ⟨13, _⟩ => ⟨S2x128x1024, .f32⟩
  | .local _ .vmem, ⟨0, _⟩ => ⟨S1x64x1024, .bf16⟩
  | .local _ .vmem, ⟨1, _⟩ => ⟨S1x64x1024, .bf16⟩
  | .local _ .vmem, ⟨2, _⟩ => ⟨S7x64x1024, .bf16⟩
  | .local _ .vmem, ⟨3, _⟩ => ⟨S7x64x1024, .bf16⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | .local _ .smem, ⟨0, _⟩ => ⟨S1, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnOutUpdate1Ideal.lean ====
abbrev S8x128x1024 : Shape := ⟨3, ![8, 128, 1024]⟩
abbrev S7x128x1024 : Shape := ⟨3, ![7, 128, 1024]⟩
abbrev S2x128x1024 : Shape := ⟨3, ![2, 128, 1024]⟩
abbrev S_ : Shape := ⟨0, ![]⟩
abbrev S1 : Shape := ⟨1, ![1]⟩
abbrev S1x64x1024 : Shape := ⟨3, ![1, 64, 1024]⟩
abbrev S7x64x1024 : Shape := ⟨3, ![7, 64, 1024]⟩
abbrev S64x1024 : Shape := ⟨2, ![64, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x128x1024, .bf16⟩
  | .hbm, ⟨1, _⟩ => ⟨S7x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S_, .i32⟩
  | .hbm, ⟨10, _⟩ => ⟨S2x128x1024, .f32⟩
  | .hbm, ⟨11, _⟩ => ⟨S2x128x1024, .f32⟩
  | .hbm, ⟨12, _⟩ => ⟨S2x128x1024, .f32⟩
  | .hbm, ⟨13, _⟩ => ⟨S2x128x1024, .f32⟩
  | .local _ .vmem, ⟨0, _⟩ => ⟨S1x64x1024, .bf16⟩
  | .local _ .vmem, ⟨1, _⟩ => ⟨S1x64x1024, .bf16⟩
  | .local _ .vmem, ⟨2, _⟩ => ⟨S7x64x1024, .bf16⟩
  | .local _ .vmem, ⟨3, _⟩ => ⟨S7x64x1024, .bf16⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | .local _ .smem, ⟨0, _⟩ => ⟨S1, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_b1" => some (((6513215599 / 10000000000)⁻¹ : ℝ) : EReal)
  | "inv_b2" => some (((9955119790251790119955009999 / 1000000000000000000000000000000)⁻¹ : ℝ) : EReal)
  | _ => none

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AttnOutUpdate1ReferenceIdeal.lean ====
abbrev S8x128x1024 : Shape := ⟨3, ![8, 128, 1024]⟩
abbrev S7x128x1024 : Shape := ⟨3, ![7, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 13
  | .vmem => 13
  | .smem => 0
  | _ => 0

abbrev bufTy : (tb : Table) → Fin (tcTables nBuf tb) → BufTy
  | .hbm, ⟨0, _⟩ => ⟨S8x128x1024, .bf16⟩
  | .hbm, ⟨1, _⟩ => ⟨S7x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .hbm, ⟨12, _⟩ => ⟨S2x128x1024, .f32⟩
  | .local _ .vmem, ⟨0, _⟩ => ⟨S8x128x1024, .bf16⟩
  | .local _ .vmem, ⟨1, _⟩ => ⟨S7x128x1024, .bf16⟩
  | .local _ .vmem, ⟨2, _⟩ => ⟨S2x128x1024, .f32⟩
  | .local _ .vmem, ⟨3, _⟩ => ⟨S2x128x1024, .f32⟩
  | .local _ .vmem, ⟨4, _⟩ => ⟨S2x128x1024, .f32⟩
  | .local _ .vmem, ⟨5, _⟩ => ⟨S2x128x1024, .f32⟩
  | .local _ .vmem, ⟨6, _⟩ => ⟨S2x128x1024, .f32⟩
  | .local _ .vmem, ⟨7, _⟩ => ⟨S2x128x1024, .f32⟩
  | .local _ .vmem, ⟨8, _⟩ => ⟨S2x128x1024, .f32⟩
  | .local _ .vmem, ⟨9, _⟩ => ⟨S2x128x1024, .f32⟩
  | .local _ .vmem, ⟨10, _⟩ => ⟨S2x128x1024, .f32⟩
  | .local _ .vmem, ⟨11, _⟩ => ⟨S2x128x1024, .f32⟩
  | .local _ .vmem, ⟨12, _⟩ => ⟨S2x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F] [Named F]

def κ : String → Option EReal := fun
  | "b1" => some ((6513215599 / 10000000000 : ℝ) : EReal)
  | "b2" => some ((9955119790251790119955009999 / 1000000000000000000000000000000 : ℝ) : EReal)
  | _ => none

abbrev grid0 : Pipeline.Grid := .none

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x128x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x128x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== GmlpInUpdate0.lean ====
abbrev S8x512x1024 : Shape := ⟨3, ![8, 512, 1024]⟩
abbrev S7x512x1024 : Shape := ⟨3, ![7, 512, 1024]⟩
abbrev S2x1024x512 : Shape := ⟨3, ![2, 1024, 512]⟩
abbrev S_ : Shape := ⟨0, ![]⟩
abbrev S1 : Shape := ⟨1, ![1]⟩
abbrev S1x512x256 : Shape := ⟨3, ![1, 512, 256]⟩
abbrev S7x512x256 : Shape := ⟨3, ![7, 512, 256]⟩
abbrev S1x256x512 : Shape := ⟨3, ![1, 256, 512]⟩
abbrev S512x256 : Shape := ⟨2, ![512, 256]⟩
abbrev S256x512 : Shape := ⟨2, ![256, 512]⟩

abbrev nBuf : Space → Nat
  | .hbm => 14
  | .vmem => 18
  | .smem => 1
  | _ => 0

abbrev bufTy : (tb : Table) → Fin (tcTables nBuf tb) → BufTy
  | .hbm, ⟨0, _⟩ => ⟨S8x512x1024, .bf16⟩
  | .hbm, ⟨1, _⟩ => ⟨S7x512x1024, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S_, .i32⟩
  | .hbm, ⟨10, _⟩ => ⟨S2x1024x512, .f32⟩
  | .hbm, ⟨11, _⟩ => ⟨S2x1024x512, .f32⟩
  | .hbm, ⟨12, _⟩ => ⟨S2x1024x512, .f32⟩
  | .hbm, ⟨13, _⟩ => ⟨S2x1024x512, .f32⟩
  | .local _ .vmem, ⟨0, _⟩ => ⟨S1x512x256, .bf16⟩
  | .local _ .vmem, ⟨1, _⟩ => ⟨S1x512x256, .bf16⟩
  | .local _ .vmem, ⟨2, _⟩ => ⟨S7x512x256, .bf16⟩
  | .local _ .vmem, ⟨3, _⟩ => ⟨S7x512x256, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .smem, ⟨0, _⟩ => ⟨S1, .i32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GmlpInUpdate0Ideal.lean ====
abbrev S8x512x1024 : Shape := ⟨3, ![8, 512, 1024]⟩
abbrev S7x512x1024 : Shape := ⟨3, ![7, 512, 1024]⟩
abbrev S2x1024x512 : Shape := ⟨3, ![2, 1024, 512]⟩
abbrev S_ : Shape := ⟨0, ![]⟩
abbrev S1 : Shape := ⟨1, ![1]⟩
abbrev S1x512x256 : Shape := ⟨3, ![1, 512, 256]⟩
abbrev S7x512x256 : Shape := ⟨3, ![7, 512, 256]⟩
abbrev S1x256x512 : Shape := ⟨3, ![1, 256, 512]⟩
abbrev S512x256 : Shape := ⟨2, ![512, 256]⟩
abbrev S256x512 : Shape := ⟨2, ![256, 512]⟩

abbrev nBuf : Space → Nat
  | .hbm => 14
  | .vmem => 18
  | .smem => 1
  | _ => 0

abbrev bufTy : (tb : Table) → Fin (tcTables nBuf tb) → BufTy
  | .hbm, ⟨0, _⟩ => ⟨S8x512x1024, .bf16⟩
  | .hbm, ⟨1, _⟩ => ⟨S7x512x1024, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S_, .i32⟩
  | .hbm, ⟨10, _⟩ => ⟨S2x1024x512, .f32⟩
  | .hbm, ⟨11, _⟩ => ⟨S2x1024x512, .f32⟩
  | .hbm, ⟨12, _⟩ => ⟨S2x1024x512, .f32⟩
  | .hbm, ⟨13, _⟩ => ⟨S2x1024x512, .f32⟩
  | .local _ .vmem, ⟨0, _⟩ => ⟨S1x512x256, .bf16⟩
  | .local _ .vmem, ⟨1, _⟩ => ⟨S1x512x256, .bf16⟩
  | .local _ .vmem, ⟨2, _⟩ => ⟨S7x512x256, .bf16⟩
  | .local _ .vmem, ⟨3, _⟩ => ⟨S7x512x256, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .smem, ⟨0, _⟩ => ⟨S1, .i32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_b1" => some (((6513215599 / 10000000000)⁻¹ : ℝ) : EReal)
  | "inv_b2" => some (((9955119790251790119955009999 / 1000000000000000000000000000000)⁻¹ : ℝ) : EReal)
  | _ => none

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GmlpInUpdate0ReferenceIdeal.lean ====
abbrev S8x512x1024 : Shape := ⟨3, ![8, 512, 1024]⟩
abbrev S7x512x1024 : Shape := ⟨3, ![7, 512, 1024]⟩
abbrev S2x1024x512 : Shape := ⟨3, ![2, 1024, 512]⟩
abbrev S1x512x1024 : Shape := ⟨3, ![1, 512, 1024]⟩
abbrev S512x1024 : Shape := ⟨2, ![512, 1024]⟩
abbrev S1024x512 : Shape := ⟨2, ![1024, 512]⟩
abbrev S1x1024x512 : Shape := ⟨3, ![1, 1024, 512]⟩

abbrev nBuf : Space → Nat
  | .hbm => 13
  | .vmem => 13
  | .smem => 0
  | _ => 0

abbrev bufTy : (tb : Table) → Fin (tcTables nBuf tb) → BufTy
  | .hbm, ⟨0, _⟩ => ⟨S8x512x1024, .bf16⟩
  | .hbm, ⟨1, _⟩ => ⟨S7x512x1024, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S2x1024x512, .f32⟩
  | .hbm, ⟨12, _⟩ => ⟨S2x1024x512, .f32⟩
  | .local _ .vmem, ⟨0, _⟩ => ⟨S8x512x1024, .bf16⟩
  | .local _ .vmem, ⟨1, _⟩ => ⟨S7x512x1024, .bf16⟩
  | .local _ .vmem, ⟨2, _⟩ => ⟨S2x1024x512, .f32⟩
  | .local _ .vmem, ⟨3, _⟩ => ⟨S2x1024x512, .f32⟩
  | .local _ .vmem, ⟨4, _⟩ => ⟨S2x1024x512, .f32⟩
  | .local _ .vmem, ⟨5, _⟩ => ⟨S2x1024x512, .f32⟩
  | .local _ .vmem, ⟨6, _⟩ => ⟨S2x1024x512, .f32⟩
  | .local _ .vmem, ⟨7, _⟩ => ⟨S2x1024x512, .f32⟩
  | .local _ .vmem, ⟨8, _⟩ => ⟨S2x1024x512, .f32⟩
  | .local _ .vmem, ⟨9, _⟩ => ⟨S2x1024x512, .f32⟩
  | .local _ .vmem, ⟨10, _⟩ => ⟨S2x1024x512, .f32⟩
  | .local _ .vmem, ⟨11, _⟩ => ⟨S2x1024x512, .f32⟩
  | .local _ .vmem, ⟨12, _⟩ => ⟨S2x1024x512, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F] [Named F]

def κ : String → Option EReal := fun
  | "b1" => some ((6513215599 / 10000000000 : ℝ) : EReal)
  | "b2" => some ((9955119790251790119955009999 / 1000000000000000000000000000000 : ℝ) : EReal)
  | _ => none

abbrev grid0 : Pipeline.Grid := .none

abbrev stage0_0 : Fin 1 → Memref sig .tc .vmem S8x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== GmlpInUpdate1.lean ====
abbrev S8x512x1024 : Shape := ⟨3, ![8, 512, 1024]⟩
abbrev S7x512x1024 : Shape := ⟨3, ![7, 512, 1024]⟩
abbrev S2x1024x512 : Shape := ⟨3, ![2, 1024, 512]⟩
abbrev S_ : Shape := ⟨0, ![]⟩
abbrev S1 : Shape := ⟨1, ![1]⟩
abbrev S1x512x256 : Shape := ⟨3, ![1, 512, 256]⟩
abbrev S7x512x256 : Shape := ⟨3, ![7, 512, 256]⟩
abbrev S1x256x512 : Shape := ⟨3, ![1, 256, 512]⟩
abbrev S512x256 : Shape := ⟨2, ![512, 256]⟩
abbrev S256x512 : Shape := ⟨2, ![256, 512]⟩

abbrev nBuf : Space → Nat
  | .hbm => 14
  | .vmem => 18
  | .smem => 1
  | _ => 0

abbrev bufTy : (tb : Table) → Fin (tcTables nBuf tb) → BufTy
  | .hbm, ⟨0, _⟩ => ⟨S8x512x1024, .bf16⟩
  | .hbm, ⟨1, _⟩ => ⟨S7x512x1024, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S_, .i32⟩
  | .hbm, ⟨10, _⟩ => ⟨S2x1024x512, .f32⟩
  | .hbm, ⟨11, _⟩ => ⟨S2x1024x512, .f32⟩
  | .hbm, ⟨12, _⟩ => ⟨S2x1024x512, .f32⟩
  | .hbm, ⟨13, _⟩ => ⟨S2x1024x512, .f32⟩
  | .local _ .vmem, ⟨0, _⟩ => ⟨S1x512x256, .bf16⟩
  | .local _ .vmem, ⟨1, _⟩ => ⟨S1x512x256, .bf16⟩
  | .local _ .vmem, ⟨2, _⟩ => ⟨S7x512x256, .bf16⟩
  | .local _ .vmem, ⟨3, _⟩ => ⟨S7x512x256, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .smem, ⟨0, _⟩ => ⟨S1, .i32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GmlpInUpdate1Ideal.lean ====
abbrev S8x512x1024 : Shape := ⟨3, ![8, 512, 1024]⟩
abbrev S7x512x1024 : Shape := ⟨3, ![7, 512, 1024]⟩
abbrev S2x1024x512 : Shape := ⟨3, ![2, 1024, 512]⟩
abbrev S_ : Shape := ⟨0, ![]⟩
abbrev S1 : Shape := ⟨1, ![1]⟩
abbrev S1x512x256 : Shape := ⟨3, ![1, 512, 256]⟩
abbrev S7x512x256 : Shape := ⟨3, ![7, 512, 256]⟩
abbrev S1x256x512 : Shape := ⟨3, ![1, 256, 512]⟩
abbrev S512x256 : Shape := ⟨2, ![512, 256]⟩
abbrev S256x512 : Shape := ⟨2, ![256, 512]⟩

abbrev nBuf : Space → Nat
  | .hbm => 14
  | .vmem => 18
  | .smem => 1
  | _ => 0

abbrev bufTy : (tb : Table) → Fin (tcTables nBuf tb) → BufTy
  | .hbm, ⟨0, _⟩ => ⟨S8x512x1024, .bf16⟩
  | .hbm, ⟨1, _⟩ => ⟨S7x512x1024, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S_, .i32⟩
  | .hbm, ⟨10, _⟩ => ⟨S2x1024x512, .f32⟩
  | .hbm, ⟨11, _⟩ => ⟨S2x1024x512, .f32⟩
  | .hbm, ⟨12, _⟩ => ⟨S2x1024x512, .f32⟩
  | .hbm, ⟨13, _⟩ => ⟨S2x1024x512, .f32⟩
  | .local _ .vmem, ⟨0, _⟩ => ⟨S1x512x256, .bf16⟩
  | .local _ .vmem, ⟨1, _⟩ => ⟨S1x512x256, .bf16⟩
  | .local _ .vmem, ⟨2, _⟩ => ⟨S7x512x256, .bf16⟩
  | .local _ .vmem, ⟨3, _⟩ => ⟨S7x512x256, .bf16⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .smem, ⟨0, _⟩ => ⟨S1, .i32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_b1" => some (((6513215599 / 10000000000)⁻¹ : ℝ) : EReal)
  | "inv_b2" => some (((9955119790251790119955009999 / 1000000000000000000000000000000)⁻¹ : ℝ) : EReal)
  | _ => none

abbrev grid0 : Pipeline.Grid := ⟨1, ![4], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat, arg0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== GmlpInUpdate1ReferenceIdeal.lean ====
abbrev S8x512x1024 : Shape := ⟨3, ![8, 512, 1024]⟩
abbrev S7x512x1024 : Shape := ⟨3, ![7, 512, 1024]⟩
abbrev S2x1024x512 : Shape := ⟨3, ![2, 1024, 512]⟩
abbrev S1x512x1024 : Shape := ⟨3, ![1, 512, 1024]⟩
abbrev S512x1024 : Shape := ⟨2, ![512, 1024]⟩
abbrev S1024x512 : Shape := ⟨2, ![1024, 512]⟩
abbrev S1x1024x512 : Shape := ⟨3, ![1, 1024, 512]⟩

abbrev nBuf : Space → Nat
  | .hbm => 13
  | .vmem => 13
  | .smem => 0
  | _ => 0

abbrev bufTy : (tb : Table) → Fin (tcTables nBuf tb) → BufTy
  | .hbm, ⟨0, _⟩ => ⟨S8x512x1024, .bf16⟩
  | .hbm, ⟨1, _⟩ => ⟨S7x512x1024, .bf16⟩
  | .hbm, ⟨2, _⟩ => ⟨S2x1024x512, .f32⟩
  | .hbm, ⟨3, _⟩ => ⟨S2x1024x512, .f32⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .hbm, ⟨11, _⟩ => ⟨S2x1024x512, .f32⟩
  | .hbm, ⟨12, _⟩ => ⟨S2x1024x512, .f32⟩
  | .local _ .vmem, ⟨0, _⟩ => ⟨S8x512x1024, .bf16⟩
  | .local _ .vmem, ⟨1, _⟩ => ⟨S7x512x1024, .bf16⟩
  | .local _ .vmem, ⟨2, _⟩ => ⟨S2x1024x512, .f32⟩
  | .local _ .vmem, ⟨3, _⟩ => ⟨S2x1024x512, .f32⟩
  | .local _ .vmem, ⟨4, _⟩ => ⟨S2x1024x512, .f32⟩
  | .local _ .vmem, ⟨5, _⟩ => ⟨S2x1024x512, .f32⟩
  | .local _ .vmem, ⟨6, _⟩ => ⟨S2x1024x512, .f32⟩
  | .local _ .vmem, ⟨7, _⟩ => ⟨S2x1024x512, .f32⟩
  | .local _ .vmem, ⟨8, _⟩ => ⟨S2x1024x512, .f32⟩
  | .local _ .vmem, ⟨9, _⟩ => ⟨S2x1024x512, .f32⟩
  | .local _ .vmem, ⟨10, _⟩ => ⟨S2x1024x512, .f32⟩
  | .local _ .vmem, ⟨11, _⟩ => ⟨S2x1024x512, .f32⟩
  | .local _ .vmem, ⟨12, _⟩ => ⟨S2x1024x512, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F] [Named F]

def κ : String → Option EReal := fun
  | "b1" => some ((6513215599 / 10000000000 : ℝ) : EReal)
  | "b2" => some ((9955119790251790119955009999 / 1000000000000000000000000000000 : ℝ) : EReal)
  | _ => none

abbrev grid0 : Pipeline.Grid := .none

abbrev stage0_0 : Fin 1 → Memref sig .tc .vmem S8x512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== FfnUpUpdate0.lean ====
abbrev S8x704x1024 : Shape := ⟨3, ![8, 704, 1024]⟩
abbrev S7x704x1024 : Shape := ⟨3, ![7, 704, 1024]⟩
abbrev S4x704x1024 : Shape := ⟨3, ![4, 704, 1024]⟩
abbrev S_ : Shape := ⟨0, ![]⟩
abbrev S1 : Shape := ⟨1, ![1]⟩
abbrev S1x352x1024 : Shape := ⟨3, ![1, 352, 1024]⟩
abbrev S7x352x1024 : Shape := ⟨3, ![7, 352, 1024]⟩
abbrev S352x1024 : Shape := ⟨2, ![352, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x704x1024, .bf16⟩
  | .hbm, ⟨1, _⟩ => ⟨S7x704x1024, .bf16⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S_, .i32⟩
  | .hbm, ⟨10, _⟩ => ⟨S4x704x1024, .f32⟩
  | .hbm, ⟨11, _⟩ => ⟨S4x704x1024, .f32⟩
  | .hbm, ⟨12, _⟩ => ⟨S4x704x1024, .f32⟩
  | .hbm, ⟨13, _⟩ => ⟨S4x704x1024, .f32⟩
  | .local _ .vmem, ⟨0, _⟩ => ⟨S1x352x1024, .bf16⟩
  | .local _ .vmem, ⟨1, _⟩ => ⟨S1x352x1024, .bf16⟩
  | .local _ .vmem, ⟨2, _⟩ => ⟨S7x352x1024, .bf16⟩
  | .local _ .vmem, ⟨3, _⟩ => ⟨S7x352x1024, .bf16⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .smem, ⟨0, _⟩ => ⟨S1, .i32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnUpUpdate0Ideal.lean ====
abbrev S8x704x1024 : Shape := ⟨3, ![8, 704, 1024]⟩
abbrev S7x704x1024 : Shape := ⟨3, ![7, 704, 1024]⟩
abbrev S4x704x1024 : Shape := ⟨3, ![4, 704, 1024]⟩
abbrev S_ : Shape := ⟨0, ![]⟩
abbrev S1 : Shape := ⟨1, ![1]⟩
abbrev S1x352x1024 : Shape := ⟨3, ![1, 352, 1024]⟩
abbrev S7x352x1024 : Shape := ⟨3, ![7, 352, 1024]⟩
abbrev S352x1024 : Shape := ⟨2, ![352, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x704x1024, .bf16⟩
  | .hbm, ⟨1, _⟩ => ⟨S7x704x1024, .bf16⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S_, .i32⟩
  | .hbm, ⟨10, _⟩ => ⟨S4x704x1024, .f32⟩
  | .hbm, ⟨11, _⟩ => ⟨S4x704x1024, .f32⟩
  | .hbm, ⟨12, _⟩ => ⟨S4x704x1024, .f32⟩
  | .hbm, ⟨13, _⟩ => ⟨S4x704x1024, .f32⟩
  | .local _ .vmem, ⟨0, _⟩ => ⟨S1x352x1024, .bf16⟩
  | .local _ .vmem, ⟨1, _⟩ => ⟨S1x352x1024, .bf16⟩
  | .local _ .vmem, ⟨2, _⟩ => ⟨S7x352x1024, .bf16⟩
  | .local _ .vmem, ⟨3, _⟩ => ⟨S7x352x1024, .bf16⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .smem, ⟨0, _⟩ => ⟨S1, .i32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_b1" => some (((6513215599 / 10000000000)⁻¹ : ℝ) : EReal)
  | "inv_b2" => some (((9955119790251790119955009999 / 1000000000000000000000000000000)⁻¹ : ℝ) : EReal)
  | _ => none

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnUpUpdate0ReferenceIdeal.lean ====
abbrev S8x704x1024 : Shape := ⟨3, ![8, 704, 1024]⟩
abbrev S7x704x1024 : Shape := ⟨3, ![7, 704, 1024]⟩
abbrev S4x704x1024 : Shape := ⟨3, ![4, 704, 1024]⟩
abbrev S1x704x1024 : Shape := ⟨3, ![1, 704, 1024]⟩
abbrev S704x1024 : Shape := ⟨2, ![704, 1024]⟩

abbrev nBuf : Space → Nat
  | .hbm => 13
  | .vmem => 13
  | .smem => 0
  | _ => 0

abbrev bufTy : (tb : Table) → Fin (tcTables nBuf tb) → BufTy
  | .hbm, ⟨0, _⟩ => ⟨S8x704x1024, .bf16⟩
  | .hbm, ⟨1, _⟩ => ⟨S7x704x1024, .bf16⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S4x704x1024, .f32⟩
  | .hbm, ⟨12, _⟩ => ⟨S4x704x1024, .f32⟩
  | .local _ .vmem, ⟨0, _⟩ => ⟨S8x704x1024, .bf16⟩
  | .local _ .vmem, ⟨1, _⟩ => ⟨S7x704x1024, .bf16⟩
  | .local _ .vmem, ⟨2, _⟩ => ⟨S4x704x1024, .f32⟩
  | .local _ .vmem, ⟨3, _⟩ => ⟨S4x704x1024, .f32⟩
  | .local _ .vmem, ⟨4, _⟩ => ⟨S4x704x1024, .f32⟩
  | .local _ .vmem, ⟨5, _⟩ => ⟨S4x704x1024, .f32⟩
  | .local _ .vmem, ⟨6, _⟩ => ⟨S4x704x1024, .f32⟩
  | .local _ .vmem, ⟨7, _⟩ => ⟨S4x704x1024, .f32⟩
  | .local _ .vmem, ⟨8, _⟩ => ⟨S4x704x1024, .f32⟩
  | .local _ .vmem, ⟨9, _⟩ => ⟨S4x704x1024, .f32⟩
  | .local _ .vmem, ⟨10, _⟩ => ⟨S4x704x1024, .f32⟩
  | .local _ .vmem, ⟨11, _⟩ => ⟨S4x704x1024, .f32⟩
  | .local _ .vmem, ⟨12, _⟩ => ⟨S4x704x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F] [Named F]

def κ : String → Option EReal := fun
  | "b1" => some ((6513215599 / 10000000000 : ℝ) : EReal)
  | "b2" => some ((9955119790251790119955009999 / 1000000000000000000000000000000 : ℝ) : EReal)
  | _ => none

abbrev grid0 : Pipeline.Grid := .none

abbrev stage0_0 : Fin 1 → Memref sig .tc .vmem S8x704x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x704x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x704x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x704x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x704x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x704x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x704x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x704x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x704x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x704x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x704x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x704x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== FfnUpUpdate1.lean ====
abbrev S8x704x1024 : Shape := ⟨3, ![8, 704, 1024]⟩
abbrev S7x704x1024 : Shape := ⟨3, ![7, 704, 1024]⟩
abbrev S4x704x1024 : Shape := ⟨3, ![4, 704, 1024]⟩
abbrev S_ : Shape := ⟨0, ![]⟩
abbrev S1 : Shape := ⟨1, ![1]⟩
abbrev S1x352x1024 : Shape := ⟨3, ![1, 352, 1024]⟩
abbrev S7x352x1024 : Shape := ⟨3, ![7, 352, 1024]⟩
abbrev S352x1024 : Shape := ⟨2, ![352, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x704x1024, .bf16⟩
  | .hbm, ⟨1, _⟩ => ⟨S7x704x1024, .bf16⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S_, .i32⟩
  | .hbm, ⟨10, _⟩ => ⟨S4x704x1024, .f32⟩
  | .hbm, ⟨11, _⟩ => ⟨S4x704x1024, .f32⟩
  | .hbm, ⟨12, _⟩ => ⟨S4x704x1024, .f32⟩
  | .hbm, ⟨13, _⟩ => ⟨S4x704x1024, .f32⟩
  | .local _ .vmem, ⟨0, _⟩ => ⟨S1x352x1024, .bf16⟩
  | .local _ .vmem, ⟨1, _⟩ => ⟨S1x352x1024, .bf16⟩
  | .local _ .vmem, ⟨2, _⟩ => ⟨S7x352x1024, .bf16⟩
  | .local _ .vmem, ⟨3, _⟩ => ⟨S7x352x1024, .bf16⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .smem, ⟨0, _⟩ => ⟨S1, .i32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnUpUpdate1Ideal.lean ====
abbrev S8x704x1024 : Shape := ⟨3, ![8, 704, 1024]⟩
abbrev S7x704x1024 : Shape := ⟨3, ![7, 704, 1024]⟩
abbrev S4x704x1024 : Shape := ⟨3, ![4, 704, 1024]⟩
abbrev S_ : Shape := ⟨0, ![]⟩
abbrev S1 : Shape := ⟨1, ![1]⟩
abbrev S1x352x1024 : Shape := ⟨3, ![1, 352, 1024]⟩
abbrev S7x352x1024 : Shape := ⟨3, ![7, 352, 1024]⟩
abbrev S352x1024 : Shape := ⟨2, ![352, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x704x1024, .bf16⟩
  | .hbm, ⟨1, _⟩ => ⟨S7x704x1024, .bf16⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S_, .i32⟩
  | .hbm, ⟨10, _⟩ => ⟨S4x704x1024, .f32⟩
  | .hbm, ⟨11, _⟩ => ⟨S4x704x1024, .f32⟩
  | .hbm, ⟨12, _⟩ => ⟨S4x704x1024, .f32⟩
  | .hbm, ⟨13, _⟩ => ⟨S4x704x1024, .f32⟩
  | .local _ .vmem, ⟨0, _⟩ => ⟨S1x352x1024, .bf16⟩
  | .local _ .vmem, ⟨1, _⟩ => ⟨S1x352x1024, .bf16⟩
  | .local _ .vmem, ⟨2, _⟩ => ⟨S7x352x1024, .bf16⟩
  | .local _ .vmem, ⟨3, _⟩ => ⟨S7x352x1024, .bf16⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .smem, ⟨0, _⟩ => ⟨S1, .i32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_b1" => some (((6513215599 / 10000000000)⁻¹ : ℝ) : EReal)
  | "inv_b2" => some (((9955119790251790119955009999 / 1000000000000000000000000000000)⁻¹ : ℝ) : EReal)
  | _ => none

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnUpUpdate1ReferenceIdeal.lean ====
abbrev S8x704x1024 : Shape := ⟨3, ![8, 704, 1024]⟩
abbrev S7x704x1024 : Shape := ⟨3, ![7, 704, 1024]⟩
abbrev S4x704x1024 : Shape := ⟨3, ![4, 704, 1024]⟩
abbrev S1x704x1024 : Shape := ⟨3, ![1, 704, 1024]⟩
abbrev S704x1024 : Shape := ⟨2, ![704, 1024]⟩

abbrev nBuf : Space → Nat
  | .hbm => 13
  | .vmem => 13
  | .smem => 0
  | _ => 0

abbrev bufTy : (tb : Table) → Fin (tcTables nBuf tb) → BufTy
  | .hbm, ⟨0, _⟩ => ⟨S8x704x1024, .bf16⟩
  | .hbm, ⟨1, _⟩ => ⟨S7x704x1024, .bf16⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S4x704x1024, .f32⟩
  | .hbm, ⟨12, _⟩ => ⟨S4x704x1024, .f32⟩
  | .local _ .vmem, ⟨0, _⟩ => ⟨S8x704x1024, .bf16⟩
  | .local _ .vmem, ⟨1, _⟩ => ⟨S7x704x1024, .bf16⟩
  | .local _ .vmem, ⟨2, _⟩ => ⟨S4x704x1024, .f32⟩
  | .local _ .vmem, ⟨3, _⟩ => ⟨S4x704x1024, .f32⟩
  | .local _ .vmem, ⟨4, _⟩ => ⟨S4x704x1024, .f32⟩
  | .local _ .vmem, ⟨5, _⟩ => ⟨S4x704x1024, .f32⟩
  | .local _ .vmem, ⟨6, _⟩ => ⟨S4x704x1024, .f32⟩
  | .local _ .vmem, ⟨7, _⟩ => ⟨S4x704x1024, .f32⟩
  | .local _ .vmem, ⟨8, _⟩ => ⟨S4x704x1024, .f32⟩
  | .local _ .vmem, ⟨9, _⟩ => ⟨S4x704x1024, .f32⟩
  | .local _ .vmem, ⟨10, _⟩ => ⟨S4x704x1024, .f32⟩
  | .local _ .vmem, ⟨11, _⟩ => ⟨S4x704x1024, .f32⟩
  | .local _ .vmem, ⟨12, _⟩ => ⟨S4x704x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F] [Named F]

def κ : String → Option EReal := fun
  | "b1" => some ((6513215599 / 10000000000 : ℝ) : EReal)
  | "b2" => some ((9955119790251790119955009999 / 1000000000000000000000000000000 : ℝ) : EReal)
  | _ => none

abbrev grid0 : Pipeline.Grid := .none

abbrev stage0_0 : Fin 1 → Memref sig .tc .vmem S8x704x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x704x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x704x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x704x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x704x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x704x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x704x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x704x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x704x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x704x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x704x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x704x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== FfnUpUpdate2.lean ====
abbrev S8x704x1024 : Shape := ⟨3, ![8, 704, 1024]⟩
abbrev S7x704x1024 : Shape := ⟨3, ![7, 704, 1024]⟩
abbrev S4x704x1024 : Shape := ⟨3, ![4, 704, 1024]⟩
abbrev S_ : Shape := ⟨0, ![]⟩
abbrev S1 : Shape := ⟨1, ![1]⟩
abbrev S1x352x1024 : Shape := ⟨3, ![1, 352, 1024]⟩
abbrev S7x352x1024 : Shape := ⟨3, ![7, 352, 1024]⟩
abbrev S352x1024 : Shape := ⟨2, ![352, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x704x1024, .bf16⟩
  | .hbm, ⟨1, _⟩ => ⟨S7x704x1024, .bf16⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S_, .i32⟩
  | .hbm, ⟨10, _⟩ => ⟨S4x704x1024, .f32⟩
  | .hbm, ⟨11, _⟩ => ⟨S4x704x1024, .f32⟩
  | .hbm, ⟨12, _⟩ => ⟨S4x704x1024, .f32⟩
  | .hbm, ⟨13, _⟩ => ⟨S4x704x1024, .f32⟩
  | .local _ .vmem, ⟨0, _⟩ => ⟨S1x352x1024, .bf16⟩
  | .local _ .vmem, ⟨1, _⟩ => ⟨S1x352x1024, .bf16⟩
  | .local _ .vmem, ⟨2, _⟩ => ⟨S7x352x1024, .bf16⟩
  | .local _ .vmem, ⟨3, _⟩ => ⟨S7x352x1024, .bf16⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .smem, ⟨0, _⟩ => ⟨S1, .i32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S1x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnUpUpdate2Ideal.lean ====
abbrev S8x704x1024 : Shape := ⟨3, ![8, 704, 1024]⟩
abbrev S7x704x1024 : Shape := ⟨3, ![7, 704, 1024]⟩
abbrev S4x704x1024 : Shape := ⟨3, ![4, 704, 1024]⟩
abbrev S_ : Shape := ⟨0, ![]⟩
abbrev S1 : Shape := ⟨1, ![1]⟩
abbrev S1x352x1024 : Shape := ⟨3, ![1, 352, 1024]⟩
abbrev S7x352x1024 : Shape := ⟨3, ![7, 352, 1024]⟩
abbrev S352x1024 : Shape := ⟨2, ![352, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x704x1024, .bf16⟩
  | .hbm, ⟨1, _⟩ => ⟨S7x704x1024, .bf16⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S_, .i32⟩
  | .hbm, ⟨10, _⟩ => ⟨S4x704x1024, .f32⟩
  | .hbm, ⟨11, _⟩ => ⟨S4x704x1024, .f32⟩
  | .hbm, ⟨12, _⟩ => ⟨S4x704x1024, .f32⟩
  | .hbm, ⟨13, _⟩ => ⟨S4x704x1024, .f32⟩
  | .local _ .vmem, ⟨0, _⟩ => ⟨S1x352x1024, .bf16⟩
  | .local _ .vmem, ⟨1, _⟩ => ⟨S1x352x1024, .bf16⟩
  | .local _ .vmem, ⟨2, _⟩ => ⟨S7x352x1024, .bf16⟩
  | .local _ .vmem, ⟨3, _⟩ => ⟨S7x352x1024, .bf16⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .smem, ⟨0, _⟩ => ⟨S1, .i32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_b1" => some (((6513215599 / 10000000000)⁻¹ : ℝ) : EReal)
  | "inv_b2" => some (((9955119790251790119955009999 / 1000000000000000000000000000000)⁻¹ : ℝ) : EReal)
  | _ => none

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S1x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnUpUpdate2ReferenceIdeal.lean ====
abbrev S8x704x1024 : Shape := ⟨3, ![8, 704, 1024]⟩
abbrev S7x704x1024 : Shape := ⟨3, ![7, 704, 1024]⟩
abbrev S4x704x1024 : Shape := ⟨3, ![4, 704, 1024]⟩
abbrev S1x704x1024 : Shape := ⟨3, ![1, 704, 1024]⟩
abbrev S704x1024 : Shape := ⟨2, ![704, 1024]⟩

abbrev nBuf : Space → Nat
  | .hbm => 13
  | .vmem => 13
  | .smem => 0
  | _ => 0

abbrev bufTy : (tb : Table) → Fin (tcTables nBuf tb) → BufTy
  | .hbm, ⟨0, _⟩ => ⟨S8x704x1024, .bf16⟩
  | .hbm, ⟨1, _⟩ => ⟨S7x704x1024, .bf16⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S4x704x1024, .f32⟩
  | .hbm, ⟨12, _⟩ => ⟨S4x704x1024, .f32⟩
  | .local _ .vmem, ⟨0, _⟩ => ⟨S8x704x1024, .bf16⟩
  | .local _ .vmem, ⟨1, _⟩ => ⟨S7x704x1024, .bf16⟩
  | .local _ .vmem, ⟨2, _⟩ => ⟨S4x704x1024, .f32⟩
  | .local _ .vmem, ⟨3, _⟩ => ⟨S4x704x1024, .f32⟩
  | .local _ .vmem, ⟨4, _⟩ => ⟨S4x704x1024, .f32⟩
  | .local _ .vmem, ⟨5, _⟩ => ⟨S4x704x1024, .f32⟩
  | .local _ .vmem, ⟨6, _⟩ => ⟨S4x704x1024, .f32⟩
  | .local _ .vmem, ⟨7, _⟩ => ⟨S4x704x1024, .f32⟩
  | .local _ .vmem, ⟨8, _⟩ => ⟨S4x704x1024, .f32⟩
  | .local _ .vmem, ⟨9, _⟩ => ⟨S4x704x1024, .f32⟩
  | .local _ .vmem, ⟨10, _⟩ => ⟨S4x704x1024, .f32⟩
  | .local _ .vmem, ⟨11, _⟩ => ⟨S4x704x1024, .f32⟩
  | .local _ .vmem, ⟨12, _⟩ => ⟨S4x704x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F] [Named F]

def κ : String → Option EReal := fun
  | "b1" => some ((6513215599 / 10000000000 : ℝ) : EReal)
  | "b2" => some ((9955119790251790119955009999 / 1000000000000000000000000000000 : ℝ) : EReal)
  | _ => none

abbrev grid0 : Pipeline.Grid := .none

abbrev stage0_0 : Fin 1 → Memref sig .tc .vmem S8x704x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x704x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x704x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x704x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x704x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x704x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x704x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x704x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x704x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x704x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x704x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x704x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== FfnUpUpdate3.lean ====
abbrev S8x704x1024 : Shape := ⟨3, ![8, 704, 1024]⟩
abbrev S7x704x1024 : Shape := ⟨3, ![7, 704, 1024]⟩
abbrev S4x704x1024 : Shape := ⟨3, ![4, 704, 1024]⟩
abbrev S_ : Shape := ⟨0, ![]⟩
abbrev S1 : Shape := ⟨1, ![1]⟩
abbrev S1x352x1024 : Shape := ⟨3, ![1, 352, 1024]⟩
abbrev S7x352x1024 : Shape := ⟨3, ![7, 352, 1024]⟩
abbrev S352x1024 : Shape := ⟨2, ![352, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x704x1024, .bf16⟩
  | .hbm, ⟨1, _⟩ => ⟨S7x704x1024, .bf16⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S_, .i32⟩
  | .hbm, ⟨10, _⟩ => ⟨S4x704x1024, .f32⟩
  | .hbm, ⟨11, _⟩ => ⟨S4x704x1024, .f32⟩
  | .hbm, ⟨12, _⟩ => ⟨S4x704x1024, .f32⟩
  | .hbm, ⟨13, _⟩ => ⟨S4x704x1024, .f32⟩
  | .local _ .vmem, ⟨0, _⟩ => ⟨S1x352x1024, .bf16⟩
  | .local _ .vmem, ⟨1, _⟩ => ⟨S1x352x1024, .bf16⟩
  | .local _ .vmem, ⟨2, _⟩ => ⟨S7x352x1024, .bf16⟩
  | .local _ .vmem, ⟨3, _⟩ => ⟨S7x352x1024, .bf16⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .smem, ⟨0, _⟩ => ⟨S1, .i32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnUpUpdate3Ideal.lean ====
abbrev S8x704x1024 : Shape := ⟨3, ![8, 704, 1024]⟩
abbrev S7x704x1024 : Shape := ⟨3, ![7, 704, 1024]⟩
abbrev S4x704x1024 : Shape := ⟨3, ![4, 704, 1024]⟩
abbrev S_ : Shape := ⟨0, ![]⟩
abbrev S1 : Shape := ⟨1, ![1]⟩
abbrev S1x352x1024 : Shape := ⟨3, ![1, 352, 1024]⟩
abbrev S7x352x1024 : Shape := ⟨3, ![7, 352, 1024]⟩
abbrev S352x1024 : Shape := ⟨2, ![352, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x704x1024, .bf16⟩
  | .hbm, ⟨1, _⟩ => ⟨S7x704x1024, .bf16⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S_, .i32⟩
  | .hbm, ⟨10, _⟩ => ⟨S4x704x1024, .f32⟩
  | .hbm, ⟨11, _⟩ => ⟨S4x704x1024, .f32⟩
  | .hbm, ⟨12, _⟩ => ⟨S4x704x1024, .f32⟩
  | .hbm, ⟨13, _⟩ => ⟨S4x704x1024, .f32⟩
  | .local _ .vmem, ⟨0, _⟩ => ⟨S1x352x1024, .bf16⟩
  | .local _ .vmem, ⟨1, _⟩ => ⟨S1x352x1024, .bf16⟩
  | .local _ .vmem, ⟨2, _⟩ => ⟨S7x352x1024, .bf16⟩
  | .local _ .vmem, ⟨3, _⟩ => ⟨S7x352x1024, .bf16⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .smem, ⟨0, _⟩ => ⟨S1, .i32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_b1" => some (((6513215599 / 10000000000)⁻¹ : ℝ) : EReal)
  | "inv_b2" => some (((9955119790251790119955009999 / 1000000000000000000000000000000)⁻¹ : ℝ) : EReal)
  | _ => none

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x352x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnUpUpdate3ReferenceIdeal.lean ====
abbrev S8x704x1024 : Shape := ⟨3, ![8, 704, 1024]⟩
abbrev S7x704x1024 : Shape := ⟨3, ![7, 704, 1024]⟩
abbrev S4x704x1024 : Shape := ⟨3, ![4, 704, 1024]⟩
abbrev S1x704x1024 : Shape := ⟨3, ![1, 704, 1024]⟩
abbrev S704x1024 : Shape := ⟨2, ![704, 1024]⟩

abbrev nBuf : Space → Nat
  | .hbm => 13
  | .vmem => 13
  | .smem => 0
  | _ => 0

abbrev bufTy : (tb : Table) → Fin (tcTables nBuf tb) → BufTy
  | .hbm, ⟨0, _⟩ => ⟨S8x704x1024, .bf16⟩
  | .hbm, ⟨1, _⟩ => ⟨S7x704x1024, .bf16⟩
  | .hbm, ⟨2, _⟩ => ⟨S4x704x1024, .f32⟩
  | .hbm, ⟨3, _⟩ => ⟨S4x704x1024, .f32⟩
  | .hbm, ⟨4, _⟩ => ⟨S4x704x1024, .f32⟩
  | .hbm, ⟨5, _⟩ => ⟨S4x704x1024, .f32⟩
  | .hbm, ⟨6, _⟩ => ⟨S4x704x1024, .f32⟩
  | .hbm, ⟨7, _⟩ => ⟨S4x704x1024, .f32⟩
  | .hbm, ⟨8, _⟩ => ⟨S4x704x1024, .f32⟩
  | .hbm, ⟨9, _⟩ => ⟨S4x704x1024, .f32⟩
  | .hbm, ⟨10, _⟩ => ⟨S4x704x1024, .f32⟩
  | .hbm, ⟨11, _⟩ => ⟨S4x704x1024, .f32⟩
  | .hbm, ⟨12, _⟩ => ⟨S4x704x1024, .f32⟩
  | .local _ .vmem, ⟨0, _⟩ => ⟨S8x704x1024, .bf16⟩
  | .local _ .vmem, ⟨1, _⟩ => ⟨S7x704x1024, .bf16⟩
  | .local _ .vmem, ⟨2, _⟩ => ⟨S4x704x1024, .f32⟩
  | .local _ .vmem, ⟨3, _⟩ => ⟨S4x704x1024, .f32⟩
  | .local _ .vmem, ⟨4, _⟩ => ⟨S4x704x1024, .f32⟩
  | .local _ .vmem, ⟨5, _⟩ => ⟨S4x704x1024, .f32⟩
  | .local _ .vmem, ⟨6, _⟩ => ⟨S4x704x1024, .f32⟩
  | .local _ .vmem, ⟨7, _⟩ => ⟨S4x704x1024, .f32⟩
  | .local _ .vmem, ⟨8, _⟩ => ⟨S4x704x1024, .f32⟩
  | .local _ .vmem, ⟨9, _⟩ => ⟨S4x704x1024, .f32⟩
  | .local _ .vmem, ⟨10, _⟩ => ⟨S4x704x1024, .f32⟩
  | .local _ .vmem, ⟨11, _⟩ => ⟨S4x704x1024, .f32⟩
  | .local _ .vmem, ⟨12, _⟩ => ⟨S4x704x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F] [Named F]

def κ : String → Option EReal := fun
  | "b1" => some ((6513215599 / 10000000000 : ℝ) : EReal)
  | "b2" => some ((9955119790251790119955009999 / 1000000000000000000000000000000 : ℝ) : EReal)
  | _ => none

abbrev grid0 : Pipeline.Grid := .none

abbrev stage0_0 : Fin 1 → Memref sig .tc .vmem S8x704x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x704x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x704x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x704x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x704x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x704x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x704x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x704x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x704x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x704x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x704x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x704x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x704x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== FfnDownUpdate0.lean ====
abbrev S8x352x1024 : Shape := ⟨3, ![8, 352, 1024]⟩
abbrev S7x352x1024 : Shape := ⟨3, ![7, 352, 1024]⟩
abbrev S4x352x1024 : Shape := ⟨3, ![4, 352, 1024]⟩
abbrev S_ : Shape := ⟨0, ![]⟩
abbrev S1 : Shape := ⟨1, ![1]⟩
abbrev S1x176x1024 : Shape := ⟨3, ![1, 176, 1024]⟩
abbrev S7x176x1024 : Shape := ⟨3, ![7, 176, 1024]⟩
abbrev S176x1024 : Shape := ⟨2, ![176, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x352x1024, .bf16⟩
  | .hbm, ⟨1, _⟩ => ⟨S7x352x1024, .bf16⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S_, .i32⟩
  | .hbm, ⟨10, _⟩ => ⟨S4x352x1024, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S7x176x1024, .bf16⟩
  | .local _ .vmem, ⟨3, _⟩ => ⟨S7x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .smem, ⟨0, _⟩ => ⟨S1, .i32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnDownUpdate0Ideal.lean ====
abbrev S8x352x1024 : Shape := ⟨3, ![8, 352, 1024]⟩
abbrev S7x352x1024 : Shape := ⟨3, ![7, 352, 1024]⟩
abbrev S4x352x1024 : Shape := ⟨3, ![4, 352, 1024]⟩
abbrev S_ : Shape := ⟨0, ![]⟩
abbrev S1 : Shape := ⟨1, ![1]⟩
abbrev S1x176x1024 : Shape := ⟨3, ![1, 176, 1024]⟩
abbrev S7x176x1024 : Shape := ⟨3, ![7, 176, 1024]⟩
abbrev S176x1024 : Shape := ⟨2, ![176, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x352x1024, .bf16⟩
  | .hbm, ⟨1, _⟩ => ⟨S7x352x1024, .bf16⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S_, .i32⟩
  | .hbm, ⟨10, _⟩ => ⟨S4x352x1024, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S7x176x1024, .bf16⟩
  | .local _ .vmem, ⟨3, _⟩ => ⟨S7x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .smem, ⟨0, _⟩ => ⟨S1, .i32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_b1" => some (((6513215599 / 10000000000)⁻¹ : ℝ) : EReal)
  | "inv_b2" => some (((9955119790251790119955009999 / 1000000000000000000000000000000)⁻¹ : ℝ) : EReal)
  | _ => none

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnDownUpdate0ReferenceIdeal.lean ====
abbrev S8x352x1024 : Shape := ⟨3, ![8, 352, 1024]⟩
abbrev S7x352x1024 : Shape := ⟨3, ![7, 352, 1024]⟩
abbrev S4x352x1024 : Shape := ⟨3, ![4, 352, 1024]⟩
abbrev S1x352x1024 : Shape := ⟨3, ![1, 352, 1024]⟩
abbrev S352x1024 : Shape := ⟨2, ![352, 1024]⟩

abbrev nBuf : Space → Nat
  | .hbm => 13
  | .vmem => 13
  | .smem => 0
  | _ => 0

abbrev bufTy : (tb : Table) → Fin (tcTables nBuf tb) → BufTy
  | .hbm, ⟨0, _⟩ => ⟨S8x352x1024, .bf16⟩
  | .hbm, ⟨1, _⟩ => ⟨S7x352x1024, .bf16⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .hbm, ⟨12, _⟩ => ⟨S4x352x1024, .f32⟩
  | .local _ .vmem, ⟨0, _⟩ => ⟨S8x352x1024, .bf16⟩
  | .local _ .vmem, ⟨1, _⟩ => ⟨S7x352x1024, .bf16⟩
  | .local _ .vmem, ⟨2, _⟩ => ⟨S4x352x1024, .f32⟩
  | .local _ .vmem, ⟨3, _⟩ => ⟨S4x352x1024, .f32⟩
  | .local _ .vmem, ⟨4, _⟩ => ⟨S4x352x1024, .f32⟩
  | .local _ .vmem, ⟨5, _⟩ => ⟨S4x352x1024, .f32⟩
  | .local _ .vmem, ⟨6, _⟩ => ⟨S4x352x1024, .f32⟩
  | .local _ .vmem, ⟨7, _⟩ => ⟨S4x352x1024, .f32⟩
  | .local _ .vmem, ⟨8, _⟩ => ⟨S4x352x1024, .f32⟩
  | .local _ .vmem, ⟨9, _⟩ => ⟨S4x352x1024, .f32⟩
  | .local _ .vmem, ⟨10, _⟩ => ⟨S4x352x1024, .f32⟩
  | .local _ .vmem, ⟨11, _⟩ => ⟨S4x352x1024, .f32⟩
  | .local _ .vmem, ⟨12, _⟩ => ⟨S4x352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F] [Named F]

def κ : String → Option EReal := fun
  | "b1" => some ((6513215599 / 10000000000 : ℝ) : EReal)
  | "b2" => some ((9955119790251790119955009999 / 1000000000000000000000000000000 : ℝ) : EReal)
  | _ => none

abbrev grid0 : Pipeline.Grid := .none

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x352x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x352x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x352x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x352x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x352x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== FfnDownUpdate1.lean ====
abbrev S8x352x1024 : Shape := ⟨3, ![8, 352, 1024]⟩
abbrev S7x352x1024 : Shape := ⟨3, ![7, 352, 1024]⟩
abbrev S4x352x1024 : Shape := ⟨3, ![4, 352, 1024]⟩
abbrev S_ : Shape := ⟨0, ![]⟩
abbrev S1 : Shape := ⟨1, ![1]⟩
abbrev S1x176x1024 : Shape := ⟨3, ![1, 176, 1024]⟩
abbrev S7x176x1024 : Shape := ⟨3, ![7, 176, 1024]⟩
abbrev S176x1024 : Shape := ⟨2, ![176, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x352x1024, .bf16⟩
  | .hbm, ⟨1, _⟩ => ⟨S7x352x1024, .bf16⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S_, .i32⟩
  | .hbm, ⟨10, _⟩ => ⟨S4x352x1024, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S7x176x1024, .bf16⟩
  | .local _ .vmem, ⟨3, _⟩ => ⟨S7x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .smem, ⟨0, _⟩ => ⟨S1, .i32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnDownUpdate1Ideal.lean ====
abbrev S8x352x1024 : Shape := ⟨3, ![8, 352, 1024]⟩
abbrev S7x352x1024 : Shape := ⟨3, ![7, 352, 1024]⟩
abbrev S4x352x1024 : Shape := ⟨3, ![4, 352, 1024]⟩
abbrev S_ : Shape := ⟨0, ![]⟩
abbrev S1 : Shape := ⟨1, ![1]⟩
abbrev S1x176x1024 : Shape := ⟨3, ![1, 176, 1024]⟩
abbrev S7x176x1024 : Shape := ⟨3, ![7, 176, 1024]⟩
abbrev S176x1024 : Shape := ⟨2, ![176, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x352x1024, .bf16⟩
  | .hbm, ⟨1, _⟩ => ⟨S7x352x1024, .bf16⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S_, .i32⟩
  | .hbm, ⟨10, _⟩ => ⟨S4x352x1024, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S7x176x1024, .bf16⟩
  | .local _ .vmem, ⟨3, _⟩ => ⟨S7x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .smem, ⟨0, _⟩ => ⟨S1, .i32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_b1" => some (((6513215599 / 10000000000)⁻¹ : ℝ) : EReal)
  | "inv_b2" => some (((9955119790251790119955009999 / 1000000000000000000000000000000)⁻¹ : ℝ) : EReal)
  | _ => none

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_9 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnDownUpdate1ReferenceIdeal.lean ====
abbrev S8x352x1024 : Shape := ⟨3, ![8, 352, 1024]⟩
abbrev S7x352x1024 : Shape := ⟨3, ![7, 352, 1024]⟩
abbrev S4x352x1024 : Shape := ⟨3, ![4, 352, 1024]⟩
abbrev S1x352x1024 : Shape := ⟨3, ![1, 352, 1024]⟩
abbrev S352x1024 : Shape := ⟨2, ![352, 1024]⟩

abbrev nBuf : Space → Nat
  | .hbm => 13
  | .vmem => 13
  | .smem => 0
  | _ => 0

abbrev bufTy : (tb : Table) → Fin (tcTables nBuf tb) → BufTy
  | .hbm, ⟨0, _⟩ => ⟨S8x352x1024, .bf16⟩
  | .hbm, ⟨1, _⟩ => ⟨S7x352x1024, .bf16⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .hbm, ⟨12, _⟩ => ⟨S4x352x1024, .f32⟩
  | .local _ .vmem, ⟨0, _⟩ => ⟨S8x352x1024, .bf16⟩
  | .local _ .vmem, ⟨1, _⟩ => ⟨S7x352x1024, .bf16⟩
  | .local _ .vmem, ⟨2, _⟩ => ⟨S4x352x1024, .f32⟩
  | .local _ .vmem, ⟨3, _⟩ => ⟨S4x352x1024, .f32⟩
  | .local _ .vmem, ⟨4, _⟩ => ⟨S4x352x1024, .f32⟩
  | .local _ .vmem, ⟨5, _⟩ => ⟨S4x352x1024, .f32⟩
  | .local _ .vmem, ⟨6, _⟩ => ⟨S4x352x1024, .f32⟩
  | .local _ .vmem, ⟨7, _⟩ => ⟨S4x352x1024, .f32⟩
  | .local _ .vmem, ⟨8, _⟩ => ⟨S4x352x1024, .f32⟩
  | .local _ .vmem, ⟨9, _⟩ => ⟨S4x352x1024, .f32⟩
  | .local _ .vmem, ⟨10, _⟩ => ⟨S4x352x1024, .f32⟩
  | .local _ .vmem, ⟨11, _⟩ => ⟨S4x352x1024, .f32⟩
  | .local _ .vmem, ⟨12, _⟩ => ⟨S4x352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F] [Named F]

def κ : String → Option EReal := fun
  | "b1" => some ((6513215599 / 10000000000 : ℝ) : EReal)
  | "b2" => some ((9955119790251790119955009999 / 1000000000000000000000000000000 : ℝ) : EReal)
  | _ => none

abbrev grid0 : Pipeline.Grid := .none

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x352x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x352x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x352x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x352x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x352x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== FfnDownUpdate2.lean ====
abbrev S8x352x1024 : Shape := ⟨3, ![8, 352, 1024]⟩
abbrev S7x352x1024 : Shape := ⟨3, ![7, 352, 1024]⟩
abbrev S4x352x1024 : Shape := ⟨3, ![4, 352, 1024]⟩
abbrev S_ : Shape := ⟨0, ![]⟩
abbrev S1 : Shape := ⟨1, ![1]⟩
abbrev S1x176x1024 : Shape := ⟨3, ![1, 176, 1024]⟩
abbrev S7x176x1024 : Shape := ⟨3, ![7, 176, 1024]⟩
abbrev S176x1024 : Shape := ⟨2, ![176, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x352x1024, .bf16⟩
  | .hbm, ⟨1, _⟩ => ⟨S7x352x1024, .bf16⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S_, .i32⟩
  | .hbm, ⟨10, _⟩ => ⟨S4x352x1024, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S7x176x1024, .bf16⟩
  | .local _ .vmem, ⟨3, _⟩ => ⟨S7x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .smem, ⟨0, _⟩ => ⟨S1, .i32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnDownUpdate2Ideal.lean ====
abbrev S8x352x1024 : Shape := ⟨3, ![8, 352, 1024]⟩
abbrev S7x352x1024 : Shape := ⟨3, ![7, 352, 1024]⟩
abbrev S4x352x1024 : Shape := ⟨3, ![4, 352, 1024]⟩
abbrev S_ : Shape := ⟨0, ![]⟩
abbrev S1 : Shape := ⟨1, ![1]⟩
abbrev S1x176x1024 : Shape := ⟨3, ![1, 176, 1024]⟩
abbrev S7x176x1024 : Shape := ⟨3, ![7, 176, 1024]⟩
abbrev S176x1024 : Shape := ⟨2, ![176, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x352x1024, .bf16⟩
  | .hbm, ⟨1, _⟩ => ⟨S7x352x1024, .bf16⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S_, .i32⟩
  | .hbm, ⟨10, _⟩ => ⟨S4x352x1024, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S7x176x1024, .bf16⟩
  | .local _ .vmem, ⟨3, _⟩ => ⟨S7x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .smem, ⟨0, _⟩ => ⟨S1, .i32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F] [Named F]

def κ : String → Option EReal := fun
  | "inv_b1" => some (((6513215599 / 10000000000)⁻¹ : ℝ) : EReal)
  | "inv_b2" => some (((9955119790251790119955009999 / 1000000000000000000000000000000)⁻¹ : ℝ) : EReal)
  | _ => none

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_3 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_4 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_9 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_10 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_11 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

def cc0_transform_12 (i : grid0.Coords) : Fin 3 → Nat :=
  let arg0 : BitVec 32 := BitVec.ofNat 32 (i 0).val
  let c2_i32 : BitVec 32 := 2#32
  let c0_i32 : BitVec 32 := 0#32
  let c0_i32_0 : BitVec 32 := 0#32
  ![c2_i32.toNat, arg0.toNat, c0_i32.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnDownUpdate2ReferenceIdeal.lean ====
abbrev S8x352x1024 : Shape := ⟨3, ![8, 352, 1024]⟩
abbrev S7x352x1024 : Shape := ⟨3, ![7, 352, 1024]⟩
abbrev S4x352x1024 : Shape := ⟨3, ![4, 352, 1024]⟩
abbrev S1x352x1024 : Shape := ⟨3, ![1, 352, 1024]⟩
abbrev S352x1024 : Shape := ⟨2, ![352, 1024]⟩

abbrev nBuf : Space → Nat
  | .hbm => 13
  | .vmem => 13
  | .smem => 0
  | _ => 0

abbrev bufTy : (tb : Table) → Fin (tcTables nBuf tb) → BufTy
  | .hbm, ⟨0, _⟩ => ⟨S8x352x1024, .bf16⟩
  | .hbm, ⟨1, _⟩ => ⟨S7x352x1024, .bf16⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .hbm, ⟨12, _⟩ => ⟨S4x352x1024, .f32⟩
  | .local _ .vmem, ⟨0, _⟩ => ⟨S8x352x1024, .bf16⟩
  | .local _ .vmem, ⟨1, _⟩ => ⟨S7x352x1024, .bf16⟩
  | .local _ .vmem, ⟨2, _⟩ => ⟨S4x352x1024, .f32⟩
  | .local _ .vmem, ⟨3, _⟩ => ⟨S4x352x1024, .f32⟩
  | .local _ .vmem, ⟨4, _⟩ => ⟨S4x352x1024, .f32⟩
  | .local _ .vmem, ⟨5, _⟩ => ⟨S4x352x1024, .f32⟩
  | .local _ .vmem, ⟨6, _⟩ => ⟨S4x352x1024, .f32⟩
  | .local _ .vmem, ⟨7, _⟩ => ⟨S4x352x1024, .f32⟩
  | .local _ .vmem, ⟨8, _⟩ => ⟨S4x352x1024, .f32⟩
  | .local _ .vmem, ⟨9, _⟩ => ⟨S4x352x1024, .f32⟩
  | .local _ .vmem, ⟨10, _⟩ => ⟨S4x352x1024, .f32⟩
  | .local _ .vmem, ⟨11, _⟩ => ⟨S4x352x1024, .f32⟩
  | .local _ .vmem, ⟨12, _⟩ => ⟨S4x352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F] [Named F]

def κ : String → Option EReal := fun
  | "b1" => some ((6513215599 / 10000000000 : ℝ) : EReal)
  | "b2" => some ((9955119790251790119955009999 / 1000000000000000000000000000000 : ℝ) : EReal)
  | _ => none

abbrev grid0 : Pipeline.Grid := .none

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x352x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x352x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x352x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x352x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x352x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== FfnDownUpdate3.lean ====
abbrev S8x352x1024 : Shape := ⟨3, ![8, 352, 1024]⟩
abbrev S7x352x1024 : Shape := ⟨3, ![7, 352, 1024]⟩
abbrev S4x352x1024 : Shape := ⟨3, ![4, 352, 1024]⟩
abbrev S_ : Shape := ⟨0, ![]⟩
abbrev S1 : Shape := ⟨1, ![1]⟩
abbrev S1x176x1024 : Shape := ⟨3, ![1, 176, 1024]⟩
abbrev S7x176x1024 : Shape := ⟨3, ![7, 176, 1024]⟩
abbrev S176x1024 : Shape := ⟨2, ![176, 1024]⟩

abbrev nBuf : Space → Nat
  | .hbm => 14
  | .vmem => 18
  | .smem => 1
  | _ => 0

abbrev bufTy : (tb : Table) → Fin (tcTables nBuf tb) → BufTy
  | .hbm, ⟨0, _⟩ => ⟨S8x352x1024, .bf16⟩
  | .hbm, ⟨1, _⟩ => ⟨S7x352x1024, .bf16⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S_, .i32⟩
  | .hbm, ⟨10, _⟩ => ⟨S4x352x1024, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S7x176x1024, .bf16⟩
  | .local _ .vmem, ⟨3, _⟩ => ⟨S7x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .smem, ⟨0, _⟩ => ⟨S1, .i32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v1_0 : Ref sig .tc := ⟨.hbm, 10, rfl⟩
abbrev main_v1_1 : Ref sig .tc := ⟨.hbm, 11, rfl⟩
abbrev main_v1_2 : Ref sig .tc := ⟨.hbm, 12, rfl⟩
abbrev main_v1_3 : Ref sig .tc := ⟨.hbm, 13, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_9 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_10 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_11 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

def cc0_transform_12 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  ![c3_i32.toNat, arg0.toNat, c0_i32.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== FfnDownUpdate3Ideal.lean ====
variable {F : FTy → Type} [FloatOps F] [Named F]
def κ : String → Option EReal := fun
  | "inv_b1" => some (((6513215599 / 10000000000)⁻¹ : ℝ) : EReal)
  | "inv_b2" => some (((9955119790251790119955009999 / 1000000000000000000000000000000)⁻¹ : ℝ) : EReal)
  | _ => none
-- ==== FfnDownUpdate3ReferenceIdeal.lean ====
abbrev S8x352x1024 : Shape := ⟨3, ![8, 352, 1024]⟩
abbrev S7x352x1024 : Shape := ⟨3, ![7, 352, 1024]⟩
abbrev S4x352x1024 : Shape := ⟨3, ![4, 352, 1024]⟩
abbrev S1x352x1024 : Shape := ⟨3, ![1, 352, 1024]⟩
abbrev S352x1024 : Shape := ⟨2, ![352, 1024]⟩

abbrev nBuf : Space → Nat
  | .hbm => 13
  | .vmem => 13
  | .smem => 0
  | _ => 0

abbrev bufTy : (tb : Table) → Fin (tcTables nBuf tb) → BufTy
  | .hbm, ⟨0, _⟩ => ⟨S8x352x1024, .bf16⟩
  | .hbm, ⟨1, _⟩ => ⟨S7x352x1024, .bf16⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .hbm, ⟨12, _⟩ => ⟨S4x352x1024, .f32⟩
  | .local _ .vmem, ⟨0, _⟩ => ⟨S8x352x1024, .bf16⟩
  | .local _ .vmem, ⟨1, _⟩ => ⟨S7x352x1024, .bf16⟩
  | .local _ .vmem, ⟨2, _⟩ => ⟨S4x352x1024, .f32⟩
  | .local _ .vmem, ⟨3, _⟩ => ⟨S4x352x1024, .f32⟩
  | .local _ .vmem, ⟨4, _⟩ => ⟨S4x352x1024, .f32⟩
  | .local _ .vmem, ⟨5, _⟩ => ⟨S4x352x1024, .f32⟩
  | .local _ .vmem, ⟨6, _⟩ => ⟨S4x352x1024, .f32⟩
  | .local _ .vmem, ⟨7, _⟩ => ⟨S4x352x1024, .f32⟩
  | .local _ .vmem, ⟨8, _⟩ => ⟨S4x352x1024, .f32⟩
  | .local _ .vmem, ⟨9, _⟩ => ⟨S4x352x1024, .f32⟩
  | .local _ .vmem, ⟨10, _⟩ => ⟨S4x352x1024, .f32⟩
  | .local _ .vmem, ⟨11, _⟩ => ⟨S4x352x1024, .f32⟩
  | .local _ .vmem, ⟨12, _⟩ => ⟨S4x352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F] [Named F]

def κ : String → Option EReal := fun
  | "b1" => some ((6513215599 / 10000000000 : ℝ) : EReal)
  | "b2" => some ((9955119790251790119955009999 / 1000000000000000000000000000000 : ℝ) : EReal)
  | _ => none

abbrev grid0 : Pipeline.Grid := .none

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S7x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x352x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x352x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x352x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x352x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S4x352x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== Proof.FfnUpGrad.lean ====
module

public import proofs.«01_k».proof.Defs
public import proofs.«01_k».proof.Proof.Gen.FfnUpGradIdeal.Value
public import proofs.«01_k».proof.Proof.Gen.FfnUpGradReferenceIdeal.Run
public import Idealize.ShloMosaic.Lib.Pipeline.ValueKit
public import Idealize.ShloMosaic.Lib.Quiescent

@[expose] public section

set_option maxRecDepth 16384

noncomputable section

namespace Cert.FfnUpGradIdeal.Grad

open Idealize.ShloMosaic Idealize.ShloMosaic.TcCoe Idealize.SL.Sem
open Idealize.ShloMosaic.Pipeline (Dat)
open Cert.FfnUpGradIdeal Cert.FfnUpGradIdeal.Gen

variable (m : (ℓ : Loc nD τ sig) → Buf (Elt Ideal) ℓ)

/-- The reference's result as one term of the layer's input and of the cotangent. -/
def REF (X : FVec Ideal S4096x1024 .bf16) (D : FVec Ideal S4096x5632 .bf16) : FVec Ideal S5632x1024 .bf16 :=
  truncf .bf16 (transpose Cert.FfnUpGradReferenceIdeal.S5632x1024 [1, 0] (transpose Cert.FfnUpGradReferenceIdeal.S1024x5632 [1, 0]
    (Host.dotGeneral Cert.FfnUpGradReferenceIdeal.dot_S4096x5632_S4096x1024_S5632x1024_0_0_1_1_n_n none
      (extf .f32 D Cert.FfnUpGradReferenceIdeal.Gen.bitsLt_bf16_f32) (extf .f32 X Cert.FfnUpGradReferenceIdeal.Gen.bitsLt_bf16_f32)) Cert.FfnUpGradReferenceIdeal.Gen.transposes_S5632x1024_S1024x5632_1_0) Cert.FfnUpGradReferenceIdeal.Gen.transposes_S1024x5632_S5632x1024_1_0) Cert.FfnUpGradReferenceIdeal.Gen.bitsLt_bf16_f32

/-- The weight gradient at an index: the whole contraction over the tokens. -/
theorem ref_apply (X : FVec Ideal S4096x1024 .bf16) (D : FVec Ideal S4096x5632 .bf16) (p : Fin 5632) (q : Fin 1024) :
    REF X D (ix2 p q) = ∑ l : Fin 4096, D (ix2 l p) * X (ix2 l q) := by
  pointwise [REF]

/-- The zero block the accumulator is reset to. -/
theorem zero_apply (j : S1408x1024.Idx) : k0_pay1 (F := Ideal) j = 0 := by pointwise [k0_pay1]

/-- One accumulation: what the accumulator held plus the product over the tokens of one block. -/
theorem step_apply (acc : Vec Ideal S1408x1024 .f32) (a : Vec Ideal S2048x1408 .bf16) (b : Vec Ideal S2048x1024 .bf16)
    (j : S1408x1024.Idx) :
    k0_pay2 acc a b j = acc j + ∑ k : Fin 2048, a (ix2 k (j 0)) * b (ix2 k (j 1)) := by pointwise [k0_pay2]

/-- The block each window reads at a grid point. -/
theorem idx : ∀ t : Fin cfg0.N, win0_0.index t = ![t.val % 2, t.val / 2] ∧ win0_1.index t = ![t.val % 2, 0]
    ∧ win0_2.index t = ![t.val / 2, 0] := (by decide +kernel : ∀ t : Fin grid0.N, _)

/-- What the accumulator holds after the first of a block row's two points. -/
theorem acc_A (c : Dev nD) (t : Fin cfg0.N) (h0 : t.val % 2 = 0) (h1 : ¬t.val % 2 = 1) (j : S1408x1024.Idx) :
    (outsAt0 m c t.val t.isLt).2 j
      = 0 + ∑ k : Fin 2048, (show FVec Ideal S2048x1408 .bf16 from iblk m c 0 t) (ix2 k (j 0))
          * (show FVec Ideal S2048x1024 .bf16 from iblk m c 1 t) (ix2 k (j 1)) := by
  rw [outsAt0_A m c t h0 h1]
  frame_out
  rw [step_apply, zero_apply]

/-- The result array after the run is the reference's term of the arguments. -/
theorem final (c : Dev nD) : (dats m 0 c).arrAt 2 cfg0.N
    = REF (m ((c : Thread nD τ).loc main_arg0)) (m ((c : Thread nD τ).loc main_arg2)) := by
  have hN : cfg0.N = 8 := N_0
  refine (dats m 0 c).arrAt_eq_of_covers 2 _ (by decide +kernel) fun t hf y => ?_
  have h1 : t.val % 2 = 1 := by have := (flush0_2 t).mp hf; omega
  have ht : t.val < 8 := lt_of_lt_of_eq t.isLt hN
  blk_simp
  rw [after0_2, outsAt0_B m c t (by omega) h1]
  frame_out
  rw [show View.read (Elt Ideal) (View.whole cc0_scratch0) ((Memref.isWhole_whole cc0_scratch0).unread
      (outsAt0 m c (t.val - 1) (Nat.lt_of_le_of_lt (Nat.sub_le _ _) t.isLt)).2)
      = (outsAt0 m c (t.val - 1) (Nat.lt_of_le_of_lt (Nat.sub_le _ _) t.isLt)).2 from (Memref.isWhole_whole cc0_scratch0).read_unread _]
  pointwise [k0_pay3]
  rw [step_apply, acc_A m c ⟨t.val - 1, Nat.lt_of_le_of_lt (Nat.sub_le _ _) t.isLt⟩ (by dsimp only; omega) (by dsimp only; omega),
    zero_add]
  have hy0 : (y 0 : ℕ) < 1408 := (y 0).isLt
  have hy1 : (y 1 : ℕ) < 1024 := (y 1).isLt
  have he : ((cfg0.win 2).blk t).view.emb y
      = (ix2 (⟨t.val / 2 * 1408 + (y 0 : ℕ), by omega⟩ : Fin 5632) (⟨(y 1 : ℕ), hy1⟩ : Fin 1024) : S5632x1024.Idx) := by
    blk_ext [idx t]
  refine Eq.trans ?_ ((congrArg _ he).trans (ref_apply _ _ _ _)).symm
  rw [Fin.sum_univ_tiles 2 2048 rfl, Fin.sum_univ_two]
  refine Ideal.add_congr (Fin.sum_fin_congr fun k => ?_) (Fin.sum_fin_congr fun k => ?_)
  · have hk := k.isLt
    have hi := idx ⟨t.val - 1, Nat.lt_of_le_of_lt (Nat.sub_le _ _) t.isLt⟩
    refine Ideal.mul_congr ?_ ?_
    · blk_ext [iblk, V, hi]
    · blk_ext [iblk, V, hi]
  · have hk := k.isLt
    refine Ideal.mul_congr ?_ ?_
    · blk_ext [iblk, V, idx t]
    · blk_ext [iblk, V, idx t]

/-- The run of the kernel: the result is the reference's term, the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v0)
          = REF (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(Value.post2 m r h c).trans (final m c), Value.kept_main_arg0 m r h c,
    Value.kept_main_arg1 m r h c, Value.kept_main_arg2 m r h c⟩) (run_main m ρ)

end Cert.FfnUpGradIdeal.Grad

namespace Cert.Proof

open Idealize.ShloMosaic Idealize.SL.Sem

/-- The reference runs to its end and leaves its arguments as they were. -/
theorem quiescent_FfnUpGradReferenceIdeal : quiescent_FfnUpGradReferenceIdeal := fun m ρ _ =>
  (θ_run Cert.FfnUpGradReferenceIdeal.defs _ _).mono
    (fun r h => ⟨fun c => (h c).2, sem_eq_zero_of_no_sems (by decide) r.2⟩)
    (Cert.FfnUpGradReferenceIdeal.Value.run (F := Ideal) m ρ)

/-- Kernel and reference end with the same gradient. -/
theorem algebraic_FfnUpGrad : algebraic_FfnUpGradIdeal_FfnUpGradReferenceIdeal := by
  intro m ρ m' ρ' _ hagree
  refine ⟨_, Cert.FfnUpGradIdeal.Grad.run m ρ, ?_⟩
  refine (θ_run Cert.FfnUpGradReferenceIdeal.defs _ _).mono (fun _ h c => ⟨?_, (h c).2⟩)
    (Cert.FfnUpGradReferenceIdeal.Value.run (F := Ideal) m' ρ')
  rw [(h c).1]
  simp only [hagree c]
  rfl

end Cert.Proof

end
-- ==== Proof.FfnDownGrad.lean ====
module

public import proofs.«01_k».proof.Defs
public import proofs.«01_k».proof.Proof.Gen.FfnDownGradIdeal.Value
public import proofs.«01_k».proof.Proof.Gen.FfnDownGradReferenceIdeal.Run
public import Idealize.ShloMosaic.Lib.Pipeline.ValueKit
public import Idealize.ShloMosaic.Lib.Quiescent

@[expose] public section

set_option maxRecDepth 16384

noncomputable section

namespace Cert.FfnDownGradIdeal.Grad

open Idealize.ShloMosaic Idealize.ShloMosaic.TcCoe Idealize.SL.Sem
open Idealize.ShloMosaic.Pipeline (Dat)
open Cert.FfnDownGradIdeal Cert.FfnDownGradIdeal.Gen

variable (m : (ℓ : Loc nD τ sig) → Buf (Elt Ideal) ℓ)

/-- The reference's result as one term of the layer's input and of the cotangent. -/
def REF (X : FVec Ideal S4096x2816 .bf16) (D : FVec Ideal S4096x1024 .bf16) : FVec Ideal S2816x1024 .bf16 :=
  truncf .bf16 (transpose Cert.FfnDownGradReferenceIdeal.S2816x1024 [1, 0]
    (Host.dotGeneral Cert.FfnDownGradReferenceIdeal.dot_S4096x1024_S4096x2816_S1024x2816_0_0_1_1_n_n none
      (extf .f32 D Cert.FfnDownGradReferenceIdeal.Gen.bitsLt_bf16_f32) (extf .f32 X Cert.FfnDownGradReferenceIdeal.Gen.bitsLt_bf16_f32)) Cert.FfnDownGradReferenceIdeal.Gen.transposes_S1024x2816_S2816x1024_1_0) Cert.FfnDownGradReferenceIdeal.Gen.bitsLt_bf16_f32

/-- The weight gradient at an index: the whole contraction over the tokens. -/
theorem ref_apply (X : FVec Ideal S4096x2816 .bf16) (D : FVec Ideal S4096x1024 .bf16) (p : Fin 2816) (q : Fin 1024) :
    REF X D (ix2 p q) = ∑ l : Fin 4096, X (ix2 l p) * D (ix2 l q) := by
  pointwise [REF]
  exact Finset.sum_congr rfl fun l _ => mul_comm _ _

/-- The zero block the accumulator is reset to. -/
theorem zero_apply (j : S1408x1024.Idx) : k0_pay1 (F := Ideal) j = 0 := by pointwise [k0_pay1]

/-- One accumulation: what the accumulator held plus the product over the tokens of one block. -/
theorem step_apply (acc : Vec Ideal S1408x1024 .f32) (a : Vec Ideal S2048x1408 .bf16) (b : Vec Ideal S2048x1024 .bf16)
    (j : S1408x1024.Idx) :
    k0_pay2 acc a b j = acc j + ∑ k : Fin 2048, a (ix2 k (j 0)) * b (ix2 k (j 1)) := by pointwise [k0_pay2]

/-- The block each window reads at a grid point. -/
theorem idx : ∀ t : Fin cfg0.N, win0_0.index t = ![t.val % 2, t.val / 2] ∧ win0_1.index t = ![t.val % 2, 0]
    ∧ win0_2.index t = ![t.val / 2, 0] := (by decide +kernel : ∀ t : Fin grid0.N, _)

/-- What the accumulator holds after the first of a block row's two points. -/
theorem acc_A (c : Dev nD) (t : Fin cfg0.N) (h0 : t.val % 2 = 0) (h1 : ¬t.val % 2 = 1) (j : S1408x1024.Idx) :
    (outsAt0 m c t.val t.isLt).2 j
      = 0 + ∑ k : Fin 2048, (show FVec Ideal S2048x1408 .bf16 from iblk m c 0 t) (ix2 k (j 0))
          * (show FVec Ideal S2048x1024 .bf16 from iblk m c 1 t) (ix2 k (j 1)) := by
  rw [outsAt0_A m c t h0 h1]
  frame_out
  rw [step_apply, zero_apply]

/-- The result array after the run is the reference's term of the arguments. -/
theorem final (c : Dev nD) : (dats m 0 c).arrAt 2 cfg0.N
    = REF (m ((c : Thread nD τ).loc main_arg0)) (m ((c : Thread nD τ).loc main_arg2)) := by
  have hN : cfg0.N = 4 := N_0
  refine (dats m 0 c).arrAt_eq_of_covers 2 _ (by decide +kernel) fun t hf y => ?_
  have h1 : t.val % 2 = 1 := by have := (flush0_2 t).mp hf; omega
  have ht : t.val < 4 := lt_of_lt_of_eq t.isLt hN
  blk_simp
  rw [after0_2, outsAt0_B m c t (by omega) h1]
  frame_out
  rw [show View.read (Elt Ideal) (View.whole cc0_scratch0) ((Memref.isWhole_whole cc0_scratch0).unread
      (outsAt0 m c (t.val - 1) (Nat.lt_of_le_of_lt (Nat.sub_le _ _) t.isLt)).2)
      = (outsAt0 m c (t.val - 1) (Nat.lt_of_le_of_lt (Nat.sub_le _ _) t.isLt)).2 from (Memref.isWhole_whole cc0_scratch0).read_unread _]
  pointwise [k0_pay3]
  rw [step_apply, acc_A m c ⟨t.val - 1, Nat.lt_of_le_of_lt (Nat.sub_le _ _) t.isLt⟩ (by dsimp only; omega) (by dsimp only; omega),
    zero_add]
  have hy0 : (y 0 : ℕ) < 1408 := (y 0).isLt
  have hy1 : (y 1 : ℕ) < 1024 := (y 1).isLt
  have he : ((cfg0.win 2).blk t).view.emb y
      = (ix2 (⟨t.val / 2 * 1408 + (y 0 : ℕ), by omega⟩ : Fin 2816) (⟨(y 1 : ℕ), hy1⟩ : Fin 1024) : S2816x1024.Idx) := by
    blk_ext [idx t]
  refine Eq.trans ?_ ((congrArg _ he).trans (ref_apply _ _ _ _)).symm
  rw [Fin.sum_univ_tiles 2 2048 rfl, Fin.sum_univ_two]
  refine Ideal.add_congr (Fin.sum_fin_congr fun k => ?_) (Fin.sum_fin_congr fun k => ?_)
  · have hk := k.isLt
    have hi := idx ⟨t.val - 1, Nat.lt_of_le_of_lt (Nat.sub_le _ _) t.isLt⟩
    refine Ideal.mul_congr ?_ ?_
    · blk_ext [iblk, V, hi]
    · blk_ext [iblk, V, hi]
  · have hk := k.isLt
    refine Ideal.mul_congr ?_ ?_
    · blk_ext [iblk, V, idx t]
    · blk_ext [iblk, V, idx t]

/-- The run of the kernel: the result is the reference's term, the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v0)
          = REF (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(Value.post2 m r h c).trans (final m c), Value.kept_main_arg0 m r h c,
    Value.kept_main_arg1 m r h c, Value.kept_main_arg2 m r h c⟩) (run_main m ρ)

end Cert.FfnDownGradIdeal.Grad

namespace Cert.Proof

open Idealize.ShloMosaic Idealize.SL.Sem

/-- The reference runs to its end and leaves its arguments as they were. -/
theorem quiescent_FfnDownGradReferenceIdeal : quiescent_FfnDownGradReferenceIdeal := fun m ρ _ =>
  (θ_run Cert.FfnDownGradReferenceIdeal.defs _ _).mono
    (fun r h => ⟨fun c => (h c).2, sem_eq_zero_of_no_sems (by decide) r.2⟩)
    (Cert.FfnDownGradReferenceIdeal.Value.run (F := Ideal) m ρ)

/-- Kernel and reference end with the same gradient. -/
theorem algebraic_FfnDownGrad : algebraic_FfnDownGradIdeal_FfnDownGradReferenceIdeal := by
  intro m ρ m' ρ' _ hagree
  refine ⟨_, Cert.FfnDownGradIdeal.Grad.run m ρ, ?_⟩
  refine (θ_run Cert.FfnDownGradReferenceIdeal.defs _ _).mono (fun _ h c => ⟨?_, (h c).2⟩)
    (Cert.FfnDownGradReferenceIdeal.Value.run (F := Ideal) m' ρ')
  rw [(h c).1]
  simp only [hagree c]
  rfl

end Cert.Proof

end
-- ==== Proof.GmlpInGrad.lean ====
module

public import proofs.«01_k».proof.Defs
public import proofs.«01_k».proof.Proof.Gen.GmlpInGradIdeal.Value
public import proofs.«01_k».proof.Proof.Gen.GmlpInGradReferenceIdeal.Run
public import Idealize.ShloMosaic.Lib.Pipeline.ValueKit
public import Idealize.ShloMosaic.Lib.Quiescent

@[expose] public section

set_option maxRecDepth 16384

noncomputable section

namespace Cert.GmlpInGradIdeal.Grad

open Idealize.ShloMosaic Idealize.ShloMosaic.TcCoe Idealize.SL.Sem
open Idealize.ShloMosaic.Pipeline (Dat)
open Cert.GmlpInGradIdeal Cert.GmlpInGradIdeal.Gen

variable (m : (ℓ : Loc nD τ sig) → Buf (Elt Ideal) ℓ)

/-- The reference's result as one term of the layer's input and of the cotangent. -/
def REF (X : FVec Ideal S4096x1024 .bf16) (D : FVec Ideal S4096x4096 .bf16) : FVec Ideal S4096x1024 .bf16 :=
  truncf .bf16 (transpose Cert.GmlpInGradReferenceIdeal.S4096x1024 [1, 0] (transpose Cert.GmlpInGradReferenceIdeal.S1024x4096 [1, 0]
    (Host.dotGeneral Cert.GmlpInGradReferenceIdeal.dot_S4096x4096_S4096x1024_S4096x1024_0_0_1_1_n_n none
      (extf .f32 D Cert.GmlpInGradReferenceIdeal.Gen.bitsLt_bf16_f32) (extf .f32 X Cert.GmlpInGradReferenceIdeal.Gen.bitsLt_bf16_f32)) Cert.GmlpInGradReferenceIdeal.Gen.transposes_S4096x1024_S1024x4096_1_0) Cert.GmlpInGradReferenceIdeal.Gen.transposes_S1024x4096_S4096x1024_1_0) Cert.GmlpInGradReferenceIdeal.Gen.bitsLt_bf16_f32

/-- The weight gradient at an index: the whole contraction over the tokens. -/
theorem ref_apply (X : FVec Ideal S4096x1024 .bf16) (D : FVec Ideal S4096x4096 .bf16) (p : Fin 4096) (q : Fin 1024) :
    REF X D (ix2 p q) = ∑ l : Fin 4096, D (ix2 l p) * X (ix2 l q) := by
  pointwise [REF]

/-- The zero block the accumulator is reset to. -/
theorem zero_apply (j : S1024x1024.Idx) : k0_pay1 (F := Ideal) j = 0 := by pointwise [k0_pay1]

/-- One accumulation: what the accumulator held plus the product over the tokens of one block. -/
theorem step_apply (acc : Vec Ideal S1024x1024 .f32) (a : Vec Ideal S2048x1024 .bf16) (b : Vec Ideal S2048x1024 .bf16)
    (j : S1024x1024.Idx) :
    k0_pay2 acc a b j = acc j + ∑ k : Fin 2048, a (ix2 k (j 0)) * b (ix2 k (j 1)) := by pointwise [k0_pay2]

/-- The block each window reads at a grid point. -/
theorem idx : ∀ t : Fin cfg0.N, win0_0.index t = ![t.val % 2, t.val / 2] ∧ win0_1.index t = ![t.val % 2, 0]
    ∧ win0_2.index t = ![t.val / 2, 0] := (by decide +kernel : ∀ t : Fin grid0.N, _)

/-- What the accumulator holds after the first of a block row's two points. -/
theorem acc_A (c : Dev nD) (t : Fin cfg0.N) (h0 : t.val % 2 = 0) (h1 : ¬t.val % 2 = 1) (j : S1024x1024.Idx) :
    (outsAt0 m c t.val t.isLt).2 j
      = 0 + ∑ k : Fin 2048, (show FVec Ideal S2048x1024 .bf16 from iblk m c 0 t) (ix2 k (j 0))
          * (show FVec Ideal S2048x1024 .bf16 from iblk m c 1 t) (ix2 k (j 1)) := by
  rw [outsAt0_A m c t h0 h1]
  frame_out
  rw [step_apply, zero_apply]

/-- The result array after the run is the reference's term of the arguments. -/
theorem final (c : Dev nD) : (dats m 0 c).arrAt 2 cfg0.N
    = REF (m ((c : Thread nD τ).loc main_arg0)) (m ((c : Thread nD τ).loc main_arg2)) := by
  have hN : cfg0.N = 8 := N_0
  refine (dats m 0 c).arrAt_eq_of_covers 2 _ (by decide +kernel) fun t hf y => ?_
  have h1 : t.val % 2 = 1 := by have := (flush0_2 t).mp hf; omega
  have ht : t.val < 8 := lt_of_lt_of_eq t.isLt hN
  blk_simp
  rw [after0_2, outsAt0_B m c t (by omega) h1]
  frame_out
  rw [show View.read (Elt Ideal) (View.whole cc0_scratch0) ((Memref.isWhole_whole cc0_scratch0).unread
      (outsAt0 m c (t.val - 1) (Nat.lt_of_le_of_lt (Nat.sub_le _ _) t.isLt)).2)
      = (outsAt0 m c (t.val - 1) (Nat.lt_of_le_of_lt (Nat.sub_le _ _) t.isLt)).2 from (Memref.isWhole_whole cc0_scratch0).read_unread _]
  pointwise [k0_pay3]
  rw [step_apply, acc_A m c ⟨t.val - 1, Nat.lt_of_le_of_lt (Nat.sub_le _ _) t.isLt⟩ (by dsimp only; omega) (by dsimp only; omega),
    zero_add]
  have hy0 : (y 0 : ℕ) < 1024 := (y 0).isLt
  have hy1 : (y 1 : ℕ) < 1024 := (y 1).isLt
  have he : ((cfg0.win 2).blk t).view.emb y
      = (ix2 (⟨t.val / 2 * 1024 + (y 0 : ℕ), by omega⟩ : Fin 4096) (⟨(y 1 : ℕ), hy1⟩ : Fin 1024) : S4096x1024.Idx) := by
    blk_ext [idx t]
  refine Eq.trans ?_ ((congrArg _ he).trans (ref_apply _ _ _ _)).symm
  rw [Fin.sum_univ_tiles 2 2048 rfl, Fin.sum_univ_two]
  refine Ideal.add_congr (Fin.sum_fin_congr fun k => ?_) (Fin.sum_fin_congr fun k => ?_)
  · have hk := k.isLt
    have hi := idx ⟨t.val - 1, Nat.lt_of_le_of_lt (Nat.sub_le _ _) t.isLt⟩
    refine Ideal.mul_congr ?_ ?_
    · blk_ext [iblk, V, hi]
    · blk_ext [iblk, V, hi]
  · have hk := k.isLt
    refine Ideal.mul_congr ?_ ?_
    · blk_ext [iblk, V, idx t]
    · blk_ext [iblk, V, idx t]

/-- The run of the kernel: the result is the reference's term, the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v0)
          = REF (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(Value.post2 m r h c).trans (final m c), Value.kept_main_arg0 m r h c,
    Value.kept_main_arg1 m r h c, Value.kept_main_arg2 m r h c⟩) (run_main m ρ)

end Cert.GmlpInGradIdeal.Grad

namespace Cert.Proof

open Idealize.ShloMosaic Idealize.SL.Sem

/-- The reference runs to its end and leaves its arguments as they were. -/
theorem quiescent_GmlpInGradReferenceIdeal : quiescent_GmlpInGradReferenceIdeal := fun m ρ _ =>
  (θ_run Cert.GmlpInGradReferenceIdeal.defs _ _).mono
    (fun r h => ⟨fun c => (h c).2, sem_eq_zero_of_no_sems (by decide) r.2⟩)
    (Cert.GmlpInGradReferenceIdeal.Value.run (F := Ideal) m ρ)

/-- Kernel and reference end with the same gradient. -/
theorem algebraic_GmlpInGrad : algebraic_GmlpInGradIdeal_GmlpInGradReferenceIdeal := by
  intro m ρ m' ρ' _ hagree
  refine ⟨_, Cert.GmlpInGradIdeal.Grad.run m ρ, ?_⟩
  refine (θ_run Cert.GmlpInGradReferenceIdeal.defs _ _).mono (fun _ h c => ⟨?_, (h c).2⟩)
    (Cert.GmlpInGradReferenceIdeal.Value.run (F := Ideal) m' ρ')
  rw [(h c).1]
  simp only [hagree c]
  rfl

end Cert.Proof

end
-- ==== Proof.GmlpOutGrad.lean ====
module

public import proofs.«01_k».proof.Defs
public import proofs.«01_k».proof.Proof.Gen.GmlpOutGradIdeal.Value
public import proofs.«01_k».proof.Proof.Gen.GmlpOutGradReferenceIdeal.Run
public import Idealize.ShloMosaic.Lib.Pipeline.ValueKit
public import Idealize.ShloMosaic.Lib.Quiescent

@[expose] public section

set_option maxRecDepth 16384

noncomputable section

namespace Cert.GmlpOutGradIdeal.Grad

open Idealize.ShloMosaic Idealize.ShloMosaic.TcCoe Idealize.SL.Sem
open Idealize.ShloMosaic.Pipeline (Dat)
open Cert.GmlpOutGradIdeal Cert.GmlpOutGradIdeal.Gen

variable (m : (ℓ : Loc nD τ sig) → Buf (Elt Ideal) ℓ)

/-- The reference's result as one term of the layer's input and of the cotangent. -/
def REF (X : FVec Ideal S4096x2048 .bf16) (D : FVec Ideal S4096x1024 .bf16) : FVec Ideal S2048x1024 .bf16 :=
  truncf .bf16 (transpose Cert.GmlpOutGradReferenceIdeal.S2048x1024 [1, 0]
    (Host.dotGeneral Cert.GmlpOutGradReferenceIdeal.dot_S4096x1024_S4096x2048_S1024x2048_0_0_1_1_n_n none
      (extf .f32 D Cert.GmlpOutGradReferenceIdeal.Gen.bitsLt_bf16_f32) (extf .f32 X Cert.GmlpOutGradReferenceIdeal.Gen.bitsLt_bf16_f32)) Cert.GmlpOutGradReferenceIdeal.Gen.transposes_S1024x2048_S2048x1024_1_0) Cert.GmlpOutGradReferenceIdeal.Gen.bitsLt_bf16_f32

/-- The weight gradient at an index: the whole contraction over the tokens. -/
theorem ref_apply (X : FVec Ideal S4096x2048 .bf16) (D : FVec Ideal S4096x1024 .bf16) (p : Fin 2048) (q : Fin 1024) :
    REF X D (ix2 p q) = ∑ l : Fin 4096, X (ix2 l p) * D (ix2 l q) := by
  pointwise [REF]
  exact Finset.sum_congr rfl fun l _ => mul_comm _ _

/-- The zero block the accumulator is reset to. -/
theorem zero_apply (j : S1024x1024.Idx) : k0_pay1 (F := Ideal) j = 0 := by pointwise [k0_pay1]

/-- One accumulation: what the accumulator held plus the product over the tokens of one block. -/
theorem step_apply (acc : Vec Ideal S1024x1024 .f32) (a : Vec Ideal S2048x1024 .bf16) (b : Vec Ideal S2048x1024 .bf16)
    (j : S1024x1024.Idx) :
    k0_pay2 acc a b j = acc j + ∑ k : Fin 2048, a (ix2 k (j 0)) * b (ix2 k (j 1)) := by pointwise [k0_pay2]

/-- The block each window reads at a grid point. -/
theorem idx : ∀ t : Fin cfg0.N, win0_0.index t = ![t.val % 2, t.val / 2] ∧ win0_1.index t = ![t.val % 2, 0]
    ∧ win0_2.index t = ![t.val / 2, 0] := (by decide +kernel : ∀ t : Fin grid0.N, _)

/-- What the accumulator holds after the first of a block row's two points. -/
theorem acc_A (c : Dev nD) (t : Fin cfg0.N) (h0 : t.val % 2 = 0) (h1 : ¬t.val % 2 = 1) (j : S1024x1024.Idx) :
    (outsAt0 m c t.val t.isLt).2 j
      = 0 + ∑ k : Fin 2048, (show FVec Ideal S2048x1024 .bf16 from iblk m c 0 t) (ix2 k (j 0))
          * (show FVec Ideal S2048x1024 .bf16 from iblk m c 1 t) (ix2 k (j 1)) := by
  rw [outsAt0_A m c t h0 h1]
  frame_out
  rw [step_apply, zero_apply]

/-- The result array after the run is the reference's term of the arguments. -/
theorem final (c : Dev nD) : (dats m 0 c).arrAt 2 cfg0.N
    = REF (m ((c : Thread nD τ).loc main_arg0)) (m ((c : Thread nD τ).loc main_arg2)) := by
  have hN : cfg0.N = 4 := N_0
  refine (dats m 0 c).arrAt_eq_of_covers 2 _ (by decide +kernel) fun t hf y => ?_
  have h1 : t.val % 2 = 1 := by have := (flush0_2 t).mp hf; omega
  have ht : t.val < 4 := lt_of_lt_of_eq t.isLt hN
  blk_simp
  rw [after0_2, outsAt0_B m c t (by omega) h1]
  frame_out
  rw [show View.read (Elt Ideal) (View.whole cc0_scratch0) ((Memref.isWhole_whole cc0_scratch0).unread
      (outsAt0 m c (t.val - 1) (Nat.lt_of_le_of_lt (Nat.sub_le _ _) t.isLt)).2)
      = (outsAt0 m c (t.val - 1) (Nat.lt_of_le_of_lt (Nat.sub_le _ _) t.isLt)).2 from (Memref.isWhole_whole cc0_scratch0).read_unread _]
  pointwise [k0_pay3]
  rw [step_apply, acc_A m c ⟨t.val - 1, Nat.lt_of_le_of_lt (Nat.sub_le _ _) t.isLt⟩ (by dsimp only; omega) (by dsimp only; omega),
    zero_add]
  have hy0 : (y 0 : ℕ) < 1024 := (y 0).isLt
  have hy1 : (y 1 : ℕ) < 1024 := (y 1).isLt
  have he : ((cfg0.win 2).blk t).view.emb y
      = (ix2 (⟨t.val / 2 * 1024 + (y 0 : ℕ), by omega⟩ : Fin 2048) (⟨(y 1 : ℕ), hy1⟩ : Fin 1024) : S2048x1024.Idx) := by
    blk_ext [idx t]
  refine Eq.trans ?_ ((congrArg _ he).trans (ref_apply _ _ _ _)).symm
  rw [Fin.sum_univ_tiles 2 2048 rfl, Fin.sum_univ_two]
  refine Ideal.add_congr (Fin.sum_fin_congr fun k => ?_) (Fin.sum_fin_congr fun k => ?_)
  · have hk := k.isLt
    have hi := idx ⟨t.val - 1, Nat.lt_of_le_of_lt (Nat.sub_le _ _) t.isLt⟩
    refine Ideal.mul_congr ?_ ?_
    · blk_ext [iblk, V, hi]
    · blk_ext [iblk, V, hi]
  · have hk := k.isLt
    refine Ideal.mul_congr ?_ ?_
    · blk_ext [iblk, V, idx t]
    · blk_ext [iblk, V, idx t]

/-- The run of the kernel: the result is the reference's term, the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v0)
          = REF (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(Value.post2 m r h c).trans (final m c), Value.kept_main_arg0 m r h c,
    Value.kept_main_arg1 m r h c, Value.kept_main_arg2 m r h c⟩) (run_main m ρ)

end Cert.GmlpOutGradIdeal.Grad

namespace Cert.Proof

open Idealize.ShloMosaic Idealize.SL.Sem

/-- The reference runs to its end and leaves its arguments as they were. -/
theorem quiescent_GmlpOutGradReferenceIdeal : quiescent_GmlpOutGradReferenceIdeal := fun m ρ _ =>
  (θ_run Cert.GmlpOutGradReferenceIdeal.defs _ _).mono
    (fun r h => ⟨fun c => (h c).2, sem_eq_zero_of_no_sems (by decide) r.2⟩)
    (Cert.GmlpOutGradReferenceIdeal.Value.run (F := Ideal) m ρ)

/-- Kernel and reference end with the same gradient. -/
theorem algebraic_GmlpOutGrad : algebraic_GmlpOutGradIdeal_GmlpOutGradReferenceIdeal := by
  intro m ρ m' ρ' _ hagree
  refine ⟨_, Cert.GmlpOutGradIdeal.Grad.run m ρ, ?_⟩
  refine (θ_run Cert.GmlpOutGradReferenceIdeal.defs _ _).mono (fun _ h c => ⟨?_, (h c).2⟩)
    (Cert.GmlpOutGradReferenceIdeal.Value.run (F := Ideal) m' ρ')
  rw [(h c).1]
  simp only [hagree c]
  rfl

end Cert.Proof

end
-- ==== Proof.AttnQkvGrad.lean ====
module

public import proofs.«01_k».proof.Defs
public import proofs.«01_k».proof.Proof.Gen.AttnQkvGradIdeal.Value
public import proofs.«01_k».proof.Proof.Gen.AttnQkvGradReferenceIdeal.Run
public import Idealize.ShloMosaic.Lib.Pipeline.ValueKit
public import Idealize.ShloMosaic.Lib.Quiescent

@[expose] public section

set_option maxRecDepth 16384

noncomputable section

namespace Cert.AttnQkvGradIdeal.Grad

open Idealize.ShloMosaic Idealize.ShloMosaic.TcCoe Idealize.SL.Sem
open Idealize.ShloMosaic.Pipeline (Dat)
open Cert.AttnQkvGradIdeal Cert.AttnQkvGradIdeal.Gen

variable (m : (ℓ : Loc nD τ sig) → Buf (Elt Ideal) ℓ)

/-- The reference's result as one term of the layer's input and of the cotangent. -/
def REF (X : FVec Ideal S4096x1024 .bf16) (D : FVec Ideal S4096x1536 .bf16) : FVec Ideal S1536x1024 .bf16 :=
  truncf .bf16 (transpose Cert.AttnQkvGradReferenceIdeal.S1536x1024 [1, 0] (transpose Cert.AttnQkvGradReferenceIdeal.S1024x1536 [1, 0]
    (Host.dotGeneral Cert.AttnQkvGradReferenceIdeal.dot_S4096x1536_S4096x1024_S1536x1024_0_0_1_1_n_n none
      (extf .f32 D Cert.AttnQkvGradReferenceIdeal.Gen.bitsLt_bf16_f32) (extf .f32 X Cert.AttnQkvGradReferenceIdeal.Gen.bitsLt_bf16_f32)) Cert.AttnQkvGradReferenceIdeal.Gen.transposes_S1536x1024_S1024x1536_1_0) Cert.AttnQkvGradReferenceIdeal.Gen.transposes_S1024x1536_S1536x1024_1_0) Cert.AttnQkvGradReferenceIdeal.Gen.bitsLt_bf16_f32

/-- The weight gradient at an index: the whole contraction over the tokens. -/
theorem ref_apply (X : FVec Ideal S4096x1024 .bf16) (D : FVec Ideal S4096x1536 .bf16) (p : Fin 1536) (q : Fin 1024) :
    REF X D (ix2 p q) = ∑ l : Fin 4096, D (ix2 l p) * X (ix2 l q) := by
  pointwise [REF]

/-- The zero block the accumulator is reset to. -/
theorem zero_apply (j : S768x1024.Idx) : k0_pay1 (F := Ideal) j = 0 := by pointwise [k0_pay1]

/-- One accumulation: what the accumulator held plus the product over the tokens of one block. -/
theorem step_apply (acc : Vec Ideal S768x1024 .f32) (a : Vec Ideal S2048x768 .bf16) (b : Vec Ideal S2048x1024 .bf16)
    (j : S768x1024.Idx) :
    k0_pay2 acc a b j = acc j + ∑ k : Fin 2048, a (ix2 k (j 0)) * b (ix2 k (j 1)) := by pointwise [k0_pay2]

/-- The block each window reads at a grid point. -/
theorem idx : ∀ t : Fin cfg0.N, win0_0.index t = ![t.val % 2, t.val / 2] ∧ win0_1.index t = ![t.val % 2, 0]
    ∧ win0_2.index t = ![t.val / 2, 0] := (by decide +kernel : ∀ t : Fin grid0.N, _)

/-- What the accumulator holds after the first of a block row's two points. -/
theorem acc_A (c : Dev nD) (t : Fin cfg0.N) (h0 : t.val % 2 = 0) (h1 : ¬t.val % 2 = 1) (j : S768x1024.Idx) :
    (outsAt0 m c t.val t.isLt).2 j
      = 0 + ∑ k : Fin 2048, (show FVec Ideal S2048x768 .bf16 from iblk m c 0 t) (ix2 k (j 0))
          * (show FVec Ideal S2048x1024 .bf16 from iblk m c 1 t) (ix2 k (j 1)) := by
  rw [outsAt0_A m c t h0 h1]
  frame_out
  rw [step_apply, zero_apply]

/-- The result array after the run is the reference's term of the arguments. -/
theorem final (c : Dev nD) : (dats m 0 c).arrAt 2 cfg0.N
    = REF (m ((c : Thread nD τ).loc main_arg0)) (m ((c : Thread nD τ).loc main_arg2)) := by
  have hN : cfg0.N = 4 := N_0
  refine (dats m 0 c).arrAt_eq_of_covers 2 _ (by decide +kernel) fun t hf y => ?_
  have h1 : t.val % 2 = 1 := by have := (flush0_2 t).mp hf; omega
  have ht : t.val < 4 := lt_of_lt_of_eq t.isLt hN
  blk_simp
  rw [after0_2, outsAt0_B m c t (by omega) h1]
  frame_out
  rw [show View.read (Elt Ideal) (View.whole cc0_scratch0) ((Memref.isWhole_whole cc0_scratch0).unread
      (outsAt0 m c (t.val - 1) (Nat.lt_of_le_of_lt (Nat.sub_le _ _) t.isLt)).2)
      = (outsAt0 m c (t.val - 1) (Nat.lt_of_le_of_lt (Nat.sub_le _ _) t.isLt)).2 from (Memref.isWhole_whole cc0_scratch0).read_unread _]
  pointwise [k0_pay3]
  rw [step_apply, acc_A m c ⟨t.val - 1, Nat.lt_of_le_of_lt (Nat.sub_le _ _) t.isLt⟩ (by dsimp only; omega) (by dsimp only; omega),
    zero_add]
  have hy0 : (y 0 : ℕ) < 768 := (y 0).isLt
  have hy1 : (y 1 : ℕ) < 1024 := (y 1).isLt
  have he : ((cfg0.win 2).blk t).view.emb y
      = (ix2 (⟨t.val / 2 * 768 + (y 0 : ℕ), by omega⟩ : Fin 1536) (⟨(y 1 : ℕ), hy1⟩ : Fin 1024) : S1536x1024.Idx) := by
    blk_ext [idx t]
  refine Eq.trans ?_ ((congrArg _ he).trans (ref_apply _ _ _ _)).symm
  rw [Fin.sum_univ_tiles 2 2048 rfl, Fin.sum_univ_two]
  refine Ideal.add_congr (Fin.sum_fin_congr fun k => ?_) (Fin.sum_fin_congr fun k => ?_)
  · have hk := k.isLt
    have hi := idx ⟨t.val - 1, Nat.lt_of_le_of_lt (Nat.sub_le _ _) t.isLt⟩
    refine Ideal.mul_congr ?_ ?_
    · blk_ext [iblk, V, hi]
    · blk_ext [iblk, V, hi]
  · have hk := k.isLt
    refine Ideal.mul_congr ?_ ?_
    · blk_ext [iblk, V, idx t]
    · blk_ext [iblk, V, idx t]

/-- The run of the kernel: the result is the reference's term, the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v0)
          = REF (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(Value.post2 m r h c).trans (final m c), Value.kept_main_arg0 m r h c,
    Value.kept_main_arg1 m r h c, Value.kept_main_arg2 m r h c⟩) (run_main m ρ)

end Cert.AttnQkvGradIdeal.Grad

namespace Cert.Proof

open Idealize.ShloMosaic Idealize.SL.Sem

/-- The reference runs to its end and leaves its arguments as they were. -/
theorem quiescent_AttnQkvGradReferenceIdeal : quiescent_AttnQkvGradReferenceIdeal := fun m ρ _ =>
  (θ_run Cert.AttnQkvGradReferenceIdeal.defs _ _).mono
    (fun r h => ⟨fun c => (h c).2, sem_eq_zero_of_no_sems (by decide) r.2⟩)
    (Cert.AttnQkvGradReferenceIdeal.Value.run (F := Ideal) m ρ)

/-- Kernel and reference end with the same gradient. -/
theorem algebraic_AttnQkvGrad : algebraic_AttnQkvGradIdeal_AttnQkvGradReferenceIdeal := by
  intro m ρ m' ρ' _ hagree
  refine ⟨_, Cert.AttnQkvGradIdeal.Grad.run m ρ, ?_⟩
  refine (θ_run Cert.AttnQkvGradReferenceIdeal.defs _ _).mono (fun _ h c => ⟨?_, (h c).2⟩)
    (Cert.AttnQkvGradReferenceIdeal.Value.run (F := Ideal) m' ρ')
  rw [(h c).1]
  simp only [hagree c]
  rfl

end Cert.Proof

end
-- ==== Proof.AttnOutGrad.lean ====
module

public import proofs.«01_k».proof.Defs
public import proofs.«01_k».proof.Proof.Gen.AttnOutGradIdeal.Value
public import proofs.«01_k».proof.Proof.Gen.AttnOutGradReferenceIdeal.Run
public import Idealize.ShloMosaic.Lib.Pipeline.ValueKit
public import Idealize.ShloMosaic.Lib.Quiescent

@[expose] public section

set_option maxRecDepth 16384

noncomputable section

namespace Cert.AttnOutGradIdeal.Grad

open Idealize.ShloMosaic Idealize.ShloMosaic.TcCoe Idealize.SL.Sem
open Idealize.ShloMosaic.Pipeline (Dat)
open Cert.AttnOutGradIdeal Cert.AttnOutGradIdeal.Gen

variable (m : (ℓ : Loc nD τ sig) → Buf (Elt Ideal) ℓ)

/-- The reference's result as one term of the layer's input and of the cotangent. -/
def REF (X : FVec Ideal S4096x1024 .bf16) (D : FVec Ideal S4096x1024 .bf16) : FVec Ideal S1024x1024 .bf16 :=
  truncf .bf16 (transpose Cert.AttnOutGradReferenceIdeal.S1024x1024 [1, 0]
    (Host.dotGeneral Cert.AttnOutGradReferenceIdeal.dot_S4096x1024_S4096x1024_S1024x1024_0_0_1_1_n_n none
      (extf .f32 D Cert.AttnOutGradReferenceIdeal.Gen.bitsLt_bf16_f32) (extf .f32 X Cert.AttnOutGradReferenceIdeal.Gen.bitsLt_bf16_f32)) Cert.AttnOutGradReferenceIdeal.Gen.transposes_S1024x1024_S1024x1024_1_0) Cert.AttnOutGradReferenceIdeal.Gen.bitsLt_bf16_f32

/-- The weight gradient at an index: the whole contraction over the tokens. -/
theorem ref_apply (X : FVec Ideal S4096x1024 .bf16) (D : FVec Ideal S4096x1024 .bf16) (p : Fin 1024) (q : Fin 1024) :
    REF X D (ix2 p q) = ∑ l : Fin 4096, X (ix2 l p) * D (ix2 l q) := by
  pointwise [REF]
  exact Finset.sum_congr rfl fun l _ => mul_comm _ _

/-- The zero block the accumulator is reset to. -/
theorem zero_apply (j : S1024x1024.Idx) : k0_pay1 (F := Ideal) j = 0 := by pointwise [k0_pay1]

/-- One accumulation: what the accumulator held plus the product over the tokens of one block. -/
theorem step_apply (acc : Vec Ideal S1024x1024 .f32) (a : Vec Ideal S2048x1024 .bf16) (b : Vec Ideal S2048x1024 .bf16)
    (j : S1024x1024.Idx) :
    k0_pay2 acc a b j = acc j + ∑ k : Fin 2048, a (ix2 k (j 0)) * b (ix2 k (j 1)) := by pointwise [k0_pay2]

/-- The block each window reads at a grid point. -/
theorem idx : ∀ t : Fin cfg0.N, win0_0.index t = ![t.val % 2, t.val / 2] ∧ win0_1.index t = ![t.val % 2, 0]
    ∧ win0_2.index t = ![t.val / 2, 0] := (by decide +kernel : ∀ t : Fin grid0.N, _)

/-- What the accumulator holds after the first of a block row's two points. -/
theorem acc_A (c : Dev nD) (t : Fin cfg0.N) (h0 : t.val % 2 = 0) (h1 : ¬t.val % 2 = 1) (j : S1024x1024.Idx) :
    (outsAt0 m c t.val t.isLt).2 j
      = 0 + ∑ k : Fin 2048, (show FVec Ideal S2048x1024 .bf16 from iblk m c 0 t) (ix2 k (j 0))
          * (show FVec Ideal S2048x1024 .bf16 from iblk m c 1 t) (ix2 k (j 1)) := by
  rw [outsAt0_A m c t h0 h1]
  frame_out
  rw [step_apply, zero_apply]

/-- The result array after the run is the reference's term of the arguments. -/
theorem final (c : Dev nD) : (dats m 0 c).arrAt 2 cfg0.N
    = REF (m ((c : Thread nD τ).loc main_arg0)) (m ((c : Thread nD τ).loc main_arg2)) := by
  have hN : cfg0.N = 2 := N_0
  refine (dats m 0 c).arrAt_eq_of_covers 2 _ (by decide +kernel) fun t hf y => ?_
  have h1 : t.val % 2 = 1 := by have := (flush0_2 t).mp hf; omega
  have ht : t.val < 2 := lt_of_lt_of_eq t.isLt hN
  blk_simp
  rw [after0_2, outsAt0_B m c t (by omega) h1]
  frame_out
  rw [show View.read (Elt Ideal) (View.whole cc0_scratch0) ((Memref.isWhole_whole cc0_scratch0).unread
      (outsAt0 m c (t.val - 1) (Nat.lt_of_le_of_lt (Nat.sub_le _ _) t.isLt)).2)
      = (outsAt0 m c (t.val - 1) (Nat.lt_of_le_of_lt (Nat.sub_le _ _) t.isLt)).2 from (Memref.isWhole_whole cc0_scratch0).read_unread _]
  pointwise [k0_pay3]
  rw [step_apply, acc_A m c ⟨t.val - 1, Nat.lt_of_le_of_lt (Nat.sub_le _ _) t.isLt⟩ (by dsimp only; omega) (by dsimp only; omega),
    zero_add]
  have hy0 : (y 0 : ℕ) < 1024 := (y 0).isLt
  have hy1 : (y 1 : ℕ) < 1024 := (y 1).isLt
  have he : ((cfg0.win 2).blk t).view.emb y
      = (ix2 (⟨t.val / 2 * 1024 + (y 0 : ℕ), by omega⟩ : Fin 1024) (⟨(y 1 : ℕ), hy1⟩ : Fin 1024) : S1024x1024.Idx) := by
    blk_ext [idx t]
  refine Eq.trans ?_ ((congrArg _ he).trans (ref_apply _ _ _ _)).symm
  rw [Fin.sum_univ_tiles 2 2048 rfl, Fin.sum_univ_two]
  refine Ideal.add_congr (Fin.sum_fin_congr fun k => ?_) (Fin.sum_fin_congr fun k => ?_)
  · have hk := k.isLt
    have hi := idx ⟨t.val - 1, Nat.lt_of_le_of_lt (Nat.sub_le _ _) t.isLt⟩
    refine Ideal.mul_congr ?_ ?_
    · blk_ext [iblk, V, hi]
    · blk_ext [iblk, V, hi]
  · have hk := k.isLt
    refine Ideal.mul_congr ?_ ?_
    · blk_ext [iblk, V, idx t]
    · blk_ext [iblk, V, idx t]

/-- The run of the kernel: the result is the reference's term, the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v0)
          = REF (m ((c : Thread nD τ).loc main_arg0)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(Value.post2 m r h c).trans (final m c), Value.kept_main_arg0 m r h c,
    Value.kept_main_arg1 m r h c, Value.kept_main_arg2 m r h c⟩) (run_main m ρ)

end Cert.AttnOutGradIdeal.Grad

namespace Cert.Proof

open Idealize.ShloMosaic Idealize.SL.Sem

/-- The reference runs to its end and leaves its arguments as they were. -/
theorem quiescent_AttnOutGradReferenceIdeal : quiescent_AttnOutGradReferenceIdeal := fun m ρ _ =>
  (θ_run Cert.AttnOutGradReferenceIdeal.defs _ _).mono
    (fun r h => ⟨fun c => (h c).2, sem_eq_zero_of_no_sems (by decide) r.2⟩)
    (Cert.AttnOutGradReferenceIdeal.Value.run (F := Ideal) m ρ)

/-- Kernel and reference end with the same gradient. -/
theorem algebraic_AttnOutGrad : algebraic_AttnOutGradIdeal_AttnOutGradReferenceIdeal := by
  intro m ρ m' ρ' _ hagree
  refine ⟨_, Cert.AttnOutGradIdeal.Grad.run m ρ, ?_⟩
  refine (θ_run Cert.AttnOutGradReferenceIdeal.defs _ _).mono (fun _ h c => ⟨?_, (h c).2⟩)
    (Cert.AttnOutGradReferenceIdeal.Value.run (F := Ideal) m' ρ')
  rw [(h c).1]
  simp only [hagree c]
  rfl

end Cert.Proof

end
-- ==== Proof.Blocks.lean ====
module

public import Idealize.ShloMosaic.Lib.Pipeline.ValueKit
public import Idealize.ShloMosaic.Lib.Quiescent

@[expose] public section

noncomputable section

namespace Cert.Blocks

open Idealize.ShloMosaic

/-- A load of a whole buffer after stores reads what the stores left, index by index. -/
theorem readCov_whole {Val : EltTy → Type} [∀ e, Nonempty (Val e)] {sig : RefSig} {κ : Kind} {sp : Space} {s : Shape} {e : EltTy}
    (v : View sig κ sp s e) (L : List (View.Piece Val s e)) {off : Fin s.rank → Nat} (h : off = fun _ => 0)
    (inb : ∀ a, off a + s.size a ≤ s.size a) :
    v.readCov L (Rect.unit off s.size inb).toLoadRect = View.canon L := by
  subst h
  rw [View.readCov_eq_canon']
  funext j
  exact congrArg (View.canon L) (Rect.emb_whole_apply s j)

end Cert.Blocks

end
-- ==== Proof.Finite.lean ====
module

public import Idealize.ShloMosaic.Lib.Pipeline.ValueKit
public import Idealize.ShloMosaic.Lib.ReduceAll

@[expose] public section

noncomputable section

namespace Cert.Finite

open Idealize.ShloMosaic

/-- An array of finite entries: every entry is a real number. -/
def Real {s : Shape} {φ : FTy} (x : FVec Ideal s φ) : Prop := ∀ i, ∃ r : ℝ, x i = (r : EReal)

/-- Where the test "every |x i| is below infinity" is one, every entry is a real number. -/
theorem real_of_all {s t u : Shape} {axes : List (Fin s.rank)} [Subsingleton t.Idx] (x : FVec Ideal s .f32)
    (b : FVec Ideal s .f32) (hb : ∀ i, b i = (⊤ : EReal)) (init : IVec u 1) (h : s.ReducesTo axes t) (hu : 0 < u.numel) (j : t.Idx)
    (e : Host.reduce IntOp.andi (cmpf .olt (Host.absf x) b) init h hu j = 1#1) : Real x := by
  intro i
  have := Host.reduce_andi_all _ init h hu j e i
  have h2 : Ideal.cmp .olt (max (x i) (-(x i))) (b i) = 1#1 := this
  rw [hb i] at h2
  have h3 : max (x i) (-(x i)) < (⊤ : EReal) := by
    by_contra hc
    simp [Ideal.cmp, hc] at h2
  have h4 := max_lt_iff.mp h3
  generalize x i = a at h4 ⊢
  induction a using EReal.rec with
  | bot => simp at h4
  | top => simp at h4
  | coe r => exact ⟨r, rfl⟩

/-- A conjunction of one-bit tests is one where both are. -/
theorem and_split {s : Shape} {a b : IVec s 1} {j : s.Idx} (e : andi a b j = 1#1) : a j = 1#1 ∧ b j = 1#1 := by
  have h : a j &&& b j = 1#1 := e
  generalize a j = x at h ⊢
  generalize b j = y at h ⊢
  revert x y
  decide

/-- The pattern of positive infinity denotes it. -/
theorem inf_apply {u s : Shape} (d : Fin u.rank → Fin s.rank) (h) (i : s.Idx) :
    broadcastInDim s d h (constant (F := Ideal) u .f32 0x7F800000#32) i = (⊤ : EReal) := by
  pointwise
  simp [Ideal.ofBits, Ideal.ieee]

/-- A sum of real numbers, taken in the extended reals, is the real sum. -/
theorem coe_sum {ι : Type*} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

end Cert.Finite

end
-- ==== Proof.Swiglu.lean ====
module

public import Idealize.ShloMosaic.Lib.Pipeline.ValueKit

@[expose] public section

noncomputable section

namespace Cert.Swiglu

open Idealize.ShloMosaic

/-- The logistic function, as the reference computes it. -/
def sig (g : EReal) : EReal := Ideal.div 1 (1 + Ideal.exp (-g))

/-- The derivative of the gated unit by its gate, at cotangent one. -/
def partGate (g u : EReal) : EReal := u * sig g + g * u * (sig g * (1 - sig g))

/-- The cotangent of the gate half. -/
def gradGate (d g u : EReal) : EReal := d * u * sig g + g * (d * u) * (sig g * (1 - sig g))

/-- On a real number the logistic function is real. -/
theorem sig_coe (r : ℝ) : sig (r : EReal) = (((1 + Real.exp (-r))⁻¹ : ℝ) : EReal) := by
  have h : (1 + Real.exp (-r)) ≠ 0 := by positivity
  unfold sig
  rw [← EReal.coe_neg, Ideal.exp_coe, ← EReal.coe_one, ← EReal.coe_add, Ideal.div_coe h, ← EReal.coe_mul]
  congr 1
  field_simp

/-- The cotangent times the saved derivative is the cotangent of the gate half. -/
theorem grad_eq (d g u : ℝ) : (d : EReal) * partGate g u = gradGate d g u := by
  unfold partGate gradGate
  rw [sig_coe]
  generalize (1 + Real.exp (-g))⁻¹ = s
  rw [← EReal.coe_one]
  simp only [← EReal.coe_mul, ← EReal.coe_sub, ← EReal.coe_add]
  congr 1
  ring

/-- The logistic function through the hyperbolic tangent of half the argument. -/
theorem half_tanh (r : ℝ) : 1 / 2 * Real.tanh (1 / 2 * r) + 1 / 2 = (1 + Real.exp (-r))⁻¹ := by
  have e : Real.exp (-r) = Real.exp (-(1 / 2 * r)) * Real.exp (-(1 / 2 * r)) := by rw [← Real.exp_add]; congr 1; ring
  have f : Real.exp (1 / 2 * r) * Real.exp (-(1 / 2 * r)) = 1 := by rw [← Real.exp_add]; simp
  have p : 0 < Real.exp (1 / 2 * r) := Real.exp_pos _
  have q : 0 < Real.exp (-(1 / 2 * r)) := Real.exp_pos _
  rw [Real.tanh_eq_sinh_div_cosh, Real.sinh_eq, Real.cosh_eq, e]
  generalize Real.exp (1 / 2 * r) = a at *
  generalize Real.exp (-(1 / 2 * r)) = b at *
  field_simp
  nlinarith [f]

/-- The logistic function as the kernel computes it. -/
def sigK (g : EReal) : EReal := Ideal.ofBits .f32 0x3F000000#32 * Ideal.tanh (Ideal.ofBits .f32 0x3F000000#32 * g) + Ideal.ofBits .f32 0x3F000000#32

theorem half : Ideal.ofBits .f32 0x3F000000#32 = ((1 / 2 : ℝ) : EReal) := by
  simp [Ideal.ofBits, Ideal.ieee, -EReal.coe_mul]; norm_num

/-- On a real number the two logistic functions agree. -/
theorem sigK_coe (r : ℝ) : sigK (r : EReal) = sig (r : EReal) := by
  unfold sigK
  rw [sig_coe, half, ← EReal.coe_mul, Ideal.tanh_coe, ← EReal.coe_mul, ← EReal.coe_add, half_tanh]

/-- The derivative by the gate, as the kernel computes it. -/
theorem part_eq (g u : ℝ) : (u : EReal) * (sigK g + g * sigK g * (1 - sigK g)) = partGate g u := by
  unfold partGate
  rw [sigK_coe, sig_coe]
  generalize (1 + Real.exp (-g))⁻¹ = s
  rw [← EReal.coe_one]
  simp only [← EReal.coe_mul, ← EReal.coe_sub, ← EReal.coe_add]
  congr 1
  ring

end Cert.Swiglu

end
-- ==== Proof.FfnUp.lean ====
module

public import proofs.«01_k».proof.Defs
public import proofs.«01_k».proof.Proof.Gen.FfnUpIdeal.Value
public import proofs.«01_k».proof.Proof.Gen.FfnUpReferenceIdeal.Run
public import proofs.«01_k».proof.Proof.Blocks
public import proofs.«01_k».proof.Proof.Finite
public import proofs.«01_k».proof.Proof.Swiglu
public import proofs.«01_k».proof.Proof.Gen.Pre_finite_ffn_up
public import Idealize.ShloMosaic.Lib.Pipeline.ValueKit
public import Idealize.ShloMosaic.Lib.Quiescent

@[expose] public section

set_option maxRecDepth 16384

noncomputable section

namespace Cert.FfnUpReferenceIdeal.Fwd

open Idealize.ShloMosaic Idealize.ShloMosaic.TcCoe Idealize.SL.Sem
open Cert.FfnUpReferenceIdeal Cert.FfnUpReferenceIdeal.Gen Cert.Swiglu

/-- The gate half and the linear half of the layer's first product. -/
def GATE (G : FVec Ideal S4096x5632 .f32) : FVec Ideal S4096x2816 .f32 :=
  extractStridedSlice S4096x2816 ![0, 0] G slices_S4096x5632_S4096x2816_0_0

def UP (G : FVec Ideal S4096x5632 .f32) : FVec Ideal S4096x2816 .f32 :=
  extractStridedSlice S4096x2816 ![0, 2816] G slices_S4096x5632_S4096x2816_0_2816

/-- The logistic function of the gate half. -/
def SIG (G : FVec Ideal S4096x5632 .f32) : FVec Ideal S4096x2816 .f32 :=
  Host.divf (broadcastInDim S4096x2816 ![] bcast_S_S4096x2816 (constant S_ .f32 0x3F800000#32)) (addf (broadcastInDim S4096x2816 ![] bcast_S_S4096x2816 (constant S_ .f32 0x3F800000#32)) (Host.exp (Host.negf (GATE G))))

/-- The derivatives of the activation that the forward pass saves, as one term. -/
def PART (G : FVec Ideal S4096x5632 .f32) : FVec Ideal S4096x5632 .bf16 :=
  truncf .bf16 (concatenate S4096x5632 1 [⟨S4096x2816, (addf (mulf (mulf (broadcastInDim S4096x2816 ![] bcast_S_S4096x2816 (constant S_ .f32 0x3F800000#32)) (UP G)) (SIG G)) (mulf (mulf (GATE G) (mulf (broadcastInDim S4096x2816 ![] bcast_S_S4096x2816 (constant S_ .f32 0x3F800000#32)) (UP G))) (mulf (SIG G) (subf (broadcastInDim S4096x2816 ![] bcast_S_S4096x2816 (constant S_ .f32 0x3F800000#32)) (SIG G)))))⟩, ⟨S4096x2816, (mulf (mulf (GATE G) (SIG G)) (broadcastInDim S4096x2816 ![] bcast_S_S4096x2816 (constant S_ .f32 0x3F800000#32)))⟩] concatenates_S4096x2816_S4096x2816_S4096x5632_d1) bitsLt_bf16_f32

/-- The saved derivative by the gate, at an index. -/
theorem part_gate (G : FVec Ideal S4096x5632 .f32) (p : Fin 4096) (q : Fin 5632) (j : Fin 2816) (u : Fin 5632) (hj : (j : ℕ) = q)
    (hu : (u : ℕ) = 2816 + j) : PART G (ix2 p q) = partGate (G (ix2 p q)) (G (ix2 p u)) := by
  have hq : (q : ℕ) < 2816 := by omega
  obtain rfl : u = ⟨2816 + q, Nat.add_lt_add_left hq 2816⟩ := Fin.ext (by dsimp only; omega)
  pointwise [PART, GATE, UP, SIG, partGate, Swiglu.sig, hq]

/-- The saved derivative by the linear half, at an index. -/
theorem part_up (G : FVec Ideal S4096x5632 .f32) (p : Fin 4096) (q : Fin 5632) (j : Fin 2816) (g : Fin 5632) (hj : (q : ℕ) = 2816 + j)
    (hg : (g : ℕ) = j) : PART G (ix2 p q) = G (ix2 p g) * Swiglu.sig (G (ix2 p g)) := by
  have hq : ¬ (q : ℕ) < 2816 := by omega
  obtain rfl : g = ⟨q - 2816, lt_of_le_of_lt (Nat.sub_le _ _) q.isLt⟩ := Fin.ext (by dsimp only; omega)
  pointwise [PART, GATE, UP, SIG, Swiglu.sig, hq]

/-- The first product of the layer. -/
def GU (A : FVec Ideal S4096x1024 .f32) (W : FVec Ideal S1024x5632 .f32) : FVec Ideal S4096x5632 .f32 :=
  Host.dotGeneral dot_S4096x1024_S1024x5632_S4096x5632_1_0_0_1_n_n none A W

/-- The reference's results as terms. -/
def REF0 (A : FVec Ideal S4096x1024 .f32) (W : FVec Ideal S1024x5632 .f32) : FVec Ideal S4096x2816 .bf16 :=
  truncf .bf16 (mulf (mulf (GATE (GU A W)) (SIG (GU A W))) (UP (GU A W))) bitsLt_bf16_f32

def REF1 (A : FVec Ideal S4096x1024 .f32) (W : FVec Ideal S1024x5632 .f32) : FVec Ideal S4096x5632 .bf16 := PART (GU A W)

/-- The product, at an index. -/
theorem gu_apply (A : FVec Ideal S4096x1024 .f32) (W : FVec Ideal S1024x5632 .f32) (p : Fin 4096) (q : Fin 5632) :
    GU A W (ix2 p q) = ∑ k : Fin 1024, A (ix2 p k) * W (ix2 k q) := by
  pointwise [GU]

/-- Of finite arrays the product is real. -/
theorem gu_real (A : FVec Ideal S4096x1024 .f32) (W : FVec Ideal S1024x5632 .f32) (hA : Finite.Real A) (hW : Finite.Real W)
    (p : Fin 4096) (q : Fin 5632) : ∃ r : ℝ, GU A W (ix2 p q) = (r : EReal) := by
  choose w hw using hW
  choose d hd using hA
  refine ⟨∑ k : Fin 1024, d (ix2 p k) * w (ix2 k q), ?_⟩
  rw [gu_apply, ← Finite.coe_sum]
  exact Finset.sum_congr rfl fun k _ => by rw [hw, hd, EReal.coe_mul]

/-- The activation, at an index. -/
theorem ref_act (A : FVec Ideal S4096x1024 .f32) (W : FVec Ideal S1024x5632 .f32) (p : Fin 4096) (j : Fin 2816) (g u : Fin 5632)
    (hg : (g : ℕ) = j) (hu : (u : ℕ) = 2816 + j) :
    REF0 A W (ix2 p j) = GU A W (ix2 p g) * Swiglu.sig (GU A W (ix2 p g)) * GU A W (ix2 p u) := by
  unfold REF0
  generalize GU A W = G
  obtain rfl : g = ⟨j.val, lt_trans j.isLt (by decide)⟩ := Fin.ext hg
  obtain rfl : u = ⟨2816 + j.val, Nat.add_lt_add_left j.isLt 2816⟩ := Fin.ext hu
  pointwise [GATE, UP, SIG, Swiglu.sig]

/-- What the kernel computes of the two products is the reference's result. -/
theorem act_eq (A : FVec Ideal S4096x1024 .f32) (W : FVec Ideal S1024x5632 .f32) (hA : Finite.Real A) (hW : Finite.Real W)
    (p : Fin 4096) (j : Fin 2816) (g u : Fin 5632) (hg : (g : ℕ) = j) (hu : (u : ℕ) = 2816 + j) :
    GU A W (ix2 p g) * sigK (GU A W (ix2 p g)) * GU A W (ix2 p u) = REF0 A W (ix2 p j) := by
  rw [ref_act A W p j g u hg hu]
  obtain ⟨r, e⟩ := gu_real A W hA hW p g
  rw [e, sigK_coe]

theorem gate_eq (A : FVec Ideal S4096x1024 .f32) (W : FVec Ideal S1024x5632 .f32) (hA : Finite.Real A) (hW : Finite.Real W)
    (p : Fin 4096) (q u : Fin 5632) (hq : (q : ℕ) < 2816) (hu : (u : ℕ) = 2816 + q) :
    GU A W (ix2 p u) * (sigK (GU A W (ix2 p q)) + GU A W (ix2 p q) * sigK (GU A W (ix2 p q)) * (1 - sigK (GU A W (ix2 p q))))
      = REF1 A W (ix2 p q) := by
  unfold REF1
  rw [part_gate (GU A W) p q ⟨q, hq⟩ u rfl hu]
  obtain ⟨r, e⟩ := gu_real A W hA hW p q
  obtain ⟨v, f⟩ := gu_real A W hA hW p u
  rw [e, f, part_eq]

theorem up_eq (A : FVec Ideal S4096x1024 .f32) (W : FVec Ideal S1024x5632 .f32) (hA : Finite.Real A) (hW : Finite.Real W)
    (p : Fin 4096) (q g : Fin 5632) (hg : (q : ℕ) = 2816 + g) :
    GU A W (ix2 p g) * sigK (GU A W (ix2 p g)) = REF1 A W (ix2 p q) := by
  unfold REF1
  rw [part_up (GU A W) p q ⟨g, by omega⟩ g hg rfl]
  obtain ⟨r, e⟩ := gu_real A W hA hW p g
  rw [e, sigK_coe]

end Cert.FfnUpReferenceIdeal.Fwd

namespace Cert.FfnUpIdeal.Fwd

open Idealize.ShloMosaic Idealize.ShloMosaic.TcCoe Idealize.SL.Sem
open Idealize.ShloMosaic.Pipeline (Dat)
open Cert.FfnUpIdeal Cert.FfnUpIdeal.Gen
open Cert.FfnUpReferenceIdeal.Fwd (GU REF0 REF1 gu_apply act_eq gate_eq up_eq)

variable (m : (ℓ : Loc nD τ sig) → Buf (Elt Ideal) ℓ)

/-- The block each window reads at a grid point. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- The blocks of the inputs, read at an index. -/
theorem read0 (c : Dev nD) (t : Fin cfg0.N) (i : Fin 512) (k : Fin 1024) (p : Fin 4096) (h : (p : ℕ) = t.val * 512 + i) :
    (show FVec Ideal S512x1024 .bf16 from iblk m c 0 t) (ix2 i k) = m ((c : Thread nD τ).loc main_arg0) (ix2 p k) := by
  blk_simp [iblk]
  entry_read
  pointwise
  blk_ext [idx t]

theorem read1 (c : Dev nD) (t : Fin cfg0.N) (q' : Fin 5632) (k : Fin 1024) (q : Fin 5632) (h : (q : ℕ) = q') :
    (show FVec Ideal S5632x1024 .bf16 from iblk m c 1 t) (ix2 q' k) = m ((c : Thread nD τ).loc main_arg1) (ix2 k q) := by
  blk_simp [iblk]
  entry_read
  pointwise
  blk_ext [idx t]

/-- The arguments are finite. -/
def Fin2 : Prop := ∀ c : Dev nD, Finite.Real (show FVec Ideal S4096x1024 .f32 from m ((c : Thread nD τ).loc main_arg0))
  ∧ Finite.Real (show FVec Ideal S1024x5632 .f32 from m ((c : Thread nD τ).loc main_arg1))

/-- The activation after the run is the reference's term of the arguments. -/
theorem final2 (c : Dev nD) (fin : Fin2 m) : (dats m 0 c).arrAt 2 cfg0.N = REF0 (m ((c : Thread nD τ).loc main_arg0)) (m ((c : Thread nD τ).loc main_arg1)) := by
  have N8 : cfg0.N = 8 := N_0
  refine (dats m 0 c).arrAt_eq_of_covers 2 _ (by decide +kernel) fun t fl y => ?_
  have tt : t.val < 8 := lt_of_lt_of_eq t.isLt N8
  have y0 : (y 0 : ℕ) < 512 := (y 0).isLt
  have y1 : (y 1 : ℕ) < 2816 := (y 1).isLt
  obtain ⟨p, ep⟩ : ∃ p : Fin 4096, (p : ℕ) = t.val * 512 + (y 0 : ℕ) := ⟨⟨_, by omega⟩, rfl⟩
  obtain ⟨j, ej⟩ : ∃ j : Fin 2816, (j : ℕ) = (y 1 : ℕ) := ⟨⟨_, y1⟩, rfl⟩
  obtain ⟨g, eg⟩ : ∃ g : Fin 5632, (g : ℕ) = (y 1 : ℕ) := ⟨⟨(y 1 : ℕ), lt_trans y1 (by decide)⟩, rfl⟩
  obtain ⟨u, eu⟩ : ∃ u : Fin 5632, (u : ℕ) = 2816 + (y 1 : ℕ) := ⟨⟨2816 + (y 1 : ℕ), Nat.add_lt_add_left y1 2816⟩, rfl⟩
  have e : ((cfg0.win 2).blk t).view.emb y = (ix2 p j : S4096x2816.Idx) := by
    blk_ext [idx t, ep, ej]
  refine Eq.trans ?_ (congrArg _ e).symm
  have goal := act_eq _ _ (fin c).1 (fin c).2 p j g u (by omega) (by omega)
  refine Eq.trans ?_ goal
  clear goal
  blk_simp
  rw [after0_2]
  frame_out
  canon_tiles x h
  all_goals
    open_payloads
    pointwise
    refine Ideal.mul_congr (Ideal.mul_congr ((Fin.sum_fin_congr fun k => Ideal.mul_congr (read0 m c t _ k p ?_) (read1 m c t _ k g ?_)).trans (gu_apply _ _ p g).symm) (Ideal.add_congr (Ideal.mul_congr rfl (congrArg _ (Ideal.mul_congr rfl ((Fin.sum_fin_congr fun k => Ideal.mul_congr (read0 m c t _ k p ?_) (read1 m c t _ k g ?_)).trans (gu_apply _ _ p g).symm)))) rfl)) ((Fin.sum_fin_congr fun k => Ideal.mul_congr (read0 m c t _ k p ?_) (read1 m c t _ k u ?_)).trans (gu_apply _ _ p u).symm)
  all_goals (try dsimp only) <;> omega

set_option maxHeartbeats 1600000 in
/-- The saved derivatives after the run are the reference's term of the arguments. -/
theorem final3 (c : Dev nD) (fin : Fin2 m) : (dats m 0 c).arrAt 3 cfg0.N = REF1 (m ((c : Thread nD τ).loc main_arg0)) (m ((c : Thread nD τ).loc main_arg1)) := by
  have N8 : cfg0.N = 8 := N_0
  refine (dats m 0 c).arrAt_eq_of_covers 3 _ (by decide +kernel) fun t fl y => ?_
  have tt : t.val < 8 := lt_of_lt_of_eq t.isLt N8
  have y0 : (y 0 : ℕ) < 512 := (y 0).isLt
  have y1 : (y 1 : ℕ) < 5632 := (y 1).isLt
  obtain ⟨p, ep⟩ : ∃ p : Fin 4096, (p : ℕ) = t.val * 512 + (y 0 : ℕ) := ⟨⟨_, by omega⟩, rfl⟩
  obtain ⟨q, eq⟩ : ∃ q : Fin 5632, (q : ℕ) = (y 1 : ℕ) := ⟨⟨_, y1⟩, rfl⟩
  have e : ((cfg0.win 3).blk t).view.emb y = (ix2 p q : S4096x5632.Idx) := by
    blk_ext [idx t, ep, eq]
  refine Eq.trans ?_ (congrArg _ e).symm
  obtain ⟨o, lo, hi⟩ : ∃ o : Fin 5632, ((q : ℕ) < 2816 → (o : ℕ) = 2816 + q) ∧ (2816 ≤ (q : ℕ) → (q : ℕ) = 2816 + o) := by
    by_cases l : (q : ℕ) < 2816
    · exact ⟨⟨2816 + q, Nat.add_lt_add_left l 2816⟩, by dsimp only; omega, by dsimp only; omega⟩
    · exact ⟨⟨q - 2816, by omega⟩, by dsimp only; omega, by dsimp only; omega⟩
  have gate := fun l : (q : ℕ) < 2816 => gate_eq _ _ (fin c).1 (fin c).2 p q o l (lo l)
  have up := fun l : 2816 ≤ (q : ℕ) => up_eq _ _ (fin c).1 (fin c).2 p q o (hi l)
  blk_simp
  rw [after0_3]
  frame_out
  canon_tiles x h
  all_goals
    open_payloads
    pointwise
    first
      | refine Eq.trans (Ideal.mul_congr ((Fin.sum_fin_congr fun k => Ideal.mul_congr (read0 m c t _ k p ?_) (read1 m c t _ k o ?_)).trans (gu_apply _ _ p o).symm) (Ideal.add_congr (Ideal.add_congr (Ideal.mul_congr rfl (congrArg _ (Ideal.mul_congr rfl ((Fin.sum_fin_congr fun k => Ideal.mul_congr (read0 m c t _ k p ?_) (read1 m c t _ k q ?_)).trans (gu_apply _ _ p q).symm)))) rfl) (Ideal.mul_congr (Ideal.mul_congr ((Fin.sum_fin_congr fun k => Ideal.mul_congr (read0 m c t _ k p ?_) (read1 m c t _ k q ?_)).trans (gu_apply _ _ p q).symm) (Ideal.add_congr (Ideal.mul_congr rfl (congrArg _ (Ideal.mul_congr rfl ((Fin.sum_fin_congr fun k => Ideal.mul_congr (read0 m c t _ k p ?_) (read1 m c t _ k q ?_)).trans (gu_apply _ _ p q).symm)))) rfl)) (congrArg _ (Ideal.add_congr (Ideal.mul_congr rfl (congrArg _ (Ideal.mul_congr rfl ((Fin.sum_fin_congr fun k => Ideal.mul_congr (read0 m c t _ k p ?_) (read1 m c t _ k q ?_)).trans (gu_apply _ _ p q).symm)))) rfl))))) (gate ?_)
      | refine Eq.trans (Ideal.mul_congr ((Fin.sum_fin_congr fun k => Ideal.mul_congr (read0 m c t _ k p ?_) (read1 m c t _ k o ?_)).trans (gu_apply _ _ p o).symm) (Ideal.add_congr (Ideal.mul_congr rfl (congrArg _ (Ideal.mul_congr rfl ((Fin.sum_fin_congr fun k => Ideal.mul_congr (read0 m c t _ k p ?_) (read1 m c t _ k o ?_)).trans (gu_apply _ _ p o).symm)))) rfl)) (up ?_)
  all_goals (try dsimp only) <;> omega

/-- What the precondition says of the arguments. -/
theorem finite (h : Cert.Pre_FfnUpIdeal_finite_ffn_up m) : Fin2 m := fun c => by
  have e := congrFun (h c) ix0
  obtain ⟨e0, e1⟩ := Finite.and_split e
  exact ⟨Finite.real_of_all _ _ (Finite.inf_apply _ _) _ _ _ _ e0, Finite.real_of_all _ _ (Finite.inf_apply _ _) _ _ _ _ e1⟩

/-- The run of the kernel: the results are the reference's terms, the arguments are unchanged. -/
theorem run (ρ : Dev nD → PrngReg) (h_pre : Fin2 m) :
    θ_run defs (onTc (τ := τ) (main (F := Ideal))) ⟨m, fun _ => 0, ρ⟩ fun r => ∀ c : Dev nD,
      r.2.mem ((c : Thread nD τ).loc main_v3_0) = REF0 (m ((c : Thread nD τ).loc main_arg0)) (m ((c : Thread nD τ).loc main_arg1))
      ∧ r.2.mem ((c : Thread nD τ).loc main_v3_1) = REF1 (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final2 m c h_pre), (h c).2.1.trans (final3 m c h_pre), (h c).2.2⟩) (Value.run_blocks m ρ)

end Cert.FfnUpIdeal.Fwd

namespace Cert.Proof

open Idealize.ShloMosaic Idealize.SL.Sem

/-- The reference runs to its end and leaves its arguments as they were. -/
theorem quiescent_FfnUpReferenceIdeal : quiescent_FfnUpReferenceIdeal := fun m ρ _ =>
  (θ_run Cert.FfnUpReferenceIdeal.defs _ _).mono
    (fun r h => ⟨fun c => (h c).2.2, sem_eq_zero_of_no_sems (by decide) r.2⟩)
    (Cert.FfnUpReferenceIdeal.Value.run (F := Ideal) m ρ)

/-- Of finite arguments kernel and reference end with the same activation and the same saved derivatives. -/
theorem algebraic_FfnUp : algebraic_FfnUpIdeal_FfnUpReferenceIdeal_pre_finite_ffn_up := by
  intro m ρ m' ρ' h_pre hagree
  refine ⟨_, _, Cert.FfnUpIdeal.Fwd.run m ρ (Cert.FfnUpIdeal.Fwd.finite m h_pre), ?_⟩
  refine (θ_run Cert.FfnUpReferenceIdeal.defs _ _).mono (fun _ h c => ⟨?_, ?_, (h c).2.2⟩)
    (Cert.FfnUpReferenceIdeal.Value.run (F := Ideal) m' ρ')
  · rw [(h c).1]
    show Cert.FfnUpReferenceIdeal.Fwd.REF0 (m' ((c.tc : Thread Cert.FfnUpReferenceIdeal.nD Cert.FfnUpReferenceIdeal.τ).loc Cert.FfnUpReferenceIdeal.main_arg0)) (m' ((c.tc : Thread Cert.FfnUpReferenceIdeal.nD Cert.FfnUpReferenceIdeal.τ).loc Cert.FfnUpReferenceIdeal.main_arg1)) = _
    simp only [hagree c]
  · rw [(h c).2.1]
    show Cert.FfnUpReferenceIdeal.Fwd.REF1 (m' ((c.tc : Thread Cert.FfnUpReferenceIdeal.nD Cert.FfnUpReferenceIdeal.τ).loc Cert.FfnUpReferenceIdeal.main_arg0)) (m' ((c.tc : Thread Cert.FfnUpReferenceIdeal.nD Cert.FfnUpReferenceIdeal.τ).loc Cert.FfnUpReferenceIdeal.main_arg1)) = _
    simp only [hagree c]

end Cert.Proof

end
-- ==== Proof.FfnDact.lean ====
module

public import proofs.«01_k».proof.Defs
public import proofs.«01_k».proof.Proof.Gen.FfnDactIdeal.Value
public import proofs.«01_k».proof.Proof.Gen.FfnDactReferenceIdeal.Run
public import proofs.«01_k».proof.Proof.Blocks
public import proofs.«01_k».proof.Proof.Finite
public import proofs.«01_k».proof.Proof.Swiglu
public import proofs.«01_k».proof.Proof.Gen.Pre_finite_ffn_dact
public import Idealize.ShloMosaic.Lib.Pipeline.ValueKit
public import Idealize.ShloMosaic.Lib.Quiescent

@[expose] public section

set_option maxRecDepth 16384

noncomputable section

namespace Cert.FfnDactReferenceIdeal.Bwd

open Idealize.ShloMosaic Idealize.ShloMosaic.TcCoe Idealize.SL.Sem
open Cert.FfnDactReferenceIdeal Cert.FfnDactReferenceIdeal.Gen Cert.Swiglu

/-- The gate half and the linear half of the layer's first product. -/
def GATE (G : FVec Ideal S4096x5632 .f32) : FVec Ideal S4096x2816 .f32 :=
  extractStridedSlice S4096x2816 ![0, 0] G slices_S4096x5632_S4096x2816_0_0

def UP (G : FVec Ideal S4096x5632 .f32) : FVec Ideal S4096x2816 .f32 :=
  extractStridedSlice S4096x2816 ![0, 2816] G slices_S4096x5632_S4096x2816_0_2816

/-- The logistic function of the gate half. -/
def SIG (G : FVec Ideal S4096x5632 .f32) : FVec Ideal S4096x2816 .f32 :=
  Host.divf (broadcastInDim S4096x2816 ![] bcast_S_S4096x2816 (constant S_ .f32 0x3F800000#32)) (addf (broadcastInDim S4096x2816 ![] bcast_S_S4096x2816 (constant S_ .f32 0x3F800000#32)) (Host.exp (Host.negf (GATE G))))

/-- The cotangent of the activation. -/
def DACT (W : FVec Ideal S2816x1024 .f32) (D : FVec Ideal S4096x1024 .f32) : FVec Ideal S4096x2816 .f32 :=
  Host.dotGeneral dot_S4096x1024_S2816x1024_S4096x2816_1_1_0_0_n_n none D W

/-- The reference's result as one term. -/
def REF (G : FVec Ideal S4096x5632 .f32) (W : FVec Ideal S2816x1024 .f32) (D : FVec Ideal S4096x1024 .f32) : FVec Ideal S4096x5632 .bf16 :=
  truncf .bf16 (concatenate S4096x5632 1 [⟨S4096x2816, (addf (mulf (mulf (DACT W D) (UP G)) (SIG G)) (mulf (mulf (GATE G) (mulf (DACT W D) (UP G))) (mulf (SIG G) (subf (broadcastInDim S4096x2816 ![] bcast_S_S4096x2816 (constant S_ .f32 0x3F800000#32)) (SIG G)))))⟩, ⟨S4096x2816, (mulf (mulf (GATE G) (SIG G)) (DACT W D))⟩] concatenates_S4096x2816_S4096x2816_S4096x5632_d1) bitsLt_bf16_f32

/-- The derivatives of the activation that the forward pass saves, as one term. -/
def PART (G : FVec Ideal S4096x5632 .f32) : FVec Ideal S4096x5632 .bf16 :=
  truncf .bf16 (concatenate S4096x5632 1 [⟨S4096x2816, (addf (mulf (mulf (broadcastInDim S4096x2816 ![] bcast_S_S4096x2816 (constant S_ .f32 0x3F800000#32)) (UP G)) (SIG G)) (mulf (mulf (GATE G) (mulf (broadcastInDim S4096x2816 ![] bcast_S_S4096x2816 (constant S_ .f32 0x3F800000#32)) (UP G))) (mulf (SIG G) (subf (broadcastInDim S4096x2816 ![] bcast_S_S4096x2816 (constant S_ .f32 0x3F800000#32)) (SIG G)))))⟩, ⟨S4096x2816, (mulf (mulf (GATE G) (SIG G)) (broadcastInDim S4096x2816 ![] bcast_S_S4096x2816 (constant S_ .f32 0x3F800000#32)))⟩] concatenates_S4096x2816_S4096x2816_S4096x5632_d1) bitsLt_bf16_f32

/-- The saved derivative by the gate, at an index. -/
theorem part_gate (G : FVec Ideal S4096x5632 .f32) (p : Fin 4096) (q : Fin 5632) (j : Fin 2816) (u : Fin 5632) (hj : (j : ℕ) = q)
    (hu : (u : ℕ) = 2816 + j) : PART G (ix2 p q) = partGate (G (ix2 p q)) (G (ix2 p u)) := by
  have hq : (q : ℕ) < 2816 := by omega
  obtain rfl : u = ⟨2816 + q, Nat.add_lt_add_left hq 2816⟩ := Fin.ext (by dsimp only; omega)
  pointwise [PART, GATE, UP, SIG, partGate, Swiglu.sig, hq]

/-- The saved derivative by the linear half, at an index. -/
theorem part_up (G : FVec Ideal S4096x5632 .f32) (p : Fin 4096) (q : Fin 5632) (j : Fin 2816) (g : Fin 5632) (hj : (q : ℕ) = 2816 + j)
    (hg : (g : ℕ) = j) : PART G (ix2 p q) = G (ix2 p g) * Swiglu.sig (G (ix2 p g)) := by
  have hq : ¬ (q : ℕ) < 2816 := by omega
  obtain rfl : g = ⟨q - 2816, lt_of_le_of_lt (Nat.sub_le _ _) q.isLt⟩ := Fin.ext (by dsimp only; omega)
  pointwise [PART, GATE, UP, SIG, Swiglu.sig, hq]

/-- The cotangent of the gate half, at an index. -/
theorem ref_gate (G : FVec Ideal S4096x5632 .f32) (W : FVec Ideal S2816x1024 .f32) (D : FVec Ideal S4096x1024 .f32)
    (p : Fin 4096) (q : Fin 5632) (j : Fin 2816) (u : Fin 5632) (hj : (j : ℕ) = q) (hu : (u : ℕ) = 2816 + j) :
    REF G W D (ix2 p q) = gradGate (DACT W D (ix2 p j)) (G (ix2 p q)) (G (ix2 p u)) := by
  have hq : (q : ℕ) < 2816 := by omega
  obtain rfl : u = ⟨2816 + q, Nat.add_lt_add_left hq 2816⟩ := Fin.ext (by dsimp only; omega)
  obtain rfl : j = ⟨q, hq⟩ := Fin.ext hj
  pointwise [REF, GATE, UP, SIG, gradGate, Swiglu.sig, hq]

/-- The cotangent of the linear half, at an index. -/
theorem ref_up (G : FVec Ideal S4096x5632 .f32) (W : FVec Ideal S2816x1024 .f32) (D : FVec Ideal S4096x1024 .f32)
    (p : Fin 4096) (q : Fin 5632) (j : Fin 2816) (g : Fin 5632) (hj : (q : ℕ) = 2816 + j) (hg : (g : ℕ) = j) :
    REF G W D (ix2 p q) = G (ix2 p g) * Swiglu.sig (G (ix2 p g)) * DACT W D (ix2 p j) := by
  have hq : ¬ (q : ℕ) < 2816 := by omega
  obtain rfl : g = ⟨q - 2816, lt_of_le_of_lt (Nat.sub_le _ _) q.isLt⟩ := Fin.ext (by dsimp only; omega)
  obtain rfl : j = ⟨q - 2816, by clear hj hg; omega⟩ := Fin.ext (by dsimp only; omega)
  pointwise [REF, GATE, UP, SIG, Swiglu.sig, hq]

/-- The cotangent of the activation, at an index. -/
theorem dact_apply (W : FVec Ideal S2816x1024 .f32) (D : FVec Ideal S4096x1024 .f32) (p : Fin 4096) (j : Fin 2816) :
    DACT W D (ix2 p j) = ∑ k : Fin 1024, D (ix2 p k) * W (ix2 j k) := by
  pointwise [DACT]

/-- Of finite arrays the cotangent of the activation is real. -/
theorem dact_real (W : FVec Ideal S2816x1024 .f32) (D : FVec Ideal S4096x1024 .f32) (hW : Finite.Real W) (hD : Finite.Real D)
    (p : Fin 4096) (j : Fin 2816) : ∃ r : ℝ, DACT W D (ix2 p j) = (r : EReal) := by
  choose w hw using hW
  choose d hd using hD
  refine ⟨∑ k : Fin 1024, d (ix2 p k) * w (ix2 j k), ?_⟩
  rw [dact_apply, ← Finite.coe_sum]
  exact Finset.sum_congr rfl fun k _ => by rw [hw, hd, EReal.coe_mul]

/-- Of finite arrays the activation's cotangent times the saved derivative is the reference's result. -/
theorem gate_eq (G : FVec Ideal S4096x5632 .f32) (W : FVec Ideal S2816x1024 .f32) (D : FVec Ideal S4096x1024 .f32)
    (hG : Finite.Real G) (hW : Finite.Real W) (hD : Finite.Real D) (p : Fin 4096) (q : Fin 5632) (j : Fin 2816) (hj : (j : ℕ) = q) :
    DACT W D (ix2 p j) * PART G (ix2 p q) = REF G W D (ix2 p q) := by
  obtain ⟨u, hu⟩ : ∃ u : Fin 5632, (u : ℕ) = 2816 + j := ⟨⟨2816 + j.val, Nat.add_lt_add_left j.isLt 2816⟩, rfl⟩
  rw [part_gate G p q j u hj hu, ref_gate G W D p q j u hj hu]
  obtain ⟨d, hd⟩ := dact_real W D hW hD p j
  obtain ⟨g, hg⟩ := hG (ix2 p q)
  obtain ⟨v, hv⟩ := hG (ix2 p u)
  rw [hd, hg, hv]
  exact grad_eq d g v

theorem up_eq (G : FVec Ideal S4096x5632 .f32) (W : FVec Ideal S2816x1024 .f32) (D : FVec Ideal S4096x1024 .f32)
    (p : Fin 4096) (q : Fin 5632) (j : Fin 2816) (hj : (q : ℕ) = 2816 + j) :
    DACT W D (ix2 p j) * PART G (ix2 p q) = REF G W D (ix2 p q) := by
  obtain ⟨g, hg⟩ : ∃ g : Fin 5632, (g : ℕ) = j := ⟨⟨j.val, by omega⟩, rfl⟩
  rw [part_up G p q j g hj hg, ref_up G W D p q j g hj hg]
  exact EReal.mul_comm _ _

end Cert.FfnDactReferenceIdeal.Bwd

namespace Cert.FfnDactIdeal.Bwd

open Idealize.ShloMosaic Idealize.ShloMosaic.TcCoe Idealize.SL.Sem
open Idealize.ShloMosaic.Pipeline (Dat)
open Cert.FfnDactIdeal Cert.FfnDactIdeal.Gen
open Cert.FfnDactReferenceIdeal.Bwd (DACT PART REF dact_apply gate_eq up_eq)

variable (m : (ℓ : Loc nD τ sig) → Buf (Elt Ideal) ℓ)

/-- The block each window reads at a grid point. -/
theorem idx : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- The saved derivatives that the host hands to the kernel. -/
theorem part (c : Dev nD) : V m c main_v11 = PART (m ((c : Thread nD τ).loc main_arg0)) := by
  show StableHlo.after [hostOps0, hostOps0_1, hostOps0_2, hostOps0_3, hostOps0_4].flatten (fun b => m (c, b))
      (Proc.tc.devRef main_v11) = _
  simp only [hostOps0, hostOps0_1, hostOps0_2, hostOps0_3, hostOps0_4, List.flatten_cons, List.flatten_nil, List.append_nil, List.cons_append,
    List.nil_append, StableHlo.TRef.binary, StableHlo.TRef.nullary, StableHlo.TRef.unary, StableHlo.TRef.toBuf, StableHlo.TRef.ofBuf, cast_eq]
  after_results
  rfl

/-- The blocks of the inputs, read at an index. -/
theorem read0 (c : Dev nD) (t : Fin cfg0.N) (i : Fin 512) (k : Fin 1024) (p : Fin 4096) (h : (p : ℕ) = t.val * 512 + i) :
    (show FVec Ideal S512x1024 .bf16 from iblk m c 0 t) (ix2 i k) = m ((c : Thread nD τ).loc main_arg2) (ix2 p k) := by
  blk_simp [iblk]
  entry_read
  pointwise
  blk_ext [idx t]

theorem read1 (c : Dev nD) (t : Fin cfg0.N) (j' : Fin 2816) (k : Fin 1024) (j : Fin 2816) (h : (j : ℕ) = j') :
    (show FVec Ideal S2816x1024 .bf16 from iblk m c 1 t) (ix2 j' k) = m ((c : Thread nD τ).loc main_arg1) (ix2 j k) := by
  blk_simp [iblk]
  entry_read
  pointwise
  blk_ext [idx t]

theorem read2 (c : Dev nD) (t : Fin cfg0.N) (i : Fin 512) (q' : Fin 5632) (p : Fin 4096) (q : Fin 5632)
    (h : (p : ℕ) = t.val * 512 + i) (hq : (q : ℕ) = q') :
    (show FVec Ideal S512x5632 .bf16 from iblk m c 2 t) (ix2 i q') = PART (m ((c : Thread nD τ).loc main_arg0)) (ix2 p q) := by
  rw [← part]
  blk_ext [iblk, idx t]

/-- The arguments are finite. -/
def Fin3 : Prop := ∀ c : Dev nD, Finite.Real (show FVec Ideal S4096x5632 .f32 from m ((c : Thread nD τ).loc main_arg0))
  ∧ Finite.Real (show FVec Ideal S2816x1024 .f32 from m ((c : Thread nD τ).loc main_arg1))
  ∧ Finite.Real (show FVec Ideal S4096x1024 .f32 from m ((c : Thread nD τ).loc main_arg2))

/-- The result array after the run is the reference's term of the arguments. -/
theorem final (c : Dev nD) (fin : Fin3 m) : (dats m 0 c).arrAt 3 cfg0.N
    = REF (m ((c : Thread nD τ).loc main_arg0)) (m ((c : Thread nD τ).loc main_arg1)) (m ((c : Thread nD τ).loc main_arg2)) := by
  have N8 : cfg0.N = 8 := N_0
  refine (dats m 0 c).arrAt_eq_of_covers 3 _ (by decide +kernel) fun t fl y => ?_
  have tt : t.val < 8 := lt_of_lt_of_eq t.isLt N8
  have y0 : (y 0 : ℕ) < 512 := (y 0).isLt
  have y1 : (y 1 : ℕ) < 5632 := (y 1).isLt
  obtain ⟨p, ep⟩ : ∃ p : Fin 4096, (p : ℕ) = t.val * 512 + (y 0 : ℕ) := ⟨⟨_, by omega⟩, rfl⟩
  obtain ⟨q, eq⟩ : ∃ q : Fin 5632, (q : ℕ) = (y 1 : ℕ) := ⟨⟨_, y1⟩, rfl⟩
  have e : ((cfg0.win 3).blk t).view.emb y = (ix2 p q : S4096x5632.Idx) := by
    blk_ext [idx t, ep, eq]
  refine Eq.trans ?_ (congrArg _ e).symm
  obtain ⟨j, ej, goal⟩ : ∃ j : Fin 2816, ((j : ℕ) = q ∨ (q : ℕ) = 2816 + j) ∧
      DACT (m ((c : Thread nD τ).loc main_arg1)) (m ((c : Thread nD τ).loc main_arg2)) (ix2 p j)
        * PART (m ((c : Thread nD τ).loc main_arg0)) (ix2 p q)
      = REF (m ((c : Thread nD τ).loc main_arg0)) (m ((c : Thread nD τ).loc main_arg1)) (m ((c : Thread nD τ).loc main_arg2)) (ix2 p q) := by
    obtain ⟨f0, f1, f2⟩ := fin c
    by_cases l : (q : ℕ) < 2816
    · exact ⟨⟨q, l⟩, .inl rfl, gate_eq _ _ _ f0 f1 f2 p q _ rfl⟩
    · exact ⟨⟨q - 2816, by omega⟩, .inr (by dsimp only; omega), up_eq _ _ _ p q _ (by dsimp only; omega)⟩
  refine Eq.trans ?_ goal
  clear goal
  blk_simp
  rw [after0_3]
  frame_out
  canon_tiles x h
  all_goals
    open_payloads
    pointwise
    refine Ideal.mul_congr ((Fin.sum_fin_congr fun k => Ideal.mul_congr (read0 m c t _ k p ?_) (read1 m c t _ k j ?_)).trans
      (dact_apply _ _ p j).symm) (read2 m c t _ _ p q ?_ ?_)
  all_goals (try dsimp only) <;> omega

/-- What the precondition says of the arguments. -/
theorem finite (h : Cert.Pre_FfnDactIdeal_finite_ffn_dact m) : Fin3 m := fun c => by
  have e := congrFun (h c) ix0
  obtain ⟨e, e2⟩ := Finite.and_split e
  obtain ⟨e0, e1⟩ := Finite.and_split e
  exact ⟨Finite.real_of_all _ _ (Finite.inf_apply _ _) _ _ _ _ e0, Finite.real_of_all _ _ (Finite.inf_apply _ _) _ _ _ _ e1,
    Finite.real_of_all _ _ (Finite.inf_apply _ _) _ _ _ _ e2⟩

/-- The run of the kernel: the results are the reference's terms, the arguments are unchanged. -/
theorem run (ρ : Dev nD → PrngReg) (h_pre : Fin3 m) :
    θ_run defs (onTc (τ := τ) (main (F := Ideal))) ⟨m, fun _ => 0, ρ⟩ fun r => ∀ c : Dev nD,
      r.2.mem ((c : Thread nD τ).loc main_v12) = REF (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c h_pre), (h c).2⟩) (Value.run_blocks m ρ)

end Cert.FfnDactIdeal.Bwd

namespace Cert.Proof

open Idealize.ShloMosaic Idealize.SL.Sem

/-- The reference runs to its end and leaves its arguments as they were. -/
theorem quiescent_FfnDactReferenceIdeal : quiescent_FfnDactReferenceIdeal := fun m ρ _ =>
  (θ_run Cert.FfnDactReferenceIdeal.defs _ _).mono
    (fun r h => ⟨fun c => (h c).2, sem_eq_zero_of_no_sems (by decide) r.2⟩)
    (Cert.FfnDactReferenceIdeal.Value.run (F := Ideal) m ρ)

/-- Of finite arguments kernel and reference end with the same cotangent. -/
theorem algebraic_FfnDact : algebraic_FfnDactIdeal_FfnDactReferenceIdeal_pre_finite_ffn_dact := by
  intro m ρ m' ρ' h_pre hagree
  refine ⟨_, Cert.FfnDactIdeal.Bwd.run m ρ (Cert.FfnDactIdeal.Bwd.finite m h_pre), ?_⟩
  refine (θ_run Cert.FfnDactReferenceIdeal.defs _ _).mono (fun _ h c => ⟨?_, (h c).2⟩)
    (Cert.FfnDactReferenceIdeal.Value.run (F := Ideal) m' ρ')
  · rw [(h c).1]
    show Cert.FfnDactReferenceIdeal.Bwd.REF (m' ((c.tc : Thread Cert.FfnDactReferenceIdeal.nD Cert.FfnDactReferenceIdeal.τ).loc Cert.FfnDactReferenceIdeal.main_arg0)) (m' ((c.tc : Thread Cert.FfnDactReferenceIdeal.nD Cert.FfnDactReferenceIdeal.τ).loc Cert.FfnDactReferenceIdeal.main_arg1)) (m' ((c.tc : Thread Cert.FfnDactReferenceIdeal.nD Cert.FfnDactReferenceIdeal.τ).loc Cert.FfnDactReferenceIdeal.main_arg2)) = _
    simp only [hagree c]

end Cert.Proof

end
-- ==== Proof.Norm.lean ====
module

public import proofs.«01_k».proof.Proof.Finite
public import Idealize.ShloMosaic.Lib.Pipeline.ValueKit

@[expose] public section

noncomputable section

namespace Cert.Norm

open Idealize.ShloMosaic

/-- The mean square of a row plus the norm's small constant. -/
def ms (x : Fin 1024 → EReal) : EReal := Ideal.div (∑ k, x k * x k) (Ideal.ofBits .f32 0x44800000#32) + Ideal.ofBits .f32 0x358637BD#32

/-- The gradient of the norm of a row, as the kernel computes it. -/
def krow (x g d : Fin 1024 → EReal) (q : Fin 1024) : EReal :=
  Ideal.rsqrt (ms x) * (d q * g q - x q * Ideal.rsqrt (ms x)
    * Ideal.div (∑ k, d k * g k * (x k * Ideal.rsqrt (ms x))) (Ideal.ofBits .f32 0x44800000#32))

/-- The cotangent that reaches the mean square, over the row's length. -/
def crow (x g d : Fin 1024 → EReal) : EReal :=
  Ideal.div ((∑ k, x k * (d k * g k)) * (Ideal.ofBits .f32 0xBF000000#32 * Ideal.div (Ideal.rsqrt (ms x)) (ms x)))
    (Ideal.ofBits .f32 0x44800000#32)

/-- The gradient of the norm of a row, as the reference computes it. -/
def rrow (x g d : Fin 1024 → EReal) (q : Fin 1024) : EReal :=
  d q * g q * Ideal.rsqrt (ms x) + x q * crow x g d + crow x g d * x q

theorem width : Ideal.ofBits .f32 0x44800000#32 = ((1024 : ℝ) : EReal) := by
  simp [Ideal.ofBits, Ideal.ieee, -EReal.coe_mul]; norm_num

theorem neg_half : Ideal.ofBits .f32 0xBF000000#32 = ((-(1 / 2) : ℝ) : EReal) := by
  simp [Ideal.ofBits, Ideal.ieee, -EReal.coe_mul]; norm_num

theorem eps : ∃ e : ℝ, 0 < e ∧ Ideal.ofBits .f32 0x358637BD#32 = (e : EReal) := by
  refine ⟨(8796093 / 8796093022208 : ℝ), by norm_num, ?_⟩
  simp [Ideal.ofBits, Ideal.ieee, -EReal.coe_mul]; norm_num

/-- The mean square of a real row is a positive real number. -/
theorem ms_coe (x : Fin 1024 → ℝ) : ∃ s : ℝ, 0 < s ∧ ms (fun k => (x k : EReal)) = (s : EReal) := by
  obtain ⟨e, he, h⟩ := eps
  refine ⟨(∑ k, x k * x k) * (1 / 1024) + e, ?_, ?_⟩
  · have : 0 ≤ ∑ k, x k * x k := Finset.sum_nonneg fun k _ => mul_self_nonneg _
    positivity
  · unfold ms
    rw [h, width, Ideal.div_coe (by norm_num : (1024 : ℝ) ≠ 0)]
    simp only [← EReal.coe_mul, Finite.coe_sum, ← EReal.coe_add]

theorem rsqrt_pos {s : ℝ} (h : 0 < s) : Ideal.rsqrt (s : EReal) = (((√s)⁻¹ : ℝ) : EReal) := by
  rw [Ideal.rsqrt_coe, if_neg (not_lt.mpr h.le), if_neg h.ne']

/-- A row of real numbers. -/
def RealRow (x : Fin 1024 → EReal) : Prop := ∀ k, ∃ r : ℝ, x k = (r : EReal)

theorem row_coe {x : Fin 1024 → EReal} (h : RealRow x) : ∃ f : Fin 1024 → ℝ, x = fun k => (f k : EReal) := by
  choose f hf using h
  exact ⟨f, funext hf⟩

/-- On real rows the kernel's gradient of the norm is the reference's. -/
theorem krow_eq {x g d : Fin 1024 → EReal} (hx : RealRow x) (hg : RealRow g) (hd : RealRow d) (q : Fin 1024) :
    krow x g d q = rrow x g d q := by
  obtain ⟨x, rfl⟩ := row_coe hx
  obtain ⟨g, rfl⟩ := row_coe hg
  obtain ⟨d, rfl⟩ := row_coe hd
  obtain ⟨s, hs, e⟩ := ms_coe x
  have hr : √s ≠ 0 := (Real.sqrt_pos.mpr hs).ne'
  have hq : s = √s * √s := (Real.mul_self_sqrt hs.le).symm
  unfold krow rrow crow
  rw [e, rsqrt_pos hs, width, neg_half, Ideal.div_coe hs.ne']
  simp only [Ideal.div_coe (by norm_num : (1024 : ℝ) ≠ 0), ← EReal.coe_mul, Finite.coe_sum, ← EReal.coe_add, ← EReal.coe_sub]
  congr 1
  have f : ∑ k, d k * g k * (x k * (√s)⁻¹) = (∑ k, x k * (d k * g k)) * (√s)⁻¹ := by
    rw [Finset.sum_mul]
    exact Finset.sum_congr rfl fun k _ => by ring
  rw [f]
  generalize (∑ k, x k * (d k * g k)) = S
  generalize √s = r at *
  subst hq
  field_simp
  ring

/-- On real rows the gradient of the norm is real. -/
theorem rrow_real {x g d : Fin 1024 → EReal} (hx : RealRow x) (hg : RealRow g) (hd : RealRow d) : RealRow (rrow x g d) := by
  obtain ⟨x, rfl⟩ := row_coe hx
  obtain ⟨g, rfl⟩ := row_coe hg
  obtain ⟨d, rfl⟩ := row_coe hd
  obtain ⟨s, hs, e⟩ := ms_coe x
  intro q
  unfold rrow crow
  rw [e, rsqrt_pos hs, width, neg_half, Ideal.div_coe hs.ne']
  simp only [Ideal.div_coe (by norm_num : (1024 : ℝ) ≠ 0), ← EReal.coe_mul, Finite.coe_sum, ← EReal.coe_add, ← EReal.coe_sub]
  exact ⟨_, rfl⟩

/-- The norm of a real row, times a real gain. -/
theorem norm_real {x g : Fin 1024 → EReal} (hx : RealRow x) (hg : RealRow g) : RealRow fun k => x k * Ideal.rsqrt (ms x) * g k := by
  obtain ⟨x, rfl⟩ := row_coe hx
  obtain ⟨g, rfl⟩ := row_coe hg
  obtain ⟨s, hs, e⟩ := ms_coe x
  intro q
  rw [e, rsqrt_pos hs]
  simp only [← EReal.coe_mul]
  exact ⟨_, rfl⟩

end Cert.Norm

end
-- ==== Proof.FfnDx.lean ====
module

public import proofs.«01_k».proof.Defs
public import proofs.«01_k».proof.Proof.Gen.FfnDxIdeal.Value
public import proofs.«01_k».proof.Proof.Gen.FfnDxReferenceIdeal.Run
public import proofs.«01_k».proof.Proof.Blocks
public import proofs.«01_k».proof.Proof.Finite
public import proofs.«01_k».proof.Proof.Norm
public import proofs.«01_k».proof.Proof.Gen.Pre_finite_ffn_dx
public import Idealize.ShloMosaic.Lib.Pipeline.ValueKit
public import Idealize.ShloMosaic.Lib.Quiescent

@[expose] public section

set_option maxRecDepth 16384

noncomputable section

namespace Cert.FfnDxReferenceIdeal.Bwd

open Idealize.ShloMosaic Idealize.ShloMosaic.TcCoe Idealize.SL.Sem
open Cert.FfnDxReferenceIdeal Cert.FfnDxReferenceIdeal.Gen Cert.Norm

/-- The mean square of every row plus the norm's small constant. -/
def MS (X : FVec Ideal S4096x1024 .f32) : FVec Ideal S4096x1 .f32 :=
  addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The inverse root mean square of every row, at every column. -/
def RT (X : FVec Ideal S4096x1024 .f32) : FVec Ideal S4096x1024 .f32 :=
  broadcastInDim S4096x1024 ![0, 1] bcast_S4096x1_S4096x1024_0_1 (Host.rsqrt (MS X))

/-- A gain at every row. -/
def GAIN (g : FVec Ideal S1024 .f32) : FVec Ideal S4096x1024 .f32 :=
  broadcastInDim S4096x1024 ![0, 1] bcast_S1x1024_S4096x1024_0_1 (broadcastInDim S1x1024 ![1] bcast_S1024_S1x1024_1 g)

/-- The cotangent that reaches the mean squares. -/
def CM (X : FVec Ideal S4096x1024 .f32) (g : FVec Ideal S1024 .f32) (D : FVec Ideal S4096x1024 .f32) : FVec Ideal S4096x1024 .f32 :=
  broadcastInDim S4096x1024 ![0] bcast_S4096_S4096x1024_0 (Host.reduceAdd (Host.divf (mulf (shapeCast _ (Host.reduceAdd (mulf X (mulf D (GAIN g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (MS X)) (MS X)))) (broadcastInDim S4096x1 ![] bcast_S_S4096x1 (constant S_ .f32 0x44800000#32))) (constant S_ .f32 0x00000000#32) reducesTo_S4096x1_S4096_d1 h_S_)

/-- The gradient of the norm by its operand. -/
def DX (X : FVec Ideal S4096x1024 .f32) (g : FVec Ideal S1024 .f32) (D : FVec Ideal S4096x1024 .f32) : FVec Ideal S4096x1024 .f32 :=
  addf (addf (mulf (mulf D (GAIN g)) (RT X)) (mulf X (CM X g D))) (mulf (CM X g D) X)

/-- The gradient of the norm by its gain. -/
def DG (X D : FVec Ideal S4096x1024 .f32) : FVec Ideal S1x1024 .f32 :=
  broadcastInDim S1x1024 ![1] bcast_S1024_S1x1024_1 (Host.reduceAdd (shapeCast _ (Host.reduceAdd (mulf (mulf X (RT X)) D) (constant S_ .f32 0x00000000#32) reducesTo_S4096x1024_S1024_d0 h_S_) shapeCasts_S1024_S1x1024) (constant S_ .f32 0x00000000#32) reducesTo_S1x1024_S1024_d0 h_S_)

/-- A row of an array. -/
def row (X : FVec Ideal S4096x1024 .f32) (p : Fin 4096) : Fin 1024 → EReal := fun k => X (ix2 p k)

def vec (g : FVec Ideal S1024 .f32) : Fin 1024 → EReal := fun k => g (ix1 k)

theorem dx_apply (X : FVec Ideal S4096x1024 .f32) (g : FVec Ideal S1024 .f32) (D : FVec Ideal S4096x1024 .f32) (p : Fin 4096) (q : Fin 1024) :
    DX X g D (ix2 p q) = rrow (row X p) (vec g) (row D p) q := by
  pointwise [DX, CM, RT, MS, GAIN, rrow, crow, ms, row, vec]
  simp only [Finset.univ_unique, Finset.sum_singleton]

theorem dg_apply (X D : FVec Ideal S4096x1024 .f32) (q : Fin 1024) (z : Fin 1) :
    DG X D (ix2 z q) = ∑ p : Fin 4096, X (ix2 p q) * Ideal.rsqrt (ms (row X p)) * D (ix2 p q) := by
  pointwise [DG, RT, MS, ms, row]
  simp only [Finset.univ_unique, Finset.sum_singleton]

/-- The reference's intermediate arrays: the product before the norm, the stream, the cotangent of the normalised stream, the
    cotangent of the stream, and the cotangent of the product. -/
def MIX (a0 : FVec Ideal S4096x1024 .f32) (a1 : FVec Ideal S1024x1024 .f32) : FVec Ideal S4096x1024 .f32 :=
  Host.dotGeneral dot_S4096x1024_S1024x1024_S4096x1024_1_0_0_1_n_n none a0 a1

def H2 (a0 : FVec Ideal S4096x1024 .f32) (a1 : FVec Ideal S1024x1024 .f32) (a2 : FVec Ideal S1024 .f32)
    (a3 : FVec Ideal S4096x1024 .f32) : FVec Ideal S4096x1024 .f32 :=
  addf a3 (mulf (mulf (MIX a0 a1) (RT (MIX a0 a1))) (GAIN a2))

def DHN (a5 : FVec Ideal S1024x5632 .f32) (a7 : FVec Ideal S4096x5632 .f32) : FVec Ideal S4096x1024 .f32 :=
  Host.dotGeneral dot_S4096x5632_S1024x5632_S4096x1024_1_1_0_0_n_n none a7 a5

def DH (h2 : FVec Ideal S4096x1024 .f32) (a4 : FVec Ideal S1024 .f32) (a6 dhn : FVec Ideal S4096x1024 .f32) : FVec Ideal S4096x1024 .f32 :=
  addf a6 (DX h2 a4 dhn)

def PROJ (dm : FVec Ideal S4096x1024 .f32) (a1 : FVec Ideal S1024x1024 .f32) : FVec Ideal S4096x1024 .bf16 :=
  truncf .bf16 (Host.dotGeneral dot_S4096x1024_S1024x1024_S4096x1024_1_1_0_0_n_n none dm a1) bitsLt_bf16_f32

theorem mix_apply (a0 : FVec Ideal S4096x1024 .f32) (a1 : FVec Ideal S1024x1024 .f32) (p : Fin 4096) (q : Fin 1024) :
    MIX a0 a1 (ix2 p q) = ∑ k : Fin 1024, a0 (ix2 p k) * a1 (ix2 k q) := by
  pointwise [MIX]

theorem h2_apply (a0 : FVec Ideal S4096x1024 .f32) (a1 : FVec Ideal S1024x1024 .f32) (a2 : FVec Ideal S1024 .f32)
    (a3 : FVec Ideal S4096x1024 .f32) (p : Fin 4096) (q : Fin 1024) :
    H2 a0 a1 a2 a3 (ix2 p q) = a3 (ix2 p q) + row (MIX a0 a1) p q * Ideal.rsqrt (ms (row (MIX a0 a1) p)) * vec a2 q := by
  unfold H2
  generalize MIX a0 a1 = X
  pointwise [RT, MS, GAIN, row, vec, ms]

theorem dhn_apply (a5 : FVec Ideal S1024x5632 .f32) (a7 : FVec Ideal S4096x5632 .f32) (p : Fin 4096) (q : Fin 1024) :
    DHN a5 a7 (ix2 p q) = ∑ k : Fin 5632, a7 (ix2 p k) * a5 (ix2 q k) := by
  pointwise [DHN]

theorem dh_apply (h2 : FVec Ideal S4096x1024 .f32) (a4 : FVec Ideal S1024 .f32) (a6 dhn : FVec Ideal S4096x1024 .f32)
    (p : Fin 4096) (q : Fin 1024) :
    DH h2 a4 a6 dhn (ix2 p q) = a6 (ix2 p q) + rrow (row h2 p) (vec a4) (row dhn p) q :=
  Ideal.add_congr rfl (dx_apply h2 a4 dhn p q)

theorem proj_apply (dm : FVec Ideal S4096x1024 .f32) (a1 : FVec Ideal S1024x1024 .f32) (p : Fin 4096) (q : Fin 1024) :
    PROJ dm a1 (ix2 p q) = ∑ k : Fin 1024, dm (ix2 p k) * a1 (ix2 q k) := by
  pointwise [PROJ]

/-- A row's share of the gain's gradient, by the row's number. -/
def term (X D : FVec Ideal S4096x1024 .f32) (q : Fin 1024) (n : ℕ) : EReal :=
  if h : n < 4096 then D (ix2 ⟨n, h⟩ q) * (X (ix2 ⟨n, h⟩ q) * Ideal.rsqrt (ms (row X ⟨n, h⟩))) else 0

/-- The gain's gradient is the sum of the rows' shares, block by block. -/
theorem dg_tiles (X D : FVec Ideal S4096x1024 .f32) (q : Fin 1024) :
    DG X D (ix2 0 q) = ∑ b ∈ Finset.range 8, ∑ i : Fin 512, term X D q (b * 512 + i) := by
  rw [dg_apply, Fin.sum_univ_tiles 8 512 rfl, Finset.sum_range]
  refine Finset.sum_congr rfl fun b _ => Finset.sum_congr rfl fun i _ => ?_
  have l : b.val * 512 + i.val < 4096 := by omega
  unfold term
  rw [dif_pos l, EReal.mul_comm]

/-- A product of finite arrays is real. -/
theorem sum_real {n : ℕ} {f g : Fin n → EReal} (hf : ∀ k, ∃ r : ℝ, f k = (r : EReal)) (hg : ∀ k, ∃ r : ℝ, g k = (r : EReal)) :
    ∃ r : ℝ, ∑ k, f k * g k = (r : EReal) := by
  choose f' hf using hf
  choose g' hg using hg
  refine ⟨∑ k, f' k * g' k, ?_⟩
  rw [← Finite.coe_sum]
  exact Finset.sum_congr rfl fun k _ => by rw [hf, hg, EReal.coe_mul]

theorem add_real {a b : EReal} (ha : ∃ r : ℝ, a = (r : EReal)) (hb : ∃ r : ℝ, b = (r : EReal)) : ∃ r : ℝ, a + b = (r : EReal) := by
  obtain ⟨a, rfl⟩ := ha
  obtain ⟨b, rfl⟩ := hb
  exact ⟨a + b, (EReal.coe_add a b).symm⟩

theorem mix_real (a0 : FVec Ideal S4096x1024 .f32) (a1 : FVec Ideal S1024x1024 .f32) (h0 : Finite.Real a0) (h1 : Finite.Real a1)
    (p : Fin 4096) : RealRow (row (MIX a0 a1) p) := fun q => by
  unfold row
  rw [mix_apply]
  exact sum_real (fun k => h0 _) (fun k => h1 _)

theorem h2_real (a0 : FVec Ideal S4096x1024 .f32) (a1 : FVec Ideal S1024x1024 .f32) (a2 : FVec Ideal S1024 .f32)
    (a3 : FVec Ideal S4096x1024 .f32) (h0 : Finite.Real a0) (h1 : Finite.Real a1) (h2 : Finite.Real a2) (h3 : Finite.Real a3)
    (p : Fin 4096) : RealRow (row (H2 a0 a1 a2 a3) p) := fun q => by
  unfold row
  rw [h2_apply]
  exact add_real (h3 _) (norm_real (mix_real a0 a1 h0 h1 p) (fun k => h2 _) q)

theorem dhn_real (a5 : FVec Ideal S1024x5632 .f32) (a7 : FVec Ideal S4096x5632 .f32) (h5 : Finite.Real a5) (h7 : Finite.Real a7)
    (p : Fin 4096) : RealRow (row (DHN a5 a7) p) := fun q => by
  unfold row
  rw [dhn_apply]
  exact sum_real (fun k => h7 _) (fun k => h5 _)

theorem dh_real (h2 : FVec Ideal S4096x1024 .f32) (a4 : FVec Ideal S1024 .f32) (a6 dhn : FVec Ideal S4096x1024 .f32) (p : Fin 4096)
    (hh : RealRow (row h2 p)) (h4 : Finite.Real a4) (h6 : Finite.Real a6) (hd : RealRow (row dhn p)) :
    RealRow (row (DH h2 a4 a6 dhn) p) := fun q => by
  show ∃ r : ℝ, DH h2 a4 a6 dhn (ix2 p q) = (r : EReal)
  rw [dh_apply]
  exact add_real (h6 _) (rrow_real hh (fun k => h4 _) hd q)

/-- The reference's results, of its arguments. -/
def REF0 (a0 : FVec Ideal S4096x1024 .f32) (a1 : FVec Ideal S1024x1024 .f32) (a2 : FVec Ideal S1024 .f32) (a3 : FVec Ideal S4096x1024 .f32)
    (a4 : FVec Ideal S1024 .f32) (a5 : FVec Ideal S1024x5632 .f32) (a6 : FVec Ideal S4096x1024 .f32) (a7 : FVec Ideal S4096x5632 .f32) :
    FVec Ideal S4096x1024 .f32 := DH (H2 a0 a1 a2 a3) a4 a6 (DHN a5 a7)

def REF1 (a0 : FVec Ideal S4096x1024 .f32) (a1 : FVec Ideal S1024x1024 .f32) (a2 : FVec Ideal S1024 .f32) (a3 : FVec Ideal S4096x1024 .f32)
    (a4 : FVec Ideal S1024 .f32) (a5 : FVec Ideal S1024x5632 .f32) (a6 : FVec Ideal S4096x1024 .f32) (a7 : FVec Ideal S4096x5632 .f32) :
    FVec Ideal S1x1024 .f32 := DG (H2 a0 a1 a2 a3) (DHN a5 a7)

def REF2 (a0 : FVec Ideal S4096x1024 .f32) (a1 : FVec Ideal S1024x1024 .f32) (a2 : FVec Ideal S1024 .f32) (a3 : FVec Ideal S4096x1024 .f32)
    (a4 : FVec Ideal S1024 .f32) (a5 : FVec Ideal S1024x5632 .f32) (a6 : FVec Ideal S4096x1024 .f32) (a7 : FVec Ideal S4096x5632 .f32) :
    FVec Ideal S4096x1024 .bf16 := truncf .bf16 (DX (MIX a0 a1) a2 (REF0 a0 a1 a2 a3 a4 a5 a6 a7)) bitsLt_bf16_f32

def REF3 (a0 : FVec Ideal S4096x1024 .f32) (a1 : FVec Ideal S1024x1024 .f32) (a2 : FVec Ideal S1024 .f32) (a3 : FVec Ideal S4096x1024 .f32)
    (a4 : FVec Ideal S1024 .f32) (a5 : FVec Ideal S1024x5632 .f32) (a6 : FVec Ideal S4096x1024 .f32) (a7 : FVec Ideal S4096x5632 .f32) :
    FVec Ideal S1x1024 .f32 := DG (MIX a0 a1) (REF0 a0 a1 a2 a3 a4 a5 a6 a7)

def REF4 (a0 : FVec Ideal S4096x1024 .f32) (a1 : FVec Ideal S1024x1024 .f32) (a2 : FVec Ideal S1024 .f32) (a3 : FVec Ideal S4096x1024 .f32)
    (a4 : FVec Ideal S1024 .f32) (a5 : FVec Ideal S1024x5632 .f32) (a6 : FVec Ideal S4096x1024 .f32) (a7 : FVec Ideal S4096x5632 .f32) :
    FVec Ideal S4096x1024 .bf16 := PROJ (DX (MIX a0 a1) a2 (REF0 a0 a1 a2 a3 a4 a5 a6 a7)) a1

end Cert.FfnDxReferenceIdeal.Bwd

namespace Cert.FfnDxIdeal.Bwd

open Idealize.ShloMosaic Idealize.ShloMosaic.TcCoe Idealize.SL.Sem
open Idealize.ShloMosaic.Pipeline (Dat)
open Cert.FfnDxIdeal Cert.FfnDxIdeal.Gen Cert.Norm
open Cert.FfnDxReferenceIdeal.Bwd (REF0 REF1 REF2 REF3 REF4 MIX H2 DHN DH DX DG PROJ row vec term dg_tiles)

variable (m : (ℓ : Loc nD τ sig) → Buf (Elt Ideal) ℓ)

/-- A row of a block. -/
def brow (X : Vec Ideal S512x1024 .f32) (i : Fin 512) : Fin 1024 → EReal := fun k => X (ix2 i k)

def bvec (g : Vec Ideal S1x1024 .f32) : Fin 1024 → EReal := fun k => g (ix2 0 k)

/-- The bfloat16 block, as real numbers. -/
def brow16 (X : Vec Ideal S512x1024 .bf16) (i : Fin 512) : Fin 1024 → EReal := fun k => X (ix2 i k)

theorem pay13_apply (A X H : Vec Ideal S512x1024 .f32) (g : Vec Ideal S1x1024 .f32) (i : Fin 512) (q : Fin 1024) :
    k0_pay13 A (k0_pay9 X) (k0_pay10 X) (k0_pay12 g) H (ix2 i q) = H (ix2 i q) + krow (brow X i) (bvec g) (brow A i) q := by
  pointwise [k0_pay13, k0_pay9, k0_pay10, k0_pay12, k0_pay8, krow, ms, brow, bvec]

theorem pay1_apply (D : Vec Ideal S512x1024 .f32) (Y : Vec Ideal S512x1024 .bf16) (g : Vec Ideal S1x1024 .f32) (i : Fin 512) (q : Fin 1024) :
    k0_pay1 D (k0_pay18 g) (k0_pay19 Y) (k0_pay20 Y) (ix2 i q) = krow (brow16 Y i) (bvec g) (brow D i) q := by
  pointwise [k0_pay1, k0_pay18, k0_pay19, k0_pay20, k0_pay17, krow, ms, brow, brow16, bvec]

theorem pay11_apply (A X : Vec Ideal S512x1024 .f32) (q : Fin 1024) :
    k0_pay11 X A (ix2 0 q) = ∑ i : Fin 512, A (ix2 i q) * (X (ix2 i q) * Ideal.rsqrt (ms (brow X i))) := by
  pointwise [k0_pay11, k0_pay10, k0_pay9, k0_pay8, ms, brow]

theorem pay21_apply (A : Vec Ideal S512x1024 .f32) (r : FVec Ideal S512x1 .f32) (x g : FVec Ideal S512x1024 .f32) (H : Vec Ideal S512x1024 .f32)
    (Y : Vec Ideal S512x1024 .bf16) (q : Fin 1024) :
    k0_pay21 A r x g H Y (ix2 0 q) = ∑ i : Fin 512, k0_pay13 A r x g H (ix2 i q) * (Y (ix2 i q) * Ideal.rsqrt (ms (brow16 Y i))) := by
  unfold k0_pay21
  generalize k0_pay13 A r x g H = D
  pointwise [k0_pay20, k0_pay19, k0_pay17, ms, brow16]

/-- The block each window reads at a grid point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0]
    ∧ win0_7.index t = ![0, 0] ∧ win0_8.index t = ![t.val, 0] ∧ win0_9.index t = ![0, 0] ∧ win0_10.index t = ![t.val, 0]
    ∧ win0_11.index t = ![0, 0] ∧ win0_12.index t = ![t.val, 0] :=
  (by decide +kernel : ∀ t : Fin grid0.N, _)

/-- The reference's arrays at the kernel's arguments. -/
def mix (c : Dev nD) : FVec Ideal S4096x1024 .f32 := MIX (m ((c : Thread nD τ).loc main_arg0)) (m ((c : Thread nD τ).loc main_arg1))
def h2 (c : Dev nD) : FVec Ideal S4096x1024 .f32 := H2 (m ((c : Thread nD τ).loc main_arg0)) (m ((c : Thread nD τ).loc main_arg1)) (m ((c : Thread nD τ).loc main_arg2)) (m ((c : Thread nD τ).loc main_arg3))
def dhn (c : Dev nD) : FVec Ideal S4096x1024 .f32 := DHN (m ((c : Thread nD τ).loc main_arg5)) (m ((c : Thread nD τ).loc main_arg7))
def dh (c : Dev nD) : FVec Ideal S4096x1024 .f32 := DH (h2 m c) (m ((c : Thread nD τ).loc main_arg4)) (m ((c : Thread nD τ).loc main_arg6)) (dhn m c)
def dm (c : Dev nD) : FVec Ideal S4096x1024 .f32 := DX (mix m c) (m ((c : Thread nD τ).loc main_arg2)) (dh m c)

theorem V14 (c : Dev nD) : V m c main_v14 = h2 m c := by
  entry_read
  rfl

theorem V19 (c : Dev nD) : V m c main_v19 = mix m c := by
  entry_read
  rfl

/-- The blocks of the inputs, read at an index. -/
theorem read0 (c : Dev nD) (t : Fin cfg0.N) (i : Fin 512) (k : Fin 5632) (p : Fin 4096) (h : (p : ℕ) = t.val * 512 + i) :
    (show FVec Ideal S512x5632 .bf16 from iblk m c 0 t) (ix2 i k) = m ((c : Thread nD τ).loc main_arg7) (ix2 p k) := by
  blk_simp [iblk]
  entry_read
  pointwise
  blk_ext [idx t]

theorem read1 (c : Dev nD) (t : Fin cfg0.N) (k : Fin 5632) (q' q : Fin 1024) (h : (q : ℕ) = q') :
    (show FVec Ideal S5632x1024 .bf16 from iblk m c 1 t) (ix2 k q') = m ((c : Thread nD τ).loc main_arg5) (ix2 q k) := by
  blk_simp [iblk]
  entry_read
  pointwise
  blk_ext [idx t]

theorem read2 (c : Dev nD) (t : Fin cfg0.N) (i : Fin 512) (q : Fin 1024) (p : Fin 4096) (h : (p : ℕ) = t.val * 512 + i) :
    (show FVec Ideal S512x1024 .f32 from iblk m c 2 t) (ix2 i q) = m ((c : Thread nD τ).loc main_arg6) (ix2 p q) := by
  blk_ext [iblk, V, idx t]

theorem read3 (c : Dev nD) (t : Fin cfg0.N) (i : Fin 512) (q : Fin 1024) (p : Fin 4096) (h : (p : ℕ) = t.val * 512 + i) :
    (show FVec Ideal S512x1024 .f32 from iblk m c 3 t) (ix2 i q) = h2 m c (ix2 p q) := by
  rw [← V14]
  blk_ext [iblk, idx t]

theorem read4 (c : Dev nD) (t : Fin cfg0.N) (q : Fin 1024) :
    (show FVec Ideal S1x1024 .f32 from iblk m c 4 t) (ix2 0 q) = m ((c : Thread nD τ).loc main_arg4) (ix1 q) := by
  blk_simp [iblk]
  entry_read
  pointwise
  blk_ext [idx t]

theorem read5 (c : Dev nD) (t : Fin cfg0.N) (i : Fin 512) (q : Fin 1024) (p : Fin 4096) (h : (p : ℕ) = t.val * 512 + i) :
    (show FVec Ideal S512x1024 .bf16 from iblk m c 5 t) (ix2 i q) = mix m c (ix2 p q) := by
  refine Eq.trans ?_ (congrFun (V19 m c) (ix2 p q))
  blk_ext [iblk, idx t]

theorem read6 (c : Dev nD) (t : Fin cfg0.N) (q : Fin 1024) :
    (show FVec Ideal S1x1024 .f32 from iblk m c 6 t) (ix2 0 q) = m ((c : Thread nD τ).loc main_arg2) (ix1 q) := by
  blk_simp [iblk]
  entry_read
  pointwise
  blk_ext [idx t]

theorem read7 (c : Dev nD) (t : Fin cfg0.N) (q' k q : Fin 1024) (h : (q : ℕ) = q') :
    (show FVec Ideal S1024x1024 .bf16 from iblk m c 7 t) (ix2 q' k) = m ((c : Thread nD τ).loc main_arg1) (ix2 q k) := by
  blk_simp [iblk]
  entry_read
  pointwise
  blk_ext [idx t]

/-- The arguments are finite. -/
def Fin8 : Prop := ∀ c : Dev nD, Finite.Real (show FVec Ideal S4096x1024 .f32 from m ((c : Thread nD τ).loc main_arg0))
  ∧ Finite.Real (show FVec Ideal S1024x1024 .f32 from m ((c : Thread nD τ).loc main_arg1))
  ∧ Finite.Real (show FVec Ideal S1024 .f32 from m ((c : Thread nD τ).loc main_arg2))
  ∧ Finite.Real (show FVec Ideal S4096x1024 .f32 from m ((c : Thread nD τ).loc main_arg3))
  ∧ Finite.Real (show FVec Ideal S1024 .f32 from m ((c : Thread nD τ).loc main_arg4))
  ∧ Finite.Real (show FVec Ideal S1024x5632 .f32 from m ((c : Thread nD τ).loc main_arg5))
  ∧ Finite.Real (show FVec Ideal S4096x1024 .f32 from m ((c : Thread nD τ).loc main_arg6))
  ∧ Finite.Real (show FVec Ideal S4096x5632 .f32 from m ((c : Thread nD τ).loc main_arg7))

theorem rows_real (fin : Fin8 m) (c : Dev nD) (p : Fin 4096) : RealRow (row (mix m c) p) ∧ RealRow (row (h2 m c) p)
    ∧ RealRow (row (dhn m c) p) ∧ RealRow (row (dh m c) p) := by
  obtain ⟨f0, f1, f2, f3, f4, f5, f6, f7⟩ := fin c
  have a := FfnDxReferenceIdeal.Bwd.mix_real _ _ f0 f1 p
  have b := FfnDxReferenceIdeal.Bwd.h2_real _ _ _ _ f0 f1 f2 f3 p
  have d := FfnDxReferenceIdeal.Bwd.dhn_real _ _ f5 f7 p
  exact ⟨a, b, d, FfnDxReferenceIdeal.Bwd.dh_real _ _ _ _ p b f4 f6 d⟩

/-- A point's cotangent of the stream, given that its rows of the product are the reference's. -/
theorem rows13 (fin : Fin8 m) (c : Dev nD) (t : Fin cfg0.N) (Y : Vec Ideal S512x1024 .f32) (i : Fin 512) (q : Fin 1024) (p : Fin 4096)
    (hp : (p : ℕ) = t.val * 512 + i) (hY : ∀ k : Fin 1024, Y (ix2 i k) = dhn m c (ix2 p k)) :
    k0_pay13 Y (k0_pay9 (iblk m c 3 t)) (k0_pay10 (iblk m c 3 t)) (k0_pay12 (iblk m c 4 t)) (iblk m c 2 t) (ix2 i q)
      = dh m c (ix2 p q) := by
  obtain ⟨f0, f1, f2, f3, f4, f5, f6, f7⟩ := fin c
  obtain ⟨_, rh, rd, _⟩ := rows_real m fin c p
  refine (pay13_apply Y (iblk m c 3 t) (iblk m c 2 t) (iblk m c 4 t) i q).trans ?_
  refine Eq.trans ?_ (FfnDxReferenceIdeal.Bwd.dh_apply _ _ _ _ p q).symm
  have e3 : brow (iblk m c 3 t) i = row (h2 m c) p := funext fun k => read3 m c t i k p hp
  have e4 : bvec (iblk m c 4 t) = vec (m ((c : Thread nD τ).loc main_arg4)) := funext fun k => read4 m c t k
  have e1 : brow Y i = row (dhn m c) p := funext hY
  rw [e3, e4, e1, krow_eq rh (g := vec (m ((c : Thread nD τ).loc main_arg4))) (fun k => f4 _) rd]
  exact Ideal.add_congr (read2 m c t i q p hp) rfl

/-- A point's cotangent of the product, given that its cotangent of the stream is the reference's. -/
theorem rows1 (fin : Fin8 m) (c : Dev nD) (t : Fin cfg0.N) (D : Vec Ideal S512x1024 .f32) (i : Fin 512) (q : Fin 1024) (p : Fin 4096)
    (hp : (p : ℕ) = t.val * 512 + i) (hD : ∀ k : Fin 1024, D (ix2 i k) = dh m c (ix2 p k)) :
    k0_pay1 D (k0_pay18 (iblk m c 6 t)) (k0_pay19 (iblk m c 5 t)) (k0_pay20 (iblk m c 5 t)) (ix2 i q) = dm m c (ix2 p q) := by
  obtain ⟨f0, f1, f2, f3, f4, f5, f6, f7⟩ := fin c
  obtain ⟨rm, _, _, rd⟩ := rows_real m fin c p
  refine (pay1_apply D (iblk m c 5 t) (iblk m c 6 t) i q).trans ?_
  refine Eq.trans ?_ (FfnDxReferenceIdeal.Bwd.dx_apply _ _ _ p q).symm
  have e5 : brow16 (iblk m c 5 t) i = row (mix m c) p := funext fun k => read5 m c t i k p hp
  have e6 : bvec (iblk m c 6 t) = vec (m ((c : Thread nD τ).loc main_arg2)) := funext fun k => read6 m c t k
  have e1 : brow D i = row (dh m c) p := funext hD
  rw [e5, e6, e1, krow_eq rm (g := vec (m ((c : Thread nD τ).loc main_arg2))) (fun k => f2 _) rd]

theorem zero2 : (![0, 0] : Fin 2 → ℕ) = fun _ => 0 := funext fun a => by fin_cases a <;> rfl

theorem pay16_apply (a : FVec Ideal S1x1024 .f32) (b : Vec Ideal S1x1024 .f32) (q : Fin 1024) :
    k0_pay16 a b (ix2 0 q) = b (ix2 0 q) + a (ix2 0 q) := by pointwise [k0_pay16]

theorem pay2_apply (a : FVec Ideal S1x1024 .f32) (b : Vec Ideal S1x1024 .f32) (q : Fin 1024) :
    k0_pay2 a b (ix2 0 q) = b (ix2 0 q) + a (ix2 0 q) := by pointwise [k0_pay2]

theorem pay14_apply (q : Fin 1024) : k0_pay14 (F := Ideal) (ix2 0 q) = 0 := by pointwise [k0_pay14]

theorem pay15_apply (q : Fin 1024) : k0_pay15 (F := Ideal) (ix2 0 q) = 0 := by pointwise [k0_pay15]

theorem pay3_apply (D : FVec Ideal S512x1024 .f32) (g : FVec Ideal S1x1024 .f32) (r : FVec Ideal S512x1 .f32) (x : FVec Ideal S512x1024 .f32)
    (W : Vec Ideal S512x1024 .bf16) (i j : Fin 512) :
    k0_pay3 D g r x W (ix2 i j) = ∑ k : Fin 1024, k0_pay1 D g r x (ix2 i k) * W (ix2 j k) := by
  unfold k0_pay3
  generalize k0_pay1 D g r x = Z
  pointwise

theorem pay4_apply (D : FVec Ideal S512x1024 .f32) (g : FVec Ideal S1x1024 .f32) (r : FVec Ideal S512x1 .f32) (x : FVec Ideal S512x1024 .f32)
    (W : Vec Ideal S512x1024 .bf16) (i j : Fin 512) :
    k0_pay4 D g r x W (ix2 i j) = ∑ k : Fin 1024, k0_pay1 D g r x (ix2 i k) * W (ix2 j k) := by
  unfold k0_pay4
  generalize k0_pay1 D g r x = Z
  pointwise

/-- A point's rows of the product before the norm, as the kernel reads them back. -/
def acc (c : Dev nD) (t : Fin cfg0.N) : Vec Ideal S512x1024 .f32 :=
  (View.whole cc0_scratch0).readCov
    [⟨Rect.unit ![0, 512] ![512, 512] inb_S512x1024_S512x512_0_512,
        k0_pay7 (iblk m c 0 t) (View.ld (iblk m c 1 t) (Rect.unit ![0, 512] ![5632, 512] inb_S5632x1024_S5632x512_0_512))⟩,
      ⟨Rect.unit ![0, 0] ![512, 512] inb_S512x1024_S512x512_0_0,
        k0_pay6 (iblk m c 0 t) (View.ld (iblk m c 1 t) (Rect.unit ![0, 0] ![5632, 512] inb_S5632x1024_S5632x512_0_0))⟩]
    (Rect.unit ![0, 0] ![512, 1024] inb_S512x1024_S512x1024_0_0).toLoadRect

theorem acc_apply (c : Dev nD) (t : Fin cfg0.N) (i : Fin 512) (r : Fin 1024) (p : Fin 4096) (ep : (p : ℕ) = t.val * 512 + i) :
    acc m c t (ix2 i r) = dhn m c (ix2 p r) := by
  have N8 : cfg0.N = 8 := N_0
  have tt : t.val < 8 := lt_of_lt_of_eq t.isLt N8
  refine (congrFun (Cert.Blocks.readCov_whole _ _ zero2 _) _).trans ?_
  generalize gz : (ix2 i r : S512x1024.Idx) = z
  have z0 : (z 0 : ℕ) = (i : ℕ) := by subst gz; rfl
  have z1 : (z 1 : ℕ) = (r : ℕ) := by subst gz; rfl
  clear gz
  canon_tiles x h
  all_goals
    open_payloads
    pointwise
    refine (Fin.sum_fin_congr fun k => Ideal.mul_congr (read0 m c t _ k p ?_) (read1 m c t k _ r ?_)).trans
      (FfnDxReferenceIdeal.Bwd.dhn_apply _ _ p r).symm
  all_goals (try dsimp only) <;> omega

/-- A point's cotangent of the stream. -/
def pdh (c : Dev nD) (t : Fin cfg0.N) : Vec Ideal S512x1024 .f32 :=
  k0_pay13 (acc m c t) (k0_pay9 (iblk m c 3 t)) (k0_pay10 (iblk m c 3 t)) (k0_pay12 (iblk m c 4 t)) (iblk m c 2 t)

theorem pdh_apply (fin : Fin8 m) (c : Dev nD) (t : Fin cfg0.N) (i : Fin 512) (q : Fin 1024) (p : Fin 4096) (ep : (p : ℕ) = t.val * 512 + i) :
    pdh m c t (ix2 i q) = dh m c (ix2 p q) :=
  rows13 m fin c t (acc m c t) i q p ep fun k => acc_apply m c t i k p ep

/-- A point's cotangent of the product before the last norm. -/
def pdm (c : Dev nD) (t : Fin cfg0.N) : Vec Ideal S512x1024 .bf16 :=
  k0_pay1 (pdh m c t) (k0_pay18 (iblk m c 6 t)) (k0_pay19 (iblk m c 5 t)) (k0_pay20 (iblk m c 5 t))

theorem pdm_apply (fin : Fin8 m) (c : Dev nD) (t : Fin cfg0.N) (i : Fin 512) (q : Fin 1024) (p : Fin 4096) (ep : (p : ℕ) = t.val * 512 + i) :
    pdm m c t (ix2 i q) = dm m c (ix2 p q) :=
  rows1 m fin c t (pdh m c t) i q p ep fun k => pdh_apply m fin c t i k p ep

/-- A block's share of the gains' gradients. -/
theorem part9 (c : Dev nD) (t : Fin cfg0.N) (q : Fin 1024) :
    k0_pay11 (iblk m c 3 t) (acc m c t) (ix2 0 q) = ∑ i : Fin 512, term (h2 m c) (dhn m c) q (t.val * 512 + i) := by
  have N8 : cfg0.N = 8 := N_0
  have tt : t.val < 8 := lt_of_lt_of_eq t.isLt N8
  refine (pay11_apply (acc m c t) (iblk m c 3 t) q).trans (Finset.sum_congr rfl fun i _ => ?_)
  have l : t.val * 512 + i.val < 4096 := by omega
  unfold term
  rw [dif_pos l]
  exact Ideal.mul_congr (acc_apply m c t i q _ rfl) (Ideal.mul_congr (read3 m c t i q _ rfl)
    (congrArg (fun r => Ideal.rsqrt (ms r)) (funext fun k => read3 m c t i k _ rfl)))

theorem part11 (fin : Fin8 m) (c : Dev nD) (t : Fin cfg0.N) (q : Fin 1024) :
    k0_pay21 (acc m c t) (k0_pay9 (iblk m c 3 t)) (k0_pay10 (iblk m c 3 t)) (k0_pay12 (iblk m c 4 t)) (iblk m c 2 t) (iblk m c 5 t) (ix2 0 q)
      = ∑ i : Fin 512, term (mix m c) (dh m c) q (t.val * 512 + i) := by
  have N8 : cfg0.N = 8 := N_0
  have tt : t.val < 8 := lt_of_lt_of_eq t.isLt N8
  refine (pay21_apply (acc m c t) _ _ _ (iblk m c 2 t) (iblk m c 5 t) q).trans (Finset.sum_congr rfl fun i _ => ?_)
  have l : t.val * 512 + i.val < 4096 := by omega
  unfold term
  rw [dif_pos l]
  exact Ideal.mul_congr (pdh_apply m fin c t i q _ rfl) (Ideal.mul_congr (read5 m c t i q _ rfl)
    (congrArg (fun r => Ideal.rsqrt (ms r)) (funext fun k => read5 m c t i k _ rfl)))

/-- What a point adds to the gains' gradients. -/
theorem step9_A (c : Dev nD) (t : Fin cfg0.N) (h0 : t.val % 8 = 0) (q : Fin 1024) : (outsAt0 m c t.val t.isLt).2.1 (ix2 0 q)
    = 0 + ∑ i : Fin 512, term (h2 m c) (dhn m c) q (t.val * 512 + i) := by
  rw [outsAt0_A m c t h0]
  frame_out
  refine (pay16_apply (k0_pay11 (iblk m c 3 t) (acc m c t)) (k0_pay14 (F := Ideal)) q).trans ?_
  rw [part9, pay14_apply]

theorem step9_B (c : Dev nD) (t : Fin cfg0.N) (h0 : ¬t.val % 8 = 0) (q : Fin 1024) : (outsAt0 m c t.val t.isLt).2.1 (ix2 0 q)
    = (outsAt0 m c (t.val - 1) (Nat.lt_of_le_of_lt (Nat.sub_le _ _) t.isLt)).2.1 (ix2 0 q)
      + ∑ i : Fin 512, term (h2 m c) (dhn m c) q (t.val * 512 + i) := by
  rw [outsAt0_B m c t h0]
  frame_out
  refine (pay16_apply (k0_pay11 (iblk m c 3 t) (acc m c t)) _ q).trans ?_
  rw [part9]

theorem step11_A (fin : Fin8 m) (c : Dev nD) (t : Fin cfg0.N) (h0 : t.val % 8 = 0) (q : Fin 1024) :
    (outsAt0 m c t.val t.isLt).2.2.2.1 (ix2 0 q) = 0 + ∑ i : Fin 512, term (mix m c) (dh m c) q (t.val * 512 + i) := by
  rw [outsAt0_A m c t h0]
  frame_out
  refine (pay2_apply (k0_pay21 (acc m c t) (k0_pay9 (iblk m c 3 t)) (k0_pay10 (iblk m c 3 t)) (k0_pay12 (iblk m c 4 t)) (iblk m c 2 t)
    (iblk m c 5 t)) (k0_pay15 (F := Ideal)) q).trans ?_
  rw [part11 m fin, pay15_apply]

theorem step11_B (fin : Fin8 m) (c : Dev nD) (t : Fin cfg0.N) (h0 : ¬t.val % 8 = 0) (q : Fin 1024) :
    (outsAt0 m c t.val t.isLt).2.2.2.1 (ix2 0 q)
    = (outsAt0 m c (t.val - 1) (Nat.lt_of_le_of_lt (Nat.sub_le _ _) t.isLt)).2.2.2.1 (ix2 0 q)
      + ∑ i : Fin 512, term (mix m c) (dh m c) q (t.val * 512 + i) := by
  rw [outsAt0_B m c t h0]
  frame_out
  refine (pay2_apply (k0_pay21 (acc m c t) (k0_pay9 (iblk m c 3 t)) (k0_pay10 (iblk m c 3 t)) (k0_pay12 (iblk m c 4 t)) (iblk m c 2 t)
    (iblk m c 5 t)) _ q).trans ?_
  rw [part11 m fin]

/-- The gains' gradients after a point: the shares of the blocks so far. -/
theorem sum9 (c : Dev nD) (q : Fin 1024) : ∀ (n : ℕ) (hn : n < cfg0.N), (outsAt0 m c n hn).2.1 (ix2 0 q)
    = ∑ b ∈ Finset.range (n + 1), ∑ i : Fin 512, term (h2 m c) (dhn m c) q (b * 512 + i)
  | 0, hn => (step9_A m c ⟨0, hn⟩ rfl q).trans (by rw [zero_add, Finset.sum_range_one])
  | n + 1, hn => by
    have N8 : cfg0.N = 8 := N_0
    refine (step9_B m c ⟨n + 1, hn⟩ (by dsimp only; omega) q).trans ?_
    rw [Finset.sum_range_succ]
    exact Ideal.add_congr (sum9 c q n (by omega)) rfl

theorem sum11 (fin : Fin8 m) (c : Dev nD) (q : Fin 1024) : ∀ (n : ℕ) (hn : n < cfg0.N), (outsAt0 m c n hn).2.2.2.1 (ix2 0 q)
    = ∑ b ∈ Finset.range (n + 1), ∑ i : Fin 512, term (mix m c) (dh m c) q (b * 512 + i)
  | 0, hn => (step11_A m fin c ⟨0, hn⟩ rfl q).trans (by rw [zero_add, Finset.sum_range_one])
  | n + 1, hn => by
    have N8 : cfg0.N = 8 := N_0
    refine (step11_B m fin c ⟨n + 1, hn⟩ (by dsimp only; omega) q).trans ?_
    rw [Finset.sum_range_succ]
    exact Ideal.add_congr (sum11 fin c q n (by omega)) rfl

theorem eq_row (y : S1x1024.Idx) : ∃ q : Fin 1024, y = (ix2 0 q : S1x1024.Idx) :=
  ⟨y 1, (eq_ix2 y).trans (congrArg (fun z : Fin 1 => (ix2 z (y 1) : S1x1024.Idx)) (@Subsingleton.elim (Fin 1) _ (y 0) 0))⟩

/-- The gains' gradients after the run. -/
theorem final9 (c : Dev nD) : (dats m 0 c).arrAt 9 cfg0.N = DG (h2 m c) (dhn m c) := by
  have N8 : cfg0.N = 8 := N_0
  refine (dats m 0 c).arrAt_eq_of_covers 9 _ (by decide +kernel) fun t fl y => ?_
  have t7 : t.val = 7 := by have := (flush0_9 t).mp fl; omega
  obtain ⟨q, rfl⟩ := eq_row y
  have e : ((cfg0.win 9).blk t).view.emb (ix2 0 q : S1x1024.Idx) = (ix2 0 q : S1x1024.Idx) := by
    blk_ext [idx t]
  refine Eq.trans ?_ (congrArg _ e).symm
  blk_simp
  rw [after0_9]
  refine (sum9 m c q t.val t.isLt).trans ?_
  rw [dg_tiles, t7]

theorem final11 (c : Dev nD) (fin : Fin8 m) : (dats m 0 c).arrAt 11 cfg0.N = DG (mix m c) (dh m c) := by
  have N8 : cfg0.N = 8 := N_0
  refine (dats m 0 c).arrAt_eq_of_covers 11 _ (by decide +kernel) fun t fl y => ?_
  have t7 : t.val = 7 := by have := (flush0_11 t).mp fl; omega
  obtain ⟨q, rfl⟩ := eq_row y
  have e : ((cfg0.win 11).blk t).view.emb (ix2 0 q : S1x1024.Idx) = (ix2 0 q : S1x1024.Idx) := by
    blk_ext [idx t]
  refine Eq.trans ?_ (congrArg _ e).symm
  blk_simp
  rw [after0_11]
  refine (sum11 m fin c q t.val t.isLt).trans ?_
  rw [dg_tiles, t7]

/-- What a point leaves in the blocks of the other results. -/
theorem out8 (c : Dev nD) (t : Fin cfg0.N) : (outsAt0 m c t.val t.isLt).1 = pdh m c t := by
  by_cases h0 : t.val % 8 = 0
  · rw [outsAt0_A m c t h0]
    frame_out
    rfl
  · rw [outsAt0_B m c t h0]
    frame_out
    rfl

theorem out10 (c : Dev nD) (t : Fin cfg0.N) : (outsAt0 m c t.val t.isLt).2.2.1 = pdm m c t := by
  by_cases h0 : t.val % 8 = 0
  · rw [outsAt0_A m c t h0]
    frame_out
    rfl
  · rw [outsAt0_B m c t h0]
    frame_out
    rfl

/-- The projected block, as its two stores leave it. -/
def pj (c : Dev nD) (t : Fin cfg0.N) : Vec Ideal S512x1024 .bf16 :=
  View.canon
    [⟨Rect.unit ![0, 512] ![512, 512] inb_S512x1024_S512x512_0_512,
        k0_pay4 (pdh m c t) (k0_pay18 (iblk m c 6 t)) (k0_pay19 (iblk m c 5 t)) (k0_pay20 (iblk m c 5 t))
          (View.ld (iblk m c 7 t) (Rect.unit ![512, 0] ![512, 1024] inb_S1024x1024_S512x1024_512_0))⟩,
      ⟨Rect.unit ![0, 0] ![512, 512] inb_S512x1024_S512x512_0_0,
        k0_pay3 (pdh m c t) (k0_pay18 (iblk m c 6 t)) (k0_pay19 (iblk m c 5 t)) (k0_pay20 (iblk m c 5 t))
          (View.ld (iblk m c 7 t) (Rect.unit ![0, 0] ![512, 1024] inb_S1024x1024_S512x1024_0_0))⟩]

theorem out12 (c : Dev nD) (t : Fin cfg0.N) : (outsAt0 m c t.val t.isLt).2.2.2.2 = pj m c t := by
  by_cases h0 : t.val % 8 = 0
  · rw [outsAt0_A m c t h0]
    frame_out
    rfl
  · rw [outsAt0_B m c t h0]
    frame_out
    rfl

/-- Two stores of half the columns each. -/
theorem halves (L R : Vec Ideal S512x512 .bf16) (i : Fin 512) (q : Fin 1024) (v : EReal)
    (fL : ∀ b : Fin 512, (q : ℕ) = b → L (ix2 i b) = v) (fR : ∀ b : Fin 512, (q : ℕ) = 512 + b → R (ix2 i b) = v) :
    View.canon (Val := Elt Ideal) [⟨Rect.unit ![0, 512] ![512, 512] inb_S512x1024_S512x512_0_512, R⟩,
      ⟨Rect.unit ![0, 0] ![512, 512] inb_S512x1024_S512x512_0_0, L⟩] (ix2 i q : S512x1024.Idx) = v := by
  generalize gz : (ix2 i q : S512x1024.Idx) = z
  have z0 : (z 0 : ℕ) = (i : ℕ) := by subst gz; rfl
  have z1 : (z 1 : ℕ) = (q : ℕ) := by subst gz; rfl
  clear gz
  canon_tiles x h
  all_goals
    obtain ⟨a, b, rfl⟩ : ∃ a b : Fin 512, x = (ix2 a b : S512x512.Idx) := ⟨x 0, x 1, eq_ix2 x⟩
    have x0 : ((ix2 a b : S512x512.Idx) 0 : ℕ) = a := rfl
    have x1 : ((ix2 a b : S512x512.Idx) 1 : ℕ) = b := rfl
    obtain rfl : a = i := Fin.ext (by omega)
    first | exact fR b (by omega) | exact fL b (by omega)

/-- The two halves of the projection's weights, as they are loaded. -/
theorem lower (X : Vec Ideal S1024x1024 .bf16) (b : Fin 512) (k : Fin 1024) :
    View.ld (Val := Elt Ideal) X (Rect.unit ![0, 0] ![512, 1024] inb_S1024x1024_S512x1024_0_0) (ix2 b k)
      = X (ix2 ⟨b.val, Nat.lt_trans b.isLt (by decide)⟩ k) := by
  refine (View.ld_apply _ _ _).trans (congrArg X (funext fun a => Fin.ext ((Rect.idx_unit_val _ _ _ _ _).trans ?_)))
  fin_cases a
  · first | exact Nat.zero_add _ | rfl
  · exact Nat.zero_add _

theorem upper (X : Vec Ideal S1024x1024 .bf16) (b : Fin 512) (k : Fin 1024) :
    View.ld (Val := Elt Ideal) X (Rect.unit ![512, 0] ![512, 1024] inb_S1024x1024_S512x1024_512_0) (ix2 b k)
      = X (ix2 ⟨512 + b.val, Nat.add_lt_add_left b.isLt 512⟩ k) := by
  refine (View.ld_apply _ _ _).trans (congrArg X (funext fun a => Fin.ext ((Rect.idx_unit_val _ _ _ _ _).trans ?_)))
  fin_cases a
  · first | exact Nat.zero_add _ | rfl
  · exact Nat.zero_add _

theorem pj_apply (fin : Fin8 m) (c : Dev nD) (t : Fin cfg0.N) (i : Fin 512) (q : Fin 1024) (p : Fin 4096) (ep : (p : ℕ) = t.val * 512 + i) :
    pj m c t (ix2 i q) = PROJ (dm m c) (m ((c : Thread nD τ).loc main_arg1)) (ix2 p q) := by
  refine halves _ _ i q _ (fun b e => ?_) fun b e => ?_
  · refine (pay3_apply _ _ _ _ _ i b).trans ?_
    refine (Fin.sum_fin_congr fun k => Ideal.mul_congr (pdm_apply m fin c t i k p ep) ?_).trans
      (FfnDxReferenceIdeal.Bwd.proj_apply _ _ p q).symm
    exact (lower (iblk m c 7 t) b k).trans (read7 m c t _ k q e)
  · refine (pay4_apply _ _ _ _ _ i b).trans ?_
    refine (Fin.sum_fin_congr fun k => Ideal.mul_congr (pdm_apply m fin c t i k p ep) ?_).trans
      (FfnDxReferenceIdeal.Bwd.proj_apply _ _ p q).symm
    exact (upper (iblk m c 7 t) b k).trans (read7 m c t _ k q e)

/-- The other results after the run. -/
theorem final8 (c : Dev nD) (fin : Fin8 m) : (dats m 0 c).arrAt 8 cfg0.N = dh m c := by
  have N8 : cfg0.N = 8 := N_0
  refine (dats m 0 c).arrAt_eq_of_covers 8 _ (by decide +kernel) fun t fl y => ?_
  have tt : t.val < 8 := lt_of_lt_of_eq t.isLt N8
  obtain ⟨i, q, rfl⟩ : ∃ (i : Fin 512) (q : Fin 1024), y = (ix2 i q : S512x1024.Idx) := ⟨y 0, y 1, eq_ix2 _⟩
  obtain ⟨p, ep⟩ : ∃ p : Fin 4096, (p : ℕ) = t.val * 512 + (i : ℕ) := ⟨⟨_, by omega⟩, rfl⟩
  have e : ((cfg0.win 8).blk t).view.emb (ix2 i q : S512x1024.Idx) = (ix2 p q : S4096x1024.Idx) := by
    blk_ext [idx t, ep]
  refine Eq.trans ?_ (congrArg _ e).symm
  blk_simp
  rw [after0_8, out8]
  exact pdh_apply m fin c t i q p ep

theorem final10 (c : Dev nD) (fin : Fin8 m) : (dats m 0 c).arrAt 10 cfg0.N = truncf .bf16 (dm m c) bitsLt_bf16_f32 := by
  have N8 : cfg0.N = 8 := N_0
  refine (dats m 0 c).arrAt_eq_of_covers 10 _ (by decide +kernel) fun t fl y => ?_
  have tt : t.val < 8 := lt_of_lt_of_eq t.isLt N8
  obtain ⟨i, q, rfl⟩ : ∃ (i : Fin 512) (q : Fin 1024), y = (ix2 i q : S512x1024.Idx) := ⟨y 0, y 1, eq_ix2 _⟩
  obtain ⟨p, ep⟩ : ∃ p : Fin 4096, (p : ℕ) = t.val * 512 + (i : ℕ) := ⟨⟨_, by omega⟩, rfl⟩
  have e : ((cfg0.win 10).blk t).view.emb (ix2 i q : S512x1024.Idx) = (ix2 p q : S4096x1024.Idx) := by
    blk_ext [idx t, ep]
  refine Eq.trans ?_ (congrArg _ e).symm
  blk_simp
  rw [after0_10, out10]
  exact pdm_apply m fin c t i q p ep

theorem final12 (c : Dev nD) (fin : Fin8 m) : (dats m 0 c).arrAt 12 cfg0.N = PROJ (dm m c) (m ((c : Thread nD τ).loc main_arg1)) := by
  have N8 : cfg0.N = 8 := N_0
  refine (dats m 0 c).arrAt_eq_of_covers 12 _ (by decide +kernel) fun t fl y => ?_
  have tt : t.val < 8 := lt_of_lt_of_eq t.isLt N8
  obtain ⟨i, q, rfl⟩ : ∃ (i : Fin 512) (q : Fin 1024), y = (ix2 i q : S512x1024.Idx) := ⟨y 0, y 1, eq_ix2 _⟩
  obtain ⟨p, ep⟩ : ∃ p : Fin 4096, (p : ℕ) = t.val * 512 + (i : ℕ) := ⟨⟨_, by omega⟩, rfl⟩
  have e : ((cfg0.win 12).blk t).view.emb (ix2 i q : S512x1024.Idx) = (ix2 p q : S4096x1024.Idx) := by
    blk_ext [idx t, ep]
  refine Eq.trans ?_ (congrArg _ e).symm
  blk_simp
  rw [after0_12, out12]
  exact pj_apply m fin c t i q p ep

/-- What the precondition says of the arguments. -/
theorem finite (h : Cert.Pre_FfnDxIdeal_finite_ffn_dx m) : Fin8 m := fun c => by
  have e := congrFun (h c) ix0
  obtain ⟨e, e7⟩ := Finite.and_split e
  obtain ⟨e, e6⟩ := Finite.and_split e
  obtain ⟨e, e5⟩ := Finite.and_split e
  obtain ⟨e, e4⟩ := Finite.and_split e
  obtain ⟨e, e3⟩ := Finite.and_split e
  obtain ⟨e, e2⟩ := Finite.and_split e
  obtain ⟨e0, e1⟩ := Finite.and_split e
  exact ⟨Finite.real_of_all _ _ (Finite.inf_apply _ _) _ _ _ _ e0,
    Finite.real_of_all _ _ (Finite.inf_apply _ _) _ _ _ _ e1,
    Finite.real_of_all _ _ (Finite.inf_apply _ _) _ _ _ _ e2,
    Finite.real_of_all _ _ (Finite.inf_apply _ _) _ _ _ _ e3,
    Finite.real_of_all _ _ (Finite.inf_apply _ _) _ _ _ _ e4,
    Finite.real_of_all _ _ (Finite.inf_apply _ _) _ _ _ _ e5,
    Finite.real_of_all _ _ (Finite.inf_apply _ _) _ _ _ _ e6,
    Finite.real_of_all _ _ (Finite.inf_apply _ _) _ _ _ _ e7⟩

/-- The run of the kernel: the results are the reference's terms, the arguments are unchanged. -/
theorem run (ρ : Dev nD → PrngReg) (h_pre : Fin8 m) :
    θ_run defs (onTc (τ := τ) (main (F := Ideal))) ⟨m, fun _ => 0, ρ⟩ fun r => ∀ c : Dev nD,
      r.2.mem ((c : Thread nD τ).loc main_v23_0) = REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v23_1) = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v23_2) = REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v23_3) = REF3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v23_4) = REF4 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final8 m c h_pre), (h c).2.1.trans (final9 m c), (h c).2.2.1.trans (final10 m c h_pre), (h c).2.2.2.1.trans (final11 m c h_pre), (h c).2.2.2.2.1.trans (final12 m c h_pre), (h c).2.2.2.2.2⟩) (Value.run_blocks m ρ)

end Cert.FfnDxIdeal.Bwd

namespace Cert.Proof

open Idealize.ShloMosaic Idealize.SL.Sem

/-- The reference runs to its end and leaves its arguments as they were. -/
theorem quiescent_FfnDxReferenceIdeal : quiescent_FfnDxReferenceIdeal := fun m ρ _ =>
  (θ_run Cert.FfnDxReferenceIdeal.defs _ _).mono
    (fun r h => ⟨fun c => (h c).2.2.2.2.2, sem_eq_zero_of_no_sems (by decide) r.2⟩)
    (Cert.FfnDxReferenceIdeal.Value.run (F := Ideal) m ρ)

/-- Of finite arguments kernel and reference end with the same cotangents and the same gradients of the gains. -/
theorem algebraic_FfnDx : algebraic_FfnDxIdeal_FfnDxReferenceIdeal_pre_finite_ffn_dx := by
  intro m ρ m' ρ' h_pre hagree
  refine ⟨_, _, _, _, _, Cert.FfnDxIdeal.Bwd.run m ρ (Cert.FfnDxIdeal.Bwd.finite m h_pre), ?_⟩
  refine (θ_run Cert.FfnDxReferenceIdeal.defs _ _).mono (fun _ h c => ⟨?_, ?_, ?_, ?_, ?_, (h c).2.2.2.2.2⟩)
    (Cert.FfnDxReferenceIdeal.Value.run (F := Ideal) m' ρ')
  · rw [(h c).1]
    show Cert.FfnDxReferenceIdeal.Bwd.REF0 (m' ((c.tc : Thread Cert.FfnDxReferenceIdeal.nD Cert.FfnDxReferenceIdeal.τ).loc Cert.FfnDxReferenceIdeal.main_arg0)) (m' ((c.tc : Thread Cert.FfnDxReferenceIdeal.nD Cert.FfnDxReferenceIdeal.τ).loc Cert.FfnDxReferenceIdeal.main_arg1)) (m' ((c.tc : Thread Cert.FfnDxReferenceIdeal.nD Cert.FfnDxReferenceIdeal.τ).loc Cert.FfnDxReferenceIdeal.main_arg2)) (m' ((c.tc : Thread Cert.FfnDxReferenceIdeal.nD Cert.FfnDxReferenceIdeal.τ).loc Cert.FfnDxReferenceIdeal.main_arg3)) (m' ((c.tc : Thread Cert.FfnDxReferenceIdeal.nD Cert.FfnDxReferenceIdeal.τ).loc Cert.FfnDxReferenceIdeal.main_arg4)) (m' ((c.tc : Thread Cert.FfnDxReferenceIdeal.nD Cert.FfnDxReferenceIdeal.τ).loc Cert.FfnDxReferenceIdeal.main_arg5)) (m' ((c.tc : Thread Cert.FfnDxReferenceIdeal.nD Cert.FfnDxReferenceIdeal.τ).loc Cert.FfnDxReferenceIdeal.main_arg6)) (m' ((c.tc : Thread Cert.FfnDxReferenceIdeal.nD Cert.FfnDxReferenceIdeal.τ).loc Cert.FfnDxReferenceIdeal.main_arg7)) = _
    simp only [hagree c]
  · rw [(h c).2.1]
    show Cert.FfnDxReferenceIdeal.Bwd.REF1 (m' ((c.tc : Thread Cert.FfnDxReferenceIdeal.nD Cert.FfnDxReferenceIdeal.τ).loc Cert.FfnDxReferenceIdeal.main_arg0)) (m' ((c.tc : Thread Cert.FfnDxReferenceIdeal.nD Cert.FfnDxReferenceIdeal.τ).loc Cert.FfnDxReferenceIdeal.main_arg1)) (m' ((c.tc : Thread Cert.FfnDxReferenceIdeal.nD Cert.FfnDxReferenceIdeal.τ).loc Cert.FfnDxReferenceIdeal.main_arg2)) (m' ((c.tc : Thread Cert.FfnDxReferenceIdeal.nD Cert.FfnDxReferenceIdeal.τ).loc Cert.FfnDxReferenceIdeal.main_arg3)) (m' ((c.tc : Thread Cert.FfnDxReferenceIdeal.nD Cert.FfnDxReferenceIdeal.τ).loc Cert.FfnDxReferenceIdeal.main_arg4)) (m' ((c.tc : Thread Cert.FfnDxReferenceIdeal.nD Cert.FfnDxReferenceIdeal.τ).loc Cert.FfnDxReferenceIdeal.main_arg5)) (m' ((c.tc : Thread Cert.FfnDxReferenceIdeal.nD Cert.FfnDxReferenceIdeal.τ).loc Cert.FfnDxReferenceIdeal.main_arg6)) (m' ((c.tc : Thread Cert.FfnDxReferenceIdeal.nD Cert.FfnDxReferenceIdeal.τ).loc Cert.FfnDxReferenceIdeal.main_arg7)) = _
    simp only [hagree c]
  · rw [(h c).2.2.1]
    show Cert.FfnDxReferenceIdeal.Bwd.REF2 (m' ((c.tc : Thread Cert.FfnDxReferenceIdeal.nD Cert.FfnDxReferenceIdeal.τ).loc Cert.FfnDxReferenceIdeal.main_arg0)) (m' ((c.tc : Thread Cert.FfnDxReferenceIdeal.nD Cert.FfnDxReferenceIdeal.τ).loc Cert.FfnDxReferenceIdeal.main_arg1)) (m' ((c.tc : Thread Cert.FfnDxReferenceIdeal.nD Cert.FfnDxReferenceIdeal.τ).loc Cert.FfnDxReferenceIdeal.main_arg2)) (m' ((c.tc : Thread Cert.FfnDxReferenceIdeal.nD Cert.FfnDxReferenceIdeal.τ).loc Cert.FfnDxReferenceIdeal.main_arg3)) (m' ((c.tc : Thread Cert.FfnDxReferenceIdeal.nD Cert.FfnDxReferenceIdeal.τ).loc Cert.FfnDxReferenceIdeal.main_arg4)) (m' ((c.tc : Thread Cert.FfnDxReferenceIdeal.nD Cert.FfnDxReferenceIdeal.τ).loc Cert.FfnDxReferenceIdeal.main_arg5)) (m' ((c.tc : Thread Cert.FfnDxReferenceIdeal.nD Cert.FfnDxReferenceIdeal.τ).loc Cert.FfnDxReferenceIdeal.main_arg6)) (m' ((c.tc : Thread Cert.FfnDxReferenceIdeal.nD Cert.FfnDxReferenceIdeal.τ).loc Cert.FfnDxReferenceIdeal.main_arg7)) = _
    simp only [hagree c]
  · rw [(h c).2.2.2.1]
    show Cert.FfnDxReferenceIdeal.Bwd.REF3 (m' ((c.tc : Thread Cert.FfnDxReferenceIdeal.nD Cert.FfnDxReferenceIdeal.τ).loc Cert.FfnDxReferenceIdeal.main_arg0)) (m' ((c.tc : Thread Cert.FfnDxReferenceIdeal.nD Cert.FfnDxReferenceIdeal.τ).loc Cert.FfnDxReferenceIdeal.main_arg1)) (m' ((c.tc : Thread Cert.FfnDxReferenceIdeal.nD Cert.FfnDxReferenceIdeal.τ).loc Cert.FfnDxReferenceIdeal.main_arg2)) (m' ((c.tc : Thread Cert.FfnDxReferenceIdeal.nD Cert.FfnDxReferenceIdeal.τ).loc Cert.FfnDxReferenceIdeal.main_arg3)) (m' ((c.tc : Thread Cert.FfnDxReferenceIdeal.nD Cert.FfnDxReferenceIdeal.τ).loc Cert.FfnDxReferenceIdeal.main_arg4)) (m' ((c.tc : Thread Cert.FfnDxReferenceIdeal.nD Cert.FfnDxReferenceIdeal.τ).loc Cert.FfnDxReferenceIdeal.main_arg5)) (m' ((c.tc : Thread Cert.FfnDxReferenceIdeal.nD Cert.FfnDxReferenceIdeal.τ).loc Cert.FfnDxReferenceIdeal.main_arg6)) (m' ((c.tc : Thread Cert.FfnDxReferenceIdeal.nD Cert.FfnDxReferenceIdeal.τ).loc Cert.FfnDxReferenceIdeal.main_arg7)) = _
    simp only [hagree c]
  · rw [(h c).2.2.2.2.1]
    show Cert.FfnDxReferenceIdeal.Bwd.REF4 (m' ((c.tc : Thread Cert.FfnDxReferenceIdeal.nD Cert.FfnDxReferenceIdeal.τ).loc Cert.FfnDxReferenceIdeal.main_arg0)) (m' ((c.tc : Thread Cert.FfnDxReferenceIdeal.nD Cert.FfnDxReferenceIdeal.τ).loc Cert.FfnDxReferenceIdeal.main_arg1)) (m' ((c.tc : Thread Cert.FfnDxReferenceIdeal.nD Cert.FfnDxReferenceIdeal.τ).loc Cert.FfnDxReferenceIdeal.main_arg2)) (m' ((c.tc : Thread Cert.FfnDxReferenceIdeal.nD Cert.FfnDxReferenceIdeal.τ).loc Cert.FfnDxReferenceIdeal.main_arg3)) (m' ((c.tc : Thread Cert.FfnDxReferenceIdeal.nD Cert.FfnDxReferenceIdeal.τ).loc Cert.FfnDxReferenceIdeal.main_arg4)) (m' ((c.tc : Thread Cert.FfnDxReferenceIdeal.nD Cert.FfnDxReferenceIdeal.τ).loc Cert.FfnDxReferenceIdeal.main_arg5)) (m' ((c.tc : Thread Cert.FfnDxReferenceIdeal.nD Cert.FfnDxReferenceIdeal.τ).loc Cert.FfnDxReferenceIdeal.main_arg6)) (m' ((c.tc : Thread Cert.FfnDxReferenceIdeal.nD Cert.FfnDxReferenceIdeal.τ).loc Cert.FfnDxReferenceIdeal.main_arg7)) = _
    simp only [hagree c]

end Cert.Proof

end
-- ==== Proof.FfnDxGmlp.lean ====
module

public import proofs.«01_k».proof.Defs
public import proofs.«01_k».proof.Proof.Gen.FfnDxGmlpIdeal.Value
public import proofs.«01_k».proof.Proof.Gen.FfnDxGmlpReferenceIdeal.Run
public import proofs.«01_k».proof.Proof.Blocks
public import proofs.«01_k».proof.Proof.Finite
public import proofs.«01_k».proof.Proof.Norm
public import proofs.«01_k».proof.Proof.Gen.Pre_finite_ffn_dx_gmlp
public import Idealize.ShloMosaic.Lib.Pipeline.ValueKit
public import Idealize.ShloMosaic.Lib.Quiescent

@[expose] public section

set_option maxRecDepth 16384

noncomputable section

namespace Cert.FfnDxGmlpReferenceIdeal.Bwd

open Idealize.ShloMosaic Idealize.ShloMosaic.TcCoe Idealize.SL.Sem
open Cert.FfnDxGmlpReferenceIdeal Cert.FfnDxGmlpReferenceIdeal.Gen Cert.Norm

/-- The mean square of every row plus the norm's small constant. -/
def MS (X : FVec Ideal S4096x1024 .f32) : FVec Ideal S4096x1 .f32 :=
  addf (Host.divf (broadcastInDim S4096x1 ![0] bcast_S4096_S4096x1_0 (Host.reduceAdd (mulf X X) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x358637BD#32))

/-- The inverse root mean square of every row, at every column. -/
def RT (X : FVec Ideal S4096x1024 .f32) : FVec Ideal S4096x1024 .f32 :=
  broadcastInDim S4096x1024 ![0, 1] bcast_S4096x1_S4096x1024_0_1 (Host.rsqrt (MS X))

/-- A gain at every row. -/
def GAIN (g : FVec Ideal S1024 .f32) : FVec Ideal S4096x1024 .f32 :=
  broadcastInDim S4096x1024 ![0, 1] bcast_S1x1024_S4096x1024_0_1 (broadcastInDim S1x1024 ![1] bcast_S1024_S1x1024_1 g)

/-- The cotangent that reaches the mean squares. -/
def CM (X : FVec Ideal S4096x1024 .f32) (g : FVec Ideal S1024 .f32) (D : FVec Ideal S4096x1024 .f32) : FVec Ideal S4096x1024 .f32 :=
  broadcastInDim S4096x1024 ![0] bcast_S4096_S4096x1024_0 (Host.reduceAdd (Host.divf (mulf (shapeCast _ (Host.reduceAdd (mulf X (mulf D (GAIN g))) (constant S_ .f32 0x00000000#32) reducesTo_S4096x1024_S4096_d1 h_S_) shapeCasts_S4096_S4096x1) (mulf (broadcastInDim S4096x1 ![] bcast_S_S4096x1 (constant S_ .f32 0xBF000000#32)) (Host.divf (Host.rsqrt (MS X)) (MS X)))) (broadcastInDim S4096x1 ![] bcast_S_S4096x1 (constant S_ .f32 0x44800000#32))) (constant S_ .f32 0x00000000#32) reducesTo_S4096x1_S4096_d1 h_S_)

/-- The gradient of the norm by its operand. -/
def DX (X : FVec Ideal S4096x1024 .f32) (g : FVec Ideal S1024 .f32) (D : FVec Ideal S4096x1024 .f32) : FVec Ideal S4096x1024 .f32 :=
  addf (addf (mulf (mulf D (GAIN g)) (RT X)) (mulf X (CM X g D))) (mulf (CM X g D) X)

/-- The gradient of the norm by its gain. -/
def DG (X D : FVec Ideal S4096x1024 .f32) : FVec Ideal S1x1024 .f32 :=
  broadcastInDim S1x1024 ![1] bcast_S1024_S1x1024_1 (Host.reduceAdd (shapeCast _ (Host.reduceAdd (mulf (mulf X (RT X)) D) (constant S_ .f32 0x00000000#32) reducesTo_S4096x1024_S1024_d0 h_S_) shapeCasts_S1024_S1x1024) (constant S_ .f32 0x00000000#32) reducesTo_S1x1024_S1024_d0 h_S_)

/-- A row of an array. -/
def row (X : FVec Ideal S4096x1024 .f32) (p : Fin 4096) : Fin 1024 → EReal := fun k => X (ix2 p k)

def vec (g : FVec Ideal S1024 .f32) : Fin 1024 → EReal := fun k => g (ix1 k)

theorem dx_apply (X : FVec Ideal S4096x1024 .f32) (g : FVec Ideal S1024 .f32) (D : FVec Ideal S4096x1024 .f32) (p : Fin 4096) (q : Fin 1024) :
    DX X g D (ix2 p q) = rrow (row X p) (vec g) (row D p) q := by
  pointwise [DX, CM, RT, MS, GAIN, rrow, crow, ms, row, vec]
  simp only [Finset.univ_unique, Finset.sum_singleton]

theorem dg_apply (X D : FVec Ideal S4096x1024 .f32) (q : Fin 1024) (z : Fin 1) :
    DG X D (ix2 z q) = ∑ p : Fin 4096, X (ix2 p q) * Ideal.rsqrt (ms (row X p)) * D (ix2 p q) := by
  pointwise [DG, RT, MS, ms, row]
  simp only [Finset.univ_unique, Finset.sum_singleton]

/-- The reference's intermediate arrays: the product before the norm, the stream, the cotangent of the normalised stream, the
    cotangent of the stream, and the cotangent of the product. -/
def MIX (a0 : FVec Ideal S4096x2048 .f32) (a1 : FVec Ideal S2048x1024 .f32) : FVec Ideal S4096x1024 .f32 :=
  Host.dotGeneral dot_S4096x2048_S2048x1024_S4096x1024_1_0_0_1_n_n none a0 a1

def H2 (a0 : FVec Ideal S4096x2048 .f32) (a1 : FVec Ideal S2048x1024 .f32) (a2 : FVec Ideal S1024 .f32)
    (a3 : FVec Ideal S4096x1024 .f32) : FVec Ideal S4096x1024 .f32 :=
  addf a3 (mulf (mulf (MIX a0 a1) (RT (MIX a0 a1))) (GAIN a2))

def DHN (a5 : FVec Ideal S1024x5632 .f32) (a7 : FVec Ideal S4096x5632 .f32) : FVec Ideal S4096x1024 .f32 :=
  Host.dotGeneral dot_S4096x5632_S1024x5632_S4096x1024_1_1_0_0_n_n none a7 a5

def DH (h2 : FVec Ideal S4096x1024 .f32) (a4 : FVec Ideal S1024 .f32) (a6 dhn : FVec Ideal S4096x1024 .f32) : FVec Ideal S4096x1024 .f32 :=
  addf a6 (DX h2 a4 dhn)

theorem mix_apply (a0 : FVec Ideal S4096x2048 .f32) (a1 : FVec Ideal S2048x1024 .f32) (p : Fin 4096) (q : Fin 1024) :
    MIX a0 a1 (ix2 p q) = ∑ k : Fin 2048, a0 (ix2 p k) * a1 (ix2 k q) := by
  pointwise [MIX]

theorem h2_apply (a0 : FVec Ideal S4096x2048 .f32) (a1 : FVec Ideal S2048x1024 .f32) (a2 : FVec Ideal S1024 .f32)
    (a3 : FVec Ideal S4096x1024 .f32) (p : Fin 4096) (q : Fin 1024) :
    H2 a0 a1 a2 a3 (ix2 p q) = a3 (ix2 p q) + row (MIX a0 a1) p q * Ideal.rsqrt (ms (row (MIX a0 a1) p)) * vec a2 q := by
  unfold H2
  generalize MIX a0 a1 = X
  pointwise [RT, MS, GAIN, row, vec, ms]

theorem dhn_apply (a5 : FVec Ideal S1024x5632 .f32) (a7 : FVec Ideal S4096x5632 .f32) (p : Fin 4096) (q : Fin 1024) :
    DHN a5 a7 (ix2 p q) = ∑ k : Fin 5632, a7 (ix2 p k) * a5 (ix2 q k) := by
  pointwise [DHN]

theorem dh_apply (h2 : FVec Ideal S4096x1024 .f32) (a4 : FVec Ideal S1024 .f32) (a6 dhn : FVec Ideal S4096x1024 .f32)
    (p : Fin 4096) (q : Fin 1024) :
    DH h2 a4 a6 dhn (ix2 p q) = a6 (ix2 p q) + rrow (row h2 p) (vec a4) (row dhn p) q :=
  Ideal.add_congr rfl (dx_apply h2 a4 dhn p q)

/-- A row's share of the gain's gradient, by the row's number. -/
def term (X D : FVec Ideal S4096x1024 .f32) (q : Fin 1024) (n : ℕ) : EReal :=
  if h : n < 4096 then D (ix2 ⟨n, h⟩ q) * (X (ix2 ⟨n, h⟩ q) * Ideal.rsqrt (ms (row X ⟨n, h⟩))) else 0

/-- The gain's gradient is the sum of the rows' shares, block by block. -/
theorem dg_tiles (X D : FVec Ideal S4096x1024 .f32) (q : Fin 1024) :
    DG X D (ix2 0 q) = ∑ b ∈ Finset.range 8, ∑ i : Fin 512, term X D q (b * 512 + i) := by
  rw [dg_apply, Fin.sum_univ_tiles 8 512 rfl, Finset.sum_range]
  refine Finset.sum_congr rfl fun b _ => Finset.sum_congr rfl fun i _ => ?_
  have l : b.val * 512 + i.val < 4096 := by omega
  unfold term
  rw [dif_pos l, EReal.mul_comm]

/-- A product of finite arrays is real. -/
theorem sum_real {n : ℕ} {f g : Fin n → EReal} (hf : ∀ k, ∃ r : ℝ, f k = (r : EReal)) (hg : ∀ k, ∃ r : ℝ, g k = (r : EReal)) :
    ∃ r : ℝ, ∑ k, f k * g k = (r : EReal) := by
  choose f' hf using hf
  choose g' hg using hg
  refine ⟨∑ k, f' k * g' k, ?_⟩
  rw [← Finite.coe_sum]
  exact Finset.sum_congr rfl fun k _ => by rw [hf, hg, EReal.coe_mul]

theorem add_real {a b : EReal} (ha : ∃ r : ℝ, a = (r : EReal)) (hb : ∃ r : ℝ, b = (r : EReal)) : ∃ r : ℝ, a + b = (r : EReal) := by
  obtain ⟨a, rfl⟩ := ha
  obtain ⟨b, rfl⟩ := hb
  exact ⟨a + b, (EReal.coe_add a b).symm⟩

theorem mix_real (a0 : FVec Ideal S4096x2048 .f32) (a1 : FVec Ideal S2048x1024 .f32) (h0 : Finite.Real a0) (h1 : Finite.Real a1)
    (p : Fin 4096) : RealRow (row (MIX a0 a1) p) := fun q => by
  unfold row
  rw [mix_apply]
  exact sum_real (fun k => h0 _) (fun k => h1 _)

theorem h2_real (a0 : FVec Ideal S4096x2048 .f32) (a1 : FVec Ideal S2048x1024 .f32) (a2 : FVec Ideal S1024 .f32)
    (a3 : FVec Ideal S4096x1024 .f32) (h0 : Finite.Real a0) (h1 : Finite.Real a1) (h2 : Finite.Real a2) (h3 : Finite.Real a3)
    (p : Fin 4096) : RealRow (row (H2 a0 a1 a2 a3) p) := fun q => by
  unfold row
  rw [h2_apply]
  exact add_real (h3 _) (norm_real (mix_real a0 a1 h0 h1 p) (fun k => h2 _) q)

theorem dhn_real (a5 : FVec Ideal S1024x5632 .f32) (a7 : FVec Ideal S4096x5632 .f32) (h5 : Finite.Real a5) (h7 : Finite.Real a7)
    (p : Fin 4096) : RealRow (row (DHN a5 a7) p) := fun q => by
  unfold row
  rw [dhn_apply]
  exact sum_real (fun k => h7 _) (fun k => h5 _)

theorem dh_real (h2 : FVec Ideal S4096x1024 .f32) (a4 : FVec Ideal S1024 .f32) (a6 dhn : FVec Ideal S4096x1024 .f32) (p : Fin 4096)
    (hh : RealRow (row h2 p)) (h4 : Finite.Real a4) (h6 : Finite.Real a6) (hd : RealRow (row dhn p)) :
    RealRow (row (DH h2 a4 a6 dhn) p) := fun q => by
  show ∃ r : ℝ, DH h2 a4 a6 dhn (ix2 p q) = (r : EReal)
  rw [dh_apply]
  exact add_real (h6 _) (rrow_real hh (fun k => h4 _) hd q)

/-- The reference's results, of its arguments. -/
def REF0 (a0 : FVec Ideal S4096x2048 .f32) (a1 : FVec Ideal S2048x1024 .f32) (a2 : FVec Ideal S1024 .f32) (a3 : FVec Ideal S4096x1024 .f32)
    (a4 : FVec Ideal S1024 .f32) (a5 : FVec Ideal S1024x5632 .f32) (a6 : FVec Ideal S4096x1024 .f32) (a7 : FVec Ideal S4096x5632 .f32) :
    FVec Ideal S4096x1024 .f32 := DH (H2 a0 a1 a2 a3) a4 a6 (DHN a5 a7)

def REF1 (a0 : FVec Ideal S4096x2048 .f32) (a1 : FVec Ideal S2048x1024 .f32) (a2 : FVec Ideal S1024 .f32) (a3 : FVec Ideal S4096x1024 .f32)
    (a4 : FVec Ideal S1024 .f32) (a5 : FVec Ideal S1024x5632 .f32) (a6 : FVec Ideal S4096x1024 .f32) (a7 : FVec Ideal S4096x5632 .f32) :
    FVec Ideal S1x1024 .f32 := DG (H2 a0 a1 a2 a3) (DHN a5 a7)

def REF2 (a0 : FVec Ideal S4096x2048 .f32) (a1 : FVec Ideal S2048x1024 .f32) (a2 : FVec Ideal S1024 .f32) (a3 : FVec Ideal S4096x1024 .f32)
    (a4 : FVec Ideal S1024 .f32) (a5 : FVec Ideal S1024x5632 .f32) (a6 : FVec Ideal S4096x1024 .f32) (a7 : FVec Ideal S4096x5632 .f32) :
    FVec Ideal S4096x1024 .bf16 := truncf .bf16 (DX (MIX a0 a1) a2 (REF0 a0 a1 a2 a3 a4 a5 a6 a7)) bitsLt_bf16_f32

def REF3 (a0 : FVec Ideal S4096x2048 .f32) (a1 : FVec Ideal S2048x1024 .f32) (a2 : FVec Ideal S1024 .f32) (a3 : FVec Ideal S4096x1024 .f32)
    (a4 : FVec Ideal S1024 .f32) (a5 : FVec Ideal S1024x5632 .f32) (a6 : FVec Ideal S4096x1024 .f32) (a7 : FVec Ideal S4096x5632 .f32) :
    FVec Ideal S1x1024 .f32 := DG (MIX a0 a1) (REF0 a0 a1 a2 a3 a4 a5 a6 a7)

end Cert.FfnDxGmlpReferenceIdeal.Bwd

namespace Cert.FfnDxGmlpIdeal.Bwd

open Idealize.ShloMosaic Idealize.ShloMosaic.TcCoe Idealize.SL.Sem
open Idealize.ShloMosaic.Pipeline (Dat)
open Cert.FfnDxGmlpIdeal Cert.FfnDxGmlpIdeal.Gen Cert.Norm
open Cert.FfnDxGmlpReferenceIdeal.Bwd (REF0 REF1 REF2 REF3 MIX H2 DHN DH DX DG row vec term dg_tiles)

variable (m : (ℓ : Loc nD τ sig) → Buf (Elt Ideal) ℓ)

/-- A row of a block. -/
def brow (X : Vec Ideal S512x1024 .f32) (i : Fin 512) : Fin 1024 → EReal := fun k => X (ix2 i k)

def bvec (g : Vec Ideal S1x1024 .f32) : Fin 1024 → EReal := fun k => g (ix2 0 k)

/-- The bfloat16 block, as real numbers. -/
def brow16 (X : Vec Ideal S512x1024 .bf16) (i : Fin 512) : Fin 1024 → EReal := fun k => X (ix2 i k)

theorem pay11_apply (A X H : Vec Ideal S512x1024 .f32) (g : Vec Ideal S1x1024 .f32) (i : Fin 512) (q : Fin 1024) :
    k0_pay11 A (k0_pay7 X) (k0_pay8 X) (k0_pay10 g) H (ix2 i q) = H (ix2 i q) + krow (brow X i) (bvec g) (brow A i) q := by
  pointwise [k0_pay11, k0_pay7, k0_pay8, k0_pay10, k0_pay6, krow, ms, brow, bvec]

theorem pay1_apply (D : Vec Ideal S512x1024 .f32) (Y : Vec Ideal S512x1024 .bf16) (g : Vec Ideal S1x1024 .f32) (i : Fin 512) (q : Fin 1024) :
    k0_pay1 D (k0_pay16 g) (k0_pay17 Y) (k0_pay18 Y) (ix2 i q) = krow (brow16 Y i) (bvec g) (brow D i) q := by
  pointwise [k0_pay1, k0_pay16, k0_pay17, k0_pay18, k0_pay15, krow, ms, brow, brow16, bvec]

theorem pay9_apply (A X : Vec Ideal S512x1024 .f32) (q : Fin 1024) :
    k0_pay9 X A (ix2 0 q) = ∑ i : Fin 512, A (ix2 i q) * (X (ix2 i q) * Ideal.rsqrt (ms (brow X i))) := by
  pointwise [k0_pay9, k0_pay8, k0_pay7, k0_pay6, ms, brow]

theorem pay19_apply (A : Vec Ideal S512x1024 .f32) (r : FVec Ideal S512x1 .f32) (x g : FVec Ideal S512x1024 .f32) (H : Vec Ideal S512x1024 .f32)
    (Y : Vec Ideal S512x1024 .bf16) (q : Fin 1024) :
    k0_pay19 A r x g H Y (ix2 0 q) = ∑ i : Fin 512, k0_pay11 A r x g H (ix2 i q) * (Y (ix2 i q) * Ideal.rsqrt (ms (brow16 Y i))) := by
  unfold k0_pay19
  generalize k0_pay11 A r x g H = D
  pointwise [k0_pay18, k0_pay17, k0_pay15, ms, brow16]

/-- The block each window reads at a grid point. -/
theorem idx : ∀ t : Fin cfg0.N, win0_0.index t = ![t.val, 0] ∧ win0_1.index t = ![0, 0] ∧ win0_2.index t = ![t.val, 0]
    ∧ win0_3.index t = ![t.val, 0] ∧ win0_4.index t = ![0, 0] ∧ win0_5.index t = ![t.val, 0] ∧ win0_6.index t = ![0, 0]
    ∧ win0_7.index t = ![t.val, 0] ∧ win0_8.index t = ![0, 0] ∧ win0_9.index t = ![t.val, 0]
    ∧ win0_10.index t = ![0, 0] :=
  (by decide +kernel : ∀ t : Fin grid0.N, _)

/-- The reference's arrays at the kernel's arguments. -/
def mix (c : Dev nD) : FVec Ideal S4096x1024 .f32 := MIX (m ((c : Thread nD τ).loc main_arg0)) (m ((c : Thread nD τ).loc main_arg1))
def h2 (c : Dev nD) : FVec Ideal S4096x1024 .f32 := H2 (m ((c : Thread nD τ).loc main_arg0)) (m ((c : Thread nD τ).loc main_arg1)) (m ((c : Thread nD τ).loc main_arg2)) (m ((c : Thread nD τ).loc main_arg3))
def dhn (c : Dev nD) : FVec Ideal S4096x1024 .f32 := DHN (m ((c : Thread nD τ).loc main_arg5)) (m ((c : Thread nD τ).loc main_arg7))
def dh (c : Dev nD) : FVec Ideal S4096x1024 .f32 := DH (h2 m c) (m ((c : Thread nD τ).loc main_arg4)) (m ((c : Thread nD τ).loc main_arg6)) (dhn m c)
def dm (c : Dev nD) : FVec Ideal S4096x1024 .f32 := DX (mix m c) (m ((c : Thread nD τ).loc main_arg2)) (dh m c)

theorem V14 (c : Dev nD) : V m c main_v14 = h2 m c := by
  entry_read
  rfl

theorem V19 (c : Dev nD) : V m c main_v19 = mix m c := by
  entry_read
  rfl

/-- The blocks of the inputs, read at an index. -/
theorem read0 (c : Dev nD) (t : Fin cfg0.N) (i : Fin 512) (k : Fin 5632) (p : Fin 4096) (h : (p : ℕ) = t.val * 512 + i) :
    (show FVec Ideal S512x5632 .bf16 from iblk m c 0 t) (ix2 i k) = m ((c : Thread nD τ).loc main_arg7) (ix2 p k) := by
  blk_simp [iblk]
  entry_read
  pointwise
  blk_ext [idx t]

theorem read1 (c : Dev nD) (t : Fin cfg0.N) (k : Fin 5632) (q' q : Fin 1024) (h : (q : ℕ) = q') :
    (show FVec Ideal S5632x1024 .bf16 from iblk m c 1 t) (ix2 k q') = m ((c : Thread nD τ).loc main_arg5) (ix2 q k) := by
  blk_simp [iblk]
  entry_read
  pointwise
  blk_ext [idx t]

theorem read2 (c : Dev nD) (t : Fin cfg0.N) (i : Fin 512) (q : Fin 1024) (p : Fin 4096) (h : (p : ℕ) = t.val * 512 + i) :
    (show FVec Ideal S512x1024 .f32 from iblk m c 2 t) (ix2 i q) = m ((c : Thread nD τ).loc main_arg6) (ix2 p q) := by
  blk_ext [iblk, V, idx t]

theorem read3 (c : Dev nD) (t : Fin cfg0.N) (i : Fin 512) (q : Fin 1024) (p : Fin 4096) (h : (p : ℕ) = t.val * 512 + i) :
    (show FVec Ideal S512x1024 .f32 from iblk m c 3 t) (ix2 i q) = h2 m c (ix2 p q) := by
  rw [← V14]
  blk_ext [iblk, idx t]

theorem read4 (c : Dev nD) (t : Fin cfg0.N) (q : Fin 1024) :
    (show FVec Ideal S1x1024 .f32 from iblk m c 4 t) (ix2 0 q) = m ((c : Thread nD τ).loc main_arg4) (ix1 q) := by
  blk_simp [iblk]
  entry_read
  pointwise
  blk_ext [idx t]

theorem read5 (c : Dev nD) (t : Fin cfg0.N) (i : Fin 512) (q : Fin 1024) (p : Fin 4096) (h : (p : ℕ) = t.val * 512 + i) :
    (show FVec Ideal S512x1024 .bf16 from iblk m c 5 t) (ix2 i q) = mix m c (ix2 p q) := by
  refine Eq.trans ?_ (congrFun (V19 m c) (ix2 p q))
  blk_ext [iblk, idx t]

theorem read6 (c : Dev nD) (t : Fin cfg0.N) (q : Fin 1024) :
    (show FVec Ideal S1x1024 .f32 from iblk m c 6 t) (ix2 0 q) = m ((c : Thread nD τ).loc main_arg2) (ix1 q) := by
  blk_simp [iblk]
  entry_read
  pointwise
  blk_ext [idx t]

/-- The arguments are finite. -/
def Fin8 : Prop := ∀ c : Dev nD, Finite.Real (show FVec Ideal S4096x2048 .f32 from m ((c : Thread nD τ).loc main_arg0))
  ∧ Finite.Real (show FVec Ideal S2048x1024 .f32 from m ((c : Thread nD τ).loc main_arg1))
  ∧ Finite.Real (show FVec Ideal S1024 .f32 from m ((c : Thread nD τ).loc main_arg2))
  ∧ Finite.Real (show FVec Ideal S4096x1024 .f32 from m ((c : Thread nD τ).loc main_arg3))
  ∧ Finite.Real (show FVec Ideal S1024 .f32 from m ((c : Thread nD τ).loc main_arg4))
  ∧ Finite.Real (show FVec Ideal S1024x5632 .f32 from m ((c : Thread nD τ).loc main_arg5))
  ∧ Finite.Real (show FVec Ideal S4096x1024 .f32 from m ((c : Thread nD τ).loc main_arg6))
  ∧ Finite.Real (show FVec Ideal S4096x5632 .f32 from m ((c : Thread nD τ).loc main_arg7))

theorem rows_real (fin : Fin8 m) (c : Dev nD) (p : Fin 4096) : RealRow (row (mix m c) p) ∧ RealRow (row (h2 m c) p)
    ∧ RealRow (row (dhn m c) p) ∧ RealRow (row (dh m c) p) := by
  obtain ⟨f0, f1, f2, f3, f4, f5, f6, f7⟩ := fin c
  have a := FfnDxGmlpReferenceIdeal.Bwd.mix_real _ _ f0 f1 p
  have b := FfnDxGmlpReferenceIdeal.Bwd.h2_real _ _ _ _ f0 f1 f2 f3 p
  have d := FfnDxGmlpReferenceIdeal.Bwd.dhn_real _ _ f5 f7 p
  exact ⟨a, b, d, FfnDxGmlpReferenceIdeal.Bwd.dh_real _ _ _ _ p b f4 f6 d⟩

/-- A point's cotangent of the stream, given that its rows of the product are the reference's. -/
theorem rows11 (fin : Fin8 m) (c : Dev nD) (t : Fin cfg0.N) (Y : Vec Ideal S512x1024 .f32) (i : Fin 512) (q : Fin 1024) (p : Fin 4096)
    (hp : (p : ℕ) = t.val * 512 + i) (hY : ∀ k : Fin 1024, Y (ix2 i k) = dhn m c (ix2 p k)) :
    k0_pay11 Y (k0_pay7 (iblk m c 3 t)) (k0_pay8 (iblk m c 3 t)) (k0_pay10 (iblk m c 4 t)) (iblk m c 2 t) (ix2 i q)
      = dh m c (ix2 p q) := by
  obtain ⟨f0, f1, f2, f3, f4, f5, f6, f7⟩ := fin c
  obtain ⟨_, rh, rd, _⟩ := rows_real m fin c p
  refine (pay11_apply Y (iblk m c 3 t) (iblk m c 2 t) (iblk m c 4 t) i q).trans ?_
  refine Eq.trans ?_ (FfnDxGmlpReferenceIdeal.Bwd.dh_apply _ _ _ _ p q).symm
  have e3 : brow (iblk m c 3 t) i = row (h2 m c) p := funext fun k => read3 m c t i k p hp
  have e4 : bvec (iblk m c 4 t) = vec (m ((c : Thread nD τ).loc main_arg4)) := funext fun k => read4 m c t k
  have e1 : brow Y i = row (dhn m c) p := funext hY
  rw [e3, e4, e1, krow_eq rh (g := vec (m ((c : Thread nD τ).loc main_arg4))) (fun k => f4 _) rd]
  exact Ideal.add_congr (read2 m c t i q p hp) rfl

/-- A point's cotangent of the product, given that its cotangent of the stream is the reference's. -/
theorem rows1 (fin : Fin8 m) (c : Dev nD) (t : Fin cfg0.N) (D : Vec Ideal S512x1024 .f32) (i : Fin 512) (q : Fin 1024) (p : Fin 4096)
    (hp : (p : ℕ) = t.val * 512 + i) (hD : ∀ k : Fin 1024, D (ix2 i k) = dh m c (ix2 p k)) :
    k0_pay1 D (k0_pay16 (iblk m c 6 t)) (k0_pay17 (iblk m c 5 t)) (k0_pay18 (iblk m c 5 t)) (ix2 i q) = dm m c (ix2 p q) := by
  obtain ⟨f0, f1, f2, f3, f4, f5, f6, f7⟩ := fin c
  obtain ⟨rm, _, _, rd⟩ := rows_real m fin c p
  refine (pay1_apply D (iblk m c 5 t) (iblk m c 6 t) i q).trans ?_
  refine Eq.trans ?_ (FfnDxGmlpReferenceIdeal.Bwd.dx_apply _ _ _ p q).symm
  have e5 : brow16 (iblk m c 5 t) i = row (mix m c) p := funext fun k => read5 m c t i k p hp
  have e6 : bvec (iblk m c 6 t) = vec (m ((c : Thread nD τ).loc main_arg2)) := funext fun k => read6 m c t k
  have e1 : brow D i = row (dh m c) p := funext hD
  rw [e5, e6, e1, krow_eq rm (g := vec (m ((c : Thread nD τ).loc main_arg2))) (fun k => f2 _) rd]

theorem zero2 : (![0, 0] : Fin 2 → ℕ) = fun _ => 0 := funext fun a => by fin_cases a <;> rfl

theorem pay14_apply (a : FVec Ideal S1x1024 .f32) (b : Vec Ideal S1x1024 .f32) (q : Fin 1024) :
    k0_pay14 a b (ix2 0 q) = b (ix2 0 q) + a (ix2 0 q) := by pointwise [k0_pay14]

theorem pay2_apply (a : FVec Ideal S1x1024 .f32) (b : Vec Ideal S1x1024 .f32) (q : Fin 1024) :
    k0_pay2 a b (ix2 0 q) = b (ix2 0 q) + a (ix2 0 q) := by pointwise [k0_pay2]

theorem pay12_apply (q : Fin 1024) : k0_pay12 (F := Ideal) (ix2 0 q) = 0 := by pointwise [k0_pay12]

theorem pay13_apply (q : Fin 1024) : k0_pay13 (F := Ideal) (ix2 0 q) = 0 := by pointwise [k0_pay13]

/-- A point's rows of the product before the norm, as the kernel reads them back. -/
def acc (c : Dev nD) (t : Fin cfg0.N) : Vec Ideal S512x1024 .f32 :=
  (View.whole cc0_scratch0).readCov
    [⟨Rect.unit ![0, 512] ![512, 512] inb_S512x1024_S512x512_0_512,
        k0_pay5 (iblk m c 0 t) (View.ld (iblk m c 1 t) (Rect.unit ![0, 512] ![5632, 512] inb_S5632x1024_S5632x512_0_512))⟩,
      ⟨Rect.unit ![0, 0] ![512, 512] inb_S512x1024_S512x512_0_0,
        k0_pay4 (iblk m c 0 t) (View.ld (iblk m c 1 t) (Rect.unit ![0, 0] ![5632, 512] inb_S5632x1024_S5632x512_0_0))⟩]
    (Rect.unit ![0, 0] ![512, 1024] inb_S512x1024_S512x1024_0_0).toLoadRect

theorem acc_apply (c : Dev nD) (t : Fin cfg0.N) (i : Fin 512) (r : Fin 1024) (p : Fin 4096) (ep : (p : ℕ) = t.val * 512 + i) :
    acc m c t (ix2 i r) = dhn m c (ix2 p r) := by
  have N8 : cfg0.N = 8 := N_0
  have tt : t.val < 8 := lt_of_lt_of_eq t.isLt N8
  refine (congrFun (Cert.Blocks.readCov_whole _ _ zero2 _) _).trans ?_
  generalize gz : (ix2 i r : S512x1024.Idx) = z
  have z0 : (z 0 : ℕ) = (i : ℕ) := by subst gz; rfl
  have z1 : (z 1 : ℕ) = (r : ℕ) := by subst gz; rfl
  clear gz
  canon_tiles x h
  all_goals
    open_payloads
    pointwise
    refine (Fin.sum_fin_congr fun k => Ideal.mul_congr (read0 m c t _ k p ?_) (read1 m c t k _ r ?_)).trans
      (FfnDxGmlpReferenceIdeal.Bwd.dhn_apply _ _ p r).symm
  all_goals (try dsimp only) <;> omega

/-- A point's cotangent of the stream. -/
def pdh (c : Dev nD) (t : Fin cfg0.N) : Vec Ideal S512x1024 .f32 :=
  k0_pay11 (acc m c t) (k0_pay7 (iblk m c 3 t)) (k0_pay8 (iblk m c 3 t)) (k0_pay10 (iblk m c 4 t)) (iblk m c 2 t)

theorem pdh_apply (fin : Fin8 m) (c : Dev nD) (t : Fin cfg0.N) (i : Fin 512) (q : Fin 1024) (p : Fin 4096) (ep : (p : ℕ) = t.val * 512 + i) :
    pdh m c t (ix2 i q) = dh m c (ix2 p q) :=
  rows11 m fin c t (acc m c t) i q p ep fun k => acc_apply m c t i k p ep

/-- A point's cotangent of the product before the last norm. -/
def pdm (c : Dev nD) (t : Fin cfg0.N) : Vec Ideal S512x1024 .bf16 :=
  k0_pay1 (pdh m c t) (k0_pay16 (iblk m c 6 t)) (k0_pay17 (iblk m c 5 t)) (k0_pay18 (iblk m c 5 t))

theorem pdm_apply (fin : Fin8 m) (c : Dev nD) (t : Fin cfg0.N) (i : Fin 512) (q : Fin 1024) (p : Fin 4096) (ep : (p : ℕ) = t.val * 512 + i) :
    pdm m c t (ix2 i q) = dm m c (ix2 p q) :=
  rows1 m fin c t (pdh m c t) i q p ep fun k => pdh_apply m fin c t i k p ep

/-- A block's share of the gains' gradients. -/
theorem part8 (c : Dev nD) (t : Fin cfg0.N) (q : Fin 1024) :
    k0_pay9 (iblk m c 3 t) (acc m c t) (ix2 0 q) = ∑ i : Fin 512, term (h2 m c) (dhn m c) q (t.val * 512 + i) := by
  have N8 : cfg0.N = 8 := N_0
  have tt : t.val < 8 := lt_of_lt_of_eq t.isLt N8
  refine (pay9_apply (acc m c t) (iblk m c 3 t) q).trans (Finset.sum_congr rfl fun i _ => ?_)
  have l : t.val * 512 + i.val < 4096 := by omega
  unfold term
  rw [dif_pos l]
  exact Ideal.mul_congr (acc_apply m c t i q _ rfl) (Ideal.mul_congr (read3 m c t i q _ rfl)
    (congrArg (fun r => Ideal.rsqrt (ms r)) (funext fun k => read3 m c t i k _ rfl)))

theorem part10 (fin : Fin8 m) (c : Dev nD) (t : Fin cfg0.N) (q : Fin 1024) :
    k0_pay19 (acc m c t) (k0_pay7 (iblk m c 3 t)) (k0_pay8 (iblk m c 3 t)) (k0_pay10 (iblk m c 4 t)) (iblk m c 2 t) (iblk m c 5 t) (ix2 0 q)
      = ∑ i : Fin 512, term (mix m c) (dh m c) q (t.val * 512 + i) := by
  have N8 : cfg0.N = 8 := N_0
  have tt : t.val < 8 := lt_of_lt_of_eq t.isLt N8
  refine (pay19_apply (acc m c t) _ _ _ (iblk m c 2 t) (iblk m c 5 t) q).trans (Finset.sum_congr rfl fun i _ => ?_)
  have l : t.val * 512 + i.val < 4096 := by omega
  unfold term
  rw [dif_pos l]
  exact Ideal.mul_congr (pdh_apply m fin c t i q _ rfl) (Ideal.mul_congr (read5 m c t i q _ rfl)
    (congrArg (fun r => Ideal.rsqrt (ms r)) (funext fun k => read5 m c t i k _ rfl)))

/-- What a point adds to the gains' gradients. -/
theorem step8_A (c : Dev nD) (t : Fin cfg0.N) (h0 : t.val % 8 = 0) (q : Fin 1024) : (outsAt0 m c t.val t.isLt).2.1 (ix2 0 q)
    = 0 + ∑ i : Fin 512, term (h2 m c) (dhn m c) q (t.val * 512 + i) := by
  rw [outsAt0_A m c t h0]
  frame_out
  refine (pay14_apply (k0_pay9 (iblk m c 3 t) (acc m c t)) (k0_pay12 (F := Ideal)) q).trans ?_
  rw [part8, pay12_apply]

theorem step8_B (c : Dev nD) (t : Fin cfg0.N) (h0 : ¬t.val % 8 = 0) (q : Fin 1024) : (outsAt0 m c t.val t.isLt).2.1 (ix2 0 q)
    = (outsAt0 m c (t.val - 1) (Nat.lt_of_le_of_lt (Nat.sub_le _ _) t.isLt)).2.1 (ix2 0 q)
      + ∑ i : Fin 512, term (h2 m c) (dhn m c) q (t.val * 512 + i) := by
  rw [outsAt0_B m c t h0]
  frame_out
  refine (pay14_apply (k0_pay9 (iblk m c 3 t) (acc m c t)) _ q).trans ?_
  rw [part8]

theorem step10_A (fin : Fin8 m) (c : Dev nD) (t : Fin cfg0.N) (h0 : t.val % 8 = 0) (q : Fin 1024) :
    (outsAt0 m c t.val t.isLt).2.2.2 (ix2 0 q) = 0 + ∑ i : Fin 512, term (mix m c) (dh m c) q (t.val * 512 + i) := by
  rw [outsAt0_A m c t h0]
  frame_out
  refine (pay2_apply (k0_pay19 (acc m c t) (k0_pay7 (iblk m c 3 t)) (k0_pay8 (iblk m c 3 t)) (k0_pay10 (iblk m c 4 t)) (iblk m c 2 t)
    (iblk m c 5 t)) (k0_pay13 (F := Ideal)) q).trans ?_
  rw [part10 m fin, pay13_apply]

theorem step10_B (fin : Fin8 m) (c : Dev nD) (t : Fin cfg0.N) (h0 : ¬t.val % 8 = 0) (q : Fin 1024) :
    (outsAt0 m c t.val t.isLt).2.2.2 (ix2 0 q)
    = (outsAt0 m c (t.val - 1) (Nat.lt_of_le_of_lt (Nat.sub_le _ _) t.isLt)).2.2.2 (ix2 0 q)
      + ∑ i : Fin 512, term (mix m c) (dh m c) q (t.val * 512 + i) := by
  rw [outsAt0_B m c t h0]
  frame_out
  refine (pay2_apply (k0_pay19 (acc m c t) (k0_pay7 (iblk m c 3 t)) (k0_pay8 (iblk m c 3 t)) (k0_pay10 (iblk m c 4 t)) (iblk m c 2 t)
    (iblk m c 5 t)) _ q).trans ?_
  rw [part10 m fin]

/-- The gains' gradients after a point: the shares of the blocks so far. -/
theorem sum8 (c : Dev nD) (q : Fin 1024) : ∀ (n : ℕ) (hn : n < cfg0.N), (outsAt0 m c n hn).2.1 (ix2 0 q)
    = ∑ b ∈ Finset.range (n + 1), ∑ i : Fin 512, term (h2 m c) (dhn m c) q (b * 512 + i)
  | 0, hn => (step8_A m c ⟨0, hn⟩ rfl q).trans (by rw [zero_add, Finset.sum_range_one])
  | n + 1, hn => by
    have N8 : cfg0.N = 8 := N_0
    refine (step8_B m c ⟨n + 1, hn⟩ (by dsimp only; omega) q).trans ?_
    rw [Finset.sum_range_succ]
    exact Ideal.add_congr (sum8 c q n (by omega)) rfl

theorem sum10 (fin : Fin8 m) (c : Dev nD) (q : Fin 1024) : ∀ (n : ℕ) (hn : n < cfg0.N), (outsAt0 m c n hn).2.2.2 (ix2 0 q)
    = ∑ b ∈ Finset.range (n + 1), ∑ i : Fin 512, term (mix m c) (dh m c) q (b * 512 + i)
  | 0, hn => (step10_A m fin c ⟨0, hn⟩ rfl q).trans (by rw [zero_add, Finset.sum_range_one])
  | n + 1, hn => by
    have N8 : cfg0.N = 8 := N_0
    refine (step10_B m fin c ⟨n + 1, hn⟩ (by dsimp only; omega) q).trans ?_
    rw [Finset.sum_range_succ]
    exact Ideal.add_congr (sum10 fin c q n (by omega)) rfl

theorem eq_row (y : S1x1024.Idx) : ∃ q : Fin 1024, y = (ix2 0 q : S1x1024.Idx) :=
  ⟨y 1, (eq_ix2 y).trans (congrArg (fun z : Fin 1 => (ix2 z (y 1) : S1x1024.Idx)) (@Subsingleton.elim (Fin 1) _ (y 0) 0))⟩

/-- The gains' gradients after the run. -/
theorem final8 (c : Dev nD) : (dats m 0 c).arrAt 8 cfg0.N = DG (h2 m c) (dhn m c) := by
  have N8 : cfg0.N = 8 := N_0
  refine (dats m 0 c).arrAt_eq_of_covers 8 _ (by decide +kernel) fun t fl y => ?_
  have t7 : t.val = 7 := by have := (flush0_8 t).mp fl; omega
  obtain ⟨q, rfl⟩ := eq_row y
  have e : ((cfg0.win 8).blk t).view.emb (ix2 0 q : S1x1024.Idx) = (ix2 0 q : S1x1024.Idx) := by
    blk_ext [idx t]
  refine Eq.trans ?_ (congrArg _ e).symm
  blk_simp
  rw [after0_8]
  refine (sum8 m c q t.val t.isLt).trans ?_
  rw [dg_tiles, t7]

theorem final10 (c : Dev nD) (fin : Fin8 m) : (dats m 0 c).arrAt 10 cfg0.N = DG (mix m c) (dh m c) := by
  have N8 : cfg0.N = 8 := N_0
  refine (dats m 0 c).arrAt_eq_of_covers 10 _ (by decide +kernel) fun t fl y => ?_
  have t7 : t.val = 7 := by have := (flush0_10 t).mp fl; omega
  obtain ⟨q, rfl⟩ := eq_row y
  have e : ((cfg0.win 10).blk t).view.emb (ix2 0 q : S1x1024.Idx) = (ix2 0 q : S1x1024.Idx) := by
    blk_ext [idx t]
  refine Eq.trans ?_ (congrArg _ e).symm
  blk_simp
  rw [after0_10]
  refine (sum10 m fin c q t.val t.isLt).trans ?_
  rw [dg_tiles, t7]

/-- What a point leaves in the blocks of the other results. -/
theorem out7 (c : Dev nD) (t : Fin cfg0.N) : (outsAt0 m c t.val t.isLt).1 = pdh m c t := by
  by_cases h0 : t.val % 8 = 0
  · rw [outsAt0_A m c t h0]
    frame_out
    rfl
  · rw [outsAt0_B m c t h0]
    frame_out
    rfl

theorem out9 (c : Dev nD) (t : Fin cfg0.N) : (outsAt0 m c t.val t.isLt).2.2.1 = pdm m c t := by
  by_cases h0 : t.val % 8 = 0
  · rw [outsAt0_A m c t h0]
    frame_out
    rfl
  · rw [outsAt0_B m c t h0]
    frame_out
    rfl

/-- The other results after the run. -/
theorem final7 (c : Dev nD) (fin : Fin8 m) : (dats m 0 c).arrAt 7 cfg0.N = dh m c := by
  have N8 : cfg0.N = 8 := N_0
  refine (dats m 0 c).arrAt_eq_of_covers 7 _ (by decide +kernel) fun t fl y => ?_
  have tt : t.val < 8 := lt_of_lt_of_eq t.isLt N8
  obtain ⟨i, q, rfl⟩ : ∃ (i : Fin 512) (q : Fin 1024), y = (ix2 i q : S512x1024.Idx) := ⟨y 0, y 1, eq_ix2 _⟩
  obtain ⟨p, ep⟩ : ∃ p : Fin 4096, (p : ℕ) = t.val * 512 + (i : ℕ) := ⟨⟨_, by omega⟩, rfl⟩
  have e : ((cfg0.win 7).blk t).view.emb (ix2 i q : S512x1024.Idx) = (ix2 p q : S4096x1024.Idx) := by
    blk_ext [idx t, ep]
  refine Eq.trans ?_ (congrArg _ e).symm
  blk_simp
  rw [after0_7, out7]
  exact pdh_apply m fin c t i q p ep

theorem final9 (c : Dev nD) (fin : Fin8 m) : (dats m 0 c).arrAt 9 cfg0.N = truncf .bf16 (dm m c) bitsLt_bf16_f32 := by
  have N8 : cfg0.N = 8 := N_0
  refine (dats m 0 c).arrAt_eq_of_covers 9 _ (by decide +kernel) fun t fl y => ?_
  have tt : t.val < 8 := lt_of_lt_of_eq t.isLt N8
  obtain ⟨i, q, rfl⟩ : ∃ (i : Fin 512) (q : Fin 1024), y = (ix2 i q : S512x1024.Idx) := ⟨y 0, y 1, eq_ix2 _⟩
  obtain ⟨p, ep⟩ : ∃ p : Fin 4096, (p : ℕ) = t.val * 512 + (i : ℕ) := ⟨⟨_, by omega⟩, rfl⟩
  have e : ((cfg0.win 9).blk t).view.emb (ix2 i q : S512x1024.Idx) = (ix2 p q : S4096x1024.Idx) := by
    blk_ext [idx t, ep]
  refine Eq.trans ?_ (congrArg _ e).symm
  blk_simp
  rw [after0_9, out9]
  exact pdm_apply m fin c t i q p ep

/-- What the precondition says of the arguments. -/
theorem finite (h : Cert.Pre_FfnDxGmlpIdeal_finite_ffn_dx_gmlp m) : Fin8 m := fun c => by
  have e := congrFun (h c) ix0
  obtain ⟨e, e7⟩ := Finite.and_split e
  obtain ⟨e, e6⟩ := Finite.and_split e
  obtain ⟨e, e5⟩ := Finite.and_split e
  obtain ⟨e, e4⟩ := Finite.and_split e
  obtain ⟨e, e3⟩ := Finite.and_split e
  obtain ⟨e, e2⟩ := Finite.and_split e
  obtain ⟨e0, e1⟩ := Finite.and_split e
  exact ⟨Finite.real_of_all _ _ (Finite.inf_apply _ _) _ _ _ _ e0,
    Finite.real_of_all _ _ (Finite.inf_apply _ _) _ _ _ _ e1,
    Finite.real_of_all _ _ (Finite.inf_apply _ _) _ _ _ _ e2,
    Finite.real_of_all _ _ (Finite.inf_apply _ _) _ _ _ _ e3,
    Finite.real_of_all _ _ (Finite.inf_apply _ _) _ _ _ _ e4,
    Finite.real_of_all _ _ (Finite.inf_apply _ _) _ _ _ _ e5,
    Finite.real_of_all _ _ (Finite.inf_apply _ _) _ _ _ _ e6,
    Finite.real_of_all _ _ (Finite.inf_apply _ _) _ _ _ _ e7⟩

/-- The run of the kernel: the results are the reference's terms, the arguments are unchanged. -/
theorem run (ρ : Dev nD → PrngReg) (h_pre : Fin8 m) :
    θ_run defs (onTc (τ := τ) (main (F := Ideal))) ⟨m, fun _ => 0, ρ⟩ fun r => ∀ c : Dev nD,
      r.2.mem ((c : Thread nD τ).loc main_v22_0) = REF0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v22_1) = REF1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v22_2) = REF2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_v22_3) = REF3 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final7 m c h_pre), (h c).2.1.trans (final8 m c), (h c).2.2.1.trans (final9 m c h_pre), (h c).2.2.2.1.trans (final10 m c h_pre), (h c).2.2.2.2⟩) (Value.run_blocks m ρ)

end Cert.FfnDxGmlpIdeal.Bwd

namespace Cert.Proof

open Idealize.ShloMosaic Idealize.SL.Sem

/-- The reference runs to its end and leaves its arguments as they were. -/
theorem quiescent_FfnDxGmlpReferenceIdeal : quiescent_FfnDxGmlpReferenceIdeal := fun m ρ _ =>
  (θ_run Cert.FfnDxGmlpReferenceIdeal.defs _ _).mono
    (fun r h => ⟨fun c => (h c).2.2.2.2, sem_eq_zero_of_no_sems (by decide) r.2⟩)
    (Cert.FfnDxGmlpReferenceIdeal.Value.run (F := Ideal) m ρ)

/-- Of finite arguments kernel and reference end with the same cotangents and the same gradients of the gains. -/
theorem algebraic_FfnDxGmlp : algebraic_FfnDxGmlpIdeal_FfnDxGmlpReferenceIdeal_pre_finite_ffn_dx_gmlp := by
  intro m ρ m' ρ' h_pre hagree
  refine ⟨_, _, _, _, Cert.FfnDxGmlpIdeal.Bwd.run m ρ (Cert.FfnDxGmlpIdeal.Bwd.finite m h_pre), ?_⟩
  refine (θ_run Cert.FfnDxGmlpReferenceIdeal.defs _ _).mono (fun _ h c => ⟨?_, ?_, ?_, ?_, (h c).2.2.2.2⟩)
    (Cert.FfnDxGmlpReferenceIdeal.Value.run (F := Ideal) m' ρ')
  · rw [(h c).1]
    show Cert.FfnDxGmlpReferenceIdeal.Bwd.REF0 (m' ((c.tc : Thread Cert.FfnDxGmlpReferenceIdeal.nD Cert.FfnDxGmlpReferenceIdeal.τ).loc Cert.FfnDxGmlpReferenceIdeal.main_arg0)) (m' ((c.tc : Thread Cert.FfnDxGmlpReferenceIdeal.nD Cert.FfnDxGmlpReferenceIdeal.τ).loc Cert.FfnDxGmlpReferenceIdeal.main_arg1)) (m' ((c.tc : Thread Cert.FfnDxGmlpReferenceIdeal.nD Cert.FfnDxGmlpReferenceIdeal.τ).loc Cert.FfnDxGmlpReferenceIdeal.main_arg2)) (m' ((c.tc : Thread Cert.FfnDxGmlpReferenceIdeal.nD Cert.FfnDxGmlpReferenceIdeal.τ).loc Cert.FfnDxGmlpReferenceIdeal.main_arg3)) (m' ((c.tc : Thread Cert.FfnDxGmlpReferenceIdeal.nD Cert.FfnDxGmlpReferenceIdeal.τ).loc Cert.FfnDxGmlpReferenceIdeal.main_arg4)) (m' ((c.tc : Thread Cert.FfnDxGmlpReferenceIdeal.nD Cert.FfnDxGmlpReferenceIdeal.τ).loc Cert.FfnDxGmlpReferenceIdeal.main_arg5)) (m' ((c.tc : Thread Cert.FfnDxGmlpReferenceIdeal.nD Cert.FfnDxGmlpReferenceIdeal.τ).loc Cert.FfnDxGmlpReferenceIdeal.main_arg6)) (m' ((c.tc : Thread Cert.FfnDxGmlpReferenceIdeal.nD Cert.FfnDxGmlpReferenceIdeal.τ).loc Cert.FfnDxGmlpReferenceIdeal.main_arg7)) = _
    simp only [hagree c]
  · rw [(h c).2.1]
    show Cert.FfnDxGmlpReferenceIdeal.Bwd.REF1 (m' ((c.tc : Thread Cert.FfnDxGmlpReferenceIdeal.nD Cert.FfnDxGmlpReferenceIdeal.τ).loc Cert.FfnDxGmlpReferenceIdeal.main_arg0)) (m' ((c.tc : Thread Cert.FfnDxGmlpReferenceIdeal.nD Cert.FfnDxGmlpReferenceIdeal.τ).loc Cert.FfnDxGmlpReferenceIdeal.main_arg1)) (m' ((c.tc : Thread Cert.FfnDxGmlpReferenceIdeal.nD Cert.FfnDxGmlpReferenceIdeal.τ).loc Cert.FfnDxGmlpReferenceIdeal.main_arg2)) (m' ((c.tc : Thread Cert.FfnDxGmlpReferenceIdeal.nD Cert.FfnDxGmlpReferenceIdeal.τ).loc Cert.FfnDxGmlpReferenceIdeal.main_arg3)) (m' ((c.tc : Thread Cert.FfnDxGmlpReferenceIdeal.nD Cert.FfnDxGmlpReferenceIdeal.τ).loc Cert.FfnDxGmlpReferenceIdeal.main_arg4)) (m' ((c.tc : Thread Cert.FfnDxGmlpReferenceIdeal.nD Cert.FfnDxGmlpReferenceIdeal.τ).loc Cert.FfnDxGmlpReferenceIdeal.main_arg5)) (m' ((c.tc : Thread Cert.FfnDxGmlpReferenceIdeal.nD Cert.FfnDxGmlpReferenceIdeal.τ).loc Cert.FfnDxGmlpReferenceIdeal.main_arg6)) (m' ((c.tc : Thread Cert.FfnDxGmlpReferenceIdeal.nD Cert.FfnDxGmlpReferenceIdeal.τ).loc Cert.FfnDxGmlpReferenceIdeal.main_arg7)) = _
    simp only [hagree c]
  · rw [(h c).2.2.1]
    show Cert.FfnDxGmlpReferenceIdeal.Bwd.REF2 (m' ((c.tc : Thread Cert.FfnDxGmlpReferenceIdeal.nD Cert.FfnDxGmlpReferenceIdeal.τ).loc Cert.FfnDxGmlpReferenceIdeal.main_arg0)) (m' ((c.tc : Thread Cert.FfnDxGmlpReferenceIdeal.nD Cert.FfnDxGmlpReferenceIdeal.τ).loc Cert.FfnDxGmlpReferenceIdeal.main_arg1)) (m' ((c.tc : Thread Cert.FfnDxGmlpReferenceIdeal.nD Cert.FfnDxGmlpReferenceIdeal.τ).loc Cert.FfnDxGmlpReferenceIdeal.main_arg2)) (m' ((c.tc : Thread Cert.FfnDxGmlpReferenceIdeal.nD Cert.FfnDxGmlpReferenceIdeal.τ).loc Cert.FfnDxGmlpReferenceIdeal.main_arg3)) (m' ((c.tc : Thread Cert.FfnDxGmlpReferenceIdeal.nD Cert.FfnDxGmlpReferenceIdeal.τ).loc Cert.FfnDxGmlpReferenceIdeal.main_arg4)) (m' ((c.tc : Thread Cert.FfnDxGmlpReferenceIdeal.nD Cert.FfnDxGmlpReferenceIdeal.τ).loc Cert.FfnDxGmlpReferenceIdeal.main_arg5)) (m' ((c.tc : Thread Cert.FfnDxGmlpReferenceIdeal.nD Cert.FfnDxGmlpReferenceIdeal.τ).loc Cert.FfnDxGmlpReferenceIdeal.main_arg6)) (m' ((c.tc : Thread Cert.FfnDxGmlpReferenceIdeal.nD Cert.FfnDxGmlpReferenceIdeal.τ).loc Cert.FfnDxGmlpReferenceIdeal.main_arg7)) = _
    simp only [hagree c]
  · rw [(h c).2.2.2.1]
    show Cert.FfnDxGmlpReferenceIdeal.Bwd.REF3 (m' ((c.tc : Thread Cert.FfnDxGmlpReferenceIdeal.nD Cert.FfnDxGmlpReferenceIdeal.τ).loc Cert.FfnDxGmlpReferenceIdeal.main_arg0)) (m' ((c.tc : Thread Cert.FfnDxGmlpReferenceIdeal.nD Cert.FfnDxGmlpReferenceIdeal.τ).loc Cert.FfnDxGmlpReferenceIdeal.main_arg1)) (m' ((c.tc : Thread Cert.FfnDxGmlpReferenceIdeal.nD Cert.FfnDxGmlpReferenceIdeal.τ).loc Cert.FfnDxGmlpReferenceIdeal.main_arg2)) (m' ((c.tc : Thread Cert.FfnDxGmlpReferenceIdeal.nD Cert.FfnDxGmlpReferenceIdeal.τ).loc Cert.FfnDxGmlpReferenceIdeal.main_arg3)) (m' ((c.tc : Thread Cert.FfnDxGmlpReferenceIdeal.nD Cert.FfnDxGmlpReferenceIdeal.τ).loc Cert.FfnDxGmlpReferenceIdeal.main_arg4)) (m' ((c.tc : Thread Cert.FfnDxGmlpReferenceIdeal.nD Cert.FfnDxGmlpReferenceIdeal.τ).loc Cert.FfnDxGmlpReferenceIdeal.main_arg5)) (m' ((c.tc : Thread Cert.FfnDxGmlpReferenceIdeal.nD Cert.FfnDxGmlpReferenceIdeal.τ).loc Cert.FfnDxGmlpReferenceIdeal.main_arg6)) (m' ((c.tc : Thread Cert.FfnDxGmlpReferenceIdeal.nD Cert.FfnDxGmlpReferenceIdeal.τ).loc Cert.FfnDxGmlpReferenceIdeal.main_arg7)) = _
    simp only [hagree c]

end Cert.Proof

end
-- ==== Proof.GmlpIn.lean ====
module

public import proofs.«01_k».proof.Defs
public import proofs.«01_k».proof.Proof.Gen.GmlpInIdeal.Value
public import proofs.«01_k».proof.Proof.Gen.GmlpInReferenceIdeal.Run
public import Idealize.ShloMosaic.Lib.Pipeline.ValueKit
public import Idealize.ShloMosaic.Lib.Quiescent

@[expose] public section

set_option maxRecDepth 16384

noncomputable section

namespace Cert.GmlpInReferenceIdeal.Fwd

open Idealize.ShloMosaic Idealize.ShloMosaic.TcCoe Idealize.SL.Sem
open Cert.GmlpInReferenceIdeal Cert.GmlpInReferenceIdeal.Gen

/-- The reference's result as one term of the normalised rows, the weight and the bias. -/
def REF (X : FVec Ideal S4096x1024 .f32) (W : FVec Ideal S1024x4096 .f32) (B : FVec Ideal S4096 .f32) :
    FVec Ideal S4096x4096 .bf16 :=
  truncf .bf16 (addf (Host.dotGeneral dot_S4096x1024_S1024x4096_S4096x4096_1_0_0_1_n_n none X W)
    (broadcastInDim S4096x4096 ![0, 1] bcast_S1x4096_S4096x4096_0_1
      (broadcastInDim S1x4096 ![1] bcast_S4096_S1x4096_1 B))) bitsLt_bf16_f32

/-- The layer at an index: the row times the weight's column plus the bias. -/
theorem ref_apply (X : FVec Ideal S4096x1024 .f32) (W : FVec Ideal S1024x4096 .f32) (B : FVec Ideal S4096 .f32)
    (p q : Fin 4096) : REF X W B (ix2 p q) = (∑ k : Fin 1024, X (ix2 p k) * W (ix2 k q)) + B (ix1 q) := by
  pointwise [REF]

end Cert.GmlpInReferenceIdeal.Fwd

namespace Cert.GmlpInIdeal.Fwd

open Idealize.ShloMosaic Idealize.ShloMosaic.TcCoe Idealize.SL.Sem
open Idealize.ShloMosaic.Pipeline (Dat)
open Cert.GmlpInIdeal Cert.GmlpInIdeal.Gen
open Cert.GmlpInReferenceIdeal.Fwd (REF ref_apply)

variable (m : (ℓ : Loc nD τ sig) → Buf (Elt Ideal) ℓ)

/-- The block each window reads at a grid point. -/
theorem idx : ∀ t : Fin cfg0.N, win0_0.index t = ![t.val, 0] ∧ win0_1.index t = ![0, 0]
    ∧ win0_2.index t = ![0, 0] ∧ win0_3.index t = ![t.val, 0] := (by decide +kernel : ∀ t : Fin grid0.N, _)

/-- A window's block of the rows, read at an index. -/
theorem read0 (c : Dev nD) (t : Fin cfg0.N) (i : Fin 512) (k : Fin 1024) (p : Fin 4096) (h : (p : ℕ) = t.val * 512 + i) :
    (show FVec Ideal S512x1024 .bf16 from iblk m c 0 t) (ix2 i k) = m ((c : Thread nD τ).loc main_arg0) (ix2 p k) := by
  blk_simp [iblk]
  entry_read
  pointwise
  blk_ext [idx t]

/-- The block of the transposed weight, read at an index. -/
theorem read1 (c : Dev nD) (t : Fin cfg0.N) (q' : Fin 4096) (k : Fin 1024) (q : Fin 4096) (h : (q : ℕ) = q') :
    (show FVec Ideal S4096x1024 .bf16 from iblk m c 1 t) (ix2 q' k) = m ((c : Thread nD τ).loc main_arg1) (ix2 k q) := by
  blk_simp [iblk]
  entry_read
  pointwise
  blk_ext [idx t]

/-- The block of the bias, read at an index. -/
theorem read2 (c : Dev nD) (t : Fin cfg0.N) (z : Fin 1) (q' q : Fin 4096) (h : (q : ℕ) = q') :
    (show FVec Ideal S1x4096 .f32 from iblk m c 2 t) (ix2 z q') = m ((c : Thread nD τ).loc main_arg2) (ix1 q) := by
  blk_simp [iblk]
  entry_read
  pointwise
  blk_ext [idx t]

/-- The result array after the run is the reference's term of the arguments. -/
theorem final (c : Dev nD) : (dats m 0 c).arrAt 3 cfg0.N
    = REF (m ((c : Thread nD τ).loc main_arg0)) (m ((c : Thread nD τ).loc main_arg1)) (m ((c : Thread nD τ).loc main_arg2)) := by
  have N8 : cfg0.N = 8 := N_0
  refine (dats m 0 c).arrAt_eq_of_covers 3 _ (by decide +kernel) fun t fl y => ?_
  have tt : t.val < 8 := lt_of_lt_of_eq t.isLt N8
  have y0 : (y 0 : ℕ) < 512 := (y 0).isLt
  have y1 : (y 1 : ℕ) < 4096 := (y 1).isLt
  obtain ⟨p, ep⟩ : ∃ p : Fin 4096, (p : ℕ) = t.val * 512 + (y 0 : ℕ) := ⟨⟨_, by omega⟩, rfl⟩
  obtain ⟨q, eq⟩ : ∃ q : Fin 4096, (q : ℕ) = (y 1 : ℕ) := ⟨⟨_, y1⟩, rfl⟩
  have e : ((cfg0.win 3).blk t).view.emb y = (ix2 p q : S4096x4096.Idx) := by
    blk_ext [idx t, ep, eq]
  refine Eq.trans ?_ (congrArg _ e).symm
  blk_simp
  rw [after0_3]
  frame_out
  canon_tiles x h
  all_goals
    open_payloads
    pointwise
    refine (Ideal.add_congr (Fin.sum_fin_congr fun k => Ideal.mul_congr (read0 m c t _ k p ?_) (read1 m c t _ k q ?_))
      (read2 m c t _ _ q ?_)).trans (ref_apply _ _ _ p q).symm
  all_goals (try dsimp only) <;> omega

/-- The run of the kernel: the result is the reference's term, the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v4)
          = REF (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.GmlpInIdeal.Fwd

namespace Cert.Proof

open Idealize.ShloMosaic Idealize.SL.Sem

/-- The reference runs to its end and leaves its arguments as they were. -/
theorem quiescent_GmlpInReferenceIdeal : quiescent_GmlpInReferenceIdeal := fun m ρ _ =>
  (θ_run Cert.GmlpInReferenceIdeal.defs _ _).mono
    (fun r h => ⟨fun c => (h c).2, sem_eq_zero_of_no_sems (by decide) r.2⟩)
    (Cert.GmlpInReferenceIdeal.Value.run (F := Ideal) m ρ)

/-- Kernel and reference end with the same projected rows. -/
theorem algebraic_GmlpIn : algebraic_GmlpInIdeal_GmlpInReferenceIdeal := by
  intro m ρ m' ρ' _ hagree
  refine ⟨_, Cert.GmlpInIdeal.Fwd.run m ρ, ?_⟩
  refine (θ_run Cert.GmlpInReferenceIdeal.defs _ _).mono (fun _ h c => ⟨?_, (h c).2⟩)
    (Cert.GmlpInReferenceIdeal.Value.run (F := Ideal) m' ρ')
  rw [(h c).1]
  simp only [hagree c]
  rfl

end Cert.Proof

end
-- ==== Proof.FfnDown.lean ====
module

public import proofs.«01_k».proof.Defs
public import proofs.«01_k».proof.Proof.Gen.FfnDownIdeal.Value
public import proofs.«01_k».proof.Proof.Gen.FfnDownReferenceIdeal.Run
public import proofs.«01_k».proof.Proof.Blocks
public import Idealize.ShloMosaic.Lib.Pipeline.ValueKit
public import Idealize.ShloMosaic.Lib.Quiescent

@[expose] public section

set_option maxRecDepth 16384

noncomputable section

namespace Cert.FfnDownReferenceIdeal.Fwd

open Idealize.ShloMosaic Idealize.ShloMosaic.TcCoe Idealize.SL.Sem
open Cert.FfnDownReferenceIdeal Cert.FfnDownReferenceIdeal.Gen

/-- The down projection before it is normalised. -/
def DOT (X : FVec Ideal S4096x2816 .f32) (W : FVec Ideal S2816x1024 .f32) : FVec Ideal S4096x1024 .f32 :=
  Host.dotGeneral dot_S4096x2816_S2816x1024_S4096x1024_1_0_0_1_n_n none X W

/-- The root mean square norm of the reference's rows. -/
def NORM (Y : FVec Ideal S4096x1024 .f32) (G : FVec Ideal S1024 .f32) : FVec Ideal S4096x1024 .f32 :=
  mulf (mulf Y (broadcastInDim S4096x1024 ![0, 1] bcast_S4096x1_S4096x1024_0_1 (Host.rsqrt (addf (Host.divf (broadcastInDim S4096x1 ![0] bcast_S4096_S4096x1_0
      (Host.reduceAdd (mulf Y Y) (constant S_ .f32 0x00000000#32) reducesTo_S4096x1024_S4096_d1 h_S_)) (broadcastInDim S4096x1 ![] bcast_S_S4096x1 (constant S_ .f32 0x44800000#32)))
      (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1 G))

/-- The reference's three results: the projection, the residual stream after it, and that stream normalised. -/
def REF0 (X : FVec Ideal S4096x2816 .f32) (W : FVec Ideal S2816x1024 .f32) : FVec Ideal S4096x1024 .bf16 :=
  truncf .bf16 (DOT X W) bitsLt_bf16_f32

def REF1 (X : FVec Ideal S4096x2816 .f32) (W : FVec Ideal S2816x1024 .f32) (H : FVec Ideal S4096x1024 .f32) (G : FVec Ideal S1024 .f32) :
    FVec Ideal S4096x1024 .f32 := addf H (NORM (DOT X W) G)

def REF2 (X : FVec Ideal S4096x2816 .f32) (W : FVec Ideal S2816x1024 .f32) (H : FVec Ideal S4096x1024 .f32) (G G' : FVec Ideal S1024 .f32) :
    FVec Ideal S4096x1024 .bf16 := truncf .bf16 (NORM (REF1 X W H G) G') bitsLt_bf16_f32

/-- The projection at an index. -/
theorem dot_apply (X : FVec Ideal S4096x2816 .f32) (W : FVec Ideal S2816x1024 .f32) (p : Fin 4096) (q : Fin 1024) :
    DOT X W (ix2 p q) = ∑ k : Fin 2816, X (ix2 p k) * W (ix2 k q) := by
  pointwise [DOT]

/-- The reciprocal root mean square of a row. -/
def scale (f : Fin 1024 → Ideal .f32) : Ideal .f32 :=
  Ideal.rsqrt (Ideal.div (∑ k : Fin 1024, f k * f k) (Ideal.ofBits .f32 0x44800000#32) + Ideal.ofBits .f32 0x358637BD#32)

/-- The norm at an index. -/
theorem norm_apply (Y : FVec Ideal S4096x1024 .f32) (G : FVec Ideal S1024 .f32) (p : Fin 4096) (q : Fin 1024) :
    NORM Y G (ix2 p q) = Y (ix2 p q) * scale (fun k => Y (ix2 p k)) * G (ix1 q) := by
  pointwise [NORM, scale]

theorem ref1_apply (X : FVec Ideal S4096x2816 .f32) (W : FVec Ideal S2816x1024 .f32) (H : FVec Ideal S4096x1024 .f32) (G : FVec Ideal S1024 .f32)
    (p : Fin 4096) (q : Fin 1024) :
    REF1 X W H G (ix2 p q) = H (ix2 p q) + DOT X W (ix2 p q) * scale (fun k => DOT X W (ix2 p k)) * G (ix1 q) := by
  rw [← norm_apply]; rfl

theorem ref2_apply (X : FVec Ideal S4096x2816 .f32) (W : FVec Ideal S2816x1024 .f32) (H : FVec Ideal S4096x1024 .f32) (G G' : FVec Ideal S1024 .f32)
    (p : Fin 4096) (q : Fin 1024) :
    REF2 X W H G G' (ix2 p q) = REF1 X W H G (ix2 p q) * scale (fun k => REF1 X W H G (ix2 p k)) * G' (ix1 q) := by
  rw [← norm_apply]; rfl

end Cert.FfnDownReferenceIdeal.Fwd

namespace Cert.FfnDownIdeal.Fwd

open Idealize.ShloMosaic Idealize.ShloMosaic.TcCoe Idealize.SL.Sem
open Idealize.ShloMosaic.Pipeline (Dat)
open Cert.FfnDownIdeal Cert.FfnDownIdeal.Gen
open Cert.FfnDownReferenceIdeal.Fwd (DOT REF0 REF1 REF2 scale dot_apply ref1_apply ref2_apply)

variable (m : (ℓ : Loc nD τ sig) → Buf (Elt Ideal) ℓ)

/-- The projection is stored as it is. -/
theorem pay5_apply (f : Vec Ideal S512x1024 .f32) (y : S512x1024.Idx) : k0_pay5 f y = f y := rfl

/-- The residual stream a point computes from its projected rows. -/
theorem pay6_apply (f h : Vec Ideal S512x1024 .f32) (g : Vec Ideal S1x1024 .f32) (i : Fin 512) (q : Fin 1024) :
    k0_pay6 f h g (ix2 i q) = h (ix2 i q) + f (ix2 i q) * scale (fun k => f (ix2 i k)) * g (ix2 0 q) := by
  pointwise [k0_pay6, scale]

/-- The normalised stream a point computes from its rows. -/
theorem pay1_apply (f : FVec Ideal S512x1024 .f32) (g : Vec Ideal S1x1024 .f32) (i : Fin 512) (q : Fin 1024) :
    k0_pay1 f g (ix2 i q) = f (ix2 i q) * scale (fun k => f (ix2 i k)) * g (ix2 0 q) := by
  pointwise [k0_pay1, scale]

/-- The block each window reads at a grid point. -/
theorem idx : ∀ t : Fin cfg0.N, (win0_0.index t = ![t.val, 0] ∧ win0_1.index t = ![0, 0]
    ∧ win0_2.index t = ![t.val, 0] ∧ win0_3.index t = ![0, 0]) ∧ win0_4.index t = ![0, 0]
    ∧ win0_5.index t = ![t.val, 0] ∧ win0_6.index t = ![t.val, 0] ∧ win0_7.index t = ![t.val, 0] :=
  (by decide +kernel : ∀ t : Fin grid0.N, _)

/-- The blocks of the inputs, read at an index. -/
theorem read0 (c : Dev nD) (t : Fin cfg0.N) (i : Fin 512) (k : Fin 2816) (p : Fin 4096) (h : (p : ℕ) = t.val * 512 + i) :
    (show FVec Ideal S512x2816 .bf16 from iblk m c 0 t) (ix2 i k) = m ((c : Thread nD τ).loc main_arg0) (ix2 p k) := by
  blk_simp [iblk]
  entry_read
  pointwise
  blk_ext [idx t]

theorem read1 (c : Dev nD) (t : Fin cfg0.N) (k : Fin 2816) (q' q : Fin 1024) (h : (q : ℕ) = q') :
    (show FVec Ideal S2816x1024 .bf16 from iblk m c 1 t) (ix2 k q') = m ((c : Thread nD τ).loc main_arg1) (ix2 k q) := by
  blk_simp [iblk]
  entry_read
  pointwise
  blk_ext [idx t]

theorem read2 (c : Dev nD) (t : Fin cfg0.N) (i : Fin 512) (q : Fin 1024) (p : Fin 4096) (h : (p : ℕ) = t.val * 512 + i) :
    (show FVec Ideal S512x1024 .f32 from iblk m c 2 t) (ix2 i q) = m ((c : Thread nD τ).loc main_arg2) (ix2 p q) := by
  blk_ext [iblk, V, idx t]

theorem read3 (c : Dev nD) (t : Fin cfg0.N) (z : Fin 1) (q : Fin 1024) :
    (show FVec Ideal S1x1024 .f32 from iblk m c 3 t) (ix2 z q) = m ((c : Thread nD τ).loc main_arg3) (ix1 q) := by
  blk_simp [iblk]
  entry_read
  pointwise
  blk_ext [idx t]

theorem read4 (c : Dev nD) (t : Fin cfg0.N) (z : Fin 1) (q : Fin 1024) :
    (show FVec Ideal S1x1024 .f32 from iblk m c 4 t) (ix2 z q) = m ((c : Thread nD τ).loc main_arg4) (ix1 q) := by
  blk_simp [iblk]
  entry_read
  pointwise
  blk_ext [idx t]

theorem zero2 : (![0, 0] : Fin 2 → Nat) = fun _ => 0 := funext fun a => by fin_cases a <;> rfl

/-- The projection of the arguments. -/
abbrev P (c : Dev nD) : FVec Ideal S4096x1024 .f32 :=
  DOT (m ((c : Thread nD τ).loc main_arg0)) (m ((c : Thread nD τ).loc main_arg1))

/-- The residual stream of the arguments. -/
abbrev H (c : Dev nD) : FVec Ideal S4096x1024 .f32 :=
  REF1 (m ((c : Thread nD τ).loc main_arg0)) (m ((c : Thread nD τ).loc main_arg1)) (m ((c : Thread nD τ).loc main_arg2))
    (m ((c : Thread nD τ).loc main_arg3))

/-- A point's residual rows, given that its projected rows are the projection's. -/
theorem rows6 (c : Dev nD) (t : Fin cfg0.N) (Y : Vec Ideal S512x1024 .f32) (i : Fin 512) (q : Fin 1024) (p : Fin 4096)
    (hp : (p : ℕ) = t.val * 512 + i) (hY : ∀ k : Fin 1024, Y (ix2 i k) = P m c (ix2 p k)) :
    k0_pay6 Y (iblk m c 2 t) (iblk m c 3 t) (ix2 i q) = H m c (ix2 p q) := by
  refine (pay6_apply Y (iblk m c 2 t) (iblk m c 3 t) i q).trans ?_
  simp only [hY]
  refine Eq.trans ?_ (ref1_apply _ _ _ _ p q).symm
  exact Ideal.add_congr (read2 m c t i q p hp) (Ideal.mul_congr rfl (read3 m c t 0 q))

/-- A point's normalised rows, given that its projected rows are the projection's. -/
theorem rows1 (c : Dev nD) (t : Fin cfg0.N) (Y : Vec Ideal S512x1024 .f32) (i : Fin 512) (q : Fin 1024) (p : Fin 4096)
    (hp : (p : ℕ) = t.val * 512 + i) (hY : ∀ k : Fin 1024, Y (ix2 i k) = P m c (ix2 p k)) :
    k0_pay1 (k0_pay6 Y (iblk m c 2 t) (iblk m c 3 t)) (iblk m c 4 t) (ix2 i q)
      = REF2 (m ((c : Thread nD τ).loc main_arg0)) (m ((c : Thread nD τ).loc main_arg1)) (m ((c : Thread nD τ).loc main_arg2))
          (m ((c : Thread nD τ).loc main_arg3)) (m ((c : Thread nD τ).loc main_arg4)) (ix2 p q) := by
  refine (pay1_apply _ (iblk m c 4 t) i q).trans ?_
  have e : ∀ k, k0_pay6 Y (iblk m c 2 t) (iblk m c 3 t) (ix2 i k) = H m c (ix2 p k) := fun k => rows6 m c t Y i k p hp hY
  simp only [e]
  refine Eq.trans ?_ (ref2_apply _ _ _ _ _ p q).symm
  exact Ideal.mul_congr rfl (read4 m c t 0 q)

theorem final5 (c : Dev nD) : (dats m 0 c).arrAt 5 cfg0.N
    = REF0 (m ((c : Thread nD τ).loc main_arg0)) (m ((c : Thread nD τ).loc main_arg1)) := by
  have N8 : cfg0.N = 8 := N_0
  refine (dats m 0 c).arrAt_eq_of_covers 5 _ (by decide +kernel) fun t fl y => ?_
  have tt : t.val < 8 := lt_of_lt_of_eq t.isLt N8
  have y0 : (y 0 : ℕ) < 512 := (y 0).isLt
  have y1 : (y 1 : ℕ) < 1024 := (y 1).isLt
  obtain ⟨p, ep⟩ : ∃ p : Fin 4096, (p : ℕ) = t.val * 512 + (y 0 : ℕ) := ⟨⟨_, by omega⟩, rfl⟩
  obtain ⟨q, eq⟩ : ∃ q : Fin 1024, (q : ℕ) = (y 1 : ℕ) := ⟨⟨_, y1⟩, rfl⟩
  have e : ((cfg0.win 5).blk t).view.emb y = (ix2 p q : S4096x1024.Idx) := by
    blk_ext [idx t, ep, eq]
  refine Eq.trans ?_ (congrArg _ e).symm
  blk_simp
  rw [after0_5]
  unfold outsAt0
  frame_out
  rw [Cert.Blocks.readCov_whole _ _ zero2]
  rw [pay5_apply]
  canon_tiles x h
  all_goals
    open_payloads
    pointwise
    refine (Fin.sum_fin_congr fun k => Ideal.mul_congr (read0 m c t _ k p ?_) (read1 m c t k _ q ?_)).trans (dot_apply _ _ p q).symm
  all_goals (try dsimp only) <;> omega

theorem final6 (c : Dev nD) : (dats m 0 c).arrAt 6 cfg0.N = H m c := by
  have N8 : cfg0.N = 8 := N_0
  refine (dats m 0 c).arrAt_eq_of_covers 6 _ (by decide +kernel) fun t fl y => ?_
  have tt : t.val < 8 := lt_of_lt_of_eq t.isLt N8
  obtain ⟨i, q, rfl⟩ : ∃ (i : Fin 512) (q : Fin 1024), y = (ix2 i q : S512x1024.Idx) := ⟨y 0, y 1, eq_ix2 _⟩
  obtain ⟨p, ep⟩ : ∃ p : Fin 4096, (p : ℕ) = t.val * 512 + (i : ℕ) := ⟨⟨_, by omega⟩, rfl⟩
  have e : ((cfg0.win 6).blk t).view.emb (ix2 i q : S512x1024.Idx) = (ix2 p q : S4096x1024.Idx) := by
    blk_ext [idx t, ep]
  refine Eq.trans ?_ (congrArg _ e).symm
  blk_simp
  rw [after0_6]
  frame_out
  rw [Cert.Blocks.readCov_whole _ _ zero2]
  refine rows6 m c t _ i q p ep fun r => ?_
  generalize gz : (ix2 i r : S512x1024.Idx) = z
  have z0 : (z 0 : ℕ) = (i : ℕ) := by subst gz; rfl
  have z1 : (z 1 : ℕ) = (r : ℕ) := by subst gz; rfl
  clear gz
  canon_tiles x h
  all_goals
    open_payloads
    pointwise
    refine (Fin.sum_fin_congr fun k => Ideal.mul_congr (read0 m c t _ k p ?_) (read1 m c t k _ r ?_)).trans (dot_apply _ _ p r).symm
  all_goals (try dsimp only) <;> omega

theorem final7 (c : Dev nD) : (dats m 0 c).arrAt 7 cfg0.N = REF2 (m ((c : Thread nD τ).loc main_arg0))
    (m ((c : Thread nD τ).loc main_arg1)) (m ((c : Thread nD τ).loc main_arg2)) (m ((c : Thread nD τ).loc main_arg3))
    (m ((c : Thread nD τ).loc main_arg4)) := by
  have N8 : cfg0.N = 8 := N_0
  refine (dats m 0 c).arrAt_eq_of_covers 7 _ (by decide +kernel) fun t fl y => ?_
  have tt : t.val < 8 := lt_of_lt_of_eq t.isLt N8
  obtain ⟨i, q, rfl⟩ : ∃ (i : Fin 512) (q : Fin 1024), y = (ix2 i q : S512x1024.Idx) := ⟨y 0, y 1, eq_ix2 _⟩
  obtain ⟨p, ep⟩ : ∃ p : Fin 4096, (p : ℕ) = t.val * 512 + (i : ℕ) := ⟨⟨_, by omega⟩, rfl⟩
  have e : ((cfg0.win 7).blk t).view.emb (ix2 i q : S512x1024.Idx) = (ix2 p q : S4096x1024.Idx) := by
    blk_ext [idx t, ep]
  refine Eq.trans ?_ (congrArg _ e).symm
  blk_simp
  rw [after0_7]
  unfold outsAt0
  frame_out
  rw [Cert.Blocks.readCov_whole _ _ zero2]
  refine rows1 m c t _ i q p ep fun r => ?_
  generalize gz : (ix2 i r : S512x1024.Idx) = z
  have z0 : (z 0 : ℕ) = (i : ℕ) := by subst gz; rfl
  have z1 : (z 1 : ℕ) = (r : ℕ) := by subst gz; rfl
  clear gz
  canon_tiles x h
  all_goals
    open_payloads
    pointwise
    refine (Fin.sum_fin_congr fun k => Ideal.mul_congr (read0 m c t _ k p ?_) (read1 m c t k _ r ?_)).trans (dot_apply _ _ p r).symm
  all_goals (try dsimp only) <;> omega

/-- The run of the kernel: the results are the reference's terms, the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v4_0) = REF0 (m ((c : Thread nD τ).loc main_arg0)) (m ((c : Thread nD τ).loc main_arg1))
      ∧ r.2.mem ((c : Thread nD τ).loc main_v4_1) = REF1 (m ((c : Thread nD τ).loc main_arg0)) (m ((c : Thread nD τ).loc main_arg1)) (m ((c : Thread nD τ).loc main_arg2)) (m ((c : Thread nD τ).loc main_arg3))
      ∧ r.2.mem ((c : Thread nD τ).loc main_v4_2) = REF2 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2.1.trans (final7 m c), (h c).2.2.2⟩) (Value.run_blocks m ρ)

end Cert.FfnDownIdeal.Fwd

namespace Cert.Proof

open Idealize.ShloMosaic Idealize.SL.Sem

/-- The reference runs to its end and leaves its arguments as they were. -/
theorem quiescent_FfnDownReferenceIdeal : quiescent_FfnDownReferenceIdeal := fun m ρ _ =>
  (θ_run Cert.FfnDownReferenceIdeal.defs _ _).mono
    (fun r h => ⟨fun c => (h c).2.2.2, sem_eq_zero_of_no_sems (by decide) r.2⟩)
    (Cert.FfnDownReferenceIdeal.Value.run (F := Ideal) m ρ)

/-- Kernel and reference end with the same projection, residual stream and normalised stream. -/
theorem algebraic_FfnDown : algebraic_FfnDownIdeal_FfnDownReferenceIdeal := by
  intro m ρ m' ρ' _ hagree
  refine ⟨_, _, _, Cert.FfnDownIdeal.Fwd.run m ρ, ?_⟩
  refine (θ_run Cert.FfnDownReferenceIdeal.defs _ _).mono (fun _ h c => ⟨?_, ?_, ?_, (h c).2.2.2⟩)
    (Cert.FfnDownReferenceIdeal.Value.run (F := Ideal) m' ρ')
  · rw [(h c).1]
    simp only [hagree c]
    rfl
  · rw [(h c).2.1]
    simp only [hagree c]
    rfl
  · rw [(h c).2.2.1]
    simp only [hagree c]
    rfl

end Cert.Proof

end
-- ==== Proof.AttnOut.lean ====
module

public import proofs.«01_k».proof.Defs
public import proofs.«01_k».proof.Proof.Gen.AttnOutIdeal.Value
public import proofs.«01_k».proof.Proof.Gen.AttnOutReferenceIdeal.Run
public import proofs.«01_k».proof.Proof.Blocks
public import Idealize.ShloMosaic.Lib.Pipeline.ValueKit
public import Idealize.ShloMosaic.Lib.Quiescent

@[expose] public section

set_option maxRecDepth 16384

noncomputable section

namespace Cert.AttnOutReferenceIdeal.Fwd

open Idealize.ShloMosaic Idealize.ShloMosaic.TcCoe Idealize.SL.Sem
open Cert.AttnOutReferenceIdeal Cert.AttnOutReferenceIdeal.Gen

/-- The output projection before it is normalised. -/
def DOT (X : FVec Ideal S4096x1024 .f32) (W : FVec Ideal S1024x1024 .f32) : FVec Ideal S4096x1024 .f32 :=
  Host.dotGeneral dot_S4096x1024_S1024x1024_S4096x1024_1_0_0_1_n_n none X W

/-- The root mean square norm of the reference's rows. -/
def NORM (Y : FVec Ideal S4096x1024 .f32) (G : FVec Ideal S1024 .f32) : FVec Ideal S4096x1024 .f32 :=
  mulf (mulf Y (broadcastInDim S4096x1024 ![0, 1] bcast_S4096x1_S4096x1024_0_1 (Host.rsqrt (addf (Host.divf (broadcastInDim S4096x1 ![0] bcast_S4096_S4096x1_0
      (Host.reduceAdd (mulf Y Y) (constant S_ .f32 0x00000000#32) reducesTo_S4096x1024_S4096_d1 h_S_)) (broadcastInDim S4096x1 ![] bcast_S_S4096x1 (constant S_ .f32 0x44800000#32)))
      (broadcastInDim S4096x1 ![] bcast_S_S4096x1 (constant S_ .f32 0x358637BD#32))))))
    (broadcastInDim S4096x1024 ![0, 1] bcast_S1x1024_S4096x1024_0_1 (broadcastInDim S1x1024 ![1] bcast_S1024_S1x1024_1 G))

/-- The reference's three results: the projection, the residual stream after it, and that stream normalised. -/
def REF0 (X : FVec Ideal S4096x1024 .f32) (W : FVec Ideal S1024x1024 .f32) : FVec Ideal S4096x1024 .bf16 :=
  truncf .bf16 (DOT X W) bitsLt_bf16_f32

def REF1 (X : FVec Ideal S4096x1024 .f32) (W : FVec Ideal S1024x1024 .f32) (H : FVec Ideal S4096x1024 .f32) (G : FVec Ideal S1024 .f32) :
    FVec Ideal S4096x1024 .f32 := addf H (NORM (DOT X W) G)

def REF2 (X : FVec Ideal S4096x1024 .f32) (W : FVec Ideal S1024x1024 .f32) (H : FVec Ideal S4096x1024 .f32) (G G' : FVec Ideal S1024 .f32) :
    FVec Ideal S4096x1024 .bf16 := truncf .bf16 (NORM (REF1 X W H G) G') bitsLt_bf16_f32

/-- The projection at an index. -/
theorem dot_apply (X : FVec Ideal S4096x1024 .f32) (W : FVec Ideal S1024x1024 .f32) (p : Fin 4096) (q : Fin 1024) :
    DOT X W (ix2 p q) = ∑ k : Fin 1024, X (ix2 p k) * W (ix2 k q) := by
  pointwise [DOT]

/-- The reciprocal root mean square of a row. -/
def scale (f : Fin 1024 → Ideal .f32) : Ideal .f32 :=
  Ideal.rsqrt (Ideal.div (∑ k : Fin 1024, f k * f k) (Ideal.ofBits .f32 0x44800000#32) + Ideal.ofBits .f32 0x358637BD#32)

/-- The norm at an index. -/
theorem norm_apply (Y : FVec Ideal S4096x1024 .f32) (G : FVec Ideal S1024 .f32) (p : Fin 4096) (q : Fin 1024) :
    NORM Y G (ix2 p q) = Y (ix2 p q) * scale (fun k => Y (ix2 p k)) * G (ix1 q) := by
  pointwise [NORM, scale]

theorem ref1_apply (X : FVec Ideal S4096x1024 .f32) (W : FVec Ideal S1024x1024 .f32) (H : FVec Ideal S4096x1024 .f32) (G : FVec Ideal S1024 .f32)
    (p : Fin 4096) (q : Fin 1024) :
    REF1 X W H G (ix2 p q) = H (ix2 p q) + DOT X W (ix2 p q) * scale (fun k => DOT X W (ix2 p k)) * G (ix1 q) := by
  rw [← norm_apply]; rfl

theorem ref2_apply (X : FVec Ideal S4096x1024 .f32) (W : FVec Ideal S1024x1024 .f32) (H : FVec Ideal S4096x1024 .f32) (G G' : FVec Ideal S1024 .f32)
    (p : Fin 4096) (q : Fin 1024) :
    REF2 X W H G G' (ix2 p q) = REF1 X W H G (ix2 p q) * scale (fun k => REF1 X W H G (ix2 p k)) * G' (ix1 q) := by
  rw [← norm_apply]; rfl

end Cert.AttnOutReferenceIdeal.Fwd

namespace Cert.AttnOutIdeal.Fwd

open Idealize.ShloMosaic Idealize.ShloMosaic.TcCoe Idealize.SL.Sem
open Idealize.ShloMosaic.Pipeline (Dat)
open Cert.AttnOutIdeal Cert.AttnOutIdeal.Gen
open Cert.AttnOutReferenceIdeal.Fwd (DOT REF0 REF1 REF2 scale dot_apply ref1_apply ref2_apply)

variable (m : (ℓ : Loc nD τ sig) → Buf (Elt Ideal) ℓ)

/-- The projection is stored as it is. -/
theorem pay5_apply (f : Vec Ideal S512x1024 .f32) (y : S512x1024.Idx) : k0_pay5 f y = f y := rfl

/-- The residual stream a point computes from its projected rows. -/
theorem pay6_apply (f h : Vec Ideal S512x1024 .f32) (g : Vec Ideal S1x1024 .f32) (i : Fin 512) (q : Fin 1024) :
    k0_pay6 f h g (ix2 i q) = h (ix2 i q) + f (ix2 i q) * scale (fun k => f (ix2 i k)) * g (ix2 0 q) := by
  pointwise [k0_pay6, scale]

/-- The normalised stream a point computes from its rows. -/
theorem pay1_apply (f : FVec Ideal S512x1024 .f32) (g : Vec Ideal S1x1024 .f32) (i : Fin 512) (q : Fin 1024) :
    k0_pay1 f g (ix2 i q) = f (ix2 i q) * scale (fun k => f (ix2 i k)) * g (ix2 0 q) := by
  pointwise [k0_pay1, scale]

/-- The block each window reads at a grid point. -/
theorem idx : ∀ t : Fin cfg0.N, (win0_0.index t = ![t.val, 0] ∧ win0_1.index t = ![0, 0]
    ∧ win0_2.index t = ![t.val, 0] ∧ win0_3.index t = ![0, 0]) ∧ win0_4.index t = ![0, 0]
    ∧ win0_5.index t = ![t.val, 0] ∧ win0_6.index t = ![t.val, 0] ∧ win0_7.index t = ![t.val, 0] :=
  (by decide +kernel : ∀ t : Fin grid0.N, _)

/-- The blocks of the inputs, read at an index. -/
theorem read0 (c : Dev nD) (t : Fin cfg0.N) (i : Fin 512) (k : Fin 1024) (p : Fin 4096) (h : (p : ℕ) = t.val * 512 + i) :
    (show FVec Ideal S512x1024 .bf16 from iblk m c 0 t) (ix2 i k) = m ((c : Thread nD τ).loc main_arg0) (ix2 p k) := by
  blk_simp [iblk]
  entry_read
  pointwise
  blk_ext [idx t]

theorem read1 (c : Dev nD) (t : Fin cfg0.N) (k : Fin 1024) (q' q : Fin 1024) (h : (q : ℕ) = q') :
    (show FVec Ideal S1024x1024 .bf16 from iblk m c 1 t) (ix2 k q') = m ((c : Thread nD τ).loc main_arg1) (ix2 k q) := by
  blk_simp [iblk]
  entry_read
  pointwise
  blk_ext [idx t]

theorem read2 (c : Dev nD) (t : Fin cfg0.N) (i : Fin 512) (q : Fin 1024) (p : Fin 4096) (h : (p : ℕ) = t.val * 512 + i) :
    (show FVec Ideal S512x1024 .f32 from iblk m c 2 t) (ix2 i q) = m ((c : Thread nD τ).loc main_arg2) (ix2 p q) := by
  blk_ext [iblk, V, idx t]

theorem read3 (c : Dev nD) (t : Fin cfg0.N) (z : Fin 1) (q : Fin 1024) :
    (show FVec Ideal S1x1024 .f32 from iblk m c 3 t) (ix2 z q) = m ((c : Thread nD τ).loc main_arg3) (ix1 q) := by
  blk_simp [iblk]
  entry_read
  pointwise
  blk_ext [idx t]

theorem read4 (c : Dev nD) (t : Fin cfg0.N) (z : Fin 1) (q : Fin 1024) :
    (show FVec Ideal S1x1024 .f32 from iblk m c 4 t) (ix2 z q) = m ((c : Thread nD τ).loc main_arg4) (ix1 q) := by
  blk_simp [iblk]
  entry_read
  pointwise
  blk_ext [idx t]

theorem zero2 : (![0, 0] : Fin 2 → Nat) = fun _ => 0 := funext fun a => by fin_cases a <;> rfl

/-- The projection of the arguments. -/
abbrev P (c : Dev nD) : FVec Ideal S4096x1024 .f32 :=
  DOT (m ((c : Thread nD τ).loc main_arg0)) (m ((c : Thread nD τ).loc main_arg1))

/-- The residual stream of the arguments. -/
abbrev H (c : Dev nD) : FVec Ideal S4096x1024 .f32 :=
  REF1 (m ((c : Thread nD τ).loc main_arg0)) (m ((c : Thread nD τ).loc main_arg1)) (m ((c : Thread nD τ).loc main_arg2))
    (m ((c : Thread nD τ).loc main_arg3))

/-- A point's residual rows, given that its projected rows are the projection's. -/
theorem rows6 (c : Dev nD) (t : Fin cfg0.N) (Y : Vec Ideal S512x1024 .f32) (i : Fin 512) (q : Fin 1024) (p : Fin 4096)
    (hp : (p : ℕ) = t.val * 512 + i) (hY : ∀ k : Fin 1024, Y (ix2 i k) = P m c (ix2 p k)) :
    k0_pay6 Y (iblk m c 2 t) (iblk m c 3 t) (ix2 i q) = H m c (ix2 p q) := by
  refine (pay6_apply Y (iblk m c 2 t) (iblk m c 3 t) i q).trans ?_
  simp only [hY]
  refine Eq.trans ?_ (ref1_apply _ _ _ _ p q).symm
  exact Ideal.add_congr (read2 m c t i q p hp) (Ideal.mul_congr rfl (read3 m c t 0 q))

/-- A point's normalised rows, given that its projected rows are the projection's. -/
theorem rows1 (c : Dev nD) (t : Fin cfg0.N) (Y : Vec Ideal S512x1024 .f32) (i : Fin 512) (q : Fin 1024) (p : Fin 4096)
    (hp : (p : ℕ) = t.val * 512 + i) (hY : ∀ k : Fin 1024, Y (ix2 i k) = P m c (ix2 p k)) :
    k0_pay1 (k0_pay6 Y (iblk m c 2 t) (iblk m c 3 t)) (iblk m c 4 t) (ix2 i q)
      = REF2 (m ((c : Thread nD τ).loc main_arg0)) (m ((c : Thread nD τ).loc main_arg1)) (m ((c : Thread nD τ).loc main_arg2))
          (m ((c : Thread nD τ).loc main_arg3)) (m ((c : Thread nD τ).loc main_arg4)) (ix2 p q) := by
  refine (pay1_apply _ (iblk m c 4 t) i q).trans ?_
  have e : ∀ k, k0_pay6 Y (iblk m c 2 t) (iblk m c 3 t) (ix2 i k) = H m c (ix2 p k) := fun k => rows6 m c t Y i k p hp hY
  simp only [e]
  refine Eq.trans ?_ (ref2_apply _ _ _ _ _ p q).symm
  exact Ideal.mul_congr rfl (read4 m c t 0 q)

theorem final5 (c : Dev nD) : (dats m 0 c).arrAt 5 cfg0.N
    = REF0 (m ((c : Thread nD τ).loc main_arg0)) (m ((c : Thread nD τ).loc main_arg1)) := by
  have N8 : cfg0.N = 8 := N_0
  refine (dats m 0 c).arrAt_eq_of_covers 5 _ (by decide +kernel) fun t fl y => ?_
  have tt : t.val < 8 := lt_of_lt_of_eq t.isLt N8
  have y0 : (y 0 : ℕ) < 512 := (y 0).isLt
  have y1 : (y 1 : ℕ) < 1024 := (y 1).isLt
  obtain ⟨p, ep⟩ : ∃ p : Fin 4096, (p : ℕ) = t.val * 512 + (y 0 : ℕ) := ⟨⟨_, by omega⟩, rfl⟩
  obtain ⟨q, eq⟩ : ∃ q : Fin 1024, (q : ℕ) = (y 1 : ℕ) := ⟨⟨_, y1⟩, rfl⟩
  have e : ((cfg0.win 5).blk t).view.emb y = (ix2 p q : S4096x1024.Idx) := by
    blk_ext [idx t, ep, eq]
  refine Eq.trans ?_ (congrArg _ e).symm
  blk_simp
  rw [after0_5]
  unfold outsAt0
  frame_out
  rw [Cert.Blocks.readCov_whole _ _ zero2]
  rw [pay5_apply]
  canon_tiles x h
  all_goals
    open_payloads
    pointwise
    refine (Fin.sum_fin_congr fun k => Ideal.mul_congr (read0 m c t _ k p ?_) (read1 m c t k _ q ?_)).trans (dot_apply _ _ p q).symm
  all_goals (try dsimp only) <;> omega

theorem final6 (c : Dev nD) : (dats m 0 c).arrAt 6 cfg0.N = H m c := by
  have N8 : cfg0.N = 8 := N_0
  refine (dats m 0 c).arrAt_eq_of_covers 6 _ (by decide +kernel) fun t fl y => ?_
  have tt : t.val < 8 := lt_of_lt_of_eq t.isLt N8
  obtain ⟨i, q, rfl⟩ : ∃ (i : Fin 512) (q : Fin 1024), y = (ix2 i q : S512x1024.Idx) := ⟨y 0, y 1, eq_ix2 _⟩
  obtain ⟨p, ep⟩ : ∃ p : Fin 4096, (p : ℕ) = t.val * 512 + (i : ℕ) := ⟨⟨_, by omega⟩, rfl⟩
  have e : ((cfg0.win 6).blk t).view.emb (ix2 i q : S512x1024.Idx) = (ix2 p q : S4096x1024.Idx) := by
    blk_ext [idx t, ep]
  refine Eq.trans ?_ (congrArg _ e).symm
  blk_simp
  rw [after0_6]
  frame_out
  rw [Cert.Blocks.readCov_whole _ _ zero2]
  refine rows6 m c t _ i q p ep fun r => ?_
  generalize gz : (ix2 i r : S512x1024.Idx) = z
  have z0 : (z 0 : ℕ) = (i : ℕ) := by subst gz; rfl
  have z1 : (z 1 : ℕ) = (r : ℕ) := by subst gz; rfl
  clear gz
  canon_tiles x h
  all_goals
    open_payloads
    pointwise
    refine (Fin.sum_fin_congr fun k => Ideal.mul_congr (read0 m c t _ k p ?_) (read1 m c t k _ r ?_)).trans (dot_apply _ _ p r).symm
  all_goals (try dsimp only) <;> omega

theorem final7 (c : Dev nD) : (dats m 0 c).arrAt 7 cfg0.N = REF2 (m ((c : Thread nD τ).loc main_arg0))
    (m ((c : Thread nD τ).loc main_arg1)) (m ((c : Thread nD τ).loc main_arg2)) (m ((c : Thread nD τ).loc main_arg3))
    (m ((c : Thread nD τ).loc main_arg4)) := by
  have N8 : cfg0.N = 8 := N_0
  refine (dats m 0 c).arrAt_eq_of_covers 7 _ (by decide +kernel) fun t fl y => ?_
  have tt : t.val < 8 := lt_of_lt_of_eq t.isLt N8
  obtain ⟨i, q, rfl⟩ : ∃ (i : Fin 512) (q : Fin 1024), y = (ix2 i q : S512x1024.Idx) := ⟨y 0, y 1, eq_ix2 _⟩
  obtain ⟨p, ep⟩ : ∃ p : Fin 4096, (p : ℕ) = t.val * 512 + (i : ℕ) := ⟨⟨_, by omega⟩, rfl⟩
  have e : ((cfg0.win 7).blk t).view.emb (ix2 i q : S512x1024.Idx) = (ix2 p q : S4096x1024.Idx) := by
    blk_ext [idx t, ep]
  refine Eq.trans ?_ (congrArg _ e).symm
  blk_simp
  rw [after0_7]
  unfold outsAt0
  frame_out
  rw [Cert.Blocks.readCov_whole _ _ zero2]
  refine rows1 m c t _ i q p ep fun r => ?_
  generalize gz : (ix2 i r : S512x1024.Idx) = z
  have z0 : (z 0 : ℕ) = (i : ℕ) := by subst gz; rfl
  have z1 : (z 1 : ℕ) = (r : ℕ) := by subst gz; rfl
  clear gz
  canon_tiles x h
  all_goals
    open_payloads
    pointwise
    refine (Fin.sum_fin_congr fun k => Ideal.mul_congr (read0 m c t _ k p ?_) (read1 m c t k _ r ?_)).trans (dot_apply _ _ p r).symm
  all_goals (try dsimp only) <;> omega

/-- The run of the kernel: the results are the reference's terms, the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v4_0) = REF0 (m ((c : Thread nD τ).loc main_arg0)) (m ((c : Thread nD τ).loc main_arg1))
      ∧ r.2.mem ((c : Thread nD τ).loc main_v4_1) = REF1 (m ((c : Thread nD τ).loc main_arg0)) (m ((c : Thread nD τ).loc main_arg1)) (m ((c : Thread nD τ).loc main_arg2)) (m ((c : Thread nD τ).loc main_arg3))
      ∧ r.2.mem ((c : Thread nD τ).loc main_v4_2) = REF2 (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final5 m c), (h c).2.1.trans (final6 m c), (h c).2.2.1.trans (final7 m c), (h c).2.2.2⟩) (Value.run_blocks m ρ)

end Cert.AttnOutIdeal.Fwd

namespace Cert.Proof

open Idealize.ShloMosaic Idealize.SL.Sem

/-- The reference runs to its end and leaves its arguments as they were. -/
theorem quiescent_AttnOutReferenceIdeal : quiescent_AttnOutReferenceIdeal := fun m ρ _ =>
  (θ_run Cert.AttnOutReferenceIdeal.defs _ _).mono
    (fun r h => ⟨fun c => (h c).2.2.2, sem_eq_zero_of_no_sems (by decide) r.2⟩)
    (Cert.AttnOutReferenceIdeal.Value.run (F := Ideal) m ρ)

/-- Kernel and reference end with the same projection, residual stream and normalised stream. -/
theorem algebraic_AttnOut : algebraic_AttnOutIdeal_AttnOutReferenceIdeal := by
  intro m ρ m' ρ' _ hagree
  refine ⟨_, _, _, Cert.AttnOutIdeal.Fwd.run m ρ, ?_⟩
  refine (θ_run Cert.AttnOutReferenceIdeal.defs _ _).mono (fun _ h c => ⟨?_, ?_, ?_, (h c).2.2.2⟩)
    (Cert.AttnOutReferenceIdeal.Value.run (F := Ideal) m' ρ')
  · rw [(h c).1]
    simp only [hagree c]
    rfl
  · rw [(h c).2.1]
    simp only [hagree c]
    rfl
  · rw [(h c).2.2.1]
    simp only [hagree c]
    rfl

end Cert.Proof

end
-- ==== Proof.Adam.lean ====
module

public import Idealize.ShloMosaic.Lib.Pipeline.ValueKit

@[expose] public section

set_option maxRecDepth 16384

noncomputable section

/-! # One AdamW step on one number

The kernels multiply a moment by the inverse of its bias correction, the reference divides by the correction. -/

namespace Cert.Adam

open Idealize.ShloMosaic

/-- The bias correction of the first moment at step ten, `1 - 0.9 ^ 10`. -/
abbrev B1 : ℝ := 6513215599 / 10000000000

/-- The bias correction of the second moment at step ten, `1 - 0.999 ^ 10`. -/
abbrev B2 : ℝ := 9955119790251790119955009999 / 1000000000000000000000000000000

/-- Multiplying by the inverse of a bias correction is dividing by it. -/
theorem mul_inv (φ : FTy) (b : ℝ) (hb : b ≠ 0) (x : Ideal φ) :
    FloatOps.mulf x ((((b)⁻¹ : ℝ) : EReal) : Ideal φ) = FloatOps.divf x (((b : ℝ) : EReal) : Ideal φ) := by
  refine Eq.trans ?_ (Ideal.div_coe hb x).symm
  rw [one_div]
  rfl

/-- The new first moment. -/
def M (g m : Ideal .f32) : Ideal .f32 :=
  FloatOps.addf (FloatOps.mulf (Scalar.ofBits .f32 0x3F666666#32) m) (FloatOps.mulf (Scalar.ofBits .f32 0x3DCCCCCD#32) g)

/-- The new second moment. -/
def V (g v : Ideal .f32) : Ideal .f32 :=
  FloatOps.addf (FloatOps.mulf (Scalar.ofBits .f32 0x3F7FBE77#32) v)
    (FloatOps.mulf (Scalar.ofBits .f32 0x3A83126F#32) (FloatOps.mulf g g))

/-- The change of the weight, of the two moments once corrected. -/
def D (w mh vh : Ideal .f32) : Ideal .f32 :=
  FloatOps.mulf (Scalar.ofBits .f32 0xBA83126F#32)
    (FloatOps.addf (FloatOps.divf mh (FloatOps.addf (FloatOps.sqrt vh) (Scalar.ofBits .f32 0x322BCC77#32)))
      (FloatOps.mulf (Scalar.ofBits .f32 0x3C23D70A#32) w))

/-- The change of the weight as the kernels compute it, by the inverse corrections. -/
def kernelStep (g w m v : Ideal .f32) : Ideal .f32 :=
  D w (FloatOps.mulf (M g m) ((((B1)⁻¹ : ℝ) : EReal) : Ideal .f32)) (FloatOps.mulf (V g v) ((((B2)⁻¹ : ℝ) : EReal) : Ideal .f32))

/-- The change of the weight as the reference computes it, by division. -/
def step (g w m v : Ideal .f32) : Ideal .f32 :=
  D w (FloatOps.divf (M g m) ((((B1) : ℝ) : EReal) : Ideal .f32)) (FloatOps.divf (V g v) ((((B2) : ℝ) : EReal) : Ideal .f32))

/-- The two are equal. -/
theorem kernelStep_eq (g w m v : Ideal .f32) : kernelStep g w m v = step g w m v := by
  unfold kernelStep step
  rw [mul_inv .f32 B1 (by norm_num), mul_inv .f32 B2 (by norm_num)]

end Cert.Adam

end
-- ==== Proof.Spatial.lean ====
module

public import proofs.«01_k».proof.Defs
public import proofs.«01_k».proof.Proof.Gen.SpatialIdeal.Value
public import proofs.«01_k».proof.Proof.Gen.SpatialReferenceIdeal.Value
public import proofs.«01_k».proof.Proof.Adam
public import Idealize.ShloMosaic.Lib.Pipeline.ValueKit

@[expose] public section

set_option maxRecDepth 16384

noncomputable section

namespace Cert.SpatialIdeal.Fwd

open Idealize.ShloMosaic Idealize.ShloMosaic.TcCoe Idealize.SL.Sem
open Cert.SpatialIdeal Cert.SpatialIdeal.Gen Cert.SpatialIdeal.Value

/-- The value of a named constant. -/
theorem inv1 : Named.named (F := Ideal) Cert.SpatialIdeal.κ "inv_b1" (φ := .f32) 0x3FC48605#32 = ((((Adam.B1)⁻¹ : ℝ) : EReal)) :=
  IdealRules.named_const.ideal_named_scalar _ _ _ _ rfl

/-- The value of a named constant. -/
theorem inv2 : Named.named (F := Ideal) Cert.SpatialIdeal.κ "inv_b2" (φ := .f32) 0x42C8E6D3#32 = ((((Adam.B2)⁻¹ : ℝ) : EReal)) :=
  IdealRules.named_const.ideal_named_scalar _ _ _ _ rfl

/-- The value of a named constant. -/
theorem cor1 : Named.named (F := Ideal) Cert.SpatialReferenceIdeal.κ "b1" (φ := .f32) 0x3F26BD02#32 = ((((Adam.B1) : ℝ) : EReal)) :=
  IdealRules.named_const.ideal_named_scalar _ _ _ _ rfl

/-- The value of a named constant. -/
theorem cor2 : Named.named (F := Ideal) Cert.SpatialReferenceIdeal.κ "b2" (φ := .f32) 0x3C231ACC#32 = ((((Adam.B2) : ℝ) : EReal)) :=
  IdealRules.named_const.ideal_named_scalar _ _ _ _ rfl

/-- The offsets of a whole tile. -/
theorem zero2 : (![0, 0] : Fin 2 → Nat) = fun _ => 0 := funext fun a => by fin_cases a <;> rfl

/-- The reference's gradient: the sum of the eight devices' parts. -/
theorem ref_sum (P : FVec Ideal S8x2048x128 .f32) (p : Fin 2048) (p' : Fin 2048) (e : (p' : ℕ) = p) (q : Fin 128) :
    Cert.SpatialReferenceIdeal.Gen.k0_pay1 (F := Ideal) P (ix2 p q)
      = P (ix3 0 p' q) + P (ix3 1 p' q) + P (ix3 2 p' q) + P (ix3 3 p' q) + P (ix3 4 p' q) + P (ix3 5 p' q) + P (ix3 6 p' q) + P (ix3 7 p' q) := by
  obtain ⟨a, ha⟩ := p
  obtain ⟨b, hb⟩ := p'
  obtain rfl : b = a := e
  pointwise [Cert.SpatialReferenceIdeal.Gen.k0_pay1]
  refine (Fin.sum_univ_eight _).trans ?_
  rfl

/-- The reference's results, read at an index. -/
theorem ref_m (P : FVec Ideal S8x2048x128 .f32) (M : FVec Ideal S2048x128 .f32) (i : S2048x128.Idx) :
    Cert.SpatialReferenceIdeal.Gen.k0_pay2 (F := Ideal) P M i = Adam.M (Cert.SpatialReferenceIdeal.Gen.k0_pay1 (F := Ideal) P i) (M i) := rfl

theorem ref_v (P : FVec Ideal S8x2048x128 .f32) (V : FVec Ideal S2048x128 .f32) (i : S2048x128.Idx) :
    Cert.SpatialReferenceIdeal.Gen.k0_pay3 (F := Ideal) P V i = Adam.V (Cert.SpatialReferenceIdeal.Gen.k0_pay1 (F := Ideal) P i) (V i) := rfl

theorem ref_d (P : FVec Ideal S8x2048x128 .f32) (W M V : FVec Ideal S2048x128 .f32) (i : S2048x128.Idx) :
    Cert.SpatialReferenceIdeal.Gen.k0_pay4 (F := Ideal) P W M V i = Adam.step (Cert.SpatialReferenceIdeal.Gen.k0_pay1 (F := Ideal) P i) (W i) (M i) (V i) := by
  unfold Adam.step
  rw [← cor1, ← cor2]
  rfl

/-- The kernel's payloads, read at an index. -/
theorem pay_m (G M : FVec Ideal S512x128 .f32) (i : S512x128.Idx) :
    k0_pay1 (F := Ideal) G M i = Adam.M (G i) (M i) := rfl

theorem pay_v (G V : FVec Ideal S512x128 .f32) (i : S512x128.Idx) :
    k0_pay2 (F := Ideal) G V i = Adam.V (G i) (V i) := rfl

theorem pay_d (G W M V : FVec Ideal S512x128 .f32) (i : S512x128.Idx) :
    k0_pay3 (F := Ideal) G W M V i = Adam.step (G i) (W i) (M i) (V i) := by
  rw [← Adam.kernelStep_eq]
  unfold Adam.kernelStep
  rw [← inv1, ← inv2]
  rfl

/-- The kernel's gradient: the eight parts added one after another. -/
theorem pay_g (X : FVec Ideal S8x512x128 .f32) (i : Fin 512) (q : Fin 128) :
    k0_pay4 (F := Ideal) (View.ld (Val := Elt Ideal) X r0_0) (View.ld (Val := Elt Ideal) X r0_1) (View.ld (Val := Elt Ideal) X r0_2) (View.ld (Val := Elt Ideal) X r0_3) (View.ld (Val := Elt Ideal) X r0_4) (View.ld (Val := Elt Ideal) X r0_5) (View.ld (Val := Elt Ideal) X r0_6) (View.ld (Val := Elt Ideal) X r0_7) (ix2 i q)
      = X (ix3 0 i q) + X (ix3 1 i q) + X (ix3 2 i q) + X (ix3 3 i q) + X (ix3 4 i q) + X (ix3 5 i q) + X (ix3 6 i q) + X (ix3 7 i q) := by
  pointwise [k0_pay4]

variable (m : (ℓ : Loc nD τ sig) → Buf (Elt Ideal) ℓ)

/-- Which tile each window reads or writes at a point of the grid. -/
theorem idx : ∀ t : Fin cfg0.N, win0_0.index t = ![0, t.val, 0] ∧ win0_1.index t = ![t.val, 0]
    ∧ win0_2.index t = ![t.val, 0] ∧ win0_3.index t = ![t.val, 0] ∧ win0_4.index t = ![t.val, 0] ∧ win0_5.index t = ![t.val, 0]
    ∧ win0_6.index t = ![t.val, 0] ∧ win0_7.index t = ![t.val, 0] := (by decide +kernel : ∀ t : Fin grid0.N, _)

/-- The tile of the parts, read at an index. -/
theorem read0 (c : Dev nD) (t : Fin cfg0.N) (a : Fin 8) (i : Fin 512) (q : Fin 128) (p : Fin 2048) (h : (p : ℕ) = t.val * 512 + i) :
    (show FVec Ideal S8x512x128 .f32 from iblk m c 0 t) (ix3 a i q) = m ((c : Thread nD τ).loc main_arg0) (ix3 a p q) := by
  blk_simp [iblk]
  entry_read
  pointwise
  blk_ext [idx t]

/-- The tile of the weights, read at an index. -/
theorem read1 (c : Dev nD) (t : Fin cfg0.N) (i : Fin 512) (q : Fin 128) (p : Fin 2048) (h : (p : ℕ) = t.val * 512 + i) :
    (show FVec Ideal S512x128 .f32 from iblk m c 1 t) (ix2 i q) = m ((c : Thread nD τ).loc main_arg1) (ix2 p q) := by
  blk_simp [iblk]
  entry_read
  pointwise
  blk_ext [idx t]

/-- The tile of the first moment, read at an index. -/
theorem read2 (c : Dev nD) (t : Fin cfg0.N) (i : Fin 512) (q : Fin 128) (p : Fin 2048) (h : (p : ℕ) = t.val * 512 + i) :
    (show FVec Ideal S512x128 .f32 from iblk m c 2 t) (ix2 i q) = m ((c : Thread nD τ).loc main_arg2) (ix2 p q) := by
  blk_simp [iblk]
  entry_read
  pointwise
  blk_ext [idx t]

/-- The tile of the second moment, read at an index. -/
theorem read3 (c : Dev nD) (t : Fin cfg0.N) (i : Fin 512) (q : Fin 128) (p : Fin 2048) (h : (p : ℕ) = t.val * 512 + i) :
    (show FVec Ideal S512x128 .f32 from iblk m c 3 t) (ix2 i q) = m ((c : Thread nD τ).loc main_arg3) (ix2 p q) := by
  blk_simp [iblk]
  entry_read
  pointwise
  blk_ext [idx t]

/-- The gradient of a tile is the reference's gradient there. -/
theorem grad (c : Dev nD) (t : Fin cfg0.N) (i : Fin 512) (q : Fin 128) (p : Fin 2048) (h : (p : ℕ) = t.val * 512 + i) :
    k0_pay5 (F := Ideal) (iblk m c 0 t) (iblk m c 1 t) (iblk m c 2 t) (iblk m c 3 t) (ix2 i q)
      = Cert.SpatialReferenceIdeal.Gen.k0_pay1 (F := Ideal) (m ((c : Thread nD τ).loc main_arg0)) (ix2 p q) := by
  have hp : (p : ℕ) < 2048 := lt_of_lt_of_le p.isLt (by norm_num)
  refine (pay_g (iblk m c 0 t) i q).trans (Eq.trans ?_ (ref_sum _ p ⟨p, hp⟩ rfl q).symm)
  have r := fun a => read0 m c t a i q ⟨p, hp⟩ h
  exact Ideal.add_congr (Ideal.add_congr (Ideal.add_congr (Ideal.add_congr (Ideal.add_congr (Ideal.add_congr (Ideal.add_congr (r 0) (r 1)) (r 2)) (r 3)) (r 4)) (r 5)) (r 6)) (r 7)

/-- The array of the gradient after the run is the reference's. -/
theorem final4 (c : Dev nD) : (dats m 0 c).arrAt 4 cfg0.N = Cert.SpatialReferenceIdeal.Gen.k0_pay1 (F := Ideal) (m ((c : Thread nD τ).loc main_arg0)) := by
  have hN : cfg0.N = 4 := N_0
  refine (dats m 0 c).arrAt_eq_of_covers 4 _ (by decide +kernel) fun t fl y => ?_
  have tt : t.val < 4 := lt_of_lt_of_eq t.isLt hN
  obtain ⟨i, q, rfl⟩ : ∃ (i : Fin 512) (q : Fin 128), y = (ix2 i q : S512x128.Idx) := ⟨y 0, y 1, eq_ix2 y⟩
  have hi : (i : ℕ) < 512 := i.isLt
  obtain ⟨p, ep⟩ : ∃ p : Fin 2048, (p : ℕ) = t.val * 512 + (i : ℕ) := ⟨⟨_, by omega⟩, rfl⟩
  have e : ((cfg0.win 4).blk t).view.emb (ix2 i q : S512x128.Idx) = (ix2 p q : S2048x128.Idx) := by
    blk_ext [idx t, ep]
  refine Eq.trans ?_ (congrArg _ e).symm
  blk_simp
  rw [after0_4]
  unfold out0_4
  rw [View.canon_unit_zero zero2]
  exact grad m c t i q p ep

/-- The array of the change of the weights after the run is the reference's. -/
theorem final5 (c : Dev nD) : (dats m 0 c).arrAt 5 cfg0.N = Cert.SpatialReferenceIdeal.Gen.k0_pay4 (F := Ideal) (m ((c : Thread nD τ).loc main_arg0)) (m ((c : Thread nD τ).loc main_arg1)) (m ((c : Thread nD τ).loc main_arg2)) (m ((c : Thread nD τ).loc main_arg3)) := by
  have hN : cfg0.N = 4 := N_0
  refine (dats m 0 c).arrAt_eq_of_covers 5 _ (by decide +kernel) fun t fl y => ?_
  have tt : t.val < 4 := lt_of_lt_of_eq t.isLt hN
  obtain ⟨i, q, rfl⟩ : ∃ (i : Fin 512) (q : Fin 128), y = (ix2 i q : S512x128.Idx) := ⟨y 0, y 1, eq_ix2 y⟩
  have hi : (i : ℕ) < 512 := i.isLt
  obtain ⟨p, ep⟩ : ∃ p : Fin 2048, (p : ℕ) = t.val * 512 + (i : ℕ) := ⟨⟨_, by omega⟩, rfl⟩
  have e : ((cfg0.win 5).blk t).view.emb (ix2 i q : S512x128.Idx) = (ix2 p q : S2048x128.Idx) := by
    blk_ext [idx t, ep]
  refine Eq.trans ?_ (congrArg _ e).symm
  blk_simp
  rw [after0_5]
  unfold out0_5
  rw [View.canon_unit_zero zero2]
  simp only [View.ld_unit_zero (S := S512x128) zero2]
  refine (pay_d _ _ _ _ _).trans (Eq.trans ?_ (ref_d _ _ _ _ _).symm)
  exact congr (congr (congr (congrArg Adam.step (grad m c t i q p ep)) (read1 m c t i q p ep)) (read2 m c t i q p ep)) (read3 m c t i q p ep)

/-- The array of the first moment after the run is the reference's. -/
theorem final6 (c : Dev nD) : (dats m 0 c).arrAt 6 cfg0.N = Cert.SpatialReferenceIdeal.Gen.k0_pay2 (F := Ideal) (m ((c : Thread nD τ).loc main_arg0)) (m ((c : Thread nD τ).loc main_arg2)) := by
  have hN : cfg0.N = 4 := N_0
  refine (dats m 0 c).arrAt_eq_of_covers 6 _ (by decide +kernel) fun t fl y => ?_
  have tt : t.val < 4 := lt_of_lt_of_eq t.isLt hN
  obtain ⟨i, q, rfl⟩ : ∃ (i : Fin 512) (q : Fin 128), y = (ix2 i q : S512x128.Idx) := ⟨y 0, y 1, eq_ix2 y⟩
  have hi : (i : ℕ) < 512 := i.isLt
  obtain ⟨p, ep⟩ : ∃ p : Fin 2048, (p : ℕ) = t.val * 512 + (i : ℕ) := ⟨⟨_, by omega⟩, rfl⟩
  have e : ((cfg0.win 6).blk t).view.emb (ix2 i q : S512x128.Idx) = (ix2 p q : S2048x128.Idx) := by
    blk_ext [idx t, ep]
  refine Eq.trans ?_ (congrArg _ e).symm
  blk_simp
  rw [after0_6]
  unfold out0_6
  rw [View.canon_unit_zero zero2]
  simp only [View.ld_unit_zero (S := S512x128) zero2]
  refine (pay_m _ _ _).trans (Eq.trans ?_ (ref_m _ _ _).symm)
  exact congr (congrArg Adam.M (grad m c t i q p ep)) (read2 m c t i q p ep)

/-- The array of the second moment after the run is the reference's. -/
theorem final7 (c : Dev nD) : (dats m 0 c).arrAt 7 cfg0.N = Cert.SpatialReferenceIdeal.Gen.k0_pay3 (F := Ideal) (m ((c : Thread nD τ).loc main_arg0)) (m ((c : Thread nD τ).loc main_arg3)) := by
  have hN : cfg0.N = 4 := N_0
  refine (dats m 0 c).arrAt_eq_of_covers 7 _ (by decide +kernel) fun t fl y => ?_
  have tt : t.val < 4 := lt_of_lt_of_eq t.isLt hN
  obtain ⟨i, q, rfl⟩ : ∃ (i : Fin 512) (q : Fin 128), y = (ix2 i q : S512x128.Idx) := ⟨y 0, y 1, eq_ix2 y⟩
  have hi : (i : ℕ) < 512 := i.isLt
  obtain ⟨p, ep⟩ : ∃ p : Fin 2048, (p : ℕ) = t.val * 512 + (i : ℕ) := ⟨⟨_, by omega⟩, rfl⟩
  have e : ((cfg0.win 7).blk t).view.emb (ix2 i q : S512x128.Idx) = (ix2 p q : S2048x128.Idx) := by
    blk_ext [idx t, ep]
  refine Eq.trans ?_ (congrArg _ e).symm
  blk_simp
  rw [after0_7]
  unfold out0_7
  rw [View.canon_unit_zero zero2]
  simp only [View.ld_unit_zero (S := S512x128) zero2]
  refine (pay_v _ _ _).trans (Eq.trans ?_ (ref_v _ _ _).symm)
  exact congr (congrArg Adam.V (grad m c t i q p ep)) (read3 m c t i q p ep)

/-- The run of the kernel: the results are the reference's terms, the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v0_0) = Cert.SpatialReferenceIdeal.Gen.k0_pay1 (F := Ideal) (m ((c : Thread nD τ).loc main_arg0))
      ∧ r.2.mem ((c : Thread nD τ).loc main_v0_1) = Cert.SpatialReferenceIdeal.Gen.k0_pay4 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v0_2) = Cert.SpatialReferenceIdeal.Gen.k0_pay2 (F := Ideal) (m ((c : Thread nD τ).loc main_arg0)) (m ((c : Thread nD τ).loc main_arg2))
      ∧ r.2.mem ((c : Thread nD τ).loc main_v0_3) = Cert.SpatialReferenceIdeal.Gen.k0_pay3 (F := Ideal) (m ((c : Thread nD τ).loc main_arg0)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c), (h c).2.2.2.1.trans (final7 m c), (h c).2.2.2.2⟩) (Value.run_blocks m ρ)

end Cert.SpatialIdeal.Fwd

namespace Cert.Proof

open Idealize.ShloMosaic Idealize.SL.Sem

/-- The reference runs to its end and leaves its arguments as they were. -/
theorem quiescent_SpatialReferenceIdeal : quiescent_SpatialReferenceIdeal := fun m ρ _ => Cert.SpatialReferenceIdeal.Gen.frame m ρ

/-- The named constants of the kernel have the values they are named for. -/
theorem preserves_Spatial : preserves_Spatial_SpatialIdeal :=
  ⟨IdealRules.named_const.statement Cert.SpatialIdeal.κ "inv_b1" .f32 0x3FC48605#32 _ rfl,
    IdealRules.named_const.statement Cert.SpatialIdeal.κ "inv_b2" .f32 0x42C8E6D3#32 _ rfl⟩

/-- Kernel and reference end with the same gradient, change and moments of the spatial weights. -/
theorem algebraic_Spatial : algebraic_SpatialIdeal_SpatialReferenceIdeal := by
  intro m ρ m' ρ' _ hagree
  refine ⟨_, _, _, _, Cert.SpatialIdeal.Fwd.run m ρ, ?_⟩
  refine (θ_run Cert.SpatialReferenceIdeal.defs _ _).mono (fun _ h c => ⟨?_, ?_, ?_, ?_, (h c).2.2.2.2⟩)
    (Cert.SpatialReferenceIdeal.Value.run (F := Ideal) m' ρ')
  · rw [(h c).1]
    obtain ⟨e0, e1, e2, e3⟩ := hagree c
    rw [e0, e1, e2, e3]
  · rw [(h c).2.1]
    obtain ⟨e0, e1, e2, e3⟩ := hagree c
    rw [e0, e1, e2, e3]
  · rw [(h c).2.2.1]
    obtain ⟨e0, e1, e2, e3⟩ := hagree c
    rw [e0, e1, e2, e3]
  · rw [(h c).2.2.2.1]
    obtain ⟨e0, e1, e2, e3⟩ := hagree c
    rw [e0, e1, e2, e3]

end Cert.Proof

end
-- ==== Proof.Small.lean ====
module

public import proofs.«01_k».proof.Defs
public import proofs.«01_k».proof.Proof.Gen.SmallIdeal.Value
public import proofs.«01_k».proof.Proof.Gen.SmallReferenceIdeal.Value
public import proofs.«01_k».proof.Proof.Adam
public import Idealize.ShloMosaic.Lib.Pipeline.ValueKit

@[expose] public section

set_option maxRecDepth 16384

noncomputable section

namespace Cert.SmallIdeal.Fwd

open Idealize.ShloMosaic Idealize.ShloMosaic.TcCoe Idealize.SL.Sem
open Cert.SmallIdeal Cert.SmallIdeal.Gen Cert.SmallIdeal.Value

/-- The value of a named constant. -/
theorem inv1 : Named.named (F := Ideal) Cert.SmallIdeal.κ "inv_b1" (φ := .f32) 0x3FC48605#32 = ((((Adam.B1)⁻¹ : ℝ) : EReal)) :=
  IdealRules.named_const.ideal_named_scalar _ _ _ _ rfl

/-- The value of a named constant. -/
theorem inv2 : Named.named (F := Ideal) Cert.SmallIdeal.κ "inv_b2" (φ := .f32) 0x42C8E6D3#32 = ((((Adam.B2)⁻¹ : ℝ) : EReal)) :=
  IdealRules.named_const.ideal_named_scalar _ _ _ _ rfl

/-- The value of a named constant. -/
theorem cor1 : Named.named (F := Ideal) Cert.SmallReferenceIdeal.κ "b1" (φ := .f32) 0x3F26BD02#32 = ((((Adam.B1) : ℝ) : EReal)) :=
  IdealRules.named_const.ideal_named_scalar _ _ _ _ rfl

/-- The value of a named constant. -/
theorem cor2 : Named.named (F := Ideal) Cert.SmallReferenceIdeal.κ "b2" (φ := .f32) 0x3C231ACC#32 = ((((Adam.B2) : ℝ) : EReal)) :=
  IdealRules.named_const.ideal_named_scalar _ _ _ _ rfl

/-- The rows of the parts that belong to the small weights. -/
def rows (P : FVec Ideal S8x408x128 .f32) : FVec Ideal S8x384x128 .f32 :=
  View.ld (Val := Elt Ideal) (S := S8x408x128) (e' := .f32) P Cert.SmallReferenceIdeal.Gen.r0_0

/-- A row of them is the row of the parts. -/
theorem rows_apply (P : FVec Ideal S8x408x128 .f32) (a : Fin 8) (p : Fin 384) (p' : Fin 408) (e : (p' : ℕ) = p) (q : Fin 128) :
    rows P (ix3 a p q) = P (ix3 a p' q) := by
  obtain ⟨x, hx⟩ := p
  obtain ⟨y, hy⟩ := p'
  obtain rfl : y = x := e
  unfold rows
  pointwise
  blk_ext []

/-- The reference's gradient: the sum of the eight devices' parts. -/
theorem ref_sum (P : FVec Ideal S8x384x128 .f32) (p : Fin 384) (p' : Fin 384) (e : (p' : ℕ) = p) (q : Fin 128) :
    Cert.SmallReferenceIdeal.Gen.k0_pay1 (F := Ideal) P (ix2 p q)
      = P (ix3 0 p' q) + P (ix3 1 p' q) + P (ix3 2 p' q) + P (ix3 3 p' q) + P (ix3 4 p' q) + P (ix3 5 p' q) + P (ix3 6 p' q) + P (ix3 7 p' q) := by
  obtain ⟨a, ha⟩ := p
  obtain ⟨b, hb⟩ := p'
  obtain rfl : b = a := e
  pointwise [Cert.SmallReferenceIdeal.Gen.k0_pay1]
  refine (Fin.sum_univ_eight _).trans ?_
  rfl

/-- The reference's results, read at an index. -/
theorem ref_m (P : FVec Ideal S8x384x128 .f32) (M : FVec Ideal S384x128 .f32) (i : S384x128.Idx) :
    Cert.SmallReferenceIdeal.Gen.k0_pay2 (F := Ideal) P M i = Adam.M (Cert.SmallReferenceIdeal.Gen.k0_pay1 (F := Ideal) P i) (M i) := rfl

theorem ref_v (P : FVec Ideal S8x384x128 .f32) (V : FVec Ideal S384x128 .f32) (i : S384x128.Idx) :
    Cert.SmallReferenceIdeal.Gen.k0_pay3 (F := Ideal) P V i = Adam.V (Cert.SmallReferenceIdeal.Gen.k0_pay1 (F := Ideal) P i) (V i) := rfl

theorem ref_d (P : FVec Ideal S8x384x128 .f32) (W M V : FVec Ideal S384x128 .f32) (i : S384x128.Idx) :
    Cert.SmallReferenceIdeal.Gen.k0_pay4 (F := Ideal) P W M V i = Adam.step (Cert.SmallReferenceIdeal.Gen.k0_pay1 (F := Ideal) P i) (W i) (M i) (V i) := by
  unfold Adam.step
  rw [← cor1, ← cor2]
  rfl

/-- The kernel's payloads, read at an index. -/
theorem pay_m (G M : FVec Ideal S384x128 .f32) (i : S384x128.Idx) :
    k0_pay1 (F := Ideal) G M i = Adam.M (G i) (M i) := rfl

theorem pay_v (G V : FVec Ideal S384x128 .f32) (i : S384x128.Idx) :
    k0_pay2 (F := Ideal) G V i = Adam.V (G i) (V i) := rfl

theorem pay_d (G W M V : FVec Ideal S384x128 .f32) (i : S384x128.Idx) :
    k0_pay3 (F := Ideal) G W M V i = Adam.step (G i) (W i) (M i) (V i) := by
  rw [← Adam.kernelStep_eq]
  unfold Adam.kernelStep
  rw [← inv1, ← inv2]
  rfl

/-- The kernel's gradient of a tile of the parts. -/
def GRAD (X : FVec Ideal S8x384x128 .f32) : FVec Ideal S384x128 .f32 :=
  k0_pay4 (F := Ideal) (View.ld (Val := Elt Ideal) X (Rect.unit (s := S8x384x128) ![0, 0, 0] S1x384x128.size (inb_S8x384x128_S1x384x128_0_0_0))) (View.ld (Val := Elt Ideal) X (Rect.unit (s := S8x384x128) ![1, 0, 0] S1x384x128.size (inb_S8x384x128_S1x384x128_1_0_0))) (View.ld (Val := Elt Ideal) X (Rect.unit (s := S8x384x128) ![2, 0, 0] S1x384x128.size (inb_S8x384x128_S1x384x128_2_0_0))) (View.ld (Val := Elt Ideal) X (Rect.unit (s := S8x384x128) ![3, 0, 0] S1x384x128.size (inb_S8x384x128_S1x384x128_3_0_0))) (View.ld (Val := Elt Ideal) X (Rect.unit (s := S8x384x128) ![4, 0, 0] S1x384x128.size (inb_S8x384x128_S1x384x128_4_0_0))) (View.ld (Val := Elt Ideal) X (Rect.unit (s := S8x384x128) ![5, 0, 0] S1x384x128.size (inb_S8x384x128_S1x384x128_5_0_0))) (View.ld (Val := Elt Ideal) X (Rect.unit (s := S8x384x128) ![6, 0, 0] S1x384x128.size (inb_S8x384x128_S1x384x128_6_0_0))) (View.ld (Val := Elt Ideal) X (Rect.unit (s := S8x384x128) ![7, 0, 0] S1x384x128.size (inb_S8x384x128_S1x384x128_7_0_0)))

/-- The kernel's gradient: the eight parts added one after another. -/
theorem pay_g (X : FVec Ideal S8x384x128 .f32) (i : Fin 384) (q : Fin 128) :
    GRAD X (ix2 i q)
      = X (ix3 0 i q) + X (ix3 1 i q) + X (ix3 2 i q) + X (ix3 3 i q) + X (ix3 4 i q) + X (ix3 5 i q) + X (ix3 6 i q) + X (ix3 7 i q) := by
  unfold GRAD
  pointwise [k0_pay4]

variable (m : (ℓ : Loc nD τ sig) → Buf (Elt Ideal) ℓ)

/-- Which tile each window reads or writes at a point of the grid. -/
theorem idx : ∀ t : Fin cfg0.N, win0_0.index t = ![0, t.val, 0] ∧ win0_1.index t = ![t.val, 0]
    ∧ win0_2.index t = ![t.val, 0] ∧ win0_3.index t = ![t.val, 0] ∧ win0_4.index t = ![t.val, 0] ∧ win0_5.index t = ![t.val, 0]
    ∧ win0_6.index t = ![t.val, 0] ∧ win0_7.index t = ![t.val, 0] := (by decide +kernel : ∀ t : Fin grid0.N, _)

/-- The one tile of the parts, read at an index. -/
theorem read0 (c : Dev nD) (t : Fin cfg0.N) (a : Fin 8) (i : Fin 384) (q : Fin 128) (p : Fin 408) (h : (p : ℕ) = t.val * 384 + i) :
    (show FVec Ideal S8x384x128 .f32 from X0_0 m c t) (ix3 a i q) = m ((c : Thread nD τ).loc main_arg0) (ix3 a p q) := by
  show X0_0 m c t (ix3 a i q : S8x384x128.Idx) = _
  unfold X0_0 Pipeline.Window.fill
  rw [dif_pos (moved0_0 t (ix3 a i q : S8x384x128.Idx))]
  blk_simp [iblk]
  entry_read
  pointwise
  blk_ext [idx t]

/-- The tile of the weights, read at an index. -/
theorem read1 (c : Dev nD) (t : Fin cfg0.N) (i : Fin 384) (q : Fin 128) (p : Fin 384) (h : (p : ℕ) = t.val * 384 + i) :
    (show FVec Ideal S384x128 .f32 from iblk m c 1 t) (ix2 i q) = m ((c : Thread nD τ).loc main_arg1) (ix2 p q) := by
  blk_simp [iblk]
  entry_read
  pointwise
  blk_ext [idx t]

/-- The tile of the first moment, read at an index. -/
theorem read2 (c : Dev nD) (t : Fin cfg0.N) (i : Fin 384) (q : Fin 128) (p : Fin 384) (h : (p : ℕ) = t.val * 384 + i) :
    (show FVec Ideal S384x128 .f32 from iblk m c 2 t) (ix2 i q) = m ((c : Thread nD τ).loc main_arg2) (ix2 p q) := by
  blk_simp [iblk]
  entry_read
  pointwise
  blk_ext [idx t]

/-- The tile of the second moment, read at an index. -/
theorem read3 (c : Dev nD) (t : Fin cfg0.N) (i : Fin 384) (q : Fin 128) (p : Fin 384) (h : (p : ℕ) = t.val * 384 + i) :
    (show FVec Ideal S384x128 .f32 from iblk m c 3 t) (ix2 i q) = m ((c : Thread nD τ).loc main_arg3) (ix2 p q) := by
  blk_simp [iblk]
  entry_read
  pointwise
  blk_ext [idx t]

/-- The gradient of the tile is the reference's gradient. -/
theorem grad (c : Dev nD) (t : Fin cfg0.N) (i : Fin 384) (q : Fin 128) (p : Fin 384) (h : (p : ℕ) = t.val * 384 + i) :
    GRAD (show FVec Ideal S8x384x128 .f32 from X0_0 m c t) (ix2 i q)
      = Cert.SmallReferenceIdeal.Gen.k0_pay1 (F := Ideal) (rows (m ((c : Thread nD τ).loc main_arg0))) (ix2 p q) := by
  have hp : (p : ℕ) < 408 := lt_of_lt_of_le p.isLt (by norm_num)
  refine (pay_g (X0_0 m c t) i q).trans (Eq.trans ?_ (ref_sum _ p p rfl q).symm)
  have r := fun a => (read0 m c t a i q ⟨p, hp⟩ h).trans (rows_apply _ a p ⟨p, hp⟩ rfl q).symm
  exact Ideal.add_congr (Ideal.add_congr (Ideal.add_congr (Ideal.add_congr (Ideal.add_congr (Ideal.add_congr (Ideal.add_congr (r 0) (r 1)) (r 2)) (r 3)) (r 4)) (r 5)) (r 6)) (r 7)

/-- The array of the gradient after the run is the reference's. -/
theorem final4 (c : Dev nD) : (dats m 0 c).arrAt 4 cfg0.N = Cert.SmallReferenceIdeal.Gen.k0_pay1 (F := Ideal) (rows (m ((c : Thread nD τ).loc main_arg0))) := by
  have hN : cfg0.N = 1 := N_0
  refine (dats m 0 c).arrAt_eq_of_covers 4 _ (by decide +kernel) fun t fl y => ?_
  have tt : t.val < 1 := lt_of_lt_of_eq t.isLt hN
  obtain ⟨i, q, rfl⟩ : ∃ (i : Fin 384) (q : Fin 128), y = (ix2 i q : S384x128.Idx) := ⟨y 0, y 1, eq_ix2 y⟩
  have hi : (i : ℕ) < 384 := i.isLt
  obtain ⟨p, ep⟩ : ∃ p : Fin 384, (p : ℕ) = t.val * 384 + (i : ℕ) := ⟨⟨_, by omega⟩, rfl⟩
  have e : ((cfg0.win 4).blk t).view.emb (ix2 i q : S384x128.Idx) = (ix2 p q : S384x128.Idx) := by
    blk_ext [idx t, ep]
  refine Eq.trans ?_ (congrArg _ e).symm
  blk_simp
  rw [after0_4]
  unfold outsAt0
  frame_out
  exact grad m c t i q p ep

/-- The array of the change of the weights after the run is the reference's. -/
theorem final5 (c : Dev nD) : (dats m 0 c).arrAt 5 cfg0.N = Cert.SmallReferenceIdeal.Gen.k0_pay4 (F := Ideal) (rows (m ((c : Thread nD τ).loc main_arg0))) (m ((c : Thread nD τ).loc main_arg1)) (m ((c : Thread nD τ).loc main_arg2)) (m ((c : Thread nD τ).loc main_arg3)) := by
  have hN : cfg0.N = 1 := N_0
  refine (dats m 0 c).arrAt_eq_of_covers 5 _ (by decide +kernel) fun t fl y => ?_
  have tt : t.val < 1 := lt_of_lt_of_eq t.isLt hN
  obtain ⟨i, q, rfl⟩ : ∃ (i : Fin 384) (q : Fin 128), y = (ix2 i q : S384x128.Idx) := ⟨y 0, y 1, eq_ix2 y⟩
  have hi : (i : ℕ) < 384 := i.isLt
  obtain ⟨p, ep⟩ : ∃ p : Fin 384, (p : ℕ) = t.val * 384 + (i : ℕ) := ⟨⟨_, by omega⟩, rfl⟩
  have e : ((cfg0.win 5).blk t).view.emb (ix2 i q : S384x128.Idx) = (ix2 p q : S384x128.Idx) := by
    blk_ext [idx t, ep]
  refine Eq.trans ?_ (congrArg _ e).symm
  blk_simp
  rw [after0_5]
  unfold outsAt0
  frame_out
  refine (pay_d _ _ _ _ _).trans (Eq.trans ?_ (ref_d _ _ _ _ _).symm)
  exact congr (congr (congr (congrArg Adam.step (grad m c t i q p ep)) (read1 m c t i q p ep)) (read2 m c t i q p ep)) (read3 m c t i q p ep)

/-- The array of the first moment after the run is the reference's. -/
theorem final6 (c : Dev nD) : (dats m 0 c).arrAt 6 cfg0.N = Cert.SmallReferenceIdeal.Gen.k0_pay2 (F := Ideal) (rows (m ((c : Thread nD τ).loc main_arg0))) (m ((c : Thread nD τ).loc main_arg2)) := by
  have hN : cfg0.N = 1 := N_0
  refine (dats m 0 c).arrAt_eq_of_covers 6 _ (by decide +kernel) fun t fl y => ?_
  have tt : t.val < 1 := lt_of_lt_of_eq t.isLt hN
  obtain ⟨i, q, rfl⟩ : ∃ (i : Fin 384) (q : Fin 128), y = (ix2 i q : S384x128.Idx) := ⟨y 0, y 1, eq_ix2 y⟩
  have hi : (i : ℕ) < 384 := i.isLt
  obtain ⟨p, ep⟩ : ∃ p : Fin 384, (p : ℕ) = t.val * 384 + (i : ℕ) := ⟨⟨_, by omega⟩, rfl⟩
  have e : ((cfg0.win 6).blk t).view.emb (ix2 i q : S384x128.Idx) = (ix2 p q : S384x128.Idx) := by
    blk_ext [idx t, ep]
  refine Eq.trans ?_ (congrArg _ e).symm
  blk_simp
  rw [after0_6]
  unfold outsAt0
  frame_out
  refine (pay_m _ _ _).trans (Eq.trans ?_ (ref_m _ _ _).symm)
  exact congr (congrArg Adam.M (grad m c t i q p ep)) (read2 m c t i q p ep)

/-- The array of the second moment after the run is the reference's. -/
theorem final7 (c : Dev nD) : (dats m 0 c).arrAt 7 cfg0.N = Cert.SmallReferenceIdeal.Gen.k0_pay3 (F := Ideal) (rows (m ((c : Thread nD τ).loc main_arg0))) (m ((c : Thread nD τ).loc main_arg3)) := by
  have hN : cfg0.N = 1 := N_0
  refine (dats m 0 c).arrAt_eq_of_covers 7 _ (by decide +kernel) fun t fl y => ?_
  have tt : t.val < 1 := lt_of_lt_of_eq t.isLt hN
  obtain ⟨i, q, rfl⟩ : ∃ (i : Fin 384) (q : Fin 128), y = (ix2 i q : S384x128.Idx) := ⟨y 0, y 1, eq_ix2 y⟩
  have hi : (i : ℕ) < 384 := i.isLt
  obtain ⟨p, ep⟩ : ∃ p : Fin 384, (p : ℕ) = t.val * 384 + (i : ℕ) := ⟨⟨_, by omega⟩, rfl⟩
  have e : ((cfg0.win 7).blk t).view.emb (ix2 i q : S384x128.Idx) = (ix2 p q : S384x128.Idx) := by
    blk_ext [idx t, ep]
  refine Eq.trans ?_ (congrArg _ e).symm
  blk_simp
  rw [after0_7]
  unfold outsAt0
  frame_out
  refine (pay_v _ _ _).trans (Eq.trans ?_ (ref_v _ _ _).symm)
  exact congr (congrArg Adam.V (grad m c t i q p ep)) (read3 m c t i q p ep)

/-- The run of the kernel: the results are the reference's terms, the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v0_0) = Cert.SmallReferenceIdeal.Gen.k0_pay1 (F := Ideal) (rows (m ((c : Thread nD τ).loc main_arg0)))
      ∧ r.2.mem ((c : Thread nD τ).loc main_v0_1) = Cert.SmallReferenceIdeal.Gen.k0_pay4 (F := Ideal) (rows (m ((c : Thread nD τ).loc main_arg0))) (m ((c : Thread nD τ).loc main_arg1)) (m ((c : Thread nD τ).loc main_arg2)) (m ((c : Thread nD τ).loc main_arg3))
      ∧ r.2.mem ((c : Thread nD τ).loc main_v0_2) = Cert.SmallReferenceIdeal.Gen.k0_pay2 (F := Ideal) (rows (m ((c : Thread nD τ).loc main_arg0))) (m ((c : Thread nD τ).loc main_arg2))
      ∧ r.2.mem ((c : Thread nD τ).loc main_v0_3) = Cert.SmallReferenceIdeal.Gen.k0_pay3 (F := Ideal) (rows (m ((c : Thread nD τ).loc main_arg0))) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c), (h c).2.2.2.1.trans (final7 m c), (h c).2.2.2.2⟩) (Value.run_blocks m ρ)

end Cert.SmallIdeal.Fwd

namespace Cert.Proof

open Idealize.ShloMosaic Idealize.SL.Sem

/-- The reference runs to its end and leaves its arguments as they were. -/
theorem quiescent_SmallReferenceIdeal : quiescent_SmallReferenceIdeal := fun m ρ _ => Cert.SmallReferenceIdeal.Gen.frame m ρ

/-- The named constants of the kernel have the values they are named for. -/
theorem preserves_Small : preserves_Small_SmallIdeal :=
  ⟨IdealRules.named_const.statement Cert.SmallIdeal.κ "inv_b1" .f32 0x3FC48605#32 _ rfl,
    IdealRules.named_const.statement Cert.SmallIdeal.κ "inv_b2" .f32 0x42C8E6D3#32 _ rfl⟩

/-- Kernel and reference end with the same gradient, change and moments of the small weights. -/
theorem algebraic_Small : algebraic_SmallIdeal_SmallReferenceIdeal := by
  intro m ρ m' ρ' _ hagree
  refine ⟨_, _, _, _, Cert.SmallIdeal.Fwd.run m ρ, ?_⟩
  refine (θ_run Cert.SmallReferenceIdeal.defs _ _).mono (fun _ h c => ⟨?_, ?_, ?_, ?_, (h c).2.2.2.2⟩)
    (Cert.SmallReferenceIdeal.Value.run (F := Ideal) m' ρ')
  · rw [(h c).1]
    obtain ⟨e0, e1, e2, e3⟩ := hagree c
    rw [e0, e1, e2, e3]
    rfl
  · rw [(h c).2.1]
    obtain ⟨e0, e1, e2, e3⟩ := hagree c
    rw [e0, e1, e2, e3]
    rfl
  · rw [(h c).2.2.1]
    obtain ⟨e0, e1, e2, e3⟩ := hagree c
    rw [e0, e1, e2, e3]
    rfl
  · rw [(h c).2.2.2.1]
    obtain ⟨e0, e1, e2, e3⟩ := hagree c
    rw [e0, e1, e2, e3]
    rfl

end Cert.Proof

end
-- ==== Proof.Bias.lean ====
module

public import proofs.«01_k».proof.Defs
public import proofs.«01_k».proof.Proof.Gen.BiasIdeal.Value
public import proofs.«01_k».proof.Proof.Gen.BiasReferenceIdeal.Value
public import proofs.«01_k».proof.Proof.Adam
public import Idealize.ShloMosaic.Lib.Pipeline.ValueKit

@[expose] public section

set_option maxRecDepth 16384

noncomputable section

namespace Cert.BiasIdeal.Fwd

open Idealize.ShloMosaic Idealize.ShloMosaic.TcCoe Idealize.SL.Sem
open Cert.BiasIdeal Cert.BiasIdeal.Gen Cert.BiasIdeal.Value

/-- The value of a named constant. -/
theorem inv1 : Named.named (F := Ideal) Cert.BiasIdeal.κ "inv_b1" (φ := .f32) 0x3FC48605#32 = ((((Adam.B1)⁻¹ : ℝ) : EReal)) :=
  IdealRules.named_const.ideal_named_scalar _ _ _ _ rfl

/-- The value of a named constant. -/
theorem inv2 : Named.named (F := Ideal) Cert.BiasIdeal.κ "inv_b2" (φ := .f32) 0x42C8E6D3#32 = ((((Adam.B2)⁻¹ : ℝ) : EReal)) :=
  IdealRules.named_const.ideal_named_scalar _ _ _ _ rfl

/-- The value of a named constant. -/
theorem cor1 : Named.named (F := Ideal) Cert.BiasReferenceIdeal.κ "b1" (φ := .f32) 0x3F26BD02#32 = ((((Adam.B1) : ℝ) : EReal)) :=
  IdealRules.named_const.ideal_named_scalar _ _ _ _ rfl

/-- The value of a named constant. -/
theorem cor2 : Named.named (F := Ideal) Cert.BiasReferenceIdeal.κ "b2" (φ := .f32) 0x3C231ACC#32 = ((((Adam.B2) : ℝ) : EReal)) :=
  IdealRules.named_const.ideal_named_scalar _ _ _ _ rfl

/-- The change of the weights: the kernel's is the reference's. -/
theorem delta (w g m v : FVec Ideal S8x128 .f32) : G4 (F := Ideal) w g m v = Cert.BiasReferenceIdeal.Value.G4 (F := Ideal) w g m v := by
  funext i
  have e : G4 (F := Ideal) w g m v i = Adam.kernelStep (g i) (w i) (m i) (v i) := by
    unfold Adam.kernelStep
    rw [← inv1, ← inv2]
    rfl
  have f : Cert.BiasReferenceIdeal.Value.G4 (F := Ideal) w g m v i = Adam.step (g i) (w i) (m i) (v i) := by
    unfold Adam.step
    rw [← cor1, ← cor2]
    rfl
  rw [e, f, Adam.kernelStep_eq]

variable (m : (ℓ : Loc nD τ sig) → Buf (Elt Ideal) ℓ)

/-- The run of the kernel: the results are the reference's terms, the arguments are unchanged. -/
theorem run (ρ : Dev nD → PrngReg) :
    θ_run defs (onTc (τ := τ) (main (F := Ideal))) ⟨m, fun _ => 0, ρ⟩ fun r => ∀ c : Dev nD,
      r.2.mem ((c : Thread nD τ).loc main_v0_0) = Cert.BiasReferenceIdeal.Value.G4 (F := Ideal) (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = Cert.BiasReferenceIdeal.Value.G5 (F := Ideal) (m ((c : Thread nD τ).loc main_arg1)) (m ((c : Thread nD τ).loc main_arg2))
      ∧ r.2.mem ((c : Thread nD τ).loc main_v0_2) = Cert.BiasReferenceIdeal.Value.G6 (F := Ideal) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (delta _ _ _ _), (h c).2.1.trans rfl, (h c).2.2.1.trans rfl, (h c).2.2.2⟩) (Value.run (F := Ideal) m ρ)

end Cert.BiasIdeal.Fwd

namespace Cert.Proof

open Idealize.ShloMosaic Idealize.SL.Sem

/-- The reference runs to its end and leaves its arguments as they were. -/
theorem quiescent_BiasReferenceIdeal : quiescent_BiasReferenceIdeal := fun m ρ _ => Cert.BiasReferenceIdeal.Gen.frame m ρ

/-- The named constants of the kernel have the values they are named for. -/
theorem preserves_Bias : preserves_Bias_BiasIdeal :=
  ⟨IdealRules.named_const.statement Cert.BiasIdeal.κ "inv_b1" .f32 0x3FC48605#32 _ rfl,
    IdealRules.named_const.statement Cert.BiasIdeal.κ "inv_b2" .f32 0x42C8E6D3#32 _ rfl⟩

/-- Kernel and reference end with the same change of the bias and the same two moments. -/
theorem algebraic_Bias : algebraic_BiasIdeal_BiasReferenceIdeal := by
  intro m ρ m' ρ' _ hagree
  refine ⟨_, _, _, Cert.BiasIdeal.Fwd.run m ρ, ?_⟩
  refine (θ_run Cert.BiasReferenceIdeal.defs _ _).mono (fun _ h c => ⟨?_, ?_, ?_, (h c).2.2.2⟩)
    (Cert.BiasReferenceIdeal.Value.run (F := Ideal) m' ρ')
  · rw [(h c).1]
    obtain ⟨e0, e1, e2, e3⟩ := hagree c
    rw [e0, e1, e2, e3]
  · rw [(h c).2.1]
    obtain ⟨e0, e1, e2, e3⟩ := hagree c
    rw [e1, e2]
  · rw [(h c).2.2.1]
    obtain ⟨e0, e1, e2, e3⟩ := hagree c
    rw [e1, e3]

end Cert.Proof

end
-- ==== Proof.BiasSum.lean ====
module

public import proofs.«01_k».proof.Defs
public import proofs.«01_k».proof.Proof.Gen.BiasSumIdeal.Value
public import proofs.«01_k».proof.Proof.Gen.BiasSumReferenceIdeal.Run
public import Idealize.ShloMosaic.Lib.Pipeline.ValueKit
public import Idealize.ShloMosaic.Lib.Quiescent

@[expose] public section

set_option maxRecDepth 16384

noncomputable section

namespace Cert.BiasSumIdeal.Fwd

open Idealize.ShloMosaic Idealize.ShloMosaic.TcCoe Idealize.SL.Sem
open Cert.BiasSumIdeal Cert.BiasSumIdeal.Gen Cert.BiasSumIdeal.Value

/-- The reference's term: the sum of the eight devices' parts. -/
def REF (P : FVec Ideal S8x24x128 .f32) : FVec Ideal S24x128 .f32 :=
  Host.reduceAdd P (constant Cert.BiasSumReferenceIdeal.S_ .f32 0x00000000#32)
    Cert.BiasSumReferenceIdeal.Gen.reducesTo_S8x24x128_S24x128_d0 Cert.BiasSumReferenceIdeal.Gen.h_S_

/-- The reference's term, read at an index. -/
theorem ref_apply (P : FVec Ideal S8x24x128 .f32) (p : Fin 24) (q : Fin 128) :
    REF P (ix2 p q)
      = P (ix3 0 p q) + P (ix3 1 p q) + P (ix3 2 p q) + P (ix3 3 p q) + P (ix3 4 p q) + P (ix3 5 p q) + P (ix3 6 p q) + P (ix3 7 p q) := by
  unfold REF
  pointwise
  refine Eq.trans ?_ (Fin.sum_univ_eight fun k : Fin 8 => P (ix3 k p q))
  rfl

/-- The kernel's term, the parts added one after another, is the reference's. -/
theorem sum_eq (P : FVec Ideal S8x24x128 .f32) : G1 (F := Ideal) P = REF P := by
  funext y
  obtain ⟨p, q, rfl⟩ : ∃ (p : Fin 24) (q : Fin 128), y = (ix2 p q : S24x128.Idx) := ⟨y 0, y 1, eq_ix2 y⟩
  refine Eq.trans ?_ (ref_apply P p q).symm
  pointwise [G1, k0_pay1]

variable (m : (ℓ : Loc nD τ sig) → Buf (Elt Ideal) ℓ)

/-- The run of the kernel: the result is the reference's term, the argument is unchanged. -/
theorem run (ρ : Dev nD → PrngReg) :
    θ_run defs (onTc (τ := τ) (main (F := Ideal))) ⟨m, fun _ => 0, ρ⟩ fun r => ∀ c : Dev nD,
      r.2.mem ((c : Thread nD τ).loc main_v0) = REF (m ((c : Thread nD τ).loc main_arg0))
      ∧ r.2.mem ((c : Thread nD τ).loc main_arg0) = m ((c : Thread nD τ).loc main_arg0) :=
  (θ_run defs _ _).mono (fun r h c => ⟨(h c).1.trans (sum_eq _), (h c).2⟩) (Value.run (F := Ideal) m ρ)

end Cert.BiasSumIdeal.Fwd

namespace Cert.Proof

open Idealize.ShloMosaic Idealize.SL.Sem

/-- The reference runs to its end and leaves its argument as it was. -/
theorem quiescent_BiasSumReferenceIdeal : quiescent_BiasSumReferenceIdeal := fun m ρ _ =>
  (θ_run Cert.BiasSumReferenceIdeal.defs _ _).mono
    (fun r h => ⟨fun c => (h c).2, sem_eq_zero_of_no_sems (by decide) r.2⟩)
    (Cert.BiasSumReferenceIdeal.Value.run (F := Ideal) m ρ)

/-- Kernel and reference end with the same gradient of the biases. -/
theorem algebraic_BiasSum : algebraic_BiasSumIdeal_BiasSumReferenceIdeal := by
  intro m ρ m' ρ' _ hagree
  refine ⟨_, Cert.BiasSumIdeal.Fwd.run m ρ, ?_⟩
  refine (θ_run Cert.BiasSumReferenceIdeal.defs _ _).mono (fun _ h c => ⟨?_, (h c).2⟩)
    (Cert.BiasSumReferenceIdeal.Value.run (F := Ideal) m' ρ')
  rw [(h c).1, hagree c]
  rfl

end Cert.Proof

end
-- ==== Proof.Update.lean ====
module

public import proofs.«01_k».proof.Proof.Adam
public import Idealize.ShloMosaic.Lib.Pipeline.ValueKit

@[expose] public section

set_option maxRecDepth 16384

noncomputable section

/-! # What the updates of the stacked weights share -/

namespace Cert.Update

open Idealize.ShloMosaic Idealize.SL.Sem

/-- Where an element of a tile lies in the array, of the number of the tile. -/
theorem emb {sig : RefSig} {G : Pipeline.Grid} (w : Pipeline.Window sig G) (hk : w.kind = .blocked) (t : Fin G.N) (y : (w.xblock (G.coords t)).Idx)
    (z : w.shape.Idx) (v : Fin w.shape.rank → Nat) (hi : w.index t = v) (h : ∀ b, v b * w.size b + (y b : ℕ) = z b) : (w.rect t).emb y = z :=
  funext fun b => Fin.ext ((w.rect_emb_val t y b hk).trans (by rw [hi]; exact h b))

/-- What the place of a tile reads when it holds the tile. -/
abbrev back {sig : RefSig} {κ : Kind} {sp : Space} {s : Shape} {e : EltTy} {m : Memref sig κ sp s e} (h : m.IsWhole) (X : s.Idx → Elt Ideal e) : s.Idx → Elt Ideal e :=
  View.read (Elt Ideal) m.view (h.unread X)

theorem back_eq {sig : RefSig} {κ : Kind} {sp : Space} {s : Shape} {e : EltTy} {m : Memref sig κ sp s e} (h : m.IsWhole) (X : s.Idx → Elt Ideal e) : back h X = X :=
  h.read_unread X

/-- An element of one layer is known by its row and its column. -/
theorem at_row {R C : ℕ} (x : (⟨3, ![1, R, C]⟩ : Shape).Idx) (p : Fin R) (q : Fin C) (h1 : (x 1 : ℕ) = p) (h2 : (x 2 : ℕ) = q) : x = ix3 0 p q := by
  rw [eq_ix3 x]
  exact congr (congr (congrArg ix3 (Subsingleton.elim (α := Fin 1) _ _)) (Fin.ext h1)) (Fin.ext h2)

theorem some_row {R C : ℕ} (x : (⟨3, ![1, R, C]⟩ : Shape).Idx) : ∃ (p : Fin R) (q : Fin C), x = ix3 0 p q :=
  ⟨x 1, x 2, at_row x _ _ rfl rfl⟩

/-- Two elements at the same layer, row and column are one. -/
theorem ext_row {A R C : ℕ} (z : (⟨3, ![A, R, C]⟩ : Shape).Idx) (a : Fin A) (p : Fin R) (q : Fin C) (h0 : (a : ℕ) = z 0) (h1 : (p : ℕ) = z 1)
    (h2 : (q : ℕ) = z 2) : ix3 a p q = z := by
  rw [eq_ix3 z]
  exact congr (congr (congrArg ix3 (Fin.ext h0)) (Fin.ext h1)) (Fin.ext h2)

end Cert.Update

end
-- ==== Proof.GmlpOutUpdate0.lean ====
module

public import proofs.«01_k».proof.Defs
public import proofs.«01_k».proof.Proof.Gen.GmlpOutUpdate0.Frame
public import proofs.«01_k».proof.Proof.Gen.GmlpOutUpdate0Ideal.Frame
public import proofs.«01_k».proof.Proof.Gen.GmlpOutUpdate0ReferenceIdeal.Value
public import proofs.«01_k».proof.Proof.Update

@[expose] public section

set_option maxRecDepth 16384

noncomputable section

open Idealize.ShloMosaic Idealize.ShloMosaic.TcCoe Idealize.SL.Sem

/-! # The update of layer 0 of a_w_out -/

namespace Cert.GmlpOutUpdate0.Fwd

open Cert.GmlpOutUpdate0 Cert.GmlpOutUpdate0.Gen

section

variable {F : FTy → Type} [FloatOps F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

end Cert.GmlpOutUpdate0.Fwd

namespace Cert.GmlpOutUpdate0Ideal.Fwd

open Cert.GmlpOutUpdate0Ideal Cert.GmlpOutUpdate0Ideal.Gen

section

variable {F : FTy → Type} [FloatOps F] [Named F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

/-- The value of a named constant. -/
theorem inv1 : Named.named (F := Ideal) Cert.GmlpOutUpdate0Ideal.κ "inv_b1" (φ := .f32) 0x3FC48605#32 = ((((Adam.B1)⁻¹ : ℝ) : EReal)) :=
  IdealRules.named_const.ideal_named_scalar _ _ _ _ rfl

/-- The value of a named constant. -/
theorem inv2 : Named.named (F := Ideal) Cert.GmlpOutUpdate0Ideal.κ "inv_b2" (φ := .f32) 0x42C8E6D3#32 = ((((Adam.B2)⁻¹ : ℝ) : EReal)) :=
  IdealRules.named_const.ideal_named_scalar _ _ _ _ rfl

/-- The value of a named constant. -/
theorem cor1 : Named.named (F := Ideal) Cert.GmlpOutUpdate0ReferenceIdeal.κ "b1" (φ := .f32) 0x3F26BD02#32 = ((((Adam.B1) : ℝ) : EReal)) :=
  IdealRules.named_const.ideal_named_scalar _ _ _ _ rfl

/-- The value of a named constant. -/
theorem cor2 : Named.named (F := Ideal) Cert.GmlpOutUpdate0ReferenceIdeal.κ "b2" (φ := .f32) 0x3C231ACC#32 = ((((Adam.B2) : ℝ) : EReal)) :=
  IdealRules.named_const.ideal_named_scalar _ _ _ _ rfl

open Update (back back_eq)

variable (m : (ℓ : Loc nD τ sig) → Buf (Elt Ideal) ℓ) (c : Dev nD) (t : Fin (cfgM m (ok m)).N)

/-- Which tile each window reads or writes at a point of the grid. -/
theorem idx0 : ((cfgM m (ok m)).win 0).index t = ![0, t.val, 0] := by
  have e : ∀ t : Fin grid0.N, cc0_transform_0 (F := Ideal) inb_S1_S1_0 numel1_S1 zero (grid0.coords t) = ![0, t.val, 0] := by decide +kernel
  refine Eq.trans ?_ (e t)
  show cc0_transform_0 inb_S1_S1_0 numel1_S1 (tbl m) (grid0.coords t) = _
  rw [table]

theorem idx1 : ∀ t : Fin grid0.N, cc0_transform_1 (grid0.coords t) = ![0, t.val, 0] := by decide +kernel

theorem idx : ∀ t : Fin grid0.N, cc0_transform_2 (grid0.coords t) = ![0, t.val, 0] := by decide +kernel

section

variable (i : Fin 128) (q : Fin 1024) (p : Fin 256) (h : (p : ℕ) = t.val * 128 + i)
include h

/-- The tile of the device's part, read at an index. -/
def tile0 : FVec Ideal S1x128x1024 .bf16 := iblk m (ok m) c 0 t

theorem read0 :
    tile0 m c t (ix3 0 i q) = m ((c : Thread nD τ).loc main_arg0) (ix3 0 p q) :=
  (congrArg (V m c main_arg0) (Update.emb ((cfgM m (ok m)).win 0) rfl t (ix3 0 i q : S1x128x1024.Idx) (ix3 0 p q : S8x256x1024.Idx) _ (idx0 m t)
    fun b => by fin_cases b; exacts [rfl, h.symm, Nat.zero_add _])).trans (congrFun (V_main_arg0 m c) _)

/-- The tile of the other devices' parts, read at an index. -/
def tile1 : FVec Ideal S7x128x1024 .bf16 := iblk m (ok m) c 1 t

theorem read1 (a : Fin 7) :
    tile1 m c t (ix3 a i q) = m ((c : Thread nD τ).loc main_arg1) (ix3 a p q) :=
  (congrArg (V m c main_arg1) (Update.emb ((cfgM m (ok m)).win 1) rfl t (ix3 a i q : S7x128x1024.Idx) (ix3 a p q : S7x256x1024.Idx) _ (idx1 t)
    fun b => by fin_cases b; exacts [Nat.zero_add _, h.symm, Nat.zero_add _])).trans (congrFun (V_main_arg1 m c) _)

/-- The tile of the weights, read at an index. -/
def tile2 : FVec Ideal S1x128x1024 .f32 := iblk m (ok m) c 2 t

theorem read2 :
    tile2 m c t (ix3 0 i q) = m ((c : Thread nD τ).loc main_arg2) (ix3 0 p q) :=
  (congrArg (V m c main_arg2) (Update.emb ((cfgM m (ok m)).win 2) rfl t (ix3 0 i q : S1x128x1024.Idx) (ix3 0 p q : S2x256x1024.Idx) _ (idx t)
    fun b => by fin_cases b; exacts [rfl, h.symm, Nat.zero_add _])).trans (congrFun (V_main_arg2 m c) _)

/-- The tile of the first moment, read at an index. -/
def tile3 : FVec Ideal S1x128x1024 .f32 := iblk m (ok m) c 3 t

theorem read3 :
    tile3 m c t (ix3 0 i q) = m ((c : Thread nD τ).loc main_arg3) (ix3 0 p q) :=
  (congrArg (V m c main_arg3) (Update.emb ((cfgM m (ok m)).win 3) rfl t (ix3 0 i q : S1x128x1024.Idx) (ix3 0 p q : S2x256x1024.Idx) _ (idx t)
    fun b => by fin_cases b; exacts [rfl, h.symm, Nat.zero_add _])).trans (congrFun (V_main_arg3 m c) _)

/-- The tile of the second moment, read at an index. -/
def tile4 : FVec Ideal S1x128x1024 .f32 := iblk m (ok m) c 4 t

theorem read4 :
    tile4 m c t (ix3 0 i q) = m ((c : Thread nD τ).loc main_arg4) (ix3 0 p q) :=
  (congrArg (V m c main_arg4) (Update.emb ((cfgM m (ok m)).win 4) rfl t (ix3 0 i q : S1x128x1024.Idx) (ix3 0 p q : S2x256x1024.Idx) _ (idx t)
    fun b => by fin_cases b; exacts [rfl, h.symm, Nat.zero_add _])).trans (congrFun (V_main_arg4 m c) _)

end

/-- The layer `k` of a tile. -/
def lay (L : FVec Ideal S7x128x1024 .bf16) (k : ℕ) (h : ∀ a, (![k, 0, 0] : Fin 3 → Nat) a + S1x128x1024.size a ≤ S7x128x1024.size a) : FVec Ideal S1x128x1024 .bf16 :=
  View.ld (Val := Elt Ideal) (e' := .bf16) L (Rect.unit (s := S7x128x1024) ![k, 0, 0] S1x128x1024.size h)

/-- The sum over the devices of a tile. -/
def total (P : FVec Ideal S1x128x1024 .bf16) (L : FVec Ideal S7x128x1024 .bf16) : FVec Ideal S128x1024 .f32 :=
  k0_pay3 P (lay L 0 inb_S7x128x1024_S1x128x1024_0_0_0) (lay L 1 inb_S7x128x1024_S1x128x1024_1_0_0) (lay L 2 inb_S7x128x1024_S1x128x1024_2_0_0) (lay L 3 inb_S7x128x1024_S1x128x1024_3_0_0) (lay L 4 inb_S7x128x1024_S1x128x1024_4_0_0) (lay L 5 inb_S7x128x1024_S1x128x1024_5_0_0) (lay L 6 inb_S7x128x1024_S1x128x1024_6_0_0)

theorem total_apply (P : FVec Ideal S1x128x1024 .bf16) (L : FVec Ideal S7x128x1024 .bf16) (i : Fin 128) (q : Fin 1024) :
    total P L (ix2 i q) = (P (ix3 0 i q) : EReal) + L (ix3 0 i q) + L (ix3 1 i q) + L (ix3 2 i q) + L (ix3 3 i q) + L (ix3 4 i q) + L (ix3 5 i q) + L (ix3 6 i q) := by
  unfold total
  pointwise [k0_pay3, lay]

/-- The tiles the kernel writes, read at an index. -/
theorem pay_g (G : FVec Ideal S128x1024 .f32) (i : Fin 128) (q : Fin 1024) : k0_pay6 G (ix3 0 i q) = G (ix2 i q) := by
  pointwise [k0_pay6]

theorem pay_m (G : FVec Ideal S128x1024 .f32) (M : FVec Ideal S1x128x1024 .f32) (i : Fin 128) (q : Fin 1024) :
    k0_pay1 (k0_pay4 G M) (ix3 0 i q) = Adam.M (G (ix2 i q)) (M (ix3 0 i q)) := by
  unfold Adam.M
  pointwise [k0_pay1, k0_pay4]

theorem pay_v (G : FVec Ideal S128x1024 .f32) (V : FVec Ideal S1x128x1024 .f32) (i : Fin 128) (q : Fin 1024) :
    k0_pay2 (k0_pay5 G V) (ix3 0 i q) = Adam.V (G (ix2 i q)) (V (ix3 0 i q)) := by
  unfold Adam.V
  pointwise [k0_pay2, k0_pay5]

theorem pay_d (G : FVec Ideal S128x1024 .f32) (W M V : FVec Ideal S1x128x1024 .f32) (i : Fin 128) (q : Fin 1024) :
    k0_pay7 G W M V (ix3 0 i q) = Adam.step (G (ix2 i q)) (W (ix3 0 i q)) (M (ix3 0 i q)) (V (ix3 0 i q)) := by
  rw [← Adam.kernelStep_eq]
  unfold Adam.kernelStep Adam.D Adam.M Adam.V
  rw [← inv1, ← inv2]
  pointwise [k0_pay7, k0_pay4, k0_pay5]

/-- The tiles the kernel writes: the gradient, the change and the moments. -/
abbrev newG (P : FVec Ideal S1x128x1024 .bf16) (L : FVec Ideal S7x128x1024 .bf16) : FVec Ideal S1x128x1024 .f32 := k0_pay6 (total P L)

abbrev newD (P : FVec Ideal S1x128x1024 .bf16) (L : FVec Ideal S7x128x1024 .bf16) (W M V : FVec Ideal S1x128x1024 .f32) : FVec Ideal S1x128x1024 .f32 := k0_pay7 (total P L) W M V

abbrev newM (P : FVec Ideal S1x128x1024 .bf16) (L : FVec Ideal S7x128x1024 .bf16) (M : FVec Ideal S1x128x1024 .f32) : FVec Ideal S1x128x1024 .f32 := k0_pay1 (k0_pay4 (total P L) M)

abbrev newV (P : FVec Ideal S1x128x1024 .bf16) (L : FVec Ideal S7x128x1024 .bf16) (V : FVec Ideal S1x128x1024 .f32) : FVec Ideal S1x128x1024 .f32 := k0_pay2 (k0_pay5 (total P L) V)

/-! What the outputs hold after a point of the grid. -/

theorem out5 : (outsAt0 m (ok m) c t).1 = newG (tile0 m c t) (tile1 m c t) := by
  unfold outsAt0
  frame_out
  change newG (back (hs0_0 m (ok m) t) (tile0 m c t)) (back (hs0_1 m (ok m) t) (tile1 m c t)) = _
  simp only [back_eq]

theorem out6 : (outsAt0 m (ok m) c t).2.1 = newD (tile0 m c t) (tile1 m c t) (tile2 m c t) (tile3 m c t) (tile4 m c t) := by
  unfold outsAt0
  frame_out
  change newD (back (hs0_0 m (ok m) t) (tile0 m c t)) (back (hs0_1 m (ok m) t) (tile1 m c t)) (back (hs0_2 m (ok m) t) (tile2 m c t)) (back (hs0_3 m (ok m) t) (tile3 m c t)) (back (hs0_4 m (ok m) t) (tile4 m c t)) = _
  simp only [back_eq]

theorem out7 : (outsAt0 m (ok m) c t).2.2.1 = newM (tile0 m c t) (tile1 m c t) (tile3 m c t) := by
  unfold outsAt0
  frame_out
  change newM (back (hs0_0 m (ok m) t) (tile0 m c t)) (back (hs0_1 m (ok m) t) (tile1 m c t)) (back (hs0_3 m (ok m) t) (tile3 m c t)) = _
  simp only [back_eq]

theorem out8 : (outsAt0 m (ok m) c t).2.2.2 = newV (tile0 m c t) (tile1 m c t) (tile4 m c t) := by
  unfold outsAt0
  frame_out
  change newV (back (hs0_0 m (ok m) t) (tile0 m c t)) (back (hs0_1 m (ok m) t) (tile1 m c t)) (back (hs0_4 m (ok m) t) (tile4 m c t)) = _
  simp only [back_eq]

end Cert.GmlpOutUpdate0Ideal.Fwd

namespace Cert.GmlpOutUpdate0ReferenceIdeal.Fwd

open Cert.GmlpOutUpdate0ReferenceIdeal Cert.GmlpOutUpdate0ReferenceIdeal.Gen Cert.GmlpOutUpdate0ReferenceIdeal.Value

/-- The layers of an array of the weight. -/
abbrev Stack := FVec Ideal S2x256x1024 .f32

variable (a0 : FVec Ideal S8x256x1024 .bf16) (a1 : FVec Ideal S7x256x1024 .bf16) (a2 a3 a4 a5 a6 a7 a8 : Stack)

/-- The sum over the devices. -/
def total (p : Fin 256) (q : Fin 1024) : EReal :=
  (a0 (ix3 0 p q) : EReal) + a1 (ix3 0 p q) + a1 (ix3 1 p q) + a1 (ix3 2 p q) + a1 (ix3 3 p q) + a1 (ix3 4 p q) + a1 (ix3 5 p q) + a1 (ix3 6 p q)

theorem sum_apply (p : Fin 256) (q : Fin 1024) :
    k0_pay3 (F := Ideal) (View.ld (Val := Elt Ideal) (e' := .f32) a0 r0_0) a1 (ix2 p q) = total a0 a1 p q := by
  pointwise [k0_pay3]
  refine (congrArg (_ + ·) (Fin.sum_univ_seven _)).trans ?_
  unfold total
  simp only [add_assoc]

/-! The steps, read at an index. -/

theorem step_m (M : FVec Ideal S1x256x1024 .f32) (p : Fin 256) (q : Fin 1024) :
    k0_pay4 (F := Ideal) (View.ld (Val := Elt Ideal) (e' := .f32) a0 r0_0) a1 M (ix2 p q) = Adam.M (total a0 a1 p q) (M (ix3 0 p q)) := by
  rw [← sum_apply]
  unfold Adam.M
  pointwise [k0_pay4]

theorem step_v (V : FVec Ideal S1x256x1024 .f32) (p : Fin 256) (q : Fin 1024) :
    k0_pay5 (F := Ideal) (View.ld (Val := Elt Ideal) (e' := .f32) a0 r0_0) a1 V (ix2 p q) = Adam.V (total a0 a1 p q) (V (ix3 0 p q)) := by
  rw [← sum_apply]
  unfold Adam.V
  pointwise [k0_pay5]

theorem step_d (W M V : FVec Ideal S1x256x1024 .f32) (p : Fin 256) (q : Fin 1024) :
    (k0_pay9 (k0_pay6 (View.ld (Val := Elt Ideal) a0 r0_0) a1 W M V) (Scalar.ofBits .f32 0xBA83126F#32) : FVec Ideal S1x256x1024 .f32) (ix3 0 p q) = Adam.step (total a0 a1 p q) (W (ix3 0 p q)) (M (ix3 0 p q)) (V (ix3 0 p q)) := by
  unfold Adam.step
  rw [← Cert.GmlpOutUpdate0Ideal.Fwd.cor1, ← Cert.GmlpOutUpdate0Ideal.Fwd.cor2, ← step_m, ← step_v]
  unfold Adam.D
  pointwise [k0_pay9, k0_pay6]

/-- The layer of an array, read at an index. -/
theorem row (a : Stack) (p : Fin 256) (q : Fin 1024) : (View.ld (Val := Elt Ideal) (e' := .f32) a r0_2) (ix3 0 p q : S1x256x1024.Idx) = a (ix3 0 p q) := by
  pointwise

/-! What the reference writes, at the layer and elsewhere. -/

variable {a0 a1 a2 a3 a4 a5 a6 a7 a8} (z : S2x256x1024.Idx)

section

variable (p : Fin 256) (q : Fin 1024) (z0 : (z 0 : ℕ) = 0) (z1 : (z 1 : ℕ) = p) (z2 : (z 2 : ℕ) = q)
include z0 z1 z2

theorem ref9 : G9 (F := Ideal) a0 a1 a2 a3 a4 a5 a6 a7 a8 z = total a0 a1 p q := by
  unfold G9
  canon_tiles x h
  all_goals try omega
  rw [Update.at_row (x : S1x256x1024.Idx) p q (h1.symm.trans z1) (h2.symm.trans z2)]
  refine Eq.trans ?_ (sum_apply a0 a1 p q)
  pointwise [k0_pay7]

theorem ref10 : G10 (F := Ideal) a0 a1 a2 a3 a4 a5 a6 a7 a8 z = Adam.step (total a0 a1 p q) (a2 (ix3 0 p q)) (a3 (ix3 0 p q)) (a4 (ix3 0 p q)) := by
  unfold G10
  canon_tiles x h
  all_goals try omega
  rw [Update.at_row (x : S1x256x1024.Idx) p q (h1.symm.trans z1) (h2.symm.trans z2)]
  exact (step_d a0 a1 (View.ld (Val := Elt Ideal) (e' := .f32) a2 r0_2) (View.ld (Val := Elt Ideal) (e' := .f32) a3 r0_2) (View.ld (Val := Elt Ideal) (e' := .f32) a4 r0_2) p q).trans (congr (congr (congrArg (Adam.step _) (row a2 p q)) (row a3 p q)) (row a4 p q))

theorem ref11 : G11 (F := Ideal) a0 a1 a2 a3 a4 a5 a6 a7 a8 z = Adam.M (total a0 a1 p q) (a3 (ix3 0 p q)) := by
  unfold G11
  canon_tiles x h
  all_goals try omega
  rw [Update.at_row (x : S1x256x1024.Idx) p q (h1.symm.trans z1) (h2.symm.trans z2)]
  refine Eq.trans ?_ ((step_m a0 a1 (View.ld (Val := Elt Ideal) (e' := .f32) a3 r0_2) p q).trans (congrArg (Adam.M _) (row a3 p q)))
  pointwise [k0_pay11]

theorem ref12 : G12 (F := Ideal) a0 a1 a2 a3 a4 a5 a6 a7 a8 z = Adam.V (total a0 a1 p q) (a4 (ix3 0 p q)) := by
  unfold G12
  canon_tiles x h
  all_goals try omega
  rw [Update.at_row (x : S1x256x1024.Idx) p q (h1.symm.trans z1) (h2.symm.trans z2)]
  refine Eq.trans ?_ ((step_v a0 a1 (View.ld (Val := Elt Ideal) (e' := .f32) a4 r0_2) p q).trans (congrArg (Adam.V _) (row a4 p q)))
  pointwise [k0_pay1]

end

variable (hz : (z 0 : ℕ) ≠ 0)
include hz

theorem keep9 : G9 (F := Ideal) a0 a1 a2 a3 a4 a5 a6 a7 a8 z = a5 z := by
  unfold G9
  canon_tiles x h
  all_goals try omega
  all_goals
    obtain ⟨p, q, rfl⟩ := Update.some_row (x : S1x256x1024.Idx)
    pointwise [k0_pay8]
    exact congrArg a5 (Update.ext_row z _ p q h0.symm h1.symm h2.symm)

theorem keep10 : G10 (F := Ideal) a0 a1 a2 a3 a4 a5 a6 a7 a8 z = a6 z := by
  unfold G10
  canon_tiles x h
  all_goals try omega
  all_goals
    obtain ⟨p, q, rfl⟩ := Update.some_row (x : S1x256x1024.Idx)
    pointwise [k0_pay10]
    exact congrArg a6 (Update.ext_row z _ p q h0.symm h1.symm h2.symm)

theorem keep11 : G11 (F := Ideal) a0 a1 a2 a3 a4 a5 a6 a7 a8 z = a7 z := by
  unfold G11
  canon_tiles x h
  all_goals try omega
  all_goals
    obtain ⟨p, q, rfl⟩ := Update.some_row (x : S1x256x1024.Idx)
    pointwise [k0_pay12]
    exact congrArg a7 (Update.ext_row z _ p q h0.symm h1.symm h2.symm)

theorem keep12 : G12 (F := Ideal) a0 a1 a2 a3 a4 a5 a6 a7 a8 z = a8 z := by
  unfold G12
  canon_tiles x h
  all_goals try omega
  all_goals
    obtain ⟨p, q, rfl⟩ := Update.some_row (x : S1x256x1024.Idx)
    pointwise [k0_pay2]
    exact congrArg a8 (Update.ext_row z _ p q h0.symm h1.symm h2.symm)

end Cert.GmlpOutUpdate0ReferenceIdeal.Fwd

namespace Cert.GmlpOutUpdate0Ideal.Fwd

open Cert.GmlpOutUpdate0Ideal Cert.GmlpOutUpdate0Ideal.Gen
open Cert.GmlpOutUpdate0ReferenceIdeal.Fwd (Stack ref9 ref10 ref11 ref12 keep9 keep10 keep11 keep12)
open Cert.GmlpOutUpdate0ReferenceIdeal.Value (G9 G10 G11 G12)

variable (m : (ℓ : Loc nD τ sig) → Buf (Elt Ideal) ℓ)

/-- An element of a tile lies at a row of the array. -/
theorem some3 (t : Fin (cfgM m (ok m)).N) (y : S1x128x1024.Idx) :
    ∃ (i : Fin 128) (q : Fin 1024) (p : Fin 256), y = ix3 0 i q ∧ (p : ℕ) = t.val * 128 + i := by
  have tt : t.val < 2 := t.isLt
  obtain ⟨u, i, q, rfl⟩ : ∃ (u : Fin 1) (i : Fin 128) (q : Fin 1024), y = ix3 u i q := ⟨y 0, y 1, y 2, eq_ix3 y⟩
  obtain rfl : u = 0 := Subsingleton.elim _ _
  exact ⟨i, q, ⟨t.val * 128 + i, by omega⟩, rfl, rfl⟩

/-- A function of the nine arguments, of those of a device. -/
abbrev app {α : Type} (c : Dev nD) (G : FVec Ideal S8x256x1024 .bf16 → FVec Ideal S7x256x1024 .bf16 → Stack → Stack → Stack → Stack → Stack → Stack → Stack → α) : α :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The gradient of a tile is the reference's gradient there. -/
theorem grad (c : Dev nD) (t : Fin (cfgM m (ok m)).N) (i : Fin 128) (q : Fin 1024) (p : Fin 256) (h : (p : ℕ) = t.val * 128 + i) :
    total (tile0 m c t) (tile1 m c t) (ix2 i q) = Cert.GmlpOutUpdate0ReferenceIdeal.Fwd.total (m ((c : Thread nD τ).loc main_arg0)) (m ((c : Thread nD τ).loc main_arg1)) p q := by
  refine (total_apply _ _ i q).trans ?_
  have r := read1 m c t i q p h
  exact Ideal.add_congr (Ideal.add_congr (Ideal.add_congr (Ideal.add_congr (Ideal.add_congr (Ideal.add_congr (Ideal.add_congr (read0 m c t i q p h) (r 0)) (r 1)) (r 2)) (r 3)) (r 4)) (r 5)) (r 6)

/-! The arrays after the run are the reference's. -/

theorem final5 (c : Dev nD) : (dats m (ok m) 0 c).arrAt 5 (cfgM m (ok m)).N = app m c (G9 (F := Ideal)) := by
  refine (dats m (ok m) 0 c).arrAt_eq_of_coversWhere_of_agree 5 _ (fun β => β (0 : Fin 3) = 0) (of_decide_eq_true (by sl_kernel_rfl)) (fun t fl y => ?_) (fun j hj => ?_)
  · obtain ⟨i, q, p, rfl, ep⟩ := some3 m t y
    have e := Update.emb ((cfgM m (ok m)).win 5) rfl t (ix3 0 i q : S1x128x1024.Idx) (ix3 0 p q : S2x256x1024.Idx) _ (idx t) fun b => by fin_cases b; exacts [rfl, ep.symm, Nat.zero_add _]
    refine Eq.trans ?_ (congrArg _ e).symm
    refine Eq.trans (congrFun ((after0_5 m (ok m) c t).trans (out5 m c t)) (ix3 0 i q : S1x128x1024.Idx)) ?_
    refine (pay_g _ i q).trans (Eq.trans ?_ (ref9 (ix3 0 p q) p q rfl rfl rfl).symm)
    exact (grad m c t i q p ep)
  · refine Eq.trans ?_ (keep9 j fun h => hj ((Pipeline.Window.cell_apply ((cfgM m (ok m)).win 5) j (0 : Fin 3)).trans ((Nat.div_one _).trans h))).symm
    refine (congrFun (A_eq m (ok m) c 5) _).trans ?_
    show V m c main_v1_0 j = _
    entry_read
    rfl

theorem final6 (c : Dev nD) : (dats m (ok m) 0 c).arrAt 6 (cfgM m (ok m)).N = app m c (G10 (F := Ideal)) := by
  refine (dats m (ok m) 0 c).arrAt_eq_of_coversWhere_of_agree 6 _ (fun β => β (0 : Fin 3) = 0) (of_decide_eq_true (by sl_kernel_rfl)) (fun t fl y => ?_) (fun j hj => ?_)
  · obtain ⟨i, q, p, rfl, ep⟩ := some3 m t y
    have e := Update.emb ((cfgM m (ok m)).win 6) rfl t (ix3 0 i q : S1x128x1024.Idx) (ix3 0 p q : S2x256x1024.Idx) _ (idx t) fun b => by fin_cases b; exacts [rfl, ep.symm, Nat.zero_add _]
    refine Eq.trans ?_ (congrArg _ e).symm
    refine Eq.trans (congrFun ((after0_6 m (ok m) c t).trans (out6 m c t)) (ix3 0 i q : S1x128x1024.Idx)) ?_
    refine (pay_d _ _ _ _ i q).trans (Eq.trans ?_ (ref10 (ix3 0 p q) p q rfl rfl rfl).symm)
    exact congr (congr (congr (congrArg Adam.step (grad m c t i q p ep)) (read2 m c t i q p ep)) (read3 m c t i q p ep)) (read4 m c t i q p ep)
  · refine Eq.trans ?_ (keep10 j fun h => hj ((Pipeline.Window.cell_apply ((cfgM m (ok m)).win 6) j (0 : Fin 3)).trans ((Nat.div_one _).trans h))).symm
    refine (congrFun (A_eq m (ok m) c 6) _).trans ?_
    show V m c main_v1_1 j = _
    entry_read
    rfl

theorem final7 (c : Dev nD) : (dats m (ok m) 0 c).arrAt 7 (cfgM m (ok m)).N = app m c (G11 (F := Ideal)) := by
  refine (dats m (ok m) 0 c).arrAt_eq_of_coversWhere_of_agree 7 _ (fun β => β (0 : Fin 3) = 0) (of_decide_eq_true (by sl_kernel_rfl)) (fun t fl y => ?_) (fun j hj => ?_)
  · obtain ⟨i, q, p, rfl, ep⟩ := some3 m t y
    have e := Update.emb ((cfgM m (ok m)).win 7) rfl t (ix3 0 i q : S1x128x1024.Idx) (ix3 0 p q : S2x256x1024.Idx) _ (idx t) fun b => by fin_cases b; exacts [rfl, ep.symm, Nat.zero_add _]
    refine Eq.trans ?_ (congrArg _ e).symm
    refine Eq.trans (congrFun ((after0_7 m (ok m) c t).trans (out7 m c t)) (ix3 0 i q : S1x128x1024.Idx)) ?_
    refine (pay_m _ _ i q).trans (Eq.trans ?_ (ref11 (ix3 0 p q) p q rfl rfl rfl).symm)
    exact congr (congrArg Adam.M (grad m c t i q p ep)) (read3 m c t i q p ep)
  · refine Eq.trans ?_ (keep11 j fun h => hj ((Pipeline.Window.cell_apply ((cfgM m (ok m)).win 7) j (0 : Fin 3)).trans ((Nat.div_one _).trans h))).symm
    refine (congrFun (A_eq m (ok m) c 7) _).trans ?_
    show V m c main_v1_2 j = _
    entry_read
    rfl

theorem final8 (c : Dev nD) : (dats m (ok m) 0 c).arrAt 8 (cfgM m (ok m)).N = app m c (G12 (F := Ideal)) := by
  refine (dats m (ok m) 0 c).arrAt_eq_of_coversWhere_of_agree 8 _ (fun β => β (0 : Fin 3) = 0) (of_decide_eq_true (by sl_kernel_rfl)) (fun t fl y => ?_) (fun j hj => ?_)
  · obtain ⟨i, q, p, rfl, ep⟩ := some3 m t y
    have e := Update.emb ((cfgM m (ok m)).win 8) rfl t (ix3 0 i q : S1x128x1024.Idx) (ix3 0 p q : S2x256x1024.Idx) _ (idx t) fun b => by fin_cases b; exacts [rfl, ep.symm, Nat.zero_add _]
    refine Eq.trans ?_ (congrArg _ e).symm
    refine Eq.trans (congrFun ((after0_8 m (ok m) c t).trans (out8 m c t)) (ix3 0 i q : S1x128x1024.Idx)) ?_
    refine (pay_v _ _ i q).trans (Eq.trans ?_ (ref12 (ix3 0 p q) p q rfl rfl rfl).symm)
    exact congr (congrArg Adam.V (grad m c t i q p ep)) (read4 m c t i q p ep)
  · refine Eq.trans ?_ (keep12 j fun h => hj ((Pipeline.Window.cell_apply ((cfgM m (ok m)).win 8) j (0 : Fin 3)).trans ((Nat.div_one _).trans h))).symm
    refine (congrFun (A_eq m (ok m) c 8) _).trans ?_
    show V m c main_v1_3 j = _
    entry_read
    rfl

end Cert.GmlpOutUpdate0Ideal.Fwd

namespace Cert.Proof

/-- The printed kernel and the idealized one run to their end and leave their arguments as they were. -/
theorem quiescent_GmlpOutUpdate0 : quiescent_GmlpOutUpdate0 := fun m ρ _ => Cert.GmlpOutUpdate0.Gen.frame m ρ (Cert.GmlpOutUpdate0.Fwd.ok m)

theorem quiescent_GmlpOutUpdate0Ideal : quiescent_GmlpOutUpdate0Ideal := fun m ρ _ => Cert.GmlpOutUpdate0Ideal.Gen.frame m ρ (Cert.GmlpOutUpdate0Ideal.Fwd.ok m)

/-- So does the reference. -/
theorem quiescent_GmlpOutUpdate0ReferenceIdeal : quiescent_GmlpOutUpdate0ReferenceIdeal := fun m ρ _ => Cert.GmlpOutUpdate0ReferenceIdeal.Gen.frame m ρ

/-- The named constants of the kernel have the values they are named for. -/
theorem preserves_GmlpOutUpdate0 : preserves_GmlpOutUpdate0_GmlpOutUpdate0Ideal :=
  ⟨IdealRules.named_const.statement Cert.GmlpOutUpdate0Ideal.κ "inv_b1" .f32 0x3FC48605#32 _ rfl,
    IdealRules.named_const.statement Cert.GmlpOutUpdate0Ideal.κ "inv_b2" .f32 0x42C8E6D3#32 _ rfl⟩

open Cert.GmlpOutUpdate0Ideal Cert.GmlpOutUpdate0Ideal.Gen Cert.GmlpOutUpdate0Ideal.Fwd in
/-- Kernel and reference end with the same gradient, change and moments of the layer, and keep the other layers. -/
theorem algebraic_GmlpOutUpdate0 : algebraic_GmlpOutUpdate0Ideal_GmlpOutUpdate0ReferenceIdeal := by
  intro m ρ m' ρ' _ hagree
  refine ⟨_, _, _, _, (θ_run _ _ _).mono (fun r h c => ⟨((h.1 c).1 5).trans (final5 m c), ((h.1 c).1 6).trans (final6 m c), ((h.1 c).1 7).trans (final7 m c),
    ((h.1 c).1 8).trans (final8 m c), h.2 c⟩) (θ_run_and (run_main m ρ (ok m)) (unchanged m ρ (ok m))), ?_⟩
  refine (θ_run _ _ _).mono (fun _ h c => ?_) (Cert.GmlpOutUpdate0ReferenceIdeal.Value.run (F := Ideal) m' ρ')
  obtain ⟨e0, e1, e2, e3, e4, e5, e6, e7, e8⟩ := hagree c
  refine ⟨(h c).1.trans ?_, (h c).2.1.trans ?_, (h c).2.2.1.trans ?_, (h c).2.2.2.1.trans ?_, (h c).2.2.2.2⟩ <;> rw [app, e0, e1, e2, e3, e4, e5, e6, e7, e8]

end Cert.Proof

end
-- ==== Proof.GmlpOutUpdate1.lean ====
module

public import proofs.«01_k».proof.Defs
public import proofs.«01_k».proof.Proof.Gen.GmlpOutUpdate1.Frame
public import proofs.«01_k».proof.Proof.Gen.GmlpOutUpdate1Ideal.Frame
public import proofs.«01_k».proof.Proof.Gen.GmlpOutUpdate1ReferenceIdeal.Value
public import proofs.«01_k».proof.Proof.GmlpOutUpdate0

@[expose] public section

set_option maxRecDepth 16384

noncomputable section

open Idealize.ShloMosaic Idealize.ShloMosaic.TcCoe Idealize.SL.Sem

/-! # The update of layer 1 of a_w_out -/

namespace Cert.GmlpOutUpdate1.Fwd

open Cert.GmlpOutUpdate1 Cert.GmlpOutUpdate1.Gen

section

variable {F : FTy → Type} [FloatOps F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

end Cert.GmlpOutUpdate1.Fwd

namespace Cert.GmlpOutUpdate1Ideal.Fwd

open Cert.GmlpOutUpdate1Ideal Cert.GmlpOutUpdate1Ideal.Gen

section

variable {F : FTy → Type} [FloatOps F] [Named F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

open Cert.GmlpOutUpdate0Ideal.Fwd (newG newD newM newV)

open Update (back back_eq)

variable (m : (ℓ : Loc nD τ sig) → Buf (Elt Ideal) ℓ) (c : Dev nD) (t : Fin (cfgM m (ok m)).N)

/-- Which tile each window reads or writes at a point of the grid. -/
theorem idx0 : ((cfgM m (ok m)).win 0).index t = ![0, t.val, 0] := by
  have e : ∀ t : Fin grid0.N, cc0_transform_0 (F := Ideal) inb_S1_S1_0 numel1_S1 zero (grid0.coords t) = ![0, t.val, 0] := by decide +kernel
  refine Eq.trans ?_ (e t)
  show cc0_transform_0 inb_S1_S1_0 numel1_S1 (tbl m) (grid0.coords t) = _
  rw [table]

theorem idx1 : ∀ t : Fin grid0.N, cc0_transform_1 (grid0.coords t) = ![0, t.val, 0] := by decide +kernel

theorem idx : ∀ t : Fin grid0.N, cc0_transform_2 (grid0.coords t) = ![1, t.val, 0] := by decide +kernel

section

variable (i : Fin 128) (q : Fin 1024) (p : Fin 256) (h : (p : ℕ) = t.val * 128 + i)
include h

/-- The tile of the device's part, read at an index. -/
def tile0 : FVec Ideal S1x128x1024 .bf16 := iblk m (ok m) c 0 t

theorem read0 :
    tile0 m c t (ix3 0 i q) = m ((c : Thread nD τ).loc main_arg0) (ix3 0 p q) :=
  (congrArg (V m c main_arg0) (Update.emb ((cfgM m (ok m)).win 0) rfl t (ix3 0 i q : S1x128x1024.Idx) (ix3 0 p q : S8x256x1024.Idx) _ (idx0 m t)
    fun b => by fin_cases b; exacts [rfl, h.symm, Nat.zero_add _])).trans (congrFun (V_main_arg0 m c) _)

/-- The tile of the other devices' parts, read at an index. -/
def tile1 : FVec Ideal S7x128x1024 .bf16 := iblk m (ok m) c 1 t

theorem read1 (a : Fin 7) :
    tile1 m c t (ix3 a i q) = m ((c : Thread nD τ).loc main_arg1) (ix3 a p q) :=
  (congrArg (V m c main_arg1) (Update.emb ((cfgM m (ok m)).win 1) rfl t (ix3 a i q : S7x128x1024.Idx) (ix3 a p q : S7x256x1024.Idx) _ (idx1 t)
    fun b => by fin_cases b; exacts [Nat.zero_add _, h.symm, Nat.zero_add _])).trans (congrFun (V_main_arg1 m c) _)

/-- The tile of the weights, read at an index. -/
def tile2 : FVec Ideal S1x128x1024 .f32 := iblk m (ok m) c 2 t

theorem read2 :
    tile2 m c t (ix3 0 i q) = m ((c : Thread nD τ).loc main_arg2) (ix3 1 p q) :=
  (congrArg (V m c main_arg2) (Update.emb ((cfgM m (ok m)).win 2) rfl t (ix3 0 i q : S1x128x1024.Idx) (ix3 1 p q : S2x256x1024.Idx) _ (idx t)
    fun b => by fin_cases b; exacts [rfl, h.symm, Nat.zero_add _])).trans (congrFun (V_main_arg2 m c) _)

/-- The tile of the first moment, read at an index. -/
def tile3 : FVec Ideal S1x128x1024 .f32 := iblk m (ok m) c 3 t

theorem read3 :
    tile3 m c t (ix3 0 i q) = m ((c : Thread nD τ).loc main_arg3) (ix3 1 p q) :=
  (congrArg (V m c main_arg3) (Update.emb ((cfgM m (ok m)).win 3) rfl t (ix3 0 i q : S1x128x1024.Idx) (ix3 1 p q : S2x256x1024.Idx) _ (idx t)
    fun b => by fin_cases b; exacts [rfl, h.symm, Nat.zero_add _])).trans (congrFun (V_main_arg3 m c) _)

/-- The tile of the second moment, read at an index. -/
def tile4 : FVec Ideal S1x128x1024 .f32 := iblk m (ok m) c 4 t

theorem read4 :
    tile4 m c t (ix3 0 i q) = m ((c : Thread nD τ).loc main_arg4) (ix3 1 p q) :=
  (congrArg (V m c main_arg4) (Update.emb ((cfgM m (ok m)).win 4) rfl t (ix3 0 i q : S1x128x1024.Idx) (ix3 1 p q : S2x256x1024.Idx) _ (idx t)
    fun b => by fin_cases b; exacts [rfl, h.symm, Nat.zero_add _])).trans (congrFun (V_main_arg4 m c) _)

end

/-! What the outputs hold after a point of the grid. -/

theorem out5 : (outsAt0 m (ok m) c t).1 = newG (tile0 m c t) (tile1 m c t) := by
  unfold outsAt0
  frame_out
  change newG (back (hs0_0 m (ok m) t) (tile0 m c t)) (back (hs0_1 m (ok m) t) (tile1 m c t)) = _
  simp only [back_eq]

theorem out6 : (outsAt0 m (ok m) c t).2.1 = newD (tile0 m c t) (tile1 m c t) (tile2 m c t) (tile3 m c t) (tile4 m c t) := by
  unfold outsAt0
  frame_out
  change newD (back (hs0_0 m (ok m) t) (tile0 m c t)) (back (hs0_1 m (ok m) t) (tile1 m c t)) (back (hs0_2 m (ok m) t) (tile2 m c t)) (back (hs0_3 m (ok m) t) (tile3 m c t)) (back (hs0_4 m (ok m) t) (tile4 m c t)) = _
  simp only [back_eq]

theorem out7 : (outsAt0 m (ok m) c t).2.2.1 = newM (tile0 m c t) (tile1 m c t) (tile3 m c t) := by
  unfold outsAt0
  frame_out
  change newM (back (hs0_0 m (ok m) t) (tile0 m c t)) (back (hs0_1 m (ok m) t) (tile1 m c t)) (back (hs0_3 m (ok m) t) (tile3 m c t)) = _
  simp only [back_eq]

theorem out8 : (outsAt0 m (ok m) c t).2.2.2 = newV (tile0 m c t) (tile1 m c t) (tile4 m c t) := by
  unfold outsAt0
  frame_out
  change newV (back (hs0_0 m (ok m) t) (tile0 m c t)) (back (hs0_1 m (ok m) t) (tile1 m c t)) (back (hs0_4 m (ok m) t) (tile4 m c t)) = _
  simp only [back_eq]

end Cert.GmlpOutUpdate1Ideal.Fwd

namespace Cert.GmlpOutUpdate1ReferenceIdeal.Fwd

open Cert.GmlpOutUpdate1ReferenceIdeal Cert.GmlpOutUpdate1ReferenceIdeal.Gen Cert.GmlpOutUpdate1ReferenceIdeal.Value
open Cert.GmlpOutUpdate0ReferenceIdeal.Fwd (total sum_apply step_m step_v step_d)

/-- The layers of an array of the weight. -/
abbrev Stack := FVec Ideal S2x256x1024 .f32

variable (a0 : FVec Ideal S8x256x1024 .bf16) (a1 : FVec Ideal S7x256x1024 .bf16) (a2 a3 a4 a5 a6 a7 a8 : Stack)

/-- The layer of an array, read at an index. -/
theorem row (a : Stack) (p : Fin 256) (q : Fin 1024) : (View.ld (Val := Elt Ideal) (e' := .f32) a r0_2) (ix3 0 p q : S1x256x1024.Idx) = a (ix3 1 p q) := by
  pointwise

/-! What the reference writes, at the layer and elsewhere. -/

variable {a0 a1 a2 a3 a4 a5 a6 a7 a8} (z : S2x256x1024.Idx)

section

variable (p : Fin 256) (q : Fin 1024) (z0 : (z 0 : ℕ) = 1) (z1 : (z 1 : ℕ) = p) (z2 : (z 2 : ℕ) = q)
include z0 z1 z2

theorem ref9 : G9 (F := Ideal) a0 a1 a2 a3 a4 a5 a6 a7 a8 z = total a0 a1 p q := by
  unfold G9
  canon_tiles x h
  all_goals try omega
  rw [Update.at_row (x : S1x256x1024.Idx) p q (h1.symm.trans z1) (h2.symm.trans z2)]
  refine Eq.trans ?_ (sum_apply a0 a1 p q)
  pointwise [k0_pay8]
  all_goals rfl

theorem ref10 : G10 (F := Ideal) a0 a1 a2 a3 a4 a5 a6 a7 a8 z = Adam.step (total a0 a1 p q) (a2 (ix3 1 p q)) (a3 (ix3 1 p q)) (a4 (ix3 1 p q)) := by
  unfold G10
  canon_tiles x h
  all_goals try omega
  rw [Update.at_row (x : S1x256x1024.Idx) p q (h1.symm.trans z1) (h2.symm.trans z2)]
  exact (step_d a0 a1 (View.ld (Val := Elt Ideal) (e' := .f32) a2 r0_2) (View.ld (Val := Elt Ideal) (e' := .f32) a3 r0_2) (View.ld (Val := Elt Ideal) (e' := .f32) a4 r0_2) p q).trans (congr (congr (congrArg (Adam.step _) (row a2 p q)) (row a3 p q)) (row a4 p q))

theorem ref11 : G11 (F := Ideal) a0 a1 a2 a3 a4 a5 a6 a7 a8 z = Adam.M (total a0 a1 p q) (a3 (ix3 1 p q)) := by
  unfold G11
  canon_tiles x h
  all_goals try omega
  rw [Update.at_row (x : S1x256x1024.Idx) p q (h1.symm.trans z1) (h2.symm.trans z2)]
  refine Eq.trans ?_ ((step_m a0 a1 (View.ld (Val := Elt Ideal) (e' := .f32) a3 r0_2) p q).trans (congrArg (Adam.M _) (row a3 p q)))
  pointwise [k0_pay12]
  all_goals rfl

theorem ref12 : G12 (F := Ideal) a0 a1 a2 a3 a4 a5 a6 a7 a8 z = Adam.V (total a0 a1 p q) (a4 (ix3 1 p q)) := by
  unfold G12
  canon_tiles x h
  all_goals try omega
  rw [Update.at_row (x : S1x256x1024.Idx) p q (h1.symm.trans z1) (h2.symm.trans z2)]
  refine Eq.trans ?_ ((step_v a0 a1 (View.ld (Val := Elt Ideal) (e' := .f32) a4 r0_2) p q).trans (congrArg (Adam.V _) (row a4 p q)))
  pointwise [k0_pay2]
  all_goals rfl

end

variable (hz : (z 0 : ℕ) ≠ 1)
include hz

theorem keep9 : G9 (F := Ideal) a0 a1 a2 a3 a4 a5 a6 a7 a8 z = a5 z := by
  unfold G9
  canon_tiles x h
  all_goals try omega
  all_goals
    obtain ⟨p, q, rfl⟩ := Update.some_row (x : S1x256x1024.Idx)
    pointwise [k0_pay7]
    exact congrArg a5 (Update.ext_row z _ p q h0.symm h1.symm h2.symm)

theorem keep10 : G10 (F := Ideal) a0 a1 a2 a3 a4 a5 a6 a7 a8 z = a6 z := by
  unfold G10
  canon_tiles x h
  all_goals try omega
  all_goals
    obtain ⟨p, q, rfl⟩ := Update.some_row (x : S1x256x1024.Idx)
    pointwise [k0_pay9]
    exact congrArg a6 (Update.ext_row z _ p q h0.symm h1.symm h2.symm)

theorem keep11 : G11 (F := Ideal) a0 a1 a2 a3 a4 a5 a6 a7 a8 z = a7 z := by
  unfold G11
  canon_tiles x h
  all_goals try omega
  all_goals
    obtain ⟨p, q, rfl⟩ := Update.some_row (x : S1x256x1024.Idx)
    pointwise [k0_pay11]
    exact congrArg a7 (Update.ext_row z _ p q h0.symm h1.symm h2.symm)

theorem keep12 : G12 (F := Ideal) a0 a1 a2 a3 a4 a5 a6 a7 a8 z = a8 z := by
  unfold G12
  canon_tiles x h
  all_goals try omega
  all_goals
    obtain ⟨p, q, rfl⟩ := Update.some_row (x : S1x256x1024.Idx)
    pointwise [k0_pay1]
    exact congrArg a8 (Update.ext_row z _ p q h0.symm h1.symm h2.symm)

end Cert.GmlpOutUpdate1ReferenceIdeal.Fwd

namespace Cert.GmlpOutUpdate1Ideal.Fwd

open Cert.GmlpOutUpdate1Ideal Cert.GmlpOutUpdate1Ideal.Gen
open Cert.GmlpOutUpdate0Ideal.Fwd (total total_apply pay_g pay_m pay_v pay_d)
open Cert.GmlpOutUpdate1ReferenceIdeal.Fwd (Stack ref9 ref10 ref11 ref12 keep9 keep10 keep11 keep12)
open Cert.GmlpOutUpdate1ReferenceIdeal.Value (G9 G10 G11 G12)

variable (m : (ℓ : Loc nD τ sig) → Buf (Elt Ideal) ℓ)

/-- An element of a tile lies at a row of the array. -/
theorem some3 (t : Fin (cfgM m (ok m)).N) (y : S1x128x1024.Idx) :
    ∃ (i : Fin 128) (q : Fin 1024) (p : Fin 256), y = ix3 0 i q ∧ (p : ℕ) = t.val * 128 + i := by
  have tt : t.val < 2 := t.isLt
  obtain ⟨u, i, q, rfl⟩ : ∃ (u : Fin 1) (i : Fin 128) (q : Fin 1024), y = ix3 u i q := ⟨y 0, y 1, y 2, eq_ix3 y⟩
  obtain rfl : u = 0 := Subsingleton.elim _ _
  exact ⟨i, q, ⟨t.val * 128 + i, by omega⟩, rfl, rfl⟩

/-- A function of the nine arguments, of those of a device. -/
abbrev app {α : Type} (c : Dev nD) (G : FVec Ideal S8x256x1024 .bf16 → FVec Ideal S7x256x1024 .bf16 → Stack → Stack → Stack → Stack → Stack → Stack → Stack → α) : α :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The gradient of a tile is the reference's gradient there. -/
theorem grad (c : Dev nD) (t : Fin (cfgM m (ok m)).N) (i : Fin 128) (q : Fin 1024) (p : Fin 256) (h : (p : ℕ) = t.val * 128 + i) :
    total (tile0 m c t) (tile1 m c t) (ix2 i q) = Cert.GmlpOutUpdate0ReferenceIdeal.Fwd.total (m ((c : Thread nD τ).loc main_arg0)) (m ((c : Thread nD τ).loc main_arg1)) p q := by
  refine (total_apply _ _ i q).trans ?_
  have r := read1 m c t i q p h
  exact Ideal.add_congr (Ideal.add_congr (Ideal.add_congr (Ideal.add_congr (Ideal.add_congr (Ideal.add_congr (Ideal.add_congr (read0 m c t i q p h) (r 0)) (r 1)) (r 2)) (r 3)) (r 4)) (r 5)) (r 6)

/-! The arrays after the run are the reference's. -/

theorem final5 (c : Dev nD) : (dats m (ok m) 0 c).arrAt 5 (cfgM m (ok m)).N = app m c (G9 (F := Ideal)) := by
  refine (dats m (ok m) 0 c).arrAt_eq_of_coversWhere_of_agree 5 _ (fun β => β (0 : Fin 3) = 1) (of_decide_eq_true (by sl_kernel_rfl)) (fun t fl y => ?_) (fun j hj => ?_)
  · obtain ⟨i, q, p, rfl, ep⟩ := some3 m t y
    have e := Update.emb ((cfgM m (ok m)).win 5) rfl t (ix3 0 i q : S1x128x1024.Idx) (ix3 1 p q : S2x256x1024.Idx) _ (idx t) fun b => by fin_cases b; exacts [rfl, ep.symm, Nat.zero_add _]
    refine Eq.trans ?_ (congrArg _ e).symm
    refine Eq.trans (congrFun ((after0_5 m (ok m) c t).trans (out5 m c t)) (ix3 0 i q : S1x128x1024.Idx)) ?_
    refine (pay_g _ i q).trans (Eq.trans ?_ (ref9 (ix3 1 p q) p q rfl rfl rfl).symm)
    exact (grad m c t i q p ep)
  · refine Eq.trans ?_ (keep9 j fun h => hj ((Pipeline.Window.cell_apply ((cfgM m (ok m)).win 5) j (0 : Fin 3)).trans ((Nat.div_one _).trans h))).symm
    refine (congrFun (A_eq m (ok m) c 5) _).trans ?_
    show V m c main_v1_0 j = _
    entry_read
    rfl

theorem final6 (c : Dev nD) : (dats m (ok m) 0 c).arrAt 6 (cfgM m (ok m)).N = app m c (G10 (F := Ideal)) := by
  refine (dats m (ok m) 0 c).arrAt_eq_of_coversWhere_of_agree 6 _ (fun β => β (0 : Fin 3) = 1) (of_decide_eq_true (by sl_kernel_rfl)) (fun t fl y => ?_) (fun j hj => ?_)
  · obtain ⟨i, q, p, rfl, ep⟩ := some3 m t y
    have e := Update.emb ((cfgM m (ok m)).win 6) rfl t (ix3 0 i q : S1x128x1024.Idx) (ix3 1 p q : S2x256x1024.Idx) _ (idx t) fun b => by fin_cases b; exacts [rfl, ep.symm, Nat.zero_add _]
    refine Eq.trans ?_ (congrArg _ e).symm
    refine Eq.trans (congrFun ((after0_6 m (ok m) c t).trans (out6 m c t)) (ix3 0 i q : S1x128x1024.Idx)) ?_
    refine (pay_d _ _ _ _ i q).trans (Eq.trans ?_ (ref10 (ix3 1 p q) p q rfl rfl rfl).symm)
    exact congr (congr (congr (congrArg Adam.step (grad m c t i q p ep)) (read2 m c t i q p ep)) (read3 m c t i q p ep)) (read4 m c t i q p ep)
  · refine Eq.trans ?_ (keep10 j fun h => hj ((Pipeline.Window.cell_apply ((cfgM m (ok m)).win 6) j (0 : Fin 3)).trans ((Nat.div_one _).trans h))).symm
    refine (congrFun (A_eq m (ok m) c 6) _).trans ?_
    show V m c main_v1_1 j = _
    entry_read
    rfl

theorem final7 (c : Dev nD) : (dats m (ok m) 0 c).arrAt 7 (cfgM m (ok m)).N = app m c (G11 (F := Ideal)) := by
  refine (dats m (ok m) 0 c).arrAt_eq_of_coversWhere_of_agree 7 _ (fun β => β (0 : Fin 3) = 1) (of_decide_eq_true (by sl_kernel_rfl)) (fun t fl y => ?_) (fun j hj => ?_)
  · obtain ⟨i, q, p, rfl, ep⟩ := some3 m t y
    have e := Update.emb ((cfgM m (ok m)).win 7) rfl t (ix3 0 i q : S1x128x1024.Idx) (ix3 1 p q : S2x256x1024.Idx) _ (idx t) fun b => by fin_cases b; exacts [rfl, ep.symm, Nat.zero_add _]
    refine Eq.trans ?_ (congrArg _ e).symm
    refine Eq.trans (congrFun ((after0_7 m (ok m) c t).trans (out7 m c t)) (ix3 0 i q : S1x128x1024.Idx)) ?_
    refine (pay_m _ _ i q).trans (Eq.trans ?_ (ref11 (ix3 1 p q) p q rfl rfl rfl).symm)
    exact congr (congrArg Adam.M (grad m c t i q p ep)) (read3 m c t i q p ep)
  · refine Eq.trans ?_ (keep11 j fun h => hj ((Pipeline.Window.cell_apply ((cfgM m (ok m)).win 7) j (0 : Fin 3)).trans ((Nat.div_one _).trans h))).symm
    refine (congrFun (A_eq m (ok m) c 7) _).trans ?_
    show V m c main_v1_2 j = _
    entry_read
    rfl

theorem final8 (c : Dev nD) : (dats m (ok m) 0 c).arrAt 8 (cfgM m (ok m)).N = app m c (G12 (F := Ideal)) := by
  refine (dats m (ok m) 0 c).arrAt_eq_of_coversWhere_of_agree 8 _ (fun β => β (0 : Fin 3) = 1) (of_decide_eq_true (by sl_kernel_rfl)) (fun t fl y => ?_) (fun j hj => ?_)
  · obtain ⟨i, q, p, rfl, ep⟩ := some3 m t y
    have e := Update.emb ((cfgM m (ok m)).win 8) rfl t (ix3 0 i q : S1x128x1024.Idx) (ix3 1 p q : S2x256x1024.Idx) _ (idx t) fun b => by fin_cases b; exacts [rfl, ep.symm, Nat.zero_add _]
    refine Eq.trans ?_ (congrArg _ e).symm
    refine Eq.trans (congrFun ((after0_8 m (ok m) c t).trans (out8 m c t)) (ix3 0 i q : S1x128x1024.Idx)) ?_
    refine (pay_v _ _ i q).trans (Eq.trans ?_ (ref12 (ix3 1 p q) p q rfl rfl rfl).symm)
    exact congr (congrArg Adam.V (grad m c t i q p ep)) (read4 m c t i q p ep)
  · refine Eq.trans ?_ (keep12 j fun h => hj ((Pipeline.Window.cell_apply ((cfgM m (ok m)).win 8) j (0 : Fin 3)).trans ((Nat.div_one _).trans h))).symm
    refine (congrFun (A_eq m (ok m) c 8) _).trans ?_
    show V m c main_v1_3 j = _
    entry_read
    rfl

end Cert.GmlpOutUpdate1Ideal.Fwd

namespace Cert.Proof

/-- The printed kernel and the idealized one run to their end and leave their arguments as they were. -/
theorem quiescent_GmlpOutUpdate1 : quiescent_GmlpOutUpdate1 := fun m ρ _ => Cert.GmlpOutUpdate1.Gen.frame m ρ (Cert.GmlpOutUpdate1.Fwd.ok m)

theorem quiescent_GmlpOutUpdate1Ideal : quiescent_GmlpOutUpdate1Ideal := fun m ρ _ => Cert.GmlpOutUpdate1Ideal.Gen.frame m ρ (Cert.GmlpOutUpdate1Ideal.Fwd.ok m)

/-- So does the reference. -/
theorem quiescent_GmlpOutUpdate1ReferenceIdeal : quiescent_GmlpOutUpdate1ReferenceIdeal := fun m ρ _ => Cert.GmlpOutUpdate1ReferenceIdeal.Gen.frame m ρ

/-- The named constants of the kernel have the values they are named for. -/
theorem preserves_GmlpOutUpdate1 : preserves_GmlpOutUpdate1_GmlpOutUpdate1Ideal :=
  ⟨IdealRules.named_const.statement Cert.GmlpOutUpdate1Ideal.κ "inv_b1" .f32 0x3FC48605#32 _ rfl,
    IdealRules.named_const.statement Cert.GmlpOutUpdate1Ideal.κ "inv_b2" .f32 0x42C8E6D3#32 _ rfl⟩

open Cert.GmlpOutUpdate1Ideal Cert.GmlpOutUpdate1Ideal.Gen Cert.GmlpOutUpdate1Ideal.Fwd in
/-- Kernel and reference end with the same gradient, change and moments of the layer, and keep the other layers. -/
theorem algebraic_GmlpOutUpdate1 : algebraic_GmlpOutUpdate1Ideal_GmlpOutUpdate1ReferenceIdeal := by
  intro m ρ m' ρ' _ hagree
  refine ⟨_, _, _, _, (θ_run _ _ _).mono (fun r h c => ⟨((h.1 c).1 5).trans (final5 m c), ((h.1 c).1 6).trans (final6 m c), ((h.1 c).1 7).trans (final7 m c),
    ((h.1 c).1 8).trans (final8 m c), h.2 c⟩) (θ_run_and (run_main m ρ (ok m)) (unchanged m ρ (ok m))), ?_⟩
  refine (θ_run _ _ _).mono (fun _ h c => ?_) (Cert.GmlpOutUpdate1ReferenceIdeal.Value.run (F := Ideal) m' ρ')
  obtain ⟨e0, e1, e2, e3, e4, e5, e6, e7, e8⟩ := hagree c
  refine ⟨(h c).1.trans ?_, (h c).2.1.trans ?_, (h c).2.2.1.trans ?_, (h c).2.2.2.1.trans ?_, (h c).2.2.2.2⟩ <;> rw [app, e0, e1, e2, e3, e4, e5, e6, e7, e8]

end Cert.Proof

end
-- ==== Proof.AttnQkvUpdate0.lean ====
module

public import proofs.«01_k».proof.Defs
public import proofs.«01_k».proof.Proof.Gen.AttnQkvUpdate0.Frame
public import proofs.«01_k».proof.Proof.Gen.AttnQkvUpdate0Ideal.Frame
public import proofs.«01_k».proof.Proof.Gen.AttnQkvUpdate0ReferenceIdeal.Value
public import proofs.«01_k».proof.Proof.Update

@[expose] public section

set_option maxRecDepth 16384

noncomputable section

open Idealize.ShloMosaic Idealize.ShloMosaic.TcCoe Idealize.SL.Sem

/-! # The update of layer 0 of b_w_qkv -/

namespace Cert.AttnQkvUpdate0.Fwd

open Cert.AttnQkvUpdate0 Cert.AttnQkvUpdate0.Gen

section

variable {F : FTy → Type} [FloatOps F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

end Cert.AttnQkvUpdate0.Fwd

namespace Cert.AttnQkvUpdate0Ideal.Fwd

open Cert.AttnQkvUpdate0Ideal Cert.AttnQkvUpdate0Ideal.Gen

section

variable {F : FTy → Type} [FloatOps F] [Named F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

/-- The value of a named constant. -/
theorem inv1 : Named.named (F := Ideal) Cert.AttnQkvUpdate0Ideal.κ "inv_b1" (φ := .f32) 0x3FC48605#32 = ((((Adam.B1)⁻¹ : ℝ) : EReal)) :=
  IdealRules.named_const.ideal_named_scalar _ _ _ _ rfl

/-- The value of a named constant. -/
theorem inv2 : Named.named (F := Ideal) Cert.AttnQkvUpdate0Ideal.κ "inv_b2" (φ := .f32) 0x42C8E6D3#32 = ((((Adam.B2)⁻¹ : ℝ) : EReal)) :=
  IdealRules.named_const.ideal_named_scalar _ _ _ _ rfl

/-- The value of a named constant. -/
theorem cor1 : Named.named (F := Ideal) Cert.AttnQkvUpdate0ReferenceIdeal.κ "b1" (φ := .f32) 0x3F26BD02#32 = ((((Adam.B1) : ℝ) : EReal)) :=
  IdealRules.named_const.ideal_named_scalar _ _ _ _ rfl

/-- The value of a named constant. -/
theorem cor2 : Named.named (F := Ideal) Cert.AttnQkvUpdate0ReferenceIdeal.κ "b2" (φ := .f32) 0x3C231ACC#32 = ((((Adam.B2) : ℝ) : EReal)) :=
  IdealRules.named_const.ideal_named_scalar _ _ _ _ rfl

open Update (back back_eq)

variable (m : (ℓ : Loc nD τ sig) → Buf (Elt Ideal) ℓ) (c : Dev nD) (t : Fin (cfgM m (ok m)).N)

/-- Which tile each window reads or writes at a point of the grid. -/
theorem idx0 : ((cfgM m (ok m)).win 0).index t = ![0, t.val, 0] := by
  have e : ∀ t : Fin grid0.N, cc0_transform_0 (F := Ideal) inb_S1_S1_0 numel1_S1 zero (grid0.coords t) = ![0, t.val, 0] := by decide +kernel
  refine Eq.trans ?_ (e t)
  show cc0_transform_0 inb_S1_S1_0 numel1_S1 (tbl m) (grid0.coords t) = _
  rw [table]

theorem idx1 : ∀ t : Fin grid0.N, cc0_transform_1 (grid0.coords t) = ![0, t.val, 0] := by decide +kernel

theorem idx : ∀ t : Fin grid0.N, cc0_transform_2 (grid0.coords t) = ![0, t.val, 0] := by decide +kernel

section

variable (i : Fin 96) (q : Fin 1024) (p : Fin 192) (h : (p : ℕ) = t.val * 96 + i)
include h

/-- The tile of the device's part, read at an index. -/
def tile0 : FVec Ideal S1x96x1024 .bf16 := iblk m (ok m) c 0 t

theorem read0 :
    tile0 m c t (ix3 0 i q) = m ((c : Thread nD τ).loc main_arg0) (ix3 0 p q) :=
  (congrArg (V m c main_arg0) (Update.emb ((cfgM m (ok m)).win 0) rfl t (ix3 0 i q : S1x96x1024.Idx) (ix3 0 p q : S8x192x1024.Idx) _ (idx0 m t)
    fun b => by fin_cases b; exacts [rfl, h.symm, Nat.zero_add _])).trans (congrFun (V_main_arg0 m c) _)

/-- The tile of the other devices' parts, read at an index. -/
def tile1 : FVec Ideal S7x96x1024 .bf16 := iblk m (ok m) c 1 t

theorem read1 (a : Fin 7) :
    tile1 m c t (ix3 a i q) = m ((c : Thread nD τ).loc main_arg1) (ix3 a p q) :=
  (congrArg (V m c main_arg1) (Update.emb ((cfgM m (ok m)).win 1) rfl t (ix3 a i q : S7x96x1024.Idx) (ix3 a p q : S7x192x1024.Idx) _ (idx1 t)
    fun b => by fin_cases b; exacts [Nat.zero_add _, h.symm, Nat.zero_add _])).trans (congrFun (V_main_arg1 m c) _)

/-- The tile of the weights, read at an index. -/
def tile2 : FVec Ideal S1x96x1024 .f32 := iblk m (ok m) c 2 t

theorem read2 :
    tile2 m c t (ix3 0 i q) = m ((c : Thread nD τ).loc main_arg2) (ix3 0 p q) :=
  (congrArg (V m c main_arg2) (Update.emb ((cfgM m (ok m)).win 2) rfl t (ix3 0 i q : S1x96x1024.Idx) (ix3 0 p q : S2x192x1024.Idx) _ (idx t)
    fun b => by fin_cases b; exacts [rfl, h.symm, Nat.zero_add _])).trans (congrFun (V_main_arg2 m c) _)

/-- The tile of the first moment, read at an index. -/
def tile3 : FVec Ideal S1x96x1024 .f32 := iblk m (ok m) c 3 t

theorem read3 :
    tile3 m c t (ix3 0 i q) = m ((c : Thread nD τ).loc main_arg3) (ix3 0 p q) :=
  (congrArg (V m c main_arg3) (Update.emb ((cfgM m (ok m)).win 3) rfl t (ix3 0 i q : S1x96x1024.Idx) (ix3 0 p q : S2x192x1024.Idx) _ (idx t)
    fun b => by fin_cases b; exacts [rfl, h.symm, Nat.zero_add _])).trans (congrFun (V_main_arg3 m c) _)

/-- The tile of the second moment, read at an index. -/
def tile4 : FVec Ideal S1x96x1024 .f32 := iblk m (ok m) c 4 t

theorem read4 :
    tile4 m c t (ix3 0 i q) = m ((c : Thread nD τ).loc main_arg4) (ix3 0 p q) :=
  (congrArg (V m c main_arg4) (Update.emb ((cfgM m (ok m)).win 4) rfl t (ix3 0 i q : S1x96x1024.Idx) (ix3 0 p q : S2x192x1024.Idx) _ (idx t)
    fun b => by fin_cases b; exacts [rfl, h.symm, Nat.zero_add _])).trans (congrFun (V_main_arg4 m c) _)

end

/-- The layer `k` of a tile. -/
def lay (L : FVec Ideal S7x96x1024 .bf16) (k : ℕ) (h : ∀ a, (![k, 0, 0] : Fin 3 → Nat) a + S1x96x1024.size a ≤ S7x96x1024.size a) : FVec Ideal S1x96x1024 .bf16 :=
  View.ld (Val := Elt Ideal) (e' := .bf16) L (Rect.unit (s := S7x96x1024) ![k, 0, 0] S1x96x1024.size h)

/-- The sum over the devices of a tile. -/
def total (P : FVec Ideal S1x96x1024 .bf16) (L : FVec Ideal S7x96x1024 .bf16) : FVec Ideal S96x1024 .f32 :=
  k0_pay3 P (lay L 0 inb_S7x96x1024_S1x96x1024_0_0_0) (lay L 1 inb_S7x96x1024_S1x96x1024_1_0_0) (lay L 2 inb_S7x96x1024_S1x96x1024_2_0_0) (lay L 3 inb_S7x96x1024_S1x96x1024_3_0_0) (lay L 4 inb_S7x96x1024_S1x96x1024_4_0_0) (lay L 5 inb_S7x96x1024_S1x96x1024_5_0_0) (lay L 6 inb_S7x96x1024_S1x96x1024_6_0_0)

theorem total_apply (P : FVec Ideal S1x96x1024 .bf16) (L : FVec Ideal S7x96x1024 .bf16) (i : Fin 96) (q : Fin 1024) :
    total P L (ix2 i q) = (P (ix3 0 i q) : EReal) + L (ix3 0 i q) + L (ix3 1 i q) + L (ix3 2 i q) + L (ix3 3 i q) + L (ix3 4 i q) + L (ix3 5 i q) + L (ix3 6 i q) := by
  unfold total
  pointwise [k0_pay3, lay]

/-- The tiles the kernel writes, read at an index. -/
theorem pay_g (G : FVec Ideal S96x1024 .f32) (i : Fin 96) (q : Fin 1024) : k0_pay6 G (ix3 0 i q) = G (ix2 i q) := by
  pointwise [k0_pay6]

theorem pay_m (G : FVec Ideal S96x1024 .f32) (M : FVec Ideal S1x96x1024 .f32) (i : Fin 96) (q : Fin 1024) :
    k0_pay1 (k0_pay4 G M) (ix3 0 i q) = Adam.M (G (ix2 i q)) (M (ix3 0 i q)) := by
  unfold Adam.M
  pointwise [k0_pay1, k0_pay4]

theorem pay_v (G : FVec Ideal S96x1024 .f32) (V : FVec Ideal S1x96x1024 .f32) (i : Fin 96) (q : Fin 1024) :
    k0_pay2 (k0_pay5 G V) (ix3 0 i q) = Adam.V (G (ix2 i q)) (V (ix3 0 i q)) := by
  unfold Adam.V
  pointwise [k0_pay2, k0_pay5]

theorem pay_d (G : FVec Ideal S96x1024 .f32) (W M V : FVec Ideal S1x96x1024 .f32) (i : Fin 96) (q : Fin 1024) :
    k0_pay7 G W M V (ix3 0 i q) = Adam.step (G (ix2 i q)) (W (ix3 0 i q)) (M (ix3 0 i q)) (V (ix3 0 i q)) := by
  rw [← Adam.kernelStep_eq]
  unfold Adam.kernelStep Adam.D Adam.M Adam.V
  rw [← inv1, ← inv2]
  pointwise [k0_pay7, k0_pay4, k0_pay5]

/-- The tiles the kernel writes: the gradient, the change and the moments. -/
abbrev newG (P : FVec Ideal S1x96x1024 .bf16) (L : FVec Ideal S7x96x1024 .bf16) : FVec Ideal S1x96x1024 .f32 := k0_pay6 (total P L)

abbrev newD (P : FVec Ideal S1x96x1024 .bf16) (L : FVec Ideal S7x96x1024 .bf16) (W M V : FVec Ideal S1x96x1024 .f32) : FVec Ideal S1x96x1024 .f32 := k0_pay7 (total P L) W M V

abbrev newM (P : FVec Ideal S1x96x1024 .bf16) (L : FVec Ideal S7x96x1024 .bf16) (M : FVec Ideal S1x96x1024 .f32) : FVec Ideal S1x96x1024 .f32 := k0_pay1 (k0_pay4 (total P L) M)

abbrev newV (P : FVec Ideal S1x96x1024 .bf16) (L : FVec Ideal S7x96x1024 .bf16) (V : FVec Ideal S1x96x1024 .f32) : FVec Ideal S1x96x1024 .f32 := k0_pay2 (k0_pay5 (total P L) V)

/-! What the outputs hold after a point of the grid. -/

theorem out5 : (outsAt0 m (ok m) c t).1 = newG (tile0 m c t) (tile1 m c t) := by
  unfold outsAt0
  frame_out
  change newG (back (hs0_0 m (ok m) t) (tile0 m c t)) (back (hs0_1 m (ok m) t) (tile1 m c t)) = _
  simp only [back_eq]

theorem out6 : (outsAt0 m (ok m) c t).2.1 = newD (tile0 m c t) (tile1 m c t) (tile2 m c t) (tile3 m c t) (tile4 m c t) := by
  unfold outsAt0
  frame_out
  change newD (back (hs0_0 m (ok m) t) (tile0 m c t)) (back (hs0_1 m (ok m) t) (tile1 m c t)) (back (hs0_2 m (ok m) t) (tile2 m c t)) (back (hs0_3 m (ok m) t) (tile3 m c t)) (back (hs0_4 m (ok m) t) (tile4 m c t)) = _
  simp only [back_eq]

theorem out7 : (outsAt0 m (ok m) c t).2.2.1 = newM (tile0 m c t) (tile1 m c t) (tile3 m c t) := by
  unfold outsAt0
  frame_out
  change newM (back (hs0_0 m (ok m) t) (tile0 m c t)) (back (hs0_1 m (ok m) t) (tile1 m c t)) (back (hs0_3 m (ok m) t) (tile3 m c t)) = _
  simp only [back_eq]

theorem out8 : (outsAt0 m (ok m) c t).2.2.2 = newV (tile0 m c t) (tile1 m c t) (tile4 m c t) := by
  unfold outsAt0
  frame_out
  change newV (back (hs0_0 m (ok m) t) (tile0 m c t)) (back (hs0_1 m (ok m) t) (tile1 m c t)) (back (hs0_4 m (ok m) t) (tile4 m c t)) = _
  simp only [back_eq]

end Cert.AttnQkvUpdate0Ideal.Fwd

namespace Cert.AttnQkvUpdate0ReferenceIdeal.Fwd

open Cert.AttnQkvUpdate0ReferenceIdeal Cert.AttnQkvUpdate0ReferenceIdeal.Gen Cert.AttnQkvUpdate0ReferenceIdeal.Value

/-- The layers of an array of the weight. -/
abbrev Stack := FVec Ideal S2x192x1024 .f32

variable (a0 : FVec Ideal S8x192x1024 .bf16) (a1 : FVec Ideal S7x192x1024 .bf16) (a2 a3 a4 a5 a6 a7 a8 : Stack)

/-- The sum over the devices. -/
def total (p : Fin 192) (q : Fin 1024) : EReal :=
  (a0 (ix3 0 p q) : EReal) + a1 (ix3 0 p q) + a1 (ix3 1 p q) + a1 (ix3 2 p q) + a1 (ix3 3 p q) + a1 (ix3 4 p q) + a1 (ix3 5 p q) + a1 (ix3 6 p q)

theorem sum_apply (p : Fin 192) (q : Fin 1024) :
    k0_pay3 (F := Ideal) (View.ld (Val := Elt Ideal) (e' := .f32) a0 r0_0) a1 (ix2 p q) = total a0 a1 p q := by
  pointwise [k0_pay3]
  refine (congrArg (_ + ·) (Fin.sum_univ_seven _)).trans ?_
  unfold total
  simp only [add_assoc]

/-! The steps, read at an index. -/

theorem step_m (M : FVec Ideal S1x192x1024 .f32) (p : Fin 192) (q : Fin 1024) :
    k0_pay4 (F := Ideal) (View.ld (Val := Elt Ideal) (e' := .f32) a0 r0_0) a1 M (ix2 p q) = Adam.M (total a0 a1 p q) (M (ix3 0 p q)) := by
  rw [← sum_apply]
  unfold Adam.M
  pointwise [k0_pay4]

theorem step_v (V : FVec Ideal S1x192x1024 .f32) (p : Fin 192) (q : Fin 1024) :
    k0_pay5 (F := Ideal) (View.ld (Val := Elt Ideal) (e' := .f32) a0 r0_0) a1 V (ix2 p q) = Adam.V (total a0 a1 p q) (V (ix3 0 p q)) := by
  rw [← sum_apply]
  unfold Adam.V
  pointwise [k0_pay5]

theorem step_d (W M V : FVec Ideal S1x192x1024 .f32) (p : Fin 192) (q : Fin 1024) :
    (k0_pay9 (k0_pay6 (View.ld (Val := Elt Ideal) a0 r0_0) a1 W M V) (Scalar.ofBits .f32 0xBA83126F#32) : FVec Ideal S1x192x1024 .f32) (ix3 0 p q) = Adam.step (total a0 a1 p q) (W (ix3 0 p q)) (M (ix3 0 p q)) (V (ix3 0 p q)) := by
  unfold Adam.step
  rw [← Cert.AttnQkvUpdate0Ideal.Fwd.cor1, ← Cert.AttnQkvUpdate0Ideal.Fwd.cor2, ← step_m, ← step_v]
  unfold Adam.D
  pointwise [k0_pay9, k0_pay6]

/-- The layer of an array, read at an index. -/
theorem row (a : Stack) (p : Fin 192) (q : Fin 1024) : (View.ld (Val := Elt Ideal) (e' := .f32) a r0_2) (ix3 0 p q : S1x192x1024.Idx) = a (ix3 0 p q) := by
  pointwise

/-! What the reference writes, at the layer and elsewhere. -/

variable {a0 a1 a2 a3 a4 a5 a6 a7 a8} (z : S2x192x1024.Idx)

section

variable (p : Fin 192) (q : Fin 1024) (z0 : (z 0 : ℕ) = 0) (z1 : (z 1 : ℕ) = p) (z2 : (z 2 : ℕ) = q)
include z0 z1 z2

theorem ref9 : G9 (F := Ideal) a0 a1 a2 a3 a4 a5 a6 a7 a8 z = total a0 a1 p q := by
  unfold G9
  canon_tiles x h
  all_goals try omega
  rw [Update.at_row (x : S1x192x1024.Idx) p q (h1.symm.trans z1) (h2.symm.trans z2)]
  refine Eq.trans ?_ (sum_apply a0 a1 p q)
  pointwise [k0_pay7]

theorem ref10 : G10 (F := Ideal) a0 a1 a2 a3 a4 a5 a6 a7 a8 z = Adam.step (total a0 a1 p q) (a2 (ix3 0 p q)) (a3 (ix3 0 p q)) (a4 (ix3 0 p q)) := by
  unfold G10
  canon_tiles x h
  all_goals try omega
  rw [Update.at_row (x : S1x192x1024.Idx) p q (h1.symm.trans z1) (h2.symm.trans z2)]
  exact (step_d a0 a1 (View.ld (Val := Elt Ideal) (e' := .f32) a2 r0_2) (View.ld (Val := Elt Ideal) (e' := .f32) a3 r0_2) (View.ld (Val := Elt Ideal) (e' := .f32) a4 r0_2) p q).trans (congr (congr (congrArg (Adam.step _) (row a2 p q)) (row a3 p q)) (row a4 p q))

theorem ref11 : G11 (F := Ideal) a0 a1 a2 a3 a4 a5 a6 a7 a8 z = Adam.M (total a0 a1 p q) (a3 (ix3 0 p q)) := by
  unfold G11
  canon_tiles x h
  all_goals try omega
  rw [Update.at_row (x : S1x192x1024.Idx) p q (h1.symm.trans z1) (h2.symm.trans z2)]
  refine Eq.trans ?_ ((step_m a0 a1 (View.ld (Val := Elt Ideal) (e' := .f32) a3 r0_2) p q).trans (congrArg (Adam.M _) (row a3 p q)))
  pointwise [k0_pay11]

theorem ref12 : G12 (F := Ideal) a0 a1 a2 a3 a4 a5 a6 a7 a8 z = Adam.V (total a0 a1 p q) (a4 (ix3 0 p q)) := by
  unfold G12
  canon_tiles x h
  all_goals try omega
  rw [Update.at_row (x : S1x192x1024.Idx) p q (h1.symm.trans z1) (h2.symm.trans z2)]
  refine Eq.trans ?_ ((step_v a0 a1 (View.ld (Val := Elt Ideal) (e' := .f32) a4 r0_2) p q).trans (congrArg (Adam.V _) (row a4 p q)))
  pointwise [k0_pay1]

end

variable (hz : (z 0 : ℕ) ≠ 0)
include hz

theorem keep9 : G9 (F := Ideal) a0 a1 a2 a3 a4 a5 a6 a7 a8 z = a5 z := by
  unfold G9
  canon_tiles x h
  all_goals try omega
  all_goals
    obtain ⟨p, q, rfl⟩ := Update.some_row (x : S1x192x1024.Idx)
    pointwise [k0_pay8]
    exact congrArg a5 (Update.ext_row z _ p q h0.symm h1.symm h2.symm)

theorem keep10 : G10 (F := Ideal) a0 a1 a2 a3 a4 a5 a6 a7 a8 z = a6 z := by
  unfold G10
  canon_tiles x h
  all_goals try omega
  all_goals
    obtain ⟨p, q, rfl⟩ := Update.some_row (x : S1x192x1024.Idx)
    pointwise [k0_pay10]
    exact congrArg a6 (Update.ext_row z _ p q h0.symm h1.symm h2.symm)

theorem keep11 : G11 (F := Ideal) a0 a1 a2 a3 a4 a5 a6 a7 a8 z = a7 z := by
  unfold G11
  canon_tiles x h
  all_goals try omega
  all_goals
    obtain ⟨p, q, rfl⟩ := Update.some_row (x : S1x192x1024.Idx)
    pointwise [k0_pay12]
    exact congrArg a7 (Update.ext_row z _ p q h0.symm h1.symm h2.symm)

theorem keep12 : G12 (F := Ideal) a0 a1 a2 a3 a4 a5 a6 a7 a8 z = a8 z := by
  unfold G12
  canon_tiles x h
  all_goals try omega
  all_goals
    obtain ⟨p, q, rfl⟩ := Update.some_row (x : S1x192x1024.Idx)
    pointwise [k0_pay2]
    exact congrArg a8 (Update.ext_row z _ p q h0.symm h1.symm h2.symm)

end Cert.AttnQkvUpdate0ReferenceIdeal.Fwd

namespace Cert.AttnQkvUpdate0Ideal.Fwd

open Cert.AttnQkvUpdate0Ideal Cert.AttnQkvUpdate0Ideal.Gen
open Cert.AttnQkvUpdate0ReferenceIdeal.Fwd (Stack ref9 ref10 ref11 ref12 keep9 keep10 keep11 keep12)
open Cert.AttnQkvUpdate0ReferenceIdeal.Value (G9 G10 G11 G12)

variable (m : (ℓ : Loc nD τ sig) → Buf (Elt Ideal) ℓ)

/-- An element of a tile lies at a row of the array. -/
theorem some3 (t : Fin (cfgM m (ok m)).N) (y : S1x96x1024.Idx) :
    ∃ (i : Fin 96) (q : Fin 1024) (p : Fin 192), y = ix3 0 i q ∧ (p : ℕ) = t.val * 96 + i := by
  have tt : t.val < 2 := t.isLt
  obtain ⟨u, i, q, rfl⟩ : ∃ (u : Fin 1) (i : Fin 96) (q : Fin 1024), y = ix3 u i q := ⟨y 0, y 1, y 2, eq_ix3 y⟩
  obtain rfl : u = 0 := Subsingleton.elim _ _
  exact ⟨i, q, ⟨t.val * 96 + i, by omega⟩, rfl, rfl⟩

/-- A function of the nine arguments, of those of a device. -/
abbrev app {α : Type} (c : Dev nD) (G : FVec Ideal S8x192x1024 .bf16 → FVec Ideal S7x192x1024 .bf16 → Stack → Stack → Stack → Stack → Stack → Stack → Stack → α) : α :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The gradient of a tile is the reference's gradient there. -/
theorem grad (c : Dev nD) (t : Fin (cfgM m (ok m)).N) (i : Fin 96) (q : Fin 1024) (p : Fin 192) (h : (p : ℕ) = t.val * 96 + i) :
    total (tile0 m c t) (tile1 m c t) (ix2 i q) = Cert.AttnQkvUpdate0ReferenceIdeal.Fwd.total (m ((c : Thread nD τ).loc main_arg0)) (m ((c : Thread nD τ).loc main_arg1)) p q := by
  refine (total_apply _ _ i q).trans ?_
  have r := read1 m c t i q p h
  exact Ideal.add_congr (Ideal.add_congr (Ideal.add_congr (Ideal.add_congr (Ideal.add_congr (Ideal.add_congr (Ideal.add_congr (read0 m c t i q p h) (r 0)) (r 1)) (r 2)) (r 3)) (r 4)) (r 5)) (r 6)

/-! The arrays after the run are the reference's. -/

theorem final5 (c : Dev nD) : (dats m (ok m) 0 c).arrAt 5 (cfgM m (ok m)).N = app m c (G9 (F := Ideal)) := by
  refine (dats m (ok m) 0 c).arrAt_eq_of_coversWhere_of_agree 5 _ (fun β => β (0 : Fin 3) = 0) (of_decide_eq_true (by sl_kernel_rfl)) (fun t fl y => ?_) (fun j hj => ?_)
  · obtain ⟨i, q, p, rfl, ep⟩ := some3 m t y
    have e := Update.emb ((cfgM m (ok m)).win 5) rfl t (ix3 0 i q : S1x96x1024.Idx) (ix3 0 p q : S2x192x1024.Idx) _ (idx t) fun b => by fin_cases b; exacts [rfl, ep.symm, Nat.zero_add _]
    refine Eq.trans ?_ (congrArg _ e).symm
    refine Eq.trans (congrFun ((after0_5 m (ok m) c t).trans (out5 m c t)) (ix3 0 i q : S1x96x1024.Idx)) ?_
    refine (pay_g _ i q).trans (Eq.trans ?_ (ref9 (ix3 0 p q) p q rfl rfl rfl).symm)
    exact (grad m c t i q p ep)
  · refine Eq.trans ?_ (keep9 j fun h => hj ((Pipeline.Window.cell_apply ((cfgM m (ok m)).win 5) j (0 : Fin 3)).trans ((Nat.div_one _).trans h))).symm
    refine (congrFun (A_eq m (ok m) c 5) _).trans ?_
    show V m c main_v1_0 j = _
    entry_read
    rfl

theorem final6 (c : Dev nD) : (dats m (ok m) 0 c).arrAt 6 (cfgM m (ok m)).N = app m c (G10 (F := Ideal)) := by
  refine (dats m (ok m) 0 c).arrAt_eq_of_coversWhere_of_agree 6 _ (fun β => β (0 : Fin 3) = 0) (of_decide_eq_true (by sl_kernel_rfl)) (fun t fl y => ?_) (fun j hj => ?_)
  · obtain ⟨i, q, p, rfl, ep⟩ := some3 m t y
    have e := Update.emb ((cfgM m (ok m)).win 6) rfl t (ix3 0 i q : S1x96x1024.Idx) (ix3 0 p q : S2x192x1024.Idx) _ (idx t) fun b => by fin_cases b; exacts [rfl, ep.symm, Nat.zero_add _]
    refine Eq.trans ?_ (congrArg _ e).symm
    refine Eq.trans (congrFun ((after0_6 m (ok m) c t).trans (out6 m c t)) (ix3 0 i q : S1x96x1024.Idx)) ?_
    refine (pay_d _ _ _ _ i q).trans (Eq.trans ?_ (ref10 (ix3 0 p q) p q rfl rfl rfl).symm)
    exact congr (congr (congr (congrArg Adam.step (grad m c t i q p ep)) (read2 m c t i q p ep)) (read3 m c t i q p ep)) (read4 m c t i q p ep)
  · refine Eq.trans ?_ (keep10 j fun h => hj ((Pipeline.Window.cell_apply ((cfgM m (ok m)).win 6) j (0 : Fin 3)).trans ((Nat.div_one _).trans h))).symm
    refine (congrFun (A_eq m (ok m) c 6) _).trans ?_
    show V m c main_v1_1 j = _
    entry_read
    rfl

theorem final7 (c : Dev nD) : (dats m (ok m) 0 c).arrAt 7 (cfgM m (ok m)).N = app m c (G11 (F := Ideal)) := by
  refine (dats m (ok m) 0 c).arrAt_eq_of_coversWhere_of_agree 7 _ (fun β => β (0 : Fin 3) = 0) (of_decide_eq_true (by sl_kernel_rfl)) (fun t fl y => ?_) (fun j hj => ?_)
  · obtain ⟨i, q, p, rfl, ep⟩ := some3 m t y
    have e := Update.emb ((cfgM m (ok m)).win 7) rfl t (ix3 0 i q : S1x96x1024.Idx) (ix3 0 p q : S2x192x1024.Idx) _ (idx t) fun b => by fin_cases b; exacts [rfl, ep.symm, Nat.zero_add _]
    refine Eq.trans ?_ (congrArg _ e).symm
    refine Eq.trans (congrFun ((after0_7 m (ok m) c t).trans (out7 m c t)) (ix3 0 i q : S1x96x1024.Idx)) ?_
    refine (pay_m _ _ i q).trans (Eq.trans ?_ (ref11 (ix3 0 p q) p q rfl rfl rfl).symm)
    exact congr (congrArg Adam.M (grad m c t i q p ep)) (read3 m c t i q p ep)
  · refine Eq.trans ?_ (keep11 j fun h => hj ((Pipeline.Window.cell_apply ((cfgM m (ok m)).win 7) j (0 : Fin 3)).trans ((Nat.div_one _).trans h))).symm
    refine (congrFun (A_eq m (ok m) c 7) _).trans ?_
    show V m c main_v1_2 j = _
    entry_read
    rfl

theorem final8 (c : Dev nD) : (dats m (ok m) 0 c).arrAt 8 (cfgM m (ok m)).N = app m c (G12 (F := Ideal)) := by
  refine (dats m (ok m) 0 c).arrAt_eq_of_coversWhere_of_agree 8 _ (fun β => β (0 : Fin 3) = 0) (of_decide_eq_true (by sl_kernel_rfl)) (fun t fl y => ?_) (fun j hj => ?_)
  · obtain ⟨i, q, p, rfl, ep⟩ := some3 m t y
    have e := Update.emb ((cfgM m (ok m)).win 8) rfl t (ix3 0 i q : S1x96x1024.Idx) (ix3 0 p q : S2x192x1024.Idx) _ (idx t) fun b => by fin_cases b; exacts [rfl, ep.symm, Nat.zero_add _]
    refine Eq.trans ?_ (congrArg _ e).symm
    refine Eq.trans (congrFun ((after0_8 m (ok m) c t).trans (out8 m c t)) (ix3 0 i q : S1x96x1024.Idx)) ?_
    refine (pay_v _ _ i q).trans (Eq.trans ?_ (ref12 (ix3 0 p q) p q rfl rfl rfl).symm)
    exact congr (congrArg Adam.V (grad m c t i q p ep)) (read4 m c t i q p ep)
  · refine Eq.trans ?_ (keep12 j fun h => hj ((Pipeline.Window.cell_apply ((cfgM m (ok m)).win 8) j (0 : Fin 3)).trans ((Nat.div_one _).trans h))).symm
    refine (congrFun (A_eq m (ok m) c 8) _).trans ?_
    show V m c main_v1_3 j = _
    entry_read
    rfl

end Cert.AttnQkvUpdate0Ideal.Fwd

namespace Cert.Proof

/-- The printed kernel and the idealized one run to their end and leave their arguments as they were. -/
theorem quiescent_AttnQkvUpdate0 : quiescent_AttnQkvUpdate0 := fun m ρ _ => Cert.AttnQkvUpdate0.Gen.frame m ρ (Cert.AttnQkvUpdate0.Fwd.ok m)

theorem quiescent_AttnQkvUpdate0Ideal : quiescent_AttnQkvUpdate0Ideal := fun m ρ _ => Cert.AttnQkvUpdate0Ideal.Gen.frame m ρ (Cert.AttnQkvUpdate0Ideal.Fwd.ok m)

/-- So does the reference. -/
theorem quiescent_AttnQkvUpdate0ReferenceIdeal : quiescent_AttnQkvUpdate0ReferenceIdeal := fun m ρ _ => Cert.AttnQkvUpdate0ReferenceIdeal.Gen.frame m ρ

/-- The named constants of the kernel have the values they are named for. -/
theorem preserves_AttnQkvUpdate0 : preserves_AttnQkvUpdate0_AttnQkvUpdate0Ideal :=
  ⟨IdealRules.named_const.statement Cert.AttnQkvUpdate0Ideal.κ "inv_b1" .f32 0x3FC48605#32 _ rfl,
    IdealRules.named_const.statement Cert.AttnQkvUpdate0Ideal.κ "inv_b2" .f32 0x42C8E6D3#32 _ rfl⟩

open Cert.AttnQkvUpdate0Ideal Cert.AttnQkvUpdate0Ideal.Gen Cert.AttnQkvUpdate0Ideal.Fwd in
/-- Kernel and reference end with the same gradient, change and moments of the layer, and keep the other layers. -/
theorem algebraic_AttnQkvUpdate0 : algebraic_AttnQkvUpdate0Ideal_AttnQkvUpdate0ReferenceIdeal := by
  intro m ρ m' ρ' _ hagree
  refine ⟨_, _, _, _, (θ_run _ _ _).mono (fun r h c => ⟨((h.1 c).1 5).trans (final5 m c), ((h.1 c).1 6).trans (final6 m c), ((h.1 c).1 7).trans (final7 m c),
    ((h.1 c).1 8).trans (final8 m c), h.2 c⟩) (θ_run_and (run_main m ρ (ok m)) (unchanged m ρ (ok m))), ?_⟩
  refine (θ_run _ _ _).mono (fun _ h c => ?_) (Cert.AttnQkvUpdate0ReferenceIdeal.Value.run (F := Ideal) m' ρ')
  obtain ⟨e0, e1, e2, e3, e4, e5, e6, e7, e8⟩ := hagree c
  refine ⟨(h c).1.trans ?_, (h c).2.1.trans ?_, (h c).2.2.1.trans ?_, (h c).2.2.2.1.trans ?_, (h c).2.2.2.2⟩ <;> rw [app, e0, e1, e2, e3, e4, e5, e6, e7, e8]

end Cert.Proof

end
-- ==== Proof.AttnQkvUpdate1.lean ====
module

public import proofs.«01_k».proof.Defs
public import proofs.«01_k».proof.Proof.Gen.AttnQkvUpdate1.Frame
public import proofs.«01_k».proof.Proof.Gen.AttnQkvUpdate1Ideal.Frame
public import proofs.«01_k».proof.Proof.Gen.AttnQkvUpdate1ReferenceIdeal.Value
public import proofs.«01_k».proof.Proof.AttnQkvUpdate0

@[expose] public section

set_option maxRecDepth 16384

noncomputable section

open Idealize.ShloMosaic Idealize.ShloMosaic.TcCoe Idealize.SL.Sem

/-! # The update of layer 1 of b_w_qkv -/

namespace Cert.AttnQkvUpdate1.Fwd

open Cert.AttnQkvUpdate1 Cert.AttnQkvUpdate1.Gen

section

variable {F : FTy → Type} [FloatOps F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

end Cert.AttnQkvUpdate1.Fwd

namespace Cert.AttnQkvUpdate1Ideal.Fwd

open Cert.AttnQkvUpdate1Ideal Cert.AttnQkvUpdate1Ideal.Gen

section

variable {F : FTy → Type} [FloatOps F] [Named F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

open Cert.AttnQkvUpdate0Ideal.Fwd (newG newD newM newV)

open Update (back back_eq)

variable (m : (ℓ : Loc nD τ sig) → Buf (Elt Ideal) ℓ) (c : Dev nD) (t : Fin (cfgM m (ok m)).N)

/-- Which tile each window reads or writes at a point of the grid. -/
theorem idx0 : ((cfgM m (ok m)).win 0).index t = ![0, t.val, 0] := by
  have e : ∀ t : Fin grid0.N, cc0_transform_0 (F := Ideal) inb_S1_S1_0 numel1_S1 zero (grid0.coords t) = ![0, t.val, 0] := by decide +kernel
  refine Eq.trans ?_ (e t)
  show cc0_transform_0 inb_S1_S1_0 numel1_S1 (tbl m) (grid0.coords t) = _
  rw [table]

theorem idx1 : ∀ t : Fin grid0.N, cc0_transform_1 (grid0.coords t) = ![0, t.val, 0] := by decide +kernel

theorem idx : ∀ t : Fin grid0.N, cc0_transform_2 (grid0.coords t) = ![1, t.val, 0] := by decide +kernel

section

variable (i : Fin 96) (q : Fin 1024) (p : Fin 192) (h : (p : ℕ) = t.val * 96 + i)
include h

/-- The tile of the device's part, read at an index. -/
def tile0 : FVec Ideal S1x96x1024 .bf16 := iblk m (ok m) c 0 t

theorem read0 :
    tile0 m c t (ix3 0 i q) = m ((c : Thread nD τ).loc main_arg0) (ix3 0 p q) :=
  (congrArg (V m c main_arg0) (Update.emb ((cfgM m (ok m)).win 0) rfl t (ix3 0 i q : S1x96x1024.Idx) (ix3 0 p q : S8x192x1024.Idx) _ (idx0 m t)
    fun b => by fin_cases b; exacts [rfl, h.symm, Nat.zero_add _])).trans (congrFun (V_main_arg0 m c) _)

/-- The tile of the other devices' parts, read at an index. -/
def tile1 : FVec Ideal S7x96x1024 .bf16 := iblk m (ok m) c 1 t

theorem read1 (a : Fin 7) :
    tile1 m c t (ix3 a i q) = m ((c : Thread nD τ).loc main_arg1) (ix3 a p q) :=
  (congrArg (V m c main_arg1) (Update.emb ((cfgM m (ok m)).win 1) rfl t (ix3 a i q : S7x96x1024.Idx) (ix3 a p q : S7x192x1024.Idx) _ (idx1 t)
    fun b => by fin_cases b; exacts [Nat.zero_add _, h.symm, Nat.zero_add _])).trans (congrFun (V_main_arg1 m c) _)

/-- The tile of the weights, read at an index. -/
def tile2 : FVec Ideal S1x96x1024 .f32 := iblk m (ok m) c 2 t

theorem read2 :
    tile2 m c t (ix3 0 i q) = m ((c : Thread nD τ).loc main_arg2) (ix3 1 p q) :=
  (congrArg (V m c main_arg2) (Update.emb ((cfgM m (ok m)).win 2) rfl t (ix3 0 i q : S1x96x1024.Idx) (ix3 1 p q : S2x192x1024.Idx) _ (idx t)
    fun b => by fin_cases b; exacts [rfl, h.symm, Nat.zero_add _])).trans (congrFun (V_main_arg2 m c) _)

/-- The tile of the first moment, read at an index. -/
def tile3 : FVec Ideal S1x96x1024 .f32 := iblk m (ok m) c 3 t

theorem read3 :
    tile3 m c t (ix3 0 i q) = m ((c : Thread nD τ).loc main_arg3) (ix3 1 p q) :=
  (congrArg (V m c main_arg3) (Update.emb ((cfgM m (ok m)).win 3) rfl t (ix3 0 i q : S1x96x1024.Idx) (ix3 1 p q : S2x192x1024.Idx) _ (idx t)
    fun b => by fin_cases b; exacts [rfl, h.symm, Nat.zero_add _])).trans (congrFun (V_main_arg3 m c) _)

/-- The tile of the second moment, read at an index. -/
def tile4 : FVec Ideal S1x96x1024 .f32 := iblk m (ok m) c 4 t

theorem read4 :
    tile4 m c t (ix3 0 i q) = m ((c : Thread nD τ).loc main_arg4) (ix3 1 p q) :=
  (congrArg (V m c main_arg4) (Update.emb ((cfgM m (ok m)).win 4) rfl t (ix3 0 i q : S1x96x1024.Idx) (ix3 1 p q : S2x192x1024.Idx) _ (idx t)
    fun b => by fin_cases b; exacts [rfl, h.symm, Nat.zero_add _])).trans (congrFun (V_main_arg4 m c) _)

end

/-! What the outputs hold after a point of the grid. -/

theorem out5 : (outsAt0 m (ok m) c t).1 = newG (tile0 m c t) (tile1 m c t) := by
  unfold outsAt0
  frame_out
  change newG (back (hs0_0 m (ok m) t) (tile0 m c t)) (back (hs0_1 m (ok m) t) (tile1 m c t)) = _
  simp only [back_eq]

theorem out6 : (outsAt0 m (ok m) c t).2.1 = newD (tile0 m c t) (tile1 m c t) (tile2 m c t) (tile3 m c t) (tile4 m c t) := by
  unfold outsAt0
  frame_out
  change newD (back (hs0_0 m (ok m) t) (tile0 m c t)) (back (hs0_1 m (ok m) t) (tile1 m c t)) (back (hs0_2 m (ok m) t) (tile2 m c t)) (back (hs0_3 m (ok m) t) (tile3 m c t)) (back (hs0_4 m (ok m) t) (tile4 m c t)) = _
  simp only [back_eq]

theorem out7 : (outsAt0 m (ok m) c t).2.2.1 = newM (tile0 m c t) (tile1 m c t) (tile3 m c t) := by
  unfold outsAt0
  frame_out
  change newM (back (hs0_0 m (ok m) t) (tile0 m c t)) (back (hs0_1 m (ok m) t) (tile1 m c t)) (back (hs0_3 m (ok m) t) (tile3 m c t)) = _
  simp only [back_eq]

theorem out8 : (outsAt0 m (ok m) c t).2.2.2 = newV (tile0 m c t) (tile1 m c t) (tile4 m c t) := by
  unfold outsAt0
  frame_out
  change newV (back (hs0_0 m (ok m) t) (tile0 m c t)) (back (hs0_1 m (ok m) t) (tile1 m c t)) (back (hs0_4 m (ok m) t) (tile4 m c t)) = _
  simp only [back_eq]

end Cert.AttnQkvUpdate1Ideal.Fwd

namespace Cert.AttnQkvUpdate1ReferenceIdeal.Fwd

open Cert.AttnQkvUpdate1ReferenceIdeal Cert.AttnQkvUpdate1ReferenceIdeal.Gen Cert.AttnQkvUpdate1ReferenceIdeal.Value
open Cert.AttnQkvUpdate0ReferenceIdeal.Fwd (total sum_apply step_m step_v step_d)

/-- The layers of an array of the weight. -/
abbrev Stack := FVec Ideal S2x192x1024 .f32

variable (a0 : FVec Ideal S8x192x1024 .bf16) (a1 : FVec Ideal S7x192x1024 .bf16) (a2 a3 a4 a5 a6 a7 a8 : Stack)

/-- The layer of an array, read at an index. -/
theorem row (a : Stack) (p : Fin 192) (q : Fin 1024) : (View.ld (Val := Elt Ideal) (e' := .f32) a r0_2) (ix3 0 p q : S1x192x1024.Idx) = a (ix3 1 p q) := by
  pointwise

/-! What the reference writes, at the layer and elsewhere. -/

variable {a0 a1 a2 a3 a4 a5 a6 a7 a8} (z : S2x192x1024.Idx)

section

variable (p : Fin 192) (q : Fin 1024) (z0 : (z 0 : ℕ) = 1) (z1 : (z 1 : ℕ) = p) (z2 : (z 2 : ℕ) = q)
include z0 z1 z2

theorem ref9 : G9 (F := Ideal) a0 a1 a2 a3 a4 a5 a6 a7 a8 z = total a0 a1 p q := by
  unfold G9
  canon_tiles x h
  all_goals try omega
  rw [Update.at_row (x : S1x192x1024.Idx) p q (h1.symm.trans z1) (h2.symm.trans z2)]
  refine Eq.trans ?_ (sum_apply a0 a1 p q)
  pointwise [k0_pay8]
  all_goals rfl

theorem ref10 : G10 (F := Ideal) a0 a1 a2 a3 a4 a5 a6 a7 a8 z = Adam.step (total a0 a1 p q) (a2 (ix3 1 p q)) (a3 (ix3 1 p q)) (a4 (ix3 1 p q)) := by
  unfold G10
  canon_tiles x h
  all_goals try omega
  rw [Update.at_row (x : S1x192x1024.Idx) p q (h1.symm.trans z1) (h2.symm.trans z2)]
  exact (step_d a0 a1 (View.ld (Val := Elt Ideal) (e' := .f32) a2 r0_2) (View.ld (Val := Elt Ideal) (e' := .f32) a3 r0_2) (View.ld (Val := Elt Ideal) (e' := .f32) a4 r0_2) p q).trans (congr (congr (congrArg (Adam.step _) (row a2 p q)) (row a3 p q)) (row a4 p q))

theorem ref11 : G11 (F := Ideal) a0 a1 a2 a3 a4 a5 a6 a7 a8 z = Adam.M (total a0 a1 p q) (a3 (ix3 1 p q)) := by
  unfold G11
  canon_tiles x h
  all_goals try omega
  rw [Update.at_row (x : S1x192x1024.Idx) p q (h1.symm.trans z1) (h2.symm.trans z2)]
  refine Eq.trans ?_ ((step_m a0 a1 (View.ld (Val := Elt Ideal) (e' := .f32) a3 r0_2) p q).trans (congrArg (Adam.M _) (row a3 p q)))
  pointwise [k0_pay12]
  all_goals rfl

theorem ref12 : G12 (F := Ideal) a0 a1 a2 a3 a4 a5 a6 a7 a8 z = Adam.V (total a0 a1 p q) (a4 (ix3 1 p q)) := by
  unfold G12
  canon_tiles x h
  all_goals try omega
  rw [Update.at_row (x : S1x192x1024.Idx) p q (h1.symm.trans z1) (h2.symm.trans z2)]
  refine Eq.trans ?_ ((step_v a0 a1 (View.ld (Val := Elt Ideal) (e' := .f32) a4 r0_2) p q).trans (congrArg (Adam.V _) (row a4 p q)))
  pointwise [k0_pay2]
  all_goals rfl

end

variable (hz : (z 0 : ℕ) ≠ 1)
include hz

theorem keep9 : G9 (F := Ideal) a0 a1 a2 a3 a4 a5 a6 a7 a8 z = a5 z := by
  unfold G9
  canon_tiles x h
  all_goals try omega
  all_goals
    obtain ⟨p, q, rfl⟩ := Update.some_row (x : S1x192x1024.Idx)
    pointwise [k0_pay7]
    exact congrArg a5 (Update.ext_row z _ p q h0.symm h1.symm h2.symm)

theorem keep10 : G10 (F := Ideal) a0 a1 a2 a3 a4 a5 a6 a7 a8 z = a6 z := by
  unfold G10
  canon_tiles x h
  all_goals try omega
  all_goals
    obtain ⟨p, q, rfl⟩ := Update.some_row (x : S1x192x1024.Idx)
    pointwise [k0_pay9]
    exact congrArg a6 (Update.ext_row z _ p q h0.symm h1.symm h2.symm)

theorem keep11 : G11 (F := Ideal) a0 a1 a2 a3 a4 a5 a6 a7 a8 z = a7 z := by
  unfold G11
  canon_tiles x h
  all_goals try omega
  all_goals
    obtain ⟨p, q, rfl⟩ := Update.some_row (x : S1x192x1024.Idx)
    pointwise [k0_pay11]
    exact congrArg a7 (Update.ext_row z _ p q h0.symm h1.symm h2.symm)

theorem keep12 : G12 (F := Ideal) a0 a1 a2 a3 a4 a5 a6 a7 a8 z = a8 z := by
  unfold G12
  canon_tiles x h
  all_goals try omega
  all_goals
    obtain ⟨p, q, rfl⟩ := Update.some_row (x : S1x192x1024.Idx)
    pointwise [k0_pay1]
    exact congrArg a8 (Update.ext_row z _ p q h0.symm h1.symm h2.symm)

end Cert.AttnQkvUpdate1ReferenceIdeal.Fwd

namespace Cert.AttnQkvUpdate1Ideal.Fwd

open Cert.AttnQkvUpdate1Ideal Cert.AttnQkvUpdate1Ideal.Gen
open Cert.AttnQkvUpdate0Ideal.Fwd (total total_apply pay_g pay_m pay_v pay_d)
open Cert.AttnQkvUpdate1ReferenceIdeal.Fwd (Stack ref9 ref10 ref11 ref12 keep9 keep10 keep11 keep12)
open Cert.AttnQkvUpdate1ReferenceIdeal.Value (G9 G10 G11 G12)

variable (m : (ℓ : Loc nD τ sig) → Buf (Elt Ideal) ℓ)

/-- An element of a tile lies at a row of the array. -/
theorem some3 (t : Fin (cfgM m (ok m)).N) (y : S1x96x1024.Idx) :
    ∃ (i : Fin 96) (q : Fin 1024) (p : Fin 192), y = ix3 0 i q ∧ (p : ℕ) = t.val * 96 + i := by
  have tt : t.val < 2 := t.isLt
  obtain ⟨u, i, q, rfl⟩ : ∃ (u : Fin 1) (i : Fin 96) (q : Fin 1024), y = ix3 u i q := ⟨y 0, y 1, y 2, eq_ix3 y⟩
  obtain rfl : u = 0 := Subsingleton.elim _ _
  exact ⟨i, q, ⟨t.val * 96 + i, by omega⟩, rfl, rfl⟩

/-- A function of the nine arguments, of those of a device. -/
abbrev app {α : Type} (c : Dev nD) (G : FVec Ideal S8x192x1024 .bf16 → FVec Ideal S7x192x1024 .bf16 → Stack → Stack → Stack → Stack → Stack → Stack → Stack → α) : α :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The gradient of a tile is the reference's gradient there. -/
theorem grad (c : Dev nD) (t : Fin (cfgM m (ok m)).N) (i : Fin 96) (q : Fin 1024) (p : Fin 192) (h : (p : ℕ) = t.val * 96 + i) :
    total (tile0 m c t) (tile1 m c t) (ix2 i q) = Cert.AttnQkvUpdate0ReferenceIdeal.Fwd.total (m ((c : Thread nD τ).loc main_arg0)) (m ((c : Thread nD τ).loc main_arg1)) p q := by
  refine (total_apply _ _ i q).trans ?_
  have r := read1 m c t i q p h
  exact Ideal.add_congr (Ideal.add_congr (Ideal.add_congr (Ideal.add_congr (Ideal.add_congr (Ideal.add_congr (Ideal.add_congr (read0 m c t i q p h) (r 0)) (r 1)) (r 2)) (r 3)) (r 4)) (r 5)) (r 6)

/-! The arrays after the run are the reference's. -/

theorem final5 (c : Dev nD) : (dats m (ok m) 0 c).arrAt 5 (cfgM m (ok m)).N = app m c (G9 (F := Ideal)) := by
  refine (dats m (ok m) 0 c).arrAt_eq_of_coversWhere_of_agree 5 _ (fun β => β (0 : Fin 3) = 1) (of_decide_eq_true (by sl_kernel_rfl)) (fun t fl y => ?_) (fun j hj => ?_)
  · obtain ⟨i, q, p, rfl, ep⟩ := some3 m t y
    have e := Update.emb ((cfgM m (ok m)).win 5) rfl t (ix3 0 i q : S1x96x1024.Idx) (ix3 1 p q : S2x192x1024.Idx) _ (idx t) fun b => by fin_cases b; exacts [rfl, ep.symm, Nat.zero_add _]
    refine Eq.trans ?_ (congrArg _ e).symm
    refine Eq.trans (congrFun ((after0_5 m (ok m) c t).trans (out5 m c t)) (ix3 0 i q : S1x96x1024.Idx)) ?_
    refine (pay_g _ i q).trans (Eq.trans ?_ (ref9 (ix3 1 p q) p q rfl rfl rfl).symm)
    exact (grad m c t i q p ep)
  · refine Eq.trans ?_ (keep9 j fun h => hj ((Pipeline.Window.cell_apply ((cfgM m (ok m)).win 5) j (0 : Fin 3)).trans ((Nat.div_one _).trans h))).symm
    refine (congrFun (A_eq m (ok m) c 5) _).trans ?_
    show V m c main_v1_0 j = _
    entry_read
    rfl

theorem final6 (c : Dev nD) : (dats m (ok m) 0 c).arrAt 6 (cfgM m (ok m)).N = app m c (G10 (F := Ideal)) := by
  refine (dats m (ok m) 0 c).arrAt_eq_of_coversWhere_of_agree 6 _ (fun β => β (0 : Fin 3) = 1) (of_decide_eq_true (by sl_kernel_rfl)) (fun t fl y => ?_) (fun j hj => ?_)
  · obtain ⟨i, q, p, rfl, ep⟩ := some3 m t y
    have e := Update.emb ((cfgM m (ok m)).win 6) rfl t (ix3 0 i q : S1x96x1024.Idx) (ix3 1 p q : S2x192x1024.Idx) _ (idx t) fun b => by fin_cases b; exacts [rfl, ep.symm, Nat.zero_add _]
    refine Eq.trans ?_ (congrArg _ e).symm
    refine Eq.trans (congrFun ((after0_6 m (ok m) c t).trans (out6 m c t)) (ix3 0 i q : S1x96x1024.Idx)) ?_
    refine (pay_d _ _ _ _ i q).trans (Eq.trans ?_ (ref10 (ix3 1 p q) p q rfl rfl rfl).symm)
    exact congr (congr (congr (congrArg Adam.step (grad m c t i q p ep)) (read2 m c t i q p ep)) (read3 m c t i q p ep)) (read4 m c t i q p ep)
  · refine Eq.trans ?_ (keep10 j fun h => hj ((Pipeline.Window.cell_apply ((cfgM m (ok m)).win 6) j (0 : Fin 3)).trans ((Nat.div_one _).trans h))).symm
    refine (congrFun (A_eq m (ok m) c 6) _).trans ?_
    show V m c main_v1_1 j = _
    entry_read
    rfl

theorem final7 (c : Dev nD) : (dats m (ok m) 0 c).arrAt 7 (cfgM m (ok m)).N = app m c (G11 (F := Ideal)) := by
  refine (dats m (ok m) 0 c).arrAt_eq_of_coversWhere_of_agree 7 _ (fun β => β (0 : Fin 3) = 1) (of_decide_eq_true (by sl_kernel_rfl)) (fun t fl y => ?_) (fun j hj => ?_)
  · obtain ⟨i, q, p, rfl, ep⟩ := some3 m t y
    have e := Update.emb ((cfgM m (ok m)).win 7) rfl t (ix3 0 i q : S1x96x1024.Idx) (ix3 1 p q : S2x192x1024.Idx) _ (idx t) fun b => by fin_cases b; exacts [rfl, ep.symm, Nat.zero_add _]
    refine Eq.trans ?_ (congrArg _ e).symm
    refine Eq.trans (congrFun ((after0_7 m (ok m) c t).trans (out7 m c t)) (ix3 0 i q : S1x96x1024.Idx)) ?_
    refine (pay_m _ _ i q).trans (Eq.trans ?_ (ref11 (ix3 1 p q) p q rfl rfl rfl).symm)
    exact congr (congrArg Adam.M (grad m c t i q p ep)) (read3 m c t i q p ep)
  · refine Eq.trans ?_ (keep11 j fun h => hj ((Pipeline.Window.cell_apply ((cfgM m (ok m)).win 7) j (0 : Fin 3)).trans ((Nat.div_one _).trans h))).symm
    refine (congrFun (A_eq m (ok m) c 7) _).trans ?_
    show V m c main_v1_2 j = _
    entry_read
    rfl

theorem final8 (c : Dev nD) : (dats m (ok m) 0 c).arrAt 8 (cfgM m (ok m)).N = app m c (G12 (F := Ideal)) := by
  refine (dats m (ok m) 0 c).arrAt_eq_of_coversWhere_of_agree 8 _ (fun β => β (0 : Fin 3) = 1) (of_decide_eq_true (by sl_kernel_rfl)) (fun t fl y => ?_) (fun j hj => ?_)
  · obtain ⟨i, q, p, rfl, ep⟩ := some3 m t y
    have e := Update.emb ((cfgM m (ok m)).win 8) rfl t (ix3 0 i q : S1x96x1024.Idx) (ix3 1 p q : S2x192x1024.Idx) _ (idx t) fun b => by fin_cases b; exacts [rfl, ep.symm, Nat.zero_add _]
    refine Eq.trans ?_ (congrArg _ e).symm
    refine Eq.trans (congrFun ((after0_8 m (ok m) c t).trans (out8 m c t)) (ix3 0 i q : S1x96x1024.Idx)) ?_
    refine (pay_v _ _ i q).trans (Eq.trans ?_ (ref12 (ix3 1 p q) p q rfl rfl rfl).symm)
    exact congr (congrArg Adam.V (grad m c t i q p ep)) (read4 m c t i q p ep)
  · refine Eq.trans ?_ (keep12 j fun h => hj ((Pipeline.Window.cell_apply ((cfgM m (ok m)).win 8) j (0 : Fin 3)).trans ((Nat.div_one _).trans h))).symm
    refine (congrFun (A_eq m (ok m) c 8) _).trans ?_
    show V m c main_v1_3 j = _
    entry_read
    rfl

end Cert.AttnQkvUpdate1Ideal.Fwd

namespace Cert.Proof

/-- The printed kernel and the idealized one run to their end and leave their arguments as they were. -/
theorem quiescent_AttnQkvUpdate1 : quiescent_AttnQkvUpdate1 := fun m ρ _ => Cert.AttnQkvUpdate1.Gen.frame m ρ (Cert.AttnQkvUpdate1.Fwd.ok m)

theorem quiescent_AttnQkvUpdate1Ideal : quiescent_AttnQkvUpdate1Ideal := fun m ρ _ => Cert.AttnQkvUpdate1Ideal.Gen.frame m ρ (Cert.AttnQkvUpdate1Ideal.Fwd.ok m)

/-- So does the reference. -/
theorem quiescent_AttnQkvUpdate1ReferenceIdeal : quiescent_AttnQkvUpdate1ReferenceIdeal := fun m ρ _ => Cert.AttnQkvUpdate1ReferenceIdeal.Gen.frame m ρ

/-- The named constants of the kernel have the values they are named for. -/
theorem preserves_AttnQkvUpdate1 : preserves_AttnQkvUpdate1_AttnQkvUpdate1Ideal :=
  ⟨IdealRules.named_const.statement Cert.AttnQkvUpdate1Ideal.κ "inv_b1" .f32 0x3FC48605#32 _ rfl,
    IdealRules.named_const.statement Cert.AttnQkvUpdate1Ideal.κ "inv_b2" .f32 0x42C8E6D3#32 _ rfl⟩

open Cert.AttnQkvUpdate1Ideal Cert.AttnQkvUpdate1Ideal.Gen Cert.AttnQkvUpdate1Ideal.Fwd in
/-- Kernel and reference end with the same gradient, change and moments of the layer, and keep the other layers. -/
theorem algebraic_AttnQkvUpdate1 : algebraic_AttnQkvUpdate1Ideal_AttnQkvUpdate1ReferenceIdeal := by
  intro m ρ m' ρ' _ hagree
  refine ⟨_, _, _, _, (θ_run _ _ _).mono (fun r h c => ⟨((h.1 c).1 5).trans (final5 m c), ((h.1 c).1 6).trans (final6 m c), ((h.1 c).1 7).trans (final7 m c),
    ((h.1 c).1 8).trans (final8 m c), h.2 c⟩) (θ_run_and (run_main m ρ (ok m)) (unchanged m ρ (ok m))), ?_⟩
  refine (θ_run _ _ _).mono (fun _ h c => ?_) (Cert.AttnQkvUpdate1ReferenceIdeal.Value.run (F := Ideal) m' ρ')
  obtain ⟨e0, e1, e2, e3, e4, e5, e6, e7, e8⟩ := hagree c
  refine ⟨(h c).1.trans ?_, (h c).2.1.trans ?_, (h c).2.2.1.trans ?_, (h c).2.2.2.1.trans ?_, (h c).2.2.2.2⟩ <;> rw [app, e0, e1, e2, e3, e4, e5, e6, e7, e8]

end Cert.Proof

end
-- ==== Proof.AttnOutUpdate0.lean ====
module

public import proofs.«01_k».proof.Defs
public import proofs.«01_k».proof.Proof.Gen.AttnOutUpdate0.Frame
public import proofs.«01_k».proof.Proof.Gen.AttnOutUpdate0Ideal.Frame
public import proofs.«01_k».proof.Proof.Gen.AttnOutUpdate0ReferenceIdeal.Value
public import proofs.«01_k».proof.Proof.Update

@[expose] public section

set_option maxRecDepth 16384

noncomputable section

open Idealize.ShloMosaic Idealize.ShloMosaic.TcCoe Idealize.SL.Sem

/-! # The update of layer 0 of b_w_o -/

namespace Cert.AttnOutUpdate0.Fwd

open Cert.AttnOutUpdate0 Cert.AttnOutUpdate0.Gen

section

variable {F : FTy → Type} [FloatOps F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

end Cert.AttnOutUpdate0.Fwd

namespace Cert.AttnOutUpdate0Ideal.Fwd

open Cert.AttnOutUpdate0Ideal Cert.AttnOutUpdate0Ideal.Gen

section

variable {F : FTy → Type} [FloatOps F] [Named F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

/-- The value of a named constant. -/
theorem inv1 : Named.named (F := Ideal) Cert.AttnOutUpdate0Ideal.κ "inv_b1" (φ := .f32) 0x3FC48605#32 = ((((Adam.B1)⁻¹ : ℝ) : EReal)) :=
  IdealRules.named_const.ideal_named_scalar _ _ _ _ rfl

/-- The value of a named constant. -/
theorem inv2 : Named.named (F := Ideal) Cert.AttnOutUpdate0Ideal.κ "inv_b2" (φ := .f32) 0x42C8E6D3#32 = ((((Adam.B2)⁻¹ : ℝ) : EReal)) :=
  IdealRules.named_const.ideal_named_scalar _ _ _ _ rfl

/-- The value of a named constant. -/
theorem cor1 : Named.named (F := Ideal) Cert.AttnOutUpdate0ReferenceIdeal.κ "b1" (φ := .f32) 0x3F26BD02#32 = ((((Adam.B1) : ℝ) : EReal)) :=
  IdealRules.named_const.ideal_named_scalar _ _ _ _ rfl

/-- The value of a named constant. -/
theorem cor2 : Named.named (F := Ideal) Cert.AttnOutUpdate0ReferenceIdeal.κ "b2" (φ := .f32) 0x3C231ACC#32 = ((((Adam.B2) : ℝ) : EReal)) :=
  IdealRules.named_const.ideal_named_scalar _ _ _ _ rfl

open Update (back back_eq)

variable (m : (ℓ : Loc nD τ sig) → Buf (Elt Ideal) ℓ) (c : Dev nD) (t : Fin (cfgM m (ok m)).N)

/-- Which tile each window reads or writes at a point of the grid. -/
theorem idx0 : ((cfgM m (ok m)).win 0).index t = ![0, t.val, 0] := by
  have e : ∀ t : Fin grid0.N, cc0_transform_0 (F := Ideal) inb_S1_S1_0 numel1_S1 zero (grid0.coords t) = ![0, t.val, 0] := by decide +kernel
  refine Eq.trans ?_ (e t)
  show cc0_transform_0 inb_S1_S1_0 numel1_S1 (tbl m) (grid0.coords t) = _
  rw [table]

theorem idx1 : ∀ t : Fin grid0.N, cc0_transform_1 (grid0.coords t) = ![0, t.val, 0] := by decide +kernel

theorem idx : ∀ t : Fin grid0.N, cc0_transform_2 (grid0.coords t) = ![0, t.val, 0] := by decide +kernel

section

variable (i : Fin 64) (q : Fin 1024) (p : Fin 128) (h : (p : ℕ) = t.val * 64 + i)
include h

/-- The tile of the device's part, read at an index. -/
def tile0 : FVec Ideal S1x64x1024 .bf16 := iblk m (ok m) c 0 t

theorem read0 :
    tile0 m c t (ix3 0 i q) = m ((c : Thread nD τ).loc main_arg0) (ix3 0 p q) :=
  (congrArg (V m c main_arg0) (Update.emb ((cfgM m (ok m)).win 0) rfl t (ix3 0 i q : S1x64x1024.Idx) (ix3 0 p q : S8x128x1024.Idx) _ (idx0 m t)
    fun b => by fin_cases b; exacts [rfl, h.symm, Nat.zero_add _])).trans (congrFun (V_main_arg0 m c) _)

/-- The tile of the other devices' parts, read at an index. -/
def tile1 : FVec Ideal S7x64x1024 .bf16 := iblk m (ok m) c 1 t

theorem read1 (a : Fin 7) :
    tile1 m c t (ix3 a i q) = m ((c : Thread nD τ).loc main_arg1) (ix3 a p q) :=
  (congrArg (V m c main_arg1) (Update.emb ((cfgM m (ok m)).win 1) rfl t (ix3 a i q : S7x64x1024.Idx) (ix3 a p q : S7x128x1024.Idx) _ (idx1 t)
    fun b => by fin_cases b; exacts [Nat.zero_add _, h.symm, Nat.zero_add _])).trans (congrFun (V_main_arg1 m c) _)

/-- The tile of the weights, read at an index. -/
def tile2 : FVec Ideal S1x64x1024 .f32 := iblk m (ok m) c 2 t

theorem read2 :
    tile2 m c t (ix3 0 i q) = m ((c : Thread nD τ).loc main_arg2) (ix3 0 p q) :=
  (congrArg (V m c main_arg2) (Update.emb ((cfgM m (ok m)).win 2) rfl t (ix3 0 i q : S1x64x1024.Idx) (ix3 0 p q : S2x128x1024.Idx) _ (idx t)
    fun b => by fin_cases b; exacts [rfl, h.symm, Nat.zero_add _])).trans (congrFun (V_main_arg2 m c) _)

/-- The tile of the first moment, read at an index. -/
def tile3 : FVec Ideal S1x64x1024 .f32 := iblk m (ok m) c 3 t

theorem read3 :
    tile3 m c t (ix3 0 i q) = m ((c : Thread nD τ).loc main_arg3) (ix3 0 p q) :=
  (congrArg (V m c main_arg3) (Update.emb ((cfgM m (ok m)).win 3) rfl t (ix3 0 i q : S1x64x1024.Idx) (ix3 0 p q : S2x128x1024.Idx) _ (idx t)
    fun b => by fin_cases b; exacts [rfl, h.symm, Nat.zero_add _])).trans (congrFun (V_main_arg3 m c) _)

/-- The tile of the second moment, read at an index. -/
def tile4 : FVec Ideal S1x64x1024 .f32 := iblk m (ok m) c 4 t

theorem read4 :
    tile4 m c t (ix3 0 i q) = m ((c : Thread nD τ).loc main_arg4) (ix3 0 p q) :=
  (congrArg (V m c main_arg4) (Update.emb ((cfgM m (ok m)).win 4) rfl t (ix3 0 i q : S1x64x1024.Idx) (ix3 0 p q : S2x128x1024.Idx) _ (idx t)
    fun b => by fin_cases b; exacts [rfl, h.symm, Nat.zero_add _])).trans (congrFun (V_main_arg4 m c) _)

end

/-- The layer `k` of a tile. -/
def lay (L : FVec Ideal S7x64x1024 .bf16) (k : ℕ) (h : ∀ a, (![k, 0, 0] : Fin 3 → Nat) a + S1x64x1024.size a ≤ S7x64x1024.size a) : FVec Ideal S1x64x1024 .bf16 :=
  View.ld (Val := Elt Ideal) (e' := .bf16) L (Rect.unit (s := S7x64x1024) ![k, 0, 0] S1x64x1024.size h)

/-- The sum over the devices of a tile. -/
def total (P : FVec Ideal S1x64x1024 .bf16) (L : FVec Ideal S7x64x1024 .bf16) : FVec Ideal S64x1024 .f32 :=
  k0_pay3 P (lay L 0 inb_S7x64x1024_S1x64x1024_0_0_0) (lay L 1 inb_S7x64x1024_S1x64x1024_1_0_0) (lay L 2 inb_S7x64x1024_S1x64x1024_2_0_0) (lay L 3 inb_S7x64x1024_S1x64x1024_3_0_0) (lay L 4 inb_S7x64x1024_S1x64x1024_4_0_0) (lay L 5 inb_S7x64x1024_S1x64x1024_5_0_0) (lay L 6 inb_S7x64x1024_S1x64x1024_6_0_0)

theorem total_apply (P : FVec Ideal S1x64x1024 .bf16) (L : FVec Ideal S7x64x1024 .bf16) (i : Fin 64) (q : Fin 1024) :
    total P L (ix2 i q) = (P (ix3 0 i q) : EReal) + L (ix3 0 i q) + L (ix3 1 i q) + L (ix3 2 i q) + L (ix3 3 i q) + L (ix3 4 i q) + L (ix3 5 i q) + L (ix3 6 i q) := by
  unfold total
  pointwise [k0_pay3, lay]

/-- The tiles the kernel writes, read at an index. -/
theorem pay_g (G : FVec Ideal S64x1024 .f32) (i : Fin 64) (q : Fin 1024) : k0_pay6 G (ix3 0 i q) = G (ix2 i q) := by
  pointwise [k0_pay6]

theorem pay_m (G : FVec Ideal S64x1024 .f32) (M : FVec Ideal S1x64x1024 .f32) (i : Fin 64) (q : Fin 1024) :
    k0_pay1 (k0_pay4 G M) (ix3 0 i q) = Adam.M (G (ix2 i q)) (M (ix3 0 i q)) := by
  unfold Adam.M
  pointwise [k0_pay1, k0_pay4]

theorem pay_v (G : FVec Ideal S64x1024 .f32) (V : FVec Ideal S1x64x1024 .f32) (i : Fin 64) (q : Fin 1024) :
    k0_pay2 (k0_pay5 G V) (ix3 0 i q) = Adam.V (G (ix2 i q)) (V (ix3 0 i q)) := by
  unfold Adam.V
  pointwise [k0_pay2, k0_pay5]

theorem pay_d (G : FVec Ideal S64x1024 .f32) (W M V : FVec Ideal S1x64x1024 .f32) (i : Fin 64) (q : Fin 1024) :
    k0_pay7 G W M V (ix3 0 i q) = Adam.step (G (ix2 i q)) (W (ix3 0 i q)) (M (ix3 0 i q)) (V (ix3 0 i q)) := by
  rw [← Adam.kernelStep_eq]
  unfold Adam.kernelStep Adam.D Adam.M Adam.V
  rw [← inv1, ← inv2]
  pointwise [k0_pay7, k0_pay4, k0_pay5]

/-- The tiles the kernel writes: the gradient, the change and the moments. -/
abbrev newG (P : FVec Ideal S1x64x1024 .bf16) (L : FVec Ideal S7x64x1024 .bf16) : FVec Ideal S1x64x1024 .f32 := k0_pay6 (total P L)

abbrev newD (P : FVec Ideal S1x64x1024 .bf16) (L : FVec Ideal S7x64x1024 .bf16) (W M V : FVec Ideal S1x64x1024 .f32) : FVec Ideal S1x64x1024 .f32 := k0_pay7 (total P L) W M V

abbrev newM (P : FVec Ideal S1x64x1024 .bf16) (L : FVec Ideal S7x64x1024 .bf16) (M : FVec Ideal S1x64x1024 .f32) : FVec Ideal S1x64x1024 .f32 := k0_pay1 (k0_pay4 (total P L) M)

abbrev newV (P : FVec Ideal S1x64x1024 .bf16) (L : FVec Ideal S7x64x1024 .bf16) (V : FVec Ideal S1x64x1024 .f32) : FVec Ideal S1x64x1024 .f32 := k0_pay2 (k0_pay5 (total P L) V)

/-! What the outputs hold after a point of the grid. -/

theorem out5 : (outsAt0 m (ok m) c t).1 = newG (tile0 m c t) (tile1 m c t) := by
  unfold outsAt0
  frame_out
  change newG (back (hs0_0 m (ok m) t) (tile0 m c t)) (back (hs0_1 m (ok m) t) (tile1 m c t)) = _
  simp only [back_eq]

theorem out6 : (outsAt0 m (ok m) c t).2.1 = newD (tile0 m c t) (tile1 m c t) (tile2 m c t) (tile3 m c t) (tile4 m c t) := by
  unfold outsAt0
  frame_out
  change newD (back (hs0_0 m (ok m) t) (tile0 m c t)) (back (hs0_1 m (ok m) t) (tile1 m c t)) (back (hs0_2 m (ok m) t) (tile2 m c t)) (back (hs0_3 m (ok m) t) (tile3 m c t)) (back (hs0_4 m (ok m) t) (tile4 m c t)) = _
  simp only [back_eq]

theorem out7 : (outsAt0 m (ok m) c t).2.2.1 = newM (tile0 m c t) (tile1 m c t) (tile3 m c t) := by
  unfold outsAt0
  frame_out
  change newM (back (hs0_0 m (ok m) t) (tile0 m c t)) (back (hs0_1 m (ok m) t) (tile1 m c t)) (back (hs0_3 m (ok m) t) (tile3 m c t)) = _
  simp only [back_eq]

theorem out8 : (outsAt0 m (ok m) c t).2.2.2 = newV (tile0 m c t) (tile1 m c t) (tile4 m c t) := by
  unfold outsAt0
  frame_out
  change newV (back (hs0_0 m (ok m) t) (tile0 m c t)) (back (hs0_1 m (ok m) t) (tile1 m c t)) (back (hs0_4 m (ok m) t) (tile4 m c t)) = _
  simp only [back_eq]

end Cert.AttnOutUpdate0Ideal.Fwd

namespace Cert.AttnOutUpdate0ReferenceIdeal.Fwd

open Cert.AttnOutUpdate0ReferenceIdeal Cert.AttnOutUpdate0ReferenceIdeal.Gen Cert.AttnOutUpdate0ReferenceIdeal.Value

/-- The layers of an array of the weight. -/
abbrev Stack := FVec Ideal S2x128x1024 .f32

variable (a0 : FVec Ideal S8x128x1024 .bf16) (a1 : FVec Ideal S7x128x1024 .bf16) (a2 a3 a4 a5 a6 a7 a8 : Stack)

/-- The sum over the devices. -/
def total (p : Fin 128) (q : Fin 1024) : EReal :=
  (a0 (ix3 0 p q) : EReal) + a1 (ix3 0 p q) + a1 (ix3 1 p q) + a1 (ix3 2 p q) + a1 (ix3 3 p q) + a1 (ix3 4 p q) + a1 (ix3 5 p q) + a1 (ix3 6 p q)

theorem sum_apply (p : Fin 128) (q : Fin 1024) :
    k0_pay3 (F := Ideal) (View.ld (Val := Elt Ideal) (e' := .f32) a0 r0_0) a1 (ix2 p q) = total a0 a1 p q := by
  pointwise [k0_pay3]
  refine (congrArg (_ + ·) (Fin.sum_univ_seven _)).trans ?_
  unfold total
  simp only [add_assoc]

/-! The steps, read at an index. -/

theorem step_m (M : FVec Ideal S1x128x1024 .f32) (p : Fin 128) (q : Fin 1024) :
    k0_pay4 (F := Ideal) (View.ld (Val := Elt Ideal) (e' := .f32) a0 r0_0) a1 M (ix2 p q) = Adam.M (total a0 a1 p q) (M (ix3 0 p q)) := by
  rw [← sum_apply]
  unfold Adam.M
  pointwise [k0_pay4]

theorem step_v (V : FVec Ideal S1x128x1024 .f32) (p : Fin 128) (q : Fin 1024) :
    k0_pay5 (F := Ideal) (View.ld (Val := Elt Ideal) (e' := .f32) a0 r0_0) a1 V (ix2 p q) = Adam.V (total a0 a1 p q) (V (ix3 0 p q)) := by
  rw [← sum_apply]
  unfold Adam.V
  pointwise [k0_pay5]

theorem step_d (W M V : FVec Ideal S1x128x1024 .f32) (p : Fin 128) (q : Fin 1024) :
    (k0_pay9 (k0_pay6 (View.ld (Val := Elt Ideal) a0 r0_0) a1 W M V) (Scalar.ofBits .f32 0xBA83126F#32) : FVec Ideal S1x128x1024 .f32) (ix3 0 p q) = Adam.step (total a0 a1 p q) (W (ix3 0 p q)) (M (ix3 0 p q)) (V (ix3 0 p q)) := by
  unfold Adam.step
  rw [← Cert.AttnOutUpdate0Ideal.Fwd.cor1, ← Cert.AttnOutUpdate0Ideal.Fwd.cor2, ← step_m, ← step_v]
  unfold Adam.D
  pointwise [k0_pay9, k0_pay6]

/-- The layer of an array, read at an index. -/
theorem row (a : Stack) (p : Fin 128) (q : Fin 1024) : (View.ld (Val := Elt Ideal) (e' := .f32) a r0_2) (ix3 0 p q : S1x128x1024.Idx) = a (ix3 0 p q) := by
  pointwise

/-! What the reference writes, at the layer and elsewhere. -/

variable {a0 a1 a2 a3 a4 a5 a6 a7 a8} (z : S2x128x1024.Idx)

section

variable (p : Fin 128) (q : Fin 1024) (z0 : (z 0 : ℕ) = 0) (z1 : (z 1 : ℕ) = p) (z2 : (z 2 : ℕ) = q)
include z0 z1 z2

theorem ref9 : G9 (F := Ideal) a0 a1 a2 a3 a4 a5 a6 a7 a8 z = total a0 a1 p q := by
  unfold G9
  canon_tiles x h
  all_goals try omega
  rw [Update.at_row (x : S1x128x1024.Idx) p q (h1.symm.trans z1) (h2.symm.trans z2)]
  refine Eq.trans ?_ (sum_apply a0 a1 p q)
  pointwise [k0_pay7]

theorem ref10 : G10 (F := Ideal) a0 a1 a2 a3 a4 a5 a6 a7 a8 z = Adam.step (total a0 a1 p q) (a2 (ix3 0 p q)) (a3 (ix3 0 p q)) (a4 (ix3 0 p q)) := by
  unfold G10
  canon_tiles x h
  all_goals try omega
  rw [Update.at_row (x : S1x128x1024.Idx) p q (h1.symm.trans z1) (h2.symm.trans z2)]
  exact (step_d a0 a1 (View.ld (Val := Elt Ideal) (e' := .f32) a2 r0_2) (View.ld (Val := Elt Ideal) (e' := .f32) a3 r0_2) (View.ld (Val := Elt Ideal) (e' := .f32) a4 r0_2) p q).trans (congr (congr (congrArg (Adam.step _) (row a2 p q)) (row a3 p q)) (row a4 p q))

theorem ref11 : G11 (F := Ideal) a0 a1 a2 a3 a4 a5 a6 a7 a8 z = Adam.M (total a0 a1 p q) (a3 (ix3 0 p q)) := by
  unfold G11
  canon_tiles x h
  all_goals try omega
  rw [Update.at_row (x : S1x128x1024.Idx) p q (h1.symm.trans z1) (h2.symm.trans z2)]
  refine Eq.trans ?_ ((step_m a0 a1 (View.ld (Val := Elt Ideal) (e' := .f32) a3 r0_2) p q).trans (congrArg (Adam.M _) (row a3 p q)))
  pointwise [k0_pay11]

theorem ref12 : G12 (F := Ideal) a0 a1 a2 a3 a4 a5 a6 a7 a8 z = Adam.V (total a0 a1 p q) (a4 (ix3 0 p q)) := by
  unfold G12
  canon_tiles x h
  all_goals try omega
  rw [Update.at_row (x : S1x128x1024.Idx) p q (h1.symm.trans z1) (h2.symm.trans z2)]
  refine Eq.trans ?_ ((step_v a0 a1 (View.ld (Val := Elt Ideal) (e' := .f32) a4 r0_2) p q).trans (congrArg (Adam.V _) (row a4 p q)))
  pointwise [k0_pay1]

end

variable (hz : (z 0 : ℕ) ≠ 0)
include hz

theorem keep9 : G9 (F := Ideal) a0 a1 a2 a3 a4 a5 a6 a7 a8 z = a5 z := by
  unfold G9
  canon_tiles x h
  all_goals try omega
  all_goals
    obtain ⟨p, q, rfl⟩ := Update.some_row (x : S1x128x1024.Idx)
    pointwise [k0_pay8]
    exact congrArg a5 (Update.ext_row z _ p q h0.symm h1.symm h2.symm)

theorem keep10 : G10 (F := Ideal) a0 a1 a2 a3 a4 a5 a6 a7 a8 z = a6 z := by
  unfold G10
  canon_tiles x h
  all_goals try omega
  all_goals
    obtain ⟨p, q, rfl⟩ := Update.some_row (x : S1x128x1024.Idx)
    pointwise [k0_pay10]
    exact congrArg a6 (Update.ext_row z _ p q h0.symm h1.symm h2.symm)

theorem keep11 : G11 (F := Ideal) a0 a1 a2 a3 a4 a5 a6 a7 a8 z = a7 z := by
  unfold G11
  canon_tiles x h
  all_goals try omega
  all_goals
    obtain ⟨p, q, rfl⟩ := Update.some_row (x : S1x128x1024.Idx)
    pointwise [k0_pay12]
    exact congrArg a7 (Update.ext_row z _ p q h0.symm h1.symm h2.symm)

theorem keep12 : G12 (F := Ideal) a0 a1 a2 a3 a4 a5 a6 a7 a8 z = a8 z := by
  unfold G12
  canon_tiles x h
  all_goals try omega
  all_goals
    obtain ⟨p, q, rfl⟩ := Update.some_row (x : S1x128x1024.Idx)
    pointwise [k0_pay2]
    exact congrArg a8 (Update.ext_row z _ p q h0.symm h1.symm h2.symm)

end Cert.AttnOutUpdate0ReferenceIdeal.Fwd

namespace Cert.AttnOutUpdate0Ideal.Fwd

open Cert.AttnOutUpdate0Ideal Cert.AttnOutUpdate0Ideal.Gen
open Cert.AttnOutUpdate0ReferenceIdeal.Fwd (Stack ref9 ref10 ref11 ref12 keep9 keep10 keep11 keep12)
open Cert.AttnOutUpdate0ReferenceIdeal.Value (G9 G10 G11 G12)

variable (m : (ℓ : Loc nD τ sig) → Buf (Elt Ideal) ℓ)

/-- An element of a tile lies at a row of the array. -/
theorem some3 (t : Fin (cfgM m (ok m)).N) (y : S1x64x1024.Idx) :
    ∃ (i : Fin 64) (q : Fin 1024) (p : Fin 128), y = ix3 0 i q ∧ (p : ℕ) = t.val * 64 + i := by
  have tt : t.val < 2 := t.isLt
  obtain ⟨u, i, q, rfl⟩ : ∃ (u : Fin 1) (i : Fin 64) (q : Fin 1024), y = ix3 u i q := ⟨y 0, y 1, y 2, eq_ix3 y⟩
  obtain rfl : u = 0 := Subsingleton.elim _ _
  exact ⟨i, q, ⟨t.val * 64 + i, by omega⟩, rfl, rfl⟩

/-- A function of the nine arguments, of those of a device. -/
abbrev app {α : Type} (c : Dev nD) (G : FVec Ideal S8x128x1024 .bf16 → FVec Ideal S7x128x1024 .bf16 → Stack → Stack → Stack → Stack → Stack → Stack → Stack → α) : α :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The gradient of a tile is the reference's gradient there. -/
theorem grad (c : Dev nD) (t : Fin (cfgM m (ok m)).N) (i : Fin 64) (q : Fin 1024) (p : Fin 128) (h : (p : ℕ) = t.val * 64 + i) :
    total (tile0 m c t) (tile1 m c t) (ix2 i q) = Cert.AttnOutUpdate0ReferenceIdeal.Fwd.total (m ((c : Thread nD τ).loc main_arg0)) (m ((c : Thread nD τ).loc main_arg1)) p q := by
  refine (total_apply _ _ i q).trans ?_
  have r := read1 m c t i q p h
  exact Ideal.add_congr (Ideal.add_congr (Ideal.add_congr (Ideal.add_congr (Ideal.add_congr (Ideal.add_congr (Ideal.add_congr (read0 m c t i q p h) (r 0)) (r 1)) (r 2)) (r 3)) (r 4)) (r 5)) (r 6)

/-! The arrays after the run are the reference's. -/

theorem final5 (c : Dev nD) : (dats m (ok m) 0 c).arrAt 5 (cfgM m (ok m)).N = app m c (G9 (F := Ideal)) := by
  refine (dats m (ok m) 0 c).arrAt_eq_of_coversWhere_of_agree 5 _ (fun β => β (0 : Fin 3) = 0) (of_decide_eq_true (by sl_kernel_rfl)) (fun t fl y => ?_) (fun j hj => ?_)
  · obtain ⟨i, q, p, rfl, ep⟩ := some3 m t y
    have e := Update.emb ((cfgM m (ok m)).win 5) rfl t (ix3 0 i q : S1x64x1024.Idx) (ix3 0 p q : S2x128x1024.Idx) _ (idx t) fun b => by fin_cases b; exacts [rfl, ep.symm, Nat.zero_add _]
    refine Eq.trans ?_ (congrArg _ e).symm
    refine Eq.trans (congrFun ((after0_5 m (ok m) c t).trans (out5 m c t)) (ix3 0 i q : S1x64x1024.Idx)) ?_
    refine (pay_g _ i q).trans (Eq.trans ?_ (ref9 (ix3 0 p q) p q rfl rfl rfl).symm)
    exact (grad m c t i q p ep)
  · refine Eq.trans ?_ (keep9 j fun h => hj ((Pipeline.Window.cell_apply ((cfgM m (ok m)).win 5) j (0 : Fin 3)).trans ((Nat.div_one _).trans h))).symm
    refine (congrFun (A_eq m (ok m) c 5) _).trans ?_
    show V m c main_v1_0 j = _
    entry_read
    rfl

theorem final6 (c : Dev nD) : (dats m (ok m) 0 c).arrAt 6 (cfgM m (ok m)).N = app m c (G10 (F := Ideal)) := by
  refine (dats m (ok m) 0 c).arrAt_eq_of_coversWhere_of_agree 6 _ (fun β => β (0 : Fin 3) = 0) (of_decide_eq_true (by sl_kernel_rfl)) (fun t fl y => ?_) (fun j hj => ?_)
  · obtain ⟨i, q, p, rfl, ep⟩ := some3 m t y
    have e := Update.emb ((cfgM m (ok m)).win 6) rfl t (ix3 0 i q : S1x64x1024.Idx) (ix3 0 p q : S2x128x1024.Idx) _ (idx t) fun b => by fin_cases b; exacts [rfl, ep.symm, Nat.zero_add _]
    refine Eq.trans ?_ (congrArg _ e).symm
    refine Eq.trans (congrFun ((after0_6 m (ok m) c t).trans (out6 m c t)) (ix3 0 i q : S1x64x1024.Idx)) ?_
    refine (pay_d _ _ _ _ i q).trans (Eq.trans ?_ (ref10 (ix3 0 p q) p q rfl rfl rfl).symm)
    exact congr (congr (congr (congrArg Adam.step (grad m c t i q p ep)) (read2 m c t i q p ep)) (read3 m c t i q p ep)) (read4 m c t i q p ep)
  · refine Eq.trans ?_ (keep10 j fun h => hj ((Pipeline.Window.cell_apply ((cfgM m (ok m)).win 6) j (0 : Fin 3)).trans ((Nat.div_one _).trans h))).symm
    refine (congrFun (A_eq m (ok m) c 6) _).trans ?_
    show V m c main_v1_1 j = _
    entry_read
    rfl

theorem final7 (c : Dev nD) : (dats m (ok m) 0 c).arrAt 7 (cfgM m (ok m)).N = app m c (G11 (F := Ideal)) := by
  refine (dats m (ok m) 0 c).arrAt_eq_of_coversWhere_of_agree 7 _ (fun β => β (0 : Fin 3) = 0) (of_decide_eq_true (by sl_kernel_rfl)) (fun t fl y => ?_) (fun j hj => ?_)
  · obtain ⟨i, q, p, rfl, ep⟩ := some3 m t y
    have e := Update.emb ((cfgM m (ok m)).win 7) rfl t (ix3 0 i q : S1x64x1024.Idx) (ix3 0 p q : S2x128x1024.Idx) _ (idx t) fun b => by fin_cases b; exacts [rfl, ep.symm, Nat.zero_add _]
    refine Eq.trans ?_ (congrArg _ e).symm
    refine Eq.trans (congrFun ((after0_7 m (ok m) c t).trans (out7 m c t)) (ix3 0 i q : S1x64x1024.Idx)) ?_
    refine (pay_m _ _ i q).trans (Eq.trans ?_ (ref11 (ix3 0 p q) p q rfl rfl rfl).symm)
    exact congr (congrArg Adam.M (grad m c t i q p ep)) (read3 m c t i q p ep)
  · refine Eq.trans ?_ (keep11 j fun h => hj ((Pipeline.Window.cell_apply ((cfgM m (ok m)).win 7) j (0 : Fin 3)).trans ((Nat.div_one _).trans h))).symm
    refine (congrFun (A_eq m (ok m) c 7) _).trans ?_
    show V m c main_v1_2 j = _
    entry_read
    rfl

theorem final8 (c : Dev nD) : (dats m (ok m) 0 c).arrAt 8 (cfgM m (ok m)).N = app m c (G12 (F := Ideal)) := by
  refine (dats m (ok m) 0 c).arrAt_eq_of_coversWhere_of_agree 8 _ (fun β => β (0 : Fin 3) = 0) (of_decide_eq_true (by sl_kernel_rfl)) (fun t fl y => ?_) (fun j hj => ?_)
  · obtain ⟨i, q, p, rfl, ep⟩ := some3 m t y
    have e := Update.emb ((cfgM m (ok m)).win 8) rfl t (ix3 0 i q : S1x64x1024.Idx) (ix3 0 p q : S2x128x1024.Idx) _ (idx t) fun b => by fin_cases b; exacts [rfl, ep.symm, Nat.zero_add _]
    refine Eq.trans ?_ (congrArg _ e).symm
    refine Eq.trans (congrFun ((after0_8 m (ok m) c t).trans (out8 m c t)) (ix3 0 i q : S1x64x1024.Idx)) ?_
    refine (pay_v _ _ i q).trans (Eq.trans ?_ (ref12 (ix3 0 p q) p q rfl rfl rfl).symm)
    exact congr (congrArg Adam.V (grad m c t i q p ep)) (read4 m c t i q p ep)
  · refine Eq.trans ?_ (keep12 j fun h => hj ((Pipeline.Window.cell_apply ((cfgM m (ok m)).win 8) j (0 : Fin 3)).trans ((Nat.div_one _).trans h))).symm
    refine (congrFun (A_eq m (ok m) c 8) _).trans ?_
    show V m c main_v1_3 j = _
    entry_read
    rfl

end Cert.AttnOutUpdate0Ideal.Fwd

namespace Cert.Proof

/-- The printed kernel and the idealized one run to their end and leave their arguments as they were. -/
theorem quiescent_AttnOutUpdate0 : quiescent_AttnOutUpdate0 := fun m ρ _ => Cert.AttnOutUpdate0.Gen.frame m ρ (Cert.AttnOutUpdate0.Fwd.ok m)

theorem quiescent_AttnOutUpdate0Ideal : quiescent_AttnOutUpdate0Ideal := fun m ρ _ => Cert.AttnOutUpdate0Ideal.Gen.frame m ρ (Cert.AttnOutUpdate0Ideal.Fwd.ok m)

/-- So does the reference. -/
theorem quiescent_AttnOutUpdate0ReferenceIdeal : quiescent_AttnOutUpdate0ReferenceIdeal := fun m ρ _ => Cert.AttnOutUpdate0ReferenceIdeal.Gen.frame m ρ

/-- The named constants of the kernel have the values they are named for. -/
theorem preserves_AttnOutUpdate0 : preserves_AttnOutUpdate0_AttnOutUpdate0Ideal :=
  ⟨IdealRules.named_const.statement Cert.AttnOutUpdate0Ideal.κ "inv_b1" .f32 0x3FC48605#32 _ rfl,
    IdealRules.named_const.statement Cert.AttnOutUpdate0Ideal.κ "inv_b2" .f32 0x42C8E6D3#32 _ rfl⟩

open Cert.AttnOutUpdate0Ideal Cert.AttnOutUpdate0Ideal.Gen Cert.AttnOutUpdate0Ideal.Fwd in
/-- Kernel and reference end with the same gradient, change and moments of the layer, and keep the other layers. -/
theorem algebraic_AttnOutUpdate0 : algebraic_AttnOutUpdate0Ideal_AttnOutUpdate0ReferenceIdeal := by
  intro m ρ m' ρ' _ hagree
  refine ⟨_, _, _, _, (θ_run _ _ _).mono (fun r h c => ⟨((h.1 c).1 5).trans (final5 m c), ((h.1 c).1 6).trans (final6 m c), ((h.1 c).1 7).trans (final7 m c),
    ((h.1 c).1 8).trans (final8 m c), h.2 c⟩) (θ_run_and (run_main m ρ (ok m)) (unchanged m ρ (ok m))), ?_⟩
  refine (θ_run _ _ _).mono (fun _ h c => ?_) (Cert.AttnOutUpdate0ReferenceIdeal.Value.run (F := Ideal) m' ρ')
  obtain ⟨e0, e1, e2, e3, e4, e5, e6, e7, e8⟩ := hagree c
  refine ⟨(h c).1.trans ?_, (h c).2.1.trans ?_, (h c).2.2.1.trans ?_, (h c).2.2.2.1.trans ?_, (h c).2.2.2.2⟩ <;> rw [app, e0, e1, e2, e3, e4, e5, e6, e7, e8]

end Cert.Proof

end
-- ==== Proof.AttnOutUpdate1.lean ====
module

public import proofs.«01_k».proof.Defs
public import proofs.«01_k».proof.Proof.Gen.AttnOutUpdate1.Frame
public import proofs.«01_k».proof.Proof.Gen.AttnOutUpdate1Ideal.Frame
public import proofs.«01_k».proof.Proof.Gen.AttnOutUpdate1ReferenceIdeal.Value
public import proofs.«01_k».proof.Proof.AttnOutUpdate0

@[expose] public section

set_option maxRecDepth 16384

noncomputable section

open Idealize.ShloMosaic Idealize.ShloMosaic.TcCoe Idealize.SL.Sem

/-! # The update of layer 1 of b_w_o -/

namespace Cert.AttnOutUpdate1.Fwd

open Cert.AttnOutUpdate1 Cert.AttnOutUpdate1.Gen

section

variable {F : FTy → Type} [FloatOps F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

end Cert.AttnOutUpdate1.Fwd

namespace Cert.AttnOutUpdate1Ideal.Fwd

open Cert.AttnOutUpdate1Ideal Cert.AttnOutUpdate1Ideal.Gen

section

variable {F : FTy → Type} [FloatOps F] [Named F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

open Cert.AttnOutUpdate0Ideal.Fwd (newG newD newM newV)

open Update (back back_eq)

variable (m : (ℓ : Loc nD τ sig) → Buf (Elt Ideal) ℓ) (c : Dev nD) (t : Fin (cfgM m (ok m)).N)

/-- Which tile each window reads or writes at a point of the grid. -/
theorem idx0 : ((cfgM m (ok m)).win 0).index t = ![0, t.val, 0] := by
  have e : ∀ t : Fin grid0.N, cc0_transform_0 (F := Ideal) inb_S1_S1_0 numel1_S1 zero (grid0.coords t) = ![0, t.val, 0] := by decide +kernel
  refine Eq.trans ?_ (e t)
  show cc0_transform_0 inb_S1_S1_0 numel1_S1 (tbl m) (grid0.coords t) = _
  rw [table]

theorem idx1 : ∀ t : Fin grid0.N, cc0_transform_1 (grid0.coords t) = ![0, t.val, 0] := by decide +kernel

theorem idx : ∀ t : Fin grid0.N, cc0_transform_2 (grid0.coords t) = ![1, t.val, 0] := by decide +kernel

section

variable (i : Fin 64) (q : Fin 1024) (p : Fin 128) (h : (p : ℕ) = t.val * 64 + i)
include h

/-- The tile of the device's part, read at an index. -/
def tile0 : FVec Ideal S1x64x1024 .bf16 := iblk m (ok m) c 0 t

theorem read0 :
    tile0 m c t (ix3 0 i q) = m ((c : Thread nD τ).loc main_arg0) (ix3 0 p q) :=
  (congrArg (V m c main_arg0) (Update.emb ((cfgM m (ok m)).win 0) rfl t (ix3 0 i q : S1x64x1024.Idx) (ix3 0 p q : S8x128x1024.Idx) _ (idx0 m t)
    fun b => by fin_cases b; exacts [rfl, h.symm, Nat.zero_add _])).trans (congrFun (V_main_arg0 m c) _)

/-- The tile of the other devices' parts, read at an index. -/
def tile1 : FVec Ideal S7x64x1024 .bf16 := iblk m (ok m) c 1 t

theorem read1 (a : Fin 7) :
    tile1 m c t (ix3 a i q) = m ((c : Thread nD τ).loc main_arg1) (ix3 a p q) :=
  (congrArg (V m c main_arg1) (Update.emb ((cfgM m (ok m)).win 1) rfl t (ix3 a i q : S7x64x1024.Idx) (ix3 a p q : S7x128x1024.Idx) _ (idx1 t)
    fun b => by fin_cases b; exacts [Nat.zero_add _, h.symm, Nat.zero_add _])).trans (congrFun (V_main_arg1 m c) _)

/-- The tile of the weights, read at an index. -/
def tile2 : FVec Ideal S1x64x1024 .f32 := iblk m (ok m) c 2 t

theorem read2 :
    tile2 m c t (ix3 0 i q) = m ((c : Thread nD τ).loc main_arg2) (ix3 1 p q) :=
  (congrArg (V m c main_arg2) (Update.emb ((cfgM m (ok m)).win 2) rfl t (ix3 0 i q : S1x64x1024.Idx) (ix3 1 p q : S2x128x1024.Idx) _ (idx t)
    fun b => by fin_cases b; exacts [rfl, h.symm, Nat.zero_add _])).trans (congrFun (V_main_arg2 m c) _)

/-- The tile of the first moment, read at an index. -/
def tile3 : FVec Ideal S1x64x1024 .f32 := iblk m (ok m) c 3 t

theorem read3 :
    tile3 m c t (ix3 0 i q) = m ((c : Thread nD τ).loc main_arg3) (ix3 1 p q) :=
  (congrArg (V m c main_arg3) (Update.emb ((cfgM m (ok m)).win 3) rfl t (ix3 0 i q : S1x64x1024.Idx) (ix3 1 p q : S2x128x1024.Idx) _ (idx t)
    fun b => by fin_cases b; exacts [rfl, h.symm, Nat.zero_add _])).trans (congrFun (V_main_arg3 m c) _)

/-- The tile of the second moment, read at an index. -/
def tile4 : FVec Ideal S1x64x1024 .f32 := iblk m (ok m) c 4 t

theorem read4 :
    tile4 m c t (ix3 0 i q) = m ((c : Thread nD τ).loc main_arg4) (ix3 1 p q) :=
  (congrArg (V m c main_arg4) (Update.emb ((cfgM m (ok m)).win 4) rfl t (ix3 0 i q : S1x64x1024.Idx) (ix3 1 p q : S2x128x1024.Idx) _ (idx t)
    fun b => by fin_cases b; exacts [rfl, h.symm, Nat.zero_add _])).trans (congrFun (V_main_arg4 m c) _)

end

/-! What the outputs hold after a point of the grid. -/

theorem out5 : (outsAt0 m (ok m) c t).1 = newG (tile0 m c t) (tile1 m c t) := by
  unfold outsAt0
  frame_out
  change newG (back (hs0_0 m (ok m) t) (tile0 m c t)) (back (hs0_1 m (ok m) t) (tile1 m c t)) = _
  simp only [back_eq]

theorem out6 : (outsAt0 m (ok m) c t).2.1 = newD (tile0 m c t) (tile1 m c t) (tile2 m c t) (tile3 m c t) (tile4 m c t) := by
  unfold outsAt0
  frame_out
  change newD (back (hs0_0 m (ok m) t) (tile0 m c t)) (back (hs0_1 m (ok m) t) (tile1 m c t)) (back (hs0_2 m (ok m) t) (tile2 m c t)) (back (hs0_3 m (ok m) t) (tile3 m c t)) (back (hs0_4 m (ok m) t) (tile4 m c t)) = _
  simp only [back_eq]

theorem out7 : (outsAt0 m (ok m) c t).2.2.1 = newM (tile0 m c t) (tile1 m c t) (tile3 m c t) := by
  unfold outsAt0
  frame_out
  change newM (back (hs0_0 m (ok m) t) (tile0 m c t)) (back (hs0_1 m (ok m) t) (tile1 m c t)) (back (hs0_3 m (ok m) t) (tile3 m c t)) = _
  simp only [back_eq]

theorem out8 : (outsAt0 m (ok m) c t).2.2.2 = newV (tile0 m c t) (tile1 m c t) (tile4 m c t) := by
  unfold outsAt0
  frame_out
  change newV (back (hs0_0 m (ok m) t) (tile0 m c t)) (back (hs0_1 m (ok m) t) (tile1 m c t)) (back (hs0_4 m (ok m) t) (tile4 m c t)) = _
  simp only [back_eq]

end Cert.AttnOutUpdate1Ideal.Fwd

namespace Cert.AttnOutUpdate1ReferenceIdeal.Fwd

open Cert.AttnOutUpdate1ReferenceIdeal Cert.AttnOutUpdate1ReferenceIdeal.Gen Cert.AttnOutUpdate1ReferenceIdeal.Value
open Cert.AttnOutUpdate0ReferenceIdeal.Fwd (total sum_apply step_m step_v step_d)

/-- The layers of an array of the weight. -/
abbrev Stack := FVec Ideal S2x128x1024 .f32

variable (a0 : FVec Ideal S8x128x1024 .bf16) (a1 : FVec Ideal S7x128x1024 .bf16) (a2 a3 a4 a5 a6 a7 a8 : Stack)

/-- The layer of an array, read at an index. -/
theorem row (a : Stack) (p : Fin 128) (q : Fin 1024) : (View.ld (Val := Elt Ideal) (e' := .f32) a r0_2) (ix3 0 p q : S1x128x1024.Idx) = a (ix3 1 p q) := by
  pointwise

/-! What the reference writes, at the layer and elsewhere. -/

variable {a0 a1 a2 a3 a4 a5 a6 a7 a8} (z : S2x128x1024.Idx)

section

variable (p : Fin 128) (q : Fin 1024) (z0 : (z 0 : ℕ) = 1) (z1 : (z 1 : ℕ) = p) (z2 : (z 2 : ℕ) = q)
include z0 z1 z2

theorem ref9 : G9 (F := Ideal) a0 a1 a2 a3 a4 a5 a6 a7 a8 z = total a0 a1 p q := by
  unfold G9
  canon_tiles x h
  all_goals try omega
  rw [Update.at_row (x : S1x128x1024.Idx) p q (h1.symm.trans z1) (h2.symm.trans z2)]
  refine Eq.trans ?_ (sum_apply a0 a1 p q)
  pointwise [k0_pay8]
  all_goals rfl

theorem ref10 : G10 (F := Ideal) a0 a1 a2 a3 a4 a5 a6 a7 a8 z = Adam.step (total a0 a1 p q) (a2 (ix3 1 p q)) (a3 (ix3 1 p q)) (a4 (ix3 1 p q)) := by
  unfold G10
  canon_tiles x h
  all_goals try omega
  rw [Update.at_row (x : S1x128x1024.Idx) p q (h1.symm.trans z1) (h2.symm.trans z2)]
  exact (step_d a0 a1 (View.ld (Val := Elt Ideal) (e' := .f32) a2 r0_2) (View.ld (Val := Elt Ideal) (e' := .f32) a3 r0_2) (View.ld (Val := Elt Ideal) (e' := .f32) a4 r0_2) p q).trans (congr (congr (congrArg (Adam.step _) (row a2 p q)) (row a3 p q)) (row a4 p q))

theorem ref11 : G11 (F := Ideal) a0 a1 a2 a3 a4 a5 a6 a7 a8 z = Adam.M (total a0 a1 p q) (a3 (ix3 1 p q)) := by
  unfold G11
  canon_tiles x h
  all_goals try omega
  rw [Update.at_row (x : S1x128x1024.Idx) p q (h1.symm.trans z1) (h2.symm.trans z2)]
  refine Eq.trans ?_ ((step_m a0 a1 (View.ld (Val := Elt Ideal) (e' := .f32) a3 r0_2) p q).trans (congrArg (Adam.M _) (row a3 p q)))
  pointwise [k0_pay12]
  all_goals rfl

theorem ref12 : G12 (F := Ideal) a0 a1 a2 a3 a4 a5 a6 a7 a8 z = Adam.V (total a0 a1 p q) (a4 (ix3 1 p q)) := by
  unfold G12
  canon_tiles x h
  all_goals try omega
  rw [Update.at_row (x : S1x128x1024.Idx) p q (h1.symm.trans z1) (h2.symm.trans z2)]
  refine Eq.trans ?_ ((step_v a0 a1 (View.ld (Val := Elt Ideal) (e' := .f32) a4 r0_2) p q).trans (congrArg (Adam.V _) (row a4 p q)))
  pointwise [k0_pay2]
  all_goals rfl

end

variable (hz : (z 0 : ℕ) ≠ 1)
include hz

theorem keep9 : G9 (F := Ideal) a0 a1 a2 a3 a4 a5 a6 a7 a8 z = a5 z := by
  unfold G9
  canon_tiles x h
  all_goals try omega
  all_goals
    obtain ⟨p, q, rfl⟩ := Update.some_row (x : S1x128x1024.Idx)
    pointwise [k0_pay7]
    exact congrArg a5 (Update.ext_row z _ p q h0.symm h1.symm h2.symm)

theorem keep10 : G10 (F := Ideal) a0 a1 a2 a3 a4 a5 a6 a7 a8 z = a6 z := by
  unfold G10
  canon_tiles x h
  all_goals try omega
  all_goals
    obtain ⟨p, q, rfl⟩ := Update.some_row (x : S1x128x1024.Idx)
    pointwise [k0_pay9]
    exact congrArg a6 (Update.ext_row z _ p q h0.symm h1.symm h2.symm)

theorem keep11 : G11 (F := Ideal) a0 a1 a2 a3 a4 a5 a6 a7 a8 z = a7 z := by
  unfold G11
  canon_tiles x h
  all_goals try omega
  all_goals
    obtain ⟨p, q, rfl⟩ := Update.some_row (x : S1x128x1024.Idx)
    pointwise [k0_pay11]
    exact congrArg a7 (Update.ext_row z _ p q h0.symm h1.symm h2.symm)

theorem keep12 : G12 (F := Ideal) a0 a1 a2 a3 a4 a5 a6 a7 a8 z = a8 z := by
  unfold G12
  canon_tiles x h
  all_goals try omega
  all_goals
    obtain ⟨p, q, rfl⟩ := Update.some_row (x : S1x128x1024.Idx)
    pointwise [k0_pay1]
    exact congrArg a8 (Update.ext_row z _ p q h0.symm h1.symm h2.symm)

end Cert.AttnOutUpdate1ReferenceIdeal.Fwd

namespace Cert.AttnOutUpdate1Ideal.Fwd

open Cert.AttnOutUpdate1Ideal Cert.AttnOutUpdate1Ideal.Gen
open Cert.AttnOutUpdate0Ideal.Fwd (total total_apply pay_g pay_m pay_v pay_d)
open Cert.AttnOutUpdate1ReferenceIdeal.Fwd (Stack ref9 ref10 ref11 ref12 keep9 keep10 keep11 keep12)
open Cert.AttnOutUpdate1ReferenceIdeal.Value (G9 G10 G11 G12)

variable (m : (ℓ : Loc nD τ sig) → Buf (Elt Ideal) ℓ)

/-- An element of a tile lies at a row of the array. -/
theorem some3 (t : Fin (cfgM m (ok m)).N) (y : S1x64x1024.Idx) :
    ∃ (i : Fin 64) (q : Fin 1024) (p : Fin 128), y = ix3 0 i q ∧ (p : ℕ) = t.val * 64 + i := by
  have tt : t.val < 2 := t.isLt
  obtain ⟨u, i, q, rfl⟩ : ∃ (u : Fin 1) (i : Fin 64) (q : Fin 1024), y = ix3 u i q := ⟨y 0, y 1, y 2, eq_ix3 y⟩
  obtain rfl : u = 0 := Subsingleton.elim _ _
  exact ⟨i, q, ⟨t.val * 64 + i, by omega⟩, rfl, rfl⟩

/-- A function of the nine arguments, of those of a device. -/
abbrev app {α : Type} (c : Dev nD) (G : FVec Ideal S8x128x1024 .bf16 → FVec Ideal S7x128x1024 .bf16 → Stack → Stack → Stack → Stack → Stack → Stack → Stack → α) : α :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The gradient of a tile is the reference's gradient there. -/
theorem grad (c : Dev nD) (t : Fin (cfgM m (ok m)).N) (i : Fin 64) (q : Fin 1024) (p : Fin 128) (h : (p : ℕ) = t.val * 64 + i) :
    total (tile0 m c t) (tile1 m c t) (ix2 i q) = Cert.AttnOutUpdate0ReferenceIdeal.Fwd.total (m ((c : Thread nD τ).loc main_arg0)) (m ((c : Thread nD τ).loc main_arg1)) p q := by
  refine (total_apply _ _ i q).trans ?_
  have r := read1 m c t i q p h
  exact Ideal.add_congr (Ideal.add_congr (Ideal.add_congr (Ideal.add_congr (Ideal.add_congr (Ideal.add_congr (Ideal.add_congr (read0 m c t i q p h) (r 0)) (r 1)) (r 2)) (r 3)) (r 4)) (r 5)) (r 6)

/-! The arrays after the run are the reference's. -/

theorem final5 (c : Dev nD) : (dats m (ok m) 0 c).arrAt 5 (cfgM m (ok m)).N = app m c (G9 (F := Ideal)) := by
  refine (dats m (ok m) 0 c).arrAt_eq_of_coversWhere_of_agree 5 _ (fun β => β (0 : Fin 3) = 1) (of_decide_eq_true (by sl_kernel_rfl)) (fun t fl y => ?_) (fun j hj => ?_)
  · obtain ⟨i, q, p, rfl, ep⟩ := some3 m t y
    have e := Update.emb ((cfgM m (ok m)).win 5) rfl t (ix3 0 i q : S1x64x1024.Idx) (ix3 1 p q : S2x128x1024.Idx) _ (idx t) fun b => by fin_cases b; exacts [rfl, ep.symm, Nat.zero_add _]
    refine Eq.trans ?_ (congrArg _ e).symm
    refine Eq.trans (congrFun ((after0_5 m (ok m) c t).trans (out5 m c t)) (ix3 0 i q : S1x64x1024.Idx)) ?_
    refine (pay_g _ i q).trans (Eq.trans ?_ (ref9 (ix3 1 p q) p q rfl rfl rfl).symm)
    exact (grad m c t i q p ep)
  · refine Eq.trans ?_ (keep9 j fun h => hj ((Pipeline.Window.cell_apply ((cfgM m (ok m)).win 5) j (0 : Fin 3)).trans ((Nat.div_one _).trans h))).symm
    refine (congrFun (A_eq m (ok m) c 5) _).trans ?_
    show V m c main_v1_0 j = _
    entry_read
    rfl

theorem final6 (c : Dev nD) : (dats m (ok m) 0 c).arrAt 6 (cfgM m (ok m)).N = app m c (G10 (F := Ideal)) := by
  refine (dats m (ok m) 0 c).arrAt_eq_of_coversWhere_of_agree 6 _ (fun β => β (0 : Fin 3) = 1) (of_decide_eq_true (by sl_kernel_rfl)) (fun t fl y => ?_) (fun j hj => ?_)
  · obtain ⟨i, q, p, rfl, ep⟩ := some3 m t y
    have e := Update.emb ((cfgM m (ok m)).win 6) rfl t (ix3 0 i q : S1x64x1024.Idx) (ix3 1 p q : S2x128x1024.Idx) _ (idx t) fun b => by fin_cases b; exacts [rfl, ep.symm, Nat.zero_add _]
    refine Eq.trans ?_ (congrArg _ e).symm
    refine Eq.trans (congrFun ((after0_6 m (ok m) c t).trans (out6 m c t)) (ix3 0 i q : S1x64x1024.Idx)) ?_
    refine (pay_d _ _ _ _ i q).trans (Eq.trans ?_ (ref10 (ix3 1 p q) p q rfl rfl rfl).symm)
    exact congr (congr (congr (congrArg Adam.step (grad m c t i q p ep)) (read2 m c t i q p ep)) (read3 m c t i q p ep)) (read4 m c t i q p ep)
  · refine Eq.trans ?_ (keep10 j fun h => hj ((Pipeline.Window.cell_apply ((cfgM m (ok m)).win 6) j (0 : Fin 3)).trans ((Nat.div_one _).trans h))).symm
    refine (congrFun (A_eq m (ok m) c 6) _).trans ?_
    show V m c main_v1_1 j = _
    entry_read
    rfl

theorem final7 (c : Dev nD) : (dats m (ok m) 0 c).arrAt 7 (cfgM m (ok m)).N = app m c (G11 (F := Ideal)) := by
  refine (dats m (ok m) 0 c).arrAt_eq_of_coversWhere_of_agree 7 _ (fun β => β (0 : Fin 3) = 1) (of_decide_eq_true (by sl_kernel_rfl)) (fun t fl y => ?_) (fun j hj => ?_)
  · obtain ⟨i, q, p, rfl, ep⟩ := some3 m t y
    have e := Update.emb ((cfgM m (ok m)).win 7) rfl t (ix3 0 i q : S1x64x1024.Idx) (ix3 1 p q : S2x128x1024.Idx) _ (idx t) fun b => by fin_cases b; exacts [rfl, ep.symm, Nat.zero_add _]
    refine Eq.trans ?_ (congrArg _ e).symm
    refine Eq.trans (congrFun ((after0_7 m (ok m) c t).trans (out7 m c t)) (ix3 0 i q : S1x64x1024.Idx)) ?_
    refine (pay_m _ _ i q).trans (Eq.trans ?_ (ref11 (ix3 1 p q) p q rfl rfl rfl).symm)
    exact congr (congrArg Adam.M (grad m c t i q p ep)) (read3 m c t i q p ep)
  · refine Eq.trans ?_ (keep11 j fun h => hj ((Pipeline.Window.cell_apply ((cfgM m (ok m)).win 7) j (0 : Fin 3)).trans ((Nat.div_one _).trans h))).symm
    refine (congrFun (A_eq m (ok m) c 7) _).trans ?_
    show V m c main_v1_2 j = _
    entry_read
    rfl

theorem final8 (c : Dev nD) : (dats m (ok m) 0 c).arrAt 8 (cfgM m (ok m)).N = app m c (G12 (F := Ideal)) := by
  refine (dats m (ok m) 0 c).arrAt_eq_of_coversWhere_of_agree 8 _ (fun β => β (0 : Fin 3) = 1) (of_decide_eq_true (by sl_kernel_rfl)) (fun t fl y => ?_) (fun j hj => ?_)
  · obtain ⟨i, q, p, rfl, ep⟩ := some3 m t y
    have e := Update.emb ((cfgM m (ok m)).win 8) rfl t (ix3 0 i q : S1x64x1024.Idx) (ix3 1 p q : S2x128x1024.Idx) _ (idx t) fun b => by fin_cases b; exacts [rfl, ep.symm, Nat.zero_add _]
    refine Eq.trans ?_ (congrArg _ e).symm
    refine Eq.trans (congrFun ((after0_8 m (ok m) c t).trans (out8 m c t)) (ix3 0 i q : S1x64x1024.Idx)) ?_
    refine (pay_v _ _ i q).trans (Eq.trans ?_ (ref12 (ix3 1 p q) p q rfl rfl rfl).symm)
    exact congr (congrArg Adam.V (grad m c t i q p ep)) (read4 m c t i q p ep)
  · refine Eq.trans ?_ (keep12 j fun h => hj ((Pipeline.Window.cell_apply ((cfgM m (ok m)).win 8) j (0 : Fin 3)).trans ((Nat.div_one _).trans h))).symm
    refine (congrFun (A_eq m (ok m) c 8) _).trans ?_
    show V m c main_v1_3 j = _
    entry_read
    rfl

end Cert.AttnOutUpdate1Ideal.Fwd

namespace Cert.Proof

/-- The printed kernel and the idealized one run to their end and leave their arguments as they were. -/
theorem quiescent_AttnOutUpdate1 : quiescent_AttnOutUpdate1 := fun m ρ _ => Cert.AttnOutUpdate1.Gen.frame m ρ (Cert.AttnOutUpdate1.Fwd.ok m)

theorem quiescent_AttnOutUpdate1Ideal : quiescent_AttnOutUpdate1Ideal := fun m ρ _ => Cert.AttnOutUpdate1Ideal.Gen.frame m ρ (Cert.AttnOutUpdate1Ideal.Fwd.ok m)

/-- So does the reference. -/
theorem quiescent_AttnOutUpdate1ReferenceIdeal : quiescent_AttnOutUpdate1ReferenceIdeal := fun m ρ _ => Cert.AttnOutUpdate1ReferenceIdeal.Gen.frame m ρ

/-- The named constants of the kernel have the values they are named for. -/
theorem preserves_AttnOutUpdate1 : preserves_AttnOutUpdate1_AttnOutUpdate1Ideal :=
  ⟨IdealRules.named_const.statement Cert.AttnOutUpdate1Ideal.κ "inv_b1" .f32 0x3FC48605#32 _ rfl,
    IdealRules.named_const.statement Cert.AttnOutUpdate1Ideal.κ "inv_b2" .f32 0x42C8E6D3#32 _ rfl⟩

open Cert.AttnOutUpdate1Ideal Cert.AttnOutUpdate1Ideal.Gen Cert.AttnOutUpdate1Ideal.Fwd in
/-- Kernel and reference end with the same gradient, change and moments of the layer, and keep the other layers. -/
theorem algebraic_AttnOutUpdate1 : algebraic_AttnOutUpdate1Ideal_AttnOutUpdate1ReferenceIdeal := by
  intro m ρ m' ρ' _ hagree
  refine ⟨_, _, _, _, (θ_run _ _ _).mono (fun r h c => ⟨((h.1 c).1 5).trans (final5 m c), ((h.1 c).1 6).trans (final6 m c), ((h.1 c).1 7).trans (final7 m c),
    ((h.1 c).1 8).trans (final8 m c), h.2 c⟩) (θ_run_and (run_main m ρ (ok m)) (unchanged m ρ (ok m))), ?_⟩
  refine (θ_run _ _ _).mono (fun _ h c => ?_) (Cert.AttnOutUpdate1ReferenceIdeal.Value.run (F := Ideal) m' ρ')
  obtain ⟨e0, e1, e2, e3, e4, e5, e6, e7, e8⟩ := hagree c
  refine ⟨(h c).1.trans ?_, (h c).2.1.trans ?_, (h c).2.2.1.trans ?_, (h c).2.2.2.1.trans ?_, (h c).2.2.2.2⟩ <;> rw [app, e0, e1, e2, e3, e4, e5, e6, e7, e8]

end Cert.Proof

end
-- ==== Proof.GmlpInUpdate0.lean ====
module

public import proofs.«01_k».proof.Defs
public import proofs.«01_k».proof.Proof.Gen.GmlpInUpdate0.Frame
public import proofs.«01_k».proof.Proof.Gen.GmlpInUpdate0Ideal.Frame
public import proofs.«01_k».proof.Proof.Gen.GmlpInUpdate0ReferenceIdeal.Value
public import proofs.«01_k».proof.Proof.Update

@[expose] public section

set_option maxRecDepth 16384

noncomputable section

open Idealize.ShloMosaic Idealize.ShloMosaic.TcCoe Idealize.SL.Sem

/-! # The update of layer 0 of a_w_in -/

namespace Cert.GmlpInUpdate0.Fwd

open Cert.GmlpInUpdate0 Cert.GmlpInUpdate0.Gen

section

variable {F : FTy → Type} [FloatOps F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

end Cert.GmlpInUpdate0.Fwd

namespace Cert.GmlpInUpdate0Ideal.Fwd

open Cert.GmlpInUpdate0Ideal Cert.GmlpInUpdate0Ideal.Gen

section

variable {F : FTy → Type} [FloatOps F] [Named F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

/-- The value of a named constant. -/
theorem inv1 : Named.named (F := Ideal) Cert.GmlpInUpdate0Ideal.κ "inv_b1" (φ := .f32) 0x3FC48605#32 = ((((Adam.B1)⁻¹ : ℝ) : EReal)) :=
  IdealRules.named_const.ideal_named_scalar _ _ _ _ rfl

/-- The value of a named constant. -/
theorem inv2 : Named.named (F := Ideal) Cert.GmlpInUpdate0Ideal.κ "inv_b2" (φ := .f32) 0x42C8E6D3#32 = ((((Adam.B2)⁻¹ : ℝ) : EReal)) :=
  IdealRules.named_const.ideal_named_scalar _ _ _ _ rfl

/-- The value of a named constant. -/
theorem cor1 : Named.named (F := Ideal) Cert.GmlpInUpdate0ReferenceIdeal.κ "b1" (φ := .f32) 0x3F26BD02#32 = ((((Adam.B1) : ℝ) : EReal)) :=
  IdealRules.named_const.ideal_named_scalar _ _ _ _ rfl

/-- The value of a named constant. -/
theorem cor2 : Named.named (F := Ideal) Cert.GmlpInUpdate0ReferenceIdeal.κ "b2" (φ := .f32) 0x3C231ACC#32 = ((((Adam.B2) : ℝ) : EReal)) :=
  IdealRules.named_const.ideal_named_scalar _ _ _ _ rfl

open Update (back back_eq)

variable (m : (ℓ : Loc nD τ sig) → Buf (Elt Ideal) ℓ) (c : Dev nD) (t : Fin (cfgM m (ok m)).N)

/-- Which tile each window reads or writes at a point of the grid. -/
theorem idx0 : ((cfgM m (ok m)).win 0).index t = ![0, 0, t.val] := by
  have e : ∀ t : Fin grid0.N, cc0_transform_0 (F := Ideal) inb_S1_S1_0 numel1_S1 zero (grid0.coords t) = ![0, 0, t.val] := by decide +kernel
  refine Eq.trans ?_ (e t)
  show cc0_transform_0 inb_S1_S1_0 numel1_S1 (tbl m) (grid0.coords t) = _
  rw [table]

theorem idx1 : ∀ t : Fin grid0.N, cc0_transform_1 (grid0.coords t) = ![0, 0, t.val] := by decide +kernel

theorem idx : ∀ t : Fin grid0.N, cc0_transform_2 (grid0.coords t) = ![0, t.val, 0] := by decide +kernel

section

variable (i : Fin 256) (q : Fin 512) (p : Fin 1024) (h : (p : ℕ) = t.val * 256 + i)
include h

/-- The tile of the device's part, read at an index. -/
def tile0 : FVec Ideal S1x512x256 .bf16 := iblk m (ok m) c 0 t

theorem read0 :
    tile0 m c t (ix3 0 q i) = m ((c : Thread nD τ).loc main_arg0) (ix3 0 q p) :=
  (congrArg (V m c main_arg0) (Update.emb ((cfgM m (ok m)).win 0) rfl t (ix3 0 q i : S1x512x256.Idx) (ix3 0 q p : S8x512x1024.Idx) _ (idx0 m t)
    fun b => by fin_cases b; exacts [rfl, Nat.zero_add _, h.symm])).trans (congrFun (V_main_arg0 m c) _)

/-- The tile of the other devices' parts, read at an index. -/
def tile1 : FVec Ideal S7x512x256 .bf16 := iblk m (ok m) c 1 t

theorem read1 (a : Fin 7) :
    tile1 m c t (ix3 a q i) = m ((c : Thread nD τ).loc main_arg1) (ix3 a q p) :=
  (congrArg (V m c main_arg1) (Update.emb ((cfgM m (ok m)).win 1) rfl t (ix3 a q i : S7x512x256.Idx) (ix3 a q p : S7x512x1024.Idx) _ (idx1 t)
    fun b => by fin_cases b; exacts [Nat.zero_add _, Nat.zero_add _, h.symm])).trans (congrFun (V_main_arg1 m c) _)

/-- The tile of the weights, read at an index. -/
def tile2 : FVec Ideal S1x256x512 .f32 := iblk m (ok m) c 2 t

theorem read2 :
    tile2 m c t (ix3 0 i q) = m ((c : Thread nD τ).loc main_arg2) (ix3 0 p q) :=
  (congrArg (V m c main_arg2) (Update.emb ((cfgM m (ok m)).win 2) rfl t (ix3 0 i q : S1x256x512.Idx) (ix3 0 p q : S2x1024x512.Idx) _ (idx t)
    fun b => by fin_cases b; exacts [rfl, h.symm, Nat.zero_add _])).trans (congrFun (V_main_arg2 m c) _)

/-- The tile of the first moment, read at an index. -/
def tile3 : FVec Ideal S1x256x512 .f32 := iblk m (ok m) c 3 t

theorem read3 :
    tile3 m c t (ix3 0 i q) = m ((c : Thread nD τ).loc main_arg3) (ix3 0 p q) :=
  (congrArg (V m c main_arg3) (Update.emb ((cfgM m (ok m)).win 3) rfl t (ix3 0 i q : S1x256x512.Idx) (ix3 0 p q : S2x1024x512.Idx) _ (idx t)
    fun b => by fin_cases b; exacts [rfl, h.symm, Nat.zero_add _])).trans (congrFun (V_main_arg3 m c) _)

/-- The tile of the second moment, read at an index. -/
def tile4 : FVec Ideal S1x256x512 .f32 := iblk m (ok m) c 4 t

theorem read4 :
    tile4 m c t (ix3 0 i q) = m ((c : Thread nD τ).loc main_arg4) (ix3 0 p q) :=
  (congrArg (V m c main_arg4) (Update.emb ((cfgM m (ok m)).win 4) rfl t (ix3 0 i q : S1x256x512.Idx) (ix3 0 p q : S2x1024x512.Idx) _ (idx t)
    fun b => by fin_cases b; exacts [rfl, h.symm, Nat.zero_add _])).trans (congrFun (V_main_arg4 m c) _)

end

/-- The layer `k` of a tile. -/
def lay (L : FVec Ideal S7x512x256 .bf16) (k : ℕ) (h : ∀ a, (![k, 0, 0] : Fin 3 → Nat) a + S1x512x256.size a ≤ S7x512x256.size a) : FVec Ideal S1x512x256 .bf16 :=
  View.ld (Val := Elt Ideal) (e' := .bf16) L (Rect.unit (s := S7x512x256) ![k, 0, 0] S1x512x256.size h)

/-- The sum over the devices of a tile. -/
def total (P : FVec Ideal S1x512x256 .bf16) (L : FVec Ideal S7x512x256 .bf16) : FVec Ideal S256x512 .f32 :=
  k0_pay3 P (lay L 0 inb_S7x512x256_S1x512x256_0_0_0) (lay L 1 inb_S7x512x256_S1x512x256_1_0_0) (lay L 2 inb_S7x512x256_S1x512x256_2_0_0) (lay L 3 inb_S7x512x256_S1x512x256_3_0_0) (lay L 4 inb_S7x512x256_S1x512x256_4_0_0) (lay L 5 inb_S7x512x256_S1x512x256_5_0_0) (lay L 6 inb_S7x512x256_S1x512x256_6_0_0)

theorem total_apply (P : FVec Ideal S1x512x256 .bf16) (L : FVec Ideal S7x512x256 .bf16) (i : Fin 256) (q : Fin 512) :
    total P L (ix2 i q) = (P (ix3 0 q i) : EReal) + L (ix3 0 q i) + L (ix3 1 q i) + L (ix3 2 q i) + L (ix3 3 q i) + L (ix3 4 q i) + L (ix3 5 q i) + L (ix3 6 q i) := by
  unfold total
  pointwise [k0_pay3, lay]

/-- The tiles the kernel writes, read at an index. -/
theorem pay_g (G : FVec Ideal S256x512 .f32) (i : Fin 256) (q : Fin 512) : k0_pay6 G (ix3 0 i q) = G (ix2 i q) := by
  pointwise [k0_pay6]

theorem pay_m (G : FVec Ideal S256x512 .f32) (M : FVec Ideal S1x256x512 .f32) (i : Fin 256) (q : Fin 512) :
    k0_pay1 (k0_pay4 G M) (ix3 0 i q) = Adam.M (G (ix2 i q)) (M (ix3 0 i q)) := by
  unfold Adam.M
  pointwise [k0_pay1, k0_pay4]

theorem pay_v (G : FVec Ideal S256x512 .f32) (V : FVec Ideal S1x256x512 .f32) (i : Fin 256) (q : Fin 512) :
    k0_pay2 (k0_pay5 G V) (ix3 0 i q) = Adam.V (G (ix2 i q)) (V (ix3 0 i q)) := by
  unfold Adam.V
  pointwise [k0_pay2, k0_pay5]

theorem pay_d (G : FVec Ideal S256x512 .f32) (W M V : FVec Ideal S1x256x512 .f32) (i : Fin 256) (q : Fin 512) :
    k0_pay7 G W M V (ix3 0 i q) = Adam.step (G (ix2 i q)) (W (ix3 0 i q)) (M (ix3 0 i q)) (V (ix3 0 i q)) := by
  rw [← Adam.kernelStep_eq]
  unfold Adam.kernelStep Adam.D Adam.M Adam.V
  rw [← inv1, ← inv2]
  pointwise [k0_pay7, k0_pay4, k0_pay5]

/-- The tiles the kernel writes: the gradient, the change and the moments. -/
abbrev newG (P : FVec Ideal S1x512x256 .bf16) (L : FVec Ideal S7x512x256 .bf16) : FVec Ideal S1x256x512 .f32 := k0_pay6 (total P L)

abbrev newD (P : FVec Ideal S1x512x256 .bf16) (L : FVec Ideal S7x512x256 .bf16) (W M V : FVec Ideal S1x256x512 .f32) : FVec Ideal S1x256x512 .f32 := k0_pay7 (total P L) W M V

abbrev newM (P : FVec Ideal S1x512x256 .bf16) (L : FVec Ideal S7x512x256 .bf16) (M : FVec Ideal S1x256x512 .f32) : FVec Ideal S1x256x512 .f32 := k0_pay1 (k0_pay4 (total P L) M)

abbrev newV (P : FVec Ideal S1x512x256 .bf16) (L : FVec Ideal S7x512x256 .bf16) (V : FVec Ideal S1x256x512 .f32) : FVec Ideal S1x256x512 .f32 := k0_pay2 (k0_pay5 (total P L) V)

/-! What the outputs hold after a point of the grid. -/

theorem out5 : (outsAt0 m (ok m) c t).1 = newG (tile0 m c t) (tile1 m c t) := by
  unfold outsAt0
  frame_out
  change newG (back (hs0_0 m (ok m) t) (tile0 m c t)) (back (hs0_1 m (ok m) t) (tile1 m c t)) = _
  simp only [back_eq]

theorem out6 : (outsAt0 m (ok m) c t).2.1 = newD (tile0 m c t) (tile1 m c t) (tile2 m c t) (tile3 m c t) (tile4 m c t) := by
  unfold outsAt0
  frame_out
  change newD (back (hs0_0 m (ok m) t) (tile0 m c t)) (back (hs0_1 m (ok m) t) (tile1 m c t)) (back (hs0_2 m (ok m) t) (tile2 m c t)) (back (hs0_3 m (ok m) t) (tile3 m c t)) (back (hs0_4 m (ok m) t) (tile4 m c t)) = _
  simp only [back_eq]

theorem out7 : (outsAt0 m (ok m) c t).2.2.1 = newM (tile0 m c t) (tile1 m c t) (tile3 m c t) := by
  unfold outsAt0
  frame_out
  change newM (back (hs0_0 m (ok m) t) (tile0 m c t)) (back (hs0_1 m (ok m) t) (tile1 m c t)) (back (hs0_3 m (ok m) t) (tile3 m c t)) = _
  simp only [back_eq]

theorem out8 : (outsAt0 m (ok m) c t).2.2.2 = newV (tile0 m c t) (tile1 m c t) (tile4 m c t) := by
  unfold outsAt0
  frame_out
  change newV (back (hs0_0 m (ok m) t) (tile0 m c t)) (back (hs0_1 m (ok m) t) (tile1 m c t)) (back (hs0_4 m (ok m) t) (tile4 m c t)) = _
  simp only [back_eq]

end Cert.GmlpInUpdate0Ideal.Fwd

namespace Cert.GmlpInUpdate0ReferenceIdeal.Fwd

open Cert.GmlpInUpdate0ReferenceIdeal Cert.GmlpInUpdate0ReferenceIdeal.Gen Cert.GmlpInUpdate0ReferenceIdeal.Value

/-- The layers of an array of the weight. -/
abbrev Stack := FVec Ideal S2x1024x512 .f32

variable (a0 : FVec Ideal S8x512x1024 .bf16) (a1 : FVec Ideal S7x512x1024 .bf16) (a2 a3 a4 a5 a6 a7 a8 : Stack)

/-- The sum over the devices. -/
def total (p : Fin 1024) (q : Fin 512) : EReal :=
  (a0 (ix3 0 q p) : EReal) + a1 (ix3 0 q p) + a1 (ix3 1 q p) + a1 (ix3 2 q p) + a1 (ix3 3 q p) + a1 (ix3 4 q p) + a1 (ix3 5 q p) + a1 (ix3 6 q p)

theorem sum_apply (p : Fin 1024) (q : Fin 512) :
    k0_pay3 (F := Ideal) (View.ld (Val := Elt Ideal) (e' := .f32) a0 r0_0) a1 (ix2 p q) = total a0 a1 p q := by
  pointwise [k0_pay3]
  refine (congrArg (_ + ·) (Fin.sum_univ_seven _)).trans ?_
  unfold total
  simp only [add_assoc]

/-! The steps, read at an index. -/

theorem step_m (M : FVec Ideal S1x1024x512 .f32) (p : Fin 1024) (q : Fin 512) :
    k0_pay4 (F := Ideal) (View.ld (Val := Elt Ideal) (e' := .f32) a0 r0_0) a1 M (ix2 p q) = Adam.M (total a0 a1 p q) (M (ix3 0 p q)) := by
  rw [← sum_apply]
  unfold Adam.M
  pointwise [k0_pay4]

theorem step_v (V : FVec Ideal S1x1024x512 .f32) (p : Fin 1024) (q : Fin 512) :
    k0_pay5 (F := Ideal) (View.ld (Val := Elt Ideal) (e' := .f32) a0 r0_0) a1 V (ix2 p q) = Adam.V (total a0 a1 p q) (V (ix3 0 p q)) := by
  rw [← sum_apply]
  unfold Adam.V
  pointwise [k0_pay5]

theorem step_d (W M V : FVec Ideal S1x1024x512 .f32) (p : Fin 1024) (q : Fin 512) :
    (k0_pay9 (k0_pay6 (View.ld (Val := Elt Ideal) a0 r0_0) a1 W M V) : FVec Ideal S1x1024x512 .f32) (ix3 0 p q) = Adam.step (total a0 a1 p q) (W (ix3 0 p q)) (M (ix3 0 p q)) (V (ix3 0 p q)) := by
  unfold Adam.step
  rw [← Cert.GmlpInUpdate0Ideal.Fwd.cor1, ← Cert.GmlpInUpdate0Ideal.Fwd.cor2, ← step_m, ← step_v]
  unfold Adam.D
  pointwise [k0_pay9, k0_pay6]

/-- The layer of an array, read at an index. -/
theorem row (a : Stack) (p : Fin 1024) (q : Fin 512) : (View.ld (Val := Elt Ideal) (e' := .f32) a r0_2) (ix3 0 p q : S1x1024x512.Idx) = a (ix3 0 p q) := by
  pointwise

/-! What the reference writes, at the layer and elsewhere. -/

variable {a0 a1 a2 a3 a4 a5 a6 a7 a8} (z : S2x1024x512.Idx)

section

variable (p : Fin 1024) (q : Fin 512) (z0 : (z 0 : ℕ) = 0) (z1 : (z 1 : ℕ) = p) (z2 : (z 2 : ℕ) = q)
include z0 z1 z2

theorem ref9 : G9 (F := Ideal) a0 a1 a2 a3 a4 a5 a6 a7 a8 z = total a0 a1 p q := by
  unfold G9
  canon_tiles x h
  all_goals try omega
  rw [Update.at_row (x : S1x1024x512.Idx) p q (h1.symm.trans z1) (h2.symm.trans z2)]
  refine Eq.trans ?_ (sum_apply a0 a1 p q)
  pointwise [k0_pay7]

theorem ref10 : G10 (F := Ideal) a0 a1 a2 a3 a4 a5 a6 a7 a8 z = Adam.step (total a0 a1 p q) (a2 (ix3 0 p q)) (a3 (ix3 0 p q)) (a4 (ix3 0 p q)) := by
  unfold G10
  canon_tiles x h
  all_goals try omega
  rw [Update.at_row (x : S1x1024x512.Idx) p q (h1.symm.trans z1) (h2.symm.trans z2)]
  exact (step_d a0 a1 (View.ld (Val := Elt Ideal) (e' := .f32) a2 r0_2) (View.ld (Val := Elt Ideal) (e' := .f32) a3 r0_2) (View.ld (Val := Elt Ideal) (e' := .f32) a4 r0_2) p q).trans (congr (congr (congrArg (Adam.step _) (row a2 p q)) (row a3 p q)) (row a4 p q))

theorem ref11 : G11 (F := Ideal) a0 a1 a2 a3 a4 a5 a6 a7 a8 z = Adam.M (total a0 a1 p q) (a3 (ix3 0 p q)) := by
  unfold G11
  canon_tiles x h
  all_goals try omega
  rw [Update.at_row (x : S1x1024x512.Idx) p q (h1.symm.trans z1) (h2.symm.trans z2)]
  refine Eq.trans ?_ ((step_m a0 a1 (View.ld (Val := Elt Ideal) (e' := .f32) a3 r0_2) p q).trans (congrArg (Adam.M _) (row a3 p q)))
  pointwise [k0_pay11]

theorem ref12 : G12 (F := Ideal) a0 a1 a2 a3 a4 a5 a6 a7 a8 z = Adam.V (total a0 a1 p q) (a4 (ix3 0 p q)) := by
  unfold G12
  canon_tiles x h
  all_goals try omega
  rw [Update.at_row (x : S1x1024x512.Idx) p q (h1.symm.trans z1) (h2.symm.trans z2)]
  refine Eq.trans ?_ ((step_v a0 a1 (View.ld (Val := Elt Ideal) (e' := .f32) a4 r0_2) p q).trans (congrArg (Adam.V _) (row a4 p q)))
  pointwise [k0_pay1]

end

variable (hz : (z 0 : ℕ) ≠ 0)
include hz

theorem keep9 : G9 (F := Ideal) a0 a1 a2 a3 a4 a5 a6 a7 a8 z = a5 z := by
  unfold G9
  canon_tiles x h
  all_goals try omega
  all_goals
    obtain ⟨p, q, rfl⟩ := Update.some_row (x : S1x1024x512.Idx)
    pointwise [k0_pay8]
    exact congrArg a5 (Update.ext_row z _ p q h0.symm h1.symm h2.symm)

theorem keep10 : G10 (F := Ideal) a0 a1 a2 a3 a4 a5 a6 a7 a8 z = a6 z := by
  unfold G10
  canon_tiles x h
  all_goals try omega
  all_goals
    obtain ⟨p, q, rfl⟩ := Update.some_row (x : S1x1024x512.Idx)
    pointwise [k0_pay10]
    exact congrArg a6 (Update.ext_row z _ p q h0.symm h1.symm h2.symm)

theorem keep11 : G11 (F := Ideal) a0 a1 a2 a3 a4 a5 a6 a7 a8 z = a7 z := by
  unfold G11
  canon_tiles x h
  all_goals try omega
  all_goals
    obtain ⟨p, q, rfl⟩ := Update.some_row (x : S1x1024x512.Idx)
    pointwise [k0_pay12]
    exact congrArg a7 (Update.ext_row z _ p q h0.symm h1.symm h2.symm)

theorem keep12 : G12 (F := Ideal) a0 a1 a2 a3 a4 a5 a6 a7 a8 z = a8 z := by
  unfold G12
  canon_tiles x h
  all_goals try omega
  all_goals
    obtain ⟨p, q, rfl⟩ := Update.some_row (x : S1x1024x512.Idx)
    pointwise [k0_pay2]
    exact congrArg a8 (Update.ext_row z _ p q h0.symm h1.symm h2.symm)

end Cert.GmlpInUpdate0ReferenceIdeal.Fwd

namespace Cert.GmlpInUpdate0Ideal.Fwd

open Cert.GmlpInUpdate0Ideal Cert.GmlpInUpdate0Ideal.Gen
open Cert.GmlpInUpdate0ReferenceIdeal.Fwd (Stack ref9 ref10 ref11 ref12 keep9 keep10 keep11 keep12)
open Cert.GmlpInUpdate0ReferenceIdeal.Value (G9 G10 G11 G12)

variable (m : (ℓ : Loc nD τ sig) → Buf (Elt Ideal) ℓ)

/-- An element of a tile lies at a row of the array. -/
theorem some3 (t : Fin (cfgM m (ok m)).N) (y : S1x256x512.Idx) :
    ∃ (i : Fin 256) (q : Fin 512) (p : Fin 1024), y = ix3 0 i q ∧ (p : ℕ) = t.val * 256 + i := by
  have tt : t.val < 4 := t.isLt
  obtain ⟨u, i, q, rfl⟩ : ∃ (u : Fin 1) (i : Fin 256) (q : Fin 512), y = ix3 u i q := ⟨y 0, y 1, y 2, eq_ix3 y⟩
  obtain rfl : u = 0 := Subsingleton.elim _ _
  exact ⟨i, q, ⟨t.val * 256 + i, by omega⟩, rfl, rfl⟩

/-- A function of the nine arguments, of those of a device. -/
abbrev app {α : Type} (c : Dev nD) (G : FVec Ideal S8x512x1024 .bf16 → FVec Ideal S7x512x1024 .bf16 → Stack → Stack → Stack → Stack → Stack → Stack → Stack → α) : α :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The gradient of a tile is the reference's gradient there. -/
theorem grad (c : Dev nD) (t : Fin (cfgM m (ok m)).N) (i : Fin 256) (q : Fin 512) (p : Fin 1024) (h : (p : ℕ) = t.val * 256 + i) :
    total (tile0 m c t) (tile1 m c t) (ix2 i q) = Cert.GmlpInUpdate0ReferenceIdeal.Fwd.total (m ((c : Thread nD τ).loc main_arg0)) (m ((c : Thread nD τ).loc main_arg1)) p q := by
  refine (total_apply _ _ i q).trans ?_
  have r := read1 m c t i q p h
  exact Ideal.add_congr (Ideal.add_congr (Ideal.add_congr (Ideal.add_congr (Ideal.add_congr (Ideal.add_congr (Ideal.add_congr (read0 m c t i q p h) (r 0)) (r 1)) (r 2)) (r 3)) (r 4)) (r 5)) (r 6)

/-! The arrays after the run are the reference's. -/

theorem final5 (c : Dev nD) : (dats m (ok m) 0 c).arrAt 5 (cfgM m (ok m)).N = app m c (G9 (F := Ideal)) := by
  refine (dats m (ok m) 0 c).arrAt_eq_of_coversWhere_of_agree 5 _ (fun β => β (0 : Fin 3) = 0) (of_decide_eq_true (by sl_kernel_rfl)) (fun t fl y => ?_) (fun j hj => ?_)
  · obtain ⟨i, q, p, rfl, ep⟩ := some3 m t y
    have e := Update.emb ((cfgM m (ok m)).win 5) rfl t (ix3 0 i q : S1x256x512.Idx) (ix3 0 p q : S2x1024x512.Idx) _ (idx t) fun b => by fin_cases b; exacts [rfl, ep.symm, Nat.zero_add _]
    refine Eq.trans ?_ (congrArg _ e).symm
    refine Eq.trans (congrFun ((after0_5 m (ok m) c t).trans (out5 m c t)) (ix3 0 i q : S1x256x512.Idx)) ?_
    refine (pay_g _ i q).trans (Eq.trans ?_ (ref9 (ix3 0 p q) p q rfl rfl rfl).symm)
    exact (grad m c t i q p ep)
  · refine Eq.trans ?_ (keep9 j fun h => hj ((Pipeline.Window.cell_apply ((cfgM m (ok m)).win 5) j (0 : Fin 3)).trans ((Nat.div_one _).trans h))).symm
    refine (congrFun (A_eq m (ok m) c 5) _).trans ?_
    show V m c main_v1_0 j = _
    entry_read
    rfl

theorem final6 (c : Dev nD) : (dats m (ok m) 0 c).arrAt 6 (cfgM m (ok m)).N = app m c (G10 (F := Ideal)) := by
  refine (dats m (ok m) 0 c).arrAt_eq_of_coversWhere_of_agree 6 _ (fun β => β (0 : Fin 3) = 0) (of_decide_eq_true (by sl_kernel_rfl)) (fun t fl y => ?_) (fun j hj => ?_)
  · obtain ⟨i, q, p, rfl, ep⟩ := some3 m t y
    have e := Update.emb ((cfgM m (ok m)).win 6) rfl t (ix3 0 i q : S1x256x512.Idx) (ix3 0 p q : S2x1024x512.Idx) _ (idx t) fun b => by fin_cases b; exacts [rfl, ep.symm, Nat.zero_add _]
    refine Eq.trans ?_ (congrArg _ e).symm
    refine Eq.trans (congrFun ((after0_6 m (ok m) c t).trans (out6 m c t)) (ix3 0 i q : S1x256x512.Idx)) ?_
    refine (pay_d _ _ _ _ i q).trans (Eq.trans ?_ (ref10 (ix3 0 p q) p q rfl rfl rfl).symm)
    exact congr (congr (congr (congrArg Adam.step (grad m c t i q p ep)) (read2 m c t i q p ep)) (read3 m c t i q p ep)) (read4 m c t i q p ep)
  · refine Eq.trans ?_ (keep10 j fun h => hj ((Pipeline.Window.cell_apply ((cfgM m (ok m)).win 6) j (0 : Fin 3)).trans ((Nat.div_one _).trans h))).symm
    refine (congrFun (A_eq m (ok m) c 6) _).trans ?_
    show V m c main_v1_1 j = _
    entry_read
    rfl

theorem final7 (c : Dev nD) : (dats m (ok m) 0 c).arrAt 7 (cfgM m (ok m)).N = app m c (G11 (F := Ideal)) := by
  refine (dats m (ok m) 0 c).arrAt_eq_of_coversWhere_of_agree 7 _ (fun β => β (0 : Fin 3) = 0) (of_decide_eq_true (by sl_kernel_rfl)) (fun t fl y => ?_) (fun j hj => ?_)
  · obtain ⟨i, q, p, rfl, ep⟩ := some3 m t y
    have e := Update.emb ((cfgM m (ok m)).win 7) rfl t (ix3 0 i q : S1x256x512.Idx) (ix3 0 p q : S2x1024x512.Idx) _ (idx t) fun b => by fin_cases b; exacts [rfl, ep.symm, Nat.zero_add _]
    refine Eq.trans ?_ (congrArg _ e).symm
    refine Eq.trans (congrFun ((after0_7 m (ok m) c t).trans (out7 m c t)) (ix3 0 i q : S1x256x512.Idx)) ?_
    refine (pay_m _ _ i q).trans (Eq.trans ?_ (ref11 (ix3 0 p q) p q rfl rfl rfl).symm)
    exact congr (congrArg Adam.M (grad m c t i q p ep)) (read3 m c t i q p ep)
  · refine Eq.trans ?_ (keep11 j fun h => hj ((Pipeline.Window.cell_apply ((cfgM m (ok m)).win 7) j (0 : Fin 3)).trans ((Nat.div_one _).trans h))).symm
    refine (congrFun (A_eq m (ok m) c 7) _).trans ?_
    show V m c main_v1_2 j = _
    entry_read
    rfl

theorem final8 (c : Dev nD) : (dats m (ok m) 0 c).arrAt 8 (cfgM m (ok m)).N = app m c (G12 (F := Ideal)) := by
  refine (dats m (ok m) 0 c).arrAt_eq_of_coversWhere_of_agree 8 _ (fun β => β (0 : Fin 3) = 0) (of_decide_eq_true (by sl_kernel_rfl)) (fun t fl y => ?_) (fun j hj => ?_)
  · obtain ⟨i, q, p, rfl, ep⟩ := some3 m t y
    have e := Update.emb ((cfgM m (ok m)).win 8) rfl t (ix3 0 i q : S1x256x512.Idx) (ix3 0 p q : S2x1024x512.Idx) _ (idx t) fun b => by fin_cases b; exacts [rfl, ep.symm, Nat.zero_add _]
    refine Eq.trans ?_ (congrArg _ e).symm
    refine Eq.trans (congrFun ((after0_8 m (ok m) c t).trans (out8 m c t)) (ix3 0 i q : S1x256x512.Idx)) ?_
    refine (pay_v _ _ i q).trans (Eq.trans ?_ (ref12 (ix3 0 p q) p q rfl rfl rfl).symm)
    exact congr (congrArg Adam.V (grad m c t i q p ep)) (read4 m c t i q p ep)
  · refine Eq.trans ?_ (keep12 j fun h => hj ((Pipeline.Window.cell_apply ((cfgM m (ok m)).win 8) j (0 : Fin 3)).trans ((Nat.div_one _).trans h))).symm
    refine (congrFun (A_eq m (ok m) c 8) _).trans ?_
    show V m c main_v1_3 j = _
    entry_read
    rfl

end Cert.GmlpInUpdate0Ideal.Fwd

namespace Cert.Proof

/-- The printed kernel and the idealized one run to their end and leave their arguments as they were. -/
theorem quiescent_GmlpInUpdate0 : quiescent_GmlpInUpdate0 := fun m ρ _ => Cert.GmlpInUpdate0.Gen.frame m ρ (Cert.GmlpInUpdate0.Fwd.ok m)

theorem quiescent_GmlpInUpdate0Ideal : quiescent_GmlpInUpdate0Ideal := fun m ρ _ => Cert.GmlpInUpdate0Ideal.Gen.frame m ρ (Cert.GmlpInUpdate0Ideal.Fwd.ok m)

/-- So does the reference. -/
theorem quiescent_GmlpInUpdate0ReferenceIdeal : quiescent_GmlpInUpdate0ReferenceIdeal := fun m ρ _ => Cert.GmlpInUpdate0ReferenceIdeal.Gen.frame m ρ

/-- The named constants of the kernel have the values they are named for. -/
theorem preserves_GmlpInUpdate0 : preserves_GmlpInUpdate0_GmlpInUpdate0Ideal :=
  ⟨IdealRules.named_const.statement Cert.GmlpInUpdate0Ideal.κ "inv_b1" .f32 0x3FC48605#32 _ rfl,
    IdealRules.named_const.statement Cert.GmlpInUpdate0Ideal.κ "inv_b2" .f32 0x42C8E6D3#32 _ rfl⟩

open Cert.GmlpInUpdate0Ideal Cert.GmlpInUpdate0Ideal.Gen Cert.GmlpInUpdate0Ideal.Fwd in
/-- Kernel and reference end with the same gradient, change and moments of the layer, and keep the other layers. -/
theorem algebraic_GmlpInUpdate0 : algebraic_GmlpInUpdate0Ideal_GmlpInUpdate0ReferenceIdeal := by
  intro m ρ m' ρ' _ hagree
  refine ⟨_, _, _, _, (θ_run _ _ _).mono (fun r h c => ⟨((h.1 c).1 5).trans (final5 m c), ((h.1 c).1 6).trans (final6 m c), ((h.1 c).1 7).trans (final7 m c),
    ((h.1 c).1 8).trans (final8 m c), h.2 c⟩) (θ_run_and (run_main m ρ (ok m)) (unchanged m ρ (ok m))), ?_⟩
  refine (θ_run _ _ _).mono (fun _ h c => ?_) (Cert.GmlpInUpdate0ReferenceIdeal.Value.run (F := Ideal) m' ρ')
  obtain ⟨e0, e1, e2, e3, e4, e5, e6, e7, e8⟩ := hagree c
  refine ⟨(h c).1.trans ?_, (h c).2.1.trans ?_, (h c).2.2.1.trans ?_, (h c).2.2.2.1.trans ?_, (h c).2.2.2.2⟩ <;> rw [app, e0, e1, e2, e3, e4, e5, e6, e7, e8]

end Cert.Proof

end
-- ==== Proof.GmlpInUpdate1.lean ====
module

public import proofs.«01_k».proof.Defs
public import proofs.«01_k».proof.Proof.Gen.GmlpInUpdate1.Frame
public import proofs.«01_k».proof.Proof.Gen.GmlpInUpdate1Ideal.Frame
public import proofs.«01_k».proof.Proof.Gen.GmlpInUpdate1ReferenceIdeal.Value
public import proofs.«01_k».proof.Proof.GmlpInUpdate0

@[expose] public section

set_option maxRecDepth 16384

noncomputable section

open Idealize.ShloMosaic Idealize.ShloMosaic.TcCoe Idealize.SL.Sem

/-! # The update of layer 1 of a_w_in -/

namespace Cert.GmlpInUpdate1.Fwd

open Cert.GmlpInUpdate1 Cert.GmlpInUpdate1.Gen

section

variable {F : FTy → Type} [FloatOps F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

end Cert.GmlpInUpdate1.Fwd

namespace Cert.GmlpInUpdate1Ideal.Fwd

open Cert.GmlpInUpdate1Ideal Cert.GmlpInUpdate1Ideal.Gen

section

variable {F : FTy → Type} [FloatOps F] [Named F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

open Cert.GmlpInUpdate0Ideal.Fwd (newG newD newM newV)

open Update (back back_eq)

variable (m : (ℓ : Loc nD τ sig) → Buf (Elt Ideal) ℓ) (c : Dev nD) (t : Fin (cfgM m (ok m)).N)

/-- Which tile each window reads or writes at a point of the grid. -/
theorem idx0 : ((cfgM m (ok m)).win 0).index t = ![0, 0, t.val] := by
  have e : ∀ t : Fin grid0.N, cc0_transform_0 (F := Ideal) inb_S1_S1_0 numel1_S1 zero (grid0.coords t) = ![0, 0, t.val] := by decide +kernel
  refine Eq.trans ?_ (e t)
  show cc0_transform_0 inb_S1_S1_0 numel1_S1 (tbl m) (grid0.coords t) = _
  rw [table]

theorem idx1 : ∀ t : Fin grid0.N, cc0_transform_1 (grid0.coords t) = ![0, 0, t.val] := by decide +kernel

theorem idx : ∀ t : Fin grid0.N, cc0_transform_2 (grid0.coords t) = ![1, t.val, 0] := by decide +kernel

section

variable (i : Fin 256) (q : Fin 512) (p : Fin 1024) (h : (p : ℕ) = t.val * 256 + i)
include h

/-- The tile of the device's part, read at an index. -/
def tile0 : FVec Ideal S1x512x256 .bf16 := iblk m (ok m) c 0 t

theorem read0 :
    tile0 m c t (ix3 0 q i) = m ((c : Thread nD τ).loc main_arg0) (ix3 0 q p) :=
  (congrArg (V m c main_arg0) (Update.emb ((cfgM m (ok m)).win 0) rfl t (ix3 0 q i : S1x512x256.Idx) (ix3 0 q p : S8x512x1024.Idx) _ (idx0 m t)
    fun b => by fin_cases b; exacts [rfl, Nat.zero_add _, h.symm])).trans (congrFun (V_main_arg0 m c) _)

/-- The tile of the other devices' parts, read at an index. -/
def tile1 : FVec Ideal S7x512x256 .bf16 := iblk m (ok m) c 1 t

theorem read1 (a : Fin 7) :
    tile1 m c t (ix3 a q i) = m ((c : Thread nD τ).loc main_arg1) (ix3 a q p) :=
  (congrArg (V m c main_arg1) (Update.emb ((cfgM m (ok m)).win 1) rfl t (ix3 a q i : S7x512x256.Idx) (ix3 a q p : S7x512x1024.Idx) _ (idx1 t)
    fun b => by fin_cases b; exacts [Nat.zero_add _, Nat.zero_add _, h.symm])).trans (congrFun (V_main_arg1 m c) _)

/-- The tile of the weights, read at an index. -/
def tile2 : FVec Ideal S1x256x512 .f32 := iblk m (ok m) c 2 t

theorem read2 :
    tile2 m c t (ix3 0 i q) = m ((c : Thread nD τ).loc main_arg2) (ix3 1 p q) :=
  (congrArg (V m c main_arg2) (Update.emb ((cfgM m (ok m)).win 2) rfl t (ix3 0 i q : S1x256x512.Idx) (ix3 1 p q : S2x1024x512.Idx) _ (idx t)
    fun b => by fin_cases b; exacts [rfl, h.symm, Nat.zero_add _])).trans (congrFun (V_main_arg2 m c) _)

/-- The tile of the first moment, read at an index. -/
def tile3 : FVec Ideal S1x256x512 .f32 := iblk m (ok m) c 3 t

theorem read3 :
    tile3 m c t (ix3 0 i q) = m ((c : Thread nD τ).loc main_arg3) (ix3 1 p q) :=
  (congrArg (V m c main_arg3) (Update.emb ((cfgM m (ok m)).win 3) rfl t (ix3 0 i q : S1x256x512.Idx) (ix3 1 p q : S2x1024x512.Idx) _ (idx t)
    fun b => by fin_cases b; exacts [rfl, h.symm, Nat.zero_add _])).trans (congrFun (V_main_arg3 m c) _)

/-- The tile of the second moment, read at an index. -/
def tile4 : FVec Ideal S1x256x512 .f32 := iblk m (ok m) c 4 t

theorem read4 :
    tile4 m c t (ix3 0 i q) = m ((c : Thread nD τ).loc main_arg4) (ix3 1 p q) :=
  (congrArg (V m c main_arg4) (Update.emb ((cfgM m (ok m)).win 4) rfl t (ix3 0 i q : S1x256x512.Idx) (ix3 1 p q : S2x1024x512.Idx) _ (idx t)
    fun b => by fin_cases b; exacts [rfl, h.symm, Nat.zero_add _])).trans (congrFun (V_main_arg4 m c) _)

end

/-! What the outputs hold after a point of the grid. -/

theorem out5 : (outsAt0 m (ok m) c t).1 = newG (tile0 m c t) (tile1 m c t) := by
  unfold outsAt0
  frame_out
  change newG (back (hs0_0 m (ok m) t) (tile0 m c t)) (back (hs0_1 m (ok m) t) (tile1 m c t)) = _
  simp only [back_eq]

theorem out6 : (outsAt0 m (ok m) c t).2.1 = newD (tile0 m c t) (tile1 m c t) (tile2 m c t) (tile3 m c t) (tile4 m c t) := by
  unfold outsAt0
  frame_out
  change newD (back (hs0_0 m (ok m) t) (tile0 m c t)) (back (hs0_1 m (ok m) t) (tile1 m c t)) (back (hs0_2 m (ok m) t) (tile2 m c t)) (back (hs0_3 m (ok m) t) (tile3 m c t)) (back (hs0_4 m (ok m) t) (tile4 m c t)) = _
  simp only [back_eq]

theorem out7 : (outsAt0 m (ok m) c t).2.2.1 = newM (tile0 m c t) (tile1 m c t) (tile3 m c t) := by
  unfold outsAt0
  frame_out
  change newM (back (hs0_0 m (ok m) t) (tile0 m c t)) (back (hs0_1 m (ok m) t) (tile1 m c t)) (back (hs0_3 m (ok m) t) (tile3 m c t)) = _
  simp only [back_eq]

theorem out8 : (outsAt0 m (ok m) c t).2.2.2 = newV (tile0 m c t) (tile1 m c t) (tile4 m c t) := by
  unfold outsAt0
  frame_out
  change newV (back (hs0_0 m (ok m) t) (tile0 m c t)) (back (hs0_1 m (ok m) t) (tile1 m c t)) (back (hs0_4 m (ok m) t) (tile4 m c t)) = _
  simp only [back_eq]

end Cert.GmlpInUpdate1Ideal.Fwd

namespace Cert.GmlpInUpdate1ReferenceIdeal.Fwd

open Cert.GmlpInUpdate1ReferenceIdeal Cert.GmlpInUpdate1ReferenceIdeal.Gen Cert.GmlpInUpdate1ReferenceIdeal.Value
open Cert.GmlpInUpdate0ReferenceIdeal.Fwd (total sum_apply step_m step_v step_d)

/-- The layers of an array of the weight. -/
abbrev Stack := FVec Ideal S2x1024x512 .f32

variable (a0 : FVec Ideal S8x512x1024 .bf16) (a1 : FVec Ideal S7x512x1024 .bf16) (a2 a3 a4 a5 a6 a7 a8 : Stack)

/-- The layer of an array, read at an index. -/
theorem row (a : Stack) (p : Fin 1024) (q : Fin 512) : (View.ld (Val := Elt Ideal) (e' := .f32) a r0_2) (ix3 0 p q : S1x1024x512.Idx) = a (ix3 1 p q) := by
  pointwise

/-! What the reference writes, at the layer and elsewhere. -/

variable {a0 a1 a2 a3 a4 a5 a6 a7 a8} (z : S2x1024x512.Idx)

section

variable (p : Fin 1024) (q : Fin 512) (z0 : (z 0 : ℕ) = 1) (z1 : (z 1 : ℕ) = p) (z2 : (z 2 : ℕ) = q)
include z0 z1 z2

theorem ref9 : G9 (F := Ideal) a0 a1 a2 a3 a4 a5 a6 a7 a8 z = total a0 a1 p q := by
  unfold G9
  canon_tiles x h
  all_goals try omega
  rw [Update.at_row (x : S1x1024x512.Idx) p q (h1.symm.trans z1) (h2.symm.trans z2)]
  refine Eq.trans ?_ (sum_apply a0 a1 p q)
  pointwise [k0_pay8]
  all_goals rfl

theorem ref10 : G10 (F := Ideal) a0 a1 a2 a3 a4 a5 a6 a7 a8 z = Adam.step (total a0 a1 p q) (a2 (ix3 1 p q)) (a3 (ix3 1 p q)) (a4 (ix3 1 p q)) := by
  unfold G10
  canon_tiles x h
  all_goals try omega
  rw [Update.at_row (x : S1x1024x512.Idx) p q (h1.symm.trans z1) (h2.symm.trans z2)]
  exact (step_d a0 a1 (View.ld (Val := Elt Ideal) (e' := .f32) a2 r0_2) (View.ld (Val := Elt Ideal) (e' := .f32) a3 r0_2) (View.ld (Val := Elt Ideal) (e' := .f32) a4 r0_2) p q).trans (congr (congr (congrArg (Adam.step _) (row a2 p q)) (row a3 p q)) (row a4 p q))

theorem ref11 : G11 (F := Ideal) a0 a1 a2 a3 a4 a5 a6 a7 a8 z = Adam.M (total a0 a1 p q) (a3 (ix3 1 p q)) := by
  unfold G11
  canon_tiles x h
  all_goals try omega
  rw [Update.at_row (x : S1x1024x512.Idx) p q (h1.symm.trans z1) (h2.symm.trans z2)]
  refine Eq.trans ?_ ((step_m a0 a1 (View.ld (Val := Elt Ideal) (e' := .f32) a3 r0_2) p q).trans (congrArg (Adam.M _) (row a3 p q)))
  pointwise [k0_pay12]
  all_goals rfl

theorem ref12 : G12 (F := Ideal) a0 a1 a2 a3 a4 a5 a6 a7 a8 z = Adam.V (total a0 a1 p q) (a4 (ix3 1 p q)) := by
  unfold G12
  canon_tiles x h
  all_goals try omega
  rw [Update.at_row (x : S1x1024x512.Idx) p q (h1.symm.trans z1) (h2.symm.trans z2)]
  refine Eq.trans ?_ ((step_v a0 a1 (View.ld (Val := Elt Ideal) (e' := .f32) a4 r0_2) p q).trans (congrArg (Adam.V _) (row a4 p q)))
  pointwise [k0_pay2]
  all_goals rfl

end

variable (hz : (z 0 : ℕ) ≠ 1)
include hz

theorem keep9 : G9 (F := Ideal) a0 a1 a2 a3 a4 a5 a6 a7 a8 z = a5 z := by
  unfold G9
  canon_tiles x h
  all_goals try omega
  all_goals
    obtain ⟨p, q, rfl⟩ := Update.some_row (x : S1x1024x512.Idx)
    pointwise [k0_pay7]
    exact congrArg a5 (Update.ext_row z _ p q h0.symm h1.symm h2.symm)

theorem keep10 : G10 (F := Ideal) a0 a1 a2 a3 a4 a5 a6 a7 a8 z = a6 z := by
  unfold G10
  canon_tiles x h
  all_goals try omega
  all_goals
    obtain ⟨p, q, rfl⟩ := Update.some_row (x : S1x1024x512.Idx)
    pointwise [k0_pay9]
    exact congrArg a6 (Update.ext_row z _ p q h0.symm h1.symm h2.symm)

theorem keep11 : G11 (F := Ideal) a0 a1 a2 a3 a4 a5 a6 a7 a8 z = a7 z := by
  unfold G11
  canon_tiles x h
  all_goals try omega
  all_goals
    obtain ⟨p, q, rfl⟩ := Update.some_row (x : S1x1024x512.Idx)
    pointwise [k0_pay11]
    exact congrArg a7 (Update.ext_row z _ p q h0.symm h1.symm h2.symm)

theorem keep12 : G12 (F := Ideal) a0 a1 a2 a3 a4 a5 a6 a7 a8 z = a8 z := by
  unfold G12
  canon_tiles x h
  all_goals try omega
  all_goals
    obtain ⟨p, q, rfl⟩ := Update.some_row (x : S1x1024x512.Idx)
    pointwise [k0_pay1]
    exact congrArg a8 (Update.ext_row z _ p q h0.symm h1.symm h2.symm)

end Cert.GmlpInUpdate1ReferenceIdeal.Fwd

namespace Cert.GmlpInUpdate1Ideal.Fwd

open Cert.GmlpInUpdate1Ideal Cert.GmlpInUpdate1Ideal.Gen
open Cert.GmlpInUpdate0Ideal.Fwd (total total_apply pay_g pay_m pay_v pay_d)
open Cert.GmlpInUpdate1ReferenceIdeal.Fwd (Stack ref9 ref10 ref11 ref12 keep9 keep10 keep11 keep12)
open Cert.GmlpInUpdate1ReferenceIdeal.Value (G9 G10 G11 G12)

variable (m : (ℓ : Loc nD τ sig) → Buf (Elt Ideal) ℓ)

/-- An element of a tile lies at a row of the array. -/
theorem some3 (t : Fin (cfgM m (ok m)).N) (y : S1x256x512.Idx) :
    ∃ (i : Fin 256) (q : Fin 512) (p : Fin 1024), y = ix3 0 i q ∧ (p : ℕ) = t.val * 256 + i := by
  have tt : t.val < 4 := t.isLt
  obtain ⟨u, i, q, rfl⟩ : ∃ (u : Fin 1) (i : Fin 256) (q : Fin 512), y = ix3 u i q := ⟨y 0, y 1, y 2, eq_ix3 y⟩
  obtain rfl : u = 0 := Subsingleton.elim _ _
  exact ⟨i, q, ⟨t.val * 256 + i, by omega⟩, rfl, rfl⟩

/-- A function of the nine arguments, of those of a device. -/
abbrev app {α : Type} (c : Dev nD) (G : FVec Ideal S8x512x1024 .bf16 → FVec Ideal S7x512x1024 .bf16 → Stack → Stack → Stack → Stack → Stack → Stack → Stack → α) : α :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The gradient of a tile is the reference's gradient there. -/
theorem grad (c : Dev nD) (t : Fin (cfgM m (ok m)).N) (i : Fin 256) (q : Fin 512) (p : Fin 1024) (h : (p : ℕ) = t.val * 256 + i) :
    total (tile0 m c t) (tile1 m c t) (ix2 i q) = Cert.GmlpInUpdate0ReferenceIdeal.Fwd.total (m ((c : Thread nD τ).loc main_arg0)) (m ((c : Thread nD τ).loc main_arg1)) p q := by
  refine (total_apply _ _ i q).trans ?_
  have r := read1 m c t i q p h
  exact Ideal.add_congr (Ideal.add_congr (Ideal.add_congr (Ideal.add_congr (Ideal.add_congr (Ideal.add_congr (Ideal.add_congr (read0 m c t i q p h) (r 0)) (r 1)) (r 2)) (r 3)) (r 4)) (r 5)) (r 6)

/-! The arrays after the run are the reference's. -/

theorem final5 (c : Dev nD) : (dats m (ok m) 0 c).arrAt 5 (cfgM m (ok m)).N = app m c (G9 (F := Ideal)) := by
  refine (dats m (ok m) 0 c).arrAt_eq_of_coversWhere_of_agree 5 _ (fun β => β (0 : Fin 3) = 1) (of_decide_eq_true (by sl_kernel_rfl)) (fun t fl y => ?_) (fun j hj => ?_)
  · obtain ⟨i, q, p, rfl, ep⟩ := some3 m t y
    have e := Update.emb ((cfgM m (ok m)).win 5) rfl t (ix3 0 i q : S1x256x512.Idx) (ix3 1 p q : S2x1024x512.Idx) _ (idx t) fun b => by fin_cases b; exacts [rfl, ep.symm, Nat.zero_add _]
    refine Eq.trans ?_ (congrArg _ e).symm
    refine Eq.trans (congrFun ((after0_5 m (ok m) c t).trans (out5 m c t)) (ix3 0 i q : S1x256x512.Idx)) ?_
    refine (pay_g _ i q).trans (Eq.trans ?_ (ref9 (ix3 1 p q) p q rfl rfl rfl).symm)
    exact (grad m c t i q p ep)
  · refine Eq.trans ?_ (keep9 j fun h => hj ((Pipeline.Window.cell_apply ((cfgM m (ok m)).win 5) j (0 : Fin 3)).trans ((Nat.div_one _).trans h))).symm
    refine (congrFun (A_eq m (ok m) c 5) _).trans ?_
    show V m c main_v1_0 j = _
    entry_read
    rfl

theorem final6 (c : Dev nD) : (dats m (ok m) 0 c).arrAt 6 (cfgM m (ok m)).N = app m c (G10 (F := Ideal)) := by
  refine (dats m (ok m) 0 c).arrAt_eq_of_coversWhere_of_agree 6 _ (fun β => β (0 : Fin 3) = 1) (of_decide_eq_true (by sl_kernel_rfl)) (fun t fl y => ?_) (fun j hj => ?_)
  · obtain ⟨i, q, p, rfl, ep⟩ := some3 m t y
    have e := Update.emb ((cfgM m (ok m)).win 6) rfl t (ix3 0 i q : S1x256x512.Idx) (ix3 1 p q : S2x1024x512.Idx) _ (idx t) fun b => by fin_cases b; exacts [rfl, ep.symm, Nat.zero_add _]
    refine Eq.trans ?_ (congrArg _ e).symm
    refine Eq.trans (congrFun ((after0_6 m (ok m) c t).trans (out6 m c t)) (ix3 0 i q : S1x256x512.Idx)) ?_
    refine (pay_d _ _ _ _ i q).trans (Eq.trans ?_ (ref10 (ix3 1 p q) p q rfl rfl rfl).symm)
    exact congr (congr (congr (congrArg Adam.step (grad m c t i q p ep)) (read2 m c t i q p ep)) (read3 m c t i q p ep)) (read4 m c t i q p ep)
  · refine Eq.trans ?_ (keep10 j fun h => hj ((Pipeline.Window.cell_apply ((cfgM m (ok m)).win 6) j (0 : Fin 3)).trans ((Nat.div_one _).trans h))).symm
    refine (congrFun (A_eq m (ok m) c 6) _).trans ?_
    show V m c main_v1_1 j = _
    entry_read
    rfl

theorem final7 (c : Dev nD) : (dats m (ok m) 0 c).arrAt 7 (cfgM m (ok m)).N = app m c (G11 (F := Ideal)) := by
  refine (dats m (ok m) 0 c).arrAt_eq_of_coversWhere_of_agree 7 _ (fun β => β (0 : Fin 3) = 1) (of_decide_eq_true (by sl_kernel_rfl)) (fun t fl y => ?_) (fun j hj => ?_)
  · obtain ⟨i, q, p, rfl, ep⟩ := some3 m t y
    have e := Update.emb ((cfgM m (ok m)).win 7) rfl t (ix3 0 i q : S1x256x512.Idx) (ix3 1 p q : S2x1024x512.Idx) _ (idx t) fun b => by fin_cases b; exacts [rfl, ep.symm, Nat.zero_add _]
    refine Eq.trans ?_ (congrArg _ e).symm
    refine Eq.trans (congrFun ((after0_7 m (ok m) c t).trans (out7 m c t)) (ix3 0 i q : S1x256x512.Idx)) ?_
    refine (pay_m _ _ i q).trans (Eq.trans ?_ (ref11 (ix3 1 p q) p q rfl rfl rfl).symm)
    exact congr (congrArg Adam.M (grad m c t i q p ep)) (read3 m c t i q p ep)
  · refine Eq.trans ?_ (keep11 j fun h => hj ((Pipeline.Window.cell_apply ((cfgM m (ok m)).win 7) j (0 : Fin 3)).trans ((Nat.div_one _).trans h))).symm
    refine (congrFun (A_eq m (ok m) c 7) _).trans ?_
    show V m c main_v1_2 j = _
    entry_read
    rfl

theorem final8 (c : Dev nD) : (dats m (ok m) 0 c).arrAt 8 (cfgM m (ok m)).N = app m c (G12 (F := Ideal)) := by
  refine (dats m (ok m) 0 c).arrAt_eq_of_coversWhere_of_agree 8 _ (fun β => β (0 : Fin 3) = 1) (of_decide_eq_true (by sl_kernel_rfl)) (fun t fl y => ?_) (fun j hj => ?_)
  · obtain ⟨i, q, p, rfl, ep⟩ := some3 m t y
    have e := Update.emb ((cfgM m (ok m)).win 8) rfl t (ix3 0 i q : S1x256x512.Idx) (ix3 1 p q : S2x1024x512.Idx) _ (idx t) fun b => by fin_cases b; exacts [rfl, ep.symm, Nat.zero_add _]
    refine Eq.trans ?_ (congrArg _ e).symm
    refine Eq.trans (congrFun ((after0_8 m (ok m) c t).trans (out8 m c t)) (ix3 0 i q : S1x256x512.Idx)) ?_
    refine (pay_v _ _ i q).trans (Eq.trans ?_ (ref12 (ix3 1 p q) p q rfl rfl rfl).symm)
    exact congr (congrArg Adam.V (grad m c t i q p ep)) (read4 m c t i q p ep)
  · refine Eq.trans ?_ (keep12 j fun h => hj ((Pipeline.Window.cell_apply ((cfgM m (ok m)).win 8) j (0 : Fin 3)).trans ((Nat.div_one _).trans h))).symm
    refine (congrFun (A_eq m (ok m) c 8) _).trans ?_
    show V m c main_v1_3 j = _
    entry_read
    rfl

end Cert.GmlpInUpdate1Ideal.Fwd

namespace Cert.Proof

/-- The printed kernel and the idealized one run to their end and leave their arguments as they were. -/
theorem quiescent_GmlpInUpdate1 : quiescent_GmlpInUpdate1 := fun m ρ _ => Cert.GmlpInUpdate1.Gen.frame m ρ (Cert.GmlpInUpdate1.Fwd.ok m)

theorem quiescent_GmlpInUpdate1Ideal : quiescent_GmlpInUpdate1Ideal := fun m ρ _ => Cert.GmlpInUpdate1Ideal.Gen.frame m ρ (Cert.GmlpInUpdate1Ideal.Fwd.ok m)

/-- So does the reference. -/
theorem quiescent_GmlpInUpdate1ReferenceIdeal : quiescent_GmlpInUpdate1ReferenceIdeal := fun m ρ _ => Cert.GmlpInUpdate1ReferenceIdeal.Gen.frame m ρ

/-- The named constants of the kernel have the values they are named for. -/
theorem preserves_GmlpInUpdate1 : preserves_GmlpInUpdate1_GmlpInUpdate1Ideal :=
  ⟨IdealRules.named_const.statement Cert.GmlpInUpdate1Ideal.κ "inv_b1" .f32 0x3FC48605#32 _ rfl,
    IdealRules.named_const.statement Cert.GmlpInUpdate1Ideal.κ "inv_b2" .f32 0x42C8E6D3#32 _ rfl⟩

open Cert.GmlpInUpdate1Ideal Cert.GmlpInUpdate1Ideal.Gen Cert.GmlpInUpdate1Ideal.Fwd in
/-- Kernel and reference end with the same gradient, change and moments of the layer, and keep the other layers. -/
theorem algebraic_GmlpInUpdate1 : algebraic_GmlpInUpdate1Ideal_GmlpInUpdate1ReferenceIdeal := by
  intro m ρ m' ρ' _ hagree
  refine ⟨_, _, _, _, (θ_run _ _ _).mono (fun r h c => ⟨((h.1 c).1 5).trans (final5 m c), ((h.1 c).1 6).trans (final6 m c), ((h.1 c).1 7).trans (final7 m c),
    ((h.1 c).1 8).trans (final8 m c), h.2 c⟩) (θ_run_and (run_main m ρ (ok m)) (unchanged m ρ (ok m))), ?_⟩
  refine (θ_run _ _ _).mono (fun _ h c => ?_) (Cert.GmlpInUpdate1ReferenceIdeal.Value.run (F := Ideal) m' ρ')
  obtain ⟨e0, e1, e2, e3, e4, e5, e6, e7, e8⟩ := hagree c
  refine ⟨(h c).1.trans ?_, (h c).2.1.trans ?_, (h c).2.2.1.trans ?_, (h c).2.2.2.1.trans ?_, (h c).2.2.2.2⟩ <;> rw [app, e0, e1, e2, e3, e4, e5, e6, e7, e8]

end Cert.Proof

end
-- ==== Proof.FfnUpUpdate0.lean ====
module

public import proofs.«01_k».proof.Defs
public import proofs.«01_k».proof.Proof.Gen.FfnUpUpdate0.Frame
public import proofs.«01_k».proof.Proof.Gen.FfnUpUpdate0Ideal.Frame
public import proofs.«01_k».proof.Proof.Gen.FfnUpUpdate0ReferenceIdeal.Value
public import proofs.«01_k».proof.Proof.Update

@[expose] public section

set_option maxRecDepth 16384

noncomputable section

open Idealize.ShloMosaic Idealize.ShloMosaic.TcCoe Idealize.SL.Sem

/-! # The update of layer 0 of ffn_w_gu -/

namespace Cert.FfnUpUpdate0.Fwd

open Cert.FfnUpUpdate0 Cert.FfnUpUpdate0.Gen

section

variable {F : FTy → Type} [FloatOps F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

end Cert.FfnUpUpdate0.Fwd

namespace Cert.FfnUpUpdate0Ideal.Fwd

open Cert.FfnUpUpdate0Ideal Cert.FfnUpUpdate0Ideal.Gen

section

variable {F : FTy → Type} [FloatOps F] [Named F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

/-- The value of a named constant. -/
theorem inv1 : Named.named (F := Ideal) Cert.FfnUpUpdate0Ideal.κ "inv_b1" (φ := .f32) 0x3FC48605#32 = ((((Adam.B1)⁻¹ : ℝ) : EReal)) :=
  IdealRules.named_const.ideal_named_scalar _ _ _ _ rfl

/-- The value of a named constant. -/
theorem inv2 : Named.named (F := Ideal) Cert.FfnUpUpdate0Ideal.κ "inv_b2" (φ := .f32) 0x42C8E6D3#32 = ((((Adam.B2)⁻¹ : ℝ) : EReal)) :=
  IdealRules.named_const.ideal_named_scalar _ _ _ _ rfl

/-- The value of a named constant. -/
theorem cor1 : Named.named (F := Ideal) Cert.FfnUpUpdate0ReferenceIdeal.κ "b1" (φ := .f32) 0x3F26BD02#32 = ((((Adam.B1) : ℝ) : EReal)) :=
  IdealRules.named_const.ideal_named_scalar _ _ _ _ rfl

/-- The value of a named constant. -/
theorem cor2 : Named.named (F := Ideal) Cert.FfnUpUpdate0ReferenceIdeal.κ "b2" (φ := .f32) 0x3C231ACC#32 = ((((Adam.B2) : ℝ) : EReal)) :=
  IdealRules.named_const.ideal_named_scalar _ _ _ _ rfl

open Update (back back_eq)

variable (m : (ℓ : Loc nD τ sig) → Buf (Elt Ideal) ℓ) (c : Dev nD) (t : Fin (cfgM m (ok m)).N)

/-- Which tile each window reads or writes at a point of the grid. -/
theorem idx0 : ((cfgM m (ok m)).win 0).index t = ![0, t.val, 0] := by
  have e : ∀ t : Fin grid0.N, cc0_transform_0 (F := Ideal) inb_S1_S1_0 numel1_S1 zero (grid0.coords t) = ![0, t.val, 0] := by decide +kernel
  refine Eq.trans ?_ (e t)
  show cc0_transform_0 inb_S1_S1_0 numel1_S1 (tbl m) (grid0.coords t) = _
  rw [table]

theorem idx1 : ∀ t : Fin grid0.N, cc0_transform_1 (grid0.coords t) = ![0, t.val, 0] := by decide +kernel

theorem idx : ∀ t : Fin grid0.N, cc0_transform_2 (grid0.coords t) = ![0, t.val, 0] := by decide +kernel

section

variable (i : Fin 352) (q : Fin 1024) (p : Fin 704) (h : (p : ℕ) = t.val * 352 + i)
include h

/-- The tile of the device's part, read at an index. -/
def tile0 : FVec Ideal S1x352x1024 .bf16 := iblk m (ok m) c 0 t

theorem read0 :
    tile0 m c t (ix3 0 i q) = m ((c : Thread nD τ).loc main_arg0) (ix3 0 p q) :=
  (congrArg (V m c main_arg0) (Update.emb ((cfgM m (ok m)).win 0) rfl t (ix3 0 i q : S1x352x1024.Idx) (ix3 0 p q : S8x704x1024.Idx) _ (idx0 m t)
    fun b => by fin_cases b; exacts [rfl, h.symm, Nat.zero_add _])).trans (congrFun (V_main_arg0 m c) _)

/-- The tile of the other devices' parts, read at an index. -/
def tile1 : FVec Ideal S7x352x1024 .bf16 := iblk m (ok m) c 1 t

theorem read1 (a : Fin 7) :
    tile1 m c t (ix3 a i q) = m ((c : Thread nD τ).loc main_arg1) (ix3 a p q) :=
  (congrArg (V m c main_arg1) (Update.emb ((cfgM m (ok m)).win 1) rfl t (ix3 a i q : S7x352x1024.Idx) (ix3 a p q : S7x704x1024.Idx) _ (idx1 t)
    fun b => by fin_cases b; exacts [Nat.zero_add _, h.symm, Nat.zero_add _])).trans (congrFun (V_main_arg1 m c) _)

/-- The tile of the weights, read at an index. -/
def tile2 : FVec Ideal S1x352x1024 .f32 := iblk m (ok m) c 2 t

theorem read2 :
    tile2 m c t (ix3 0 i q) = m ((c : Thread nD τ).loc main_arg2) (ix3 0 p q) :=
  (congrArg (V m c main_arg2) (Update.emb ((cfgM m (ok m)).win 2) rfl t (ix3 0 i q : S1x352x1024.Idx) (ix3 0 p q : S4x704x1024.Idx) _ (idx t)
    fun b => by fin_cases b; exacts [rfl, h.symm, Nat.zero_add _])).trans (congrFun (V_main_arg2 m c) _)

/-- The tile of the first moment, read at an index. -/
def tile3 : FVec Ideal S1x352x1024 .f32 := iblk m (ok m) c 3 t

theorem read3 :
    tile3 m c t (ix3 0 i q) = m ((c : Thread nD τ).loc main_arg3) (ix3 0 p q) :=
  (congrArg (V m c main_arg3) (Update.emb ((cfgM m (ok m)).win 3) rfl t (ix3 0 i q : S1x352x1024.Idx) (ix3 0 p q : S4x704x1024.Idx) _ (idx t)
    fun b => by fin_cases b; exacts [rfl, h.symm, Nat.zero_add _])).trans (congrFun (V_main_arg3 m c) _)

/-- The tile of the second moment, read at an index. -/
def tile4 : FVec Ideal S1x352x1024 .f32 := iblk m (ok m) c 4 t

theorem read4 :
    tile4 m c t (ix3 0 i q) = m ((c : Thread nD τ).loc main_arg4) (ix3 0 p q) :=
  (congrArg (V m c main_arg4) (Update.emb ((cfgM m (ok m)).win 4) rfl t (ix3 0 i q : S1x352x1024.Idx) (ix3 0 p q : S4x704x1024.Idx) _ (idx t)
    fun b => by fin_cases b; exacts [rfl, h.symm, Nat.zero_add _])).trans (congrFun (V_main_arg4 m c) _)

end

/-- The layer `k` of a tile. -/
def lay (L : FVec Ideal S7x352x1024 .bf16) (k : ℕ) (h : ∀ a, (![k, 0, 0] : Fin 3 → Nat) a + S1x352x1024.size a ≤ S7x352x1024.size a) : FVec Ideal S1x352x1024 .bf16 :=
  View.ld (Val := Elt Ideal) (e' := .bf16) L (Rect.unit (s := S7x352x1024) ![k, 0, 0] S1x352x1024.size h)

/-- The sum over the devices of a tile. -/
def total (P : FVec Ideal S1x352x1024 .bf16) (L : FVec Ideal S7x352x1024 .bf16) : FVec Ideal S352x1024 .f32 :=
  k0_pay3 P (lay L 0 inb_S7x352x1024_S1x352x1024_0_0_0) (lay L 1 inb_S7x352x1024_S1x352x1024_1_0_0) (lay L 2 inb_S7x352x1024_S1x352x1024_2_0_0) (lay L 3 inb_S7x352x1024_S1x352x1024_3_0_0) (lay L 4 inb_S7x352x1024_S1x352x1024_4_0_0) (lay L 5 inb_S7x352x1024_S1x352x1024_5_0_0) (lay L 6 inb_S7x352x1024_S1x352x1024_6_0_0)

theorem total_apply (P : FVec Ideal S1x352x1024 .bf16) (L : FVec Ideal S7x352x1024 .bf16) (i : Fin 352) (q : Fin 1024) :
    total P L (ix2 i q) = (P (ix3 0 i q) : EReal) + L (ix3 0 i q) + L (ix3 1 i q) + L (ix3 2 i q) + L (ix3 3 i q) + L (ix3 4 i q) + L (ix3 5 i q) + L (ix3 6 i q) := by
  unfold total
  pointwise [k0_pay3, lay]

/-- The tiles the kernel writes, read at an index. -/
theorem pay_g (G : FVec Ideal S352x1024 .f32) (i : Fin 352) (q : Fin 1024) : k0_pay6 G (ix3 0 i q) = G (ix2 i q) := by
  pointwise [k0_pay6]

theorem pay_m (G : FVec Ideal S352x1024 .f32) (M : FVec Ideal S1x352x1024 .f32) (i : Fin 352) (q : Fin 1024) :
    k0_pay1 (k0_pay4 G M) (ix3 0 i q) = Adam.M (G (ix2 i q)) (M (ix3 0 i q)) := by
  unfold Adam.M
  pointwise [k0_pay1, k0_pay4]

theorem pay_v (G : FVec Ideal S352x1024 .f32) (V : FVec Ideal S1x352x1024 .f32) (i : Fin 352) (q : Fin 1024) :
    k0_pay2 (k0_pay5 G V) (ix3 0 i q) = Adam.V (G (ix2 i q)) (V (ix3 0 i q)) := by
  unfold Adam.V
  pointwise [k0_pay2, k0_pay5]

theorem pay_d (G : FVec Ideal S352x1024 .f32) (W M V : FVec Ideal S1x352x1024 .f32) (i : Fin 352) (q : Fin 1024) :
    k0_pay7 G W M V (ix3 0 i q) = Adam.step (G (ix2 i q)) (W (ix3 0 i q)) (M (ix3 0 i q)) (V (ix3 0 i q)) := by
  rw [← Adam.kernelStep_eq]
  unfold Adam.kernelStep Adam.D Adam.M Adam.V
  rw [← inv1, ← inv2]
  pointwise [k0_pay7, k0_pay4, k0_pay5]

/-- The tiles the kernel writes: the gradient, the change and the moments. -/
abbrev newG (P : FVec Ideal S1x352x1024 .bf16) (L : FVec Ideal S7x352x1024 .bf16) : FVec Ideal S1x352x1024 .f32 := k0_pay6 (total P L)

abbrev newD (P : FVec Ideal S1x352x1024 .bf16) (L : FVec Ideal S7x352x1024 .bf16) (W M V : FVec Ideal S1x352x1024 .f32) : FVec Ideal S1x352x1024 .f32 := k0_pay7 (total P L) W M V

abbrev newM (P : FVec Ideal S1x352x1024 .bf16) (L : FVec Ideal S7x352x1024 .bf16) (M : FVec Ideal S1x352x1024 .f32) : FVec Ideal S1x352x1024 .f32 := k0_pay1 (k0_pay4 (total P L) M)

abbrev newV (P : FVec Ideal S1x352x1024 .bf16) (L : FVec Ideal S7x352x1024 .bf16) (V : FVec Ideal S1x352x1024 .f32) : FVec Ideal S1x352x1024 .f32 := k0_pay2 (k0_pay5 (total P L) V)

/-! What the outputs hold after a point of the grid. -/

theorem out5 : (outsAt0 m (ok m) c t).1 = newG (tile0 m c t) (tile1 m c t) := by
  unfold outsAt0
  frame_out
  change newG (back (hs0_0 m (ok m) t) (tile0 m c t)) (back (hs0_1 m (ok m) t) (tile1 m c t)) = _
  simp only [back_eq]

theorem out6 : (outsAt0 m (ok m) c t).2.1 = newD (tile0 m c t) (tile1 m c t) (tile2 m c t) (tile3 m c t) (tile4 m c t) := by
  unfold outsAt0
  frame_out
  change newD (back (hs0_0 m (ok m) t) (tile0 m c t)) (back (hs0_1 m (ok m) t) (tile1 m c t)) (back (hs0_2 m (ok m) t) (tile2 m c t)) (back (hs0_3 m (ok m) t) (tile3 m c t)) (back (hs0_4 m (ok m) t) (tile4 m c t)) = _
  simp only [back_eq]

theorem out7 : (outsAt0 m (ok m) c t).2.2.1 = newM (tile0 m c t) (tile1 m c t) (tile3 m c t) := by
  unfold outsAt0
  frame_out
  change newM (back (hs0_0 m (ok m) t) (tile0 m c t)) (back (hs0_1 m (ok m) t) (tile1 m c t)) (back (hs0_3 m (ok m) t) (tile3 m c t)) = _
  simp only [back_eq]

theorem out8 : (outsAt0 m (ok m) c t).2.2.2 = newV (tile0 m c t) (tile1 m c t) (tile4 m c t) := by
  unfold outsAt0
  frame_out
  change newV (back (hs0_0 m (ok m) t) (tile0 m c t)) (back (hs0_1 m (ok m) t) (tile1 m c t)) (back (hs0_4 m (ok m) t) (tile4 m c t)) = _
  simp only [back_eq]

end Cert.FfnUpUpdate0Ideal.Fwd

namespace Cert.FfnUpUpdate0ReferenceIdeal.Fwd

open Cert.FfnUpUpdate0ReferenceIdeal Cert.FfnUpUpdate0ReferenceIdeal.Gen Cert.FfnUpUpdate0ReferenceIdeal.Value

/-- The layers of an array of the weight. -/
abbrev Stack := FVec Ideal S4x704x1024 .f32

variable (a0 : FVec Ideal S8x704x1024 .bf16) (a1 : FVec Ideal S7x704x1024 .bf16) (a2 a3 a4 a5 a6 a7 a8 : Stack)

/-- The sum over the devices. -/
def total (p : Fin 704) (q : Fin 1024) : EReal :=
  (a0 (ix3 0 p q) : EReal) + a1 (ix3 0 p q) + a1 (ix3 1 p q) + a1 (ix3 2 p q) + a1 (ix3 3 p q) + a1 (ix3 4 p q) + a1 (ix3 5 p q) + a1 (ix3 6 p q)

theorem sum_apply (p : Fin 704) (q : Fin 1024) :
    k0_pay6 (F := Ideal) (View.ld (Val := Elt Ideal) (e' := .f32) a0 r0_0) a1 (ix2 p q) = total a0 a1 p q := by
  pointwise [k0_pay6]
  refine (congrArg (_ + ·) (Fin.sum_univ_seven _)).trans ?_
  unfold total
  simp only [add_assoc]

/-! The steps, read at an index. -/

theorem step_m (M : FVec Ideal S1x704x1024 .f32) (p : Fin 704) (q : Fin 1024) :
    k0_pay7 (F := Ideal) (View.ld (Val := Elt Ideal) (e' := .f32) a0 r0_0) a1 M (ix2 p q) = Adam.M (total a0 a1 p q) (M (ix3 0 p q)) := by
  rw [← sum_apply]
  unfold Adam.M
  pointwise [k0_pay7]

theorem step_v (V : FVec Ideal S1x704x1024 .f32) (p : Fin 704) (q : Fin 1024) :
    k0_pay8 (F := Ideal) (View.ld (Val := Elt Ideal) (e' := .f32) a0 r0_0) a1 V (ix2 p q) = Adam.V (total a0 a1 p q) (V (ix3 0 p q)) := by
  rw [← sum_apply]
  unfold Adam.V
  pointwise [k0_pay8]

theorem step_d (W M V : FVec Ideal S1x704x1024 .f32) (p : Fin 704) (q : Fin 1024) :
    (k0_pay14 (k0_pay9 (View.ld (Val := Elt Ideal) a0 r0_0) a1 W M V) (Scalar.ofBits .f32 0xBA83126F#32) : FVec Ideal S1x704x1024 .f32) (ix3 0 p q) = Adam.step (total a0 a1 p q) (W (ix3 0 p q)) (M (ix3 0 p q)) (V (ix3 0 p q)) := by
  unfold Adam.step
  rw [← Cert.FfnUpUpdate0Ideal.Fwd.cor1, ← Cert.FfnUpUpdate0Ideal.Fwd.cor2, ← step_m, ← step_v]
  unfold Adam.D
  pointwise [k0_pay14, k0_pay9]

/-- The layer of an array, read at an index. -/
theorem row (a : Stack) (p : Fin 704) (q : Fin 1024) : (View.ld (Val := Elt Ideal) (e' := .f32) a r0_2) (ix3 0 p q : S1x704x1024.Idx) = a (ix3 0 p q) := by
  pointwise

/-! What the reference writes, at the layer and elsewhere. -/

variable {a0 a1 a2 a3 a4 a5 a6 a7 a8} (z : S4x704x1024.Idx)

section

variable (p : Fin 704) (q : Fin 1024) (z0 : (z 0 : ℕ) = 0) (z1 : (z 1 : ℕ) = p) (z2 : (z 2 : ℕ) = q)
include z0 z1 z2

theorem ref9 : G9 (F := Ideal) a0 a1 a2 a3 a4 a5 a6 a7 a8 z = total a0 a1 p q := by
  unfold G9
  canon_tiles x h
  all_goals try omega
  rw [Update.at_row (x : S1x704x1024.Idx) p q (h1.symm.trans z1) (h2.symm.trans z2)]
  refine Eq.trans ?_ (sum_apply a0 a1 p q)
  pointwise [k0_pay10]

theorem ref10 : G10 (F := Ideal) a0 a1 a2 a3 a4 a5 a6 a7 a8 z = Adam.step (total a0 a1 p q) (a2 (ix3 0 p q)) (a3 (ix3 0 p q)) (a4 (ix3 0 p q)) := by
  unfold G10
  canon_tiles x h
  all_goals try omega
  rw [Update.at_row (x : S1x704x1024.Idx) p q (h1.symm.trans z1) (h2.symm.trans z2)]
  exact (step_d a0 a1 (View.ld (Val := Elt Ideal) (e' := .f32) a2 r0_2) (View.ld (Val := Elt Ideal) (e' := .f32) a3 r0_2) (View.ld (Val := Elt Ideal) (e' := .f32) a4 r0_2) p q).trans (congr (congr (congrArg (Adam.step _) (row a2 p q)) (row a3 p q)) (row a4 p q))

theorem ref11 : G11 (F := Ideal) a0 a1 a2 a3 a4 a5 a6 a7 a8 z = Adam.M (total a0 a1 p q) (a3 (ix3 0 p q)) := by
  unfold G11
  canon_tiles x h
  all_goals try omega
  rw [Update.at_row (x : S1x704x1024.Idx) p q (h1.symm.trans z1) (h2.symm.trans z2)]
  refine Eq.trans ?_ ((step_m a0 a1 (View.ld (Val := Elt Ideal) (e' := .f32) a3 r0_2) p q).trans (congrArg (Adam.M _) (row a3 p q)))
  pointwise [k0_pay19]

theorem ref12 : G12 (F := Ideal) a0 a1 a2 a3 a4 a5 a6 a7 a8 z = Adam.V (total a0 a1 p q) (a4 (ix3 0 p q)) := by
  unfold G12
  canon_tiles x h
  all_goals try omega
  rw [Update.at_row (x : S1x704x1024.Idx) p q (h1.symm.trans z1) (h2.symm.trans z2)]
  refine Eq.trans ?_ ((step_v a0 a1 (View.ld (Val := Elt Ideal) (e' := .f32) a4 r0_2) p q).trans (congrArg (Adam.V _) (row a4 p q)))
  pointwise [k0_pay2]

end

variable (hz : (z 0 : ℕ) ≠ 0)
include hz

theorem keep9 : G9 (F := Ideal) a0 a1 a2 a3 a4 a5 a6 a7 a8 z = a5 z := by
  unfold G9
  canon_tiles x h
  all_goals try omega
  all_goals
    obtain ⟨p, q, rfl⟩ := Update.some_row (x : S1x704x1024.Idx)
    pointwise [k0_pay13, k0_pay12, k0_pay11]
    exact congrArg a5 (Update.ext_row z _ p q h0.symm h1.symm h2.symm)

theorem keep10 : G10 (F := Ideal) a0 a1 a2 a3 a4 a5 a6 a7 a8 z = a6 z := by
  unfold G10
  canon_tiles x h
  all_goals try omega
  all_goals
    obtain ⟨p, q, rfl⟩ := Update.some_row (x : S1x704x1024.Idx)
    pointwise [k0_pay18, k0_pay17, k0_pay16, k0_pay15]
    exact congrArg a6 (Update.ext_row z _ p q h0.symm h1.symm h2.symm)

theorem keep11 : G11 (F := Ideal) a0 a1 a2 a3 a4 a5 a6 a7 a8 z = a7 z := by
  unfold G11
  canon_tiles x h
  all_goals try omega
  all_goals
    obtain ⟨p, q, rfl⟩ := Update.some_row (x : S1x704x1024.Idx)
    pointwise [k0_pay1, k0_pay21, k0_pay20]
    exact congrArg a7 (Update.ext_row z _ p q h0.symm h1.symm h2.symm)

theorem keep12 : G12 (F := Ideal) a0 a1 a2 a3 a4 a5 a6 a7 a8 z = a8 z := by
  unfold G12
  canon_tiles x h
  all_goals try omega
  all_goals
    obtain ⟨p, q, rfl⟩ := Update.some_row (x : S1x704x1024.Idx)
    pointwise [k0_pay5, k0_pay4, k0_pay3]
    exact congrArg a8 (Update.ext_row z _ p q h0.symm h1.symm h2.symm)

end Cert.FfnUpUpdate0ReferenceIdeal.Fwd

namespace Cert.FfnUpUpdate0Ideal.Fwd

open Cert.FfnUpUpdate0Ideal Cert.FfnUpUpdate0Ideal.Gen
open Cert.FfnUpUpdate0ReferenceIdeal.Fwd (Stack ref9 ref10 ref11 ref12 keep9 keep10 keep11 keep12)
open Cert.FfnUpUpdate0ReferenceIdeal.Value (G9 G10 G11 G12)

variable (m : (ℓ : Loc nD τ sig) → Buf (Elt Ideal) ℓ)

/-- An element of a tile lies at a row of the array. -/
theorem some3 (t : Fin (cfgM m (ok m)).N) (y : S1x352x1024.Idx) :
    ∃ (i : Fin 352) (q : Fin 1024) (p : Fin 704), y = ix3 0 i q ∧ (p : ℕ) = t.val * 352 + i := by
  have tt : t.val < 2 := t.isLt
  obtain ⟨u, i, q, rfl⟩ : ∃ (u : Fin 1) (i : Fin 352) (q : Fin 1024), y = ix3 u i q := ⟨y 0, y 1, y 2, eq_ix3 y⟩
  obtain rfl : u = 0 := Subsingleton.elim _ _
  exact ⟨i, q, ⟨t.val * 352 + i, by omega⟩, rfl, rfl⟩

/-- A function of the nine arguments, of those of a device. -/
abbrev app {α : Type} (c : Dev nD) (G : FVec Ideal S8x704x1024 .bf16 → FVec Ideal S7x704x1024 .bf16 → Stack → Stack → Stack → Stack → Stack → Stack → Stack → α) : α :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The gradient of a tile is the reference's gradient there. -/
theorem grad (c : Dev nD) (t : Fin (cfgM m (ok m)).N) (i : Fin 352) (q : Fin 1024) (p : Fin 704) (h : (p : ℕ) = t.val * 352 + i) :
    total (tile0 m c t) (tile1 m c t) (ix2 i q) = Cert.FfnUpUpdate0ReferenceIdeal.Fwd.total (m ((c : Thread nD τ).loc main_arg0)) (m ((c : Thread nD τ).loc main_arg1)) p q := by
  refine (total_apply _ _ i q).trans ?_
  have r := read1 m c t i q p h
  exact Ideal.add_congr (Ideal.add_congr (Ideal.add_congr (Ideal.add_congr (Ideal.add_congr (Ideal.add_congr (Ideal.add_congr (read0 m c t i q p h) (r 0)) (r 1)) (r 2)) (r 3)) (r 4)) (r 5)) (r 6)

/-! The arrays after the run are the reference's. -/

theorem final5 (c : Dev nD) : (dats m (ok m) 0 c).arrAt 5 (cfgM m (ok m)).N = app m c (G9 (F := Ideal)) := by
  refine (dats m (ok m) 0 c).arrAt_eq_of_coversWhere_of_agree 5 _ (fun β => β (0 : Fin 3) = 0) (of_decide_eq_true (by sl_kernel_rfl)) (fun t fl y => ?_) (fun j hj => ?_)
  · obtain ⟨i, q, p, rfl, ep⟩ := some3 m t y
    have e := Update.emb ((cfgM m (ok m)).win 5) rfl t (ix3 0 i q : S1x352x1024.Idx) (ix3 0 p q : S4x704x1024.Idx) _ (idx t) fun b => by fin_cases b; exacts [rfl, ep.symm, Nat.zero_add _]
    refine Eq.trans ?_ (congrArg _ e).symm
    refine Eq.trans (congrFun ((after0_5 m (ok m) c t).trans (out5 m c t)) (ix3 0 i q : S1x352x1024.Idx)) ?_
    refine (pay_g _ i q).trans (Eq.trans ?_ (ref9 (ix3 0 p q) p q rfl rfl rfl).symm)
    exact (grad m c t i q p ep)
  · refine Eq.trans ?_ (keep9 j fun h => hj ((Pipeline.Window.cell_apply ((cfgM m (ok m)).win 5) j (0 : Fin 3)).trans ((Nat.div_one _).trans h))).symm
    refine (congrFun (A_eq m (ok m) c 5) _).trans ?_
    show V m c main_v1_0 j = _
    entry_read
    rfl

theorem final6 (c : Dev nD) : (dats m (ok m) 0 c).arrAt 6 (cfgM m (ok m)).N = app m c (G10 (F := Ideal)) := by
  refine (dats m (ok m) 0 c).arrAt_eq_of_coversWhere_of_agree 6 _ (fun β => β (0 : Fin 3) = 0) (of_decide_eq_true (by sl_kernel_rfl)) (fun t fl y => ?_) (fun j hj => ?_)
  · obtain ⟨i, q, p, rfl, ep⟩ := some3 m t y
    have e := Update.emb ((cfgM m (ok m)).win 6) rfl t (ix3 0 i q : S1x352x1024.Idx) (ix3 0 p q : S4x704x1024.Idx) _ (idx t) fun b => by fin_cases b; exacts [rfl, ep.symm, Nat.zero_add _]
    refine Eq.trans ?_ (congrArg _ e).symm
    refine Eq.trans (congrFun ((after0_6 m (ok m) c t).trans (out6 m c t)) (ix3 0 i q : S1x352x1024.Idx)) ?_
    refine (pay_d _ _ _ _ i q).trans (Eq.trans ?_ (ref10 (ix3 0 p q) p q rfl rfl rfl).symm)
    exact congr (congr (congr (congrArg Adam.step (grad m c t i q p ep)) (read2 m c t i q p ep)) (read3 m c t i q p ep)) (read4 m c t i q p ep)
  · refine Eq.trans ?_ (keep10 j fun h => hj ((Pipeline.Window.cell_apply ((cfgM m (ok m)).win 6) j (0 : Fin 3)).trans ((Nat.div_one _).trans h))).symm
    refine (congrFun (A_eq m (ok m) c 6) _).trans ?_
    show V m c main_v1_1 j = _
    entry_read
    rfl

theorem final7 (c : Dev nD) : (dats m (ok m) 0 c).arrAt 7 (cfgM m (ok m)).N = app m c (G11 (F := Ideal)) := by
  refine (dats m (ok m) 0 c).arrAt_eq_of_coversWhere_of_agree 7 _ (fun β => β (0 : Fin 3) = 0) (of_decide_eq_true (by sl_kernel_rfl)) (fun t fl y => ?_) (fun j hj => ?_)
  · obtain ⟨i, q, p, rfl, ep⟩ := some3 m t y
    have e := Update.emb ((cfgM m (ok m)).win 7) rfl t (ix3 0 i q : S1x352x1024.Idx) (ix3 0 p q : S4x704x1024.Idx) _ (idx t) fun b => by fin_cases b; exacts [rfl, ep.symm, Nat.zero_add _]
    refine Eq.trans ?_ (congrArg _ e).symm
    refine Eq.trans (congrFun ((after0_7 m (ok m) c t).trans (out7 m c t)) (ix3 0 i q : S1x352x1024.Idx)) ?_
    refine (pay_m _ _ i q).trans (Eq.trans ?_ (ref11 (ix3 0 p q) p q rfl rfl rfl).symm)
    exact congr (congrArg Adam.M (grad m c t i q p ep)) (read3 m c t i q p ep)
  · refine Eq.trans ?_ (keep11 j fun h => hj ((Pipeline.Window.cell_apply ((cfgM m (ok m)).win 7) j (0 : Fin 3)).trans ((Nat.div_one _).trans h))).symm
    refine (congrFun (A_eq m (ok m) c 7) _).trans ?_
    show V m c main_v1_2 j = _
    entry_read
    rfl

theorem final8 (c : Dev nD) : (dats m (ok m) 0 c).arrAt 8 (cfgM m (ok m)).N = app m c (G12 (F := Ideal)) := by
  refine (dats m (ok m) 0 c).arrAt_eq_of_coversWhere_of_agree 8 _ (fun β => β (0 : Fin 3) = 0) (of_decide_eq_true (by sl_kernel_rfl)) (fun t fl y => ?_) (fun j hj => ?_)
  · obtain ⟨i, q, p, rfl, ep⟩ := some3 m t y
    have e := Update.emb ((cfgM m (ok m)).win 8) rfl t (ix3 0 i q : S1x352x1024.Idx) (ix3 0 p q : S4x704x1024.Idx) _ (idx t) fun b => by fin_cases b; exacts [rfl, ep.symm, Nat.zero_add _]
    refine Eq.trans ?_ (congrArg _ e).symm
    refine Eq.trans (congrFun ((after0_8 m (ok m) c t).trans (out8 m c t)) (ix3 0 i q : S1x352x1024.Idx)) ?_
    refine (pay_v _ _ i q).trans (Eq.trans ?_ (ref12 (ix3 0 p q) p q rfl rfl rfl).symm)
    exact congr (congrArg Adam.V (grad m c t i q p ep)) (read4 m c t i q p ep)
  · refine Eq.trans ?_ (keep12 j fun h => hj ((Pipeline.Window.cell_apply ((cfgM m (ok m)).win 8) j (0 : Fin 3)).trans ((Nat.div_one _).trans h))).symm
    refine (congrFun (A_eq m (ok m) c 8) _).trans ?_
    show V m c main_v1_3 j = _
    entry_read
    rfl

end Cert.FfnUpUpdate0Ideal.Fwd

namespace Cert.Proof

/-- The printed kernel and the idealized one run to their end and leave their arguments as they were. -/
theorem quiescent_FfnUpUpdate0 : quiescent_FfnUpUpdate0 := fun m ρ _ => Cert.FfnUpUpdate0.Gen.frame m ρ (Cert.FfnUpUpdate0.Fwd.ok m)

theorem quiescent_FfnUpUpdate0Ideal : quiescent_FfnUpUpdate0Ideal := fun m ρ _ => Cert.FfnUpUpdate0Ideal.Gen.frame m ρ (Cert.FfnUpUpdate0Ideal.Fwd.ok m)

/-- So does the reference. -/
theorem quiescent_FfnUpUpdate0ReferenceIdeal : quiescent_FfnUpUpdate0ReferenceIdeal := fun m ρ _ => Cert.FfnUpUpdate0ReferenceIdeal.Gen.frame m ρ

/-- The named constants of the kernel have the values they are named for. -/
theorem preserves_FfnUpUpdate0 : preserves_FfnUpUpdate0_FfnUpUpdate0Ideal :=
  ⟨IdealRules.named_const.statement Cert.FfnUpUpdate0Ideal.κ "inv_b1" .f32 0x3FC48605#32 _ rfl,
    IdealRules.named_const.statement Cert.FfnUpUpdate0Ideal.κ "inv_b2" .f32 0x42C8E6D3#32 _ rfl⟩

open Cert.FfnUpUpdate0Ideal Cert.FfnUpUpdate0Ideal.Gen Cert.FfnUpUpdate0Ideal.Fwd in
/-- Kernel and reference end with the same gradient, change and moments of the layer, and keep the other layers. -/
theorem algebraic_FfnUpUpdate0 : algebraic_FfnUpUpdate0Ideal_FfnUpUpdate0ReferenceIdeal := by
  intro m ρ m' ρ' _ hagree
  refine ⟨_, _, _, _, (θ_run _ _ _).mono (fun r h c => ⟨((h.1 c).1 5).trans (final5 m c), ((h.1 c).1 6).trans (final6 m c), ((h.1 c).1 7).trans (final7 m c),
    ((h.1 c).1 8).trans (final8 m c), h.2 c⟩) (θ_run_and (run_main m ρ (ok m)) (unchanged m ρ (ok m))), ?_⟩
  refine (θ_run _ _ _).mono (fun _ h c => ?_) (Cert.FfnUpUpdate0ReferenceIdeal.Value.run (F := Ideal) m' ρ')
  obtain ⟨e0, e1, e2, e3, e4, e5, e6, e7, e8⟩ := hagree c
  refine ⟨(h c).1.trans ?_, (h c).2.1.trans ?_, (h c).2.2.1.trans ?_, (h c).2.2.2.1.trans ?_, (h c).2.2.2.2⟩ <;> rw [app, e0, e1, e2, e3, e4, e5, e6, e7, e8]

end Cert.Proof

end
-- ==== Proof.FfnUpUpdate1.lean ====
module

public import proofs.«01_k».proof.Defs
public import proofs.«01_k».proof.Proof.Gen.FfnUpUpdate1.Frame
public import proofs.«01_k».proof.Proof.Gen.FfnUpUpdate1Ideal.Frame
public import proofs.«01_k».proof.Proof.Gen.FfnUpUpdate1ReferenceIdeal.Value
public import proofs.«01_k».proof.Proof.FfnUpUpdate0

@[expose] public section

set_option maxRecDepth 16384

noncomputable section

open Idealize.ShloMosaic Idealize.ShloMosaic.TcCoe Idealize.SL.Sem

/-! # The update of layer 1 of ffn_w_gu -/

namespace Cert.FfnUpUpdate1.Fwd

open Cert.FfnUpUpdate1 Cert.FfnUpUpdate1.Gen

section

variable {F : FTy → Type} [FloatOps F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

end Cert.FfnUpUpdate1.Fwd

namespace Cert.FfnUpUpdate1Ideal.Fwd

open Cert.FfnUpUpdate1Ideal Cert.FfnUpUpdate1Ideal.Gen

section

variable {F : FTy → Type} [FloatOps F] [Named F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

open Cert.FfnUpUpdate0Ideal.Fwd (newG newD newM newV)

open Update (back back_eq)

variable (m : (ℓ : Loc nD τ sig) → Buf (Elt Ideal) ℓ) (c : Dev nD) (t : Fin (cfgM m (ok m)).N)

/-- Which tile each window reads or writes at a point of the grid. -/
theorem idx0 : ((cfgM m (ok m)).win 0).index t = ![0, t.val, 0] := by
  have e : ∀ t : Fin grid0.N, cc0_transform_0 (F := Ideal) inb_S1_S1_0 numel1_S1 zero (grid0.coords t) = ![0, t.val, 0] := by decide +kernel
  refine Eq.trans ?_ (e t)
  show cc0_transform_0 inb_S1_S1_0 numel1_S1 (tbl m) (grid0.coords t) = _
  rw [table]

theorem idx1 : ∀ t : Fin grid0.N, cc0_transform_1 (grid0.coords t) = ![0, t.val, 0] := by decide +kernel

theorem idx : ∀ t : Fin grid0.N, cc0_transform_2 (grid0.coords t) = ![1, t.val, 0] := by decide +kernel

section

variable (i : Fin 352) (q : Fin 1024) (p : Fin 704) (h : (p : ℕ) = t.val * 352 + i)
include h

/-- The tile of the device's part, read at an index. -/
def tile0 : FVec Ideal S1x352x1024 .bf16 := iblk m (ok m) c 0 t

theorem read0 :
    tile0 m c t (ix3 0 i q) = m ((c : Thread nD τ).loc main_arg0) (ix3 0 p q) :=
  (congrArg (V m c main_arg0) (Update.emb ((cfgM m (ok m)).win 0) rfl t (ix3 0 i q : S1x352x1024.Idx) (ix3 0 p q : S8x704x1024.Idx) _ (idx0 m t)
    fun b => by fin_cases b; exacts [rfl, h.symm, Nat.zero_add _])).trans (congrFun (V_main_arg0 m c) _)

/-- The tile of the other devices' parts, read at an index. -/
def tile1 : FVec Ideal S7x352x1024 .bf16 := iblk m (ok m) c 1 t

theorem read1 (a : Fin 7) :
    tile1 m c t (ix3 a i q) = m ((c : Thread nD τ).loc main_arg1) (ix3 a p q) :=
  (congrArg (V m c main_arg1) (Update.emb ((cfgM m (ok m)).win 1) rfl t (ix3 a i q : S7x352x1024.Idx) (ix3 a p q : S7x704x1024.Idx) _ (idx1 t)
    fun b => by fin_cases b; exacts [Nat.zero_add _, h.symm, Nat.zero_add _])).trans (congrFun (V_main_arg1 m c) _)

/-- The tile of the weights, read at an index. -/
def tile2 : FVec Ideal S1x352x1024 .f32 := iblk m (ok m) c 2 t

theorem read2 :
    tile2 m c t (ix3 0 i q) = m ((c : Thread nD τ).loc main_arg2) (ix3 1 p q) :=
  (congrArg (V m c main_arg2) (Update.emb ((cfgM m (ok m)).win 2) rfl t (ix3 0 i q : S1x352x1024.Idx) (ix3 1 p q : S4x704x1024.Idx) _ (idx t)
    fun b => by fin_cases b; exacts [rfl, h.symm, Nat.zero_add _])).trans (congrFun (V_main_arg2 m c) _)

/-- The tile of the first moment, read at an index. -/
def tile3 : FVec Ideal S1x352x1024 .f32 := iblk m (ok m) c 3 t

theorem read3 :
    tile3 m c t (ix3 0 i q) = m ((c : Thread nD τ).loc main_arg3) (ix3 1 p q) :=
  (congrArg (V m c main_arg3) (Update.emb ((cfgM m (ok m)).win 3) rfl t (ix3 0 i q : S1x352x1024.Idx) (ix3 1 p q : S4x704x1024.Idx) _ (idx t)
    fun b => by fin_cases b; exacts [rfl, h.symm, Nat.zero_add _])).trans (congrFun (V_main_arg3 m c) _)

/-- The tile of the second moment, read at an index. -/
def tile4 : FVec Ideal S1x352x1024 .f32 := iblk m (ok m) c 4 t

theorem read4 :
    tile4 m c t (ix3 0 i q) = m ((c : Thread nD τ).loc main_arg4) (ix3 1 p q) :=
  (congrArg (V m c main_arg4) (Update.emb ((cfgM m (ok m)).win 4) rfl t (ix3 0 i q : S1x352x1024.Idx) (ix3 1 p q : S4x704x1024.Idx) _ (idx t)
    fun b => by fin_cases b; exacts [rfl, h.symm, Nat.zero_add _])).trans (congrFun (V_main_arg4 m c) _)

end

/-! What the outputs hold after a point of the grid. -/

theorem out5 : (outsAt0 m (ok m) c t).1 = newG (tile0 m c t) (tile1 m c t) := by
  unfold outsAt0
  frame_out
  change newG (back (hs0_0 m (ok m) t) (tile0 m c t)) (back (hs0_1 m (ok m) t) (tile1 m c t)) = _
  simp only [back_eq]

theorem out6 : (outsAt0 m (ok m) c t).2.1 = newD (tile0 m c t) (tile1 m c t) (tile2 m c t) (tile3 m c t) (tile4 m c t) := by
  unfold outsAt0
  frame_out
  change newD (back (hs0_0 m (ok m) t) (tile0 m c t)) (back (hs0_1 m (ok m) t) (tile1 m c t)) (back (hs0_2 m (ok m) t) (tile2 m c t)) (back (hs0_3 m (ok m) t) (tile3 m c t)) (back (hs0_4 m (ok m) t) (tile4 m c t)) = _
  simp only [back_eq]

theorem out7 : (outsAt0 m (ok m) c t).2.2.1 = newM (tile0 m c t) (tile1 m c t) (tile3 m c t) := by
  unfold outsAt0
  frame_out
  change newM (back (hs0_0 m (ok m) t) (tile0 m c t)) (back (hs0_1 m (ok m) t) (tile1 m c t)) (back (hs0_3 m (ok m) t) (tile3 m c t)) = _
  simp only [back_eq]

theorem out8 : (outsAt0 m (ok m) c t).2.2.2 = newV (tile0 m c t) (tile1 m c t) (tile4 m c t) := by
  unfold outsAt0
  frame_out
  change newV (back (hs0_0 m (ok m) t) (tile0 m c t)) (back (hs0_1 m (ok m) t) (tile1 m c t)) (back (hs0_4 m (ok m) t) (tile4 m c t)) = _
  simp only [back_eq]

end Cert.FfnUpUpdate1Ideal.Fwd

namespace Cert.FfnUpUpdate1ReferenceIdeal.Fwd

open Cert.FfnUpUpdate1ReferenceIdeal Cert.FfnUpUpdate1ReferenceIdeal.Gen Cert.FfnUpUpdate1ReferenceIdeal.Value
open Cert.FfnUpUpdate0ReferenceIdeal.Fwd (total sum_apply step_m step_v step_d)

/-- The layers of an array of the weight. -/
abbrev Stack := FVec Ideal S4x704x1024 .f32

variable (a0 : FVec Ideal S8x704x1024 .bf16) (a1 : FVec Ideal S7x704x1024 .bf16) (a2 a3 a4 a5 a6 a7 a8 : Stack)

/-- The layer of an array, read at an index. -/
theorem row (a : Stack) (p : Fin 704) (q : Fin 1024) : (View.ld (Val := Elt Ideal) (e' := .f32) a r0_2) (ix3 0 p q : S1x704x1024.Idx) = a (ix3 1 p q) := by
  pointwise

/-! What the reference writes, at the layer and elsewhere. -/

variable {a0 a1 a2 a3 a4 a5 a6 a7 a8} (z : S4x704x1024.Idx)

section

variable (p : Fin 704) (q : Fin 1024) (z0 : (z 0 : ℕ) = 1) (z1 : (z 1 : ℕ) = p) (z2 : (z 2 : ℕ) = q)
include z0 z1 z2

theorem ref9 : G9 (F := Ideal) a0 a1 a2 a3 a4 a5 a6 a7 a8 z = total a0 a1 p q := by
  unfold G9
  canon_tiles x h
  all_goals try omega
  rw [Update.at_row (x : S1x704x1024.Idx) p q (h1.symm.trans z1) (h2.symm.trans z2)]
  refine Eq.trans ?_ (sum_apply a0 a1 p q)
  pointwise [k0_pay12]
  all_goals rfl

theorem ref10 : G10 (F := Ideal) a0 a1 a2 a3 a4 a5 a6 a7 a8 z = Adam.step (total a0 a1 p q) (a2 (ix3 1 p q)) (a3 (ix3 1 p q)) (a4 (ix3 1 p q)) := by
  unfold G10
  canon_tiles x h
  all_goals try omega
  rw [Update.at_row (x : S1x704x1024.Idx) p q (h1.symm.trans z1) (h2.symm.trans z2)]
  exact (step_d a0 a1 (View.ld (Val := Elt Ideal) (e' := .f32) a2 r0_2) (View.ld (Val := Elt Ideal) (e' := .f32) a3 r0_2) (View.ld (Val := Elt Ideal) (e' := .f32) a4 r0_2) p q).trans (congr (congr (congrArg (Adam.step _) (row a2 p q)) (row a3 p q)) (row a4 p q))

theorem ref11 : G11 (F := Ideal) a0 a1 a2 a3 a4 a5 a6 a7 a8 z = Adam.M (total a0 a1 p q) (a3 (ix3 1 p q)) := by
  unfold G11
  canon_tiles x h
  all_goals try omega
  rw [Update.at_row (x : S1x704x1024.Idx) p q (h1.symm.trans z1) (h2.symm.trans z2)]
  refine Eq.trans ?_ ((step_m a0 a1 (View.ld (Val := Elt Ideal) (e' := .f32) a3 r0_2) p q).trans (congrArg (Adam.M _) (row a3 p q)))
  pointwise [k0_pay20]
  all_goals rfl

theorem ref12 : G12 (F := Ideal) a0 a1 a2 a3 a4 a5 a6 a7 a8 z = Adam.V (total a0 a1 p q) (a4 (ix3 1 p q)) := by
  unfold G12
  canon_tiles x h
  all_goals try omega
  rw [Update.at_row (x : S1x704x1024.Idx) p q (h1.symm.trans z1) (h2.symm.trans z2)]
  refine Eq.trans ?_ ((step_v a0 a1 (View.ld (Val := Elt Ideal) (e' := .f32) a4 r0_2) p q).trans (congrArg (Adam.V _) (row a4 p q)))
  pointwise [k0_pay3]
  all_goals rfl

end

variable (hz : (z 0 : ℕ) ≠ 1)
include hz

theorem keep9 : G9 (F := Ideal) a0 a1 a2 a3 a4 a5 a6 a7 a8 z = a5 z := by
  unfold G9
  canon_tiles x h
  all_goals try omega
  all_goals
    obtain ⟨p, q, rfl⟩ := Update.some_row (x : S1x704x1024.Idx)
    pointwise [k0_pay14, k0_pay13, k0_pay11]
    exact congrArg a5 (Update.ext_row z _ p q h0.symm h1.symm h2.symm)

theorem keep10 : G10 (F := Ideal) a0 a1 a2 a3 a4 a5 a6 a7 a8 z = a6 z := by
  unfold G10
  canon_tiles x h
  all_goals try omega
  all_goals
    obtain ⟨p, q, rfl⟩ := Update.some_row (x : S1x704x1024.Idx)
    pointwise [k0_pay18, k0_pay17, k0_pay15]
    exact congrArg a6 (Update.ext_row z _ p q h0.symm h1.symm h2.symm)

theorem keep11 : G11 (F := Ideal) a0 a1 a2 a3 a4 a5 a6 a7 a8 z = a7 z := by
  unfold G11
  canon_tiles x h
  all_goals try omega
  all_goals
    obtain ⟨p, q, rfl⟩ := Update.some_row (x : S1x704x1024.Idx)
    pointwise [k0_pay1, k0_pay21, k0_pay19]
    exact congrArg a7 (Update.ext_row z _ p q h0.symm h1.symm h2.symm)

theorem keep12 : G12 (F := Ideal) a0 a1 a2 a3 a4 a5 a6 a7 a8 z = a8 z := by
  unfold G12
  canon_tiles x h
  all_goals try omega
  all_goals
    obtain ⟨p, q, rfl⟩ := Update.some_row (x : S1x704x1024.Idx)
    pointwise [k0_pay5, k0_pay4, k0_pay2]
    exact congrArg a8 (Update.ext_row z _ p q h0.symm h1.symm h2.symm)

end Cert.FfnUpUpdate1ReferenceIdeal.Fwd

namespace Cert.FfnUpUpdate1Ideal.Fwd

open Cert.FfnUpUpdate1Ideal Cert.FfnUpUpdate1Ideal.Gen
open Cert.FfnUpUpdate0Ideal.Fwd (total total_apply pay_g pay_m pay_v pay_d)
open Cert.FfnUpUpdate1ReferenceIdeal.Fwd (Stack ref9 ref10 ref11 ref12 keep9 keep10 keep11 keep12)
open Cert.FfnUpUpdate1ReferenceIdeal.Value (G9 G10 G11 G12)

variable (m : (ℓ : Loc nD τ sig) → Buf (Elt Ideal) ℓ)

/-- An element of a tile lies at a row of the array. -/
theorem some3 (t : Fin (cfgM m (ok m)).N) (y : S1x352x1024.Idx) :
    ∃ (i : Fin 352) (q : Fin 1024) (p : Fin 704), y = ix3 0 i q ∧ (p : ℕ) = t.val * 352 + i := by
  have tt : t.val < 2 := t.isLt
  obtain ⟨u, i, q, rfl⟩ : ∃ (u : Fin 1) (i : Fin 352) (q : Fin 1024), y = ix3 u i q := ⟨y 0, y 1, y 2, eq_ix3 y⟩
  obtain rfl : u = 0 := Subsingleton.elim _ _
  exact ⟨i, q, ⟨t.val * 352 + i, by omega⟩, rfl, rfl⟩

/-- A function of the nine arguments, of those of a device. -/
abbrev app {α : Type} (c : Dev nD) (G : FVec Ideal S8x704x1024 .bf16 → FVec Ideal S7x704x1024 .bf16 → Stack → Stack → Stack → Stack → Stack → Stack → Stack → α) : α :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The gradient of a tile is the reference's gradient there. -/
theorem grad (c : Dev nD) (t : Fin (cfgM m (ok m)).N) (i : Fin 352) (q : Fin 1024) (p : Fin 704) (h : (p : ℕ) = t.val * 352 + i) :
    total (tile0 m c t) (tile1 m c t) (ix2 i q) = Cert.FfnUpUpdate0ReferenceIdeal.Fwd.total (m ((c : Thread nD τ).loc main_arg0)) (m ((c : Thread nD τ).loc main_arg1)) p q := by
  refine (total_apply _ _ i q).trans ?_
  have r := read1 m c t i q p h
  exact Ideal.add_congr (Ideal.add_congr (Ideal.add_congr (Ideal.add_congr (Ideal.add_congr (Ideal.add_congr (Ideal.add_congr (read0 m c t i q p h) (r 0)) (r 1)) (r 2)) (r 3)) (r 4)) (r 5)) (r 6)

/-! The arrays after the run are the reference's. -/

theorem final5 (c : Dev nD) : (dats m (ok m) 0 c).arrAt 5 (cfgM m (ok m)).N = app m c (G9 (F := Ideal)) := by
  refine (dats m (ok m) 0 c).arrAt_eq_of_coversWhere_of_agree 5 _ (fun β => β (0 : Fin 3) = 1) (of_decide_eq_true (by sl_kernel_rfl)) (fun t fl y => ?_) (fun j hj => ?_)
  · obtain ⟨i, q, p, rfl, ep⟩ := some3 m t y
    have e := Update.emb ((cfgM m (ok m)).win 5) rfl t (ix3 0 i q : S1x352x1024.Idx) (ix3 1 p q : S4x704x1024.Idx) _ (idx t) fun b => by fin_cases b; exacts [rfl, ep.symm, Nat.zero_add _]
    refine Eq.trans ?_ (congrArg _ e).symm
    refine Eq.trans (congrFun ((after0_5 m (ok m) c t).trans (out5 m c t)) (ix3 0 i q : S1x352x1024.Idx)) ?_
    refine (pay_g _ i q).trans (Eq.trans ?_ (ref9 (ix3 1 p q) p q rfl rfl rfl).symm)
    exact (grad m c t i q p ep)
  · refine Eq.trans ?_ (keep9 j fun h => hj ((Pipeline.Window.cell_apply ((cfgM m (ok m)).win 5) j (0 : Fin 3)).trans ((Nat.div_one _).trans h))).symm
    refine (congrFun (A_eq m (ok m) c 5) _).trans ?_
    show V m c main_v1_0 j = _
    entry_read
    rfl

theorem final6 (c : Dev nD) : (dats m (ok m) 0 c).arrAt 6 (cfgM m (ok m)).N = app m c (G10 (F := Ideal)) := by
  refine (dats m (ok m) 0 c).arrAt_eq_of_coversWhere_of_agree 6 _ (fun β => β (0 : Fin 3) = 1) (of_decide_eq_true (by sl_kernel_rfl)) (fun t fl y => ?_) (fun j hj => ?_)
  · obtain ⟨i, q, p, rfl, ep⟩ := some3 m t y
    have e := Update.emb ((cfgM m (ok m)).win 6) rfl t (ix3 0 i q : S1x352x1024.Idx) (ix3 1 p q : S4x704x1024.Idx) _ (idx t) fun b => by fin_cases b; exacts [rfl, ep.symm, Nat.zero_add _]
    refine Eq.trans ?_ (congrArg _ e).symm
    refine Eq.trans (congrFun ((after0_6 m (ok m) c t).trans (out6 m c t)) (ix3 0 i q : S1x352x1024.Idx)) ?_
    refine (pay_d _ _ _ _ i q).trans (Eq.trans ?_ (ref10 (ix3 1 p q) p q rfl rfl rfl).symm)
    exact congr (congr (congr (congrArg Adam.step (grad m c t i q p ep)) (read2 m c t i q p ep)) (read3 m c t i q p ep)) (read4 m c t i q p ep)
  · refine Eq.trans ?_ (keep10 j fun h => hj ((Pipeline.Window.cell_apply ((cfgM m (ok m)).win 6) j (0 : Fin 3)).trans ((Nat.div_one _).trans h))).symm
    refine (congrFun (A_eq m (ok m) c 6) _).trans ?_
    show V m c main_v1_1 j = _
    entry_read
    rfl

theorem final7 (c : Dev nD) : (dats m (ok m) 0 c).arrAt 7 (cfgM m (ok m)).N = app m c (G11 (F := Ideal)) := by
  refine (dats m (ok m) 0 c).arrAt_eq_of_coversWhere_of_agree 7 _ (fun β => β (0 : Fin 3) = 1) (of_decide_eq_true (by sl_kernel_rfl)) (fun t fl y => ?_) (fun j hj => ?_)
  · obtain ⟨i, q, p, rfl, ep⟩ := some3 m t y
    have e := Update.emb ((cfgM m (ok m)).win 7) rfl t (ix3 0 i q : S1x352x1024.Idx) (ix3 1 p q : S4x704x1024.Idx) _ (idx t) fun b => by fin_cases b; exacts [rfl, ep.symm, Nat.zero_add _]
    refine Eq.trans ?_ (congrArg _ e).symm
    refine Eq.trans (congrFun ((after0_7 m (ok m) c t).trans (out7 m c t)) (ix3 0 i q : S1x352x1024.Idx)) ?_
    refine (pay_m _ _ i q).trans (Eq.trans ?_ (ref11 (ix3 1 p q) p q rfl rfl rfl).symm)
    exact congr (congrArg Adam.M (grad m c t i q p ep)) (read3 m c t i q p ep)
  · refine Eq.trans ?_ (keep11 j fun h => hj ((Pipeline.Window.cell_apply ((cfgM m (ok m)).win 7) j (0 : Fin 3)).trans ((Nat.div_one _).trans h))).symm
    refine (congrFun (A_eq m (ok m) c 7) _).trans ?_
    show V m c main_v1_2 j = _
    entry_read
    rfl

theorem final8 (c : Dev nD) : (dats m (ok m) 0 c).arrAt 8 (cfgM m (ok m)).N = app m c (G12 (F := Ideal)) := by
  refine (dats m (ok m) 0 c).arrAt_eq_of_coversWhere_of_agree 8 _ (fun β => β (0 : Fin 3) = 1) (of_decide_eq_true (by sl_kernel_rfl)) (fun t fl y => ?_) (fun j hj => ?_)
  · obtain ⟨i, q, p, rfl, ep⟩ := some3 m t y
    have e := Update.emb ((cfgM m (ok m)).win 8) rfl t (ix3 0 i q : S1x352x1024.Idx) (ix3 1 p q : S4x704x1024.Idx) _ (idx t) fun b => by fin_cases b; exacts [rfl, ep.symm, Nat.zero_add _]
    refine Eq.trans ?_ (congrArg _ e).symm
    refine Eq.trans (congrFun ((after0_8 m (ok m) c t).trans (out8 m c t)) (ix3 0 i q : S1x352x1024.Idx)) ?_
    refine (pay_v _ _ i q).trans (Eq.trans ?_ (ref12 (ix3 1 p q) p q rfl rfl rfl).symm)
    exact congr (congrArg Adam.V (grad m c t i q p ep)) (read4 m c t i q p ep)
  · refine Eq.trans ?_ (keep12 j fun h => hj ((Pipeline.Window.cell_apply ((cfgM m (ok m)).win 8) j (0 : Fin 3)).trans ((Nat.div_one _).trans h))).symm
    refine (congrFun (A_eq m (ok m) c 8) _).trans ?_
    show V m c main_v1_3 j = _
    entry_read
    rfl

end Cert.FfnUpUpdate1Ideal.Fwd

namespace Cert.Proof

/-- The printed kernel and the idealized one run to their end and leave their arguments as they were. -/
theorem quiescent_FfnUpUpdate1 : quiescent_FfnUpUpdate1 := fun m ρ _ => Cert.FfnUpUpdate1.Gen.frame m ρ (Cert.FfnUpUpdate1.Fwd.ok m)

theorem quiescent_FfnUpUpdate1Ideal : quiescent_FfnUpUpdate1Ideal := fun m ρ _ => Cert.FfnUpUpdate1Ideal.Gen.frame m ρ (Cert.FfnUpUpdate1Ideal.Fwd.ok m)

/-- So does the reference. -/
theorem quiescent_FfnUpUpdate1ReferenceIdeal : quiescent_FfnUpUpdate1ReferenceIdeal := fun m ρ _ => Cert.FfnUpUpdate1ReferenceIdeal.Gen.frame m ρ

/-- The named constants of the kernel have the values they are named for. -/
theorem preserves_FfnUpUpdate1 : preserves_FfnUpUpdate1_FfnUpUpdate1Ideal :=
  ⟨IdealRules.named_const.statement Cert.FfnUpUpdate1Ideal.κ "inv_b1" .f32 0x3FC48605#32 _ rfl,
    IdealRules.named_const.statement Cert.FfnUpUpdate1Ideal.κ "inv_b2" .f32 0x42C8E6D3#32 _ rfl⟩

open Cert.FfnUpUpdate1Ideal Cert.FfnUpUpdate1Ideal.Gen Cert.FfnUpUpdate1Ideal.Fwd in
/-- Kernel and reference end with the same gradient, change and moments of the layer, and keep the other layers. -/
theorem algebraic_FfnUpUpdate1 : algebraic_FfnUpUpdate1Ideal_FfnUpUpdate1ReferenceIdeal := by
  intro m ρ m' ρ' _ hagree
  refine ⟨_, _, _, _, (θ_run _ _ _).mono (fun r h c => ⟨((h.1 c).1 5).trans (final5 m c), ((h.1 c).1 6).trans (final6 m c), ((h.1 c).1 7).trans (final7 m c),
    ((h.1 c).1 8).trans (final8 m c), h.2 c⟩) (θ_run_and (run_main m ρ (ok m)) (unchanged m ρ (ok m))), ?_⟩
  refine (θ_run _ _ _).mono (fun _ h c => ?_) (Cert.FfnUpUpdate1ReferenceIdeal.Value.run (F := Ideal) m' ρ')
  obtain ⟨e0, e1, e2, e3, e4, e5, e6, e7, e8⟩ := hagree c
  refine ⟨(h c).1.trans ?_, (h c).2.1.trans ?_, (h c).2.2.1.trans ?_, (h c).2.2.2.1.trans ?_, (h c).2.2.2.2⟩ <;> rw [app, e0, e1, e2, e3, e4, e5, e6, e7, e8]

end Cert.Proof

end
-- ==== Proof.FfnUpUpdate2.lean ====
module

public import proofs.«01_k».proof.Defs
public import proofs.«01_k».proof.Proof.Gen.FfnUpUpdate2.Frame
public import proofs.«01_k».proof.Proof.Gen.FfnUpUpdate2Ideal.Frame
public import proofs.«01_k».proof.Proof.Gen.FfnUpUpdate2ReferenceIdeal.Value
public import proofs.«01_k».proof.Proof.FfnUpUpdate0

@[expose] public section

set_option maxRecDepth 16384

noncomputable section

open Idealize.ShloMosaic Idealize.ShloMosaic.TcCoe Idealize.SL.Sem

/-! # The update of layer 2 of ffn_w_gu -/

namespace Cert.FfnUpUpdate2.Fwd

open Cert.FfnUpUpdate2 Cert.FfnUpUpdate2.Gen

section

variable {F : FTy → Type} [FloatOps F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

end Cert.FfnUpUpdate2.Fwd

namespace Cert.FfnUpUpdate2Ideal.Fwd

open Cert.FfnUpUpdate2Ideal Cert.FfnUpUpdate2Ideal.Gen

section

variable {F : FTy → Type} [FloatOps F] [Named F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

open Cert.FfnUpUpdate0Ideal.Fwd (newG newD newM newV)

open Update (back back_eq)

variable (m : (ℓ : Loc nD τ sig) → Buf (Elt Ideal) ℓ) (c : Dev nD) (t : Fin (cfgM m (ok m)).N)

/-- Which tile each window reads or writes at a point of the grid. -/
theorem idx0 : ((cfgM m (ok m)).win 0).index t = ![0, t.val, 0] := by
  have e : ∀ t : Fin grid0.N, cc0_transform_0 (F := Ideal) inb_S1_S1_0 numel1_S1 zero (grid0.coords t) = ![0, t.val, 0] := by decide +kernel
  refine Eq.trans ?_ (e t)
  show cc0_transform_0 inb_S1_S1_0 numel1_S1 (tbl m) (grid0.coords t) = _
  rw [table]

theorem idx1 : ∀ t : Fin grid0.N, cc0_transform_1 (grid0.coords t) = ![0, t.val, 0] := by decide +kernel

theorem idx : ∀ t : Fin grid0.N, cc0_transform_2 (grid0.coords t) = ![2, t.val, 0] := by decide +kernel

section

variable (i : Fin 352) (q : Fin 1024) (p : Fin 704) (h : (p : ℕ) = t.val * 352 + i)
include h

/-- The tile of the device's part, read at an index. -/
def tile0 : FVec Ideal S1x352x1024 .bf16 := iblk m (ok m) c 0 t

theorem read0 :
    tile0 m c t (ix3 0 i q) = m ((c : Thread nD τ).loc main_arg0) (ix3 0 p q) :=
  (congrArg (V m c main_arg0) (Update.emb ((cfgM m (ok m)).win 0) rfl t (ix3 0 i q : S1x352x1024.Idx) (ix3 0 p q : S8x704x1024.Idx) _ (idx0 m t)
    fun b => by fin_cases b; exacts [rfl, h.symm, Nat.zero_add _])).trans (congrFun (V_main_arg0 m c) _)

/-- The tile of the other devices' parts, read at an index. -/
def tile1 : FVec Ideal S7x352x1024 .bf16 := iblk m (ok m) c 1 t

theorem read1 (a : Fin 7) :
    tile1 m c t (ix3 a i q) = m ((c : Thread nD τ).loc main_arg1) (ix3 a p q) :=
  (congrArg (V m c main_arg1) (Update.emb ((cfgM m (ok m)).win 1) rfl t (ix3 a i q : S7x352x1024.Idx) (ix3 a p q : S7x704x1024.Idx) _ (idx1 t)
    fun b => by fin_cases b; exacts [Nat.zero_add _, h.symm, Nat.zero_add _])).trans (congrFun (V_main_arg1 m c) _)

/-- The tile of the weights, read at an index. -/
def tile2 : FVec Ideal S1x352x1024 .f32 := iblk m (ok m) c 2 t

theorem read2 :
    tile2 m c t (ix3 0 i q) = m ((c : Thread nD τ).loc main_arg2) (ix3 2 p q) :=
  (congrArg (V m c main_arg2) (Update.emb ((cfgM m (ok m)).win 2) rfl t (ix3 0 i q : S1x352x1024.Idx) (ix3 2 p q : S4x704x1024.Idx) _ (idx t)
    fun b => by fin_cases b; exacts [rfl, h.symm, Nat.zero_add _])).trans (congrFun (V_main_arg2 m c) _)

/-- The tile of the first moment, read at an index. -/
def tile3 : FVec Ideal S1x352x1024 .f32 := iblk m (ok m) c 3 t

theorem read3 :
    tile3 m c t (ix3 0 i q) = m ((c : Thread nD τ).loc main_arg3) (ix3 2 p q) :=
  (congrArg (V m c main_arg3) (Update.emb ((cfgM m (ok m)).win 3) rfl t (ix3 0 i q : S1x352x1024.Idx) (ix3 2 p q : S4x704x1024.Idx) _ (idx t)
    fun b => by fin_cases b; exacts [rfl, h.symm, Nat.zero_add _])).trans (congrFun (V_main_arg3 m c) _)

/-- The tile of the second moment, read at an index. -/
def tile4 : FVec Ideal S1x352x1024 .f32 := iblk m (ok m) c 4 t

theorem read4 :
    tile4 m c t (ix3 0 i q) = m ((c : Thread nD τ).loc main_arg4) (ix3 2 p q) :=
  (congrArg (V m c main_arg4) (Update.emb ((cfgM m (ok m)).win 4) rfl t (ix3 0 i q : S1x352x1024.Idx) (ix3 2 p q : S4x704x1024.Idx) _ (idx t)
    fun b => by fin_cases b; exacts [rfl, h.symm, Nat.zero_add _])).trans (congrFun (V_main_arg4 m c) _)

end

/-! What the outputs hold after a point of the grid. -/

theorem out5 : (outsAt0 m (ok m) c t).1 = newG (tile0 m c t) (tile1 m c t) := by
  unfold outsAt0
  frame_out
  change newG (back (hs0_0 m (ok m) t) (tile0 m c t)) (back (hs0_1 m (ok m) t) (tile1 m c t)) = _
  simp only [back_eq]

theorem out6 : (outsAt0 m (ok m) c t).2.1 = newD (tile0 m c t) (tile1 m c t) (tile2 m c t) (tile3 m c t) (tile4 m c t) := by
  unfold outsAt0
  frame_out
  change newD (back (hs0_0 m (ok m) t) (tile0 m c t)) (back (hs0_1 m (ok m) t) (tile1 m c t)) (back (hs0_2 m (ok m) t) (tile2 m c t)) (back (hs0_3 m (ok m) t) (tile3 m c t)) (back (hs0_4 m (ok m) t) (tile4 m c t)) = _
  simp only [back_eq]

theorem out7 : (outsAt0 m (ok m) c t).2.2.1 = newM (tile0 m c t) (tile1 m c t) (tile3 m c t) := by
  unfold outsAt0
  frame_out
  change newM (back (hs0_0 m (ok m) t) (tile0 m c t)) (back (hs0_1 m (ok m) t) (tile1 m c t)) (back (hs0_3 m (ok m) t) (tile3 m c t)) = _
  simp only [back_eq]

theorem out8 : (outsAt0 m (ok m) c t).2.2.2 = newV (tile0 m c t) (tile1 m c t) (tile4 m c t) := by
  unfold outsAt0
  frame_out
  change newV (back (hs0_0 m (ok m) t) (tile0 m c t)) (back (hs0_1 m (ok m) t) (tile1 m c t)) (back (hs0_4 m (ok m) t) (tile4 m c t)) = _
  simp only [back_eq]

end Cert.FfnUpUpdate2Ideal.Fwd

namespace Cert.FfnUpUpdate2ReferenceIdeal.Fwd

open Cert.FfnUpUpdate2ReferenceIdeal Cert.FfnUpUpdate2ReferenceIdeal.Gen Cert.FfnUpUpdate2ReferenceIdeal.Value
open Cert.FfnUpUpdate0ReferenceIdeal.Fwd (total sum_apply step_m step_v step_d)

/-- The layers of an array of the weight. -/
abbrev Stack := FVec Ideal S4x704x1024 .f32

variable (a0 : FVec Ideal S8x704x1024 .bf16) (a1 : FVec Ideal S7x704x1024 .bf16) (a2 a3 a4 a5 a6 a7 a8 : Stack)

/-- The layer of an array, read at an index. -/
theorem row (a : Stack) (p : Fin 704) (q : Fin 1024) : (View.ld (Val := Elt Ideal) (e' := .f32) a r0_2) (ix3 0 p q : S1x704x1024.Idx) = a (ix3 2 p q) := by
  pointwise

/-! What the reference writes, at the layer and elsewhere. -/

variable {a0 a1 a2 a3 a4 a5 a6 a7 a8} (z : S4x704x1024.Idx)

section

variable (p : Fin 704) (q : Fin 1024) (z0 : (z 0 : ℕ) = 2) (z1 : (z 1 : ℕ) = p) (z2 : (z 2 : ℕ) = q)
include z0 z1 z2

theorem ref9 : G9 (F := Ideal) a0 a1 a2 a3 a4 a5 a6 a7 a8 z = total a0 a1 p q := by
  unfold G9
  canon_tiles x h
  all_goals try omega
  rw [Update.at_row (x : S1x704x1024.Idx) p q (h1.symm.trans z1) (h2.symm.trans z2)]
  refine Eq.trans ?_ (sum_apply a0 a1 p q)
  pointwise [k0_pay13]
  all_goals rfl

theorem ref10 : G10 (F := Ideal) a0 a1 a2 a3 a4 a5 a6 a7 a8 z = Adam.step (total a0 a1 p q) (a2 (ix3 2 p q)) (a3 (ix3 2 p q)) (a4 (ix3 2 p q)) := by
  unfold G10
  canon_tiles x h
  all_goals try omega
  rw [Update.at_row (x : S1x704x1024.Idx) p q (h1.symm.trans z1) (h2.symm.trans z2)]
  exact (step_d a0 a1 (View.ld (Val := Elt Ideal) (e' := .f32) a2 r0_2) (View.ld (Val := Elt Ideal) (e' := .f32) a3 r0_2) (View.ld (Val := Elt Ideal) (e' := .f32) a4 r0_2) p q).trans (congr (congr (congrArg (Adam.step _) (row a2 p q)) (row a3 p q)) (row a4 p q))

theorem ref11 : G11 (F := Ideal) a0 a1 a2 a3 a4 a5 a6 a7 a8 z = Adam.M (total a0 a1 p q) (a3 (ix3 2 p q)) := by
  unfold G11
  canon_tiles x h
  all_goals try omega
  rw [Update.at_row (x : S1x704x1024.Idx) p q (h1.symm.trans z1) (h2.symm.trans z2)]
  refine Eq.trans ?_ ((step_m a0 a1 (View.ld (Val := Elt Ideal) (e' := .f32) a3 r0_2) p q).trans (congrArg (Adam.M _) (row a3 p q)))
  pointwise [k0_pay21]
  all_goals rfl

theorem ref12 : G12 (F := Ideal) a0 a1 a2 a3 a4 a5 a6 a7 a8 z = Adam.V (total a0 a1 p q) (a4 (ix3 2 p q)) := by
  unfold G12
  canon_tiles x h
  all_goals try omega
  rw [Update.at_row (x : S1x704x1024.Idx) p q (h1.symm.trans z1) (h2.symm.trans z2)]
  refine Eq.trans ?_ ((step_v a0 a1 (View.ld (Val := Elt Ideal) (e' := .f32) a4 r0_2) p q).trans (congrArg (Adam.V _) (row a4 p q)))
  pointwise [k0_pay4]
  all_goals rfl

end

variable (hz : (z 0 : ℕ) ≠ 2)
include hz

theorem keep9 : G9 (F := Ideal) a0 a1 a2 a3 a4 a5 a6 a7 a8 z = a5 z := by
  unfold G9
  canon_tiles x h
  all_goals try omega
  all_goals
    obtain ⟨p, q, rfl⟩ := Update.some_row (x : S1x704x1024.Idx)
    pointwise [k0_pay14, k0_pay12, k0_pay11]
    exact congrArg a5 (Update.ext_row z _ p q h0.symm h1.symm h2.symm)

theorem keep10 : G10 (F := Ideal) a0 a1 a2 a3 a4 a5 a6 a7 a8 z = a6 z := by
  unfold G10
  canon_tiles x h
  all_goals try omega
  all_goals
    obtain ⟨p, q, rfl⟩ := Update.some_row (x : S1x704x1024.Idx)
    pointwise [k0_pay18, k0_pay16, k0_pay15]
    exact congrArg a6 (Update.ext_row z _ p q h0.symm h1.symm h2.symm)

theorem keep11 : G11 (F := Ideal) a0 a1 a2 a3 a4 a5 a6 a7 a8 z = a7 z := by
  unfold G11
  canon_tiles x h
  all_goals try omega
  all_goals
    obtain ⟨p, q, rfl⟩ := Update.some_row (x : S1x704x1024.Idx)
    pointwise [k0_pay1, k0_pay20, k0_pay19]
    exact congrArg a7 (Update.ext_row z _ p q h0.symm h1.symm h2.symm)

theorem keep12 : G12 (F := Ideal) a0 a1 a2 a3 a4 a5 a6 a7 a8 z = a8 z := by
  unfold G12
  canon_tiles x h
  all_goals try omega
  all_goals
    obtain ⟨p, q, rfl⟩ := Update.some_row (x : S1x704x1024.Idx)
    pointwise [k0_pay5, k0_pay3, k0_pay2]
    exact congrArg a8 (Update.ext_row z _ p q h0.symm h1.symm h2.symm)

end Cert.FfnUpUpdate2ReferenceIdeal.Fwd

namespace Cert.FfnUpUpdate2Ideal.Fwd

open Cert.FfnUpUpdate2Ideal Cert.FfnUpUpdate2Ideal.Gen
open Cert.FfnUpUpdate0Ideal.Fwd (total total_apply pay_g pay_m pay_v pay_d)
open Cert.FfnUpUpdate2ReferenceIdeal.Fwd (Stack ref9 ref10 ref11 ref12 keep9 keep10 keep11 keep12)
open Cert.FfnUpUpdate2ReferenceIdeal.Value (G9 G10 G11 G12)

variable (m : (ℓ : Loc nD τ sig) → Buf (Elt Ideal) ℓ)

/-- An element of a tile lies at a row of the array. -/
theorem some3 (t : Fin (cfgM m (ok m)).N) (y : S1x352x1024.Idx) :
    ∃ (i : Fin 352) (q : Fin 1024) (p : Fin 704), y = ix3 0 i q ∧ (p : ℕ) = t.val * 352 + i := by
  have tt : t.val < 2 := t.isLt
  obtain ⟨u, i, q, rfl⟩ : ∃ (u : Fin 1) (i : Fin 352) (q : Fin 1024), y = ix3 u i q := ⟨y 0, y 1, y 2, eq_ix3 y⟩
  obtain rfl : u = 0 := Subsingleton.elim _ _
  exact ⟨i, q, ⟨t.val * 352 + i, by omega⟩, rfl, rfl⟩

/-- A function of the nine arguments, of those of a device. -/
abbrev app {α : Type} (c : Dev nD) (G : FVec Ideal S8x704x1024 .bf16 → FVec Ideal S7x704x1024 .bf16 → Stack → Stack → Stack → Stack → Stack → Stack → Stack → α) : α :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The gradient of a tile is the reference's gradient there. -/
theorem grad (c : Dev nD) (t : Fin (cfgM m (ok m)).N) (i : Fin 352) (q : Fin 1024) (p : Fin 704) (h : (p : ℕ) = t.val * 352 + i) :
    total (tile0 m c t) (tile1 m c t) (ix2 i q) = Cert.FfnUpUpdate0ReferenceIdeal.Fwd.total (m ((c : Thread nD τ).loc main_arg0)) (m ((c : Thread nD τ).loc main_arg1)) p q := by
  refine (total_apply _ _ i q).trans ?_
  have r := read1 m c t i q p h
  exact Ideal.add_congr (Ideal.add_congr (Ideal.add_congr (Ideal.add_congr (Ideal.add_congr (Ideal.add_congr (Ideal.add_congr (read0 m c t i q p h) (r 0)) (r 1)) (r 2)) (r 3)) (r 4)) (r 5)) (r 6)

/-! The arrays after the run are the reference's. -/

theorem final5 (c : Dev nD) : (dats m (ok m) 0 c).arrAt 5 (cfgM m (ok m)).N = app m c (G9 (F := Ideal)) := by
  refine (dats m (ok m) 0 c).arrAt_eq_of_coversWhere_of_agree 5 _ (fun β => β (0 : Fin 3) = 2) (of_decide_eq_true (by sl_kernel_rfl)) (fun t fl y => ?_) (fun j hj => ?_)
  · obtain ⟨i, q, p, rfl, ep⟩ := some3 m t y
    have e := Update.emb ((cfgM m (ok m)).win 5) rfl t (ix3 0 i q : S1x352x1024.Idx) (ix3 2 p q : S4x704x1024.Idx) _ (idx t) fun b => by fin_cases b; exacts [rfl, ep.symm, Nat.zero_add _]
    refine Eq.trans ?_ (congrArg _ e).symm
    refine Eq.trans (congrFun ((after0_5 m (ok m) c t).trans (out5 m c t)) (ix3 0 i q : S1x352x1024.Idx)) ?_
    refine (pay_g _ i q).trans (Eq.trans ?_ (ref9 (ix3 2 p q) p q rfl rfl rfl).symm)
    exact (grad m c t i q p ep)
  · refine Eq.trans ?_ (keep9 j fun h => hj ((Pipeline.Window.cell_apply ((cfgM m (ok m)).win 5) j (0 : Fin 3)).trans ((Nat.div_one _).trans h))).symm
    refine (congrFun (A_eq m (ok m) c 5) _).trans ?_
    show V m c main_v1_0 j = _
    entry_read
    rfl

theorem final6 (c : Dev nD) : (dats m (ok m) 0 c).arrAt 6 (cfgM m (ok m)).N = app m c (G10 (F := Ideal)) := by
  refine (dats m (ok m) 0 c).arrAt_eq_of_coversWhere_of_agree 6 _ (fun β => β (0 : Fin 3) = 2) (of_decide_eq_true (by sl_kernel_rfl)) (fun t fl y => ?_) (fun j hj => ?_)
  · obtain ⟨i, q, p, rfl, ep⟩ := some3 m t y
    have e := Update.emb ((cfgM m (ok m)).win 6) rfl t (ix3 0 i q : S1x352x1024.Idx) (ix3 2 p q : S4x704x1024.Idx) _ (idx t) fun b => by fin_cases b; exacts [rfl, ep.symm, Nat.zero_add _]
    refine Eq.trans ?_ (congrArg _ e).symm
    refine Eq.trans (congrFun ((after0_6 m (ok m) c t).trans (out6 m c t)) (ix3 0 i q : S1x352x1024.Idx)) ?_
    refine (pay_d _ _ _ _ i q).trans (Eq.trans ?_ (ref10 (ix3 2 p q) p q rfl rfl rfl).symm)
    exact congr (congr (congr (congrArg Adam.step (grad m c t i q p ep)) (read2 m c t i q p ep)) (read3 m c t i q p ep)) (read4 m c t i q p ep)
  · refine Eq.trans ?_ (keep10 j fun h => hj ((Pipeline.Window.cell_apply ((cfgM m (ok m)).win 6) j (0 : Fin 3)).trans ((Nat.div_one _).trans h))).symm
    refine (congrFun (A_eq m (ok m) c 6) _).trans ?_
    show V m c main_v1_1 j = _
    entry_read
    rfl

theorem final7 (c : Dev nD) : (dats m (ok m) 0 c).arrAt 7 (cfgM m (ok m)).N = app m c (G11 (F := Ideal)) := by
  refine (dats m (ok m) 0 c).arrAt_eq_of_coversWhere_of_agree 7 _ (fun β => β (0 : Fin 3) = 2) (of_decide_eq_true (by sl_kernel_rfl)) (fun t fl y => ?_) (fun j hj => ?_)
  · obtain ⟨i, q, p, rfl, ep⟩ := some3 m t y
    have e := Update.emb ((cfgM m (ok m)).win 7) rfl t (ix3 0 i q : S1x352x1024.Idx) (ix3 2 p q : S4x704x1024.Idx) _ (idx t) fun b => by fin_cases b; exacts [rfl, ep.symm, Nat.zero_add _]
    refine Eq.trans ?_ (congrArg _ e).symm
    refine Eq.trans (congrFun ((after0_7 m (ok m) c t).trans (out7 m c t)) (ix3 0 i q : S1x352x1024.Idx)) ?_
    refine (pay_m _ _ i q).trans (Eq.trans ?_ (ref11 (ix3 2 p q) p q rfl rfl rfl).symm)
    exact congr (congrArg Adam.M (grad m c t i q p ep)) (read3 m c t i q p ep)
  · refine Eq.trans ?_ (keep11 j fun h => hj ((Pipeline.Window.cell_apply ((cfgM m (ok m)).win 7) j (0 : Fin 3)).trans ((Nat.div_one _).trans h))).symm
    refine (congrFun (A_eq m (ok m) c 7) _).trans ?_
    show V m c main_v1_2 j = _
    entry_read
    rfl

theorem final8 (c : Dev nD) : (dats m (ok m) 0 c).arrAt 8 (cfgM m (ok m)).N = app m c (G12 (F := Ideal)) := by
  refine (dats m (ok m) 0 c).arrAt_eq_of_coversWhere_of_agree 8 _ (fun β => β (0 : Fin 3) = 2) (of_decide_eq_true (by sl_kernel_rfl)) (fun t fl y => ?_) (fun j hj => ?_)
  · obtain ⟨i, q, p, rfl, ep⟩ := some3 m t y
    have e := Update.emb ((cfgM m (ok m)).win 8) rfl t (ix3 0 i q : S1x352x1024.Idx) (ix3 2 p q : S4x704x1024.Idx) _ (idx t) fun b => by fin_cases b; exacts [rfl, ep.symm, Nat.zero_add _]
    refine Eq.trans ?_ (congrArg _ e).symm
    refine Eq.trans (congrFun ((after0_8 m (ok m) c t).trans (out8 m c t)) (ix3 0 i q : S1x352x1024.Idx)) ?_
    refine (pay_v _ _ i q).trans (Eq.trans ?_ (ref12 (ix3 2 p q) p q rfl rfl rfl).symm)
    exact congr (congrArg Adam.V (grad m c t i q p ep)) (read4 m c t i q p ep)
  · refine Eq.trans ?_ (keep12 j fun h => hj ((Pipeline.Window.cell_apply ((cfgM m (ok m)).win 8) j (0 : Fin 3)).trans ((Nat.div_one _).trans h))).symm
    refine (congrFun (A_eq m (ok m) c 8) _).trans ?_
    show V m c main_v1_3 j = _
    entry_read
    rfl

end Cert.FfnUpUpdate2Ideal.Fwd

namespace Cert.Proof

/-- The printed kernel and the idealized one run to their end and leave their arguments as they were. -/
theorem quiescent_FfnUpUpdate2 : quiescent_FfnUpUpdate2 := fun m ρ _ => Cert.FfnUpUpdate2.Gen.frame m ρ (Cert.FfnUpUpdate2.Fwd.ok m)

theorem quiescent_FfnUpUpdate2Ideal : quiescent_FfnUpUpdate2Ideal := fun m ρ _ => Cert.FfnUpUpdate2Ideal.Gen.frame m ρ (Cert.FfnUpUpdate2Ideal.Fwd.ok m)

/-- So does the reference. -/
theorem quiescent_FfnUpUpdate2ReferenceIdeal : quiescent_FfnUpUpdate2ReferenceIdeal := fun m ρ _ => Cert.FfnUpUpdate2ReferenceIdeal.Gen.frame m ρ

/-- The named constants of the kernel have the values they are named for. -/
theorem preserves_FfnUpUpdate2 : preserves_FfnUpUpdate2_FfnUpUpdate2Ideal :=
  ⟨IdealRules.named_const.statement Cert.FfnUpUpdate2Ideal.κ "inv_b1" .f32 0x3FC48605#32 _ rfl,
    IdealRules.named_const.statement Cert.FfnUpUpdate2Ideal.κ "inv_b2" .f32 0x42C8E6D3#32 _ rfl⟩

open Cert.FfnUpUpdate2Ideal Cert.FfnUpUpdate2Ideal.Gen Cert.FfnUpUpdate2Ideal.Fwd in
/-- Kernel and reference end with the same gradient, change and moments of the layer, and keep the other layers. -/
theorem algebraic_FfnUpUpdate2 : algebraic_FfnUpUpdate2Ideal_FfnUpUpdate2ReferenceIdeal := by
  intro m ρ m' ρ' _ hagree
  refine ⟨_, _, _, _, (θ_run _ _ _).mono (fun r h c => ⟨((h.1 c).1 5).trans (final5 m c), ((h.1 c).1 6).trans (final6 m c), ((h.1 c).1 7).trans (final7 m c),
    ((h.1 c).1 8).trans (final8 m c), h.2 c⟩) (θ_run_and (run_main m ρ (ok m)) (unchanged m ρ (ok m))), ?_⟩
  refine (θ_run _ _ _).mono (fun _ h c => ?_) (Cert.FfnUpUpdate2ReferenceIdeal.Value.run (F := Ideal) m' ρ')
  obtain ⟨e0, e1, e2, e3, e4, e5, e6, e7, e8⟩ := hagree c
  refine ⟨(h c).1.trans ?_, (h c).2.1.trans ?_, (h c).2.2.1.trans ?_, (h c).2.2.2.1.trans ?_, (h c).2.2.2.2⟩ <;> rw [app, e0, e1, e2, e3, e4, e5, e6, e7, e8]

end Cert.Proof

end
-- ==== Proof.FfnUpUpdate3.lean ====
module

public import proofs.«01_k».proof.Defs
public import proofs.«01_k».proof.Proof.Gen.FfnUpUpdate3.Frame
public import proofs.«01_k».proof.Proof.Gen.FfnUpUpdate3Ideal.Frame
public import proofs.«01_k».proof.Proof.Gen.FfnUpUpdate3ReferenceIdeal.Value
public import proofs.«01_k».proof.Proof.FfnUpUpdate0

@[expose] public section

set_option maxRecDepth 16384

noncomputable section

open Idealize.ShloMosaic Idealize.ShloMosaic.TcCoe Idealize.SL.Sem

/-! # The update of layer 3 of ffn_w_gu -/

namespace Cert.FfnUpUpdate3.Fwd

open Cert.FfnUpUpdate3 Cert.FfnUpUpdate3.Gen

section

variable {F : FTy → Type} [FloatOps F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

end Cert.FfnUpUpdate3.Fwd

namespace Cert.FfnUpUpdate3Ideal.Fwd

open Cert.FfnUpUpdate3Ideal Cert.FfnUpUpdate3Ideal.Gen

section

variable {F : FTy → Type} [FloatOps F] [Named F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

open Cert.FfnUpUpdate0Ideal.Fwd (newG newD newM newV)

open Update (back back_eq)

variable (m : (ℓ : Loc nD τ sig) → Buf (Elt Ideal) ℓ) (c : Dev nD) (t : Fin (cfgM m (ok m)).N)

/-- Which tile each window reads or writes at a point of the grid. -/
theorem idx0 : ((cfgM m (ok m)).win 0).index t = ![0, t.val, 0] := by
  have e : ∀ t : Fin grid0.N, cc0_transform_0 (F := Ideal) inb_S1_S1_0 numel1_S1 zero (grid0.coords t) = ![0, t.val, 0] := by decide +kernel
  refine Eq.trans ?_ (e t)
  show cc0_transform_0 inb_S1_S1_0 numel1_S1 (tbl m) (grid0.coords t) = _
  rw [table]

theorem idx1 : ∀ t : Fin grid0.N, cc0_transform_1 (grid0.coords t) = ![0, t.val, 0] := by decide +kernel

theorem idx : ∀ t : Fin grid0.N, cc0_transform_2 (grid0.coords t) = ![3, t.val, 0] := by decide +kernel

section

variable (i : Fin 352) (q : Fin 1024) (p : Fin 704) (h : (p : ℕ) = t.val * 352 + i)
include h

/-- The tile of the device's part, read at an index. -/
def tile0 : FVec Ideal S1x352x1024 .bf16 := iblk m (ok m) c 0 t

theorem read0 :
    tile0 m c t (ix3 0 i q) = m ((c : Thread nD τ).loc main_arg0) (ix3 0 p q) :=
  (congrArg (V m c main_arg0) (Update.emb ((cfgM m (ok m)).win 0) rfl t (ix3 0 i q : S1x352x1024.Idx) (ix3 0 p q : S8x704x1024.Idx) _ (idx0 m t)
    fun b => by fin_cases b; exacts [rfl, h.symm, Nat.zero_add _])).trans (congrFun (V_main_arg0 m c) _)

/-- The tile of the other devices' parts, read at an index. -/
def tile1 : FVec Ideal S7x352x1024 .bf16 := iblk m (ok m) c 1 t

theorem read1 (a : Fin 7) :
    tile1 m c t (ix3 a i q) = m ((c : Thread nD τ).loc main_arg1) (ix3 a p q) :=
  (congrArg (V m c main_arg1) (Update.emb ((cfgM m (ok m)).win 1) rfl t (ix3 a i q : S7x352x1024.Idx) (ix3 a p q : S7x704x1024.Idx) _ (idx1 t)
    fun b => by fin_cases b; exacts [Nat.zero_add _, h.symm, Nat.zero_add _])).trans (congrFun (V_main_arg1 m c) _)

/-- The tile of the weights, read at an index. -/
def tile2 : FVec Ideal S1x352x1024 .f32 := iblk m (ok m) c 2 t

theorem read2 :
    tile2 m c t (ix3 0 i q) = m ((c : Thread nD τ).loc main_arg2) (ix3 3 p q) :=
  (congrArg (V m c main_arg2) (Update.emb ((cfgM m (ok m)).win 2) rfl t (ix3 0 i q : S1x352x1024.Idx) (ix3 3 p q : S4x704x1024.Idx) _ (idx t)
    fun b => by fin_cases b; exacts [rfl, h.symm, Nat.zero_add _])).trans (congrFun (V_main_arg2 m c) _)

/-- The tile of the first moment, read at an index. -/
def tile3 : FVec Ideal S1x352x1024 .f32 := iblk m (ok m) c 3 t

theorem read3 :
    tile3 m c t (ix3 0 i q) = m ((c : Thread nD τ).loc main_arg3) (ix3 3 p q) :=
  (congrArg (V m c main_arg3) (Update.emb ((cfgM m (ok m)).win 3) rfl t (ix3 0 i q : S1x352x1024.Idx) (ix3 3 p q : S4x704x1024.Idx) _ (idx t)
    fun b => by fin_cases b; exacts [rfl, h.symm, Nat.zero_add _])).trans (congrFun (V_main_arg3 m c) _)

/-- The tile of the second moment, read at an index. -/
def tile4 : FVec Ideal S1x352x1024 .f32 := iblk m (ok m) c 4 t

theorem read4 :
    tile4 m c t (ix3 0 i q) = m ((c : Thread nD τ).loc main_arg4) (ix3 3 p q) :=
  (congrArg (V m c main_arg4) (Update.emb ((cfgM m (ok m)).win 4) rfl t (ix3 0 i q : S1x352x1024.Idx) (ix3 3 p q : S4x704x1024.Idx) _ (idx t)
    fun b => by fin_cases b; exacts [rfl, h.symm, Nat.zero_add _])).trans (congrFun (V_main_arg4 m c) _)

end

/-! What the outputs hold after a point of the grid. -/

theorem out5 : (outsAt0 m (ok m) c t).1 = newG (tile0 m c t) (tile1 m c t) := by
  unfold outsAt0
  frame_out
  change newG (back (hs0_0 m (ok m) t) (tile0 m c t)) (back (hs0_1 m (ok m) t) (tile1 m c t)) = _
  simp only [back_eq]

theorem out6 : (outsAt0 m (ok m) c t).2.1 = newD (tile0 m c t) (tile1 m c t) (tile2 m c t) (tile3 m c t) (tile4 m c t) := by
  unfold outsAt0
  frame_out
  change newD (back (hs0_0 m (ok m) t) (tile0 m c t)) (back (hs0_1 m (ok m) t) (tile1 m c t)) (back (hs0_2 m (ok m) t) (tile2 m c t)) (back (hs0_3 m (ok m) t) (tile3 m c t)) (back (hs0_4 m (ok m) t) (tile4 m c t)) = _
  simp only [back_eq]

theorem out7 : (outsAt0 m (ok m) c t).2.2.1 = newM (tile0 m c t) (tile1 m c t) (tile3 m c t) := by
  unfold outsAt0
  frame_out
  change newM (back (hs0_0 m (ok m) t) (tile0 m c t)) (back (hs0_1 m (ok m) t) (tile1 m c t)) (back (hs0_3 m (ok m) t) (tile3 m c t)) = _
  simp only [back_eq]

theorem out8 : (outsAt0 m (ok m) c t).2.2.2 = newV (tile0 m c t) (tile1 m c t) (tile4 m c t) := by
  unfold outsAt0
  frame_out
  change newV (back (hs0_0 m (ok m) t) (tile0 m c t)) (back (hs0_1 m (ok m) t) (tile1 m c t)) (back (hs0_4 m (ok m) t) (tile4 m c t)) = _
  simp only [back_eq]

end Cert.FfnUpUpdate3Ideal.Fwd

namespace Cert.FfnUpUpdate3ReferenceIdeal.Fwd

open Cert.FfnUpUpdate3ReferenceIdeal Cert.FfnUpUpdate3ReferenceIdeal.Gen Cert.FfnUpUpdate3ReferenceIdeal.Value
open Cert.FfnUpUpdate0ReferenceIdeal.Fwd (total sum_apply step_m step_v step_d)

/-- The layers of an array of the weight. -/
abbrev Stack := FVec Ideal S4x704x1024 .f32

variable (a0 : FVec Ideal S8x704x1024 .bf16) (a1 : FVec Ideal S7x704x1024 .bf16) (a2 a3 a4 a5 a6 a7 a8 : Stack)

/-- The layer of an array, read at an index. -/
theorem row (a : Stack) (p : Fin 704) (q : Fin 1024) : (View.ld (Val := Elt Ideal) (e' := .f32) a r0_2) (ix3 0 p q : S1x704x1024.Idx) = a (ix3 3 p q) := by
  pointwise

/-! What the reference writes, at the layer and elsewhere. -/

variable {a0 a1 a2 a3 a4 a5 a6 a7 a8} (z : S4x704x1024.Idx)

section

variable (p : Fin 704) (q : Fin 1024) (z0 : (z 0 : ℕ) = 3) (z1 : (z 1 : ℕ) = p) (z2 : (z 2 : ℕ) = q)
include z0 z1 z2

theorem ref9 : G9 (F := Ideal) a0 a1 a2 a3 a4 a5 a6 a7 a8 z = total a0 a1 p q := by
  unfold G9
  canon_tiles x h
  all_goals try omega
  rw [Update.at_row (x : S1x704x1024.Idx) p q (h1.symm.trans z1) (h2.symm.trans z2)]
  refine Eq.trans ?_ (sum_apply a0 a1 p q)
  pointwise [k0_pay15]
  all_goals rfl

theorem ref10 : G10 (F := Ideal) a0 a1 a2 a3 a4 a5 a6 a7 a8 z = Adam.step (total a0 a1 p q) (a2 (ix3 3 p q)) (a3 (ix3 3 p q)) (a4 (ix3 3 p q)) := by
  unfold G10
  canon_tiles x h
  all_goals try omega
  rw [Update.at_row (x : S1x704x1024.Idx) p q (h1.symm.trans z1) (h2.symm.trans z2)]
  exact (step_d a0 a1 (View.ld (Val := Elt Ideal) (e' := .f32) a2 r0_2) (View.ld (Val := Elt Ideal) (e' := .f32) a3 r0_2) (View.ld (Val := Elt Ideal) (e' := .f32) a4 r0_2) p q).trans (congr (congr (congrArg (Adam.step _) (row a2 p q)) (row a3 p q)) (row a4 p q))

theorem ref11 : G11 (F := Ideal) a0 a1 a2 a3 a4 a5 a6 a7 a8 z = Adam.M (total a0 a1 p q) (a3 (ix3 3 p q)) := by
  unfold G11
  canon_tiles x h
  all_goals try omega
  rw [Update.at_row (x : S1x704x1024.Idx) p q (h1.symm.trans z1) (h2.symm.trans z2)]
  refine Eq.trans ?_ ((step_m a0 a1 (View.ld (Val := Elt Ideal) (e' := .f32) a3 r0_2) p q).trans (congrArg (Adam.M _) (row a3 p q)))
  pointwise [k0_pay2]
  all_goals rfl

theorem ref12 : G12 (F := Ideal) a0 a1 a2 a3 a4 a5 a6 a7 a8 z = Adam.V (total a0 a1 p q) (a4 (ix3 3 p q)) := by
  unfold G12
  canon_tiles x h
  all_goals try omega
  rw [Update.at_row (x : S1x704x1024.Idx) p q (h1.symm.trans z1) (h2.symm.trans z2)]
  refine Eq.trans ?_ ((step_v a0 a1 (View.ld (Val := Elt Ideal) (e' := .f32) a4 r0_2) p q).trans (congrArg (Adam.V _) (row a4 p q)))
  pointwise [k0_pay6]
  all_goals rfl

end

variable (hz : (z 0 : ℕ) ≠ 3)
include hz

theorem keep9 : G9 (F := Ideal) a0 a1 a2 a3 a4 a5 a6 a7 a8 z = a5 z := by
  unfold G9
  canon_tiles x h
  all_goals try omega
  all_goals
    obtain ⟨p, q, rfl⟩ := Update.some_row (x : S1x704x1024.Idx)
    pointwise [k0_pay14, k0_pay13, k0_pay12]
    exact congrArg a5 (Update.ext_row z _ p q h0.symm h1.symm h2.symm)

theorem keep10 : G10 (F := Ideal) a0 a1 a2 a3 a4 a5 a6 a7 a8 z = a6 z := by
  unfold G10
  canon_tiles x h
  all_goals try omega
  all_goals
    obtain ⟨p, q, rfl⟩ := Update.some_row (x : S1x704x1024.Idx)
    pointwise [k0_pay18, k0_pay17, k0_pay16]
    exact congrArg a6 (Update.ext_row z _ p q h0.symm h1.symm h2.symm)

theorem keep11 : G11 (F := Ideal) a0 a1 a2 a3 a4 a5 a6 a7 a8 z = a7 z := by
  unfold G11
  canon_tiles x h
  all_goals try omega
  all_goals
    obtain ⟨p, q, rfl⟩ := Update.some_row (x : S1x704x1024.Idx)
    pointwise [k0_pay1, k0_pay22, k0_pay21, k0_pay20]
    exact congrArg a7 (Update.ext_row z _ p q h0.symm h1.symm h2.symm)

theorem keep12 : G12 (F := Ideal) a0 a1 a2 a3 a4 a5 a6 a7 a8 z = a8 z := by
  unfold G12
  canon_tiles x h
  all_goals try omega
  all_goals
    obtain ⟨p, q, rfl⟩ := Update.some_row (x : S1x704x1024.Idx)
    pointwise [k0_pay5, k0_pay4, k0_pay3]
    exact congrArg a8 (Update.ext_row z _ p q h0.symm h1.symm h2.symm)

end Cert.FfnUpUpdate3ReferenceIdeal.Fwd

namespace Cert.FfnUpUpdate3Ideal.Fwd

open Cert.FfnUpUpdate3Ideal Cert.FfnUpUpdate3Ideal.Gen
open Cert.FfnUpUpdate0Ideal.Fwd (total total_apply pay_g pay_m pay_v pay_d)
open Cert.FfnUpUpdate3ReferenceIdeal.Fwd (Stack ref9 ref10 ref11 ref12 keep9 keep10 keep11 keep12)
open Cert.FfnUpUpdate3ReferenceIdeal.Value (G9 G10 G11 G12)

variable (m : (ℓ : Loc nD τ sig) → Buf (Elt Ideal) ℓ)

/-- An element of a tile lies at a row of the array. -/
theorem some3 (t : Fin (cfgM m (ok m)).N) (y : S1x352x1024.Idx) :
    ∃ (i : Fin 352) (q : Fin 1024) (p : Fin 704), y = ix3 0 i q ∧ (p : ℕ) = t.val * 352 + i := by
  have tt : t.val < 2 := t.isLt
  obtain ⟨u, i, q, rfl⟩ : ∃ (u : Fin 1) (i : Fin 352) (q : Fin 1024), y = ix3 u i q := ⟨y 0, y 1, y 2, eq_ix3 y⟩
  obtain rfl : u = 0 := Subsingleton.elim _ _
  exact ⟨i, q, ⟨t.val * 352 + i, by omega⟩, rfl, rfl⟩

/-- A function of the nine arguments, of those of a device. -/
abbrev app {α : Type} (c : Dev nD) (G : FVec Ideal S8x704x1024 .bf16 → FVec Ideal S7x704x1024 .bf16 → Stack → Stack → Stack → Stack → Stack → Stack → Stack → α) : α :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The gradient of a tile is the reference's gradient there. -/
theorem grad (c : Dev nD) (t : Fin (cfgM m (ok m)).N) (i : Fin 352) (q : Fin 1024) (p : Fin 704) (h : (p : ℕ) = t.val * 352 + i) :
    total (tile0 m c t) (tile1 m c t) (ix2 i q) = Cert.FfnUpUpdate0ReferenceIdeal.Fwd.total (m ((c : Thread nD τ).loc main_arg0)) (m ((c : Thread nD τ).loc main_arg1)) p q := by
  refine (total_apply _ _ i q).trans ?_
  have r := read1 m c t i q p h
  exact Ideal.add_congr (Ideal.add_congr (Ideal.add_congr (Ideal.add_congr (Ideal.add_congr (Ideal.add_congr (Ideal.add_congr (read0 m c t i q p h) (r 0)) (r 1)) (r 2)) (r 3)) (r 4)) (r 5)) (r 6)

/-! The arrays after the run are the reference's. -/

theorem final5 (c : Dev nD) : (dats m (ok m) 0 c).arrAt 5 (cfgM m (ok m)).N = app m c (G9 (F := Ideal)) := by
  refine (dats m (ok m) 0 c).arrAt_eq_of_coversWhere_of_agree 5 _ (fun β => β (0 : Fin 3) = 3) (of_decide_eq_true (by sl_kernel_rfl)) (fun t fl y => ?_) (fun j hj => ?_)
  · obtain ⟨i, q, p, rfl, ep⟩ := some3 m t y
    have e := Update.emb ((cfgM m (ok m)).win 5) rfl t (ix3 0 i q : S1x352x1024.Idx) (ix3 3 p q : S4x704x1024.Idx) _ (idx t) fun b => by fin_cases b; exacts [rfl, ep.symm, Nat.zero_add _]
    refine Eq.trans ?_ (congrArg _ e).symm
    refine Eq.trans (congrFun ((after0_5 m (ok m) c t).trans (out5 m c t)) (ix3 0 i q : S1x352x1024.Idx)) ?_
    refine (pay_g _ i q).trans (Eq.trans ?_ (ref9 (ix3 3 p q) p q rfl rfl rfl).symm)
    exact (grad m c t i q p ep)
  · refine Eq.trans ?_ (keep9 j fun h => hj ((Pipeline.Window.cell_apply ((cfgM m (ok m)).win 5) j (0 : Fin 3)).trans ((Nat.div_one _).trans h))).symm
    refine (congrFun (A_eq m (ok m) c 5) _).trans ?_
    show V m c main_v1_0 j = _
    entry_read
    rfl

theorem final6 (c : Dev nD) : (dats m (ok m) 0 c).arrAt 6 (cfgM m (ok m)).N = app m c (G10 (F := Ideal)) := by
  refine (dats m (ok m) 0 c).arrAt_eq_of_coversWhere_of_agree 6 _ (fun β => β (0 : Fin 3) = 3) (of_decide_eq_true (by sl_kernel_rfl)) (fun t fl y => ?_) (fun j hj => ?_)
  · obtain ⟨i, q, p, rfl, ep⟩ := some3 m t y
    have e := Update.emb ((cfgM m (ok m)).win 6) rfl t (ix3 0 i q : S1x352x1024.Idx) (ix3 3 p q : S4x704x1024.Idx) _ (idx t) fun b => by fin_cases b; exacts [rfl, ep.symm, Nat.zero_add _]
    refine Eq.trans ?_ (congrArg _ e).symm
    refine Eq.trans (congrFun ((after0_6 m (ok m) c t).trans (out6 m c t)) (ix3 0 i q : S1x352x1024.Idx)) ?_
    refine (pay_d _ _ _ _ i q).trans (Eq.trans ?_ (ref10 (ix3 3 p q) p q rfl rfl rfl).symm)
    exact congr (congr (congr (congrArg Adam.step (grad m c t i q p ep)) (read2 m c t i q p ep)) (read3 m c t i q p ep)) (read4 m c t i q p ep)
  · refine Eq.trans ?_ (keep10 j fun h => hj ((Pipeline.Window.cell_apply ((cfgM m (ok m)).win 6) j (0 : Fin 3)).trans ((Nat.div_one _).trans h))).symm
    refine (congrFun (A_eq m (ok m) c 6) _).trans ?_
    show V m c main_v1_1 j = _
    entry_read
    rfl

theorem final7 (c : Dev nD) : (dats m (ok m) 0 c).arrAt 7 (cfgM m (ok m)).N = app m c (G11 (F := Ideal)) := by
  refine (dats m (ok m) 0 c).arrAt_eq_of_coversWhere_of_agree 7 _ (fun β => β (0 : Fin 3) = 3) (of_decide_eq_true (by sl_kernel_rfl)) (fun t fl y => ?_) (fun j hj => ?_)
  · obtain ⟨i, q, p, rfl, ep⟩ := some3 m t y
    have e := Update.emb ((cfgM m (ok m)).win 7) rfl t (ix3 0 i q : S1x352x1024.Idx) (ix3 3 p q : S4x704x1024.Idx) _ (idx t) fun b => by fin_cases b; exacts [rfl, ep.symm, Nat.zero_add _]
    refine Eq.trans ?_ (congrArg _ e).symm
    refine Eq.trans (congrFun ((after0_7 m (ok m) c t).trans (out7 m c t)) (ix3 0 i q : S1x352x1024.Idx)) ?_
    refine (pay_m _ _ i q).trans (Eq.trans ?_ (ref11 (ix3 3 p q) p q rfl rfl rfl).symm)
    exact congr (congrArg Adam.M (grad m c t i q p ep)) (read3 m c t i q p ep)
  · refine Eq.trans ?_ (keep11 j fun h => hj ((Pipeline.Window.cell_apply ((cfgM m (ok m)).win 7) j (0 : Fin 3)).trans ((Nat.div_one _).trans h))).symm
    refine (congrFun (A_eq m (ok m) c 7) _).trans ?_
    show V m c main_v1_2 j = _
    entry_read
    rfl

theorem final8 (c : Dev nD) : (dats m (ok m) 0 c).arrAt 8 (cfgM m (ok m)).N = app m c (G12 (F := Ideal)) := by
  refine (dats m (ok m) 0 c).arrAt_eq_of_coversWhere_of_agree 8 _ (fun β => β (0 : Fin 3) = 3) (of_decide_eq_true (by sl_kernel_rfl)) (fun t fl y => ?_) (fun j hj => ?_)
  · obtain ⟨i, q, p, rfl, ep⟩ := some3 m t y
    have e := Update.emb ((cfgM m (ok m)).win 8) rfl t (ix3 0 i q : S1x352x1024.Idx) (ix3 3 p q : S4x704x1024.Idx) _ (idx t) fun b => by fin_cases b; exacts [rfl, ep.symm, Nat.zero_add _]
    refine Eq.trans ?_ (congrArg _ e).symm
    refine Eq.trans (congrFun ((after0_8 m (ok m) c t).trans (out8 m c t)) (ix3 0 i q : S1x352x1024.Idx)) ?_
    refine (pay_v _ _ i q).trans (Eq.trans ?_ (ref12 (ix3 3 p q) p q rfl rfl rfl).symm)
    exact congr (congrArg Adam.V (grad m c t i q p ep)) (read4 m c t i q p ep)
  · refine Eq.trans ?_ (keep12 j fun h => hj ((Pipeline.Window.cell_apply ((cfgM m (ok m)).win 8) j (0 : Fin 3)).trans ((Nat.div_one _).trans h))).symm
    refine (congrFun (A_eq m (ok m) c 8) _).trans ?_
    show V m c main_v1_3 j = _
    entry_read
    rfl

end Cert.FfnUpUpdate3Ideal.Fwd

namespace Cert.Proof

/-- The printed kernel and the idealized one run to their end and leave their arguments as they were. -/
theorem quiescent_FfnUpUpdate3 : quiescent_FfnUpUpdate3 := fun m ρ _ => Cert.FfnUpUpdate3.Gen.frame m ρ (Cert.FfnUpUpdate3.Fwd.ok m)

theorem quiescent_FfnUpUpdate3Ideal : quiescent_FfnUpUpdate3Ideal := fun m ρ _ => Cert.FfnUpUpdate3Ideal.Gen.frame m ρ (Cert.FfnUpUpdate3Ideal.Fwd.ok m)

/-- So does the reference. -/
theorem quiescent_FfnUpUpdate3ReferenceIdeal : quiescent_FfnUpUpdate3ReferenceIdeal := fun m ρ _ => Cert.FfnUpUpdate3ReferenceIdeal.Gen.frame m ρ

/-- The named constants of the kernel have the values they are named for. -/
theorem preserves_FfnUpUpdate3 : preserves_FfnUpUpdate3_FfnUpUpdate3Ideal :=
  ⟨IdealRules.named_const.statement Cert.FfnUpUpdate3Ideal.κ "inv_b1" .f32 0x3FC48605#32 _ rfl,
    IdealRules.named_const.statement Cert.FfnUpUpdate3Ideal.κ "inv_b2" .f32 0x42C8E6D3#32 _ rfl⟩

open Cert.FfnUpUpdate3Ideal Cert.FfnUpUpdate3Ideal.Gen Cert.FfnUpUpdate3Ideal.Fwd in
/-- Kernel and reference end with the same gradient, change and moments of the layer, and keep the other layers. -/
theorem algebraic_FfnUpUpdate3 : algebraic_FfnUpUpdate3Ideal_FfnUpUpdate3ReferenceIdeal := by
  intro m ρ m' ρ' _ hagree
  refine ⟨_, _, _, _, (θ_run _ _ _).mono (fun r h c => ⟨((h.1 c).1 5).trans (final5 m c), ((h.1 c).1 6).trans (final6 m c), ((h.1 c).1 7).trans (final7 m c),
    ((h.1 c).1 8).trans (final8 m c), h.2 c⟩) (θ_run_and (run_main m ρ (ok m)) (unchanged m ρ (ok m))), ?_⟩
  refine (θ_run _ _ _).mono (fun _ h c => ?_) (Cert.FfnUpUpdate3ReferenceIdeal.Value.run (F := Ideal) m' ρ')
  obtain ⟨e0, e1, e2, e3, e4, e5, e6, e7, e8⟩ := hagree c
  refine ⟨(h c).1.trans ?_, (h c).2.1.trans ?_, (h c).2.2.1.trans ?_, (h c).2.2.2.1.trans ?_, (h c).2.2.2.2⟩ <;> rw [app, e0, e1, e2, e3, e4, e5, e6, e7, e8]

end Cert.Proof

end
-- ==== Proof.FfnDownUpdate0.lean ====
module

public import proofs.«01_k».proof.Defs
public import proofs.«01_k».proof.Proof.Gen.FfnDownUpdate0.Frame
public import proofs.«01_k».proof.Proof.Gen.FfnDownUpdate0Ideal.Frame
public import proofs.«01_k».proof.Proof.Gen.FfnDownUpdate0ReferenceIdeal.Value
public import proofs.«01_k».proof.Proof.Update

@[expose] public section

set_option maxRecDepth 16384

noncomputable section

open Idealize.ShloMosaic Idealize.ShloMosaic.TcCoe Idealize.SL.Sem

/-! # The update of layer 0 of ffn_w_down -/

namespace Cert.FfnDownUpdate0.Fwd

open Cert.FfnDownUpdate0 Cert.FfnDownUpdate0.Gen

section

variable {F : FTy → Type} [FloatOps F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

end Cert.FfnDownUpdate0.Fwd

namespace Cert.FfnDownUpdate0Ideal.Fwd

open Cert.FfnDownUpdate0Ideal Cert.FfnDownUpdate0Ideal.Gen

section

variable {F : FTy → Type} [FloatOps F] [Named F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

/-- The value of a named constant. -/
theorem inv1 : Named.named (F := Ideal) Cert.FfnDownUpdate0Ideal.κ "inv_b1" (φ := .f32) 0x3FC48605#32 = ((((Adam.B1)⁻¹ : ℝ) : EReal)) :=
  IdealRules.named_const.ideal_named_scalar _ _ _ _ rfl

/-- The value of a named constant. -/
theorem inv2 : Named.named (F := Ideal) Cert.FfnDownUpdate0Ideal.κ "inv_b2" (φ := .f32) 0x42C8E6D3#32 = ((((Adam.B2)⁻¹ : ℝ) : EReal)) :=
  IdealRules.named_const.ideal_named_scalar _ _ _ _ rfl

/-- The value of a named constant. -/
theorem cor1 : Named.named (F := Ideal) Cert.FfnDownUpdate0ReferenceIdeal.κ "b1" (φ := .f32) 0x3F26BD02#32 = ((((Adam.B1) : ℝ) : EReal)) :=
  IdealRules.named_const.ideal_named_scalar _ _ _ _ rfl

/-- The value of a named constant. -/
theorem cor2 : Named.named (F := Ideal) Cert.FfnDownUpdate0ReferenceIdeal.κ "b2" (φ := .f32) 0x3C231ACC#32 = ((((Adam.B2) : ℝ) : EReal)) :=
  IdealRules.named_const.ideal_named_scalar _ _ _ _ rfl

open Update (back back_eq)

variable (m : (ℓ : Loc nD τ sig) → Buf (Elt Ideal) ℓ) (c : Dev nD) (t : Fin (cfgM m (ok m)).N)

/-- Which tile each window reads or writes at a point of the grid. -/
theorem idx0 : ((cfgM m (ok m)).win 0).index t = ![0, t.val, 0] := by
  have e : ∀ t : Fin grid0.N, cc0_transform_0 (F := Ideal) inb_S1_S1_0 numel1_S1 zero (grid0.coords t) = ![0, t.val, 0] := by decide +kernel
  refine Eq.trans ?_ (e t)
  show cc0_transform_0 inb_S1_S1_0 numel1_S1 (tbl m) (grid0.coords t) = _
  rw [table]

theorem idx1 : ∀ t : Fin grid0.N, cc0_transform_1 (grid0.coords t) = ![0, t.val, 0] := by decide +kernel

theorem idx : ∀ t : Fin grid0.N, cc0_transform_2 (grid0.coords t) = ![0, t.val, 0] := by decide +kernel

section

variable (i : Fin 176) (q : Fin 1024) (p : Fin 352) (h : (p : ℕ) = t.val * 176 + i)
include h

/-- The tile of the device's part, read at an index. -/
def tile0 : FVec Ideal S1x176x1024 .bf16 := iblk m (ok m) c 0 t

theorem read0 :
    tile0 m c t (ix3 0 i q) = m ((c : Thread nD τ).loc main_arg0) (ix3 0 p q) :=
  (congrArg (V m c main_arg0) (Update.emb ((cfgM m (ok m)).win 0) rfl t (ix3 0 i q : S1x176x1024.Idx) (ix3 0 p q : S8x352x1024.Idx) _ (idx0 m t)
    fun b => by fin_cases b; exacts [rfl, h.symm, Nat.zero_add _])).trans (congrFun (V_main_arg0 m c) _)

/-- The tile of the other devices' parts, read at an index. -/
def tile1 : FVec Ideal S7x176x1024 .bf16 := iblk m (ok m) c 1 t

theorem read1 (a : Fin 7) :
    tile1 m c t (ix3 a i q) = m ((c : Thread nD τ).loc main_arg1) (ix3 a p q) :=
  (congrArg (V m c main_arg1) (Update.emb ((cfgM m (ok m)).win 1) rfl t (ix3 a i q : S7x176x1024.Idx) (ix3 a p q : S7x352x1024.Idx) _ (idx1 t)
    fun b => by fin_cases b; exacts [Nat.zero_add _, h.symm, Nat.zero_add _])).trans (congrFun (V_main_arg1 m c) _)

/-- The tile of the weights, read at an index. -/
def tile2 : FVec Ideal S1x176x1024 .f32 := iblk m (ok m) c 2 t

theorem read2 :
    tile2 m c t (ix3 0 i q) = m ((c : Thread nD τ).loc main_arg2) (ix3 0 p q) :=
  (congrArg (V m c main_arg2) (Update.emb ((cfgM m (ok m)).win 2) rfl t (ix3 0 i q : S1x176x1024.Idx) (ix3 0 p q : S4x352x1024.Idx) _ (idx t)
    fun b => by fin_cases b; exacts [rfl, h.symm, Nat.zero_add _])).trans (congrFun (V_main_arg2 m c) _)

/-- The tile of the first moment, read at an index. -/
def tile3 : FVec Ideal S1x176x1024 .f32 := iblk m (ok m) c 3 t

theorem read3 :
    tile3 m c t (ix3 0 i q) = m ((c : Thread nD τ).loc main_arg3) (ix3 0 p q) :=
  (congrArg (V m c main_arg3) (Update.emb ((cfgM m (ok m)).win 3) rfl t (ix3 0 i q : S1x176x1024.Idx) (ix3 0 p q : S4x352x1024.Idx) _ (idx t)
    fun b => by fin_cases b; exacts [rfl, h.symm, Nat.zero_add _])).trans (congrFun (V_main_arg3 m c) _)

/-- The tile of the second moment, read at an index. -/
def tile4 : FVec Ideal S1x176x1024 .f32 := iblk m (ok m) c 4 t

theorem read4 :
    tile4 m c t (ix3 0 i q) = m ((c : Thread nD τ).loc main_arg4) (ix3 0 p q) :=
  (congrArg (V m c main_arg4) (Update.emb ((cfgM m (ok m)).win 4) rfl t (ix3 0 i q : S1x176x1024.Idx) (ix3 0 p q : S4x352x1024.Idx) _ (idx t)
    fun b => by fin_cases b; exacts [rfl, h.symm, Nat.zero_add _])).trans (congrFun (V_main_arg4 m c) _)

end

/-- The layer `k` of a tile. -/
def lay (L : FVec Ideal S7x176x1024 .bf16) (k : ℕ) (h : ∀ a, (![k, 0, 0] : Fin 3 → Nat) a + S1x176x1024.size a ≤ S7x176x1024.size a) : FVec Ideal S1x176x1024 .bf16 :=
  View.ld (Val := Elt Ideal) (e' := .bf16) L (Rect.unit (s := S7x176x1024) ![k, 0, 0] S1x176x1024.size h)

/-- The sum over the devices of a tile. -/
def total (P : FVec Ideal S1x176x1024 .bf16) (L : FVec Ideal S7x176x1024 .bf16) : FVec Ideal S176x1024 .f32 :=
  k0_pay3 P (lay L 0 inb_S7x176x1024_S1x176x1024_0_0_0) (lay L 1 inb_S7x176x1024_S1x176x1024_1_0_0) (lay L 2 inb_S7x176x1024_S1x176x1024_2_0_0) (lay L 3 inb_S7x176x1024_S1x176x1024_3_0_0) (lay L 4 inb_S7x176x1024_S1x176x1024_4_0_0) (lay L 5 inb_S7x176x1024_S1x176x1024_5_0_0) (lay L 6 inb_S7x176x1024_S1x176x1024_6_0_0)

theorem total_apply (P : FVec Ideal S1x176x1024 .bf16) (L : FVec Ideal S7x176x1024 .bf16) (i : Fin 176) (q : Fin 1024) :
    total P L (ix2 i q) = (P (ix3 0 i q) : EReal) + L (ix3 0 i q) + L (ix3 1 i q) + L (ix3 2 i q) + L (ix3 3 i q) + L (ix3 4 i q) + L (ix3 5 i q) + L (ix3 6 i q) := by
  unfold total
  pointwise [k0_pay3, lay]

/-- The tiles the kernel writes, read at an index. -/
theorem pay_g (G : FVec Ideal S176x1024 .f32) (i : Fin 176) (q : Fin 1024) : k0_pay6 G (ix3 0 i q) = G (ix2 i q) := by
  pointwise [k0_pay6]

theorem pay_m (G : FVec Ideal S176x1024 .f32) (M : FVec Ideal S1x176x1024 .f32) (i : Fin 176) (q : Fin 1024) :
    k0_pay1 (k0_pay4 G M) (ix3 0 i q) = Adam.M (G (ix2 i q)) (M (ix3 0 i q)) := by
  unfold Adam.M
  pointwise [k0_pay1, k0_pay4]

theorem pay_v (G : FVec Ideal S176x1024 .f32) (V : FVec Ideal S1x176x1024 .f32) (i : Fin 176) (q : Fin 1024) :
    k0_pay2 (k0_pay5 G V) (ix3 0 i q) = Adam.V (G (ix2 i q)) (V (ix3 0 i q)) := by
  unfold Adam.V
  pointwise [k0_pay2, k0_pay5]

theorem pay_d (G : FVec Ideal S176x1024 .f32) (W M V : FVec Ideal S1x176x1024 .f32) (i : Fin 176) (q : Fin 1024) :
    k0_pay7 G W M V (ix3 0 i q) = Adam.step (G (ix2 i q)) (W (ix3 0 i q)) (M (ix3 0 i q)) (V (ix3 0 i q)) := by
  rw [← Adam.kernelStep_eq]
  unfold Adam.kernelStep Adam.D Adam.M Adam.V
  rw [← inv1, ← inv2]
  pointwise [k0_pay7, k0_pay4, k0_pay5]

/-- The tiles the kernel writes: the gradient, the change and the moments. -/
abbrev newG (P : FVec Ideal S1x176x1024 .bf16) (L : FVec Ideal S7x176x1024 .bf16) : FVec Ideal S1x176x1024 .f32 := k0_pay6 (total P L)

abbrev newD (P : FVec Ideal S1x176x1024 .bf16) (L : FVec Ideal S7x176x1024 .bf16) (W M V : FVec Ideal S1x176x1024 .f32) : FVec Ideal S1x176x1024 .f32 := k0_pay7 (total P L) W M V

abbrev newM (P : FVec Ideal S1x176x1024 .bf16) (L : FVec Ideal S7x176x1024 .bf16) (M : FVec Ideal S1x176x1024 .f32) : FVec Ideal S1x176x1024 .f32 := k0_pay1 (k0_pay4 (total P L) M)

abbrev newV (P : FVec Ideal S1x176x1024 .bf16) (L : FVec Ideal S7x176x1024 .bf16) (V : FVec Ideal S1x176x1024 .f32) : FVec Ideal S1x176x1024 .f32 := k0_pay2 (k0_pay5 (total P L) V)

/-! What the outputs hold after a point of the grid. -/

theorem out5 : (outsAt0 m (ok m) c t).1 = newG (tile0 m c t) (tile1 m c t) := by
  unfold outsAt0
  frame_out
  change newG (back (hs0_0 m (ok m) t) (tile0 m c t)) (back (hs0_1 m (ok m) t) (tile1 m c t)) = _
  simp only [back_eq]

theorem out6 : (outsAt0 m (ok m) c t).2.1 = newD (tile0 m c t) (tile1 m c t) (tile2 m c t) (tile3 m c t) (tile4 m c t) := by
  unfold outsAt0
  frame_out
  change newD (back (hs0_0 m (ok m) t) (tile0 m c t)) (back (hs0_1 m (ok m) t) (tile1 m c t)) (back (hs0_2 m (ok m) t) (tile2 m c t)) (back (hs0_3 m (ok m) t) (tile3 m c t)) (back (hs0_4 m (ok m) t) (tile4 m c t)) = _
  simp only [back_eq]

theorem out7 : (outsAt0 m (ok m) c t).2.2.1 = newM (tile0 m c t) (tile1 m c t) (tile3 m c t) := by
  unfold outsAt0
  frame_out
  change newM (back (hs0_0 m (ok m) t) (tile0 m c t)) (back (hs0_1 m (ok m) t) (tile1 m c t)) (back (hs0_3 m (ok m) t) (tile3 m c t)) = _
  simp only [back_eq]

theorem out8 : (outsAt0 m (ok m) c t).2.2.2 = newV (tile0 m c t) (tile1 m c t) (tile4 m c t) := by
  unfold outsAt0
  frame_out
  change newV (back (hs0_0 m (ok m) t) (tile0 m c t)) (back (hs0_1 m (ok m) t) (tile1 m c t)) (back (hs0_4 m (ok m) t) (tile4 m c t)) = _
  simp only [back_eq]

end Cert.FfnDownUpdate0Ideal.Fwd

namespace Cert.FfnDownUpdate0ReferenceIdeal.Fwd

open Cert.FfnDownUpdate0ReferenceIdeal Cert.FfnDownUpdate0ReferenceIdeal.Gen Cert.FfnDownUpdate0ReferenceIdeal.Value

/-- The layers of an array of the weight. -/
abbrev Stack := FVec Ideal S4x352x1024 .f32

variable (a0 : FVec Ideal S8x352x1024 .bf16) (a1 : FVec Ideal S7x352x1024 .bf16) (a2 a3 a4 a5 a6 a7 a8 : Stack)

/-- The sum over the devices. -/
def total (p : Fin 352) (q : Fin 1024) : EReal :=
  (a0 (ix3 0 p q) : EReal) + a1 (ix3 0 p q) + a1 (ix3 1 p q) + a1 (ix3 2 p q) + a1 (ix3 3 p q) + a1 (ix3 4 p q) + a1 (ix3 5 p q) + a1 (ix3 6 p q)

theorem sum_apply (p : Fin 352) (q : Fin 1024) :
    k0_pay6 (F := Ideal) (View.ld (Val := Elt Ideal) (e' := .f32) a0 r0_0) a1 (ix2 p q) = total a0 a1 p q := by
  pointwise [k0_pay6]
  refine (congrArg (_ + ·) (Fin.sum_univ_seven _)).trans ?_
  unfold total
  simp only [add_assoc]

/-! The steps, read at an index. -/

theorem step_m (M : FVec Ideal S1x352x1024 .f32) (p : Fin 352) (q : Fin 1024) :
    k0_pay7 (F := Ideal) (View.ld (Val := Elt Ideal) (e' := .f32) a0 r0_0) a1 M (ix2 p q) = Adam.M (total a0 a1 p q) (M (ix3 0 p q)) := by
  rw [← sum_apply]
  unfold Adam.M
  pointwise [k0_pay7]

theorem step_v (V : FVec Ideal S1x352x1024 .f32) (p : Fin 352) (q : Fin 1024) :
    k0_pay8 (F := Ideal) (View.ld (Val := Elt Ideal) (e' := .f32) a0 r0_0) a1 V (ix2 p q) = Adam.V (total a0 a1 p q) (V (ix3 0 p q)) := by
  rw [← sum_apply]
  unfold Adam.V
  pointwise [k0_pay8]

theorem step_d (W M V : FVec Ideal S1x352x1024 .f32) (p : Fin 352) (q : Fin 1024) :
    (k0_pay14 (k0_pay9 (View.ld (Val := Elt Ideal) a0 r0_0) a1 W M V) (Scalar.ofBits .f32 0xBA83126F#32) : FVec Ideal S1x352x1024 .f32) (ix3 0 p q) = Adam.step (total a0 a1 p q) (W (ix3 0 p q)) (M (ix3 0 p q)) (V (ix3 0 p q)) := by
  unfold Adam.step
  rw [← Cert.FfnDownUpdate0Ideal.Fwd.cor1, ← Cert.FfnDownUpdate0Ideal.Fwd.cor2, ← step_m, ← step_v]
  unfold Adam.D
  pointwise [k0_pay14, k0_pay9]

/-- The layer of an array, read at an index. -/
theorem row (a : Stack) (p : Fin 352) (q : Fin 1024) : (View.ld (Val := Elt Ideal) (e' := .f32) a r0_2) (ix3 0 p q : S1x352x1024.Idx) = a (ix3 0 p q) := by
  pointwise

/-! What the reference writes, at the layer and elsewhere. -/

variable {a0 a1 a2 a3 a4 a5 a6 a7 a8} (z : S4x352x1024.Idx)

section

variable (p : Fin 352) (q : Fin 1024) (z0 : (z 0 : ℕ) = 0) (z1 : (z 1 : ℕ) = p) (z2 : (z 2 : ℕ) = q)
include z0 z1 z2

theorem ref9 : G9 (F := Ideal) a0 a1 a2 a3 a4 a5 a6 a7 a8 z = total a0 a1 p q := by
  unfold G9
  canon_tiles x h
  all_goals try omega
  rw [Update.at_row (x : S1x352x1024.Idx) p q (h1.symm.trans z1) (h2.symm.trans z2)]
  refine Eq.trans ?_ (sum_apply a0 a1 p q)
  pointwise [k0_pay10]

theorem ref10 : G10 (F := Ideal) a0 a1 a2 a3 a4 a5 a6 a7 a8 z = Adam.step (total a0 a1 p q) (a2 (ix3 0 p q)) (a3 (ix3 0 p q)) (a4 (ix3 0 p q)) := by
  unfold G10
  canon_tiles x h
  all_goals try omega
  rw [Update.at_row (x : S1x352x1024.Idx) p q (h1.symm.trans z1) (h2.symm.trans z2)]
  exact (step_d a0 a1 (View.ld (Val := Elt Ideal) (e' := .f32) a2 r0_2) (View.ld (Val := Elt Ideal) (e' := .f32) a3 r0_2) (View.ld (Val := Elt Ideal) (e' := .f32) a4 r0_2) p q).trans (congr (congr (congrArg (Adam.step _) (row a2 p q)) (row a3 p q)) (row a4 p q))

theorem ref11 : G11 (F := Ideal) a0 a1 a2 a3 a4 a5 a6 a7 a8 z = Adam.M (total a0 a1 p q) (a3 (ix3 0 p q)) := by
  unfold G11
  canon_tiles x h
  all_goals try omega
  rw [Update.at_row (x : S1x352x1024.Idx) p q (h1.symm.trans z1) (h2.symm.trans z2)]
  refine Eq.trans ?_ ((step_m a0 a1 (View.ld (Val := Elt Ideal) (e' := .f32) a3 r0_2) p q).trans (congrArg (Adam.M _) (row a3 p q)))
  pointwise [k0_pay19]

theorem ref12 : G12 (F := Ideal) a0 a1 a2 a3 a4 a5 a6 a7 a8 z = Adam.V (total a0 a1 p q) (a4 (ix3 0 p q)) := by
  unfold G12
  canon_tiles x h
  all_goals try omega
  rw [Update.at_row (x : S1x352x1024.Idx) p q (h1.symm.trans z1) (h2.symm.trans z2)]
  refine Eq.trans ?_ ((step_v a0 a1 (View.ld (Val := Elt Ideal) (e' := .f32) a4 r0_2) p q).trans (congrArg (Adam.V _) (row a4 p q)))
  pointwise [k0_pay2]

end

variable (hz : (z 0 : ℕ) ≠ 0)
include hz

theorem keep9 : G9 (F := Ideal) a0 a1 a2 a3 a4 a5 a6 a7 a8 z = a5 z := by
  unfold G9
  canon_tiles x h
  all_goals try omega
  all_goals
    obtain ⟨p, q, rfl⟩ := Update.some_row (x : S1x352x1024.Idx)
    pointwise [k0_pay13, k0_pay12, k0_pay11]
    exact congrArg a5 (Update.ext_row z _ p q h0.symm h1.symm h2.symm)

theorem keep10 : G10 (F := Ideal) a0 a1 a2 a3 a4 a5 a6 a7 a8 z = a6 z := by
  unfold G10
  canon_tiles x h
  all_goals try omega
  all_goals
    obtain ⟨p, q, rfl⟩ := Update.some_row (x : S1x352x1024.Idx)
    pointwise [k0_pay18, k0_pay17, k0_pay16, k0_pay15]
    exact congrArg a6 (Update.ext_row z _ p q h0.symm h1.symm h2.symm)

theorem keep11 : G11 (F := Ideal) a0 a1 a2 a3 a4 a5 a6 a7 a8 z = a7 z := by
  unfold G11
  canon_tiles x h
  all_goals try omega
  all_goals
    obtain ⟨p, q, rfl⟩ := Update.some_row (x : S1x352x1024.Idx)
    pointwise [k0_pay1, k0_pay21, k0_pay20]
    exact congrArg a7 (Update.ext_row z _ p q h0.symm h1.symm h2.symm)

theorem keep12 : G12 (F := Ideal) a0 a1 a2 a3 a4 a5 a6 a7 a8 z = a8 z := by
  unfold G12
  canon_tiles x h
  all_goals try omega
  all_goals
    obtain ⟨p, q, rfl⟩ := Update.some_row (x : S1x352x1024.Idx)
    pointwise [k0_pay5, k0_pay4, k0_pay3]
    exact congrArg a8 (Update.ext_row z _ p q h0.symm h1.symm h2.symm)

end Cert.FfnDownUpdate0ReferenceIdeal.Fwd

namespace Cert.FfnDownUpdate0Ideal.Fwd

open Cert.FfnDownUpdate0Ideal Cert.FfnDownUpdate0Ideal.Gen
open Cert.FfnDownUpdate0ReferenceIdeal.Fwd (Stack ref9 ref10 ref11 ref12 keep9 keep10 keep11 keep12)
open Cert.FfnDownUpdate0ReferenceIdeal.Value (G9 G10 G11 G12)

variable (m : (ℓ : Loc nD τ sig) → Buf (Elt Ideal) ℓ)

/-- An element of a tile lies at a row of the array. -/
theorem some3 (t : Fin (cfgM m (ok m)).N) (y : S1x176x1024.Idx) :
    ∃ (i : Fin 176) (q : Fin 1024) (p : Fin 352), y = ix3 0 i q ∧ (p : ℕ) = t.val * 176 + i := by
  have tt : t.val < 2 := t.isLt
  obtain ⟨u, i, q, rfl⟩ : ∃ (u : Fin 1) (i : Fin 176) (q : Fin 1024), y = ix3 u i q := ⟨y 0, y 1, y 2, eq_ix3 y⟩
  obtain rfl : u = 0 := Subsingleton.elim _ _
  exact ⟨i, q, ⟨t.val * 176 + i, by omega⟩, rfl, rfl⟩

/-- A function of the nine arguments, of those of a device. -/
abbrev app {α : Type} (c : Dev nD) (G : FVec Ideal S8x352x1024 .bf16 → FVec Ideal S7x352x1024 .bf16 → Stack → Stack → Stack → Stack → Stack → Stack → Stack → α) : α :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The gradient of a tile is the reference's gradient there. -/
theorem grad (c : Dev nD) (t : Fin (cfgM m (ok m)).N) (i : Fin 176) (q : Fin 1024) (p : Fin 352) (h : (p : ℕ) = t.val * 176 + i) :
    total (tile0 m c t) (tile1 m c t) (ix2 i q) = Cert.FfnDownUpdate0ReferenceIdeal.Fwd.total (m ((c : Thread nD τ).loc main_arg0)) (m ((c : Thread nD τ).loc main_arg1)) p q := by
  refine (total_apply _ _ i q).trans ?_
  have r := read1 m c t i q p h
  exact Ideal.add_congr (Ideal.add_congr (Ideal.add_congr (Ideal.add_congr (Ideal.add_congr (Ideal.add_congr (Ideal.add_congr (read0 m c t i q p h) (r 0)) (r 1)) (r 2)) (r 3)) (r 4)) (r 5)) (r 6)

/-! The arrays after the run are the reference's. -/

theorem final5 (c : Dev nD) : (dats m (ok m) 0 c).arrAt 5 (cfgM m (ok m)).N = app m c (G9 (F := Ideal)) := by
  refine (dats m (ok m) 0 c).arrAt_eq_of_coversWhere_of_agree 5 _ (fun β => β (0 : Fin 3) = 0) (of_decide_eq_true (by sl_kernel_rfl)) (fun t fl y => ?_) (fun j hj => ?_)
  · obtain ⟨i, q, p, rfl, ep⟩ := some3 m t y
    have e := Update.emb ((cfgM m (ok m)).win 5) rfl t (ix3 0 i q : S1x176x1024.Idx) (ix3 0 p q : S4x352x1024.Idx) _ (idx t) fun b => by fin_cases b; exacts [rfl, ep.symm, Nat.zero_add _]
    refine Eq.trans ?_ (congrArg _ e).symm
    refine Eq.trans (congrFun ((after0_5 m (ok m) c t).trans (out5 m c t)) (ix3 0 i q : S1x176x1024.Idx)) ?_
    refine (pay_g _ i q).trans (Eq.trans ?_ (ref9 (ix3 0 p q) p q rfl rfl rfl).symm)
    exact (grad m c t i q p ep)
  · refine Eq.trans ?_ (keep9 j fun h => hj ((Pipeline.Window.cell_apply ((cfgM m (ok m)).win 5) j (0 : Fin 3)).trans ((Nat.div_one _).trans h))).symm
    refine (congrFun (A_eq m (ok m) c 5) _).trans ?_
    show V m c main_v1_0 j = _
    entry_read
    rfl

theorem final6 (c : Dev nD) : (dats m (ok m) 0 c).arrAt 6 (cfgM m (ok m)).N = app m c (G10 (F := Ideal)) := by
  refine (dats m (ok m) 0 c).arrAt_eq_of_coversWhere_of_agree 6 _ (fun β => β (0 : Fin 3) = 0) (of_decide_eq_true (by sl_kernel_rfl)) (fun t fl y => ?_) (fun j hj => ?_)
  · obtain ⟨i, q, p, rfl, ep⟩ := some3 m t y
    have e := Update.emb ((cfgM m (ok m)).win 6) rfl t (ix3 0 i q : S1x176x1024.Idx) (ix3 0 p q : S4x352x1024.Idx) _ (idx t) fun b => by fin_cases b; exacts [rfl, ep.symm, Nat.zero_add _]
    refine Eq.trans ?_ (congrArg _ e).symm
    refine Eq.trans (congrFun ((after0_6 m (ok m) c t).trans (out6 m c t)) (ix3 0 i q : S1x176x1024.Idx)) ?_
    refine (pay_d _ _ _ _ i q).trans (Eq.trans ?_ (ref10 (ix3 0 p q) p q rfl rfl rfl).symm)
    exact congr (congr (congr (congrArg Adam.step (grad m c t i q p ep)) (read2 m c t i q p ep)) (read3 m c t i q p ep)) (read4 m c t i q p ep)
  · refine Eq.trans ?_ (keep10 j fun h => hj ((Pipeline.Window.cell_apply ((cfgM m (ok m)).win 6) j (0 : Fin 3)).trans ((Nat.div_one _).trans h))).symm
    refine (congrFun (A_eq m (ok m) c 6) _).trans ?_
    show V m c main_v1_1 j = _
    entry_read
    rfl

theorem final7 (c : Dev nD) : (dats m (ok m) 0 c).arrAt 7 (cfgM m (ok m)).N = app m c (G11 (F := Ideal)) := by
  refine (dats m (ok m) 0 c).arrAt_eq_of_coversWhere_of_agree 7 _ (fun β => β (0 : Fin 3) = 0) (of_decide_eq_true (by sl_kernel_rfl)) (fun t fl y => ?_) (fun j hj => ?_)
  · obtain ⟨i, q, p, rfl, ep⟩ := some3 m t y
    have e := Update.emb ((cfgM m (ok m)).win 7) rfl t (ix3 0 i q : S1x176x1024.Idx) (ix3 0 p q : S4x352x1024.Idx) _ (idx t) fun b => by fin_cases b; exacts [rfl, ep.symm, Nat.zero_add _]
    refine Eq.trans ?_ (congrArg _ e).symm
    refine Eq.trans (congrFun ((after0_7 m (ok m) c t).trans (out7 m c t)) (ix3 0 i q : S1x176x1024.Idx)) ?_
    refine (pay_m _ _ i q).trans (Eq.trans ?_ (ref11 (ix3 0 p q) p q rfl rfl rfl).symm)
    exact congr (congrArg Adam.M (grad m c t i q p ep)) (read3 m c t i q p ep)
  · refine Eq.trans ?_ (keep11 j fun h => hj ((Pipeline.Window.cell_apply ((cfgM m (ok m)).win 7) j (0 : Fin 3)).trans ((Nat.div_one _).trans h))).symm
    refine (congrFun (A_eq m (ok m) c 7) _).trans ?_
    show V m c main_v1_2 j = _
    entry_read
    rfl

theorem final8 (c : Dev nD) : (dats m (ok m) 0 c).arrAt 8 (cfgM m (ok m)).N = app m c (G12 (F := Ideal)) := by
  refine (dats m (ok m) 0 c).arrAt_eq_of_coversWhere_of_agree 8 _ (fun β => β (0 : Fin 3) = 0) (of_decide_eq_true (by sl_kernel_rfl)) (fun t fl y => ?_) (fun j hj => ?_)
  · obtain ⟨i, q, p, rfl, ep⟩ := some3 m t y
    have e := Update.emb ((cfgM m (ok m)).win 8) rfl t (ix3 0 i q : S1x176x1024.Idx) (ix3 0 p q : S4x352x1024.Idx) _ (idx t) fun b => by fin_cases b; exacts [rfl, ep.symm, Nat.zero_add _]
    refine Eq.trans ?_ (congrArg _ e).symm
    refine Eq.trans (congrFun ((after0_8 m (ok m) c t).trans (out8 m c t)) (ix3 0 i q : S1x176x1024.Idx)) ?_
    refine (pay_v _ _ i q).trans (Eq.trans ?_ (ref12 (ix3 0 p q) p q rfl rfl rfl).symm)
    exact congr (congrArg Adam.V (grad m c t i q p ep)) (read4 m c t i q p ep)
  · refine Eq.trans ?_ (keep12 j fun h => hj ((Pipeline.Window.cell_apply ((cfgM m (ok m)).win 8) j (0 : Fin 3)).trans ((Nat.div_one _).trans h))).symm
    refine (congrFun (A_eq m (ok m) c 8) _).trans ?_
    show V m c main_v1_3 j = _
    entry_read
    rfl

end Cert.FfnDownUpdate0Ideal.Fwd

namespace Cert.Proof

/-- The printed kernel and the idealized one run to their end and leave their arguments as they were. -/
theorem quiescent_FfnDownUpdate0 : quiescent_FfnDownUpdate0 := fun m ρ _ => Cert.FfnDownUpdate0.Gen.frame m ρ (Cert.FfnDownUpdate0.Fwd.ok m)

theorem quiescent_FfnDownUpdate0Ideal : quiescent_FfnDownUpdate0Ideal := fun m ρ _ => Cert.FfnDownUpdate0Ideal.Gen.frame m ρ (Cert.FfnDownUpdate0Ideal.Fwd.ok m)

/-- So does the reference. -/
theorem quiescent_FfnDownUpdate0ReferenceIdeal : quiescent_FfnDownUpdate0ReferenceIdeal := fun m ρ _ => Cert.FfnDownUpdate0ReferenceIdeal.Gen.frame m ρ

/-- The named constants of the kernel have the values they are named for. -/
theorem preserves_FfnDownUpdate0 : preserves_FfnDownUpdate0_FfnDownUpdate0Ideal :=
  ⟨IdealRules.named_const.statement Cert.FfnDownUpdate0Ideal.κ "inv_b1" .f32 0x3FC48605#32 _ rfl,
    IdealRules.named_const.statement Cert.FfnDownUpdate0Ideal.κ "inv_b2" .f32 0x42C8E6D3#32 _ rfl⟩

open Cert.FfnDownUpdate0Ideal Cert.FfnDownUpdate0Ideal.Gen Cert.FfnDownUpdate0Ideal.Fwd in
/-- Kernel and reference end with the same gradient, change and moments of the layer, and keep the other layers. -/
theorem algebraic_FfnDownUpdate0 : algebraic_FfnDownUpdate0Ideal_FfnDownUpdate0ReferenceIdeal := by
  intro m ρ m' ρ' _ hagree
  refine ⟨_, _, _, _, (θ_run _ _ _).mono (fun r h c => ⟨((h.1 c).1 5).trans (final5 m c), ((h.1 c).1 6).trans (final6 m c), ((h.1 c).1 7).trans (final7 m c),
    ((h.1 c).1 8).trans (final8 m c), h.2 c⟩) (θ_run_and (run_main m ρ (ok m)) (unchanged m ρ (ok m))), ?_⟩
  refine (θ_run _ _ _).mono (fun _ h c => ?_) (Cert.FfnDownUpdate0ReferenceIdeal.Value.run (F := Ideal) m' ρ')
  obtain ⟨e0, e1, e2, e3, e4, e5, e6, e7, e8⟩ := hagree c
  refine ⟨(h c).1.trans ?_, (h c).2.1.trans ?_, (h c).2.2.1.trans ?_, (h c).2.2.2.1.trans ?_, (h c).2.2.2.2⟩ <;> rw [app, e0, e1, e2, e3, e4, e5, e6, e7, e8]

end Cert.Proof

end
-- ==== Proof.FfnDownUpdate1.lean ====
module

public import proofs.«01_k».proof.Defs
public import proofs.«01_k».proof.Proof.Gen.FfnDownUpdate1.Frame
public import proofs.«01_k».proof.Proof.Gen.FfnDownUpdate1Ideal.Frame
public import proofs.«01_k».proof.Proof.Gen.FfnDownUpdate1ReferenceIdeal.Value
public import proofs.«01_k».proof.Proof.FfnDownUpdate0

@[expose] public section

set_option maxRecDepth 16384

noncomputable section

open Idealize.ShloMosaic Idealize.ShloMosaic.TcCoe Idealize.SL.Sem

/-! # The update of layer 1 of ffn_w_down -/

namespace Cert.FfnDownUpdate1.Fwd

open Cert.FfnDownUpdate1 Cert.FfnDownUpdate1.Gen

section

variable {F : FTy → Type} [FloatOps F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

end Cert.FfnDownUpdate1.Fwd

namespace Cert.FfnDownUpdate1Ideal.Fwd

open Cert.FfnDownUpdate1Ideal Cert.FfnDownUpdate1Ideal.Gen

section

variable {F : FTy → Type} [FloatOps F] [Named F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

open Cert.FfnDownUpdate0Ideal.Fwd (newG newD newM newV)

open Update (back back_eq)

variable (m : (ℓ : Loc nD τ sig) → Buf (Elt Ideal) ℓ) (c : Dev nD) (t : Fin (cfgM m (ok m)).N)

/-- Which tile each window reads or writes at a point of the grid. -/
theorem idx0 : ((cfgM m (ok m)).win 0).index t = ![0, t.val, 0] := by
  have e : ∀ t : Fin grid0.N, cc0_transform_0 (F := Ideal) inb_S1_S1_0 numel1_S1 zero (grid0.coords t) = ![0, t.val, 0] := by decide +kernel
  refine Eq.trans ?_ (e t)
  show cc0_transform_0 inb_S1_S1_0 numel1_S1 (tbl m) (grid0.coords t) = _
  rw [table]

theorem idx1 : ∀ t : Fin grid0.N, cc0_transform_1 (grid0.coords t) = ![0, t.val, 0] := by decide +kernel

theorem idx : ∀ t : Fin grid0.N, cc0_transform_2 (grid0.coords t) = ![1, t.val, 0] := by decide +kernel

section

variable (i : Fin 176) (q : Fin 1024) (p : Fin 352) (h : (p : ℕ) = t.val * 176 + i)
include h

/-- The tile of the device's part, read at an index. -/
def tile0 : FVec Ideal S1x176x1024 .bf16 := iblk m (ok m) c 0 t

theorem read0 :
    tile0 m c t (ix3 0 i q) = m ((c : Thread nD τ).loc main_arg0) (ix3 0 p q) :=
  (congrArg (V m c main_arg0) (Update.emb ((cfgM m (ok m)).win 0) rfl t (ix3 0 i q : S1x176x1024.Idx) (ix3 0 p q : S8x352x1024.Idx) _ (idx0 m t)
    fun b => by fin_cases b; exacts [rfl, h.symm, Nat.zero_add _])).trans (congrFun (V_main_arg0 m c) _)

/-- The tile of the other devices' parts, read at an index. -/
def tile1 : FVec Ideal S7x176x1024 .bf16 := iblk m (ok m) c 1 t

theorem read1 (a : Fin 7) :
    tile1 m c t (ix3 a i q) = m ((c : Thread nD τ).loc main_arg1) (ix3 a p q) :=
  (congrArg (V m c main_arg1) (Update.emb ((cfgM m (ok m)).win 1) rfl t (ix3 a i q : S7x176x1024.Idx) (ix3 a p q : S7x352x1024.Idx) _ (idx1 t)
    fun b => by fin_cases b; exacts [Nat.zero_add _, h.symm, Nat.zero_add _])).trans (congrFun (V_main_arg1 m c) _)

/-- The tile of the weights, read at an index. -/
def tile2 : FVec Ideal S1x176x1024 .f32 := iblk m (ok m) c 2 t

theorem read2 :
    tile2 m c t (ix3 0 i q) = m ((c : Thread nD τ).loc main_arg2) (ix3 1 p q) :=
  (congrArg (V m c main_arg2) (Update.emb ((cfgM m (ok m)).win 2) rfl t (ix3 0 i q : S1x176x1024.Idx) (ix3 1 p q : S4x352x1024.Idx) _ (idx t)
    fun b => by fin_cases b; exacts [rfl, h.symm, Nat.zero_add _])).trans (congrFun (V_main_arg2 m c) _)

/-- The tile of the first moment, read at an index. -/
def tile3 : FVec Ideal S1x176x1024 .f32 := iblk m (ok m) c 3 t

theorem read3 :
    tile3 m c t (ix3 0 i q) = m ((c : Thread nD τ).loc main_arg3) (ix3 1 p q) :=
  (congrArg (V m c main_arg3) (Update.emb ((cfgM m (ok m)).win 3) rfl t (ix3 0 i q : S1x176x1024.Idx) (ix3 1 p q : S4x352x1024.Idx) _ (idx t)
    fun b => by fin_cases b; exacts [rfl, h.symm, Nat.zero_add _])).trans (congrFun (V_main_arg3 m c) _)

/-- The tile of the second moment, read at an index. -/
def tile4 : FVec Ideal S1x176x1024 .f32 := iblk m (ok m) c 4 t

theorem read4 :
    tile4 m c t (ix3 0 i q) = m ((c : Thread nD τ).loc main_arg4) (ix3 1 p q) :=
  (congrArg (V m c main_arg4) (Update.emb ((cfgM m (ok m)).win 4) rfl t (ix3 0 i q : S1x176x1024.Idx) (ix3 1 p q : S4x352x1024.Idx) _ (idx t)
    fun b => by fin_cases b; exacts [rfl, h.symm, Nat.zero_add _])).trans (congrFun (V_main_arg4 m c) _)

end

/-! What the outputs hold after a point of the grid. -/

theorem out5 : (outsAt0 m (ok m) c t).1 = newG (tile0 m c t) (tile1 m c t) := by
  unfold outsAt0
  frame_out
  change newG (back (hs0_0 m (ok m) t) (tile0 m c t)) (back (hs0_1 m (ok m) t) (tile1 m c t)) = _
  simp only [back_eq]

theorem out6 : (outsAt0 m (ok m) c t).2.1 = newD (tile0 m c t) (tile1 m c t) (tile2 m c t) (tile3 m c t) (tile4 m c t) := by
  unfold outsAt0
  frame_out
  change newD (back (hs0_0 m (ok m) t) (tile0 m c t)) (back (hs0_1 m (ok m) t) (tile1 m c t)) (back (hs0_2 m (ok m) t) (tile2 m c t)) (back (hs0_3 m (ok m) t) (tile3 m c t)) (back (hs0_4 m (ok m) t) (tile4 m c t)) = _
  simp only [back_eq]

theorem out7 : (outsAt0 m (ok m) c t).2.2.1 = newM (tile0 m c t) (tile1 m c t) (tile3 m c t) := by
  unfold outsAt0
  frame_out
  change newM (back (hs0_0 m (ok m) t) (tile0 m c t)) (back (hs0_1 m (ok m) t) (tile1 m c t)) (back (hs0_3 m (ok m) t) (tile3 m c t)) = _
  simp only [back_eq]

theorem out8 : (outsAt0 m (ok m) c t).2.2.2 = newV (tile0 m c t) (tile1 m c t) (tile4 m c t) := by
  unfold outsAt0
  frame_out
  change newV (back (hs0_0 m (ok m) t) (tile0 m c t)) (back (hs0_1 m (ok m) t) (tile1 m c t)) (back (hs0_4 m (ok m) t) (tile4 m c t)) = _
  simp only [back_eq]

end Cert.FfnDownUpdate1Ideal.Fwd

namespace Cert.FfnDownUpdate1ReferenceIdeal.Fwd

open Cert.FfnDownUpdate1ReferenceIdeal Cert.FfnDownUpdate1ReferenceIdeal.Gen Cert.FfnDownUpdate1ReferenceIdeal.Value
open Cert.FfnDownUpdate0ReferenceIdeal.Fwd (total sum_apply step_m step_v step_d)

/-- The layers of an array of the weight. -/
abbrev Stack := FVec Ideal S4x352x1024 .f32

variable (a0 : FVec Ideal S8x352x1024 .bf16) (a1 : FVec Ideal S7x352x1024 .bf16) (a2 a3 a4 a5 a6 a7 a8 : Stack)

/-- The layer of an array, read at an index. -/
theorem row (a : Stack) (p : Fin 352) (q : Fin 1024) : (View.ld (Val := Elt Ideal) (e' := .f32) a r0_2) (ix3 0 p q : S1x352x1024.Idx) = a (ix3 1 p q) := by
  pointwise

/-! What the reference writes, at the layer and elsewhere. -/

variable {a0 a1 a2 a3 a4 a5 a6 a7 a8} (z : S4x352x1024.Idx)

section

variable (p : Fin 352) (q : Fin 1024) (z0 : (z 0 : ℕ) = 1) (z1 : (z 1 : ℕ) = p) (z2 : (z 2 : ℕ) = q)
include z0 z1 z2

theorem ref9 : G9 (F := Ideal) a0 a1 a2 a3 a4 a5 a6 a7 a8 z = total a0 a1 p q := by
  unfold G9
  canon_tiles x h
  all_goals try omega
  rw [Update.at_row (x : S1x352x1024.Idx) p q (h1.symm.trans z1) (h2.symm.trans z2)]
  refine Eq.trans ?_ (sum_apply a0 a1 p q)
  pointwise [k0_pay12]
  all_goals rfl

theorem ref10 : G10 (F := Ideal) a0 a1 a2 a3 a4 a5 a6 a7 a8 z = Adam.step (total a0 a1 p q) (a2 (ix3 1 p q)) (a3 (ix3 1 p q)) (a4 (ix3 1 p q)) := by
  unfold G10
  canon_tiles x h
  all_goals try omega
  rw [Update.at_row (x : S1x352x1024.Idx) p q (h1.symm.trans z1) (h2.symm.trans z2)]
  exact (step_d a0 a1 (View.ld (Val := Elt Ideal) (e' := .f32) a2 r0_2) (View.ld (Val := Elt Ideal) (e' := .f32) a3 r0_2) (View.ld (Val := Elt Ideal) (e' := .f32) a4 r0_2) p q).trans (congr (congr (congrArg (Adam.step _) (row a2 p q)) (row a3 p q)) (row a4 p q))

theorem ref11 : G11 (F := Ideal) a0 a1 a2 a3 a4 a5 a6 a7 a8 z = Adam.M (total a0 a1 p q) (a3 (ix3 1 p q)) := by
  unfold G11
  canon_tiles x h
  all_goals try omega
  rw [Update.at_row (x : S1x352x1024.Idx) p q (h1.symm.trans z1) (h2.symm.trans z2)]
  refine Eq.trans ?_ ((step_m a0 a1 (View.ld (Val := Elt Ideal) (e' := .f32) a3 r0_2) p q).trans (congrArg (Adam.M _) (row a3 p q)))
  pointwise [k0_pay20]
  all_goals rfl

theorem ref12 : G12 (F := Ideal) a0 a1 a2 a3 a4 a5 a6 a7 a8 z = Adam.V (total a0 a1 p q) (a4 (ix3 1 p q)) := by
  unfold G12
  canon_tiles x h
  all_goals try omega
  rw [Update.at_row (x : S1x352x1024.Idx) p q (h1.symm.trans z1) (h2.symm.trans z2)]
  refine Eq.trans ?_ ((step_v a0 a1 (View.ld (Val := Elt Ideal) (e' := .f32) a4 r0_2) p q).trans (congrArg (Adam.V _) (row a4 p q)))
  pointwise [k0_pay3]
  all_goals rfl

end

variable (hz : (z 0 : ℕ) ≠ 1)
include hz

theorem keep9 : G9 (F := Ideal) a0 a1 a2 a3 a4 a5 a6 a7 a8 z = a5 z := by
  unfold G9
  canon_tiles x h
  all_goals try omega
  all_goals
    obtain ⟨p, q, rfl⟩ := Update.some_row (x : S1x352x1024.Idx)
    pointwise [k0_pay14, k0_pay13, k0_pay11]
    exact congrArg a5 (Update.ext_row z _ p q h0.symm h1.symm h2.symm)

theorem keep10 : G10 (F := Ideal) a0 a1 a2 a3 a4 a5 a6 a7 a8 z = a6 z := by
  unfold G10
  canon_tiles x h
  all_goals try omega
  all_goals
    obtain ⟨p, q, rfl⟩ := Update.some_row (x : S1x352x1024.Idx)
    pointwise [k0_pay18, k0_pay17, k0_pay15]
    exact congrArg a6 (Update.ext_row z _ p q h0.symm h1.symm h2.symm)

theorem keep11 : G11 (F := Ideal) a0 a1 a2 a3 a4 a5 a6 a7 a8 z = a7 z := by
  unfold G11
  canon_tiles x h
  all_goals try omega
  all_goals
    obtain ⟨p, q, rfl⟩ := Update.some_row (x : S1x352x1024.Idx)
    pointwise [k0_pay1, k0_pay21, k0_pay19]
    exact congrArg a7 (Update.ext_row z _ p q h0.symm h1.symm h2.symm)

theorem keep12 : G12 (F := Ideal) a0 a1 a2 a3 a4 a5 a6 a7 a8 z = a8 z := by
  unfold G12
  canon_tiles x h
  all_goals try omega
  all_goals
    obtain ⟨p, q, rfl⟩ := Update.some_row (x : S1x352x1024.Idx)
    pointwise [k0_pay5, k0_pay4, k0_pay2]
    exact congrArg a8 (Update.ext_row z _ p q h0.symm h1.symm h2.symm)

end Cert.FfnDownUpdate1ReferenceIdeal.Fwd

namespace Cert.FfnDownUpdate1Ideal.Fwd

open Cert.FfnDownUpdate1Ideal Cert.FfnDownUpdate1Ideal.Gen
open Cert.FfnDownUpdate0Ideal.Fwd (total total_apply pay_g pay_m pay_v pay_d)
open Cert.FfnDownUpdate1ReferenceIdeal.Fwd (Stack ref9 ref10 ref11 ref12 keep9 keep10 keep11 keep12)
open Cert.FfnDownUpdate1ReferenceIdeal.Value (G9 G10 G11 G12)

variable (m : (ℓ : Loc nD τ sig) → Buf (Elt Ideal) ℓ)

/-- An element of a tile lies at a row of the array. -/
theorem some3 (t : Fin (cfgM m (ok m)).N) (y : S1x176x1024.Idx) :
    ∃ (i : Fin 176) (q : Fin 1024) (p : Fin 352), y = ix3 0 i q ∧ (p : ℕ) = t.val * 176 + i := by
  have tt : t.val < 2 := t.isLt
  obtain ⟨u, i, q, rfl⟩ : ∃ (u : Fin 1) (i : Fin 176) (q : Fin 1024), y = ix3 u i q := ⟨y 0, y 1, y 2, eq_ix3 y⟩
  obtain rfl : u = 0 := Subsingleton.elim _ _
  exact ⟨i, q, ⟨t.val * 176 + i, by omega⟩, rfl, rfl⟩

/-- A function of the nine arguments, of those of a device. -/
abbrev app {α : Type} (c : Dev nD) (G : FVec Ideal S8x352x1024 .bf16 → FVec Ideal S7x352x1024 .bf16 → Stack → Stack → Stack → Stack → Stack → Stack → Stack → α) : α :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The gradient of a tile is the reference's gradient there. -/
theorem grad (c : Dev nD) (t : Fin (cfgM m (ok m)).N) (i : Fin 176) (q : Fin 1024) (p : Fin 352) (h : (p : ℕ) = t.val * 176 + i) :
    total (tile0 m c t) (tile1 m c t) (ix2 i q) = Cert.FfnDownUpdate0ReferenceIdeal.Fwd.total (m ((c : Thread nD τ).loc main_arg0)) (m ((c : Thread nD τ).loc main_arg1)) p q := by
  refine (total_apply _ _ i q).trans ?_
  have r := read1 m c t i q p h
  exact Ideal.add_congr (Ideal.add_congr (Ideal.add_congr (Ideal.add_congr (Ideal.add_congr (Ideal.add_congr (Ideal.add_congr (read0 m c t i q p h) (r 0)) (r 1)) (r 2)) (r 3)) (r 4)) (r 5)) (r 6)

/-! The arrays after the run are the reference's. -/

theorem final5 (c : Dev nD) : (dats m (ok m) 0 c).arrAt 5 (cfgM m (ok m)).N = app m c (G9 (F := Ideal)) := by
  refine (dats m (ok m) 0 c).arrAt_eq_of_coversWhere_of_agree 5 _ (fun β => β (0 : Fin 3) = 1) (of_decide_eq_true (by sl_kernel_rfl)) (fun t fl y => ?_) (fun j hj => ?_)
  · obtain ⟨i, q, p, rfl, ep⟩ := some3 m t y
    have e := Update.emb ((cfgM m (ok m)).win 5) rfl t (ix3 0 i q : S1x176x1024.Idx) (ix3 1 p q : S4x352x1024.Idx) _ (idx t) fun b => by fin_cases b; exacts [rfl, ep.symm, Nat.zero_add _]
    refine Eq.trans ?_ (congrArg _ e).symm
    refine Eq.trans (congrFun ((after0_5 m (ok m) c t).trans (out5 m c t)) (ix3 0 i q : S1x176x1024.Idx)) ?_
    refine (pay_g _ i q).trans (Eq.trans ?_ (ref9 (ix3 1 p q) p q rfl rfl rfl).symm)
    exact (grad m c t i q p ep)
  · refine Eq.trans ?_ (keep9 j fun h => hj ((Pipeline.Window.cell_apply ((cfgM m (ok m)).win 5) j (0 : Fin 3)).trans ((Nat.div_one _).trans h))).symm
    refine (congrFun (A_eq m (ok m) c 5) _).trans ?_
    show V m c main_v1_0 j = _
    entry_read
    rfl

theorem final6 (c : Dev nD) : (dats m (ok m) 0 c).arrAt 6 (cfgM m (ok m)).N = app m c (G10 (F := Ideal)) := by
  refine (dats m (ok m) 0 c).arrAt_eq_of_coversWhere_of_agree 6 _ (fun β => β (0 : Fin 3) = 1) (of_decide_eq_true (by sl_kernel_rfl)) (fun t fl y => ?_) (fun j hj => ?_)
  · obtain ⟨i, q, p, rfl, ep⟩ := some3 m t y
    have e := Update.emb ((cfgM m (ok m)).win 6) rfl t (ix3 0 i q : S1x176x1024.Idx) (ix3 1 p q : S4x352x1024.Idx) _ (idx t) fun b => by fin_cases b; exacts [rfl, ep.symm, Nat.zero_add _]
    refine Eq.trans ?_ (congrArg _ e).symm
    refine Eq.trans (congrFun ((after0_6 m (ok m) c t).trans (out6 m c t)) (ix3 0 i q : S1x176x1024.Idx)) ?_
    refine (pay_d _ _ _ _ i q).trans (Eq.trans ?_ (ref10 (ix3 1 p q) p q rfl rfl rfl).symm)
    exact congr (congr (congr (congrArg Adam.step (grad m c t i q p ep)) (read2 m c t i q p ep)) (read3 m c t i q p ep)) (read4 m c t i q p ep)
  · refine Eq.trans ?_ (keep10 j fun h => hj ((Pipeline.Window.cell_apply ((cfgM m (ok m)).win 6) j (0 : Fin 3)).trans ((Nat.div_one _).trans h))).symm
    refine (congrFun (A_eq m (ok m) c 6) _).trans ?_
    show V m c main_v1_1 j = _
    entry_read
    rfl

theorem final7 (c : Dev nD) : (dats m (ok m) 0 c).arrAt 7 (cfgM m (ok m)).N = app m c (G11 (F := Ideal)) := by
  refine (dats m (ok m) 0 c).arrAt_eq_of_coversWhere_of_agree 7 _ (fun β => β (0 : Fin 3) = 1) (of_decide_eq_true (by sl_kernel_rfl)) (fun t fl y => ?_) (fun j hj => ?_)
  · obtain ⟨i, q, p, rfl, ep⟩ := some3 m t y
    have e := Update.emb ((cfgM m (ok m)).win 7) rfl t (ix3 0 i q : S1x176x1024.Idx) (ix3 1 p q : S4x352x1024.Idx) _ (idx t) fun b => by fin_cases b; exacts [rfl, ep.symm, Nat.zero_add _]
    refine Eq.trans ?_ (congrArg _ e).symm
    refine Eq.trans (congrFun ((after0_7 m (ok m) c t).trans (out7 m c t)) (ix3 0 i q : S1x176x1024.Idx)) ?_
    refine (pay_m _ _ i q).trans (Eq.trans ?_ (ref11 (ix3 1 p q) p q rfl rfl rfl).symm)
    exact congr (congrArg Adam.M (grad m c t i q p ep)) (read3 m c t i q p ep)
  · refine Eq.trans ?_ (keep11 j fun h => hj ((Pipeline.Window.cell_apply ((cfgM m (ok m)).win 7) j (0 : Fin 3)).trans ((Nat.div_one _).trans h))).symm
    refine (congrFun (A_eq m (ok m) c 7) _).trans ?_
    show V m c main_v1_2 j = _
    entry_read
    rfl

theorem final8 (c : Dev nD) : (dats m (ok m) 0 c).arrAt 8 (cfgM m (ok m)).N = app m c (G12 (F := Ideal)) := by
  refine (dats m (ok m) 0 c).arrAt_eq_of_coversWhere_of_agree 8 _ (fun β => β (0 : Fin 3) = 1) (of_decide_eq_true (by sl_kernel_rfl)) (fun t fl y => ?_) (fun j hj => ?_)
  · obtain ⟨i, q, p, rfl, ep⟩ := some3 m t y
    have e := Update.emb ((cfgM m (ok m)).win 8) rfl t (ix3 0 i q : S1x176x1024.Idx) (ix3 1 p q : S4x352x1024.Idx) _ (idx t) fun b => by fin_cases b; exacts [rfl, ep.symm, Nat.zero_add _]
    refine Eq.trans ?_ (congrArg _ e).symm
    refine Eq.trans (congrFun ((after0_8 m (ok m) c t).trans (out8 m c t)) (ix3 0 i q : S1x176x1024.Idx)) ?_
    refine (pay_v _ _ i q).trans (Eq.trans ?_ (ref12 (ix3 1 p q) p q rfl rfl rfl).symm)
    exact congr (congrArg Adam.V (grad m c t i q p ep)) (read4 m c t i q p ep)
  · refine Eq.trans ?_ (keep12 j fun h => hj ((Pipeline.Window.cell_apply ((cfgM m (ok m)).win 8) j (0 : Fin 3)).trans ((Nat.div_one _).trans h))).symm
    refine (congrFun (A_eq m (ok m) c 8) _).trans ?_
    show V m c main_v1_3 j = _
    entry_read
    rfl

end Cert.FfnDownUpdate1Ideal.Fwd

namespace Cert.Proof

/-- The printed kernel and the idealized one run to their end and leave their arguments as they were. -/
theorem quiescent_FfnDownUpdate1 : quiescent_FfnDownUpdate1 := fun m ρ _ => Cert.FfnDownUpdate1.Gen.frame m ρ (Cert.FfnDownUpdate1.Fwd.ok m)

theorem quiescent_FfnDownUpdate1Ideal : quiescent_FfnDownUpdate1Ideal := fun m ρ _ => Cert.FfnDownUpdate1Ideal.Gen.frame m ρ (Cert.FfnDownUpdate1Ideal.Fwd.ok m)

/-- So does the reference. -/
theorem quiescent_FfnDownUpdate1ReferenceIdeal : quiescent_FfnDownUpdate1ReferenceIdeal := fun m ρ _ => Cert.FfnDownUpdate1ReferenceIdeal.Gen.frame m ρ

/-- The named constants of the kernel have the values they are named for. -/
theorem preserves_FfnDownUpdate1 : preserves_FfnDownUpdate1_FfnDownUpdate1Ideal :=
  ⟨IdealRules.named_const.statement Cert.FfnDownUpdate1Ideal.κ "inv_b1" .f32 0x3FC48605#32 _ rfl,
    IdealRules.named_const.statement Cert.FfnDownUpdate1Ideal.κ "inv_b2" .f32 0x42C8E6D3#32 _ rfl⟩

open Cert.FfnDownUpdate1Ideal Cert.FfnDownUpdate1Ideal.Gen Cert.FfnDownUpdate1Ideal.Fwd in
/-- Kernel and reference end with the same gradient, change and moments of the layer, and keep the other layers. -/
theorem algebraic_FfnDownUpdate1 : algebraic_FfnDownUpdate1Ideal_FfnDownUpdate1ReferenceIdeal := by
  intro m ρ m' ρ' _ hagree
  refine ⟨_, _, _, _, (θ_run _ _ _).mono (fun r h c => ⟨((h.1 c).1 5).trans (final5 m c), ((h.1 c).1 6).trans (final6 m c), ((h.1 c).1 7).trans (final7 m c),
    ((h.1 c).1 8).trans (final8 m c), h.2 c⟩) (θ_run_and (run_main m ρ (ok m)) (unchanged m ρ (ok m))), ?_⟩
  refine (θ_run _ _ _).mono (fun _ h c => ?_) (Cert.FfnDownUpdate1ReferenceIdeal.Value.run (F := Ideal) m' ρ')
  obtain ⟨e0, e1, e2, e3, e4, e5, e6, e7, e8⟩ := hagree c
  refine ⟨(h c).1.trans ?_, (h c).2.1.trans ?_, (h c).2.2.1.trans ?_, (h c).2.2.2.1.trans ?_, (h c).2.2.2.2⟩ <;> rw [app, e0, e1, e2, e3, e4, e5, e6, e7, e8]

end Cert.Proof

end
-- ==== Proof.FfnDownUpdate2.lean ====
module

public import proofs.«01_k».proof.Defs
public import proofs.«01_k».proof.Proof.Gen.FfnDownUpdate2.Frame
public import proofs.«01_k».proof.Proof.Gen.FfnDownUpdate2Ideal.Frame
public import proofs.«01_k».proof.Proof.Gen.FfnDownUpdate2ReferenceIdeal.Value
public import proofs.«01_k».proof.Proof.FfnDownUpdate0

@[expose] public section

set_option maxRecDepth 16384

noncomputable section

open Idealize.ShloMosaic Idealize.ShloMosaic.TcCoe Idealize.SL.Sem

/-! # The update of layer 2 of ffn_w_down -/

namespace Cert.FfnDownUpdate2.Fwd

open Cert.FfnDownUpdate2 Cert.FfnDownUpdate2.Gen

section

variable {F : FTy → Type} [FloatOps F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

end Cert.FfnDownUpdate2.Fwd

namespace Cert.FfnDownUpdate2Ideal.Fwd

open Cert.FfnDownUpdate2Ideal Cert.FfnDownUpdate2Ideal.Gen

section

variable {F : FTy → Type} [FloatOps F] [Named F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

open Cert.FfnDownUpdate0Ideal.Fwd (newG newD newM newV)

open Update (back back_eq)

variable (m : (ℓ : Loc nD τ sig) → Buf (Elt Ideal) ℓ) (c : Dev nD) (t : Fin (cfgM m (ok m)).N)

/-- Which tile each window reads or writes at a point of the grid. -/
theorem idx0 : ((cfgM m (ok m)).win 0).index t = ![0, t.val, 0] := by
  have e : ∀ t : Fin grid0.N, cc0_transform_0 (F := Ideal) inb_S1_S1_0 numel1_S1 zero (grid0.coords t) = ![0, t.val, 0] := by decide +kernel
  refine Eq.trans ?_ (e t)
  show cc0_transform_0 inb_S1_S1_0 numel1_S1 (tbl m) (grid0.coords t) = _
  rw [table]

theorem idx1 : ∀ t : Fin grid0.N, cc0_transform_1 (grid0.coords t) = ![0, t.val, 0] := by decide +kernel

theorem idx : ∀ t : Fin grid0.N, cc0_transform_2 (grid0.coords t) = ![2, t.val, 0] := by decide +kernel

section

variable (i : Fin 176) (q : Fin 1024) (p : Fin 352) (h : (p : ℕ) = t.val * 176 + i)
include h

/-- The tile of the device's part, read at an index. -/
def tile0 : FVec Ideal S1x176x1024 .bf16 := iblk m (ok m) c 0 t

theorem read0 :
    tile0 m c t (ix3 0 i q) = m ((c : Thread nD τ).loc main_arg0) (ix3 0 p q) :=
  (congrArg (V m c main_arg0) (Update.emb ((cfgM m (ok m)).win 0) rfl t (ix3 0 i q : S1x176x1024.Idx) (ix3 0 p q : S8x352x1024.Idx) _ (idx0 m t)
    fun b => by fin_cases b; exacts [rfl, h.symm, Nat.zero_add _])).trans (congrFun (V_main_arg0 m c) _)

/-- The tile of the other devices' parts, read at an index. -/
def tile1 : FVec Ideal S7x176x1024 .bf16 := iblk m (ok m) c 1 t

theorem read1 (a : Fin 7) :
    tile1 m c t (ix3 a i q) = m ((c : Thread nD τ).loc main_arg1) (ix3 a p q) :=
  (congrArg (V m c main_arg1) (Update.emb ((cfgM m (ok m)).win 1) rfl t (ix3 a i q : S7x176x1024.Idx) (ix3 a p q : S7x352x1024.Idx) _ (idx1 t)
    fun b => by fin_cases b; exacts [Nat.zero_add _, h.symm, Nat.zero_add _])).trans (congrFun (V_main_arg1 m c) _)

/-- The tile of the weights, read at an index. -/
def tile2 : FVec Ideal S1x176x1024 .f32 := iblk m (ok m) c 2 t

theorem read2 :
    tile2 m c t (ix3 0 i q) = m ((c : Thread nD τ).loc main_arg2) (ix3 2 p q) :=
  (congrArg (V m c main_arg2) (Update.emb ((cfgM m (ok m)).win 2) rfl t (ix3 0 i q : S1x176x1024.Idx) (ix3 2 p q : S4x352x1024.Idx) _ (idx t)
    fun b => by fin_cases b; exacts [rfl, h.symm, Nat.zero_add _])).trans (congrFun (V_main_arg2 m c) _)

/-- The tile of the first moment, read at an index. -/
def tile3 : FVec Ideal S1x176x1024 .f32 := iblk m (ok m) c 3 t

theorem read3 :
    tile3 m c t (ix3 0 i q) = m ((c : Thread nD τ).loc main_arg3) (ix3 2 p q) :=
  (congrArg (V m c main_arg3) (Update.emb ((cfgM m (ok m)).win 3) rfl t (ix3 0 i q : S1x176x1024.Idx) (ix3 2 p q : S4x352x1024.Idx) _ (idx t)
    fun b => by fin_cases b; exacts [rfl, h.symm, Nat.zero_add _])).trans (congrFun (V_main_arg3 m c) _)

/-- The tile of the second moment, read at an index. -/
def tile4 : FVec Ideal S1x176x1024 .f32 := iblk m (ok m) c 4 t

theorem read4 :
    tile4 m c t (ix3 0 i q) = m ((c : Thread nD τ).loc main_arg4) (ix3 2 p q) :=
  (congrArg (V m c main_arg4) (Update.emb ((cfgM m (ok m)).win 4) rfl t (ix3 0 i q : S1x176x1024.Idx) (ix3 2 p q : S4x352x1024.Idx) _ (idx t)
    fun b => by fin_cases b; exacts [rfl, h.symm, Nat.zero_add _])).trans (congrFun (V_main_arg4 m c) _)

end

/-! What the outputs hold after a point of the grid. -/

theorem out5 : (outsAt0 m (ok m) c t).1 = newG (tile0 m c t) (tile1 m c t) := by
  unfold outsAt0
  frame_out
  change newG (back (hs0_0 m (ok m) t) (tile0 m c t)) (back (hs0_1 m (ok m) t) (tile1 m c t)) = _
  simp only [back_eq]

theorem out6 : (outsAt0 m (ok m) c t).2.1 = newD (tile0 m c t) (tile1 m c t) (tile2 m c t) (tile3 m c t) (tile4 m c t) := by
  unfold outsAt0
  frame_out
  change newD (back (hs0_0 m (ok m) t) (tile0 m c t)) (back (hs0_1 m (ok m) t) (tile1 m c t)) (back (hs0_2 m (ok m) t) (tile2 m c t)) (back (hs0_3 m (ok m) t) (tile3 m c t)) (back (hs0_4 m (ok m) t) (tile4 m c t)) = _
  simp only [back_eq]

theorem out7 : (outsAt0 m (ok m) c t).2.2.1 = newM (tile0 m c t) (tile1 m c t) (tile3 m c t) := by
  unfold outsAt0
  frame_out
  change newM (back (hs0_0 m (ok m) t) (tile0 m c t)) (back (hs0_1 m (ok m) t) (tile1 m c t)) (back (hs0_3 m (ok m) t) (tile3 m c t)) = _
  simp only [back_eq]

theorem out8 : (outsAt0 m (ok m) c t).2.2.2 = newV (tile0 m c t) (tile1 m c t) (tile4 m c t) := by
  unfold outsAt0
  frame_out
  change newV (back (hs0_0 m (ok m) t) (tile0 m c t)) (back (hs0_1 m (ok m) t) (tile1 m c t)) (back (hs0_4 m (ok m) t) (tile4 m c t)) = _
  simp only [back_eq]

end Cert.FfnDownUpdate2Ideal.Fwd

namespace Cert.FfnDownUpdate2ReferenceIdeal.Fwd

open Cert.FfnDownUpdate2ReferenceIdeal Cert.FfnDownUpdate2ReferenceIdeal.Gen Cert.FfnDownUpdate2ReferenceIdeal.Value
open Cert.FfnDownUpdate0ReferenceIdeal.Fwd (total sum_apply step_m step_v step_d)

/-- The layers of an array of the weight. -/
abbrev Stack := FVec Ideal S4x352x1024 .f32

variable (a0 : FVec Ideal S8x352x1024 .bf16) (a1 : FVec Ideal S7x352x1024 .bf16) (a2 a3 a4 a5 a6 a7 a8 : Stack)

/-- The layer of an array, read at an index. -/
theorem row (a : Stack) (p : Fin 352) (q : Fin 1024) : (View.ld (Val := Elt Ideal) (e' := .f32) a r0_2) (ix3 0 p q : S1x352x1024.Idx) = a (ix3 2 p q) := by
  pointwise

/-! What the reference writes, at the layer and elsewhere. -/

variable {a0 a1 a2 a3 a4 a5 a6 a7 a8} (z : S4x352x1024.Idx)

section

variable (p : Fin 352) (q : Fin 1024) (z0 : (z 0 : ℕ) = 2) (z1 : (z 1 : ℕ) = p) (z2 : (z 2 : ℕ) = q)
include z0 z1 z2

theorem ref9 : G9 (F := Ideal) a0 a1 a2 a3 a4 a5 a6 a7 a8 z = total a0 a1 p q := by
  unfold G9
  canon_tiles x h
  all_goals try omega
  rw [Update.at_row (x : S1x352x1024.Idx) p q (h1.symm.trans z1) (h2.symm.trans z2)]
  refine Eq.trans ?_ (sum_apply a0 a1 p q)
  pointwise [k0_pay13]
  all_goals rfl

theorem ref10 : G10 (F := Ideal) a0 a1 a2 a3 a4 a5 a6 a7 a8 z = Adam.step (total a0 a1 p q) (a2 (ix3 2 p q)) (a3 (ix3 2 p q)) (a4 (ix3 2 p q)) := by
  unfold G10
  canon_tiles x h
  all_goals try omega
  rw [Update.at_row (x : S1x352x1024.Idx) p q (h1.symm.trans z1) (h2.symm.trans z2)]
  exact (step_d a0 a1 (View.ld (Val := Elt Ideal) (e' := .f32) a2 r0_2) (View.ld (Val := Elt Ideal) (e' := .f32) a3 r0_2) (View.ld (Val := Elt Ideal) (e' := .f32) a4 r0_2) p q).trans (congr (congr (congrArg (Adam.step _) (row a2 p q)) (row a3 p q)) (row a4 p q))

theorem ref11 : G11 (F := Ideal) a0 a1 a2 a3 a4 a5 a6 a7 a8 z = Adam.M (total a0 a1 p q) (a3 (ix3 2 p q)) := by
  unfold G11
  canon_tiles x h
  all_goals try omega
  rw [Update.at_row (x : S1x352x1024.Idx) p q (h1.symm.trans z1) (h2.symm.trans z2)]
  refine Eq.trans ?_ ((step_m a0 a1 (View.ld (Val := Elt Ideal) (e' := .f32) a3 r0_2) p q).trans (congrArg (Adam.M _) (row a3 p q)))
  pointwise [k0_pay21]
  all_goals rfl

theorem ref12 : G12 (F := Ideal) a0 a1 a2 a3 a4 a5 a6 a7 a8 z = Adam.V (total a0 a1 p q) (a4 (ix3 2 p q)) := by
  unfold G12
  canon_tiles x h
  all_goals try omega
  rw [Update.at_row (x : S1x352x1024.Idx) p q (h1.symm.trans z1) (h2.symm.trans z2)]
  refine Eq.trans ?_ ((step_v a0 a1 (View.ld (Val := Elt Ideal) (e' := .f32) a4 r0_2) p q).trans (congrArg (Adam.V _) (row a4 p q)))
  pointwise [k0_pay4]
  all_goals rfl

end

variable (hz : (z 0 : ℕ) ≠ 2)
include hz

theorem keep9 : G9 (F := Ideal) a0 a1 a2 a3 a4 a5 a6 a7 a8 z = a5 z := by
  unfold G9
  canon_tiles x h
  all_goals try omega
  all_goals
    obtain ⟨p, q, rfl⟩ := Update.some_row (x : S1x352x1024.Idx)
    pointwise [k0_pay14, k0_pay12, k0_pay11]
    exact congrArg a5 (Update.ext_row z _ p q h0.symm h1.symm h2.symm)

theorem keep10 : G10 (F := Ideal) a0 a1 a2 a3 a4 a5 a6 a7 a8 z = a6 z := by
  unfold G10
  canon_tiles x h
  all_goals try omega
  all_goals
    obtain ⟨p, q, rfl⟩ := Update.some_row (x : S1x352x1024.Idx)
    pointwise [k0_pay18, k0_pay16, k0_pay15]
    exact congrArg a6 (Update.ext_row z _ p q h0.symm h1.symm h2.symm)

theorem keep11 : G11 (F := Ideal) a0 a1 a2 a3 a4 a5 a6 a7 a8 z = a7 z := by
  unfold G11
  canon_tiles x h
  all_goals try omega
  all_goals
    obtain ⟨p, q, rfl⟩ := Update.some_row (x : S1x352x1024.Idx)
    pointwise [k0_pay1, k0_pay20, k0_pay19]
    exact congrArg a7 (Update.ext_row z _ p q h0.symm h1.symm h2.symm)

theorem keep12 : G12 (F := Ideal) a0 a1 a2 a3 a4 a5 a6 a7 a8 z = a8 z := by
  unfold G12
  canon_tiles x h
  all_goals try omega
  all_goals
    obtain ⟨p, q, rfl⟩ := Update.some_row (x : S1x352x1024.Idx)
    pointwise [k0_pay5, k0_pay3, k0_pay2]
    exact congrArg a8 (Update.ext_row z _ p q h0.symm h1.symm h2.symm)

end Cert.FfnDownUpdate2ReferenceIdeal.Fwd

namespace Cert.FfnDownUpdate2Ideal.Fwd

open Cert.FfnDownUpdate2Ideal Cert.FfnDownUpdate2Ideal.Gen
open Cert.FfnDownUpdate0Ideal.Fwd (total total_apply pay_g pay_m pay_v pay_d)
open Cert.FfnDownUpdate2ReferenceIdeal.Fwd (Stack ref9 ref10 ref11 ref12 keep9 keep10 keep11 keep12)
open Cert.FfnDownUpdate2ReferenceIdeal.Value (G9 G10 G11 G12)

variable (m : (ℓ : Loc nD τ sig) → Buf (Elt Ideal) ℓ)

/-- An element of a tile lies at a row of the array. -/
theorem some3 (t : Fin (cfgM m (ok m)).N) (y : S1x176x1024.Idx) :
    ∃ (i : Fin 176) (q : Fin 1024) (p : Fin 352), y = ix3 0 i q ∧ (p : ℕ) = t.val * 176 + i := by
  have tt : t.val < 2 := t.isLt
  obtain ⟨u, i, q, rfl⟩ : ∃ (u : Fin 1) (i : Fin 176) (q : Fin 1024), y = ix3 u i q := ⟨y 0, y 1, y 2, eq_ix3 y⟩
  obtain rfl : u = 0 := Subsingleton.elim _ _
  exact ⟨i, q, ⟨t.val * 176 + i, by omega⟩, rfl, rfl⟩

/-- A function of the nine arguments, of those of a device. -/
abbrev app {α : Type} (c : Dev nD) (G : FVec Ideal S8x352x1024 .bf16 → FVec Ideal S7x352x1024 .bf16 → Stack → Stack → Stack → Stack → Stack → Stack → Stack → α) : α :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The gradient of a tile is the reference's gradient there. -/
theorem grad (c : Dev nD) (t : Fin (cfgM m (ok m)).N) (i : Fin 176) (q : Fin 1024) (p : Fin 352) (h : (p : ℕ) = t.val * 176 + i) :
    total (tile0 m c t) (tile1 m c t) (ix2 i q) = Cert.FfnDownUpdate0ReferenceIdeal.Fwd.total (m ((c : Thread nD τ).loc main_arg0)) (m ((c : Thread nD τ).loc main_arg1)) p q := by
  refine (total_apply _ _ i q).trans ?_
  have r := read1 m c t i q p h
  exact Ideal.add_congr (Ideal.add_congr (Ideal.add_congr (Ideal.add_congr (Ideal.add_congr (Ideal.add_congr (Ideal.add_congr (read0 m c t i q p h) (r 0)) (r 1)) (r 2)) (r 3)) (r 4)) (r 5)) (r 6)

/-! The arrays after the run are the reference's. -/

theorem final5 (c : Dev nD) : (dats m (ok m) 0 c).arrAt 5 (cfgM m (ok m)).N = app m c (G9 (F := Ideal)) := by
  refine (dats m (ok m) 0 c).arrAt_eq_of_coversWhere_of_agree 5 _ (fun β => β (0 : Fin 3) = 2) (of_decide_eq_true (by sl_kernel_rfl)) (fun t fl y => ?_) (fun j hj => ?_)
  · obtain ⟨i, q, p, rfl, ep⟩ := some3 m t y
    have e := Update.emb ((cfgM m (ok m)).win 5) rfl t (ix3 0 i q : S1x176x1024.Idx) (ix3 2 p q : S4x352x1024.Idx) _ (idx t) fun b => by fin_cases b; exacts [rfl, ep.symm, Nat.zero_add _]
    refine Eq.trans ?_ (congrArg _ e).symm
    refine Eq.trans (congrFun ((after0_5 m (ok m) c t).trans (out5 m c t)) (ix3 0 i q : S1x176x1024.Idx)) ?_
    refine (pay_g _ i q).trans (Eq.trans ?_ (ref9 (ix3 2 p q) p q rfl rfl rfl).symm)
    exact (grad m c t i q p ep)
  · refine Eq.trans ?_ (keep9 j fun h => hj ((Pipeline.Window.cell_apply ((cfgM m (ok m)).win 5) j (0 : Fin 3)).trans ((Nat.div_one _).trans h))).symm
    refine (congrFun (A_eq m (ok m) c 5) _).trans ?_
    show V m c main_v1_0 j = _
    entry_read
    rfl

theorem final6 (c : Dev nD) : (dats m (ok m) 0 c).arrAt 6 (cfgM m (ok m)).N = app m c (G10 (F := Ideal)) := by
  refine (dats m (ok m) 0 c).arrAt_eq_of_coversWhere_of_agree 6 _ (fun β => β (0 : Fin 3) = 2) (of_decide_eq_true (by sl_kernel_rfl)) (fun t fl y => ?_) (fun j hj => ?_)
  · obtain ⟨i, q, p, rfl, ep⟩ := some3 m t y
    have e := Update.emb ((cfgM m (ok m)).win 6) rfl t (ix3 0 i q : S1x176x1024.Idx) (ix3 2 p q : S4x352x1024.Idx) _ (idx t) fun b => by fin_cases b; exacts [rfl, ep.symm, Nat.zero_add _]
    refine Eq.trans ?_ (congrArg _ e).symm
    refine Eq.trans (congrFun ((after0_6 m (ok m) c t).trans (out6 m c t)) (ix3 0 i q : S1x176x1024.Idx)) ?_
    refine (pay_d _ _ _ _ i q).trans (Eq.trans ?_ (ref10 (ix3 2 p q) p q rfl rfl rfl).symm)
    exact congr (congr (congr (congrArg Adam.step (grad m c t i q p ep)) (read2 m c t i q p ep)) (read3 m c t i q p ep)) (read4 m c t i q p ep)
  · refine Eq.trans ?_ (keep10 j fun h => hj ((Pipeline.Window.cell_apply ((cfgM m (ok m)).win 6) j (0 : Fin 3)).trans ((Nat.div_one _).trans h))).symm
    refine (congrFun (A_eq m (ok m) c 6) _).trans ?_
    show V m c main_v1_1 j = _
    entry_read
    rfl

theorem final7 (c : Dev nD) : (dats m (ok m) 0 c).arrAt 7 (cfgM m (ok m)).N = app m c (G11 (F := Ideal)) := by
  refine (dats m (ok m) 0 c).arrAt_eq_of_coversWhere_of_agree 7 _ (fun β => β (0 : Fin 3) = 2) (of_decide_eq_true (by sl_kernel_rfl)) (fun t fl y => ?_) (fun j hj => ?_)
  · obtain ⟨i, q, p, rfl, ep⟩ := some3 m t y
    have e := Update.emb ((cfgM m (ok m)).win 7) rfl t (ix3 0 i q : S1x176x1024.Idx) (ix3 2 p q : S4x352x1024.Idx) _ (idx t) fun b => by fin_cases b; exacts [rfl, ep.symm, Nat.zero_add _]
    refine Eq.trans ?_ (congrArg _ e).symm
    refine Eq.trans (congrFun ((after0_7 m (ok m) c t).trans (out7 m c t)) (ix3 0 i q : S1x176x1024.Idx)) ?_
    refine (pay_m _ _ i q).trans (Eq.trans ?_ (ref11 (ix3 2 p q) p q rfl rfl rfl).symm)
    exact congr (congrArg Adam.M (grad m c t i q p ep)) (read3 m c t i q p ep)
  · refine Eq.trans ?_ (keep11 j fun h => hj ((Pipeline.Window.cell_apply ((cfgM m (ok m)).win 7) j (0 : Fin 3)).trans ((Nat.div_one _).trans h))).symm
    refine (congrFun (A_eq m (ok m) c 7) _).trans ?_
    show V m c main_v1_2 j = _
    entry_read
    rfl

theorem final8 (c : Dev nD) : (dats m (ok m) 0 c).arrAt 8 (cfgM m (ok m)).N = app m c (G12 (F := Ideal)) := by
  refine (dats m (ok m) 0 c).arrAt_eq_of_coversWhere_of_agree 8 _ (fun β => β (0 : Fin 3) = 2) (of_decide_eq_true (by sl_kernel_rfl)) (fun t fl y => ?_) (fun j hj => ?_)
  · obtain ⟨i, q, p, rfl, ep⟩ := some3 m t y
    have e := Update.emb ((cfgM m (ok m)).win 8) rfl t (ix3 0 i q : S1x176x1024.Idx) (ix3 2 p q : S4x352x1024.Idx) _ (idx t) fun b => by fin_cases b; exacts [rfl, ep.symm, Nat.zero_add _]
    refine Eq.trans ?_ (congrArg _ e).symm
    refine Eq.trans (congrFun ((after0_8 m (ok m) c t).trans (out8 m c t)) (ix3 0 i q : S1x176x1024.Idx)) ?_
    refine (pay_v _ _ i q).trans (Eq.trans ?_ (ref12 (ix3 2 p q) p q rfl rfl rfl).symm)
    exact congr (congrArg Adam.V (grad m c t i q p ep)) (read4 m c t i q p ep)
  · refine Eq.trans ?_ (keep12 j fun h => hj ((Pipeline.Window.cell_apply ((cfgM m (ok m)).win 8) j (0 : Fin 3)).trans ((Nat.div_one _).trans h))).symm
    refine (congrFun (A_eq m (ok m) c 8) _).trans ?_
    show V m c main_v1_3 j = _
    entry_read
    rfl

end Cert.FfnDownUpdate2Ideal.Fwd

namespace Cert.Proof

/-- The printed kernel and the idealized one run to their end and leave their arguments as they were. -/
theorem quiescent_FfnDownUpdate2 : quiescent_FfnDownUpdate2 := fun m ρ _ => Cert.FfnDownUpdate2.Gen.frame m ρ (Cert.FfnDownUpdate2.Fwd.ok m)

theorem quiescent_FfnDownUpdate2Ideal : quiescent_FfnDownUpdate2Ideal := fun m ρ _ => Cert.FfnDownUpdate2Ideal.Gen.frame m ρ (Cert.FfnDownUpdate2Ideal.Fwd.ok m)

/-- So does the reference. -/
theorem quiescent_FfnDownUpdate2ReferenceIdeal : quiescent_FfnDownUpdate2ReferenceIdeal := fun m ρ _ => Cert.FfnDownUpdate2ReferenceIdeal.Gen.frame m ρ

/-- The named constants of the kernel have the values they are named for. -/
theorem preserves_FfnDownUpdate2 : preserves_FfnDownUpdate2_FfnDownUpdate2Ideal :=
  ⟨IdealRules.named_const.statement Cert.FfnDownUpdate2Ideal.κ "inv_b1" .f32 0x3FC48605#32 _ rfl,
    IdealRules.named_const.statement Cert.FfnDownUpdate2Ideal.κ "inv_b2" .f32 0x42C8E6D3#32 _ rfl⟩

open Cert.FfnDownUpdate2Ideal Cert.FfnDownUpdate2Ideal.Gen Cert.FfnDownUpdate2Ideal.Fwd in
/-- Kernel and reference end with the same gradient, change and moments of the layer, and keep the other layers. -/
theorem algebraic_FfnDownUpdate2 : algebraic_FfnDownUpdate2Ideal_FfnDownUpdate2ReferenceIdeal := by
  intro m ρ m' ρ' _ hagree
  refine ⟨_, _, _, _, (θ_run _ _ _).mono (fun r h c => ⟨((h.1 c).1 5).trans (final5 m c), ((h.1 c).1 6).trans (final6 m c), ((h.1 c).1 7).trans (final7 m c),
    ((h.1 c).1 8).trans (final8 m c), h.2 c⟩) (θ_run_and (run_main m ρ (ok m)) (unchanged m ρ (ok m))), ?_⟩
  refine (θ_run _ _ _).mono (fun _ h c => ?_) (Cert.FfnDownUpdate2ReferenceIdeal.Value.run (F := Ideal) m' ρ')
  obtain ⟨e0, e1, e2, e3, e4, e5, e6, e7, e8⟩ := hagree c
  refine ⟨(h c).1.trans ?_, (h c).2.1.trans ?_, (h c).2.2.1.trans ?_, (h c).2.2.2.1.trans ?_, (h c).2.2.2.2⟩ <;> rw [app, e0, e1, e2, e3, e4, e5, e6, e7, e8]

end Cert.Proof

end
-- ==== Proof.FfnDownUpdate3.lean ====
module

public import proofs.«01_k».proof.Defs
public import proofs.«01_k».proof.Proof.Gen.FfnDownUpdate3.Frame
public import proofs.«01_k».proof.Proof.Gen.FfnDownUpdate3Ideal.Frame
public import proofs.«01_k».proof.Proof.Gen.FfnDownUpdate3ReferenceIdeal.Value
public import proofs.«01_k».proof.Proof.FfnDownUpdate0

@[expose] public section

set_option maxRecDepth 16384

noncomputable section

open Idealize.ShloMosaic Idealize.ShloMosaic.TcCoe Idealize.SL.Sem

/-! # The update of layer 3 of ffn_w_down -/

namespace Cert.FfnDownUpdate3.Fwd

open Cert.FfnDownUpdate3 Cert.FfnDownUpdate3.Gen

section

variable {F : FTy → Type} [FloatOps F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

end Cert.FfnDownUpdate3.Fwd

namespace Cert.FfnDownUpdate3Ideal.Fwd

open Cert.FfnDownUpdate3Ideal Cert.FfnDownUpdate3Ideal.Gen

section

variable {F : FTy → Type} [FloatOps F] [Named F]
variable (m : (ℓ : Loc nD τ sig) → Buf (Elt F) ℓ)

/-- The table that holds the device's number, which is zero. -/
def zero : pre0.Contents (Elt F) := fun | ⟨0, _⟩ => fun _ => (0#32 : BitVec 32)

/-- The kernel's table is that one. -/
theorem table : tbl m = zero (F := F) := by
  funext j
  obtain rfl : j = 0 := Subsingleton.elim _ _
  funext i
  unfold tbl
  show V m 0 main_v0 i = _
  entry_read
  rfl

/-- The tile of the device's part lies inside the array. -/
theorem ok : Ok m := by
  unfold Ok
  rw [table]
  exact of_decide_eq_true (by sl_kernel_rfl)

end

open Cert.FfnDownUpdate0Ideal.Fwd (newG newD newM newV)

open Update (back back_eq)

variable (m : (ℓ : Loc nD τ sig) → Buf (Elt Ideal) ℓ) (c : Dev nD) (t : Fin (cfgM m (ok m)).N)

/-- Which tile each window reads or writes at a point of the grid. -/
theorem idx0 : ((cfgM m (ok m)).win 0).index t = ![0, t.val, 0] := by
  have e : ∀ t : Fin grid0.N, cc0_transform_0 (F := Ideal) inb_S1_S1_0 numel1_S1 zero (grid0.coords t) = ![0, t.val, 0] := by decide +kernel
  refine Eq.trans ?_ (e t)
  show cc0_transform_0 inb_S1_S1_0 numel1_S1 (tbl m) (grid0.coords t) = _
  rw [table]

theorem idx1 : ∀ t : Fin grid0.N, cc0_transform_1 (grid0.coords t) = ![0, t.val, 0] := by decide +kernel

theorem idx : ∀ t : Fin grid0.N, cc0_transform_2 (grid0.coords t) = ![3, t.val, 0] := by decide +kernel

section

variable (i : Fin 176) (q : Fin 1024) (p : Fin 352) (h : (p : ℕ) = t.val * 176 + i)
include h

/-- The tile of the device's part, read at an index. -/
def tile0 : FVec Ideal S1x176x1024 .bf16 := iblk m (ok m) c 0 t

theorem read0 :
    tile0 m c t (ix3 0 i q) = m ((c : Thread nD τ).loc main_arg0) (ix3 0 p q) :=
  (congrArg (V m c main_arg0) (Update.emb ((cfgM m (ok m)).win 0) rfl t (ix3 0 i q : S1x176x1024.Idx) (ix3 0 p q : S8x352x1024.Idx) _ (idx0 m t)
    fun b => by fin_cases b; exacts [rfl, h.symm, Nat.zero_add _])).trans (congrFun (V_main_arg0 m c) _)

/-- The tile of the other devices' parts, read at an index. -/
def tile1 : FVec Ideal S7x176x1024 .bf16 := iblk m (ok m) c 1 t

theorem read1 (a : Fin 7) :
    tile1 m c t (ix3 a i q) = m ((c : Thread nD τ).loc main_arg1) (ix3 a p q) :=
  (congrArg (V m c main_arg1) (Update.emb ((cfgM m (ok m)).win 1) rfl t (ix3 a i q : S7x176x1024.Idx) (ix3 a p q : S7x352x1024.Idx) _ (idx1 t)
    fun b => by fin_cases b; exacts [Nat.zero_add _, h.symm, Nat.zero_add _])).trans (congrFun (V_main_arg1 m c) _)

/-- The tile of the weights, read at an index. -/
def tile2 : FVec Ideal S1x176x1024 .f32 := iblk m (ok m) c 2 t

theorem read2 :
    tile2 m c t (ix3 0 i q) = m ((c : Thread nD τ).loc main_arg2) (ix3 3 p q) :=
  (congrArg (V m c main_arg2) (Update.emb ((cfgM m (ok m)).win 2) rfl t (ix3 0 i q : S1x176x1024.Idx) (ix3 3 p q : S4x352x1024.Idx) _ (idx t)
    fun b => by fin_cases b; exacts [rfl, h.symm, Nat.zero_add _])).trans (congrFun (V_main_arg2 m c) _)

/-- The tile of the first moment, read at an index. -/
def tile3 : FVec Ideal S1x176x1024 .f32 := iblk m (ok m) c 3 t

theorem read3 :
    tile3 m c t (ix3 0 i q) = m ((c : Thread nD τ).loc main_arg3) (ix3 3 p q) :=
  (congrArg (V m c main_arg3) (Update.emb ((cfgM m (ok m)).win 3) rfl t (ix3 0 i q : S1x176x1024.Idx) (ix3 3 p q : S4x352x1024.Idx) _ (idx t)
    fun b => by fin_cases b; exacts [rfl, h.symm, Nat.zero_add _])).trans (congrFun (V_main_arg3 m c) _)

/-- The tile of the second moment, read at an index. -/
def tile4 : FVec Ideal S1x176x1024 .f32 := iblk m (ok m) c 4 t

theorem read4 :
    tile4 m c t (ix3 0 i q) = m ((c : Thread nD τ).loc main_arg4) (ix3 3 p q) :=
  (congrArg (V m c main_arg4) (Update.emb ((cfgM m (ok m)).win 4) rfl t (ix3 0 i q : S1x176x1024.Idx) (ix3 3 p q : S4x352x1024.Idx) _ (idx t)
    fun b => by fin_cases b; exacts [rfl, h.symm, Nat.zero_add _])).trans (congrFun (V_main_arg4 m c) _)

end

/-! What the outputs hold after a point of the grid. -/

theorem out5 : (outsAt0 m (ok m) c t).1 = newG (tile0 m c t) (tile1 m c t) := by
  unfold outsAt0
  frame_out
  change newG (back (hs0_0 m (ok m) t) (tile0 m c t)) (back (hs0_1 m (ok m) t) (tile1 m c t)) = _
  simp only [back_eq]

theorem out6 : (outsAt0 m (ok m) c t).2.1 = newD (tile0 m c t) (tile1 m c t) (tile2 m c t) (tile3 m c t) (tile4 m c t) := by
  unfold outsAt0
  frame_out
  change newD (back (hs0_0 m (ok m) t) (tile0 m c t)) (back (hs0_1 m (ok m) t) (tile1 m c t)) (back (hs0_2 m (ok m) t) (tile2 m c t)) (back (hs0_3 m (ok m) t) (tile3 m c t)) (back (hs0_4 m (ok m) t) (tile4 m c t)) = _
  simp only [back_eq]

theorem out7 : (outsAt0 m (ok m) c t).2.2.1 = newM (tile0 m c t) (tile1 m c t) (tile3 m c t) := by
  unfold outsAt0
  frame_out
  change newM (back (hs0_0 m (ok m) t) (tile0 m c t)) (back (hs0_1 m (ok m) t) (tile1 m c t)) (back (hs0_3 m (ok m) t) (tile3 m c t)) = _
  simp only [back_eq]

theorem out8 : (outsAt0 m (ok m) c t).2.2.2 = newV (tile0 m c t) (tile1 m c t) (tile4 m c t) := by
  unfold outsAt0
  frame_out
  change newV (back (hs0_0 m (ok m) t) (tile0 m c t)) (back (hs0_1 m (ok m) t) (tile1 m c t)) (back (hs0_4 m (ok m) t) (tile4 m c t)) = _
  simp only [back_eq]

end Cert.FfnDownUpdate3Ideal.Fwd

namespace Cert.FfnDownUpdate3ReferenceIdeal.Fwd

open Cert.FfnDownUpdate3ReferenceIdeal Cert.FfnDownUpdate3ReferenceIdeal.Gen Cert.FfnDownUpdate3ReferenceIdeal.Value
open Cert.FfnDownUpdate0ReferenceIdeal.Fwd (total sum_apply step_m step_v step_d)

/-- The layers of an array of the weight. -/
abbrev Stack := FVec Ideal S4x352x1024 .f32

variable (a0 : FVec Ideal S8x352x1024 .bf16) (a1 : FVec Ideal S7x352x1024 .bf16) (a2 a3 a4 a5 a6 a7 a8 : Stack)

/-- The layer of an array, read at an index. -/
theorem row (a : Stack) (p : Fin 352) (q : Fin 1024) : (View.ld (Val := Elt Ideal) (e' := .f32) a r0_2) (ix3 0 p q : S1x352x1024.Idx) = a (ix3 3 p q) := by
  pointwise

/-! What the reference writes, at the layer and elsewhere. -/

variable {a0 a1 a2 a3 a4 a5 a6 a7 a8} (z : S4x352x1024.Idx)

section

variable (p : Fin 352) (q : Fin 1024) (z0 : (z 0 : ℕ) = 3) (z1 : (z 1 : ℕ) = p) (z2 : (z 2 : ℕ) = q)
include z0 z1 z2

theorem ref9 : G9 (F := Ideal) a0 a1 a2 a3 a4 a5 a6 a7 a8 z = total a0 a1 p q := by
  unfold G9
  canon_tiles x h
  all_goals try omega
  rw [Update.at_row (x : S1x352x1024.Idx) p q (h1.symm.trans z1) (h2.symm.trans z2)]
  refine Eq.trans ?_ (sum_apply a0 a1 p q)
  pointwise [k0_pay15]
  all_goals rfl

theorem ref10 : G10 (F := Ideal) a0 a1 a2 a3 a4 a5 a6 a7 a8 z = Adam.step (total a0 a1 p q) (a2 (ix3 3 p q)) (a3 (ix3 3 p q)) (a4 (ix3 3 p q)) := by
  unfold G10
  canon_tiles x h
  all_goals try omega
  rw [Update.at_row (x : S1x352x1024.Idx) p q (h1.symm.trans z1) (h2.symm.trans z2)]
  exact (step_d a0 a1 (View.ld (Val := Elt Ideal) (e' := .f32) a2 r0_2) (View.ld (Val := Elt Ideal) (e' := .f32) a3 r0_2) (View.ld (Val := Elt Ideal) (e' := .f32) a4 r0_2) p q).trans (congr (congr (congrArg (Adam.step _) (row a2 p q)) (row a3 p q)) (row a4 p q))

theorem ref11 : G11 (F := Ideal) a0 a1 a2 a3 a4 a5 a6 a7 a8 z = Adam.M (total a0 a1 p q) (a3 (ix3 3 p q)) := by
  unfold G11
  canon_tiles x h
  all_goals try omega
  rw [Update.at_row (x : S1x352x1024.Idx) p q (h1.symm.trans z1) (h2.symm.trans z2)]
  refine Eq.trans ?_ ((step_m a0 a1 (View.ld (Val := Elt Ideal) (e' := .f32) a3 r0_2) p q).trans (congrArg (Adam.M _) (row a3 p q)))
  pointwise [k0_pay2]
  all_goals rfl

theorem ref12 : G12 (F := Ideal) a0 a1 a2 a3 a4 a5 a6 a7 a8 z = Adam.V (total a0 a1 p q) (a4 (ix3 3 p q)) := by
  unfold G12
  canon_tiles x h
  all_goals try omega
  rw [Update.at_row (x : S1x352x1024.Idx) p q (h1.symm.trans z1) (h2.symm.trans z2)]
  refine Eq.trans ?_ ((step_v a0 a1 (View.ld (Val := Elt Ideal) (e' := .f32) a4 r0_2) p q).trans (congrArg (Adam.V _) (row a4 p q)))
  pointwise [k0_pay6]
  all_goals rfl

end

variable (hz : (z 0 : ℕ) ≠ 3)
include hz

theorem keep9 : G9 (F := Ideal) a0 a1 a2 a3 a4 a5 a6 a7 a8 z = a5 z := by
  unfold G9
  canon_tiles x h
  all_goals try omega
  all_goals
    obtain ⟨p, q, rfl⟩ := Update.some_row (x : S1x352x1024.Idx)
    pointwise [k0_pay14, k0_pay13, k0_pay12]
    exact congrArg a5 (Update.ext_row z _ p q h0.symm h1.symm h2.symm)

theorem keep10 : G10 (F := Ideal) a0 a1 a2 a3 a4 a5 a6 a7 a8 z = a6 z := by
  unfold G10
  canon_tiles x h
  all_goals try omega
  all_goals
    obtain ⟨p, q, rfl⟩ := Update.some_row (x : S1x352x1024.Idx)
    pointwise [k0_pay18, k0_pay17, k0_pay16]
    exact congrArg a6 (Update.ext_row z _ p q h0.symm h1.symm h2.symm)

theorem keep11 : G11 (F := Ideal) a0 a1 a2 a3 a4 a5 a6 a7 a8 z = a7 z := by
  unfold G11
  canon_tiles x h
  all_goals try omega
  all_goals
    obtain ⟨p, q, rfl⟩ := Update.some_row (x : S1x352x1024.Idx)
    pointwise [k0_pay1, k0_pay22, k0_pay21, k0_pay20]
    exact congrArg a7 (Update.ext_row z _ p q h0.symm h1.symm h2.symm)

theorem keep12 : G12 (F := Ideal) a0 a1 a2 a3 a4 a5 a6 a7 a8 z = a8 z := by
  unfold G12
  canon_tiles x h
  all_goals try omega
  all_goals
    obtain ⟨p, q, rfl⟩ := Update.some_row (x : S1x352x1024.Idx)
    pointwise [k0_pay5, k0_pay4, k0_pay3]
    exact congrArg a8 (Update.ext_row z _ p q h0.symm h1.symm h2.symm)

end Cert.FfnDownUpdate3ReferenceIdeal.Fwd

namespace Cert.FfnDownUpdate3Ideal.Fwd

open Cert.FfnDownUpdate3Ideal Cert.FfnDownUpdate3Ideal.Gen
open Cert.FfnDownUpdate0Ideal.Fwd (total total_apply pay_g pay_m pay_v pay_d)
open Cert.FfnDownUpdate3ReferenceIdeal.Fwd (Stack ref9 ref10 ref11 ref12 keep9 keep10 keep11 keep12)
open Cert.FfnDownUpdate3ReferenceIdeal.Value (G9 G10 G11 G12)

variable (m : (ℓ : Loc nD τ sig) → Buf (Elt Ideal) ℓ)

/-- An element of a tile lies at a row of the array. -/
theorem some3 (t : Fin (cfgM m (ok m)).N) (y : S1x176x1024.Idx) :
    ∃ (i : Fin 176) (q : Fin 1024) (p : Fin 352), y = ix3 0 i q ∧ (p : ℕ) = t.val * 176 + i := by
  have tt : t.val < 2 := t.isLt
  obtain ⟨u, i, q, rfl⟩ : ∃ (u : Fin 1) (i : Fin 176) (q : Fin 1024), y = ix3 u i q := ⟨y 0, y 1, y 2, eq_ix3 y⟩
  obtain rfl : u = 0 := Subsingleton.elim _ _
  exact ⟨i, q, ⟨t.val * 176 + i, by omega⟩, rfl, rfl⟩

/-- A function of the nine arguments, of those of a device. -/
abbrev app {α : Type} (c : Dev nD) (G : FVec Ideal S8x352x1024 .bf16 → FVec Ideal S7x352x1024 .bf16 → Stack → Stack → Stack → Stack → Stack → Stack → Stack → α) : α :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The gradient of a tile is the reference's gradient there. -/
theorem grad (c : Dev nD) (t : Fin (cfgM m (ok m)).N) (i : Fin 176) (q : Fin 1024) (p : Fin 352) (h : (p : ℕ) = t.val * 176 + i) :
    total (tile0 m c t) (tile1 m c t) (ix2 i q) = Cert.FfnDownUpdate0ReferenceIdeal.Fwd.total (m ((c : Thread nD τ).loc main_arg0)) (m ((c : Thread nD τ).loc main_arg1)) p q := by
  refine (total_apply _ _ i q).trans ?_
  have r := read1 m c t i q p h
  exact Ideal.add_congr (Ideal.add_congr (Ideal.add_congr (Ideal.add_congr (Ideal.add_congr (Ideal.add_congr (Ideal.add_congr (read0 m c t i q p h) (r 0)) (r 1)) (r 2)) (r 3)) (r 4)) (r 5)) (r 6)

/-! The arrays after the run are the reference's. -/

theorem final5 (c : Dev nD) : (dats m (ok m) 0 c).arrAt 5 (cfgM m (ok m)).N = app m c (G9 (F := Ideal)) := by
  refine (dats m (ok m) 0 c).arrAt_eq_of_coversWhere_of_agree 5 _ (fun β => β (0 : Fin 3) = 3) (of_decide_eq_true (by sl_kernel_rfl)) (fun t fl y => ?_) (fun j hj => ?_)
  · obtain ⟨i, q, p, rfl, ep⟩ := some3 m t y
    have e := Update.emb ((cfgM m (ok m)).win 5) rfl t (ix3 0 i q : S1x176x1024.Idx) (ix3 3 p q : S4x352x1024.Idx) _ (idx t) fun b => by fin_cases b; exacts [rfl, ep.symm, Nat.zero_add _]
    refine Eq.trans ?_ (congrArg _ e).symm
    refine Eq.trans (congrFun ((after0_5 m (ok m) c t).trans (out5 m c t)) (ix3 0 i q : S1x176x1024.Idx)) ?_
    refine (pay_g _ i q).trans (Eq.trans ?_ (ref9 (ix3 3 p q) p q rfl rfl rfl).symm)
    exact (grad m c t i q p ep)
  · refine Eq.trans ?_ (keep9 j fun h => hj ((Pipeline.Window.cell_apply ((cfgM m (ok m)).win 5) j (0 : Fin 3)).trans ((Nat.div_one _).trans h))).symm
    refine (congrFun (A_eq m (ok m) c 5) _).trans ?_
    show V m c main_v1_0 j = _
    entry_read
    rfl

theorem final6 (c : Dev nD) : (dats m (ok m) 0 c).arrAt 6 (cfgM m (ok m)).N = app m c (G10 (F := Ideal)) := by
  refine (dats m (ok m) 0 c).arrAt_eq_of_coversWhere_of_agree 6 _ (fun β => β (0 : Fin 3) = 3) (of_decide_eq_true (by sl_kernel_rfl)) (fun t fl y => ?_) (fun j hj => ?_)
  · obtain ⟨i, q, p, rfl, ep⟩ := some3 m t y
    have e := Update.emb ((cfgM m (ok m)).win 6) rfl t (ix3 0 i q : S1x176x1024.Idx) (ix3 3 p q : S4x352x1024.Idx) _ (idx t) fun b => by fin_cases b; exacts [rfl, ep.symm, Nat.zero_add _]
    refine Eq.trans ?_ (congrArg _ e).symm
    refine Eq.trans (congrFun ((after0_6 m (ok m) c t).trans (out6 m c t)) (ix3 0 i q : S1x176x1024.Idx)) ?_
    refine (pay_d _ _ _ _ i q).trans (Eq.trans ?_ (ref10 (ix3 3 p q) p q rfl rfl rfl).symm)
    exact congr (congr (congr (congrArg Adam.step (grad m c t i q p ep)) (read2 m c t i q p ep)) (read3 m c t i q p ep)) (read4 m c t i q p ep)
  · refine Eq.trans ?_ (keep10 j fun h => hj ((Pipeline.Window.cell_apply ((cfgM m (ok m)).win 6) j (0 : Fin 3)).trans ((Nat.div_one _).trans h))).symm
    refine (congrFun (A_eq m (ok m) c 6) _).trans ?_
    show V m c main_v1_1 j = _
    entry_read
    rfl

theorem final7 (c : Dev nD) : (dats m (ok m) 0 c).arrAt 7 (cfgM m (ok m)).N = app m c (G11 (F := Ideal)) := by
  refine (dats m (ok m) 0 c).arrAt_eq_of_coversWhere_of_agree 7 _ (fun β => β (0 : Fin 3) = 3) (of_decide_eq_true (by sl_kernel_rfl)) (fun t fl y => ?_) (fun j hj => ?_)
  · obtain ⟨i, q, p, rfl, ep⟩ := some3 m t y
    have e := Update.emb ((cfgM m (ok m)).win 7) rfl t (ix3 0 i q : S1x176x1024.Idx) (ix3 3 p q : S4x352x1024.Idx) _ (idx t) fun b => by fin_cases b; exacts [rfl, ep.symm, Nat.zero_add _]
    refine Eq.trans ?_ (congrArg _ e).symm
    refine Eq.trans (congrFun ((after0_7 m (ok m) c t).trans (out7 m c t)) (ix3 0 i q : S1x176x1024.Idx)) ?_
    refine (pay_m _ _ i q).trans (Eq.trans ?_ (ref11 (ix3 3 p q) p q rfl rfl rfl).symm)
    exact congr (congrArg Adam.M (grad m c t i q p ep)) (read3 m c t i q p ep)
  · refine Eq.trans ?_ (keep11 j fun h => hj ((Pipeline.Window.cell_apply ((cfgM m (ok m)).win 7) j (0 : Fin 3)).trans ((Nat.div_one _).trans h))).symm
    refine (congrFun (A_eq m (ok m) c 7) _).trans ?_
    show V m c main_v1_2 j = _
    entry_read
    rfl

theorem final8 (c : Dev nD) : (dats m (ok m) 0 c).arrAt 8 (cfgM m (ok m)).N = app m c (G12 (F := Ideal)) := by
  refine (dats m (ok m) 0 c).arrAt_eq_of_coversWhere_of_agree 8 _ (fun β => β (0 : Fin 3) = 3) (of_decide_eq_true (by sl_kernel_rfl)) (fun t fl y => ?_) (fun j hj => ?_)
  · obtain ⟨i, q, p, rfl, ep⟩ := some3 m t y
    have e := Update.emb ((cfgM m (ok m)).win 8) rfl t (ix3 0 i q : S1x176x1024.Idx) (ix3 3 p q : S4x352x1024.Idx) _ (idx t) fun b => by fin_cases b; exacts [rfl, ep.symm, Nat.zero_add _]
    refine Eq.trans ?_ (congrArg _ e).symm
    refine Eq.trans (congrFun ((after0_8 m (ok m) c t).trans (out8 m c t)) (ix3 0 i q : S1x176x1024.Idx)) ?_
    refine (pay_v _ _ i q).trans (Eq.trans ?_ (ref12 (ix3 3 p q) p q rfl rfl rfl).symm)
    exact congr (congrArg Adam.V (grad m c t i q p ep)) (read4 m c t i q p ep)
  · refine Eq.trans ?_ (keep12 j fun h => hj ((Pipeline.Window.cell_apply ((cfgM m (ok m)).win 8) j (0 : Fin 3)).trans ((Nat.div_one _).trans h))).symm
    refine (congrFun (A_eq m (ok m) c 8) _).trans ?_
    show V m c main_v1_3 j = _
    entry_read
    rfl

end Cert.FfnDownUpdate3Ideal.Fwd

namespace Cert.Proof

/-- The printed kernel and the idealized one run to their end and leave their arguments as they were. -/
theorem quiescent_FfnDownUpdate3 : quiescent_FfnDownUpdate3 := fun m ρ _ => Cert.FfnDownUpdate3.Gen.frame m ρ (Cert.FfnDownUpdate3.Fwd.ok m)

theorem quiescent_FfnDownUpdate3Ideal : quiescent_FfnDownUpdate3Ideal := fun m ρ _ => Cert.FfnDownUpdate3Ideal.Gen.frame m ρ (Cert.FfnDownUpdate3Ideal.Fwd.ok m)

/-- So does the reference. -/
theorem quiescent_FfnDownUpdate3ReferenceIdeal : quiescent_FfnDownUpdate3ReferenceIdeal := fun m ρ _ => Cert.FfnDownUpdate3ReferenceIdeal.Gen.frame m ρ

/-- The named constants of the kernel have the values they are named for. -/
theorem preserves_FfnDownUpdate3 : preserves_FfnDownUpdate3_FfnDownUpdate3Ideal :=
  ⟨IdealRules.named_const.statement Cert.FfnDownUpdate3Ideal.κ "inv_b1" .f32 0x3FC48605#32 _ rfl,
    IdealRules.named_const.statement Cert.FfnDownUpdate3Ideal.κ "inv_b2" .f32 0x42C8E6D3#32 _ rfl⟩

open Cert.FfnDownUpdate3Ideal Cert.FfnDownUpdate3Ideal.Gen Cert.FfnDownUpdate3Ideal.Fwd in
/-- Kernel and reference end with the same gradient, change and moments of the layer, and keep the other layers. -/
theorem algebraic_FfnDownUpdate3 : algebraic_FfnDownUpdate3Ideal_FfnDownUpdate3ReferenceIdeal := by
  intro m ρ m' ρ' _ hagree
  refine ⟨_, _, _, _, (θ_run _ _ _).mono (fun r h c => ⟨((h.1 c).1 5).trans (final5 m c), ((h.1 c).1 6).trans (final6 m c), ((h.1 c).1 7).trans (final7 m c),
    ((h.1 c).1 8).trans (final8 m c), h.2 c⟩) (θ_run_and (run_main m ρ (ok m)) (unchanged m ρ (ok m))), ?_⟩
  refine (θ_run _ _ _).mono (fun _ h c => ?_) (Cert.FfnDownUpdate3ReferenceIdeal.Value.run (F := Ideal) m' ρ')
  obtain ⟨e0, e1, e2, e3, e4, e5, e6, e7, e8⟩ := hagree c
  refine ⟨(h c).1.trans ?_, (h c).2.1.trans ?_, (h c).2.2.1.trans ?_, (h c).2.2.2.1.trans ?_, (h c).2.2.2.2⟩ <;> rw [app, e0, e1, e2, e3, e4, e5, e6, e7, e8]

end Cert.Proof

end
-- ==== Proof.lean ====
module

public import proofs.«01_k».proof.Defs
public import proofs.«01_k».proof.Proof.Gen.FfnUpGrad.Frame
public import proofs.«01_k».proof.Proof.FfnUpGrad
public import proofs.«01_k».proof.Proof.Gen.FfnDownGrad.Frame
public import proofs.«01_k».proof.Proof.FfnDownGrad
public import proofs.«01_k».proof.Proof.Gen.GmlpInGrad.Frame
public import proofs.«01_k».proof.Proof.GmlpInGrad
public import proofs.«01_k».proof.Proof.Gen.GmlpOutGrad.Frame
public import proofs.«01_k».proof.Proof.GmlpOutGrad
public import proofs.«01_k».proof.Proof.Gen.AttnQkvGrad.Frame
public import proofs.«01_k».proof.Proof.AttnQkvGrad
public import proofs.«01_k».proof.Proof.Gen.AttnOutGrad.Frame
public import proofs.«01_k».proof.Proof.AttnOutGrad
public import proofs.«01_k».proof.Proof.Gen.FfnUp.Frame
public import proofs.«01_k».proof.Proof.FfnUp
public import proofs.«01_k».proof.Proof.Gen.FfnDact.Frame
public import proofs.«01_k».proof.Proof.FfnDact
public import proofs.«01_k».proof.Proof.Gen.FfnDx.Frame
public import proofs.«01_k».proof.Proof.FfnDx
public import proofs.«01_k».proof.Proof.Gen.FfnDxGmlp.Frame
public import proofs.«01_k».proof.Proof.FfnDxGmlp
public import proofs.«01_k».proof.Proof.Gen.GmlpIn.Frame
public import proofs.«01_k».proof.Proof.GmlpIn
public import proofs.«01_k».proof.Proof.Gen.FfnDown.Frame
public import proofs.«01_k».proof.Proof.FfnDown
public import proofs.«01_k».proof.Proof.Gen.AttnOut.Frame
public import proofs.«01_k».proof.Proof.AttnOut
public import proofs.«01_k».proof.Proof.Gen.Spatial.Frame
public import proofs.«01_k».proof.Proof.Spatial
public import proofs.«01_k».proof.Proof.Gen.Small.Frame
public import proofs.«01_k».proof.Proof.Small
public import proofs.«01_k».proof.Proof.Gen.Bias.Frame
public import proofs.«01_k».proof.Proof.Bias
public import proofs.«01_k».proof.Proof.Gen.BiasSum.Frame
public import proofs.«01_k».proof.Proof.BiasSum
public import proofs.«01_k».proof.Proof.Gen.GmlpOutUpdate0.Frame
public import proofs.«01_k».proof.Proof.GmlpOutUpdate0
public import proofs.«01_k».proof.Proof.Gen.GmlpOutUpdate1.Frame
public import proofs.«01_k».proof.Proof.GmlpOutUpdate1
public import proofs.«01_k».proof.Proof.Gen.AttnQkvUpdate0.Frame
public import proofs.«01_k».proof.Proof.AttnQkvUpdate0
public import proofs.«01_k».proof.Proof.Gen.AttnQkvUpdate1.Frame
public import proofs.«01_k».proof.Proof.AttnQkvUpdate1
public import proofs.«01_k».proof.Proof.Gen.AttnOutUpdate0.Frame
public import proofs.«01_k».proof.Proof.AttnOutUpdate0
public import proofs.«01_k».proof.Proof.Gen.AttnOutUpdate1.Frame
public import proofs.«01_k».proof.Proof.AttnOutUpdate1
public import proofs.«01_k».proof.Proof.Gen.GmlpInUpdate0.Frame
public import proofs.«01_k».proof.Proof.GmlpInUpdate0
public import proofs.«01_k».proof.Proof.Gen.GmlpInUpdate1.Frame
public import proofs.«01_k».proof.Proof.GmlpInUpdate1
public import proofs.«01_k».proof.Proof.Gen.FfnUpUpdate0.Frame
public import proofs.«01_k».proof.Proof.FfnUpUpdate0
public import proofs.«01_k».proof.Proof.Gen.FfnUpUpdate1.Frame
public import proofs.«01_k».proof.Proof.FfnUpUpdate1
public import proofs.«01_k».proof.Proof.Gen.FfnUpUpdate2.Frame
public import proofs.«01_k».proof.Proof.FfnUpUpdate2
public import proofs.«01_k».proof.Proof.Gen.FfnUpUpdate3.Frame
public import proofs.«01_k».proof.Proof.FfnUpUpdate3
public import proofs.«01_k».proof.Proof.Gen.FfnDownUpdate0.Frame
public import proofs.«01_k».proof.Proof.FfnDownUpdate0
public import proofs.«01_k».proof.Proof.Gen.FfnDownUpdate1.Frame
public import proofs.«01_k».proof.Proof.FfnDownUpdate1
public import proofs.«01_k».proof.Proof.Gen.FfnDownUpdate2.Frame
public import proofs.«01_k».proof.Proof.FfnDownUpdate2
public import proofs.«01_k».proof.Proof.Gen.FfnDownUpdate3.Frame
public import proofs.«01_k».proof.Proof.FfnDownUpdate3
public import Idealize.ShloMosaic.Adequacy
public import Idealize.ShloMosaic.Init

@[expose] public section

noncomputable section

namespace Cert.Proof

open Idealize.ShloMosaic Idealize.SL.Sem

/-- Everything the statement claims of the calls: per call the two frames, the reference's frame, that the idealized
    program is the printed one, and that kernel and reference end with the same results. -/
theorem claim : Cert.Claim := ⟨Cert.FfnUpGrad.Gen.facts,
  Cert.FfnUpGradIdeal.Gen.facts,
  Cert.FfnUpGradReferenceIdeal.Gen.facts,
  Cert.FfnDownGrad.Gen.facts,
  Cert.FfnDownGradIdeal.Gen.facts,
  Cert.FfnDownGradReferenceIdeal.Gen.facts,
  Cert.GmlpInGrad.Gen.facts,
  Cert.GmlpInGradIdeal.Gen.facts,
  Cert.GmlpInGradReferenceIdeal.Gen.facts,
  Cert.GmlpOutGrad.Gen.facts,
  Cert.GmlpOutGradIdeal.Gen.facts,
  Cert.GmlpOutGradReferenceIdeal.Gen.facts,
  Cert.AttnQkvGrad.Gen.facts,
  Cert.AttnQkvGradIdeal.Gen.facts,
  Cert.AttnQkvGradReferenceIdeal.Gen.facts,
  Cert.AttnOutGrad.Gen.facts,
  Cert.AttnOutGradIdeal.Gen.facts,
  Cert.AttnOutGradReferenceIdeal.Gen.facts,
  Cert.FfnUp.Gen.facts,
  Cert.FfnUpIdeal.Gen.facts,
  Cert.FfnUpReferenceIdeal.Gen.facts,
  Cert.FfnDact.Gen.facts,
  Cert.FfnDactIdeal.Gen.facts,
  Cert.FfnDactReferenceIdeal.Gen.facts,
  Cert.FfnDx.Gen.facts,
  Cert.FfnDxIdeal.Gen.facts,
  Cert.FfnDxReferenceIdeal.Gen.facts,
  Cert.FfnDxGmlp.Gen.facts,
  Cert.FfnDxGmlpIdeal.Gen.facts,
  Cert.FfnDxGmlpReferenceIdeal.Gen.facts,
  Cert.GmlpIn.Gen.facts,
  Cert.GmlpInIdeal.Gen.facts,
  Cert.GmlpInReferenceIdeal.Gen.facts,
  Cert.FfnDown.Gen.facts,
  Cert.FfnDownIdeal.Gen.facts,
  Cert.FfnDownReferenceIdeal.Gen.facts,
  Cert.AttnOut.Gen.facts,
  Cert.AttnOutIdeal.Gen.facts,
  Cert.AttnOutReferenceIdeal.Gen.facts,
  Cert.Spatial.Gen.facts,
  Cert.SpatialIdeal.Gen.facts,
  Cert.SpatialReferenceIdeal.Gen.facts,
  Cert.Small.Gen.facts,
  Cert.SmallIdeal.Gen.facts,
  Cert.SmallReferenceIdeal.Gen.facts,
  Cert.Bias.Gen.facts,
  Cert.BiasIdeal.Gen.facts,
  Cert.BiasReferenceIdeal.Gen.facts,
  Cert.BiasSum.Gen.facts,
  Cert.BiasSumIdeal.Gen.facts,
  Cert.BiasSumReferenceIdeal.Gen.facts,
  Cert.GmlpOutUpdate0.Gen.facts,
  Cert.GmlpOutUpdate0Ideal.Gen.facts,
  Cert.GmlpOutUpdate0ReferenceIdeal.Gen.facts,
  Cert.GmlpOutUpdate1.Gen.facts,
  Cert.GmlpOutUpdate1Ideal.Gen.facts,
  Cert.GmlpOutUpdate1ReferenceIdeal.Gen.facts,
  Cert.AttnQkvUpdate0.Gen.facts,
  Cert.AttnQkvUpdate0Ideal.Gen.facts,
  Cert.AttnQkvUpdate0ReferenceIdeal.Gen.facts,
  Cert.AttnQkvUpdate1.Gen.facts,
  Cert.AttnQkvUpdate1Ideal.Gen.facts,
  Cert.AttnQkvUpdate1ReferenceIdeal.Gen.facts,
  Cert.AttnOutUpdate0.Gen.facts,
  Cert.AttnOutUpdate0Ideal.Gen.facts,
  Cert.AttnOutUpdate0ReferenceIdeal.Gen.facts,
  Cert.AttnOutUpdate1.Gen.facts,
  Cert.AttnOutUpdate1Ideal.Gen.facts,
  Cert.AttnOutUpdate1ReferenceIdeal.Gen.facts,
  Cert.GmlpInUpdate0.Gen.facts,
  Cert.GmlpInUpdate0Ideal.Gen.facts,
  Cert.GmlpInUpdate0ReferenceIdeal.Gen.facts,
  Cert.GmlpInUpdate1.Gen.facts,
  Cert.GmlpInUpdate1Ideal.Gen.facts,
  Cert.GmlpInUpdate1ReferenceIdeal.Gen.facts,
  Cert.FfnUpUpdate0.Gen.facts,
  Cert.FfnUpUpdate0Ideal.Gen.facts,
  Cert.FfnUpUpdate0ReferenceIdeal.Gen.facts,
  Cert.FfnUpUpdate1.Gen.facts,
  Cert.FfnUpUpdate1Ideal.Gen.facts,
  Cert.FfnUpUpdate1ReferenceIdeal.Gen.facts,
  Cert.FfnUpUpdate2.Gen.facts,
  Cert.FfnUpUpdate2Ideal.Gen.facts,
  Cert.FfnUpUpdate2ReferenceIdeal.Gen.facts,
  Cert.FfnUpUpdate3.Gen.facts,
  Cert.FfnUpUpdate3Ideal.Gen.facts,
  Cert.FfnUpUpdate3ReferenceIdeal.Gen.facts,
  Cert.FfnDownUpdate0.Gen.facts,
  Cert.FfnDownUpdate0Ideal.Gen.facts,
  Cert.FfnDownUpdate0ReferenceIdeal.Gen.facts,
  Cert.FfnDownUpdate1.Gen.facts,
  Cert.FfnDownUpdate1Ideal.Gen.facts,
  Cert.FfnDownUpdate1ReferenceIdeal.Gen.facts,
  Cert.FfnDownUpdate2.Gen.facts,
  Cert.FfnDownUpdate2Ideal.Gen.facts,
  Cert.FfnDownUpdate2ReferenceIdeal.Gen.facts,
  Cert.FfnDownUpdate3.Gen.facts,
  Cert.FfnDownUpdate3Ideal.Gen.facts,
  Cert.FfnDownUpdate3ReferenceIdeal.Gen.facts,
  Cert.Pre_finite_ffn_up.Gen.facts,
  Cert.Pre_finite_ffn_dact.Gen.facts,
  Cert.Pre_finite_ffn_dx.Gen.facts,
  Cert.Pre_finite_ffn_dx_gmlp.Gen.facts,
  fun m ρ _ => Cert.FfnUpGrad.Gen.frame m ρ, fun m ρ _ => Cert.FfnUpGradIdeal.Gen.frame m ρ, quiescent_FfnUpGradReferenceIdeal,
  fun m ρ _ => Cert.FfnDownGrad.Gen.frame m ρ, fun m ρ _ => Cert.FfnDownGradIdeal.Gen.frame m ρ, quiescent_FfnDownGradReferenceIdeal,
  fun m ρ _ => Cert.GmlpInGrad.Gen.frame m ρ, fun m ρ _ => Cert.GmlpInGradIdeal.Gen.frame m ρ, quiescent_GmlpInGradReferenceIdeal,
  fun m ρ _ => Cert.GmlpOutGrad.Gen.frame m ρ, fun m ρ _ => Cert.GmlpOutGradIdeal.Gen.frame m ρ, quiescent_GmlpOutGradReferenceIdeal,
  fun m ρ _ => Cert.AttnQkvGrad.Gen.frame m ρ, fun m ρ _ => Cert.AttnQkvGradIdeal.Gen.frame m ρ, quiescent_AttnQkvGradReferenceIdeal,
  fun m ρ _ => Cert.AttnOutGrad.Gen.frame m ρ, fun m ρ _ => Cert.AttnOutGradIdeal.Gen.frame m ρ, quiescent_AttnOutGradReferenceIdeal,
  fun m ρ _ => Cert.FfnUp.Gen.frame m ρ, fun m ρ _ => Cert.FfnUpIdeal.Gen.frame m ρ, fun m ρ _ => Cert.FfnUpIdeal.Gen.frame m ρ,
    quiescent_FfnUpReferenceIdeal, fun m ρ _ => quiescent_FfnUpReferenceIdeal m ρ trivial,
  fun m ρ _ => Cert.FfnDact.Gen.frame m ρ, fun m ρ _ => Cert.FfnDactIdeal.Gen.frame m ρ, fun m ρ _ => Cert.FfnDactIdeal.Gen.frame m ρ,
    quiescent_FfnDactReferenceIdeal, fun m ρ _ => quiescent_FfnDactReferenceIdeal m ρ trivial,
  fun m ρ _ => Cert.FfnDx.Gen.frame m ρ, fun m ρ _ => Cert.FfnDxIdeal.Gen.frame m ρ, fun m ρ _ => Cert.FfnDxIdeal.Gen.frame m ρ,
    quiescent_FfnDxReferenceIdeal, fun m ρ _ => quiescent_FfnDxReferenceIdeal m ρ trivial,
  fun m ρ _ => Cert.FfnDxGmlp.Gen.frame m ρ, fun m ρ _ => Cert.FfnDxGmlpIdeal.Gen.frame m ρ, fun m ρ _ => Cert.FfnDxGmlpIdeal.Gen.frame m ρ,
    quiescent_FfnDxGmlpReferenceIdeal, fun m ρ _ => quiescent_FfnDxGmlpReferenceIdeal m ρ trivial,
  fun m ρ _ => Cert.GmlpIn.Gen.frame m ρ, fun m ρ _ => Cert.GmlpInIdeal.Gen.frame m ρ, quiescent_GmlpInReferenceIdeal,
  fun m ρ _ => Cert.FfnDown.Gen.frame m ρ, fun m ρ _ => Cert.FfnDownIdeal.Gen.frame m ρ, quiescent_FfnDownReferenceIdeal,
  fun m ρ _ => Cert.AttnOut.Gen.frame m ρ, fun m ρ _ => Cert.AttnOutIdeal.Gen.frame m ρ, quiescent_AttnOutReferenceIdeal,
  fun m ρ _ => Cert.Spatial.Gen.frame m ρ, fun m ρ _ => Cert.SpatialIdeal.Gen.frame m ρ, quiescent_SpatialReferenceIdeal,
  fun m ρ _ => Cert.Small.Gen.frame m ρ, fun m ρ _ => Cert.SmallIdeal.Gen.frame m ρ, quiescent_SmallReferenceIdeal,
  fun m ρ _ => Cert.Bias.Gen.frame m ρ, fun m ρ _ => Cert.BiasIdeal.Gen.frame m ρ, quiescent_BiasReferenceIdeal,
  fun m ρ _ => Cert.BiasSum.Gen.frame m ρ, fun m ρ _ => Cert.BiasSumIdeal.Gen.frame m ρ, quiescent_BiasSumReferenceIdeal,
  quiescent_GmlpOutUpdate0, quiescent_GmlpOutUpdate0Ideal, quiescent_GmlpOutUpdate0ReferenceIdeal,
  quiescent_GmlpOutUpdate1, quiescent_GmlpOutUpdate1Ideal, quiescent_GmlpOutUpdate1ReferenceIdeal,
  quiescent_AttnQkvUpdate0, quiescent_AttnQkvUpdate0Ideal, quiescent_AttnQkvUpdate0ReferenceIdeal,
  quiescent_AttnQkvUpdate1, quiescent_AttnQkvUpdate1Ideal, quiescent_AttnQkvUpdate1ReferenceIdeal,
  quiescent_AttnOutUpdate0, quiescent_AttnOutUpdate0Ideal, quiescent_AttnOutUpdate0ReferenceIdeal,
  quiescent_AttnOutUpdate1, quiescent_AttnOutUpdate1Ideal, quiescent_AttnOutUpdate1ReferenceIdeal,
  quiescent_GmlpInUpdate0, quiescent_GmlpInUpdate0Ideal, quiescent_GmlpInUpdate0ReferenceIdeal,
  quiescent_GmlpInUpdate1, quiescent_GmlpInUpdate1Ideal, quiescent_GmlpInUpdate1ReferenceIdeal,
  quiescent_FfnUpUpdate0, quiescent_FfnUpUpdate0Ideal, quiescent_FfnUpUpdate0ReferenceIdeal,
  quiescent_FfnUpUpdate1, quiescent_FfnUpUpdate1Ideal, quiescent_FfnUpUpdate1ReferenceIdeal,
  quiescent_FfnUpUpdate2, quiescent_FfnUpUpdate2Ideal, quiescent_FfnUpUpdate2ReferenceIdeal,
  quiescent_FfnUpUpdate3, quiescent_FfnUpUpdate3Ideal, quiescent_FfnUpUpdate3ReferenceIdeal,
  quiescent_FfnDownUpdate0, quiescent_FfnDownUpdate0Ideal, quiescent_FfnDownUpdate0ReferenceIdeal,
  quiescent_FfnDownUpdate1, quiescent_FfnDownUpdate1Ideal, quiescent_FfnDownUpdate1ReferenceIdeal,
  quiescent_FfnDownUpdate2, quiescent_FfnDownUpdate2Ideal, quiescent_FfnDownUpdate2ReferenceIdeal,
  quiescent_FfnDownUpdate3, quiescent_FfnDownUpdate3Ideal, quiescent_FfnDownUpdate3ReferenceIdeal,
  (trivial : preserves_FfnUpGrad_FfnUpGradIdeal), algebraic_FfnUpGrad,
  (trivial : preserves_FfnDownGrad_FfnDownGradIdeal), algebraic_FfnDownGrad,
  (trivial : preserves_GmlpInGrad_GmlpInGradIdeal), algebraic_GmlpInGrad,
  (trivial : preserves_GmlpOutGrad_GmlpOutGradIdeal), algebraic_GmlpOutGrad,
  (trivial : preserves_AttnQkvGrad_AttnQkvGradIdeal), algebraic_AttnQkvGrad,
  (trivial : preserves_AttnOutGrad_AttnOutGradIdeal), algebraic_AttnOutGrad,
  (trivial : preserves_FfnUp_FfnUpIdeal), algebraic_FfnUp,
  (trivial : preserves_FfnDact_FfnDactIdeal), algebraic_FfnDact,
  (trivial : preserves_FfnDx_FfnDxIdeal), algebraic_FfnDx,
  (trivial : preserves_FfnDxGmlp_FfnDxGmlpIdeal), algebraic_FfnDxGmlp,
  (trivial : preserves_GmlpIn_GmlpInIdeal), algebraic_GmlpIn,
  (trivial : preserves_FfnDown_FfnDownIdeal), algebraic_FfnDown,
  (trivial : preserves_AttnOut_AttnOutIdeal), algebraic_AttnOut,
  (preserves_Spatial : preserves_Spatial_SpatialIdeal), algebraic_Spatial,
  (preserves_Small : preserves_Small_SmallIdeal), algebraic_Small,
  (preserves_Bias : preserves_Bias_BiasIdeal), algebraic_Bias,
  (trivial : preserves_BiasSum_BiasSumIdeal), algebraic_BiasSum,
  (preserves_GmlpOutUpdate0 : preserves_GmlpOutUpdate0_GmlpOutUpdate0Ideal), algebraic_GmlpOutUpdate0,
  (preserves_GmlpOutUpdate1 : preserves_GmlpOutUpdate1_GmlpOutUpdate1Ideal), algebraic_GmlpOutUpdate1,
  (preserves_AttnQkvUpdate0 : preserves_AttnQkvUpdate0_AttnQkvUpdate0Ideal), algebraic_AttnQkvUpdate0,
  (preserves_AttnQkvUpdate1 : preserves_AttnQkvUpdate1_AttnQkvUpdate1Ideal), algebraic_AttnQkvUpdate1,
  (preserves_AttnOutUpdate0 : preserves_AttnOutUpdate0_AttnOutUpdate0Ideal), algebraic_AttnOutUpdate0,
  (preserves_AttnOutUpdate1 : preserves_AttnOutUpdate1_AttnOutUpdate1Ideal), algebraic_AttnOutUpdate1,
  (preserves_GmlpInUpdate0 : preserves_GmlpInUpdate0_GmlpInUpdate0Ideal), algebraic_GmlpInUpdate0,
  (preserves_GmlpInUpdate1 : preserves_GmlpInUpdate1_GmlpInUpdate1Ideal), algebraic_GmlpInUpdate1,
  (preserves_FfnUpUpdate0 : preserves_FfnUpUpdate0_FfnUpUpdate0Ideal), algebraic_FfnUpUpdate0,
  (preserves_FfnUpUpdate1 : preserves_FfnUpUpdate1_FfnUpUpdate1Ideal), algebraic_FfnUpUpdate1,
  (preserves_FfnUpUpdate2 : preserves_FfnUpUpdate2_FfnUpUpdate2Ideal), algebraic_FfnUpUpdate2,
  (preserves_FfnUpUpdate3 : preserves_FfnUpUpdate3_FfnUpUpdate3Ideal), algebraic_FfnUpUpdate3,
  (preserves_FfnDownUpdate0 : preserves_FfnDownUpdate0_FfnDownUpdate0Ideal), algebraic_FfnDownUpdate0,
  (preserves_FfnDownUpdate1 : preserves_FfnDownUpdate1_FfnDownUpdate1Ideal), algebraic_FfnDownUpdate1,
  (preserves_FfnDownUpdate2 : preserves_FfnDownUpdate2_FfnDownUpdate2Ideal), algebraic_FfnDownUpdate2,
  (preserves_FfnDownUpdate3 : preserves_FfnDownUpdate3_FfnDownUpdate3Ideal), algebraic_FfnDownUpdate3⟩

end Cert.Proof

end
